-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v4_0)) (v1 : (c : Dev Cert.Kernel.nD) → Buf (Elt Bits) ((c.tc : Thread Cert.Kernel.nD Cert.Kernel.τ).loc Cert.Kernel.main_v4_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v4_0) = v0 c
          ∧ r.2.mem ((c.tc : Thread Cert.Kernel.nD Cert.Kernel.τ).loc Cert.Kernel.main_v4_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v44) = v0 c
          ∧ r.2.mem ((c.tc : Thread Cert.Reference.nD Cert.Reference.τ).loc Cert.Reference.main_v89) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def Claim : Prop :=
  ∃ (hKernel : Cert.Kernel.Facts) (hReference : Cert.Reference.Facts) (hPre_in_range : Cert.Pre_in_range.Facts),
    quiescent_Kernel (hKernel := hKernel) (hPre_in_range := hPre_in_range)
    ∧ quiescent_Reference (hReference := hReference)
    ∧ quiescent_Reference_pre_in_range (hReference := hReference) (hPre_in_range := hPre_in_range)
    ∧ bitexact_Kernel_Reference (hKernel := hKernel) (hReference := hReference) (hPre_in_range := hPre_in_range)
-- ==== Pre_in_range.lean ====
abbrev S1600x64x16x128 : Shape := ⟨4, ![1600, 64, 16, 128]⟩
abbrev S1600x64x16 : Shape := ⟨3, ![1600, 64, 16]⟩
abbrev S5x256 : Shape := ⟨2, ![5, 256]⟩
abbrev S5 : Shape := ⟨1, ![5]⟩
abbrev S256 : Shape := ⟨1, ![256]⟩
abbrev S1x256 : Shape := ⟨2, ![1, 256]⟩
abbrev S_ : Shape := ⟨0, ![]⟩
abbrev S5x1 : Shape := ⟨2, ![5, 1]⟩

class Facts : Prop where
  bcast_S256_S1x256_1 : S256.BroadcastsInDim S1x256 (![1] : Fin 1 → Fin S1x256.rank)
  bcast_S_S1x256 : S_.BroadcastsInDim S1x256 (![] : Fin 0 → Fin S1x256.rank)
  bcast_S5_S5x1_0 : S5.BroadcastsInDim S5x1 (![0] : Fin 1 → Fin S5x1.rank)
  bcast_S1x256_S5x256_0_1 : S1x256.BroadcastsInDim S5x256 (![0, 1] : Fin 2 → Fin S5x256.rank)
  bcast_S5x1_S5x256_0_1 : S5x1.BroadcastsInDim S5x256 (![0, 1] : Fin 2 → Fin S5x256.rank)
  bcast_S_S5x256 : S_.BroadcastsInDim S5x256 (![] : Fin 0 → Fin S5x256.rank)
  bcast_S_S5x1 : S_.BroadcastsInDim S5x1 (![] : Fin 0 → Fin S5x1.rank)

variable [Facts]

def fn {F : FTy → Type} [FloatOps F] (main_arg0 : FVec F S1600x64x16x128 .fp8e4m3) (main_arg1 : FVec F S1600x64x16x128 .fp8e4m3) (main_arg2 : FVec F S1600x64x16 .f32) (main_arg3 : FVec F S1600x64x16 .f32) (main_arg4 : IVec S5x256 32) (main_arg5 : IVec S5 32) : IVec S5x256 1 :=
  let main_v0 : IVec S256 32 := iotaInDim S256 32 0
  let main_v1 : IVec S1x256 32 := broadcastInDim S1x256 ![1] bcast_S256_S1x256_1 main_v0
  let main_c : IVec S_ 32 := constantI S_ 32 16#32
  let main_v2 : IVec S1x256 32 := broadcastInDim S1x256 ![] bcast_S_S1x256 main_c
  let main_v3 : IVec S1x256 32 := muli main_v2 main_v1
  let main_v4 : IVec S5x1 32 := broadcastInDim S5x1 ![0] bcast_S5_S5x1_0 main_arg5
  let main_v5 : IVec S5x256 32 := broadcastInDim S5x256 ![0, 1] bcast_S1x256_S5x256_0_1 main_v3
  let main_v6 : IVec S5x256 32 := broadcastInDim S5x256 ![0, 1] bcast_S5x1_S5x256_0_1 main_v4
  let main_v7 : IVec S5x256 1 := cmpi .sge main_v5 main_v6
  let main_c_0 : IVec S_ 32 := constantI S_ 32 0#32
  let main_v8 : IVec S5x256 32 := broadcastInDim S5x256 ![] bcast_S_S5x256 main_c_0
  let main_v9 : IVec S5x256 1 := cmpi .sge main_arg4 main_v8
  let main_c_1 : IVec S_ 32 := constantI S_ 32 1600#32
  let main_v10 : IVec S5x256 32 := broadcastInDim S5x256 ![] bcast_S_S5x256 main_c_1
  let main_v11 : IVec S5x256 1 := cmpi .slt main_arg4 main_v10
  let main_v12 : IVec S5x256 1 := andi main_v9 main_v11
  let main_v13 : IVec S5x256 1 := ori main_v7 main_v12
  let main_v14 : IVec S5x1 32 := broadcastInDim S5x1 ![0] bcast_S5_S5x1_0 main_arg5
  let main_c_2 : IVec S_ 32 := constantI S_ 32 2147483632#32
  let main_v15 : IVec S5x1 32 := broadcastInDim S5x1 ![] bcast_S_S5x1 main_c_2
  let main_v16 : IVec S5x1 1 := cmpi .sle main_v14 main_v15
  let main_v17 : IVec S5x256 1 := broadcastInDim S5x256 ![0, 1] bcast_S5x1_S5x256_0_1 main_v16
  let main_v18 : IVec S5x256 1 := andi main_v13 main_v17
  main_v18
-- ==== Kernel.lean ====
abbrev S1600x64x16x128 : Shape := ⟨4, ![1600, 64, 16, 128]⟩
abbrev S1600x64x16 : Shape := ⟨3, ![1600, 64, 16]⟩
abbrev S5x256 : Shape := ⟨2, ![5, 256]⟩
abbrev S5 : Shape := ⟨1, ![5]⟩
abbrev S1600x1024x128 : Shape := ⟨3, ![1600, 1024, 128]⟩
abbrev S64x16x1600 : Shape := ⟨3, ![64, 16, 1600]⟩
abbrev S5x64x4096x128 : Shape := ⟨4, ![5, 64, 4096, 128]⟩
abbrev S160 : Shape := ⟨1, ![160]⟩
abbrev S4x2x8x1024x128 : Shape := ⟨5, ![4, 2, 8, 1024, 128]⟩
abbrev S4x2x64x64x128 : Shape := ⟨5, ![4, 2, 64, 64, 128]⟩
abbrev S64x128x128 : Shape := ⟨3, ![64, 128, 128]⟩
abbrev S2x64x16x1600 : Shape := ⟨4, ![2, 64, 16, 1600]⟩
abbrev S2x13x1024x128 : Shape := ⟨4, ![2, 13, 1024, 128]⟩
abbrev S4 : Shape := ⟨1, ![4]⟩
abbrev S_ : Shape := ⟨0, ![]⟩
abbrev S2 : Shape := ⟨1, ![2]⟩
abbrev S1 : Shape := ⟨1, ![1]⟩
abbrev S1x64x16x1600 : Shape := ⟨4, ![1, 64, 16, 1600]⟩
abbrev S1x1 : Shape := ⟨2, ![1, 1]⟩
abbrev S1x1x1x1024x128 : Shape := ⟨5, ![1, 1, 1, 1024, 128]⟩
abbrev S1024x128 : Shape := ⟨2, ![1024, 128]⟩
abbrev S1x1024x128 : Shape := ⟨3, ![1, 1024, 128]⟩
abbrev S128x128 : Shape := ⟨2, ![128, 128]⟩
abbrev S1x128x128 : Shape := ⟨3, ![1, 128, 128]⟩
abbrev S1x1x16x128 : Shape := ⟨4, ![1, 1, 16, 128]⟩
abbrev S16x128 : Shape := ⟨2, ![16, 128]⟩
abbrev S1x1x16x64 : Shape := ⟨4, ![1, 1, 16, 64]⟩
abbrev S16x64 : Shape := ⟨2, ![16, 64]⟩
abbrev S1x64x128x128 : Shape := ⟨4, ![1, 64, 128, 128]⟩
abbrev S5x64x2048x128 : Shape := ⟨4, ![5, 64, 2048, 128]⟩
abbrev S1x64x64x128 : Shape := ⟨4, ![1, 64, 64, 128]⟩
abbrev S1x1x64x64x128 : Shape := ⟨5, ![1, 1, 64, 64, 128]⟩
abbrev S64x64x128 : Shape := ⟨3, ![64, 64, 128]⟩
abbrev S1x1x1x32x128 : Shape := ⟨5, ![1, 1, 1, 32, 128]⟩
abbrev S32x128 : Shape := ⟨2, ![32, 128]⟩
abbrev S1x1x32x128 : Shape := ⟨4, ![1, 1, 32, 128]⟩
abbrev S16x128x1 : Shape := ⟨3, ![16, 128, 1]⟩
abbrev S8x128 : Shape := ⟨2, ![8, 128]⟩
abbrev S1x1x1x8x128 : Shape := ⟨5, ![1, 1, 1, 8, 128]⟩

abbrev nBuf : Space → Nat
  | .hbm => 12
  | .vmem => 5
  | .smem => 3
  | _ => 0

abbrev bufTy : (tb : Table) → Fin (tcTables nBuf tb) → BufTy
  | .hbm, ⟨0, _⟩ => ⟨S1600x64x16x128, .fp8e4m3⟩
  | .hbm, ⟨1, _⟩ => ⟨S1600x64x16x128, .fp8e4m3⟩
  | .hbm, ⟨2, _⟩ => ⟨S1600x64x16, .f32⟩
  | .hbm, ⟨3, _⟩ => ⟨S1600x64x16, .f32⟩
  | .hbm, ⟨4, _⟩ => ⟨S5x256, .i32⟩
  | .hbm, ⟨5, _⟩ => ⟨S5, .i32⟩
  | .hbm, ⟨6, _⟩ => ⟨S1600x1024x128, .fp8e4m3⟩
  | .hbm, ⟨7, _⟩ => ⟨S1600x1024x128, .fp8e4m3⟩
  | .hbm, ⟨8, _⟩ => ⟨S64x16x1600, .f32⟩
  | .hbm, ⟨9, _⟩ => ⟨S64x16x1600, .f32⟩
  | .hbm, ⟨10, _⟩ => ⟨S5x64x4096x128, .bf16⟩
  | .hbm, ⟨11, _⟩ => ⟨S5x64x4096x128, .bf16⟩
  | .local _ .vmem, ⟨0, _⟩ => ⟨S4x2x8x1024x128, .fp8e4m3⟩
  | .local _ .vmem, ⟨1, _⟩ => ⟨S4x2x64x64x128, .i32⟩
  | .local _ .vmem, ⟨2, _⟩ => ⟨S64x128x128, .bf16⟩
  | .local _ .vmem, ⟨3, _⟩ => ⟨S2x64x16x1600, .f32⟩
  | .local _ .vmem, ⟨4, _⟩ => ⟨S2x13x1024x128, .bf16⟩
  | .local _ .smem, ⟨0, _⟩ => ⟨S5x256, .i32⟩
  | .local _ .smem, ⟨1, _⟩ => ⟨S5, .i32⟩
  | .local _ .smem, ⟨2, _⟩ => ⟨S160, .i32⟩
  | _, _ => ⟨S1600x64x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_stg0_0 : Ref sig .tc := ⟨.smem, 0, rfl⟩
abbrev cc0_stg1_0 : Ref sig .tc := ⟨.smem, 1, rfl⟩
abbrev cc0_scratch0 : Ref sig .tc := ⟨.smem, 2, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

@[reducible] def k0_t1_loop : Scf.Loop 32 :=
  let c0_i32_9 : BitVec 32 := 0#32
  let c160_i32 : BitVec 32 := 160#32
  let v8 : BitVec 32 := Scalar.addi c0_i32_9 c160_i32
  let c1_i32_10 : BitVec 32 := 1#32
  ⟨c0_i32_9, v8, c1_i32_10⟩
def k0_off1 (k0_t1 : Fin k0_t1_loop.trips) : Fin 1 → Nat :=
  let c0_i32_9 : BitVec 32 := 0#32
  let c1_i32_10 : BitVec 32 := 1#32
  let arg18 : BitVec 32 := Scf.iv c0_i32_9 c1_i32_10 k0_t1
  let c32_i32 : BitVec 32 := 32#32
  let v61 : BitVec 32 := Scalar.divsi arg18 c32_i32
  let v64 : Index := Scalar.indexCast v61
  ![v64.toNat]
def k0_off2 (k0_t1 : Fin k0_t1_loop.trips) (arg19 : BitVec 32) (v65 : BitVec 32) : Fin 1 → Nat :=
  let c0_i32_9 : BitVec 32 := 0#32
  let c1_i32_10 : BitVec 32 := 1#32
  let arg18 : BitVec 32 := Scf.iv c0_i32_9 c1_i32_10 k0_t1
  let c32_i32_58 : BitVec 32 := 32#32
  let v62 : BitVec 32 := Scalar.remsi arg18 c32_i32_58
  let c128_i32 : BitVec 32 := 128#32
  let v63 : BitVec 32 := Scalar.muli v62 c128_i32
  let v66 : BitVec 1 := Scalar.cmpi .slt v63 v65
  let c159_i32 : BitVec 32 := 159#32
  let v67 : BitVec 32 := Scalar.subi arg18 arg19
  let v68 : BitVec 32 := Scalar.subi c159_i32 v67
  let v69 : BitVec 32 := Scalar.select v66 arg19 v68
  let v70 : Index := Scalar.indexCast v69
  ![v70.toNat]

def k0_chk1 (k0_t1 : Fin k0_t1_loop.trips) (arg19 : BitVec 32) (v65 : BitVec 32) : Prop :=
  (∀ a, (k0_off2 k0_t1 arg19 v65) a + S1.size a ≤ S160.size a)
theorem k0_off2_inb : ∀ (k0_t1 : Fin k0_t1_loop.trips) (arg19 : BitVec 32) (v65 : BitVec 32) (k0_hw1 : k0_chk1 k0_t1 arg19 v65), ∀ a, (k0_off2 k0_t1 arg19 v65) a + S1.size a ≤ S160.size a := fun k0_t1 arg19 v65 k0_hw1 => k0_hw1

def k0_off3 (v61 : BitVec 32) : Fin 1 → Nat :=
  let c32_i32 : BitVec 32 := 32#32
  let v62 : BitVec 32 := Scalar.divsi v61 c32_i32
  let v65 : Index := Scalar.indexCast v62
  ![v65.toNat]
def k0_cond1 (v9 : BitVec 32) : BitVec 1 :=
  let c0_i32_13 : BitVec 32 := 0#32
  let v11 : BitVec 1 := Scalar.cmpi .sgt v9 c0_i32_13
  let v12 : BitVec 32 := Scalar.extui v11
  let c0_i32_14 : BitVec 32 := 0#32
  let v13 : BitVec 1 := Scalar.cmpi .ne v12 c0_i32_14
  v13

def k0_chk2 (v9 : BitVec 32) (v61 : BitVec 32) : Prop :=
  (∀ (k0_h1 : k0_cond1 v9 = 1#1), ∀ a, (k0_off3 v61) a + S1.size a ≤ S5.size a)
theorem k0_off3_inb : ∀ (v9 : BitVec 32) (v61 : BitVec 32) (k0_hw2 : k0_chk2 v9 v61), ∀ (k0_h1 : k0_cond1 v9 = 1#1), ∀ a, (k0_off3 v61) a + S1.size a ≤ S5.size a := fun v9 v61 k0_hw2 k0_h1 => k0_hw2 k0_h1

@[reducible] def k0_t2_loop (v61 : BitVec 32) (v66 : BitVec 32) : Scf.Loop 32 :=
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_67 : BitVec 32 := 1#32
  ⟨c0_i32_64, v78, c1_i32_67⟩

def k0_off4 (v61 : BitVec 32) (v66 : BitVec 32) (k0_t2 : Fin (k0_t2_loop v61 v66).trips) : Fin 2 → Nat :=
  let c32_i32 : BitVec 32 := 32#32
  let v62 : BitVec 32 := Scalar.divsi v61 c32_i32
  let v83 : Index := Scalar.indexCast v62
  let c32_i32_58 : BitVec 32 := 32#32
  let v63 : BitVec 32 := Scalar.remsi v61 c32_i32_58
  let c8_i32_69 : BitVec 32 := 8#32
  let v81 : BitVec 32 := Scalar.muli v63 c8_i32_69
  let c0_i32_64 : BitVec 32 := 0#32
  let c1_i32_67 : BitVec 32 := 1#32
  let arg18 : BitVec 32 := Scf.iv c0_i32_64 c1_i32_67 k0_t2
  let v82 : BitVec 32 := Scalar.addi v81 arg18
  let v84 : Index := Scalar.indexCast v82
  ![v83.toNat, v84.toNat]
def k0_off5 : Fin 1 → Nat :=
  let c0_i32_59 : BitVec 32 := 0#32
  let c4_i32_60 : BitVec 32 := 4#32
  let v64 : BitVec 32 := Scalar.remsi c0_i32_59 c4_i32_60
  ![v64.toNat]
def k0_off6 (v61 : BitVec 32) (v66 : BitVec 32) (k0_t2 : Fin (k0_t2_loop v61 v66).trips) : Fin 5 → Nat :=
  let c0_i32_59 : BitVec 32 := 0#32
  let c4_i32_60 : BitVec 32 := 4#32
  let v64 : BitVec 32 := Scalar.remsi c0_i32_59 c4_i32_60
  let c0_i32_70 : BitVec 32 := 0#32
  let c0_i32_64 : BitVec 32 := 0#32
  let c1_i32_67 : BitVec 32 := 1#32
  let arg18 : BitVec 32 := Scf.iv c0_i32_64 c1_i32_67 k0_t2
  let c0_i32_71 : BitVec 32 := 0#32
  let c0_i32_72 : BitVec 32 := 0#32
  ![v64.toNat, 0, arg18.toNat, 0, 0]
def k0_off7 (v85 : BitVec 32) : Fin 3 → Nat :=
  let c0_i32_73 : BitVec 32 := 0#32
  let c0_i32_74 : BitVec 32 := 0#32
  ![v85.toNat, 0, 0]

def k0_chk4 (v9 : BitVec 32) (v85 : BitVec 32) : Prop :=
  (∀ (k0_h1 : k0_cond1 v9 = 1#1), ∀ a, (k0_off7 v85) a + S1x1024x128.size a ≤ S1600x1024x128.size a) ∧
  (∀ (k0_h1 : k0_cond1 v9 = 1#1), ∀ (hinb : ∀ a, (k0_off7 v85) a + S1x1024x128.size a ≤ S1600x1024x128.size a), (Rect.unit (s := S1600x1024x128) (k0_off7 v85) S1x1024x128.size hinb).WholeWords (EltTy.packing .fp8e4m3))
theorem k0_off7_inb : ∀ (v9 : BitVec 32) (v85 : BitVec 32) (k0_hw4 : k0_chk4 v9 v85), ∀ (k0_h1 : k0_cond1 v9 = 1#1), ∀ a, (k0_off7 v85) a + S1x1024x128.size a ≤ S1600x1024x128.size a := fun v9 v85 k0_hw4 k0_h1 => k0_hw4.1 k0_h1
theorem k0_off7_wordsfp8e4m3 : ∀ (v9 : BitVec 32) (v85 : BitVec 32) (k0_hw4 : k0_chk4 v9 v85), ∀ (k0_h1 : k0_cond1 v9 = 1#1), (Rect.unit (s := S1600x1024x128) (k0_off7 v85) S1x1024x128.size (k0_off7_inb v9 v85 k0_hw4 k0_h1)).WholeWords (EltTy.packing .fp8e4m3) := fun v9 v85 k0_hw4 k0_h1 => k0_hw4.2 k0_h1 (k0_off7_inb v9 v85 k0_hw4 k0_h1)

def k0_off8 : Fin 1 → Nat :=
  let c0_i32_59 : BitVec 32 := 0#32
  let c4_i32_60 : BitVec 32 := 4#32
  let v64 : BitVec 32 := Scalar.remsi c0_i32_59 c4_i32_60
  ![v64.toNat]
def k0_off9 (v61 : BitVec 32) (v66 : BitVec 32) (k0_t2 : Fin (k0_t2_loop v61 v66).trips) : Fin 5 → Nat :=
  let c0_i32_59 : BitVec 32 := 0#32
  let c4_i32_60 : BitVec 32 := 4#32
  let v64 : BitVec 32 := Scalar.remsi c0_i32_59 c4_i32_60
  let c1_i32_75 : BitVec 32 := 1#32
  let c0_i32_64 : BitVec 32 := 0#32
  let c1_i32_67 : BitVec 32 := 1#32
  let arg18 : BitVec 32 := Scf.iv c0_i32_64 c1_i32_67 k0_t2
  let c0_i32_76 : BitVec 32 := 0#32
  let c0_i32_77 : BitVec 32 := 0#32
  ![v64.toNat, 1, arg18.toNat, 0, 0]
@[reducible] def k0_t3_loop (v61 : BitVec 32) (v66 : BitVec 32) : Scf.Loop 32 :=
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let v75 : BitVec 32 := Scalar.addi c0_i32_64 v74
  let c1_i32_68 : BitVec 32 := 1#32
  ⟨v78, v75, c1_i32_68⟩
def k0_off10 (v61 : BitVec 32) (v66 : BitVec 32) (k0_t3 : Fin (k0_t3_loop v61 v66).trips) : Fin 2 → Nat :=
  let c32_i32 : BitVec 32 := 32#32
  let v62 : BitVec 32 := Scalar.divsi v61 c32_i32
  let v83 : Index := Scalar.indexCast v62
  let c32_i32_58 : BitVec 32 := 32#32
  let v63 : BitVec 32 := Scalar.remsi v61 c32_i32_58
  let c8_i32_69 : BitVec 32 := 8#32
  let v81 : BitVec 32 := Scalar.muli v63 c8_i32_69
  let c0_i32_64 : BitVec 32 := 0#32
  let c8_i32 : BitVec 32 := 8#32
  let c0_i32_63 : BitVec 32 := 0#32
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t3
  let v82 : BitVec 32 := Scalar.addi v81 arg18
  let v84 : Index := Scalar.indexCast v82
  ![v83.toNat, v84.toNat]
def k0_off11 : Fin 1 → Nat :=
  let c0_i32_59 : BitVec 32 := 0#32
  let c4_i32_60 : BitVec 32 := 4#32
  let v64 : BitVec 32 := Scalar.remsi c0_i32_59 c4_i32_60
  ![v64.toNat]
def k0_off12 (v61 : BitVec 32) (v66 : BitVec 32) (k0_t3 : Fin (k0_t3_loop v61 v66).trips) : Fin 5 → Nat :=
  let c0_i32_59 : BitVec 32 := 0#32
  let c4_i32_60 : BitVec 32 := 4#32
  let v64 : BitVec 32 := Scalar.remsi c0_i32_59 c4_i32_60
  let c0_i32_70 : BitVec 32 := 0#32
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t3
  let c0_i32_71 : BitVec 32 := 0#32
  let c0_i32_72 : BitVec 32 := 0#32
  ![v64.toNat, 0, arg18.toNat, 0, 0]
def k0_off13 (v85 : BitVec 32) : Fin 3 → Nat :=
  let c0_i32_73 : BitVec 32 := 0#32
  let c0_i32_74 : BitVec 32 := 0#32
  ![v85.toNat, 0, 0]

def k0_chk5 (v9 : BitVec 32) (v85 : BitVec 32) : Prop :=
  (∀ (k0_h1 : k0_cond1 v9 = 1#1), ∀ a, (k0_off13 v85) a + S1x1024x128.size a ≤ S1600x1024x128.size a) ∧
  (∀ (k0_h1 : k0_cond1 v9 = 1#1), ∀ (hinb : ∀ a, (k0_off13 v85) a + S1x1024x128.size a ≤ S1600x1024x128.size a), (Rect.unit (s := S1600x1024x128) (k0_off13 v85) S1x1024x128.size hinb).WholeWords (EltTy.packing .fp8e4m3))
theorem k0_off13_inb : ∀ (v9 : BitVec 32) (v85 : BitVec 32) (k0_hw5 : k0_chk5 v9 v85), ∀ (k0_h1 : k0_cond1 v9 = 1#1), ∀ a, (k0_off13 v85) a + S1x1024x128.size a ≤ S1600x1024x128.size a := fun v9 v85 k0_hw5 k0_h1 => k0_hw5.1 k0_h1
theorem k0_off13_wordsfp8e4m3 : ∀ (v9 : BitVec 32) (v85 : BitVec 32) (k0_hw5 : k0_chk5 v9 v85), ∀ (k0_h1 : k0_cond1 v9 = 1#1), (Rect.unit (s := S1600x1024x128) (k0_off13 v85) S1x1024x128.size (k0_off13_inb v9 v85 k0_hw5 k0_h1)).WholeWords (EltTy.packing .fp8e4m3) := fun v9 v85 k0_hw5 k0_h1 => k0_hw5.2 k0_h1 (k0_off13_inb v9 v85 k0_hw5 k0_h1)

def k0_off14 : Fin 1 → Nat :=
  let c0_i32_59 : BitVec 32 := 0#32
  let c4_i32_60 : BitVec 32 := 4#32
  let v64 : BitVec 32 := Scalar.remsi c0_i32_59 c4_i32_60
  ![v64.toNat]
def k0_off15 (v61 : BitVec 32) (v66 : BitVec 32) (k0_t3 : Fin (k0_t3_loop v61 v66).trips) : Fin 5 → Nat :=
  let c0_i32_59 : BitVec 32 := 0#32
  let c4_i32_60 : BitVec 32 := 4#32
  let v64 : BitVec 32 := Scalar.remsi c0_i32_59 c4_i32_60
  let c1_i32_75 : BitVec 32 := 1#32
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t3
  let c0_i32_76 : BitVec 32 := 0#32
  let c0_i32_77 : BitVec 32 := 0#32
  ![v64.toNat, 1, arg18.toNat, 0, 0]

def k0_chk3 (v9 : BitVec 32) (v61 : BitVec 32) (v66 : BitVec 32) : Prop :=
  (∀ (k0_h1 : k0_cond1 v9 = 1#1), (k0_t2_loop v61 v66).OK) ∧
  (∀ k0_t2 : Fin (k0_t2_loop v61 v66).trips, ∀ (k0_h1 : k0_cond1 v9 = 1#1), ∀ a, (k0_off4 v61 v66 k0_t2) a + S1x1.size a ≤ S5x256.size a) ∧
  (∀ k0_t2 : Fin (k0_t2_loop v61 v66).trips, ∀ (k0_h1 : k0_cond1 v9 = 1#1), ∀ a, (k0_off6 v61 v66 k0_t2) a + S1x1x1x1024x128.size a ≤ S4x2x8x1024x128.size a) ∧
  (∀ k0_t2 : Fin (k0_t2_loop v61 v66).trips, ∀ (k0_h1 : k0_cond1 v9 = 1#1), ∀ (hinb : ∀ a, (k0_off6 v61 v66 k0_t2) a + S1x1x1x1024x128.size a ≤ S4x2x8x1024x128.size a), (Rect.unit (s := S4x2x8x1024x128) (k0_off6 v61 v66 k0_t2) S1x1x1x1024x128.size hinb).WholeWords (EltTy.packing .fp8e4m3)) ∧
  (∀ k0_t2 : Fin (k0_t2_loop v61 v66).trips, ∀ (k0_h1 : k0_cond1 v9 = 1#1), ∀ a, (k0_off9 v61 v66 k0_t2) a + S1x1x1x1024x128.size a ≤ S4x2x8x1024x128.size a) ∧
  (∀ k0_t2 : Fin (k0_t2_loop v61 v66).trips, ∀ (k0_h1 : k0_cond1 v9 = 1#1), ∀ (hinb : ∀ a, (k0_off9 v61 v66 k0_t2) a + S1x1x1x1024x128.size a ≤ S4x2x8x1024x128.size a), (Rect.unit (s := S4x2x8x1024x128) (k0_off9 v61 v66 k0_t2) S1x1x1x1024x128.size hinb).WholeWords (EltTy.packing .fp8e4m3)) ∧
  (∀ (k0_h1 : k0_cond1 v9 = 1#1), (k0_t3_loop v61 v66).OK) ∧
  (∀ k0_t3 : Fin (k0_t3_loop v61 v66).trips, ∀ (k0_h1 : k0_cond1 v9 = 1#1), ∀ a, (k0_off10 v61 v66 k0_t3) a + S1x1.size a ≤ S5x256.size a) ∧
  (∀ k0_t3 : Fin (k0_t3_loop v61 v66).trips, ∀ (k0_h1 : k0_cond1 v9 = 1#1), ∀ a, (k0_off12 v61 v66 k0_t3) a + S1x1x1x1024x128.size a ≤ S4x2x8x1024x128.size a) ∧
  (∀ k0_t3 : Fin (k0_t3_loop v61 v66).trips, ∀ (k0_h1 : k0_cond1 v9 = 1#1), ∀ (hinb : ∀ a, (k0_off12 v61 v66 k0_t3) a + S1x1x1x1024x128.size a ≤ S4x2x8x1024x128.size a), (Rect.unit (s := S4x2x8x1024x128) (k0_off12 v61 v66 k0_t3) S1x1x1x1024x128.size hinb).WholeWords (EltTy.packing .fp8e4m3)) ∧
  (∀ k0_t3 : Fin (k0_t3_loop v61 v66).trips, ∀ (k0_h1 : k0_cond1 v9 = 1#1), ∀ a, (k0_off15 v61 v66 k0_t3) a + S1x1x1x1024x128.size a ≤ S4x2x8x1024x128.size a) ∧
  (∀ k0_t3 : Fin (k0_t3_loop v61 v66).trips, ∀ (k0_h1 : k0_cond1 v9 = 1#1), ∀ (hinb : ∀ a, (k0_off15 v61 v66 k0_t3) a + S1x1x1x1024x128.size a ≤ S4x2x8x1024x128.size a), (Rect.unit (s := S4x2x8x1024x128) (k0_off15 v61 v66 k0_t3) S1x1x1x1024x128.size hinb).WholeWords (EltTy.packing .fp8e4m3))
theorem k0_t2_ok : ∀ (v9 : BitVec 32) (v61 : BitVec 32) (v66 : BitVec 32) (k0_hw3 : k0_chk3 v9 v61 v66), ∀ (k0_h1 : k0_cond1 v9 = 1#1), (k0_t2_loop v61 v66).OK := fun v9 v61 v66 k0_hw3 k0_h1 => k0_hw3.1 k0_h1
theorem k0_off4_inb : ∀ (v9 : BitVec 32) (v61 : BitVec 32) (v66 : BitVec 32) (k0_hw3 : k0_chk3 v9 v61 v66) (k0_t2 : Fin (k0_t2_loop v61 v66).trips), ∀ (k0_h1 : k0_cond1 v9 = 1#1), ∀ a, (k0_off4 v61 v66 k0_t2) a + S1x1.size a ≤ S5x256.size a := fun v9 v61 v66 k0_hw3 k0_t2 k0_h1 => k0_hw3.2.1 k0_t2 k0_h1
theorem k0_off6_inb : ∀ (v9 : BitVec 32) (v61 : BitVec 32) (v66 : BitVec 32) (k0_hw3 : k0_chk3 v9 v61 v66) (k0_t2 : Fin (k0_t2_loop v61 v66).trips), ∀ (k0_h1 : k0_cond1 v9 = 1#1), ∀ a, (k0_off6 v61 v66 k0_t2) a + S1x1x1x1024x128.size a ≤ S4x2x8x1024x128.size a := fun v9 v61 v66 k0_hw3 k0_t2 k0_h1 => k0_hw3.2.2.1 k0_t2 k0_h1
theorem k0_off6_wordsfp8e4m3 : ∀ (v9 : BitVec 32) (v61 : BitVec 32) (v66 : BitVec 32) (k0_hw3 : k0_chk3 v9 v61 v66) (k0_t2 : Fin (k0_t2_loop v61 v66).trips), ∀ (k0_h1 : k0_cond1 v9 = 1#1), (Rect.unit (s := S4x2x8x1024x128) (k0_off6 v61 v66 k0_t2) S1x1x1x1024x128.size (k0_off6_inb v9 v61 v66 k0_hw3 k0_t2 k0_h1)).WholeWords (EltTy.packing .fp8e4m3) := fun v9 v61 v66 k0_hw3 k0_t2 k0_h1 => k0_hw3.2.2.2.1 k0_t2 k0_h1 (k0_off6_inb v9 v61 v66 k0_hw3 k0_t2 k0_h1)
theorem k0_off9_inb : ∀ (v9 : BitVec 32) (v61 : BitVec 32) (v66 : BitVec 32) (k0_hw3 : k0_chk3 v9 v61 v66) (k0_t2 : Fin (k0_t2_loop v61 v66).trips), ∀ (k0_h1 : k0_cond1 v9 = 1#1), ∀ a, (k0_off9 v61 v66 k0_t2) a + S1x1x1x1024x128.size a ≤ S4x2x8x1024x128.size a := fun v9 v61 v66 k0_hw3 k0_t2 k0_h1 => k0_hw3.2.2.2.2.1 k0_t2 k0_h1
theorem k0_off9_wordsfp8e4m3 : ∀ (v9 : BitVec 32) (v61 : BitVec 32) (v66 : BitVec 32) (k0_hw3 : k0_chk3 v9 v61 v66) (k0_t2 : Fin (k0_t2_loop v61 v66).trips), ∀ (k0_h1 : k0_cond1 v9 = 1#1), (Rect.unit (s := S4x2x8x1024x128) (k0_off9 v61 v66 k0_t2) S1x1x1x1024x128.size (k0_off9_inb v9 v61 v66 k0_hw3 k0_t2 k0_h1)).WholeWords (EltTy.packing .fp8e4m3) := fun v9 v61 v66 k0_hw3 k0_t2 k0_h1 => k0_hw3.2.2.2.2.2.1 k0_t2 k0_h1 (k0_off9_inb v9 v61 v66 k0_hw3 k0_t2 k0_h1)
theorem k0_t3_ok : ∀ (v9 : BitVec 32) (v61 : BitVec 32) (v66 : BitVec 32) (k0_hw3 : k0_chk3 v9 v61 v66), ∀ (k0_h1 : k0_cond1 v9 = 1#1), (k0_t3_loop v61 v66).OK := fun v9 v61 v66 k0_hw3 k0_h1 => k0_hw3.2.2.2.2.2.2.1 k0_h1
theorem k0_off10_inb : ∀ (v9 : BitVec 32) (v61 : BitVec 32) (v66 : BitVec 32) (k0_hw3 : k0_chk3 v9 v61 v66) (k0_t3 : Fin (k0_t3_loop v61 v66).trips), ∀ (k0_h1 : k0_cond1 v9 = 1#1), ∀ a, (k0_off10 v61 v66 k0_t3) a + S1x1.size a ≤ S5x256.size a := fun v9 v61 v66 k0_hw3 k0_t3 k0_h1 => k0_hw3.2.2.2.2.2.2.2.1 k0_t3 k0_h1
theorem k0_off12_inb : ∀ (v9 : BitVec 32) (v61 : BitVec 32) (v66 : BitVec 32) (k0_hw3 : k0_chk3 v9 v61 v66) (k0_t3 : Fin (k0_t3_loop v61 v66).trips), ∀ (k0_h1 : k0_cond1 v9 = 1#1), ∀ a, (k0_off12 v61 v66 k0_t3) a + S1x1x1x1024x128.size a ≤ S4x2x8x1024x128.size a := fun v9 v61 v66 k0_hw3 k0_t3 k0_h1 => k0_hw3.2.2.2.2.2.2.2.2.1 k0_t3 k0_h1
theorem k0_off12_wordsfp8e4m3 : ∀ (v9 : BitVec 32) (v61 : BitVec 32) (v66 : BitVec 32) (k0_hw3 : k0_chk3 v9 v61 v66) (k0_t3 : Fin (k0_t3_loop v61 v66).trips), ∀ (k0_h1 : k0_cond1 v9 = 1#1), (Rect.unit (s := S4x2x8x1024x128) (k0_off12 v61 v66 k0_t3) S1x1x1x1024x128.size (k0_off12_inb v9 v61 v66 k0_hw3 k0_t3 k0_h1)).WholeWords (EltTy.packing .fp8e4m3) := fun v9 v61 v66 k0_hw3 k0_t3 k0_h1 => k0_hw3.2.2.2.2.2.2.2.2.2.1 k0_t3 k0_h1 (k0_off12_inb v9 v61 v66 k0_hw3 k0_t3 k0_h1)
theorem k0_off15_inb : ∀ (v9 : BitVec 32) (v61 : BitVec 32) (v66 : BitVec 32) (k0_hw3 : k0_chk3 v9 v61 v66) (k0_t3 : Fin (k0_t3_loop v61 v66).trips), ∀ (k0_h1 : k0_cond1 v9 = 1#1), ∀ a, (k0_off15 v61 v66 k0_t3) a + S1x1x1x1024x128.size a ≤ S4x2x8x1024x128.size a := fun v9 v61 v66 k0_hw3 k0_t3 k0_h1 => k0_hw3.2.2.2.2.2.2.2.2.2.2.1 k0_t3 k0_h1
theorem k0_off15_wordsfp8e4m3 : ∀ (v9 : BitVec 32) (v61 : BitVec 32) (v66 : BitVec 32) (k0_hw3 : k0_chk3 v9 v61 v66) (k0_t3 : Fin (k0_t3_loop v61 v66).trips), ∀ (k0_h1 : k0_cond1 v9 = 1#1), (Rect.unit (s := S4x2x8x1024x128) (k0_off15 v61 v66 k0_t3) S1x1x1x1024x128.size (k0_off15_inb v9 v61 v66 k0_hw3 k0_t3 k0_h1)).WholeWords (EltTy.packing .fp8e4m3) := fun v9 v61 v66 k0_hw3 k0_t3 k0_h1 => k0_hw3.2.2.2.2.2.2.2.2.2.2.2 k0_t3 k0_h1 (k0_off15_inb v9 v61 v66 k0_hw3 k0_t3 k0_h1)

def k0_off16 (v61 : BitVec 32) : Fin 1 → Nat :=
  let c32_i32 : BitVec 32 := 32#32
  let v62 : BitVec 32 := Scalar.divsi v61 c32_i32
  let v65 : Index := Scalar.indexCast v62
  ![v65.toNat]
def k0_cond2 (v9 : BitVec 32) : BitVec 1 :=
  let c1_i32_15 : BitVec 32 := 1#32
  let v14 : BitVec 1 := Scalar.cmpi .sgt v9 c1_i32_15
  let v15 : BitVec 32 := Scalar.extui v14
  let c0_i32_16 : BitVec 32 := 0#32
  let v16 : BitVec 1 := Scalar.cmpi .ne v15 c0_i32_16
  v16

def k0_chk6 (v9 : BitVec 32) (v61 : BitVec 32) : Prop :=
  (∀ (k0_h2 : k0_cond2 v9 = 1#1), ∀ a, (k0_off16 v61) a + S1.size a ≤ S5.size a)
theorem k0_off16_inb : ∀ (v9 : BitVec 32) (v61 : BitVec 32) (k0_hw6 : k0_chk6 v9 v61), ∀ (k0_h2 : k0_cond2 v9 = 1#1), ∀ a, (k0_off16 v61) a + S1.size a ≤ S5.size a := fun v9 v61 k0_hw6 k0_h2 => k0_hw6 k0_h2

@[reducible] def k0_t4_loop (v61 : BitVec 32) (v66 : BitVec 32) : Scf.Loop 32 :=
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_67 : BitVec 32 := 1#32
  ⟨c0_i32_64, v78, c1_i32_67⟩

def k0_off17 (v61 : BitVec 32) (v66 : BitVec 32) (k0_t4 : Fin (k0_t4_loop v61 v66).trips) : Fin 2 → Nat :=
  let c32_i32 : BitVec 32 := 32#32
  let v62 : BitVec 32 := Scalar.divsi v61 c32_i32
  let v83 : Index := Scalar.indexCast v62
  let c32_i32_58 : BitVec 32 := 32#32
  let v63 : BitVec 32 := Scalar.remsi v61 c32_i32_58
  let c8_i32_69 : BitVec 32 := 8#32
  let v81 : BitVec 32 := Scalar.muli v63 c8_i32_69
  let c0_i32_64 : BitVec 32 := 0#32
  let c1_i32_67 : BitVec 32 := 1#32
  let arg18 : BitVec 32 := Scf.iv c0_i32_64 c1_i32_67 k0_t4
  let v82 : BitVec 32 := Scalar.addi v81 arg18
  let v84 : Index := Scalar.indexCast v82
  ![v83.toNat, v84.toNat]
def k0_off18 : Fin 1 → Nat :=
  let c1_i32_59 : BitVec 32 := 1#32
  let c4_i32_60 : BitVec 32 := 4#32
  let v64 : BitVec 32 := Scalar.remsi c1_i32_59 c4_i32_60
  ![v64.toNat]
def k0_off19 (v61 : BitVec 32) (v66 : BitVec 32) (k0_t4 : Fin (k0_t4_loop v61 v66).trips) : Fin 5 → Nat :=
  let c1_i32_59 : BitVec 32 := 1#32
  let c4_i32_60 : BitVec 32 := 4#32
  let v64 : BitVec 32 := Scalar.remsi c1_i32_59 c4_i32_60
  let c0_i32_70 : BitVec 32 := 0#32
  let c0_i32_64 : BitVec 32 := 0#32
  let c1_i32_67 : BitVec 32 := 1#32
  let arg18 : BitVec 32 := Scf.iv c0_i32_64 c1_i32_67 k0_t4
  let c0_i32_71 : BitVec 32 := 0#32
  let c0_i32_72 : BitVec 32 := 0#32
  ![v64.toNat, 0, arg18.toNat, 0, 0]
def k0_off20 (v85 : BitVec 32) : Fin 3 → Nat :=
  let c0_i32_73 : BitVec 32 := 0#32
  let c0_i32_74 : BitVec 32 := 0#32
  ![v85.toNat, 0, 0]

def k0_chk8 (v9 : BitVec 32) (v85 : BitVec 32) : Prop :=
  (∀ (k0_h2 : k0_cond2 v9 = 1#1), ∀ a, (k0_off20 v85) a + S1x1024x128.size a ≤ S1600x1024x128.size a) ∧
  (∀ (k0_h2 : k0_cond2 v9 = 1#1), ∀ (hinb : ∀ a, (k0_off20 v85) a + S1x1024x128.size a ≤ S1600x1024x128.size a), (Rect.unit (s := S1600x1024x128) (k0_off20 v85) S1x1024x128.size hinb).WholeWords (EltTy.packing .fp8e4m3))
theorem k0_off20_inb : ∀ (v9 : BitVec 32) (v85 : BitVec 32) (k0_hw8 : k0_chk8 v9 v85), ∀ (k0_h2 : k0_cond2 v9 = 1#1), ∀ a, (k0_off20 v85) a + S1x1024x128.size a ≤ S1600x1024x128.size a := fun v9 v85 k0_hw8 k0_h2 => k0_hw8.1 k0_h2
theorem k0_off20_wordsfp8e4m3 : ∀ (v9 : BitVec 32) (v85 : BitVec 32) (k0_hw8 : k0_chk8 v9 v85), ∀ (k0_h2 : k0_cond2 v9 = 1#1), (Rect.unit (s := S1600x1024x128) (k0_off20 v85) S1x1024x128.size (k0_off20_inb v9 v85 k0_hw8 k0_h2)).WholeWords (EltTy.packing .fp8e4m3) := fun v9 v85 k0_hw8 k0_h2 => k0_hw8.2 k0_h2 (k0_off20_inb v9 v85 k0_hw8 k0_h2)

def k0_off21 : Fin 1 → Nat :=
  let c1_i32_59 : BitVec 32 := 1#32
  let c4_i32_60 : BitVec 32 := 4#32
  let v64 : BitVec 32 := Scalar.remsi c1_i32_59 c4_i32_60
  ![v64.toNat]
def k0_off22 (v61 : BitVec 32) (v66 : BitVec 32) (k0_t4 : Fin (k0_t4_loop v61 v66).trips) : Fin 5 → Nat :=
  let c1_i32_59 : BitVec 32 := 1#32
  let c4_i32_60 : BitVec 32 := 4#32
  let v64 : BitVec 32 := Scalar.remsi c1_i32_59 c4_i32_60
  let c1_i32_75 : BitVec 32 := 1#32
  let c0_i32_64 : BitVec 32 := 0#32
  let c1_i32_67 : BitVec 32 := 1#32
  let arg18 : BitVec 32 := Scf.iv c0_i32_64 c1_i32_67 k0_t4
  let c0_i32_76 : BitVec 32 := 0#32
  let c0_i32_77 : BitVec 32 := 0#32
  ![v64.toNat, 1, arg18.toNat, 0, 0]
@[reducible] def k0_t5_loop (v61 : BitVec 32) (v66 : BitVec 32) : Scf.Loop 32 :=
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let v75 : BitVec 32 := Scalar.addi c0_i32_64 v74
  let c1_i32_68 : BitVec 32 := 1#32
  ⟨v78, v75, c1_i32_68⟩
def k0_off23 (v61 : BitVec 32) (v66 : BitVec 32) (k0_t5 : Fin (k0_t5_loop v61 v66).trips) : Fin 2 → Nat :=
  let c32_i32 : BitVec 32 := 32#32
  let v62 : BitVec 32 := Scalar.divsi v61 c32_i32
  let v83 : Index := Scalar.indexCast v62
  let c32_i32_58 : BitVec 32 := 32#32
  let v63 : BitVec 32 := Scalar.remsi v61 c32_i32_58
  let c8_i32_69 : BitVec 32 := 8#32
  let v81 : BitVec 32 := Scalar.muli v63 c8_i32_69
  let c0_i32_64 : BitVec 32 := 0#32
  let c8_i32 : BitVec 32 := 8#32
  let c0_i32_63 : BitVec 32 := 0#32
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t5
  let v82 : BitVec 32 := Scalar.addi v81 arg18
  let v84 : Index := Scalar.indexCast v82
  ![v83.toNat, v84.toNat]
def k0_off24 : Fin 1 → Nat :=
  let c1_i32_59 : BitVec 32 := 1#32
  let c4_i32_60 : BitVec 32 := 4#32
  let v64 : BitVec 32 := Scalar.remsi c1_i32_59 c4_i32_60
  ![v64.toNat]
def k0_off25 (v61 : BitVec 32) (v66 : BitVec 32) (k0_t5 : Fin (k0_t5_loop v61 v66).trips) : Fin 5 → Nat :=
  let c1_i32_59 : BitVec 32 := 1#32
  let c4_i32_60 : BitVec 32 := 4#32
  let v64 : BitVec 32 := Scalar.remsi c1_i32_59 c4_i32_60
  let c0_i32_70 : BitVec 32 := 0#32
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t5
  let c0_i32_71 : BitVec 32 := 0#32
  let c0_i32_72 : BitVec 32 := 0#32
  ![v64.toNat, 0, arg18.toNat, 0, 0]
def k0_off26 (v85 : BitVec 32) : Fin 3 → Nat :=
  let c0_i32_73 : BitVec 32 := 0#32
  let c0_i32_74 : BitVec 32 := 0#32
  ![v85.toNat, 0, 0]

def k0_chk9 (v9 : BitVec 32) (v85 : BitVec 32) : Prop :=
  (∀ (k0_h2 : k0_cond2 v9 = 1#1), ∀ a, (k0_off26 v85) a + S1x1024x128.size a ≤ S1600x1024x128.size a) ∧
  (∀ (k0_h2 : k0_cond2 v9 = 1#1), ∀ (hinb : ∀ a, (k0_off26 v85) a + S1x1024x128.size a ≤ S1600x1024x128.size a), (Rect.unit (s := S1600x1024x128) (k0_off26 v85) S1x1024x128.size hinb).WholeWords (EltTy.packing .fp8e4m3))
theorem k0_off26_inb : ∀ (v9 : BitVec 32) (v85 : BitVec 32) (k0_hw9 : k0_chk9 v9 v85), ∀ (k0_h2 : k0_cond2 v9 = 1#1), ∀ a, (k0_off26 v85) a + S1x1024x128.size a ≤ S1600x1024x128.size a := fun v9 v85 k0_hw9 k0_h2 => k0_hw9.1 k0_h2
theorem k0_off26_wordsfp8e4m3 : ∀ (v9 : BitVec 32) (v85 : BitVec 32) (k0_hw9 : k0_chk9 v9 v85), ∀ (k0_h2 : k0_cond2 v9 = 1#1), (Rect.unit (s := S1600x1024x128) (k0_off26 v85) S1x1024x128.size (k0_off26_inb v9 v85 k0_hw9 k0_h2)).WholeWords (EltTy.packing .fp8e4m3) := fun v9 v85 k0_hw9 k0_h2 => k0_hw9.2 k0_h2 (k0_off26_inb v9 v85 k0_hw9 k0_h2)

def k0_off27 : Fin 1 → Nat :=
  let c1_i32_59 : BitVec 32 := 1#32
  let c4_i32_60 : BitVec 32 := 4#32
  let v64 : BitVec 32 := Scalar.remsi c1_i32_59 c4_i32_60
  ![v64.toNat]
def k0_off28 (v61 : BitVec 32) (v66 : BitVec 32) (k0_t5 : Fin (k0_t5_loop v61 v66).trips) : Fin 5 → Nat :=
  let c1_i32_59 : BitVec 32 := 1#32
  let c4_i32_60 : BitVec 32 := 4#32
  let v64 : BitVec 32 := Scalar.remsi c1_i32_59 c4_i32_60
  let c1_i32_75 : BitVec 32 := 1#32
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t5
  let c0_i32_76 : BitVec 32 := 0#32
  let c0_i32_77 : BitVec 32 := 0#32
  ![v64.toNat, 1, arg18.toNat, 0, 0]

def k0_chk7 (v9 : BitVec 32) (v61 : BitVec 32) (v66 : BitVec 32) : Prop :=
  (∀ (k0_h2 : k0_cond2 v9 = 1#1), (k0_t4_loop v61 v66).OK) ∧
  (∀ k0_t4 : Fin (k0_t4_loop v61 v66).trips, ∀ (k0_h2 : k0_cond2 v9 = 1#1), ∀ a, (k0_off17 v61 v66 k0_t4) a + S1x1.size a ≤ S5x256.size a) ∧
  (∀ k0_t4 : Fin (k0_t4_loop v61 v66).trips, ∀ (k0_h2 : k0_cond2 v9 = 1#1), ∀ a, (k0_off19 v61 v66 k0_t4) a + S1x1x1x1024x128.size a ≤ S4x2x8x1024x128.size a) ∧
  (∀ k0_t4 : Fin (k0_t4_loop v61 v66).trips, ∀ (k0_h2 : k0_cond2 v9 = 1#1), ∀ (hinb : ∀ a, (k0_off19 v61 v66 k0_t4) a + S1x1x1x1024x128.size a ≤ S4x2x8x1024x128.size a), (Rect.unit (s := S4x2x8x1024x128) (k0_off19 v61 v66 k0_t4) S1x1x1x1024x128.size hinb).WholeWords (EltTy.packing .fp8e4m3)) ∧
  (∀ k0_t4 : Fin (k0_t4_loop v61 v66).trips, ∀ (k0_h2 : k0_cond2 v9 = 1#1), ∀ a, (k0_off22 v61 v66 k0_t4) a + S1x1x1x1024x128.size a ≤ S4x2x8x1024x128.size a) ∧
  (∀ k0_t4 : Fin (k0_t4_loop v61 v66).trips, ∀ (k0_h2 : k0_cond2 v9 = 1#1), ∀ (hinb : ∀ a, (k0_off22 v61 v66 k0_t4) a + S1x1x1x1024x128.size a ≤ S4x2x8x1024x128.size a), (Rect.unit (s := S4x2x8x1024x128) (k0_off22 v61 v66 k0_t4) S1x1x1x1024x128.size hinb).WholeWords (EltTy.packing .fp8e4m3)) ∧
  (∀ (k0_h2 : k0_cond2 v9 = 1#1), (k0_t5_loop v61 v66).OK) ∧
  (∀ k0_t5 : Fin (k0_t5_loop v61 v66).trips, ∀ (k0_h2 : k0_cond2 v9 = 1#1), ∀ a, (k0_off23 v61 v66 k0_t5) a + S1x1.size a ≤ S5x256.size a) ∧
  (∀ k0_t5 : Fin (k0_t5_loop v61 v66).trips, ∀ (k0_h2 : k0_cond2 v9 = 1#1), ∀ a, (k0_off25 v61 v66 k0_t5) a + S1x1x1x1024x128.size a ≤ S4x2x8x1024x128.size a) ∧
  (∀ k0_t5 : Fin (k0_t5_loop v61 v66).trips, ∀ (k0_h2 : k0_cond2 v9 = 1#1), ∀ (hinb : ∀ a, (k0_off25 v61 v66 k0_t5) a + S1x1x1x1024x128.size a ≤ S4x2x8x1024x128.size a), (Rect.unit (s := S4x2x8x1024x128) (k0_off25 v61 v66 k0_t5) S1x1x1x1024x128.size hinb).WholeWords (EltTy.packing .fp8e4m3)) ∧
  (∀ k0_t5 : Fin (k0_t5_loop v61 v66).trips, ∀ (k0_h2 : k0_cond2 v9 = 1#1), ∀ a, (k0_off28 v61 v66 k0_t5) a + S1x1x1x1024x128.size a ≤ S4x2x8x1024x128.size a) ∧
  (∀ k0_t5 : Fin (k0_t5_loop v61 v66).trips, ∀ (k0_h2 : k0_cond2 v9 = 1#1), ∀ (hinb : ∀ a, (k0_off28 v61 v66 k0_t5) a + S1x1x1x1024x128.size a ≤ S4x2x8x1024x128.size a), (Rect.unit (s := S4x2x8x1024x128) (k0_off28 v61 v66 k0_t5) S1x1x1x1024x128.size hinb).WholeWords (EltTy.packing .fp8e4m3))
theorem k0_t4_ok : ∀ (v9 : BitVec 32) (v61 : BitVec 32) (v66 : BitVec 32) (k0_hw7 : k0_chk7 v9 v61 v66), ∀ (k0_h2 : k0_cond2 v9 = 1#1), (k0_t4_loop v61 v66).OK := fun v9 v61 v66 k0_hw7 k0_h2 => k0_hw7.1 k0_h2
theorem k0_off17_inb : ∀ (v9 : BitVec 32) (v61 : BitVec 32) (v66 : BitVec 32) (k0_hw7 : k0_chk7 v9 v61 v66) (k0_t4 : Fin (k0_t4_loop v61 v66).trips), ∀ (k0_h2 : k0_cond2 v9 = 1#1), ∀ a, (k0_off17 v61 v66 k0_t4) a + S1x1.size a ≤ S5x256.size a := fun v9 v61 v66 k0_hw7 k0_t4 k0_h2 => k0_hw7.2.1 k0_t4 k0_h2
theorem k0_off19_inb : ∀ (v9 : BitVec 32) (v61 : BitVec 32) (v66 : BitVec 32) (k0_hw7 : k0_chk7 v9 v61 v66) (k0_t4 : Fin (k0_t4_loop v61 v66).trips), ∀ (k0_h2 : k0_cond2 v9 = 1#1), ∀ a, (k0_off19 v61 v66 k0_t4) a + S1x1x1x1024x128.size a ≤ S4x2x8x1024x128.size a := fun v9 v61 v66 k0_hw7 k0_t4 k0_h2 => k0_hw7.2.2.1 k0_t4 k0_h2
theorem k0_off19_wordsfp8e4m3 : ∀ (v9 : BitVec 32) (v61 : BitVec 32) (v66 : BitVec 32) (k0_hw7 : k0_chk7 v9 v61 v66) (k0_t4 : Fin (k0_t4_loop v61 v66).trips), ∀ (k0_h2 : k0_cond2 v9 = 1#1), (Rect.unit (s := S4x2x8x1024x128) (k0_off19 v61 v66 k0_t4) S1x1x1x1024x128.size (k0_off19_inb v9 v61 v66 k0_hw7 k0_t4 k0_h2)).WholeWords (EltTy.packing .fp8e4m3) := fun v9 v61 v66 k0_hw7 k0_t4 k0_h2 => k0_hw7.2.2.2.1 k0_t4 k0_h2 (k0_off19_inb v9 v61 v66 k0_hw7 k0_t4 k0_h2)
theorem k0_off22_inb : ∀ (v9 : BitVec 32) (v61 : BitVec 32) (v66 : BitVec 32) (k0_hw7 : k0_chk7 v9 v61 v66) (k0_t4 : Fin (k0_t4_loop v61 v66).trips), ∀ (k0_h2 : k0_cond2 v9 = 1#1), ∀ a, (k0_off22 v61 v66 k0_t4) a + S1x1x1x1024x128.size a ≤ S4x2x8x1024x128.size a := fun v9 v61 v66 k0_hw7 k0_t4 k0_h2 => k0_hw7.2.2.2.2.1 k0_t4 k0_h2
theorem k0_off22_wordsfp8e4m3 : ∀ (v9 : BitVec 32) (v61 : BitVec 32) (v66 : BitVec 32) (k0_hw7 : k0_chk7 v9 v61 v66) (k0_t4 : Fin (k0_t4_loop v61 v66).trips), ∀ (k0_h2 : k0_cond2 v9 = 1#1), (Rect.unit (s := S4x2x8x1024x128) (k0_off22 v61 v66 k0_t4) S1x1x1x1024x128.size (k0_off22_inb v9 v61 v66 k0_hw7 k0_t4 k0_h2)).WholeWords (EltTy.packing .fp8e4m3) := fun v9 v61 v66 k0_hw7 k0_t4 k0_h2 => k0_hw7.2.2.2.2.2.1 k0_t4 k0_h2 (k0_off22_inb v9 v61 v66 k0_hw7 k0_t4 k0_h2)
theorem k0_t5_ok : ∀ (v9 : BitVec 32) (v61 : BitVec 32) (v66 : BitVec 32) (k0_hw7 : k0_chk7 v9 v61 v66), ∀ (k0_h2 : k0_cond2 v9 = 1#1), (k0_t5_loop v61 v66).OK := fun v9 v61 v66 k0_hw7 k0_h2 => k0_hw7.2.2.2.2.2.2.1 k0_h2
theorem k0_off23_inb : ∀ (v9 : BitVec 32) (v61 : BitVec 32) (v66 : BitVec 32) (k0_hw7 : k0_chk7 v9 v61 v66) (k0_t5 : Fin (k0_t5_loop v61 v66).trips), ∀ (k0_h2 : k0_cond2 v9 = 1#1), ∀ a, (k0_off23 v61 v66 k0_t5) a + S1x1.size a ≤ S5x256.size a := fun v9 v61 v66 k0_hw7 k0_t5 k0_h2 => k0_hw7.2.2.2.2.2.2.2.1 k0_t5 k0_h2
theorem k0_off25_inb : ∀ (v9 : BitVec 32) (v61 : BitVec 32) (v66 : BitVec 32) (k0_hw7 : k0_chk7 v9 v61 v66) (k0_t5 : Fin (k0_t5_loop v61 v66).trips), ∀ (k0_h2 : k0_cond2 v9 = 1#1), ∀ a, (k0_off25 v61 v66 k0_t5) a + S1x1x1x1024x128.size a ≤ S4x2x8x1024x128.size a := fun v9 v61 v66 k0_hw7 k0_t5 k0_h2 => k0_hw7.2.2.2.2.2.2.2.2.1 k0_t5 k0_h2
theorem k0_off25_wordsfp8e4m3 : ∀ (v9 : BitVec 32) (v61 : BitVec 32) (v66 : BitVec 32) (k0_hw7 : k0_chk7 v9 v61 v66) (k0_t5 : Fin (k0_t5_loop v61 v66).trips), ∀ (k0_h2 : k0_cond2 v9 = 1#1), (Rect.unit (s := S4x2x8x1024x128) (k0_off25 v61 v66 k0_t5) S1x1x1x1024x128.size (k0_off25_inb v9 v61 v66 k0_hw7 k0_t5 k0_h2)).WholeWords (EltTy.packing .fp8e4m3) := fun v9 v61 v66 k0_hw7 k0_t5 k0_h2 => k0_hw7.2.2.2.2.2.2.2.2.2.1 k0_t5 k0_h2 (k0_off25_inb v9 v61 v66 k0_hw7 k0_t5 k0_h2)
theorem k0_off28_inb : ∀ (v9 : BitVec 32) (v61 : BitVec 32) (v66 : BitVec 32) (k0_hw7 : k0_chk7 v9 v61 v66) (k0_t5 : Fin (k0_t5_loop v61 v66).trips), ∀ (k0_h2 : k0_cond2 v9 = 1#1), ∀ a, (k0_off28 v61 v66 k0_t5) a + S1x1x1x1024x128.size a ≤ S4x2x8x1024x128.size a := fun v9 v61 v66 k0_hw7 k0_t5 k0_h2 => k0_hw7.2.2.2.2.2.2.2.2.2.2.1 k0_t5 k0_h2
theorem k0_off28_wordsfp8e4m3 : ∀ (v9 : BitVec 32) (v61 : BitVec 32) (v66 : BitVec 32) (k0_hw7 : k0_chk7 v9 v61 v66) (k0_t5 : Fin (k0_t5_loop v61 v66).trips), ∀ (k0_h2 : k0_cond2 v9 = 1#1), (Rect.unit (s := S4x2x8x1024x128) (k0_off28 v61 v66 k0_t5) S1x1x1x1024x128.size (k0_off28_inb v9 v61 v66 k0_hw7 k0_t5 k0_h2)).WholeWords (EltTy.packing .fp8e4m3) := fun v9 v61 v66 k0_hw7 k0_t5 k0_h2 => k0_hw7.2.2.2.2.2.2.2.2.2.2.2 k0_t5 k0_h2 (k0_off28_inb v9 v61 v66 k0_hw7 k0_t5 k0_h2)

def k0_off29 (v61 : BitVec 32) : Fin 1 → Nat :=
  let c32_i32 : BitVec 32 := 32#32
  let v62 : BitVec 32 := Scalar.divsi v61 c32_i32
  let v65 : Index := Scalar.indexCast v62
  ![v65.toNat]
def k0_cond3 (v9 : BitVec 32) : BitVec 1 :=
  let c2_i32 : BitVec 32 := 2#32
  let v17 : BitVec 1 := Scalar.cmpi .sgt v9 c2_i32
  let v18 : BitVec 32 := Scalar.extui v17
  let c0_i32_17 : BitVec 32 := 0#32
  let v19 : BitVec 1 := Scalar.cmpi .ne v18 c0_i32_17
  v19

def k0_chk10 (v9 : BitVec 32) (v61 : BitVec 32) : Prop :=
  (∀ (k0_h3 : k0_cond3 v9 = 1#1), ∀ a, (k0_off29 v61) a + S1.size a ≤ S5.size a)
theorem k0_off29_inb : ∀ (v9 : BitVec 32) (v61 : BitVec 32) (k0_hw10 : k0_chk10 v9 v61), ∀ (k0_h3 : k0_cond3 v9 = 1#1), ∀ a, (k0_off29 v61) a + S1.size a ≤ S5.size a := fun v9 v61 k0_hw10 k0_h3 => k0_hw10 k0_h3

@[reducible] def k0_t6_loop (v61 : BitVec 32) (v66 : BitVec 32) : Scf.Loop 32 :=
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_67 : BitVec 32 := 1#32
  ⟨c0_i32_64, v78, c1_i32_67⟩

def k0_off30 (v61 : BitVec 32) (v66 : BitVec 32) (k0_t6 : Fin (k0_t6_loop v61 v66).trips) : Fin 2 → Nat :=
  let c32_i32 : BitVec 32 := 32#32
  let v62 : BitVec 32 := Scalar.divsi v61 c32_i32
  let v83 : Index := Scalar.indexCast v62
  let c32_i32_58 : BitVec 32 := 32#32
  let v63 : BitVec 32 := Scalar.remsi v61 c32_i32_58
  let c8_i32_69 : BitVec 32 := 8#32
  let v81 : BitVec 32 := Scalar.muli v63 c8_i32_69
  let c0_i32_64 : BitVec 32 := 0#32
  let c1_i32_67 : BitVec 32 := 1#32
  let arg18 : BitVec 32 := Scf.iv c0_i32_64 c1_i32_67 k0_t6
  let v82 : BitVec 32 := Scalar.addi v81 arg18
  let v84 : Index := Scalar.indexCast v82
  ![v83.toNat, v84.toNat]
def k0_off31 : Fin 1 → Nat :=
  let c2_i32_59 : BitVec 32 := 2#32
  let c4_i32_60 : BitVec 32 := 4#32
  let v64 : BitVec 32 := Scalar.remsi c2_i32_59 c4_i32_60
  ![v64.toNat]
def k0_off32 (v61 : BitVec 32) (v66 : BitVec 32) (k0_t6 : Fin (k0_t6_loop v61 v66).trips) : Fin 5 → Nat :=
  let c2_i32_59 : BitVec 32 := 2#32
  let c4_i32_60 : BitVec 32 := 4#32
  let v64 : BitVec 32 := Scalar.remsi c2_i32_59 c4_i32_60
  let c0_i32_70 : BitVec 32 := 0#32
  let c0_i32_64 : BitVec 32 := 0#32
  let c1_i32_67 : BitVec 32 := 1#32
  let arg18 : BitVec 32 := Scf.iv c0_i32_64 c1_i32_67 k0_t6
  let c0_i32_71 : BitVec 32 := 0#32
  let c0_i32_72 : BitVec 32 := 0#32
  ![v64.toNat, 0, arg18.toNat, 0, 0]
def k0_off33 (v85 : BitVec 32) : Fin 3 → Nat :=
  let c0_i32_73 : BitVec 32 := 0#32
  let c0_i32_74 : BitVec 32 := 0#32
  ![v85.toNat, 0, 0]

def k0_chk12 (v9 : BitVec 32) (v85 : BitVec 32) : Prop :=
  (∀ (k0_h3 : k0_cond3 v9 = 1#1), ∀ a, (k0_off33 v85) a + S1x1024x128.size a ≤ S1600x1024x128.size a) ∧
  (∀ (k0_h3 : k0_cond3 v9 = 1#1), ∀ (hinb : ∀ a, (k0_off33 v85) a + S1x1024x128.size a ≤ S1600x1024x128.size a), (Rect.unit (s := S1600x1024x128) (k0_off33 v85) S1x1024x128.size hinb).WholeWords (EltTy.packing .fp8e4m3))
theorem k0_off33_inb : ∀ (v9 : BitVec 32) (v85 : BitVec 32) (k0_hw12 : k0_chk12 v9 v85), ∀ (k0_h3 : k0_cond3 v9 = 1#1), ∀ a, (k0_off33 v85) a + S1x1024x128.size a ≤ S1600x1024x128.size a := fun v9 v85 k0_hw12 k0_h3 => k0_hw12.1 k0_h3
theorem k0_off33_wordsfp8e4m3 : ∀ (v9 : BitVec 32) (v85 : BitVec 32) (k0_hw12 : k0_chk12 v9 v85), ∀ (k0_h3 : k0_cond3 v9 = 1#1), (Rect.unit (s := S1600x1024x128) (k0_off33 v85) S1x1024x128.size (k0_off33_inb v9 v85 k0_hw12 k0_h3)).WholeWords (EltTy.packing .fp8e4m3) := fun v9 v85 k0_hw12 k0_h3 => k0_hw12.2 k0_h3 (k0_off33_inb v9 v85 k0_hw12 k0_h3)

def k0_off34 : Fin 1 → Nat :=
  let c2_i32_59 : BitVec 32 := 2#32
  let c4_i32_60 : BitVec 32 := 4#32
  let v64 : BitVec 32 := Scalar.remsi c2_i32_59 c4_i32_60
  ![v64.toNat]
def k0_off35 (v61 : BitVec 32) (v66 : BitVec 32) (k0_t6 : Fin (k0_t6_loop v61 v66).trips) : Fin 5 → Nat :=
  let c2_i32_59 : BitVec 32 := 2#32
  let c4_i32_60 : BitVec 32 := 4#32
  let v64 : BitVec 32 := Scalar.remsi c2_i32_59 c4_i32_60
  let c1_i32_75 : BitVec 32 := 1#32
  let c0_i32_64 : BitVec 32 := 0#32
  let c1_i32_67 : BitVec 32 := 1#32
  let arg18 : BitVec 32 := Scf.iv c0_i32_64 c1_i32_67 k0_t6
  let c0_i32_76 : BitVec 32 := 0#32
  let c0_i32_77 : BitVec 32 := 0#32
  ![v64.toNat, 1, arg18.toNat, 0, 0]
@[reducible] def k0_t7_loop (v61 : BitVec 32) (v66 : BitVec 32) : Scf.Loop 32 :=
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let v75 : BitVec 32 := Scalar.addi c0_i32_64 v74
  let c1_i32_68 : BitVec 32 := 1#32
  ⟨v78, v75, c1_i32_68⟩
def k0_off36 (v61 : BitVec 32) (v66 : BitVec 32) (k0_t7 : Fin (k0_t7_loop v61 v66).trips) : Fin 2 → Nat :=
  let c32_i32 : BitVec 32 := 32#32
  let v62 : BitVec 32 := Scalar.divsi v61 c32_i32
  let v83 : Index := Scalar.indexCast v62
  let c32_i32_58 : BitVec 32 := 32#32
  let v63 : BitVec 32 := Scalar.remsi v61 c32_i32_58
  let c8_i32_69 : BitVec 32 := 8#32
  let v81 : BitVec 32 := Scalar.muli v63 c8_i32_69
  let c0_i32_64 : BitVec 32 := 0#32
  let c8_i32 : BitVec 32 := 8#32
  let c0_i32_63 : BitVec 32 := 0#32
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t7
  let v82 : BitVec 32 := Scalar.addi v81 arg18
  let v84 : Index := Scalar.indexCast v82
  ![v83.toNat, v84.toNat]
def k0_off37 : Fin 1 → Nat :=
  let c2_i32_59 : BitVec 32 := 2#32
  let c4_i32_60 : BitVec 32 := 4#32
  let v64 : BitVec 32 := Scalar.remsi c2_i32_59 c4_i32_60
  ![v64.toNat]
def k0_off38 (v61 : BitVec 32) (v66 : BitVec 32) (k0_t7 : Fin (k0_t7_loop v61 v66).trips) : Fin 5 → Nat :=
  let c2_i32_59 : BitVec 32 := 2#32
  let c4_i32_60 : BitVec 32 := 4#32
  let v64 : BitVec 32 := Scalar.remsi c2_i32_59 c4_i32_60
  let c0_i32_70 : BitVec 32 := 0#32
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t7
  let c0_i32_71 : BitVec 32 := 0#32
  let c0_i32_72 : BitVec 32 := 0#32
  ![v64.toNat, 0, arg18.toNat, 0, 0]
def k0_off39 (v85 : BitVec 32) : Fin 3 → Nat :=
  let c0_i32_73 : BitVec 32 := 0#32
  let c0_i32_74 : BitVec 32 := 0#32
  ![v85.toNat, 0, 0]

def k0_chk13 (v9 : BitVec 32) (v85 : BitVec 32) : Prop :=
  (∀ (k0_h3 : k0_cond3 v9 = 1#1), ∀ a, (k0_off39 v85) a + S1x1024x128.size a ≤ S1600x1024x128.size a) ∧
  (∀ (k0_h3 : k0_cond3 v9 = 1#1), ∀ (hinb : ∀ a, (k0_off39 v85) a + S1x1024x128.size a ≤ S1600x1024x128.size a), (Rect.unit (s := S1600x1024x128) (k0_off39 v85) S1x1024x128.size hinb).WholeWords (EltTy.packing .fp8e4m3))
theorem k0_off39_inb : ∀ (v9 : BitVec 32) (v85 : BitVec 32) (k0_hw13 : k0_chk13 v9 v85), ∀ (k0_h3 : k0_cond3 v9 = 1#1), ∀ a, (k0_off39 v85) a + S1x1024x128.size a ≤ S1600x1024x128.size a := fun v9 v85 k0_hw13 k0_h3 => k0_hw13.1 k0_h3
theorem k0_off39_wordsfp8e4m3 : ∀ (v9 : BitVec 32) (v85 : BitVec 32) (k0_hw13 : k0_chk13 v9 v85), ∀ (k0_h3 : k0_cond3 v9 = 1#1), (Rect.unit (s := S1600x1024x128) (k0_off39 v85) S1x1024x128.size (k0_off39_inb v9 v85 k0_hw13 k0_h3)).WholeWords (EltTy.packing .fp8e4m3) := fun v9 v85 k0_hw13 k0_h3 => k0_hw13.2 k0_h3 (k0_off39_inb v9 v85 k0_hw13 k0_h3)

def k0_off40 : Fin 1 → Nat :=
  let c2_i32_59 : BitVec 32 := 2#32
  let c4_i32_60 : BitVec 32 := 4#32
  let v64 : BitVec 32 := Scalar.remsi c2_i32_59 c4_i32_60
  ![v64.toNat]
def k0_off41 (v61 : BitVec 32) (v66 : BitVec 32) (k0_t7 : Fin (k0_t7_loop v61 v66).trips) : Fin 5 → Nat :=
  let c2_i32_59 : BitVec 32 := 2#32
  let c4_i32_60 : BitVec 32 := 4#32
  let v64 : BitVec 32 := Scalar.remsi c2_i32_59 c4_i32_60
  let c1_i32_75 : BitVec 32 := 1#32
  let c0_i32_64 : BitVec 32 := 0#32
  let c8_i32 : BitVec 32 := 8#32
  let c0_i32_63 : BitVec 32 := 0#32
  let c32_i32_58 : BitVec 32 := 32#32
  let v63 : BitVec 32 := Scalar.remsi v61 c32_i32_58
  let c128_i32 : BitVec 32 := 128#32
  let v67 : BitVec 32 := Scalar.muli v63 c128_i32
  let v68 : BitVec 32 := Scalar.subi v66 v67
  let c16_i32 : BitVec 32 := 16#32
  let v69 : BitVec 32 := Scalar.addi v68 c16_i32
  let c1_i32_61 : BitVec 32 := 1#32
  let v70 : BitVec 32 := Scalar.subi v69 c1_i32_61
  let c16_i32_62 : BitVec 32 := 16#32
  let v71 : BitVec 32 := Scalar.divsi v70 c16_i32_62
  let v72 : BitVec 32 := Scalar.maxsi c0_i32_63 v71
  let v73 : BitVec 32 := Scalar.minsi c8_i32 v72
  let v74 : BitVec 32 := Scalar.subi v73 c0_i32_64
  let c1_i32_66 : BitVec 32 := 1#32
  let v76 : BitVec 32 := Scalar.divsi v74 c1_i32_66
  let v77 : BitVec 32 := Scalar.muli v76 c1_i32_66
  let v78 : BitVec 32 := Scalar.addi c0_i32_64 v77
  let c1_i32_68 : BitVec 32 := 1#32
  let arg18 : BitVec 32 := Scf.iv v78 c1_i32_68 k0_t7
  let c0_i32_76 : BitVec 32 := 0#32
  let c0_i32_77 : BitVec 32 := 0#32
  ![v64.toNat, 1, arg18.toNat, 0, 0]

def k0_chk11 (v9 : BitVec 32) (v61 : BitVec 32) (v66 : BitVec 32) : Prop :=
  (∀ (k0_h3 : k0_cond3 v9 = 1#1), (k0_t6_loop v61 v66).OK) ∧
  (∀ k0_t6 : Fin (k0_t6_loop v61 v66).trips, ∀ (k0_h3 : k0_cond3 v9 = 1#1), ∀ a, (k0_off30 v61 v66 k0_t6) a + S1x1.size a ≤ S5x256.size a) ∧
  (∀ k0_t6 : Fin (k0_t6_loop v61 v66).trips, ∀ (k0_h3 : k0_cond3 v9 = 1#1), ∀ a, (k0_off32 v61 v66 k0_t6) a + S1x1x1x1024x128.size a ≤ S4x2x8x1024x128.size a) ∧
  (∀ k0_t6 : Fin (k0_t6_loop v61 v66).trips, ∀ (k0_h3 : k0_cond3 v9 = 1#1), ∀ (hinb : ∀ a, (k0_off32 v61 v66 k0_t6) a + S1x1x1x1024x128.size a ≤ S4x2x8x1024x128.size a), (Rect.unit (s := S4x2x8x1024x128) (k0_off32 v61 v66 k0_t6) S1x1x1x1024x128.size hinb).WholeWords (EltTy.packing .fp8e4m3)) ∧
  (∀ k0_t6 : Fin (k0_t6_loop v61 v66).trips, ∀ (k0_h3 : k0_cond3 v9 = 1#1), ∀ a, (k0_off35 v61 v66 k0_t6) a + S1x1x1x1024x128.size a ≤ S4x2x8x1024x128.size a) ∧
  (∀ k0_t6 : Fin (k0_t6_loop v61 v66).trips, ∀ (k0_h3 : k0_cond3 v9 = 1#1), ∀ (hinb : ∀ a, (k0_off35 v61 v66 k0_t6) a + S1x1x1x1024x128.size a ≤ S4x2x8x1024x128.size a), (Rect.unit (s := S4x2x8x1024x128) (k0_off35 v61 v66 k0_t6) S1x1x1x1024x128.size hinb).WholeWords (EltTy.packing .fp8e4m3)) ∧
  (∀ (k0_h3 : k0_cond3 v9 = 1#1), (k0_t7_loop v61 v66).OK) ∧
  (∀ k0_t7 : Fin (k0_t7_loop v61 v66).trips, ∀ (k0_h3 : k0_cond3 v9 = 1#1), ∀ a, (k0_off36 v61 v66 k0_t7) a + S1x1.size a ≤ S5x256.size a) ∧
  (∀ k0_t7 : Fin (k0_t7_loop v61 v66).trips, ∀ (k0_h3 : k0_cond3 v9 = 1#1), ∀ a, (k0_off38 v61 v66 k0_t7) a + S1x1x1x1024x128.size a ≤ S4x2x8x1024x128.size a) ∧
  (∀ k0_t7 : Fin (k0_t7_loop v61 v66).trips, ∀ (k0_h3 : k0_cond3 v9 = 1#1), ∀ (hinb : ∀ a, (k0_off38 v61 v66 k0_t7) a + S1x1x1x1024x128.size a ≤ S4x2x8x1024x128.size a), (Rect.unit (s := S4x2x8x1024x128) (k0_off38 v61 v66 k0_t7) S1x1x1x1024x128.size hinb).WholeWords (EltTy.packing .fp8e4m3)) ∧
  (∀ k0_t7 : Fin (k0_t7_loop v61 v66).trips, ∀ (k0_h3 : k0_cond3 v9 = 1#1), ∀ a, (k0_off41 v61 v66 k0_t7) a + S1x1x1x1024x128.size a ≤ S4x2x8x1024x128.size a) ∧
  (∀ k0_t7 : Fin (k0_t7_loop v61 v66).trips, ∀ (k0_h3 : k0_cond3 v9 = 1#1), ∀ (hinb : ∀ a, (k0_off41 v61 v66 k0_t7) a + S1x1x1x1024x128.size a ≤ S4x2x8x1024x128.size a), (Rect.unit (s := S4x2x8x1024x128) (k0_off41 v61 v66 k0_t7) S1x1x1x1024x128.size hinb).WholeWords (EltTy.packing .fp8e4m3))
theorem k0_t6_ok : ∀ (v9 : BitVec 32) (v61 : BitVec 32) (v66 : BitVec 32) (k0_hw11 : k0_chk11 v9 v61 v66), ∀ (k0_h3 : k0_cond3 v9 = 1#1), (k0_t6_loop v61 v66).OK := fun v9 v61 v66 k0_hw11 k0_h3 => k0_hw11.1 k0_h3
theorem k0_off30_inb : ∀ (v9 : BitVec 32) (v61 : BitVec 32) (v66 : BitVec 32) (k0_hw11 : k0_chk11 v9 v61 v66) (k0_t6 : Fin (k0_t6_loop v61 v66).trips), ∀ (k0_h3 : k0_cond3 v9 = 1#1), ∀ a, (k0_off30 v61 v66 k0_t6) a + S1x1.size a ≤ S5x256.size a := fun v9 v61 v66 k0_hw11 k0_t6 k0_h3 => k0_hw11.2.1 k0_t6 k0_h3
theorem k0_off32_inb : ∀ (v9 : BitVec 32) (v61 : BitVec 32) (v66 : BitVec 32) (k0_hw11 : k0_chk11 v9 v61 v66) (k0_t6 : Fin (k0_t6_loop v61 v66).trips), ∀ (k0_h3 : k0_cond3 v9 = 1#1), ∀ a, (k0_off32 v61 v66 k0_t6) a + S1x1x1x1024x128.size a ≤ S4x2x8x1024x128.size a := fun v9 v61 v66 k0_hw11 k0_t6 k0_h3 => k0_hw11.2.2.1 k0_t6 k0_h3
theorem k0_off32_wordsfp8e4m3 : ∀ (v9 : BitVec 32) (v61 : BitVec 32) (v66 : BitVec 32) (k0_hw11 : k0_chk11 v9 v61 v66) (k0_t6 : Fin (k0_t6_loop v61 v66).trips), ∀ (k0_h3 : k0_cond3 v9 = 1#1), (Rect.unit (s := S4x2x8x1024x128) (k0_off32 v61 v66 k0_t6) S1x1x1x1024x128.size (k0_off32_inb v9 v61 v66 k0_hw11 k0_t6 k0_h3)).WholeWords (EltTy.packing .fp8e4m3) := fun v9 v61 v66 k0_hw11 k0_t6 k0_h3 => k0_hw11.2.2.2.1 k0_t6 k0_h3 (k0_off32_inb v9 v61 v66 k0_hw11 k0_t6 k0_h3)
theorem k0_off35_inb : ∀ (v9 : BitVec 32) (v61 : BitVec 32) (v66 : BitVec 32) (k0_hw11 : k0_chk11 v9 v61 v66) (k0_t6 : Fin (k0_t6_loop v61 v66).trips), ∀ (k0_h3 : k0_cond3 v9 = 1#1), ∀ a, (k0_off35 v61 v66 k0_t6) a + S1x1x1x1024x128.size a ≤ S4x2x8x1024x128.size a := fun v9 v61 v66 k0_hw11 k0_t6 k0_h3 => k0_hw11.2.2.2.2.1 k0_t6 k0_h3
theorem k0_off35_wordsfp8e4m3 : ∀ (v9 : BitVec 32) (v61 : BitVec 32) (v66 : BitVec 32) (k0_hw11 : k0_chk11 v9 v61 v66) (k0_t6 : Fin (k0_t6_loop v61 v66).trips), ∀ (k0_h3 : k0_cond3 v9 = 1#1), (Rect.unit (s := S4x2x8x1024x128) (k0_off35 v61 v66 k0_t6) S1x1x1x1024x128.size (k0_off35_inb v9 v61 v66 k0_hw11 k0_t6 k0_h3)).WholeWords (EltTy.packing .fp8e4m3) := fun v9 v61 v66 k0_hw11 k0_t6 k0_h3 => k0_hw11.2.2.2.2.2.1 k0_t6 k0_h3 (k0_off35_inb v9 v61 v66 k0_hw11 k0_t6 k0_h3)
theorem k0_t7_ok : ∀ (v9 : BitVec 32) (v61 : BitVec 32) (v66 : BitVec 32) (k0_hw11 : k0_chk11 v9 v61 v66), ∀ (k0_h3 : k0_cond3 v9 = 1#1), (k0_t7_loop v61 v66).OK := fun v9 v61 v66 k0_hw11 k0_h3 => k0_hw11.2.2.2.2.2.2.1 k0_h3
theorem k0_off36_inb : ∀ (v9 : BitVec 32) (v61 : BitVec 32) (v66 : BitVec 32) (k0_hw11 : k0_chk11 v9 v61 v66) (k0_t7 : Fin (k0_t7_loop v61 v66).trips), ∀ (k0_h3 : k0_cond3 v9 = 1#1), ∀ a, (k0_off36 v61 v66 k0_t7) a + S1x1.size a ≤ S5x256.size a := fun v9 v61 v66 k0_hw11 k0_t7 k0_h3 => k0_hw11.2.2.2.2.2.2.2.1 k0_t7 k0_h3
theorem k0_off38_inb : ∀ (v9 : BitVec 32) (v61 : BitVec 32) (v66 : BitVec 32) (k0_hw11 : k0_chk11 v9 v61 v66) (k0_t7 : Fin (k0_t7_loop v61 v66).trips), ∀ (k0_h3 : k0_cond3 v9 = 1#1), ∀ a, (k0_off38 v61 v66 k0_t7) a + S1x1x1x1024x128.size a ≤ S4x2x8x1024x128.size a := fun v9 v61 v66 k0_hw11 k0_t7 k0_h3 => k0_hw11.2.2.2.2.2.2.2.2.1 k0_t7 k0_h3
theorem k0_off38_wordsfp8e4m3 : ∀ (v9 : BitVec 32) (v61 : BitVec 32) (v66 : BitVec 32) (k0_hw11 : k0_chk11 v9 v61 v66) (k0_t7 : Fin (k0_t7_loop v61 v66).trips), ∀ (k0_h3 : k0_cond3 v9 = 1#1), (Rect.unit (s := S4x2x8x1024x128) (k0_off38 v61 v66 k0_t7) S1x1x1x1024x128.size (k0_off38_inb v9 v61 v66 k0_hw11 k0_t7 k0_h3)).WholeWords (EltTy.packing .fp8e4m3) := fun v9 v61 v66 k0_hw11 k0_t7 k0_h3 => k0_hw11.2.2.2.2.2.2.2.2.2.1 k0_t7 k0_h3 (k0_off38_inb v9 v61 v66 k0_hw11 k0_t7 k0_h3)
theorem k0_off41_inb : ∀ (v9 : BitVec 32) (v61 : BitVec 32) (v66 : BitVec 32) (k0_hw11 : k0_chk11 v9 v61 v66) (k0_t7 : Fin (k0_t7_loop v61 v66).trips), ∀ (k0_h3 : k0_cond3 v9 = 1#1), ∀ a, (k0_off41 v61 v66 k0_t7) a + S1x1x1x1024x128.size a ≤ S4x2x8x1024x128.size a := fun v9 v61 v66 k0_hw11 k0_t7 k0_h3 => k0_hw11.2.2.2.2.2.2.2.2.2.2.1 k0_t7 k0_h3
theorem k0_off41_wordsfp8e4m3 : ∀ (v9 : BitVec 32) (v61 : BitVec 32) (v66 : BitVec 32) (k0_hw11 : k0_chk11 v9 v61 v66) (k0_t7 : Fin (k0_t7_loop v61 v66).trips), ∀ (k0_h3 : k0_cond3 v9 = 1#1), (Rect.unit (s := S4x2x8x1024x128) (k0_off41 v61 v66 k0_t7) S1x1x1x1024x128.size (k0_off41_inb v9 v61 v66 k0_hw11 k0_t7 k0_h3)).WholeWords (EltTy.packing .fp8e4m3) := fun v9 v61 v66 k0_hw11 k0_t7 k0_h3 => k0_hw11.2.2.2.2.2.2.2.2.2.2.2 k0_t7 k0_h3 (k0_off41_inb v9 v61 v66 k0_hw11 k0_t7 k0_h3)

@[reducible] def k0_t8_loop : Scf.Loop 32 :=
  let c0_i32_18 : BitVec 32 := 0#32
  let c64_i32 : BitVec 32 := 64#32
  let v20 : BitVec 32 := Scalar.addi c0_i32_18 c64_i32
  let c1_i32_19 : BitVec 32 := 1#32
  ⟨c0_i32_18, v20, c1_i32_19⟩
def k0_off42 (k0_t8 : Fin k0_t8_loop.trips) : Fin 3 → Nat :=
  let c0_i32_18 : BitVec 32 := 0#32
  let c1_i32_19 : BitVec 32 := 1#32
  let arg18 : BitVec 32 := Scf.iv c0_i32_18 c1_i32_19 k0_t8
  let v62 : Index := Scalar.indexCast arg18
  let c0 : Index := 0#32
  let c0_58 : Index := 0#32
  ![v62.toNat, 0, 0]
@[reducible] def k0_t9_loop : Scf.Loop 32 :=
  let c0_i32_26 : BitVec 32 := 0#32
  let c64_i32_27 : BitVec 32 := 64#32
  let v25 : BitVec 32 := Scalar.addi c0_i32_26 c64_i32_27
  let c1_i32_28 : BitVec 32 := 1#32
  ⟨c0_i32_26, v25, c1_i32_28⟩
def k0_off43 (k0_t9 : Fin k0_t9_loop.trips) : Fin 4 → Nat :=
  let c0 : Index := 0#32
  let c0_i32_26 : BitVec 32 := 0#32
  let c1_i32_28 : BitVec 32 := 1#32
  let arg18 : BitVec 32 := Scf.iv c0_i32_26 c1_i32_28 k0_t9
  let v61 : Index := Scalar.indexCast arg18
  let c0_58 : Index := 0#32
  let c0_59 : Index := 0#32
  ![0, v61.toNat, 0, 0]
def k0_mult1 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32 : BitVec 32 := 16#32
  let v65 : BitVec 32 := Scalar.muli arg18 c16_i32
  v65
def k0_off44 (k0_t9 : Fin k0_t9_loop.trips) : Fin 4 → Nat :=
  let c0_60 : Index := 0#32
  let c0_61 : Index := 0#32
  let c0_i32_26 : BitVec 32 := 0#32
  let c1_i32_28 : BitVec 32 := 1#32
  let arg18 : BitVec 32 := Scf.iv c0_i32_26 c1_i32_28 k0_t9
  let c16_i32 : BitVec 32 := 16#32
  let v65 : BitVec 32 := Scalar.muli arg18 c16_i32
  let v66 : BitVec 32 := v65
  let v67 : Index := Scalar.indexCast v66
  let c0_62 : Index := 0#32
  ![0, 0, v67.toNat, 0]
def k0_off45 (k0_t9 : Fin k0_t9_loop.trips) : Fin 4 → Nat :=
  let c0_63 : Index := 0#32
  let c0_i32_26 : BitVec 32 := 0#32
  let c1_i32_28 : BitVec 32 := 1#32
  let arg18 : BitVec 32 := Scf.iv c0_i32_26 c1_i32_28 k0_t9
  let v71 : Index := Scalar.indexCast arg18
  let c0_64 : Index := 0#32
  let c128 : Index := 128#32
  ![0, v71.toNat, 0, 128]
def k0_mult2 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_65 : BitVec 32 := 16#32
  let v75 : BitVec 32 := Scalar.muli arg18 c16_i32_65
  v75
def k0_off46 (k0_t9 : Fin k0_t9_loop.trips) : Fin 4 → Nat :=
  let c0_66 : Index := 0#32
  let c1 : Index := 1#32
  let c0_i32_26 : BitVec 32 := 0#32
  let c1_i32_28 : BitVec 32 := 1#32
  let arg18 : BitVec 32 := Scf.iv c0_i32_26 c1_i32_28 k0_t9
  let c16_i32_65 : BitVec 32 := 16#32
  let v75 : BitVec 32 := Scalar.muli arg18 c16_i32_65
  let v76 : BitVec 32 := v75
  let v77 : Index := Scalar.indexCast v76
  let c0_67 : Index := 0#32
  ![0, 1, v77.toNat, 0]
def k0_off47 (k0_t9 : Fin k0_t9_loop.trips) : Fin 4 → Nat :=
  let c0_68 : Index := 0#32
  let c0_i32_26 : BitVec 32 := 0#32
  let c1_i32_28 : BitVec 32 := 1#32
  let arg18 : BitVec 32 := Scf.iv c0_i32_26 c1_i32_28 k0_t9
  let v81 : Index := Scalar.indexCast arg18
  let c0_69 : Index := 0#32
  let c256 : Index := 256#32
  ![0, v81.toNat, 0, 256]
def k0_mult3 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_70 : BitVec 32 := 16#32
  let v85 : BitVec 32 := Scalar.muli arg18 c16_i32_70
  v85
def k0_off48 (k0_t9 : Fin k0_t9_loop.trips) : Fin 4 → Nat :=
  let c0_71 : Index := 0#32
  let c2 : Index := 2#32
  let c0_i32_26 : BitVec 32 := 0#32
  let c1_i32_28 : BitVec 32 := 1#32
  let arg18 : BitVec 32 := Scf.iv c0_i32_26 c1_i32_28 k0_t9
  let c16_i32_70 : BitVec 32 := 16#32
  let v85 : BitVec 32 := Scalar.muli arg18 c16_i32_70
  let v86 : BitVec 32 := v85
  let v87 : Index := Scalar.indexCast v86
  let c0_72 : Index := 0#32
  ![0, 2, v87.toNat, 0]
def k0_off49 (k0_t9 : Fin k0_t9_loop.trips) : Fin 4 → Nat :=
  let c0_73 : Index := 0#32
  let c0_i32_26 : BitVec 32 := 0#32
  let c1_i32_28 : BitVec 32 := 1#32
  let arg18 : BitVec 32 := Scf.iv c0_i32_26 c1_i32_28 k0_t9
  let v91 : Index := Scalar.indexCast arg18
  let c0_74 : Index := 0#32
  let c384 : Index := 384#32
  ![0, v91.toNat, 0, 384]
def k0_mult4 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_75 : BitVec 32 := 16#32
  let v95 : BitVec 32 := Scalar.muli arg18 c16_i32_75
  v95
def k0_off50 (k0_t9 : Fin k0_t9_loop.trips) : Fin 4 → Nat :=
  let c0_76 : Index := 0#32
  let c3 : Index := 3#32
  let c0_i32_26 : BitVec 32 := 0#32
  let c1_i32_28 : BitVec 32 := 1#32
  let arg18 : BitVec 32 := Scf.iv c0_i32_26 c1_i32_28 k0_t9
  let c16_i32_75 : BitVec 32 := 16#32
  let v95 : BitVec 32 := Scalar.muli arg18 c16_i32_75
  let v96 : BitVec 32 := v95
  let v97 : Index := Scalar.indexCast v96
  let c0_77 : Index := 0#32
  ![0, 3, v97.toNat, 0]
def k0_off51 (k0_t9 : Fin k0_t9_loop.trips) : Fin 4 → Nat :=
  let c0_78 : Index := 0#32
  let c0_i32_26 : BitVec 32 := 0#32
  let c1_i32_28 : BitVec 32 := 1#32
  let arg18 : BitVec 32 := Scf.iv c0_i32_26 c1_i32_28 k0_t9
  let v101 : Index := Scalar.indexCast arg18
  let c0_79 : Index := 0#32
  let c512 : Index := 512#32
  ![0, v101.toNat, 0, 512]
def k0_mult5 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_80 : BitVec 32 := 16#32
  let v105 : BitVec 32 := Scalar.muli arg18 c16_i32_80
  v105
def k0_off52 (k0_t9 : Fin k0_t9_loop.trips) : Fin 4 → Nat :=
  let c0_81 : Index := 0#32
  let c4 : Index := 4#32
  let c0_i32_26 : BitVec 32 := 0#32
  let c1_i32_28 : BitVec 32 := 1#32
  let arg18 : BitVec 32 := Scf.iv c0_i32_26 c1_i32_28 k0_t9
  let c16_i32_80 : BitVec 32 := 16#32
  let v105 : BitVec 32 := Scalar.muli arg18 c16_i32_80
  let v106 : BitVec 32 := v105
  let v107 : Index := Scalar.indexCast v106
  let c0_82 : Index := 0#32
  ![0, 4, v107.toNat, 0]
def k0_off53 (k0_t9 : Fin k0_t9_loop.trips) : Fin 4 → Nat :=
  let c0_83 : Index := 0#32
  let c0_i32_26 : BitVec 32 := 0#32
  let c1_i32_28 : BitVec 32 := 1#32
  let arg18 : BitVec 32 := Scf.iv c0_i32_26 c1_i32_28 k0_t9
  let v111 : Index := Scalar.indexCast arg18
  let c0_84 : Index := 0#32
  let c640 : Index := 640#32
  ![0, v111.toNat, 0, 640]
def k0_mult6 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_85 : BitVec 32 := 16#32
  let v115 : BitVec 32 := Scalar.muli arg18 c16_i32_85
  v115
def k0_off54 (k0_t9 : Fin k0_t9_loop.trips) : Fin 4 → Nat :=
  let c0_86 : Index := 0#32
  let c5 : Index := 5#32
  let c0_i32_26 : BitVec 32 := 0#32
  let c1_i32_28 : BitVec 32 := 1#32
  let arg18 : BitVec 32 := Scf.iv c0_i32_26 c1_i32_28 k0_t9
  let c16_i32_85 : BitVec 32 := 16#32
  let v115 : BitVec 32 := Scalar.muli arg18 c16_i32_85
  let v116 : BitVec 32 := v115
  let v117 : Index := Scalar.indexCast v116
  let c0_87 : Index := 0#32
  ![0, 5, v117.toNat, 0]
def k0_off55 (k0_t9 : Fin k0_t9_loop.trips) : Fin 4 → Nat :=
  let c0_88 : Index := 0#32
  let c0_i32_26 : BitVec 32 := 0#32
  let c1_i32_28 : BitVec 32 := 1#32
  let arg18 : BitVec 32 := Scf.iv c0_i32_26 c1_i32_28 k0_t9
  let v121 : Index := Scalar.indexCast arg18
  let c0_89 : Index := 0#32
  let c768 : Index := 768#32
  ![0, v121.toNat, 0, 768]
def k0_mult7 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_90 : BitVec 32 := 16#32
  let v125 : BitVec 32 := Scalar.muli arg18 c16_i32_90
  v125
def k0_off56 (k0_t9 : Fin k0_t9_loop.trips) : Fin 4 → Nat :=
  let c0_91 : Index := 0#32
  let c6 : Index := 6#32
  let c0_i32_26 : BitVec 32 := 0#32
  let c1_i32_28 : BitVec 32 := 1#32
  let arg18 : BitVec 32 := Scf.iv c0_i32_26 c1_i32_28 k0_t9
  let c16_i32_90 : BitVec 32 := 16#32
  let v125 : BitVec 32 := Scalar.muli arg18 c16_i32_90
  let v126 : BitVec 32 := v125
  let v127 : Index := Scalar.indexCast v126
  let c0_92 : Index := 0#32
  ![0, 6, v127.toNat, 0]
def k0_off57 (k0_t9 : Fin k0_t9_loop.trips) : Fin 4 → Nat :=
  let c0_93 : Index := 0#32
  let c0_i32_26 : BitVec 32 := 0#32
  let c1_i32_28 : BitVec 32 := 1#32
  let arg18 : BitVec 32 := Scf.iv c0_i32_26 c1_i32_28 k0_t9
  let v131 : Index := Scalar.indexCast arg18
  let c0_94 : Index := 0#32
  let c896 : Index := 896#32
  ![0, v131.toNat, 0, 896]
def k0_mult8 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_95 : BitVec 32 := 16#32
  let v135 : BitVec 32 := Scalar.muli arg18 c16_i32_95
  v135
def k0_off58 (k0_t9 : Fin k0_t9_loop.trips) : Fin 4 → Nat :=
  let c0_96 : Index := 0#32
  let c7 : Index := 7#32
  let c0_i32_26 : BitVec 32 := 0#32
  let c1_i32_28 : BitVec 32 := 1#32
  let arg18 : BitVec 32 := Scf.iv c0_i32_26 c1_i32_28 k0_t9
  let c16_i32_95 : BitVec 32 := 16#32
  let v135 : BitVec 32 := Scalar.muli arg18 c16_i32_95
  let v136 : BitVec 32 := v135
  let v137 : Index := Scalar.indexCast v136
  let c0_97 : Index := 0#32
  ![0, 7, v137.toNat, 0]
def k0_off59 (k0_t9 : Fin k0_t9_loop.trips) : Fin 4 → Nat :=
  let c0_98 : Index := 0#32
  let c0_i32_26 : BitVec 32 := 0#32
  let c1_i32_28 : BitVec 32 := 1#32
  let arg18 : BitVec 32 := Scf.iv c0_i32_26 c1_i32_28 k0_t9
  let v141 : Index := Scalar.indexCast arg18
  let c0_99 : Index := 0#32
  let c1024 : Index := 1024#32
  ![0, v141.toNat, 0, 1024]
def k0_mult9 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_100 : BitVec 32 := 16#32
  let v145 : BitVec 32 := Scalar.muli arg18 c16_i32_100
  v145
def k0_off60 (k0_t9 : Fin k0_t9_loop.trips) : Fin 4 → Nat :=
  let c0_101 : Index := 0#32
  let c8 : Index := 8#32
  let c0_i32_26 : BitVec 32 := 0#32
  let c1_i32_28 : BitVec 32 := 1#32
  let arg18 : BitVec 32 := Scf.iv c0_i32_26 c1_i32_28 k0_t9
  let c16_i32_100 : BitVec 32 := 16#32
  let v145 : BitVec 32 := Scalar.muli arg18 c16_i32_100
  let v146 : BitVec 32 := v145
  let v147 : Index := Scalar.indexCast v146
  let c0_102 : Index := 0#32
  ![0, 8, v147.toNat, 0]
def k0_off61 (k0_t9 : Fin k0_t9_loop.trips) : Fin 4 → Nat :=
  let c0_103 : Index := 0#32
  let c0_i32_26 : BitVec 32 := 0#32
  let c1_i32_28 : BitVec 32 := 1#32
  let arg18 : BitVec 32 := Scf.iv c0_i32_26 c1_i32_28 k0_t9
  let v151 : Index := Scalar.indexCast arg18
  let c0_104 : Index := 0#32
  let c1152 : Index := 1152#32
  ![0, v151.toNat, 0, 1152]
def k0_mult10 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_105 : BitVec 32 := 16#32
  let v155 : BitVec 32 := Scalar.muli arg18 c16_i32_105
  v155
def k0_off62 (k0_t9 : Fin k0_t9_loop.trips) : Fin 4 → Nat :=
  let c0_106 : Index := 0#32
  let c9 : Index := 9#32
  let c0_i32_26 : BitVec 32 := 0#32
  let c1_i32_28 : BitVec 32 := 1#32
  let arg18 : BitVec 32 := Scf.iv c0_i32_26 c1_i32_28 k0_t9
  let c16_i32_105 : BitVec 32 := 16#32
  let v155 : BitVec 32 := Scalar.muli arg18 c16_i32_105
  let v156 : BitVec 32 := v155
  let v157 : Index := Scalar.indexCast v156
  let c0_107 : Index := 0#32
  ![0, 9, v157.toNat, 0]
def k0_off63 (k0_t9 : Fin k0_t9_loop.trips) : Fin 4 → Nat :=
  let c0_108 : Index := 0#32
  let c0_i32_26 : BitVec 32 := 0#32
  let c1_i32_28 : BitVec 32 := 1#32
  let arg18 : BitVec 32 := Scf.iv c0_i32_26 c1_i32_28 k0_t9
  let v161 : Index := Scalar.indexCast arg18
  let c0_109 : Index := 0#32
  let c1280 : Index := 1280#32
  ![0, v161.toNat, 0, 1280]
def k0_mult11 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_110 : BitVec 32 := 16#32
  let v165 : BitVec 32 := Scalar.muli arg18 c16_i32_110
  v165
def k0_off64 (k0_t9 : Fin k0_t9_loop.trips) : Fin 4 → Nat :=
  let c0_111 : Index := 0#32
  let c10 : Index := 10#32
  let c0_i32_26 : BitVec 32 := 0#32
  let c1_i32_28 : BitVec 32 := 1#32
  let arg18 : BitVec 32 := Scf.iv c0_i32_26 c1_i32_28 k0_t9
  let c16_i32_110 : BitVec 32 := 16#32
  let v165 : BitVec 32 := Scalar.muli arg18 c16_i32_110
  let v166 : BitVec 32 := v165
  let v167 : Index := Scalar.indexCast v166
  let c0_112 : Index := 0#32
  ![0, 10, v167.toNat, 0]
def k0_off65 (k0_t9 : Fin k0_t9_loop.trips) : Fin 4 → Nat :=
  let c0_113 : Index := 0#32
  let c0_i32_26 : BitVec 32 := 0#32
  let c1_i32_28 : BitVec 32 := 1#32
  let arg18 : BitVec 32 := Scf.iv c0_i32_26 c1_i32_28 k0_t9
  let v171 : Index := Scalar.indexCast arg18
  let c0_114 : Index := 0#32
  let c1408 : Index := 1408#32
  ![0, v171.toNat, 0, 1408]
def k0_mult12 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_115 : BitVec 32 := 16#32
  let v175 : BitVec 32 := Scalar.muli arg18 c16_i32_115
  v175
def k0_off66 (k0_t9 : Fin k0_t9_loop.trips) : Fin 4 → Nat :=
  let c0_116 : Index := 0#32
  let c11 : Index := 11#32
  let c0_i32_26 : BitVec 32 := 0#32
  let c1_i32_28 : BitVec 32 := 1#32
  let arg18 : BitVec 32 := Scf.iv c0_i32_26 c1_i32_28 k0_t9
  let c16_i32_115 : BitVec 32 := 16#32
  let v175 : BitVec 32 := Scalar.muli arg18 c16_i32_115
  let v176 : BitVec 32 := v175
  let v177 : Index := Scalar.indexCast v176
  let c0_117 : Index := 0#32
  ![0, 11, v177.toNat, 0]
def k0_off67 (k0_t9 : Fin k0_t9_loop.trips) : Fin 4 → Nat :=
  let c0_118 : Index := 0#32
  let c0_i32_26 : BitVec 32 := 0#32
  let c1_i32_28 : BitVec 32 := 1#32
  let arg18 : BitVec 32 := Scf.iv c0_i32_26 c1_i32_28 k0_t9
  let v181 : Index := Scalar.indexCast arg18
  let c0_119 : Index := 0#32
  let c1536 : Index := 1536#32
  ![0, v181.toNat, 0, 1536]
def k0_mult13 (k0_t9 : Fin k0_t9_loop.trips) : BitVec 32 :=
  let c0_i32_26 : BitVec 32 := 0#32
  let c1_i32_28 : BitVec 32 := 1#32
  let arg18 : BitVec 32 := Scf.iv c0_i32_26 c1_i32_28 k0_t9
  let c16_i32_120 : BitVec 32 := 16#32
  let v185 : BitVec 32 := Scalar.muli arg18 c16_i32_120
  v185
def k0_off68 (k0_t9 : Fin k0_t9_loop.trips) : Fin 4 → Nat :=
  let c0_121 : Index := 0#32
  let c12 : Index := 12#32
  let c0_i32_26 : BitVec 32 := 0#32
  let c1_i32_28 : BitVec 32 := 1#32
  let arg18 : BitVec 32 := Scf.iv c0_i32_26 c1_i32_28 k0_t9
  let c16_i32_120 : BitVec 32 := 16#32
  let v185 : BitVec 32 := Scalar.muli arg18 c16_i32_120
  let v186 : BitVec 32 := v185
  let v187 : Index := Scalar.indexCast v186
  let c0_122 : Index := 0#32
  ![0, 12, v187.toNat, 0]
@[reducible] def k0_t10_loop : Scf.Loop 32 :=
  let c0_i32_35 : BitVec 32 := 0#32
  let c64_i32_36 : BitVec 32 := 64#32
  let v30 : BitVec 32 := Scalar.addi c0_i32_35 c64_i32_36
  let c1_i32_37 : BitVec 32 := 1#32
  ⟨c0_i32_35, v30, c1_i32_37⟩
def k0_off69 (k0_t10 : Fin k0_t10_loop.trips) : Fin 4 → Nat :=
  let c1 : Index := 1#32
  let c0_i32_35 : BitVec 32 := 0#32
  let c1_i32_37 : BitVec 32 := 1#32
  let arg18 : BitVec 32 := Scf.iv c0_i32_35 c1_i32_37 k0_t10
  let v61 : Index := Scalar.indexCast arg18
  let c0 : Index := 0#32
  let c0_58 : Index := 0#32
  ![1, v61.toNat, 0, 0]
def k0_mult14 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32 : BitVec 32 := 16#32
  let v65 : BitVec 32 := Scalar.muli arg18 c16_i32
  v65
def k0_off70 (k0_t10 : Fin k0_t10_loop.trips) : Fin 4 → Nat :=
  let c1_59 : Index := 1#32
  let c0_60 : Index := 0#32
  let c0_i32_35 : BitVec 32 := 0#32
  let c1_i32_37 : BitVec 32 := 1#32
  let arg18 : BitVec 32 := Scf.iv c0_i32_35 c1_i32_37 k0_t10
  let c16_i32 : BitVec 32 := 16#32
  let v65 : BitVec 32 := Scalar.muli arg18 c16_i32
  let v66 : BitVec 32 := v65
  let v67 : Index := Scalar.indexCast v66
  let c0_61 : Index := 0#32
  ![1, 0, v67.toNat, 0]
def k0_off71 (k0_t10 : Fin k0_t10_loop.trips) : Fin 4 → Nat :=
  let c1_62 : Index := 1#32
  let c0_i32_35 : BitVec 32 := 0#32
  let c1_i32_37 : BitVec 32 := 1#32
  let arg18 : BitVec 32 := Scf.iv c0_i32_35 c1_i32_37 k0_t10
  let v71 : Index := Scalar.indexCast arg18
  let c0_63 : Index := 0#32
  let c128 : Index := 128#32
  ![1, v71.toNat, 0, 128]
def k0_mult15 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_64 : BitVec 32 := 16#32
  let v75 : BitVec 32 := Scalar.muli arg18 c16_i32_64
  v75
def k0_off72 (k0_t10 : Fin k0_t10_loop.trips) : Fin 4 → Nat :=
  let c1_65 : Index := 1#32
  let c1_66 : Index := 1#32
  let c0_i32_35 : BitVec 32 := 0#32
  let c1_i32_37 : BitVec 32 := 1#32
  let arg18 : BitVec 32 := Scf.iv c0_i32_35 c1_i32_37 k0_t10
  let c16_i32_64 : BitVec 32 := 16#32
  let v75 : BitVec 32 := Scalar.muli arg18 c16_i32_64
  let v76 : BitVec 32 := v75
  let v77 : Index := Scalar.indexCast v76
  let c0_67 : Index := 0#32
  ![1, 1, v77.toNat, 0]
def k0_off73 (k0_t10 : Fin k0_t10_loop.trips) : Fin 4 → Nat :=
  let c1_68 : Index := 1#32
  let c0_i32_35 : BitVec 32 := 0#32
  let c1_i32_37 : BitVec 32 := 1#32
  let arg18 : BitVec 32 := Scf.iv c0_i32_35 c1_i32_37 k0_t10
  let v81 : Index := Scalar.indexCast arg18
  let c0_69 : Index := 0#32
  let c256 : Index := 256#32
  ![1, v81.toNat, 0, 256]
def k0_mult16 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_70 : BitVec 32 := 16#32
  let v85 : BitVec 32 := Scalar.muli arg18 c16_i32_70
  v85
def k0_off74 (k0_t10 : Fin k0_t10_loop.trips) : Fin 4 → Nat :=
  let c1_71 : Index := 1#32
  let c2 : Index := 2#32
  let c0_i32_35 : BitVec 32 := 0#32
  let c1_i32_37 : BitVec 32 := 1#32
  let arg18 : BitVec 32 := Scf.iv c0_i32_35 c1_i32_37 k0_t10
  let c16_i32_70 : BitVec 32 := 16#32
  let v85 : BitVec 32 := Scalar.muli arg18 c16_i32_70
  let v86 : BitVec 32 := v85
  let v87 : Index := Scalar.indexCast v86
  let c0_72 : Index := 0#32
  ![1, 2, v87.toNat, 0]
def k0_off75 (k0_t10 : Fin k0_t10_loop.trips) : Fin 4 → Nat :=
  let c1_73 : Index := 1#32
  let c0_i32_35 : BitVec 32 := 0#32
  let c1_i32_37 : BitVec 32 := 1#32
  let arg18 : BitVec 32 := Scf.iv c0_i32_35 c1_i32_37 k0_t10
  let v91 : Index := Scalar.indexCast arg18
  let c0_74 : Index := 0#32
  let c384 : Index := 384#32
  ![1, v91.toNat, 0, 384]
def k0_mult17 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_75 : BitVec 32 := 16#32
  let v95 : BitVec 32 := Scalar.muli arg18 c16_i32_75
  v95
def k0_off76 (k0_t10 : Fin k0_t10_loop.trips) : Fin 4 → Nat :=
  let c1_76 : Index := 1#32
  let c3 : Index := 3#32
  let c0_i32_35 : BitVec 32 := 0#32
  let c1_i32_37 : BitVec 32 := 1#32
  let arg18 : BitVec 32 := Scf.iv c0_i32_35 c1_i32_37 k0_t10
  let c16_i32_75 : BitVec 32 := 16#32
  let v95 : BitVec 32 := Scalar.muli arg18 c16_i32_75
  let v96 : BitVec 32 := v95
  let v97 : Index := Scalar.indexCast v96
  let c0_77 : Index := 0#32
  ![1, 3, v97.toNat, 0]
def k0_off77 (k0_t10 : Fin k0_t10_loop.trips) : Fin 4 → Nat :=
  let c1_78 : Index := 1#32
  let c0_i32_35 : BitVec 32 := 0#32
  let c1_i32_37 : BitVec 32 := 1#32
  let arg18 : BitVec 32 := Scf.iv c0_i32_35 c1_i32_37 k0_t10
  let v101 : Index := Scalar.indexCast arg18
  let c0_79 : Index := 0#32
  let c512 : Index := 512#32
  ![1, v101.toNat, 0, 512]
def k0_mult18 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_80 : BitVec 32 := 16#32
  let v105 : BitVec 32 := Scalar.muli arg18 c16_i32_80
  v105
def k0_off78 (k0_t10 : Fin k0_t10_loop.trips) : Fin 4 → Nat :=
  let c1_81 : Index := 1#32
  let c4 : Index := 4#32
  let c0_i32_35 : BitVec 32 := 0#32
  let c1_i32_37 : BitVec 32 := 1#32
  let arg18 : BitVec 32 := Scf.iv c0_i32_35 c1_i32_37 k0_t10
  let c16_i32_80 : BitVec 32 := 16#32
  let v105 : BitVec 32 := Scalar.muli arg18 c16_i32_80
  let v106 : BitVec 32 := v105
  let v107 : Index := Scalar.indexCast v106
  let c0_82 : Index := 0#32
  ![1, 4, v107.toNat, 0]
def k0_off79 (k0_t10 : Fin k0_t10_loop.trips) : Fin 4 → Nat :=
  let c1_83 : Index := 1#32
  let c0_i32_35 : BitVec 32 := 0#32
  let c1_i32_37 : BitVec 32 := 1#32
  let arg18 : BitVec 32 := Scf.iv c0_i32_35 c1_i32_37 k0_t10
  let v111 : Index := Scalar.indexCast arg18
  let c0_84 : Index := 0#32
  let c640 : Index := 640#32
  ![1, v111.toNat, 0, 640]
def k0_mult19 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_85 : BitVec 32 := 16#32
  let v115 : BitVec 32 := Scalar.muli arg18 c16_i32_85
  v115
def k0_off80 (k0_t10 : Fin k0_t10_loop.trips) : Fin 4 → Nat :=
  let c1_86 : Index := 1#32
  let c5 : Index := 5#32
  let c0_i32_35 : BitVec 32 := 0#32
  let c1_i32_37 : BitVec 32 := 1#32
  let arg18 : BitVec 32 := Scf.iv c0_i32_35 c1_i32_37 k0_t10
  let c16_i32_85 : BitVec 32 := 16#32
  let v115 : BitVec 32 := Scalar.muli arg18 c16_i32_85
  let v116 : BitVec 32 := v115
  let v117 : Index := Scalar.indexCast v116
  let c0_87 : Index := 0#32
  ![1, 5, v117.toNat, 0]
def k0_off81 (k0_t10 : Fin k0_t10_loop.trips) : Fin 4 → Nat :=
  let c1_88 : Index := 1#32
  let c0_i32_35 : BitVec 32 := 0#32
  let c1_i32_37 : BitVec 32 := 1#32
  let arg18 : BitVec 32 := Scf.iv c0_i32_35 c1_i32_37 k0_t10
  let v121 : Index := Scalar.indexCast arg18
  let c0_89 : Index := 0#32
  let c768 : Index := 768#32
  ![1, v121.toNat, 0, 768]
def k0_mult20 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_90 : BitVec 32 := 16#32
  let v125 : BitVec 32 := Scalar.muli arg18 c16_i32_90
  v125
def k0_off82 (k0_t10 : Fin k0_t10_loop.trips) : Fin 4 → Nat :=
  let c1_91 : Index := 1#32
  let c6 : Index := 6#32
  let c0_i32_35 : BitVec 32 := 0#32
  let c1_i32_37 : BitVec 32 := 1#32
  let arg18 : BitVec 32 := Scf.iv c0_i32_35 c1_i32_37 k0_t10
  let c16_i32_90 : BitVec 32 := 16#32
  let v125 : BitVec 32 := Scalar.muli arg18 c16_i32_90
  let v126 : BitVec 32 := v125
  let v127 : Index := Scalar.indexCast v126
  let c0_92 : Index := 0#32
  ![1, 6, v127.toNat, 0]
def k0_off83 (k0_t10 : Fin k0_t10_loop.trips) : Fin 4 → Nat :=
  let c1_93 : Index := 1#32
  let c0_i32_35 : BitVec 32 := 0#32
  let c1_i32_37 : BitVec 32 := 1#32
  let arg18 : BitVec 32 := Scf.iv c0_i32_35 c1_i32_37 k0_t10
  let v131 : Index := Scalar.indexCast arg18
  let c0_94 : Index := 0#32
  let c896 : Index := 896#32
  ![1, v131.toNat, 0, 896]
def k0_mult21 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_95 : BitVec 32 := 16#32
  let v135 : BitVec 32 := Scalar.muli arg18 c16_i32_95
  v135
def k0_off84 (k0_t10 : Fin k0_t10_loop.trips) : Fin 4 → Nat :=
  let c1_96 : Index := 1#32
  let c7 : Index := 7#32
  let c0_i32_35 : BitVec 32 := 0#32
  let c1_i32_37 : BitVec 32 := 1#32
  let arg18 : BitVec 32 := Scf.iv c0_i32_35 c1_i32_37 k0_t10
  let c16_i32_95 : BitVec 32 := 16#32
  let v135 : BitVec 32 := Scalar.muli arg18 c16_i32_95
  let v136 : BitVec 32 := v135
  let v137 : Index := Scalar.indexCast v136
  let c0_97 : Index := 0#32
  ![1, 7, v137.toNat, 0]
def k0_off85 (k0_t10 : Fin k0_t10_loop.trips) : Fin 4 → Nat :=
  let c1_98 : Index := 1#32
  let c0_i32_35 : BitVec 32 := 0#32
  let c1_i32_37 : BitVec 32 := 1#32
  let arg18 : BitVec 32 := Scf.iv c0_i32_35 c1_i32_37 k0_t10
  let v141 : Index := Scalar.indexCast arg18
  let c0_99 : Index := 0#32
  let c1024 : Index := 1024#32
  ![1, v141.toNat, 0, 1024]
def k0_mult22 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_100 : BitVec 32 := 16#32
  let v145 : BitVec 32 := Scalar.muli arg18 c16_i32_100
  v145
def k0_off86 (k0_t10 : Fin k0_t10_loop.trips) : Fin 4 → Nat :=
  let c1_101 : Index := 1#32
  let c8 : Index := 8#32
  let c0_i32_35 : BitVec 32 := 0#32
  let c1_i32_37 : BitVec 32 := 1#32
  let arg18 : BitVec 32 := Scf.iv c0_i32_35 c1_i32_37 k0_t10
  let c16_i32_100 : BitVec 32 := 16#32
  let v145 : BitVec 32 := Scalar.muli arg18 c16_i32_100
  let v146 : BitVec 32 := v145
  let v147 : Index := Scalar.indexCast v146
  let c0_102 : Index := 0#32
  ![1, 8, v147.toNat, 0]
def k0_off87 (k0_t10 : Fin k0_t10_loop.trips) : Fin 4 → Nat :=
  let c1_103 : Index := 1#32
  let c0_i32_35 : BitVec 32 := 0#32
  let c1_i32_37 : BitVec 32 := 1#32
  let arg18 : BitVec 32 := Scf.iv c0_i32_35 c1_i32_37 k0_t10
  let v151 : Index := Scalar.indexCast arg18
  let c0_104 : Index := 0#32
  let c1152 : Index := 1152#32
  ![1, v151.toNat, 0, 1152]
def k0_mult23 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_105 : BitVec 32 := 16#32
  let v155 : BitVec 32 := Scalar.muli arg18 c16_i32_105
  v155
def k0_off88 (k0_t10 : Fin k0_t10_loop.trips) : Fin 4 → Nat :=
  let c1_106 : Index := 1#32
  let c9 : Index := 9#32
  let c0_i32_35 : BitVec 32 := 0#32
  let c1_i32_37 : BitVec 32 := 1#32
  let arg18 : BitVec 32 := Scf.iv c0_i32_35 c1_i32_37 k0_t10
  let c16_i32_105 : BitVec 32 := 16#32
  let v155 : BitVec 32 := Scalar.muli arg18 c16_i32_105
  let v156 : BitVec 32 := v155
  let v157 : Index := Scalar.indexCast v156
  let c0_107 : Index := 0#32
  ![1, 9, v157.toNat, 0]
def k0_off89 (k0_t10 : Fin k0_t10_loop.trips) : Fin 4 → Nat :=
  let c1_108 : Index := 1#32
  let c0_i32_35 : BitVec 32 := 0#32
  let c1_i32_37 : BitVec 32 := 1#32
  let arg18 : BitVec 32 := Scf.iv c0_i32_35 c1_i32_37 k0_t10
  let v161 : Index := Scalar.indexCast arg18
  let c0_109 : Index := 0#32
  let c1280 : Index := 1280#32
  ![1, v161.toNat, 0, 1280]
def k0_mult24 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_110 : BitVec 32 := 16#32
  let v165 : BitVec 32 := Scalar.muli arg18 c16_i32_110
  v165
def k0_off90 (k0_t10 : Fin k0_t10_loop.trips) : Fin 4 → Nat :=
  let c1_111 : Index := 1#32
  let c10 : Index := 10#32
  let c0_i32_35 : BitVec 32 := 0#32
  let c1_i32_37 : BitVec 32 := 1#32
  let arg18 : BitVec 32 := Scf.iv c0_i32_35 c1_i32_37 k0_t10
  let c16_i32_110 : BitVec 32 := 16#32
  let v165 : BitVec 32 := Scalar.muli arg18 c16_i32_110
  let v166 : BitVec 32 := v165
  let v167 : Index := Scalar.indexCast v166
  let c0_112 : Index := 0#32
  ![1, 10, v167.toNat, 0]
def k0_off91 (k0_t10 : Fin k0_t10_loop.trips) : Fin 4 → Nat :=
  let c1_113 : Index := 1#32
  let c0_i32_35 : BitVec 32 := 0#32
  let c1_i32_37 : BitVec 32 := 1#32
  let arg18 : BitVec 32 := Scf.iv c0_i32_35 c1_i32_37 k0_t10
  let v171 : Index := Scalar.indexCast arg18
  let c0_114 : Index := 0#32
  let c1408 : Index := 1408#32
  ![1, v171.toNat, 0, 1408]
def k0_mult25 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_115 : BitVec 32 := 16#32
  let v175 : BitVec 32 := Scalar.muli arg18 c16_i32_115
  v175
def k0_off92 (k0_t10 : Fin k0_t10_loop.trips) : Fin 4 → Nat :=
  let c1_116 : Index := 1#32
  let c11 : Index := 11#32
  let c0_i32_35 : BitVec 32 := 0#32
  let c1_i32_37 : BitVec 32 := 1#32
  let arg18 : BitVec 32 := Scf.iv c0_i32_35 c1_i32_37 k0_t10
  let c16_i32_115 : BitVec 32 := 16#32
  let v175 : BitVec 32 := Scalar.muli arg18 c16_i32_115
  let v176 : BitVec 32 := v175
  let v177 : Index := Scalar.indexCast v176
  let c0_117 : Index := 0#32
  ![1, 11, v177.toNat, 0]
def k0_off93 (k0_t10 : Fin k0_t10_loop.trips) : Fin 4 → Nat :=
  let c1_118 : Index := 1#32
  let c0_i32_35 : BitVec 32 := 0#32
  let c1_i32_37 : BitVec 32 := 1#32
  let arg18 : BitVec 32 := Scf.iv c0_i32_35 c1_i32_37 k0_t10
  let v181 : Index := Scalar.indexCast arg18
  let c0_119 : Index := 0#32
  let c1536 : Index := 1536#32
  ![1, v181.toNat, 0, 1536]
def k0_mult26 (k0_t10 : Fin k0_t10_loop.trips) : BitVec 32 :=
  let c0_i32_35 : BitVec 32 := 0#32
  let c1_i32_37 : BitVec 32 := 1#32
  let arg18 : BitVec 32 := Scf.iv c0_i32_35 c1_i32_37 k0_t10
  let c16_i32_120 : BitVec 32 := 16#32
  let v185 : BitVec 32 := Scalar.muli arg18 c16_i32_120
  v185
def k0_off94 (k0_t10 : Fin k0_t10_loop.trips) : Fin 4 → Nat :=
  let c1_121 : Index := 1#32
  let c12 : Index := 12#32
  let c0_i32_35 : BitVec 32 := 0#32
  let c1_i32_37 : BitVec 32 := 1#32
  let arg18 : BitVec 32 := Scf.iv c0_i32_35 c1_i32_37 k0_t10
  let c16_i32_120 : BitVec 32 := 16#32
  let v185 : BitVec 32 := Scalar.muli arg18 c16_i32_120
  let v186 : BitVec 32 := v185
  let v187 : Index := Scalar.indexCast v186
  let c0_122 : Index := 0#32
  ![1, 12, v187.toNat, 0]
@[reducible] def k0_t11_loop (v9 : BitVec 32) : Scf.Loop 32 :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_42 : BitVec 32 := 1#32
  ⟨c0_i32_39, v35, c1_i32_42⟩

def k0_off95 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let v61 : Index := Scalar.indexCast arg18
  ![v61.toNat]
def k0_off96 (v62 : BitVec 32) : Fin 1 → Nat :=
  let c32_i32 : BitVec 32 := 32#32
  let v63 : BitVec 32 := Scalar.divsi v62 c32_i32
  let v67 : Index := Scalar.indexCast v63
  ![v67.toNat]

def k0_off97 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let v128 : Index := Scalar.indexCast v127
  ![v128.toNat]
def k0_cond4 (v9 : BitVec 32) (k0_t11 : Fin (k0_t11_loop v9).trips) : BitVec 1 :=
  let c0_i32_39 : BitVec 32 := 0#32
  let c1_i32_42 : BitVec 32 := 1#32
  let arg18 : BitVec 32 := Scf.iv c0_i32_39 c1_i32_42 k0_t11
  let c4_i32_64 : BitVec 32 := 4#32
  let v76 : BitVec 32 := Scalar.addi arg18 c4_i32_64
  let c1_i32_65 : BitVec 32 := 1#32
  let v77 : BitVec 32 := Scalar.subi v76 c1_i32_65
  let v78 : BitVec 1 := Scalar.cmpi .slt v77 v9
  let v79 : BitVec 32 := Scalar.extui v78
  let c0_i32_66 : BitVec 32 := 0#32
  let v80 : BitVec 1 := Scalar.cmpi .ne v79 c0_i32_66
  v80

def k0_off98 (v129 : BitVec 32) : Fin 1 → Nat :=
  let c32_i32_102 : BitVec 32 := 32#32
  let v130 : BitVec 32 := Scalar.divsi v129 c32_i32_102
  let v133 : Index := Scalar.indexCast v130
  ![v133.toNat]

def k0_chk16 (v9 : BitVec 32) (k0_t11 : Fin (k0_t11_loop v9).trips) (v129 : BitVec 32) : Prop :=
  (∀ (k0_h4 : k0_cond4 v9 k0_t11 = 1#1), ∀ a, (k0_off98 v129) a + S1.size a ≤ S5.size a)
theorem k0_off98_inb : ∀ (v9 : BitVec 32) (k0_t11 : Fin (k0_t11_loop v9).trips) (v129 : BitVec 32) (k0_hw16 : k0_chk16 v9 k0_t11 v129), ∀ (k0_h4 : k0_cond4 v9 k0_t11 = 1#1), ∀ a, (k0_off98 v129) a + S1.size a ≤ S5.size a := fun v9 k0_t11 v129 k0_hw16 k0_h4 => k0_hw16 k0_h4

@[reducible] def k0_t12_loop (v129 : BitVec 32) (v134 : BitVec 32) : Scf.Loop 32 :=
  let c0_i32_111 : BitVec 32 := 0#32
  let c8_i32_110 : BitVec 32 := 8#32
  let c0_i32_109 : BitVec 32 := 0#32
  let c32_i32_103 : BitVec 32 := 32#32
  let v131 : BitVec 32 := Scalar.remsi v129 c32_i32_103
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let c1_i32_114 : BitVec 32 := 1#32
  ⟨c0_i32_111, v146, c1_i32_114⟩

def k0_off99 (v129 : BitVec 32) (v134 : BitVec 32) (k0_t12 : Fin (k0_t12_loop v129 v134).trips) : Fin 2 → Nat :=
  let c32_i32_102 : BitVec 32 := 32#32
  let v130 : BitVec 32 := Scalar.divsi v129 c32_i32_102
  let v151 : Index := Scalar.indexCast v130
  let c32_i32_103 : BitVec 32 := 32#32
  let v131 : BitVec 32 := Scalar.remsi v129 c32_i32_103
  let c8_i32_116 : BitVec 32 := 8#32
  let v149 : BitVec 32 := Scalar.muli v131 c8_i32_116
  let c0_i32_111 : BitVec 32 := 0#32
  let c1_i32_114 : BitVec 32 := 1#32
  let arg20 : BitVec 32 := Scf.iv c0_i32_111 c1_i32_114 k0_t12
  let v150 : BitVec 32 := Scalar.addi v149 arg20
  let v152 : Index := Scalar.indexCast v150
  ![v151.toNat, v152.toNat]
def k0_off100 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  ![v132.toNat]
def k0_off101 (v9 : BitVec 32) (k0_t11 : Fin (k0_t11_loop v9).trips) (v129 : BitVec 32) (v134 : BitVec 32) (k0_t12 : Fin (k0_t12_loop v129 v134).trips) : Fin 5 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  let c0_i32_117 : BitVec 32 := 0#32
  let c0_i32_111 : BitVec 32 := 0#32
  let c1_i32_114 : BitVec 32 := 1#32
  let arg20 : BitVec 32 := Scf.iv c0_i32_111 c1_i32_114 k0_t12
  let c0_i32_118 : BitVec 32 := 0#32
  let c0_i32_119 : BitVec 32 := 0#32
  ![v132.toNat, 0, arg20.toNat, 0, 0]
def k0_off102 (v153 : BitVec 32) : Fin 3 → Nat :=
  let c0_i32_120 : BitVec 32 := 0#32
  let c0_i32_121 : BitVec 32 := 0#32
  ![v153.toNat, 0, 0]

def k0_chk18 (v9 : BitVec 32) (k0_t11 : Fin (k0_t11_loop v9).trips) (v153 : BitVec 32) : Prop :=
  (∀ (k0_h4 : k0_cond4 v9 k0_t11 = 1#1), ∀ a, (k0_off102 v153) a + S1x1024x128.size a ≤ S1600x1024x128.size a) ∧
  (∀ (k0_h4 : k0_cond4 v9 k0_t11 = 1#1), ∀ (hinb : ∀ a, (k0_off102 v153) a + S1x1024x128.size a ≤ S1600x1024x128.size a), (Rect.unit (s := S1600x1024x128) (k0_off102 v153) S1x1024x128.size hinb).WholeWords (EltTy.packing .fp8e4m3))
theorem k0_off102_inb : ∀ (v9 : BitVec 32) (k0_t11 : Fin (k0_t11_loop v9).trips) (v153 : BitVec 32) (k0_hw18 : k0_chk18 v9 k0_t11 v153), ∀ (k0_h4 : k0_cond4 v9 k0_t11 = 1#1), ∀ a, (k0_off102 v153) a + S1x1024x128.size a ≤ S1600x1024x128.size a := fun v9 k0_t11 v153 k0_hw18 k0_h4 => k0_hw18.1 k0_h4
theorem k0_off102_wordsfp8e4m3 : ∀ (v9 : BitVec 32) (k0_t11 : Fin (k0_t11_loop v9).trips) (v153 : BitVec 32) (k0_hw18 : k0_chk18 v9 k0_t11 v153), ∀ (k0_h4 : k0_cond4 v9 k0_t11 = 1#1), (Rect.unit (s := S1600x1024x128) (k0_off102 v153) S1x1024x128.size (k0_off102_inb v9 k0_t11 v153 k0_hw18 k0_h4)).WholeWords (EltTy.packing .fp8e4m3) := fun v9 k0_t11 v153 k0_hw18 k0_h4 => k0_hw18.2 k0_h4 (k0_off102_inb v9 k0_t11 v153 k0_hw18 k0_h4)

def k0_off103 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  ![v132.toNat]
def k0_off104 (v9 : BitVec 32) (k0_t11 : Fin (k0_t11_loop v9).trips) (v129 : BitVec 32) (v134 : BitVec 32) (k0_t12 : Fin (k0_t12_loop v129 v134).trips) : Fin 5 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  let c1_i32_122 : BitVec 32 := 1#32
  let c0_i32_111 : BitVec 32 := 0#32
  let c1_i32_114 : BitVec 32 := 1#32
  let arg20 : BitVec 32 := Scf.iv c0_i32_111 c1_i32_114 k0_t12
  let c0_i32_123 : BitVec 32 := 0#32
  let c0_i32_124 : BitVec 32 := 0#32
  ![v132.toNat, 1, arg20.toNat, 0, 0]
@[reducible] def k0_t13_loop (v129 : BitVec 32) (v134 : BitVec 32) : Scf.Loop 32 :=
  let c0_i32_111 : BitVec 32 := 0#32
  let c8_i32_110 : BitVec 32 := 8#32
  let c0_i32_109 : BitVec 32 := 0#32
  let c32_i32_103 : BitVec 32 := 32#32
  let v131 : BitVec 32 := Scalar.remsi v129 c32_i32_103
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let v143 : BitVec 32 := Scalar.addi c0_i32_111 v142
  let c1_i32_115 : BitVec 32 := 1#32
  ⟨v146, v143, c1_i32_115⟩
def k0_off105 (v129 : BitVec 32) (v134 : BitVec 32) (k0_t13 : Fin (k0_t13_loop v129 v134).trips) : Fin 2 → Nat :=
  let c32_i32_102 : BitVec 32 := 32#32
  let v130 : BitVec 32 := Scalar.divsi v129 c32_i32_102
  let v151 : Index := Scalar.indexCast v130
  let c32_i32_103 : BitVec 32 := 32#32
  let v131 : BitVec 32 := Scalar.remsi v129 c32_i32_103
  let c8_i32_116 : BitVec 32 := 8#32
  let v149 : BitVec 32 := Scalar.muli v131 c8_i32_116
  let c0_i32_111 : BitVec 32 := 0#32
  let c8_i32_110 : BitVec 32 := 8#32
  let c0_i32_109 : BitVec 32 := 0#32
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let c1_i32_115 : BitVec 32 := 1#32
  let arg20 : BitVec 32 := Scf.iv v146 c1_i32_115 k0_t13
  let v150 : BitVec 32 := Scalar.addi v149 arg20
  let v152 : Index := Scalar.indexCast v150
  ![v151.toNat, v152.toNat]
def k0_off106 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  ![v132.toNat]
def k0_off107 (v9 : BitVec 32) (k0_t11 : Fin (k0_t11_loop v9).trips) (v129 : BitVec 32) (v134 : BitVec 32) (k0_t13 : Fin (k0_t13_loop v129 v134).trips) : Fin 5 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  let c0_i32_117 : BitVec 32 := 0#32
  let c0_i32_111 : BitVec 32 := 0#32
  let c8_i32_110 : BitVec 32 := 8#32
  let c0_i32_109 : BitVec 32 := 0#32
  let c32_i32_103 : BitVec 32 := 32#32
  let v131 : BitVec 32 := Scalar.remsi v129 c32_i32_103
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let c1_i32_115 : BitVec 32 := 1#32
  let arg20 : BitVec 32 := Scf.iv v146 c1_i32_115 k0_t13
  let c0_i32_118 : BitVec 32 := 0#32
  let c0_i32_119 : BitVec 32 := 0#32
  ![v132.toNat, 0, arg20.toNat, 0, 0]
def k0_off108 (v153 : BitVec 32) : Fin 3 → Nat :=
  let c0_i32_120 : BitVec 32 := 0#32
  let c0_i32_121 : BitVec 32 := 0#32
  ![v153.toNat, 0, 0]

def k0_chk19 (v9 : BitVec 32) (k0_t11 : Fin (k0_t11_loop v9).trips) (v153 : BitVec 32) : Prop :=
  (∀ (k0_h4 : k0_cond4 v9 k0_t11 = 1#1), ∀ a, (k0_off108 v153) a + S1x1024x128.size a ≤ S1600x1024x128.size a) ∧
  (∀ (k0_h4 : k0_cond4 v9 k0_t11 = 1#1), ∀ (hinb : ∀ a, (k0_off108 v153) a + S1x1024x128.size a ≤ S1600x1024x128.size a), (Rect.unit (s := S1600x1024x128) (k0_off108 v153) S1x1024x128.size hinb).WholeWords (EltTy.packing .fp8e4m3))
theorem k0_off108_inb : ∀ (v9 : BitVec 32) (k0_t11 : Fin (k0_t11_loop v9).trips) (v153 : BitVec 32) (k0_hw19 : k0_chk19 v9 k0_t11 v153), ∀ (k0_h4 : k0_cond4 v9 k0_t11 = 1#1), ∀ a, (k0_off108 v153) a + S1x1024x128.size a ≤ S1600x1024x128.size a := fun v9 k0_t11 v153 k0_hw19 k0_h4 => k0_hw19.1 k0_h4
theorem k0_off108_wordsfp8e4m3 : ∀ (v9 : BitVec 32) (k0_t11 : Fin (k0_t11_loop v9).trips) (v153 : BitVec 32) (k0_hw19 : k0_chk19 v9 k0_t11 v153), ∀ (k0_h4 : k0_cond4 v9 k0_t11 = 1#1), (Rect.unit (s := S1600x1024x128) (k0_off108 v153) S1x1024x128.size (k0_off108_inb v9 k0_t11 v153 k0_hw19 k0_h4)).WholeWords (EltTy.packing .fp8e4m3) := fun v9 k0_t11 v153 k0_hw19 k0_h4 => k0_hw19.2 k0_h4 (k0_off108_inb v9 k0_t11 v153 k0_hw19 k0_h4)

def k0_off109 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  ![v132.toNat]
def k0_off110 (v9 : BitVec 32) (k0_t11 : Fin (k0_t11_loop v9).trips) (v129 : BitVec 32) (v134 : BitVec 32) (k0_t13 : Fin (k0_t13_loop v129 v134).trips) : Fin 5 → Nat :=
  let c0_i32_39 : BitVec 32 := 0#32
  let c1_i32_42 : BitVec 32 := 1#32
  let arg18 : BitVec 32 := Scf.iv c0_i32_39 c1_i32_42 k0_t11
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  let c1_i32_122 : BitVec 32 := 1#32
  let c0_i32_111 : BitVec 32 := 0#32
  let c8_i32_110 : BitVec 32 := 8#32
  let c0_i32_109 : BitVec 32 := 0#32
  let c32_i32_103 : BitVec 32 := 32#32
  let v131 : BitVec 32 := Scalar.remsi v129 c32_i32_103
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let c1_i32_115 : BitVec 32 := 1#32
  let arg20 : BitVec 32 := Scf.iv v146 c1_i32_115 k0_t13
  let c0_i32_123 : BitVec 32 := 0#32
  let c0_i32_124 : BitVec 32 := 0#32
  ![v132.toNat, 1, arg20.toNat, 0, 0]

def k0_chk17 (v9 : BitVec 32) (k0_t11 : Fin (k0_t11_loop v9).trips) (v129 : BitVec 32) (v134 : BitVec 32) : Prop :=
  (∀ (k0_h4 : k0_cond4 v9 k0_t11 = 1#1), (k0_t12_loop v129 v134).OK) ∧
  (∀ k0_t12 : Fin (k0_t12_loop v129 v134).trips, ∀ (k0_h4 : k0_cond4 v9 k0_t11 = 1#1), ∀ a, (k0_off99 v129 v134 k0_t12) a + S1x1.size a ≤ S5x256.size a) ∧
  (∀ k0_t12 : Fin (k0_t12_loop v129 v134).trips, ∀ (k0_h4 : k0_cond4 v9 k0_t11 = 1#1), ∀ a, (k0_off100 v9 k0_t11) a + S1.size a ≤ S4.size a) ∧
  (∀ k0_t12 : Fin (k0_t12_loop v129 v134).trips, ∀ (k0_h4 : k0_cond4 v9 k0_t11 = 1#1), ∀ a, (k0_off101 v9 k0_t11 v129 v134 k0_t12) a + S1x1x1x1024x128.size a ≤ S4x2x8x1024x128.size a) ∧
  (∀ k0_t12 : Fin (k0_t12_loop v129 v134).trips, ∀ (k0_h4 : k0_cond4 v9 k0_t11 = 1#1), ∀ (hinb : ∀ a, (k0_off101 v9 k0_t11 v129 v134 k0_t12) a + S1x1x1x1024x128.size a ≤ S4x2x8x1024x128.size a), (Rect.unit (s := S4x2x8x1024x128) (k0_off101 v9 k0_t11 v129 v134 k0_t12) S1x1x1x1024x128.size hinb).WholeWords (EltTy.packing .fp8e4m3)) ∧
  (∀ k0_t12 : Fin (k0_t12_loop v129 v134).trips, ∀ (k0_h4 : k0_cond4 v9 k0_t11 = 1#1), ∀ a, (k0_off103 v9 k0_t11) a + S1.size a ≤ S4.size a) ∧
  (∀ k0_t12 : Fin (k0_t12_loop v129 v134).trips, ∀ (k0_h4 : k0_cond4 v9 k0_t11 = 1#1), ∀ a, (k0_off104 v9 k0_t11 v129 v134 k0_t12) a + S1x1x1x1024x128.size a ≤ S4x2x8x1024x128.size a) ∧
  (∀ k0_t12 : Fin (k0_t12_loop v129 v134).trips, ∀ (k0_h4 : k0_cond4 v9 k0_t11 = 1#1), ∀ (hinb : ∀ a, (k0_off104 v9 k0_t11 v129 v134 k0_t12) a + S1x1x1x1024x128.size a ≤ S4x2x8x1024x128.size a), (Rect.unit (s := S4x2x8x1024x128) (k0_off104 v9 k0_t11 v129 v134 k0_t12) S1x1x1x1024x128.size hinb).WholeWords (EltTy.packing .fp8e4m3)) ∧
  (∀ (k0_h4 : k0_cond4 v9 k0_t11 = 1#1), (k0_t13_loop v129 v134).OK) ∧
  (∀ k0_t13 : Fin (k0_t13_loop v129 v134).trips, ∀ (k0_h4 : k0_cond4 v9 k0_t11 = 1#1), ∀ a, (k0_off105 v129 v134 k0_t13) a + S1x1.size a ≤ S5x256.size a) ∧
  (∀ k0_t13 : Fin (k0_t13_loop v129 v134).trips, ∀ (k0_h4 : k0_cond4 v9 k0_t11 = 1#1), ∀ a, (k0_off106 v9 k0_t11) a + S1.size a ≤ S4.size a) ∧
  (∀ k0_t13 : Fin (k0_t13_loop v129 v134).trips, ∀ (k0_h4 : k0_cond4 v9 k0_t11 = 1#1), ∀ a, (k0_off107 v9 k0_t11 v129 v134 k0_t13) a + S1x1x1x1024x128.size a ≤ S4x2x8x1024x128.size a) ∧
  (∀ k0_t13 : Fin (k0_t13_loop v129 v134).trips, ∀ (k0_h4 : k0_cond4 v9 k0_t11 = 1#1), ∀ (hinb : ∀ a, (k0_off107 v9 k0_t11 v129 v134 k0_t13) a + S1x1x1x1024x128.size a ≤ S4x2x8x1024x128.size a), (Rect.unit (s := S4x2x8x1024x128) (k0_off107 v9 k0_t11 v129 v134 k0_t13) S1x1x1x1024x128.size hinb).WholeWords (EltTy.packing .fp8e4m3)) ∧
  (∀ k0_t13 : Fin (k0_t13_loop v129 v134).trips, ∀ (k0_h4 : k0_cond4 v9 k0_t11 = 1#1), ∀ a, (k0_off109 v9 k0_t11) a + S1.size a ≤ S4.size a) ∧
  (∀ k0_t13 : Fin (k0_t13_loop v129 v134).trips, ∀ (k0_h4 : k0_cond4 v9 k0_t11 = 1#1), ∀ a, (k0_off110 v9 k0_t11 v129 v134 k0_t13) a + S1x1x1x1024x128.size a ≤ S4x2x8x1024x128.size a) ∧
  (∀ k0_t13 : Fin (k0_t13_loop v129 v134).trips, ∀ (k0_h4 : k0_cond4 v9 k0_t11 = 1#1), ∀ (hinb : ∀ a, (k0_off110 v9 k0_t11 v129 v134 k0_t13) a + S1x1x1x1024x128.size a ≤ S4x2x8x1024x128.size a), (Rect.unit (s := S4x2x8x1024x128) (k0_off110 v9 k0_t11 v129 v134 k0_t13) S1x1x1x1024x128.size hinb).WholeWords (EltTy.packing .fp8e4m3))
theorem k0_t12_ok : ∀ (v9 : BitVec 32) (k0_t11 : Fin (k0_t11_loop v9).trips) (v129 : BitVec 32) (v134 : BitVec 32) (k0_hw17 : k0_chk17 v9 k0_t11 v129 v134), ∀ (k0_h4 : k0_cond4 v9 k0_t11 = 1#1), (k0_t12_loop v129 v134).OK := fun v9 k0_t11 v129 v134 k0_hw17 k0_h4 => k0_hw17.1 k0_h4
theorem k0_off99_inb : ∀ (v9 : BitVec 32) (k0_t11 : Fin (k0_t11_loop v9).trips) (v129 : BitVec 32) (v134 : BitVec 32) (k0_hw17 : k0_chk17 v9 k0_t11 v129 v134) (k0_t12 : Fin (k0_t12_loop v129 v134).trips), ∀ (k0_h4 : k0_cond4 v9 k0_t11 = 1#1), ∀ a, (k0_off99 v129 v134 k0_t12) a + S1x1.size a ≤ S5x256.size a := fun v9 k0_t11 v129 v134 k0_hw17 k0_t12 k0_h4 => k0_hw17.2.1 k0_t12 k0_h4
theorem k0_off100_inb : ∀ (v9 : BitVec 32) (k0_t11 : Fin (k0_t11_loop v9).trips) (v129 : BitVec 32) (v134 : BitVec 32) (k0_hw17 : k0_chk17 v9 k0_t11 v129 v134) (k0_t12 : Fin (k0_t12_loop v129 v134).trips), ∀ (k0_h4 : k0_cond4 v9 k0_t11 = 1#1), ∀ a, (k0_off100 v9 k0_t11) a + S1.size a ≤ S4.size a := fun v9 k0_t11 v129 v134 k0_hw17 k0_t12 k0_h4 => k0_hw17.2.2.1 k0_t12 k0_h4
theorem k0_off101_inb : ∀ (v9 : BitVec 32) (k0_t11 : Fin (k0_t11_loop v9).trips) (v129 : BitVec 32) (v134 : BitVec 32) (k0_hw17 : k0_chk17 v9 k0_t11 v129 v134) (k0_t12 : Fin (k0_t12_loop v129 v134).trips), ∀ (k0_h4 : k0_cond4 v9 k0_t11 = 1#1), ∀ a, (k0_off101 v9 k0_t11 v129 v134 k0_t12) a + S1x1x1x1024x128.size a ≤ S4x2x8x1024x128.size a := fun v9 k0_t11 v129 v134 k0_hw17 k0_t12 k0_h4 => k0_hw17.2.2.2.1 k0_t12 k0_h4
theorem k0_off101_wordsfp8e4m3 : ∀ (v9 : BitVec 32) (k0_t11 : Fin (k0_t11_loop v9).trips) (v129 : BitVec 32) (v134 : BitVec 32) (k0_hw17 : k0_chk17 v9 k0_t11 v129 v134) (k0_t12 : Fin (k0_t12_loop v129 v134).trips), ∀ (k0_h4 : k0_cond4 v9 k0_t11 = 1#1), (Rect.unit (s := S4x2x8x1024x128) (k0_off101 v9 k0_t11 v129 v134 k0_t12) S1x1x1x1024x128.size (k0_off101_inb v9 k0_t11 v129 v134 k0_hw17 k0_t12 k0_h4)).WholeWords (EltTy.packing .fp8e4m3) := fun v9 k0_t11 v129 v134 k0_hw17 k0_t12 k0_h4 => k0_hw17.2.2.2.2.1 k0_t12 k0_h4 (k0_off101_inb v9 k0_t11 v129 v134 k0_hw17 k0_t12 k0_h4)
theorem k0_off103_inb : ∀ (v9 : BitVec 32) (k0_t11 : Fin (k0_t11_loop v9).trips) (v129 : BitVec 32) (v134 : BitVec 32) (k0_hw17 : k0_chk17 v9 k0_t11 v129 v134) (k0_t12 : Fin (k0_t12_loop v129 v134).trips), ∀ (k0_h4 : k0_cond4 v9 k0_t11 = 1#1), ∀ a, (k0_off103 v9 k0_t11) a + S1.size a ≤ S4.size a := fun v9 k0_t11 v129 v134 k0_hw17 k0_t12 k0_h4 => k0_hw17.2.2.2.2.2.1 k0_t12 k0_h4
theorem k0_off104_inb : ∀ (v9 : BitVec 32) (k0_t11 : Fin (k0_t11_loop v9).trips) (v129 : BitVec 32) (v134 : BitVec 32) (k0_hw17 : k0_chk17 v9 k0_t11 v129 v134) (k0_t12 : Fin (k0_t12_loop v129 v134).trips), ∀ (k0_h4 : k0_cond4 v9 k0_t11 = 1#1), ∀ a, (k0_off104 v9 k0_t11 v129 v134 k0_t12) a + S1x1x1x1024x128.size a ≤ S4x2x8x1024x128.size a := fun v9 k0_t11 v129 v134 k0_hw17 k0_t12 k0_h4 => k0_hw17.2.2.2.2.2.2.1 k0_t12 k0_h4
theorem k0_off104_wordsfp8e4m3 : ∀ (v9 : BitVec 32) (k0_t11 : Fin (k0_t11_loop v9).trips) (v129 : BitVec 32) (v134 : BitVec 32) (k0_hw17 : k0_chk17 v9 k0_t11 v129 v134) (k0_t12 : Fin (k0_t12_loop v129 v134).trips), ∀ (k0_h4 : k0_cond4 v9 k0_t11 = 1#1), (Rect.unit (s := S4x2x8x1024x128) (k0_off104 v9 k0_t11 v129 v134 k0_t12) S1x1x1x1024x128.size (k0_off104_inb v9 k0_t11 v129 v134 k0_hw17 k0_t12 k0_h4)).WholeWords (EltTy.packing .fp8e4m3) := fun v9 k0_t11 v129 v134 k0_hw17 k0_t12 k0_h4 => k0_hw17.2.2.2.2.2.2.2.1 k0_t12 k0_h4 (k0_off104_inb v9 k0_t11 v129 v134 k0_hw17 k0_t12 k0_h4)
theorem k0_t13_ok : ∀ (v9 : BitVec 32) (k0_t11 : Fin (k0_t11_loop v9).trips) (v129 : BitVec 32) (v134 : BitVec 32) (k0_hw17 : k0_chk17 v9 k0_t11 v129 v134), ∀ (k0_h4 : k0_cond4 v9 k0_t11 = 1#1), (k0_t13_loop v129 v134).OK := fun v9 k0_t11 v129 v134 k0_hw17 k0_h4 => k0_hw17.2.2.2.2.2.2.2.2.1 k0_h4
theorem k0_off105_inb : ∀ (v9 : BitVec 32) (k0_t11 : Fin (k0_t11_loop v9).trips) (v129 : BitVec 32) (v134 : BitVec 32) (k0_hw17 : k0_chk17 v9 k0_t11 v129 v134) (k0_t13 : Fin (k0_t13_loop v129 v134).trips), ∀ (k0_h4 : k0_cond4 v9 k0_t11 = 1#1), ∀ a, (k0_off105 v129 v134 k0_t13) a + S1x1.size a ≤ S5x256.size a := fun v9 k0_t11 v129 v134 k0_hw17 k0_t13 k0_h4 => k0_hw17.2.2.2.2.2.2.2.2.2.1 k0_t13 k0_h4
theorem k0_off106_inb : ∀ (v9 : BitVec 32) (k0_t11 : Fin (k0_t11_loop v9).trips) (v129 : BitVec 32) (v134 : BitVec 32) (k0_hw17 : k0_chk17 v9 k0_t11 v129 v134) (k0_t13 : Fin (k0_t13_loop v129 v134).trips), ∀ (k0_h4 : k0_cond4 v9 k0_t11 = 1#1), ∀ a, (k0_off106 v9 k0_t11) a + S1.size a ≤ S4.size a := fun v9 k0_t11 v129 v134 k0_hw17 k0_t13 k0_h4 => k0_hw17.2.2.2.2.2.2.2.2.2.2.1 k0_t13 k0_h4
theorem k0_off107_inb : ∀ (v9 : BitVec 32) (k0_t11 : Fin (k0_t11_loop v9).trips) (v129 : BitVec 32) (v134 : BitVec 32) (k0_hw17 : k0_chk17 v9 k0_t11 v129 v134) (k0_t13 : Fin (k0_t13_loop v129 v134).trips), ∀ (k0_h4 : k0_cond4 v9 k0_t11 = 1#1), ∀ a, (k0_off107 v9 k0_t11 v129 v134 k0_t13) a + S1x1x1x1024x128.size a ≤ S4x2x8x1024x128.size a := fun v9 k0_t11 v129 v134 k0_hw17 k0_t13 k0_h4 => k0_hw17.2.2.2.2.2.2.2.2.2.2.2.1 k0_t13 k0_h4
theorem k0_off107_wordsfp8e4m3 : ∀ (v9 : BitVec 32) (k0_t11 : Fin (k0_t11_loop v9).trips) (v129 : BitVec 32) (v134 : BitVec 32) (k0_hw17 : k0_chk17 v9 k0_t11 v129 v134) (k0_t13 : Fin (k0_t13_loop v129 v134).trips), ∀ (k0_h4 : k0_cond4 v9 k0_t11 = 1#1), (Rect.unit (s := S4x2x8x1024x128) (k0_off107 v9 k0_t11 v129 v134 k0_t13) S1x1x1x1024x128.size (k0_off107_inb v9 k0_t11 v129 v134 k0_hw17 k0_t13 k0_h4)).WholeWords (EltTy.packing .fp8e4m3) := fun v9 k0_t11 v129 v134 k0_hw17 k0_t13 k0_h4 => k0_hw17.2.2.2.2.2.2.2.2.2.2.2.2.1 k0_t13 k0_h4 (k0_off107_inb v9 k0_t11 v129 v134 k0_hw17 k0_t13 k0_h4)
theorem k0_off109_inb : ∀ (v9 : BitVec 32) (k0_t11 : Fin (k0_t11_loop v9).trips) (v129 : BitVec 32) (v134 : BitVec 32) (k0_hw17 : k0_chk17 v9 k0_t11 v129 v134) (k0_t13 : Fin (k0_t13_loop v129 v134).trips), ∀ (k0_h4 : k0_cond4 v9 k0_t11 = 1#1), ∀ a, (k0_off109 v9 k0_t11) a + S1.size a ≤ S4.size a := fun v9 k0_t11 v129 v134 k0_hw17 k0_t13 k0_h4 => k0_hw17.2.2.2.2.2.2.2.2.2.2.2.2.2.1 k0_t13 k0_h4
theorem k0_off110_inb : ∀ (v9 : BitVec 32) (k0_t11 : Fin (k0_t11_loop v9).trips) (v129 : BitVec 32) (v134 : BitVec 32) (k0_hw17 : k0_chk17 v9 k0_t11 v129 v134) (k0_t13 : Fin (k0_t13_loop v129 v134).trips), ∀ (k0_h4 : k0_cond4 v9 k0_t11 = 1#1), ∀ a, (k0_off110 v9 k0_t11 v129 v134 k0_t13) a + S1x1x1x1024x128.size a ≤ S4x2x8x1024x128.size a := fun v9 k0_t11 v129 v134 k0_hw17 k0_t13 k0_h4 => k0_hw17.2.2.2.2.2.2.2.2.2.2.2.2.2.2.1 k0_t13 k0_h4
theorem k0_off110_wordsfp8e4m3 : ∀ (v9 : BitVec 32) (k0_t11 : Fin (k0_t11_loop v9).trips) (v129 : BitVec 32) (v134 : BitVec 32) (k0_hw17 : k0_chk17 v9 k0_t11 v129 v134) (k0_t13 : Fin (k0_t13_loop v129 v134).trips), ∀ (k0_h4 : k0_cond4 v9 k0_t11 = 1#1), (Rect.unit (s := S4x2x8x1024x128) (k0_off110 v9 k0_t11 v129 v134 k0_t13) S1x1x1x1024x128.size (k0_off110_inb v9 k0_t11 v129 v134 k0_hw17 k0_t13 k0_h4)).WholeWords (EltTy.packing .fp8e4m3) := fun v9 k0_t11 v129 v134 k0_hw17 k0_t13 k0_h4 => k0_hw17.2.2.2.2.2.2.2.2.2.2.2.2.2.2.2 k0_t13 k0_h4 (k0_off110_inb v9 k0_t11 v129 v134 k0_hw17 k0_t13 k0_h4)

def k0_off111 (arg19 : BitVec 32) : Fin 1 → Nat :=
  let c159_i32 : BitVec 32 := 159#32
  let v126 : BitVec 32 := Scalar.subi c159_i32 arg19
  let v127 : Index := Scalar.indexCast v126
  ![v127.toNat]
def k0_cond5 (v9 : BitVec 32) (arg19 : BitVec 32) : BitVec 1 :=
  let c160_i32_12 : BitVec 32 := 160#32
  let v10 : BitVec 32 := Scalar.subi c160_i32_12 v9
  let v81 : BitVec 1 := Scalar.cmpi .slt arg19 v10
  let v82 : BitVec 32 := Scalar.extui v81
  let c0_i32_67 : BitVec 32 := 0#32
  let v83 : BitVec 1 := Scalar.cmpi .ne v82 c0_i32_67
  v83

def k0_chk20 (v9 : BitVec 32) (arg19 : BitVec 32) : Prop :=
  (∀ (k0_h5 : k0_cond5 v9 arg19 = 1#1), ∀ a, (k0_off111 arg19) a + S1.size a ≤ S160.size a)
theorem k0_off111_inb : ∀ (v9 : BitVec 32) (arg19 : BitVec 32) (k0_hw20 : k0_chk20 v9 arg19), ∀ (k0_h5 : k0_cond5 v9 arg19 = 1#1), ∀ a, (k0_off111 arg19) a + S1.size a ≤ S160.size a := fun v9 arg19 k0_hw20 k0_h5 => k0_hw20 k0_h5

def k0_off112 (v128 : BitVec 32) : Fin 4 → Nat :=
  let c32_i32_100 : BitVec 32 := 32#32
  let v129 : BitVec 32 := Scalar.divsi v128 c32_i32_100
  let c0_i32_103 : BitVec 32 := 0#32
  let c32_i32_101 : BitVec 32 := 32#32
  let v130 : BitVec 32 := Scalar.remsi v128 c32_i32_101
  let c128_i32_102 : BitVec 32 := 128#32
  let v131 : BitVec 32 := Scalar.muli v130 c128_i32_102
  let c0_i32_104 : BitVec 32 := 0#32
  ![v129.toNat, 0, v131.toNat, 0]

def k0_chk21 (v9 : BitVec 32) (arg19 : BitVec 32) (v128 : BitVec 32) : Prop :=
  (∀ (k0_h5 : k0_cond5 v9 arg19 = 1#1), ∀ a, (k0_off112 v128) a + S1x64x128x128.size a ≤ S5x64x4096x128.size a) ∧
  (∀ (k0_h5 : k0_cond5 v9 arg19 = 1#1), ∀ (hinb : ∀ a, (k0_off112 v128) a + S1x64x128x128.size a ≤ S5x64x4096x128.size a), (Rect.unit (s := S5x64x4096x128) (k0_off112 v128) S1x64x128x128.size hinb).WholeWords (EltTy.packing .bf16))
theorem k0_off112_inb : ∀ (v9 : BitVec 32) (arg19 : BitVec 32) (v128 : BitVec 32) (k0_hw21 : k0_chk21 v9 arg19 v128), ∀ (k0_h5 : k0_cond5 v9 arg19 = 1#1), ∀ a, (k0_off112 v128) a + S1x64x128x128.size a ≤ S5x64x4096x128.size a := fun v9 arg19 v128 k0_hw21 k0_h5 => k0_hw21.1 k0_h5
theorem k0_off112_wordsbf16 : ∀ (v9 : BitVec 32) (arg19 : BitVec 32) (v128 : BitVec 32) (k0_hw21 : k0_chk21 v9 arg19 v128), ∀ (k0_h5 : k0_cond5 v9 arg19 = 1#1), (Rect.unit (s := S5x64x4096x128) (k0_off112 v128) S1x64x128x128.size (k0_off112_inb v9 arg19 v128 k0_hw21 k0_h5)).WholeWords (EltTy.packing .bf16) := fun v9 arg19 v128 k0_hw21 k0_h5 => k0_hw21.2 k0_h5 (k0_off112_inb v9 arg19 v128 k0_hw21 k0_h5)

@[reducible] def k0_t14_loop (v62 : BitVec 32) (v68 : BitVec 32) : Scf.Loop 32 :=
  let c0_i32_68 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v84 : BitVec 32 := Scalar.subi v75 c0_i32_68
  let c1_i32_70 : BitVec 32 := 1#32
  let v86 : BitVec 32 := Scalar.divsi v84 c1_i32_70
  let v87 : BitVec 32 := Scalar.muli v86 c1_i32_70
  let v88 : BitVec 32 := Scalar.addi c0_i32_68 v87
  let c1_i32_71 : BitVec 32 := 1#32
  ⟨c0_i32_68, v88, c1_i32_71⟩

def k0_off113 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  ![v65.toNat]
def k0_off114 (v9 : BitVec 32) (k0_t11 : Fin (k0_t11_loop v9).trips) (v62 : BitVec 32) (v68 : BitVec 32) (k0_t14 : Fin (k0_t14_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let c0_i32_101 : BitVec 32 := 0#32
  let c0_i32_68 : BitVec 32 := 0#32
  let c1_i32_71 : BitVec 32 := 1#32
  let arg20 : BitVec 32 := Scf.iv c0_i32_68 c1_i32_71 k0_t14
  let c0_i32_102 : BitVec 32 := 0#32
  let c0_i32_103 : BitVec 32 := 0#32
  ![v65.toNat, 0, arg20.toNat, 0, 0]
def k0_off115 (v9 : BitVec 32) (k0_t11 : Fin (k0_t11_loop v9).trips) (v62 : BitVec 32) (v68 : BitVec 32) (k0_t14 : Fin (k0_t14_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let c1_i32_107 : BitVec 32 := 1#32
  let c0_i32_68 : BitVec 32 := 0#32
  let c1_i32_71 : BitVec 32 := 1#32
  let arg20 : BitVec 32 := Scf.iv c0_i32_68 c1_i32_71 k0_t14
  let c0_i32_108 : BitVec 32 := 0#32
  let c0_i32_109 : BitVec 32 := 0#32
  ![v65.toNat, 1, arg20.toNat, 0, 0]
@[reducible] def k0_t15_loop (v62 : BitVec 32) (v68 : BitVec 32) : Scf.Loop 32 :=
  let c0_i32_68 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v84 : BitVec 32 := Scalar.subi v75 c0_i32_68
  let c1_i32_70 : BitVec 32 := 1#32
  let v86 : BitVec 32 := Scalar.divsi v84 c1_i32_70
  let v87 : BitVec 32 := Scalar.muli v86 c1_i32_70
  let v88 : BitVec 32 := Scalar.addi c0_i32_68 v87
  let v85 : BitVec 32 := Scalar.addi c0_i32_68 v84
  let c1_i32_72 : BitVec 32 := 1#32
  ⟨v88, v85, c1_i32_72⟩
def k0_off116 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  ![v65.toNat]
def k0_off117 (v9 : BitVec 32) (k0_t11 : Fin (k0_t11_loop v9).trips) (v62 : BitVec 32) (v68 : BitVec 32) (k0_t15 : Fin (k0_t15_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let c0_i32_101 : BitVec 32 := 0#32
  let c0_i32_68 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v84 : BitVec 32 := Scalar.subi v75 c0_i32_68
  let c1_i32_70 : BitVec 32 := 1#32
  let v86 : BitVec 32 := Scalar.divsi v84 c1_i32_70
  let v87 : BitVec 32 := Scalar.muli v86 c1_i32_70
  let v88 : BitVec 32 := Scalar.addi c0_i32_68 v87
  let c1_i32_72 : BitVec 32 := 1#32
  let arg20 : BitVec 32 := Scf.iv v88 c1_i32_72 k0_t15
  let c0_i32_102 : BitVec 32 := 0#32
  let c0_i32_103 : BitVec 32 := 0#32
  ![v65.toNat, 0, arg20.toNat, 0, 0]
def k0_off118 (v9 : BitVec 32) (k0_t11 : Fin (k0_t11_loop v9).trips) (v62 : BitVec 32) (v68 : BitVec 32) (k0_t15 : Fin (k0_t15_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let c1_i32_107 : BitVec 32 := 1#32
  let c0_i32_68 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v84 : BitVec 32 := Scalar.subi v75 c0_i32_68
  let c1_i32_70 : BitVec 32 := 1#32
  let v86 : BitVec 32 := Scalar.divsi v84 c1_i32_70
  let v87 : BitVec 32 := Scalar.muli v86 c1_i32_70
  let v88 : BitVec 32 := Scalar.addi c0_i32_68 v87
  let c1_i32_72 : BitVec 32 := 1#32
  let arg20 : BitVec 32 := Scf.iv v88 c1_i32_72 k0_t15
  let c0_i32_108 : BitVec 32 := 0#32
  let c0_i32_109 : BitVec 32 := 0#32
  ![v65.toNat, 1, arg20.toNat, 0, 0]
def k0_cond6 (v9 : BitVec 32) (k0_t11 : Fin (k0_t11_loop v9).trips) : BitVec 1 :=
  let c0_i32_39 : BitVec 32 := 0#32
  let c1_i32_42 : BitVec 32 := 1#32
  let arg18 : BitVec 32 := Scf.iv c0_i32_39 c1_i32_42 k0_t11
  let c4_i32_73 : BitVec 32 := 4#32
  let v91 : BitVec 1 := Scalar.cmpi .sge arg18 c4_i32_73
  let v92 : BitVec 32 := Scalar.extui v91
  let c0_i32_74 : BitVec 32 := 0#32
  let v93 : BitVec 1 := Scalar.cmpi .ne v92 c0_i32_74
  v93

def k0_off119 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  ![v66.toNat]
def k0_off120 (v62 : BitVec 32) : Fin 4 → Nat :=
  let c32_i32 : BitVec 32 := 32#32
  let v63 : BitVec 32 := Scalar.divsi v62 c32_i32
  let c0_i32_102 : BitVec 32 := 0#32
  let c32_i32_58 : BitVec 32 := 32#32
  let v64 : BitVec 32 := Scalar.remsi v62 c32_i32_58
  let c64_i32_100 : BitVec 32 := 64#32
  let v126 : BitVec 32 := Scalar.muli v64 c64_i32_100
  let c0_i32_103 : BitVec 32 := 0#32
  ![v63.toNat, 0, Nat.mul 2 v126.toNat, 0]
def k0_off121 (v9 : BitVec 32) (k0_t11 : Fin (k0_t11_loop v9).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let c0_i32_101 : BitVec 32 := 0#32
  let c0_i32_104 : BitVec 32 := 0#32
  let c0_i32_105 : BitVec 32 := 0#32
  let c0_i32_106 : BitVec 32 := 0#32
  ![v66.toNat, 0, 0, 0, 0]
def k0_off122 (v9 : BitVec 32) (k0_t11 : Fin (k0_t11_loop v9).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let c1_i32_108 : BitVec 32 := 1#32
  let c0_i32_111 : BitVec 32 := 0#32
  let c0_i32_112 : BitVec 32 := 0#32
  let c0_i32_113 : BitVec 32 := 0#32
  ![v66.toNat, 1, 0, 0, 0]
@[reducible] def k0_t16_loop (v62 : BitVec 32) (v68 : BitVec 32) : Scf.Loop 32 :=
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_78 : BitVec 32 := 1#32
  ⟨c0_i32_75, v98, c1_i32_78⟩
def k0_off123 (v62 : BitVec 32) (v68 : BitVec 32) (k0_t16 : Fin (k0_t16_loop v62 v68).trips) : Fin 2 → Nat :=
  let c32_i32 : BitVec 32 := 32#32
  let v63 : BitVec 32 := Scalar.divsi v62 c32_i32
  let v128 : Index := Scalar.indexCast v63
  let c32_i32_58 : BitVec 32 := 32#32
  let v64 : BitVec 32 := Scalar.remsi v62 c32_i32_58
  let c8_i32_100 : BitVec 32 := 8#32
  let v126 : BitVec 32 := Scalar.muli v64 c8_i32_100
  let c0_i32_75 : BitVec 32 := 0#32
  let c1_i32_78 : BitVec 32 := 1#32
  let arg20 : BitVec 32 := Scf.iv c0_i32_75 c1_i32_78 k0_t16
  let v127 : BitVec 32 := Scalar.addi v126 arg20
  let v129 : Index := Scalar.indexCast v127
  ![v128.toNat, v129.toNat]
def k0_off124 (v62 : BitVec 32) : Fin 1 → Nat :=
  let c32_i32 : BitVec 32 := 32#32
  let v63 : BitVec 32 := Scalar.divsi v62 c32_i32
  let v134 : Index := Scalar.indexCast v63
  ![v134.toNat]
def k0_mult27 (v62 : BitVec 32) (v68 : BitVec 32) (k0_t16 : Fin (k0_t16_loop v62 v68).trips) : BitVec 32 :=
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  v158
def k0_off125 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v160 : Index := Scalar.indexCast v65
  let c0 : Index := 0#32
  let c0_i32_75 : BitVec 32 := 0#32
  let c1_i32_78 : BitVec 32 := 1#32
  let arg20 : BitVec 32 := Scf.iv c0_i32_75 c1_i32_78 k0_t16
  let v161 : Index := Scalar.indexCast arg20
  let c0_109 : Index := 0#32
  let c0_110 : Index := 0#32
  ![v160.toNat, 0, v161.toNat, 0, 0]
def k0_off126 (v130 : BitVec 32) : Fin 4 → Nat :=
  let c0_111 : Index := 0#32
  let c7_i32 : BitVec 32 := 7#32
  let v131 : BitVec 32 := Scalar.shrui v130 c7_i32
  let v165 : Index := Scalar.indexCast v131
  let c0_112 : Index := 0#32
  let c0_113 : Index := 0#32
  ![0, v165.toNat, 0, 0]

def k0_off127 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v182 : Index := Scalar.indexCast v66
  let c0_116 : Index := 0#32
  let c0_117 : Index := 0#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v183 : Index := Scalar.indexCast v159
  let c0_118 : Index := 0#32
  ![v182.toNat, 0, 0, v183.toNat, 0]
def k0_off128 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v188 : Index := Scalar.indexCast v66
  let c0_119 : Index := 0#32
  let c1 : Index := 1#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v189 : Index := Scalar.indexCast v159
  let c0_120 : Index := 0#32
  ![v188.toNat, 0, 1, v189.toNat, 0]
def k0_off129 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v193 : Index := Scalar.indexCast v65
  let c1_121 : Index := 1#32
  let c0_i32_75 : BitVec 32 := 0#32
  let c1_i32_78 : BitVec 32 := 1#32
  let arg20 : BitVec 32 := Scf.iv c0_i32_75 c1_i32_78 k0_t16
  let v194 : Index := Scalar.indexCast arg20
  let c0_122 : Index := 0#32
  let c0_123 : Index := 0#32
  ![v193.toNat, 1, v194.toNat, 0, 0]
def k0_off130 (v130 : BitVec 32) : Fin 4 → Nat :=
  let c1_124 : Index := 1#32
  let c7_i32 : BitVec 32 := 7#32
  let v131 : BitVec 32 := Scalar.shrui v130 c7_i32
  let v198 : Index := Scalar.indexCast v131
  let c0_125 : Index := 0#32
  let c0_126 : Index := 0#32
  ![1, v198.toNat, 0, 0]
def k0_off131 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v215 : Index := Scalar.indexCast v66
  let c1_129 : Index := 1#32
  let c0_130 : Index := 0#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v216 : Index := Scalar.indexCast v159
  let c0_131 : Index := 0#32
  ![v215.toNat, 1, 0, v216.toNat, 0]
def k0_off132 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v221 : Index := Scalar.indexCast v66
  let c1_132 : Index := 1#32
  let c1_133 : Index := 1#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v222 : Index := Scalar.indexCast v159
  let c0_134 : Index := 0#32
  ![v221.toNat, 1, 1, v222.toNat, 0]
def k0_off133 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v226 : Index := Scalar.indexCast v65
  let c0_135 : Index := 0#32
  let c0_i32_75 : BitVec 32 := 0#32
  let c1_i32_78 : BitVec 32 := 1#32
  let arg20 : BitVec 32 := Scf.iv c0_i32_75 c1_i32_78 k0_t16
  let v227 : Index := Scalar.indexCast arg20
  let c32 : Index := 32#32
  let c0_136 : Index := 0#32
  ![v226.toNat, 0, v227.toNat, 32, 0]
def k0_off134 (v130 : BitVec 32) : Fin 4 → Nat :=
  let c0_137 : Index := 0#32
  let c7_i32 : BitVec 32 := 7#32
  let v131 : BitVec 32 := Scalar.shrui v130 c7_i32
  let v231 : Index := Scalar.indexCast v131
  let c32_138 : Index := 32#32
  let c0_139 : Index := 0#32
  ![0, v231.toNat, 32, 0]
def k0_off135 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v248 : Index := Scalar.indexCast v66
  let c0_142 : Index := 0#32
  let c2 : Index := 2#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v249 : Index := Scalar.indexCast v159
  let c0_143 : Index := 0#32
  ![v248.toNat, 0, 2, v249.toNat, 0]
def k0_off136 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v254 : Index := Scalar.indexCast v66
  let c0_144 : Index := 0#32
  let c3 : Index := 3#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v255 : Index := Scalar.indexCast v159
  let c0_145 : Index := 0#32
  ![v254.toNat, 0, 3, v255.toNat, 0]
def k0_off137 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v259 : Index := Scalar.indexCast v65
  let c1_146 : Index := 1#32
  let c0_i32_75 : BitVec 32 := 0#32
  let c1_i32_78 : BitVec 32 := 1#32
  let arg20 : BitVec 32 := Scf.iv c0_i32_75 c1_i32_78 k0_t16
  let v260 : Index := Scalar.indexCast arg20
  let c32_147 : Index := 32#32
  let c0_148 : Index := 0#32
  ![v259.toNat, 1, v260.toNat, 32, 0]
def k0_off138 (v130 : BitVec 32) : Fin 4 → Nat :=
  let c1_149 : Index := 1#32
  let c7_i32 : BitVec 32 := 7#32
  let v131 : BitVec 32 := Scalar.shrui v130 c7_i32
  let v264 : Index := Scalar.indexCast v131
  let c32_150 : Index := 32#32
  let c0_151 : Index := 0#32
  ![1, v264.toNat, 32, 0]
def k0_off139 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v281 : Index := Scalar.indexCast v66
  let c1_154 : Index := 1#32
  let c2_155 : Index := 2#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v282 : Index := Scalar.indexCast v159
  let c0_156 : Index := 0#32
  ![v281.toNat, 1, 2, v282.toNat, 0]
def k0_off140 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v287 : Index := Scalar.indexCast v66
  let c1_157 : Index := 1#32
  let c3_158 : Index := 3#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v288 : Index := Scalar.indexCast v159
  let c0_159 : Index := 0#32
  ![v287.toNat, 1, 3, v288.toNat, 0]
def k0_off141 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v292 : Index := Scalar.indexCast v65
  let c0_160 : Index := 0#32
  let c0_i32_75 : BitVec 32 := 0#32
  let c1_i32_78 : BitVec 32 := 1#32
  let arg20 : BitVec 32 := Scf.iv c0_i32_75 c1_i32_78 k0_t16
  let v293 : Index := Scalar.indexCast arg20
  let c64 : Index := 64#32
  let c0_161 : Index := 0#32
  ![v292.toNat, 0, v293.toNat, 64, 0]
def k0_off142 (v130 : BitVec 32) : Fin 4 → Nat :=
  let c0_162 : Index := 0#32
  let c7_i32 : BitVec 32 := 7#32
  let v131 : BitVec 32 := Scalar.shrui v130 c7_i32
  let v297 : Index := Scalar.indexCast v131
  let c64_163 : Index := 64#32
  let c0_164 : Index := 0#32
  ![0, v297.toNat, 64, 0]
def k0_off143 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v314 : Index := Scalar.indexCast v66
  let c0_167 : Index := 0#32
  let c4 : Index := 4#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v315 : Index := Scalar.indexCast v159
  let c0_168 : Index := 0#32
  ![v314.toNat, 0, 4, v315.toNat, 0]
def k0_off144 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v320 : Index := Scalar.indexCast v66
  let c0_169 : Index := 0#32
  let c5 : Index := 5#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v321 : Index := Scalar.indexCast v159
  let c0_170 : Index := 0#32
  ![v320.toNat, 0, 5, v321.toNat, 0]
def k0_off145 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v325 : Index := Scalar.indexCast v65
  let c1_171 : Index := 1#32
  let c0_i32_75 : BitVec 32 := 0#32
  let c1_i32_78 : BitVec 32 := 1#32
  let arg20 : BitVec 32 := Scf.iv c0_i32_75 c1_i32_78 k0_t16
  let v326 : Index := Scalar.indexCast arg20
  let c64_172 : Index := 64#32
  let c0_173 : Index := 0#32
  ![v325.toNat, 1, v326.toNat, 64, 0]
def k0_off146 (v130 : BitVec 32) : Fin 4 → Nat :=
  let c1_174 : Index := 1#32
  let c7_i32 : BitVec 32 := 7#32
  let v131 : BitVec 32 := Scalar.shrui v130 c7_i32
  let v330 : Index := Scalar.indexCast v131
  let c64_175 : Index := 64#32
  let c0_176 : Index := 0#32
  ![1, v330.toNat, 64, 0]
def k0_off147 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v347 : Index := Scalar.indexCast v66
  let c1_179 : Index := 1#32
  let c4_180 : Index := 4#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v348 : Index := Scalar.indexCast v159
  let c0_181 : Index := 0#32
  ![v347.toNat, 1, 4, v348.toNat, 0]
def k0_off148 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v353 : Index := Scalar.indexCast v66
  let c1_182 : Index := 1#32
  let c5_183 : Index := 5#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v354 : Index := Scalar.indexCast v159
  let c0_184 : Index := 0#32
  ![v353.toNat, 1, 5, v354.toNat, 0]
def k0_off149 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v358 : Index := Scalar.indexCast v65
  let c0_185 : Index := 0#32
  let c0_i32_75 : BitVec 32 := 0#32
  let c1_i32_78 : BitVec 32 := 1#32
  let arg20 : BitVec 32 := Scf.iv c0_i32_75 c1_i32_78 k0_t16
  let v359 : Index := Scalar.indexCast arg20
  let c96 : Index := 96#32
  let c0_186 : Index := 0#32
  ![v358.toNat, 0, v359.toNat, 96, 0]
def k0_off150 (v130 : BitVec 32) : Fin 4 → Nat :=
  let c0_187 : Index := 0#32
  let c7_i32 : BitVec 32 := 7#32
  let v131 : BitVec 32 := Scalar.shrui v130 c7_i32
  let v363 : Index := Scalar.indexCast v131
  let c96_188 : Index := 96#32
  let c0_189 : Index := 0#32
  ![0, v363.toNat, 96, 0]
def k0_off151 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v380 : Index := Scalar.indexCast v66
  let c0_192 : Index := 0#32
  let c6 : Index := 6#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v381 : Index := Scalar.indexCast v159
  let c0_193 : Index := 0#32
  ![v380.toNat, 0, 6, v381.toNat, 0]
def k0_off152 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v386 : Index := Scalar.indexCast v66
  let c0_194 : Index := 0#32
  let c7 : Index := 7#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v387 : Index := Scalar.indexCast v159
  let c0_195 : Index := 0#32
  ![v386.toNat, 0, 7, v387.toNat, 0]
def k0_off153 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v391 : Index := Scalar.indexCast v65
  let c1_196 : Index := 1#32
  let c0_i32_75 : BitVec 32 := 0#32
  let c1_i32_78 : BitVec 32 := 1#32
  let arg20 : BitVec 32 := Scf.iv c0_i32_75 c1_i32_78 k0_t16
  let v392 : Index := Scalar.indexCast arg20
  let c96_197 : Index := 96#32
  let c0_198 : Index := 0#32
  ![v391.toNat, 1, v392.toNat, 96, 0]
def k0_off154 (v130 : BitVec 32) : Fin 4 → Nat :=
  let c1_199 : Index := 1#32
  let c7_i32 : BitVec 32 := 7#32
  let v131 : BitVec 32 := Scalar.shrui v130 c7_i32
  let v396 : Index := Scalar.indexCast v131
  let c96_200 : Index := 96#32
  let c0_201 : Index := 0#32
  ![1, v396.toNat, 96, 0]
def k0_off155 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v413 : Index := Scalar.indexCast v66
  let c1_204 : Index := 1#32
  let c6_205 : Index := 6#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v414 : Index := Scalar.indexCast v159
  let c0_206 : Index := 0#32
  ![v413.toNat, 1, 6, v414.toNat, 0]
def k0_off156 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v419 : Index := Scalar.indexCast v66
  let c1_207 : Index := 1#32
  let c7_208 : Index := 7#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v420 : Index := Scalar.indexCast v159
  let c0_209 : Index := 0#32
  ![v419.toNat, 1, 7, v420.toNat, 0]
def k0_off157 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v424 : Index := Scalar.indexCast v65
  let c0_210 : Index := 0#32
  let c0_i32_75 : BitVec 32 := 0#32
  let c1_i32_78 : BitVec 32 := 1#32
  let arg20 : BitVec 32 := Scf.iv c0_i32_75 c1_i32_78 k0_t16
  let v425 : Index := Scalar.indexCast arg20
  let c128 : Index := 128#32
  let c0_211 : Index := 0#32
  ![v424.toNat, 0, v425.toNat, 128, 0]
def k0_off158 (v130 : BitVec 32) : Fin 4 → Nat :=
  let c0_212 : Index := 0#32
  let c7_i32 : BitVec 32 := 7#32
  let v131 : BitVec 32 := Scalar.shrui v130 c7_i32
  let v429 : Index := Scalar.indexCast v131
  let c128_213 : Index := 128#32
  let c0_214 : Index := 0#32
  ![0, v429.toNat, 128, 0]
def k0_off159 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v446 : Index := Scalar.indexCast v66
  let c0_217 : Index := 0#32
  let c8 : Index := 8#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v447 : Index := Scalar.indexCast v159
  let c0_218 : Index := 0#32
  ![v446.toNat, 0, 8, v447.toNat, 0]
def k0_off160 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v452 : Index := Scalar.indexCast v66
  let c0_219 : Index := 0#32
  let c9 : Index := 9#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v453 : Index := Scalar.indexCast v159
  let c0_220 : Index := 0#32
  ![v452.toNat, 0, 9, v453.toNat, 0]
def k0_off161 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v457 : Index := Scalar.indexCast v65
  let c1_221 : Index := 1#32
  let c0_i32_75 : BitVec 32 := 0#32
  let c1_i32_78 : BitVec 32 := 1#32
  let arg20 : BitVec 32 := Scf.iv c0_i32_75 c1_i32_78 k0_t16
  let v458 : Index := Scalar.indexCast arg20
  let c128_222 : Index := 128#32
  let c0_223 : Index := 0#32
  ![v457.toNat, 1, v458.toNat, 128, 0]
def k0_off162 (v130 : BitVec 32) : Fin 4 → Nat :=
  let c1_224 : Index := 1#32
  let c7_i32 : BitVec 32 := 7#32
  let v131 : BitVec 32 := Scalar.shrui v130 c7_i32
  let v462 : Index := Scalar.indexCast v131
  let c128_225 : Index := 128#32
  let c0_226 : Index := 0#32
  ![1, v462.toNat, 128, 0]
def k0_off163 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v479 : Index := Scalar.indexCast v66
  let c1_229 : Index := 1#32
  let c8_230 : Index := 8#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v480 : Index := Scalar.indexCast v159
  let c0_231 : Index := 0#32
  ![v479.toNat, 1, 8, v480.toNat, 0]
def k0_off164 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v485 : Index := Scalar.indexCast v66
  let c1_232 : Index := 1#32
  let c9_233 : Index := 9#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v486 : Index := Scalar.indexCast v159
  let c0_234 : Index := 0#32
  ![v485.toNat, 1, 9, v486.toNat, 0]
def k0_off165 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v490 : Index := Scalar.indexCast v65
  let c0_235 : Index := 0#32
  let c0_i32_75 : BitVec 32 := 0#32
  let c1_i32_78 : BitVec 32 := 1#32
  let arg20 : BitVec 32 := Scf.iv c0_i32_75 c1_i32_78 k0_t16
  let v491 : Index := Scalar.indexCast arg20
  let c160 : Index := 160#32
  let c0_236 : Index := 0#32
  ![v490.toNat, 0, v491.toNat, 160, 0]
def k0_off166 (v130 : BitVec 32) : Fin 4 → Nat :=
  let c0_237 : Index := 0#32
  let c7_i32 : BitVec 32 := 7#32
  let v131 : BitVec 32 := Scalar.shrui v130 c7_i32
  let v495 : Index := Scalar.indexCast v131
  let c160_238 : Index := 160#32
  let c0_239 : Index := 0#32
  ![0, v495.toNat, 160, 0]
def k0_off167 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v512 : Index := Scalar.indexCast v66
  let c0_242 : Index := 0#32
  let c10 : Index := 10#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v513 : Index := Scalar.indexCast v159
  let c0_243 : Index := 0#32
  ![v512.toNat, 0, 10, v513.toNat, 0]
def k0_off168 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v518 : Index := Scalar.indexCast v66
  let c0_244 : Index := 0#32
  let c11 : Index := 11#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v519 : Index := Scalar.indexCast v159
  let c0_245 : Index := 0#32
  ![v518.toNat, 0, 11, v519.toNat, 0]
def k0_off169 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v523 : Index := Scalar.indexCast v65
  let c1_246 : Index := 1#32
  let c0_i32_75 : BitVec 32 := 0#32
  let c1_i32_78 : BitVec 32 := 1#32
  let arg20 : BitVec 32 := Scf.iv c0_i32_75 c1_i32_78 k0_t16
  let v524 : Index := Scalar.indexCast arg20
  let c160_247 : Index := 160#32
  let c0_248 : Index := 0#32
  ![v523.toNat, 1, v524.toNat, 160, 0]
def k0_off170 (v130 : BitVec 32) : Fin 4 → Nat :=
  let c1_249 : Index := 1#32
  let c7_i32 : BitVec 32 := 7#32
  let v131 : BitVec 32 := Scalar.shrui v130 c7_i32
  let v528 : Index := Scalar.indexCast v131
  let c160_250 : Index := 160#32
  let c0_251 : Index := 0#32
  ![1, v528.toNat, 160, 0]
def k0_off171 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v545 : Index := Scalar.indexCast v66
  let c1_254 : Index := 1#32
  let c10_255 : Index := 10#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v546 : Index := Scalar.indexCast v159
  let c0_256 : Index := 0#32
  ![v545.toNat, 1, 10, v546.toNat, 0]
def k0_off172 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v551 : Index := Scalar.indexCast v66
  let c1_257 : Index := 1#32
  let c11_258 : Index := 11#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v552 : Index := Scalar.indexCast v159
  let c0_259 : Index := 0#32
  ![v551.toNat, 1, 11, v552.toNat, 0]
def k0_off173 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v556 : Index := Scalar.indexCast v65
  let c0_260 : Index := 0#32
  let c0_i32_75 : BitVec 32 := 0#32
  let c1_i32_78 : BitVec 32 := 1#32
  let arg20 : BitVec 32 := Scf.iv c0_i32_75 c1_i32_78 k0_t16
  let v557 : Index := Scalar.indexCast arg20
  let c192 : Index := 192#32
  let c0_261 : Index := 0#32
  ![v556.toNat, 0, v557.toNat, 192, 0]
def k0_off174 (v130 : BitVec 32) : Fin 4 → Nat :=
  let c0_262 : Index := 0#32
  let c7_i32 : BitVec 32 := 7#32
  let v131 : BitVec 32 := Scalar.shrui v130 c7_i32
  let v561 : Index := Scalar.indexCast v131
  let c192_263 : Index := 192#32
  let c0_264 : Index := 0#32
  ![0, v561.toNat, 192, 0]
def k0_off175 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v578 : Index := Scalar.indexCast v66
  let c0_267 : Index := 0#32
  let c12 : Index := 12#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v579 : Index := Scalar.indexCast v159
  let c0_268 : Index := 0#32
  ![v578.toNat, 0, 12, v579.toNat, 0]
def k0_off176 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v584 : Index := Scalar.indexCast v66
  let c0_269 : Index := 0#32
  let c13 : Index := 13#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v585 : Index := Scalar.indexCast v159
  let c0_270 : Index := 0#32
  ![v584.toNat, 0, 13, v585.toNat, 0]
def k0_off177 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v589 : Index := Scalar.indexCast v65
  let c1_271 : Index := 1#32
  let c0_i32_75 : BitVec 32 := 0#32
  let c1_i32_78 : BitVec 32 := 1#32
  let arg20 : BitVec 32 := Scf.iv c0_i32_75 c1_i32_78 k0_t16
  let v590 : Index := Scalar.indexCast arg20
  let c192_272 : Index := 192#32
  let c0_273 : Index := 0#32
  ![v589.toNat, 1, v590.toNat, 192, 0]
def k0_off178 (v130 : BitVec 32) : Fin 4 → Nat :=
  let c1_274 : Index := 1#32
  let c7_i32 : BitVec 32 := 7#32
  let v131 : BitVec 32 := Scalar.shrui v130 c7_i32
  let v594 : Index := Scalar.indexCast v131
  let c192_275 : Index := 192#32
  let c0_276 : Index := 0#32
  ![1, v594.toNat, 192, 0]
def k0_off179 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v611 : Index := Scalar.indexCast v66
  let c1_279 : Index := 1#32
  let c12_280 : Index := 12#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v612 : Index := Scalar.indexCast v159
  let c0_281 : Index := 0#32
  ![v611.toNat, 1, 12, v612.toNat, 0]
def k0_off180 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v617 : Index := Scalar.indexCast v66
  let c1_282 : Index := 1#32
  let c13_283 : Index := 13#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v618 : Index := Scalar.indexCast v159
  let c0_284 : Index := 0#32
  ![v617.toNat, 1, 13, v618.toNat, 0]
def k0_off181 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v622 : Index := Scalar.indexCast v65
  let c0_285 : Index := 0#32
  let c0_i32_75 : BitVec 32 := 0#32
  let c1_i32_78 : BitVec 32 := 1#32
  let arg20 : BitVec 32 := Scf.iv c0_i32_75 c1_i32_78 k0_t16
  let v623 : Index := Scalar.indexCast arg20
  let c224 : Index := 224#32
  let c0_286 : Index := 0#32
  ![v622.toNat, 0, v623.toNat, 224, 0]
def k0_off182 (v130 : BitVec 32) : Fin 4 → Nat :=
  let c0_287 : Index := 0#32
  let c7_i32 : BitVec 32 := 7#32
  let v131 : BitVec 32 := Scalar.shrui v130 c7_i32
  let v627 : Index := Scalar.indexCast v131
  let c224_288 : Index := 224#32
  let c0_289 : Index := 0#32
  ![0, v627.toNat, 224, 0]
def k0_off183 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v644 : Index := Scalar.indexCast v66
  let c0_292 : Index := 0#32
  let c14 : Index := 14#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v645 : Index := Scalar.indexCast v159
  let c0_293 : Index := 0#32
  ![v644.toNat, 0, 14, v645.toNat, 0]
def k0_off184 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v650 : Index := Scalar.indexCast v66
  let c0_294 : Index := 0#32
  let c15 : Index := 15#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v651 : Index := Scalar.indexCast v159
  let c0_295 : Index := 0#32
  ![v650.toNat, 0, 15, v651.toNat, 0]
def k0_off185 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v655 : Index := Scalar.indexCast v65
  let c1_296 : Index := 1#32
  let c0_i32_75 : BitVec 32 := 0#32
  let c1_i32_78 : BitVec 32 := 1#32
  let arg20 : BitVec 32 := Scf.iv c0_i32_75 c1_i32_78 k0_t16
  let v656 : Index := Scalar.indexCast arg20
  let c224_297 : Index := 224#32
  let c0_298 : Index := 0#32
  ![v655.toNat, 1, v656.toNat, 224, 0]
def k0_off186 (v130 : BitVec 32) : Fin 4 → Nat :=
  let c1_299 : Index := 1#32
  let c7_i32 : BitVec 32 := 7#32
  let v131 : BitVec 32 := Scalar.shrui v130 c7_i32
  let v660 : Index := Scalar.indexCast v131
  let c224_300 : Index := 224#32
  let c0_301 : Index := 0#32
  ![1, v660.toNat, 224, 0]
def k0_off187 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v677 : Index := Scalar.indexCast v66
  let c1_304 : Index := 1#32
  let c14_305 : Index := 14#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v678 : Index := Scalar.indexCast v159
  let c0_306 : Index := 0#32
  ![v677.toNat, 1, 14, v678.toNat, 0]
def k0_off188 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v683 : Index := Scalar.indexCast v66
  let c1_307 : Index := 1#32
  let c15_308 : Index := 15#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v684 : Index := Scalar.indexCast v159
  let c0_309 : Index := 0#32
  ![v683.toNat, 1, 15, v684.toNat, 0]
def k0_off189 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v688 : Index := Scalar.indexCast v65
  let c0_310 : Index := 0#32
  let c0_i32_75 : BitVec 32 := 0#32
  let c1_i32_78 : BitVec 32 := 1#32
  let arg20 : BitVec 32 := Scf.iv c0_i32_75 c1_i32_78 k0_t16
  let v689 : Index := Scalar.indexCast arg20
  let c256 : Index := 256#32
  let c0_311 : Index := 0#32
  ![v688.toNat, 0, v689.toNat, 256, 0]
def k0_off190 (v130 : BitVec 32) : Fin 4 → Nat :=
  let c0_312 : Index := 0#32
  let c7_i32 : BitVec 32 := 7#32
  let v131 : BitVec 32 := Scalar.shrui v130 c7_i32
  let v693 : Index := Scalar.indexCast v131
  let c256_313 : Index := 256#32
  let c0_314 : Index := 0#32
  ![0, v693.toNat, 256, 0]
def k0_off191 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v710 : Index := Scalar.indexCast v66
  let c0_317 : Index := 0#32
  let c16 : Index := 16#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v711 : Index := Scalar.indexCast v159
  let c0_318 : Index := 0#32
  ![v710.toNat, 0, 16, v711.toNat, 0]
def k0_off192 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v716 : Index := Scalar.indexCast v66
  let c0_319 : Index := 0#32
  let c17 : Index := 17#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v717 : Index := Scalar.indexCast v159
  let c0_320 : Index := 0#32
  ![v716.toNat, 0, 17, v717.toNat, 0]
def k0_off193 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v721 : Index := Scalar.indexCast v65
  let c1_321 : Index := 1#32
  let c0_i32_75 : BitVec 32 := 0#32
  let c1_i32_78 : BitVec 32 := 1#32
  let arg20 : BitVec 32 := Scf.iv c0_i32_75 c1_i32_78 k0_t16
  let v722 : Index := Scalar.indexCast arg20
  let c256_322 : Index := 256#32
  let c0_323 : Index := 0#32
  ![v721.toNat, 1, v722.toNat, 256, 0]
def k0_off194 (v130 : BitVec 32) : Fin 4 → Nat :=
  let c1_324 : Index := 1#32
  let c7_i32 : BitVec 32 := 7#32
  let v131 : BitVec 32 := Scalar.shrui v130 c7_i32
  let v726 : Index := Scalar.indexCast v131
  let c256_325 : Index := 256#32
  let c0_326 : Index := 0#32
  ![1, v726.toNat, 256, 0]
def k0_off195 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v743 : Index := Scalar.indexCast v66
  let c1_329 : Index := 1#32
  let c16_330 : Index := 16#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v744 : Index := Scalar.indexCast v159
  let c0_331 : Index := 0#32
  ![v743.toNat, 1, 16, v744.toNat, 0]
def k0_off196 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v749 : Index := Scalar.indexCast v66
  let c1_332 : Index := 1#32
  let c17_333 : Index := 17#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v750 : Index := Scalar.indexCast v159
  let c0_334 : Index := 0#32
  ![v749.toNat, 1, 17, v750.toNat, 0]
def k0_off197 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v754 : Index := Scalar.indexCast v65
  let c0_335 : Index := 0#32
  let c0_i32_75 : BitVec 32 := 0#32
  let c1_i32_78 : BitVec 32 := 1#32
  let arg20 : BitVec 32 := Scf.iv c0_i32_75 c1_i32_78 k0_t16
  let v755 : Index := Scalar.indexCast arg20
  let c288 : Index := 288#32
  let c0_336 : Index := 0#32
  ![v754.toNat, 0, v755.toNat, 288, 0]
def k0_off198 (v130 : BitVec 32) : Fin 4 → Nat :=
  let c0_337 : Index := 0#32
  let c7_i32 : BitVec 32 := 7#32
  let v131 : BitVec 32 := Scalar.shrui v130 c7_i32
  let v759 : Index := Scalar.indexCast v131
  let c288_338 : Index := 288#32
  let c0_339 : Index := 0#32
  ![0, v759.toNat, 288, 0]
def k0_off199 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v776 : Index := Scalar.indexCast v66
  let c0_342 : Index := 0#32
  let c18 : Index := 18#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v777 : Index := Scalar.indexCast v159
  let c0_343 : Index := 0#32
  ![v776.toNat, 0, 18, v777.toNat, 0]
def k0_off200 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v782 : Index := Scalar.indexCast v66
  let c0_344 : Index := 0#32
  let c19 : Index := 19#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v783 : Index := Scalar.indexCast v159
  let c0_345 : Index := 0#32
  ![v782.toNat, 0, 19, v783.toNat, 0]
def k0_off201 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v787 : Index := Scalar.indexCast v65
  let c1_346 : Index := 1#32
  let c0_i32_75 : BitVec 32 := 0#32
  let c1_i32_78 : BitVec 32 := 1#32
  let arg20 : BitVec 32 := Scf.iv c0_i32_75 c1_i32_78 k0_t16
  let v788 : Index := Scalar.indexCast arg20
  let c288_347 : Index := 288#32
  let c0_348 : Index := 0#32
  ![v787.toNat, 1, v788.toNat, 288, 0]
def k0_off202 (v130 : BitVec 32) : Fin 4 → Nat :=
  let c1_349 : Index := 1#32
  let c7_i32 : BitVec 32 := 7#32
  let v131 : BitVec 32 := Scalar.shrui v130 c7_i32
  let v792 : Index := Scalar.indexCast v131
  let c288_350 : Index := 288#32
  let c0_351 : Index := 0#32
  ![1, v792.toNat, 288, 0]
def k0_off203 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v809 : Index := Scalar.indexCast v66
  let c1_354 : Index := 1#32
  let c18_355 : Index := 18#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v810 : Index := Scalar.indexCast v159
  let c0_356 : Index := 0#32
  ![v809.toNat, 1, 18, v810.toNat, 0]
def k0_off204 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v815 : Index := Scalar.indexCast v66
  let c1_357 : Index := 1#32
  let c19_358 : Index := 19#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v816 : Index := Scalar.indexCast v159
  let c0_359 : Index := 0#32
  ![v815.toNat, 1, 19, v816.toNat, 0]
def k0_off205 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v820 : Index := Scalar.indexCast v65
  let c0_360 : Index := 0#32
  let c0_i32_75 : BitVec 32 := 0#32
  let c1_i32_78 : BitVec 32 := 1#32
  let arg20 : BitVec 32 := Scf.iv c0_i32_75 c1_i32_78 k0_t16
  let v821 : Index := Scalar.indexCast arg20
  let c320 : Index := 320#32
  let c0_361 : Index := 0#32
  ![v820.toNat, 0, v821.toNat, 320, 0]
def k0_off206 (v130 : BitVec 32) : Fin 4 → Nat :=
  let c0_362 : Index := 0#32
  let c7_i32 : BitVec 32 := 7#32
  let v131 : BitVec 32 := Scalar.shrui v130 c7_i32
  let v825 : Index := Scalar.indexCast v131
  let c320_363 : Index := 320#32
  let c0_364 : Index := 0#32
  ![0, v825.toNat, 320, 0]
def k0_off207 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v842 : Index := Scalar.indexCast v66
  let c0_367 : Index := 0#32
  let c20 : Index := 20#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v843 : Index := Scalar.indexCast v159
  let c0_368 : Index := 0#32
  ![v842.toNat, 0, 20, v843.toNat, 0]
def k0_off208 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v848 : Index := Scalar.indexCast v66
  let c0_369 : Index := 0#32
  let c21 : Index := 21#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v849 : Index := Scalar.indexCast v159
  let c0_370 : Index := 0#32
  ![v848.toNat, 0, 21, v849.toNat, 0]
def k0_off209 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v853 : Index := Scalar.indexCast v65
  let c1_371 : Index := 1#32
  let c0_i32_75 : BitVec 32 := 0#32
  let c1_i32_78 : BitVec 32 := 1#32
  let arg20 : BitVec 32 := Scf.iv c0_i32_75 c1_i32_78 k0_t16
  let v854 : Index := Scalar.indexCast arg20
  let c320_372 : Index := 320#32
  let c0_373 : Index := 0#32
  ![v853.toNat, 1, v854.toNat, 320, 0]
def k0_off210 (v130 : BitVec 32) : Fin 4 → Nat :=
  let c1_374 : Index := 1#32
  let c7_i32 : BitVec 32 := 7#32
  let v131 : BitVec 32 := Scalar.shrui v130 c7_i32
  let v858 : Index := Scalar.indexCast v131
  let c320_375 : Index := 320#32
  let c0_376 : Index := 0#32
  ![1, v858.toNat, 320, 0]
def k0_off211 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v875 : Index := Scalar.indexCast v66
  let c1_379 : Index := 1#32
  let c20_380 : Index := 20#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v876 : Index := Scalar.indexCast v159
  let c0_381 : Index := 0#32
  ![v875.toNat, 1, 20, v876.toNat, 0]
def k0_off212 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v881 : Index := Scalar.indexCast v66
  let c1_382 : Index := 1#32
  let c21_383 : Index := 21#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v882 : Index := Scalar.indexCast v159
  let c0_384 : Index := 0#32
  ![v881.toNat, 1, 21, v882.toNat, 0]
def k0_off213 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v886 : Index := Scalar.indexCast v65
  let c0_385 : Index := 0#32
  let c0_i32_75 : BitVec 32 := 0#32
  let c1_i32_78 : BitVec 32 := 1#32
  let arg20 : BitVec 32 := Scf.iv c0_i32_75 c1_i32_78 k0_t16
  let v887 : Index := Scalar.indexCast arg20
  let c352 : Index := 352#32
  let c0_386 : Index := 0#32
  ![v886.toNat, 0, v887.toNat, 352, 0]
def k0_off214 (v130 : BitVec 32) : Fin 4 → Nat :=
  let c0_387 : Index := 0#32
  let c7_i32 : BitVec 32 := 7#32
  let v131 : BitVec 32 := Scalar.shrui v130 c7_i32
  let v891 : Index := Scalar.indexCast v131
  let c352_388 : Index := 352#32
  let c0_389 : Index := 0#32
  ![0, v891.toNat, 352, 0]
def k0_off215 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v908 : Index := Scalar.indexCast v66
  let c0_392 : Index := 0#32
  let c22 : Index := 22#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v909 : Index := Scalar.indexCast v159
  let c0_393 : Index := 0#32
  ![v908.toNat, 0, 22, v909.toNat, 0]
def k0_off216 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v914 : Index := Scalar.indexCast v66
  let c0_394 : Index := 0#32
  let c23 : Index := 23#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v915 : Index := Scalar.indexCast v159
  let c0_395 : Index := 0#32
  ![v914.toNat, 0, 23, v915.toNat, 0]
def k0_off217 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v919 : Index := Scalar.indexCast v65
  let c1_396 : Index := 1#32
  let c0_i32_75 : BitVec 32 := 0#32
  let c1_i32_78 : BitVec 32 := 1#32
  let arg20 : BitVec 32 := Scf.iv c0_i32_75 c1_i32_78 k0_t16
  let v920 : Index := Scalar.indexCast arg20
  let c352_397 : Index := 352#32
  let c0_398 : Index := 0#32
  ![v919.toNat, 1, v920.toNat, 352, 0]
def k0_off218 (v130 : BitVec 32) : Fin 4 → Nat :=
  let c1_399 : Index := 1#32
  let c7_i32 : BitVec 32 := 7#32
  let v131 : BitVec 32 := Scalar.shrui v130 c7_i32
  let v924 : Index := Scalar.indexCast v131
  let c352_400 : Index := 352#32
  let c0_401 : Index := 0#32
  ![1, v924.toNat, 352, 0]
def k0_off219 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v941 : Index := Scalar.indexCast v66
  let c1_404 : Index := 1#32
  let c22_405 : Index := 22#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v942 : Index := Scalar.indexCast v159
  let c0_406 : Index := 0#32
  ![v941.toNat, 1, 22, v942.toNat, 0]
def k0_off220 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v947 : Index := Scalar.indexCast v66
  let c1_407 : Index := 1#32
  let c23_408 : Index := 23#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v948 : Index := Scalar.indexCast v159
  let c0_409 : Index := 0#32
  ![v947.toNat, 1, 23, v948.toNat, 0]
def k0_off221 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v952 : Index := Scalar.indexCast v65
  let c0_410 : Index := 0#32
  let c0_i32_75 : BitVec 32 := 0#32
  let c1_i32_78 : BitVec 32 := 1#32
  let arg20 : BitVec 32 := Scf.iv c0_i32_75 c1_i32_78 k0_t16
  let v953 : Index := Scalar.indexCast arg20
  let c384 : Index := 384#32
  let c0_411 : Index := 0#32
  ![v952.toNat, 0, v953.toNat, 384, 0]
def k0_off222 (v130 : BitVec 32) : Fin 4 → Nat :=
  let c0_412 : Index := 0#32
  let c7_i32 : BitVec 32 := 7#32
  let v131 : BitVec 32 := Scalar.shrui v130 c7_i32
  let v957 : Index := Scalar.indexCast v131
  let c384_413 : Index := 384#32
  let c0_414 : Index := 0#32
  ![0, v957.toNat, 384, 0]
def k0_off223 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v974 : Index := Scalar.indexCast v66
  let c0_417 : Index := 0#32
  let c24 : Index := 24#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v975 : Index := Scalar.indexCast v159
  let c0_418 : Index := 0#32
  ![v974.toNat, 0, 24, v975.toNat, 0]
def k0_off224 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v980 : Index := Scalar.indexCast v66
  let c0_419 : Index := 0#32
  let c25 : Index := 25#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v981 : Index := Scalar.indexCast v159
  let c0_420 : Index := 0#32
  ![v980.toNat, 0, 25, v981.toNat, 0]
def k0_off225 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v985 : Index := Scalar.indexCast v65
  let c1_421 : Index := 1#32
  let c0_i32_75 : BitVec 32 := 0#32
  let c1_i32_78 : BitVec 32 := 1#32
  let arg20 : BitVec 32 := Scf.iv c0_i32_75 c1_i32_78 k0_t16
  let v986 : Index := Scalar.indexCast arg20
  let c384_422 : Index := 384#32
  let c0_423 : Index := 0#32
  ![v985.toNat, 1, v986.toNat, 384, 0]
def k0_off226 (v130 : BitVec 32) : Fin 4 → Nat :=
  let c1_424 : Index := 1#32
  let c7_i32 : BitVec 32 := 7#32
  let v131 : BitVec 32 := Scalar.shrui v130 c7_i32
  let v990 : Index := Scalar.indexCast v131
  let c384_425 : Index := 384#32
  let c0_426 : Index := 0#32
  ![1, v990.toNat, 384, 0]
def k0_off227 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1007 : Index := Scalar.indexCast v66
  let c1_429 : Index := 1#32
  let c24_430 : Index := 24#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1008 : Index := Scalar.indexCast v159
  let c0_431 : Index := 0#32
  ![v1007.toNat, 1, 24, v1008.toNat, 0]
def k0_off228 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1013 : Index := Scalar.indexCast v66
  let c1_432 : Index := 1#32
  let c25_433 : Index := 25#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1014 : Index := Scalar.indexCast v159
  let c0_434 : Index := 0#32
  ![v1013.toNat, 1, 25, v1014.toNat, 0]
def k0_off229 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1018 : Index := Scalar.indexCast v65
  let c0_435 : Index := 0#32
  let c0_i32_75 : BitVec 32 := 0#32
  let c1_i32_78 : BitVec 32 := 1#32
  let arg20 : BitVec 32 := Scf.iv c0_i32_75 c1_i32_78 k0_t16
  let v1019 : Index := Scalar.indexCast arg20
  let c416 : Index := 416#32
  let c0_436 : Index := 0#32
  ![v1018.toNat, 0, v1019.toNat, 416, 0]
def k0_off230 (v130 : BitVec 32) : Fin 4 → Nat :=
  let c0_437 : Index := 0#32
  let c7_i32 : BitVec 32 := 7#32
  let v131 : BitVec 32 := Scalar.shrui v130 c7_i32
  let v1023 : Index := Scalar.indexCast v131
  let c416_438 : Index := 416#32
  let c0_439 : Index := 0#32
  ![0, v1023.toNat, 416, 0]
def k0_off231 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1040 : Index := Scalar.indexCast v66
  let c0_442 : Index := 0#32
  let c26 : Index := 26#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1041 : Index := Scalar.indexCast v159
  let c0_443 : Index := 0#32
  ![v1040.toNat, 0, 26, v1041.toNat, 0]
def k0_off232 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1046 : Index := Scalar.indexCast v66
  let c0_444 : Index := 0#32
  let c27 : Index := 27#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1047 : Index := Scalar.indexCast v159
  let c0_445 : Index := 0#32
  ![v1046.toNat, 0, 27, v1047.toNat, 0]
def k0_off233 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1051 : Index := Scalar.indexCast v65
  let c1_446 : Index := 1#32
  let c0_i32_75 : BitVec 32 := 0#32
  let c1_i32_78 : BitVec 32 := 1#32
  let arg20 : BitVec 32 := Scf.iv c0_i32_75 c1_i32_78 k0_t16
  let v1052 : Index := Scalar.indexCast arg20
  let c416_447 : Index := 416#32
  let c0_448 : Index := 0#32
  ![v1051.toNat, 1, v1052.toNat, 416, 0]
def k0_off234 (v130 : BitVec 32) : Fin 4 → Nat :=
  let c1_449 : Index := 1#32
  let c7_i32 : BitVec 32 := 7#32
  let v131 : BitVec 32 := Scalar.shrui v130 c7_i32
  let v1056 : Index := Scalar.indexCast v131
  let c416_450 : Index := 416#32
  let c0_451 : Index := 0#32
  ![1, v1056.toNat, 416, 0]
def k0_off235 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1073 : Index := Scalar.indexCast v66
  let c1_454 : Index := 1#32
  let c26_455 : Index := 26#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1074 : Index := Scalar.indexCast v159
  let c0_456 : Index := 0#32
  ![v1073.toNat, 1, 26, v1074.toNat, 0]
def k0_off236 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1079 : Index := Scalar.indexCast v66
  let c1_457 : Index := 1#32
  let c27_458 : Index := 27#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1080 : Index := Scalar.indexCast v159
  let c0_459 : Index := 0#32
  ![v1079.toNat, 1, 27, v1080.toNat, 0]
def k0_off237 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1084 : Index := Scalar.indexCast v65
  let c0_460 : Index := 0#32
  let c0_i32_75 : BitVec 32 := 0#32
  let c1_i32_78 : BitVec 32 := 1#32
  let arg20 : BitVec 32 := Scf.iv c0_i32_75 c1_i32_78 k0_t16
  let v1085 : Index := Scalar.indexCast arg20
  let c448 : Index := 448#32
  let c0_461 : Index := 0#32
  ![v1084.toNat, 0, v1085.toNat, 448, 0]
def k0_off238 (v130 : BitVec 32) : Fin 4 → Nat :=
  let c0_462 : Index := 0#32
  let c7_i32 : BitVec 32 := 7#32
  let v131 : BitVec 32 := Scalar.shrui v130 c7_i32
  let v1089 : Index := Scalar.indexCast v131
  let c448_463 : Index := 448#32
  let c0_464 : Index := 0#32
  ![0, v1089.toNat, 448, 0]
def k0_off239 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1106 : Index := Scalar.indexCast v66
  let c0_467 : Index := 0#32
  let c28 : Index := 28#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1107 : Index := Scalar.indexCast v159
  let c0_468 : Index := 0#32
  ![v1106.toNat, 0, 28, v1107.toNat, 0]
def k0_off240 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1112 : Index := Scalar.indexCast v66
  let c0_469 : Index := 0#32
  let c29 : Index := 29#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1113 : Index := Scalar.indexCast v159
  let c0_470 : Index := 0#32
  ![v1112.toNat, 0, 29, v1113.toNat, 0]
def k0_off241 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1117 : Index := Scalar.indexCast v65
  let c1_471 : Index := 1#32
  let c0_i32_75 : BitVec 32 := 0#32
  let c1_i32_78 : BitVec 32 := 1#32
  let arg20 : BitVec 32 := Scf.iv c0_i32_75 c1_i32_78 k0_t16
  let v1118 : Index := Scalar.indexCast arg20
  let c448_472 : Index := 448#32
  let c0_473 : Index := 0#32
  ![v1117.toNat, 1, v1118.toNat, 448, 0]
def k0_off242 (v130 : BitVec 32) : Fin 4 → Nat :=
  let c1_474 : Index := 1#32
  let c7_i32 : BitVec 32 := 7#32
  let v131 : BitVec 32 := Scalar.shrui v130 c7_i32
  let v1122 : Index := Scalar.indexCast v131
  let c448_475 : Index := 448#32
  let c0_476 : Index := 0#32
  ![1, v1122.toNat, 448, 0]
def k0_off243 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1139 : Index := Scalar.indexCast v66
  let c1_479 : Index := 1#32
  let c28_480 : Index := 28#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1140 : Index := Scalar.indexCast v159
  let c0_481 : Index := 0#32
  ![v1139.toNat, 1, 28, v1140.toNat, 0]
def k0_off244 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1145 : Index := Scalar.indexCast v66
  let c1_482 : Index := 1#32
  let c29_483 : Index := 29#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1146 : Index := Scalar.indexCast v159
  let c0_484 : Index := 0#32
  ![v1145.toNat, 1, 29, v1146.toNat, 0]
def k0_off245 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1150 : Index := Scalar.indexCast v65
  let c0_485 : Index := 0#32
  let c0_i32_75 : BitVec 32 := 0#32
  let c1_i32_78 : BitVec 32 := 1#32
  let arg20 : BitVec 32 := Scf.iv c0_i32_75 c1_i32_78 k0_t16
  let v1151 : Index := Scalar.indexCast arg20
  let c480 : Index := 480#32
  let c0_486 : Index := 0#32
  ![v1150.toNat, 0, v1151.toNat, 480, 0]
def k0_off246 (v130 : BitVec 32) : Fin 4 → Nat :=
  let c0_487 : Index := 0#32
  let c7_i32 : BitVec 32 := 7#32
  let v131 : BitVec 32 := Scalar.shrui v130 c7_i32
  let v1155 : Index := Scalar.indexCast v131
  let c480_488 : Index := 480#32
  let c0_489 : Index := 0#32
  ![0, v1155.toNat, 480, 0]
def k0_off247 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1172 : Index := Scalar.indexCast v66
  let c0_492 : Index := 0#32
  let c30 : Index := 30#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1173 : Index := Scalar.indexCast v159
  let c0_493 : Index := 0#32
  ![v1172.toNat, 0, 30, v1173.toNat, 0]
def k0_off248 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1178 : Index := Scalar.indexCast v66
  let c0_494 : Index := 0#32
  let c31 : Index := 31#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1179 : Index := Scalar.indexCast v159
  let c0_495 : Index := 0#32
  ![v1178.toNat, 0, 31, v1179.toNat, 0]
def k0_off249 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1183 : Index := Scalar.indexCast v65
  let c1_496 : Index := 1#32
  let c0_i32_75 : BitVec 32 := 0#32
  let c1_i32_78 : BitVec 32 := 1#32
  let arg20 : BitVec 32 := Scf.iv c0_i32_75 c1_i32_78 k0_t16
  let v1184 : Index := Scalar.indexCast arg20
  let c480_497 : Index := 480#32
  let c0_498 : Index := 0#32
  ![v1183.toNat, 1, v1184.toNat, 480, 0]
def k0_off250 (v130 : BitVec 32) : Fin 4 → Nat :=
  let c1_499 : Index := 1#32
  let c7_i32 : BitVec 32 := 7#32
  let v131 : BitVec 32 := Scalar.shrui v130 c7_i32
  let v1188 : Index := Scalar.indexCast v131
  let c480_500 : Index := 480#32
  let c0_501 : Index := 0#32
  ![1, v1188.toNat, 480, 0]
def k0_off251 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1205 : Index := Scalar.indexCast v66
  let c1_504 : Index := 1#32
  let c30_505 : Index := 30#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1206 : Index := Scalar.indexCast v159
  let c0_506 : Index := 0#32
  ![v1205.toNat, 1, 30, v1206.toNat, 0]
def k0_off252 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1211 : Index := Scalar.indexCast v66
  let c1_507 : Index := 1#32
  let c31_508 : Index := 31#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1212 : Index := Scalar.indexCast v159
  let c0_509 : Index := 0#32
  ![v1211.toNat, 1, 31, v1212.toNat, 0]
def k0_off253 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1216 : Index := Scalar.indexCast v65
  let c0_510 : Index := 0#32
  let c0_i32_75 : BitVec 32 := 0#32
  let c1_i32_78 : BitVec 32 := 1#32
  let arg20 : BitVec 32 := Scf.iv c0_i32_75 c1_i32_78 k0_t16
  let v1217 : Index := Scalar.indexCast arg20
  let c512 : Index := 512#32
  let c0_511 : Index := 0#32
  ![v1216.toNat, 0, v1217.toNat, 512, 0]
def k0_off254 (v130 : BitVec 32) : Fin 4 → Nat :=
  let c0_512 : Index := 0#32
  let c7_i32 : BitVec 32 := 7#32
  let v131 : BitVec 32 := Scalar.shrui v130 c7_i32
  let v1221 : Index := Scalar.indexCast v131
  let c512_513 : Index := 512#32
  let c0_514 : Index := 0#32
  ![0, v1221.toNat, 512, 0]
def k0_off255 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1238 : Index := Scalar.indexCast v66
  let c0_517 : Index := 0#32
  let c32_518 : Index := 32#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1239 : Index := Scalar.indexCast v159
  let c0_519 : Index := 0#32
  ![v1238.toNat, 0, 32, v1239.toNat, 0]
def k0_off256 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1244 : Index := Scalar.indexCast v66
  let c0_520 : Index := 0#32
  let c33 : Index := 33#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1245 : Index := Scalar.indexCast v159
  let c0_521 : Index := 0#32
  ![v1244.toNat, 0, 33, v1245.toNat, 0]
def k0_off257 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1249 : Index := Scalar.indexCast v65
  let c1_522 : Index := 1#32
  let c0_i32_75 : BitVec 32 := 0#32
  let c1_i32_78 : BitVec 32 := 1#32
  let arg20 : BitVec 32 := Scf.iv c0_i32_75 c1_i32_78 k0_t16
  let v1250 : Index := Scalar.indexCast arg20
  let c512_523 : Index := 512#32
  let c0_524 : Index := 0#32
  ![v1249.toNat, 1, v1250.toNat, 512, 0]
def k0_off258 (v130 : BitVec 32) : Fin 4 → Nat :=
  let c1_525 : Index := 1#32
  let c7_i32 : BitVec 32 := 7#32
  let v131 : BitVec 32 := Scalar.shrui v130 c7_i32
  let v1254 : Index := Scalar.indexCast v131
  let c512_526 : Index := 512#32
  let c0_527 : Index := 0#32
  ![1, v1254.toNat, 512, 0]
def k0_off259 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1271 : Index := Scalar.indexCast v66
  let c1_530 : Index := 1#32
  let c32_531 : Index := 32#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1272 : Index := Scalar.indexCast v159
  let c0_532 : Index := 0#32
  ![v1271.toNat, 1, 32, v1272.toNat, 0]
def k0_off260 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1277 : Index := Scalar.indexCast v66
  let c1_533 : Index := 1#32
  let c33_534 : Index := 33#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1278 : Index := Scalar.indexCast v159
  let c0_535 : Index := 0#32
  ![v1277.toNat, 1, 33, v1278.toNat, 0]
def k0_off261 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1282 : Index := Scalar.indexCast v65
  let c0_536 : Index := 0#32
  let c0_i32_75 : BitVec 32 := 0#32
  let c1_i32_78 : BitVec 32 := 1#32
  let arg20 : BitVec 32 := Scf.iv c0_i32_75 c1_i32_78 k0_t16
  let v1283 : Index := Scalar.indexCast arg20
  let c544 : Index := 544#32
  let c0_537 : Index := 0#32
  ![v1282.toNat, 0, v1283.toNat, 544, 0]
def k0_off262 (v130 : BitVec 32) : Fin 4 → Nat :=
  let c0_538 : Index := 0#32
  let c7_i32 : BitVec 32 := 7#32
  let v131 : BitVec 32 := Scalar.shrui v130 c7_i32
  let v1287 : Index := Scalar.indexCast v131
  let c544_539 : Index := 544#32
  let c0_540 : Index := 0#32
  ![0, v1287.toNat, 544, 0]
def k0_off263 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1304 : Index := Scalar.indexCast v66
  let c0_543 : Index := 0#32
  let c34 : Index := 34#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1305 : Index := Scalar.indexCast v159
  let c0_544 : Index := 0#32
  ![v1304.toNat, 0, 34, v1305.toNat, 0]
def k0_off264 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1310 : Index := Scalar.indexCast v66
  let c0_545 : Index := 0#32
  let c35 : Index := 35#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1311 : Index := Scalar.indexCast v159
  let c0_546 : Index := 0#32
  ![v1310.toNat, 0, 35, v1311.toNat, 0]
def k0_off265 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1315 : Index := Scalar.indexCast v65
  let c1_547 : Index := 1#32
  let c0_i32_75 : BitVec 32 := 0#32
  let c1_i32_78 : BitVec 32 := 1#32
  let arg20 : BitVec 32 := Scf.iv c0_i32_75 c1_i32_78 k0_t16
  let v1316 : Index := Scalar.indexCast arg20
  let c544_548 : Index := 544#32
  let c0_549 : Index := 0#32
  ![v1315.toNat, 1, v1316.toNat, 544, 0]
def k0_off266 (v130 : BitVec 32) : Fin 4 → Nat :=
  let c1_550 : Index := 1#32
  let c7_i32 : BitVec 32 := 7#32
  let v131 : BitVec 32 := Scalar.shrui v130 c7_i32
  let v1320 : Index := Scalar.indexCast v131
  let c544_551 : Index := 544#32
  let c0_552 : Index := 0#32
  ![1, v1320.toNat, 544, 0]
def k0_off267 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1337 : Index := Scalar.indexCast v66
  let c1_555 : Index := 1#32
  let c34_556 : Index := 34#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1338 : Index := Scalar.indexCast v159
  let c0_557 : Index := 0#32
  ![v1337.toNat, 1, 34, v1338.toNat, 0]
def k0_off268 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1343 : Index := Scalar.indexCast v66
  let c1_558 : Index := 1#32
  let c35_559 : Index := 35#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1344 : Index := Scalar.indexCast v159
  let c0_560 : Index := 0#32
  ![v1343.toNat, 1, 35, v1344.toNat, 0]
def k0_off269 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1348 : Index := Scalar.indexCast v65
  let c0_561 : Index := 0#32
  let c0_i32_75 : BitVec 32 := 0#32
  let c1_i32_78 : BitVec 32 := 1#32
  let arg20 : BitVec 32 := Scf.iv c0_i32_75 c1_i32_78 k0_t16
  let v1349 : Index := Scalar.indexCast arg20
  let c576 : Index := 576#32
  let c0_562 : Index := 0#32
  ![v1348.toNat, 0, v1349.toNat, 576, 0]
def k0_off270 (v130 : BitVec 32) : Fin 4 → Nat :=
  let c0_563 : Index := 0#32
  let c7_i32 : BitVec 32 := 7#32
  let v131 : BitVec 32 := Scalar.shrui v130 c7_i32
  let v1353 : Index := Scalar.indexCast v131
  let c576_564 : Index := 576#32
  let c0_565 : Index := 0#32
  ![0, v1353.toNat, 576, 0]
def k0_off271 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1370 : Index := Scalar.indexCast v66
  let c0_568 : Index := 0#32
  let c36 : Index := 36#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1371 : Index := Scalar.indexCast v159
  let c0_569 : Index := 0#32
  ![v1370.toNat, 0, 36, v1371.toNat, 0]
def k0_off272 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1376 : Index := Scalar.indexCast v66
  let c0_570 : Index := 0#32
  let c37 : Index := 37#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1377 : Index := Scalar.indexCast v159
  let c0_571 : Index := 0#32
  ![v1376.toNat, 0, 37, v1377.toNat, 0]
def k0_off273 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1381 : Index := Scalar.indexCast v65
  let c1_572 : Index := 1#32
  let c0_i32_75 : BitVec 32 := 0#32
  let c1_i32_78 : BitVec 32 := 1#32
  let arg20 : BitVec 32 := Scf.iv c0_i32_75 c1_i32_78 k0_t16
  let v1382 : Index := Scalar.indexCast arg20
  let c576_573 : Index := 576#32
  let c0_574 : Index := 0#32
  ![v1381.toNat, 1, v1382.toNat, 576, 0]
def k0_off274 (v130 : BitVec 32) : Fin 4 → Nat :=
  let c1_575 : Index := 1#32
  let c7_i32 : BitVec 32 := 7#32
  let v131 : BitVec 32 := Scalar.shrui v130 c7_i32
  let v1386 : Index := Scalar.indexCast v131
  let c576_576 : Index := 576#32
  let c0_577 : Index := 0#32
  ![1, v1386.toNat, 576, 0]
def k0_off275 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1403 : Index := Scalar.indexCast v66
  let c1_580 : Index := 1#32
  let c36_581 : Index := 36#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1404 : Index := Scalar.indexCast v159
  let c0_582 : Index := 0#32
  ![v1403.toNat, 1, 36, v1404.toNat, 0]
def k0_off276 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1409 : Index := Scalar.indexCast v66
  let c1_583 : Index := 1#32
  let c37_584 : Index := 37#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1410 : Index := Scalar.indexCast v159
  let c0_585 : Index := 0#32
  ![v1409.toNat, 1, 37, v1410.toNat, 0]
def k0_off277 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1414 : Index := Scalar.indexCast v65
  let c0_586 : Index := 0#32
  let c0_i32_75 : BitVec 32 := 0#32
  let c1_i32_78 : BitVec 32 := 1#32
  let arg20 : BitVec 32 := Scf.iv c0_i32_75 c1_i32_78 k0_t16
  let v1415 : Index := Scalar.indexCast arg20
  let c608 : Index := 608#32
  let c0_587 : Index := 0#32
  ![v1414.toNat, 0, v1415.toNat, 608, 0]
def k0_off278 (v130 : BitVec 32) : Fin 4 → Nat :=
  let c0_588 : Index := 0#32
  let c7_i32 : BitVec 32 := 7#32
  let v131 : BitVec 32 := Scalar.shrui v130 c7_i32
  let v1419 : Index := Scalar.indexCast v131
  let c608_589 : Index := 608#32
  let c0_590 : Index := 0#32
  ![0, v1419.toNat, 608, 0]
def k0_off279 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1436 : Index := Scalar.indexCast v66
  let c0_593 : Index := 0#32
  let c38 : Index := 38#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1437 : Index := Scalar.indexCast v159
  let c0_594 : Index := 0#32
  ![v1436.toNat, 0, 38, v1437.toNat, 0]
def k0_off280 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1442 : Index := Scalar.indexCast v66
  let c0_595 : Index := 0#32
  let c39 : Index := 39#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1443 : Index := Scalar.indexCast v159
  let c0_596 : Index := 0#32
  ![v1442.toNat, 0, 39, v1443.toNat, 0]
def k0_off281 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1447 : Index := Scalar.indexCast v65
  let c1_597 : Index := 1#32
  let c0_i32_75 : BitVec 32 := 0#32
  let c1_i32_78 : BitVec 32 := 1#32
  let arg20 : BitVec 32 := Scf.iv c0_i32_75 c1_i32_78 k0_t16
  let v1448 : Index := Scalar.indexCast arg20
  let c608_598 : Index := 608#32
  let c0_599 : Index := 0#32
  ![v1447.toNat, 1, v1448.toNat, 608, 0]
def k0_off282 (v130 : BitVec 32) : Fin 4 → Nat :=
  let c1_600 : Index := 1#32
  let c7_i32 : BitVec 32 := 7#32
  let v131 : BitVec 32 := Scalar.shrui v130 c7_i32
  let v1452 : Index := Scalar.indexCast v131
  let c608_601 : Index := 608#32
  let c0_602 : Index := 0#32
  ![1, v1452.toNat, 608, 0]
def k0_off283 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1469 : Index := Scalar.indexCast v66
  let c1_605 : Index := 1#32
  let c38_606 : Index := 38#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1470 : Index := Scalar.indexCast v159
  let c0_607 : Index := 0#32
  ![v1469.toNat, 1, 38, v1470.toNat, 0]
def k0_off284 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1475 : Index := Scalar.indexCast v66
  let c1_608 : Index := 1#32
  let c39_609 : Index := 39#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1476 : Index := Scalar.indexCast v159
  let c0_610 : Index := 0#32
  ![v1475.toNat, 1, 39, v1476.toNat, 0]
def k0_off285 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1480 : Index := Scalar.indexCast v65
  let c0_611 : Index := 0#32
  let c0_i32_75 : BitVec 32 := 0#32
  let c1_i32_78 : BitVec 32 := 1#32
  let arg20 : BitVec 32 := Scf.iv c0_i32_75 c1_i32_78 k0_t16
  let v1481 : Index := Scalar.indexCast arg20
  let c640 : Index := 640#32
  let c0_612 : Index := 0#32
  ![v1480.toNat, 0, v1481.toNat, 640, 0]
def k0_off286 (v130 : BitVec 32) : Fin 4 → Nat :=
  let c0_613 : Index := 0#32
  let c7_i32 : BitVec 32 := 7#32
  let v131 : BitVec 32 := Scalar.shrui v130 c7_i32
  let v1485 : Index := Scalar.indexCast v131
  let c640_614 : Index := 640#32
  let c0_615 : Index := 0#32
  ![0, v1485.toNat, 640, 0]
def k0_off287 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1502 : Index := Scalar.indexCast v66
  let c0_618 : Index := 0#32
  let c40 : Index := 40#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1503 : Index := Scalar.indexCast v159
  let c0_619 : Index := 0#32
  ![v1502.toNat, 0, 40, v1503.toNat, 0]
def k0_off288 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1508 : Index := Scalar.indexCast v66
  let c0_620 : Index := 0#32
  let c41 : Index := 41#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1509 : Index := Scalar.indexCast v159
  let c0_621 : Index := 0#32
  ![v1508.toNat, 0, 41, v1509.toNat, 0]
def k0_off289 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1513 : Index := Scalar.indexCast v65
  let c1_622 : Index := 1#32
  let c0_i32_75 : BitVec 32 := 0#32
  let c1_i32_78 : BitVec 32 := 1#32
  let arg20 : BitVec 32 := Scf.iv c0_i32_75 c1_i32_78 k0_t16
  let v1514 : Index := Scalar.indexCast arg20
  let c640_623 : Index := 640#32
  let c0_624 : Index := 0#32
  ![v1513.toNat, 1, v1514.toNat, 640, 0]
def k0_off290 (v130 : BitVec 32) : Fin 4 → Nat :=
  let c1_625 : Index := 1#32
  let c7_i32 : BitVec 32 := 7#32
  let v131 : BitVec 32 := Scalar.shrui v130 c7_i32
  let v1518 : Index := Scalar.indexCast v131
  let c640_626 : Index := 640#32
  let c0_627 : Index := 0#32
  ![1, v1518.toNat, 640, 0]
def k0_off291 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1535 : Index := Scalar.indexCast v66
  let c1_630 : Index := 1#32
  let c40_631 : Index := 40#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1536 : Index := Scalar.indexCast v159
  let c0_632 : Index := 0#32
  ![v1535.toNat, 1, 40, v1536.toNat, 0]
def k0_off292 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1541 : Index := Scalar.indexCast v66
  let c1_633 : Index := 1#32
  let c41_634 : Index := 41#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1542 : Index := Scalar.indexCast v159
  let c0_635 : Index := 0#32
  ![v1541.toNat, 1, 41, v1542.toNat, 0]
def k0_off293 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1546 : Index := Scalar.indexCast v65
  let c0_636 : Index := 0#32
  let c0_i32_75 : BitVec 32 := 0#32
  let c1_i32_78 : BitVec 32 := 1#32
  let arg20 : BitVec 32 := Scf.iv c0_i32_75 c1_i32_78 k0_t16
  let v1547 : Index := Scalar.indexCast arg20
  let c672 : Index := 672#32
  let c0_637 : Index := 0#32
  ![v1546.toNat, 0, v1547.toNat, 672, 0]
def k0_off294 (v130 : BitVec 32) : Fin 4 → Nat :=
  let c0_638 : Index := 0#32
  let c7_i32 : BitVec 32 := 7#32
  let v131 : BitVec 32 := Scalar.shrui v130 c7_i32
  let v1551 : Index := Scalar.indexCast v131
  let c672_639 : Index := 672#32
  let c0_640 : Index := 0#32
  ![0, v1551.toNat, 672, 0]
def k0_off295 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1568 : Index := Scalar.indexCast v66
  let c0_643 : Index := 0#32
  let c42 : Index := 42#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1569 : Index := Scalar.indexCast v159
  let c0_644 : Index := 0#32
  ![v1568.toNat, 0, 42, v1569.toNat, 0]
def k0_off296 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1574 : Index := Scalar.indexCast v66
  let c0_645 : Index := 0#32
  let c43 : Index := 43#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1575 : Index := Scalar.indexCast v159
  let c0_646 : Index := 0#32
  ![v1574.toNat, 0, 43, v1575.toNat, 0]
def k0_off297 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1579 : Index := Scalar.indexCast v65
  let c1_647 : Index := 1#32
  let c0_i32_75 : BitVec 32 := 0#32
  let c1_i32_78 : BitVec 32 := 1#32
  let arg20 : BitVec 32 := Scf.iv c0_i32_75 c1_i32_78 k0_t16
  let v1580 : Index := Scalar.indexCast arg20
  let c672_648 : Index := 672#32
  let c0_649 : Index := 0#32
  ![v1579.toNat, 1, v1580.toNat, 672, 0]
def k0_off298 (v130 : BitVec 32) : Fin 4 → Nat :=
  let c1_650 : Index := 1#32
  let c7_i32 : BitVec 32 := 7#32
  let v131 : BitVec 32 := Scalar.shrui v130 c7_i32
  let v1584 : Index := Scalar.indexCast v131
  let c672_651 : Index := 672#32
  let c0_652 : Index := 0#32
  ![1, v1584.toNat, 672, 0]
def k0_off299 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1601 : Index := Scalar.indexCast v66
  let c1_655 : Index := 1#32
  let c42_656 : Index := 42#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1602 : Index := Scalar.indexCast v159
  let c0_657 : Index := 0#32
  ![v1601.toNat, 1, 42, v1602.toNat, 0]
def k0_off300 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1607 : Index := Scalar.indexCast v66
  let c1_658 : Index := 1#32
  let c43_659 : Index := 43#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1608 : Index := Scalar.indexCast v159
  let c0_660 : Index := 0#32
  ![v1607.toNat, 1, 43, v1608.toNat, 0]
def k0_off301 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1612 : Index := Scalar.indexCast v65
  let c0_661 : Index := 0#32
  let c0_i32_75 : BitVec 32 := 0#32
  let c1_i32_78 : BitVec 32 := 1#32
  let arg20 : BitVec 32 := Scf.iv c0_i32_75 c1_i32_78 k0_t16
  let v1613 : Index := Scalar.indexCast arg20
  let c704 : Index := 704#32
  let c0_662 : Index := 0#32
  ![v1612.toNat, 0, v1613.toNat, 704, 0]
def k0_off302 (v130 : BitVec 32) : Fin 4 → Nat :=
  let c0_663 : Index := 0#32
  let c7_i32 : BitVec 32 := 7#32
  let v131 : BitVec 32 := Scalar.shrui v130 c7_i32
  let v1617 : Index := Scalar.indexCast v131
  let c704_664 : Index := 704#32
  let c0_665 : Index := 0#32
  ![0, v1617.toNat, 704, 0]
def k0_off303 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1634 : Index := Scalar.indexCast v66
  let c0_668 : Index := 0#32
  let c44 : Index := 44#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1635 : Index := Scalar.indexCast v159
  let c0_669 : Index := 0#32
  ![v1634.toNat, 0, 44, v1635.toNat, 0]
def k0_off304 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1640 : Index := Scalar.indexCast v66
  let c0_670 : Index := 0#32
  let c45 : Index := 45#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1641 : Index := Scalar.indexCast v159
  let c0_671 : Index := 0#32
  ![v1640.toNat, 0, 45, v1641.toNat, 0]
def k0_off305 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1645 : Index := Scalar.indexCast v65
  let c1_672 : Index := 1#32
  let c0_i32_75 : BitVec 32 := 0#32
  let c1_i32_78 : BitVec 32 := 1#32
  let arg20 : BitVec 32 := Scf.iv c0_i32_75 c1_i32_78 k0_t16
  let v1646 : Index := Scalar.indexCast arg20
  let c704_673 : Index := 704#32
  let c0_674 : Index := 0#32
  ![v1645.toNat, 1, v1646.toNat, 704, 0]
def k0_off306 (v130 : BitVec 32) : Fin 4 → Nat :=
  let c1_675 : Index := 1#32
  let c7_i32 : BitVec 32 := 7#32
  let v131 : BitVec 32 := Scalar.shrui v130 c7_i32
  let v1650 : Index := Scalar.indexCast v131
  let c704_676 : Index := 704#32
  let c0_677 : Index := 0#32
  ![1, v1650.toNat, 704, 0]
def k0_off307 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1667 : Index := Scalar.indexCast v66
  let c1_680 : Index := 1#32
  let c44_681 : Index := 44#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1668 : Index := Scalar.indexCast v159
  let c0_682 : Index := 0#32
  ![v1667.toNat, 1, 44, v1668.toNat, 0]
def k0_off308 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1673 : Index := Scalar.indexCast v66
  let c1_683 : Index := 1#32
  let c45_684 : Index := 45#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1674 : Index := Scalar.indexCast v159
  let c0_685 : Index := 0#32
  ![v1673.toNat, 1, 45, v1674.toNat, 0]
def k0_off309 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1678 : Index := Scalar.indexCast v65
  let c0_686 : Index := 0#32
  let c0_i32_75 : BitVec 32 := 0#32
  let c1_i32_78 : BitVec 32 := 1#32
  let arg20 : BitVec 32 := Scf.iv c0_i32_75 c1_i32_78 k0_t16
  let v1679 : Index := Scalar.indexCast arg20
  let c736 : Index := 736#32
  let c0_687 : Index := 0#32
  ![v1678.toNat, 0, v1679.toNat, 736, 0]
def k0_off310 (v130 : BitVec 32) : Fin 4 → Nat :=
  let c0_688 : Index := 0#32
  let c7_i32 : BitVec 32 := 7#32
  let v131 : BitVec 32 := Scalar.shrui v130 c7_i32
  let v1683 : Index := Scalar.indexCast v131
  let c736_689 : Index := 736#32
  let c0_690 : Index := 0#32
  ![0, v1683.toNat, 736, 0]
def k0_off311 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1700 : Index := Scalar.indexCast v66
  let c0_693 : Index := 0#32
  let c46 : Index := 46#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1701 : Index := Scalar.indexCast v159
  let c0_694 : Index := 0#32
  ![v1700.toNat, 0, 46, v1701.toNat, 0]
def k0_off312 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1706 : Index := Scalar.indexCast v66
  let c0_695 : Index := 0#32
  let c47 : Index := 47#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1707 : Index := Scalar.indexCast v159
  let c0_696 : Index := 0#32
  ![v1706.toNat, 0, 47, v1707.toNat, 0]
def k0_off313 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1711 : Index := Scalar.indexCast v65
  let c1_697 : Index := 1#32
  let c0_i32_75 : BitVec 32 := 0#32
  let c1_i32_78 : BitVec 32 := 1#32
  let arg20 : BitVec 32 := Scf.iv c0_i32_75 c1_i32_78 k0_t16
  let v1712 : Index := Scalar.indexCast arg20
  let c736_698 : Index := 736#32
  let c0_699 : Index := 0#32
  ![v1711.toNat, 1, v1712.toNat, 736, 0]
def k0_off314 (v130 : BitVec 32) : Fin 4 → Nat :=
  let c1_700 : Index := 1#32
  let c7_i32 : BitVec 32 := 7#32
  let v131 : BitVec 32 := Scalar.shrui v130 c7_i32
  let v1716 : Index := Scalar.indexCast v131
  let c736_701 : Index := 736#32
  let c0_702 : Index := 0#32
  ![1, v1716.toNat, 736, 0]
def k0_off315 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1733 : Index := Scalar.indexCast v66
  let c1_705 : Index := 1#32
  let c46_706 : Index := 46#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1734 : Index := Scalar.indexCast v159
  let c0_707 : Index := 0#32
  ![v1733.toNat, 1, 46, v1734.toNat, 0]
def k0_off316 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1739 : Index := Scalar.indexCast v66
  let c1_708 : Index := 1#32
  let c47_709 : Index := 47#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1740 : Index := Scalar.indexCast v159
  let c0_710 : Index := 0#32
  ![v1739.toNat, 1, 47, v1740.toNat, 0]
def k0_off317 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1744 : Index := Scalar.indexCast v65
  let c0_711 : Index := 0#32
  let c0_i32_75 : BitVec 32 := 0#32
  let c1_i32_78 : BitVec 32 := 1#32
  let arg20 : BitVec 32 := Scf.iv c0_i32_75 c1_i32_78 k0_t16
  let v1745 : Index := Scalar.indexCast arg20
  let c768 : Index := 768#32
  let c0_712 : Index := 0#32
  ![v1744.toNat, 0, v1745.toNat, 768, 0]
def k0_off318 (v130 : BitVec 32) : Fin 4 → Nat :=
  let c0_713 : Index := 0#32
  let c7_i32 : BitVec 32 := 7#32
  let v131 : BitVec 32 := Scalar.shrui v130 c7_i32
  let v1749 : Index := Scalar.indexCast v131
  let c768_714 : Index := 768#32
  let c0_715 : Index := 0#32
  ![0, v1749.toNat, 768, 0]
def k0_off319 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1766 : Index := Scalar.indexCast v66
  let c0_718 : Index := 0#32
  let c48 : Index := 48#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1767 : Index := Scalar.indexCast v159
  let c0_719 : Index := 0#32
  ![v1766.toNat, 0, 48, v1767.toNat, 0]
def k0_off320 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1772 : Index := Scalar.indexCast v66
  let c0_720 : Index := 0#32
  let c49 : Index := 49#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1773 : Index := Scalar.indexCast v159
  let c0_721 : Index := 0#32
  ![v1772.toNat, 0, 49, v1773.toNat, 0]
def k0_off321 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1777 : Index := Scalar.indexCast v65
  let c1_722 : Index := 1#32
  let c0_i32_75 : BitVec 32 := 0#32
  let c1_i32_78 : BitVec 32 := 1#32
  let arg20 : BitVec 32 := Scf.iv c0_i32_75 c1_i32_78 k0_t16
  let v1778 : Index := Scalar.indexCast arg20
  let c768_723 : Index := 768#32
  let c0_724 : Index := 0#32
  ![v1777.toNat, 1, v1778.toNat, 768, 0]
def k0_off322 (v130 : BitVec 32) : Fin 4 → Nat :=
  let c1_725 : Index := 1#32
  let c7_i32 : BitVec 32 := 7#32
  let v131 : BitVec 32 := Scalar.shrui v130 c7_i32
  let v1782 : Index := Scalar.indexCast v131
  let c768_726 : Index := 768#32
  let c0_727 : Index := 0#32
  ![1, v1782.toNat, 768, 0]
def k0_off323 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1799 : Index := Scalar.indexCast v66
  let c1_730 : Index := 1#32
  let c48_731 : Index := 48#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1800 : Index := Scalar.indexCast v159
  let c0_732 : Index := 0#32
  ![v1799.toNat, 1, 48, v1800.toNat, 0]
def k0_off324 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1805 : Index := Scalar.indexCast v66
  let c1_733 : Index := 1#32
  let c49_734 : Index := 49#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1806 : Index := Scalar.indexCast v159
  let c0_735 : Index := 0#32
  ![v1805.toNat, 1, 49, v1806.toNat, 0]
def k0_off325 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1810 : Index := Scalar.indexCast v65
  let c0_736 : Index := 0#32
  let c0_i32_75 : BitVec 32 := 0#32
  let c1_i32_78 : BitVec 32 := 1#32
  let arg20 : BitVec 32 := Scf.iv c0_i32_75 c1_i32_78 k0_t16
  let v1811 : Index := Scalar.indexCast arg20
  let c800 : Index := 800#32
  let c0_737 : Index := 0#32
  ![v1810.toNat, 0, v1811.toNat, 800, 0]
def k0_off326 (v130 : BitVec 32) : Fin 4 → Nat :=
  let c0_738 : Index := 0#32
  let c7_i32 : BitVec 32 := 7#32
  let v131 : BitVec 32 := Scalar.shrui v130 c7_i32
  let v1815 : Index := Scalar.indexCast v131
  let c800_739 : Index := 800#32
  let c0_740 : Index := 0#32
  ![0, v1815.toNat, 800, 0]
def k0_off327 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1832 : Index := Scalar.indexCast v66
  let c0_743 : Index := 0#32
  let c50 : Index := 50#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1833 : Index := Scalar.indexCast v159
  let c0_744 : Index := 0#32
  ![v1832.toNat, 0, 50, v1833.toNat, 0]
def k0_off328 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1838 : Index := Scalar.indexCast v66
  let c0_745 : Index := 0#32
  let c51 : Index := 51#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1839 : Index := Scalar.indexCast v159
  let c0_746 : Index := 0#32
  ![v1838.toNat, 0, 51, v1839.toNat, 0]
def k0_off329 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1843 : Index := Scalar.indexCast v65
  let c1_747 : Index := 1#32
  let c0_i32_75 : BitVec 32 := 0#32
  let c1_i32_78 : BitVec 32 := 1#32
  let arg20 : BitVec 32 := Scf.iv c0_i32_75 c1_i32_78 k0_t16
  let v1844 : Index := Scalar.indexCast arg20
  let c800_748 : Index := 800#32
  let c0_749 : Index := 0#32
  ![v1843.toNat, 1, v1844.toNat, 800, 0]
def k0_off330 (v130 : BitVec 32) : Fin 4 → Nat :=
  let c1_750 : Index := 1#32
  let c7_i32 : BitVec 32 := 7#32
  let v131 : BitVec 32 := Scalar.shrui v130 c7_i32
  let v1848 : Index := Scalar.indexCast v131
  let c800_751 : Index := 800#32
  let c0_752 : Index := 0#32
  ![1, v1848.toNat, 800, 0]
def k0_off331 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1865 : Index := Scalar.indexCast v66
  let c1_755 : Index := 1#32
  let c50_756 : Index := 50#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1866 : Index := Scalar.indexCast v159
  let c0_757 : Index := 0#32
  ![v1865.toNat, 1, 50, v1866.toNat, 0]
def k0_off332 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1871 : Index := Scalar.indexCast v66
  let c1_758 : Index := 1#32
  let c51_759 : Index := 51#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1872 : Index := Scalar.indexCast v159
  let c0_760 : Index := 0#32
  ![v1871.toNat, 1, 51, v1872.toNat, 0]
def k0_off333 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1876 : Index := Scalar.indexCast v65
  let c0_761 : Index := 0#32
  let c0_i32_75 : BitVec 32 := 0#32
  let c1_i32_78 : BitVec 32 := 1#32
  let arg20 : BitVec 32 := Scf.iv c0_i32_75 c1_i32_78 k0_t16
  let v1877 : Index := Scalar.indexCast arg20
  let c832 : Index := 832#32
  let c0_762 : Index := 0#32
  ![v1876.toNat, 0, v1877.toNat, 832, 0]
def k0_off334 (v130 : BitVec 32) : Fin 4 → Nat :=
  let c0_763 : Index := 0#32
  let c7_i32 : BitVec 32 := 7#32
  let v131 : BitVec 32 := Scalar.shrui v130 c7_i32
  let v1881 : Index := Scalar.indexCast v131
  let c832_764 : Index := 832#32
  let c0_765 : Index := 0#32
  ![0, v1881.toNat, 832, 0]
def k0_off335 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1898 : Index := Scalar.indexCast v66
  let c0_768 : Index := 0#32
  let c52 : Index := 52#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1899 : Index := Scalar.indexCast v159
  let c0_769 : Index := 0#32
  ![v1898.toNat, 0, 52, v1899.toNat, 0]
def k0_off336 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1904 : Index := Scalar.indexCast v66
  let c0_770 : Index := 0#32
  let c53 : Index := 53#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1905 : Index := Scalar.indexCast v159
  let c0_771 : Index := 0#32
  ![v1904.toNat, 0, 53, v1905.toNat, 0]
def k0_off337 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1909 : Index := Scalar.indexCast v65
  let c1_772 : Index := 1#32
  let c0_i32_75 : BitVec 32 := 0#32
  let c1_i32_78 : BitVec 32 := 1#32
  let arg20 : BitVec 32 := Scf.iv c0_i32_75 c1_i32_78 k0_t16
  let v1910 : Index := Scalar.indexCast arg20
  let c832_773 : Index := 832#32
  let c0_774 : Index := 0#32
  ![v1909.toNat, 1, v1910.toNat, 832, 0]
def k0_off338 (v130 : BitVec 32) : Fin 4 → Nat :=
  let c1_775 : Index := 1#32
  let c7_i32 : BitVec 32 := 7#32
  let v131 : BitVec 32 := Scalar.shrui v130 c7_i32
  let v1914 : Index := Scalar.indexCast v131
  let c832_776 : Index := 832#32
  let c0_777 : Index := 0#32
  ![1, v1914.toNat, 832, 0]
def k0_off339 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1931 : Index := Scalar.indexCast v66
  let c1_780 : Index := 1#32
  let c52_781 : Index := 52#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1932 : Index := Scalar.indexCast v159
  let c0_782 : Index := 0#32
  ![v1931.toNat, 1, 52, v1932.toNat, 0]
def k0_off340 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1937 : Index := Scalar.indexCast v66
  let c1_783 : Index := 1#32
  let c53_784 : Index := 53#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1938 : Index := Scalar.indexCast v159
  let c0_785 : Index := 0#32
  ![v1937.toNat, 1, 53, v1938.toNat, 0]
def k0_off341 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1942 : Index := Scalar.indexCast v65
  let c0_786 : Index := 0#32
  let c0_i32_75 : BitVec 32 := 0#32
  let c1_i32_78 : BitVec 32 := 1#32
  let arg20 : BitVec 32 := Scf.iv c0_i32_75 c1_i32_78 k0_t16
  let v1943 : Index := Scalar.indexCast arg20
  let c864 : Index := 864#32
  let c0_787 : Index := 0#32
  ![v1942.toNat, 0, v1943.toNat, 864, 0]
def k0_off342 (v130 : BitVec 32) : Fin 4 → Nat :=
  let c0_788 : Index := 0#32
  let c7_i32 : BitVec 32 := 7#32
  let v131 : BitVec 32 := Scalar.shrui v130 c7_i32
  let v1947 : Index := Scalar.indexCast v131
  let c864_789 : Index := 864#32
  let c0_790 : Index := 0#32
  ![0, v1947.toNat, 864, 0]
def k0_off343 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1964 : Index := Scalar.indexCast v66
  let c0_793 : Index := 0#32
  let c54 : Index := 54#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1965 : Index := Scalar.indexCast v159
  let c0_794 : Index := 0#32
  ![v1964.toNat, 0, 54, v1965.toNat, 0]
def k0_off344 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1970 : Index := Scalar.indexCast v66
  let c0_795 : Index := 0#32
  let c55 : Index := 55#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1971 : Index := Scalar.indexCast v159
  let c0_796 : Index := 0#32
  ![v1970.toNat, 0, 55, v1971.toNat, 0]
def k0_off345 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1975 : Index := Scalar.indexCast v65
  let c1_797 : Index := 1#32
  let c0_i32_75 : BitVec 32 := 0#32
  let c1_i32_78 : BitVec 32 := 1#32
  let arg20 : BitVec 32 := Scf.iv c0_i32_75 c1_i32_78 k0_t16
  let v1976 : Index := Scalar.indexCast arg20
  let c864_798 : Index := 864#32
  let c0_799 : Index := 0#32
  ![v1975.toNat, 1, v1976.toNat, 864, 0]
def k0_off346 (v130 : BitVec 32) : Fin 4 → Nat :=
  let c1_800 : Index := 1#32
  let c7_i32 : BitVec 32 := 7#32
  let v131 : BitVec 32 := Scalar.shrui v130 c7_i32
  let v1980 : Index := Scalar.indexCast v131
  let c864_801 : Index := 864#32
  let c0_802 : Index := 0#32
  ![1, v1980.toNat, 864, 0]
def k0_off347 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1997 : Index := Scalar.indexCast v66
  let c1_805 : Index := 1#32
  let c54_806 : Index := 54#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v1998 : Index := Scalar.indexCast v159
  let c0_807 : Index := 0#32
  ![v1997.toNat, 1, 54, v1998.toNat, 0]
def k0_off348 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2003 : Index := Scalar.indexCast v66
  let c1_808 : Index := 1#32
  let c55_809 : Index := 55#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2004 : Index := Scalar.indexCast v159
  let c0_810 : Index := 0#32
  ![v2003.toNat, 1, 55, v2004.toNat, 0]
def k0_off349 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2008 : Index := Scalar.indexCast v65
  let c0_811 : Index := 0#32
  let c0_i32_75 : BitVec 32 := 0#32
  let c1_i32_78 : BitVec 32 := 1#32
  let arg20 : BitVec 32 := Scf.iv c0_i32_75 c1_i32_78 k0_t16
  let v2009 : Index := Scalar.indexCast arg20
  let c896 : Index := 896#32
  let c0_812 : Index := 0#32
  ![v2008.toNat, 0, v2009.toNat, 896, 0]
def k0_off350 (v130 : BitVec 32) : Fin 4 → Nat :=
  let c0_813 : Index := 0#32
  let c7_i32 : BitVec 32 := 7#32
  let v131 : BitVec 32 := Scalar.shrui v130 c7_i32
  let v2013 : Index := Scalar.indexCast v131
  let c896_814 : Index := 896#32
  let c0_815 : Index := 0#32
  ![0, v2013.toNat, 896, 0]
def k0_off351 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2030 : Index := Scalar.indexCast v66
  let c0_818 : Index := 0#32
  let c56 : Index := 56#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2031 : Index := Scalar.indexCast v159
  let c0_819 : Index := 0#32
  ![v2030.toNat, 0, 56, v2031.toNat, 0]
def k0_off352 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2036 : Index := Scalar.indexCast v66
  let c0_820 : Index := 0#32
  let c57 : Index := 57#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2037 : Index := Scalar.indexCast v159
  let c0_821 : Index := 0#32
  ![v2036.toNat, 0, 57, v2037.toNat, 0]
def k0_off353 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2041 : Index := Scalar.indexCast v65
  let c1_822 : Index := 1#32
  let c0_i32_75 : BitVec 32 := 0#32
  let c1_i32_78 : BitVec 32 := 1#32
  let arg20 : BitVec 32 := Scf.iv c0_i32_75 c1_i32_78 k0_t16
  let v2042 : Index := Scalar.indexCast arg20
  let c896_823 : Index := 896#32
  let c0_824 : Index := 0#32
  ![v2041.toNat, 1, v2042.toNat, 896, 0]
def k0_off354 (v130 : BitVec 32) : Fin 4 → Nat :=
  let c1_825 : Index := 1#32
  let c7_i32 : BitVec 32 := 7#32
  let v131 : BitVec 32 := Scalar.shrui v130 c7_i32
  let v2046 : Index := Scalar.indexCast v131
  let c896_826 : Index := 896#32
  let c0_827 : Index := 0#32
  ![1, v2046.toNat, 896, 0]
def k0_off355 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2063 : Index := Scalar.indexCast v66
  let c1_830 : Index := 1#32
  let c56_831 : Index := 56#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2064 : Index := Scalar.indexCast v159
  let c0_832 : Index := 0#32
  ![v2063.toNat, 1, 56, v2064.toNat, 0]
def k0_off356 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2069 : Index := Scalar.indexCast v66
  let c1_833 : Index := 1#32
  let c57_834 : Index := 57#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2070 : Index := Scalar.indexCast v159
  let c0_835 : Index := 0#32
  ![v2069.toNat, 1, 57, v2070.toNat, 0]
def k0_off357 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2074 : Index := Scalar.indexCast v65
  let c0_836 : Index := 0#32
  let c0_i32_75 : BitVec 32 := 0#32
  let c1_i32_78 : BitVec 32 := 1#32
  let arg20 : BitVec 32 := Scf.iv c0_i32_75 c1_i32_78 k0_t16
  let v2075 : Index := Scalar.indexCast arg20
  let c928 : Index := 928#32
  let c0_837 : Index := 0#32
  ![v2074.toNat, 0, v2075.toNat, 928, 0]
def k0_off358 (v130 : BitVec 32) : Fin 4 → Nat :=
  let c0_838 : Index := 0#32
  let c7_i32 : BitVec 32 := 7#32
  let v131 : BitVec 32 := Scalar.shrui v130 c7_i32
  let v2079 : Index := Scalar.indexCast v131
  let c928_839 : Index := 928#32
  let c0_840 : Index := 0#32
  ![0, v2079.toNat, 928, 0]
def k0_off359 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2096 : Index := Scalar.indexCast v66
  let c0_843 : Index := 0#32
  let c58 : Index := 58#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2097 : Index := Scalar.indexCast v159
  let c0_844 : Index := 0#32
  ![v2096.toNat, 0, 58, v2097.toNat, 0]
def k0_off360 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2102 : Index := Scalar.indexCast v66
  let c0_845 : Index := 0#32
  let c59 : Index := 59#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2103 : Index := Scalar.indexCast v159
  let c0_846 : Index := 0#32
  ![v2102.toNat, 0, 59, v2103.toNat, 0]
def k0_off361 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2107 : Index := Scalar.indexCast v65
  let c1_847 : Index := 1#32
  let c0_i32_75 : BitVec 32 := 0#32
  let c1_i32_78 : BitVec 32 := 1#32
  let arg20 : BitVec 32 := Scf.iv c0_i32_75 c1_i32_78 k0_t16
  let v2108 : Index := Scalar.indexCast arg20
  let c928_848 : Index := 928#32
  let c0_849 : Index := 0#32
  ![v2107.toNat, 1, v2108.toNat, 928, 0]
def k0_off362 (v130 : BitVec 32) : Fin 4 → Nat :=
  let c1_850 : Index := 1#32
  let c7_i32 : BitVec 32 := 7#32
  let v131 : BitVec 32 := Scalar.shrui v130 c7_i32
  let v2112 : Index := Scalar.indexCast v131
  let c928_851 : Index := 928#32
  let c0_852 : Index := 0#32
  ![1, v2112.toNat, 928, 0]
def k0_off363 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2129 : Index := Scalar.indexCast v66
  let c1_855 : Index := 1#32
  let c58_856 : Index := 58#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2130 : Index := Scalar.indexCast v159
  let c0_857 : Index := 0#32
  ![v2129.toNat, 1, 58, v2130.toNat, 0]
def k0_off364 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2135 : Index := Scalar.indexCast v66
  let c1_858 : Index := 1#32
  let c59_859 : Index := 59#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2136 : Index := Scalar.indexCast v159
  let c0_860 : Index := 0#32
  ![v2135.toNat, 1, 59, v2136.toNat, 0]
def k0_off365 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2140 : Index := Scalar.indexCast v65
  let c0_861 : Index := 0#32
  let c0_i32_75 : BitVec 32 := 0#32
  let c1_i32_78 : BitVec 32 := 1#32
  let arg20 : BitVec 32 := Scf.iv c0_i32_75 c1_i32_78 k0_t16
  let v2141 : Index := Scalar.indexCast arg20
  let c960 : Index := 960#32
  let c0_862 : Index := 0#32
  ![v2140.toNat, 0, v2141.toNat, 960, 0]
def k0_off366 (v130 : BitVec 32) : Fin 4 → Nat :=
  let c0_863 : Index := 0#32
  let c7_i32 : BitVec 32 := 7#32
  let v131 : BitVec 32 := Scalar.shrui v130 c7_i32
  let v2145 : Index := Scalar.indexCast v131
  let c960_864 : Index := 960#32
  let c0_865 : Index := 0#32
  ![0, v2145.toNat, 960, 0]
def k0_off367 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2162 : Index := Scalar.indexCast v66
  let c0_868 : Index := 0#32
  let c60 : Index := 60#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2163 : Index := Scalar.indexCast v159
  let c0_869 : Index := 0#32
  ![v2162.toNat, 0, 60, v2163.toNat, 0]
def k0_off368 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2168 : Index := Scalar.indexCast v66
  let c0_870 : Index := 0#32
  let c61 : Index := 61#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2169 : Index := Scalar.indexCast v159
  let c0_871 : Index := 0#32
  ![v2168.toNat, 0, 61, v2169.toNat, 0]
def k0_off369 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2173 : Index := Scalar.indexCast v65
  let c1_872 : Index := 1#32
  let c0_i32_75 : BitVec 32 := 0#32
  let c1_i32_78 : BitVec 32 := 1#32
  let arg20 : BitVec 32 := Scf.iv c0_i32_75 c1_i32_78 k0_t16
  let v2174 : Index := Scalar.indexCast arg20
  let c960_873 : Index := 960#32
  let c0_874 : Index := 0#32
  ![v2173.toNat, 1, v2174.toNat, 960, 0]
def k0_off370 (v130 : BitVec 32) : Fin 4 → Nat :=
  let c1_875 : Index := 1#32
  let c7_i32 : BitVec 32 := 7#32
  let v131 : BitVec 32 := Scalar.shrui v130 c7_i32
  let v2178 : Index := Scalar.indexCast v131
  let c960_876 : Index := 960#32
  let c0_877 : Index := 0#32
  ![1, v2178.toNat, 960, 0]
def k0_off371 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2195 : Index := Scalar.indexCast v66
  let c1_880 : Index := 1#32
  let c60_881 : Index := 60#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2196 : Index := Scalar.indexCast v159
  let c0_882 : Index := 0#32
  ![v2195.toNat, 1, 60, v2196.toNat, 0]
def k0_off372 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2201 : Index := Scalar.indexCast v66
  let c1_883 : Index := 1#32
  let c61_884 : Index := 61#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2202 : Index := Scalar.indexCast v159
  let c0_885 : Index := 0#32
  ![v2201.toNat, 1, 61, v2202.toNat, 0]
def k0_off373 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2206 : Index := Scalar.indexCast v65
  let c0_886 : Index := 0#32
  let c0_i32_75 : BitVec 32 := 0#32
  let c1_i32_78 : BitVec 32 := 1#32
  let arg20 : BitVec 32 := Scf.iv c0_i32_75 c1_i32_78 k0_t16
  let v2207 : Index := Scalar.indexCast arg20
  let c992 : Index := 992#32
  let c0_887 : Index := 0#32
  ![v2206.toNat, 0, v2207.toNat, 992, 0]
def k0_off374 (v130 : BitVec 32) : Fin 4 → Nat :=
  let c0_888 : Index := 0#32
  let c7_i32 : BitVec 32 := 7#32
  let v131 : BitVec 32 := Scalar.shrui v130 c7_i32
  let v2211 : Index := Scalar.indexCast v131
  let c992_889 : Index := 992#32
  let c0_890 : Index := 0#32
  ![0, v2211.toNat, 992, 0]
def k0_off375 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2228 : Index := Scalar.indexCast v66
  let c0_893 : Index := 0#32
  let c62 : Index := 62#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2229 : Index := Scalar.indexCast v159
  let c0_894 : Index := 0#32
  ![v2228.toNat, 0, 62, v2229.toNat, 0]
def k0_off376 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2234 : Index := Scalar.indexCast v66
  let c0_895 : Index := 0#32
  let c63 : Index := 63#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2235 : Index := Scalar.indexCast v159
  let c0_896 : Index := 0#32
  ![v2234.toNat, 0, 63, v2235.toNat, 0]
def k0_off377 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2239 : Index := Scalar.indexCast v65
  let c1_897 : Index := 1#32
  let c0_i32_75 : BitVec 32 := 0#32
  let c1_i32_78 : BitVec 32 := 1#32
  let arg20 : BitVec 32 := Scf.iv c0_i32_75 c1_i32_78 k0_t16
  let v2240 : Index := Scalar.indexCast arg20
  let c992_898 : Index := 992#32
  let c0_899 : Index := 0#32
  ![v2239.toNat, 1, v2240.toNat, 992, 0]
def k0_off378 (v130 : BitVec 32) : Fin 4 → Nat :=
  let c1_900 : Index := 1#32
  let c7_i32 : BitVec 32 := 7#32
  let v131 : BitVec 32 := Scalar.shrui v130 c7_i32
  let v2244 : Index := Scalar.indexCast v131
  let c992_901 : Index := 992#32
  let c0_902 : Index := 0#32
  ![1, v2244.toNat, 992, 0]

def k0_chk23_0 (v130 : BitVec 32) : Prop :=
  (∀ a, (k0_off126 v130) a + S1x1x32x128.size a ≤ S2x13x1024x128.size a) ∧
  (∀ a, (k0_off130 v130) a + S1x1x32x128.size a ≤ S2x13x1024x128.size a) ∧
  (∀ a, (k0_off134 v130) a + S1x1x32x128.size a ≤ S2x13x1024x128.size a) ∧
  (∀ a, (k0_off138 v130) a + S1x1x32x128.size a ≤ S2x13x1024x128.size a) ∧
  (∀ a, (k0_off142 v130) a + S1x1x32x128.size a ≤ S2x13x1024x128.size a) ∧
  (∀ a, (k0_off146 v130) a + S1x1x32x128.size a ≤ S2x13x1024x128.size a) ∧
  (∀ a, (k0_off150 v130) a + S1x1x32x128.size a ≤ S2x13x1024x128.size a) ∧
  (∀ a, (k0_off154 v130) a + S1x1x32x128.size a ≤ S2x13x1024x128.size a) ∧
  (∀ a, (k0_off158 v130) a + S1x1x32x128.size a ≤ S2x13x1024x128.size a) ∧
  (∀ a, (k0_off162 v130) a + S1x1x32x128.size a ≤ S2x13x1024x128.size a) ∧
  (∀ a, (k0_off166 v130) a + S1x1x32x128.size a ≤ S2x13x1024x128.size a) ∧
  (∀ a, (k0_off170 v130) a + S1x1x32x128.size a ≤ S2x13x1024x128.size a) ∧
  (∀ a, (k0_off174 v130) a + S1x1x32x128.size a ≤ S2x13x1024x128.size a) ∧
  (∀ a, (k0_off178 v130) a + S1x1x32x128.size a ≤ S2x13x1024x128.size a) ∧
  (∀ a, (k0_off182 v130) a + S1x1x32x128.size a ≤ S2x13x1024x128.size a) ∧
  (∀ a, (k0_off186 v130) a + S1x1x32x128.size a ≤ S2x13x1024x128.size a) ∧
  (∀ a, (k0_off190 v130) a + S1x1x32x128.size a ≤ S2x13x1024x128.size a) ∧
  (∀ a, (k0_off194 v130) a + S1x1x32x128.size a ≤ S2x13x1024x128.size a) ∧
  (∀ a, (k0_off198 v130) a + S1x1x32x128.size a ≤ S2x13x1024x128.size a) ∧
  (∀ a, (k0_off202 v130) a + S1x1x32x128.size a ≤ S2x13x1024x128.size a) ∧
  (∀ a, (k0_off206 v130) a + S1x1x32x128.size a ≤ S2x13x1024x128.size a) ∧
  (∀ a, (k0_off210 v130) a + S1x1x32x128.size a ≤ S2x13x1024x128.size a) ∧
  (∀ a, (k0_off214 v130) a + S1x1x32x128.size a ≤ S2x13x1024x128.size a) ∧
  (∀ a, (k0_off218 v130) a + S1x1x32x128.size a ≤ S2x13x1024x128.size a) ∧
  (∀ a, (k0_off222 v130) a + S1x1x32x128.size a ≤ S2x13x1024x128.size a) ∧
  (∀ a, (k0_off226 v130) a + S1x1x32x128.size a ≤ S2x13x1024x128.size a) ∧
  (∀ a, (k0_off230 v130) a + S1x1x32x128.size a ≤ S2x13x1024x128.size a) ∧
  (∀ a, (k0_off234 v130) a + S1x1x32x128.size a ≤ S2x13x1024x128.size a) ∧
  (∀ a, (k0_off238 v130) a + S1x1x32x128.size a ≤ S2x13x1024x128.size a) ∧
  (∀ a, (k0_off242 v130) a + S1x1x32x128.size a ≤ S2x13x1024x128.size a) ∧
  (∀ a, (k0_off246 v130) a + S1x1x32x128.size a ≤ S2x13x1024x128.size a) ∧
  (∀ a, (k0_off250 v130) a + S1x1x32x128.size a ≤ S2x13x1024x128.size a)
def k0_chk23_1 (v130 : BitVec 32) : Prop :=
  (∀ a, (k0_off254 v130) a + S1x1x32x128.size a ≤ S2x13x1024x128.size a) ∧
  (∀ a, (k0_off258 v130) a + S1x1x32x128.size a ≤ S2x13x1024x128.size a) ∧
  (∀ a, (k0_off262 v130) a + S1x1x32x128.size a ≤ S2x13x1024x128.size a) ∧
  (∀ a, (k0_off266 v130) a + S1x1x32x128.size a ≤ S2x13x1024x128.size a) ∧
  (∀ a, (k0_off270 v130) a + S1x1x32x128.size a ≤ S2x13x1024x128.size a) ∧
  (∀ a, (k0_off274 v130) a + S1x1x32x128.size a ≤ S2x13x1024x128.size a) ∧
  (∀ a, (k0_off278 v130) a + S1x1x32x128.size a ≤ S2x13x1024x128.size a) ∧
  (∀ a, (k0_off282 v130) a + S1x1x32x128.size a ≤ S2x13x1024x128.size a) ∧
  (∀ a, (k0_off286 v130) a + S1x1x32x128.size a ≤ S2x13x1024x128.size a) ∧
  (∀ a, (k0_off290 v130) a + S1x1x32x128.size a ≤ S2x13x1024x128.size a) ∧
  (∀ a, (k0_off294 v130) a + S1x1x32x128.size a ≤ S2x13x1024x128.size a) ∧
  (∀ a, (k0_off298 v130) a + S1x1x32x128.size a ≤ S2x13x1024x128.size a) ∧
  (∀ a, (k0_off302 v130) a + S1x1x32x128.size a ≤ S2x13x1024x128.size a) ∧
  (∀ a, (k0_off306 v130) a + S1x1x32x128.size a ≤ S2x13x1024x128.size a) ∧
  (∀ a, (k0_off310 v130) a + S1x1x32x128.size a ≤ S2x13x1024x128.size a) ∧
  (∀ a, (k0_off314 v130) a + S1x1x32x128.size a ≤ S2x13x1024x128.size a) ∧
  (∀ a, (k0_off318 v130) a + S1x1x32x128.size a ≤ S2x13x1024x128.size a) ∧
  (∀ a, (k0_off322 v130) a + S1x1x32x128.size a ≤ S2x13x1024x128.size a) ∧
  (∀ a, (k0_off326 v130) a + S1x1x32x128.size a ≤ S2x13x1024x128.size a) ∧
  (∀ a, (k0_off330 v130) a + S1x1x32x128.size a ≤ S2x13x1024x128.size a) ∧
  (∀ a, (k0_off334 v130) a + S1x1x32x128.size a ≤ S2x13x1024x128.size a) ∧
  (∀ a, (k0_off338 v130) a + S1x1x32x128.size a ≤ S2x13x1024x128.size a) ∧
  (∀ a, (k0_off342 v130) a + S1x1x32x128.size a ≤ S2x13x1024x128.size a) ∧
  (∀ a, (k0_off346 v130) a + S1x1x32x128.size a ≤ S2x13x1024x128.size a) ∧
  (∀ a, (k0_off350 v130) a + S1x1x32x128.size a ≤ S2x13x1024x128.size a) ∧
  (∀ a, (k0_off354 v130) a + S1x1x32x128.size a ≤ S2x13x1024x128.size a) ∧
  (∀ a, (k0_off358 v130) a + S1x1x32x128.size a ≤ S2x13x1024x128.size a) ∧
  (∀ a, (k0_off362 v130) a + S1x1x32x128.size a ≤ S2x13x1024x128.size a) ∧
  (∀ a, (k0_off366 v130) a + S1x1x32x128.size a ≤ S2x13x1024x128.size a) ∧
  (∀ a, (k0_off370 v130) a + S1x1x32x128.size a ≤ S2x13x1024x128.size a) ∧
  (∀ a, (k0_off374 v130) a + S1x1x32x128.size a ≤ S2x13x1024x128.size a) ∧
  (∀ a, (k0_off378 v130) a + S1x1x32x128.size a ≤ S2x13x1024x128.size a)
def k0_chk23 (v130 : BitVec 32) : Prop :=
  k0_chk23_0 v130 ∧
  k0_chk23_1 v130
theorem k0_off126_inb : ∀ (v130 : BitVec 32) (k0_hw23 : k0_chk23 v130), ∀ a, (k0_off126 v130) a + S1x1x32x128.size a ≤ S2x13x1024x128.size a := fun v130 k0_hw23 => k0_hw23.1.1
theorem k0_off130_inb : ∀ (v130 : BitVec 32) (k0_hw23 : k0_chk23 v130), ∀ a, (k0_off130 v130) a + S1x1x32x128.size a ≤ S2x13x1024x128.size a := fun v130 k0_hw23 => k0_hw23.1.2.1
theorem k0_off134_inb : ∀ (v130 : BitVec 32) (k0_hw23 : k0_chk23 v130), ∀ a, (k0_off134 v130) a + S1x1x32x128.size a ≤ S2x13x1024x128.size a := fun v130 k0_hw23 => k0_hw23.1.2.2.1
theorem k0_off138_inb : ∀ (v130 : BitVec 32) (k0_hw23 : k0_chk23 v130), ∀ a, (k0_off138 v130) a + S1x1x32x128.size a ≤ S2x13x1024x128.size a := fun v130 k0_hw23 => k0_hw23.1.2.2.2.1
theorem k0_off142_inb : ∀ (v130 : BitVec 32) (k0_hw23 : k0_chk23 v130), ∀ a, (k0_off142 v130) a + S1x1x32x128.size a ≤ S2x13x1024x128.size a := fun v130 k0_hw23 => k0_hw23.1.2.2.2.2.1
theorem k0_off146_inb : ∀ (v130 : BitVec 32) (k0_hw23 : k0_chk23 v130), ∀ a, (k0_off146 v130) a + S1x1x32x128.size a ≤ S2x13x1024x128.size a := fun v130 k0_hw23 => k0_hw23.1.2.2.2.2.2.1
theorem k0_off150_inb : ∀ (v130 : BitVec 32) (k0_hw23 : k0_chk23 v130), ∀ a, (k0_off150 v130) a + S1x1x32x128.size a ≤ S2x13x1024x128.size a := fun v130 k0_hw23 => k0_hw23.1.2.2.2.2.2.2.1
theorem k0_off154_inb : ∀ (v130 : BitVec 32) (k0_hw23 : k0_chk23 v130), ∀ a, (k0_off154 v130) a + S1x1x32x128.size a ≤ S2x13x1024x128.size a := fun v130 k0_hw23 => k0_hw23.1.2.2.2.2.2.2.2.1
theorem k0_off158_inb : ∀ (v130 : BitVec 32) (k0_hw23 : k0_chk23 v130), ∀ a, (k0_off158 v130) a + S1x1x32x128.size a ≤ S2x13x1024x128.size a := fun v130 k0_hw23 => k0_hw23.1.2.2.2.2.2.2.2.2.1
theorem k0_off162_inb : ∀ (v130 : BitVec 32) (k0_hw23 : k0_chk23 v130), ∀ a, (k0_off162 v130) a + S1x1x32x128.size a ≤ S2x13x1024x128.size a := fun v130 k0_hw23 => k0_hw23.1.2.2.2.2.2.2.2.2.2.1
theorem k0_off166_inb : ∀ (v130 : BitVec 32) (k0_hw23 : k0_chk23 v130), ∀ a, (k0_off166 v130) a + S1x1x32x128.size a ≤ S2x13x1024x128.size a := fun v130 k0_hw23 => k0_hw23.1.2.2.2.2.2.2.2.2.2.2.1
theorem k0_off170_inb : ∀ (v130 : BitVec 32) (k0_hw23 : k0_chk23 v130), ∀ a, (k0_off170 v130) a + S1x1x32x128.size a ≤ S2x13x1024x128.size a := fun v130 k0_hw23 => k0_hw23.1.2.2.2.2.2.2.2.2.2.2.2.1
theorem k0_off174_inb : ∀ (v130 : BitVec 32) (k0_hw23 : k0_chk23 v130), ∀ a, (k0_off174 v130) a + S1x1x32x128.size a ≤ S2x13x1024x128.size a := fun v130 k0_hw23 => k0_hw23.1.2.2.2.2.2.2.2.2.2.2.2.2.1
theorem k0_off178_inb : ∀ (v130 : BitVec 32) (k0_hw23 : k0_chk23 v130), ∀ a, (k0_off178 v130) a + S1x1x32x128.size a ≤ S2x13x1024x128.size a := fun v130 k0_hw23 => k0_hw23.1.2.2.2.2.2.2.2.2.2.2.2.2.2.1
theorem k0_off182_inb : ∀ (v130 : BitVec 32) (k0_hw23 : k0_chk23 v130), ∀ a, (k0_off182 v130) a + S1x1x32x128.size a ≤ S2x13x1024x128.size a := fun v130 k0_hw23 => k0_hw23.1.2.2.2.2.2.2.2.2.2.2.2.2.2.2.1
theorem k0_off186_inb : ∀ (v130 : BitVec 32) (k0_hw23 : k0_chk23 v130), ∀ a, (k0_off186 v130) a + S1x1x32x128.size a ≤ S2x13x1024x128.size a := fun v130 k0_hw23 => k0_hw23.1.2.2.2.2.2.2.2.2.2.2.2.2.2.2.2.1
theorem k0_off190_inb : ∀ (v130 : BitVec 32) (k0_hw23 : k0_chk23 v130), ∀ a, (k0_off190 v130) a + S1x1x32x128.size a ≤ S2x13x1024x128.size a := fun v130 k0_hw23 => k0_hw23.1.2.2.2.2.2.2.2.2.2.2.2.2.2.2.2.2.1
theorem k0_off194_inb : ∀ (v130 : BitVec 32) (k0_hw23 : k0_chk23 v130), ∀ a, (k0_off194 v130) a + S1x1x32x128.size a ≤ S2x13x1024x128.size a := fun v130 k0_hw23 => k0_hw23.1.2.2.2.2.2.2.2.2.2.2.2.2.2.2.2.2.2.1
theorem k0_off198_inb : ∀ (v130 : BitVec 32) (k0_hw23 : k0_chk23 v130), ∀ a, (k0_off198 v130) a + S1x1x32x128.size a ≤ S2x13x1024x128.size a := fun v130 k0_hw23 => k0_hw23.1.2.2.2.2.2.2.2.2.2.2.2.2.2.2.2.2.2.2.1
theorem k0_off202_inb : ∀ (v130 : BitVec 32) (k0_hw23 : k0_chk23 v130), ∀ a, (k0_off202 v130) a + S1x1x32x128.size a ≤ S2x13x1024x128.size a := fun v130 k0_hw23 => k0_hw23.1.2.2.2.2.2.2.2.2.2.2.2.2.2.2.2.2.2.2.2.1
theorem k0_off206_inb : ∀ (v130 : BitVec 32) (k0_hw23 : k0_chk23 v130), ∀ a, (k0_off206 v130) a + S1x1x32x128.size a ≤ S2x13x1024x128.size a := fun v130 k0_hw23 => k0_hw23.1.2.2.2.2.2.2.2.2.2.2.2.2.2.2.2.2.2.2.2.2.1
theorem k0_off210_inb : ∀ (v130 : BitVec 32) (k0_hw23 : k0_chk23 v130), ∀ a, (k0_off210 v130) a + S1x1x32x128.size a ≤ S2x13x1024x128.size a := fun v130 k0_hw23 => k0_hw23.1.2.2.2.2.2.2.2.2.2.2.2.2.2.2.2.2.2.2.2.2.2.1
theorem k0_off214_inb : ∀ (v130 : BitVec 32) (k0_hw23 : k0_chk23 v130), ∀ a, (k0_off214 v130) a + S1x1x32x128.size a ≤ S2x13x1024x128.size a := fun v130 k0_hw23 => k0_hw23.1.2.2.2.2.2.2.2.2.2.2.2.2.2.2.2.2.2.2.2.2.2.2.1
theorem k0_off218_inb : ∀ (v130 : BitVec 32) (k0_hw23 : k0_chk23 v130), ∀ a, (k0_off218 v130) a + S1x1x32x128.size a ≤ S2x13x1024x128.size a := fun v130 k0_hw23 => k0_hw23.1.2.2.2.2.2.2.2.2.2.2.2.2.2.2.2.2.2.2.2.2.2.2.2.1
theorem k0_off222_inb : ∀ (v130 : BitVec 32) (k0_hw23 : k0_chk23 v130), ∀ a, (k0_off222 v130) a + S1x1x32x128.size a ≤ S2x13x1024x128.size a := fun v130 k0_hw23 => k0_hw23.1.2.2.2.2.2.2.2.2.2.2.2.2.2.2.2.2.2.2.2.2.2.2.2.2.1
theorem k0_off226_inb : ∀ (v130 : BitVec 32) (k0_hw23 : k0_chk23 v130), ∀ a, (k0_off226 v130) a + S1x1x32x128.size a ≤ S2x13x1024x128.size a := fun v130 k0_hw23 => k0_hw23.1.2.2.2.2.2.2.2.2.2.2.2.2.2.2.2.2.2.2.2.2.2.2.2.2.2.1
theorem k0_off230_inb : ∀ (v130 : BitVec 32) (k0_hw23 : k0_chk23 v130), ∀ a, (k0_off230 v130) a + S1x1x32x128.size a ≤ S2x13x1024x128.size a := fun v130 k0_hw23 => k0_hw23.1.2.2.2.2.2.2.2.2.2.2.2.2.2.2.2.2.2.2.2.2.2.2.2.2.2.2.1
theorem k0_off234_inb : ∀ (v130 : BitVec 32) (k0_hw23 : k0_chk23 v130), ∀ a, (k0_off234 v130) a + S1x1x32x128.size a ≤ S2x13x1024x128.size a := fun v130 k0_hw23 => k0_hw23.1.2.2.2.2.2.2.2.2.2.2.2.2.2.2.2.2.2.2.2.2.2.2.2.2.2.2.2.1
theorem k0_off238_inb : ∀ (v130 : BitVec 32) (k0_hw23 : k0_chk23 v130), ∀ a, (k0_off238 v130) a + S1x1x32x128.size a ≤ S2x13x1024x128.size a := fun v130 k0_hw23 => k0_hw23.1.2.2.2.2.2.2.2.2.2.2.2.2.2.2.2.2.2.2.2.2.2.2.2.2.2.2.2.2.1
theorem k0_off242_inb : ∀ (v130 : BitVec 32) (k0_hw23 : k0_chk23 v130), ∀ a, (k0_off242 v130) a + S1x1x32x128.size a ≤ S2x13x1024x128.size a := fun v130 k0_hw23 => k0_hw23.1.2.2.2.2.2.2.2.2.2.2.2.2.2.2.2.2.2.2.2.2.2.2.2.2.2.2.2.2.2.1
theorem k0_off246_inb : ∀ (v130 : BitVec 32) (k0_hw23 : k0_chk23 v130), ∀ a, (k0_off246 v130) a + S1x1x32x128.size a ≤ S2x13x1024x128.size a := fun v130 k0_hw23 => k0_hw23.1.2.2.2.2.2.2.2.2.2.2.2.2.2.2.2.2.2.2.2.2.2.2.2.2.2.2.2.2.2.2.1
theorem k0_off250_inb : ∀ (v130 : BitVec 32) (k0_hw23 : k0_chk23 v130), ∀ a, (k0_off250 v130) a + S1x1x32x128.size a ≤ S2x13x1024x128.size a := fun v130 k0_hw23 => k0_hw23.1.2.2.2.2.2.2.2.2.2.2.2.2.2.2.2.2.2.2.2.2.2.2.2.2.2.2.2.2.2.2.2
theorem k0_off254_inb : ∀ (v130 : BitVec 32) (k0_hw23 : k0_chk23 v130), ∀ a, (k0_off254 v130) a + S1x1x32x128.size a ≤ S2x13x1024x128.size a := fun v130 k0_hw23 => k0_hw23.2.1
theorem k0_off258_inb : ∀ (v130 : BitVec 32) (k0_hw23 : k0_chk23 v130), ∀ a, (k0_off258 v130) a + S1x1x32x128.size a ≤ S2x13x1024x128.size a := fun v130 k0_hw23 => k0_hw23.2.2.1
theorem k0_off262_inb : ∀ (v130 : BitVec 32) (k0_hw23 : k0_chk23 v130), ∀ a, (k0_off262 v130) a + S1x1x32x128.size a ≤ S2x13x1024x128.size a := fun v130 k0_hw23 => k0_hw23.2.2.2.1
theorem k0_off266_inb : ∀ (v130 : BitVec 32) (k0_hw23 : k0_chk23 v130), ∀ a, (k0_off266 v130) a + S1x1x32x128.size a ≤ S2x13x1024x128.size a := fun v130 k0_hw23 => k0_hw23.2.2.2.2.1
theorem k0_off270_inb : ∀ (v130 : BitVec 32) (k0_hw23 : k0_chk23 v130), ∀ a, (k0_off270 v130) a + S1x1x32x128.size a ≤ S2x13x1024x128.size a := fun v130 k0_hw23 => k0_hw23.2.2.2.2.2.1
theorem k0_off274_inb : ∀ (v130 : BitVec 32) (k0_hw23 : k0_chk23 v130), ∀ a, (k0_off274 v130) a + S1x1x32x128.size a ≤ S2x13x1024x128.size a := fun v130 k0_hw23 => k0_hw23.2.2.2.2.2.2.1
theorem k0_off278_inb : ∀ (v130 : BitVec 32) (k0_hw23 : k0_chk23 v130), ∀ a, (k0_off278 v130) a + S1x1x32x128.size a ≤ S2x13x1024x128.size a := fun v130 k0_hw23 => k0_hw23.2.2.2.2.2.2.2.1
theorem k0_off282_inb : ∀ (v130 : BitVec 32) (k0_hw23 : k0_chk23 v130), ∀ a, (k0_off282 v130) a + S1x1x32x128.size a ≤ S2x13x1024x128.size a := fun v130 k0_hw23 => k0_hw23.2.2.2.2.2.2.2.2.1
theorem k0_off286_inb : ∀ (v130 : BitVec 32) (k0_hw23 : k0_chk23 v130), ∀ a, (k0_off286 v130) a + S1x1x32x128.size a ≤ S2x13x1024x128.size a := fun v130 k0_hw23 => k0_hw23.2.2.2.2.2.2.2.2.2.1
theorem k0_off290_inb : ∀ (v130 : BitVec 32) (k0_hw23 : k0_chk23 v130), ∀ a, (k0_off290 v130) a + S1x1x32x128.size a ≤ S2x13x1024x128.size a := fun v130 k0_hw23 => k0_hw23.2.2.2.2.2.2.2.2.2.2.1
theorem k0_off294_inb : ∀ (v130 : BitVec 32) (k0_hw23 : k0_chk23 v130), ∀ a, (k0_off294 v130) a + S1x1x32x128.size a ≤ S2x13x1024x128.size a := fun v130 k0_hw23 => k0_hw23.2.2.2.2.2.2.2.2.2.2.2.1
theorem k0_off298_inb : ∀ (v130 : BitVec 32) (k0_hw23 : k0_chk23 v130), ∀ a, (k0_off298 v130) a + S1x1x32x128.size a ≤ S2x13x1024x128.size a := fun v130 k0_hw23 => k0_hw23.2.2.2.2.2.2.2.2.2.2.2.2.1
theorem k0_off302_inb : ∀ (v130 : BitVec 32) (k0_hw23 : k0_chk23 v130), ∀ a, (k0_off302 v130) a + S1x1x32x128.size a ≤ S2x13x1024x128.size a := fun v130 k0_hw23 => k0_hw23.2.2.2.2.2.2.2.2.2.2.2.2.2.1
theorem k0_off306_inb : ∀ (v130 : BitVec 32) (k0_hw23 : k0_chk23 v130), ∀ a, (k0_off306 v130) a + S1x1x32x128.size a ≤ S2x13x1024x128.size a := fun v130 k0_hw23 => k0_hw23.2.2.2.2.2.2.2.2.2.2.2.2.2.2.1
theorem k0_off310_inb : ∀ (v130 : BitVec 32) (k0_hw23 : k0_chk23 v130), ∀ a, (k0_off310 v130) a + S1x1x32x128.size a ≤ S2x13x1024x128.size a := fun v130 k0_hw23 => k0_hw23.2.2.2.2.2.2.2.2.2.2.2.2.2.2.2.1
theorem k0_off314_inb : ∀ (v130 : BitVec 32) (k0_hw23 : k0_chk23 v130), ∀ a, (k0_off314 v130) a + S1x1x32x128.size a ≤ S2x13x1024x128.size a := fun v130 k0_hw23 => k0_hw23.2.2.2.2.2.2.2.2.2.2.2.2.2.2.2.2.1
theorem k0_off318_inb : ∀ (v130 : BitVec 32) (k0_hw23 : k0_chk23 v130), ∀ a, (k0_off318 v130) a + S1x1x32x128.size a ≤ S2x13x1024x128.size a := fun v130 k0_hw23 => k0_hw23.2.2.2.2.2.2.2.2.2.2.2.2.2.2.2.2.2.1
theorem k0_off322_inb : ∀ (v130 : BitVec 32) (k0_hw23 : k0_chk23 v130), ∀ a, (k0_off322 v130) a + S1x1x32x128.size a ≤ S2x13x1024x128.size a := fun v130 k0_hw23 => k0_hw23.2.2.2.2.2.2.2.2.2.2.2.2.2.2.2.2.2.2.1
theorem k0_off326_inb : ∀ (v130 : BitVec 32) (k0_hw23 : k0_chk23 v130), ∀ a, (k0_off326 v130) a + S1x1x32x128.size a ≤ S2x13x1024x128.size a := fun v130 k0_hw23 => k0_hw23.2.2.2.2.2.2.2.2.2.2.2.2.2.2.2.2.2.2.2.1
theorem k0_off330_inb : ∀ (v130 : BitVec 32) (k0_hw23 : k0_chk23 v130), ∀ a, (k0_off330 v130) a + S1x1x32x128.size a ≤ S2x13x1024x128.size a := fun v130 k0_hw23 => k0_hw23.2.2.2.2.2.2.2.2.2.2.2.2.2.2.2.2.2.2.2.2.1
theorem k0_off334_inb : ∀ (v130 : BitVec 32) (k0_hw23 : k0_chk23 v130), ∀ a, (k0_off334 v130) a + S1x1x32x128.size a ≤ S2x13x1024x128.size a := fun v130 k0_hw23 => k0_hw23.2.2.2.2.2.2.2.2.2.2.2.2.2.2.2.2.2.2.2.2.2.1
theorem k0_off338_inb : ∀ (v130 : BitVec 32) (k0_hw23 : k0_chk23 v130), ∀ a, (k0_off338 v130) a + S1x1x32x128.size a ≤ S2x13x1024x128.size a := fun v130 k0_hw23 => k0_hw23.2.2.2.2.2.2.2.2.2.2.2.2.2.2.2.2.2.2.2.2.2.2.1
theorem k0_off342_inb : ∀ (v130 : BitVec 32) (k0_hw23 : k0_chk23 v130), ∀ a, (k0_off342 v130) a + S1x1x32x128.size a ≤ S2x13x1024x128.size a := fun v130 k0_hw23 => k0_hw23.2.2.2.2.2.2.2.2.2.2.2.2.2.2.2.2.2.2.2.2.2.2.2.1
theorem k0_off346_inb : ∀ (v130 : BitVec 32) (k0_hw23 : k0_chk23 v130), ∀ a, (k0_off346 v130) a + S1x1x32x128.size a ≤ S2x13x1024x128.size a := fun v130 k0_hw23 => k0_hw23.2.2.2.2.2.2.2.2.2.2.2.2.2.2.2.2.2.2.2.2.2.2.2.2.1
theorem k0_off350_inb : ∀ (v130 : BitVec 32) (k0_hw23 : k0_chk23 v130), ∀ a, (k0_off350 v130) a + S1x1x32x128.size a ≤ S2x13x1024x128.size a := fun v130 k0_hw23 => k0_hw23.2.2.2.2.2.2.2.2.2.2.2.2.2.2.2.2.2.2.2.2.2.2.2.2.2.1
theorem k0_off354_inb : ∀ (v130 : BitVec 32) (k0_hw23 : k0_chk23 v130), ∀ a, (k0_off354 v130) a + S1x1x32x128.size a ≤ S2x13x1024x128.size a := fun v130 k0_hw23 => k0_hw23.2.2.2.2.2.2.2.2.2.2.2.2.2.2.2.2.2.2.2.2.2.2.2.2.2.2.1
theorem k0_off358_inb : ∀ (v130 : BitVec 32) (k0_hw23 : k0_chk23 v130), ∀ a, (k0_off358 v130) a + S1x1x32x128.size a ≤ S2x13x1024x128.size a := fun v130 k0_hw23 => k0_hw23.2.2.2.2.2.2.2.2.2.2.2.2.2.2.2.2.2.2.2.2.2.2.2.2.2.2.2.1
theorem k0_off362_inb : ∀ (v130 : BitVec 32) (k0_hw23 : k0_chk23 v130), ∀ a, (k0_off362 v130) a + S1x1x32x128.size a ≤ S2x13x1024x128.size a := fun v130 k0_hw23 => k0_hw23.2.2.2.2.2.2.2.2.2.2.2.2.2.2.2.2.2.2.2.2.2.2.2.2.2.2.2.2.1
theorem k0_off366_inb : ∀ (v130 : BitVec 32) (k0_hw23 : k0_chk23 v130), ∀ a, (k0_off366 v130) a + S1x1x32x128.size a ≤ S2x13x1024x128.size a := fun v130 k0_hw23 => k0_hw23.2.2.2.2.2.2.2.2.2.2.2.2.2.2.2.2.2.2.2.2.2.2.2.2.2.2.2.2.2.1
theorem k0_off370_inb : ∀ (v130 : BitVec 32) (k0_hw23 : k0_chk23 v130), ∀ a, (k0_off370 v130) a + S1x1x32x128.size a ≤ S2x13x1024x128.size a := fun v130 k0_hw23 => k0_hw23.2.2.2.2.2.2.2.2.2.2.2.2.2.2.2.2.2.2.2.2.2.2.2.2.2.2.2.2.2.2.1
theorem k0_off374_inb : ∀ (v130 : BitVec 32) (k0_hw23 : k0_chk23 v130), ∀ a, (k0_off374 v130) a + S1x1x32x128.size a ≤ S2x13x1024x128.size a := fun v130 k0_hw23 => k0_hw23.2.2.2.2.2.2.2.2.2.2.2.2.2.2.2.2.2.2.2.2.2.2.2.2.2.2.2.2.2.2.2.1
theorem k0_off378_inb : ∀ (v130 : BitVec 32) (k0_hw23 : k0_chk23 v130), ∀ a, (k0_off378 v130) a + S1x1x32x128.size a ≤ S2x13x1024x128.size a := fun v130 k0_hw23 => k0_hw23.2.2.2.2.2.2.2.2.2.2.2.2.2.2.2.2.2.2.2.2.2.2.2.2.2.2.2.2.2.2.2.2

def k0_off379 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2261 : Index := Scalar.indexCast v66
  let c1_905 : Index := 1#32
  let c62_906 : Index := 62#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2262 : Index := Scalar.indexCast v159
  let c0_907 : Index := 0#32
  ![v2261.toNat, 1, 62, v2262.toNat, 0]
def k0_off380 (v9 : BitVec 32) (k0_t11 : Fin (k0_t11_loop v9).trips) (v62 : BitVec 32) (v68 : BitVec 32) (k0_t16 : Fin (k0_t16_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2267 : Index := Scalar.indexCast v66
  let c1_908 : Index := 1#32
  let c63_909 : Index := 63#32
  let c0_i32_75 : BitVec 32 := 0#32
  let c1_i32_78 : BitVec 32 := 1#32
  let arg20 : BitVec 32 := Scf.iv c0_i32_75 c1_i32_78 k0_t16
  let c8_i32_108 : BitVec 32 := 8#32
  let v158 : BitVec 32 := Scalar.muli arg20 c8_i32_108
  let v159 : BitVec 32 := v158
  let v2268 : Index := Scalar.indexCast v159
  let c0_910 : Index := 0#32
  ![v2267.toNat, 1, 63, v2268.toNat, 0]
@[reducible] def k0_t17_loop (v62 : BitVec 32) (v68 : BitVec 32) : Scf.Loop 32 :=
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let v95 : BitVec 32 := Scalar.addi c0_i32_75 v94
  let c1_i32_79 : BitVec 32 := 1#32
  ⟨v98, v95, c1_i32_79⟩
def k0_off381 (v62 : BitVec 32) (v68 : BitVec 32) (k0_t17 : Fin (k0_t17_loop v62 v68).trips) : Fin 2 → Nat :=
  let c32_i32 : BitVec 32 := 32#32
  let v63 : BitVec 32 := Scalar.divsi v62 c32_i32
  let v128 : Index := Scalar.indexCast v63
  let c32_i32_58 : BitVec 32 := 32#32
  let v64 : BitVec 32 := Scalar.remsi v62 c32_i32_58
  let c8_i32_100 : BitVec 32 := 8#32
  let v126 : BitVec 32 := Scalar.muli v64 c8_i32_100
  let c0_i32_75 : BitVec 32 := 0#32
  let c8_i32 : BitVec 32 := 8#32
  let c0_i32_63 : BitVec 32 := 0#32
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v127 : BitVec 32 := Scalar.addi v126 arg20
  let v129 : Index := Scalar.indexCast v127
  ![v128.toNat, v129.toNat]
def k0_off382 (v62 : BitVec 32) : Fin 1 → Nat :=
  let c32_i32 : BitVec 32 := 32#32
  let v63 : BitVec 32 := Scalar.divsi v62 c32_i32
  let v134 : Index := Scalar.indexCast v63
  ![v134.toNat]
def k0_mult28 (v62 : BitVec 32) (v68 : BitVec 32) (k0_t17 : Fin (k0_t17_loop v62 v68).trips) : BitVec 32 :=
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  v158
def k0_off383 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v160 : Index := Scalar.indexCast v65
  let c0 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v161 : Index := Scalar.indexCast arg20
  let c0_109 : Index := 0#32
  let c0_110 : Index := 0#32
  ![v160.toNat, 0, v161.toNat, 0, 0]
def k0_off384 (v130 : BitVec 32) : Fin 4 → Nat :=
  let c0_111 : Index := 0#32
  let c7_i32 : BitVec 32 := 7#32
  let v131 : BitVec 32 := Scalar.shrui v130 c7_i32
  let v165 : Index := Scalar.indexCast v131
  let c0_112 : Index := 0#32
  let c0_113 : Index := 0#32
  ![0, v165.toNat, 0, 0]

def k0_off385 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v182 : Index := Scalar.indexCast v66
  let c0_116 : Index := 0#32
  let c0_117 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v183 : Index := Scalar.indexCast v159
  let c0_118 : Index := 0#32
  ![v182.toNat, 0, 0, v183.toNat, 0]
def k0_off386 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v188 : Index := Scalar.indexCast v66
  let c0_119 : Index := 0#32
  let c1 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v189 : Index := Scalar.indexCast v159
  let c0_120 : Index := 0#32
  ![v188.toNat, 0, 1, v189.toNat, 0]
def k0_off387 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v193 : Index := Scalar.indexCast v65
  let c1_121 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v194 : Index := Scalar.indexCast arg20
  let c0_122 : Index := 0#32
  let c0_123 : Index := 0#32
  ![v193.toNat, 1, v194.toNat, 0, 0]
def k0_off388 (v130 : BitVec 32) : Fin 4 → Nat :=
  let c1_124 : Index := 1#32
  let c7_i32 : BitVec 32 := 7#32
  let v131 : BitVec 32 := Scalar.shrui v130 c7_i32
  let v198 : Index := Scalar.indexCast v131
  let c0_125 : Index := 0#32
  let c0_126 : Index := 0#32
  ![1, v198.toNat, 0, 0]
def k0_off389 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v215 : Index := Scalar.indexCast v66
  let c1_129 : Index := 1#32
  let c0_130 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v216 : Index := Scalar.indexCast v159
  let c0_131 : Index := 0#32
  ![v215.toNat, 1, 0, v216.toNat, 0]
def k0_off390 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v221 : Index := Scalar.indexCast v66
  let c1_132 : Index := 1#32
  let c1_133 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v222 : Index := Scalar.indexCast v159
  let c0_134 : Index := 0#32
  ![v221.toNat, 1, 1, v222.toNat, 0]
def k0_off391 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v226 : Index := Scalar.indexCast v65
  let c0_135 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v227 : Index := Scalar.indexCast arg20
  let c32 : Index := 32#32
  let c0_136 : Index := 0#32
  ![v226.toNat, 0, v227.toNat, 32, 0]
def k0_off392 (v130 : BitVec 32) : Fin 4 → Nat :=
  let c0_137 : Index := 0#32
  let c7_i32 : BitVec 32 := 7#32
  let v131 : BitVec 32 := Scalar.shrui v130 c7_i32
  let v231 : Index := Scalar.indexCast v131
  let c32_138 : Index := 32#32
  let c0_139 : Index := 0#32
  ![0, v231.toNat, 32, 0]
def k0_off393 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v248 : Index := Scalar.indexCast v66
  let c0_142 : Index := 0#32
  let c2 : Index := 2#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v249 : Index := Scalar.indexCast v159
  let c0_143 : Index := 0#32
  ![v248.toNat, 0, 2, v249.toNat, 0]
def k0_off394 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v254 : Index := Scalar.indexCast v66
  let c0_144 : Index := 0#32
  let c3 : Index := 3#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v255 : Index := Scalar.indexCast v159
  let c0_145 : Index := 0#32
  ![v254.toNat, 0, 3, v255.toNat, 0]
def k0_off395 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v259 : Index := Scalar.indexCast v65
  let c1_146 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v260 : Index := Scalar.indexCast arg20
  let c32_147 : Index := 32#32
  let c0_148 : Index := 0#32
  ![v259.toNat, 1, v260.toNat, 32, 0]
def k0_off396 (v130 : BitVec 32) : Fin 4 → Nat :=
  let c1_149 : Index := 1#32
  let c7_i32 : BitVec 32 := 7#32
  let v131 : BitVec 32 := Scalar.shrui v130 c7_i32
  let v264 : Index := Scalar.indexCast v131
  let c32_150 : Index := 32#32
  let c0_151 : Index := 0#32
  ![1, v264.toNat, 32, 0]
def k0_off397 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v281 : Index := Scalar.indexCast v66
  let c1_154 : Index := 1#32
  let c2_155 : Index := 2#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v282 : Index := Scalar.indexCast v159
  let c0_156 : Index := 0#32
  ![v281.toNat, 1, 2, v282.toNat, 0]
def k0_off398 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v287 : Index := Scalar.indexCast v66
  let c1_157 : Index := 1#32
  let c3_158 : Index := 3#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v288 : Index := Scalar.indexCast v159
  let c0_159 : Index := 0#32
  ![v287.toNat, 1, 3, v288.toNat, 0]
def k0_off399 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v292 : Index := Scalar.indexCast v65
  let c0_160 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v293 : Index := Scalar.indexCast arg20
  let c64 : Index := 64#32
  let c0_161 : Index := 0#32
  ![v292.toNat, 0, v293.toNat, 64, 0]
def k0_off400 (v130 : BitVec 32) : Fin 4 → Nat :=
  let c0_162 : Index := 0#32
  let c7_i32 : BitVec 32 := 7#32
  let v131 : BitVec 32 := Scalar.shrui v130 c7_i32
  let v297 : Index := Scalar.indexCast v131
  let c64_163 : Index := 64#32
  let c0_164 : Index := 0#32
  ![0, v297.toNat, 64, 0]
def k0_off401 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v314 : Index := Scalar.indexCast v66
  let c0_167 : Index := 0#32
  let c4 : Index := 4#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v315 : Index := Scalar.indexCast v159
  let c0_168 : Index := 0#32
  ![v314.toNat, 0, 4, v315.toNat, 0]
def k0_off402 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v320 : Index := Scalar.indexCast v66
  let c0_169 : Index := 0#32
  let c5 : Index := 5#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v321 : Index := Scalar.indexCast v159
  let c0_170 : Index := 0#32
  ![v320.toNat, 0, 5, v321.toNat, 0]
def k0_off403 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v325 : Index := Scalar.indexCast v65
  let c1_171 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v326 : Index := Scalar.indexCast arg20
  let c64_172 : Index := 64#32
  let c0_173 : Index := 0#32
  ![v325.toNat, 1, v326.toNat, 64, 0]
def k0_off404 (v130 : BitVec 32) : Fin 4 → Nat :=
  let c1_174 : Index := 1#32
  let c7_i32 : BitVec 32 := 7#32
  let v131 : BitVec 32 := Scalar.shrui v130 c7_i32
  let v330 : Index := Scalar.indexCast v131
  let c64_175 : Index := 64#32
  let c0_176 : Index := 0#32
  ![1, v330.toNat, 64, 0]
def k0_off405 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v347 : Index := Scalar.indexCast v66
  let c1_179 : Index := 1#32
  let c4_180 : Index := 4#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v348 : Index := Scalar.indexCast v159
  let c0_181 : Index := 0#32
  ![v347.toNat, 1, 4, v348.toNat, 0]
def k0_off406 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v353 : Index := Scalar.indexCast v66
  let c1_182 : Index := 1#32
  let c5_183 : Index := 5#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v354 : Index := Scalar.indexCast v159
  let c0_184 : Index := 0#32
  ![v353.toNat, 1, 5, v354.toNat, 0]
def k0_off407 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v358 : Index := Scalar.indexCast v65
  let c0_185 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v359 : Index := Scalar.indexCast arg20
  let c96 : Index := 96#32
  let c0_186 : Index := 0#32
  ![v358.toNat, 0, v359.toNat, 96, 0]
def k0_off408 (v130 : BitVec 32) : Fin 4 → Nat :=
  let c0_187 : Index := 0#32
  let c7_i32 : BitVec 32 := 7#32
  let v131 : BitVec 32 := Scalar.shrui v130 c7_i32
  let v363 : Index := Scalar.indexCast v131
  let c96_188 : Index := 96#32
  let c0_189 : Index := 0#32
  ![0, v363.toNat, 96, 0]
def k0_off409 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v380 : Index := Scalar.indexCast v66
  let c0_192 : Index := 0#32
  let c6 : Index := 6#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v381 : Index := Scalar.indexCast v159
  let c0_193 : Index := 0#32
  ![v380.toNat, 0, 6, v381.toNat, 0]
def k0_off410 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v386 : Index := Scalar.indexCast v66
  let c0_194 : Index := 0#32
  let c7 : Index := 7#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v387 : Index := Scalar.indexCast v159
  let c0_195 : Index := 0#32
  ![v386.toNat, 0, 7, v387.toNat, 0]
def k0_off411 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v391 : Index := Scalar.indexCast v65
  let c1_196 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v392 : Index := Scalar.indexCast arg20
  let c96_197 : Index := 96#32
  let c0_198 : Index := 0#32
  ![v391.toNat, 1, v392.toNat, 96, 0]
def k0_off412 (v130 : BitVec 32) : Fin 4 → Nat :=
  let c1_199 : Index := 1#32
  let c7_i32 : BitVec 32 := 7#32
  let v131 : BitVec 32 := Scalar.shrui v130 c7_i32
  let v396 : Index := Scalar.indexCast v131
  let c96_200 : Index := 96#32
  let c0_201 : Index := 0#32
  ![1, v396.toNat, 96, 0]
def k0_off413 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v413 : Index := Scalar.indexCast v66
  let c1_204 : Index := 1#32
  let c6_205 : Index := 6#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v414 : Index := Scalar.indexCast v159
  let c0_206 : Index := 0#32
  ![v413.toNat, 1, 6, v414.toNat, 0]
def k0_off414 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v419 : Index := Scalar.indexCast v66
  let c1_207 : Index := 1#32
  let c7_208 : Index := 7#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v420 : Index := Scalar.indexCast v159
  let c0_209 : Index := 0#32
  ![v419.toNat, 1, 7, v420.toNat, 0]
def k0_off415 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v424 : Index := Scalar.indexCast v65
  let c0_210 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v425 : Index := Scalar.indexCast arg20
  let c128 : Index := 128#32
  let c0_211 : Index := 0#32
  ![v424.toNat, 0, v425.toNat, 128, 0]
def k0_off416 (v130 : BitVec 32) : Fin 4 → Nat :=
  let c0_212 : Index := 0#32
  let c7_i32 : BitVec 32 := 7#32
  let v131 : BitVec 32 := Scalar.shrui v130 c7_i32
  let v429 : Index := Scalar.indexCast v131
  let c128_213 : Index := 128#32
  let c0_214 : Index := 0#32
  ![0, v429.toNat, 128, 0]
def k0_off417 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v446 : Index := Scalar.indexCast v66
  let c0_217 : Index := 0#32
  let c8 : Index := 8#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v447 : Index := Scalar.indexCast v159
  let c0_218 : Index := 0#32
  ![v446.toNat, 0, 8, v447.toNat, 0]
def k0_off418 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v452 : Index := Scalar.indexCast v66
  let c0_219 : Index := 0#32
  let c9 : Index := 9#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v453 : Index := Scalar.indexCast v159
  let c0_220 : Index := 0#32
  ![v452.toNat, 0, 9, v453.toNat, 0]
def k0_off419 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v457 : Index := Scalar.indexCast v65
  let c1_221 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v458 : Index := Scalar.indexCast arg20
  let c128_222 : Index := 128#32
  let c0_223 : Index := 0#32
  ![v457.toNat, 1, v458.toNat, 128, 0]
def k0_off420 (v130 : BitVec 32) : Fin 4 → Nat :=
  let c1_224 : Index := 1#32
  let c7_i32 : BitVec 32 := 7#32
  let v131 : BitVec 32 := Scalar.shrui v130 c7_i32
  let v462 : Index := Scalar.indexCast v131
  let c128_225 : Index := 128#32
  let c0_226 : Index := 0#32
  ![1, v462.toNat, 128, 0]
def k0_off421 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v479 : Index := Scalar.indexCast v66
  let c1_229 : Index := 1#32
  let c8_230 : Index := 8#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v480 : Index := Scalar.indexCast v159
  let c0_231 : Index := 0#32
  ![v479.toNat, 1, 8, v480.toNat, 0]
def k0_off422 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v485 : Index := Scalar.indexCast v66
  let c1_232 : Index := 1#32
  let c9_233 : Index := 9#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v486 : Index := Scalar.indexCast v159
  let c0_234 : Index := 0#32
  ![v485.toNat, 1, 9, v486.toNat, 0]
def k0_off423 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v490 : Index := Scalar.indexCast v65
  let c0_235 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v491 : Index := Scalar.indexCast arg20
  let c160 : Index := 160#32
  let c0_236 : Index := 0#32
  ![v490.toNat, 0, v491.toNat, 160, 0]
def k0_off424 (v130 : BitVec 32) : Fin 4 → Nat :=
  let c0_237 : Index := 0#32
  let c7_i32 : BitVec 32 := 7#32
  let v131 : BitVec 32 := Scalar.shrui v130 c7_i32
  let v495 : Index := Scalar.indexCast v131
  let c160_238 : Index := 160#32
  let c0_239 : Index := 0#32
  ![0, v495.toNat, 160, 0]
def k0_off425 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v512 : Index := Scalar.indexCast v66
  let c0_242 : Index := 0#32
  let c10 : Index := 10#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v513 : Index := Scalar.indexCast v159
  let c0_243 : Index := 0#32
  ![v512.toNat, 0, 10, v513.toNat, 0]
def k0_off426 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v518 : Index := Scalar.indexCast v66
  let c0_244 : Index := 0#32
  let c11 : Index := 11#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v519 : Index := Scalar.indexCast v159
  let c0_245 : Index := 0#32
  ![v518.toNat, 0, 11, v519.toNat, 0]
def k0_off427 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v523 : Index := Scalar.indexCast v65
  let c1_246 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v524 : Index := Scalar.indexCast arg20
  let c160_247 : Index := 160#32
  let c0_248 : Index := 0#32
  ![v523.toNat, 1, v524.toNat, 160, 0]
def k0_off428 (v130 : BitVec 32) : Fin 4 → Nat :=
  let c1_249 : Index := 1#32
  let c7_i32 : BitVec 32 := 7#32
  let v131 : BitVec 32 := Scalar.shrui v130 c7_i32
  let v528 : Index := Scalar.indexCast v131
  let c160_250 : Index := 160#32
  let c0_251 : Index := 0#32
  ![1, v528.toNat, 160, 0]
def k0_off429 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v545 : Index := Scalar.indexCast v66
  let c1_254 : Index := 1#32
  let c10_255 : Index := 10#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v546 : Index := Scalar.indexCast v159
  let c0_256 : Index := 0#32
  ![v545.toNat, 1, 10, v546.toNat, 0]
def k0_off430 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v551 : Index := Scalar.indexCast v66
  let c1_257 : Index := 1#32
  let c11_258 : Index := 11#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v552 : Index := Scalar.indexCast v159
  let c0_259 : Index := 0#32
  ![v551.toNat, 1, 11, v552.toNat, 0]
def k0_off431 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v556 : Index := Scalar.indexCast v65
  let c0_260 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v557 : Index := Scalar.indexCast arg20
  let c192 : Index := 192#32
  let c0_261 : Index := 0#32
  ![v556.toNat, 0, v557.toNat, 192, 0]
def k0_off432 (v130 : BitVec 32) : Fin 4 → Nat :=
  let c0_262 : Index := 0#32
  let c7_i32 : BitVec 32 := 7#32
  let v131 : BitVec 32 := Scalar.shrui v130 c7_i32
  let v561 : Index := Scalar.indexCast v131
  let c192_263 : Index := 192#32
  let c0_264 : Index := 0#32
  ![0, v561.toNat, 192, 0]
def k0_off433 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v578 : Index := Scalar.indexCast v66
  let c0_267 : Index := 0#32
  let c12 : Index := 12#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v579 : Index := Scalar.indexCast v159
  let c0_268 : Index := 0#32
  ![v578.toNat, 0, 12, v579.toNat, 0]
def k0_off434 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v584 : Index := Scalar.indexCast v66
  let c0_269 : Index := 0#32
  let c13 : Index := 13#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v585 : Index := Scalar.indexCast v159
  let c0_270 : Index := 0#32
  ![v584.toNat, 0, 13, v585.toNat, 0]
def k0_off435 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v589 : Index := Scalar.indexCast v65
  let c1_271 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v590 : Index := Scalar.indexCast arg20
  let c192_272 : Index := 192#32
  let c0_273 : Index := 0#32
  ![v589.toNat, 1, v590.toNat, 192, 0]
def k0_off436 (v130 : BitVec 32) : Fin 4 → Nat :=
  let c1_274 : Index := 1#32
  let c7_i32 : BitVec 32 := 7#32
  let v131 : BitVec 32 := Scalar.shrui v130 c7_i32
  let v594 : Index := Scalar.indexCast v131
  let c192_275 : Index := 192#32
  let c0_276 : Index := 0#32
  ![1, v594.toNat, 192, 0]
def k0_off437 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v611 : Index := Scalar.indexCast v66
  let c1_279 : Index := 1#32
  let c12_280 : Index := 12#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v612 : Index := Scalar.indexCast v159
  let c0_281 : Index := 0#32
  ![v611.toNat, 1, 12, v612.toNat, 0]
def k0_off438 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v617 : Index := Scalar.indexCast v66
  let c1_282 : Index := 1#32
  let c13_283 : Index := 13#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v618 : Index := Scalar.indexCast v159
  let c0_284 : Index := 0#32
  ![v617.toNat, 1, 13, v618.toNat, 0]
def k0_off439 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v622 : Index := Scalar.indexCast v65
  let c0_285 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v623 : Index := Scalar.indexCast arg20
  let c224 : Index := 224#32
  let c0_286 : Index := 0#32
  ![v622.toNat, 0, v623.toNat, 224, 0]
def k0_off440 (v130 : BitVec 32) : Fin 4 → Nat :=
  let c0_287 : Index := 0#32
  let c7_i32 : BitVec 32 := 7#32
  let v131 : BitVec 32 := Scalar.shrui v130 c7_i32
  let v627 : Index := Scalar.indexCast v131
  let c224_288 : Index := 224#32
  let c0_289 : Index := 0#32
  ![0, v627.toNat, 224, 0]
def k0_off441 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v644 : Index := Scalar.indexCast v66
  let c0_292 : Index := 0#32
  let c14 : Index := 14#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v645 : Index := Scalar.indexCast v159
  let c0_293 : Index := 0#32
  ![v644.toNat, 0, 14, v645.toNat, 0]
def k0_off442 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v650 : Index := Scalar.indexCast v66
  let c0_294 : Index := 0#32
  let c15 : Index := 15#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v651 : Index := Scalar.indexCast v159
  let c0_295 : Index := 0#32
  ![v650.toNat, 0, 15, v651.toNat, 0]
def k0_off443 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v655 : Index := Scalar.indexCast v65
  let c1_296 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v656 : Index := Scalar.indexCast arg20
  let c224_297 : Index := 224#32
  let c0_298 : Index := 0#32
  ![v655.toNat, 1, v656.toNat, 224, 0]
def k0_off444 (v130 : BitVec 32) : Fin 4 → Nat :=
  let c1_299 : Index := 1#32
  let c7_i32 : BitVec 32 := 7#32
  let v131 : BitVec 32 := Scalar.shrui v130 c7_i32
  let v660 : Index := Scalar.indexCast v131
  let c224_300 : Index := 224#32
  let c0_301 : Index := 0#32
  ![1, v660.toNat, 224, 0]
def k0_off445 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v677 : Index := Scalar.indexCast v66
  let c1_304 : Index := 1#32
  let c14_305 : Index := 14#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v678 : Index := Scalar.indexCast v159
  let c0_306 : Index := 0#32
  ![v677.toNat, 1, 14, v678.toNat, 0]
def k0_off446 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v683 : Index := Scalar.indexCast v66
  let c1_307 : Index := 1#32
  let c15_308 : Index := 15#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v684 : Index := Scalar.indexCast v159
  let c0_309 : Index := 0#32
  ![v683.toNat, 1, 15, v684.toNat, 0]
def k0_off447 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v688 : Index := Scalar.indexCast v65
  let c0_310 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v689 : Index := Scalar.indexCast arg20
  let c256 : Index := 256#32
  let c0_311 : Index := 0#32
  ![v688.toNat, 0, v689.toNat, 256, 0]
def k0_off448 (v130 : BitVec 32) : Fin 4 → Nat :=
  let c0_312 : Index := 0#32
  let c7_i32 : BitVec 32 := 7#32
  let v131 : BitVec 32 := Scalar.shrui v130 c7_i32
  let v693 : Index := Scalar.indexCast v131
  let c256_313 : Index := 256#32
  let c0_314 : Index := 0#32
  ![0, v693.toNat, 256, 0]
def k0_off449 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v710 : Index := Scalar.indexCast v66
  let c0_317 : Index := 0#32
  let c16 : Index := 16#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v711 : Index := Scalar.indexCast v159
  let c0_318 : Index := 0#32
  ![v710.toNat, 0, 16, v711.toNat, 0]
def k0_off450 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v716 : Index := Scalar.indexCast v66
  let c0_319 : Index := 0#32
  let c17 : Index := 17#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v717 : Index := Scalar.indexCast v159
  let c0_320 : Index := 0#32
  ![v716.toNat, 0, 17, v717.toNat, 0]
def k0_off451 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v721 : Index := Scalar.indexCast v65
  let c1_321 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v722 : Index := Scalar.indexCast arg20
  let c256_322 : Index := 256#32
  let c0_323 : Index := 0#32
  ![v721.toNat, 1, v722.toNat, 256, 0]
def k0_off452 (v130 : BitVec 32) : Fin 4 → Nat :=
  let c1_324 : Index := 1#32
  let c7_i32 : BitVec 32 := 7#32
  let v131 : BitVec 32 := Scalar.shrui v130 c7_i32
  let v726 : Index := Scalar.indexCast v131
  let c256_325 : Index := 256#32
  let c0_326 : Index := 0#32
  ![1, v726.toNat, 256, 0]
def k0_off453 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v743 : Index := Scalar.indexCast v66
  let c1_329 : Index := 1#32
  let c16_330 : Index := 16#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v744 : Index := Scalar.indexCast v159
  let c0_331 : Index := 0#32
  ![v743.toNat, 1, 16, v744.toNat, 0]
def k0_off454 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v749 : Index := Scalar.indexCast v66
  let c1_332 : Index := 1#32
  let c17_333 : Index := 17#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v750 : Index := Scalar.indexCast v159
  let c0_334 : Index := 0#32
  ![v749.toNat, 1, 17, v750.toNat, 0]
def k0_off455 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v754 : Index := Scalar.indexCast v65
  let c0_335 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v755 : Index := Scalar.indexCast arg20
  let c288 : Index := 288#32
  let c0_336 : Index := 0#32
  ![v754.toNat, 0, v755.toNat, 288, 0]
def k0_off456 (v130 : BitVec 32) : Fin 4 → Nat :=
  let c0_337 : Index := 0#32
  let c7_i32 : BitVec 32 := 7#32
  let v131 : BitVec 32 := Scalar.shrui v130 c7_i32
  let v759 : Index := Scalar.indexCast v131
  let c288_338 : Index := 288#32
  let c0_339 : Index := 0#32
  ![0, v759.toNat, 288, 0]
def k0_off457 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v776 : Index := Scalar.indexCast v66
  let c0_342 : Index := 0#32
  let c18 : Index := 18#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v777 : Index := Scalar.indexCast v159
  let c0_343 : Index := 0#32
  ![v776.toNat, 0, 18, v777.toNat, 0]
def k0_off458 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v782 : Index := Scalar.indexCast v66
  let c0_344 : Index := 0#32
  let c19 : Index := 19#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v783 : Index := Scalar.indexCast v159
  let c0_345 : Index := 0#32
  ![v782.toNat, 0, 19, v783.toNat, 0]
def k0_off459 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v787 : Index := Scalar.indexCast v65
  let c1_346 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v788 : Index := Scalar.indexCast arg20
  let c288_347 : Index := 288#32
  let c0_348 : Index := 0#32
  ![v787.toNat, 1, v788.toNat, 288, 0]
def k0_off460 (v130 : BitVec 32) : Fin 4 → Nat :=
  let c1_349 : Index := 1#32
  let c7_i32 : BitVec 32 := 7#32
  let v131 : BitVec 32 := Scalar.shrui v130 c7_i32
  let v792 : Index := Scalar.indexCast v131
  let c288_350 : Index := 288#32
  let c0_351 : Index := 0#32
  ![1, v792.toNat, 288, 0]
def k0_off461 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v809 : Index := Scalar.indexCast v66
  let c1_354 : Index := 1#32
  let c18_355 : Index := 18#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v810 : Index := Scalar.indexCast v159
  let c0_356 : Index := 0#32
  ![v809.toNat, 1, 18, v810.toNat, 0]
def k0_off462 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v815 : Index := Scalar.indexCast v66
  let c1_357 : Index := 1#32
  let c19_358 : Index := 19#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v816 : Index := Scalar.indexCast v159
  let c0_359 : Index := 0#32
  ![v815.toNat, 1, 19, v816.toNat, 0]
def k0_off463 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v820 : Index := Scalar.indexCast v65
  let c0_360 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v821 : Index := Scalar.indexCast arg20
  let c320 : Index := 320#32
  let c0_361 : Index := 0#32
  ![v820.toNat, 0, v821.toNat, 320, 0]
def k0_off464 (v130 : BitVec 32) : Fin 4 → Nat :=
  let c0_362 : Index := 0#32
  let c7_i32 : BitVec 32 := 7#32
  let v131 : BitVec 32 := Scalar.shrui v130 c7_i32
  let v825 : Index := Scalar.indexCast v131
  let c320_363 : Index := 320#32
  let c0_364 : Index := 0#32
  ![0, v825.toNat, 320, 0]
def k0_off465 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v842 : Index := Scalar.indexCast v66
  let c0_367 : Index := 0#32
  let c20 : Index := 20#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v843 : Index := Scalar.indexCast v159
  let c0_368 : Index := 0#32
  ![v842.toNat, 0, 20, v843.toNat, 0]
def k0_off466 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v848 : Index := Scalar.indexCast v66
  let c0_369 : Index := 0#32
  let c21 : Index := 21#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v849 : Index := Scalar.indexCast v159
  let c0_370 : Index := 0#32
  ![v848.toNat, 0, 21, v849.toNat, 0]
def k0_off467 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v853 : Index := Scalar.indexCast v65
  let c1_371 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v854 : Index := Scalar.indexCast arg20
  let c320_372 : Index := 320#32
  let c0_373 : Index := 0#32
  ![v853.toNat, 1, v854.toNat, 320, 0]
def k0_off468 (v130 : BitVec 32) : Fin 4 → Nat :=
  let c1_374 : Index := 1#32
  let c7_i32 : BitVec 32 := 7#32
  let v131 : BitVec 32 := Scalar.shrui v130 c7_i32
  let v858 : Index := Scalar.indexCast v131
  let c320_375 : Index := 320#32
  let c0_376 : Index := 0#32
  ![1, v858.toNat, 320, 0]
def k0_off469 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v875 : Index := Scalar.indexCast v66
  let c1_379 : Index := 1#32
  let c20_380 : Index := 20#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v876 : Index := Scalar.indexCast v159
  let c0_381 : Index := 0#32
  ![v875.toNat, 1, 20, v876.toNat, 0]
def k0_off470 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v881 : Index := Scalar.indexCast v66
  let c1_382 : Index := 1#32
  let c21_383 : Index := 21#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v882 : Index := Scalar.indexCast v159
  let c0_384 : Index := 0#32
  ![v881.toNat, 1, 21, v882.toNat, 0]
def k0_off471 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v886 : Index := Scalar.indexCast v65
  let c0_385 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v887 : Index := Scalar.indexCast arg20
  let c352 : Index := 352#32
  let c0_386 : Index := 0#32
  ![v886.toNat, 0, v887.toNat, 352, 0]
def k0_off472 (v130 : BitVec 32) : Fin 4 → Nat :=
  let c0_387 : Index := 0#32
  let c7_i32 : BitVec 32 := 7#32
  let v131 : BitVec 32 := Scalar.shrui v130 c7_i32
  let v891 : Index := Scalar.indexCast v131
  let c352_388 : Index := 352#32
  let c0_389 : Index := 0#32
  ![0, v891.toNat, 352, 0]
def k0_off473 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v908 : Index := Scalar.indexCast v66
  let c0_392 : Index := 0#32
  let c22 : Index := 22#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v909 : Index := Scalar.indexCast v159
  let c0_393 : Index := 0#32
  ![v908.toNat, 0, 22, v909.toNat, 0]
def k0_off474 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v914 : Index := Scalar.indexCast v66
  let c0_394 : Index := 0#32
  let c23 : Index := 23#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v915 : Index := Scalar.indexCast v159
  let c0_395 : Index := 0#32
  ![v914.toNat, 0, 23, v915.toNat, 0]
def k0_off475 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v919 : Index := Scalar.indexCast v65
  let c1_396 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v920 : Index := Scalar.indexCast arg20
  let c352_397 : Index := 352#32
  let c0_398 : Index := 0#32
  ![v919.toNat, 1, v920.toNat, 352, 0]
def k0_off476 (v130 : BitVec 32) : Fin 4 → Nat :=
  let c1_399 : Index := 1#32
  let c7_i32 : BitVec 32 := 7#32
  let v131 : BitVec 32 := Scalar.shrui v130 c7_i32
  let v924 : Index := Scalar.indexCast v131
  let c352_400 : Index := 352#32
  let c0_401 : Index := 0#32
  ![1, v924.toNat, 352, 0]
def k0_off477 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v941 : Index := Scalar.indexCast v66
  let c1_404 : Index := 1#32
  let c22_405 : Index := 22#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v942 : Index := Scalar.indexCast v159
  let c0_406 : Index := 0#32
  ![v941.toNat, 1, 22, v942.toNat, 0]
def k0_off478 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v947 : Index := Scalar.indexCast v66
  let c1_407 : Index := 1#32
  let c23_408 : Index := 23#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v948 : Index := Scalar.indexCast v159
  let c0_409 : Index := 0#32
  ![v947.toNat, 1, 23, v948.toNat, 0]
def k0_off479 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v952 : Index := Scalar.indexCast v65
  let c0_410 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v953 : Index := Scalar.indexCast arg20
  let c384 : Index := 384#32
  let c0_411 : Index := 0#32
  ![v952.toNat, 0, v953.toNat, 384, 0]
def k0_off480 (v130 : BitVec 32) : Fin 4 → Nat :=
  let c0_412 : Index := 0#32
  let c7_i32 : BitVec 32 := 7#32
  let v131 : BitVec 32 := Scalar.shrui v130 c7_i32
  let v957 : Index := Scalar.indexCast v131
  let c384_413 : Index := 384#32
  let c0_414 : Index := 0#32
  ![0, v957.toNat, 384, 0]
def k0_off481 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v974 : Index := Scalar.indexCast v66
  let c0_417 : Index := 0#32
  let c24 : Index := 24#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v975 : Index := Scalar.indexCast v159
  let c0_418 : Index := 0#32
  ![v974.toNat, 0, 24, v975.toNat, 0]
def k0_off482 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v980 : Index := Scalar.indexCast v66
  let c0_419 : Index := 0#32
  let c25 : Index := 25#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v981 : Index := Scalar.indexCast v159
  let c0_420 : Index := 0#32
  ![v980.toNat, 0, 25, v981.toNat, 0]
def k0_off483 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v985 : Index := Scalar.indexCast v65
  let c1_421 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v986 : Index := Scalar.indexCast arg20
  let c384_422 : Index := 384#32
  let c0_423 : Index := 0#32
  ![v985.toNat, 1, v986.toNat, 384, 0]
def k0_off484 (v130 : BitVec 32) : Fin 4 → Nat :=
  let c1_424 : Index := 1#32
  let c7_i32 : BitVec 32 := 7#32
  let v131 : BitVec 32 := Scalar.shrui v130 c7_i32
  let v990 : Index := Scalar.indexCast v131
  let c384_425 : Index := 384#32
  let c0_426 : Index := 0#32
  ![1, v990.toNat, 384, 0]
def k0_off485 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1007 : Index := Scalar.indexCast v66
  let c1_429 : Index := 1#32
  let c24_430 : Index := 24#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1008 : Index := Scalar.indexCast v159
  let c0_431 : Index := 0#32
  ![v1007.toNat, 1, 24, v1008.toNat, 0]
def k0_off486 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1013 : Index := Scalar.indexCast v66
  let c1_432 : Index := 1#32
  let c25_433 : Index := 25#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1014 : Index := Scalar.indexCast v159
  let c0_434 : Index := 0#32
  ![v1013.toNat, 1, 25, v1014.toNat, 0]
def k0_off487 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1018 : Index := Scalar.indexCast v65
  let c0_435 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1019 : Index := Scalar.indexCast arg20
  let c416 : Index := 416#32
  let c0_436 : Index := 0#32
  ![v1018.toNat, 0, v1019.toNat, 416, 0]
def k0_off488 (v130 : BitVec 32) : Fin 4 → Nat :=
  let c0_437 : Index := 0#32
  let c7_i32 : BitVec 32 := 7#32
  let v131 : BitVec 32 := Scalar.shrui v130 c7_i32
  let v1023 : Index := Scalar.indexCast v131
  let c416_438 : Index := 416#32
  let c0_439 : Index := 0#32
  ![0, v1023.toNat, 416, 0]
def k0_off489 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1040 : Index := Scalar.indexCast v66
  let c0_442 : Index := 0#32
  let c26 : Index := 26#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1041 : Index := Scalar.indexCast v159
  let c0_443 : Index := 0#32
  ![v1040.toNat, 0, 26, v1041.toNat, 0]
def k0_off490 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1046 : Index := Scalar.indexCast v66
  let c0_444 : Index := 0#32
  let c27 : Index := 27#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1047 : Index := Scalar.indexCast v159
  let c0_445 : Index := 0#32
  ![v1046.toNat, 0, 27, v1047.toNat, 0]
def k0_off491 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1051 : Index := Scalar.indexCast v65
  let c1_446 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1052 : Index := Scalar.indexCast arg20
  let c416_447 : Index := 416#32
  let c0_448 : Index := 0#32
  ![v1051.toNat, 1, v1052.toNat, 416, 0]
def k0_off492 (v130 : BitVec 32) : Fin 4 → Nat :=
  let c1_449 : Index := 1#32
  let c7_i32 : BitVec 32 := 7#32
  let v131 : BitVec 32 := Scalar.shrui v130 c7_i32
  let v1056 : Index := Scalar.indexCast v131
  let c416_450 : Index := 416#32
  let c0_451 : Index := 0#32
  ![1, v1056.toNat, 416, 0]
def k0_off493 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1073 : Index := Scalar.indexCast v66
  let c1_454 : Index := 1#32
  let c26_455 : Index := 26#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1074 : Index := Scalar.indexCast v159
  let c0_456 : Index := 0#32
  ![v1073.toNat, 1, 26, v1074.toNat, 0]
def k0_off494 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1079 : Index := Scalar.indexCast v66
  let c1_457 : Index := 1#32
  let c27_458 : Index := 27#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1080 : Index := Scalar.indexCast v159
  let c0_459 : Index := 0#32
  ![v1079.toNat, 1, 27, v1080.toNat, 0]
def k0_off495 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1084 : Index := Scalar.indexCast v65
  let c0_460 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1085 : Index := Scalar.indexCast arg20
  let c448 : Index := 448#32
  let c0_461 : Index := 0#32
  ![v1084.toNat, 0, v1085.toNat, 448, 0]
def k0_off496 (v130 : BitVec 32) : Fin 4 → Nat :=
  let c0_462 : Index := 0#32
  let c7_i32 : BitVec 32 := 7#32
  let v131 : BitVec 32 := Scalar.shrui v130 c7_i32
  let v1089 : Index := Scalar.indexCast v131
  let c448_463 : Index := 448#32
  let c0_464 : Index := 0#32
  ![0, v1089.toNat, 448, 0]
def k0_off497 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1106 : Index := Scalar.indexCast v66
  let c0_467 : Index := 0#32
  let c28 : Index := 28#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1107 : Index := Scalar.indexCast v159
  let c0_468 : Index := 0#32
  ![v1106.toNat, 0, 28, v1107.toNat, 0]
def k0_off498 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1112 : Index := Scalar.indexCast v66
  let c0_469 : Index := 0#32
  let c29 : Index := 29#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1113 : Index := Scalar.indexCast v159
  let c0_470 : Index := 0#32
  ![v1112.toNat, 0, 29, v1113.toNat, 0]
def k0_off499 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1117 : Index := Scalar.indexCast v65
  let c1_471 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1118 : Index := Scalar.indexCast arg20
  let c448_472 : Index := 448#32
  let c0_473 : Index := 0#32
  ![v1117.toNat, 1, v1118.toNat, 448, 0]
def k0_off500 (v130 : BitVec 32) : Fin 4 → Nat :=
  let c1_474 : Index := 1#32
  let c7_i32 : BitVec 32 := 7#32
  let v131 : BitVec 32 := Scalar.shrui v130 c7_i32
  let v1122 : Index := Scalar.indexCast v131
  let c448_475 : Index := 448#32
  let c0_476 : Index := 0#32
  ![1, v1122.toNat, 448, 0]
def k0_off501 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1139 : Index := Scalar.indexCast v66
  let c1_479 : Index := 1#32
  let c28_480 : Index := 28#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1140 : Index := Scalar.indexCast v159
  let c0_481 : Index := 0#32
  ![v1139.toNat, 1, 28, v1140.toNat, 0]
def k0_off502 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1145 : Index := Scalar.indexCast v66
  let c1_482 : Index := 1#32
  let c29_483 : Index := 29#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1146 : Index := Scalar.indexCast v159
  let c0_484 : Index := 0#32
  ![v1145.toNat, 1, 29, v1146.toNat, 0]
def k0_off503 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1150 : Index := Scalar.indexCast v65
  let c0_485 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1151 : Index := Scalar.indexCast arg20
  let c480 : Index := 480#32
  let c0_486 : Index := 0#32
  ![v1150.toNat, 0, v1151.toNat, 480, 0]
def k0_off504 (v130 : BitVec 32) : Fin 4 → Nat :=
  let c0_487 : Index := 0#32
  let c7_i32 : BitVec 32 := 7#32
  let v131 : BitVec 32 := Scalar.shrui v130 c7_i32
  let v1155 : Index := Scalar.indexCast v131
  let c480_488 : Index := 480#32
  let c0_489 : Index := 0#32
  ![0, v1155.toNat, 480, 0]
def k0_off505 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1172 : Index := Scalar.indexCast v66
  let c0_492 : Index := 0#32
  let c30 : Index := 30#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1173 : Index := Scalar.indexCast v159
  let c0_493 : Index := 0#32
  ![v1172.toNat, 0, 30, v1173.toNat, 0]
def k0_off506 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1178 : Index := Scalar.indexCast v66
  let c0_494 : Index := 0#32
  let c31 : Index := 31#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1179 : Index := Scalar.indexCast v159
  let c0_495 : Index := 0#32
  ![v1178.toNat, 0, 31, v1179.toNat, 0]
def k0_off507 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1183 : Index := Scalar.indexCast v65
  let c1_496 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1184 : Index := Scalar.indexCast arg20
  let c480_497 : Index := 480#32
  let c0_498 : Index := 0#32
  ![v1183.toNat, 1, v1184.toNat, 480, 0]
def k0_off508 (v130 : BitVec 32) : Fin 4 → Nat :=
  let c1_499 : Index := 1#32
  let c7_i32 : BitVec 32 := 7#32
  let v131 : BitVec 32 := Scalar.shrui v130 c7_i32
  let v1188 : Index := Scalar.indexCast v131
  let c480_500 : Index := 480#32
  let c0_501 : Index := 0#32
  ![1, v1188.toNat, 480, 0]
def k0_off509 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1205 : Index := Scalar.indexCast v66
  let c1_504 : Index := 1#32
  let c30_505 : Index := 30#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1206 : Index := Scalar.indexCast v159
  let c0_506 : Index := 0#32
  ![v1205.toNat, 1, 30, v1206.toNat, 0]
def k0_off510 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1211 : Index := Scalar.indexCast v66
  let c1_507 : Index := 1#32
  let c31_508 : Index := 31#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1212 : Index := Scalar.indexCast v159
  let c0_509 : Index := 0#32
  ![v1211.toNat, 1, 31, v1212.toNat, 0]
def k0_off511 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1216 : Index := Scalar.indexCast v65
  let c0_510 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1217 : Index := Scalar.indexCast arg20
  let c512 : Index := 512#32
  let c0_511 : Index := 0#32
  ![v1216.toNat, 0, v1217.toNat, 512, 0]
def k0_off512 (v130 : BitVec 32) : Fin 4 → Nat :=
  let c0_512 : Index := 0#32
  let c7_i32 : BitVec 32 := 7#32
  let v131 : BitVec 32 := Scalar.shrui v130 c7_i32
  let v1221 : Index := Scalar.indexCast v131
  let c512_513 : Index := 512#32
  let c0_514 : Index := 0#32
  ![0, v1221.toNat, 512, 0]
def k0_off513 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1238 : Index := Scalar.indexCast v66
  let c0_517 : Index := 0#32
  let c32_518 : Index := 32#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1239 : Index := Scalar.indexCast v159
  let c0_519 : Index := 0#32
  ![v1238.toNat, 0, 32, v1239.toNat, 0]
def k0_off514 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1244 : Index := Scalar.indexCast v66
  let c0_520 : Index := 0#32
  let c33 : Index := 33#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1245 : Index := Scalar.indexCast v159
  let c0_521 : Index := 0#32
  ![v1244.toNat, 0, 33, v1245.toNat, 0]
def k0_off515 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1249 : Index := Scalar.indexCast v65
  let c1_522 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1250 : Index := Scalar.indexCast arg20
  let c512_523 : Index := 512#32
  let c0_524 : Index := 0#32
  ![v1249.toNat, 1, v1250.toNat, 512, 0]
def k0_off516 (v130 : BitVec 32) : Fin 4 → Nat :=
  let c1_525 : Index := 1#32
  let c7_i32 : BitVec 32 := 7#32
  let v131 : BitVec 32 := Scalar.shrui v130 c7_i32
  let v1254 : Index := Scalar.indexCast v131
  let c512_526 : Index := 512#32
  let c0_527 : Index := 0#32
  ![1, v1254.toNat, 512, 0]
def k0_off517 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1271 : Index := Scalar.indexCast v66
  let c1_530 : Index := 1#32
  let c32_531 : Index := 32#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1272 : Index := Scalar.indexCast v159
  let c0_532 : Index := 0#32
  ![v1271.toNat, 1, 32, v1272.toNat, 0]
def k0_off518 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1277 : Index := Scalar.indexCast v66
  let c1_533 : Index := 1#32
  let c33_534 : Index := 33#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1278 : Index := Scalar.indexCast v159
  let c0_535 : Index := 0#32
  ![v1277.toNat, 1, 33, v1278.toNat, 0]
def k0_off519 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1282 : Index := Scalar.indexCast v65
  let c0_536 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1283 : Index := Scalar.indexCast arg20
  let c544 : Index := 544#32
  let c0_537 : Index := 0#32
  ![v1282.toNat, 0, v1283.toNat, 544, 0]
def k0_off520 (v130 : BitVec 32) : Fin 4 → Nat :=
  let c0_538 : Index := 0#32
  let c7_i32 : BitVec 32 := 7#32
  let v131 : BitVec 32 := Scalar.shrui v130 c7_i32
  let v1287 : Index := Scalar.indexCast v131
  let c544_539 : Index := 544#32
  let c0_540 : Index := 0#32
  ![0, v1287.toNat, 544, 0]
def k0_off521 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1304 : Index := Scalar.indexCast v66
  let c0_543 : Index := 0#32
  let c34 : Index := 34#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1305 : Index := Scalar.indexCast v159
  let c0_544 : Index := 0#32
  ![v1304.toNat, 0, 34, v1305.toNat, 0]
def k0_off522 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1310 : Index := Scalar.indexCast v66
  let c0_545 : Index := 0#32
  let c35 : Index := 35#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1311 : Index := Scalar.indexCast v159
  let c0_546 : Index := 0#32
  ![v1310.toNat, 0, 35, v1311.toNat, 0]
def k0_off523 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1315 : Index := Scalar.indexCast v65
  let c1_547 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1316 : Index := Scalar.indexCast arg20
  let c544_548 : Index := 544#32
  let c0_549 : Index := 0#32
  ![v1315.toNat, 1, v1316.toNat, 544, 0]
def k0_off524 (v130 : BitVec 32) : Fin 4 → Nat :=
  let c1_550 : Index := 1#32
  let c7_i32 : BitVec 32 := 7#32
  let v131 : BitVec 32 := Scalar.shrui v130 c7_i32
  let v1320 : Index := Scalar.indexCast v131
  let c544_551 : Index := 544#32
  let c0_552 : Index := 0#32
  ![1, v1320.toNat, 544, 0]
def k0_off525 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1337 : Index := Scalar.indexCast v66
  let c1_555 : Index := 1#32
  let c34_556 : Index := 34#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1338 : Index := Scalar.indexCast v159
  let c0_557 : Index := 0#32
  ![v1337.toNat, 1, 34, v1338.toNat, 0]
def k0_off526 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1343 : Index := Scalar.indexCast v66
  let c1_558 : Index := 1#32
  let c35_559 : Index := 35#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1344 : Index := Scalar.indexCast v159
  let c0_560 : Index := 0#32
  ![v1343.toNat, 1, 35, v1344.toNat, 0]
def k0_off527 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1348 : Index := Scalar.indexCast v65
  let c0_561 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1349 : Index := Scalar.indexCast arg20
  let c576 : Index := 576#32
  let c0_562 : Index := 0#32
  ![v1348.toNat, 0, v1349.toNat, 576, 0]
def k0_off528 (v130 : BitVec 32) : Fin 4 → Nat :=
  let c0_563 : Index := 0#32
  let c7_i32 : BitVec 32 := 7#32
  let v131 : BitVec 32 := Scalar.shrui v130 c7_i32
  let v1353 : Index := Scalar.indexCast v131
  let c576_564 : Index := 576#32
  let c0_565 : Index := 0#32
  ![0, v1353.toNat, 576, 0]
def k0_off529 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1370 : Index := Scalar.indexCast v66
  let c0_568 : Index := 0#32
  let c36 : Index := 36#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1371 : Index := Scalar.indexCast v159
  let c0_569 : Index := 0#32
  ![v1370.toNat, 0, 36, v1371.toNat, 0]
def k0_off530 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1376 : Index := Scalar.indexCast v66
  let c0_570 : Index := 0#32
  let c37 : Index := 37#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1377 : Index := Scalar.indexCast v159
  let c0_571 : Index := 0#32
  ![v1376.toNat, 0, 37, v1377.toNat, 0]
def k0_off531 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1381 : Index := Scalar.indexCast v65
  let c1_572 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1382 : Index := Scalar.indexCast arg20
  let c576_573 : Index := 576#32
  let c0_574 : Index := 0#32
  ![v1381.toNat, 1, v1382.toNat, 576, 0]
def k0_off532 (v130 : BitVec 32) : Fin 4 → Nat :=
  let c1_575 : Index := 1#32
  let c7_i32 : BitVec 32 := 7#32
  let v131 : BitVec 32 := Scalar.shrui v130 c7_i32
  let v1386 : Index := Scalar.indexCast v131
  let c576_576 : Index := 576#32
  let c0_577 : Index := 0#32
  ![1, v1386.toNat, 576, 0]
def k0_off533 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1403 : Index := Scalar.indexCast v66
  let c1_580 : Index := 1#32
  let c36_581 : Index := 36#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1404 : Index := Scalar.indexCast v159
  let c0_582 : Index := 0#32
  ![v1403.toNat, 1, 36, v1404.toNat, 0]
def k0_off534 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1409 : Index := Scalar.indexCast v66
  let c1_583 : Index := 1#32
  let c37_584 : Index := 37#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1410 : Index := Scalar.indexCast v159
  let c0_585 : Index := 0#32
  ![v1409.toNat, 1, 37, v1410.toNat, 0]
def k0_off535 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1414 : Index := Scalar.indexCast v65
  let c0_586 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1415 : Index := Scalar.indexCast arg20
  let c608 : Index := 608#32
  let c0_587 : Index := 0#32
  ![v1414.toNat, 0, v1415.toNat, 608, 0]
def k0_off536 (v130 : BitVec 32) : Fin 4 → Nat :=
  let c0_588 : Index := 0#32
  let c7_i32 : BitVec 32 := 7#32
  let v131 : BitVec 32 := Scalar.shrui v130 c7_i32
  let v1419 : Index := Scalar.indexCast v131
  let c608_589 : Index := 608#32
  let c0_590 : Index := 0#32
  ![0, v1419.toNat, 608, 0]
def k0_off537 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1436 : Index := Scalar.indexCast v66
  let c0_593 : Index := 0#32
  let c38 : Index := 38#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1437 : Index := Scalar.indexCast v159
  let c0_594 : Index := 0#32
  ![v1436.toNat, 0, 38, v1437.toNat, 0]
def k0_off538 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1442 : Index := Scalar.indexCast v66
  let c0_595 : Index := 0#32
  let c39 : Index := 39#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1443 : Index := Scalar.indexCast v159
  let c0_596 : Index := 0#32
  ![v1442.toNat, 0, 39, v1443.toNat, 0]
def k0_off539 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1447 : Index := Scalar.indexCast v65
  let c1_597 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1448 : Index := Scalar.indexCast arg20
  let c608_598 : Index := 608#32
  let c0_599 : Index := 0#32
  ![v1447.toNat, 1, v1448.toNat, 608, 0]
def k0_off540 (v130 : BitVec 32) : Fin 4 → Nat :=
  let c1_600 : Index := 1#32
  let c7_i32 : BitVec 32 := 7#32
  let v131 : BitVec 32 := Scalar.shrui v130 c7_i32
  let v1452 : Index := Scalar.indexCast v131
  let c608_601 : Index := 608#32
  let c0_602 : Index := 0#32
  ![1, v1452.toNat, 608, 0]
def k0_off541 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1469 : Index := Scalar.indexCast v66
  let c1_605 : Index := 1#32
  let c38_606 : Index := 38#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1470 : Index := Scalar.indexCast v159
  let c0_607 : Index := 0#32
  ![v1469.toNat, 1, 38, v1470.toNat, 0]
def k0_off542 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1475 : Index := Scalar.indexCast v66
  let c1_608 : Index := 1#32
  let c39_609 : Index := 39#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1476 : Index := Scalar.indexCast v159
  let c0_610 : Index := 0#32
  ![v1475.toNat, 1, 39, v1476.toNat, 0]
def k0_off543 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1480 : Index := Scalar.indexCast v65
  let c0_611 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1481 : Index := Scalar.indexCast arg20
  let c640 : Index := 640#32
  let c0_612 : Index := 0#32
  ![v1480.toNat, 0, v1481.toNat, 640, 0]
def k0_off544 (v130 : BitVec 32) : Fin 4 → Nat :=
  let c0_613 : Index := 0#32
  let c7_i32 : BitVec 32 := 7#32
  let v131 : BitVec 32 := Scalar.shrui v130 c7_i32
  let v1485 : Index := Scalar.indexCast v131
  let c640_614 : Index := 640#32
  let c0_615 : Index := 0#32
  ![0, v1485.toNat, 640, 0]
def k0_off545 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1502 : Index := Scalar.indexCast v66
  let c0_618 : Index := 0#32
  let c40 : Index := 40#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1503 : Index := Scalar.indexCast v159
  let c0_619 : Index := 0#32
  ![v1502.toNat, 0, 40, v1503.toNat, 0]
def k0_off546 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1508 : Index := Scalar.indexCast v66
  let c0_620 : Index := 0#32
  let c41 : Index := 41#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1509 : Index := Scalar.indexCast v159
  let c0_621 : Index := 0#32
  ![v1508.toNat, 0, 41, v1509.toNat, 0]
def k0_off547 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1513 : Index := Scalar.indexCast v65
  let c1_622 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1514 : Index := Scalar.indexCast arg20
  let c640_623 : Index := 640#32
  let c0_624 : Index := 0#32
  ![v1513.toNat, 1, v1514.toNat, 640, 0]
def k0_off548 (v130 : BitVec 32) : Fin 4 → Nat :=
  let c1_625 : Index := 1#32
  let c7_i32 : BitVec 32 := 7#32
  let v131 : BitVec 32 := Scalar.shrui v130 c7_i32
  let v1518 : Index := Scalar.indexCast v131
  let c640_626 : Index := 640#32
  let c0_627 : Index := 0#32
  ![1, v1518.toNat, 640, 0]
def k0_off549 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1535 : Index := Scalar.indexCast v66
  let c1_630 : Index := 1#32
  let c40_631 : Index := 40#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1536 : Index := Scalar.indexCast v159
  let c0_632 : Index := 0#32
  ![v1535.toNat, 1, 40, v1536.toNat, 0]
def k0_off550 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1541 : Index := Scalar.indexCast v66
  let c1_633 : Index := 1#32
  let c41_634 : Index := 41#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1542 : Index := Scalar.indexCast v159
  let c0_635 : Index := 0#32
  ![v1541.toNat, 1, 41, v1542.toNat, 0]
def k0_off551 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1546 : Index := Scalar.indexCast v65
  let c0_636 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1547 : Index := Scalar.indexCast arg20
  let c672 : Index := 672#32
  let c0_637 : Index := 0#32
  ![v1546.toNat, 0, v1547.toNat, 672, 0]
def k0_off552 (v130 : BitVec 32) : Fin 4 → Nat :=
  let c0_638 : Index := 0#32
  let c7_i32 : BitVec 32 := 7#32
  let v131 : BitVec 32 := Scalar.shrui v130 c7_i32
  let v1551 : Index := Scalar.indexCast v131
  let c672_639 : Index := 672#32
  let c0_640 : Index := 0#32
  ![0, v1551.toNat, 672, 0]
def k0_off553 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1568 : Index := Scalar.indexCast v66
  let c0_643 : Index := 0#32
  let c42 : Index := 42#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1569 : Index := Scalar.indexCast v159
  let c0_644 : Index := 0#32
  ![v1568.toNat, 0, 42, v1569.toNat, 0]
def k0_off554 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1574 : Index := Scalar.indexCast v66
  let c0_645 : Index := 0#32
  let c43 : Index := 43#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1575 : Index := Scalar.indexCast v159
  let c0_646 : Index := 0#32
  ![v1574.toNat, 0, 43, v1575.toNat, 0]
def k0_off555 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1579 : Index := Scalar.indexCast v65
  let c1_647 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1580 : Index := Scalar.indexCast arg20
  let c672_648 : Index := 672#32
  let c0_649 : Index := 0#32
  ![v1579.toNat, 1, v1580.toNat, 672, 0]
def k0_off556 (v130 : BitVec 32) : Fin 4 → Nat :=
  let c1_650 : Index := 1#32
  let c7_i32 : BitVec 32 := 7#32
  let v131 : BitVec 32 := Scalar.shrui v130 c7_i32
  let v1584 : Index := Scalar.indexCast v131
  let c672_651 : Index := 672#32
  let c0_652 : Index := 0#32
  ![1, v1584.toNat, 672, 0]
def k0_off557 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1601 : Index := Scalar.indexCast v66
  let c1_655 : Index := 1#32
  let c42_656 : Index := 42#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1602 : Index := Scalar.indexCast v159
  let c0_657 : Index := 0#32
  ![v1601.toNat, 1, 42, v1602.toNat, 0]
def k0_off558 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1607 : Index := Scalar.indexCast v66
  let c1_658 : Index := 1#32
  let c43_659 : Index := 43#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1608 : Index := Scalar.indexCast v159
  let c0_660 : Index := 0#32
  ![v1607.toNat, 1, 43, v1608.toNat, 0]
def k0_off559 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1612 : Index := Scalar.indexCast v65
  let c0_661 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1613 : Index := Scalar.indexCast arg20
  let c704 : Index := 704#32
  let c0_662 : Index := 0#32
  ![v1612.toNat, 0, v1613.toNat, 704, 0]
def k0_off560 (v130 : BitVec 32) : Fin 4 → Nat :=
  let c0_663 : Index := 0#32
  let c7_i32 : BitVec 32 := 7#32
  let v131 : BitVec 32 := Scalar.shrui v130 c7_i32
  let v1617 : Index := Scalar.indexCast v131
  let c704_664 : Index := 704#32
  let c0_665 : Index := 0#32
  ![0, v1617.toNat, 704, 0]
def k0_off561 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1634 : Index := Scalar.indexCast v66
  let c0_668 : Index := 0#32
  let c44 : Index := 44#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1635 : Index := Scalar.indexCast v159
  let c0_669 : Index := 0#32
  ![v1634.toNat, 0, 44, v1635.toNat, 0]
def k0_off562 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1640 : Index := Scalar.indexCast v66
  let c0_670 : Index := 0#32
  let c45 : Index := 45#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1641 : Index := Scalar.indexCast v159
  let c0_671 : Index := 0#32
  ![v1640.toNat, 0, 45, v1641.toNat, 0]
def k0_off563 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1645 : Index := Scalar.indexCast v65
  let c1_672 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1646 : Index := Scalar.indexCast arg20
  let c704_673 : Index := 704#32
  let c0_674 : Index := 0#32
  ![v1645.toNat, 1, v1646.toNat, 704, 0]
def k0_off564 (v130 : BitVec 32) : Fin 4 → Nat :=
  let c1_675 : Index := 1#32
  let c7_i32 : BitVec 32 := 7#32
  let v131 : BitVec 32 := Scalar.shrui v130 c7_i32
  let v1650 : Index := Scalar.indexCast v131
  let c704_676 : Index := 704#32
  let c0_677 : Index := 0#32
  ![1, v1650.toNat, 704, 0]
def k0_off565 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1667 : Index := Scalar.indexCast v66
  let c1_680 : Index := 1#32
  let c44_681 : Index := 44#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1668 : Index := Scalar.indexCast v159
  let c0_682 : Index := 0#32
  ![v1667.toNat, 1, 44, v1668.toNat, 0]
def k0_off566 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1673 : Index := Scalar.indexCast v66
  let c1_683 : Index := 1#32
  let c45_684 : Index := 45#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1674 : Index := Scalar.indexCast v159
  let c0_685 : Index := 0#32
  ![v1673.toNat, 1, 45, v1674.toNat, 0]
def k0_off567 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1678 : Index := Scalar.indexCast v65
  let c0_686 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1679 : Index := Scalar.indexCast arg20
  let c736 : Index := 736#32
  let c0_687 : Index := 0#32
  ![v1678.toNat, 0, v1679.toNat, 736, 0]
def k0_off568 (v130 : BitVec 32) : Fin 4 → Nat :=
  let c0_688 : Index := 0#32
  let c7_i32 : BitVec 32 := 7#32
  let v131 : BitVec 32 := Scalar.shrui v130 c7_i32
  let v1683 : Index := Scalar.indexCast v131
  let c736_689 : Index := 736#32
  let c0_690 : Index := 0#32
  ![0, v1683.toNat, 736, 0]
def k0_off569 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1700 : Index := Scalar.indexCast v66
  let c0_693 : Index := 0#32
  let c46 : Index := 46#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1701 : Index := Scalar.indexCast v159
  let c0_694 : Index := 0#32
  ![v1700.toNat, 0, 46, v1701.toNat, 0]
def k0_off570 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1706 : Index := Scalar.indexCast v66
  let c0_695 : Index := 0#32
  let c47 : Index := 47#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1707 : Index := Scalar.indexCast v159
  let c0_696 : Index := 0#32
  ![v1706.toNat, 0, 47, v1707.toNat, 0]
def k0_off571 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1711 : Index := Scalar.indexCast v65
  let c1_697 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1712 : Index := Scalar.indexCast arg20
  let c736_698 : Index := 736#32
  let c0_699 : Index := 0#32
  ![v1711.toNat, 1, v1712.toNat, 736, 0]
def k0_off572 (v130 : BitVec 32) : Fin 4 → Nat :=
  let c1_700 : Index := 1#32
  let c7_i32 : BitVec 32 := 7#32
  let v131 : BitVec 32 := Scalar.shrui v130 c7_i32
  let v1716 : Index := Scalar.indexCast v131
  let c736_701 : Index := 736#32
  let c0_702 : Index := 0#32
  ![1, v1716.toNat, 736, 0]
def k0_off573 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1733 : Index := Scalar.indexCast v66
  let c1_705 : Index := 1#32
  let c46_706 : Index := 46#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1734 : Index := Scalar.indexCast v159
  let c0_707 : Index := 0#32
  ![v1733.toNat, 1, 46, v1734.toNat, 0]
def k0_off574 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1739 : Index := Scalar.indexCast v66
  let c1_708 : Index := 1#32
  let c47_709 : Index := 47#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1740 : Index := Scalar.indexCast v159
  let c0_710 : Index := 0#32
  ![v1739.toNat, 1, 47, v1740.toNat, 0]
def k0_off575 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1744 : Index := Scalar.indexCast v65
  let c0_711 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1745 : Index := Scalar.indexCast arg20
  let c768 : Index := 768#32
  let c0_712 : Index := 0#32
  ![v1744.toNat, 0, v1745.toNat, 768, 0]
def k0_off576 (v130 : BitVec 32) : Fin 4 → Nat :=
  let c0_713 : Index := 0#32
  let c7_i32 : BitVec 32 := 7#32
  let v131 : BitVec 32 := Scalar.shrui v130 c7_i32
  let v1749 : Index := Scalar.indexCast v131
  let c768_714 : Index := 768#32
  let c0_715 : Index := 0#32
  ![0, v1749.toNat, 768, 0]
def k0_off577 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1766 : Index := Scalar.indexCast v66
  let c0_718 : Index := 0#32
  let c48 : Index := 48#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1767 : Index := Scalar.indexCast v159
  let c0_719 : Index := 0#32
  ![v1766.toNat, 0, 48, v1767.toNat, 0]
def k0_off578 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1772 : Index := Scalar.indexCast v66
  let c0_720 : Index := 0#32
  let c49 : Index := 49#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1773 : Index := Scalar.indexCast v159
  let c0_721 : Index := 0#32
  ![v1772.toNat, 0, 49, v1773.toNat, 0]
def k0_off579 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1777 : Index := Scalar.indexCast v65
  let c1_722 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1778 : Index := Scalar.indexCast arg20
  let c768_723 : Index := 768#32
  let c0_724 : Index := 0#32
  ![v1777.toNat, 1, v1778.toNat, 768, 0]
def k0_off580 (v130 : BitVec 32) : Fin 4 → Nat :=
  let c1_725 : Index := 1#32
  let c7_i32 : BitVec 32 := 7#32
  let v131 : BitVec 32 := Scalar.shrui v130 c7_i32
  let v1782 : Index := Scalar.indexCast v131
  let c768_726 : Index := 768#32
  let c0_727 : Index := 0#32
  ![1, v1782.toNat, 768, 0]
def k0_off581 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1799 : Index := Scalar.indexCast v66
  let c1_730 : Index := 1#32
  let c48_731 : Index := 48#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1800 : Index := Scalar.indexCast v159
  let c0_732 : Index := 0#32
  ![v1799.toNat, 1, 48, v1800.toNat, 0]
def k0_off582 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1805 : Index := Scalar.indexCast v66
  let c1_733 : Index := 1#32
  let c49_734 : Index := 49#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1806 : Index := Scalar.indexCast v159
  let c0_735 : Index := 0#32
  ![v1805.toNat, 1, 49, v1806.toNat, 0]
def k0_off583 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1810 : Index := Scalar.indexCast v65
  let c0_736 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1811 : Index := Scalar.indexCast arg20
  let c800 : Index := 800#32
  let c0_737 : Index := 0#32
  ![v1810.toNat, 0, v1811.toNat, 800, 0]
def k0_off584 (v130 : BitVec 32) : Fin 4 → Nat :=
  let c0_738 : Index := 0#32
  let c7_i32 : BitVec 32 := 7#32
  let v131 : BitVec 32 := Scalar.shrui v130 c7_i32
  let v1815 : Index := Scalar.indexCast v131
  let c800_739 : Index := 800#32
  let c0_740 : Index := 0#32
  ![0, v1815.toNat, 800, 0]
def k0_off585 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1832 : Index := Scalar.indexCast v66
  let c0_743 : Index := 0#32
  let c50 : Index := 50#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1833 : Index := Scalar.indexCast v159
  let c0_744 : Index := 0#32
  ![v1832.toNat, 0, 50, v1833.toNat, 0]
def k0_off586 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1838 : Index := Scalar.indexCast v66
  let c0_745 : Index := 0#32
  let c51 : Index := 51#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1839 : Index := Scalar.indexCast v159
  let c0_746 : Index := 0#32
  ![v1838.toNat, 0, 51, v1839.toNat, 0]
def k0_off587 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1843 : Index := Scalar.indexCast v65
  let c1_747 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1844 : Index := Scalar.indexCast arg20
  let c800_748 : Index := 800#32
  let c0_749 : Index := 0#32
  ![v1843.toNat, 1, v1844.toNat, 800, 0]
def k0_off588 (v130 : BitVec 32) : Fin 4 → Nat :=
  let c1_750 : Index := 1#32
  let c7_i32 : BitVec 32 := 7#32
  let v131 : BitVec 32 := Scalar.shrui v130 c7_i32
  let v1848 : Index := Scalar.indexCast v131
  let c800_751 : Index := 800#32
  let c0_752 : Index := 0#32
  ![1, v1848.toNat, 800, 0]
def k0_off589 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1865 : Index := Scalar.indexCast v66
  let c1_755 : Index := 1#32
  let c50_756 : Index := 50#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1866 : Index := Scalar.indexCast v159
  let c0_757 : Index := 0#32
  ![v1865.toNat, 1, 50, v1866.toNat, 0]
def k0_off590 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1871 : Index := Scalar.indexCast v66
  let c1_758 : Index := 1#32
  let c51_759 : Index := 51#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1872 : Index := Scalar.indexCast v159
  let c0_760 : Index := 0#32
  ![v1871.toNat, 1, 51, v1872.toNat, 0]
def k0_off591 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1876 : Index := Scalar.indexCast v65
  let c0_761 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1877 : Index := Scalar.indexCast arg20
  let c832 : Index := 832#32
  let c0_762 : Index := 0#32
  ![v1876.toNat, 0, v1877.toNat, 832, 0]
def k0_off592 (v130 : BitVec 32) : Fin 4 → Nat :=
  let c0_763 : Index := 0#32
  let c7_i32 : BitVec 32 := 7#32
  let v131 : BitVec 32 := Scalar.shrui v130 c7_i32
  let v1881 : Index := Scalar.indexCast v131
  let c832_764 : Index := 832#32
  let c0_765 : Index := 0#32
  ![0, v1881.toNat, 832, 0]
def k0_off593 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1898 : Index := Scalar.indexCast v66
  let c0_768 : Index := 0#32
  let c52 : Index := 52#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1899 : Index := Scalar.indexCast v159
  let c0_769 : Index := 0#32
  ![v1898.toNat, 0, 52, v1899.toNat, 0]
def k0_off594 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1904 : Index := Scalar.indexCast v66
  let c0_770 : Index := 0#32
  let c53 : Index := 53#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1905 : Index := Scalar.indexCast v159
  let c0_771 : Index := 0#32
  ![v1904.toNat, 0, 53, v1905.toNat, 0]
def k0_off595 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1909 : Index := Scalar.indexCast v65
  let c1_772 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1910 : Index := Scalar.indexCast arg20
  let c832_773 : Index := 832#32
  let c0_774 : Index := 0#32
  ![v1909.toNat, 1, v1910.toNat, 832, 0]
def k0_off596 (v130 : BitVec 32) : Fin 4 → Nat :=
  let c1_775 : Index := 1#32
  let c7_i32 : BitVec 32 := 7#32
  let v131 : BitVec 32 := Scalar.shrui v130 c7_i32
  let v1914 : Index := Scalar.indexCast v131
  let c832_776 : Index := 832#32
  let c0_777 : Index := 0#32
  ![1, v1914.toNat, 832, 0]
def k0_off597 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1931 : Index := Scalar.indexCast v66
  let c1_780 : Index := 1#32
  let c52_781 : Index := 52#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1932 : Index := Scalar.indexCast v159
  let c0_782 : Index := 0#32
  ![v1931.toNat, 1, 52, v1932.toNat, 0]
def k0_off598 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1937 : Index := Scalar.indexCast v66
  let c1_783 : Index := 1#32
  let c53_784 : Index := 53#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1938 : Index := Scalar.indexCast v159
  let c0_785 : Index := 0#32
  ![v1937.toNat, 1, 53, v1938.toNat, 0]
def k0_off599 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1942 : Index := Scalar.indexCast v65
  let c0_786 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1943 : Index := Scalar.indexCast arg20
  let c864 : Index := 864#32
  let c0_787 : Index := 0#32
  ![v1942.toNat, 0, v1943.toNat, 864, 0]
def k0_off600 (v130 : BitVec 32) : Fin 4 → Nat :=
  let c0_788 : Index := 0#32
  let c7_i32 : BitVec 32 := 7#32
  let v131 : BitVec 32 := Scalar.shrui v130 c7_i32
  let v1947 : Index := Scalar.indexCast v131
  let c864_789 : Index := 864#32
  let c0_790 : Index := 0#32
  ![0, v1947.toNat, 864, 0]
def k0_off601 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1964 : Index := Scalar.indexCast v66
  let c0_793 : Index := 0#32
  let c54 : Index := 54#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1965 : Index := Scalar.indexCast v159
  let c0_794 : Index := 0#32
  ![v1964.toNat, 0, 54, v1965.toNat, 0]
def k0_off602 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1970 : Index := Scalar.indexCast v66
  let c0_795 : Index := 0#32
  let c55 : Index := 55#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1971 : Index := Scalar.indexCast v159
  let c0_796 : Index := 0#32
  ![v1970.toNat, 0, 55, v1971.toNat, 0]
def k0_off603 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v1975 : Index := Scalar.indexCast v65
  let c1_797 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v1976 : Index := Scalar.indexCast arg20
  let c864_798 : Index := 864#32
  let c0_799 : Index := 0#32
  ![v1975.toNat, 1, v1976.toNat, 864, 0]
def k0_off604 (v130 : BitVec 32) : Fin 4 → Nat :=
  let c1_800 : Index := 1#32
  let c7_i32 : BitVec 32 := 7#32
  let v131 : BitVec 32 := Scalar.shrui v130 c7_i32
  let v1980 : Index := Scalar.indexCast v131
  let c864_801 : Index := 864#32
  let c0_802 : Index := 0#32
  ![1, v1980.toNat, 864, 0]
def k0_off605 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v1997 : Index := Scalar.indexCast v66
  let c1_805 : Index := 1#32
  let c54_806 : Index := 54#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v1998 : Index := Scalar.indexCast v159
  let c0_807 : Index := 0#32
  ![v1997.toNat, 1, 54, v1998.toNat, 0]
def k0_off606 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2003 : Index := Scalar.indexCast v66
  let c1_808 : Index := 1#32
  let c55_809 : Index := 55#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2004 : Index := Scalar.indexCast v159
  let c0_810 : Index := 0#32
  ![v2003.toNat, 1, 55, v2004.toNat, 0]
def k0_off607 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2008 : Index := Scalar.indexCast v65
  let c0_811 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v2009 : Index := Scalar.indexCast arg20
  let c896 : Index := 896#32
  let c0_812 : Index := 0#32
  ![v2008.toNat, 0, v2009.toNat, 896, 0]
def k0_off608 (v130 : BitVec 32) : Fin 4 → Nat :=
  let c0_813 : Index := 0#32
  let c7_i32 : BitVec 32 := 7#32
  let v131 : BitVec 32 := Scalar.shrui v130 c7_i32
  let v2013 : Index := Scalar.indexCast v131
  let c896_814 : Index := 896#32
  let c0_815 : Index := 0#32
  ![0, v2013.toNat, 896, 0]
def k0_off609 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2030 : Index := Scalar.indexCast v66
  let c0_818 : Index := 0#32
  let c56 : Index := 56#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2031 : Index := Scalar.indexCast v159
  let c0_819 : Index := 0#32
  ![v2030.toNat, 0, 56, v2031.toNat, 0]
def k0_off610 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2036 : Index := Scalar.indexCast v66
  let c0_820 : Index := 0#32
  let c57 : Index := 57#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2037 : Index := Scalar.indexCast v159
  let c0_821 : Index := 0#32
  ![v2036.toNat, 0, 57, v2037.toNat, 0]
def k0_off611 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2041 : Index := Scalar.indexCast v65
  let c1_822 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v2042 : Index := Scalar.indexCast arg20
  let c896_823 : Index := 896#32
  let c0_824 : Index := 0#32
  ![v2041.toNat, 1, v2042.toNat, 896, 0]
def k0_off612 (v130 : BitVec 32) : Fin 4 → Nat :=
  let c1_825 : Index := 1#32
  let c7_i32 : BitVec 32 := 7#32
  let v131 : BitVec 32 := Scalar.shrui v130 c7_i32
  let v2046 : Index := Scalar.indexCast v131
  let c896_826 : Index := 896#32
  let c0_827 : Index := 0#32
  ![1, v2046.toNat, 896, 0]
def k0_off613 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2063 : Index := Scalar.indexCast v66
  let c1_830 : Index := 1#32
  let c56_831 : Index := 56#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2064 : Index := Scalar.indexCast v159
  let c0_832 : Index := 0#32
  ![v2063.toNat, 1, 56, v2064.toNat, 0]
def k0_off614 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2069 : Index := Scalar.indexCast v66
  let c1_833 : Index := 1#32
  let c57_834 : Index := 57#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2070 : Index := Scalar.indexCast v159
  let c0_835 : Index := 0#32
  ![v2069.toNat, 1, 57, v2070.toNat, 0]
def k0_off615 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2074 : Index := Scalar.indexCast v65
  let c0_836 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v2075 : Index := Scalar.indexCast arg20
  let c928 : Index := 928#32
  let c0_837 : Index := 0#32
  ![v2074.toNat, 0, v2075.toNat, 928, 0]
def k0_off616 (v130 : BitVec 32) : Fin 4 → Nat :=
  let c0_838 : Index := 0#32
  let c7_i32 : BitVec 32 := 7#32
  let v131 : BitVec 32 := Scalar.shrui v130 c7_i32
  let v2079 : Index := Scalar.indexCast v131
  let c928_839 : Index := 928#32
  let c0_840 : Index := 0#32
  ![0, v2079.toNat, 928, 0]
def k0_off617 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2096 : Index := Scalar.indexCast v66
  let c0_843 : Index := 0#32
  let c58 : Index := 58#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2097 : Index := Scalar.indexCast v159
  let c0_844 : Index := 0#32
  ![v2096.toNat, 0, 58, v2097.toNat, 0]
def k0_off618 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2102 : Index := Scalar.indexCast v66
  let c0_845 : Index := 0#32
  let c59 : Index := 59#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2103 : Index := Scalar.indexCast v159
  let c0_846 : Index := 0#32
  ![v2102.toNat, 0, 59, v2103.toNat, 0]
def k0_off619 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2107 : Index := Scalar.indexCast v65
  let c1_847 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v2108 : Index := Scalar.indexCast arg20
  let c928_848 : Index := 928#32
  let c0_849 : Index := 0#32
  ![v2107.toNat, 1, v2108.toNat, 928, 0]
def k0_off620 (v130 : BitVec 32) : Fin 4 → Nat :=
  let c1_850 : Index := 1#32
  let c7_i32 : BitVec 32 := 7#32
  let v131 : BitVec 32 := Scalar.shrui v130 c7_i32
  let v2112 : Index := Scalar.indexCast v131
  let c928_851 : Index := 928#32
  let c0_852 : Index := 0#32
  ![1, v2112.toNat, 928, 0]
def k0_off621 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2129 : Index := Scalar.indexCast v66
  let c1_855 : Index := 1#32
  let c58_856 : Index := 58#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2130 : Index := Scalar.indexCast v159
  let c0_857 : Index := 0#32
  ![v2129.toNat, 1, 58, v2130.toNat, 0]
def k0_off622 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2135 : Index := Scalar.indexCast v66
  let c1_858 : Index := 1#32
  let c59_859 : Index := 59#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2136 : Index := Scalar.indexCast v159
  let c0_860 : Index := 0#32
  ![v2135.toNat, 1, 59, v2136.toNat, 0]
def k0_off623 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2140 : Index := Scalar.indexCast v65
  let c0_861 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v2141 : Index := Scalar.indexCast arg20
  let c960 : Index := 960#32
  let c0_862 : Index := 0#32
  ![v2140.toNat, 0, v2141.toNat, 960, 0]
def k0_off624 (v130 : BitVec 32) : Fin 4 → Nat :=
  let c0_863 : Index := 0#32
  let c7_i32 : BitVec 32 := 7#32
  let v131 : BitVec 32 := Scalar.shrui v130 c7_i32
  let v2145 : Index := Scalar.indexCast v131
  let c960_864 : Index := 960#32
  let c0_865 : Index := 0#32
  ![0, v2145.toNat, 960, 0]
def k0_off625 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2162 : Index := Scalar.indexCast v66
  let c0_868 : Index := 0#32
  let c60 : Index := 60#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2163 : Index := Scalar.indexCast v159
  let c0_869 : Index := 0#32
  ![v2162.toNat, 0, 60, v2163.toNat, 0]
def k0_off626 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2168 : Index := Scalar.indexCast v66
  let c0_870 : Index := 0#32
  let c61 : Index := 61#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2169 : Index := Scalar.indexCast v159
  let c0_871 : Index := 0#32
  ![v2168.toNat, 0, 61, v2169.toNat, 0]
def k0_off627 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2173 : Index := Scalar.indexCast v65
  let c1_872 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v2174 : Index := Scalar.indexCast arg20
  let c960_873 : Index := 960#32
  let c0_874 : Index := 0#32
  ![v2173.toNat, 1, v2174.toNat, 960, 0]
def k0_off628 (v130 : BitVec 32) : Fin 4 → Nat :=
  let c1_875 : Index := 1#32
  let c7_i32 : BitVec 32 := 7#32
  let v131 : BitVec 32 := Scalar.shrui v130 c7_i32
  let v2178 : Index := Scalar.indexCast v131
  let c960_876 : Index := 960#32
  let c0_877 : Index := 0#32
  ![1, v2178.toNat, 960, 0]
def k0_off629 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2195 : Index := Scalar.indexCast v66
  let c1_880 : Index := 1#32
  let c60_881 : Index := 60#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2196 : Index := Scalar.indexCast v159
  let c0_882 : Index := 0#32
  ![v2195.toNat, 1, 60, v2196.toNat, 0]
def k0_off630 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2201 : Index := Scalar.indexCast v66
  let c1_883 : Index := 1#32
  let c61_884 : Index := 61#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2202 : Index := Scalar.indexCast v159
  let c0_885 : Index := 0#32
  ![v2201.toNat, 1, 61, v2202.toNat, 0]
def k0_off631 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2206 : Index := Scalar.indexCast v65
  let c0_886 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v2207 : Index := Scalar.indexCast arg20
  let c992 : Index := 992#32
  let c0_887 : Index := 0#32
  ![v2206.toNat, 0, v2207.toNat, 992, 0]
def k0_off632 (v130 : BitVec 32) : Fin 4 → Nat :=
  let c0_888 : Index := 0#32
  let c7_i32 : BitVec 32 := 7#32
  let v131 : BitVec 32 := Scalar.shrui v130 c7_i32
  let v2211 : Index := Scalar.indexCast v131
  let c992_889 : Index := 992#32
  let c0_890 : Index := 0#32
  ![0, v2211.toNat, 992, 0]
def k0_off633 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2228 : Index := Scalar.indexCast v66
  let c0_893 : Index := 0#32
  let c62 : Index := 62#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2229 : Index := Scalar.indexCast v159
  let c0_894 : Index := 0#32
  ![v2228.toNat, 0, 62, v2229.toNat, 0]
def k0_off634 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2234 : Index := Scalar.indexCast v66
  let c0_895 : Index := 0#32
  let c63 : Index := 63#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2235 : Index := Scalar.indexCast v159
  let c0_896 : Index := 0#32
  ![v2234.toNat, 0, 63, v2235.toNat, 0]
def k0_off635 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_59 : BitVec 32 := 4#32
  let v65 : BitVec 32 := Scalar.remsi arg18 c4_i32_59
  let v2239 : Index := Scalar.indexCast v65
  let c1_897 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let v2240 : Index := Scalar.indexCast arg20
  let c992_898 : Index := 992#32
  let c0_899 : Index := 0#32
  ![v2239.toNat, 1, v2240.toNat, 992, 0]
def k0_off636 (v130 : BitVec 32) : Fin 4 → Nat :=
  let c1_900 : Index := 1#32
  let c7_i32 : BitVec 32 := 7#32
  let v131 : BitVec 32 := Scalar.shrui v130 c7_i32
  let v2244 : Index := Scalar.indexCast v131
  let c992_901 : Index := 992#32
  let c0_902 : Index := 0#32
  ![1, v2244.toNat, 992, 0]

def k0_chk24_0 (v130 : BitVec 32) : Prop :=
  (∀ a, (k0_off384 v130) a + S1x1x32x128.size a ≤ S2x13x1024x128.size a) ∧
  (∀ a, (k0_off388 v130) a + S1x1x32x128.size a ≤ S2x13x1024x128.size a) ∧
  (∀ a, (k0_off392 v130) a + S1x1x32x128.size a ≤ S2x13x1024x128.size a) ∧
  (∀ a, (k0_off396 v130) a + S1x1x32x128.size a ≤ S2x13x1024x128.size a) ∧
  (∀ a, (k0_off400 v130) a + S1x1x32x128.size a ≤ S2x13x1024x128.size a) ∧
  (∀ a, (k0_off404 v130) a + S1x1x32x128.size a ≤ S2x13x1024x128.size a) ∧
  (∀ a, (k0_off408 v130) a + S1x1x32x128.size a ≤ S2x13x1024x128.size a) ∧
  (∀ a, (k0_off412 v130) a + S1x1x32x128.size a ≤ S2x13x1024x128.size a) ∧
  (∀ a, (k0_off416 v130) a + S1x1x32x128.size a ≤ S2x13x1024x128.size a) ∧
  (∀ a, (k0_off420 v130) a + S1x1x32x128.size a ≤ S2x13x1024x128.size a) ∧
  (∀ a, (k0_off424 v130) a + S1x1x32x128.size a ≤ S2x13x1024x128.size a) ∧
  (∀ a, (k0_off428 v130) a + S1x1x32x128.size a ≤ S2x13x1024x128.size a) ∧
  (∀ a, (k0_off432 v130) a + S1x1x32x128.size a ≤ S2x13x1024x128.size a) ∧
  (∀ a, (k0_off436 v130) a + S1x1x32x128.size a ≤ S2x13x1024x128.size a) ∧
  (∀ a, (k0_off440 v130) a + S1x1x32x128.size a ≤ S2x13x1024x128.size a) ∧
  (∀ a, (k0_off444 v130) a + S1x1x32x128.size a ≤ S2x13x1024x128.size a) ∧
  (∀ a, (k0_off448 v130) a + S1x1x32x128.size a ≤ S2x13x1024x128.size a) ∧
  (∀ a, (k0_off452 v130) a + S1x1x32x128.size a ≤ S2x13x1024x128.size a) ∧
  (∀ a, (k0_off456 v130) a + S1x1x32x128.size a ≤ S2x13x1024x128.size a) ∧
  (∀ a, (k0_off460 v130) a + S1x1x32x128.size a ≤ S2x13x1024x128.size a) ∧
  (∀ a, (k0_off464 v130) a + S1x1x32x128.size a ≤ S2x13x1024x128.size a) ∧
  (∀ a, (k0_off468 v130) a + S1x1x32x128.size a ≤ S2x13x1024x128.size a) ∧
  (∀ a, (k0_off472 v130) a + S1x1x32x128.size a ≤ S2x13x1024x128.size a) ∧
  (∀ a, (k0_off476 v130) a + S1x1x32x128.size a ≤ S2x13x1024x128.size a) ∧
  (∀ a, (k0_off480 v130) a + S1x1x32x128.size a ≤ S2x13x1024x128.size a) ∧
  (∀ a, (k0_off484 v130) a + S1x1x32x128.size a ≤ S2x13x1024x128.size a) ∧
  (∀ a, (k0_off488 v130) a + S1x1x32x128.size a ≤ S2x13x1024x128.size a) ∧
  (∀ a, (k0_off492 v130) a + S1x1x32x128.size a ≤ S2x13x1024x128.size a) ∧
  (∀ a, (k0_off496 v130) a + S1x1x32x128.size a ≤ S2x13x1024x128.size a) ∧
  (∀ a, (k0_off500 v130) a + S1x1x32x128.size a ≤ S2x13x1024x128.size a) ∧
  (∀ a, (k0_off504 v130) a + S1x1x32x128.size a ≤ S2x13x1024x128.size a) ∧
  (∀ a, (k0_off508 v130) a + S1x1x32x128.size a ≤ S2x13x1024x128.size a)
def k0_chk24_1 (v130 : BitVec 32) : Prop :=
  (∀ a, (k0_off512 v130) a + S1x1x32x128.size a ≤ S2x13x1024x128.size a) ∧
  (∀ a, (k0_off516 v130) a + S1x1x32x128.size a ≤ S2x13x1024x128.size a) ∧
  (∀ a, (k0_off520 v130) a + S1x1x32x128.size a ≤ S2x13x1024x128.size a) ∧
  (∀ a, (k0_off524 v130) a + S1x1x32x128.size a ≤ S2x13x1024x128.size a) ∧
  (∀ a, (k0_off528 v130) a + S1x1x32x128.size a ≤ S2x13x1024x128.size a) ∧
  (∀ a, (k0_off532 v130) a + S1x1x32x128.size a ≤ S2x13x1024x128.size a) ∧
  (∀ a, (k0_off536 v130) a + S1x1x32x128.size a ≤ S2x13x1024x128.size a) ∧
  (∀ a, (k0_off540 v130) a + S1x1x32x128.size a ≤ S2x13x1024x128.size a) ∧
  (∀ a, (k0_off544 v130) a + S1x1x32x128.size a ≤ S2x13x1024x128.size a) ∧
  (∀ a, (k0_off548 v130) a + S1x1x32x128.size a ≤ S2x13x1024x128.size a) ∧
  (∀ a, (k0_off552 v130) a + S1x1x32x128.size a ≤ S2x13x1024x128.size a) ∧
  (∀ a, (k0_off556 v130) a + S1x1x32x128.size a ≤ S2x13x1024x128.size a) ∧
  (∀ a, (k0_off560 v130) a + S1x1x32x128.size a ≤ S2x13x1024x128.size a) ∧
  (∀ a, (k0_off564 v130) a + S1x1x32x128.size a ≤ S2x13x1024x128.size a) ∧
  (∀ a, (k0_off568 v130) a + S1x1x32x128.size a ≤ S2x13x1024x128.size a) ∧
  (∀ a, (k0_off572 v130) a + S1x1x32x128.size a ≤ S2x13x1024x128.size a) ∧
  (∀ a, (k0_off576 v130) a + S1x1x32x128.size a ≤ S2x13x1024x128.size a) ∧
  (∀ a, (k0_off580 v130) a + S1x1x32x128.size a ≤ S2x13x1024x128.size a) ∧
  (∀ a, (k0_off584 v130) a + S1x1x32x128.size a ≤ S2x13x1024x128.size a) ∧
  (∀ a, (k0_off588 v130) a + S1x1x32x128.size a ≤ S2x13x1024x128.size a) ∧
  (∀ a, (k0_off592 v130) a + S1x1x32x128.size a ≤ S2x13x1024x128.size a) ∧
  (∀ a, (k0_off596 v130) a + S1x1x32x128.size a ≤ S2x13x1024x128.size a) ∧
  (∀ a, (k0_off600 v130) a + S1x1x32x128.size a ≤ S2x13x1024x128.size a) ∧
  (∀ a, (k0_off604 v130) a + S1x1x32x128.size a ≤ S2x13x1024x128.size a) ∧
  (∀ a, (k0_off608 v130) a + S1x1x32x128.size a ≤ S2x13x1024x128.size a) ∧
  (∀ a, (k0_off612 v130) a + S1x1x32x128.size a ≤ S2x13x1024x128.size a) ∧
  (∀ a, (k0_off616 v130) a + S1x1x32x128.size a ≤ S2x13x1024x128.size a) ∧
  (∀ a, (k0_off620 v130) a + S1x1x32x128.size a ≤ S2x13x1024x128.size a) ∧
  (∀ a, (k0_off624 v130) a + S1x1x32x128.size a ≤ S2x13x1024x128.size a) ∧
  (∀ a, (k0_off628 v130) a + S1x1x32x128.size a ≤ S2x13x1024x128.size a) ∧
  (∀ a, (k0_off632 v130) a + S1x1x32x128.size a ≤ S2x13x1024x128.size a) ∧
  (∀ a, (k0_off636 v130) a + S1x1x32x128.size a ≤ S2x13x1024x128.size a)
def k0_chk24 (v130 : BitVec 32) : Prop :=
  k0_chk24_0 v130 ∧
  k0_chk24_1 v130
theorem k0_off384_inb : ∀ (v130 : BitVec 32) (k0_hw24 : k0_chk24 v130), ∀ a, (k0_off384 v130) a + S1x1x32x128.size a ≤ S2x13x1024x128.size a := fun v130 k0_hw24 => k0_hw24.1.1
theorem k0_off388_inb : ∀ (v130 : BitVec 32) (k0_hw24 : k0_chk24 v130), ∀ a, (k0_off388 v130) a + S1x1x32x128.size a ≤ S2x13x1024x128.size a := fun v130 k0_hw24 => k0_hw24.1.2.1
theorem k0_off392_inb : ∀ (v130 : BitVec 32) (k0_hw24 : k0_chk24 v130), ∀ a, (k0_off392 v130) a + S1x1x32x128.size a ≤ S2x13x1024x128.size a := fun v130 k0_hw24 => k0_hw24.1.2.2.1
theorem k0_off396_inb : ∀ (v130 : BitVec 32) (k0_hw24 : k0_chk24 v130), ∀ a, (k0_off396 v130) a + S1x1x32x128.size a ≤ S2x13x1024x128.size a := fun v130 k0_hw24 => k0_hw24.1.2.2.2.1
theorem k0_off400_inb : ∀ (v130 : BitVec 32) (k0_hw24 : k0_chk24 v130), ∀ a, (k0_off400 v130) a + S1x1x32x128.size a ≤ S2x13x1024x128.size a := fun v130 k0_hw24 => k0_hw24.1.2.2.2.2.1
theorem k0_off404_inb : ∀ (v130 : BitVec 32) (k0_hw24 : k0_chk24 v130), ∀ a, (k0_off404 v130) a + S1x1x32x128.size a ≤ S2x13x1024x128.size a := fun v130 k0_hw24 => k0_hw24.1.2.2.2.2.2.1
theorem k0_off408_inb : ∀ (v130 : BitVec 32) (k0_hw24 : k0_chk24 v130), ∀ a, (k0_off408 v130) a + S1x1x32x128.size a ≤ S2x13x1024x128.size a := fun v130 k0_hw24 => k0_hw24.1.2.2.2.2.2.2.1
theorem k0_off412_inb : ∀ (v130 : BitVec 32) (k0_hw24 : k0_chk24 v130), ∀ a, (k0_off412 v130) a + S1x1x32x128.size a ≤ S2x13x1024x128.size a := fun v130 k0_hw24 => k0_hw24.1.2.2.2.2.2.2.2.1
theorem k0_off416_inb : ∀ (v130 : BitVec 32) (k0_hw24 : k0_chk24 v130), ∀ a, (k0_off416 v130) a + S1x1x32x128.size a ≤ S2x13x1024x128.size a := fun v130 k0_hw24 => k0_hw24.1.2.2.2.2.2.2.2.2.1
theorem k0_off420_inb : ∀ (v130 : BitVec 32) (k0_hw24 : k0_chk24 v130), ∀ a, (k0_off420 v130) a + S1x1x32x128.size a ≤ S2x13x1024x128.size a := fun v130 k0_hw24 => k0_hw24.1.2.2.2.2.2.2.2.2.2.1
theorem k0_off424_inb : ∀ (v130 : BitVec 32) (k0_hw24 : k0_chk24 v130), ∀ a, (k0_off424 v130) a + S1x1x32x128.size a ≤ S2x13x1024x128.size a := fun v130 k0_hw24 => k0_hw24.1.2.2.2.2.2.2.2.2.2.2.1
theorem k0_off428_inb : ∀ (v130 : BitVec 32) (k0_hw24 : k0_chk24 v130), ∀ a, (k0_off428 v130) a + S1x1x32x128.size a ≤ S2x13x1024x128.size a := fun v130 k0_hw24 => k0_hw24.1.2.2.2.2.2.2.2.2.2.2.2.1
theorem k0_off432_inb : ∀ (v130 : BitVec 32) (k0_hw24 : k0_chk24 v130), ∀ a, (k0_off432 v130) a + S1x1x32x128.size a ≤ S2x13x1024x128.size a := fun v130 k0_hw24 => k0_hw24.1.2.2.2.2.2.2.2.2.2.2.2.2.1
theorem k0_off436_inb : ∀ (v130 : BitVec 32) (k0_hw24 : k0_chk24 v130), ∀ a, (k0_off436 v130) a + S1x1x32x128.size a ≤ S2x13x1024x128.size a := fun v130 k0_hw24 => k0_hw24.1.2.2.2.2.2.2.2.2.2.2.2.2.2.1
theorem k0_off440_inb : ∀ (v130 : BitVec 32) (k0_hw24 : k0_chk24 v130), ∀ a, (k0_off440 v130) a + S1x1x32x128.size a ≤ S2x13x1024x128.size a := fun v130 k0_hw24 => k0_hw24.1.2.2.2.2.2.2.2.2.2.2.2.2.2.2.1
theorem k0_off444_inb : ∀ (v130 : BitVec 32) (k0_hw24 : k0_chk24 v130), ∀ a, (k0_off444 v130) a + S1x1x32x128.size a ≤ S2x13x1024x128.size a := fun v130 k0_hw24 => k0_hw24.1.2.2.2.2.2.2.2.2.2.2.2.2.2.2.2.1
theorem k0_off448_inb : ∀ (v130 : BitVec 32) (k0_hw24 : k0_chk24 v130), ∀ a, (k0_off448 v130) a + S1x1x32x128.size a ≤ S2x13x1024x128.size a := fun v130 k0_hw24 => k0_hw24.1.2.2.2.2.2.2.2.2.2.2.2.2.2.2.2.2.1
theorem k0_off452_inb : ∀ (v130 : BitVec 32) (k0_hw24 : k0_chk24 v130), ∀ a, (k0_off452 v130) a + S1x1x32x128.size a ≤ S2x13x1024x128.size a := fun v130 k0_hw24 => k0_hw24.1.2.2.2.2.2.2.2.2.2.2.2.2.2.2.2.2.2.1
theorem k0_off456_inb : ∀ (v130 : BitVec 32) (k0_hw24 : k0_chk24 v130), ∀ a, (k0_off456 v130) a + S1x1x32x128.size a ≤ S2x13x1024x128.size a := fun v130 k0_hw24 => k0_hw24.1.2.2.2.2.2.2.2.2.2.2.2.2.2.2.2.2.2.2.1
theorem k0_off460_inb : ∀ (v130 : BitVec 32) (k0_hw24 : k0_chk24 v130), ∀ a, (k0_off460 v130) a + S1x1x32x128.size a ≤ S2x13x1024x128.size a := fun v130 k0_hw24 => k0_hw24.1.2.2.2.2.2.2.2.2.2.2.2.2.2.2.2.2.2.2.2.1
theorem k0_off464_inb : ∀ (v130 : BitVec 32) (k0_hw24 : k0_chk24 v130), ∀ a, (k0_off464 v130) a + S1x1x32x128.size a ≤ S2x13x1024x128.size a := fun v130 k0_hw24 => k0_hw24.1.2.2.2.2.2.2.2.2.2.2.2.2.2.2.2.2.2.2.2.2.1
theorem k0_off468_inb : ∀ (v130 : BitVec 32) (k0_hw24 : k0_chk24 v130), ∀ a, (k0_off468 v130) a + S1x1x32x128.size a ≤ S2x13x1024x128.size a := fun v130 k0_hw24 => k0_hw24.1.2.2.2.2.2.2.2.2.2.2.2.2.2.2.2.2.2.2.2.2.2.1
theorem k0_off472_inb : ∀ (v130 : BitVec 32) (k0_hw24 : k0_chk24 v130), ∀ a, (k0_off472 v130) a + S1x1x32x128.size a ≤ S2x13x1024x128.size a := fun v130 k0_hw24 => k0_hw24.1.2.2.2.2.2.2.2.2.2.2.2.2.2.2.2.2.2.2.2.2.2.2.1
theorem k0_off476_inb : ∀ (v130 : BitVec 32) (k0_hw24 : k0_chk24 v130), ∀ a, (k0_off476 v130) a + S1x1x32x128.size a ≤ S2x13x1024x128.size a := fun v130 k0_hw24 => k0_hw24.1.2.2.2.2.2.2.2.2.2.2.2.2.2.2.2.2.2.2.2.2.2.2.2.1
theorem k0_off480_inb : ∀ (v130 : BitVec 32) (k0_hw24 : k0_chk24 v130), ∀ a, (k0_off480 v130) a + S1x1x32x128.size a ≤ S2x13x1024x128.size a := fun v130 k0_hw24 => k0_hw24.1.2.2.2.2.2.2.2.2.2.2.2.2.2.2.2.2.2.2.2.2.2.2.2.2.1
theorem k0_off484_inb : ∀ (v130 : BitVec 32) (k0_hw24 : k0_chk24 v130), ∀ a, (k0_off484 v130) a + S1x1x32x128.size a ≤ S2x13x1024x128.size a := fun v130 k0_hw24 => k0_hw24.1.2.2.2.2.2.2.2.2.2.2.2.2.2.2.2.2.2.2.2.2.2.2.2.2.2.1
theorem k0_off488_inb : ∀ (v130 : BitVec 32) (k0_hw24 : k0_chk24 v130), ∀ a, (k0_off488 v130) a + S1x1x32x128.size a ≤ S2x13x1024x128.size a := fun v130 k0_hw24 => k0_hw24.1.2.2.2.2.2.2.2.2.2.2.2.2.2.2.2.2.2.2.2.2.2.2.2.2.2.2.1
theorem k0_off492_inb : ∀ (v130 : BitVec 32) (k0_hw24 : k0_chk24 v130), ∀ a, (k0_off492 v130) a + S1x1x32x128.size a ≤ S2x13x1024x128.size a := fun v130 k0_hw24 => k0_hw24.1.2.2.2.2.2.2.2.2.2.2.2.2.2.2.2.2.2.2.2.2.2.2.2.2.2.2.2.1
theorem k0_off496_inb : ∀ (v130 : BitVec 32) (k0_hw24 : k0_chk24 v130), ∀ a, (k0_off496 v130) a + S1x1x32x128.size a ≤ S2x13x1024x128.size a := fun v130 k0_hw24 => k0_hw24.1.2.2.2.2.2.2.2.2.2.2.2.2.2.2.2.2.2.2.2.2.2.2.2.2.2.2.2.2.1
theorem k0_off500_inb : ∀ (v130 : BitVec 32) (k0_hw24 : k0_chk24 v130), ∀ a, (k0_off500 v130) a + S1x1x32x128.size a ≤ S2x13x1024x128.size a := fun v130 k0_hw24 => k0_hw24.1.2.2.2.2.2.2.2.2.2.2.2.2.2.2.2.2.2.2.2.2.2.2.2.2.2.2.2.2.2.1
theorem k0_off504_inb : ∀ (v130 : BitVec 32) (k0_hw24 : k0_chk24 v130), ∀ a, (k0_off504 v130) a + S1x1x32x128.size a ≤ S2x13x1024x128.size a := fun v130 k0_hw24 => k0_hw24.1.2.2.2.2.2.2.2.2.2.2.2.2.2.2.2.2.2.2.2.2.2.2.2.2.2.2.2.2.2.2.1
theorem k0_off508_inb : ∀ (v130 : BitVec 32) (k0_hw24 : k0_chk24 v130), ∀ a, (k0_off508 v130) a + S1x1x32x128.size a ≤ S2x13x1024x128.size a := fun v130 k0_hw24 => k0_hw24.1.2.2.2.2.2.2.2.2.2.2.2.2.2.2.2.2.2.2.2.2.2.2.2.2.2.2.2.2.2.2.2
theorem k0_off512_inb : ∀ (v130 : BitVec 32) (k0_hw24 : k0_chk24 v130), ∀ a, (k0_off512 v130) a + S1x1x32x128.size a ≤ S2x13x1024x128.size a := fun v130 k0_hw24 => k0_hw24.2.1
theorem k0_off516_inb : ∀ (v130 : BitVec 32) (k0_hw24 : k0_chk24 v130), ∀ a, (k0_off516 v130) a + S1x1x32x128.size a ≤ S2x13x1024x128.size a := fun v130 k0_hw24 => k0_hw24.2.2.1
theorem k0_off520_inb : ∀ (v130 : BitVec 32) (k0_hw24 : k0_chk24 v130), ∀ a, (k0_off520 v130) a + S1x1x32x128.size a ≤ S2x13x1024x128.size a := fun v130 k0_hw24 => k0_hw24.2.2.2.1
theorem k0_off524_inb : ∀ (v130 : BitVec 32) (k0_hw24 : k0_chk24 v130), ∀ a, (k0_off524 v130) a + S1x1x32x128.size a ≤ S2x13x1024x128.size a := fun v130 k0_hw24 => k0_hw24.2.2.2.2.1
theorem k0_off528_inb : ∀ (v130 : BitVec 32) (k0_hw24 : k0_chk24 v130), ∀ a, (k0_off528 v130) a + S1x1x32x128.size a ≤ S2x13x1024x128.size a := fun v130 k0_hw24 => k0_hw24.2.2.2.2.2.1
theorem k0_off532_inb : ∀ (v130 : BitVec 32) (k0_hw24 : k0_chk24 v130), ∀ a, (k0_off532 v130) a + S1x1x32x128.size a ≤ S2x13x1024x128.size a := fun v130 k0_hw24 => k0_hw24.2.2.2.2.2.2.1
theorem k0_off536_inb : ∀ (v130 : BitVec 32) (k0_hw24 : k0_chk24 v130), ∀ a, (k0_off536 v130) a + S1x1x32x128.size a ≤ S2x13x1024x128.size a := fun v130 k0_hw24 => k0_hw24.2.2.2.2.2.2.2.1
theorem k0_off540_inb : ∀ (v130 : BitVec 32) (k0_hw24 : k0_chk24 v130), ∀ a, (k0_off540 v130) a + S1x1x32x128.size a ≤ S2x13x1024x128.size a := fun v130 k0_hw24 => k0_hw24.2.2.2.2.2.2.2.2.1
theorem k0_off544_inb : ∀ (v130 : BitVec 32) (k0_hw24 : k0_chk24 v130), ∀ a, (k0_off544 v130) a + S1x1x32x128.size a ≤ S2x13x1024x128.size a := fun v130 k0_hw24 => k0_hw24.2.2.2.2.2.2.2.2.2.1
theorem k0_off548_inb : ∀ (v130 : BitVec 32) (k0_hw24 : k0_chk24 v130), ∀ a, (k0_off548 v130) a + S1x1x32x128.size a ≤ S2x13x1024x128.size a := fun v130 k0_hw24 => k0_hw24.2.2.2.2.2.2.2.2.2.2.1
theorem k0_off552_inb : ∀ (v130 : BitVec 32) (k0_hw24 : k0_chk24 v130), ∀ a, (k0_off552 v130) a + S1x1x32x128.size a ≤ S2x13x1024x128.size a := fun v130 k0_hw24 => k0_hw24.2.2.2.2.2.2.2.2.2.2.2.1
theorem k0_off556_inb : ∀ (v130 : BitVec 32) (k0_hw24 : k0_chk24 v130), ∀ a, (k0_off556 v130) a + S1x1x32x128.size a ≤ S2x13x1024x128.size a := fun v130 k0_hw24 => k0_hw24.2.2.2.2.2.2.2.2.2.2.2.2.1
theorem k0_off560_inb : ∀ (v130 : BitVec 32) (k0_hw24 : k0_chk24 v130), ∀ a, (k0_off560 v130) a + S1x1x32x128.size a ≤ S2x13x1024x128.size a := fun v130 k0_hw24 => k0_hw24.2.2.2.2.2.2.2.2.2.2.2.2.2.1
theorem k0_off564_inb : ∀ (v130 : BitVec 32) (k0_hw24 : k0_chk24 v130), ∀ a, (k0_off564 v130) a + S1x1x32x128.size a ≤ S2x13x1024x128.size a := fun v130 k0_hw24 => k0_hw24.2.2.2.2.2.2.2.2.2.2.2.2.2.2.1
theorem k0_off568_inb : ∀ (v130 : BitVec 32) (k0_hw24 : k0_chk24 v130), ∀ a, (k0_off568 v130) a + S1x1x32x128.size a ≤ S2x13x1024x128.size a := fun v130 k0_hw24 => k0_hw24.2.2.2.2.2.2.2.2.2.2.2.2.2.2.2.1
theorem k0_off572_inb : ∀ (v130 : BitVec 32) (k0_hw24 : k0_chk24 v130), ∀ a, (k0_off572 v130) a + S1x1x32x128.size a ≤ S2x13x1024x128.size a := fun v130 k0_hw24 => k0_hw24.2.2.2.2.2.2.2.2.2.2.2.2.2.2.2.2.1
theorem k0_off576_inb : ∀ (v130 : BitVec 32) (k0_hw24 : k0_chk24 v130), ∀ a, (k0_off576 v130) a + S1x1x32x128.size a ≤ S2x13x1024x128.size a := fun v130 k0_hw24 => k0_hw24.2.2.2.2.2.2.2.2.2.2.2.2.2.2.2.2.2.1
theorem k0_off580_inb : ∀ (v130 : BitVec 32) (k0_hw24 : k0_chk24 v130), ∀ a, (k0_off580 v130) a + S1x1x32x128.size a ≤ S2x13x1024x128.size a := fun v130 k0_hw24 => k0_hw24.2.2.2.2.2.2.2.2.2.2.2.2.2.2.2.2.2.2.1
theorem k0_off584_inb : ∀ (v130 : BitVec 32) (k0_hw24 : k0_chk24 v130), ∀ a, (k0_off584 v130) a + S1x1x32x128.size a ≤ S2x13x1024x128.size a := fun v130 k0_hw24 => k0_hw24.2.2.2.2.2.2.2.2.2.2.2.2.2.2.2.2.2.2.2.1
theorem k0_off588_inb : ∀ (v130 : BitVec 32) (k0_hw24 : k0_chk24 v130), ∀ a, (k0_off588 v130) a + S1x1x32x128.size a ≤ S2x13x1024x128.size a := fun v130 k0_hw24 => k0_hw24.2.2.2.2.2.2.2.2.2.2.2.2.2.2.2.2.2.2.2.2.1
theorem k0_off592_inb : ∀ (v130 : BitVec 32) (k0_hw24 : k0_chk24 v130), ∀ a, (k0_off592 v130) a + S1x1x32x128.size a ≤ S2x13x1024x128.size a := fun v130 k0_hw24 => k0_hw24.2.2.2.2.2.2.2.2.2.2.2.2.2.2.2.2.2.2.2.2.2.1
theorem k0_off596_inb : ∀ (v130 : BitVec 32) (k0_hw24 : k0_chk24 v130), ∀ a, (k0_off596 v130) a + S1x1x32x128.size a ≤ S2x13x1024x128.size a := fun v130 k0_hw24 => k0_hw24.2.2.2.2.2.2.2.2.2.2.2.2.2.2.2.2.2.2.2.2.2.2.1
theorem k0_off600_inb : ∀ (v130 : BitVec 32) (k0_hw24 : k0_chk24 v130), ∀ a, (k0_off600 v130) a + S1x1x32x128.size a ≤ S2x13x1024x128.size a := fun v130 k0_hw24 => k0_hw24.2.2.2.2.2.2.2.2.2.2.2.2.2.2.2.2.2.2.2.2.2.2.2.1
theorem k0_off604_inb : ∀ (v130 : BitVec 32) (k0_hw24 : k0_chk24 v130), ∀ a, (k0_off604 v130) a + S1x1x32x128.size a ≤ S2x13x1024x128.size a := fun v130 k0_hw24 => k0_hw24.2.2.2.2.2.2.2.2.2.2.2.2.2.2.2.2.2.2.2.2.2.2.2.2.1
theorem k0_off608_inb : ∀ (v130 : BitVec 32) (k0_hw24 : k0_chk24 v130), ∀ a, (k0_off608 v130) a + S1x1x32x128.size a ≤ S2x13x1024x128.size a := fun v130 k0_hw24 => k0_hw24.2.2.2.2.2.2.2.2.2.2.2.2.2.2.2.2.2.2.2.2.2.2.2.2.2.1
theorem k0_off612_inb : ∀ (v130 : BitVec 32) (k0_hw24 : k0_chk24 v130), ∀ a, (k0_off612 v130) a + S1x1x32x128.size a ≤ S2x13x1024x128.size a := fun v130 k0_hw24 => k0_hw24.2.2.2.2.2.2.2.2.2.2.2.2.2.2.2.2.2.2.2.2.2.2.2.2.2.2.1
theorem k0_off616_inb : ∀ (v130 : BitVec 32) (k0_hw24 : k0_chk24 v130), ∀ a, (k0_off616 v130) a + S1x1x32x128.size a ≤ S2x13x1024x128.size a := fun v130 k0_hw24 => k0_hw24.2.2.2.2.2.2.2.2.2.2.2.2.2.2.2.2.2.2.2.2.2.2.2.2.2.2.2.1
theorem k0_off620_inb : ∀ (v130 : BitVec 32) (k0_hw24 : k0_chk24 v130), ∀ a, (k0_off620 v130) a + S1x1x32x128.size a ≤ S2x13x1024x128.size a := fun v130 k0_hw24 => k0_hw24.2.2.2.2.2.2.2.2.2.2.2.2.2.2.2.2.2.2.2.2.2.2.2.2.2.2.2.2.1
theorem k0_off624_inb : ∀ (v130 : BitVec 32) (k0_hw24 : k0_chk24 v130), ∀ a, (k0_off624 v130) a + S1x1x32x128.size a ≤ S2x13x1024x128.size a := fun v130 k0_hw24 => k0_hw24.2.2.2.2.2.2.2.2.2.2.2.2.2.2.2.2.2.2.2.2.2.2.2.2.2.2.2.2.2.1
theorem k0_off628_inb : ∀ (v130 : BitVec 32) (k0_hw24 : k0_chk24 v130), ∀ a, (k0_off628 v130) a + S1x1x32x128.size a ≤ S2x13x1024x128.size a := fun v130 k0_hw24 => k0_hw24.2.2.2.2.2.2.2.2.2.2.2.2.2.2.2.2.2.2.2.2.2.2.2.2.2.2.2.2.2.2.1
theorem k0_off632_inb : ∀ (v130 : BitVec 32) (k0_hw24 : k0_chk24 v130), ∀ a, (k0_off632 v130) a + S1x1x32x128.size a ≤ S2x13x1024x128.size a := fun v130 k0_hw24 => k0_hw24.2.2.2.2.2.2.2.2.2.2.2.2.2.2.2.2.2.2.2.2.2.2.2.2.2.2.2.2.2.2.2.1
theorem k0_off636_inb : ∀ (v130 : BitVec 32) (k0_hw24 : k0_chk24 v130), ∀ a, (k0_off636 v130) a + S1x1x32x128.size a ≤ S2x13x1024x128.size a := fun v130 k0_hw24 => k0_hw24.2.2.2.2.2.2.2.2.2.2.2.2.2.2.2.2.2.2.2.2.2.2.2.2.2.2.2.2.2.2.2.2

def k0_off637 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2261 : Index := Scalar.indexCast v66
  let c1_905 : Index := 1#32
  let c62_906 : Index := 62#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2262 : Index := Scalar.indexCast v159
  let c0_907 : Index := 0#32
  ![v2261.toNat, 1, 62, v2262.toNat, 0]
def k0_off638 (v9 : BitVec 32) (k0_t11 : Fin (k0_t11_loop v9).trips) (v62 : BitVec 32) (v68 : BitVec 32) (k0_t17 : Fin (k0_t17_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v2267 : Index := Scalar.indexCast v66
  let c1_908 : Index := 1#32
  let c63_909 : Index := 63#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t17
  let c8_i32_108 : BitVec 32 := 8#32
  let v158 : BitVec 32 := Scalar.muli arg20 c8_i32_108
  let v159 : BitVec 32 := v158
  let v2268 : Index := Scalar.indexCast v159
  let c0_910 : Index := 0#32
  ![v2267.toNat, 1, 63, v2268.toNat, 0]
@[reducible] def k0_t18_loop (v62 : BitVec 32) (v68 : BitVec 32) : Scf.Loop 32 :=
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_83 : BitVec 32 := 1#32
  ⟨v75, v105, c1_i32_83⟩
def k0_mult29 (v62 : BitVec 32) (v68 : BitVec 32) (k0_t18 : Fin (k0_t18_loop v62 v68).trips) : BitVec 32 :=
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  v126
def k0_off639 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v129 : Index := Scalar.indexCast v66
  let c0 : Index := 0#32
  let c0_102 : Index := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v130 : Index := Scalar.indexCast v127
  let c0_103 : Index := 0#32
  ![v129.toNat, 0, 0, v130.toNat, 0]
def k0_off640 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v135 : Index := Scalar.indexCast v66
  let c0_105 : Index := 0#32
  let c1 : Index := 1#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v136 : Index := Scalar.indexCast v127
  let c0_106 : Index := 0#32
  ![v135.toNat, 0, 1, v136.toNat, 0]
def k0_off641 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v141 : Index := Scalar.indexCast v66
  let c0_108 : Index := 0#32
  let c2 : Index := 2#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v142 : Index := Scalar.indexCast v127
  let c0_109 : Index := 0#32
  ![v141.toNat, 0, 2, v142.toNat, 0]
def k0_off642 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v147 : Index := Scalar.indexCast v66
  let c0_111 : Index := 0#32
  let c3 : Index := 3#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v148 : Index := Scalar.indexCast v127
  let c0_112 : Index := 0#32
  ![v147.toNat, 0, 3, v148.toNat, 0]
def k0_off643 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v153 : Index := Scalar.indexCast v66
  let c0_114 : Index := 0#32
  let c4 : Index := 4#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v154 : Index := Scalar.indexCast v127
  let c0_115 : Index := 0#32
  ![v153.toNat, 0, 4, v154.toNat, 0]
def k0_off644 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v159 : Index := Scalar.indexCast v66
  let c0_117 : Index := 0#32
  let c5 : Index := 5#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v160 : Index := Scalar.indexCast v127
  let c0_118 : Index := 0#32
  ![v159.toNat, 0, 5, v160.toNat, 0]
def k0_off645 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v165 : Index := Scalar.indexCast v66
  let c0_120 : Index := 0#32
  let c6 : Index := 6#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v166 : Index := Scalar.indexCast v127
  let c0_121 : Index := 0#32
  ![v165.toNat, 0, 6, v166.toNat, 0]
def k0_off646 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v171 : Index := Scalar.indexCast v66
  let c0_123 : Index := 0#32
  let c7 : Index := 7#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v172 : Index := Scalar.indexCast v127
  let c0_124 : Index := 0#32
  ![v171.toNat, 0, 7, v172.toNat, 0]
def k0_off647 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v177 : Index := Scalar.indexCast v66
  let c0_126 : Index := 0#32
  let c8 : Index := 8#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v178 : Index := Scalar.indexCast v127
  let c0_127 : Index := 0#32
  ![v177.toNat, 0, 8, v178.toNat, 0]
def k0_off648 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v183 : Index := Scalar.indexCast v66
  let c0_129 : Index := 0#32
  let c9 : Index := 9#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v184 : Index := Scalar.indexCast v127
  let c0_130 : Index := 0#32
  ![v183.toNat, 0, 9, v184.toNat, 0]
def k0_off649 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v189 : Index := Scalar.indexCast v66
  let c0_132 : Index := 0#32
  let c10 : Index := 10#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v190 : Index := Scalar.indexCast v127
  let c0_133 : Index := 0#32
  ![v189.toNat, 0, 10, v190.toNat, 0]
def k0_off650 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v195 : Index := Scalar.indexCast v66
  let c0_135 : Index := 0#32
  let c11 : Index := 11#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v196 : Index := Scalar.indexCast v127
  let c0_136 : Index := 0#32
  ![v195.toNat, 0, 11, v196.toNat, 0]
def k0_off651 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v201 : Index := Scalar.indexCast v66
  let c0_138 : Index := 0#32
  let c12 : Index := 12#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v202 : Index := Scalar.indexCast v127
  let c0_139 : Index := 0#32
  ![v201.toNat, 0, 12, v202.toNat, 0]
def k0_off652 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v207 : Index := Scalar.indexCast v66
  let c0_141 : Index := 0#32
  let c13 : Index := 13#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v208 : Index := Scalar.indexCast v127
  let c0_142 : Index := 0#32
  ![v207.toNat, 0, 13, v208.toNat, 0]
def k0_off653 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v213 : Index := Scalar.indexCast v66
  let c0_144 : Index := 0#32
  let c14 : Index := 14#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v214 : Index := Scalar.indexCast v127
  let c0_145 : Index := 0#32
  ![v213.toNat, 0, 14, v214.toNat, 0]
def k0_off654 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v219 : Index := Scalar.indexCast v66
  let c0_147 : Index := 0#32
  let c15 : Index := 15#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v220 : Index := Scalar.indexCast v127
  let c0_148 : Index := 0#32
  ![v219.toNat, 0, 15, v220.toNat, 0]
def k0_off655 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v225 : Index := Scalar.indexCast v66
  let c0_150 : Index := 0#32
  let c16 : Index := 16#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v226 : Index := Scalar.indexCast v127
  let c0_151 : Index := 0#32
  ![v225.toNat, 0, 16, v226.toNat, 0]
def k0_off656 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v231 : Index := Scalar.indexCast v66
  let c0_153 : Index := 0#32
  let c17 : Index := 17#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v232 : Index := Scalar.indexCast v127
  let c0_154 : Index := 0#32
  ![v231.toNat, 0, 17, v232.toNat, 0]
def k0_off657 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v237 : Index := Scalar.indexCast v66
  let c0_156 : Index := 0#32
  let c18 : Index := 18#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v238 : Index := Scalar.indexCast v127
  let c0_157 : Index := 0#32
  ![v237.toNat, 0, 18, v238.toNat, 0]
def k0_off658 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v243 : Index := Scalar.indexCast v66
  let c0_159 : Index := 0#32
  let c19 : Index := 19#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v244 : Index := Scalar.indexCast v127
  let c0_160 : Index := 0#32
  ![v243.toNat, 0, 19, v244.toNat, 0]
def k0_off659 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v249 : Index := Scalar.indexCast v66
  let c0_162 : Index := 0#32
  let c20 : Index := 20#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v250 : Index := Scalar.indexCast v127
  let c0_163 : Index := 0#32
  ![v249.toNat, 0, 20, v250.toNat, 0]
def k0_off660 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v255 : Index := Scalar.indexCast v66
  let c0_165 : Index := 0#32
  let c21 : Index := 21#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v256 : Index := Scalar.indexCast v127
  let c0_166 : Index := 0#32
  ![v255.toNat, 0, 21, v256.toNat, 0]
def k0_off661 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v261 : Index := Scalar.indexCast v66
  let c0_168 : Index := 0#32
  let c22 : Index := 22#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v262 : Index := Scalar.indexCast v127
  let c0_169 : Index := 0#32
  ![v261.toNat, 0, 22, v262.toNat, 0]
def k0_off662 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v267 : Index := Scalar.indexCast v66
  let c0_171 : Index := 0#32
  let c23 : Index := 23#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v268 : Index := Scalar.indexCast v127
  let c0_172 : Index := 0#32
  ![v267.toNat, 0, 23, v268.toNat, 0]
def k0_off663 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v273 : Index := Scalar.indexCast v66
  let c0_174 : Index := 0#32
  let c24 : Index := 24#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v274 : Index := Scalar.indexCast v127
  let c0_175 : Index := 0#32
  ![v273.toNat, 0, 24, v274.toNat, 0]
def k0_off664 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v279 : Index := Scalar.indexCast v66
  let c0_177 : Index := 0#32
  let c25 : Index := 25#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v280 : Index := Scalar.indexCast v127
  let c0_178 : Index := 0#32
  ![v279.toNat, 0, 25, v280.toNat, 0]
def k0_off665 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v285 : Index := Scalar.indexCast v66
  let c0_180 : Index := 0#32
  let c26 : Index := 26#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v286 : Index := Scalar.indexCast v127
  let c0_181 : Index := 0#32
  ![v285.toNat, 0, 26, v286.toNat, 0]
def k0_off666 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v291 : Index := Scalar.indexCast v66
  let c0_183 : Index := 0#32
  let c27 : Index := 27#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v292 : Index := Scalar.indexCast v127
  let c0_184 : Index := 0#32
  ![v291.toNat, 0, 27, v292.toNat, 0]
def k0_off667 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v297 : Index := Scalar.indexCast v66
  let c0_186 : Index := 0#32
  let c28 : Index := 28#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v298 : Index := Scalar.indexCast v127
  let c0_187 : Index := 0#32
  ![v297.toNat, 0, 28, v298.toNat, 0]
def k0_off668 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v303 : Index := Scalar.indexCast v66
  let c0_189 : Index := 0#32
  let c29 : Index := 29#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v304 : Index := Scalar.indexCast v127
  let c0_190 : Index := 0#32
  ![v303.toNat, 0, 29, v304.toNat, 0]
def k0_off669 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v309 : Index := Scalar.indexCast v66
  let c0_192 : Index := 0#32
  let c30 : Index := 30#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v310 : Index := Scalar.indexCast v127
  let c0_193 : Index := 0#32
  ![v309.toNat, 0, 30, v310.toNat, 0]
def k0_off670 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v315 : Index := Scalar.indexCast v66
  let c0_195 : Index := 0#32
  let c31 : Index := 31#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v316 : Index := Scalar.indexCast v127
  let c0_196 : Index := 0#32
  ![v315.toNat, 0, 31, v316.toNat, 0]
def k0_off671 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v321 : Index := Scalar.indexCast v66
  let c0_198 : Index := 0#32
  let c32 : Index := 32#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v322 : Index := Scalar.indexCast v127
  let c0_199 : Index := 0#32
  ![v321.toNat, 0, 32, v322.toNat, 0]
def k0_off672 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v327 : Index := Scalar.indexCast v66
  let c0_201 : Index := 0#32
  let c33 : Index := 33#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v328 : Index := Scalar.indexCast v127
  let c0_202 : Index := 0#32
  ![v327.toNat, 0, 33, v328.toNat, 0]
def k0_off673 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v333 : Index := Scalar.indexCast v66
  let c0_204 : Index := 0#32
  let c34 : Index := 34#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v334 : Index := Scalar.indexCast v127
  let c0_205 : Index := 0#32
  ![v333.toNat, 0, 34, v334.toNat, 0]
def k0_off674 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v339 : Index := Scalar.indexCast v66
  let c0_207 : Index := 0#32
  let c35 : Index := 35#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v340 : Index := Scalar.indexCast v127
  let c0_208 : Index := 0#32
  ![v339.toNat, 0, 35, v340.toNat, 0]
def k0_off675 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v345 : Index := Scalar.indexCast v66
  let c0_210 : Index := 0#32
  let c36 : Index := 36#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v346 : Index := Scalar.indexCast v127
  let c0_211 : Index := 0#32
  ![v345.toNat, 0, 36, v346.toNat, 0]
def k0_off676 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v351 : Index := Scalar.indexCast v66
  let c0_213 : Index := 0#32
  let c37 : Index := 37#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v352 : Index := Scalar.indexCast v127
  let c0_214 : Index := 0#32
  ![v351.toNat, 0, 37, v352.toNat, 0]
def k0_off677 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v357 : Index := Scalar.indexCast v66
  let c0_216 : Index := 0#32
  let c38 : Index := 38#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v358 : Index := Scalar.indexCast v127
  let c0_217 : Index := 0#32
  ![v357.toNat, 0, 38, v358.toNat, 0]
def k0_off678 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v363 : Index := Scalar.indexCast v66
  let c0_219 : Index := 0#32
  let c39 : Index := 39#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v364 : Index := Scalar.indexCast v127
  let c0_220 : Index := 0#32
  ![v363.toNat, 0, 39, v364.toNat, 0]
def k0_off679 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v369 : Index := Scalar.indexCast v66
  let c0_222 : Index := 0#32
  let c40 : Index := 40#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v370 : Index := Scalar.indexCast v127
  let c0_223 : Index := 0#32
  ![v369.toNat, 0, 40, v370.toNat, 0]
def k0_off680 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v375 : Index := Scalar.indexCast v66
  let c0_225 : Index := 0#32
  let c41 : Index := 41#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v376 : Index := Scalar.indexCast v127
  let c0_226 : Index := 0#32
  ![v375.toNat, 0, 41, v376.toNat, 0]
def k0_off681 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v381 : Index := Scalar.indexCast v66
  let c0_228 : Index := 0#32
  let c42 : Index := 42#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v382 : Index := Scalar.indexCast v127
  let c0_229 : Index := 0#32
  ![v381.toNat, 0, 42, v382.toNat, 0]
def k0_off682 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v387 : Index := Scalar.indexCast v66
  let c0_231 : Index := 0#32
  let c43 : Index := 43#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v388 : Index := Scalar.indexCast v127
  let c0_232 : Index := 0#32
  ![v387.toNat, 0, 43, v388.toNat, 0]
def k0_off683 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v393 : Index := Scalar.indexCast v66
  let c0_234 : Index := 0#32
  let c44 : Index := 44#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v394 : Index := Scalar.indexCast v127
  let c0_235 : Index := 0#32
  ![v393.toNat, 0, 44, v394.toNat, 0]
def k0_off684 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v399 : Index := Scalar.indexCast v66
  let c0_237 : Index := 0#32
  let c45 : Index := 45#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v400 : Index := Scalar.indexCast v127
  let c0_238 : Index := 0#32
  ![v399.toNat, 0, 45, v400.toNat, 0]
def k0_off685 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v405 : Index := Scalar.indexCast v66
  let c0_240 : Index := 0#32
  let c46 : Index := 46#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v406 : Index := Scalar.indexCast v127
  let c0_241 : Index := 0#32
  ![v405.toNat, 0, 46, v406.toNat, 0]
def k0_off686 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v411 : Index := Scalar.indexCast v66
  let c0_243 : Index := 0#32
  let c47 : Index := 47#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v412 : Index := Scalar.indexCast v127
  let c0_244 : Index := 0#32
  ![v411.toNat, 0, 47, v412.toNat, 0]
def k0_off687 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v417 : Index := Scalar.indexCast v66
  let c0_246 : Index := 0#32
  let c48 : Index := 48#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v418 : Index := Scalar.indexCast v127
  let c0_247 : Index := 0#32
  ![v417.toNat, 0, 48, v418.toNat, 0]
def k0_off688 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v423 : Index := Scalar.indexCast v66
  let c0_249 : Index := 0#32
  let c49 : Index := 49#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v424 : Index := Scalar.indexCast v127
  let c0_250 : Index := 0#32
  ![v423.toNat, 0, 49, v424.toNat, 0]
def k0_off689 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v429 : Index := Scalar.indexCast v66
  let c0_252 : Index := 0#32
  let c50 : Index := 50#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v430 : Index := Scalar.indexCast v127
  let c0_253 : Index := 0#32
  ![v429.toNat, 0, 50, v430.toNat, 0]
def k0_off690 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v435 : Index := Scalar.indexCast v66
  let c0_255 : Index := 0#32
  let c51 : Index := 51#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v436 : Index := Scalar.indexCast v127
  let c0_256 : Index := 0#32
  ![v435.toNat, 0, 51, v436.toNat, 0]
def k0_off691 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v441 : Index := Scalar.indexCast v66
  let c0_258 : Index := 0#32
  let c52 : Index := 52#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v442 : Index := Scalar.indexCast v127
  let c0_259 : Index := 0#32
  ![v441.toNat, 0, 52, v442.toNat, 0]
def k0_off692 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v447 : Index := Scalar.indexCast v66
  let c0_261 : Index := 0#32
  let c53 : Index := 53#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v448 : Index := Scalar.indexCast v127
  let c0_262 : Index := 0#32
  ![v447.toNat, 0, 53, v448.toNat, 0]
def k0_off693 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v453 : Index := Scalar.indexCast v66
  let c0_264 : Index := 0#32
  let c54 : Index := 54#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v454 : Index := Scalar.indexCast v127
  let c0_265 : Index := 0#32
  ![v453.toNat, 0, 54, v454.toNat, 0]
def k0_off694 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v459 : Index := Scalar.indexCast v66
  let c0_267 : Index := 0#32
  let c55 : Index := 55#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v460 : Index := Scalar.indexCast v127
  let c0_268 : Index := 0#32
  ![v459.toNat, 0, 55, v460.toNat, 0]
def k0_off695 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v465 : Index := Scalar.indexCast v66
  let c0_270 : Index := 0#32
  let c56 : Index := 56#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v466 : Index := Scalar.indexCast v127
  let c0_271 : Index := 0#32
  ![v465.toNat, 0, 56, v466.toNat, 0]
def k0_off696 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v471 : Index := Scalar.indexCast v66
  let c0_273 : Index := 0#32
  let c57 : Index := 57#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v472 : Index := Scalar.indexCast v127
  let c0_274 : Index := 0#32
  ![v471.toNat, 0, 57, v472.toNat, 0]
def k0_off697 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v477 : Index := Scalar.indexCast v66
  let c0_276 : Index := 0#32
  let c58 : Index := 58#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v478 : Index := Scalar.indexCast v127
  let c0_277 : Index := 0#32
  ![v477.toNat, 0, 58, v478.toNat, 0]
def k0_off698 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v483 : Index := Scalar.indexCast v66
  let c0_279 : Index := 0#32
  let c59 : Index := 59#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v484 : Index := Scalar.indexCast v127
  let c0_280 : Index := 0#32
  ![v483.toNat, 0, 59, v484.toNat, 0]
def k0_off699 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v489 : Index := Scalar.indexCast v66
  let c0_282 : Index := 0#32
  let c60 : Index := 60#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v490 : Index := Scalar.indexCast v127
  let c0_283 : Index := 0#32
  ![v489.toNat, 0, 60, v490.toNat, 0]
def k0_off700 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v495 : Index := Scalar.indexCast v66
  let c0_285 : Index := 0#32
  let c61 : Index := 61#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v496 : Index := Scalar.indexCast v127
  let c0_286 : Index := 0#32
  ![v495.toNat, 0, 61, v496.toNat, 0]
def k0_off701 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v501 : Index := Scalar.indexCast v66
  let c0_288 : Index := 0#32
  let c62 : Index := 62#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v502 : Index := Scalar.indexCast v127
  let c0_289 : Index := 0#32
  ![v501.toNat, 0, 62, v502.toNat, 0]
def k0_off702 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v507 : Index := Scalar.indexCast v66
  let c0_291 : Index := 0#32
  let c63 : Index := 63#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v508 : Index := Scalar.indexCast v127
  let c0_292 : Index := 0#32
  ![v507.toNat, 0, 63, v508.toNat, 0]
def k0_off703 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v513 : Index := Scalar.indexCast v66
  let c1_294 : Index := 1#32
  let c0_295 : Index := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v514 : Index := Scalar.indexCast v127
  let c0_296 : Index := 0#32
  ![v513.toNat, 1, 0, v514.toNat, 0]
def k0_off704 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v519 : Index := Scalar.indexCast v66
  let c1_298 : Index := 1#32
  let c1_299 : Index := 1#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v520 : Index := Scalar.indexCast v127
  let c0_300 : Index := 0#32
  ![v519.toNat, 1, 1, v520.toNat, 0]
def k0_off705 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v525 : Index := Scalar.indexCast v66
  let c1_302 : Index := 1#32
  let c2_303 : Index := 2#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v526 : Index := Scalar.indexCast v127
  let c0_304 : Index := 0#32
  ![v525.toNat, 1, 2, v526.toNat, 0]
def k0_off706 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v531 : Index := Scalar.indexCast v66
  let c1_306 : Index := 1#32
  let c3_307 : Index := 3#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v532 : Index := Scalar.indexCast v127
  let c0_308 : Index := 0#32
  ![v531.toNat, 1, 3, v532.toNat, 0]
def k0_off707 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v537 : Index := Scalar.indexCast v66
  let c1_310 : Index := 1#32
  let c4_311 : Index := 4#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v538 : Index := Scalar.indexCast v127
  let c0_312 : Index := 0#32
  ![v537.toNat, 1, 4, v538.toNat, 0]
def k0_off708 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v543 : Index := Scalar.indexCast v66
  let c1_314 : Index := 1#32
  let c5_315 : Index := 5#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v544 : Index := Scalar.indexCast v127
  let c0_316 : Index := 0#32
  ![v543.toNat, 1, 5, v544.toNat, 0]
def k0_off709 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v549 : Index := Scalar.indexCast v66
  let c1_318 : Index := 1#32
  let c6_319 : Index := 6#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v550 : Index := Scalar.indexCast v127
  let c0_320 : Index := 0#32
  ![v549.toNat, 1, 6, v550.toNat, 0]
def k0_off710 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v555 : Index := Scalar.indexCast v66
  let c1_322 : Index := 1#32
  let c7_323 : Index := 7#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v556 : Index := Scalar.indexCast v127
  let c0_324 : Index := 0#32
  ![v555.toNat, 1, 7, v556.toNat, 0]
def k0_off711 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v561 : Index := Scalar.indexCast v66
  let c1_326 : Index := 1#32
  let c8_327 : Index := 8#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v562 : Index := Scalar.indexCast v127
  let c0_328 : Index := 0#32
  ![v561.toNat, 1, 8, v562.toNat, 0]
def k0_off712 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v567 : Index := Scalar.indexCast v66
  let c1_330 : Index := 1#32
  let c9_331 : Index := 9#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v568 : Index := Scalar.indexCast v127
  let c0_332 : Index := 0#32
  ![v567.toNat, 1, 9, v568.toNat, 0]
def k0_off713 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v573 : Index := Scalar.indexCast v66
  let c1_334 : Index := 1#32
  let c10_335 : Index := 10#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v574 : Index := Scalar.indexCast v127
  let c0_336 : Index := 0#32
  ![v573.toNat, 1, 10, v574.toNat, 0]
def k0_off714 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v579 : Index := Scalar.indexCast v66
  let c1_338 : Index := 1#32
  let c11_339 : Index := 11#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v580 : Index := Scalar.indexCast v127
  let c0_340 : Index := 0#32
  ![v579.toNat, 1, 11, v580.toNat, 0]
def k0_off715 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v585 : Index := Scalar.indexCast v66
  let c1_342 : Index := 1#32
  let c12_343 : Index := 12#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v586 : Index := Scalar.indexCast v127
  let c0_344 : Index := 0#32
  ![v585.toNat, 1, 12, v586.toNat, 0]
def k0_off716 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v591 : Index := Scalar.indexCast v66
  let c1_346 : Index := 1#32
  let c13_347 : Index := 13#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v592 : Index := Scalar.indexCast v127
  let c0_348 : Index := 0#32
  ![v591.toNat, 1, 13, v592.toNat, 0]
def k0_off717 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v597 : Index := Scalar.indexCast v66
  let c1_350 : Index := 1#32
  let c14_351 : Index := 14#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v598 : Index := Scalar.indexCast v127
  let c0_352 : Index := 0#32
  ![v597.toNat, 1, 14, v598.toNat, 0]
def k0_off718 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v603 : Index := Scalar.indexCast v66
  let c1_354 : Index := 1#32
  let c15_355 : Index := 15#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v604 : Index := Scalar.indexCast v127
  let c0_356 : Index := 0#32
  ![v603.toNat, 1, 15, v604.toNat, 0]
def k0_off719 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v609 : Index := Scalar.indexCast v66
  let c1_358 : Index := 1#32
  let c16_359 : Index := 16#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v610 : Index := Scalar.indexCast v127
  let c0_360 : Index := 0#32
  ![v609.toNat, 1, 16, v610.toNat, 0]
def k0_off720 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v615 : Index := Scalar.indexCast v66
  let c1_362 : Index := 1#32
  let c17_363 : Index := 17#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v616 : Index := Scalar.indexCast v127
  let c0_364 : Index := 0#32
  ![v615.toNat, 1, 17, v616.toNat, 0]
def k0_off721 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v621 : Index := Scalar.indexCast v66
  let c1_366 : Index := 1#32
  let c18_367 : Index := 18#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v622 : Index := Scalar.indexCast v127
  let c0_368 : Index := 0#32
  ![v621.toNat, 1, 18, v622.toNat, 0]
def k0_off722 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v627 : Index := Scalar.indexCast v66
  let c1_370 : Index := 1#32
  let c19_371 : Index := 19#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v628 : Index := Scalar.indexCast v127
  let c0_372 : Index := 0#32
  ![v627.toNat, 1, 19, v628.toNat, 0]
def k0_off723 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v633 : Index := Scalar.indexCast v66
  let c1_374 : Index := 1#32
  let c20_375 : Index := 20#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v634 : Index := Scalar.indexCast v127
  let c0_376 : Index := 0#32
  ![v633.toNat, 1, 20, v634.toNat, 0]
def k0_off724 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v639 : Index := Scalar.indexCast v66
  let c1_378 : Index := 1#32
  let c21_379 : Index := 21#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v640 : Index := Scalar.indexCast v127
  let c0_380 : Index := 0#32
  ![v639.toNat, 1, 21, v640.toNat, 0]
def k0_off725 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v645 : Index := Scalar.indexCast v66
  let c1_382 : Index := 1#32
  let c22_383 : Index := 22#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v646 : Index := Scalar.indexCast v127
  let c0_384 : Index := 0#32
  ![v645.toNat, 1, 22, v646.toNat, 0]
def k0_off726 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v651 : Index := Scalar.indexCast v66
  let c1_386 : Index := 1#32
  let c23_387 : Index := 23#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v652 : Index := Scalar.indexCast v127
  let c0_388 : Index := 0#32
  ![v651.toNat, 1, 23, v652.toNat, 0]
def k0_off727 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v657 : Index := Scalar.indexCast v66
  let c1_390 : Index := 1#32
  let c24_391 : Index := 24#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v658 : Index := Scalar.indexCast v127
  let c0_392 : Index := 0#32
  ![v657.toNat, 1, 24, v658.toNat, 0]
def k0_off728 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v663 : Index := Scalar.indexCast v66
  let c1_394 : Index := 1#32
  let c25_395 : Index := 25#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v664 : Index := Scalar.indexCast v127
  let c0_396 : Index := 0#32
  ![v663.toNat, 1, 25, v664.toNat, 0]
def k0_off729 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v669 : Index := Scalar.indexCast v66
  let c1_398 : Index := 1#32
  let c26_399 : Index := 26#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v670 : Index := Scalar.indexCast v127
  let c0_400 : Index := 0#32
  ![v669.toNat, 1, 26, v670.toNat, 0]
def k0_off730 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v675 : Index := Scalar.indexCast v66
  let c1_402 : Index := 1#32
  let c27_403 : Index := 27#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v676 : Index := Scalar.indexCast v127
  let c0_404 : Index := 0#32
  ![v675.toNat, 1, 27, v676.toNat, 0]
def k0_off731 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v681 : Index := Scalar.indexCast v66
  let c1_406 : Index := 1#32
  let c28_407 : Index := 28#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v682 : Index := Scalar.indexCast v127
  let c0_408 : Index := 0#32
  ![v681.toNat, 1, 28, v682.toNat, 0]
def k0_off732 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v687 : Index := Scalar.indexCast v66
  let c1_410 : Index := 1#32
  let c29_411 : Index := 29#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v688 : Index := Scalar.indexCast v127
  let c0_412 : Index := 0#32
  ![v687.toNat, 1, 29, v688.toNat, 0]
def k0_off733 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v693 : Index := Scalar.indexCast v66
  let c1_414 : Index := 1#32
  let c30_415 : Index := 30#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v694 : Index := Scalar.indexCast v127
  let c0_416 : Index := 0#32
  ![v693.toNat, 1, 30, v694.toNat, 0]
def k0_off734 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v699 : Index := Scalar.indexCast v66
  let c1_418 : Index := 1#32
  let c31_419 : Index := 31#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v700 : Index := Scalar.indexCast v127
  let c0_420 : Index := 0#32
  ![v699.toNat, 1, 31, v700.toNat, 0]
def k0_off735 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v705 : Index := Scalar.indexCast v66
  let c1_422 : Index := 1#32
  let c32_423 : Index := 32#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v706 : Index := Scalar.indexCast v127
  let c0_424 : Index := 0#32
  ![v705.toNat, 1, 32, v706.toNat, 0]
def k0_off736 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v711 : Index := Scalar.indexCast v66
  let c1_426 : Index := 1#32
  let c33_427 : Index := 33#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v712 : Index := Scalar.indexCast v127
  let c0_428 : Index := 0#32
  ![v711.toNat, 1, 33, v712.toNat, 0]
def k0_off737 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v717 : Index := Scalar.indexCast v66
  let c1_430 : Index := 1#32
  let c34_431 : Index := 34#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v718 : Index := Scalar.indexCast v127
  let c0_432 : Index := 0#32
  ![v717.toNat, 1, 34, v718.toNat, 0]
def k0_off738 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v723 : Index := Scalar.indexCast v66
  let c1_434 : Index := 1#32
  let c35_435 : Index := 35#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v724 : Index := Scalar.indexCast v127
  let c0_436 : Index := 0#32
  ![v723.toNat, 1, 35, v724.toNat, 0]
def k0_off739 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v729 : Index := Scalar.indexCast v66
  let c1_438 : Index := 1#32
  let c36_439 : Index := 36#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v730 : Index := Scalar.indexCast v127
  let c0_440 : Index := 0#32
  ![v729.toNat, 1, 36, v730.toNat, 0]
def k0_off740 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v735 : Index := Scalar.indexCast v66
  let c1_442 : Index := 1#32
  let c37_443 : Index := 37#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v736 : Index := Scalar.indexCast v127
  let c0_444 : Index := 0#32
  ![v735.toNat, 1, 37, v736.toNat, 0]
def k0_off741 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v741 : Index := Scalar.indexCast v66
  let c1_446 : Index := 1#32
  let c38_447 : Index := 38#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v742 : Index := Scalar.indexCast v127
  let c0_448 : Index := 0#32
  ![v741.toNat, 1, 38, v742.toNat, 0]
def k0_off742 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v747 : Index := Scalar.indexCast v66
  let c1_450 : Index := 1#32
  let c39_451 : Index := 39#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v748 : Index := Scalar.indexCast v127
  let c0_452 : Index := 0#32
  ![v747.toNat, 1, 39, v748.toNat, 0]
def k0_off743 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v753 : Index := Scalar.indexCast v66
  let c1_454 : Index := 1#32
  let c40_455 : Index := 40#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v754 : Index := Scalar.indexCast v127
  let c0_456 : Index := 0#32
  ![v753.toNat, 1, 40, v754.toNat, 0]
def k0_off744 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v759 : Index := Scalar.indexCast v66
  let c1_458 : Index := 1#32
  let c41_459 : Index := 41#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v760 : Index := Scalar.indexCast v127
  let c0_460 : Index := 0#32
  ![v759.toNat, 1, 41, v760.toNat, 0]
def k0_off745 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v765 : Index := Scalar.indexCast v66
  let c1_462 : Index := 1#32
  let c42_463 : Index := 42#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v766 : Index := Scalar.indexCast v127
  let c0_464 : Index := 0#32
  ![v765.toNat, 1, 42, v766.toNat, 0]
def k0_off746 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v771 : Index := Scalar.indexCast v66
  let c1_466 : Index := 1#32
  let c43_467 : Index := 43#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v772 : Index := Scalar.indexCast v127
  let c0_468 : Index := 0#32
  ![v771.toNat, 1, 43, v772.toNat, 0]
def k0_off747 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v777 : Index := Scalar.indexCast v66
  let c1_470 : Index := 1#32
  let c44_471 : Index := 44#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v778 : Index := Scalar.indexCast v127
  let c0_472 : Index := 0#32
  ![v777.toNat, 1, 44, v778.toNat, 0]
def k0_off748 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v783 : Index := Scalar.indexCast v66
  let c1_474 : Index := 1#32
  let c45_475 : Index := 45#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v784 : Index := Scalar.indexCast v127
  let c0_476 : Index := 0#32
  ![v783.toNat, 1, 45, v784.toNat, 0]
def k0_off749 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v789 : Index := Scalar.indexCast v66
  let c1_478 : Index := 1#32
  let c46_479 : Index := 46#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v790 : Index := Scalar.indexCast v127
  let c0_480 : Index := 0#32
  ![v789.toNat, 1, 46, v790.toNat, 0]
def k0_off750 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v795 : Index := Scalar.indexCast v66
  let c1_482 : Index := 1#32
  let c47_483 : Index := 47#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v796 : Index := Scalar.indexCast v127
  let c0_484 : Index := 0#32
  ![v795.toNat, 1, 47, v796.toNat, 0]
def k0_off751 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v801 : Index := Scalar.indexCast v66
  let c1_486 : Index := 1#32
  let c48_487 : Index := 48#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v802 : Index := Scalar.indexCast v127
  let c0_488 : Index := 0#32
  ![v801.toNat, 1, 48, v802.toNat, 0]
def k0_off752 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v807 : Index := Scalar.indexCast v66
  let c1_490 : Index := 1#32
  let c49_491 : Index := 49#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v808 : Index := Scalar.indexCast v127
  let c0_492 : Index := 0#32
  ![v807.toNat, 1, 49, v808.toNat, 0]
def k0_off753 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v813 : Index := Scalar.indexCast v66
  let c1_494 : Index := 1#32
  let c50_495 : Index := 50#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v814 : Index := Scalar.indexCast v127
  let c0_496 : Index := 0#32
  ![v813.toNat, 1, 50, v814.toNat, 0]
def k0_off754 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v819 : Index := Scalar.indexCast v66
  let c1_498 : Index := 1#32
  let c51_499 : Index := 51#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v820 : Index := Scalar.indexCast v127
  let c0_500 : Index := 0#32
  ![v819.toNat, 1, 51, v820.toNat, 0]
def k0_off755 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v825 : Index := Scalar.indexCast v66
  let c1_502 : Index := 1#32
  let c52_503 : Index := 52#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v826 : Index := Scalar.indexCast v127
  let c0_504 : Index := 0#32
  ![v825.toNat, 1, 52, v826.toNat, 0]
def k0_off756 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v831 : Index := Scalar.indexCast v66
  let c1_506 : Index := 1#32
  let c53_507 : Index := 53#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v832 : Index := Scalar.indexCast v127
  let c0_508 : Index := 0#32
  ![v831.toNat, 1, 53, v832.toNat, 0]
def k0_off757 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v837 : Index := Scalar.indexCast v66
  let c1_510 : Index := 1#32
  let c54_511 : Index := 54#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v838 : Index := Scalar.indexCast v127
  let c0_512 : Index := 0#32
  ![v837.toNat, 1, 54, v838.toNat, 0]
def k0_off758 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v843 : Index := Scalar.indexCast v66
  let c1_514 : Index := 1#32
  let c55_515 : Index := 55#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v844 : Index := Scalar.indexCast v127
  let c0_516 : Index := 0#32
  ![v843.toNat, 1, 55, v844.toNat, 0]
def k0_off759 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v849 : Index := Scalar.indexCast v66
  let c1_518 : Index := 1#32
  let c56_519 : Index := 56#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v850 : Index := Scalar.indexCast v127
  let c0_520 : Index := 0#32
  ![v849.toNat, 1, 56, v850.toNat, 0]
def k0_off760 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v855 : Index := Scalar.indexCast v66
  let c1_522 : Index := 1#32
  let c57_523 : Index := 57#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v856 : Index := Scalar.indexCast v127
  let c0_524 : Index := 0#32
  ![v855.toNat, 1, 57, v856.toNat, 0]
def k0_off761 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v861 : Index := Scalar.indexCast v66
  let c1_526 : Index := 1#32
  let c58_527 : Index := 58#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v862 : Index := Scalar.indexCast v127
  let c0_528 : Index := 0#32
  ![v861.toNat, 1, 58, v862.toNat, 0]
def k0_off762 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v867 : Index := Scalar.indexCast v66
  let c1_530 : Index := 1#32
  let c59_531 : Index := 59#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v868 : Index := Scalar.indexCast v127
  let c0_532 : Index := 0#32
  ![v867.toNat, 1, 59, v868.toNat, 0]
def k0_off763 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v873 : Index := Scalar.indexCast v66
  let c1_534 : Index := 1#32
  let c60_535 : Index := 60#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v874 : Index := Scalar.indexCast v127
  let c0_536 : Index := 0#32
  ![v873.toNat, 1, 60, v874.toNat, 0]
def k0_off764 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v879 : Index := Scalar.indexCast v66
  let c1_538 : Index := 1#32
  let c61_539 : Index := 61#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v880 : Index := Scalar.indexCast v127
  let c0_540 : Index := 0#32
  ![v879.toNat, 1, 61, v880.toNat, 0]
def k0_off765 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v885 : Index := Scalar.indexCast v66
  let c1_542 : Index := 1#32
  let c62_543 : Index := 62#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v886 : Index := Scalar.indexCast v127
  let c0_544 : Index := 0#32
  ![v885.toNat, 1, 62, v886.toNat, 0]
def k0_off766 (v9 : BitVec 32) (k0_t11 : Fin (k0_t11_loop v9).trips) (v62 : BitVec 32) (v68 : BitVec 32) (k0_t18 : Fin (k0_t18_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v891 : Index := Scalar.indexCast v66
  let c1_546 : Index := 1#32
  let c63_547 : Index := 63#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t18
  let c8_i32_100 : BitVec 32 := 8#32
  let v126 : BitVec 32 := Scalar.muli arg20 c8_i32_100
  let v127 : BitVec 32 := v126
  let v892 : Index := Scalar.indexCast v127
  let c0_548 : Index := 0#32
  ![v891.toNat, 1, 63, v892.toNat, 0]
@[reducible] def k0_t19_loop (v62 : BitVec 32) (v68 : BitVec 32) : Scf.Loop 32 :=
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let v102 : BitVec 32 := Scalar.addi v75 v101
  let c1_i32_84 : BitVec 32 := 1#32
  ⟨v105, v102, c1_i32_84⟩
def k0_mult30 (v62 : BitVec 32) (v68 : BitVec 32) (k0_t19 : Fin (k0_t19_loop v62 v68).trips) : BitVec 32 :=
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  v126
def k0_off767 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v129 : Index := Scalar.indexCast v66
  let c0 : Index := 0#32
  let c0_102 : Index := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v130 : Index := Scalar.indexCast v127
  let c0_103 : Index := 0#32
  ![v129.toNat, 0, 0, v130.toNat, 0]
def k0_off768 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v135 : Index := Scalar.indexCast v66
  let c0_105 : Index := 0#32
  let c1 : Index := 1#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v136 : Index := Scalar.indexCast v127
  let c0_106 : Index := 0#32
  ![v135.toNat, 0, 1, v136.toNat, 0]
def k0_off769 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v141 : Index := Scalar.indexCast v66
  let c0_108 : Index := 0#32
  let c2 : Index := 2#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v142 : Index := Scalar.indexCast v127
  let c0_109 : Index := 0#32
  ![v141.toNat, 0, 2, v142.toNat, 0]
def k0_off770 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v147 : Index := Scalar.indexCast v66
  let c0_111 : Index := 0#32
  let c3 : Index := 3#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v148 : Index := Scalar.indexCast v127
  let c0_112 : Index := 0#32
  ![v147.toNat, 0, 3, v148.toNat, 0]
def k0_off771 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v153 : Index := Scalar.indexCast v66
  let c0_114 : Index := 0#32
  let c4 : Index := 4#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v154 : Index := Scalar.indexCast v127
  let c0_115 : Index := 0#32
  ![v153.toNat, 0, 4, v154.toNat, 0]
def k0_off772 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v159 : Index := Scalar.indexCast v66
  let c0_117 : Index := 0#32
  let c5 : Index := 5#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v160 : Index := Scalar.indexCast v127
  let c0_118 : Index := 0#32
  ![v159.toNat, 0, 5, v160.toNat, 0]
def k0_off773 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v165 : Index := Scalar.indexCast v66
  let c0_120 : Index := 0#32
  let c6 : Index := 6#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v166 : Index := Scalar.indexCast v127
  let c0_121 : Index := 0#32
  ![v165.toNat, 0, 6, v166.toNat, 0]
def k0_off774 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v171 : Index := Scalar.indexCast v66
  let c0_123 : Index := 0#32
  let c7 : Index := 7#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v172 : Index := Scalar.indexCast v127
  let c0_124 : Index := 0#32
  ![v171.toNat, 0, 7, v172.toNat, 0]
def k0_off775 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v177 : Index := Scalar.indexCast v66
  let c0_126 : Index := 0#32
  let c8 : Index := 8#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v178 : Index := Scalar.indexCast v127
  let c0_127 : Index := 0#32
  ![v177.toNat, 0, 8, v178.toNat, 0]
def k0_off776 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v183 : Index := Scalar.indexCast v66
  let c0_129 : Index := 0#32
  let c9 : Index := 9#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v184 : Index := Scalar.indexCast v127
  let c0_130 : Index := 0#32
  ![v183.toNat, 0, 9, v184.toNat, 0]
def k0_off777 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v189 : Index := Scalar.indexCast v66
  let c0_132 : Index := 0#32
  let c10 : Index := 10#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v190 : Index := Scalar.indexCast v127
  let c0_133 : Index := 0#32
  ![v189.toNat, 0, 10, v190.toNat, 0]
def k0_off778 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v195 : Index := Scalar.indexCast v66
  let c0_135 : Index := 0#32
  let c11 : Index := 11#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v196 : Index := Scalar.indexCast v127
  let c0_136 : Index := 0#32
  ![v195.toNat, 0, 11, v196.toNat, 0]
def k0_off779 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v201 : Index := Scalar.indexCast v66
  let c0_138 : Index := 0#32
  let c12 : Index := 12#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v202 : Index := Scalar.indexCast v127
  let c0_139 : Index := 0#32
  ![v201.toNat, 0, 12, v202.toNat, 0]
def k0_off780 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v207 : Index := Scalar.indexCast v66
  let c0_141 : Index := 0#32
  let c13 : Index := 13#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v208 : Index := Scalar.indexCast v127
  let c0_142 : Index := 0#32
  ![v207.toNat, 0, 13, v208.toNat, 0]
def k0_off781 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v213 : Index := Scalar.indexCast v66
  let c0_144 : Index := 0#32
  let c14 : Index := 14#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v214 : Index := Scalar.indexCast v127
  let c0_145 : Index := 0#32
  ![v213.toNat, 0, 14, v214.toNat, 0]
def k0_off782 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v219 : Index := Scalar.indexCast v66
  let c0_147 : Index := 0#32
  let c15 : Index := 15#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v220 : Index := Scalar.indexCast v127
  let c0_148 : Index := 0#32
  ![v219.toNat, 0, 15, v220.toNat, 0]
def k0_off783 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v225 : Index := Scalar.indexCast v66
  let c0_150 : Index := 0#32
  let c16 : Index := 16#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v226 : Index := Scalar.indexCast v127
  let c0_151 : Index := 0#32
  ![v225.toNat, 0, 16, v226.toNat, 0]
def k0_off784 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v231 : Index := Scalar.indexCast v66
  let c0_153 : Index := 0#32
  let c17 : Index := 17#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v232 : Index := Scalar.indexCast v127
  let c0_154 : Index := 0#32
  ![v231.toNat, 0, 17, v232.toNat, 0]
def k0_off785 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v237 : Index := Scalar.indexCast v66
  let c0_156 : Index := 0#32
  let c18 : Index := 18#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v238 : Index := Scalar.indexCast v127
  let c0_157 : Index := 0#32
  ![v237.toNat, 0, 18, v238.toNat, 0]
def k0_off786 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v243 : Index := Scalar.indexCast v66
  let c0_159 : Index := 0#32
  let c19 : Index := 19#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v244 : Index := Scalar.indexCast v127
  let c0_160 : Index := 0#32
  ![v243.toNat, 0, 19, v244.toNat, 0]
def k0_off787 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v249 : Index := Scalar.indexCast v66
  let c0_162 : Index := 0#32
  let c20 : Index := 20#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v250 : Index := Scalar.indexCast v127
  let c0_163 : Index := 0#32
  ![v249.toNat, 0, 20, v250.toNat, 0]
def k0_off788 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v255 : Index := Scalar.indexCast v66
  let c0_165 : Index := 0#32
  let c21 : Index := 21#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v256 : Index := Scalar.indexCast v127
  let c0_166 : Index := 0#32
  ![v255.toNat, 0, 21, v256.toNat, 0]
def k0_off789 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v261 : Index := Scalar.indexCast v66
  let c0_168 : Index := 0#32
  let c22 : Index := 22#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v262 : Index := Scalar.indexCast v127
  let c0_169 : Index := 0#32
  ![v261.toNat, 0, 22, v262.toNat, 0]
def k0_off790 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v267 : Index := Scalar.indexCast v66
  let c0_171 : Index := 0#32
  let c23 : Index := 23#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v268 : Index := Scalar.indexCast v127
  let c0_172 : Index := 0#32
  ![v267.toNat, 0, 23, v268.toNat, 0]
def k0_off791 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v273 : Index := Scalar.indexCast v66
  let c0_174 : Index := 0#32
  let c24 : Index := 24#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v274 : Index := Scalar.indexCast v127
  let c0_175 : Index := 0#32
  ![v273.toNat, 0, 24, v274.toNat, 0]
def k0_off792 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v279 : Index := Scalar.indexCast v66
  let c0_177 : Index := 0#32
  let c25 : Index := 25#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v280 : Index := Scalar.indexCast v127
  let c0_178 : Index := 0#32
  ![v279.toNat, 0, 25, v280.toNat, 0]
def k0_off793 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v285 : Index := Scalar.indexCast v66
  let c0_180 : Index := 0#32
  let c26 : Index := 26#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v286 : Index := Scalar.indexCast v127
  let c0_181 : Index := 0#32
  ![v285.toNat, 0, 26, v286.toNat, 0]
def k0_off794 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v291 : Index := Scalar.indexCast v66
  let c0_183 : Index := 0#32
  let c27 : Index := 27#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v292 : Index := Scalar.indexCast v127
  let c0_184 : Index := 0#32
  ![v291.toNat, 0, 27, v292.toNat, 0]
def k0_off795 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v297 : Index := Scalar.indexCast v66
  let c0_186 : Index := 0#32
  let c28 : Index := 28#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v298 : Index := Scalar.indexCast v127
  let c0_187 : Index := 0#32
  ![v297.toNat, 0, 28, v298.toNat, 0]
def k0_off796 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v303 : Index := Scalar.indexCast v66
  let c0_189 : Index := 0#32
  let c29 : Index := 29#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v304 : Index := Scalar.indexCast v127
  let c0_190 : Index := 0#32
  ![v303.toNat, 0, 29, v304.toNat, 0]
def k0_off797 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v309 : Index := Scalar.indexCast v66
  let c0_192 : Index := 0#32
  let c30 : Index := 30#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v310 : Index := Scalar.indexCast v127
  let c0_193 : Index := 0#32
  ![v309.toNat, 0, 30, v310.toNat, 0]
def k0_off798 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v315 : Index := Scalar.indexCast v66
  let c0_195 : Index := 0#32
  let c31 : Index := 31#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v316 : Index := Scalar.indexCast v127
  let c0_196 : Index := 0#32
  ![v315.toNat, 0, 31, v316.toNat, 0]
def k0_off799 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v321 : Index := Scalar.indexCast v66
  let c0_198 : Index := 0#32
  let c32 : Index := 32#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v322 : Index := Scalar.indexCast v127
  let c0_199 : Index := 0#32
  ![v321.toNat, 0, 32, v322.toNat, 0]
def k0_off800 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v327 : Index := Scalar.indexCast v66
  let c0_201 : Index := 0#32
  let c33 : Index := 33#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v328 : Index := Scalar.indexCast v127
  let c0_202 : Index := 0#32
  ![v327.toNat, 0, 33, v328.toNat, 0]
def k0_off801 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v333 : Index := Scalar.indexCast v66
  let c0_204 : Index := 0#32
  let c34 : Index := 34#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v334 : Index := Scalar.indexCast v127
  let c0_205 : Index := 0#32
  ![v333.toNat, 0, 34, v334.toNat, 0]
def k0_off802 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v339 : Index := Scalar.indexCast v66
  let c0_207 : Index := 0#32
  let c35 : Index := 35#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v340 : Index := Scalar.indexCast v127
  let c0_208 : Index := 0#32
  ![v339.toNat, 0, 35, v340.toNat, 0]
def k0_off803 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v345 : Index := Scalar.indexCast v66
  let c0_210 : Index := 0#32
  let c36 : Index := 36#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v346 : Index := Scalar.indexCast v127
  let c0_211 : Index := 0#32
  ![v345.toNat, 0, 36, v346.toNat, 0]
def k0_off804 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v351 : Index := Scalar.indexCast v66
  let c0_213 : Index := 0#32
  let c37 : Index := 37#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v352 : Index := Scalar.indexCast v127
  let c0_214 : Index := 0#32
  ![v351.toNat, 0, 37, v352.toNat, 0]
def k0_off805 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v357 : Index := Scalar.indexCast v66
  let c0_216 : Index := 0#32
  let c38 : Index := 38#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v358 : Index := Scalar.indexCast v127
  let c0_217 : Index := 0#32
  ![v357.toNat, 0, 38, v358.toNat, 0]
def k0_off806 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v363 : Index := Scalar.indexCast v66
  let c0_219 : Index := 0#32
  let c39 : Index := 39#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v364 : Index := Scalar.indexCast v127
  let c0_220 : Index := 0#32
  ![v363.toNat, 0, 39, v364.toNat, 0]
def k0_off807 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v369 : Index := Scalar.indexCast v66
  let c0_222 : Index := 0#32
  let c40 : Index := 40#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v370 : Index := Scalar.indexCast v127
  let c0_223 : Index := 0#32
  ![v369.toNat, 0, 40, v370.toNat, 0]
def k0_off808 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v375 : Index := Scalar.indexCast v66
  let c0_225 : Index := 0#32
  let c41 : Index := 41#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v376 : Index := Scalar.indexCast v127
  let c0_226 : Index := 0#32
  ![v375.toNat, 0, 41, v376.toNat, 0]
def k0_off809 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v381 : Index := Scalar.indexCast v66
  let c0_228 : Index := 0#32
  let c42 : Index := 42#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v382 : Index := Scalar.indexCast v127
  let c0_229 : Index := 0#32
  ![v381.toNat, 0, 42, v382.toNat, 0]
def k0_off810 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v387 : Index := Scalar.indexCast v66
  let c0_231 : Index := 0#32
  let c43 : Index := 43#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v388 : Index := Scalar.indexCast v127
  let c0_232 : Index := 0#32
  ![v387.toNat, 0, 43, v388.toNat, 0]
def k0_off811 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v393 : Index := Scalar.indexCast v66
  let c0_234 : Index := 0#32
  let c44 : Index := 44#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v394 : Index := Scalar.indexCast v127
  let c0_235 : Index := 0#32
  ![v393.toNat, 0, 44, v394.toNat, 0]
def k0_off812 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v399 : Index := Scalar.indexCast v66
  let c0_237 : Index := 0#32
  let c45 : Index := 45#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v400 : Index := Scalar.indexCast v127
  let c0_238 : Index := 0#32
  ![v399.toNat, 0, 45, v400.toNat, 0]
def k0_off813 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v405 : Index := Scalar.indexCast v66
  let c0_240 : Index := 0#32
  let c46 : Index := 46#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v406 : Index := Scalar.indexCast v127
  let c0_241 : Index := 0#32
  ![v405.toNat, 0, 46, v406.toNat, 0]
def k0_off814 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v411 : Index := Scalar.indexCast v66
  let c0_243 : Index := 0#32
  let c47 : Index := 47#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v412 : Index := Scalar.indexCast v127
  let c0_244 : Index := 0#32
  ![v411.toNat, 0, 47, v412.toNat, 0]
def k0_off815 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v417 : Index := Scalar.indexCast v66
  let c0_246 : Index := 0#32
  let c48 : Index := 48#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v418 : Index := Scalar.indexCast v127
  let c0_247 : Index := 0#32
  ![v417.toNat, 0, 48, v418.toNat, 0]
def k0_off816 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v423 : Index := Scalar.indexCast v66
  let c0_249 : Index := 0#32
  let c49 : Index := 49#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v424 : Index := Scalar.indexCast v127
  let c0_250 : Index := 0#32
  ![v423.toNat, 0, 49, v424.toNat, 0]
def k0_off817 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v429 : Index := Scalar.indexCast v66
  let c0_252 : Index := 0#32
  let c50 : Index := 50#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v430 : Index := Scalar.indexCast v127
  let c0_253 : Index := 0#32
  ![v429.toNat, 0, 50, v430.toNat, 0]
def k0_off818 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v435 : Index := Scalar.indexCast v66
  let c0_255 : Index := 0#32
  let c51 : Index := 51#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v436 : Index := Scalar.indexCast v127
  let c0_256 : Index := 0#32
  ![v435.toNat, 0, 51, v436.toNat, 0]
def k0_off819 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v441 : Index := Scalar.indexCast v66
  let c0_258 : Index := 0#32
  let c52 : Index := 52#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v442 : Index := Scalar.indexCast v127
  let c0_259 : Index := 0#32
  ![v441.toNat, 0, 52, v442.toNat, 0]
def k0_off820 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v447 : Index := Scalar.indexCast v66
  let c0_261 : Index := 0#32
  let c53 : Index := 53#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v448 : Index := Scalar.indexCast v127
  let c0_262 : Index := 0#32
  ![v447.toNat, 0, 53, v448.toNat, 0]
def k0_off821 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v453 : Index := Scalar.indexCast v66
  let c0_264 : Index := 0#32
  let c54 : Index := 54#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v454 : Index := Scalar.indexCast v127
  let c0_265 : Index := 0#32
  ![v453.toNat, 0, 54, v454.toNat, 0]
def k0_off822 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v459 : Index := Scalar.indexCast v66
  let c0_267 : Index := 0#32
  let c55 : Index := 55#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v460 : Index := Scalar.indexCast v127
  let c0_268 : Index := 0#32
  ![v459.toNat, 0, 55, v460.toNat, 0]
def k0_off823 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v465 : Index := Scalar.indexCast v66
  let c0_270 : Index := 0#32
  let c56 : Index := 56#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v466 : Index := Scalar.indexCast v127
  let c0_271 : Index := 0#32
  ![v465.toNat, 0, 56, v466.toNat, 0]
def k0_off824 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v471 : Index := Scalar.indexCast v66
  let c0_273 : Index := 0#32
  let c57 : Index := 57#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v472 : Index := Scalar.indexCast v127
  let c0_274 : Index := 0#32
  ![v471.toNat, 0, 57, v472.toNat, 0]
def k0_off825 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v477 : Index := Scalar.indexCast v66
  let c0_276 : Index := 0#32
  let c58 : Index := 58#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v478 : Index := Scalar.indexCast v127
  let c0_277 : Index := 0#32
  ![v477.toNat, 0, 58, v478.toNat, 0]
def k0_off826 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v483 : Index := Scalar.indexCast v66
  let c0_279 : Index := 0#32
  let c59 : Index := 59#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v484 : Index := Scalar.indexCast v127
  let c0_280 : Index := 0#32
  ![v483.toNat, 0, 59, v484.toNat, 0]
def k0_off827 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v489 : Index := Scalar.indexCast v66
  let c0_282 : Index := 0#32
  let c60 : Index := 60#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v490 : Index := Scalar.indexCast v127
  let c0_283 : Index := 0#32
  ![v489.toNat, 0, 60, v490.toNat, 0]
def k0_off828 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v495 : Index := Scalar.indexCast v66
  let c0_285 : Index := 0#32
  let c61 : Index := 61#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v496 : Index := Scalar.indexCast v127
  let c0_286 : Index := 0#32
  ![v495.toNat, 0, 61, v496.toNat, 0]
def k0_off829 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v501 : Index := Scalar.indexCast v66
  let c0_288 : Index := 0#32
  let c62 : Index := 62#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v502 : Index := Scalar.indexCast v127
  let c0_289 : Index := 0#32
  ![v501.toNat, 0, 62, v502.toNat, 0]
def k0_off830 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v507 : Index := Scalar.indexCast v66
  let c0_291 : Index := 0#32
  let c63 : Index := 63#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v508 : Index := Scalar.indexCast v127
  let c0_292 : Index := 0#32
  ![v507.toNat, 0, 63, v508.toNat, 0]
def k0_off831 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v513 : Index := Scalar.indexCast v66
  let c1_294 : Index := 1#32
  let c0_295 : Index := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v514 : Index := Scalar.indexCast v127
  let c0_296 : Index := 0#32
  ![v513.toNat, 1, 0, v514.toNat, 0]
def k0_off832 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v519 : Index := Scalar.indexCast v66
  let c1_298 : Index := 1#32
  let c1_299 : Index := 1#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v520 : Index := Scalar.indexCast v127
  let c0_300 : Index := 0#32
  ![v519.toNat, 1, 1, v520.toNat, 0]
def k0_off833 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v525 : Index := Scalar.indexCast v66
  let c1_302 : Index := 1#32
  let c2_303 : Index := 2#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v526 : Index := Scalar.indexCast v127
  let c0_304 : Index := 0#32
  ![v525.toNat, 1, 2, v526.toNat, 0]
def k0_off834 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v531 : Index := Scalar.indexCast v66
  let c1_306 : Index := 1#32
  let c3_307 : Index := 3#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v532 : Index := Scalar.indexCast v127
  let c0_308 : Index := 0#32
  ![v531.toNat, 1, 3, v532.toNat, 0]
def k0_off835 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v537 : Index := Scalar.indexCast v66
  let c1_310 : Index := 1#32
  let c4_311 : Index := 4#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v538 : Index := Scalar.indexCast v127
  let c0_312 : Index := 0#32
  ![v537.toNat, 1, 4, v538.toNat, 0]
def k0_off836 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v543 : Index := Scalar.indexCast v66
  let c1_314 : Index := 1#32
  let c5_315 : Index := 5#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v544 : Index := Scalar.indexCast v127
  let c0_316 : Index := 0#32
  ![v543.toNat, 1, 5, v544.toNat, 0]
def k0_off837 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v549 : Index := Scalar.indexCast v66
  let c1_318 : Index := 1#32
  let c6_319 : Index := 6#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v550 : Index := Scalar.indexCast v127
  let c0_320 : Index := 0#32
  ![v549.toNat, 1, 6, v550.toNat, 0]
def k0_off838 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v555 : Index := Scalar.indexCast v66
  let c1_322 : Index := 1#32
  let c7_323 : Index := 7#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v556 : Index := Scalar.indexCast v127
  let c0_324 : Index := 0#32
  ![v555.toNat, 1, 7, v556.toNat, 0]
def k0_off839 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v561 : Index := Scalar.indexCast v66
  let c1_326 : Index := 1#32
  let c8_327 : Index := 8#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v562 : Index := Scalar.indexCast v127
  let c0_328 : Index := 0#32
  ![v561.toNat, 1, 8, v562.toNat, 0]
def k0_off840 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v567 : Index := Scalar.indexCast v66
  let c1_330 : Index := 1#32
  let c9_331 : Index := 9#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v568 : Index := Scalar.indexCast v127
  let c0_332 : Index := 0#32
  ![v567.toNat, 1, 9, v568.toNat, 0]
def k0_off841 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v573 : Index := Scalar.indexCast v66
  let c1_334 : Index := 1#32
  let c10_335 : Index := 10#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v574 : Index := Scalar.indexCast v127
  let c0_336 : Index := 0#32
  ![v573.toNat, 1, 10, v574.toNat, 0]
def k0_off842 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v579 : Index := Scalar.indexCast v66
  let c1_338 : Index := 1#32
  let c11_339 : Index := 11#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v580 : Index := Scalar.indexCast v127
  let c0_340 : Index := 0#32
  ![v579.toNat, 1, 11, v580.toNat, 0]
def k0_off843 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v585 : Index := Scalar.indexCast v66
  let c1_342 : Index := 1#32
  let c12_343 : Index := 12#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v586 : Index := Scalar.indexCast v127
  let c0_344 : Index := 0#32
  ![v585.toNat, 1, 12, v586.toNat, 0]
def k0_off844 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v591 : Index := Scalar.indexCast v66
  let c1_346 : Index := 1#32
  let c13_347 : Index := 13#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v592 : Index := Scalar.indexCast v127
  let c0_348 : Index := 0#32
  ![v591.toNat, 1, 13, v592.toNat, 0]
def k0_off845 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v597 : Index := Scalar.indexCast v66
  let c1_350 : Index := 1#32
  let c14_351 : Index := 14#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v598 : Index := Scalar.indexCast v127
  let c0_352 : Index := 0#32
  ![v597.toNat, 1, 14, v598.toNat, 0]
def k0_off846 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v603 : Index := Scalar.indexCast v66
  let c1_354 : Index := 1#32
  let c15_355 : Index := 15#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v604 : Index := Scalar.indexCast v127
  let c0_356 : Index := 0#32
  ![v603.toNat, 1, 15, v604.toNat, 0]
def k0_off847 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v609 : Index := Scalar.indexCast v66
  let c1_358 : Index := 1#32
  let c16_359 : Index := 16#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v610 : Index := Scalar.indexCast v127
  let c0_360 : Index := 0#32
  ![v609.toNat, 1, 16, v610.toNat, 0]
def k0_off848 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v615 : Index := Scalar.indexCast v66
  let c1_362 : Index := 1#32
  let c17_363 : Index := 17#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v616 : Index := Scalar.indexCast v127
  let c0_364 : Index := 0#32
  ![v615.toNat, 1, 17, v616.toNat, 0]
def k0_off849 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v621 : Index := Scalar.indexCast v66
  let c1_366 : Index := 1#32
  let c18_367 : Index := 18#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v622 : Index := Scalar.indexCast v127
  let c0_368 : Index := 0#32
  ![v621.toNat, 1, 18, v622.toNat, 0]
def k0_off850 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v627 : Index := Scalar.indexCast v66
  let c1_370 : Index := 1#32
  let c19_371 : Index := 19#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v628 : Index := Scalar.indexCast v127
  let c0_372 : Index := 0#32
  ![v627.toNat, 1, 19, v628.toNat, 0]
def k0_off851 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v633 : Index := Scalar.indexCast v66
  let c1_374 : Index := 1#32
  let c20_375 : Index := 20#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v634 : Index := Scalar.indexCast v127
  let c0_376 : Index := 0#32
  ![v633.toNat, 1, 20, v634.toNat, 0]
def k0_off852 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v639 : Index := Scalar.indexCast v66
  let c1_378 : Index := 1#32
  let c21_379 : Index := 21#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v640 : Index := Scalar.indexCast v127
  let c0_380 : Index := 0#32
  ![v639.toNat, 1, 21, v640.toNat, 0]
def k0_off853 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v645 : Index := Scalar.indexCast v66
  let c1_382 : Index := 1#32
  let c22_383 : Index := 22#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v646 : Index := Scalar.indexCast v127
  let c0_384 : Index := 0#32
  ![v645.toNat, 1, 22, v646.toNat, 0]
def k0_off854 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v651 : Index := Scalar.indexCast v66
  let c1_386 : Index := 1#32
  let c23_387 : Index := 23#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v652 : Index := Scalar.indexCast v127
  let c0_388 : Index := 0#32
  ![v651.toNat, 1, 23, v652.toNat, 0]
def k0_off855 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v657 : Index := Scalar.indexCast v66
  let c1_390 : Index := 1#32
  let c24_391 : Index := 24#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v658 : Index := Scalar.indexCast v127
  let c0_392 : Index := 0#32
  ![v657.toNat, 1, 24, v658.toNat, 0]
def k0_off856 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v663 : Index := Scalar.indexCast v66
  let c1_394 : Index := 1#32
  let c25_395 : Index := 25#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v664 : Index := Scalar.indexCast v127
  let c0_396 : Index := 0#32
  ![v663.toNat, 1, 25, v664.toNat, 0]
def k0_off857 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v669 : Index := Scalar.indexCast v66
  let c1_398 : Index := 1#32
  let c26_399 : Index := 26#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v670 : Index := Scalar.indexCast v127
  let c0_400 : Index := 0#32
  ![v669.toNat, 1, 26, v670.toNat, 0]
def k0_off858 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v675 : Index := Scalar.indexCast v66
  let c1_402 : Index := 1#32
  let c27_403 : Index := 27#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v676 : Index := Scalar.indexCast v127
  let c0_404 : Index := 0#32
  ![v675.toNat, 1, 27, v676.toNat, 0]
def k0_off859 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v681 : Index := Scalar.indexCast v66
  let c1_406 : Index := 1#32
  let c28_407 : Index := 28#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v682 : Index := Scalar.indexCast v127
  let c0_408 : Index := 0#32
  ![v681.toNat, 1, 28, v682.toNat, 0]
def k0_off860 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v687 : Index := Scalar.indexCast v66
  let c1_410 : Index := 1#32
  let c29_411 : Index := 29#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v688 : Index := Scalar.indexCast v127
  let c0_412 : Index := 0#32
  ![v687.toNat, 1, 29, v688.toNat, 0]
def k0_off861 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v693 : Index := Scalar.indexCast v66
  let c1_414 : Index := 1#32
  let c30_415 : Index := 30#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v694 : Index := Scalar.indexCast v127
  let c0_416 : Index := 0#32
  ![v693.toNat, 1, 30, v694.toNat, 0]
def k0_off862 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v699 : Index := Scalar.indexCast v66
  let c1_418 : Index := 1#32
  let c31_419 : Index := 31#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v700 : Index := Scalar.indexCast v127
  let c0_420 : Index := 0#32
  ![v699.toNat, 1, 31, v700.toNat, 0]
def k0_off863 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v705 : Index := Scalar.indexCast v66
  let c1_422 : Index := 1#32
  let c32_423 : Index := 32#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v706 : Index := Scalar.indexCast v127
  let c0_424 : Index := 0#32
  ![v705.toNat, 1, 32, v706.toNat, 0]
def k0_off864 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v711 : Index := Scalar.indexCast v66
  let c1_426 : Index := 1#32
  let c33_427 : Index := 33#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v712 : Index := Scalar.indexCast v127
  let c0_428 : Index := 0#32
  ![v711.toNat, 1, 33, v712.toNat, 0]
def k0_off865 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v717 : Index := Scalar.indexCast v66
  let c1_430 : Index := 1#32
  let c34_431 : Index := 34#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v718 : Index := Scalar.indexCast v127
  let c0_432 : Index := 0#32
  ![v717.toNat, 1, 34, v718.toNat, 0]
def k0_off866 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v723 : Index := Scalar.indexCast v66
  let c1_434 : Index := 1#32
  let c35_435 : Index := 35#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v724 : Index := Scalar.indexCast v127
  let c0_436 : Index := 0#32
  ![v723.toNat, 1, 35, v724.toNat, 0]
def k0_off867 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v729 : Index := Scalar.indexCast v66
  let c1_438 : Index := 1#32
  let c36_439 : Index := 36#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v730 : Index := Scalar.indexCast v127
  let c0_440 : Index := 0#32
  ![v729.toNat, 1, 36, v730.toNat, 0]
def k0_off868 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v735 : Index := Scalar.indexCast v66
  let c1_442 : Index := 1#32
  let c37_443 : Index := 37#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v736 : Index := Scalar.indexCast v127
  let c0_444 : Index := 0#32
  ![v735.toNat, 1, 37, v736.toNat, 0]
def k0_off869 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v741 : Index := Scalar.indexCast v66
  let c1_446 : Index := 1#32
  let c38_447 : Index := 38#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v742 : Index := Scalar.indexCast v127
  let c0_448 : Index := 0#32
  ![v741.toNat, 1, 38, v742.toNat, 0]
def k0_off870 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v747 : Index := Scalar.indexCast v66
  let c1_450 : Index := 1#32
  let c39_451 : Index := 39#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v748 : Index := Scalar.indexCast v127
  let c0_452 : Index := 0#32
  ![v747.toNat, 1, 39, v748.toNat, 0]
def k0_off871 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v753 : Index := Scalar.indexCast v66
  let c1_454 : Index := 1#32
  let c40_455 : Index := 40#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v754 : Index := Scalar.indexCast v127
  let c0_456 : Index := 0#32
  ![v753.toNat, 1, 40, v754.toNat, 0]
def k0_off872 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v759 : Index := Scalar.indexCast v66
  let c1_458 : Index := 1#32
  let c41_459 : Index := 41#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v760 : Index := Scalar.indexCast v127
  let c0_460 : Index := 0#32
  ![v759.toNat, 1, 41, v760.toNat, 0]
def k0_off873 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v765 : Index := Scalar.indexCast v66
  let c1_462 : Index := 1#32
  let c42_463 : Index := 42#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v766 : Index := Scalar.indexCast v127
  let c0_464 : Index := 0#32
  ![v765.toNat, 1, 42, v766.toNat, 0]
def k0_off874 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v771 : Index := Scalar.indexCast v66
  let c1_466 : Index := 1#32
  let c43_467 : Index := 43#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v772 : Index := Scalar.indexCast v127
  let c0_468 : Index := 0#32
  ![v771.toNat, 1, 43, v772.toNat, 0]
def k0_off875 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v777 : Index := Scalar.indexCast v66
  let c1_470 : Index := 1#32
  let c44_471 : Index := 44#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v778 : Index := Scalar.indexCast v127
  let c0_472 : Index := 0#32
  ![v777.toNat, 1, 44, v778.toNat, 0]
def k0_off876 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v783 : Index := Scalar.indexCast v66
  let c1_474 : Index := 1#32
  let c45_475 : Index := 45#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v784 : Index := Scalar.indexCast v127
  let c0_476 : Index := 0#32
  ![v783.toNat, 1, 45, v784.toNat, 0]
def k0_off877 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v789 : Index := Scalar.indexCast v66
  let c1_478 : Index := 1#32
  let c46_479 : Index := 46#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v790 : Index := Scalar.indexCast v127
  let c0_480 : Index := 0#32
  ![v789.toNat, 1, 46, v790.toNat, 0]
def k0_off878 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v795 : Index := Scalar.indexCast v66
  let c1_482 : Index := 1#32
  let c47_483 : Index := 47#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v796 : Index := Scalar.indexCast v127
  let c0_484 : Index := 0#32
  ![v795.toNat, 1, 47, v796.toNat, 0]
def k0_off879 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v801 : Index := Scalar.indexCast v66
  let c1_486 : Index := 1#32
  let c48_487 : Index := 48#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v802 : Index := Scalar.indexCast v127
  let c0_488 : Index := 0#32
  ![v801.toNat, 1, 48, v802.toNat, 0]
def k0_off880 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v807 : Index := Scalar.indexCast v66
  let c1_490 : Index := 1#32
  let c49_491 : Index := 49#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v808 : Index := Scalar.indexCast v127
  let c0_492 : Index := 0#32
  ![v807.toNat, 1, 49, v808.toNat, 0]
def k0_off881 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v813 : Index := Scalar.indexCast v66
  let c1_494 : Index := 1#32
  let c50_495 : Index := 50#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v814 : Index := Scalar.indexCast v127
  let c0_496 : Index := 0#32
  ![v813.toNat, 1, 50, v814.toNat, 0]
def k0_off882 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v819 : Index := Scalar.indexCast v66
  let c1_498 : Index := 1#32
  let c51_499 : Index := 51#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v820 : Index := Scalar.indexCast v127
  let c0_500 : Index := 0#32
  ![v819.toNat, 1, 51, v820.toNat, 0]
def k0_off883 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v825 : Index := Scalar.indexCast v66
  let c1_502 : Index := 1#32
  let c52_503 : Index := 52#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v826 : Index := Scalar.indexCast v127
  let c0_504 : Index := 0#32
  ![v825.toNat, 1, 52, v826.toNat, 0]
def k0_off884 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v831 : Index := Scalar.indexCast v66
  let c1_506 : Index := 1#32
  let c53_507 : Index := 53#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v832 : Index := Scalar.indexCast v127
  let c0_508 : Index := 0#32
  ![v831.toNat, 1, 53, v832.toNat, 0]
def k0_off885 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v837 : Index := Scalar.indexCast v66
  let c1_510 : Index := 1#32
  let c54_511 : Index := 54#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v838 : Index := Scalar.indexCast v127
  let c0_512 : Index := 0#32
  ![v837.toNat, 1, 54, v838.toNat, 0]
def k0_off886 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v843 : Index := Scalar.indexCast v66
  let c1_514 : Index := 1#32
  let c55_515 : Index := 55#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v844 : Index := Scalar.indexCast v127
  let c0_516 : Index := 0#32
  ![v843.toNat, 1, 55, v844.toNat, 0]
def k0_off887 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v849 : Index := Scalar.indexCast v66
  let c1_518 : Index := 1#32
  let c56_519 : Index := 56#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v850 : Index := Scalar.indexCast v127
  let c0_520 : Index := 0#32
  ![v849.toNat, 1, 56, v850.toNat, 0]
def k0_off888 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v855 : Index := Scalar.indexCast v66
  let c1_522 : Index := 1#32
  let c57_523 : Index := 57#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v856 : Index := Scalar.indexCast v127
  let c0_524 : Index := 0#32
  ![v855.toNat, 1, 57, v856.toNat, 0]
def k0_off889 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v861 : Index := Scalar.indexCast v66
  let c1_526 : Index := 1#32
  let c58_527 : Index := 58#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v862 : Index := Scalar.indexCast v127
  let c0_528 : Index := 0#32
  ![v861.toNat, 1, 58, v862.toNat, 0]
def k0_off890 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v867 : Index := Scalar.indexCast v66
  let c1_530 : Index := 1#32
  let c59_531 : Index := 59#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v868 : Index := Scalar.indexCast v127
  let c0_532 : Index := 0#32
  ![v867.toNat, 1, 59, v868.toNat, 0]
def k0_off891 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v873 : Index := Scalar.indexCast v66
  let c1_534 : Index := 1#32
  let c60_535 : Index := 60#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v874 : Index := Scalar.indexCast v127
  let c0_536 : Index := 0#32
  ![v873.toNat, 1, 60, v874.toNat, 0]
def k0_off892 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v879 : Index := Scalar.indexCast v66
  let c1_538 : Index := 1#32
  let c61_539 : Index := 61#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v880 : Index := Scalar.indexCast v127
  let c0_540 : Index := 0#32
  ![v879.toNat, 1, 61, v880.toNat, 0]
def k0_off893 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v885 : Index := Scalar.indexCast v66
  let c1_542 : Index := 1#32
  let c62_543 : Index := 62#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v886 : Index := Scalar.indexCast v127
  let c0_544 : Index := 0#32
  ![v885.toNat, 1, 62, v886.toNat, 0]
def k0_off894 (v9 : BitVec 32) (k0_t11 : Fin (k0_t11_loop v9).trips) (v62 : BitVec 32) (v68 : BitVec 32) (k0_t19 : Fin (k0_t19_loop v62 v68).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let v891 : Index := Scalar.indexCast v66
  let c1_546 : Index := 1#32
  let c63_547 : Index := 63#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t19
  let c8_i32_100 : BitVec 32 := 8#32
  let v126 : BitVec 32 := Scalar.muli arg20 c8_i32_100
  let v127 : BitVec 32 := v126
  let v892 : Index := Scalar.indexCast v127
  let c0_548 : Index := 0#32
  ![v891.toNat, 1, 63, v892.toNat, 0]

def k0_chk22_0 (v9 : BitVec 32) (k0_t11 : Fin (k0_t11_loop v9).trips) (v62 : BitVec 32) (v68 : BitVec 32) : Prop :=
  ((k0_t14_loop v62 v68).OK) ∧
  (∀ k0_t14 : Fin (k0_t14_loop v62 v68).trips, ∀ a, (k0_off113 v9 k0_t11) a + S1.size a ≤ S4.size a) ∧
  (∀ k0_t14 : Fin (k0_t14_loop v62 v68).trips, ∀ a, (k0_off114 v9 k0_t11 v62 v68 k0_t14) a + S1x1x1x1024x128.size a ≤ S4x2x8x1024x128.size a) ∧
  (∀ k0_t14 : Fin (k0_t14_loop v62 v68).trips, ∀ (hinb : ∀ a, (k0_off114 v9 k0_t11 v62 v68 k0_t14) a + S1x1x1x1024x128.size a ≤ S4x2x8x1024x128.size a), (Rect.unit (s := S4x2x8x1024x128) (k0_off114 v9 k0_t11 v62 v68 k0_t14) S1x1x1x1024x128.size hinb).WholeWords (EltTy.packing .fp8e4m3)) ∧
  (∀ k0_t14 : Fin (k0_t14_loop v62 v68).trips, ∀ a, (k0_off115 v9 k0_t11 v62 v68 k0_t14) a + S1x1x1x1024x128.size a ≤ S4x2x8x1024x128.size a) ∧
  (∀ k0_t14 : Fin (k0_t14_loop v62 v68).trips, ∀ (hinb : ∀ a, (k0_off115 v9 k0_t11 v62 v68 k0_t14) a + S1x1x1x1024x128.size a ≤ S4x2x8x1024x128.size a), (Rect.unit (s := S4x2x8x1024x128) (k0_off115 v9 k0_t11 v62 v68 k0_t14) S1x1x1x1024x128.size hinb).WholeWords (EltTy.packing .fp8e4m3)) ∧
  ((k0_t15_loop v62 v68).OK) ∧
  (∀ k0_t15 : Fin (k0_t15_loop v62 v68).trips, ∀ a, (k0_off116 v9 k0_t11) a + S1.size a ≤ S4.size a) ∧
  (∀ k0_t15 : Fin (k0_t15_loop v62 v68).trips, ∀ a, (k0_off117 v9 k0_t11 v62 v68 k0_t15) a + S1x1x1x1024x128.size a ≤ S4x2x8x1024x128.size a) ∧
  (∀ k0_t15 : Fin (k0_t15_loop v62 v68).trips, ∀ (hinb : ∀ a, (k0_off117 v9 k0_t11 v62 v68 k0_t15) a + S1x1x1x1024x128.size a ≤ S4x2x8x1024x128.size a), (Rect.unit (s := S4x2x8x1024x128) (k0_off117 v9 k0_t11 v62 v68 k0_t15) S1x1x1x1024x128.size hinb).WholeWords (EltTy.packing .fp8e4m3)) ∧
  (∀ k0_t15 : Fin (k0_t15_loop v62 v68).trips, ∀ a, (k0_off118 v9 k0_t11 v62 v68 k0_t15) a + S1x1x1x1024x128.size a ≤ S4x2x8x1024x128.size a) ∧
  (∀ k0_t15 : Fin (k0_t15_loop v62 v68).trips, ∀ (hinb : ∀ a, (k0_off118 v9 k0_t11 v62 v68 k0_t15) a + S1x1x1x1024x128.size a ≤ S4x2x8x1024x128.size a), (Rect.unit (s := S4x2x8x1024x128) (k0_off118 v9 k0_t11 v62 v68 k0_t15) S1x1x1x1024x128.size hinb).WholeWords (EltTy.packing .fp8e4m3)) ∧
  ((k0_t16_loop v62 v68).OK) ∧
  (∀ k0_t16 : Fin (k0_t16_loop v62 v68).trips, ∀ a, (k0_off123 v62 v68 k0_t16) a + S1x1.size a ≤ S5x256.size a) ∧
  (∀ k0_t16 : Fin (k0_t16_loop v62 v68).trips, ∀ a, (k0_off124 v62) a + S1.size a ≤ S5.size a) ∧
  (∀ k0_t16 : Fin (k0_t16_loop v62 v68).trips, 8 ∣ (k0_mult27 v62 v68 k0_t16).toNat) ∧
  (∀ k0_t16 : Fin (k0_t16_loop v62 v68).trips, ∀ a, (k0_off125 v9 k0_t11 v62 v68 k0_t16) a + S1x1x1x32x128.size a ≤ S4x2x8x1024x128.size a) ∧
  (∀ k0_t16 : Fin (k0_t16_loop v62 v68).trips, ∀ a, (k0_off127 v9 k0_t11 v62 v68 k0_t16) a + S1x1x1x8x128.size a ≤ S4x2x64x64x128.size a) ∧
  (∀ k0_t16 : Fin (k0_t16_loop v62 v68).trips, ∀ a, (k0_off128 v9 k0_t11 v62 v68 k0_t16) a + S1x1x1x8x128.size a ≤ S4x2x64x64x128.size a) ∧
  (∀ k0_t16 : Fin (k0_t16_loop v62 v68).trips, ∀ a, (k0_off129 v9 k0_t11 v62 v68 k0_t16) a + S1x1x1x32x128.size a ≤ S4x2x8x1024x128.size a) ∧
  (∀ k0_t16 : Fin (k0_t16_loop v62 v68).trips, ∀ a, (k0_off131 v9 k0_t11 v62 v68 k0_t16) a + S1x1x1x8x128.size a ≤ S4x2x64x64x128.size a) ∧
  (∀ k0_t16 : Fin (k0_t16_loop v62 v68).trips, ∀ a, (k0_off132 v9 k0_t11 v62 v68 k0_t16) a + S1x1x1x8x128.size a ≤ S4x2x64x64x128.size a) ∧
  (∀ k0_t16 : Fin (k0_t16_loop v62 v68).trips, ∀ a, (k0_off133 v9 k0_t11 v62 v68 k0_t16) a + S1x1x1x32x128.size a ≤ S4x2x8x1024x128.size a) ∧
  (∀ k0_t16 : Fin (k0_t16_loop v62 v68).trips, ∀ a, (k0_off135 v9 k0_t11 v62 v68 k0_t16) a + S1x1x1x8x128.size a ≤ S4x2x64x64x128.size a) ∧
  (∀ k0_t16 : Fin (k0_t16_loop v62 v68).trips, ∀ a, (k0_off136 v9 k0_t11 v62 v68 k0_t16) a + S1x1x1x8x128.size a ≤ S4x2x64x64x128.size a) ∧
  (∀ k0_t16 : Fin (k0_t16_loop v62 v68).trips, ∀ a, (k0_off137 v9 k0_t11 v62 v68 k0_t16) a + S1x1x1x32x128.size a ≤ S4x2x8x1024x128.size a) ∧
  (∀ k0_t16 : Fin (k0_t16_loop v62 v68).trips, ∀ a, (k0_off139 v9 k0_t11 v62 v68 k0_t16) a + S1x1x1x8x128.size a ≤ S4x2x64x64x128.size a) ∧
  (∀ k0_t16 : Fin (k0_t16_loop v62 v68).trips, ∀ a, (k0_off140 v9 k0_t11 v62 v68 k0_t16) a + S1x1x1x8x128.size a ≤ S4x2x64x64x128.size a) ∧
  (∀ k0_t16 : Fin (k0_t16_loop v62 v68).trips, ∀ a, (k0_off141 v9 k0_t11 v62 v68 k0_t16) a + S1x1x1x32x128.size a ≤ S4x2x8x1024x128.size a) ∧
  (∀ k0_t16 : Fin (k0_t16_loop v62 v68).trips, ∀ a, (k0_off143 v9 k0_t11 v62 v68 k0_t16) a + S1x1x1x8x128.size a ≤ S4x2x64x64x128.size a) ∧
  (∀ k0_t16 : Fin (k0_t16_loop v62 v68).trips, ∀ a, (k0_off144 v9 k0_t11 v62 v68 k0_t16) a + S1x1x1x8x128.size a ≤ S4x2x64x64x128.size a) ∧
  (∀ k0_t16 : Fin (k0_t16_loop v62 v68).trips, ∀ a, (k0_off145 v9 k0_t11 v62 v68 k0_t16) a + S1x1x1x32x128.size a ≤ S4x2x8x1024x128.size a)
def k0_chk22_1 (v9 : BitVec 32) (k0_t11 : Fin (k0_t11_loop v9).trips) (v62 : BitVec 32) (v68 : BitVec 32) : Prop :=
  (∀ k0_t16 : Fin (k0_t16_loop v62 v68).trips, ∀ a, (k0_off147 v9 k0_t11 v62 v68 k0_t16) a + S1x1x1x8x128.size a ≤ S4x2x64x64x128.size a) ∧
  (∀ k0_t16 : Fin (k0_t16_loop v62 v68).trips, ∀ a, (k0_off148 v9 k0_t11 v62 v68 k0_t16) a + S1x1x1x8x128.size a ≤ S4x2x64x64x128.size a) ∧
  (∀ k0_t16 : Fin (k0_t16_loop v62 v68).trips, ∀ a, (k0_off149 v9 k0_t11 v62 v68 k0_t16) a + S1x1x1x32x128.size a ≤ S4x2x8x1024x128.size a) ∧
  (∀ k0_t16 : Fin (k0_t16_loop v62 v68).trips, ∀ a, (k0_off151 v9 k0_t11 v62 v68 k0_t16) a + S1x1x1x8x128.size a ≤ S4x2x64x64x128.size a) ∧
  (∀ k0_t16 : Fin (k0_t16_loop v62 v68).trips, ∀ a, (k0_off152 v9 k0_t11 v62 v68 k0_t16) a + S1x1x1x8x128.size a ≤ S4x2x64x64x128.size a) ∧
  (∀ k0_t16 : Fin (k0_t16_loop v62 v68).trips, ∀ a, (k0_off153 v9 k0_t11 v62 v68 k0_t16) a + S1x1x1x32x128.size a ≤ S4x2x8x1024x128.size a) ∧
  (∀ k0_t16 : Fin (k0_t16_loop v62 v68).trips, ∀ a, (k0_off155 v9 k0_t11 v62 v68 k0_t16) a + S1x1x1x8x128.size a ≤ S4x2x64x64x128.size a) ∧
  (∀ k0_t16 : Fin (k0_t16_loop v62 v68).trips, ∀ a, (k0_off156 v9 k0_t11 v62 v68 k0_t16) a + S1x1x1x8x128.size a ≤ S4x2x64x64x128.size a) ∧
  (∀ k0_t16 : Fin (k0_t16_loop v62 v68).trips, ∀ a, (k0_off157 v9 k0_t11 v62 v68 k0_t16) a + S1x1x1x32x128.size a ≤ S4x2x8x1024x128.size a) ∧
  (∀ k0_t16 : Fin (k0_t16_loop v62 v68).trips, ∀ a, (k0_off159 v9 k0_t11 v62 v68 k0_t16) a + S1x1x1x8x128.size a ≤ S4x2x64x64x128.size a) ∧
  (∀ k0_t16 : Fin (k0_t16_loop v62 v68).trips, ∀ a, (k0_off160 v9 k0_t11 v62 v68 k0_t16) a + S1x1x1x8x128.size a ≤ S4x2x64x64x128.size a) ∧
  (∀ k0_t16 : Fin (k0_t16_loop v62 v68).trips, ∀ a, (k0_off161 v9 k0_t11 v62 v68 k0_t16) a + S1x1x1x32x128.size a ≤ S4x2x8x1024x128.size a) ∧
  (∀ k0_t16 : Fin (k0_t16_loop v62 v68).trips, ∀ a, (k0_off163 v9 k0_t11 v62 v68 k0_t16) a + S1x1x1x8x128.size a ≤ S4x2x64x64x128.size a) ∧
  (∀ k0_t16 : Fin (k0_t16_loop v62 v68).trips, ∀ a, (k0_off164 v9 k0_t11 v62 v68 k0_t16) a + S1x1x1x8x128.size a ≤ S4x2x64x64x128.size a) ∧
  (∀ k0_t16 : Fin (k0_t16_loop v62 v68).trips, ∀ a, (k0_off165 v9 k0_t11 v62 v68 k0_t16) a + S1x1x1x32x128.size a ≤ S4x2x8x1024x128.size a) ∧
  (∀ k0_t16 : Fin (k0_t16_loop v62 v68).trips, ∀ a, (k0_off167 v9 k0_t11 v62 v68 k0_t16) a + S1x1x1x8x128.size a ≤ S4x2x64x64x128.size a) ∧
  (∀ k0_t16 : Fin (k0_t16_loop v62 v68).trips, ∀ a, (k0_off168 v9 k0_t11 v62 v68 k0_t16) a + S1x1x1x8x128.size a ≤ S4x2x64x64x128.size a) ∧
  (∀ k0_t16 : Fin (k0_t16_loop v62 v68).trips, ∀ a, (k0_off169 v9 k0_t11 v62 v68 k0_t16) a + S1x1x1x32x128.size a ≤ S4x2x8x1024x128.size a) ∧
  (∀ k0_t16 : Fin (k0_t16_loop v62 v68).trips, ∀ a, (k0_off171 v9 k0_t11 v62 v68 k0_t16) a + S1x1x1x8x128.size a ≤ S4x2x64x64x128.size a) ∧
  (∀ k0_t16 : Fin (k0_t16_loop v62 v68).trips, ∀ a, (k0_off172 v9 k0_t11 v62 v68 k0_t16) a + S1x1x1x8x128.size a ≤ S4x2x64x64x128.size a) ∧
  (∀ k0_t16 : Fin (k0_t16_loop v62 v68).trips, ∀ a, (k0_off173 v9 k0_t11 v62 v68 k0_t16) a + S1x1x1x32x128.size a ≤ S4x2x8x1024x128.size a) ∧
  (∀ k0_t16 : Fin (k0_t16_loop v62 v68).trips, ∀ a, (k0_off175 v9 k0_t11 v62 v68 k0_t16) a + S1x1x1x8x128.size a ≤ S4x2x64x64x128.size a) ∧
  (∀ k0_t16 : Fin (k0_t16_loop v62 v68).trips, ∀ a, (k0_off176 v9 k0_t11 v62 v68 k0_t16) a + S1x1x1x8x128.size a ≤ S4x2x64x64x128.size a) ∧
  (∀ k0_t16 : Fin (k0_t16_loop v62 v68).trips, ∀ a, (k0_off177 v9 k0_t11 v62 v68 k0_t16) a + S1x1x1x32x128.size a ≤ S4x2x8x1024x128.size a) ∧
  (∀ k0_t16 : Fin (k0_t16_loop v62 v68).trips, ∀ a, (k0_off179 v9 k0_t11 v62 v68 k0_t16) a + S1x1x1x8x128.size a ≤ S4x2x64x64x128.size a) ∧
  (∀ k0_t16 : Fin (k0_t16_loop v62 v68).trips, ∀ a, (k0_off180 v9 k0_t11 v62 v68 k0_t16) a + S1x1x1x8x128.size a ≤ S4x2x64x64x128.size a) ∧
  (∀ k0_t16 : Fin (k0_t16_loop v62 v68).trips, ∀ a, (k0_off181 v9 k0_t11 v62 v68 k0_t16) a + S1x1x1x32x128.size a ≤ S4x2x8x1024x128.size a) ∧
  (∀ k0_t16 : Fin (k0_t16_loop v62 v68).trips, ∀ a, (k0_off183 v9 k0_t11 v62 v68 k0_t16) a + S1x1x1x8x128.size a ≤ S4x2x64x64x128.size a) ∧
  (∀ k0_t16 : Fin (k0_t16_loop v62 v68).trips, ∀ a, (k0_off184 v9 k0_t11 v62 v68 k0_t16) a + S1x1x1x8x128.size a ≤ S4x2x64x64x128.size a) ∧
  (∀ k0_t16 : Fin (k0_t16_loop v62 v68).trips, ∀ a, (k0_off185 v9 k0_t11 v62 v68 k0_t16) a + S1x1x1x32x128.size a ≤ S4x2x8x1024x128.size a) ∧
  (∀ k0_t16 : Fin (k0_t16_loop v62 v68).trips, ∀ a, (k0_off187 v9 k0_t11 v62 v68 k0_t16) a + S1x1x1x8x128.size a ≤ S4x2x64x64x128.size a) ∧
  (∀ k0_t16 : Fin (k0_t16_loop v62 v68).trips, ∀ a, (k0_off188 v9 k0_t11 v62 v68 k0_t16) a + S1x1x1x8x128.size a ≤ S4x2x64x64x128.size a)
def k0_chk22_2 (v9 : BitVec 32) (k0_t11 : Fin (k0_t11_loop v9).trips) (v62 : BitVec 32) (v68 : BitVec 32) : Prop :=
  (∀ k0_t16 : Fin (k0_t16_loop v62 v68).trips, ∀ a, (k0_off189 v9 k0_t11 v62 v68 k0_t16) a + S1x1x1x32x128.size a ≤ S4x2x8x1024x128.size a) ∧
  (∀ k0_t16 : Fin (k0_t16_loop v62 v68).trips, ∀ a, (k0_off191 v9 k0_t11 v62 v68 k0_t16) a + S1x1x1x8x128.size a ≤ S4x2x64x64x128.size a) ∧
  (∀ k0_t16 : Fin (k0_t16_loop v62 v68).trips, ∀ a, (k0_off192 v9 k0_t11 v62 v68 k0_t16) a + S1x1x1x8x128.size a ≤ S4x2x64x64x128.size a) ∧
  (∀ k0_t16 : Fin (k0_t16_loop v62 v68).trips, ∀ a, (k0_off193 v9 k0_t11 v62 v68 k0_t16) a + S1x1x1x32x128.size a ≤ S4x2x8x1024x128.size a) ∧
  (∀ k0_t16 : Fin (k0_t16_loop v62 v68).trips, ∀ a, (k0_off195 v9 k0_t11 v62 v68 k0_t16) a + S1x1x1x8x128.size a ≤ S4x2x64x64x128.size a) ∧
  (∀ k0_t16 : Fin (k0_t16_loop v62 v68).trips, ∀ a, (k0_off196 v9 k0_t11 v62 v68 k0_t16) a + S1x1x1x8x128.size a ≤ S4x2x64x64x128.size a) ∧
  (∀ k0_t16 : Fin (k0_t16_loop v62 v68).trips, ∀ a, (k0_off197 v9 k0_t11 v62 v68 k0_t16) a + S1x1x1x32x128.size a ≤ S4x2x8x1024x128.size a) ∧
  (∀ k0_t16 : Fin (k0_t16_loop v62 v68).trips, ∀ a, (k0_off199 v9 k0_t11 v62 v68 k0_t16) a + S1x1x1x8x128.size a ≤ S4x2x64x64x128.size a) ∧
  (∀ k0_t16 : Fin (k0_t16_loop v62 v68).trips, ∀ a, (k0_off200 v9 k0_t11 v62 v68 k0_t16) a + S1x1x1x8x128.size a ≤ S4x2x64x64x128.size a) ∧
  (∀ k0_t16 : Fin (k0_t16_loop v62 v68).trips, ∀ a, (k0_off201 v9 k0_t11 v62 v68 k0_t16) a + S1x1x1x32x128.size a ≤ S4x2x8x1024x128.size a) ∧
  (∀ k0_t16 : Fin (k0_t16_loop v62 v68).trips, ∀ a, (k0_off203 v9 k0_t11 v62 v68 k0_t16) a + S1x1x1x8x128.size a ≤ S4x2x64x64x128.size a) ∧
  (∀ k0_t16 : Fin (k0_t16_loop v62 v68).trips, ∀ a, (k0_off204 v9 k0_t11 v62 v68 k0_t16) a + S1x1x1x8x128.size a ≤ S4x2x64x64x128.size a) ∧
  (∀ k0_t16 : Fin (k0_t16_loop v62 v68).trips, ∀ a, (k0_off205 v9 k0_t11 v62 v68 k0_t16) a + S1x1x1x32x128.size a ≤ S4x2x8x1024x128.size a) ∧
  (∀ k0_t16 : Fin (k0_t16_loop v62 v68).trips, ∀ a, (k0_off207 v9 k0_t11 v62 v68 k0_t16) a + S1x1x1x8x128.size a ≤ S4x2x64x64x128.size a) ∧
  (∀ k0_t16 : Fin (k0_t16_loop v62 v68).trips, ∀ a, (k0_off208 v9 k0_t11 v62 v68 k0_t16) a + S1x1x1x8x128.size a ≤ S4x2x64x64x128.size a) ∧
  (∀ k0_t16 : Fin (k0_t16_loop v62 v68).trips, ∀ a, (k0_off209 v9 k0_t11 v62 v68 k0_t16) a + S1x1x1x32x128.size a ≤ S4x2x8x1024x128.size a) ∧
  (∀ k0_t16 : Fin (k0_t16_loop v62 v68).trips, ∀ a, (k0_off211 v9 k0_t11 v62 v68 k0_t16) a + S1x1x1x8x128.size a ≤ S4x2x64x64x128.size a) ∧
  (∀ k0_t16 : Fin (k0_t16_loop v62 v68).trips, ∀ a, (k0_off212 v9 k0_t11 v62 v68 k0_t16) a + S1x1x1x8x128.size a ≤ S4x2x64x64x128.size a) ∧
  (∀ k0_t16 : Fin (k0_t16_loop v62 v68).trips, ∀ a, (k0_off213 v9 k0_t11 v62 v68 k0_t16) a + S1x1x1x32x128.size a ≤ S4x2x8x1024x128.size a) ∧
  (∀ k0_t16 : Fin (k0_t16_loop v62 v68).trips, ∀ a, (k0_off215 v9 k0_t11 v62 v68 k0_t16) a + S1x1x1x8x128.size a ≤ S4x2x64x64x128.size a) ∧
  (∀ k0_t16 : Fin (k0_t16_loop v62 v68).trips, ∀ a, (k0_off216 v9 k0_t11 v62 v68 k0_t16) a + S1x1x1x8x128.size a ≤ S4x2x64x64x128.size a) ∧
  (∀ k0_t16 : Fin (k0_t16_loop v62 v68).trips, ∀ a, (k0_off217 v9 k0_t11 v62 v68 k0_t16) a + S1x1x1x32x128.size a ≤ S4x2x8x1024x128.size a) ∧
  (∀ k0_t16 : Fin (k0_t16_loop v62 v68).trips, ∀ a, (k0_off219 v9 k0_t11 v62 v68 k0_t16) a + S1x1x1x8x128.size a ≤ S4x2x64x64x128.size a) ∧
  (∀ k0_t16 : Fin (k0_t16_loop v62 v68).trips, ∀ a, (k0_off220 v9 k0_t11 v62 v68 k0_t16) a + S1x1x1x8x128.size a ≤ S4x2x64x64x128.size a) ∧
  (∀ k0_t16 : Fin (k0_t16_loop v62 v68).trips, ∀ a, (k0_off221 v9 k0_t11 v62 v68 k0_t16) a + S1x1x1x32x128.size a ≤ S4x2x8x1024x128.size a) ∧
  (∀ k0_t16 : Fin (k0_t16_loop v62 v68).trips, ∀ a, (k0_off223 v9 k0_t11 v62 v68 k0_t16) a + S1x1x1x8x128.size a ≤ S4x2x64x64x128.size a) ∧
  (∀ k0_t16 : Fin (k0_t16_loop v62 v68).trips, ∀ a, (k0_off224 v9 k0_t11 v62 v68 k0_t16) a + S1x1x1x8x128.size a ≤ S4x2x64x64x128.size a) ∧
  (∀ k0_t16 : Fin (k0_t16_loop v62 v68).trips, ∀ a, (k0_off225 v9 k0_t11 v62 v68 k0_t16) a + S1x1x1x32x128.size a ≤ S4x2x8x1024x128.size a) ∧
  (∀ k0_t16 : Fin (k0_t16_loop v62 v68).trips, ∀ a, (k0_off227 v9 k0_t11 v62 v68 k0_t16) a + S1x1x1x8x128.size a ≤ S4x2x64x64x128.size a) ∧
  (∀ k0_t16 : Fin (k0_t16_loop v62 v68).trips, ∀ a, (k0_off228 v9 k0_t11 v62 v68 k0_t16) a + S1x1x1x8x128.size a ≤ S4x2x64x64x128.size a) ∧
  (∀ k0_t16 : Fin (k0_t16_loop v62 v68).trips, ∀ a, (k0_off229 v9 k0_t11 v62 v68 k0_t16) a + S1x1x1x32x128.size a ≤ S4x2x8x1024x128.size a) ∧
  (∀ k0_t16 : Fin (k0_t16_loop v62 v68).trips, ∀ a, (k0_off231 v9 k0_t11 v62 v68 k0_t16) a + S1x1x1x8x128.size a ≤ S4x2x64x64x128.size a)
def k0_chk22_3 (v9 : BitVec 32) (k0_t11 : Fin (k0_t11_loop v9).trips) (v62 : BitVec 32) (v68 : BitVec 32) : Prop :=
  (∀ k0_t16 : Fin (k0_t16_loop v62 v68).trips, ∀ a, (k0_off232 v9 k0_t11 v62 v68 k0_t16) a + S1x1x1x8x128.size a ≤ S4x2x64x64x128.size a) ∧
  (∀ k0_t16 : Fin (k0_t16_loop v62 v68).trips, ∀ a, (k0_off233 v9 k0_t11 v62 v68 k0_t16) a + S1x1x1x32x128.size a ≤ S4x2x8x1024x128.size a) ∧
  (∀ k0_t16 : Fin (k0_t16_loop v62 v68).trips, ∀ a, (k0_off235 v9 k0_t11 v62 v68 k0_t16) a + S1x1x1x8x128.size a ≤ S4x2x64x64x128.size a) ∧
  (∀ k0_t16 : Fin (k0_t16_loop v62 v68).trips, ∀ a, (k0_off236 v9 k0_t11 v62 v68 k0_t16) a + S1x1x1x8x128.size a ≤ S4x2x64x64x128.size a) ∧
  (∀ k0_t16 : Fin (k0_t16_loop v62 v68).trips, ∀ a, (k0_off237 v9 k0_t11 v62 v68 k0_t16) a + S1x1x1x32x128.size a ≤ S4x2x8x1024x128.size a) ∧
  (∀ k0_t16 : Fin (k0_t16_loop v62 v68).trips, ∀ a, (k0_off239 v9 k0_t11 v62 v68 k0_t16) a + S1x1x1x8x128.size a ≤ S4x2x64x64x128.size a) ∧
  (∀ k0_t16 : Fin (k0_t16_loop v62 v68).trips, ∀ a, (k0_off240 v9 k0_t11 v62 v68 k0_t16) a + S1x1x1x8x128.size a ≤ S4x2x64x64x128.size a) ∧
  (∀ k0_t16 : Fin (k0_t16_loop v62 v68).trips, ∀ a, (k0_off241 v9 k0_t11 v62 v68 k0_t16) a + S1x1x1x32x128.size a ≤ S4x2x8x1024x128.size a) ∧
  (∀ k0_t16 : Fin (k0_t16_loop v62 v68).trips, ∀ a, (k0_off243 v9 k0_t11 v62 v68 k0_t16) a + S1x1x1x8x128.size a ≤ S4x2x64x64x128.size a) ∧
  (∀ k0_t16 : Fin (k0_t16_loop v62 v68).trips, ∀ a, (k0_off244 v9 k0_t11 v62 v68 k0_t16) a + S1x1x1x8x128.size a ≤ S4x2x64x64x128.size a) ∧
  (∀ k0_t16 : Fin (k0_t16_loop v62 v68).trips, ∀ a, (k0_off245 v9 k0_t11 v62 v68 k0_t16) a + S1x1x1x32x128.size a ≤ S4x2x8x1024x128.size a) ∧
  (∀ k0_t16 : Fin (k0_t16_loop v62 v68).trips, ∀ a, (k0_off247 v9 k0_t11 v62 v68 k0_t16) a + S1x1x1x8x128.size a ≤ S4x2x64x64x128.size a) ∧
  (∀ k0_t16 : Fin (k0_t16_loop v62 v68).trips, ∀ a, (k0_off248 v9 k0_t11 v62 v68 k0_t16) a + S1x1x1x8x128.size a ≤ S4x2x64x64x128.size a) ∧
  (∀ k0_t16 : Fin (k0_t16_loop v62 v68).trips, ∀ a, (k0_off249 v9 k0_t11 v62 v68 k0_t16) a + S1x1x1x32x128.size a ≤ S4x2x8x1024x128.size a) ∧
  (∀ k0_t16 : Fin (k0_t16_loop v62 v68).trips, ∀ a, (k0_off251 v9 k0_t11 v62 v68 k0_t16) a + S1x1x1x8x128.size a ≤ S4x2x64x64x128.size a) ∧
  (∀ k0_t16 : Fin (k0_t16_loop v62 v68).trips, ∀ a, (k0_off252 v9 k0_t11 v62 v68 k0_t16) a + S1x1x1x8x128.size a ≤ S4x2x64x64x128.size a) ∧
  (∀ k0_t16 : Fin (k0_t16_loop v62 v68).trips, ∀ a, (k0_off253 v9 k0_t11 v62 v68 k0_t16) a + S1x1x1x32x128.size a ≤ S4x2x8x1024x128.size a) ∧
  (∀ k0_t16 : Fin (k0_t16_loop v62 v68).trips, ∀ a, (k0_off255 v9 k0_t11 v62 v68 k0_t16) a + S1x1x1x8x128.size a ≤ S4x2x64x64x128.size a) ∧
  (∀ k0_t16 : Fin (k0_t16_loop v62 v68).trips, ∀ a, (k0_off256 v9 k0_t11 v62 v68 k0_t16) a + S1x1x1x8x128.size a ≤ S4x2x64x64x128.size a) ∧
  (∀ k0_t16 : Fin (k0_t16_loop v62 v68).trips, ∀ a, (k0_off257 v9 k0_t11 v62 v68 k0_t16) a + S1x1x1x32x128.size a ≤ S4x2x8x1024x128.size a) ∧
  (∀ k0_t16 : Fin (k0_t16_loop v62 v68).trips, ∀ a, (k0_off259 v9 k0_t11 v62 v68 k0_t16) a + S1x1x1x8x128.size a ≤ S4x2x64x64x128.size a) ∧
  (∀ k0_t16 : Fin (k0_t16_loop v62 v68).trips, ∀ a, (k0_off260 v9 k0_t11 v62 v68 k0_t16) a + S1x1x1x8x128.size a ≤ S4x2x64x64x128.size a) ∧
  (∀ k0_t16 : Fin (k0_t16_loop v62 v68).trips, ∀ a, (k0_off261 v9 k0_t11 v62 v68 k0_t16) a + S1x1x1x32x128.size a ≤ S4x2x8x1024x128.size a) ∧
  (∀ k0_t16 : Fin (k0_t16_loop v62 v68).trips, ∀ a, (k0_off263 v9 k0_t11 v62 v68 k0_t16) a + S1x1x1x8x128.size a ≤ S4x2x64x64x128.size a) ∧
  (∀ k0_t16 : Fin (k0_t16_loop v62 v68).trips, ∀ a, (k0_off264 v9 k0_t11 v62 v68 k0_t16) a + S1x1x1x8x128.size a ≤ S4x2x64x64x128.size a) ∧
  (∀ k0_t16 : Fin (k0_t16_loop v62 v68).trips, ∀ a, (k0_off265 v9 k0_t11 v62 v68 k0_t16) a + S1x1x1x32x128.size a ≤ S4x2x8x1024x128.size a) ∧
  (∀ k0_t16 : Fin (k0_t16_loop v62 v68).trips, ∀ a, (k0_off267 v9 k0_t11 v62 v68 k0_t16) a + S1x1x1x8x128.size a ≤ S4x2x64x64x128.size a) ∧
  (∀ k0_t16 : Fin (k0_t16_loop v62 v68).trips, ∀ a, (k0_off268 v9 k0_t11 v62 v68 k0_t16) a + S1x1x1x8x128.size a ≤ S4x2x64x64x128.size a) ∧
  (∀ k0_t16 : Fin (k0_t16_loop v62 v68).trips, ∀ a, (k0_off269 v9 k0_t11 v62 v68 k0_t16) a + S1x1x1x32x128.size a ≤ S4x2x8x1024x128.size a) ∧
  (∀ k0_t16 : Fin (k0_t16_loop v62 v68).trips, ∀ a, (k0_off271 v9 k0_t11 v62 v68 k0_t16) a + S1x1x1x8x128.size a ≤ S4x2x64x64x128.size a) ∧
  (∀ k0_t16 : Fin (k0_t16_loop v62 v68).trips, ∀ a, (k0_off272 v9 k0_t11 v62 v68 k0_t16) a + S1x1x1x8x128.size a ≤ S4x2x64x64x128.size a) ∧
  (∀ k0_t16 : Fin (k0_t16_loop v62 v68).trips, ∀ a, (k0_off273 v9 k0_t11 v62 v68 k0_t16) a + S1x1x1x32x128.size a ≤ S4x2x8x1024x128.size a)
def k0_chk22_4 (v9 : BitVec 32) (k0_t11 : Fin (k0_t11_loop v9).trips) (v62 : BitVec 32) (v68 : BitVec 32) : Prop :=
  (∀ k0_t16 : Fin (k0_t16_loop v62 v68).trips, ∀ a, (k0_off275 v9 k0_t11 v62 v68 k0_t16) a + S1x1x1x8x128.size a ≤ S4x2x64x64x128.size a) ∧
  (∀ k0_t16 : Fin (k0_t16_loop v62 v68).trips, ∀ a, (k0_off276 v9 k0_t11 v62 v68 k0_t16) a + S1x1x1x8x128.size a ≤ S4x2x64x64x128.size a) ∧
  (∀ k0_t16 : Fin (k0_t16_loop v62 v68).trips, ∀ a, (k0_off277 v9 k0_t11 v62 v68 k0_t16) a + S1x1x1x32x128.size a ≤ S4x2x8x1024x128.size a) ∧
  (∀ k0_t16 : Fin (k0_t16_loop v62 v68).trips, ∀ a, (k0_off279 v9 k0_t11 v62 v68 k0_t16) a + S1x1x1x8x128.size a ≤ S4x2x64x64x128.size a) ∧
  (∀ k0_t16 : Fin (k0_t16_loop v62 v68).trips, ∀ a, (k0_off280 v9 k0_t11 v62 v68 k0_t16) a + S1x1x1x8x128.size a ≤ S4x2x64x64x128.size a) ∧
  (∀ k0_t16 : Fin (k0_t16_loop v62 v68).trips, ∀ a, (k0_off281 v9 k0_t11 v62 v68 k0_t16) a + S1x1x1x32x128.size a ≤ S4x2x8x1024x128.size a) ∧
  (∀ k0_t16 : Fin (k0_t16_loop v62 v68).trips, ∀ a, (k0_off283 v9 k0_t11 v62 v68 k0_t16) a + S1x1x1x8x128.size a ≤ S4x2x64x64x128.size a) ∧
  (∀ k0_t16 : Fin (k0_t16_loop v62 v68).trips, ∀ a, (k0_off284 v9 k0_t11 v62 v68 k0_t16) a + S1x1x1x8x128.size a ≤ S4x2x64x64x128.size a) ∧
  (∀ k0_t16 : Fin (k0_t16_loop v62 v68).trips, ∀ a, (k0_off285 v9 k0_t11 v62 v68 k0_t16) a + S1x1x1x32x128.size a ≤ S4x2x8x1024x128.size a) ∧
  (∀ k0_t16 : Fin (k0_t16_loop v62 v68).trips, ∀ a, (k0_off287 v9 k0_t11 v62 v68 k0_t16) a + S1x1x1x8x128.size a ≤ S4x2x64x64x128.size a) ∧
  (∀ k0_t16 : Fin (k0_t16_loop v62 v68).trips, ∀ a, (k0_off288 v9 k0_t11 v62 v68 k0_t16) a + S1x1x1x8x128.size a ≤ S4x2x64x64x128.size a) ∧
  (∀ k0_t16 : Fin (k0_t16_loop v62 v68).trips, ∀ a, (k0_off289 v9 k0_t11 v62 v68 k0_t16) a + S1x1x1x32x128.size a ≤ S4x2x8x1024x128.size a) ∧
  (∀ k0_t16 : Fin (k0_t16_loop v62 v68).trips, ∀ a, (k0_off291 v9 k0_t11 v62 v68 k0_t16) a + S1x1x1x8x128.size a ≤ S4x2x64x64x128.size a) ∧
  (∀ k0_t16 : Fin (k0_t16_loop v62 v68).trips, ∀ a, (k0_off292 v9 k0_t11 v62 v68 k0_t16) a + S1x1x1x8x128.size a ≤ S4x2x64x64x128.size a) ∧
  (∀ k0_t16 : Fin (k0_t16_loop v62 v68).trips, ∀ a, (k0_off293 v9 k0_t11 v62 v68 k0_t16) a + S1x1x1x32x128.size a ≤ S4x2x8x1024x128.size a) ∧
  (∀ k0_t16 : Fin (k0_t16_loop v62 v68).trips, ∀ a, (k0_off295 v9 k0_t11 v62 v68 k0_t16) a + S1x1x1x8x128.size a ≤ S4x2x64x64x128.size a) ∧
  (∀ k0_t16 : Fin (k0_t16_loop v62 v68).trips, ∀ a, (k0_off296 v9 k0_t11 v62 v68 k0_t16) a + S1x1x1x8x128.size a ≤ S4x2x64x64x128.size a) ∧
  (∀ k0_t16 : Fin (k0_t16_loop v62 v68).trips, ∀ a, (k0_off297 v9 k0_t11 v62 v68 k0_t16) a + S1x1x1x32x128.size a ≤ S4x2x8x1024x128.size a) ∧
  (∀ k0_t16 : Fin (k0_t16_loop v62 v68).trips, ∀ a, (k0_off299 v9 k0_t11 v62 v68 k0_t16) a + S1x1x1x8x128.size a ≤ S4x2x64x64x128.size a) ∧
  (∀ k0_t16 : Fin (k0_t16_loop v62 v68).trips, ∀ a, (k0_off300 v9 k0_t11 v62 v68 k0_t16) a + S1x1x1x8x128.size a ≤ S4x2x64x64x128.size a) ∧
  (∀ k0_t16 : Fin (k0_t16_loop v62 v68).trips, ∀ a, (k0_off301 v9 k0_t11 v62 v68 k0_t16) a + S1x1x1x32x128.size a ≤ S4x2x8x1024x128.size a) ∧
  (∀ k0_t16 : Fin (k0_t16_loop v62 v68).trips, ∀ a, (k0_off303 v9 k0_t11 v62 v68 k0_t16) a + S1x1x1x8x128.size a ≤ S4x2x64x64x128.size a) ∧
  (∀ k0_t16 : Fin (k0_t16_loop v62 v68).trips, ∀ a, (k0_off304 v9 k0_t11 v62 v68 k0_t16) a + S1x1x1x8x128.size a ≤ S4x2x64x64x128.size a) ∧
  (∀ k0_t16 : Fin (k0_t16_loop v62 v68).trips, ∀ a, (k0_off305 v9 k0_t11 v62 v68 k0_t16) a + S1x1x1x32x128.size a ≤ S4x2x8x1024x128.size a) ∧
  (∀ k0_t16 : Fin (k0_t16_loop v62 v68).trips, ∀ a, (k0_off307 v9 k0_t11 v62 v68 k0_t16) a + S1x1x1x8x128.size a ≤ S4x2x64x64x128.size a) ∧
  (∀ k0_t16 : Fin (k0_t16_loop v62 v68).trips, ∀ a, (k0_off308 v9 k0_t11 v62 v68 k0_t16) a + S1x1x1x8x128.size a ≤ S4x2x64x64x128.size a) ∧
  (∀ k0_t16 : Fin (k0_t16_loop v62 v68).trips, ∀ a, (k0_off309 v9 k0_t11 v62 v68 k0_t16) a + S1x1x1x32x128.size a ≤ S4x2x8x1024x128.size a) ∧
  (∀ k0_t16 : Fin (k0_t16_loop v62 v68).trips, ∀ a, (k0_off311 v9 k0_t11 v62 v68 k0_t16) a + S1x1x1x8x128.size a ≤ S4x2x64x64x128.size a) ∧
  (∀ k0_t16 : Fin (k0_t16_loop v62 v68).trips, ∀ a, (k0_off312 v9 k0_t11 v62 v68 k0_t16) a + S1x1x1x8x128.size a ≤ S4x2x64x64x128.size a) ∧
  (∀ k0_t16 : Fin (k0_t16_loop v62 v68).trips, ∀ a, (k0_off313 v9 k0_t11 v62 v68 k0_t16) a + S1x1x1x32x128.size a ≤ S4x2x8x1024x128.size a) ∧
  (∀ k0_t16 : Fin (k0_t16_loop v62 v68).trips, ∀ a, (k0_off315 v9 k0_t11 v62 v68 k0_t16) a + S1x1x1x8x128.size a ≤ S4x2x64x64x128.size a) ∧
  (∀ k0_t16 : Fin (k0_t16_loop v62 v68).trips, ∀ a, (k0_off316 v9 k0_t11 v62 v68 k0_t16) a + S1x1x1x8x128.size a ≤ S4x2x64x64x128.size a)
def k0_chk22_5 (v9 : BitVec 32) (k0_t11 : Fin (k0_t11_loop v9).trips) (v62 : BitVec 32) (v68 : BitVec 32) : Prop :=
  (∀ k0_t16 : Fin (k0_t16_loop v62 v68).trips, ∀ a, (k0_off317 v9 k0_t11 v62 v68 k0_t16) a + S1x1x1x32x128.size a ≤ S4x2x8x1024x128.size a) ∧
  (∀ k0_t16 : Fin (k0_t16_loop v62 v68).trips, ∀ a, (k0_off319 v9 k0_t11 v62 v68 k0_t16) a + S1x1x1x8x128.size a ≤ S4x2x64x64x128.size a) ∧
  (∀ k0_t16 : Fin (k0_t16_loop v62 v68).trips, ∀ a, (k0_off320 v9 k0_t11 v62 v68 k0_t16) a + S1x1x1x8x128.size a ≤ S4x2x64x64x128.size a) ∧
  (∀ k0_t16 : Fin (k0_t16_loop v62 v68).trips, ∀ a, (k0_off321 v9 k0_t11 v62 v68 k0_t16) a + S1x1x1x32x128.size a ≤ S4x2x8x1024x128.size a) ∧
  (∀ k0_t16 : Fin (k0_t16_loop v62 v68).trips, ∀ a, (k0_off323 v9 k0_t11 v62 v68 k0_t16) a + S1x1x1x8x128.size a ≤ S4x2x64x64x128.size a) ∧
  (∀ k0_t16 : Fin (k0_t16_loop v62 v68).trips, ∀ a, (k0_off324 v9 k0_t11 v62 v68 k0_t16) a + S1x1x1x8x128.size a ≤ S4x2x64x64x128.size a) ∧
  (∀ k0_t16 : Fin (k0_t16_loop v62 v68).trips, ∀ a, (k0_off325 v9 k0_t11 v62 v68 k0_t16) a + S1x1x1x32x128.size a ≤ S4x2x8x1024x128.size a) ∧
  (∀ k0_t16 : Fin (k0_t16_loop v62 v68).trips, ∀ a, (k0_off327 v9 k0_t11 v62 v68 k0_t16) a + S1x1x1x8x128.size a ≤ S4x2x64x64x128.size a) ∧
  (∀ k0_t16 : Fin (k0_t16_loop v62 v68).trips, ∀ a, (k0_off328 v9 k0_t11 v62 v68 k0_t16) a + S1x1x1x8x128.size a ≤ S4x2x64x64x128.size a) ∧
  (∀ k0_t16 : Fin (k0_t16_loop v62 v68).trips, ∀ a, (k0_off329 v9 k0_t11 v62 v68 k0_t16) a + S1x1x1x32x128.size a ≤ S4x2x8x1024x128.size a) ∧
  (∀ k0_t16 : Fin (k0_t16_loop v62 v68).trips, ∀ a, (k0_off331 v9 k0_t11 v62 v68 k0_t16) a + S1x1x1x8x128.size a ≤ S4x2x64x64x128.size a) ∧
  (∀ k0_t16 : Fin (k0_t16_loop v62 v68).trips, ∀ a, (k0_off332 v9 k0_t11 v62 v68 k0_t16) a + S1x1x1x8x128.size a ≤ S4x2x64x64x128.size a) ∧
  (∀ k0_t16 : Fin (k0_t16_loop v62 v68).trips, ∀ a, (k0_off333 v9 k0_t11 v62 v68 k0_t16) a + S1x1x1x32x128.size a ≤ S4x2x8x1024x128.size a) ∧
  (∀ k0_t16 : Fin (k0_t16_loop v62 v68).trips, ∀ a, (k0_off335 v9 k0_t11 v62 v68 k0_t16) a + S1x1x1x8x128.size a ≤ S4x2x64x64x128.size a) ∧
  (∀ k0_t16 : Fin (k0_t16_loop v62 v68).trips, ∀ a, (k0_off336 v9 k0_t11 v62 v68 k0_t16) a + S1x1x1x8x128.size a ≤ S4x2x64x64x128.size a) ∧
  (∀ k0_t16 : Fin (k0_t16_loop v62 v68).trips, ∀ a, (k0_off337 v9 k0_t11 v62 v68 k0_t16) a + S1x1x1x32x128.size a ≤ S4x2x8x1024x128.size a) ∧
  (∀ k0_t16 : Fin (k0_t16_loop v62 v68).trips, ∀ a, (k0_off339 v9 k0_t11 v62 v68 k0_t16) a + S1x1x1x8x128.size a ≤ S4x2x64x64x128.size a) ∧
  (∀ k0_t16 : Fin (k0_t16_loop v62 v68).trips, ∀ a, (k0_off340 v9 k0_t11 v62 v68 k0_t16) a + S1x1x1x8x128.size a ≤ S4x2x64x64x128.size a) ∧
  (∀ k0_t16 : Fin (k0_t16_loop v62 v68).trips, ∀ a, (k0_off341 v9 k0_t11 v62 v68 k0_t16) a + S1x1x1x32x128.size a ≤ S4x2x8x1024x128.size a) ∧
  (∀ k0_t16 : Fin (k0_t16_loop v62 v68).trips, ∀ a, (k0_off343 v9 k0_t11 v62 v68 k0_t16) a + S1x1x1x8x128.size a ≤ S4x2x64x64x128.size a) ∧
  (∀ k0_t16 : Fin (k0_t16_loop v62 v68).trips, ∀ a, (k0_off344 v9 k0_t11 v62 v68 k0_t16) a + S1x1x1x8x128.size a ≤ S4x2x64x64x128.size a) ∧
  (∀ k0_t16 : Fin (k0_t16_loop v62 v68).trips, ∀ a, (k0_off345 v9 k0_t11 v62 v68 k0_t16) a + S1x1x1x32x128.size a ≤ S4x2x8x1024x128.size a) ∧
  (∀ k0_t16 : Fin (k0_t16_loop v62 v68).trips, ∀ a, (k0_off347 v9 k0_t11 v62 v68 k0_t16) a + S1x1x1x8x128.size a ≤ S4x2x64x64x128.size a) ∧
  (∀ k0_t16 : Fin (k0_t16_loop v62 v68).trips, ∀ a, (k0_off348 v9 k0_t11 v62 v68 k0_t16) a + S1x1x1x8x128.size a ≤ S4x2x64x64x128.size a) ∧
  (∀ k0_t16 : Fin (k0_t16_loop v62 v68).trips, ∀ a, (k0_off349 v9 k0_t11 v62 v68 k0_t16) a + S1x1x1x32x128.size a ≤ S4x2x8x1024x128.size a) ∧
  (∀ k0_t16 : Fin (k0_t16_loop v62 v68).trips, ∀ a, (k0_off351 v9 k0_t11 v62 v68 k0_t16) a + S1x1x1x8x128.size a ≤ S4x2x64x64x128.size a) ∧
  (∀ k0_t16 : Fin (k0_t16_loop v62 v68).trips, ∀ a, (k0_off352 v9 k0_t11 v62 v68 k0_t16) a + S1x1x1x8x128.size a ≤ S4x2x64x64x128.size a) ∧
  (∀ k0_t16 : Fin (k0_t16_loop v62 v68).trips, ∀ a, (k0_off353 v9 k0_t11 v62 v68 k0_t16) a + S1x1x1x32x128.size a ≤ S4x2x8x1024x128.size a) ∧
  (∀ k0_t16 : Fin (k0_t16_loop v62 v68).trips, ∀ a, (k0_off355 v9 k0_t11 v62 v68 k0_t16) a + S1x1x1x8x128.size a ≤ S4x2x64x64x128.size a) ∧
  (∀ k0_t16 : Fin (k0_t16_loop v62 v68).trips, ∀ a, (k0_off356 v9 k0_t11 v62 v68 k0_t16) a + S1x1x1x8x128.size a ≤ S4x2x64x64x128.size a) ∧
  (∀ k0_t16 : Fin (k0_t16_loop v62 v68).trips, ∀ a, (k0_off357 v9 k0_t11 v62 v68 k0_t16) a + S1x1x1x32x128.size a ≤ S4x2x8x1024x128.size a) ∧
  (∀ k0_t16 : Fin (k0_t16_loop v62 v68).trips, ∀ a, (k0_off359 v9 k0_t11 v62 v68 k0_t16) a + S1x1x1x8x128.size a ≤ S4x2x64x64x128.size a)
def k0_chk22_6 (v9 : BitVec 32) (k0_t11 : Fin (k0_t11_loop v9).trips) (v62 : BitVec 32) (v68 : BitVec 32) : Prop :=
  (∀ k0_t16 : Fin (k0_t16_loop v62 v68).trips, ∀ a, (k0_off360 v9 k0_t11 v62 v68 k0_t16) a + S1x1x1x8x128.size a ≤ S4x2x64x64x128.size a) ∧
  (∀ k0_t16 : Fin (k0_t16_loop v62 v68).trips, ∀ a, (k0_off361 v9 k0_t11 v62 v68 k0_t16) a + S1x1x1x32x128.size a ≤ S4x2x8x1024x128.size a) ∧
  (∀ k0_t16 : Fin (k0_t16_loop v62 v68).trips, ∀ a, (k0_off363 v9 k0_t11 v62 v68 k0_t16) a + S1x1x1x8x128.size a ≤ S4x2x64x64x128.size a) ∧
  (∀ k0_t16 : Fin (k0_t16_loop v62 v68).trips, ∀ a, (k0_off364 v9 k0_t11 v62 v68 k0_t16) a + S1x1x1x8x128.size a ≤ S4x2x64x64x128.size a) ∧
  (∀ k0_t16 : Fin (k0_t16_loop v62 v68).trips, ∀ a, (k0_off365 v9 k0_t11 v62 v68 k0_t16) a + S1x1x1x32x128.size a ≤ S4x2x8x1024x128.size a) ∧
  (∀ k0_t16 : Fin (k0_t16_loop v62 v68).trips, ∀ a, (k0_off367 v9 k0_t11 v62 v68 k0_t16) a + S1x1x1x8x128.size a ≤ S4x2x64x64x128.size a) ∧
  (∀ k0_t16 : Fin (k0_t16_loop v62 v68).trips, ∀ a, (k0_off368 v9 k0_t11 v62 v68 k0_t16) a + S1x1x1x8x128.size a ≤ S4x2x64x64x128.size a) ∧
  (∀ k0_t16 : Fin (k0_t16_loop v62 v68).trips, ∀ a, (k0_off369 v9 k0_t11 v62 v68 k0_t16) a + S1x1x1x32x128.size a ≤ S4x2x8x1024x128.size a) ∧
  (∀ k0_t16 : Fin (k0_t16_loop v62 v68).trips, ∀ a, (k0_off371 v9 k0_t11 v62 v68 k0_t16) a + S1x1x1x8x128.size a ≤ S4x2x64x64x128.size a) ∧
  (∀ k0_t16 : Fin (k0_t16_loop v62 v68).trips, ∀ a, (k0_off372 v9 k0_t11 v62 v68 k0_t16) a + S1x1x1x8x128.size a ≤ S4x2x64x64x128.size a) ∧
  (∀ k0_t16 : Fin (k0_t16_loop v62 v68).trips, ∀ a, (k0_off373 v9 k0_t11 v62 v68 k0_t16) a + S1x1x1x32x128.size a ≤ S4x2x8x1024x128.size a) ∧
  (∀ k0_t16 : Fin (k0_t16_loop v62 v68).trips, ∀ a, (k0_off375 v9 k0_t11 v62 v68 k0_t16) a + S1x1x1x8x128.size a ≤ S4x2x64x64x128.size a) ∧
  (∀ k0_t16 : Fin (k0_t16_loop v62 v68).trips, ∀ a, (k0_off376 v9 k0_t11 v62 v68 k0_t16) a + S1x1x1x8x128.size a ≤ S4x2x64x64x128.size a) ∧
  (∀ k0_t16 : Fin (k0_t16_loop v62 v68).trips, ∀ a, (k0_off377 v9 k0_t11 v62 v68 k0_t16) a + S1x1x1x32x128.size a ≤ S4x2x8x1024x128.size a) ∧
  (∀ k0_t16 : Fin (k0_t16_loop v62 v68).trips, ∀ a, (k0_off379 v9 k0_t11 v62 v68 k0_t16) a + S1x1x1x8x128.size a ≤ S4x2x64x64x128.size a) ∧
  (∀ k0_t16 : Fin (k0_t16_loop v62 v68).trips, ∀ a, (k0_off380 v9 k0_t11 v62 v68 k0_t16) a + S1x1x1x8x128.size a ≤ S4x2x64x64x128.size a) ∧
  ((k0_t17_loop v62 v68).OK) ∧
  (∀ k0_t17 : Fin (k0_t17_loop v62 v68).trips, ∀ a, (k0_off381 v62 v68 k0_t17) a + S1x1.size a ≤ S5x256.size a) ∧
  (∀ k0_t17 : Fin (k0_t17_loop v62 v68).trips, ∀ a, (k0_off382 v62) a + S1.size a ≤ S5.size a) ∧
  (∀ k0_t17 : Fin (k0_t17_loop v62 v68).trips, 8 ∣ (k0_mult28 v62 v68 k0_t17).toNat) ∧
  (∀ k0_t17 : Fin (k0_t17_loop v62 v68).trips, ∀ a, (k0_off383 v9 k0_t11 v62 v68 k0_t17) a + S1x1x1x32x128.size a ≤ S4x2x8x1024x128.size a) ∧
  (∀ k0_t17 : Fin (k0_t17_loop v62 v68).trips, ∀ a, (k0_off385 v9 k0_t11 v62 v68 k0_t17) a + S1x1x1x8x128.size a ≤ S4x2x64x64x128.size a) ∧
  (∀ k0_t17 : Fin (k0_t17_loop v62 v68).trips, ∀ a, (k0_off386 v9 k0_t11 v62 v68 k0_t17) a + S1x1x1x8x128.size a ≤ S4x2x64x64x128.size a) ∧
  (∀ k0_t17 : Fin (k0_t17_loop v62 v68).trips, ∀ a, (k0_off387 v9 k0_t11 v62 v68 k0_t17) a + S1x1x1x32x128.size a ≤ S4x2x8x1024x128.size a) ∧
  (∀ k0_t17 : Fin (k0_t17_loop v62 v68).trips, ∀ a, (k0_off389 v9 k0_t11 v62 v68 k0_t17) a + S1x1x1x8x128.size a ≤ S4x2x64x64x128.size a) ∧
  (∀ k0_t17 : Fin (k0_t17_loop v62 v68).trips, ∀ a, (k0_off390 v9 k0_t11 v62 v68 k0_t17) a + S1x1x1x8x128.size a ≤ S4x2x64x64x128.size a) ∧
  (∀ k0_t17 : Fin (k0_t17_loop v62 v68).trips, ∀ a, (k0_off391 v9 k0_t11 v62 v68 k0_t17) a + S1x1x1x32x128.size a ≤ S4x2x8x1024x128.size a) ∧
  (∀ k0_t17 : Fin (k0_t17_loop v62 v68).trips, ∀ a, (k0_off393 v9 k0_t11 v62 v68 k0_t17) a + S1x1x1x8x128.size a ≤ S4x2x64x64x128.size a) ∧
  (∀ k0_t17 : Fin (k0_t17_loop v62 v68).trips, ∀ a, (k0_off394 v9 k0_t11 v62 v68 k0_t17) a + S1x1x1x8x128.size a ≤ S4x2x64x64x128.size a) ∧
  (∀ k0_t17 : Fin (k0_t17_loop v62 v68).trips, ∀ a, (k0_off395 v9 k0_t11 v62 v68 k0_t17) a + S1x1x1x32x128.size a ≤ S4x2x8x1024x128.size a) ∧
  (∀ k0_t17 : Fin (k0_t17_loop v62 v68).trips, ∀ a, (k0_off397 v9 k0_t11 v62 v68 k0_t17) a + S1x1x1x8x128.size a ≤ S4x2x64x64x128.size a) ∧
  (∀ k0_t17 : Fin (k0_t17_loop v62 v68).trips, ∀ a, (k0_off398 v9 k0_t11 v62 v68 k0_t17) a + S1x1x1x8x128.size a ≤ S4x2x64x64x128.size a)
def k0_chk22_7 (v9 : BitVec 32) (k0_t11 : Fin (k0_t11_loop v9).trips) (v62 : BitVec 32) (v68 : BitVec 32) : Prop :=
  (∀ k0_t17 : Fin (k0_t17_loop v62 v68).trips, ∀ a, (k0_off399 v9 k0_t11 v62 v68 k0_t17) a + S1x1x1x32x128.size a ≤ S4x2x8x1024x128.size a) ∧
  (∀ k0_t17 : Fin (k0_t17_loop v62 v68).trips, ∀ a, (k0_off401 v9 k0_t11 v62 v68 k0_t17) a + S1x1x1x8x128.size a ≤ S4x2x64x64x128.size a) ∧
  (∀ k0_t17 : Fin (k0_t17_loop v62 v68).trips, ∀ a, (k0_off402 v9 k0_t11 v62 v68 k0_t17) a + S1x1x1x8x128.size a ≤ S4x2x64x64x128.size a) ∧
  (∀ k0_t17 : Fin (k0_t17_loop v62 v68).trips, ∀ a, (k0_off403 v9 k0_t11 v62 v68 k0_t17) a + S1x1x1x32x128.size a ≤ S4x2x8x1024x128.size a) ∧
  (∀ k0_t17 : Fin (k0_t17_loop v62 v68).trips, ∀ a, (k0_off405 v9 k0_t11 v62 v68 k0_t17) a + S1x1x1x8x128.size a ≤ S4x2x64x64x128.size a) ∧
  (∀ k0_t17 : Fin (k0_t17_loop v62 v68).trips, ∀ a, (k0_off406 v9 k0_t11 v62 v68 k0_t17) a + S1x1x1x8x128.size a ≤ S4x2x64x64x128.size a) ∧
  (∀ k0_t17 : Fin (k0_t17_loop v62 v68).trips, ∀ a, (k0_off407 v9 k0_t11 v62 v68 k0_t17) a + S1x1x1x32x128.size a ≤ S4x2x8x1024x128.size a) ∧
  (∀ k0_t17 : Fin (k0_t17_loop v62 v68).trips, ∀ a, (k0_off409 v9 k0_t11 v62 v68 k0_t17) a + S1x1x1x8x128.size a ≤ S4x2x64x64x128.size a) ∧
  (∀ k0_t17 : Fin (k0_t17_loop v62 v68).trips, ∀ a, (k0_off410 v9 k0_t11 v62 v68 k0_t17) a + S1x1x1x8x128.size a ≤ S4x2x64x64x128.size a) ∧
  (∀ k0_t17 : Fin (k0_t17_loop v62 v68).trips, ∀ a, (k0_off411 v9 k0_t11 v62 v68 k0_t17) a + S1x1x1x32x128.size a ≤ S4x2x8x1024x128.size a) ∧
  (∀ k0_t17 : Fin (k0_t17_loop v62 v68).trips, ∀ a, (k0_off413 v9 k0_t11 v62 v68 k0_t17) a + S1x1x1x8x128.size a ≤ S4x2x64x64x128.size a) ∧
  (∀ k0_t17 : Fin (k0_t17_loop v62 v68).trips, ∀ a, (k0_off414 v9 k0_t11 v62 v68 k0_t17) a + S1x1x1x8x128.size a ≤ S4x2x64x64x128.size a) ∧
  (∀ k0_t17 : Fin (k0_t17_loop v62 v68).trips, ∀ a, (k0_off415 v9 k0_t11 v62 v68 k0_t17) a + S1x1x1x32x128.size a ≤ S4x2x8x1024x128.size a) ∧
  (∀ k0_t17 : Fin (k0_t17_loop v62 v68).trips, ∀ a, (k0_off417 v9 k0_t11 v62 v68 k0_t17) a + S1x1x1x8x128.size a ≤ S4x2x64x64x128.size a) ∧
  (∀ k0_t17 : Fin (k0_t17_loop v62 v68).trips, ∀ a, (k0_off418 v9 k0_t11 v62 v68 k0_t17) a + S1x1x1x8x128.size a ≤ S4x2x64x64x128.size a) ∧
  (∀ k0_t17 : Fin (k0_t17_loop v62 v68).trips, ∀ a, (k0_off419 v9 k0_t11 v62 v68 k0_t17) a + S1x1x1x32x128.size a ≤ S4x2x8x1024x128.size a) ∧
  (∀ k0_t17 : Fin (k0_t17_loop v62 v68).trips, ∀ a, (k0_off421 v9 k0_t11 v62 v68 k0_t17) a + S1x1x1x8x128.size a ≤ S4x2x64x64x128.size a) ∧
  (∀ k0_t17 : Fin (k0_t17_loop v62 v68).trips, ∀ a, (k0_off422 v9 k0_t11 v62 v68 k0_t17) a + S1x1x1x8x128.size a ≤ S4x2x64x64x128.size a) ∧
  (∀ k0_t17 : Fin (k0_t17_loop v62 v68).trips, ∀ a, (k0_off423 v9 k0_t11 v62 v68 k0_t17) a + S1x1x1x32x128.size a ≤ S4x2x8x1024x128.size a) ∧
  (∀ k0_t17 : Fin (k0_t17_loop v62 v68).trips, ∀ a, (k0_off425 v9 k0_t11 v62 v68 k0_t17) a + S1x1x1x8x128.size a ≤ S4x2x64x64x128.size a) ∧
  (∀ k0_t17 : Fin (k0_t17_loop v62 v68).trips, ∀ a, (k0_off426 v9 k0_t11 v62 v68 k0_t17) a + S1x1x1x8x128.size a ≤ S4x2x64x64x128.size a) ∧
  (∀ k0_t17 : Fin (k0_t17_loop v62 v68).trips, ∀ a, (k0_off427 v9 k0_t11 v62 v68 k0_t17) a + S1x1x1x32x128.size a ≤ S4x2x8x1024x128.size a) ∧
  (∀ k0_t17 : Fin (k0_t17_loop v62 v68).trips, ∀ a, (k0_off429 v9 k0_t11 v62 v68 k0_t17) a + S1x1x1x8x128.size a ≤ S4x2x64x64x128.size a) ∧
  (∀ k0_t17 : Fin (k0_t17_loop v62 v68).trips, ∀ a, (k0_off430 v9 k0_t11 v62 v68 k0_t17) a + S1x1x1x8x128.size a ≤ S4x2x64x64x128.size a) ∧
  (∀ k0_t17 : Fin (k0_t17_loop v62 v68).trips, ∀ a, (k0_off431 v9 k0_t11 v62 v68 k0_t17) a + S1x1x1x32x128.size a ≤ S4x2x8x1024x128.size a) ∧
  (∀ k0_t17 : Fin (k0_t17_loop v62 v68).trips, ∀ a, (k0_off433 v9 k0_t11 v62 v68 k0_t17) a + S1x1x1x8x128.size a ≤ S4x2x64x64x128.size a) ∧
  (∀ k0_t17 : Fin (k0_t17_loop v62 v68).trips, ∀ a, (k0_off434 v9 k0_t11 v62 v68 k0_t17) a + S1x1x1x8x128.size a ≤ S4x2x64x64x128.size a) ∧
  (∀ k0_t17 : Fin (k0_t17_loop v62 v68).trips, ∀ a, (k0_off435 v9 k0_t11 v62 v68 k0_t17) a + S1x1x1x32x128.size a ≤ S4x2x8x1024x128.size a) ∧
  (∀ k0_t17 : Fin (k0_t17_loop v62 v68).trips, ∀ a, (k0_off437 v9 k0_t11 v62 v68 k0_t17) a + S1x1x1x8x128.size a ≤ S4x2x64x64x128.size a) ∧
  (∀ k0_t17 : Fin (k0_t17_loop v62 v68).trips, ∀ a, (k0_off438 v9 k0_t11 v62 v68 k0_t17) a + S1x1x1x8x128.size a ≤ S4x2x64x64x128.size a) ∧
  (∀ k0_t17 : Fin (k0_t17_loop v62 v68).trips, ∀ a, (k0_off439 v9 k0_t11 v62 v68 k0_t17) a + S1x1x1x32x128.size a ≤ S4x2x8x1024x128.size a) ∧
  (∀ k0_t17 : Fin (k0_t17_loop v62 v68).trips, ∀ a, (k0_off441 v9 k0_t11 v62 v68 k0_t17) a + S1x1x1x8x128.size a ≤ S4x2x64x64x128.size a)
def k0_chk22_8 (v9 : BitVec 32) (k0_t11 : Fin (k0_t11_loop v9).trips) (v62 : BitVec 32) (v68 : BitVec 32) : Prop :=
  (∀ k0_t17 : Fin (k0_t17_loop v62 v68).trips, ∀ a, (k0_off442 v9 k0_t11 v62 v68 k0_t17) a + S1x1x1x8x128.size a ≤ S4x2x64x64x128.size a) ∧
  (∀ k0_t17 : Fin (k0_t17_loop v62 v68).trips, ∀ a, (k0_off443 v9 k0_t11 v62 v68 k0_t17) a + S1x1x1x32x128.size a ≤ S4x2x8x1024x128.size a) ∧
  (∀ k0_t17 : Fin (k0_t17_loop v62 v68).trips, ∀ a, (k0_off445 v9 k0_t11 v62 v68 k0_t17) a + S1x1x1x8x128.size a ≤ S4x2x64x64x128.size a) ∧
  (∀ k0_t17 : Fin (k0_t17_loop v62 v68).trips, ∀ a, (k0_off446 v9 k0_t11 v62 v68 k0_t17) a + S1x1x1x8x128.size a ≤ S4x2x64x64x128.size a) ∧
  (∀ k0_t17 : Fin (k0_t17_loop v62 v68).trips, ∀ a, (k0_off447 v9 k0_t11 v62 v68 k0_t17) a + S1x1x1x32x128.size a ≤ S4x2x8x1024x128.size a) ∧
  (∀ k0_t17 : Fin (k0_t17_loop v62 v68).trips, ∀ a, (k0_off449 v9 k0_t11 v62 v68 k0_t17) a + S1x1x1x8x128.size a ≤ S4x2x64x64x128.size a) ∧
  (∀ k0_t17 : Fin (k0_t17_loop v62 v68).trips, ∀ a, (k0_off450 v9 k0_t11 v62 v68 k0_t17) a + S1x1x1x8x128.size a ≤ S4x2x64x64x128.size a) ∧
  (∀ k0_t17 : Fin (k0_t17_loop v62 v68).trips, ∀ a, (k0_off451 v9 k0_t11 v62 v68 k0_t17) a + S1x1x1x32x128.size a ≤ S4x2x8x1024x128.size a) ∧
  (∀ k0_t17 : Fin (k0_t17_loop v62 v68).trips, ∀ a, (k0_off453 v9 k0_t11 v62 v68 k0_t17) a + S1x1x1x8x128.size a ≤ S4x2x64x64x128.size a) ∧
  (∀ k0_t17 : Fin (k0_t17_loop v62 v68).trips, ∀ a, (k0_off454 v9 k0_t11 v62 v68 k0_t17) a + S1x1x1x8x128.size a ≤ S4x2x64x64x128.size a) ∧
  (∀ k0_t17 : Fin (k0_t17_loop v62 v68).trips, ∀ a, (k0_off455 v9 k0_t11 v62 v68 k0_t17) a + S1x1x1x32x128.size a ≤ S4x2x8x1024x128.size a) ∧
  (∀ k0_t17 : Fin (k0_t17_loop v62 v68).trips, ∀ a, (k0_off457 v9 k0_t11 v62 v68 k0_t17) a + S1x1x1x8x128.size a ≤ S4x2x64x64x128.size a) ∧
  (∀ k0_t17 : Fin (k0_t17_loop v62 v68).trips, ∀ a, (k0_off458 v9 k0_t11 v62 v68 k0_t17) a + S1x1x1x8x128.size a ≤ S4x2x64x64x128.size a) ∧
  (∀ k0_t17 : Fin (k0_t17_loop v62 v68).trips, ∀ a, (k0_off459 v9 k0_t11 v62 v68 k0_t17) a + S1x1x1x32x128.size a ≤ S4x2x8x1024x128.size a) ∧
  (∀ k0_t17 : Fin (k0_t17_loop v62 v68).trips, ∀ a, (k0_off461 v9 k0_t11 v62 v68 k0_t17) a + S1x1x1x8x128.size a ≤ S4x2x64x64x128.size a) ∧
  (∀ k0_t17 : Fin (k0_t17_loop v62 v68).trips, ∀ a, (k0_off462 v9 k0_t11 v62 v68 k0_t17) a + S1x1x1x8x128.size a ≤ S4x2x64x64x128.size a) ∧
  (∀ k0_t17 : Fin (k0_t17_loop v62 v68).trips, ∀ a, (k0_off463 v9 k0_t11 v62 v68 k0_t17) a + S1x1x1x32x128.size a ≤ S4x2x8x1024x128.size a) ∧
  (∀ k0_t17 : Fin (k0_t17_loop v62 v68).trips, ∀ a, (k0_off465 v9 k0_t11 v62 v68 k0_t17) a + S1x1x1x8x128.size a ≤ S4x2x64x64x128.size a) ∧
  (∀ k0_t17 : Fin (k0_t17_loop v62 v68).trips, ∀ a, (k0_off466 v9 k0_t11 v62 v68 k0_t17) a + S1x1x1x8x128.size a ≤ S4x2x64x64x128.size a) ∧
  (∀ k0_t17 : Fin (k0_t17_loop v62 v68).trips, ∀ a, (k0_off467 v9 k0_t11 v62 v68 k0_t17) a + S1x1x1x32x128.size a ≤ S4x2x8x1024x128.size a) ∧
  (∀ k0_t17 : Fin (k0_t17_loop v62 v68).trips, ∀ a, (k0_off469 v9 k0_t11 v62 v68 k0_t17) a + S1x1x1x8x128.size a ≤ S4x2x64x64x128.size a) ∧
  (∀ k0_t17 : Fin (k0_t17_loop v62 v68).trips, ∀ a, (k0_off470 v9 k0_t11 v62 v68 k0_t17) a + S1x1x1x8x128.size a ≤ S4x2x64x64x128.size a) ∧
  (∀ k0_t17 : Fin (k0_t17_loop v62 v68).trips, ∀ a, (k0_off471 v9 k0_t11 v62 v68 k0_t17) a + S1x1x1x32x128.size a ≤ S4x2x8x1024x128.size a) ∧
  (∀ k0_t17 : Fin (k0_t17_loop v62 v68).trips, ∀ a, (k0_off473 v9 k0_t11 v62 v68 k0_t17) a + S1x1x1x8x128.size a ≤ S4x2x64x64x128.size a) ∧
  (∀ k0_t17 : Fin (k0_t17_loop v62 v68).trips, ∀ a, (k0_off474 v9 k0_t11 v62 v68 k0_t17) a + S1x1x1x8x128.size a ≤ S4x2x64x64x128.size a) ∧
  (∀ k0_t17 : Fin (k0_t17_loop v62 v68).trips, ∀ a, (k0_off475 v9 k0_t11 v62 v68 k0_t17) a + S1x1x1x32x128.size a ≤ S4x2x8x1024x128.size a) ∧
  (∀ k0_t17 : Fin (k0_t17_loop v62 v68).trips, ∀ a, (k0_off477 v9 k0_t11 v62 v68 k0_t17) a + S1x1x1x8x128.size a ≤ S4x2x64x64x128.size a) ∧
  (∀ k0_t17 : Fin (k0_t17_loop v62 v68).trips, ∀ a, (k0_off478 v9 k0_t11 v62 v68 k0_t17) a + S1x1x1x8x128.size a ≤ S4x2x64x64x128.size a) ∧
  (∀ k0_t17 : Fin (k0_t17_loop v62 v68).trips, ∀ a, (k0_off479 v9 k0_t11 v62 v68 k0_t17) a + S1x1x1x32x128.size a ≤ S4x2x8x1024x128.size a) ∧
  (∀ k0_t17 : Fin (k0_t17_loop v62 v68).trips, ∀ a, (k0_off481 v9 k0_t11 v62 v68 k0_t17) a + S1x1x1x8x128.size a ≤ S4x2x64x64x128.size a) ∧
  (∀ k0_t17 : Fin (k0_t17_loop v62 v68).trips, ∀ a, (k0_off482 v9 k0_t11 v62 v68 k0_t17) a + S1x1x1x8x128.size a ≤ S4x2x64x64x128.size a) ∧
  (∀ k0_t17 : Fin (k0_t17_loop v62 v68).trips, ∀ a, (k0_off483 v9 k0_t11 v62 v68 k0_t17) a + S1x1x1x32x128.size a ≤ S4x2x8x1024x128.size a)
def k0_chk22_9 (v9 : BitVec 32) (k0_t11 : Fin (k0_t11_loop v9).trips) (v62 : BitVec 32) (v68 : BitVec 32) : Prop :=
  (∀ k0_t17 : Fin (k0_t17_loop v62 v68).trips, ∀ a, (k0_off485 v9 k0_t11 v62 v68 k0_t17) a + S1x1x1x8x128.size a ≤ S4x2x64x64x128.size a) ∧
  (∀ k0_t17 : Fin (k0_t17_loop v62 v68).trips, ∀ a, (k0_off486 v9 k0_t11 v62 v68 k0_t17) a + S1x1x1x8x128.size a ≤ S4x2x64x64x128.size a) ∧
  (∀ k0_t17 : Fin (k0_t17_loop v62 v68).trips, ∀ a, (k0_off487 v9 k0_t11 v62 v68 k0_t17) a + S1x1x1x32x128.size a ≤ S4x2x8x1024x128.size a) ∧
  (∀ k0_t17 : Fin (k0_t17_loop v62 v68).trips, ∀ a, (k0_off489 v9 k0_t11 v62 v68 k0_t17) a + S1x1x1x8x128.size a ≤ S4x2x64x64x128.size a) ∧
  (∀ k0_t17 : Fin (k0_t17_loop v62 v68).trips, ∀ a, (k0_off490 v9 k0_t11 v62 v68 k0_t17) a + S1x1x1x8x128.size a ≤ S4x2x64x64x128.size a) ∧
  (∀ k0_t17 : Fin (k0_t17_loop v62 v68).trips, ∀ a, (k0_off491 v9 k0_t11 v62 v68 k0_t17) a + S1x1x1x32x128.size a ≤ S4x2x8x1024x128.size a) ∧
  (∀ k0_t17 : Fin (k0_t17_loop v62 v68).trips, ∀ a, (k0_off493 v9 k0_t11 v62 v68 k0_t17) a + S1x1x1x8x128.size a ≤ S4x2x64x64x128.size a) ∧
  (∀ k0_t17 : Fin (k0_t17_loop v62 v68).trips, ∀ a, (k0_off494 v9 k0_t11 v62 v68 k0_t17) a + S1x1x1x8x128.size a ≤ S4x2x64x64x128.size a) ∧
  (∀ k0_t17 : Fin (k0_t17_loop v62 v68).trips, ∀ a, (k0_off495 v9 k0_t11 v62 v68 k0_t17) a + S1x1x1x32x128.size a ≤ S4x2x8x1024x128.size a) ∧
  (∀ k0_t17 : Fin (k0_t17_loop v62 v68).trips, ∀ a, (k0_off497 v9 k0_t11 v62 v68 k0_t17) a + S1x1x1x8x128.size a ≤ S4x2x64x64x128.size a) ∧
  (∀ k0_t17 : Fin (k0_t17_loop v62 v68).trips, ∀ a, (k0_off498 v9 k0_t11 v62 v68 k0_t17) a + S1x1x1x8x128.size a ≤ S4x2x64x64x128.size a) ∧
  (∀ k0_t17 : Fin (k0_t17_loop v62 v68).trips, ∀ a, (k0_off499 v9 k0_t11 v62 v68 k0_t17) a + S1x1x1x32x128.size a ≤ S4x2x8x1024x128.size a) ∧
  (∀ k0_t17 : Fin (k0_t17_loop v62 v68).trips, ∀ a, (k0_off501 v9 k0_t11 v62 v68 k0_t17) a + S1x1x1x8x128.size a ≤ S4x2x64x64x128.size a) ∧
  (∀ k0_t17 : Fin (k0_t17_loop v62 v68).trips, ∀ a, (k0_off502 v9 k0_t11 v62 v68 k0_t17) a + S1x1x1x8x128.size a ≤ S4x2x64x64x128.size a) ∧
  (∀ k0_t17 : Fin (k0_t17_loop v62 v68).trips, ∀ a, (k0_off503 v9 k0_t11 v62 v68 k0_t17) a + S1x1x1x32x128.size a ≤ S4x2x8x1024x128.size a) ∧
  (∀ k0_t17 : Fin (k0_t17_loop v62 v68).trips, ∀ a, (k0_off505 v9 k0_t11 v62 v68 k0_t17) a + S1x1x1x8x128.size a ≤ S4x2x64x64x128.size a) ∧
  (∀ k0_t17 : Fin (k0_t17_loop v62 v68).trips, ∀ a, (k0_off506 v9 k0_t11 v62 v68 k0_t17) a + S1x1x1x8x128.size a ≤ S4x2x64x64x128.size a) ∧
  (∀ k0_t17 : Fin (k0_t17_loop v62 v68).trips, ∀ a, (k0_off507 v9 k0_t11 v62 v68 k0_t17) a + S1x1x1x32x128.size a ≤ S4x2x8x1024x128.size a) ∧
  (∀ k0_t17 : Fin (k0_t17_loop v62 v68).trips, ∀ a, (k0_off509 v9 k0_t11 v62 v68 k0_t17) a + S1x1x1x8x128.size a ≤ S4x2x64x64x128.size a) ∧
  (∀ k0_t17 : Fin (k0_t17_loop v62 v68).trips, ∀ a, (k0_off510 v9 k0_t11 v62 v68 k0_t17) a + S1x1x1x8x128.size a ≤ S4x2x64x64x128.size a) ∧
  (∀ k0_t17 : Fin (k0_t17_loop v62 v68).trips, ∀ a, (k0_off511 v9 k0_t11 v62 v68 k0_t17) a + S1x1x1x32x128.size a ≤ S4x2x8x1024x128.size a) ∧
  (∀ k0_t17 : Fin (k0_t17_loop v62 v68).trips, ∀ a, (k0_off513 v9 k0_t11 v62 v68 k0_t17) a + S1x1x1x8x128.size a ≤ S4x2x64x64x128.size a) ∧
  (∀ k0_t17 : Fin (k0_t17_loop v62 v68).trips, ∀ a, (k0_off514 v9 k0_t11 v62 v68 k0_t17) a + S1x1x1x8x128.size a ≤ S4x2x64x64x128.size a) ∧
  (∀ k0_t17 : Fin (k0_t17_loop v62 v68).trips, ∀ a, (k0_off515 v9 k0_t11 v62 v68 k0_t17) a + S1x1x1x32x128.size a ≤ S4x2x8x1024x128.size a) ∧
  (∀ k0_t17 : Fin (k0_t17_loop v62 v68).trips, ∀ a, (k0_off517 v9 k0_t11 v62 v68 k0_t17) a + S1x1x1x8x128.size a ≤ S4x2x64x64x128.size a) ∧
  (∀ k0_t17 : Fin (k0_t17_loop v62 v68).trips, ∀ a, (k0_off518 v9 k0_t11 v62 v68 k0_t17) a + S1x1x1x8x128.size a ≤ S4x2x64x64x128.size a) ∧
  (∀ k0_t17 : Fin (k0_t17_loop v62 v68).trips, ∀ a, (k0_off519 v9 k0_t11 v62 v68 k0_t17) a + S1x1x1x32x128.size a ≤ S4x2x8x1024x128.size a) ∧
  (∀ k0_t17 : Fin (k0_t17_loop v62 v68).trips, ∀ a, (k0_off521 v9 k0_t11 v62 v68 k0_t17) a + S1x1x1x8x128.size a ≤ S4x2x64x64x128.size a) ∧
  (∀ k0_t17 : Fin (k0_t17_loop v62 v68).trips, ∀ a, (k0_off522 v9 k0_t11 v62 v68 k0_t17) a + S1x1x1x8x128.size a ≤ S4x2x64x64x128.size a) ∧
  (∀ k0_t17 : Fin (k0_t17_loop v62 v68).trips, ∀ a, (k0_off523 v9 k0_t11 v62 v68 k0_t17) a + S1x1x1x32x128.size a ≤ S4x2x8x1024x128.size a) ∧
  (∀ k0_t17 : Fin (k0_t17_loop v62 v68).trips, ∀ a, (k0_off525 v9 k0_t11 v62 v68 k0_t17) a + S1x1x1x8x128.size a ≤ S4x2x64x64x128.size a) ∧
  (∀ k0_t17 : Fin (k0_t17_loop v62 v68).trips, ∀ a, (k0_off526 v9 k0_t11 v62 v68 k0_t17) a + S1x1x1x8x128.size a ≤ S4x2x64x64x128.size a)
def k0_chk22_10 (v9 : BitVec 32) (k0_t11 : Fin (k0_t11_loop v9).trips) (v62 : BitVec 32) (v68 : BitVec 32) : Prop :=
  (∀ k0_t17 : Fin (k0_t17_loop v62 v68).trips, ∀ a, (k0_off527 v9 k0_t11 v62 v68 k0_t17) a + S1x1x1x32x128.size a ≤ S4x2x8x1024x128.size a) ∧
  (∀ k0_t17 : Fin (k0_t17_loop v62 v68).trips, ∀ a, (k0_off529 v9 k0_t11 v62 v68 k0_t17) a + S1x1x1x8x128.size a ≤ S4x2x64x64x128.size a) ∧
  (∀ k0_t17 : Fin (k0_t17_loop v62 v68).trips, ∀ a, (k0_off530 v9 k0_t11 v62 v68 k0_t17) a + S1x1x1x8x128.size a ≤ S4x2x64x64x128.size a) ∧
  (∀ k0_t17 : Fin (k0_t17_loop v62 v68).trips, ∀ a, (k0_off531 v9 k0_t11 v62 v68 k0_t17) a + S1x1x1x32x128.size a ≤ S4x2x8x1024x128.size a) ∧
  (∀ k0_t17 : Fin (k0_t17_loop v62 v68).trips, ∀ a, (k0_off533 v9 k0_t11 v62 v68 k0_t17) a + S1x1x1x8x128.size a ≤ S4x2x64x64x128.size a) ∧
  (∀ k0_t17 : Fin (k0_t17_loop v62 v68).trips, ∀ a, (k0_off534 v9 k0_t11 v62 v68 k0_t17) a + S1x1x1x8x128.size a ≤ S4x2x64x64x128.size a) ∧
  (∀ k0_t17 : Fin (k0_t17_loop v62 v68).trips, ∀ a, (k0_off535 v9 k0_t11 v62 v68 k0_t17) a + S1x1x1x32x128.size a ≤ S4x2x8x1024x128.size a) ∧
  (∀ k0_t17 : Fin (k0_t17_loop v62 v68).trips, ∀ a, (k0_off537 v9 k0_t11 v62 v68 k0_t17) a + S1x1x1x8x128.size a ≤ S4x2x64x64x128.size a) ∧
  (∀ k0_t17 : Fin (k0_t17_loop v62 v68).trips, ∀ a, (k0_off538 v9 k0_t11 v62 v68 k0_t17) a + S1x1x1x8x128.size a ≤ S4x2x64x64x128.size a) ∧
  (∀ k0_t17 : Fin (k0_t17_loop v62 v68).trips, ∀ a, (k0_off539 v9 k0_t11 v62 v68 k0_t17) a + S1x1x1x32x128.size a ≤ S4x2x8x1024x128.size a) ∧
  (∀ k0_t17 : Fin (k0_t17_loop v62 v68).trips, ∀ a, (k0_off541 v9 k0_t11 v62 v68 k0_t17) a + S1x1x1x8x128.size a ≤ S4x2x64x64x128.size a) ∧
  (∀ k0_t17 : Fin (k0_t17_loop v62 v68).trips, ∀ a, (k0_off542 v9 k0_t11 v62 v68 k0_t17) a + S1x1x1x8x128.size a ≤ S4x2x64x64x128.size a) ∧
  (∀ k0_t17 : Fin (k0_t17_loop v62 v68).trips, ∀ a, (k0_off543 v9 k0_t11 v62 v68 k0_t17) a + S1x1x1x32x128.size a ≤ S4x2x8x1024x128.size a) ∧
  (∀ k0_t17 : Fin (k0_t17_loop v62 v68).trips, ∀ a, (k0_off545 v9 k0_t11 v62 v68 k0_t17) a + S1x1x1x8x128.size a ≤ S4x2x64x64x128.size a) ∧
  (∀ k0_t17 : Fin (k0_t17_loop v62 v68).trips, ∀ a, (k0_off546 v9 k0_t11 v62 v68 k0_t17) a + S1x1x1x8x128.size a ≤ S4x2x64x64x128.size a) ∧
  (∀ k0_t17 : Fin (k0_t17_loop v62 v68).trips, ∀ a, (k0_off547 v9 k0_t11 v62 v68 k0_t17) a + S1x1x1x32x128.size a ≤ S4x2x8x1024x128.size a) ∧
  (∀ k0_t17 : Fin (k0_t17_loop v62 v68).trips, ∀ a, (k0_off549 v9 k0_t11 v62 v68 k0_t17) a + S1x1x1x8x128.size a ≤ S4x2x64x64x128.size a) ∧
  (∀ k0_t17 : Fin (k0_t17_loop v62 v68).trips, ∀ a, (k0_off550 v9 k0_t11 v62 v68 k0_t17) a + S1x1x1x8x128.size a ≤ S4x2x64x64x128.size a) ∧
  (∀ k0_t17 : Fin (k0_t17_loop v62 v68).trips, ∀ a, (k0_off551 v9 k0_t11 v62 v68 k0_t17) a + S1x1x1x32x128.size a ≤ S4x2x8x1024x128.size a) ∧
  (∀ k0_t17 : Fin (k0_t17_loop v62 v68).trips, ∀ a, (k0_off553 v9 k0_t11 v62 v68 k0_t17) a + S1x1x1x8x128.size a ≤ S4x2x64x64x128.size a) ∧
  (∀ k0_t17 : Fin (k0_t17_loop v62 v68).trips, ∀ a, (k0_off554 v9 k0_t11 v62 v68 k0_t17) a + S1x1x1x8x128.size a ≤ S4x2x64x64x128.size a) ∧
  (∀ k0_t17 : Fin (k0_t17_loop v62 v68).trips, ∀ a, (k0_off555 v9 k0_t11 v62 v68 k0_t17) a + S1x1x1x32x128.size a ≤ S4x2x8x1024x128.size a) ∧
  (∀ k0_t17 : Fin (k0_t17_loop v62 v68).trips, ∀ a, (k0_off557 v9 k0_t11 v62 v68 k0_t17) a + S1x1x1x8x128.size a ≤ S4x2x64x64x128.size a) ∧
  (∀ k0_t17 : Fin (k0_t17_loop v62 v68).trips, ∀ a, (k0_off558 v9 k0_t11 v62 v68 k0_t17) a + S1x1x1x8x128.size a ≤ S4x2x64x64x128.size a) ∧
  (∀ k0_t17 : Fin (k0_t17_loop v62 v68).trips, ∀ a, (k0_off559 v9 k0_t11 v62 v68 k0_t17) a + S1x1x1x32x128.size a ≤ S4x2x8x1024x128.size a) ∧
  (∀ k0_t17 : Fin (k0_t17_loop v62 v68).trips, ∀ a, (k0_off561 v9 k0_t11 v62 v68 k0_t17) a + S1x1x1x8x128.size a ≤ S4x2x64x64x128.size a) ∧
  (∀ k0_t17 : Fin (k0_t17_loop v62 v68).trips, ∀ a, (k0_off562 v9 k0_t11 v62 v68 k0_t17) a + S1x1x1x8x128.size a ≤ S4x2x64x64x128.size a) ∧
  (∀ k0_t17 : Fin (k0_t17_loop v62 v68).trips, ∀ a, (k0_off563 v9 k0_t11 v62 v68 k0_t17) a + S1x1x1x32x128.size a ≤ S4x2x8x1024x128.size a) ∧
  (∀ k0_t17 : Fin (k0_t17_loop v62 v68).trips, ∀ a, (k0_off565 v9 k0_t11 v62 v68 k0_t17) a + S1x1x1x8x128.size a ≤ S4x2x64x64x128.size a) ∧
  (∀ k0_t17 : Fin (k0_t17_loop v62 v68).trips, ∀ a, (k0_off566 v9 k0_t11 v62 v68 k0_t17) a + S1x1x1x8x128.size a ≤ S4x2x64x64x128.size a) ∧
  (∀ k0_t17 : Fin (k0_t17_loop v62 v68).trips, ∀ a, (k0_off567 v9 k0_t11 v62 v68 k0_t17) a + S1x1x1x32x128.size a ≤ S4x2x8x1024x128.size a) ∧
  (∀ k0_t17 : Fin (k0_t17_loop v62 v68).trips, ∀ a, (k0_off569 v9 k0_t11 v62 v68 k0_t17) a + S1x1x1x8x128.size a ≤ S4x2x64x64x128.size a)
def k0_chk22_11 (v9 : BitVec 32) (k0_t11 : Fin (k0_t11_loop v9).trips) (v62 : BitVec 32) (v68 : BitVec 32) : Prop :=
  (∀ k0_t17 : Fin (k0_t17_loop v62 v68).trips, ∀ a, (k0_off570 v9 k0_t11 v62 v68 k0_t17) a + S1x1x1x8x128.size a ≤ S4x2x64x64x128.size a) ∧
  (∀ k0_t17 : Fin (k0_t17_loop v62 v68).trips, ∀ a, (k0_off571 v9 k0_t11 v62 v68 k0_t17) a + S1x1x1x32x128.size a ≤ S4x2x8x1024x128.size a) ∧
  (∀ k0_t17 : Fin (k0_t17_loop v62 v68).trips, ∀ a, (k0_off573 v9 k0_t11 v62 v68 k0_t17) a + S1x1x1x8x128.size a ≤ S4x2x64x64x128.size a) ∧
  (∀ k0_t17 : Fin (k0_t17_loop v62 v68).trips, ∀ a, (k0_off574 v9 k0_t11 v62 v68 k0_t17) a + S1x1x1x8x128.size a ≤ S4x2x64x64x128.size a) ∧
  (∀ k0_t17 : Fin (k0_t17_loop v62 v68).trips, ∀ a, (k0_off575 v9 k0_t11 v62 v68 k0_t17) a + S1x1x1x32x128.size a ≤ S4x2x8x1024x128.size a) ∧
  (∀ k0_t17 : Fin (k0_t17_loop v62 v68).trips, ∀ a, (k0_off577 v9 k0_t11 v62 v68 k0_t17) a + S1x1x1x8x128.size a ≤ S4x2x64x64x128.size a) ∧
  (∀ k0_t17 : Fin (k0_t17_loop v62 v68).trips, ∀ a, (k0_off578 v9 k0_t11 v62 v68 k0_t17) a + S1x1x1x8x128.size a ≤ S4x2x64x64x128.size a) ∧
  (∀ k0_t17 : Fin (k0_t17_loop v62 v68).trips, ∀ a, (k0_off579 v9 k0_t11 v62 v68 k0_t17) a + S1x1x1x32x128.size a ≤ S4x2x8x1024x128.size a) ∧
  (∀ k0_t17 : Fin (k0_t17_loop v62 v68).trips, ∀ a, (k0_off581 v9 k0_t11 v62 v68 k0_t17) a + S1x1x1x8x128.size a ≤ S4x2x64x64x128.size a) ∧
  (∀ k0_t17 : Fin (k0_t17_loop v62 v68).trips, ∀ a, (k0_off582 v9 k0_t11 v62 v68 k0_t17) a + S1x1x1x8x128.size a ≤ S4x2x64x64x128.size a) ∧
  (∀ k0_t17 : Fin (k0_t17_loop v62 v68).trips, ∀ a, (k0_off583 v9 k0_t11 v62 v68 k0_t17) a + S1x1x1x32x128.size a ≤ S4x2x8x1024x128.size a) ∧
  (∀ k0_t17 : Fin (k0_t17_loop v62 v68).trips, ∀ a, (k0_off585 v9 k0_t11 v62 v68 k0_t17) a + S1x1x1x8x128.size a ≤ S4x2x64x64x128.size a) ∧
  (∀ k0_t17 : Fin (k0_t17_loop v62 v68).trips, ∀ a, (k0_off586 v9 k0_t11 v62 v68 k0_t17) a + S1x1x1x8x128.size a ≤ S4x2x64x64x128.size a) ∧
  (∀ k0_t17 : Fin (k0_t17_loop v62 v68).trips, ∀ a, (k0_off587 v9 k0_t11 v62 v68 k0_t17) a + S1x1x1x32x128.size a ≤ S4x2x8x1024x128.size a) ∧
  (∀ k0_t17 : Fin (k0_t17_loop v62 v68).trips, ∀ a, (k0_off589 v9 k0_t11 v62 v68 k0_t17) a + S1x1x1x8x128.size a ≤ S4x2x64x64x128.size a) ∧
  (∀ k0_t17 : Fin (k0_t17_loop v62 v68).trips, ∀ a, (k0_off590 v9 k0_t11 v62 v68 k0_t17) a + S1x1x1x8x128.size a ≤ S4x2x64x64x128.size a) ∧
  (∀ k0_t17 : Fin (k0_t17_loop v62 v68).trips, ∀ a, (k0_off591 v9 k0_t11 v62 v68 k0_t17) a + S1x1x1x32x128.size a ≤ S4x2x8x1024x128.size a) ∧
  (∀ k0_t17 : Fin (k0_t17_loop v62 v68).trips, ∀ a, (k0_off593 v9 k0_t11 v62 v68 k0_t17) a + S1x1x1x8x128.size a ≤ S4x2x64x64x128.size a) ∧
  (∀ k0_t17 : Fin (k0_t17_loop v62 v68).trips, ∀ a, (k0_off594 v9 k0_t11 v62 v68 k0_t17) a + S1x1x1x8x128.size a ≤ S4x2x64x64x128.size a) ∧
  (∀ k0_t17 : Fin (k0_t17_loop v62 v68).trips, ∀ a, (k0_off595 v9 k0_t11 v62 v68 k0_t17) a + S1x1x1x32x128.size a ≤ S4x2x8x1024x128.size a) ∧
  (∀ k0_t17 : Fin (k0_t17_loop v62 v68).trips, ∀ a, (k0_off597 v9 k0_t11 v62 v68 k0_t17) a + S1x1x1x8x128.size a ≤ S4x2x64x64x128.size a) ∧
  (∀ k0_t17 : Fin (k0_t17_loop v62 v68).trips, ∀ a, (k0_off598 v9 k0_t11 v62 v68 k0_t17) a + S1x1x1x8x128.size a ≤ S4x2x64x64x128.size a) ∧
  (∀ k0_t17 : Fin (k0_t17_loop v62 v68).trips, ∀ a, (k0_off599 v9 k0_t11 v62 v68 k0_t17) a + S1x1x1x32x128.size a ≤ S4x2x8x1024x128.size a) ∧
  (∀ k0_t17 : Fin (k0_t17_loop v62 v68).trips, ∀ a, (k0_off601 v9 k0_t11 v62 v68 k0_t17) a + S1x1x1x8x128.size a ≤ S4x2x64x64x128.size a) ∧
  (∀ k0_t17 : Fin (k0_t17_loop v62 v68).trips, ∀ a, (k0_off602 v9 k0_t11 v62 v68 k0_t17) a + S1x1x1x8x128.size a ≤ S4x2x64x64x128.size a) ∧
  (∀ k0_t17 : Fin (k0_t17_loop v62 v68).trips, ∀ a, (k0_off603 v9 k0_t11 v62 v68 k0_t17) a + S1x1x1x32x128.size a ≤ S4x2x8x1024x128.size a) ∧
  (∀ k0_t17 : Fin (k0_t17_loop v62 v68).trips, ∀ a, (k0_off605 v9 k0_t11 v62 v68 k0_t17) a + S1x1x1x8x128.size a ≤ S4x2x64x64x128.size a) ∧
  (∀ k0_t17 : Fin (k0_t17_loop v62 v68).trips, ∀ a, (k0_off606 v9 k0_t11 v62 v68 k0_t17) a + S1x1x1x8x128.size a ≤ S4x2x64x64x128.size a) ∧
  (∀ k0_t17 : Fin (k0_t17_loop v62 v68).trips, ∀ a, (k0_off607 v9 k0_t11 v62 v68 k0_t17) a + S1x1x1x32x128.size a ≤ S4x2x8x1024x128.size a) ∧
  (∀ k0_t17 : Fin (k0_t17_loop v62 v68).trips, ∀ a, (k0_off609 v9 k0_t11 v62 v68 k0_t17) a + S1x1x1x8x128.size a ≤ S4x2x64x64x128.size a) ∧
  (∀ k0_t17 : Fin (k0_t17_loop v62 v68).trips, ∀ a, (k0_off610 v9 k0_t11 v62 v68 k0_t17) a + S1x1x1x8x128.size a ≤ S4x2x64x64x128.size a) ∧
  (∀ k0_t17 : Fin (k0_t17_loop v62 v68).trips, ∀ a, (k0_off611 v9 k0_t11 v62 v68 k0_t17) a + S1x1x1x32x128.size a ≤ S4x2x8x1024x128.size a)
def k0_chk22_12 (v9 : BitVec 32) (k0_t11 : Fin (k0_t11_loop v9).trips) (v62 : BitVec 32) (v68 : BitVec 32) : Prop :=
  (∀ k0_t17 : Fin (k0_t17_loop v62 v68).trips, ∀ a, (k0_off613 v9 k0_t11 v62 v68 k0_t17) a + S1x1x1x8x128.size a ≤ S4x2x64x64x128.size a) ∧
  (∀ k0_t17 : Fin (k0_t17_loop v62 v68).trips, ∀ a, (k0_off614 v9 k0_t11 v62 v68 k0_t17) a + S1x1x1x8x128.size a ≤ S4x2x64x64x128.size a) ∧
  (∀ k0_t17 : Fin (k0_t17_loop v62 v68).trips, ∀ a, (k0_off615 v9 k0_t11 v62 v68 k0_t17) a + S1x1x1x32x128.size a ≤ S4x2x8x1024x128.size a) ∧
  (∀ k0_t17 : Fin (k0_t17_loop v62 v68).trips, ∀ a, (k0_off617 v9 k0_t11 v62 v68 k0_t17) a + S1x1x1x8x128.size a ≤ S4x2x64x64x128.size a) ∧
  (∀ k0_t17 : Fin (k0_t17_loop v62 v68).trips, ∀ a, (k0_off618 v9 k0_t11 v62 v68 k0_t17) a + S1x1x1x8x128.size a ≤ S4x2x64x64x128.size a) ∧
  (∀ k0_t17 : Fin (k0_t17_loop v62 v68).trips, ∀ a, (k0_off619 v9 k0_t11 v62 v68 k0_t17) a + S1x1x1x32x128.size a ≤ S4x2x8x1024x128.size a) ∧
  (∀ k0_t17 : Fin (k0_t17_loop v62 v68).trips, ∀ a, (k0_off621 v9 k0_t11 v62 v68 k0_t17) a + S1x1x1x8x128.size a ≤ S4x2x64x64x128.size a) ∧
  (∀ k0_t17 : Fin (k0_t17_loop v62 v68).trips, ∀ a, (k0_off622 v9 k0_t11 v62 v68 k0_t17) a + S1x1x1x8x128.size a ≤ S4x2x64x64x128.size a) ∧
  (∀ k0_t17 : Fin (k0_t17_loop v62 v68).trips, ∀ a, (k0_off623 v9 k0_t11 v62 v68 k0_t17) a + S1x1x1x32x128.size a ≤ S4x2x8x1024x128.size a) ∧
  (∀ k0_t17 : Fin (k0_t17_loop v62 v68).trips, ∀ a, (k0_off625 v9 k0_t11 v62 v68 k0_t17) a + S1x1x1x8x128.size a ≤ S4x2x64x64x128.size a) ∧
  (∀ k0_t17 : Fin (k0_t17_loop v62 v68).trips, ∀ a, (k0_off626 v9 k0_t11 v62 v68 k0_t17) a + S1x1x1x8x128.size a ≤ S4x2x64x64x128.size a) ∧
  (∀ k0_t17 : Fin (k0_t17_loop v62 v68).trips, ∀ a, (k0_off627 v9 k0_t11 v62 v68 k0_t17) a + S1x1x1x32x128.size a ≤ S4x2x8x1024x128.size a) ∧
  (∀ k0_t17 : Fin (k0_t17_loop v62 v68).trips, ∀ a, (k0_off629 v9 k0_t11 v62 v68 k0_t17) a + S1x1x1x8x128.size a ≤ S4x2x64x64x128.size a) ∧
  (∀ k0_t17 : Fin (k0_t17_loop v62 v68).trips, ∀ a, (k0_off630 v9 k0_t11 v62 v68 k0_t17) a + S1x1x1x8x128.size a ≤ S4x2x64x64x128.size a) ∧
  (∀ k0_t17 : Fin (k0_t17_loop v62 v68).trips, ∀ a, (k0_off631 v9 k0_t11 v62 v68 k0_t17) a + S1x1x1x32x128.size a ≤ S4x2x8x1024x128.size a) ∧
  (∀ k0_t17 : Fin (k0_t17_loop v62 v68).trips, ∀ a, (k0_off633 v9 k0_t11 v62 v68 k0_t17) a + S1x1x1x8x128.size a ≤ S4x2x64x64x128.size a) ∧
  (∀ k0_t17 : Fin (k0_t17_loop v62 v68).trips, ∀ a, (k0_off634 v9 k0_t11 v62 v68 k0_t17) a + S1x1x1x8x128.size a ≤ S4x2x64x64x128.size a) ∧
  (∀ k0_t17 : Fin (k0_t17_loop v62 v68).trips, ∀ a, (k0_off635 v9 k0_t11 v62 v68 k0_t17) a + S1x1x1x32x128.size a ≤ S4x2x8x1024x128.size a) ∧
  (∀ k0_t17 : Fin (k0_t17_loop v62 v68).trips, ∀ a, (k0_off637 v9 k0_t11 v62 v68 k0_t17) a + S1x1x1x8x128.size a ≤ S4x2x64x64x128.size a) ∧
  (∀ k0_t17 : Fin (k0_t17_loop v62 v68).trips, ∀ a, (k0_off638 v9 k0_t11 v62 v68 k0_t17) a + S1x1x1x8x128.size a ≤ S4x2x64x64x128.size a) ∧
  ((k0_t18_loop v62 v68).OK) ∧
  (∀ k0_t18 : Fin (k0_t18_loop v62 v68).trips, 8 ∣ (k0_mult29 v62 v68 k0_t18).toNat) ∧
  (∀ k0_t18 : Fin (k0_t18_loop v62 v68).trips, ∀ a, (k0_off639 v9 k0_t11 v62 v68 k0_t18) a + S1x1x1x8x128.size a ≤ S4x2x64x64x128.size a) ∧
  (∀ k0_t18 : Fin (k0_t18_loop v62 v68).trips, ∀ a, (k0_off640 v9 k0_t11 v62 v68 k0_t18) a + S1x1x1x8x128.size a ≤ S4x2x64x64x128.size a) ∧
  (∀ k0_t18 : Fin (k0_t18_loop v62 v68).trips, ∀ a, (k0_off641 v9 k0_t11 v62 v68 k0_t18) a + S1x1x1x8x128.size a ≤ S4x2x64x64x128.size a) ∧
  (∀ k0_t18 : Fin (k0_t18_loop v62 v68).trips, ∀ a, (k0_off642 v9 k0_t11 v62 v68 k0_t18) a + S1x1x1x8x128.size a ≤ S4x2x64x64x128.size a) ∧
  (∀ k0_t18 : Fin (k0_t18_loop v62 v68).trips, ∀ a, (k0_off643 v9 k0_t11 v62 v68 k0_t18) a + S1x1x1x8x128.size a ≤ S4x2x64x64x128.size a) ∧
  (∀ k0_t18 : Fin (k0_t18_loop v62 v68).trips, ∀ a, (k0_off644 v9 k0_t11 v62 v68 k0_t18) a + S1x1x1x8x128.size a ≤ S4x2x64x64x128.size a) ∧
  (∀ k0_t18 : Fin (k0_t18_loop v62 v68).trips, ∀ a, (k0_off645 v9 k0_t11 v62 v68 k0_t18) a + S1x1x1x8x128.size a ≤ S4x2x64x64x128.size a) ∧
  (∀ k0_t18 : Fin (k0_t18_loop v62 v68).trips, ∀ a, (k0_off646 v9 k0_t11 v62 v68 k0_t18) a + S1x1x1x8x128.size a ≤ S4x2x64x64x128.size a) ∧
  (∀ k0_t18 : Fin (k0_t18_loop v62 v68).trips, ∀ a, (k0_off647 v9 k0_t11 v62 v68 k0_t18) a + S1x1x1x8x128.size a ≤ S4x2x64x64x128.size a) ∧
  (∀ k0_t18 : Fin (k0_t18_loop v62 v68).trips, ∀ a, (k0_off648 v9 k0_t11 v62 v68 k0_t18) a + S1x1x1x8x128.size a ≤ S4x2x64x64x128.size a)
def k0_chk22_13 (v9 : BitVec 32) (k0_t11 : Fin (k0_t11_loop v9).trips) (v62 : BitVec 32) (v68 : BitVec 32) : Prop :=
  (∀ k0_t18 : Fin (k0_t18_loop v62 v68).trips, ∀ a, (k0_off649 v9 k0_t11 v62 v68 k0_t18) a + S1x1x1x8x128.size a ≤ S4x2x64x64x128.size a) ∧
  (∀ k0_t18 : Fin (k0_t18_loop v62 v68).trips, ∀ a, (k0_off650 v9 k0_t11 v62 v68 k0_t18) a + S1x1x1x8x128.size a ≤ S4x2x64x64x128.size a) ∧
  (∀ k0_t18 : Fin (k0_t18_loop v62 v68).trips, ∀ a, (k0_off651 v9 k0_t11 v62 v68 k0_t18) a + S1x1x1x8x128.size a ≤ S4x2x64x64x128.size a) ∧
  (∀ k0_t18 : Fin (k0_t18_loop v62 v68).trips, ∀ a, (k0_off652 v9 k0_t11 v62 v68 k0_t18) a + S1x1x1x8x128.size a ≤ S4x2x64x64x128.size a) ∧
  (∀ k0_t18 : Fin (k0_t18_loop v62 v68).trips, ∀ a, (k0_off653 v9 k0_t11 v62 v68 k0_t18) a + S1x1x1x8x128.size a ≤ S4x2x64x64x128.size a) ∧
  (∀ k0_t18 : Fin (k0_t18_loop v62 v68).trips, ∀ a, (k0_off654 v9 k0_t11 v62 v68 k0_t18) a + S1x1x1x8x128.size a ≤ S4x2x64x64x128.size a) ∧
  (∀ k0_t18 : Fin (k0_t18_loop v62 v68).trips, ∀ a, (k0_off655 v9 k0_t11 v62 v68 k0_t18) a + S1x1x1x8x128.size a ≤ S4x2x64x64x128.size a) ∧
  (∀ k0_t18 : Fin (k0_t18_loop v62 v68).trips, ∀ a, (k0_off656 v9 k0_t11 v62 v68 k0_t18) a + S1x1x1x8x128.size a ≤ S4x2x64x64x128.size a) ∧
  (∀ k0_t18 : Fin (k0_t18_loop v62 v68).trips, ∀ a, (k0_off657 v9 k0_t11 v62 v68 k0_t18) a + S1x1x1x8x128.size a ≤ S4x2x64x64x128.size a) ∧
  (∀ k0_t18 : Fin (k0_t18_loop v62 v68).trips, ∀ a, (k0_off658 v9 k0_t11 v62 v68 k0_t18) a + S1x1x1x8x128.size a ≤ S4x2x64x64x128.size a) ∧
  (∀ k0_t18 : Fin (k0_t18_loop v62 v68).trips, ∀ a, (k0_off659 v9 k0_t11 v62 v68 k0_t18) a + S1x1x1x8x128.size a ≤ S4x2x64x64x128.size a) ∧
  (∀ k0_t18 : Fin (k0_t18_loop v62 v68).trips, ∀ a, (k0_off660 v9 k0_t11 v62 v68 k0_t18) a + S1x1x1x8x128.size a ≤ S4x2x64x64x128.size a) ∧
  (∀ k0_t18 : Fin (k0_t18_loop v62 v68).trips, ∀ a, (k0_off661 v9 k0_t11 v62 v68 k0_t18) a + S1x1x1x8x128.size a ≤ S4x2x64x64x128.size a) ∧
  (∀ k0_t18 : Fin (k0_t18_loop v62 v68).trips, ∀ a, (k0_off662 v9 k0_t11 v62 v68 k0_t18) a + S1x1x1x8x128.size a ≤ S4x2x64x64x128.size a) ∧
  (∀ k0_t18 : Fin (k0_t18_loop v62 v68).trips, ∀ a, (k0_off663 v9 k0_t11 v62 v68 k0_t18) a + S1x1x1x8x128.size a ≤ S4x2x64x64x128.size a) ∧
  (∀ k0_t18 : Fin (k0_t18_loop v62 v68).trips, ∀ a, (k0_off664 v9 k0_t11 v62 v68 k0_t18) a + S1x1x1x8x128.size a ≤ S4x2x64x64x128.size a) ∧
  (∀ k0_t18 : Fin (k0_t18_loop v62 v68).trips, ∀ a, (k0_off665 v9 k0_t11 v62 v68 k0_t18) a + S1x1x1x8x128.size a ≤ S4x2x64x64x128.size a) ∧
  (∀ k0_t18 : Fin (k0_t18_loop v62 v68).trips, ∀ a, (k0_off666 v9 k0_t11 v62 v68 k0_t18) a + S1x1x1x8x128.size a ≤ S4x2x64x64x128.size a) ∧
  (∀ k0_t18 : Fin (k0_t18_loop v62 v68).trips, ∀ a, (k0_off667 v9 k0_t11 v62 v68 k0_t18) a + S1x1x1x8x128.size a ≤ S4x2x64x64x128.size a) ∧
  (∀ k0_t18 : Fin (k0_t18_loop v62 v68).trips, ∀ a, (k0_off668 v9 k0_t11 v62 v68 k0_t18) a + S1x1x1x8x128.size a ≤ S4x2x64x64x128.size a) ∧
  (∀ k0_t18 : Fin (k0_t18_loop v62 v68).trips, ∀ a, (k0_off669 v9 k0_t11 v62 v68 k0_t18) a + S1x1x1x8x128.size a ≤ S4x2x64x64x128.size a) ∧
  (∀ k0_t18 : Fin (k0_t18_loop v62 v68).trips, ∀ a, (k0_off670 v9 k0_t11 v62 v68 k0_t18) a + S1x1x1x8x128.size a ≤ S4x2x64x64x128.size a) ∧
  (∀ k0_t18 : Fin (k0_t18_loop v62 v68).trips, ∀ a, (k0_off671 v9 k0_t11 v62 v68 k0_t18) a + S1x1x1x8x128.size a ≤ S4x2x64x64x128.size a) ∧
  (∀ k0_t18 : Fin (k0_t18_loop v62 v68).trips, ∀ a, (k0_off672 v9 k0_t11 v62 v68 k0_t18) a + S1x1x1x8x128.size a ≤ S4x2x64x64x128.size a) ∧
  (∀ k0_t18 : Fin (k0_t18_loop v62 v68).trips, ∀ a, (k0_off673 v9 k0_t11 v62 v68 k0_t18) a + S1x1x1x8x128.size a ≤ S4x2x64x64x128.size a) ∧
  (∀ k0_t18 : Fin (k0_t18_loop v62 v68).trips, ∀ a, (k0_off674 v9 k0_t11 v62 v68 k0_t18) a + S1x1x1x8x128.size a ≤ S4x2x64x64x128.size a) ∧
  (∀ k0_t18 : Fin (k0_t18_loop v62 v68).trips, ∀ a, (k0_off675 v9 k0_t11 v62 v68 k0_t18) a + S1x1x1x8x128.size a ≤ S4x2x64x64x128.size a) ∧
  (∀ k0_t18 : Fin (k0_t18_loop v62 v68).trips, ∀ a, (k0_off676 v9 k0_t11 v62 v68 k0_t18) a + S1x1x1x8x128.size a ≤ S4x2x64x64x128.size a) ∧
  (∀ k0_t18 : Fin (k0_t18_loop v62 v68).trips, ∀ a, (k0_off677 v9 k0_t11 v62 v68 k0_t18) a + S1x1x1x8x128.size a ≤ S4x2x64x64x128.size a) ∧
  (∀ k0_t18 : Fin (k0_t18_loop v62 v68).trips, ∀ a, (k0_off678 v9 k0_t11 v62 v68 k0_t18) a + S1x1x1x8x128.size a ≤ S4x2x64x64x128.size a) ∧
  (∀ k0_t18 : Fin (k0_t18_loop v62 v68).trips, ∀ a, (k0_off679 v9 k0_t11 v62 v68 k0_t18) a + S1x1x1x8x128.size a ≤ S4x2x64x64x128.size a) ∧
  (∀ k0_t18 : Fin (k0_t18_loop v62 v68).trips, ∀ a, (k0_off680 v9 k0_t11 v62 v68 k0_t18) a + S1x1x1x8x128.size a ≤ S4x2x64x64x128.size a)
def k0_chk22_14 (v9 : BitVec 32) (k0_t11 : Fin (k0_t11_loop v9).trips) (v62 : BitVec 32) (v68 : BitVec 32) : Prop :=
  (∀ k0_t18 : Fin (k0_t18_loop v62 v68).trips, ∀ a, (k0_off681 v9 k0_t11 v62 v68 k0_t18) a + S1x1x1x8x128.size a ≤ S4x2x64x64x128.size a) ∧
  (∀ k0_t18 : Fin (k0_t18_loop v62 v68).trips, ∀ a, (k0_off682 v9 k0_t11 v62 v68 k0_t18) a + S1x1x1x8x128.size a ≤ S4x2x64x64x128.size a) ∧
  (∀ k0_t18 : Fin (k0_t18_loop v62 v68).trips, ∀ a, (k0_off683 v9 k0_t11 v62 v68 k0_t18) a + S1x1x1x8x128.size a ≤ S4x2x64x64x128.size a) ∧
  (∀ k0_t18 : Fin (k0_t18_loop v62 v68).trips, ∀ a, (k0_off684 v9 k0_t11 v62 v68 k0_t18) a + S1x1x1x8x128.size a ≤ S4x2x64x64x128.size a) ∧
  (∀ k0_t18 : Fin (k0_t18_loop v62 v68).trips, ∀ a, (k0_off685 v9 k0_t11 v62 v68 k0_t18) a + S1x1x1x8x128.size a ≤ S4x2x64x64x128.size a) ∧
  (∀ k0_t18 : Fin (k0_t18_loop v62 v68).trips, ∀ a, (k0_off686 v9 k0_t11 v62 v68 k0_t18) a + S1x1x1x8x128.size a ≤ S4x2x64x64x128.size a) ∧
  (∀ k0_t18 : Fin (k0_t18_loop v62 v68).trips, ∀ a, (k0_off687 v9 k0_t11 v62 v68 k0_t18) a + S1x1x1x8x128.size a ≤ S4x2x64x64x128.size a) ∧
  (∀ k0_t18 : Fin (k0_t18_loop v62 v68).trips, ∀ a, (k0_off688 v9 k0_t11 v62 v68 k0_t18) a + S1x1x1x8x128.size a ≤ S4x2x64x64x128.size a) ∧
  (∀ k0_t18 : Fin (k0_t18_loop v62 v68).trips, ∀ a, (k0_off689 v9 k0_t11 v62 v68 k0_t18) a + S1x1x1x8x128.size a ≤ S4x2x64x64x128.size a) ∧
  (∀ k0_t18 : Fin (k0_t18_loop v62 v68).trips, ∀ a, (k0_off690 v9 k0_t11 v62 v68 k0_t18) a + S1x1x1x8x128.size a ≤ S4x2x64x64x128.size a) ∧
  (∀ k0_t18 : Fin (k0_t18_loop v62 v68).trips, ∀ a, (k0_off691 v9 k0_t11 v62 v68 k0_t18) a + S1x1x1x8x128.size a ≤ S4x2x64x64x128.size a) ∧
  (∀ k0_t18 : Fin (k0_t18_loop v62 v68).trips, ∀ a, (k0_off692 v9 k0_t11 v62 v68 k0_t18) a + S1x1x1x8x128.size a ≤ S4x2x64x64x128.size a) ∧
  (∀ k0_t18 : Fin (k0_t18_loop v62 v68).trips, ∀ a, (k0_off693 v9 k0_t11 v62 v68 k0_t18) a + S1x1x1x8x128.size a ≤ S4x2x64x64x128.size a) ∧
  (∀ k0_t18 : Fin (k0_t18_loop v62 v68).trips, ∀ a, (k0_off694 v9 k0_t11 v62 v68 k0_t18) a + S1x1x1x8x128.size a ≤ S4x2x64x64x128.size a) ∧
  (∀ k0_t18 : Fin (k0_t18_loop v62 v68).trips, ∀ a, (k0_off695 v9 k0_t11 v62 v68 k0_t18) a + S1x1x1x8x128.size a ≤ S4x2x64x64x128.size a) ∧
  (∀ k0_t18 : Fin (k0_t18_loop v62 v68).trips, ∀ a, (k0_off696 v9 k0_t11 v62 v68 k0_t18) a + S1x1x1x8x128.size a ≤ S4x2x64x64x128.size a) ∧
  (∀ k0_t18 : Fin (k0_t18_loop v62 v68).trips, ∀ a, (k0_off697 v9 k0_t11 v62 v68 k0_t18) a + S1x1x1x8x128.size a ≤ S4x2x64x64x128.size a) ∧
  (∀ k0_t18 : Fin (k0_t18_loop v62 v68).trips, ∀ a, (k0_off698 v9 k0_t11 v62 v68 k0_t18) a + S1x1x1x8x128.size a ≤ S4x2x64x64x128.size a) ∧
  (∀ k0_t18 : Fin (k0_t18_loop v62 v68).trips, ∀ a, (k0_off699 v9 k0_t11 v62 v68 k0_t18) a + S1x1x1x8x128.size a ≤ S4x2x64x64x128.size a) ∧
  (∀ k0_t18 : Fin (k0_t18_loop v62 v68).trips, ∀ a, (k0_off700 v9 k0_t11 v62 v68 k0_t18) a + S1x1x1x8x128.size a ≤ S4x2x64x64x128.size a) ∧
  (∀ k0_t18 : Fin (k0_t18_loop v62 v68).trips, ∀ a, (k0_off701 v9 k0_t11 v62 v68 k0_t18) a + S1x1x1x8x128.size a ≤ S4x2x64x64x128.size a) ∧
  (∀ k0_t18 : Fin (k0_t18_loop v62 v68).trips, ∀ a, (k0_off702 v9 k0_t11 v62 v68 k0_t18) a + S1x1x1x8x128.size a ≤ S4x2x64x64x128.size a) ∧
  (∀ k0_t18 : Fin (k0_t18_loop v62 v68).trips, ∀ a, (k0_off703 v9 k0_t11 v62 v68 k0_t18) a + S1x1x1x8x128.size a ≤ S4x2x64x64x128.size a) ∧
  (∀ k0_t18 : Fin (k0_t18_loop v62 v68).trips, ∀ a, (k0_off704 v9 k0_t11 v62 v68 k0_t18) a + S1x1x1x8x128.size a ≤ S4x2x64x64x128.size a) ∧
  (∀ k0_t18 : Fin (k0_t18_loop v62 v68).trips, ∀ a, (k0_off705 v9 k0_t11 v62 v68 k0_t18) a + S1x1x1x8x128.size a ≤ S4x2x64x64x128.size a) ∧
  (∀ k0_t18 : Fin (k0_t18_loop v62 v68).trips, ∀ a, (k0_off706 v9 k0_t11 v62 v68 k0_t18) a + S1x1x1x8x128.size a ≤ S4x2x64x64x128.size a) ∧
  (∀ k0_t18 : Fin (k0_t18_loop v62 v68).trips, ∀ a, (k0_off707 v9 k0_t11 v62 v68 k0_t18) a + S1x1x1x8x128.size a ≤ S4x2x64x64x128.size a) ∧
  (∀ k0_t18 : Fin (k0_t18_loop v62 v68).trips, ∀ a, (k0_off708 v9 k0_t11 v62 v68 k0_t18) a + S1x1x1x8x128.size a ≤ S4x2x64x64x128.size a) ∧
  (∀ k0_t18 : Fin (k0_t18_loop v62 v68).trips, ∀ a, (k0_off709 v9 k0_t11 v62 v68 k0_t18) a + S1x1x1x8x128.size a ≤ S4x2x64x64x128.size a) ∧
  (∀ k0_t18 : Fin (k0_t18_loop v62 v68).trips, ∀ a, (k0_off710 v9 k0_t11 v62 v68 k0_t18) a + S1x1x1x8x128.size a ≤ S4x2x64x64x128.size a) ∧
  (∀ k0_t18 : Fin (k0_t18_loop v62 v68).trips, ∀ a, (k0_off711 v9 k0_t11 v62 v68 k0_t18) a + S1x1x1x8x128.size a ≤ S4x2x64x64x128.size a) ∧
  (∀ k0_t18 : Fin (k0_t18_loop v62 v68).trips, ∀ a, (k0_off712 v9 k0_t11 v62 v68 k0_t18) a + S1x1x1x8x128.size a ≤ S4x2x64x64x128.size a)
def k0_chk22_15 (v9 : BitVec 32) (k0_t11 : Fin (k0_t11_loop v9).trips) (v62 : BitVec 32) (v68 : BitVec 32) : Prop :=
  (∀ k0_t18 : Fin (k0_t18_loop v62 v68).trips, ∀ a, (k0_off713 v9 k0_t11 v62 v68 k0_t18) a + S1x1x1x8x128.size a ≤ S4x2x64x64x128.size a) ∧
  (∀ k0_t18 : Fin (k0_t18_loop v62 v68).trips, ∀ a, (k0_off714 v9 k0_t11 v62 v68 k0_t18) a + S1x1x1x8x128.size a ≤ S4x2x64x64x128.size a) ∧
  (∀ k0_t18 : Fin (k0_t18_loop v62 v68).trips, ∀ a, (k0_off715 v9 k0_t11 v62 v68 k0_t18) a + S1x1x1x8x128.size a ≤ S4x2x64x64x128.size a) ∧
  (∀ k0_t18 : Fin (k0_t18_loop v62 v68).trips, ∀ a, (k0_off716 v9 k0_t11 v62 v68 k0_t18) a + S1x1x1x8x128.size a ≤ S4x2x64x64x128.size a) ∧
  (∀ k0_t18 : Fin (k0_t18_loop v62 v68).trips, ∀ a, (k0_off717 v9 k0_t11 v62 v68 k0_t18) a + S1x1x1x8x128.size a ≤ S4x2x64x64x128.size a) ∧
  (∀ k0_t18 : Fin (k0_t18_loop v62 v68).trips, ∀ a, (k0_off718 v9 k0_t11 v62 v68 k0_t18) a + S1x1x1x8x128.size a ≤ S4x2x64x64x128.size a) ∧
  (∀ k0_t18 : Fin (k0_t18_loop v62 v68).trips, ∀ a, (k0_off719 v9 k0_t11 v62 v68 k0_t18) a + S1x1x1x8x128.size a ≤ S4x2x64x64x128.size a) ∧
  (∀ k0_t18 : Fin (k0_t18_loop v62 v68).trips, ∀ a, (k0_off720 v9 k0_t11 v62 v68 k0_t18) a + S1x1x1x8x128.size a ≤ S4x2x64x64x128.size a) ∧
  (∀ k0_t18 : Fin (k0_t18_loop v62 v68).trips, ∀ a, (k0_off721 v9 k0_t11 v62 v68 k0_t18) a + S1x1x1x8x128.size a ≤ S4x2x64x64x128.size a) ∧
  (∀ k0_t18 : Fin (k0_t18_loop v62 v68).trips, ∀ a, (k0_off722 v9 k0_t11 v62 v68 k0_t18) a + S1x1x1x8x128.size a ≤ S4x2x64x64x128.size a) ∧
  (∀ k0_t18 : Fin (k0_t18_loop v62 v68).trips, ∀ a, (k0_off723 v9 k0_t11 v62 v68 k0_t18) a + S1x1x1x8x128.size a ≤ S4x2x64x64x128.size a) ∧
  (∀ k0_t18 : Fin (k0_t18_loop v62 v68).trips, ∀ a, (k0_off724 v9 k0_t11 v62 v68 k0_t18) a + S1x1x1x8x128.size a ≤ S4x2x64x64x128.size a) ∧
  (∀ k0_t18 : Fin (k0_t18_loop v62 v68).trips, ∀ a, (k0_off725 v9 k0_t11 v62 v68 k0_t18) a + S1x1x1x8x128.size a ≤ S4x2x64x64x128.size a) ∧
  (∀ k0_t18 : Fin (k0_t18_loop v62 v68).trips, ∀ a, (k0_off726 v9 k0_t11 v62 v68 k0_t18) a + S1x1x1x8x128.size a ≤ S4x2x64x64x128.size a) ∧
  (∀ k0_t18 : Fin (k0_t18_loop v62 v68).trips, ∀ a, (k0_off727 v9 k0_t11 v62 v68 k0_t18) a + S1x1x1x8x128.size a ≤ S4x2x64x64x128.size a) ∧
  (∀ k0_t18 : Fin (k0_t18_loop v62 v68).trips, ∀ a, (k0_off728 v9 k0_t11 v62 v68 k0_t18) a + S1x1x1x8x128.size a ≤ S4x2x64x64x128.size a) ∧
  (∀ k0_t18 : Fin (k0_t18_loop v62 v68).trips, ∀ a, (k0_off729 v9 k0_t11 v62 v68 k0_t18) a + S1x1x1x8x128.size a ≤ S4x2x64x64x128.size a) ∧
  (∀ k0_t18 : Fin (k0_t18_loop v62 v68).trips, ∀ a, (k0_off730 v9 k0_t11 v62 v68 k0_t18) a + S1x1x1x8x128.size a ≤ S4x2x64x64x128.size a) ∧
  (∀ k0_t18 : Fin (k0_t18_loop v62 v68).trips, ∀ a, (k0_off731 v9 k0_t11 v62 v68 k0_t18) a + S1x1x1x8x128.size a ≤ S4x2x64x64x128.size a) ∧
  (∀ k0_t18 : Fin (k0_t18_loop v62 v68).trips, ∀ a, (k0_off732 v9 k0_t11 v62 v68 k0_t18) a + S1x1x1x8x128.size a ≤ S4x2x64x64x128.size a) ∧
  (∀ k0_t18 : Fin (k0_t18_loop v62 v68).trips, ∀ a, (k0_off733 v9 k0_t11 v62 v68 k0_t18) a + S1x1x1x8x128.size a ≤ S4x2x64x64x128.size a) ∧
  (∀ k0_t18 : Fin (k0_t18_loop v62 v68).trips, ∀ a, (k0_off734 v9 k0_t11 v62 v68 k0_t18) a + S1x1x1x8x128.size a ≤ S4x2x64x64x128.size a) ∧
  (∀ k0_t18 : Fin (k0_t18_loop v62 v68).trips, ∀ a, (k0_off735 v9 k0_t11 v62 v68 k0_t18) a + S1x1x1x8x128.size a ≤ S4x2x64x64x128.size a) ∧
  (∀ k0_t18 : Fin (k0_t18_loop v62 v68).trips, ∀ a, (k0_off736 v9 k0_t11 v62 v68 k0_t18) a + S1x1x1x8x128.size a ≤ S4x2x64x64x128.size a) ∧
  (∀ k0_t18 : Fin (k0_t18_loop v62 v68).trips, ∀ a, (k0_off737 v9 k0_t11 v62 v68 k0_t18) a + S1x1x1x8x128.size a ≤ S4x2x64x64x128.size a) ∧
  (∀ k0_t18 : Fin (k0_t18_loop v62 v68).trips, ∀ a, (k0_off738 v9 k0_t11 v62 v68 k0_t18) a + S1x1x1x8x128.size a ≤ S4x2x64x64x128.size a) ∧
  (∀ k0_t18 : Fin (k0_t18_loop v62 v68).trips, ∀ a, (k0_off739 v9 k0_t11 v62 v68 k0_t18) a + S1x1x1x8x128.size a ≤ S4x2x64x64x128.size a) ∧
  (∀ k0_t18 : Fin (k0_t18_loop v62 v68).trips, ∀ a, (k0_off740 v9 k0_t11 v62 v68 k0_t18) a + S1x1x1x8x128.size a ≤ S4x2x64x64x128.size a) ∧
  (∀ k0_t18 : Fin (k0_t18_loop v62 v68).trips, ∀ a, (k0_off741 v9 k0_t11 v62 v68 k0_t18) a + S1x1x1x8x128.size a ≤ S4x2x64x64x128.size a) ∧
  (∀ k0_t18 : Fin (k0_t18_loop v62 v68).trips, ∀ a, (k0_off742 v9 k0_t11 v62 v68 k0_t18) a + S1x1x1x8x128.size a ≤ S4x2x64x64x128.size a) ∧
  (∀ k0_t18 : Fin (k0_t18_loop v62 v68).trips, ∀ a, (k0_off743 v9 k0_t11 v62 v68 k0_t18) a + S1x1x1x8x128.size a ≤ S4x2x64x64x128.size a) ∧
  (∀ k0_t18 : Fin (k0_t18_loop v62 v68).trips, ∀ a, (k0_off744 v9 k0_t11 v62 v68 k0_t18) a + S1x1x1x8x128.size a ≤ S4x2x64x64x128.size a)
def k0_chk22_16 (v9 : BitVec 32) (k0_t11 : Fin (k0_t11_loop v9).trips) (v62 : BitVec 32) (v68 : BitVec 32) : Prop :=
  (∀ k0_t18 : Fin (k0_t18_loop v62 v68).trips, ∀ a, (k0_off745 v9 k0_t11 v62 v68 k0_t18) a + S1x1x1x8x128.size a ≤ S4x2x64x64x128.size a) ∧
  (∀ k0_t18 : Fin (k0_t18_loop v62 v68).trips, ∀ a, (k0_off746 v9 k0_t11 v62 v68 k0_t18) a + S1x1x1x8x128.size a ≤ S4x2x64x64x128.size a) ∧
  (∀ k0_t18 : Fin (k0_t18_loop v62 v68).trips, ∀ a, (k0_off747 v9 k0_t11 v62 v68 k0_t18) a + S1x1x1x8x128.size a ≤ S4x2x64x64x128.size a) ∧
  (∀ k0_t18 : Fin (k0_t18_loop v62 v68).trips, ∀ a, (k0_off748 v9 k0_t11 v62 v68 k0_t18) a + S1x1x1x8x128.size a ≤ S4x2x64x64x128.size a) ∧
  (∀ k0_t18 : Fin (k0_t18_loop v62 v68).trips, ∀ a, (k0_off749 v9 k0_t11 v62 v68 k0_t18) a + S1x1x1x8x128.size a ≤ S4x2x64x64x128.size a) ∧
  (∀ k0_t18 : Fin (k0_t18_loop v62 v68).trips, ∀ a, (k0_off750 v9 k0_t11 v62 v68 k0_t18) a + S1x1x1x8x128.size a ≤ S4x2x64x64x128.size a) ∧
  (∀ k0_t18 : Fin (k0_t18_loop v62 v68).trips, ∀ a, (k0_off751 v9 k0_t11 v62 v68 k0_t18) a + S1x1x1x8x128.size a ≤ S4x2x64x64x128.size a) ∧
  (∀ k0_t18 : Fin (k0_t18_loop v62 v68).trips, ∀ a, (k0_off752 v9 k0_t11 v62 v68 k0_t18) a + S1x1x1x8x128.size a ≤ S4x2x64x64x128.size a) ∧
  (∀ k0_t18 : Fin (k0_t18_loop v62 v68).trips, ∀ a, (k0_off753 v9 k0_t11 v62 v68 k0_t18) a + S1x1x1x8x128.size a ≤ S4x2x64x64x128.size a) ∧
  (∀ k0_t18 : Fin (k0_t18_loop v62 v68).trips, ∀ a, (k0_off754 v9 k0_t11 v62 v68 k0_t18) a + S1x1x1x8x128.size a ≤ S4x2x64x64x128.size a) ∧
  (∀ k0_t18 : Fin (k0_t18_loop v62 v68).trips, ∀ a, (k0_off755 v9 k0_t11 v62 v68 k0_t18) a + S1x1x1x8x128.size a ≤ S4x2x64x64x128.size a) ∧
  (∀ k0_t18 : Fin (k0_t18_loop v62 v68).trips, ∀ a, (k0_off756 v9 k0_t11 v62 v68 k0_t18) a + S1x1x1x8x128.size a ≤ S4x2x64x64x128.size a) ∧
  (∀ k0_t18 : Fin (k0_t18_loop v62 v68).trips, ∀ a, (k0_off757 v9 k0_t11 v62 v68 k0_t18) a + S1x1x1x8x128.size a ≤ S4x2x64x64x128.size a) ∧
  (∀ k0_t18 : Fin (k0_t18_loop v62 v68).trips, ∀ a, (k0_off758 v9 k0_t11 v62 v68 k0_t18) a + S1x1x1x8x128.size a ≤ S4x2x64x64x128.size a) ∧
  (∀ k0_t18 : Fin (k0_t18_loop v62 v68).trips, ∀ a, (k0_off759 v9 k0_t11 v62 v68 k0_t18) a + S1x1x1x8x128.size a ≤ S4x2x64x64x128.size a) ∧
  (∀ k0_t18 : Fin (k0_t18_loop v62 v68).trips, ∀ a, (k0_off760 v9 k0_t11 v62 v68 k0_t18) a + S1x1x1x8x128.size a ≤ S4x2x64x64x128.size a) ∧
  (∀ k0_t18 : Fin (k0_t18_loop v62 v68).trips, ∀ a, (k0_off761 v9 k0_t11 v62 v68 k0_t18) a + S1x1x1x8x128.size a ≤ S4x2x64x64x128.size a) ∧
  (∀ k0_t18 : Fin (k0_t18_loop v62 v68).trips, ∀ a, (k0_off762 v9 k0_t11 v62 v68 k0_t18) a + S1x1x1x8x128.size a ≤ S4x2x64x64x128.size a) ∧
  (∀ k0_t18 : Fin (k0_t18_loop v62 v68).trips, ∀ a, (k0_off763 v9 k0_t11 v62 v68 k0_t18) a + S1x1x1x8x128.size a ≤ S4x2x64x64x128.size a) ∧
  (∀ k0_t18 : Fin (k0_t18_loop v62 v68).trips, ∀ a, (k0_off764 v9 k0_t11 v62 v68 k0_t18) a + S1x1x1x8x128.size a ≤ S4x2x64x64x128.size a) ∧
  (∀ k0_t18 : Fin (k0_t18_loop v62 v68).trips, ∀ a, (k0_off765 v9 k0_t11 v62 v68 k0_t18) a + S1x1x1x8x128.size a ≤ S4x2x64x64x128.size a) ∧
  (∀ k0_t18 : Fin (k0_t18_loop v62 v68).trips, ∀ a, (k0_off766 v9 k0_t11 v62 v68 k0_t18) a + S1x1x1x8x128.size a ≤ S4x2x64x64x128.size a) ∧
  ((k0_t19_loop v62 v68).OK) ∧
  (∀ k0_t19 : Fin (k0_t19_loop v62 v68).trips, 8 ∣ (k0_mult30 v62 v68 k0_t19).toNat) ∧
  (∀ k0_t19 : Fin (k0_t19_loop v62 v68).trips, ∀ a, (k0_off767 v9 k0_t11 v62 v68 k0_t19) a + S1x1x1x8x128.size a ≤ S4x2x64x64x128.size a) ∧
  (∀ k0_t19 : Fin (k0_t19_loop v62 v68).trips, ∀ a, (k0_off768 v9 k0_t11 v62 v68 k0_t19) a + S1x1x1x8x128.size a ≤ S4x2x64x64x128.size a) ∧
  (∀ k0_t19 : Fin (k0_t19_loop v62 v68).trips, ∀ a, (k0_off769 v9 k0_t11 v62 v68 k0_t19) a + S1x1x1x8x128.size a ≤ S4x2x64x64x128.size a) ∧
  (∀ k0_t19 : Fin (k0_t19_loop v62 v68).trips, ∀ a, (k0_off770 v9 k0_t11 v62 v68 k0_t19) a + S1x1x1x8x128.size a ≤ S4x2x64x64x128.size a) ∧
  (∀ k0_t19 : Fin (k0_t19_loop v62 v68).trips, ∀ a, (k0_off771 v9 k0_t11 v62 v68 k0_t19) a + S1x1x1x8x128.size a ≤ S4x2x64x64x128.size a) ∧
  (∀ k0_t19 : Fin (k0_t19_loop v62 v68).trips, ∀ a, (k0_off772 v9 k0_t11 v62 v68 k0_t19) a + S1x1x1x8x128.size a ≤ S4x2x64x64x128.size a) ∧
  (∀ k0_t19 : Fin (k0_t19_loop v62 v68).trips, ∀ a, (k0_off773 v9 k0_t11 v62 v68 k0_t19) a + S1x1x1x8x128.size a ≤ S4x2x64x64x128.size a) ∧
  (∀ k0_t19 : Fin (k0_t19_loop v62 v68).trips, ∀ a, (k0_off774 v9 k0_t11 v62 v68 k0_t19) a + S1x1x1x8x128.size a ≤ S4x2x64x64x128.size a)
def k0_chk22_17 (v9 : BitVec 32) (k0_t11 : Fin (k0_t11_loop v9).trips) (v62 : BitVec 32) (v68 : BitVec 32) : Prop :=
  (∀ k0_t19 : Fin (k0_t19_loop v62 v68).trips, ∀ a, (k0_off775 v9 k0_t11 v62 v68 k0_t19) a + S1x1x1x8x128.size a ≤ S4x2x64x64x128.size a) ∧
  (∀ k0_t19 : Fin (k0_t19_loop v62 v68).trips, ∀ a, (k0_off776 v9 k0_t11 v62 v68 k0_t19) a + S1x1x1x8x128.size a ≤ S4x2x64x64x128.size a) ∧
  (∀ k0_t19 : Fin (k0_t19_loop v62 v68).trips, ∀ a, (k0_off777 v9 k0_t11 v62 v68 k0_t19) a + S1x1x1x8x128.size a ≤ S4x2x64x64x128.size a) ∧
  (∀ k0_t19 : Fin (k0_t19_loop v62 v68).trips, ∀ a, (k0_off778 v9 k0_t11 v62 v68 k0_t19) a + S1x1x1x8x128.size a ≤ S4x2x64x64x128.size a) ∧
  (∀ k0_t19 : Fin (k0_t19_loop v62 v68).trips, ∀ a, (k0_off779 v9 k0_t11 v62 v68 k0_t19) a + S1x1x1x8x128.size a ≤ S4x2x64x64x128.size a) ∧
  (∀ k0_t19 : Fin (k0_t19_loop v62 v68).trips, ∀ a, (k0_off780 v9 k0_t11 v62 v68 k0_t19) a + S1x1x1x8x128.size a ≤ S4x2x64x64x128.size a) ∧
  (∀ k0_t19 : Fin (k0_t19_loop v62 v68).trips, ∀ a, (k0_off781 v9 k0_t11 v62 v68 k0_t19) a + S1x1x1x8x128.size a ≤ S4x2x64x64x128.size a) ∧
  (∀ k0_t19 : Fin (k0_t19_loop v62 v68).trips, ∀ a, (k0_off782 v9 k0_t11 v62 v68 k0_t19) a + S1x1x1x8x128.size a ≤ S4x2x64x64x128.size a) ∧
  (∀ k0_t19 : Fin (k0_t19_loop v62 v68).trips, ∀ a, (k0_off783 v9 k0_t11 v62 v68 k0_t19) a + S1x1x1x8x128.size a ≤ S4x2x64x64x128.size a) ∧
  (∀ k0_t19 : Fin (k0_t19_loop v62 v68).trips, ∀ a, (k0_off784 v9 k0_t11 v62 v68 k0_t19) a + S1x1x1x8x128.size a ≤ S4x2x64x64x128.size a) ∧
  (∀ k0_t19 : Fin (k0_t19_loop v62 v68).trips, ∀ a, (k0_off785 v9 k0_t11 v62 v68 k0_t19) a + S1x1x1x8x128.size a ≤ S4x2x64x64x128.size a) ∧
  (∀ k0_t19 : Fin (k0_t19_loop v62 v68).trips, ∀ a, (k0_off786 v9 k0_t11 v62 v68 k0_t19) a + S1x1x1x8x128.size a ≤ S4x2x64x64x128.size a) ∧
  (∀ k0_t19 : Fin (k0_t19_loop v62 v68).trips, ∀ a, (k0_off787 v9 k0_t11 v62 v68 k0_t19) a + S1x1x1x8x128.size a ≤ S4x2x64x64x128.size a) ∧
  (∀ k0_t19 : Fin (k0_t19_loop v62 v68).trips, ∀ a, (k0_off788 v9 k0_t11 v62 v68 k0_t19) a + S1x1x1x8x128.size a ≤ S4x2x64x64x128.size a) ∧
  (∀ k0_t19 : Fin (k0_t19_loop v62 v68).trips, ∀ a, (k0_off789 v9 k0_t11 v62 v68 k0_t19) a + S1x1x1x8x128.size a ≤ S4x2x64x64x128.size a) ∧
  (∀ k0_t19 : Fin (k0_t19_loop v62 v68).trips, ∀ a, (k0_off790 v9 k0_t11 v62 v68 k0_t19) a + S1x1x1x8x128.size a ≤ S4x2x64x64x128.size a) ∧
  (∀ k0_t19 : Fin (k0_t19_loop v62 v68).trips, ∀ a, (k0_off791 v9 k0_t11 v62 v68 k0_t19) a + S1x1x1x8x128.size a ≤ S4x2x64x64x128.size a) ∧
  (∀ k0_t19 : Fin (k0_t19_loop v62 v68).trips, ∀ a, (k0_off792 v9 k0_t11 v62 v68 k0_t19) a + S1x1x1x8x128.size a ≤ S4x2x64x64x128.size a) ∧
  (∀ k0_t19 : Fin (k0_t19_loop v62 v68).trips, ∀ a, (k0_off793 v9 k0_t11 v62 v68 k0_t19) a + S1x1x1x8x128.size a ≤ S4x2x64x64x128.size a) ∧
  (∀ k0_t19 : Fin (k0_t19_loop v62 v68).trips, ∀ a, (k0_off794 v9 k0_t11 v62 v68 k0_t19) a + S1x1x1x8x128.size a ≤ S4x2x64x64x128.size a) ∧
  (∀ k0_t19 : Fin (k0_t19_loop v62 v68).trips, ∀ a, (k0_off795 v9 k0_t11 v62 v68 k0_t19) a + S1x1x1x8x128.size a ≤ S4x2x64x64x128.size a) ∧
  (∀ k0_t19 : Fin (k0_t19_loop v62 v68).trips, ∀ a, (k0_off796 v9 k0_t11 v62 v68 k0_t19) a + S1x1x1x8x128.size a ≤ S4x2x64x64x128.size a) ∧
  (∀ k0_t19 : Fin (k0_t19_loop v62 v68).trips, ∀ a, (k0_off797 v9 k0_t11 v62 v68 k0_t19) a + S1x1x1x8x128.size a ≤ S4x2x64x64x128.size a) ∧
  (∀ k0_t19 : Fin (k0_t19_loop v62 v68).trips, ∀ a, (k0_off798 v9 k0_t11 v62 v68 k0_t19) a + S1x1x1x8x128.size a ≤ S4x2x64x64x128.size a) ∧
  (∀ k0_t19 : Fin (k0_t19_loop v62 v68).trips, ∀ a, (k0_off799 v9 k0_t11 v62 v68 k0_t19) a + S1x1x1x8x128.size a ≤ S4x2x64x64x128.size a) ∧
  (∀ k0_t19 : Fin (k0_t19_loop v62 v68).trips, ∀ a, (k0_off800 v9 k0_t11 v62 v68 k0_t19) a + S1x1x1x8x128.size a ≤ S4x2x64x64x128.size a) ∧
  (∀ k0_t19 : Fin (k0_t19_loop v62 v68).trips, ∀ a, (k0_off801 v9 k0_t11 v62 v68 k0_t19) a + S1x1x1x8x128.size a ≤ S4x2x64x64x128.size a) ∧
  (∀ k0_t19 : Fin (k0_t19_loop v62 v68).trips, ∀ a, (k0_off802 v9 k0_t11 v62 v68 k0_t19) a + S1x1x1x8x128.size a ≤ S4x2x64x64x128.size a) ∧
  (∀ k0_t19 : Fin (k0_t19_loop v62 v68).trips, ∀ a, (k0_off803 v9 k0_t11 v62 v68 k0_t19) a + S1x1x1x8x128.size a ≤ S4x2x64x64x128.size a) ∧
  (∀ k0_t19 : Fin (k0_t19_loop v62 v68).trips, ∀ a, (k0_off804 v9 k0_t11 v62 v68 k0_t19) a + S1x1x1x8x128.size a ≤ S4x2x64x64x128.size a) ∧
  (∀ k0_t19 : Fin (k0_t19_loop v62 v68).trips, ∀ a, (k0_off805 v9 k0_t11 v62 v68 k0_t19) a + S1x1x1x8x128.size a ≤ S4x2x64x64x128.size a) ∧
  (∀ k0_t19 : Fin (k0_t19_loop v62 v68).trips, ∀ a, (k0_off806 v9 k0_t11 v62 v68 k0_t19) a + S1x1x1x8x128.size a ≤ S4x2x64x64x128.size a)
def k0_chk22_18 (v9 : BitVec 32) (k0_t11 : Fin (k0_t11_loop v9).trips) (v62 : BitVec 32) (v68 : BitVec 32) : Prop :=
  (∀ k0_t19 : Fin (k0_t19_loop v62 v68).trips, ∀ a, (k0_off807 v9 k0_t11 v62 v68 k0_t19) a + S1x1x1x8x128.size a ≤ S4x2x64x64x128.size a) ∧
  (∀ k0_t19 : Fin (k0_t19_loop v62 v68).trips, ∀ a, (k0_off808 v9 k0_t11 v62 v68 k0_t19) a + S1x1x1x8x128.size a ≤ S4x2x64x64x128.size a) ∧
  (∀ k0_t19 : Fin (k0_t19_loop v62 v68).trips, ∀ a, (k0_off809 v9 k0_t11 v62 v68 k0_t19) a + S1x1x1x8x128.size a ≤ S4x2x64x64x128.size a) ∧
  (∀ k0_t19 : Fin (k0_t19_loop v62 v68).trips, ∀ a, (k0_off810 v9 k0_t11 v62 v68 k0_t19) a + S1x1x1x8x128.size a ≤ S4x2x64x64x128.size a) ∧
  (∀ k0_t19 : Fin (k0_t19_loop v62 v68).trips, ∀ a, (k0_off811 v9 k0_t11 v62 v68 k0_t19) a + S1x1x1x8x128.size a ≤ S4x2x64x64x128.size a) ∧
  (∀ k0_t19 : Fin (k0_t19_loop v62 v68).trips, ∀ a, (k0_off812 v9 k0_t11 v62 v68 k0_t19) a + S1x1x1x8x128.size a ≤ S4x2x64x64x128.size a) ∧
  (∀ k0_t19 : Fin (k0_t19_loop v62 v68).trips, ∀ a, (k0_off813 v9 k0_t11 v62 v68 k0_t19) a + S1x1x1x8x128.size a ≤ S4x2x64x64x128.size a) ∧
  (∀ k0_t19 : Fin (k0_t19_loop v62 v68).trips, ∀ a, (k0_off814 v9 k0_t11 v62 v68 k0_t19) a + S1x1x1x8x128.size a ≤ S4x2x64x64x128.size a) ∧
  (∀ k0_t19 : Fin (k0_t19_loop v62 v68).trips, ∀ a, (k0_off815 v9 k0_t11 v62 v68 k0_t19) a + S1x1x1x8x128.size a ≤ S4x2x64x64x128.size a) ∧
  (∀ k0_t19 : Fin (k0_t19_loop v62 v68).trips, ∀ a, (k0_off816 v9 k0_t11 v62 v68 k0_t19) a + S1x1x1x8x128.size a ≤ S4x2x64x64x128.size a) ∧
  (∀ k0_t19 : Fin (k0_t19_loop v62 v68).trips, ∀ a, (k0_off817 v9 k0_t11 v62 v68 k0_t19) a + S1x1x1x8x128.size a ≤ S4x2x64x64x128.size a) ∧
  (∀ k0_t19 : Fin (k0_t19_loop v62 v68).trips, ∀ a, (k0_off818 v9 k0_t11 v62 v68 k0_t19) a + S1x1x1x8x128.size a ≤ S4x2x64x64x128.size a) ∧
  (∀ k0_t19 : Fin (k0_t19_loop v62 v68).trips, ∀ a, (k0_off819 v9 k0_t11 v62 v68 k0_t19) a + S1x1x1x8x128.size a ≤ S4x2x64x64x128.size a) ∧
  (∀ k0_t19 : Fin (k0_t19_loop v62 v68).trips, ∀ a, (k0_off820 v9 k0_t11 v62 v68 k0_t19) a + S1x1x1x8x128.size a ≤ S4x2x64x64x128.size a) ∧
  (∀ k0_t19 : Fin (k0_t19_loop v62 v68).trips, ∀ a, (k0_off821 v9 k0_t11 v62 v68 k0_t19) a + S1x1x1x8x128.size a ≤ S4x2x64x64x128.size a) ∧
  (∀ k0_t19 : Fin (k0_t19_loop v62 v68).trips, ∀ a, (k0_off822 v9 k0_t11 v62 v68 k0_t19) a + S1x1x1x8x128.size a ≤ S4x2x64x64x128.size a) ∧
  (∀ k0_t19 : Fin (k0_t19_loop v62 v68).trips, ∀ a, (k0_off823 v9 k0_t11 v62 v68 k0_t19) a + S1x1x1x8x128.size a ≤ S4x2x64x64x128.size a) ∧
  (∀ k0_t19 : Fin (k0_t19_loop v62 v68).trips, ∀ a, (k0_off824 v9 k0_t11 v62 v68 k0_t19) a + S1x1x1x8x128.size a ≤ S4x2x64x64x128.size a) ∧
  (∀ k0_t19 : Fin (k0_t19_loop v62 v68).trips, ∀ a, (k0_off825 v9 k0_t11 v62 v68 k0_t19) a + S1x1x1x8x128.size a ≤ S4x2x64x64x128.size a) ∧
  (∀ k0_t19 : Fin (k0_t19_loop v62 v68).trips, ∀ a, (k0_off826 v9 k0_t11 v62 v68 k0_t19) a + S1x1x1x8x128.size a ≤ S4x2x64x64x128.size a) ∧
  (∀ k0_t19 : Fin (k0_t19_loop v62 v68).trips, ∀ a, (k0_off827 v9 k0_t11 v62 v68 k0_t19) a + S1x1x1x8x128.size a ≤ S4x2x64x64x128.size a) ∧
  (∀ k0_t19 : Fin (k0_t19_loop v62 v68).trips, ∀ a, (k0_off828 v9 k0_t11 v62 v68 k0_t19) a + S1x1x1x8x128.size a ≤ S4x2x64x64x128.size a) ∧
  (∀ k0_t19 : Fin (k0_t19_loop v62 v68).trips, ∀ a, (k0_off829 v9 k0_t11 v62 v68 k0_t19) a + S1x1x1x8x128.size a ≤ S4x2x64x64x128.size a) ∧
  (∀ k0_t19 : Fin (k0_t19_loop v62 v68).trips, ∀ a, (k0_off830 v9 k0_t11 v62 v68 k0_t19) a + S1x1x1x8x128.size a ≤ S4x2x64x64x128.size a) ∧
  (∀ k0_t19 : Fin (k0_t19_loop v62 v68).trips, ∀ a, (k0_off831 v9 k0_t11 v62 v68 k0_t19) a + S1x1x1x8x128.size a ≤ S4x2x64x64x128.size a) ∧
  (∀ k0_t19 : Fin (k0_t19_loop v62 v68).trips, ∀ a, (k0_off832 v9 k0_t11 v62 v68 k0_t19) a + S1x1x1x8x128.size a ≤ S4x2x64x64x128.size a) ∧
  (∀ k0_t19 : Fin (k0_t19_loop v62 v68).trips, ∀ a, (k0_off833 v9 k0_t11 v62 v68 k0_t19) a + S1x1x1x8x128.size a ≤ S4x2x64x64x128.size a) ∧
  (∀ k0_t19 : Fin (k0_t19_loop v62 v68).trips, ∀ a, (k0_off834 v9 k0_t11 v62 v68 k0_t19) a + S1x1x1x8x128.size a ≤ S4x2x64x64x128.size a) ∧
  (∀ k0_t19 : Fin (k0_t19_loop v62 v68).trips, ∀ a, (k0_off835 v9 k0_t11 v62 v68 k0_t19) a + S1x1x1x8x128.size a ≤ S4x2x64x64x128.size a) ∧
  (∀ k0_t19 : Fin (k0_t19_loop v62 v68).trips, ∀ a, (k0_off836 v9 k0_t11 v62 v68 k0_t19) a + S1x1x1x8x128.size a ≤ S4x2x64x64x128.size a) ∧
  (∀ k0_t19 : Fin (k0_t19_loop v62 v68).trips, ∀ a, (k0_off837 v9 k0_t11 v62 v68 k0_t19) a + S1x1x1x8x128.size a ≤ S4x2x64x64x128.size a) ∧
  (∀ k0_t19 : Fin (k0_t19_loop v62 v68).trips, ∀ a, (k0_off838 v9 k0_t11 v62 v68 k0_t19) a + S1x1x1x8x128.size a ≤ S4x2x64x64x128.size a)
def k0_chk22_19 (v9 : BitVec 32) (k0_t11 : Fin (k0_t11_loop v9).trips) (v62 : BitVec 32) (v68 : BitVec 32) : Prop :=
  (∀ k0_t19 : Fin (k0_t19_loop v62 v68).trips, ∀ a, (k0_off839 v9 k0_t11 v62 v68 k0_t19) a + S1x1x1x8x128.size a ≤ S4x2x64x64x128.size a) ∧
  (∀ k0_t19 : Fin (k0_t19_loop v62 v68).trips, ∀ a, (k0_off840 v9 k0_t11 v62 v68 k0_t19) a + S1x1x1x8x128.size a ≤ S4x2x64x64x128.size a) ∧
  (∀ k0_t19 : Fin (k0_t19_loop v62 v68).trips, ∀ a, (k0_off841 v9 k0_t11 v62 v68 k0_t19) a + S1x1x1x8x128.size a ≤ S4x2x64x64x128.size a) ∧
  (∀ k0_t19 : Fin (k0_t19_loop v62 v68).trips, ∀ a, (k0_off842 v9 k0_t11 v62 v68 k0_t19) a + S1x1x1x8x128.size a ≤ S4x2x64x64x128.size a) ∧
  (∀ k0_t19 : Fin (k0_t19_loop v62 v68).trips, ∀ a, (k0_off843 v9 k0_t11 v62 v68 k0_t19) a + S1x1x1x8x128.size a ≤ S4x2x64x64x128.size a) ∧
  (∀ k0_t19 : Fin (k0_t19_loop v62 v68).trips, ∀ a, (k0_off844 v9 k0_t11 v62 v68 k0_t19) a + S1x1x1x8x128.size a ≤ S4x2x64x64x128.size a) ∧
  (∀ k0_t19 : Fin (k0_t19_loop v62 v68).trips, ∀ a, (k0_off845 v9 k0_t11 v62 v68 k0_t19) a + S1x1x1x8x128.size a ≤ S4x2x64x64x128.size a) ∧
  (∀ k0_t19 : Fin (k0_t19_loop v62 v68).trips, ∀ a, (k0_off846 v9 k0_t11 v62 v68 k0_t19) a + S1x1x1x8x128.size a ≤ S4x2x64x64x128.size a) ∧
  (∀ k0_t19 : Fin (k0_t19_loop v62 v68).trips, ∀ a, (k0_off847 v9 k0_t11 v62 v68 k0_t19) a + S1x1x1x8x128.size a ≤ S4x2x64x64x128.size a) ∧
  (∀ k0_t19 : Fin (k0_t19_loop v62 v68).trips, ∀ a, (k0_off848 v9 k0_t11 v62 v68 k0_t19) a + S1x1x1x8x128.size a ≤ S4x2x64x64x128.size a) ∧
  (∀ k0_t19 : Fin (k0_t19_loop v62 v68).trips, ∀ a, (k0_off849 v9 k0_t11 v62 v68 k0_t19) a + S1x1x1x8x128.size a ≤ S4x2x64x64x128.size a) ∧
  (∀ k0_t19 : Fin (k0_t19_loop v62 v68).trips, ∀ a, (k0_off850 v9 k0_t11 v62 v68 k0_t19) a + S1x1x1x8x128.size a ≤ S4x2x64x64x128.size a) ∧
  (∀ k0_t19 : Fin (k0_t19_loop v62 v68).trips, ∀ a, (k0_off851 v9 k0_t11 v62 v68 k0_t19) a + S1x1x1x8x128.size a ≤ S4x2x64x64x128.size a) ∧
  (∀ k0_t19 : Fin (k0_t19_loop v62 v68).trips, ∀ a, (k0_off852 v9 k0_t11 v62 v68 k0_t19) a + S1x1x1x8x128.size a ≤ S4x2x64x64x128.size a) ∧
  (∀ k0_t19 : Fin (k0_t19_loop v62 v68).trips, ∀ a, (k0_off853 v9 k0_t11 v62 v68 k0_t19) a + S1x1x1x8x128.size a ≤ S4x2x64x64x128.size a) ∧
  (∀ k0_t19 : Fin (k0_t19_loop v62 v68).trips, ∀ a, (k0_off854 v9 k0_t11 v62 v68 k0_t19) a + S1x1x1x8x128.size a ≤ S4x2x64x64x128.size a) ∧
  (∀ k0_t19 : Fin (k0_t19_loop v62 v68).trips, ∀ a, (k0_off855 v9 k0_t11 v62 v68 k0_t19) a + S1x1x1x8x128.size a ≤ S4x2x64x64x128.size a) ∧
  (∀ k0_t19 : Fin (k0_t19_loop v62 v68).trips, ∀ a, (k0_off856 v9 k0_t11 v62 v68 k0_t19) a + S1x1x1x8x128.size a ≤ S4x2x64x64x128.size a) ∧
  (∀ k0_t19 : Fin (k0_t19_loop v62 v68).trips, ∀ a, (k0_off857 v9 k0_t11 v62 v68 k0_t19) a + S1x1x1x8x128.size a ≤ S4x2x64x64x128.size a) ∧
  (∀ k0_t19 : Fin (k0_t19_loop v62 v68).trips, ∀ a, (k0_off858 v9 k0_t11 v62 v68 k0_t19) a + S1x1x1x8x128.size a ≤ S4x2x64x64x128.size a) ∧
  (∀ k0_t19 : Fin (k0_t19_loop v62 v68).trips, ∀ a, (k0_off859 v9 k0_t11 v62 v68 k0_t19) a + S1x1x1x8x128.size a ≤ S4x2x64x64x128.size a) ∧
  (∀ k0_t19 : Fin (k0_t19_loop v62 v68).trips, ∀ a, (k0_off860 v9 k0_t11 v62 v68 k0_t19) a + S1x1x1x8x128.size a ≤ S4x2x64x64x128.size a) ∧
  (∀ k0_t19 : Fin (k0_t19_loop v62 v68).trips, ∀ a, (k0_off861 v9 k0_t11 v62 v68 k0_t19) a + S1x1x1x8x128.size a ≤ S4x2x64x64x128.size a) ∧
  (∀ k0_t19 : Fin (k0_t19_loop v62 v68).trips, ∀ a, (k0_off862 v9 k0_t11 v62 v68 k0_t19) a + S1x1x1x8x128.size a ≤ S4x2x64x64x128.size a) ∧
  (∀ k0_t19 : Fin (k0_t19_loop v62 v68).trips, ∀ a, (k0_off863 v9 k0_t11 v62 v68 k0_t19) a + S1x1x1x8x128.size a ≤ S4x2x64x64x128.size a) ∧
  (∀ k0_t19 : Fin (k0_t19_loop v62 v68).trips, ∀ a, (k0_off864 v9 k0_t11 v62 v68 k0_t19) a + S1x1x1x8x128.size a ≤ S4x2x64x64x128.size a) ∧
  (∀ k0_t19 : Fin (k0_t19_loop v62 v68).trips, ∀ a, (k0_off865 v9 k0_t11 v62 v68 k0_t19) a + S1x1x1x8x128.size a ≤ S4x2x64x64x128.size a) ∧
  (∀ k0_t19 : Fin (k0_t19_loop v62 v68).trips, ∀ a, (k0_off866 v9 k0_t11 v62 v68 k0_t19) a + S1x1x1x8x128.size a ≤ S4x2x64x64x128.size a) ∧
  (∀ k0_t19 : Fin (k0_t19_loop v62 v68).trips, ∀ a, (k0_off867 v9 k0_t11 v62 v68 k0_t19) a + S1x1x1x8x128.size a ≤ S4x2x64x64x128.size a) ∧
  (∀ k0_t19 : Fin (k0_t19_loop v62 v68).trips, ∀ a, (k0_off868 v9 k0_t11 v62 v68 k0_t19) a + S1x1x1x8x128.size a ≤ S4x2x64x64x128.size a) ∧
  (∀ k0_t19 : Fin (k0_t19_loop v62 v68).trips, ∀ a, (k0_off869 v9 k0_t11 v62 v68 k0_t19) a + S1x1x1x8x128.size a ≤ S4x2x64x64x128.size a) ∧
  (∀ k0_t19 : Fin (k0_t19_loop v62 v68).trips, ∀ a, (k0_off870 v9 k0_t11 v62 v68 k0_t19) a + S1x1x1x8x128.size a ≤ S4x2x64x64x128.size a)
def k0_chk22_20 (v9 : BitVec 32) (k0_t11 : Fin (k0_t11_loop v9).trips) (v62 : BitVec 32) (v68 : BitVec 32) : Prop :=
  (∀ k0_t19 : Fin (k0_t19_loop v62 v68).trips, ∀ a, (k0_off871 v9 k0_t11 v62 v68 k0_t19) a + S1x1x1x8x128.size a ≤ S4x2x64x64x128.size a) ∧
  (∀ k0_t19 : Fin (k0_t19_loop v62 v68).trips, ∀ a, (k0_off872 v9 k0_t11 v62 v68 k0_t19) a + S1x1x1x8x128.size a ≤ S4x2x64x64x128.size a) ∧
  (∀ k0_t19 : Fin (k0_t19_loop v62 v68).trips, ∀ a, (k0_off873 v9 k0_t11 v62 v68 k0_t19) a + S1x1x1x8x128.size a ≤ S4x2x64x64x128.size a) ∧
  (∀ k0_t19 : Fin (k0_t19_loop v62 v68).trips, ∀ a, (k0_off874 v9 k0_t11 v62 v68 k0_t19) a + S1x1x1x8x128.size a ≤ S4x2x64x64x128.size a) ∧
  (∀ k0_t19 : Fin (k0_t19_loop v62 v68).trips, ∀ a, (k0_off875 v9 k0_t11 v62 v68 k0_t19) a + S1x1x1x8x128.size a ≤ S4x2x64x64x128.size a) ∧
  (∀ k0_t19 : Fin (k0_t19_loop v62 v68).trips, ∀ a, (k0_off876 v9 k0_t11 v62 v68 k0_t19) a + S1x1x1x8x128.size a ≤ S4x2x64x64x128.size a) ∧
  (∀ k0_t19 : Fin (k0_t19_loop v62 v68).trips, ∀ a, (k0_off877 v9 k0_t11 v62 v68 k0_t19) a + S1x1x1x8x128.size a ≤ S4x2x64x64x128.size a) ∧
  (∀ k0_t19 : Fin (k0_t19_loop v62 v68).trips, ∀ a, (k0_off878 v9 k0_t11 v62 v68 k0_t19) a + S1x1x1x8x128.size a ≤ S4x2x64x64x128.size a) ∧
  (∀ k0_t19 : Fin (k0_t19_loop v62 v68).trips, ∀ a, (k0_off879 v9 k0_t11 v62 v68 k0_t19) a + S1x1x1x8x128.size a ≤ S4x2x64x64x128.size a) ∧
  (∀ k0_t19 : Fin (k0_t19_loop v62 v68).trips, ∀ a, (k0_off880 v9 k0_t11 v62 v68 k0_t19) a + S1x1x1x8x128.size a ≤ S4x2x64x64x128.size a) ∧
  (∀ k0_t19 : Fin (k0_t19_loop v62 v68).trips, ∀ a, (k0_off881 v9 k0_t11 v62 v68 k0_t19) a + S1x1x1x8x128.size a ≤ S4x2x64x64x128.size a) ∧
  (∀ k0_t19 : Fin (k0_t19_loop v62 v68).trips, ∀ a, (k0_off882 v9 k0_t11 v62 v68 k0_t19) a + S1x1x1x8x128.size a ≤ S4x2x64x64x128.size a) ∧
  (∀ k0_t19 : Fin (k0_t19_loop v62 v68).trips, ∀ a, (k0_off883 v9 k0_t11 v62 v68 k0_t19) a + S1x1x1x8x128.size a ≤ S4x2x64x64x128.size a) ∧
  (∀ k0_t19 : Fin (k0_t19_loop v62 v68).trips, ∀ a, (k0_off884 v9 k0_t11 v62 v68 k0_t19) a + S1x1x1x8x128.size a ≤ S4x2x64x64x128.size a) ∧
  (∀ k0_t19 : Fin (k0_t19_loop v62 v68).trips, ∀ a, (k0_off885 v9 k0_t11 v62 v68 k0_t19) a + S1x1x1x8x128.size a ≤ S4x2x64x64x128.size a) ∧
  (∀ k0_t19 : Fin (k0_t19_loop v62 v68).trips, ∀ a, (k0_off886 v9 k0_t11 v62 v68 k0_t19) a + S1x1x1x8x128.size a ≤ S4x2x64x64x128.size a) ∧
  (∀ k0_t19 : Fin (k0_t19_loop v62 v68).trips, ∀ a, (k0_off887 v9 k0_t11 v62 v68 k0_t19) a + S1x1x1x8x128.size a ≤ S4x2x64x64x128.size a) ∧
  (∀ k0_t19 : Fin (k0_t19_loop v62 v68).trips, ∀ a, (k0_off888 v9 k0_t11 v62 v68 k0_t19) a + S1x1x1x8x128.size a ≤ S4x2x64x64x128.size a) ∧
  (∀ k0_t19 : Fin (k0_t19_loop v62 v68).trips, ∀ a, (k0_off889 v9 k0_t11 v62 v68 k0_t19) a + S1x1x1x8x128.size a ≤ S4x2x64x64x128.size a) ∧
  (∀ k0_t19 : Fin (k0_t19_loop v62 v68).trips, ∀ a, (k0_off890 v9 k0_t11 v62 v68 k0_t19) a + S1x1x1x8x128.size a ≤ S4x2x64x64x128.size a) ∧
  (∀ k0_t19 : Fin (k0_t19_loop v62 v68).trips, ∀ a, (k0_off891 v9 k0_t11 v62 v68 k0_t19) a + S1x1x1x8x128.size a ≤ S4x2x64x64x128.size a) ∧
  (∀ k0_t19 : Fin (k0_t19_loop v62 v68).trips, ∀ a, (k0_off892 v9 k0_t11 v62 v68 k0_t19) a + S1x1x1x8x128.size a ≤ S4x2x64x64x128.size a) ∧
  (∀ k0_t19 : Fin (k0_t19_loop v62 v68).trips, ∀ a, (k0_off893 v9 k0_t11 v62 v68 k0_t19) a + S1x1x1x8x128.size a ≤ S4x2x64x64x128.size a) ∧
  (∀ k0_t19 : Fin (k0_t19_loop v62 v68).trips, ∀ a, (k0_off894 v9 k0_t11 v62 v68 k0_t19) a + S1x1x1x8x128.size a ≤ S4x2x64x64x128.size a)
def k0_chk22 (v9 : BitVec 32) (k0_t11 : Fin (k0_t11_loop v9).trips) (v62 : BitVec 32) (v68 : BitVec 32) : Prop :=
  k0_chk22_0 v9 k0_t11 v62 v68 ∧
  k0_chk22_1 v9 k0_t11 v62 v68 ∧
  k0_chk22_2 v9 k0_t11 v62 v68 ∧
  k0_chk22_3 v9 k0_t11 v62 v68 ∧
  k0_chk22_4 v9 k0_t11 v62 v68 ∧
  k0_chk22_5 v9 k0_t11 v62 v68 ∧
  k0_chk22_6 v9 k0_t11 v62 v68 ∧
  k0_chk22_7 v9 k0_t11 v62 v68 ∧
  k0_chk22_8 v9 k0_t11 v62 v68 ∧
  k0_chk22_9 v9 k0_t11 v62 v68 ∧
  k0_chk22_10 v9 k0_t11 v62 v68 ∧
  k0_chk22_11 v9 k0_t11 v62 v68 ∧
  k0_chk22_12 v9 k0_t11 v62 v68 ∧
  k0_chk22_13 v9 k0_t11 v62 v68 ∧
  k0_chk22_14 v9 k0_t11 v62 v68 ∧
  k0_chk22_15 v9 k0_t11 v62 v68 ∧
  k0_chk22_16 v9 k0_t11 v62 v68 ∧
  k0_chk22_17 v9 k0_t11 v62 v68 ∧
  k0_chk22_18 v9 k0_t11 v62 v68 ∧
  k0_chk22_19 v9 k0_t11 v62 v68 ∧
  k0_chk22_20 v9 k0_t11 v62 v68
theorem k0_t14_ok : ∀ (v9 : BitVec 32) (k0_t11 : Fin (k0_t11_loop v9).trips) (v62 : BitVec 32) (v68 : BitVec 32) (k0_hw22 : k0_chk22 v9 k0_t11 v62 v68), (k0_t14_loop v62 v68).OK := fun v9 k0_t11 v62 v68 k0_hw22 => k0_hw22.1.1
theorem k0_off113_inb : ∀ (v9 : BitVec 32) (k0_t11 : Fin (k0_t11_loop v9).trips) (v62 : BitVec 32) (v68 : BitVec 32) (k0_hw22 : k0_chk22 v9 k0_t11 v62 v68) (k0_t14 : Fin (k0_t14_loop v62 v68).trips), ∀ a, (k0_off113 v9 k0_t11) a + S1.size a ≤ S4.size a := fun v9 k0_t11 v62 v68 k0_hw22 k0_t14 => k0_hw22.1.2.1 k0_t14
theorem k0_off114_inb : ∀ (v9 : BitVec 32) (k0_t11 : Fin (k0_t11_loop v9).trips) (v62 : BitVec 32) (v68 : BitVec 32) (k0_hw22 : k0_chk22 v9 k0_t11 v62 v68) (k0_t14 : Fin (k0_t14_loop v62 v68).trips), ∀ a, (k0_off114 v9 k0_t11 v62 v68 k0_t14) a + S1x1x1x1024x128.size a ≤ S4x2x8x1024x128.size a := fun v9 k0_t11 v62 v68 k0_hw22 k0_t14 => k0_hw22.1.2.2.1 k0_t14
theorem k0_off114_wordsfp8e4m3 : ∀ (v9 : BitVec 32) (k0_t11 : Fin (k0_t11_loop v9).trips) (v62 : BitVec 32) (v68 : BitVec 32) (k0_hw22 : k0_chk22 v9 k0_t11 v62 v68) (k0_t14 : Fin (k0_t14_loop v62 v68).trips), (Rect.unit (s := S4x2x8x1024x128) (k0_off114 v9 k0_t11 v62 v68 k0_t14) S1x1x1x1024x128.size (k0_off114_inb v9 k0_t11 v62 v68 k0_hw22 k0_t14)).WholeWords (EltTy.packing .fp8e4m3) := fun v9 k0_t11 v62 v68 k0_hw22 k0_t14 => k0_hw22.1.2.2.2.1 k0_t14 (k0_off114_inb v9 k0_t11 v62 v68 k0_hw22 k0_t14)
theorem k0_off115_inb : ∀ (v9 : BitVec 32) (k0_t11 : Fin (k0_t11_loop v9).trips) (v62 : BitVec 32) (v68 : BitVec 32) (k0_hw22 : k0_chk22 v9 k0_t11 v62 v68) (k0_t14 : Fin (k0_t14_loop v62 v68).trips), ∀ a, (k0_off115 v9 k0_t11 v62 v68 k0_t14) a + S1x1x1x1024x128.size a ≤ S4x2x8x1024x128.size a := fun v9 k0_t11 v62 v68 k0_hw22 k0_t14 => k0_hw22.1.2.2.2.2.1 k0_t14
theorem k0_off115_wordsfp8e4m3 : ∀ (v9 : BitVec 32) (k0_t11 : Fin (k0_t11_loop v9).trips) (v62 : BitVec 32) (v68 : BitVec 32) (k0_hw22 : k0_chk22 v9 k0_t11 v62 v68) (k0_t14 : Fin (k0_t14_loop v62 v68).trips), (Rect.unit (s := S4x2x8x1024x128) (k0_off115 v9 k0_t11 v62 v68 k0_t14) S1x1x1x1024x128.size (k0_off115_inb v9 k0_t11 v62 v68 k0_hw22 k0_t14)).WholeWords (EltTy.packing .fp8e4m3) := fun v9 k0_t11 v62 v68 k0_hw22 k0_t14 => k0_hw22.1.2.2.2.2.2.1 k0_t14 (k0_off115_inb v9 k0_t11 v62 v68 k0_hw22 k0_t14)
theorem k0_t15_ok : ∀ (v9 : BitVec 32) (k0_t11 : Fin (k0_t11_loop v9).trips) (v62 : BitVec 32) (v68 : BitVec 32) (k0_hw22 : k0_chk22 v9 k0_t11 v62 v68), (k0_t15_loop v62 v68).OK := fun v9 k0_t11 v62 v68 k0_hw22 => k0_hw22.1.2.2.2.2.2.2.1
theorem k0_off116_inb : ∀ (v9 : BitVec 32) (k0_t11 : Fin (k0_t11_loop v9).trips) (v62 : BitVec 32) (v68 : BitVec 32) (k0_hw22 : k0_chk22 v9 k0_t11 v62 v68) (k0_t15 : Fin (k0_t15_loop v62 v68).trips), ∀ a, (k0_off116 v9 k0_t11) a + S1.size a ≤ S4.size a := fun v9 k0_t11 v62 v68 k0_hw22 k0_t15 => k0_hw22.1.2.2.2.2.2.2.2.1 k0_t15
theorem k0_off117_inb : ∀ (v9 : BitVec 32) (k0_t11 : Fin (k0_t11_loop v9).trips) (v62 : BitVec 32) (v68 : BitVec 32) (k0_hw22 : k0_chk22 v9 k0_t11 v62 v68) (k0_t15 : Fin (k0_t15_loop v62 v68).trips), ∀ a, (k0_off117 v9 k0_t11 v62 v68 k0_t15) a + S1x1x1x1024x128.size a ≤ S4x2x8x1024x128.size a := fun v9 k0_t11 v62 v68 k0_hw22 k0_t15 => k0_hw22.1.2.2.2.2.2.2.2.2.1 k0_t15
theorem k0_off117_wordsfp8e4m3 : ∀ (v9 : BitVec 32) (k0_t11 : Fin (k0_t11_loop v9).trips) (v62 : BitVec 32) (v68 : BitVec 32) (k0_hw22 : k0_chk22 v9 k0_t11 v62 v68) (k0_t15 : Fin (k0_t15_loop v62 v68).trips), (Rect.unit (s := S4x2x8x1024x128) (k0_off117 v9 k0_t11 v62 v68 k0_t15) S1x1x1x1024x128.size (k0_off117_inb v9 k0_t11 v62 v68 k0_hw22 k0_t15)).WholeWords (EltTy.packing .fp8e4m3) := fun v9 k0_t11 v62 v68 k0_hw22 k0_t15 => k0_hw22.1.2.2.2.2.2.2.2.2.2.1 k0_t15 (k0_off117_inb v9 k0_t11 v62 v68 k0_hw22 k0_t15)
theorem k0_off118_inb : ∀ (v9 : BitVec 32) (k0_t11 : Fin (k0_t11_loop v9).trips) (v62 : BitVec 32) (v68 : BitVec 32) (k0_hw22 : k0_chk22 v9 k0_t11 v62 v68) (k0_t15 : Fin (k0_t15_loop v62 v68).trips), ∀ a, (k0_off118 v9 k0_t11 v62 v68 k0_t15) a + S1x1x1x1024x128.size a ≤ S4x2x8x1024x128.size a := fun v9 k0_t11 v62 v68 k0_hw22 k0_t15 => k0_hw22.1.2.2.2.2.2.2.2.2.2.2.1 k0_t15
theorem k0_off118_wordsfp8e4m3 : ∀ (v9 : BitVec 32) (k0_t11 : Fin (k0_t11_loop v9).trips) (v62 : BitVec 32) (v68 : BitVec 32) (k0_hw22 : k0_chk22 v9 k0_t11 v62 v68) (k0_t15 : Fin (k0_t15_loop v62 v68).trips), (Rect.unit (s := S4x2x8x1024x128) (k0_off118 v9 k0_t11 v62 v68 k0_t15) S1x1x1x1024x128.size (k0_off118_inb v9 k0_t11 v62 v68 k0_hw22 k0_t15)).WholeWords (EltTy.packing .fp8e4m3) := fun v9 k0_t11 v62 v68 k0_hw22 k0_t15 => k0_hw22.1.2.2.2.2.2.2.2.2.2.2.2.1 k0_t15 (k0_off118_inb v9 k0_t11 v62 v68 k0_hw22 k0_t15)
theorem k0_t16_ok : ∀ (v9 : BitVec 32) (k0_t11 : Fin (k0_t11_loop v9).trips) (v62 : BitVec 32) (v68 : BitVec 32) (k0_hw22 : k0_chk22 v9 k0_t11 v62 v68), (k0_t16_loop v62 v68).OK := fun v9 k0_t11 v62 v68 k0_hw22 => k0_hw22.1.2.2.2.2.2.2.2.2.2.2.2.2.1
theorem k0_off123_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off123 v62 v68 k0_t16) a + S1x1.size a ≤ S5x256.size a := fun v9 k0_t11 v62 v68 k0_hw22 k0_t16 => k0_hw22.1.2.2.2.2.2.2.2.2.2.2.2.2.2.1 k0_t16
theorem k0_off124_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off124 v62) a + S1.size a ≤ S5.size a := fun v9 k0_t11 v62 v68 k0_hw22 k0_t16 => k0_hw22.1.2.2.2.2.2.2.2.2.2.2.2.2.2.2.1 k0_t16
theorem k0_mult27_dvd : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), 8 ∣ (k0_mult27 v62 v68 k0_t16).toNat := fun v9 k0_t11 v62 v68 k0_hw22 k0_t16 => k0_hw22.1.2.2.2.2.2.2.2.2.2.2.2.2.2.2.2.1 k0_t16
theorem k0_off125_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off125 v9 k0_t11 v62 v68 k0_t16) a + S1x1x1x32x128.size a ≤ S4x2x8x1024x128.size a := fun v9 k0_t11 v62 v68 k0_hw22 k0_t16 => k0_hw22.1.2.2.2.2.2.2.2.2.2.2.2.2.2.2.2.2.1 k0_t16
theorem k0_off127_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off127 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.1 k0_t16
theorem k0_off128_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off128 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.1 k0_t16
theorem k0_off129_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off129 v9 k0_t11 v62 v68 k0_t16) a + S1x1x1x32x128.size a ≤ S4x2x8x1024x128.size a := fun v9 k0_t11 v62 v68 k0_hw22 k0_t16 => k0_hw22.1.2.2.2.2.2.2.2.2.2.2.2.2.2.2.2.2.2.2.2.1 k0_t16
theorem k0_off131_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off131 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.2.2.1 k0_t16
theorem k0_off132_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off132 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.2.2.2.1 k0_t16
theorem k0_off133_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off133 v9 k0_t11 v62 v68 k0_t16) a + S1x1x1x32x128.size a ≤ S4x2x8x1024x128.size a := fun v9 k0_t11 v62 v68 k0_hw22 k0_t16 => k0_hw22.1.2.2.2.2.2.2.2.2.2.2.2.2.2.2.2.2.2.2.2.2.2.2.1 k0_t16
theorem k0_off135_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off135 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.2.2.2.2.2.1 k0_t16
theorem k0_off136_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off136 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.2.2.2.2.2.2.1 k0_t16
theorem k0_off137_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off137 v9 k0_t11 v62 v68 k0_t16) a + S1x1x1x32x128.size a ≤ S4x2x8x1024x128.size a := fun v9 k0_t11 v62 v68 k0_hw22 k0_t16 => k0_hw22.1.2.2.2.2.2.2.2.2.2.2.2.2.2.2.2.2.2.2.2.2.2.2.2.2.2.1 k0_t16
theorem k0_off139_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off139 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.2.2.2.2.2.2.2.2.1 k0_t16
theorem k0_off140_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off140 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.2.2.2.2.2.2.2.2.2.1 k0_t16
theorem k0_off141_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off141 v9 k0_t11 v62 v68 k0_t16) a + S1x1x1x32x128.size a ≤ S4x2x8x1024x128.size a := fun v9 k0_t11 v62 v68 k0_hw22 k0_t16 => k0_hw22.1.2.2.2.2.2.2.2.2.2.2.2.2.2.2.2.2.2.2.2.2.2.2.2.2.2.2.2.2.1 k0_t16
theorem k0_off143_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off143 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.2.2.2.2.2.2.2.2.2.2.2.1 k0_t16
theorem k0_off144_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off144 v9 k0_t11 v62 v68 k0_t16) a + S1x1x1x8x128.size a ≤ S4x2x64x64x128.size a := fun v9 k0_t11 v62 v68 k0_hw22 k0_t16 => k0_hw22.1.2.2.2.2.2.2.2.2.2.2.2.2.2.2.2.2.2.2.2.2.2.2.2.2.2.2.2.2.2.2.1 k0_t16
theorem k0_off145_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off145 v9 k0_t11 v62 v68 k0_t16) a + S1x1x1x32x128.size a ≤ S4x2x8x1024x128.size a := fun v9 k0_t11 v62 v68 k0_hw22 k0_t16 => k0_hw22.1.2.2.2.2.2.2.2.2.2.2.2.2.2.2.2.2.2.2.2.2.2.2.2.2.2.2.2.2.2.2.2 k0_t16
theorem k0_off147_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off147 v9 k0_t11 v62 v68 k0_t16) a + S1x1x1x8x128.size a ≤ S4x2x64x64x128.size a := fun v9 k0_t11 v62 v68 k0_hw22 k0_t16 => k0_hw22.2.1.1 k0_t16
theorem k0_off148_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off148 v9 k0_t11 v62 v68 k0_t16) a + S1x1x1x8x128.size a ≤ S4x2x64x64x128.size a := fun v9 k0_t11 v62 v68 k0_hw22 k0_t16 => k0_hw22.2.1.2.1 k0_t16
theorem k0_off149_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off149 v9 k0_t11 v62 v68 k0_t16) a + S1x1x1x32x128.size a ≤ S4x2x8x1024x128.size a := fun v9 k0_t11 v62 v68 k0_hw22 k0_t16 => k0_hw22.2.1.2.2.1 k0_t16
theorem k0_off151_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off151 v9 k0_t11 v62 v68 k0_t16) a + S1x1x1x8x128.size a ≤ S4x2x64x64x128.size a := fun v9 k0_t11 v62 v68 k0_hw22 k0_t16 => k0_hw22.2.1.2.2.2.1 k0_t16
theorem k0_off152_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off152 v9 k0_t11 v62 v68 k0_t16) a + S1x1x1x8x128.size a ≤ S4x2x64x64x128.size a := fun v9 k0_t11 v62 v68 k0_hw22 k0_t16 => k0_hw22.2.1.2.2.2.2.1 k0_t16
theorem k0_off153_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off153 v9 k0_t11 v62 v68 k0_t16) a + S1x1x1x32x128.size a ≤ S4x2x8x1024x128.size a := fun v9 k0_t11 v62 v68 k0_hw22 k0_t16 => k0_hw22.2.1.2.2.2.2.2.1 k0_t16
theorem k0_off155_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off155 v9 k0_t11 v62 v68 k0_t16) a + S1x1x1x8x128.size a ≤ S4x2x64x64x128.size a := fun v9 k0_t11 v62 v68 k0_hw22 k0_t16 => k0_hw22.2.1.2.2.2.2.2.2.1 k0_t16
theorem k0_off156_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off156 v9 k0_t11 v62 v68 k0_t16) a + S1x1x1x8x128.size a ≤ S4x2x64x64x128.size a := fun v9 k0_t11 v62 v68 k0_hw22 k0_t16 => k0_hw22.2.1.2.2.2.2.2.2.2.1 k0_t16
theorem k0_off157_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off157 v9 k0_t11 v62 v68 k0_t16) a + S1x1x1x32x128.size a ≤ S4x2x8x1024x128.size a := fun v9 k0_t11 v62 v68 k0_hw22 k0_t16 => k0_hw22.2.1.2.2.2.2.2.2.2.2.1 k0_t16
theorem k0_off159_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off159 v9 k0_t11 v62 v68 k0_t16) a + S1x1x1x8x128.size a ≤ S4x2x64x64x128.size a := fun v9 k0_t11 v62 v68 k0_hw22 k0_t16 => k0_hw22.2.1.2.2.2.2.2.2.2.2.2.1 k0_t16
theorem k0_off160_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off160 v9 k0_t11 v62 v68 k0_t16) a + S1x1x1x8x128.size a ≤ S4x2x64x64x128.size a := fun v9 k0_t11 v62 v68 k0_hw22 k0_t16 => k0_hw22.2.1.2.2.2.2.2.2.2.2.2.2.1 k0_t16
theorem k0_off161_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off161 v9 k0_t11 v62 v68 k0_t16) a + S1x1x1x32x128.size a ≤ S4x2x8x1024x128.size a := fun v9 k0_t11 v62 v68 k0_hw22 k0_t16 => k0_hw22.2.1.2.2.2.2.2.2.2.2.2.2.2.1 k0_t16
theorem k0_off163_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off163 v9 k0_t11 v62 v68 k0_t16) a + S1x1x1x8x128.size a ≤ S4x2x64x64x128.size a := fun v9 k0_t11 v62 v68 k0_hw22 k0_t16 => k0_hw22.2.1.2.2.2.2.2.2.2.2.2.2.2.2.1 k0_t16
theorem k0_off164_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off164 v9 k0_t11 v62 v68 k0_t16) a + S1x1x1x8x128.size a ≤ S4x2x64x64x128.size a := fun v9 k0_t11 v62 v68 k0_hw22 k0_t16 => k0_hw22.2.1.2.2.2.2.2.2.2.2.2.2.2.2.2.1 k0_t16
theorem k0_off165_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off165 v9 k0_t11 v62 v68 k0_t16) a + S1x1x1x32x128.size a ≤ S4x2x8x1024x128.size a := fun v9 k0_t11 v62 v68 k0_hw22 k0_t16 => k0_hw22.2.1.2.2.2.2.2.2.2.2.2.2.2.2.2.2.1 k0_t16
theorem k0_off167_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off167 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.1 k0_t16
theorem k0_off168_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off168 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.1 k0_t16
theorem k0_off169_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off169 v9 k0_t11 v62 v68 k0_t16) a + S1x1x1x32x128.size a ≤ S4x2x8x1024x128.size a := fun v9 k0_t11 v62 v68 k0_hw22 k0_t16 => k0_hw22.2.1.2.2.2.2.2.2.2.2.2.2.2.2.2.2.2.2.2.1 k0_t16
theorem k0_off171_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off171 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.1 k0_t16
theorem k0_off172_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off172 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.1 k0_t16
theorem k0_off173_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off173 v9 k0_t11 v62 v68 k0_t16) a + S1x1x1x32x128.size a ≤ S4x2x8x1024x128.size a := fun v9 k0_t11 v62 v68 k0_hw22 k0_t16 => k0_hw22.2.1.2.2.2.2.2.2.2.2.2.2.2.2.2.2.2.2.2.2.2.2.1 k0_t16
theorem k0_off175_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off175 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.2.2.1 k0_t16
theorem k0_off176_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off176 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.2.2.2.1 k0_t16
theorem k0_off177_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off177 v9 k0_t11 v62 v68 k0_t16) a + S1x1x1x32x128.size a ≤ S4x2x8x1024x128.size a := fun v9 k0_t11 v62 v68 k0_hw22 k0_t16 => k0_hw22.2.1.2.2.2.2.2.2.2.2.2.2.2.2.2.2.2.2.2.2.2.2.2.2.2.1 k0_t16
theorem k0_off179_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off179 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.2.2.2.2.2.1 k0_t16
theorem k0_off180_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off180 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.2.2.2.2.2.2.1 k0_t16
theorem k0_off181_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off181 v9 k0_t11 v62 v68 k0_t16) a + S1x1x1x32x128.size a ≤ S4x2x8x1024x128.size a := fun v9 k0_t11 v62 v68 k0_hw22 k0_t16 => k0_hw22.2.1.2.2.2.2.2.2.2.2.2.2.2.2.2.2.2.2.2.2.2.2.2.2.2.2.2.2.1 k0_t16
theorem k0_off183_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off183 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.2.2.2.2.2.2.2.2.1 k0_t16
theorem k0_off184_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off184 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.2.2.2.2.2.2.2.2.2.1 k0_t16
theorem k0_off185_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off185 v9 k0_t11 v62 v68 k0_t16) a + S1x1x1x32x128.size a ≤ S4x2x8x1024x128.size a := fun v9 k0_t11 v62 v68 k0_hw22 k0_t16 => k0_hw22.2.1.2.2.2.2.2.2.2.2.2.2.2.2.2.2.2.2.2.2.2.2.2.2.2.2.2.2.2.2.2.1 k0_t16
theorem k0_off187_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off187 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.2.2.2.2.2.2.2.2.2.2.2.1 k0_t16
theorem k0_off188_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off188 v9 k0_t11 v62 v68 k0_t16) a + S1x1x1x8x128.size a ≤ S4x2x64x64x128.size a := fun v9 k0_t11 v62 v68 k0_hw22 k0_t16 => k0_hw22.2.1.2.2.2.2.2.2.2.2.2.2.2.2.2.2.2.2.2.2.2.2.2.2.2.2.2.2.2.2.2.2.2 k0_t16
theorem k0_off189_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off189 v9 k0_t11 v62 v68 k0_t16) a + S1x1x1x32x128.size a ≤ S4x2x8x1024x128.size a := fun v9 k0_t11 v62 v68 k0_hw22 k0_t16 => k0_hw22.2.2.1.1 k0_t16
theorem k0_off191_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off191 v9 k0_t11 v62 v68 k0_t16) a + S1x1x1x8x128.size a ≤ S4x2x64x64x128.size a := fun v9 k0_t11 v62 v68 k0_hw22 k0_t16 => k0_hw22.2.2.1.2.1 k0_t16
theorem k0_off192_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off192 v9 k0_t11 v62 v68 k0_t16) a + S1x1x1x8x128.size a ≤ S4x2x64x64x128.size a := fun v9 k0_t11 v62 v68 k0_hw22 k0_t16 => k0_hw22.2.2.1.2.2.1 k0_t16
theorem k0_off193_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off193 v9 k0_t11 v62 v68 k0_t16) a + S1x1x1x32x128.size a ≤ S4x2x8x1024x128.size a := fun v9 k0_t11 v62 v68 k0_hw22 k0_t16 => k0_hw22.2.2.1.2.2.2.1 k0_t16
theorem k0_off195_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off195 v9 k0_t11 v62 v68 k0_t16) a + S1x1x1x8x128.size a ≤ S4x2x64x64x128.size a := fun v9 k0_t11 v62 v68 k0_hw22 k0_t16 => k0_hw22.2.2.1.2.2.2.2.1 k0_t16
theorem k0_off196_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off196 v9 k0_t11 v62 v68 k0_t16) a + S1x1x1x8x128.size a ≤ S4x2x64x64x128.size a := fun v9 k0_t11 v62 v68 k0_hw22 k0_t16 => k0_hw22.2.2.1.2.2.2.2.2.1 k0_t16
theorem k0_off197_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off197 v9 k0_t11 v62 v68 k0_t16) a + S1x1x1x32x128.size a ≤ S4x2x8x1024x128.size a := fun v9 k0_t11 v62 v68 k0_hw22 k0_t16 => k0_hw22.2.2.1.2.2.2.2.2.2.1 k0_t16
theorem k0_off199_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off199 v9 k0_t11 v62 v68 k0_t16) a + S1x1x1x8x128.size a ≤ S4x2x64x64x128.size a := fun v9 k0_t11 v62 v68 k0_hw22 k0_t16 => k0_hw22.2.2.1.2.2.2.2.2.2.2.1 k0_t16
theorem k0_off200_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off200 v9 k0_t11 v62 v68 k0_t16) a + S1x1x1x8x128.size a ≤ S4x2x64x64x128.size a := fun v9 k0_t11 v62 v68 k0_hw22 k0_t16 => k0_hw22.2.2.1.2.2.2.2.2.2.2.2.1 k0_t16
theorem k0_off201_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off201 v9 k0_t11 v62 v68 k0_t16) a + S1x1x1x32x128.size a ≤ S4x2x8x1024x128.size a := fun v9 k0_t11 v62 v68 k0_hw22 k0_t16 => k0_hw22.2.2.1.2.2.2.2.2.2.2.2.2.1 k0_t16
theorem k0_off203_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off203 v9 k0_t11 v62 v68 k0_t16) a + S1x1x1x8x128.size a ≤ S4x2x64x64x128.size a := fun v9 k0_t11 v62 v68 k0_hw22 k0_t16 => k0_hw22.2.2.1.2.2.2.2.2.2.2.2.2.2.1 k0_t16
theorem k0_off204_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off204 v9 k0_t11 v62 v68 k0_t16) a + S1x1x1x8x128.size a ≤ S4x2x64x64x128.size a := fun v9 k0_t11 v62 v68 k0_hw22 k0_t16 => k0_hw22.2.2.1.2.2.2.2.2.2.2.2.2.2.2.1 k0_t16
theorem k0_off205_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off205 v9 k0_t11 v62 v68 k0_t16) a + S1x1x1x32x128.size a ≤ S4x2x8x1024x128.size a := fun v9 k0_t11 v62 v68 k0_hw22 k0_t16 => k0_hw22.2.2.1.2.2.2.2.2.2.2.2.2.2.2.2.1 k0_t16
theorem k0_off207_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off207 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.1 k0_t16
theorem k0_off208_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off208 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.1 k0_t16
theorem k0_off209_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off209 v9 k0_t11 v62 v68 k0_t16) a + S1x1x1x32x128.size a ≤ S4x2x8x1024x128.size a := fun v9 k0_t11 v62 v68 k0_hw22 k0_t16 => k0_hw22.2.2.1.2.2.2.2.2.2.2.2.2.2.2.2.2.2.2.1 k0_t16
theorem k0_off211_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off211 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.1 k0_t16
theorem k0_off212_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off212 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.1 k0_t16
theorem k0_off213_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off213 v9 k0_t11 v62 v68 k0_t16) a + S1x1x1x32x128.size a ≤ S4x2x8x1024x128.size a := fun v9 k0_t11 v62 v68 k0_hw22 k0_t16 => k0_hw22.2.2.1.2.2.2.2.2.2.2.2.2.2.2.2.2.2.2.2.2.2.1 k0_t16
theorem k0_off215_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off215 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.1 k0_t16
theorem k0_off216_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off216 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.2.1 k0_t16
theorem k0_off217_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off217 v9 k0_t11 v62 v68 k0_t16) a + S1x1x1x32x128.size a ≤ S4x2x8x1024x128.size a := fun v9 k0_t11 v62 v68 k0_hw22 k0_t16 => k0_hw22.2.2.1.2.2.2.2.2.2.2.2.2.2.2.2.2.2.2.2.2.2.2.2.2.1 k0_t16
theorem k0_off219_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off219 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.2.2.2.1 k0_t16
theorem k0_off220_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off220 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.2.2.2.2.1 k0_t16
theorem k0_off221_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off221 v9 k0_t11 v62 v68 k0_t16) a + S1x1x1x32x128.size a ≤ S4x2x8x1024x128.size a := fun v9 k0_t11 v62 v68 k0_hw22 k0_t16 => k0_hw22.2.2.1.2.2.2.2.2.2.2.2.2.2.2.2.2.2.2.2.2.2.2.2.2.2.2.2.1 k0_t16
theorem k0_off223_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off223 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.2.2.2.2.2.2.1 k0_t16
theorem k0_off224_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off224 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.2.2.2.2.2.2.2.1 k0_t16
theorem k0_off225_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off225 v9 k0_t11 v62 v68 k0_t16) a + S1x1x1x32x128.size a ≤ S4x2x8x1024x128.size a := fun v9 k0_t11 v62 v68 k0_hw22 k0_t16 => k0_hw22.2.2.1.2.2.2.2.2.2.2.2.2.2.2.2.2.2.2.2.2.2.2.2.2.2.2.2.2.2.2.1 k0_t16
theorem k0_off227_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off227 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.2.2.2.2.2.2.2.2.2.1 k0_t16
theorem k0_off228_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off228 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.2.2.2.2.2.2.2.2.2.2.1 k0_t16
theorem k0_off229_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off229 v9 k0_t11 v62 v68 k0_t16) a + S1x1x1x32x128.size a ≤ S4x2x8x1024x128.size a := fun v9 k0_t11 v62 v68 k0_hw22 k0_t16 => k0_hw22.2.2.1.2.2.2.2.2.2.2.2.2.2.2.2.2.2.2.2.2.2.2.2.2.2.2.2.2.2.2.2.2.2.1 k0_t16
theorem k0_off231_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off231 v9 k0_t11 v62 v68 k0_t16) a + S1x1x1x8x128.size a ≤ S4x2x64x64x128.size a := fun v9 k0_t11 v62 v68 k0_hw22 k0_t16 => k0_hw22.2.2.1.2.2.2.2.2.2.2.2.2.2.2.2.2.2.2.2.2.2.2.2.2.2.2.2.2.2.2.2.2.2.2 k0_t16
theorem k0_off232_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off232 v9 k0_t11 v62 v68 k0_t16) a + S1x1x1x8x128.size a ≤ S4x2x64x64x128.size a := fun v9 k0_t11 v62 v68 k0_hw22 k0_t16 => k0_hw22.2.2.2.1.1 k0_t16
theorem k0_off233_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off233 v9 k0_t11 v62 v68 k0_t16) a + S1x1x1x32x128.size a ≤ S4x2x8x1024x128.size a := fun v9 k0_t11 v62 v68 k0_hw22 k0_t16 => k0_hw22.2.2.2.1.2.1 k0_t16
theorem k0_off235_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off235 v9 k0_t11 v62 v68 k0_t16) a + S1x1x1x8x128.size a ≤ S4x2x64x64x128.size a := fun v9 k0_t11 v62 v68 k0_hw22 k0_t16 => k0_hw22.2.2.2.1.2.2.1 k0_t16
theorem k0_off236_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off236 v9 k0_t11 v62 v68 k0_t16) a + S1x1x1x8x128.size a ≤ S4x2x64x64x128.size a := fun v9 k0_t11 v62 v68 k0_hw22 k0_t16 => k0_hw22.2.2.2.1.2.2.2.1 k0_t16
theorem k0_off237_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off237 v9 k0_t11 v62 v68 k0_t16) a + S1x1x1x32x128.size a ≤ S4x2x8x1024x128.size a := fun v9 k0_t11 v62 v68 k0_hw22 k0_t16 => k0_hw22.2.2.2.1.2.2.2.2.1 k0_t16
theorem k0_off239_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off239 v9 k0_t11 v62 v68 k0_t16) a + S1x1x1x8x128.size a ≤ S4x2x64x64x128.size a := fun v9 k0_t11 v62 v68 k0_hw22 k0_t16 => k0_hw22.2.2.2.1.2.2.2.2.2.1 k0_t16
theorem k0_off240_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off240 v9 k0_t11 v62 v68 k0_t16) a + S1x1x1x8x128.size a ≤ S4x2x64x64x128.size a := fun v9 k0_t11 v62 v68 k0_hw22 k0_t16 => k0_hw22.2.2.2.1.2.2.2.2.2.2.1 k0_t16
theorem k0_off241_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off241 v9 k0_t11 v62 v68 k0_t16) a + S1x1x1x32x128.size a ≤ S4x2x8x1024x128.size a := fun v9 k0_t11 v62 v68 k0_hw22 k0_t16 => k0_hw22.2.2.2.1.2.2.2.2.2.2.2.1 k0_t16
theorem k0_off243_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off243 v9 k0_t11 v62 v68 k0_t16) a + S1x1x1x8x128.size a ≤ S4x2x64x64x128.size a := fun v9 k0_t11 v62 v68 k0_hw22 k0_t16 => k0_hw22.2.2.2.1.2.2.2.2.2.2.2.2.1 k0_t16
theorem k0_off244_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off244 v9 k0_t11 v62 v68 k0_t16) a + S1x1x1x8x128.size a ≤ S4x2x64x64x128.size a := fun v9 k0_t11 v62 v68 k0_hw22 k0_t16 => k0_hw22.2.2.2.1.2.2.2.2.2.2.2.2.2.1 k0_t16
theorem k0_off245_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off245 v9 k0_t11 v62 v68 k0_t16) a + S1x1x1x32x128.size a ≤ S4x2x8x1024x128.size a := fun v9 k0_t11 v62 v68 k0_hw22 k0_t16 => k0_hw22.2.2.2.1.2.2.2.2.2.2.2.2.2.2.1 k0_t16
theorem k0_off247_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off247 v9 k0_t11 v62 v68 k0_t16) a + S1x1x1x8x128.size a ≤ S4x2x64x64x128.size a := fun v9 k0_t11 v62 v68 k0_hw22 k0_t16 => k0_hw22.2.2.2.1.2.2.2.2.2.2.2.2.2.2.2.1 k0_t16
theorem k0_off248_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off248 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.1 k0_t16
theorem k0_off249_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off249 v9 k0_t11 v62 v68 k0_t16) a + S1x1x1x32x128.size a ≤ S4x2x8x1024x128.size a := fun v9 k0_t11 v62 v68 k0_hw22 k0_t16 => k0_hw22.2.2.2.1.2.2.2.2.2.2.2.2.2.2.2.2.2.1 k0_t16
theorem k0_off251_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off251 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.1 k0_t16
theorem k0_off252_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off252 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.1 k0_t16
theorem k0_off253_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off253 v9 k0_t11 v62 v68 k0_t16) a + S1x1x1x32x128.size a ≤ S4x2x8x1024x128.size a := fun v9 k0_t11 v62 v68 k0_hw22 k0_t16 => k0_hw22.2.2.2.1.2.2.2.2.2.2.2.2.2.2.2.2.2.2.2.2.1 k0_t16
theorem k0_off255_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off255 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.1 k0_t16
theorem k0_off256_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off256 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.1 k0_t16
theorem k0_off257_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off257 v9 k0_t11 v62 v68 k0_t16) a + S1x1x1x32x128.size a ≤ S4x2x8x1024x128.size a := fun v9 k0_t11 v62 v68 k0_hw22 k0_t16 => k0_hw22.2.2.2.1.2.2.2.2.2.2.2.2.2.2.2.2.2.2.2.2.2.2.2.1 k0_t16
theorem k0_off259_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off259 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.2.2.1 k0_t16
theorem k0_off260_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off260 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.2.2.2.1 k0_t16
theorem k0_off261_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off261 v9 k0_t11 v62 v68 k0_t16) a + S1x1x1x32x128.size a ≤ S4x2x8x1024x128.size a := fun v9 k0_t11 v62 v68 k0_hw22 k0_t16 => k0_hw22.2.2.2.1.2.2.2.2.2.2.2.2.2.2.2.2.2.2.2.2.2.2.2.2.2.2.1 k0_t16
theorem k0_off263_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off263 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.2.2.2.2.2.1 k0_t16
theorem k0_off264_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off264 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.2.2.2.2.2.2.1 k0_t16
theorem k0_off265_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off265 v9 k0_t11 v62 v68 k0_t16) a + S1x1x1x32x128.size a ≤ S4x2x8x1024x128.size a := fun v9 k0_t11 v62 v68 k0_hw22 k0_t16 => k0_hw22.2.2.2.1.2.2.2.2.2.2.2.2.2.2.2.2.2.2.2.2.2.2.2.2.2.2.2.2.2.1 k0_t16
theorem k0_off267_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off267 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.2.2.2.2.2.2.2.2.1 k0_t16
theorem k0_off268_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off268 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.2.2.2.2.2.2.2.2.2.1 k0_t16
theorem k0_off269_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off269 v9 k0_t11 v62 v68 k0_t16) a + S1x1x1x32x128.size a ≤ S4x2x8x1024x128.size a := fun v9 k0_t11 v62 v68 k0_hw22 k0_t16 => k0_hw22.2.2.2.1.2.2.2.2.2.2.2.2.2.2.2.2.2.2.2.2.2.2.2.2.2.2.2.2.2.2.2.2.1 k0_t16
theorem k0_off271_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off271 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.2.2.2.2.2.2.2.2.2.2.2.1 k0_t16
theorem k0_off272_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off272 v9 k0_t11 v62 v68 k0_t16) a + S1x1x1x8x128.size a ≤ S4x2x64x64x128.size a := fun v9 k0_t11 v62 v68 k0_hw22 k0_t16 => k0_hw22.2.2.2.1.2.2.2.2.2.2.2.2.2.2.2.2.2.2.2.2.2.2.2.2.2.2.2.2.2.2.2.2.2.2.1 k0_t16
theorem k0_off273_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off273 v9 k0_t11 v62 v68 k0_t16) a + S1x1x1x32x128.size a ≤ S4x2x8x1024x128.size a := fun v9 k0_t11 v62 v68 k0_hw22 k0_t16 => k0_hw22.2.2.2.1.2.2.2.2.2.2.2.2.2.2.2.2.2.2.2.2.2.2.2.2.2.2.2.2.2.2.2.2.2.2.2 k0_t16
theorem k0_off275_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off275 v9 k0_t11 v62 v68 k0_t16) a + S1x1x1x8x128.size a ≤ S4x2x64x64x128.size a := fun v9 k0_t11 v62 v68 k0_hw22 k0_t16 => k0_hw22.2.2.2.2.1.1 k0_t16
theorem k0_off276_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off276 v9 k0_t11 v62 v68 k0_t16) a + S1x1x1x8x128.size a ≤ S4x2x64x64x128.size a := fun v9 k0_t11 v62 v68 k0_hw22 k0_t16 => k0_hw22.2.2.2.2.1.2.1 k0_t16
theorem k0_off277_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off277 v9 k0_t11 v62 v68 k0_t16) a + S1x1x1x32x128.size a ≤ S4x2x8x1024x128.size a := fun v9 k0_t11 v62 v68 k0_hw22 k0_t16 => k0_hw22.2.2.2.2.1.2.2.1 k0_t16
theorem k0_off279_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off279 v9 k0_t11 v62 v68 k0_t16) a + S1x1x1x8x128.size a ≤ S4x2x64x64x128.size a := fun v9 k0_t11 v62 v68 k0_hw22 k0_t16 => k0_hw22.2.2.2.2.1.2.2.2.1 k0_t16
theorem k0_off280_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off280 v9 k0_t11 v62 v68 k0_t16) a + S1x1x1x8x128.size a ≤ S4x2x64x64x128.size a := fun v9 k0_t11 v62 v68 k0_hw22 k0_t16 => k0_hw22.2.2.2.2.1.2.2.2.2.1 k0_t16
theorem k0_off281_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off281 v9 k0_t11 v62 v68 k0_t16) a + S1x1x1x32x128.size a ≤ S4x2x8x1024x128.size a := fun v9 k0_t11 v62 v68 k0_hw22 k0_t16 => k0_hw22.2.2.2.2.1.2.2.2.2.2.1 k0_t16
theorem k0_off283_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off283 v9 k0_t11 v62 v68 k0_t16) a + S1x1x1x8x128.size a ≤ S4x2x64x64x128.size a := fun v9 k0_t11 v62 v68 k0_hw22 k0_t16 => k0_hw22.2.2.2.2.1.2.2.2.2.2.2.1 k0_t16
theorem k0_off284_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off284 v9 k0_t11 v62 v68 k0_t16) a + S1x1x1x8x128.size a ≤ S4x2x64x64x128.size a := fun v9 k0_t11 v62 v68 k0_hw22 k0_t16 => k0_hw22.2.2.2.2.1.2.2.2.2.2.2.2.1 k0_t16
theorem k0_off285_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off285 v9 k0_t11 v62 v68 k0_t16) a + S1x1x1x32x128.size a ≤ S4x2x8x1024x128.size a := fun v9 k0_t11 v62 v68 k0_hw22 k0_t16 => k0_hw22.2.2.2.2.1.2.2.2.2.2.2.2.2.1 k0_t16
theorem k0_off287_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off287 v9 k0_t11 v62 v68 k0_t16) a + S1x1x1x8x128.size a ≤ S4x2x64x64x128.size a := fun v9 k0_t11 v62 v68 k0_hw22 k0_t16 => k0_hw22.2.2.2.2.1.2.2.2.2.2.2.2.2.2.1 k0_t16
theorem k0_off288_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off288 v9 k0_t11 v62 v68 k0_t16) a + S1x1x1x8x128.size a ≤ S4x2x64x64x128.size a := fun v9 k0_t11 v62 v68 k0_hw22 k0_t16 => k0_hw22.2.2.2.2.1.2.2.2.2.2.2.2.2.2.2.1 k0_t16
theorem k0_off289_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off289 v9 k0_t11 v62 v68 k0_t16) a + S1x1x1x32x128.size a ≤ S4x2x8x1024x128.size a := fun v9 k0_t11 v62 v68 k0_hw22 k0_t16 => k0_hw22.2.2.2.2.1.2.2.2.2.2.2.2.2.2.2.2.1 k0_t16
theorem k0_off291_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off291 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.1 k0_t16
theorem k0_off292_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off292 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.1 k0_t16
theorem k0_off293_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off293 v9 k0_t11 v62 v68 k0_t16) a + S1x1x1x32x128.size a ≤ S4x2x8x1024x128.size a := fun v9 k0_t11 v62 v68 k0_hw22 k0_t16 => k0_hw22.2.2.2.2.1.2.2.2.2.2.2.2.2.2.2.2.2.2.2.1 k0_t16
theorem k0_off295_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off295 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.1 k0_t16
theorem k0_off296_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off296 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.1 k0_t16
theorem k0_off297_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off297 v9 k0_t11 v62 v68 k0_t16) a + S1x1x1x32x128.size a ≤ S4x2x8x1024x128.size a := fun v9 k0_t11 v62 v68 k0_hw22 k0_t16 => k0_hw22.2.2.2.2.1.2.2.2.2.2.2.2.2.2.2.2.2.2.2.2.2.2.1 k0_t16
theorem k0_off299_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off299 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.1 k0_t16
theorem k0_off300_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off300 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.1 k0_t16
theorem k0_off301_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off301 v9 k0_t11 v62 v68 k0_t16) a + S1x1x1x32x128.size a ≤ S4x2x8x1024x128.size a := fun v9 k0_t11 v62 v68 k0_hw22 k0_t16 => k0_hw22.2.2.2.2.1.2.2.2.2.2.2.2.2.2.2.2.2.2.2.2.2.2.2.2.2.1 k0_t16
theorem k0_off303_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off303 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.2.2.1 k0_t16
theorem k0_off304_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off304 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.2.2.2.1 k0_t16
theorem k0_off305_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off305 v9 k0_t11 v62 v68 k0_t16) a + S1x1x1x32x128.size a ≤ S4x2x8x1024x128.size a := fun v9 k0_t11 v62 v68 k0_hw22 k0_t16 => k0_hw22.2.2.2.2.1.2.2.2.2.2.2.2.2.2.2.2.2.2.2.2.2.2.2.2.2.2.2.2.1 k0_t16
theorem k0_off307_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off307 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.2.2.2.2.2.1 k0_t16
theorem k0_off308_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off308 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.2.2.2.2.2.2.1 k0_t16
theorem k0_off309_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off309 v9 k0_t11 v62 v68 k0_t16) a + S1x1x1x32x128.size a ≤ S4x2x8x1024x128.size a := fun v9 k0_t11 v62 v68 k0_hw22 k0_t16 => k0_hw22.2.2.2.2.1.2.2.2.2.2.2.2.2.2.2.2.2.2.2.2.2.2.2.2.2.2.2.2.2.2.2.1 k0_t16
theorem k0_off311_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off311 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.2.2.2.2.2.2.2.2.1 k0_t16
theorem k0_off312_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off312 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.2.2.2.2.2.2.2.2.2.1 k0_t16
theorem k0_off313_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off313 v9 k0_t11 v62 v68 k0_t16) a + S1x1x1x32x128.size a ≤ S4x2x8x1024x128.size a := fun v9 k0_t11 v62 v68 k0_hw22 k0_t16 => k0_hw22.2.2.2.2.1.2.2.2.2.2.2.2.2.2.2.2.2.2.2.2.2.2.2.2.2.2.2.2.2.2.2.2.2.2.1 k0_t16
theorem k0_off315_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off315 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.2.2.2.2.2.2.2.2.2.2.2.1 k0_t16
theorem k0_off316_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off316 v9 k0_t11 v62 v68 k0_t16) a + S1x1x1x8x128.size a ≤ S4x2x64x64x128.size a := fun v9 k0_t11 v62 v68 k0_hw22 k0_t16 => k0_hw22.2.2.2.2.1.2.2.2.2.2.2.2.2.2.2.2.2.2.2.2.2.2.2.2.2.2.2.2.2.2.2.2.2.2.2.2 k0_t16
theorem k0_off317_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off317 v9 k0_t11 v62 v68 k0_t16) a + S1x1x1x32x128.size a ≤ S4x2x8x1024x128.size a := fun v9 k0_t11 v62 v68 k0_hw22 k0_t16 => k0_hw22.2.2.2.2.2.1.1 k0_t16
theorem k0_off319_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off319 v9 k0_t11 v62 v68 k0_t16) a + S1x1x1x8x128.size a ≤ S4x2x64x64x128.size a := fun v9 k0_t11 v62 v68 k0_hw22 k0_t16 => k0_hw22.2.2.2.2.2.1.2.1 k0_t16
theorem k0_off320_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off320 v9 k0_t11 v62 v68 k0_t16) a + S1x1x1x8x128.size a ≤ S4x2x64x64x128.size a := fun v9 k0_t11 v62 v68 k0_hw22 k0_t16 => k0_hw22.2.2.2.2.2.1.2.2.1 k0_t16
theorem k0_off321_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off321 v9 k0_t11 v62 v68 k0_t16) a + S1x1x1x32x128.size a ≤ S4x2x8x1024x128.size a := fun v9 k0_t11 v62 v68 k0_hw22 k0_t16 => k0_hw22.2.2.2.2.2.1.2.2.2.1 k0_t16
theorem k0_off323_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off323 v9 k0_t11 v62 v68 k0_t16) a + S1x1x1x8x128.size a ≤ S4x2x64x64x128.size a := fun v9 k0_t11 v62 v68 k0_hw22 k0_t16 => k0_hw22.2.2.2.2.2.1.2.2.2.2.1 k0_t16
theorem k0_off324_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off324 v9 k0_t11 v62 v68 k0_t16) a + S1x1x1x8x128.size a ≤ S4x2x64x64x128.size a := fun v9 k0_t11 v62 v68 k0_hw22 k0_t16 => k0_hw22.2.2.2.2.2.1.2.2.2.2.2.1 k0_t16
theorem k0_off325_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off325 v9 k0_t11 v62 v68 k0_t16) a + S1x1x1x32x128.size a ≤ S4x2x8x1024x128.size a := fun v9 k0_t11 v62 v68 k0_hw22 k0_t16 => k0_hw22.2.2.2.2.2.1.2.2.2.2.2.2.1 k0_t16
theorem k0_off327_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off327 v9 k0_t11 v62 v68 k0_t16) a + S1x1x1x8x128.size a ≤ S4x2x64x64x128.size a := fun v9 k0_t11 v62 v68 k0_hw22 k0_t16 => k0_hw22.2.2.2.2.2.1.2.2.2.2.2.2.2.1 k0_t16
theorem k0_off328_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off328 v9 k0_t11 v62 v68 k0_t16) a + S1x1x1x8x128.size a ≤ S4x2x64x64x128.size a := fun v9 k0_t11 v62 v68 k0_hw22 k0_t16 => k0_hw22.2.2.2.2.2.1.2.2.2.2.2.2.2.2.1 k0_t16
theorem k0_off329_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off329 v9 k0_t11 v62 v68 k0_t16) a + S1x1x1x32x128.size a ≤ S4x2x8x1024x128.size a := fun v9 k0_t11 v62 v68 k0_hw22 k0_t16 => k0_hw22.2.2.2.2.2.1.2.2.2.2.2.2.2.2.2.1 k0_t16
theorem k0_off331_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off331 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.1 k0_t16
theorem k0_off332_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off332 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.1 k0_t16
theorem k0_off333_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off333 v9 k0_t11 v62 v68 k0_t16) a + S1x1x1x32x128.size a ≤ S4x2x8x1024x128.size a := fun v9 k0_t11 v62 v68 k0_hw22 k0_t16 => k0_hw22.2.2.2.2.2.1.2.2.2.2.2.2.2.2.2.2.2.2.1 k0_t16
theorem k0_off335_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off335 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.1 k0_t16
theorem k0_off336_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off336 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.1 k0_t16
theorem k0_off337_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off337 v9 k0_t11 v62 v68 k0_t16) a + S1x1x1x32x128.size a ≤ S4x2x8x1024x128.size a := fun v9 k0_t11 v62 v68 k0_hw22 k0_t16 => k0_hw22.2.2.2.2.2.1.2.2.2.2.2.2.2.2.2.2.2.2.2.2.2.1 k0_t16
theorem k0_off339_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off339 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.1 k0_t16
theorem k0_off340_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off340 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.1 k0_t16
theorem k0_off341_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off341 v9 k0_t11 v62 v68 k0_t16) a + S1x1x1x32x128.size a ≤ S4x2x8x1024x128.size a := fun v9 k0_t11 v62 v68 k0_hw22 k0_t16 => k0_hw22.2.2.2.2.2.1.2.2.2.2.2.2.2.2.2.2.2.2.2.2.2.2.2.2.1 k0_t16
theorem k0_off343_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off343 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.1 k0_t16
theorem k0_off344_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off344 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.2.1 k0_t16
theorem k0_off345_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off345 v9 k0_t11 v62 v68 k0_t16) a + S1x1x1x32x128.size a ≤ S4x2x8x1024x128.size a := fun v9 k0_t11 v62 v68 k0_hw22 k0_t16 => k0_hw22.2.2.2.2.2.1.2.2.2.2.2.2.2.2.2.2.2.2.2.2.2.2.2.2.2.2.2.1 k0_t16
theorem k0_off347_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off347 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.2.2.2.1 k0_t16
theorem k0_off348_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off348 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.2.2.2.2.1 k0_t16
theorem k0_off349_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off349 v9 k0_t11 v62 v68 k0_t16) a + S1x1x1x32x128.size a ≤ S4x2x8x1024x128.size a := fun v9 k0_t11 v62 v68 k0_hw22 k0_t16 => k0_hw22.2.2.2.2.2.1.2.2.2.2.2.2.2.2.2.2.2.2.2.2.2.2.2.2.2.2.2.2.2.2.1 k0_t16
theorem k0_off351_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off351 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.2.2.2.2.2.2.1 k0_t16
theorem k0_off352_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off352 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.2.2.2.2.2.2.2.1 k0_t16
theorem k0_off353_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off353 v9 k0_t11 v62 v68 k0_t16) a + S1x1x1x32x128.size a ≤ S4x2x8x1024x128.size a := fun v9 k0_t11 v62 v68 k0_hw22 k0_t16 => k0_hw22.2.2.2.2.2.1.2.2.2.2.2.2.2.2.2.2.2.2.2.2.2.2.2.2.2.2.2.2.2.2.2.2.2.1 k0_t16
theorem k0_off355_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off355 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.2.2.2.2.2.2.2.2.2.1 k0_t16
theorem k0_off356_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off356 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.2.2.2.2.2.2.2.2.2.2.1 k0_t16
theorem k0_off357_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off357 v9 k0_t11 v62 v68 k0_t16) a + S1x1x1x32x128.size a ≤ S4x2x8x1024x128.size a := fun v9 k0_t11 v62 v68 k0_hw22 k0_t16 => k0_hw22.2.2.2.2.2.1.2.2.2.2.2.2.2.2.2.2.2.2.2.2.2.2.2.2.2.2.2.2.2.2.2.2.2.2.2.2.1 k0_t16
theorem k0_off359_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off359 v9 k0_t11 v62 v68 k0_t16) a + S1x1x1x8x128.size a ≤ S4x2x64x64x128.size a := fun v9 k0_t11 v62 v68 k0_hw22 k0_t16 => k0_hw22.2.2.2.2.2.1.2.2.2.2.2.2.2.2.2.2.2.2.2.2.2.2.2.2.2.2.2.2.2.2.2.2.2.2.2.2.2 k0_t16
theorem k0_off360_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off360 v9 k0_t11 v62 v68 k0_t16) a + S1x1x1x8x128.size a ≤ S4x2x64x64x128.size a := fun v9 k0_t11 v62 v68 k0_hw22 k0_t16 => k0_hw22.2.2.2.2.2.2.1.1 k0_t16
theorem k0_off361_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off361 v9 k0_t11 v62 v68 k0_t16) a + S1x1x1x32x128.size a ≤ S4x2x8x1024x128.size a := fun v9 k0_t11 v62 v68 k0_hw22 k0_t16 => k0_hw22.2.2.2.2.2.2.1.2.1 k0_t16
theorem k0_off363_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off363 v9 k0_t11 v62 v68 k0_t16) a + S1x1x1x8x128.size a ≤ S4x2x64x64x128.size a := fun v9 k0_t11 v62 v68 k0_hw22 k0_t16 => k0_hw22.2.2.2.2.2.2.1.2.2.1 k0_t16
theorem k0_off364_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off364 v9 k0_t11 v62 v68 k0_t16) a + S1x1x1x8x128.size a ≤ S4x2x64x64x128.size a := fun v9 k0_t11 v62 v68 k0_hw22 k0_t16 => k0_hw22.2.2.2.2.2.2.1.2.2.2.1 k0_t16
theorem k0_off365_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off365 v9 k0_t11 v62 v68 k0_t16) a + S1x1x1x32x128.size a ≤ S4x2x8x1024x128.size a := fun v9 k0_t11 v62 v68 k0_hw22 k0_t16 => k0_hw22.2.2.2.2.2.2.1.2.2.2.2.1 k0_t16
theorem k0_off367_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off367 v9 k0_t11 v62 v68 k0_t16) a + S1x1x1x8x128.size a ≤ S4x2x64x64x128.size a := fun v9 k0_t11 v62 v68 k0_hw22 k0_t16 => k0_hw22.2.2.2.2.2.2.1.2.2.2.2.2.1 k0_t16
theorem k0_off368_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off368 v9 k0_t11 v62 v68 k0_t16) a + S1x1x1x8x128.size a ≤ S4x2x64x64x128.size a := fun v9 k0_t11 v62 v68 k0_hw22 k0_t16 => k0_hw22.2.2.2.2.2.2.1.2.2.2.2.2.2.1 k0_t16
theorem k0_off369_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off369 v9 k0_t11 v62 v68 k0_t16) a + S1x1x1x32x128.size a ≤ S4x2x8x1024x128.size a := fun v9 k0_t11 v62 v68 k0_hw22 k0_t16 => k0_hw22.2.2.2.2.2.2.1.2.2.2.2.2.2.2.1 k0_t16
theorem k0_off371_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off371 v9 k0_t11 v62 v68 k0_t16) a + S1x1x1x8x128.size a ≤ S4x2x64x64x128.size a := fun v9 k0_t11 v62 v68 k0_hw22 k0_t16 => k0_hw22.2.2.2.2.2.2.1.2.2.2.2.2.2.2.2.1 k0_t16
theorem k0_off372_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off372 v9 k0_t11 v62 v68 k0_t16) a + S1x1x1x8x128.size a ≤ S4x2x64x64x128.size a := fun v9 k0_t11 v62 v68 k0_hw22 k0_t16 => k0_hw22.2.2.2.2.2.2.1.2.2.2.2.2.2.2.2.2.1 k0_t16
theorem k0_off373_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off373 v9 k0_t11 v62 v68 k0_t16) a + S1x1x1x32x128.size a ≤ S4x2x8x1024x128.size a := fun v9 k0_t11 v62 v68 k0_hw22 k0_t16 => k0_hw22.2.2.2.2.2.2.1.2.2.2.2.2.2.2.2.2.2.1 k0_t16
theorem k0_off375_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off375 v9 k0_t11 v62 v68 k0_t16) a + S1x1x1x8x128.size a ≤ S4x2x64x64x128.size a := fun v9 k0_t11 v62 v68 k0_hw22 k0_t16 => k0_hw22.2.2.2.2.2.2.1.2.2.2.2.2.2.2.2.2.2.2.1 k0_t16
theorem k0_off376_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off376 v9 k0_t11 v62 v68 k0_t16) a + S1x1x1x8x128.size a ≤ S4x2x64x64x128.size a := fun v9 k0_t11 v62 v68 k0_hw22 k0_t16 => k0_hw22.2.2.2.2.2.2.1.2.2.2.2.2.2.2.2.2.2.2.2.1 k0_t16
theorem k0_off377_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off377 v9 k0_t11 v62 v68 k0_t16) a + S1x1x1x32x128.size a ≤ S4x2x8x1024x128.size a := fun v9 k0_t11 v62 v68 k0_hw22 k0_t16 => k0_hw22.2.2.2.2.2.2.1.2.2.2.2.2.2.2.2.2.2.2.2.2.1 k0_t16
theorem k0_off379_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off379 v9 k0_t11 v62 v68 k0_t16) a + S1x1x1x8x128.size a ≤ S4x2x64x64x128.size a := fun v9 k0_t11 v62 v68 k0_hw22 k0_t16 => k0_hw22.2.2.2.2.2.2.1.2.2.2.2.2.2.2.2.2.2.2.2.2.2.1 k0_t16
theorem k0_off380_inb : ∀ (v9 : BitVec 32) (k0_t11 : Fin (k0_t11_loop v9).trips) (v62 : BitVec 32) (v68 : BitVec 32) (k0_hw22 : k0_chk22 v9 k0_t11 v62 v68) (k0_t16 : Fin (k0_t16_loop v62 v68).trips), ∀ a, (k0_off380 v9 k0_t11 v62 v68 k0_t16) a + S1x1x1x8x128.size a ≤ S4x2x64x64x128.size a := fun v9 k0_t11 v62 v68 k0_hw22 k0_t16 => k0_hw22.2.2.2.2.2.2.1.2.2.2.2.2.2.2.2.2.2.2.2.2.2.2.1 k0_t16
theorem k0_t17_ok : ∀ (v9 : BitVec 32) (k0_t11 : Fin (k0_t11_loop v9).trips) (v62 : BitVec 32) (v68 : BitVec 32) (k0_hw22 : k0_chk22 v9 k0_t11 v62 v68), (k0_t17_loop v62 v68).OK := fun v9 k0_t11 v62 v68 k0_hw22 => k0_hw22.2.2.2.2.2.2.1.2.2.2.2.2.2.2.2.2.2.2.2.2.2.2.2.1
theorem k0_off381_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off381 v62 v68 k0_t17) a + S1x1.size a ≤ S5x256.size a := fun v9 k0_t11 v62 v68 k0_hw22 k0_t17 => k0_hw22.2.2.2.2.2.2.1.2.2.2.2.2.2.2.2.2.2.2.2.2.2.2.2.2.1 k0_t17
theorem k0_off382_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off382 v62) a + S1.size a ≤ S5.size a := fun v9 k0_t11 v62 v68 k0_hw22 k0_t17 => k0_hw22.2.2.2.2.2.2.1.2.2.2.2.2.2.2.2.2.2.2.2.2.2.2.2.2.2.1 k0_t17
theorem k0_mult28_dvd : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), 8 ∣ (k0_mult28 v62 v68 k0_t17).toNat := fun v9 k0_t11 v62 v68 k0_hw22 k0_t17 => k0_hw22.2.2.2.2.2.2.1.2.2.2.2.2.2.2.2.2.2.2.2.2.2.2.2.2.2.2.1 k0_t17
theorem k0_off383_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off383 v9 k0_t11 v62 v68 k0_t17) a + S1x1x1x32x128.size a ≤ S4x2x8x1024x128.size a := fun v9 k0_t11 v62 v68 k0_hw22 k0_t17 => k0_hw22.2.2.2.2.2.2.1.2.2.2.2.2.2.2.2.2.2.2.2.2.2.2.2.2.2.2.2.1 k0_t17
theorem k0_off385_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off385 v9 k0_t11 v62 v68 k0_t17) a + S1x1x1x8x128.size a ≤ S4x2x64x64x128.size a := fun v9 k0_t11 v62 v68 k0_hw22 k0_t17 => k0_hw22.2.2.2.2.2.2.1.2.2.2.2.2.2.2.2.2.2.2.2.2.2.2.2.2.2.2.2.2.1 k0_t17
theorem k0_off386_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off386 v9 k0_t11 v62 v68 k0_t17) a + S1x1x1x8x128.size a ≤ S4x2x64x64x128.size a := fun v9 k0_t11 v62 v68 k0_hw22 k0_t17 => k0_hw22.2.2.2.2.2.2.1.2.2.2.2.2.2.2.2.2.2.2.2.2.2.2.2.2.2.2.2.2.2.1 k0_t17
theorem k0_off387_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off387 v9 k0_t11 v62 v68 k0_t17) a + S1x1x1x32x128.size a ≤ S4x2x8x1024x128.size a := fun v9 k0_t11 v62 v68 k0_hw22 k0_t17 => k0_hw22.2.2.2.2.2.2.1.2.2.2.2.2.2.2.2.2.2.2.2.2.2.2.2.2.2.2.2.2.2.2.1 k0_t17
theorem k0_off389_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off389 v9 k0_t11 v62 v68 k0_t17) a + S1x1x1x8x128.size a ≤ S4x2x64x64x128.size a := fun v9 k0_t11 v62 v68 k0_hw22 k0_t17 => k0_hw22.2.2.2.2.2.2.1.2.2.2.2.2.2.2.2.2.2.2.2.2.2.2.2.2.2.2.2.2.2.2.2.1 k0_t17
theorem k0_off390_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off390 v9 k0_t11 v62 v68 k0_t17) a + S1x1x1x8x128.size a ≤ S4x2x64x64x128.size a := fun v9 k0_t11 v62 v68 k0_hw22 k0_t17 => k0_hw22.2.2.2.2.2.2.1.2.2.2.2.2.2.2.2.2.2.2.2.2.2.2.2.2.2.2.2.2.2.2.2.2.1 k0_t17
theorem k0_off391_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off391 v9 k0_t11 v62 v68 k0_t17) a + S1x1x1x32x128.size a ≤ S4x2x8x1024x128.size a := fun v9 k0_t11 v62 v68 k0_hw22 k0_t17 => k0_hw22.2.2.2.2.2.2.1.2.2.2.2.2.2.2.2.2.2.2.2.2.2.2.2.2.2.2.2.2.2.2.2.2.2.1 k0_t17
theorem k0_off393_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off393 v9 k0_t11 v62 v68 k0_t17) a + S1x1x1x8x128.size a ≤ S4x2x64x64x128.size a := fun v9 k0_t11 v62 v68 k0_hw22 k0_t17 => k0_hw22.2.2.2.2.2.2.1.2.2.2.2.2.2.2.2.2.2.2.2.2.2.2.2.2.2.2.2.2.2.2.2.2.2.2.1 k0_t17
theorem k0_off394_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off394 v9 k0_t11 v62 v68 k0_t17) a + S1x1x1x8x128.size a ≤ S4x2x64x64x128.size a := fun v9 k0_t11 v62 v68 k0_hw22 k0_t17 => k0_hw22.2.2.2.2.2.2.1.2.2.2.2.2.2.2.2.2.2.2.2.2.2.2.2.2.2.2.2.2.2.2.2.2.2.2.2.1 k0_t17
theorem k0_off395_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off395 v9 k0_t11 v62 v68 k0_t17) a + S1x1x1x32x128.size a ≤ S4x2x8x1024x128.size a := fun v9 k0_t11 v62 v68 k0_hw22 k0_t17 => k0_hw22.2.2.2.2.2.2.1.2.2.2.2.2.2.2.2.2.2.2.2.2.2.2.2.2.2.2.2.2.2.2.2.2.2.2.2.2.1 k0_t17
theorem k0_off397_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off397 v9 k0_t11 v62 v68 k0_t17) a + S1x1x1x8x128.size a ≤ S4x2x64x64x128.size a := fun v9 k0_t11 v62 v68 k0_hw22 k0_t17 => k0_hw22.2.2.2.2.2.2.1.2.2.2.2.2.2.2.2.2.2.2.2.2.2.2.2.2.2.2.2.2.2.2.2.2.2.2.2.2.2.1 k0_t17
theorem k0_off398_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off398 v9 k0_t11 v62 v68 k0_t17) a + S1x1x1x8x128.size a ≤ S4x2x64x64x128.size a := fun v9 k0_t11 v62 v68 k0_hw22 k0_t17 => k0_hw22.2.2.2.2.2.2.1.2.2.2.2.2.2.2.2.2.2.2.2.2.2.2.2.2.2.2.2.2.2.2.2.2.2.2.2.2.2.2 k0_t17
theorem k0_off399_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off399 v9 k0_t11 v62 v68 k0_t17) a + S1x1x1x32x128.size a ≤ S4x2x8x1024x128.size a := fun v9 k0_t11 v62 v68 k0_hw22 k0_t17 => k0_hw22.2.2.2.2.2.2.2.1.1 k0_t17
theorem k0_off401_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off401 v9 k0_t11 v62 v68 k0_t17) a + S1x1x1x8x128.size a ≤ S4x2x64x64x128.size a := fun v9 k0_t11 v62 v68 k0_hw22 k0_t17 => k0_hw22.2.2.2.2.2.2.2.1.2.1 k0_t17
theorem k0_off402_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off402 v9 k0_t11 v62 v68 k0_t17) a + S1x1x1x8x128.size a ≤ S4x2x64x64x128.size a := fun v9 k0_t11 v62 v68 k0_hw22 k0_t17 => k0_hw22.2.2.2.2.2.2.2.1.2.2.1 k0_t17
theorem k0_off403_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off403 v9 k0_t11 v62 v68 k0_t17) a + S1x1x1x32x128.size a ≤ S4x2x8x1024x128.size a := fun v9 k0_t11 v62 v68 k0_hw22 k0_t17 => k0_hw22.2.2.2.2.2.2.2.1.2.2.2.1 k0_t17
theorem k0_off405_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off405 v9 k0_t11 v62 v68 k0_t17) a + S1x1x1x8x128.size a ≤ S4x2x64x64x128.size a := fun v9 k0_t11 v62 v68 k0_hw22 k0_t17 => k0_hw22.2.2.2.2.2.2.2.1.2.2.2.2.1 k0_t17
theorem k0_off406_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off406 v9 k0_t11 v62 v68 k0_t17) a + S1x1x1x8x128.size a ≤ S4x2x64x64x128.size a := fun v9 k0_t11 v62 v68 k0_hw22 k0_t17 => k0_hw22.2.2.2.2.2.2.2.1.2.2.2.2.2.1 k0_t17
theorem k0_off407_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off407 v9 k0_t11 v62 v68 k0_t17) a + S1x1x1x32x128.size a ≤ S4x2x8x1024x128.size a := fun v9 k0_t11 v62 v68 k0_hw22 k0_t17 => k0_hw22.2.2.2.2.2.2.2.1.2.2.2.2.2.2.1 k0_t17
theorem k0_off409_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off409 v9 k0_t11 v62 v68 k0_t17) a + S1x1x1x8x128.size a ≤ S4x2x64x64x128.size a := fun v9 k0_t11 v62 v68 k0_hw22 k0_t17 => k0_hw22.2.2.2.2.2.2.2.1.2.2.2.2.2.2.2.1 k0_t17
theorem k0_off410_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off410 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.1 k0_t17
theorem k0_off411_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off411 v9 k0_t11 v62 v68 k0_t17) a + S1x1x1x32x128.size a ≤ S4x2x8x1024x128.size a := fun v9 k0_t11 v62 v68 k0_hw22 k0_t17 => k0_hw22.2.2.2.2.2.2.2.1.2.2.2.2.2.2.2.2.2.1 k0_t17
theorem k0_off413_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off413 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.1 k0_t17
theorem k0_off414_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off414 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.1 k0_t17
theorem k0_off415_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off415 v9 k0_t11 v62 v68 k0_t17) a + S1x1x1x32x128.size a ≤ S4x2x8x1024x128.size a := fun v9 k0_t11 v62 v68 k0_hw22 k0_t17 => k0_hw22.2.2.2.2.2.2.2.1.2.2.2.2.2.2.2.2.2.2.2.2.1 k0_t17
theorem k0_off417_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off417 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.1 k0_t17
theorem k0_off418_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off418 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.1 k0_t17
theorem k0_off419_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off419 v9 k0_t11 v62 v68 k0_t17) a + S1x1x1x32x128.size a ≤ S4x2x8x1024x128.size a := fun v9 k0_t11 v62 v68 k0_hw22 k0_t17 => k0_hw22.2.2.2.2.2.2.2.1.2.2.2.2.2.2.2.2.2.2.2.2.2.2.2.1 k0_t17
theorem k0_off421_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off421 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.1 k0_t17
theorem k0_off422_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off422 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.1 k0_t17
theorem k0_off423_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off423 v9 k0_t11 v62 v68 k0_t17) a + S1x1x1x32x128.size a ≤ S4x2x8x1024x128.size a := fun v9 k0_t11 v62 v68 k0_hw22 k0_t17 => k0_hw22.2.2.2.2.2.2.2.1.2.2.2.2.2.2.2.2.2.2.2.2.2.2.2.2.2.2.1 k0_t17
theorem k0_off425_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off425 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.1 k0_t17
theorem k0_off426_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off426 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.2.1 k0_t17
theorem k0_off427_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off427 v9 k0_t11 v62 v68 k0_t17) a + S1x1x1x32x128.size a ≤ S4x2x8x1024x128.size a := fun v9 k0_t11 v62 v68 k0_hw22 k0_t17 => k0_hw22.2.2.2.2.2.2.2.1.2.2.2.2.2.2.2.2.2.2.2.2.2.2.2.2.2.2.2.2.2.1 k0_t17
theorem k0_off429_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off429 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.2.2.2.1 k0_t17
theorem k0_off430_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off430 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.2.2.2.2.1 k0_t17
theorem k0_off431_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off431 v9 k0_t11 v62 v68 k0_t17) a + S1x1x1x32x128.size a ≤ S4x2x8x1024x128.size a := fun v9 k0_t11 v62 v68 k0_hw22 k0_t17 => k0_hw22.2.2.2.2.2.2.2.1.2.2.2.2.2.2.2.2.2.2.2.2.2.2.2.2.2.2.2.2.2.2.2.2.1 k0_t17
theorem k0_off433_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off433 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.2.2.2.2.2.2.1 k0_t17
theorem k0_off434_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off434 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.2.2.2.2.2.2.2.1 k0_t17
theorem k0_off435_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off435 v9 k0_t11 v62 v68 k0_t17) a + S1x1x1x32x128.size a ≤ S4x2x8x1024x128.size a := fun v9 k0_t11 v62 v68 k0_hw22 k0_t17 => k0_hw22.2.2.2.2.2.2.2.1.2.2.2.2.2.2.2.2.2.2.2.2.2.2.2.2.2.2.2.2.2.2.2.2.2.2.2.1 k0_t17
theorem k0_off437_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off437 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.2.2.2.2.2.2.2.2.2.1 k0_t17
theorem k0_off438_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off438 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.2.2.2.2.2.2.2.2.2.2.1 k0_t17
theorem k0_off439_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off439 v9 k0_t11 v62 v68 k0_t17) a + S1x1x1x32x128.size a ≤ S4x2x8x1024x128.size a := fun v9 k0_t11 v62 v68 k0_hw22 k0_t17 => k0_hw22.2.2.2.2.2.2.2.1.2.2.2.2.2.2.2.2.2.2.2.2.2.2.2.2.2.2.2.2.2.2.2.2.2.2.2.2.2.2.1 k0_t17
theorem k0_off441_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off441 v9 k0_t11 v62 v68 k0_t17) a + S1x1x1x8x128.size a ≤ S4x2x64x64x128.size a := fun v9 k0_t11 v62 v68 k0_hw22 k0_t17 => k0_hw22.2.2.2.2.2.2.2.1.2.2.2.2.2.2.2.2.2.2.2.2.2.2.2.2.2.2.2.2.2.2.2.2.2.2.2.2.2.2.2 k0_t17
theorem k0_off442_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off442 v9 k0_t11 v62 v68 k0_t17) a + S1x1x1x8x128.size a ≤ S4x2x64x64x128.size a := fun v9 k0_t11 v62 v68 k0_hw22 k0_t17 => k0_hw22.2.2.2.2.2.2.2.2.1.1 k0_t17
theorem k0_off443_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off443 v9 k0_t11 v62 v68 k0_t17) a + S1x1x1x32x128.size a ≤ S4x2x8x1024x128.size a := fun v9 k0_t11 v62 v68 k0_hw22 k0_t17 => k0_hw22.2.2.2.2.2.2.2.2.1.2.1 k0_t17
theorem k0_off445_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off445 v9 k0_t11 v62 v68 k0_t17) a + S1x1x1x8x128.size a ≤ S4x2x64x64x128.size a := fun v9 k0_t11 v62 v68 k0_hw22 k0_t17 => k0_hw22.2.2.2.2.2.2.2.2.1.2.2.1 k0_t17
theorem k0_off446_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off446 v9 k0_t11 v62 v68 k0_t17) a + S1x1x1x8x128.size a ≤ S4x2x64x64x128.size a := fun v9 k0_t11 v62 v68 k0_hw22 k0_t17 => k0_hw22.2.2.2.2.2.2.2.2.1.2.2.2.1 k0_t17
theorem k0_off447_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off447 v9 k0_t11 v62 v68 k0_t17) a + S1x1x1x32x128.size a ≤ S4x2x8x1024x128.size a := fun v9 k0_t11 v62 v68 k0_hw22 k0_t17 => k0_hw22.2.2.2.2.2.2.2.2.1.2.2.2.2.1 k0_t17
theorem k0_off449_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off449 v9 k0_t11 v62 v68 k0_t17) a + S1x1x1x8x128.size a ≤ S4x2x64x64x128.size a := fun v9 k0_t11 v62 v68 k0_hw22 k0_t17 => k0_hw22.2.2.2.2.2.2.2.2.1.2.2.2.2.2.1 k0_t17
theorem k0_off450_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off450 v9 k0_t11 v62 v68 k0_t17) a + S1x1x1x8x128.size a ≤ S4x2x64x64x128.size a := fun v9 k0_t11 v62 v68 k0_hw22 k0_t17 => k0_hw22.2.2.2.2.2.2.2.2.1.2.2.2.2.2.2.1 k0_t17
theorem k0_off451_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off451 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.1 k0_t17
theorem k0_off453_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off453 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.1 k0_t17
theorem k0_off454_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off454 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.1 k0_t17
theorem k0_off455_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off455 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.2.2.2.1 k0_t17
theorem k0_off457_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off457 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.1 k0_t17
theorem k0_off458_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off458 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.1 k0_t17
theorem k0_off459_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off459 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.2.2.2.2.2.2.1 k0_t17
theorem k0_off461_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off461 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.1 k0_t17
theorem k0_off462_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off462 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.1 k0_t17
theorem k0_off463_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off463 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.2.2.2.2.2.2.2.2.2.1 k0_t17
theorem k0_off465_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off465 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.1 k0_t17
theorem k0_off466_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off466 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.1 k0_t17
theorem k0_off467_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off467 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.2.2.2.2.2.2.2.2.2.2.2.2.1 k0_t17
theorem k0_off469_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off469 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.2.2.1 k0_t17
theorem k0_off470_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off470 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.2.2.2.1 k0_t17
theorem k0_off471_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off471 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.2.2.2.2.2.2.2.2.2.2.2.2.2.2.2.1 k0_t17
theorem k0_off473_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off473 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.2.2.2.2.2.1 k0_t17
theorem k0_off474_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off474 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.2.2.2.2.2.2.1 k0_t17
theorem k0_off475_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off475 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.2.2.2.2.2.2.2.2.2.2.2.2.2.2.2.2.2.2.1 k0_t17
theorem k0_off477_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off477 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.2.2.2.2.2.2.2.2.1 k0_t17
theorem k0_off478_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off478 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.2.2.2.2.2.2.2.2.2.1 k0_t17
theorem k0_off479_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off479 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.2.2.2.2.2.2.2.2.2.2.2.2.2.2.2.2.2.2.2.2.2.1 k0_t17
theorem k0_off481_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off481 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.2.2.2.2.2.2.2.2.2.2.2.1 k0_t17
theorem k0_off482_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off482 v9 k0_t11 v62 v68 k0_t17) a + S1x1x1x8x128.size a ≤ S4x2x64x64x128.size a := fun v9 k0_t11 v62 v68 k0_hw22 k0_t17 => k0_hw22.2.2.2.2.2.2.2.2.1.2.2.2.2.2.2.2.2.2.2.2.2.2.2.2.2.2.2.2.2.2.2.2.2.2.2.2.2.2.2.1 k0_t17
theorem k0_off483_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off483 v9 k0_t11 v62 v68 k0_t17) a + S1x1x1x32x128.size a ≤ S4x2x8x1024x128.size a := fun v9 k0_t11 v62 v68 k0_hw22 k0_t17 => k0_hw22.2.2.2.2.2.2.2.2.1.2.2.2.2.2.2.2.2.2.2.2.2.2.2.2.2.2.2.2.2.2.2.2.2.2.2.2.2.2.2.2 k0_t17
theorem k0_off485_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off485 v9 k0_t11 v62 v68 k0_t17) a + S1x1x1x8x128.size a ≤ S4x2x64x64x128.size a := fun v9 k0_t11 v62 v68 k0_hw22 k0_t17 => k0_hw22.2.2.2.2.2.2.2.2.2.1.1 k0_t17
theorem k0_off486_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off486 v9 k0_t11 v62 v68 k0_t17) a + S1x1x1x8x128.size a ≤ S4x2x64x64x128.size a := fun v9 k0_t11 v62 v68 k0_hw22 k0_t17 => k0_hw22.2.2.2.2.2.2.2.2.2.1.2.1 k0_t17
theorem k0_off487_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off487 v9 k0_t11 v62 v68 k0_t17) a + S1x1x1x32x128.size a ≤ S4x2x8x1024x128.size a := fun v9 k0_t11 v62 v68 k0_hw22 k0_t17 => k0_hw22.2.2.2.2.2.2.2.2.2.1.2.2.1 k0_t17
theorem k0_off489_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off489 v9 k0_t11 v62 v68 k0_t17) a + S1x1x1x8x128.size a ≤ S4x2x64x64x128.size a := fun v9 k0_t11 v62 v68 k0_hw22 k0_t17 => k0_hw22.2.2.2.2.2.2.2.2.2.1.2.2.2.1 k0_t17
theorem k0_off490_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off490 v9 k0_t11 v62 v68 k0_t17) a + S1x1x1x8x128.size a ≤ S4x2x64x64x128.size a := fun v9 k0_t11 v62 v68 k0_hw22 k0_t17 => k0_hw22.2.2.2.2.2.2.2.2.2.1.2.2.2.2.1 k0_t17
theorem k0_off491_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off491 v9 k0_t11 v62 v68 k0_t17) a + S1x1x1x32x128.size a ≤ S4x2x8x1024x128.size a := fun v9 k0_t11 v62 v68 k0_hw22 k0_t17 => k0_hw22.2.2.2.2.2.2.2.2.2.1.2.2.2.2.2.1 k0_t17
theorem k0_off493_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off493 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.1 k0_t17
theorem k0_off494_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off494 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.1 k0_t17
theorem k0_off495_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off495 v9 k0_t11 v62 v68 k0_t17) a + S1x1x1x32x128.size a ≤ S4x2x8x1024x128.size a := fun v9 k0_t11 v62 v68 k0_hw22 k0_t17 => k0_hw22.2.2.2.2.2.2.2.2.2.1.2.2.2.2.2.2.2.2.1 k0_t17
theorem k0_off497_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off497 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.1 k0_t17
theorem k0_off498_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off498 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.1 k0_t17
theorem k0_off499_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off499 v9 k0_t11 v62 v68 k0_t17) a + S1x1x1x32x128.size a ≤ S4x2x8x1024x128.size a := fun v9 k0_t11 v62 v68 k0_hw22 k0_t17 => k0_hw22.2.2.2.2.2.2.2.2.2.1.2.2.2.2.2.2.2.2.2.2.2.1 k0_t17
theorem k0_off501_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off501 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.1 k0_t17
theorem k0_off502_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off502 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.1 k0_t17
theorem k0_off503_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off503 v9 k0_t11 v62 v68 k0_t17) a + S1x1x1x32x128.size a ≤ S4x2x8x1024x128.size a := fun v9 k0_t11 v62 v68 k0_hw22 k0_t17 => k0_hw22.2.2.2.2.2.2.2.2.2.1.2.2.2.2.2.2.2.2.2.2.2.2.2.2.1 k0_t17
theorem k0_off505_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off505 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.1 k0_t17
theorem k0_off506_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off506 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.1 k0_t17
theorem k0_off507_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off507 v9 k0_t11 v62 v68 k0_t17) a + S1x1x1x32x128.size a ≤ S4x2x8x1024x128.size a := fun v9 k0_t11 v62 v68 k0_hw22 k0_t17 => k0_hw22.2.2.2.2.2.2.2.2.2.1.2.2.2.2.2.2.2.2.2.2.2.2.2.2.2.2.2.1 k0_t17
theorem k0_off509_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off509 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.1 k0_t17
theorem k0_off510_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off510 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.1 k0_t17
theorem k0_off511_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off511 v9 k0_t11 v62 v68 k0_t17) a + S1x1x1x32x128.size a ≤ S4x2x8x1024x128.size a := fun v9 k0_t11 v62 v68 k0_hw22 k0_t17 => k0_hw22.2.2.2.2.2.2.2.2.2.1.2.2.2.2.2.2.2.2.2.2.2.2.2.2.2.2.2.2.2.2.1 k0_t17
theorem k0_off513_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off513 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.2.2.1 k0_t17
theorem k0_off514_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off514 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.2.2.2.1 k0_t17
theorem k0_off515_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off515 v9 k0_t11 v62 v68 k0_t17) a + S1x1x1x32x128.size a ≤ S4x2x8x1024x128.size a := fun v9 k0_t11 v62 v68 k0_hw22 k0_t17 => k0_hw22.2.2.2.2.2.2.2.2.2.1.2.2.2.2.2.2.2.2.2.2.2.2.2.2.2.2.2.2.2.2.2.2.2.1 k0_t17
theorem k0_off517_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off517 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.2.2.2.2.2.1 k0_t17
theorem k0_off518_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off518 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.2.2.2.2.2.2.1 k0_t17
theorem k0_off519_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off519 v9 k0_t11 v62 v68 k0_t17) a + S1x1x1x32x128.size a ≤ S4x2x8x1024x128.size a := fun v9 k0_t11 v62 v68 k0_hw22 k0_t17 => k0_hw22.2.2.2.2.2.2.2.2.2.1.2.2.2.2.2.2.2.2.2.2.2.2.2.2.2.2.2.2.2.2.2.2.2.2.2.2.1 k0_t17
theorem k0_off521_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off521 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.2.2.2.2.2.2.2.2.1 k0_t17
theorem k0_off522_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off522 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.2.2.2.2.2.2.2.2.2.1 k0_t17
theorem k0_off523_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off523 v9 k0_t11 v62 v68 k0_t17) a + S1x1x1x32x128.size a ≤ S4x2x8x1024x128.size a := fun v9 k0_t11 v62 v68 k0_hw22 k0_t17 => k0_hw22.2.2.2.2.2.2.2.2.2.1.2.2.2.2.2.2.2.2.2.2.2.2.2.2.2.2.2.2.2.2.2.2.2.2.2.2.2.2.2.1 k0_t17
theorem k0_off525_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off525 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.2.2.2.2.2.2.2.2.2.2.2.1 k0_t17
theorem k0_off526_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off526 v9 k0_t11 v62 v68 k0_t17) a + S1x1x1x8x128.size a ≤ S4x2x64x64x128.size a := fun v9 k0_t11 v62 v68 k0_hw22 k0_t17 => k0_hw22.2.2.2.2.2.2.2.2.2.1.2.2.2.2.2.2.2.2.2.2.2.2.2.2.2.2.2.2.2.2.2.2.2.2.2.2.2.2.2.2.2 k0_t17
theorem k0_off527_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off527 v9 k0_t11 v62 v68 k0_t17) a + S1x1x1x32x128.size a ≤ S4x2x8x1024x128.size a := fun v9 k0_t11 v62 v68 k0_hw22 k0_t17 => k0_hw22.2.2.2.2.2.2.2.2.2.2.1.1 k0_t17
theorem k0_off529_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off529 v9 k0_t11 v62 v68 k0_t17) a + S1x1x1x8x128.size a ≤ S4x2x64x64x128.size a := fun v9 k0_t11 v62 v68 k0_hw22 k0_t17 => k0_hw22.2.2.2.2.2.2.2.2.2.2.1.2.1 k0_t17
theorem k0_off530_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off530 v9 k0_t11 v62 v68 k0_t17) a + S1x1x1x8x128.size a ≤ S4x2x64x64x128.size a := fun v9 k0_t11 v62 v68 k0_hw22 k0_t17 => k0_hw22.2.2.2.2.2.2.2.2.2.2.1.2.2.1 k0_t17
theorem k0_off531_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off531 v9 k0_t11 v62 v68 k0_t17) a + S1x1x1x32x128.size a ≤ S4x2x8x1024x128.size a := fun v9 k0_t11 v62 v68 k0_hw22 k0_t17 => k0_hw22.2.2.2.2.2.2.2.2.2.2.1.2.2.2.1 k0_t17
theorem k0_off533_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off533 v9 k0_t11 v62 v68 k0_t17) a + S1x1x1x8x128.size a ≤ S4x2x64x64x128.size a := fun v9 k0_t11 v62 v68 k0_hw22 k0_t17 => k0_hw22.2.2.2.2.2.2.2.2.2.2.1.2.2.2.2.1 k0_t17
theorem k0_off534_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off534 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.1 k0_t17
theorem k0_off535_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off535 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.1 k0_t17
theorem k0_off537_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off537 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.1 k0_t17
theorem k0_off538_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off538 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.1 k0_t17
theorem k0_off539_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off539 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.2.2.2.1 k0_t17
theorem k0_off541_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off541 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.1 k0_t17
theorem k0_off542_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off542 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.1 k0_t17
theorem k0_off543_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off543 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.2.2.2.2.2.2.1 k0_t17
theorem k0_off545_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off545 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.1 k0_t17
theorem k0_off546_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off546 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.1 k0_t17
theorem k0_off547_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off547 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.2.2.2.2.2.2.2.2.2.1 k0_t17
theorem k0_off549_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off549 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.1 k0_t17
theorem k0_off550_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off550 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.1 k0_t17
theorem k0_off551_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off551 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.2.2.2.2.2.2.2.2.2.2.2.2.1 k0_t17
theorem k0_off553_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off553 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.1 k0_t17
theorem k0_off554_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off554 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.2.1 k0_t17
theorem k0_off555_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off555 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.2.2.2.2.2.2.2.2.2.2.2.2.2.2.2.1 k0_t17
theorem k0_off557_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off557 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.2.2.2.1 k0_t17
theorem k0_off558_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off558 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.2.2.2.2.1 k0_t17
theorem k0_off559_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off559 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.2.2.2.2.2.2.2.2.2.2.2.2.2.2.2.2.2.2.1 k0_t17
theorem k0_off561_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off561 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.2.2.2.2.2.2.1 k0_t17
theorem k0_off562_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off562 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.2.2.2.2.2.2.2.1 k0_t17
theorem k0_off563_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off563 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.2.2.2.2.2.2.2.2.2.2.2.2.2.2.2.2.2.2.2.2.2.1 k0_t17
theorem k0_off565_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off565 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.2.2.2.2.2.2.2.2.2.1 k0_t17
theorem k0_off566_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off566 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.2.2.2.2.2.2.2.2.2.2.1 k0_t17
theorem k0_off567_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off567 v9 k0_t11 v62 v68 k0_t17) a + S1x1x1x32x128.size a ≤ S4x2x8x1024x128.size a := fun v9 k0_t11 v62 v68 k0_hw22 k0_t17 => k0_hw22.2.2.2.2.2.2.2.2.2.2.1.2.2.2.2.2.2.2.2.2.2.2.2.2.2.2.2.2.2.2.2.2.2.2.2.2.2.2.2.2.2.1 k0_t17
theorem k0_off569_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off569 v9 k0_t11 v62 v68 k0_t17) a + S1x1x1x8x128.size a ≤ S4x2x64x64x128.size a := fun v9 k0_t11 v62 v68 k0_hw22 k0_t17 => k0_hw22.2.2.2.2.2.2.2.2.2.2.1.2.2.2.2.2.2.2.2.2.2.2.2.2.2.2.2.2.2.2.2.2.2.2.2.2.2.2.2.2.2.2 k0_t17
theorem k0_off570_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off570 v9 k0_t11 v62 v68 k0_t17) a + S1x1x1x8x128.size a ≤ S4x2x64x64x128.size a := fun v9 k0_t11 v62 v68 k0_hw22 k0_t17 => k0_hw22.2.2.2.2.2.2.2.2.2.2.2.1.1 k0_t17
theorem k0_off571_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off571 v9 k0_t11 v62 v68 k0_t17) a + S1x1x1x32x128.size a ≤ S4x2x8x1024x128.size a := fun v9 k0_t11 v62 v68 k0_hw22 k0_t17 => k0_hw22.2.2.2.2.2.2.2.2.2.2.2.1.2.1 k0_t17
theorem k0_off573_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off573 v9 k0_t11 v62 v68 k0_t17) a + S1x1x1x8x128.size a ≤ S4x2x64x64x128.size a := fun v9 k0_t11 v62 v68 k0_hw22 k0_t17 => k0_hw22.2.2.2.2.2.2.2.2.2.2.2.1.2.2.1 k0_t17
theorem k0_off574_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off574 v9 k0_t11 v62 v68 k0_t17) a + S1x1x1x8x128.size a ≤ S4x2x64x64x128.size a := fun v9 k0_t11 v62 v68 k0_hw22 k0_t17 => k0_hw22.2.2.2.2.2.2.2.2.2.2.2.1.2.2.2.1 k0_t17
theorem k0_off575_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off575 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.1 k0_t17
theorem k0_off577_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off577 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.1 k0_t17
theorem k0_off578_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off578 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.1 k0_t17
theorem k0_off579_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off579 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.1 k0_t17
theorem k0_off581_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off581 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.1 k0_t17
theorem k0_off582_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off582 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.1 k0_t17
theorem k0_off583_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off583 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.2.2.2.1 k0_t17
theorem k0_off585_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off585 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.1 k0_t17
theorem k0_off586_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off586 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.1 k0_t17
theorem k0_off587_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off587 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.2.2.2.2.2.2.1 k0_t17
theorem k0_off589_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off589 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.1 k0_t17
theorem k0_off590_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off590 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.1 k0_t17
theorem k0_off591_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off591 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.2.2.2.2.2.2.2.2.2.1 k0_t17
theorem k0_off593_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off593 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.1 k0_t17
theorem k0_off594_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off594 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.1 k0_t17
theorem k0_off595_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off595 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.2.2.2.2.2.2.2.2.2.2.2.2.1 k0_t17
theorem k0_off597_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off597 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.2.2.1 k0_t17
theorem k0_off598_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off598 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.2.2.2.1 k0_t17
theorem k0_off599_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off599 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.2.2.2.2.2.2.2.2.2.2.2.2.2.2.2.1 k0_t17
theorem k0_off601_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off601 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.2.2.2.2.2.1 k0_t17
theorem k0_off602_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off602 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.2.2.2.2.2.2.1 k0_t17
theorem k0_off603_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off603 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.2.2.2.2.2.2.2.2.2.2.2.2.2.2.2.2.2.2.1 k0_t17
theorem k0_off605_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off605 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.2.2.2.2.2.2.2.2.1 k0_t17
theorem k0_off606_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off606 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.2.2.2.2.2.2.2.2.2.1 k0_t17
theorem k0_off607_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off607 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.2.2.2.2.2.2.2.2.2.2.2.2.2.2.2.2.2.2.2.2.2.1 k0_t17
theorem k0_off609_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off609 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.2.2.2.2.2.2.2.2.2.2.2.1 k0_t17
theorem k0_off610_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off610 v9 k0_t11 v62 v68 k0_t17) a + S1x1x1x8x128.size a ≤ S4x2x64x64x128.size a := fun v9 k0_t11 v62 v68 k0_hw22 k0_t17 => k0_hw22.2.2.2.2.2.2.2.2.2.2.2.1.2.2.2.2.2.2.2.2.2.2.2.2.2.2.2.2.2.2.2.2.2.2.2.2.2.2.2.2.2.2.1 k0_t17
theorem k0_off611_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off611 v9 k0_t11 v62 v68 k0_t17) a + S1x1x1x32x128.size a ≤ S4x2x8x1024x128.size a := fun v9 k0_t11 v62 v68 k0_hw22 k0_t17 => k0_hw22.2.2.2.2.2.2.2.2.2.2.2.1.2.2.2.2.2.2.2.2.2.2.2.2.2.2.2.2.2.2.2.2.2.2.2.2.2.2.2.2.2.2.2 k0_t17
theorem k0_off613_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off613 v9 k0_t11 v62 v68 k0_t17) a + S1x1x1x8x128.size a ≤ S4x2x64x64x128.size a := fun v9 k0_t11 v62 v68 k0_hw22 k0_t17 => k0_hw22.2.2.2.2.2.2.2.2.2.2.2.2.1.1 k0_t17
theorem k0_off614_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off614 v9 k0_t11 v62 v68 k0_t17) a + S1x1x1x8x128.size a ≤ S4x2x64x64x128.size a := fun v9 k0_t11 v62 v68 k0_hw22 k0_t17 => k0_hw22.2.2.2.2.2.2.2.2.2.2.2.2.1.2.1 k0_t17
theorem k0_off615_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off615 v9 k0_t11 v62 v68 k0_t17) a + S1x1x1x32x128.size a ≤ S4x2x8x1024x128.size a := fun v9 k0_t11 v62 v68 k0_hw22 k0_t17 => k0_hw22.2.2.2.2.2.2.2.2.2.2.2.2.1.2.2.1 k0_t17
theorem k0_off617_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off617 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.1 k0_t17
theorem k0_off618_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off618 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.1 k0_t17
theorem k0_off619_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off619 v9 k0_t11 v62 v68 k0_t17) a + S1x1x1x32x128.size a ≤ S4x2x8x1024x128.size a := fun v9 k0_t11 v62 v68 k0_hw22 k0_t17 => k0_hw22.2.2.2.2.2.2.2.2.2.2.2.2.1.2.2.2.2.2.1 k0_t17
theorem k0_off621_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off621 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.1 k0_t17
theorem k0_off622_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off622 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.1 k0_t17
theorem k0_off623_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off623 v9 k0_t11 v62 v68 k0_t17) a + S1x1x1x32x128.size a ≤ S4x2x8x1024x128.size a := fun v9 k0_t11 v62 v68 k0_hw22 k0_t17 => k0_hw22.2.2.2.2.2.2.2.2.2.2.2.2.1.2.2.2.2.2.2.2.2.1 k0_t17
theorem k0_off625_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off625 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.2.2.1 k0_t17
theorem k0_off626_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off626 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.2.2.2.1 k0_t17
theorem k0_off627_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off627 v9 k0_t11 v62 v68 k0_t17) a + S1x1x1x32x128.size a ≤ S4x2x8x1024x128.size a := fun v9 k0_t11 v62 v68 k0_hw22 k0_t17 => k0_hw22.2.2.2.2.2.2.2.2.2.2.2.2.1.2.2.2.2.2.2.2.2.2.2.2.1 k0_t17
theorem k0_off629_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off629 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.2.2.2.2.2.1 k0_t17
theorem k0_off630_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off630 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.2.2.2.2.2.2.1 k0_t17
theorem k0_off631_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off631 v9 k0_t11 v62 v68 k0_t17) a + S1x1x1x32x128.size a ≤ S4x2x8x1024x128.size a := fun v9 k0_t11 v62 v68 k0_hw22 k0_t17 => k0_hw22.2.2.2.2.2.2.2.2.2.2.2.2.1.2.2.2.2.2.2.2.2.2.2.2.2.2.2.1 k0_t17
theorem k0_off633_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off633 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.2.2.2.2.2.2.2.2.1 k0_t17
theorem k0_off634_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off634 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.2.2.2.2.2.2.2.2.2.1 k0_t17
theorem k0_off635_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off635 v9 k0_t11 v62 v68 k0_t17) a + S1x1x1x32x128.size a ≤ S4x2x8x1024x128.size a := fun v9 k0_t11 v62 v68 k0_hw22 k0_t17 => k0_hw22.2.2.2.2.2.2.2.2.2.2.2.2.1.2.2.2.2.2.2.2.2.2.2.2.2.2.2.2.2.2.1 k0_t17
theorem k0_off637_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off637 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.2.2.2.2.2.2.2.2.2.2.2.1 k0_t17
theorem k0_off638_inb : ∀ (v9 : BitVec 32) (k0_t11 : Fin (k0_t11_loop v9).trips) (v62 : BitVec 32) (v68 : BitVec 32) (k0_hw22 : k0_chk22 v9 k0_t11 v62 v68) (k0_t17 : Fin (k0_t17_loop v62 v68).trips), ∀ a, (k0_off638 v9 k0_t11 v62 v68 k0_t17) a + S1x1x1x8x128.size a ≤ S4x2x64x64x128.size a := fun v9 k0_t11 v62 v68 k0_hw22 k0_t17 => k0_hw22.2.2.2.2.2.2.2.2.2.2.2.2.1.2.2.2.2.2.2.2.2.2.2.2.2.2.2.2.2.2.2.2.1 k0_t17
theorem k0_t18_ok : ∀ (v9 : BitVec 32) (k0_t11 : Fin (k0_t11_loop v9).trips) (v62 : BitVec 32) (v68 : BitVec 32) (k0_hw22 : k0_chk22 v9 k0_t11 v62 v68), (k0_t18_loop v62 v68).OK := fun v9 k0_t11 v62 v68 k0_hw22 => k0_hw22.2.2.2.2.2.2.2.2.2.2.2.2.1.2.2.2.2.2.2.2.2.2.2.2.2.2.2.2.2.2.2.2.2.1
theorem k0_mult29_dvd : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), 8 ∣ (k0_mult29 v62 v68 k0_t18).toNat := fun v9 k0_t11 v62 v68 k0_hw22 k0_t18 => k0_hw22.2.2.2.2.2.2.2.2.2.2.2.2.1.2.2.2.2.2.2.2.2.2.2.2.2.2.2.2.2.2.2.2.2.2.1 k0_t18
theorem k0_off639_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off639 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.1 k0_t18
theorem k0_off640_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off640 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.1 k0_t18
theorem k0_off641_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off641 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.2.1 k0_t18
theorem k0_off642_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off642 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.2.2.1 k0_t18
theorem k0_off643_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off643 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.2.2.2.1 k0_t18
theorem k0_off644_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off644 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.2.2.2.2.1 k0_t18
theorem k0_off645_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off645 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.2.2.2.2.2.1 k0_t18
theorem k0_off646_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off646 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.2.2.2.2.2.2.1 k0_t18
theorem k0_off647_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off647 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.2.2.2.2.2.2.2.1 k0_t18
theorem k0_off648_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off648 v9 k0_t11 v62 v68 k0_t18) a + S1x1x1x8x128.size a ≤ S4x2x64x64x128.size a := fun v9 k0_t11 v62 v68 k0_hw22 k0_t18 => k0_hw22.2.2.2.2.2.2.2.2.2.2.2.2.1.2.2.2.2.2.2.2.2.2.2.2.2.2.2.2.2.2.2.2.2.2.2.2.2.2.2.2.2.2.2.2 k0_t18
theorem k0_off649_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off649 v9 k0_t11 v62 v68 k0_t18) a + S1x1x1x8x128.size a ≤ S4x2x64x64x128.size a := fun v9 k0_t11 v62 v68 k0_hw22 k0_t18 => k0_hw22.2.2.2.2.2.2.2.2.2.2.2.2.2.1.1 k0_t18
theorem k0_off650_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off650 v9 k0_t11 v62 v68 k0_t18) a + S1x1x1x8x128.size a ≤ S4x2x64x64x128.size a := fun v9 k0_t11 v62 v68 k0_hw22 k0_t18 => k0_hw22.2.2.2.2.2.2.2.2.2.2.2.2.2.1.2.1 k0_t18
theorem k0_off651_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off651 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.1 k0_t18
theorem k0_off652_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off652 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.1 k0_t18
theorem k0_off653_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off653 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.1 k0_t18
theorem k0_off654_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off654 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.1 k0_t18
theorem k0_off655_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off655 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.1 k0_t18
theorem k0_off656_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off656 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.1 k0_t18
theorem k0_off657_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off657 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.1 k0_t18
theorem k0_off658_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off658 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.1 k0_t18
theorem k0_off659_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off659 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.1 k0_t18
theorem k0_off660_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off660 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.1 k0_t18
theorem k0_off661_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off661 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.1 k0_t18
theorem k0_off662_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off662 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.1 k0_t18
theorem k0_off663_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off663 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.1 k0_t18
theorem k0_off664_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off664 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.1 k0_t18
theorem k0_off665_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off665 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.1 k0_t18
theorem k0_off666_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off666 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.1 k0_t18
theorem k0_off667_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off667 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.1 k0_t18
theorem k0_off668_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off668 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.1 k0_t18
theorem k0_off669_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off669 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.1 k0_t18
theorem k0_off670_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off670 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.1 k0_t18
theorem k0_off671_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off671 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.1 k0_t18
theorem k0_off672_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off672 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.1 k0_t18
theorem k0_off673_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off673 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.2.1 k0_t18
theorem k0_off674_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off674 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.2.2.1 k0_t18
theorem k0_off675_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off675 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.2.2.2.1 k0_t18
theorem k0_off676_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off676 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.2.2.2.2.1 k0_t18
theorem k0_off677_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off677 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.2.2.2.2.2.1 k0_t18
theorem k0_off678_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off678 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.2.2.2.2.2.2.1 k0_t18
theorem k0_off679_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off679 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.2.2.2.2.2.2.2.1 k0_t18
theorem k0_off680_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off680 v9 k0_t11 v62 v68 k0_t18) a + S1x1x1x8x128.size a ≤ S4x2x64x64x128.size a := fun v9 k0_t11 v62 v68 k0_hw22 k0_t18 => k0_hw22.2.2.2.2.2.2.2.2.2.2.2.2.2.1.2.2.2.2.2.2.2.2.2.2.2.2.2.2.2.2.2.2.2.2.2.2.2.2.2.2.2.2.2.2.2 k0_t18
theorem k0_off681_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off681 v9 k0_t11 v62 v68 k0_t18) a + S1x1x1x8x128.size a ≤ S4x2x64x64x128.size a := fun v9 k0_t11 v62 v68 k0_hw22 k0_t18 => k0_hw22.2.2.2.2.2.2.2.2.2.2.2.2.2.2.1.1 k0_t18
theorem k0_off682_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off682 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.1 k0_t18
theorem k0_off683_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off683 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.1 k0_t18
theorem k0_off684_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off684 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.1 k0_t18
theorem k0_off685_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off685 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.1 k0_t18
theorem k0_off686_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off686 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.1 k0_t18
theorem k0_off687_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off687 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.1 k0_t18
theorem k0_off688_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off688 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.1 k0_t18
theorem k0_off689_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off689 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.1 k0_t18
theorem k0_off690_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off690 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.1 k0_t18
theorem k0_off691_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off691 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.1 k0_t18
theorem k0_off692_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off692 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.1 k0_t18
theorem k0_off693_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off693 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.1 k0_t18
theorem k0_off694_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off694 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.1 k0_t18
theorem k0_off695_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off695 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.1 k0_t18
theorem k0_off696_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off696 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.1 k0_t18
theorem k0_off697_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off697 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.1 k0_t18
theorem k0_off698_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off698 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.1 k0_t18
theorem k0_off699_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off699 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.1 k0_t18
theorem k0_off700_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off700 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.1 k0_t18
theorem k0_off701_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off701 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.1 k0_t18
theorem k0_off702_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off702 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.1 k0_t18
theorem k0_off703_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off703 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.1 k0_t18
theorem k0_off704_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off704 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.1 k0_t18
theorem k0_off705_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off705 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.2.1 k0_t18
theorem k0_off706_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off706 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.2.2.1 k0_t18
theorem k0_off707_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off707 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.2.2.2.1 k0_t18
theorem k0_off708_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off708 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.2.2.2.2.1 k0_t18
theorem k0_off709_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off709 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.2.2.2.2.2.1 k0_t18
theorem k0_off710_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off710 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.2.2.2.2.2.2.1 k0_t18
theorem k0_off711_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off711 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.2.2.2.2.2.2.2.1 k0_t18
theorem k0_off712_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off712 v9 k0_t11 v62 v68 k0_t18) a + S1x1x1x8x128.size a ≤ S4x2x64x64x128.size a := fun v9 k0_t11 v62 v68 k0_hw22 k0_t18 => k0_hw22.2.2.2.2.2.2.2.2.2.2.2.2.2.2.1.2.2.2.2.2.2.2.2.2.2.2.2.2.2.2.2.2.2.2.2.2.2.2.2.2.2.2.2.2.2.2 k0_t18
theorem k0_off713_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off713 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.1 k0_t18
theorem k0_off714_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off714 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.1 k0_t18
theorem k0_off715_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off715 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.1 k0_t18
theorem k0_off716_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off716 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.1 k0_t18
theorem k0_off717_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off717 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.1 k0_t18
theorem k0_off718_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off718 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.1 k0_t18
theorem k0_off719_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off719 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.1 k0_t18
theorem k0_off720_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off720 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.1 k0_t18
theorem k0_off721_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off721 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.1 k0_t18
theorem k0_off722_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off722 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.1 k0_t18
theorem k0_off723_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off723 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.1 k0_t18
theorem k0_off724_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off724 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.1 k0_t18
theorem k0_off725_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off725 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.1 k0_t18
theorem k0_off726_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off726 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.1 k0_t18
theorem k0_off727_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off727 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.1 k0_t18
theorem k0_off728_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off728 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.1 k0_t18
theorem k0_off729_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off729 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.1 k0_t18
theorem k0_off730_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off730 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.1 k0_t18
theorem k0_off731_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off731 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.1 k0_t18
theorem k0_off732_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off732 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.1 k0_t18
theorem k0_off733_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off733 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.1 k0_t18
theorem k0_off734_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off734 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.1 k0_t18
theorem k0_off735_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off735 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.1 k0_t18
theorem k0_off736_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off736 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.1 k0_t18
theorem k0_off737_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off737 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.2.1 k0_t18
theorem k0_off738_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off738 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.2.2.1 k0_t18
theorem k0_off739_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off739 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.2.2.2.1 k0_t18
theorem k0_off740_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off740 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.2.2.2.2.1 k0_t18
theorem k0_off741_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off741 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.2.2.2.2.2.1 k0_t18
theorem k0_off742_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off742 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.2.2.2.2.2.2.1 k0_t18
theorem k0_off743_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off743 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.2.2.2.2.2.2.2.1 k0_t18
theorem k0_off744_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off744 v9 k0_t11 v62 v68 k0_t18) a + S1x1x1x8x128.size a ≤ S4x2x64x64x128.size a := fun v9 k0_t11 v62 v68 k0_hw22 k0_t18 => k0_hw22.2.2.2.2.2.2.2.2.2.2.2.2.2.2.2.1.2.2.2.2.2.2.2.2.2.2.2.2.2.2.2.2.2.2.2.2.2.2.2.2.2.2.2.2.2.2.2 k0_t18
theorem k0_off745_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off745 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.1 k0_t18
theorem k0_off746_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off746 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.1 k0_t18
theorem k0_off747_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off747 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.1 k0_t18
theorem k0_off748_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off748 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.1 k0_t18
theorem k0_off749_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off749 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.1 k0_t18
theorem k0_off750_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off750 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.1 k0_t18
theorem k0_off751_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off751 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.1 k0_t18
theorem k0_off752_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off752 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.1 k0_t18
theorem k0_off753_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off753 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.1 k0_t18
theorem k0_off754_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off754 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.1 k0_t18
theorem k0_off755_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off755 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.1 k0_t18
theorem k0_off756_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off756 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.1 k0_t18
theorem k0_off757_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off757 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.1 k0_t18
theorem k0_off758_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off758 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.1 k0_t18
theorem k0_off759_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off759 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.2.1 k0_t18
theorem k0_off760_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off760 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.2.2.1 k0_t18
theorem k0_off761_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off761 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.2.2.2.1 k0_t18
theorem k0_off762_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off762 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.2.2.2.2.1 k0_t18
theorem k0_off763_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off763 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.2.2.2.2.2.1 k0_t18
theorem k0_off764_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off764 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.2.2.2.2.2.2.1 k0_t18
theorem k0_off765_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off765 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.2.2.2.2.2.2.2.1 k0_t18
theorem k0_off766_inb : ∀ (v9 : BitVec 32) (k0_t11 : Fin (k0_t11_loop v9).trips) (v62 : BitVec 32) (v68 : BitVec 32) (k0_hw22 : k0_chk22 v9 k0_t11 v62 v68) (k0_t18 : Fin (k0_t18_loop v62 v68).trips), ∀ a, (k0_off766 v9 k0_t11 v62 v68 k0_t18) a + S1x1x1x8x128.size a ≤ S4x2x64x64x128.size a := fun v9 k0_t11 v62 v68 k0_hw22 k0_t18 => k0_hw22.2.2.2.2.2.2.2.2.2.2.2.2.2.2.2.2.1.2.2.2.2.2.2.2.2.2.2.2.2.2.2.2.2.2.2.2.2.2.1 k0_t18
theorem k0_t19_ok : ∀ (v9 : BitVec 32) (k0_t11 : Fin (k0_t11_loop v9).trips) (v62 : BitVec 32) (v68 : BitVec 32) (k0_hw22 : k0_chk22 v9 k0_t11 v62 v68), (k0_t19_loop v62 v68).OK := fun v9 k0_t11 v62 v68 k0_hw22 => k0_hw22.2.2.2.2.2.2.2.2.2.2.2.2.2.2.2.2.1.2.2.2.2.2.2.2.2.2.2.2.2.2.2.2.2.2.2.2.2.2.2.1
theorem k0_mult30_dvd : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), 8 ∣ (k0_mult30 v62 v68 k0_t19).toNat := fun v9 k0_t11 v62 v68 k0_hw22 k0_t19 => k0_hw22.2.2.2.2.2.2.2.2.2.2.2.2.2.2.2.2.1.2.2.2.2.2.2.2.2.2.2.2.2.2.2.2.2.2.2.2.2.2.2.2.1 k0_t19
theorem k0_off767_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off767 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.1.2.2.2.2.2.2.2.2.2.2.2.2.2.2.2.2.2.2.2.2.2.2.2.2.1 k0_t19
theorem k0_off768_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off768 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.1.2.2.2.2.2.2.2.2.2.2.2.2.2.2.2.2.2.2.2.2.2.2.2.2.2.1 k0_t19
theorem k0_off769_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off769 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.1.2.2.2.2.2.2.2.2.2.2.2.2.2.2.2.2.2.2.2.2.2.2.2.2.2.2.1 k0_t19
theorem k0_off770_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off770 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.1.2.2.2.2.2.2.2.2.2.2.2.2.2.2.2.2.2.2.2.2.2.2.2.2.2.2.2.1 k0_t19
theorem k0_off771_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off771 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.1.2.2.2.2.2.2.2.2.2.2.2.2.2.2.2.2.2.2.2.2.2.2.2.2.2.2.2.2.1 k0_t19
theorem k0_off772_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off772 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.1.2.2.2.2.2.2.2.2.2.2.2.2.2.2.2.2.2.2.2.2.2.2.2.2.2.2.2.2.2.1 k0_t19
theorem k0_off773_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off773 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.1.2.2.2.2.2.2.2.2.2.2.2.2.2.2.2.2.2.2.2.2.2.2.2.2.2.2.2.2.2.2.1 k0_t19
theorem k0_off774_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off774 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.1.2.2.2.2.2.2.2.2.2.2.2.2.2.2.2.2.2.2.2.2.2.2.2.2.2.2.2.2.2.2.2 k0_t19
theorem k0_off775_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off775 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.1 k0_t19
theorem k0_off776_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off776 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.1 k0_t19
theorem k0_off777_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off777 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.1 k0_t19
theorem k0_off778_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off778 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.1 k0_t19
theorem k0_off779_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off779 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.1 k0_t19
theorem k0_off780_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off780 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.1 k0_t19
theorem k0_off781_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off781 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.1 k0_t19
theorem k0_off782_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off782 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.1 k0_t19
theorem k0_off783_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off783 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.1 k0_t19
theorem k0_off784_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off784 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.1 k0_t19
theorem k0_off785_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off785 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.1 k0_t19
theorem k0_off786_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off786 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.1 k0_t19
theorem k0_off787_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off787 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.1 k0_t19
theorem k0_off788_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off788 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.1 k0_t19
theorem k0_off789_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off789 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.1 k0_t19
theorem k0_off790_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off790 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.1 k0_t19
theorem k0_off791_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off791 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.1 k0_t19
theorem k0_off792_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off792 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.1 k0_t19
theorem k0_off793_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off793 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.1 k0_t19
theorem k0_off794_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off794 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.1 k0_t19
theorem k0_off795_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off795 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.1 k0_t19
theorem k0_off796_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off796 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.1 k0_t19
theorem k0_off797_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off797 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.1 k0_t19
theorem k0_off798_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off798 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.1 k0_t19
theorem k0_off799_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off799 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.2.1 k0_t19
theorem k0_off800_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off800 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.2.2.1 k0_t19
theorem k0_off801_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off801 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.2.2.2.1 k0_t19
theorem k0_off802_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off802 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.2.2.2.2.1 k0_t19
theorem k0_off803_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off803 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.2.2.2.2.2.1 k0_t19
theorem k0_off804_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off804 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.2.2.2.2.2.2.1 k0_t19
theorem k0_off805_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off805 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.2.2.2.2.2.2.2.1 k0_t19
theorem k0_off806_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off806 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.1.2.2.2.2.2.2.2.2.2.2.2.2.2.2.2.2.2.2.2.2.2.2.2.2.2.2.2.2.2.2.2 k0_t19
theorem k0_off807_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off807 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.1 k0_t19
theorem k0_off808_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off808 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.1 k0_t19
theorem k0_off809_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off809 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.1 k0_t19
theorem k0_off810_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off810 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.1 k0_t19
theorem k0_off811_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off811 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.1 k0_t19
theorem k0_off812_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off812 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.1 k0_t19
theorem k0_off813_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off813 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.1 k0_t19
theorem k0_off814_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off814 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.1 k0_t19
theorem k0_off815_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off815 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.1 k0_t19
theorem k0_off816_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off816 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.1 k0_t19
theorem k0_off817_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off817 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.1 k0_t19
theorem k0_off818_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off818 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.1 k0_t19
theorem k0_off819_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off819 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.1 k0_t19
theorem k0_off820_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off820 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.1 k0_t19
theorem k0_off821_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off821 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.1 k0_t19
theorem k0_off822_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off822 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.1 k0_t19
theorem k0_off823_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off823 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.1 k0_t19
theorem k0_off824_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off824 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.1 k0_t19
theorem k0_off825_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off825 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.1 k0_t19
theorem k0_off826_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off826 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.1 k0_t19
theorem k0_off827_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off827 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.1 k0_t19
theorem k0_off828_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off828 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.1 k0_t19
theorem k0_off829_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off829 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.1 k0_t19
theorem k0_off830_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off830 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.1 k0_t19
theorem k0_off831_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off831 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.2.1 k0_t19
theorem k0_off832_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off832 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.2.2.1 k0_t19
theorem k0_off833_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off833 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.2.2.2.1 k0_t19
theorem k0_off834_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off834 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.2.2.2.2.1 k0_t19
theorem k0_off835_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off835 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.2.2.2.2.2.1 k0_t19
theorem k0_off836_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off836 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.2.2.2.2.2.2.1 k0_t19
theorem k0_off837_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off837 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.2.2.2.2.2.2.2.1 k0_t19
theorem k0_off838_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off838 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.1.2.2.2.2.2.2.2.2.2.2.2.2.2.2.2.2.2.2.2.2.2.2.2.2.2.2.2.2.2.2.2 k0_t19
theorem k0_off839_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off839 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.1 k0_t19
theorem k0_off840_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off840 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.1 k0_t19
theorem k0_off841_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off841 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.1 k0_t19
theorem k0_off842_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off842 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.1 k0_t19
theorem k0_off843_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off843 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.1 k0_t19
theorem k0_off844_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off844 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.1 k0_t19
theorem k0_off845_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off845 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.1 k0_t19
theorem k0_off846_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off846 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.1 k0_t19
theorem k0_off847_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off847 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.1 k0_t19
theorem k0_off848_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off848 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.1 k0_t19
theorem k0_off849_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off849 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.1 k0_t19
theorem k0_off850_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off850 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.1 k0_t19
theorem k0_off851_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off851 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.1 k0_t19
theorem k0_off852_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off852 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.1 k0_t19
theorem k0_off853_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off853 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.1 k0_t19
theorem k0_off854_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off854 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.1 k0_t19
theorem k0_off855_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off855 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.1 k0_t19
theorem k0_off856_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off856 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.1 k0_t19
theorem k0_off857_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off857 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.1 k0_t19
theorem k0_off858_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off858 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.1 k0_t19
theorem k0_off859_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off859 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.1 k0_t19
theorem k0_off860_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off860 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.1 k0_t19
theorem k0_off861_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off861 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.1 k0_t19
theorem k0_off862_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off862 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.1 k0_t19
theorem k0_off863_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off863 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.2.1 k0_t19
theorem k0_off864_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off864 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.2.2.1 k0_t19
theorem k0_off865_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off865 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.2.2.2.1 k0_t19
theorem k0_off866_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off866 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.2.2.2.2.1 k0_t19
theorem k0_off867_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off867 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.2.2.2.2.2.1 k0_t19
theorem k0_off868_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off868 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.2.2.2.2.2.2.1 k0_t19
theorem k0_off869_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off869 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.2.2.2.2.2.2.2.1 k0_t19
theorem k0_off870_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off870 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.1.2.2.2.2.2.2.2.2.2.2.2.2.2.2.2.2.2.2.2.2.2.2.2.2.2.2.2.2.2.2.2 k0_t19
theorem k0_off871_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off871 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.1 k0_t19
theorem k0_off872_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off872 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.1 k0_t19
theorem k0_off873_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off873 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.1 k0_t19
theorem k0_off874_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off874 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.1 k0_t19
theorem k0_off875_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off875 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.1 k0_t19
theorem k0_off876_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off876 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.1 k0_t19
theorem k0_off877_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off877 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.1 k0_t19
theorem k0_off878_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off878 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.1 k0_t19
theorem k0_off879_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off879 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.1 k0_t19
theorem k0_off880_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off880 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.1 k0_t19
theorem k0_off881_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off881 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.1 k0_t19
theorem k0_off882_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off882 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.1 k0_t19
theorem k0_off883_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off883 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.1 k0_t19
theorem k0_off884_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off884 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.1 k0_t19
theorem k0_off885_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off885 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.1 k0_t19
theorem k0_off886_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off886 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.1 k0_t19
theorem k0_off887_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off887 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.2.1 k0_t19
theorem k0_off888_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off888 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.2.2.1 k0_t19
theorem k0_off889_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off889 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.2.2.2.1 k0_t19
theorem k0_off890_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off890 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.2.2.2.2.1 k0_t19
theorem k0_off891_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off891 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.2.2.2.2.2.1 k0_t19
theorem k0_off892_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off892 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.2.2.2.2.2.2.1 k0_t19
theorem k0_off893_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off893 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.2.2.2.2.2.2.2.1 k0_t19
theorem k0_off894_inb : ∀ (v9 : BitVec 32) (k0_t11 : Fin (k0_t11_loop v9).trips) (v62 : BitVec 32) (v68 : BitVec 32) (k0_hw22 : k0_chk22 v9 k0_t11 v62 v68) (k0_t19 : Fin (k0_t19_loop v62 v68).trips), ∀ a, (k0_off894 v9 k0_t11 v62 v68 k0_t19) a + S1x1x1x8x128.size a ≤ S4x2x64x64x128.size a := fun v9 k0_t11 v62 v68 k0_hw22 k0_t19 => k0_hw22.2.2.2.2.2.2.2.2.2.2.2.2.2.2.2.2.2.2.2.2.2.2.2.2.2.2.2.2.2.2.2.2.2.2.2.2.2.2.2.2.2.2.2 k0_t19

def k0_off895 (v9 : BitVec 32) (k0_t11 : Fin (k0_t11_loop v9).trips) : Fin 1 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  ![v66.toNat]
def k0_off896 (v62 : BitVec 32) : Fin 4 → Nat :=
  let c32_i32 : BitVec 32 := 32#32
  let v63 : BitVec 32 := Scalar.divsi v62 c32_i32
  let c0_i32_87 : BitVec 32 := 0#32
  let c32_i32_58 : BitVec 32 := 32#32
  let v64 : BitVec 32 := Scalar.remsi v62 c32_i32_58
  let c64_i32_85 : BitVec 32 := 64#32
  let v108 : BitVec 32 := Scalar.muli v64 c64_i32_85
  let c0_i32_88 : BitVec 32 := 0#32
  ![v63.toNat, 0, Nat.mul 2 v108.toNat, 0]
def k0_off897 (v9 : BitVec 32) (k0_t11 : Fin (k0_t11_loop v9).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let c0_i32_86 : BitVec 32 := 0#32
  let c0_i32_89 : BitVec 32 := 0#32
  let c0_i32_90 : BitVec 32 := 0#32
  let c0_i32_91 : BitVec 32 := 0#32
  ![v66.toNat, 0, 0, 0, 0]

def k0_chk15 (v9 : BitVec 32) (k0_t11 : Fin (k0_t11_loop v9).trips) (v62 : BitVec 32) : Prop :=
  (∀ a, (k0_off96 v62) a + S1.size a ≤ S5.size a) ∧
  (∀ (k0_h6 : k0_cond6 v9 k0_t11 = 1#1), ∀ a, (k0_off120 v62) a + S1x64x128x128.size a ≤ S5x64x4096x128.size a) ∧
  (∀ (k0_h6 : k0_cond6 v9 k0_t11 = 1#1), ∀ (hinb : ∀ a, (k0_off120 v62) a + S1x64x128x128.size a ≤ S5x64x4096x128.size a), (Rect.unit (s := S5x64x4096x128) (k0_off120 v62) S1x64x128x128.size hinb).WholeWords (EltTy.packing .bf16)) ∧
  (∀ a, (k0_off896 v62) a + S1x64x128x128.size a ≤ S5x64x4096x128.size a) ∧
  (∀ (hinb : ∀ a, (k0_off896 v62) a + S1x64x128x128.size a ≤ S5x64x4096x128.size a), (Rect.unit (s := S5x64x4096x128) (k0_off896 v62) S1x64x128x128.size hinb).WholeWords (EltTy.packing .bf16))
theorem k0_off96_inb : ∀ (v9 : BitVec 32) (k0_t11 : Fin (k0_t11_loop v9).trips) (v62 : BitVec 32) (k0_hw15 : k0_chk15 v9 k0_t11 v62), ∀ a, (k0_off96 v62) a + S1.size a ≤ S5.size a := fun v9 k0_t11 v62 k0_hw15 => k0_hw15.1
theorem k0_off120_inb : ∀ (v9 : BitVec 32) (k0_t11 : Fin (k0_t11_loop v9).trips) (v62 : BitVec 32) (k0_hw15 : k0_chk15 v9 k0_t11 v62), ∀ (k0_h6 : k0_cond6 v9 k0_t11 = 1#1), ∀ a, (k0_off120 v62) a + S1x64x128x128.size a ≤ S5x64x4096x128.size a := fun v9 k0_t11 v62 k0_hw15 k0_h6 => k0_hw15.2.1 k0_h6
theorem k0_off120_wordsbf16 : ∀ (v9 : BitVec 32) (k0_t11 : Fin (k0_t11_loop v9).trips) (v62 : BitVec 32) (k0_hw15 : k0_chk15 v9 k0_t11 v62), ∀ (k0_h6 : k0_cond6 v9 k0_t11 = 1#1), (Rect.unit (s := S5x64x4096x128) (k0_off120 v62) S1x64x128x128.size (k0_off120_inb v9 k0_t11 v62 k0_hw15 k0_h6)).WholeWords (EltTy.packing .bf16) := fun v9 k0_t11 v62 k0_hw15 k0_h6 => k0_hw15.2.2.1 k0_h6 (k0_off120_inb v9 k0_t11 v62 k0_hw15 k0_h6)
theorem k0_off896_inb : ∀ (v9 : BitVec 32) (k0_t11 : Fin (k0_t11_loop v9).trips) (v62 : BitVec 32) (k0_hw15 : k0_chk15 v9 k0_t11 v62), ∀ a, (k0_off896 v62) a + S1x64x128x128.size a ≤ S5x64x4096x128.size a := fun v9 k0_t11 v62 k0_hw15 => k0_hw15.2.2.2.1
theorem k0_off896_wordsbf16 : ∀ (v9 : BitVec 32) (k0_t11 : Fin (k0_t11_loop v9).trips) (v62 : BitVec 32) (k0_hw15 : k0_chk15 v9 k0_t11 v62), (Rect.unit (s := S5x64x4096x128) (k0_off896 v62) S1x64x128x128.size (k0_off896_inb v9 k0_t11 v62 k0_hw15)).WholeWords (EltTy.packing .bf16) := fun v9 k0_t11 v62 k0_hw15 => k0_hw15.2.2.2.2 (k0_off896_inb v9 k0_t11 v62 k0_hw15)

def k0_off898 (v9 : BitVec 32) (k0_t11 : Fin (k0_t11_loop v9).trips) : Fin 5 → Nat :=
  let c0_i32_39 : BitVec 32 := 0#32
  let c1_i32_42 : BitVec 32 := 1#32
  let arg18 : BitVec 32 := Scf.iv c0_i32_39 c1_i32_42 k0_t11
  let c4_i32_60 : BitVec 32 := 4#32
  let v66 : BitVec 32 := Scalar.remsi arg18 c4_i32_60
  let c1_i32_93 : BitVec 32 := 1#32
  let c0_i32_96 : BitVec 32 := 0#32
  let c0_i32_97 : BitVec 32 := 0#32
  let c0_i32_98 : BitVec 32 := 0#32
  ![v66.toNat, 1, 0, 0, 0]
@[reducible] def k0_t20_loop (v9 : BitVec 32) : Scf.Loop 32 :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let v32 : BitVec 32 := Scalar.addi c0_i32_39 v31
  let c1_i32_43 : BitVec 32 := 1#32
  ⟨v35, v32, c1_i32_43⟩
def k0_off899 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let v61 : Index := Scalar.indexCast arg18
  ![v61.toNat]
def k0_off900 (v62 : BitVec 32) : Fin 1 → Nat :=
  let c32_i32 : BitVec 32 := 32#32
  let v63 : BitVec 32 := Scalar.divsi v62 c32_i32
  let v67 : Index := Scalar.indexCast v63
  ![v67.toNat]

def k0_off901 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let v128 : Index := Scalar.indexCast v127
  ![v128.toNat]
def k0_cond7 (v9 : BitVec 32) (k0_t20 : Fin (k0_t20_loop v9).trips) : BitVec 1 :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_64 : BitVec 32 := 4#32
  let v76 : BitVec 32 := Scalar.addi arg18 c4_i32_64
  let c1_i32_65 : BitVec 32 := 1#32
  let v77 : BitVec 32 := Scalar.subi v76 c1_i32_65
  let v78 : BitVec 1 := Scalar.cmpi .slt v77 v9
  let v79 : BitVec 32 := Scalar.extui v78
  let c0_i32_66 : BitVec 32 := 0#32
  let v80 : BitVec 1 := Scalar.cmpi .ne v79 c0_i32_66
  v80

def k0_off902 (v129 : BitVec 32) : Fin 1 → Nat :=
  let c32_i32_102 : BitVec 32 := 32#32
  let v130 : BitVec 32 := Scalar.divsi v129 c32_i32_102
  let v133 : Index := Scalar.indexCast v130
  ![v133.toNat]

def k0_chk26 (v9 : BitVec 32) (k0_t20 : Fin (k0_t20_loop v9).trips) (v129 : BitVec 32) : Prop :=
  (∀ (k0_h7 : k0_cond7 v9 k0_t20 = 1#1), ∀ a, (k0_off902 v129) a + S1.size a ≤ S5.size a)
theorem k0_off902_inb : ∀ (v9 : BitVec 32) (k0_t20 : Fin (k0_t20_loop v9).trips) (v129 : BitVec 32) (k0_hw26 : k0_chk26 v9 k0_t20 v129), ∀ (k0_h7 : k0_cond7 v9 k0_t20 = 1#1), ∀ a, (k0_off902 v129) a + S1.size a ≤ S5.size a := fun v9 k0_t20 v129 k0_hw26 k0_h7 => k0_hw26 k0_h7

@[reducible] def k0_t21_loop (v129 : BitVec 32) (v134 : BitVec 32) : Scf.Loop 32 :=
  let c0_i32_111 : BitVec 32 := 0#32
  let c8_i32_110 : BitVec 32 := 8#32
  let c0_i32_109 : BitVec 32 := 0#32
  let c32_i32_103 : BitVec 32 := 32#32
  let v131 : BitVec 32 := Scalar.remsi v129 c32_i32_103
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let c1_i32_114 : BitVec 32 := 1#32
  ⟨c0_i32_111, v146, c1_i32_114⟩

def k0_off903 (v129 : BitVec 32) (v134 : BitVec 32) (k0_t21 : Fin (k0_t21_loop v129 v134).trips) : Fin 2 → Nat :=
  let c32_i32_102 : BitVec 32 := 32#32
  let v130 : BitVec 32 := Scalar.divsi v129 c32_i32_102
  let v151 : Index := Scalar.indexCast v130
  let c32_i32_103 : BitVec 32 := 32#32
  let v131 : BitVec 32 := Scalar.remsi v129 c32_i32_103
  let c8_i32_116 : BitVec 32 := 8#32
  let v149 : BitVec 32 := Scalar.muli v131 c8_i32_116
  let c0_i32_111 : BitVec 32 := 0#32
  let c1_i32_114 : BitVec 32 := 1#32
  let arg20 : BitVec 32 := Scf.iv c0_i32_111 c1_i32_114 k0_t21
  let v150 : BitVec 32 := Scalar.addi v149 arg20
  let v152 : Index := Scalar.indexCast v150
  ![v151.toNat, v152.toNat]
def k0_off904 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  ![v132.toNat]
def k0_off905 (v9 : BitVec 32) (k0_t20 : Fin (k0_t20_loop v9).trips) (v129 : BitVec 32) (v134 : BitVec 32) (k0_t21 : Fin (k0_t21_loop v129 v134).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  let c0_i32_117 : BitVec 32 := 0#32
  let c0_i32_111 : BitVec 32 := 0#32
  let c1_i32_114 : BitVec 32 := 1#32
  let arg20 : BitVec 32 := Scf.iv c0_i32_111 c1_i32_114 k0_t21
  let c0_i32_118 : BitVec 32 := 0#32
  let c0_i32_119 : BitVec 32 := 0#32
  ![v132.toNat, 0, arg20.toNat, 0, 0]
def k0_off906 (v153 : BitVec 32) : Fin 3 → Nat :=
  let c0_i32_120 : BitVec 32 := 0#32
  let c0_i32_121 : BitVec 32 := 0#32
  ![v153.toNat, 0, 0]

def k0_chk28 (v9 : BitVec 32) (k0_t20 : Fin (k0_t20_loop v9).trips) (v153 : BitVec 32) : Prop :=
  (∀ (k0_h7 : k0_cond7 v9 k0_t20 = 1#1), ∀ a, (k0_off906 v153) a + S1x1024x128.size a ≤ S1600x1024x128.size a) ∧
  (∀ (k0_h7 : k0_cond7 v9 k0_t20 = 1#1), ∀ (hinb : ∀ a, (k0_off906 v153) a + S1x1024x128.size a ≤ S1600x1024x128.size a), (Rect.unit (s := S1600x1024x128) (k0_off906 v153) S1x1024x128.size hinb).WholeWords (EltTy.packing .fp8e4m3))
theorem k0_off906_inb : ∀ (v9 : BitVec 32) (k0_t20 : Fin (k0_t20_loop v9).trips) (v153 : BitVec 32) (k0_hw28 : k0_chk28 v9 k0_t20 v153), ∀ (k0_h7 : k0_cond7 v9 k0_t20 = 1#1), ∀ a, (k0_off906 v153) a + S1x1024x128.size a ≤ S1600x1024x128.size a := fun v9 k0_t20 v153 k0_hw28 k0_h7 => k0_hw28.1 k0_h7
theorem k0_off906_wordsfp8e4m3 : ∀ (v9 : BitVec 32) (k0_t20 : Fin (k0_t20_loop v9).trips) (v153 : BitVec 32) (k0_hw28 : k0_chk28 v9 k0_t20 v153), ∀ (k0_h7 : k0_cond7 v9 k0_t20 = 1#1), (Rect.unit (s := S1600x1024x128) (k0_off906 v153) S1x1024x128.size (k0_off906_inb v9 k0_t20 v153 k0_hw28 k0_h7)).WholeWords (EltTy.packing .fp8e4m3) := fun v9 k0_t20 v153 k0_hw28 k0_h7 => k0_hw28.2 k0_h7 (k0_off906_inb v9 k0_t20 v153 k0_hw28 k0_h7)

def k0_off907 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  ![v132.toNat]
def k0_off908 (v9 : BitVec 32) (k0_t20 : Fin (k0_t20_loop v9).trips) (v129 : BitVec 32) (v134 : BitVec 32) (k0_t21 : Fin (k0_t21_loop v129 v134).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  let c1_i32_122 : BitVec 32 := 1#32
  let c0_i32_111 : BitVec 32 := 0#32
  let c1_i32_114 : BitVec 32 := 1#32
  let arg20 : BitVec 32 := Scf.iv c0_i32_111 c1_i32_114 k0_t21
  let c0_i32_123 : BitVec 32 := 0#32
  let c0_i32_124 : BitVec 32 := 0#32
  ![v132.toNat, 1, arg20.toNat, 0, 0]
@[reducible] def k0_t22_loop (v129 : BitVec 32) (v134 : BitVec 32) : Scf.Loop 32 :=
  let c0_i32_111 : BitVec 32 := 0#32
  let c8_i32_110 : BitVec 32 := 8#32
  let c0_i32_109 : BitVec 32 := 0#32
  let c32_i32_103 : BitVec 32 := 32#32
  let v131 : BitVec 32 := Scalar.remsi v129 c32_i32_103
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let v143 : BitVec 32 := Scalar.addi c0_i32_111 v142
  let c1_i32_115 : BitVec 32 := 1#32
  ⟨v146, v143, c1_i32_115⟩
def k0_off909 (v129 : BitVec 32) (v134 : BitVec 32) (k0_t22 : Fin (k0_t22_loop v129 v134).trips) : Fin 2 → Nat :=
  let c32_i32_102 : BitVec 32 := 32#32
  let v130 : BitVec 32 := Scalar.divsi v129 c32_i32_102
  let v151 : Index := Scalar.indexCast v130
  let c32_i32_103 : BitVec 32 := 32#32
  let v131 : BitVec 32 := Scalar.remsi v129 c32_i32_103
  let c8_i32_116 : BitVec 32 := 8#32
  let v149 : BitVec 32 := Scalar.muli v131 c8_i32_116
  let c0_i32_111 : BitVec 32 := 0#32
  let c8_i32_110 : BitVec 32 := 8#32
  let c0_i32_109 : BitVec 32 := 0#32
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let c1_i32_115 : BitVec 32 := 1#32
  let arg20 : BitVec 32 := Scf.iv v146 c1_i32_115 k0_t22
  let v150 : BitVec 32 := Scalar.addi v149 arg20
  let v152 : Index := Scalar.indexCast v150
  ![v151.toNat, v152.toNat]
def k0_off910 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  ![v132.toNat]
def k0_off911 (v9 : BitVec 32) (k0_t20 : Fin (k0_t20_loop v9).trips) (v129 : BitVec 32) (v134 : BitVec 32) (k0_t22 : Fin (k0_t22_loop v129 v134).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  let c0_i32_117 : BitVec 32 := 0#32
  let c0_i32_111 : BitVec 32 := 0#32
  let c8_i32_110 : BitVec 32 := 8#32
  let c0_i32_109 : BitVec 32 := 0#32
  let c32_i32_103 : BitVec 32 := 32#32
  let v131 : BitVec 32 := Scalar.remsi v129 c32_i32_103
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let c1_i32_115 : BitVec 32 := 1#32
  let arg20 : BitVec 32 := Scf.iv v146 c1_i32_115 k0_t22
  let c0_i32_118 : BitVec 32 := 0#32
  let c0_i32_119 : BitVec 32 := 0#32
  ![v132.toNat, 0, arg20.toNat, 0, 0]
def k0_off912 (v153 : BitVec 32) : Fin 3 → Nat :=
  let c0_i32_120 : BitVec 32 := 0#32
  let c0_i32_121 : BitVec 32 := 0#32
  ![v153.toNat, 0, 0]

def k0_chk29 (v9 : BitVec 32) (k0_t20 : Fin (k0_t20_loop v9).trips) (v153 : BitVec 32) : Prop :=
  (∀ (k0_h7 : k0_cond7 v9 k0_t20 = 1#1), ∀ a, (k0_off912 v153) a + S1x1024x128.size a ≤ S1600x1024x128.size a) ∧
  (∀ (k0_h7 : k0_cond7 v9 k0_t20 = 1#1), ∀ (hinb : ∀ a, (k0_off912 v153) a + S1x1024x128.size a ≤ S1600x1024x128.size a), (Rect.unit (s := S1600x1024x128) (k0_off912 v153) S1x1024x128.size hinb).WholeWords (EltTy.packing .fp8e4m3))
theorem k0_off912_inb : ∀ (v9 : BitVec 32) (k0_t20 : Fin (k0_t20_loop v9).trips) (v153 : BitVec 32) (k0_hw29 : k0_chk29 v9 k0_t20 v153), ∀ (k0_h7 : k0_cond7 v9 k0_t20 = 1#1), ∀ a, (k0_off912 v153) a + S1x1024x128.size a ≤ S1600x1024x128.size a := fun v9 k0_t20 v153 k0_hw29 k0_h7 => k0_hw29.1 k0_h7
theorem k0_off912_wordsfp8e4m3 : ∀ (v9 : BitVec 32) (k0_t20 : Fin (k0_t20_loop v9).trips) (v153 : BitVec 32) (k0_hw29 : k0_chk29 v9 k0_t20 v153), ∀ (k0_h7 : k0_cond7 v9 k0_t20 = 1#1), (Rect.unit (s := S1600x1024x128) (k0_off912 v153) S1x1024x128.size (k0_off912_inb v9 k0_t20 v153 k0_hw29 k0_h7)).WholeWords (EltTy.packing .fp8e4m3) := fun v9 k0_t20 v153 k0_hw29 k0_h7 => k0_hw29.2 k0_h7 (k0_off912_inb v9 k0_t20 v153 k0_hw29 k0_h7)

def k0_off913 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  ![v132.toNat]
def k0_off914 (v9 : BitVec 32) (k0_t20 : Fin (k0_t20_loop v9).trips) (v129 : BitVec 32) (v134 : BitVec 32) (k0_t22 : Fin (k0_t22_loop v129 v134).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_100 : BitVec 32 := 4#32
  let v126 : BitVec 32 := Scalar.addi arg18 c4_i32_100
  let c1_i32_101 : BitVec 32 := 1#32
  let v127 : BitVec 32 := Scalar.subi v126 c1_i32_101
  let c4_i32_104 : BitVec 32 := 4#32
  let v132 : BitVec 32 := Scalar.remsi v127 c4_i32_104
  let c1_i32_122 : BitVec 32 := 1#32
  let c0_i32_111 : BitVec 32 := 0#32
  let c8_i32_110 : BitVec 32 := 8#32
  let c0_i32_109 : BitVec 32 := 0#32
  let c32_i32_103 : BitVec 32 := 32#32
  let v131 : BitVec 32 := Scalar.remsi v129 c32_i32_103
  let c128_i32_105 : BitVec 32 := 128#32
  let v135 : BitVec 32 := Scalar.muli v131 c128_i32_105
  let v136 : BitVec 32 := Scalar.subi v134 v135
  let c16_i32_106 : BitVec 32 := 16#32
  let v137 : BitVec 32 := Scalar.addi v136 c16_i32_106
  let c1_i32_107 : BitVec 32 := 1#32
  let v138 : BitVec 32 := Scalar.subi v137 c1_i32_107
  let c16_i32_108 : BitVec 32 := 16#32
  let v139 : BitVec 32 := Scalar.divsi v138 c16_i32_108
  let v140 : BitVec 32 := Scalar.maxsi c0_i32_109 v139
  let v141 : BitVec 32 := Scalar.minsi c8_i32_110 v140
  let v142 : BitVec 32 := Scalar.subi v141 c0_i32_111
  let c1_i32_113 : BitVec 32 := 1#32
  let v144 : BitVec 32 := Scalar.divsi v142 c1_i32_113
  let v145 : BitVec 32 := Scalar.muli v144 c1_i32_113
  let v146 : BitVec 32 := Scalar.addi c0_i32_111 v145
  let c1_i32_115 : BitVec 32 := 1#32
  let arg20 : BitVec 32 := Scf.iv v146 c1_i32_115 k0_t22
  let c0_i32_123 : BitVec 32 := 0#32
  let c0_i32_124 : BitVec 32 := 0#32
  ![v132.toNat, 1, arg20.toNat, 0, 0]

def k0_chk27 (v9 : BitVec 32) (k0_t20 : Fin (k0_t20_loop v9).trips) (v129 : BitVec 32) (v134 : BitVec 32) : Prop :=
  (∀ (k0_h7 : k0_cond7 v9 k0_t20 = 1#1), (k0_t21_loop v129 v134).OK) ∧
  (∀ k0_t21 : Fin (k0_t21_loop v129 v134).trips, ∀ (k0_h7 : k0_cond7 v9 k0_t20 = 1#1), ∀ a, (k0_off903 v129 v134 k0_t21) a + S1x1.size a ≤ S5x256.size a) ∧
  (∀ k0_t21 : Fin (k0_t21_loop v129 v134).trips, ∀ (k0_h7 : k0_cond7 v9 k0_t20 = 1#1), ∀ a, (k0_off904 v9 k0_t20) a + S1.size a ≤ S4.size a) ∧
  (∀ k0_t21 : Fin (k0_t21_loop v129 v134).trips, ∀ (k0_h7 : k0_cond7 v9 k0_t20 = 1#1), ∀ a, (k0_off905 v9 k0_t20 v129 v134 k0_t21) a + S1x1x1x1024x128.size a ≤ S4x2x8x1024x128.size a) ∧
  (∀ k0_t21 : Fin (k0_t21_loop v129 v134).trips, ∀ (k0_h7 : k0_cond7 v9 k0_t20 = 1#1), ∀ (hinb : ∀ a, (k0_off905 v9 k0_t20 v129 v134 k0_t21) a + S1x1x1x1024x128.size a ≤ S4x2x8x1024x128.size a), (Rect.unit (s := S4x2x8x1024x128) (k0_off905 v9 k0_t20 v129 v134 k0_t21) S1x1x1x1024x128.size hinb).WholeWords (EltTy.packing .fp8e4m3)) ∧
  (∀ k0_t21 : Fin (k0_t21_loop v129 v134).trips, ∀ (k0_h7 : k0_cond7 v9 k0_t20 = 1#1), ∀ a, (k0_off907 v9 k0_t20) a + S1.size a ≤ S4.size a) ∧
  (∀ k0_t21 : Fin (k0_t21_loop v129 v134).trips, ∀ (k0_h7 : k0_cond7 v9 k0_t20 = 1#1), ∀ a, (k0_off908 v9 k0_t20 v129 v134 k0_t21) a + S1x1x1x1024x128.size a ≤ S4x2x8x1024x128.size a) ∧
  (∀ k0_t21 : Fin (k0_t21_loop v129 v134).trips, ∀ (k0_h7 : k0_cond7 v9 k0_t20 = 1#1), ∀ (hinb : ∀ a, (k0_off908 v9 k0_t20 v129 v134 k0_t21) a + S1x1x1x1024x128.size a ≤ S4x2x8x1024x128.size a), (Rect.unit (s := S4x2x8x1024x128) (k0_off908 v9 k0_t20 v129 v134 k0_t21) S1x1x1x1024x128.size hinb).WholeWords (EltTy.packing .fp8e4m3)) ∧
  (∀ (k0_h7 : k0_cond7 v9 k0_t20 = 1#1), (k0_t22_loop v129 v134).OK) ∧
  (∀ k0_t22 : Fin (k0_t22_loop v129 v134).trips, ∀ (k0_h7 : k0_cond7 v9 k0_t20 = 1#1), ∀ a, (k0_off909 v129 v134 k0_t22) a + S1x1.size a ≤ S5x256.size a) ∧
  (∀ k0_t22 : Fin (k0_t22_loop v129 v134).trips, ∀ (k0_h7 : k0_cond7 v9 k0_t20 = 1#1), ∀ a, (k0_off910 v9 k0_t20) a + S1.size a ≤ S4.size a) ∧
  (∀ k0_t22 : Fin (k0_t22_loop v129 v134).trips, ∀ (k0_h7 : k0_cond7 v9 k0_t20 = 1#1), ∀ a, (k0_off911 v9 k0_t20 v129 v134 k0_t22) a + S1x1x1x1024x128.size a ≤ S4x2x8x1024x128.size a) ∧
  (∀ k0_t22 : Fin (k0_t22_loop v129 v134).trips, ∀ (k0_h7 : k0_cond7 v9 k0_t20 = 1#1), ∀ (hinb : ∀ a, (k0_off911 v9 k0_t20 v129 v134 k0_t22) a + S1x1x1x1024x128.size a ≤ S4x2x8x1024x128.size a), (Rect.unit (s := S4x2x8x1024x128) (k0_off911 v9 k0_t20 v129 v134 k0_t22) S1x1x1x1024x128.size hinb).WholeWords (EltTy.packing .fp8e4m3)) ∧
  (∀ k0_t22 : Fin (k0_t22_loop v129 v134).trips, ∀ (k0_h7 : k0_cond7 v9 k0_t20 = 1#1), ∀ a, (k0_off913 v9 k0_t20) a + S1.size a ≤ S4.size a) ∧
  (∀ k0_t22 : Fin (k0_t22_loop v129 v134).trips, ∀ (k0_h7 : k0_cond7 v9 k0_t20 = 1#1), ∀ a, (k0_off914 v9 k0_t20 v129 v134 k0_t22) a + S1x1x1x1024x128.size a ≤ S4x2x8x1024x128.size a) ∧
  (∀ k0_t22 : Fin (k0_t22_loop v129 v134).trips, ∀ (k0_h7 : k0_cond7 v9 k0_t20 = 1#1), ∀ (hinb : ∀ a, (k0_off914 v9 k0_t20 v129 v134 k0_t22) a + S1x1x1x1024x128.size a ≤ S4x2x8x1024x128.size a), (Rect.unit (s := S4x2x8x1024x128) (k0_off914 v9 k0_t20 v129 v134 k0_t22) S1x1x1x1024x128.size hinb).WholeWords (EltTy.packing .fp8e4m3))
theorem k0_t21_ok : ∀ (v9 : BitVec 32) (k0_t20 : Fin (k0_t20_loop v9).trips) (v129 : BitVec 32) (v134 : BitVec 32) (k0_hw27 : k0_chk27 v9 k0_t20 v129 v134), ∀ (k0_h7 : k0_cond7 v9 k0_t20 = 1#1), (k0_t21_loop v129 v134).OK := fun v9 k0_t20 v129 v134 k0_hw27 k0_h7 => k0_hw27.1 k0_h7
theorem k0_off903_inb : ∀ (v9 : BitVec 32) (k0_t20 : Fin (k0_t20_loop v9).trips) (v129 : BitVec 32) (v134 : BitVec 32) (k0_hw27 : k0_chk27 v9 k0_t20 v129 v134) (k0_t21 : Fin (k0_t21_loop v129 v134).trips), ∀ (k0_h7 : k0_cond7 v9 k0_t20 = 1#1), ∀ a, (k0_off903 v129 v134 k0_t21) a + S1x1.size a ≤ S5x256.size a := fun v9 k0_t20 v129 v134 k0_hw27 k0_t21 k0_h7 => k0_hw27.2.1 k0_t21 k0_h7
theorem k0_off904_inb : ∀ (v9 : BitVec 32) (k0_t20 : Fin (k0_t20_loop v9).trips) (v129 : BitVec 32) (v134 : BitVec 32) (k0_hw27 : k0_chk27 v9 k0_t20 v129 v134) (k0_t21 : Fin (k0_t21_loop v129 v134).trips), ∀ (k0_h7 : k0_cond7 v9 k0_t20 = 1#1), ∀ a, (k0_off904 v9 k0_t20) a + S1.size a ≤ S4.size a := fun v9 k0_t20 v129 v134 k0_hw27 k0_t21 k0_h7 => k0_hw27.2.2.1 k0_t21 k0_h7
theorem k0_off905_inb : ∀ (v9 : BitVec 32) (k0_t20 : Fin (k0_t20_loop v9).trips) (v129 : BitVec 32) (v134 : BitVec 32) (k0_hw27 : k0_chk27 v9 k0_t20 v129 v134) (k0_t21 : Fin (k0_t21_loop v129 v134).trips), ∀ (k0_h7 : k0_cond7 v9 k0_t20 = 1#1), ∀ a, (k0_off905 v9 k0_t20 v129 v134 k0_t21) a + S1x1x1x1024x128.size a ≤ S4x2x8x1024x128.size a := fun v9 k0_t20 v129 v134 k0_hw27 k0_t21 k0_h7 => k0_hw27.2.2.2.1 k0_t21 k0_h7
theorem k0_off905_wordsfp8e4m3 : ∀ (v9 : BitVec 32) (k0_t20 : Fin (k0_t20_loop v9).trips) (v129 : BitVec 32) (v134 : BitVec 32) (k0_hw27 : k0_chk27 v9 k0_t20 v129 v134) (k0_t21 : Fin (k0_t21_loop v129 v134).trips), ∀ (k0_h7 : k0_cond7 v9 k0_t20 = 1#1), (Rect.unit (s := S4x2x8x1024x128) (k0_off905 v9 k0_t20 v129 v134 k0_t21) S1x1x1x1024x128.size (k0_off905_inb v9 k0_t20 v129 v134 k0_hw27 k0_t21 k0_h7)).WholeWords (EltTy.packing .fp8e4m3) := fun v9 k0_t20 v129 v134 k0_hw27 k0_t21 k0_h7 => k0_hw27.2.2.2.2.1 k0_t21 k0_h7 (k0_off905_inb v9 k0_t20 v129 v134 k0_hw27 k0_t21 k0_h7)
theorem k0_off907_inb : ∀ (v9 : BitVec 32) (k0_t20 : Fin (k0_t20_loop v9).trips) (v129 : BitVec 32) (v134 : BitVec 32) (k0_hw27 : k0_chk27 v9 k0_t20 v129 v134) (k0_t21 : Fin (k0_t21_loop v129 v134).trips), ∀ (k0_h7 : k0_cond7 v9 k0_t20 = 1#1), ∀ a, (k0_off907 v9 k0_t20) a + S1.size a ≤ S4.size a := fun v9 k0_t20 v129 v134 k0_hw27 k0_t21 k0_h7 => k0_hw27.2.2.2.2.2.1 k0_t21 k0_h7
theorem k0_off908_inb : ∀ (v9 : BitVec 32) (k0_t20 : Fin (k0_t20_loop v9).trips) (v129 : BitVec 32) (v134 : BitVec 32) (k0_hw27 : k0_chk27 v9 k0_t20 v129 v134) (k0_t21 : Fin (k0_t21_loop v129 v134).trips), ∀ (k0_h7 : k0_cond7 v9 k0_t20 = 1#1), ∀ a, (k0_off908 v9 k0_t20 v129 v134 k0_t21) a + S1x1x1x1024x128.size a ≤ S4x2x8x1024x128.size a := fun v9 k0_t20 v129 v134 k0_hw27 k0_t21 k0_h7 => k0_hw27.2.2.2.2.2.2.1 k0_t21 k0_h7
theorem k0_off908_wordsfp8e4m3 : ∀ (v9 : BitVec 32) (k0_t20 : Fin (k0_t20_loop v9).trips) (v129 : BitVec 32) (v134 : BitVec 32) (k0_hw27 : k0_chk27 v9 k0_t20 v129 v134) (k0_t21 : Fin (k0_t21_loop v129 v134).trips), ∀ (k0_h7 : k0_cond7 v9 k0_t20 = 1#1), (Rect.unit (s := S4x2x8x1024x128) (k0_off908 v9 k0_t20 v129 v134 k0_t21) S1x1x1x1024x128.size (k0_off908_inb v9 k0_t20 v129 v134 k0_hw27 k0_t21 k0_h7)).WholeWords (EltTy.packing .fp8e4m3) := fun v9 k0_t20 v129 v134 k0_hw27 k0_t21 k0_h7 => k0_hw27.2.2.2.2.2.2.2.1 k0_t21 k0_h7 (k0_off908_inb v9 k0_t20 v129 v134 k0_hw27 k0_t21 k0_h7)
theorem k0_t22_ok : ∀ (v9 : BitVec 32) (k0_t20 : Fin (k0_t20_loop v9).trips) (v129 : BitVec 32) (v134 : BitVec 32) (k0_hw27 : k0_chk27 v9 k0_t20 v129 v134), ∀ (k0_h7 : k0_cond7 v9 k0_t20 = 1#1), (k0_t22_loop v129 v134).OK := fun v9 k0_t20 v129 v134 k0_hw27 k0_h7 => k0_hw27.2.2.2.2.2.2.2.2.1 k0_h7
theorem k0_off909_inb : ∀ (v9 : BitVec 32) (k0_t20 : Fin (k0_t20_loop v9).trips) (v129 : BitVec 32) (v134 : BitVec 32) (k0_hw27 : k0_chk27 v9 k0_t20 v129 v134) (k0_t22 : Fin (k0_t22_loop v129 v134).trips), ∀ (k0_h7 : k0_cond7 v9 k0_t20 = 1#1), ∀ a, (k0_off909 v129 v134 k0_t22) a + S1x1.size a ≤ S5x256.size a := fun v9 k0_t20 v129 v134 k0_hw27 k0_t22 k0_h7 => k0_hw27.2.2.2.2.2.2.2.2.2.1 k0_t22 k0_h7
theorem k0_off910_inb : ∀ (v9 : BitVec 32) (k0_t20 : Fin (k0_t20_loop v9).trips) (v129 : BitVec 32) (v134 : BitVec 32) (k0_hw27 : k0_chk27 v9 k0_t20 v129 v134) (k0_t22 : Fin (k0_t22_loop v129 v134).trips), ∀ (k0_h7 : k0_cond7 v9 k0_t20 = 1#1), ∀ a, (k0_off910 v9 k0_t20) a + S1.size a ≤ S4.size a := fun v9 k0_t20 v129 v134 k0_hw27 k0_t22 k0_h7 => k0_hw27.2.2.2.2.2.2.2.2.2.2.1 k0_t22 k0_h7
theorem k0_off911_inb : ∀ (v9 : BitVec 32) (k0_t20 : Fin (k0_t20_loop v9).trips) (v129 : BitVec 32) (v134 : BitVec 32) (k0_hw27 : k0_chk27 v9 k0_t20 v129 v134) (k0_t22 : Fin (k0_t22_loop v129 v134).trips), ∀ (k0_h7 : k0_cond7 v9 k0_t20 = 1#1), ∀ a, (k0_off911 v9 k0_t20 v129 v134 k0_t22) a + S1x1x1x1024x128.size a ≤ S4x2x8x1024x128.size a := fun v9 k0_t20 v129 v134 k0_hw27 k0_t22 k0_h7 => k0_hw27.2.2.2.2.2.2.2.2.2.2.2.1 k0_t22 k0_h7
theorem k0_off911_wordsfp8e4m3 : ∀ (v9 : BitVec 32) (k0_t20 : Fin (k0_t20_loop v9).trips) (v129 : BitVec 32) (v134 : BitVec 32) (k0_hw27 : k0_chk27 v9 k0_t20 v129 v134) (k0_t22 : Fin (k0_t22_loop v129 v134).trips), ∀ (k0_h7 : k0_cond7 v9 k0_t20 = 1#1), (Rect.unit (s := S4x2x8x1024x128) (k0_off911 v9 k0_t20 v129 v134 k0_t22) S1x1x1x1024x128.size (k0_off911_inb v9 k0_t20 v129 v134 k0_hw27 k0_t22 k0_h7)).WholeWords (EltTy.packing .fp8e4m3) := fun v9 k0_t20 v129 v134 k0_hw27 k0_t22 k0_h7 => k0_hw27.2.2.2.2.2.2.2.2.2.2.2.2.1 k0_t22 k0_h7 (k0_off911_inb v9 k0_t20 v129 v134 k0_hw27 k0_t22 k0_h7)
theorem k0_off913_inb : ∀ (v9 : BitVec 32) (k0_t20 : Fin (k0_t20_loop v9).trips) (v129 : BitVec 32) (v134 : BitVec 32) (k0_hw27 : k0_chk27 v9 k0_t20 v129 v134) (k0_t22 : Fin (k0_t22_loop v129 v134).trips), ∀ (k0_h7 : k0_cond7 v9 k0_t20 = 1#1), ∀ a, (k0_off913 v9 k0_t20) a + S1.size a ≤ S4.size a := fun v9 k0_t20 v129 v134 k0_hw27 k0_t22 k0_h7 => k0_hw27.2.2.2.2.2.2.2.2.2.2.2.2.2.1 k0_t22 k0_h7
theorem k0_off914_inb : ∀ (v9 : BitVec 32) (k0_t20 : Fin (k0_t20_loop v9).trips) (v129 : BitVec 32) (v134 : BitVec 32) (k0_hw27 : k0_chk27 v9 k0_t20 v129 v134) (k0_t22 : Fin (k0_t22_loop v129 v134).trips), ∀ (k0_h7 : k0_cond7 v9 k0_t20 = 1#1), ∀ a, (k0_off914 v9 k0_t20 v129 v134 k0_t22) a + S1x1x1x1024x128.size a ≤ S4x2x8x1024x128.size a := fun v9 k0_t20 v129 v134 k0_hw27 k0_t22 k0_h7 => k0_hw27.2.2.2.2.2.2.2.2.2.2.2.2.2.2.1 k0_t22 k0_h7
theorem k0_off914_wordsfp8e4m3 : ∀ (v9 : BitVec 32) (k0_t20 : Fin (k0_t20_loop v9).trips) (v129 : BitVec 32) (v134 : BitVec 32) (k0_hw27 : k0_chk27 v9 k0_t20 v129 v134) (k0_t22 : Fin (k0_t22_loop v129 v134).trips), ∀ (k0_h7 : k0_cond7 v9 k0_t20 = 1#1), (Rect.unit (s := S4x2x8x1024x128) (k0_off914 v9 k0_t20 v129 v134 k0_t22) S1x1x1x1024x128.size (k0_off914_inb v9 k0_t20 v129 v134 k0_hw27 k0_t22 k0_h7)).WholeWords (EltTy.packing .fp8e4m3) := fun v9 k0_t20 v129 v134 k0_hw27 k0_t22 k0_h7 => k0_hw27.2.2.2.2.2.2.2.2.2.2.2.2.2.2.2 k0_t22 k0_h7 (k0_off914_inb v9 k0_t20 v129 v134 k0_hw27 k0_t22 k0_h7)

def k0_off915 (arg19 : BitVec 32) : Fin 1 → Nat :=
  let c159_i32 : BitVec 32 := 159#32
  let v126 : BitVec 32 := Scalar.subi c159_i32 arg19
  let v127 : Index := Scalar.indexCast v126
  ![v127.toNat]
def k0_cond8 (v9 : BitVec 32) (arg19 : BitVec 32) : BitVec 1 :=
  let c160_i32_12 : BitVec 32 := 160#32
  let v10 : BitVec 32 := Scalar.subi c160_i32_12 v9
  let v81 : BitVec 1 := Scalar.cmpi .slt arg19 v10
  let v82 : BitVec 32 := Scalar.extui v81
  let c0_i32_67 : BitVec 32 := 0#32
  let v83 : BitVec 1 := Scalar.cmpi .ne v82 c0_i32_67
  v83

def k0_chk30 (v9 : BitVec 32) (arg19 : BitVec 32) : Prop :=
  (∀ (k0_h8 : k0_cond8 v9 arg19 = 1#1), ∀ a, (k0_off915 arg19) a + S1.size a ≤ S160.size a)
theorem k0_off915_inb : ∀ (v9 : BitVec 32) (arg19 : BitVec 32) (k0_hw30 : k0_chk30 v9 arg19), ∀ (k0_h8 : k0_cond8 v9 arg19 = 1#1), ∀ a, (k0_off915 arg19) a + S1.size a ≤ S160.size a := fun v9 arg19 k0_hw30 k0_h8 => k0_hw30 k0_h8

def k0_off916 (v128 : BitVec 32) : Fin 4 → Nat :=
  let c32_i32_100 : BitVec 32 := 32#32
  let v129 : BitVec 32 := Scalar.divsi v128 c32_i32_100
  let c0_i32_103 : BitVec 32 := 0#32
  let c32_i32_101 : BitVec 32 := 32#32
  let v130 : BitVec 32 := Scalar.remsi v128 c32_i32_101
  let c128_i32_102 : BitVec 32 := 128#32
  let v131 : BitVec 32 := Scalar.muli v130 c128_i32_102
  let c0_i32_104 : BitVec 32 := 0#32
  ![v129.toNat, 0, v131.toNat, 0]

def k0_chk31 (v9 : BitVec 32) (arg19 : BitVec 32) (v128 : BitVec 32) : Prop :=
  (∀ (k0_h8 : k0_cond8 v9 arg19 = 1#1), ∀ a, (k0_off916 v128) a + S1x64x128x128.size a ≤ S5x64x4096x128.size a) ∧
  (∀ (k0_h8 : k0_cond8 v9 arg19 = 1#1), ∀ (hinb : ∀ a, (k0_off916 v128) a + S1x64x128x128.size a ≤ S5x64x4096x128.size a), (Rect.unit (s := S5x64x4096x128) (k0_off916 v128) S1x64x128x128.size hinb).WholeWords (EltTy.packing .bf16))
theorem k0_off916_inb : ∀ (v9 : BitVec 32) (arg19 : BitVec 32) (v128 : BitVec 32) (k0_hw31 : k0_chk31 v9 arg19 v128), ∀ (k0_h8 : k0_cond8 v9 arg19 = 1#1), ∀ a, (k0_off916 v128) a + S1x64x128x128.size a ≤ S5x64x4096x128.size a := fun v9 arg19 v128 k0_hw31 k0_h8 => k0_hw31.1 k0_h8
theorem k0_off916_wordsbf16 : ∀ (v9 : BitVec 32) (arg19 : BitVec 32) (v128 : BitVec 32) (k0_hw31 : k0_chk31 v9 arg19 v128), ∀ (k0_h8 : k0_cond8 v9 arg19 = 1#1), (Rect.unit (s := S5x64x4096x128) (k0_off916 v128) S1x64x128x128.size (k0_off916_inb v9 arg19 v128 k0_hw31 k0_h8)).WholeWords (EltTy.packing .bf16) := fun v9 arg19 v128 k0_hw31 k0_h8 => k0_hw31.2 k0_h8 (k0_off916_inb v9 arg19 v128 k0_hw31 k0_h8)

@[reducible] def k0_t23_loop (v62 : BitVec 32) (v68 : BitVec 32) : Scf.Loop 32 :=
  let c0_i32_68 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v84 : BitVec 32 := Scalar.subi v75 c0_i32_68
  let c1_i32_70 : BitVec 32 := 1#32
  let v86 : BitVec 32 := Scalar.divsi v84 c1_i32_70
  let v87 : BitVec 32 := Scalar.muli v86 c1_i32_70
  let v88 : BitVec 32 := Scalar.addi c0_i32_68 v87
  let c1_i32_71 : BitVec 32 := 1#32
  ⟨c0_i32_68, v88, c1_i32_71⟩

def k0_off917 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  ![v65.toNat]
def k0_off918 (v9 : BitVec 32) (k0_t20 : Fin (k0_t20_loop v9).trips) (v62 : BitVec 32) (v68 : BitVec 32) (k0_t23 : Fin (k0_t23_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let c0_i32_101 : BitVec 32 := 0#32
  let c0_i32_68 : BitVec 32 := 0#32
  let c1_i32_71 : BitVec 32 := 1#32
  let arg20 : BitVec 32 := Scf.iv c0_i32_68 c1_i32_71 k0_t23
  let c0_i32_102 : BitVec 32 := 0#32
  let c0_i32_103 : BitVec 32 := 0#32
  ![v65.toNat, 0, arg20.toNat, 0, 0]
def k0_off919 (v9 : BitVec 32) (k0_t20 : Fin (k0_t20_loop v9).trips) (v62 : BitVec 32) (v68 : BitVec 32) (k0_t23 : Fin (k0_t23_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let c1_i32_107 : BitVec 32 := 1#32
  let c0_i32_68 : BitVec 32 := 0#32
  let c1_i32_71 : BitVec 32 := 1#32
  let arg20 : BitVec 32 := Scf.iv c0_i32_68 c1_i32_71 k0_t23
  let c0_i32_108 : BitVec 32 := 0#32
  let c0_i32_109 : BitVec 32 := 0#32
  ![v65.toNat, 1, arg20.toNat, 0, 0]
@[reducible] def k0_t24_loop (v62 : BitVec 32) (v68 : BitVec 32) : Scf.Loop 32 :=
  let c0_i32_68 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v84 : BitVec 32 := Scalar.subi v75 c0_i32_68
  let c1_i32_70 : BitVec 32 := 1#32
  let v86 : BitVec 32 := Scalar.divsi v84 c1_i32_70
  let v87 : BitVec 32 := Scalar.muli v86 c1_i32_70
  let v88 : BitVec 32 := Scalar.addi c0_i32_68 v87
  let v85 : BitVec 32 := Scalar.addi c0_i32_68 v84
  let c1_i32_72 : BitVec 32 := 1#32
  ⟨v88, v85, c1_i32_72⟩
def k0_off920 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  ![v65.toNat]
def k0_off921 (v9 : BitVec 32) (k0_t20 : Fin (k0_t20_loop v9).trips) (v62 : BitVec 32) (v68 : BitVec 32) (k0_t24 : Fin (k0_t24_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let c0_i32_101 : BitVec 32 := 0#32
  let c0_i32_68 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v84 : BitVec 32 := Scalar.subi v75 c0_i32_68
  let c1_i32_70 : BitVec 32 := 1#32
  let v86 : BitVec 32 := Scalar.divsi v84 c1_i32_70
  let v87 : BitVec 32 := Scalar.muli v86 c1_i32_70
  let v88 : BitVec 32 := Scalar.addi c0_i32_68 v87
  let c1_i32_72 : BitVec 32 := 1#32
  let arg20 : BitVec 32 := Scf.iv v88 c1_i32_72 k0_t24
  let c0_i32_102 : BitVec 32 := 0#32
  let c0_i32_103 : BitVec 32 := 0#32
  ![v65.toNat, 0, arg20.toNat, 0, 0]
def k0_off922 (v9 : BitVec 32) (k0_t20 : Fin (k0_t20_loop v9).trips) (v62 : BitVec 32) (v68 : BitVec 32) (k0_t24 : Fin (k0_t24_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let c1_i32_107 : BitVec 32 := 1#32
  let c0_i32_68 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v84 : BitVec 32 := Scalar.subi v75 c0_i32_68
  let c1_i32_70 : BitVec 32 := 1#32
  let v86 : BitVec 32 := Scalar.divsi v84 c1_i32_70
  let v87 : BitVec 32 := Scalar.muli v86 c1_i32_70
  let v88 : BitVec 32 := Scalar.addi c0_i32_68 v87
  let c1_i32_72 : BitVec 32 := 1#32
  let arg20 : BitVec 32 := Scf.iv v88 c1_i32_72 k0_t24
  let c0_i32_108 : BitVec 32 := 0#32
  let c0_i32_109 : BitVec 32 := 0#32
  ![v65.toNat, 1, arg20.toNat, 0, 0]
def k0_off923 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  ![v66.toNat]
def k0_cond9 (v9 : BitVec 32) (k0_t20 : Fin (k0_t20_loop v9).trips) : BitVec 1 :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_73 : BitVec 32 := 4#32
  let v91 : BitVec 1 := Scalar.cmpi .sge arg18 c4_i32_73
  let v92 : BitVec 32 := Scalar.extui v91
  let c0_i32_74 : BitVec 32 := 0#32
  let v93 : BitVec 1 := Scalar.cmpi .ne v92 c0_i32_74
  v93

def k0_off924 (v62 : BitVec 32) : Fin 4 → Nat :=
  let c32_i32 : BitVec 32 := 32#32
  let v63 : BitVec 32 := Scalar.divsi v62 c32_i32
  let c0_i32_102 : BitVec 32 := 0#32
  let c32_i32_58 : BitVec 32 := 32#32
  let v64 : BitVec 32 := Scalar.remsi v62 c32_i32_58
  let c64_i32_100 : BitVec 32 := 64#32
  let v126 : BitVec 32 := Scalar.muli v64 c64_i32_100
  let c0_i32_103 : BitVec 32 := 0#32
  ![v63.toNat, 0, Nat.mul 2 v126.toNat, 0]
def k0_off925 (v9 : BitVec 32) (k0_t20 : Fin (k0_t20_loop v9).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let c0_i32_101 : BitVec 32 := 0#32
  let c0_i32_104 : BitVec 32 := 0#32
  let c0_i32_105 : BitVec 32 := 0#32
  let c0_i32_106 : BitVec 32 := 0#32
  ![v66.toNat, 0, 0, 0, 0]
def k0_off926 (v9 : BitVec 32) (k0_t20 : Fin (k0_t20_loop v9).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let c1_i32_108 : BitVec 32 := 1#32
  let c0_i32_111 : BitVec 32 := 0#32
  let c0_i32_112 : BitVec 32 := 0#32
  let c0_i32_113 : BitVec 32 := 0#32
  ![v66.toNat, 1, 0, 0, 0]
@[reducible] def k0_t25_loop (v62 : BitVec 32) (v68 : BitVec 32) : Scf.Loop 32 :=
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_78 : BitVec 32 := 1#32
  ⟨c0_i32_75, v98, c1_i32_78⟩
def k0_off927 (v62 : BitVec 32) (v68 : BitVec 32) (k0_t25 : Fin (k0_t25_loop v62 v68).trips) : Fin 2 → Nat :=
  let c32_i32 : BitVec 32 := 32#32
  let v63 : BitVec 32 := Scalar.divsi v62 c32_i32
  let v128 : Index := Scalar.indexCast v63
  let c32_i32_58 : BitVec 32 := 32#32
  let v64 : BitVec 32 := Scalar.remsi v62 c32_i32_58
  let c8_i32_100 : BitVec 32 := 8#32
  let v126 : BitVec 32 := Scalar.muli v64 c8_i32_100
  let c0_i32_75 : BitVec 32 := 0#32
  let c1_i32_78 : BitVec 32 := 1#32
  let arg20 : BitVec 32 := Scf.iv c0_i32_75 c1_i32_78 k0_t25
  let v127 : BitVec 32 := Scalar.addi v126 arg20
  let v129 : Index := Scalar.indexCast v127
  ![v128.toNat, v129.toNat]
def k0_off928 (v62 : BitVec 32) : Fin 1 → Nat :=
  let c32_i32 : BitVec 32 := 32#32
  let v63 : BitVec 32 := Scalar.divsi v62 c32_i32
  let v134 : Index := Scalar.indexCast v63
  ![v134.toNat]
def k0_mult31 (v62 : BitVec 32) (v68 : BitVec 32) (k0_t25 : Fin (k0_t25_loop v62 v68).trips) : BitVec 32 :=
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  v158
def k0_off929 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v160 : Index := Scalar.indexCast v65
  let c0 : Index := 0#32
  let c0_i32_75 : BitVec 32 := 0#32
  let c1_i32_78 : BitVec 32 := 1#32
  let arg20 : BitVec 32 := Scf.iv c0_i32_75 c1_i32_78 k0_t25
  let v161 : Index := Scalar.indexCast arg20
  let c0_109 : Index := 0#32
  let c0_110 : Index := 0#32
  ![v160.toNat, 0, v161.toNat, 0, 0]
def k0_off930 (v130 : BitVec 32) : Fin 4 → Nat :=
  let c0_111 : Index := 0#32
  let c7_i32 : BitVec 32 := 7#32
  let v131 : BitVec 32 := Scalar.shrui v130 c7_i32
  let v165 : Index := Scalar.indexCast v131
  let c0_112 : Index := 0#32
  let c0_113 : Index := 0#32
  ![0, v165.toNat, 0, 0]

def k0_off931 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v182 : Index := Scalar.indexCast v66
  let c0_116 : Index := 0#32
  let c0_117 : Index := 0#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v183 : Index := Scalar.indexCast v159
  let c0_118 : Index := 0#32
  ![v182.toNat, 0, 0, v183.toNat, 0]
def k0_off932 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v188 : Index := Scalar.indexCast v66
  let c0_119 : Index := 0#32
  let c1 : Index := 1#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v189 : Index := Scalar.indexCast v159
  let c0_120 : Index := 0#32
  ![v188.toNat, 0, 1, v189.toNat, 0]
def k0_off933 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v193 : Index := Scalar.indexCast v65
  let c1_121 : Index := 1#32
  let c0_i32_75 : BitVec 32 := 0#32
  let c1_i32_78 : BitVec 32 := 1#32
  let arg20 : BitVec 32 := Scf.iv c0_i32_75 c1_i32_78 k0_t25
  let v194 : Index := Scalar.indexCast arg20
  let c0_122 : Index := 0#32
  let c0_123 : Index := 0#32
  ![v193.toNat, 1, v194.toNat, 0, 0]
def k0_off934 (v130 : BitVec 32) : Fin 4 → Nat :=
  let c1_124 : Index := 1#32
  let c7_i32 : BitVec 32 := 7#32
  let v131 : BitVec 32 := Scalar.shrui v130 c7_i32
  let v198 : Index := Scalar.indexCast v131
  let c0_125 : Index := 0#32
  let c0_126 : Index := 0#32
  ![1, v198.toNat, 0, 0]
def k0_off935 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v215 : Index := Scalar.indexCast v66
  let c1_129 : Index := 1#32
  let c0_130 : Index := 0#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v216 : Index := Scalar.indexCast v159
  let c0_131 : Index := 0#32
  ![v215.toNat, 1, 0, v216.toNat, 0]
def k0_off936 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v221 : Index := Scalar.indexCast v66
  let c1_132 : Index := 1#32
  let c1_133 : Index := 1#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v222 : Index := Scalar.indexCast v159
  let c0_134 : Index := 0#32
  ![v221.toNat, 1, 1, v222.toNat, 0]
def k0_off937 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v226 : Index := Scalar.indexCast v65
  let c0_135 : Index := 0#32
  let c0_i32_75 : BitVec 32 := 0#32
  let c1_i32_78 : BitVec 32 := 1#32
  let arg20 : BitVec 32 := Scf.iv c0_i32_75 c1_i32_78 k0_t25
  let v227 : Index := Scalar.indexCast arg20
  let c32 : Index := 32#32
  let c0_136 : Index := 0#32
  ![v226.toNat, 0, v227.toNat, 32, 0]
def k0_off938 (v130 : BitVec 32) : Fin 4 → Nat :=
  let c0_137 : Index := 0#32
  let c7_i32 : BitVec 32 := 7#32
  let v131 : BitVec 32 := Scalar.shrui v130 c7_i32
  let v231 : Index := Scalar.indexCast v131
  let c32_138 : Index := 32#32
  let c0_139 : Index := 0#32
  ![0, v231.toNat, 32, 0]
def k0_off939 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v248 : Index := Scalar.indexCast v66
  let c0_142 : Index := 0#32
  let c2 : Index := 2#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v249 : Index := Scalar.indexCast v159
  let c0_143 : Index := 0#32
  ![v248.toNat, 0, 2, v249.toNat, 0]
def k0_off940 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v254 : Index := Scalar.indexCast v66
  let c0_144 : Index := 0#32
  let c3 : Index := 3#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v255 : Index := Scalar.indexCast v159
  let c0_145 : Index := 0#32
  ![v254.toNat, 0, 3, v255.toNat, 0]
def k0_off941 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v259 : Index := Scalar.indexCast v65
  let c1_146 : Index := 1#32
  let c0_i32_75 : BitVec 32 := 0#32
  let c1_i32_78 : BitVec 32 := 1#32
  let arg20 : BitVec 32 := Scf.iv c0_i32_75 c1_i32_78 k0_t25
  let v260 : Index := Scalar.indexCast arg20
  let c32_147 : Index := 32#32
  let c0_148 : Index := 0#32
  ![v259.toNat, 1, v260.toNat, 32, 0]
def k0_off942 (v130 : BitVec 32) : Fin 4 → Nat :=
  let c1_149 : Index := 1#32
  let c7_i32 : BitVec 32 := 7#32
  let v131 : BitVec 32 := Scalar.shrui v130 c7_i32
  let v264 : Index := Scalar.indexCast v131
  let c32_150 : Index := 32#32
  let c0_151 : Index := 0#32
  ![1, v264.toNat, 32, 0]
def k0_off943 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v281 : Index := Scalar.indexCast v66
  let c1_154 : Index := 1#32
  let c2_155 : Index := 2#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v282 : Index := Scalar.indexCast v159
  let c0_156 : Index := 0#32
  ![v281.toNat, 1, 2, v282.toNat, 0]
def k0_off944 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v287 : Index := Scalar.indexCast v66
  let c1_157 : Index := 1#32
  let c3_158 : Index := 3#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v288 : Index := Scalar.indexCast v159
  let c0_159 : Index := 0#32
  ![v287.toNat, 1, 3, v288.toNat, 0]
def k0_off945 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v292 : Index := Scalar.indexCast v65
  let c0_160 : Index := 0#32
  let c0_i32_75 : BitVec 32 := 0#32
  let c1_i32_78 : BitVec 32 := 1#32
  let arg20 : BitVec 32 := Scf.iv c0_i32_75 c1_i32_78 k0_t25
  let v293 : Index := Scalar.indexCast arg20
  let c64 : Index := 64#32
  let c0_161 : Index := 0#32
  ![v292.toNat, 0, v293.toNat, 64, 0]
def k0_off946 (v130 : BitVec 32) : Fin 4 → Nat :=
  let c0_162 : Index := 0#32
  let c7_i32 : BitVec 32 := 7#32
  let v131 : BitVec 32 := Scalar.shrui v130 c7_i32
  let v297 : Index := Scalar.indexCast v131
  let c64_163 : Index := 64#32
  let c0_164 : Index := 0#32
  ![0, v297.toNat, 64, 0]
def k0_off947 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v314 : Index := Scalar.indexCast v66
  let c0_167 : Index := 0#32
  let c4 : Index := 4#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v315 : Index := Scalar.indexCast v159
  let c0_168 : Index := 0#32
  ![v314.toNat, 0, 4, v315.toNat, 0]
def k0_off948 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v320 : Index := Scalar.indexCast v66
  let c0_169 : Index := 0#32
  let c5 : Index := 5#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v321 : Index := Scalar.indexCast v159
  let c0_170 : Index := 0#32
  ![v320.toNat, 0, 5, v321.toNat, 0]
def k0_off949 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v325 : Index := Scalar.indexCast v65
  let c1_171 : Index := 1#32
  let c0_i32_75 : BitVec 32 := 0#32
  let c1_i32_78 : BitVec 32 := 1#32
  let arg20 : BitVec 32 := Scf.iv c0_i32_75 c1_i32_78 k0_t25
  let v326 : Index := Scalar.indexCast arg20
  let c64_172 : Index := 64#32
  let c0_173 : Index := 0#32
  ![v325.toNat, 1, v326.toNat, 64, 0]
def k0_off950 (v130 : BitVec 32) : Fin 4 → Nat :=
  let c1_174 : Index := 1#32
  let c7_i32 : BitVec 32 := 7#32
  let v131 : BitVec 32 := Scalar.shrui v130 c7_i32
  let v330 : Index := Scalar.indexCast v131
  let c64_175 : Index := 64#32
  let c0_176 : Index := 0#32
  ![1, v330.toNat, 64, 0]
def k0_off951 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v347 : Index := Scalar.indexCast v66
  let c1_179 : Index := 1#32
  let c4_180 : Index := 4#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v348 : Index := Scalar.indexCast v159
  let c0_181 : Index := 0#32
  ![v347.toNat, 1, 4, v348.toNat, 0]
def k0_off952 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v353 : Index := Scalar.indexCast v66
  let c1_182 : Index := 1#32
  let c5_183 : Index := 5#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v354 : Index := Scalar.indexCast v159
  let c0_184 : Index := 0#32
  ![v353.toNat, 1, 5, v354.toNat, 0]
def k0_off953 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v358 : Index := Scalar.indexCast v65
  let c0_185 : Index := 0#32
  let c0_i32_75 : BitVec 32 := 0#32
  let c1_i32_78 : BitVec 32 := 1#32
  let arg20 : BitVec 32 := Scf.iv c0_i32_75 c1_i32_78 k0_t25
  let v359 : Index := Scalar.indexCast arg20
  let c96 : Index := 96#32
  let c0_186 : Index := 0#32
  ![v358.toNat, 0, v359.toNat, 96, 0]
def k0_off954 (v130 : BitVec 32) : Fin 4 → Nat :=
  let c0_187 : Index := 0#32
  let c7_i32 : BitVec 32 := 7#32
  let v131 : BitVec 32 := Scalar.shrui v130 c7_i32
  let v363 : Index := Scalar.indexCast v131
  let c96_188 : Index := 96#32
  let c0_189 : Index := 0#32
  ![0, v363.toNat, 96, 0]
def k0_off955 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v380 : Index := Scalar.indexCast v66
  let c0_192 : Index := 0#32
  let c6 : Index := 6#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v381 : Index := Scalar.indexCast v159
  let c0_193 : Index := 0#32
  ![v380.toNat, 0, 6, v381.toNat, 0]
def k0_off956 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v386 : Index := Scalar.indexCast v66
  let c0_194 : Index := 0#32
  let c7 : Index := 7#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v387 : Index := Scalar.indexCast v159
  let c0_195 : Index := 0#32
  ![v386.toNat, 0, 7, v387.toNat, 0]
def k0_off957 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v391 : Index := Scalar.indexCast v65
  let c1_196 : Index := 1#32
  let c0_i32_75 : BitVec 32 := 0#32
  let c1_i32_78 : BitVec 32 := 1#32
  let arg20 : BitVec 32 := Scf.iv c0_i32_75 c1_i32_78 k0_t25
  let v392 : Index := Scalar.indexCast arg20
  let c96_197 : Index := 96#32
  let c0_198 : Index := 0#32
  ![v391.toNat, 1, v392.toNat, 96, 0]
def k0_off958 (v130 : BitVec 32) : Fin 4 → Nat :=
  let c1_199 : Index := 1#32
  let c7_i32 : BitVec 32 := 7#32
  let v131 : BitVec 32 := Scalar.shrui v130 c7_i32
  let v396 : Index := Scalar.indexCast v131
  let c96_200 : Index := 96#32
  let c0_201 : Index := 0#32
  ![1, v396.toNat, 96, 0]
def k0_off959 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v413 : Index := Scalar.indexCast v66
  let c1_204 : Index := 1#32
  let c6_205 : Index := 6#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v414 : Index := Scalar.indexCast v159
  let c0_206 : Index := 0#32
  ![v413.toNat, 1, 6, v414.toNat, 0]
def k0_off960 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v419 : Index := Scalar.indexCast v66
  let c1_207 : Index := 1#32
  let c7_208 : Index := 7#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v420 : Index := Scalar.indexCast v159
  let c0_209 : Index := 0#32
  ![v419.toNat, 1, 7, v420.toNat, 0]
def k0_off961 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v424 : Index := Scalar.indexCast v65
  let c0_210 : Index := 0#32
  let c0_i32_75 : BitVec 32 := 0#32
  let c1_i32_78 : BitVec 32 := 1#32
  let arg20 : BitVec 32 := Scf.iv c0_i32_75 c1_i32_78 k0_t25
  let v425 : Index := Scalar.indexCast arg20
  let c128 : Index := 128#32
  let c0_211 : Index := 0#32
  ![v424.toNat, 0, v425.toNat, 128, 0]
def k0_off962 (v130 : BitVec 32) : Fin 4 → Nat :=
  let c0_212 : Index := 0#32
  let c7_i32 : BitVec 32 := 7#32
  let v131 : BitVec 32 := Scalar.shrui v130 c7_i32
  let v429 : Index := Scalar.indexCast v131
  let c128_213 : Index := 128#32
  let c0_214 : Index := 0#32
  ![0, v429.toNat, 128, 0]
def k0_off963 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v446 : Index := Scalar.indexCast v66
  let c0_217 : Index := 0#32
  let c8 : Index := 8#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v447 : Index := Scalar.indexCast v159
  let c0_218 : Index := 0#32
  ![v446.toNat, 0, 8, v447.toNat, 0]
def k0_off964 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v452 : Index := Scalar.indexCast v66
  let c0_219 : Index := 0#32
  let c9 : Index := 9#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v453 : Index := Scalar.indexCast v159
  let c0_220 : Index := 0#32
  ![v452.toNat, 0, 9, v453.toNat, 0]
def k0_off965 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v457 : Index := Scalar.indexCast v65
  let c1_221 : Index := 1#32
  let c0_i32_75 : BitVec 32 := 0#32
  let c1_i32_78 : BitVec 32 := 1#32
  let arg20 : BitVec 32 := Scf.iv c0_i32_75 c1_i32_78 k0_t25
  let v458 : Index := Scalar.indexCast arg20
  let c128_222 : Index := 128#32
  let c0_223 : Index := 0#32
  ![v457.toNat, 1, v458.toNat, 128, 0]
def k0_off966 (v130 : BitVec 32) : Fin 4 → Nat :=
  let c1_224 : Index := 1#32
  let c7_i32 : BitVec 32 := 7#32
  let v131 : BitVec 32 := Scalar.shrui v130 c7_i32
  let v462 : Index := Scalar.indexCast v131
  let c128_225 : Index := 128#32
  let c0_226 : Index := 0#32
  ![1, v462.toNat, 128, 0]
def k0_off967 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v479 : Index := Scalar.indexCast v66
  let c1_229 : Index := 1#32
  let c8_230 : Index := 8#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v480 : Index := Scalar.indexCast v159
  let c0_231 : Index := 0#32
  ![v479.toNat, 1, 8, v480.toNat, 0]
def k0_off968 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v485 : Index := Scalar.indexCast v66
  let c1_232 : Index := 1#32
  let c9_233 : Index := 9#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v486 : Index := Scalar.indexCast v159
  let c0_234 : Index := 0#32
  ![v485.toNat, 1, 9, v486.toNat, 0]
def k0_off969 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v490 : Index := Scalar.indexCast v65
  let c0_235 : Index := 0#32
  let c0_i32_75 : BitVec 32 := 0#32
  let c1_i32_78 : BitVec 32 := 1#32
  let arg20 : BitVec 32 := Scf.iv c0_i32_75 c1_i32_78 k0_t25
  let v491 : Index := Scalar.indexCast arg20
  let c160 : Index := 160#32
  let c0_236 : Index := 0#32
  ![v490.toNat, 0, v491.toNat, 160, 0]
def k0_off970 (v130 : BitVec 32) : Fin 4 → Nat :=
  let c0_237 : Index := 0#32
  let c7_i32 : BitVec 32 := 7#32
  let v131 : BitVec 32 := Scalar.shrui v130 c7_i32
  let v495 : Index := Scalar.indexCast v131
  let c160_238 : Index := 160#32
  let c0_239 : Index := 0#32
  ![0, v495.toNat, 160, 0]
def k0_off971 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v512 : Index := Scalar.indexCast v66
  let c0_242 : Index := 0#32
  let c10 : Index := 10#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v513 : Index := Scalar.indexCast v159
  let c0_243 : Index := 0#32
  ![v512.toNat, 0, 10, v513.toNat, 0]
def k0_off972 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v518 : Index := Scalar.indexCast v66
  let c0_244 : Index := 0#32
  let c11 : Index := 11#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v519 : Index := Scalar.indexCast v159
  let c0_245 : Index := 0#32
  ![v518.toNat, 0, 11, v519.toNat, 0]
def k0_off973 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v523 : Index := Scalar.indexCast v65
  let c1_246 : Index := 1#32
  let c0_i32_75 : BitVec 32 := 0#32
  let c1_i32_78 : BitVec 32 := 1#32
  let arg20 : BitVec 32 := Scf.iv c0_i32_75 c1_i32_78 k0_t25
  let v524 : Index := Scalar.indexCast arg20
  let c160_247 : Index := 160#32
  let c0_248 : Index := 0#32
  ![v523.toNat, 1, v524.toNat, 160, 0]
def k0_off974 (v130 : BitVec 32) : Fin 4 → Nat :=
  let c1_249 : Index := 1#32
  let c7_i32 : BitVec 32 := 7#32
  let v131 : BitVec 32 := Scalar.shrui v130 c7_i32
  let v528 : Index := Scalar.indexCast v131
  let c160_250 : Index := 160#32
  let c0_251 : Index := 0#32
  ![1, v528.toNat, 160, 0]
def k0_off975 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v545 : Index := Scalar.indexCast v66
  let c1_254 : Index := 1#32
  let c10_255 : Index := 10#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v546 : Index := Scalar.indexCast v159
  let c0_256 : Index := 0#32
  ![v545.toNat, 1, 10, v546.toNat, 0]
def k0_off976 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v551 : Index := Scalar.indexCast v66
  let c1_257 : Index := 1#32
  let c11_258 : Index := 11#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v552 : Index := Scalar.indexCast v159
  let c0_259 : Index := 0#32
  ![v551.toNat, 1, 11, v552.toNat, 0]
def k0_off977 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v556 : Index := Scalar.indexCast v65
  let c0_260 : Index := 0#32
  let c0_i32_75 : BitVec 32 := 0#32
  let c1_i32_78 : BitVec 32 := 1#32
  let arg20 : BitVec 32 := Scf.iv c0_i32_75 c1_i32_78 k0_t25
  let v557 : Index := Scalar.indexCast arg20
  let c192 : Index := 192#32
  let c0_261 : Index := 0#32
  ![v556.toNat, 0, v557.toNat, 192, 0]
def k0_off978 (v130 : BitVec 32) : Fin 4 → Nat :=
  let c0_262 : Index := 0#32
  let c7_i32 : BitVec 32 := 7#32
  let v131 : BitVec 32 := Scalar.shrui v130 c7_i32
  let v561 : Index := Scalar.indexCast v131
  let c192_263 : Index := 192#32
  let c0_264 : Index := 0#32
  ![0, v561.toNat, 192, 0]
def k0_off979 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v578 : Index := Scalar.indexCast v66
  let c0_267 : Index := 0#32
  let c12 : Index := 12#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v579 : Index := Scalar.indexCast v159
  let c0_268 : Index := 0#32
  ![v578.toNat, 0, 12, v579.toNat, 0]
def k0_off980 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v584 : Index := Scalar.indexCast v66
  let c0_269 : Index := 0#32
  let c13 : Index := 13#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v585 : Index := Scalar.indexCast v159
  let c0_270 : Index := 0#32
  ![v584.toNat, 0, 13, v585.toNat, 0]
def k0_off981 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v589 : Index := Scalar.indexCast v65
  let c1_271 : Index := 1#32
  let c0_i32_75 : BitVec 32 := 0#32
  let c1_i32_78 : BitVec 32 := 1#32
  let arg20 : BitVec 32 := Scf.iv c0_i32_75 c1_i32_78 k0_t25
  let v590 : Index := Scalar.indexCast arg20
  let c192_272 : Index := 192#32
  let c0_273 : Index := 0#32
  ![v589.toNat, 1, v590.toNat, 192, 0]
def k0_off982 (v130 : BitVec 32) : Fin 4 → Nat :=
  let c1_274 : Index := 1#32
  let c7_i32 : BitVec 32 := 7#32
  let v131 : BitVec 32 := Scalar.shrui v130 c7_i32
  let v594 : Index := Scalar.indexCast v131
  let c192_275 : Index := 192#32
  let c0_276 : Index := 0#32
  ![1, v594.toNat, 192, 0]
def k0_off983 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v611 : Index := Scalar.indexCast v66
  let c1_279 : Index := 1#32
  let c12_280 : Index := 12#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v612 : Index := Scalar.indexCast v159
  let c0_281 : Index := 0#32
  ![v611.toNat, 1, 12, v612.toNat, 0]
def k0_off984 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v617 : Index := Scalar.indexCast v66
  let c1_282 : Index := 1#32
  let c13_283 : Index := 13#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v618 : Index := Scalar.indexCast v159
  let c0_284 : Index := 0#32
  ![v617.toNat, 1, 13, v618.toNat, 0]
def k0_off985 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v622 : Index := Scalar.indexCast v65
  let c0_285 : Index := 0#32
  let c0_i32_75 : BitVec 32 := 0#32
  let c1_i32_78 : BitVec 32 := 1#32
  let arg20 : BitVec 32 := Scf.iv c0_i32_75 c1_i32_78 k0_t25
  let v623 : Index := Scalar.indexCast arg20
  let c224 : Index := 224#32
  let c0_286 : Index := 0#32
  ![v622.toNat, 0, v623.toNat, 224, 0]
def k0_off986 (v130 : BitVec 32) : Fin 4 → Nat :=
  let c0_287 : Index := 0#32
  let c7_i32 : BitVec 32 := 7#32
  let v131 : BitVec 32 := Scalar.shrui v130 c7_i32
  let v627 : Index := Scalar.indexCast v131
  let c224_288 : Index := 224#32
  let c0_289 : Index := 0#32
  ![0, v627.toNat, 224, 0]
def k0_off987 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v644 : Index := Scalar.indexCast v66
  let c0_292 : Index := 0#32
  let c14 : Index := 14#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v645 : Index := Scalar.indexCast v159
  let c0_293 : Index := 0#32
  ![v644.toNat, 0, 14, v645.toNat, 0]
def k0_off988 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v650 : Index := Scalar.indexCast v66
  let c0_294 : Index := 0#32
  let c15 : Index := 15#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v651 : Index := Scalar.indexCast v159
  let c0_295 : Index := 0#32
  ![v650.toNat, 0, 15, v651.toNat, 0]
def k0_off989 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v655 : Index := Scalar.indexCast v65
  let c1_296 : Index := 1#32
  let c0_i32_75 : BitVec 32 := 0#32
  let c1_i32_78 : BitVec 32 := 1#32
  let arg20 : BitVec 32 := Scf.iv c0_i32_75 c1_i32_78 k0_t25
  let v656 : Index := Scalar.indexCast arg20
  let c224_297 : Index := 224#32
  let c0_298 : Index := 0#32
  ![v655.toNat, 1, v656.toNat, 224, 0]
def k0_off990 (v130 : BitVec 32) : Fin 4 → Nat :=
  let c1_299 : Index := 1#32
  let c7_i32 : BitVec 32 := 7#32
  let v131 : BitVec 32 := Scalar.shrui v130 c7_i32
  let v660 : Index := Scalar.indexCast v131
  let c224_300 : Index := 224#32
  let c0_301 : Index := 0#32
  ![1, v660.toNat, 224, 0]
def k0_off991 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v677 : Index := Scalar.indexCast v66
  let c1_304 : Index := 1#32
  let c14_305 : Index := 14#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v678 : Index := Scalar.indexCast v159
  let c0_306 : Index := 0#32
  ![v677.toNat, 1, 14, v678.toNat, 0]
def k0_off992 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v683 : Index := Scalar.indexCast v66
  let c1_307 : Index := 1#32
  let c15_308 : Index := 15#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v684 : Index := Scalar.indexCast v159
  let c0_309 : Index := 0#32
  ![v683.toNat, 1, 15, v684.toNat, 0]
def k0_off993 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v688 : Index := Scalar.indexCast v65
  let c0_310 : Index := 0#32
  let c0_i32_75 : BitVec 32 := 0#32
  let c1_i32_78 : BitVec 32 := 1#32
  let arg20 : BitVec 32 := Scf.iv c0_i32_75 c1_i32_78 k0_t25
  let v689 : Index := Scalar.indexCast arg20
  let c256 : Index := 256#32
  let c0_311 : Index := 0#32
  ![v688.toNat, 0, v689.toNat, 256, 0]
def k0_off994 (v130 : BitVec 32) : Fin 4 → Nat :=
  let c0_312 : Index := 0#32
  let c7_i32 : BitVec 32 := 7#32
  let v131 : BitVec 32 := Scalar.shrui v130 c7_i32
  let v693 : Index := Scalar.indexCast v131
  let c256_313 : Index := 256#32
  let c0_314 : Index := 0#32
  ![0, v693.toNat, 256, 0]
def k0_off995 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v710 : Index := Scalar.indexCast v66
  let c0_317 : Index := 0#32
  let c16 : Index := 16#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v711 : Index := Scalar.indexCast v159
  let c0_318 : Index := 0#32
  ![v710.toNat, 0, 16, v711.toNat, 0]
def k0_off996 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v716 : Index := Scalar.indexCast v66
  let c0_319 : Index := 0#32
  let c17 : Index := 17#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v717 : Index := Scalar.indexCast v159
  let c0_320 : Index := 0#32
  ![v716.toNat, 0, 17, v717.toNat, 0]
def k0_off997 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v721 : Index := Scalar.indexCast v65
  let c1_321 : Index := 1#32
  let c0_i32_75 : BitVec 32 := 0#32
  let c1_i32_78 : BitVec 32 := 1#32
  let arg20 : BitVec 32 := Scf.iv c0_i32_75 c1_i32_78 k0_t25
  let v722 : Index := Scalar.indexCast arg20
  let c256_322 : Index := 256#32
  let c0_323 : Index := 0#32
  ![v721.toNat, 1, v722.toNat, 256, 0]
def k0_off998 (v130 : BitVec 32) : Fin 4 → Nat :=
  let c1_324 : Index := 1#32
  let c7_i32 : BitVec 32 := 7#32
  let v131 : BitVec 32 := Scalar.shrui v130 c7_i32
  let v726 : Index := Scalar.indexCast v131
  let c256_325 : Index := 256#32
  let c0_326 : Index := 0#32
  ![1, v726.toNat, 256, 0]
def k0_off999 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v743 : Index := Scalar.indexCast v66
  let c1_329 : Index := 1#32
  let c16_330 : Index := 16#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v744 : Index := Scalar.indexCast v159
  let c0_331 : Index := 0#32
  ![v743.toNat, 1, 16, v744.toNat, 0]
def k0_off1000 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v749 : Index := Scalar.indexCast v66
  let c1_332 : Index := 1#32
  let c17_333 : Index := 17#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v750 : Index := Scalar.indexCast v159
  let c0_334 : Index := 0#32
  ![v749.toNat, 1, 17, v750.toNat, 0]
def k0_off1001 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v754 : Index := Scalar.indexCast v65
  let c0_335 : Index := 0#32
  let c0_i32_75 : BitVec 32 := 0#32
  let c1_i32_78 : BitVec 32 := 1#32
  let arg20 : BitVec 32 := Scf.iv c0_i32_75 c1_i32_78 k0_t25
  let v755 : Index := Scalar.indexCast arg20
  let c288 : Index := 288#32
  let c0_336 : Index := 0#32
  ![v754.toNat, 0, v755.toNat, 288, 0]
def k0_off1002 (v130 : BitVec 32) : Fin 4 → Nat :=
  let c0_337 : Index := 0#32
  let c7_i32 : BitVec 32 := 7#32
  let v131 : BitVec 32 := Scalar.shrui v130 c7_i32
  let v759 : Index := Scalar.indexCast v131
  let c288_338 : Index := 288#32
  let c0_339 : Index := 0#32
  ![0, v759.toNat, 288, 0]
def k0_off1003 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v776 : Index := Scalar.indexCast v66
  let c0_342 : Index := 0#32
  let c18 : Index := 18#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v777 : Index := Scalar.indexCast v159
  let c0_343 : Index := 0#32
  ![v776.toNat, 0, 18, v777.toNat, 0]
def k0_off1004 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v782 : Index := Scalar.indexCast v66
  let c0_344 : Index := 0#32
  let c19 : Index := 19#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v783 : Index := Scalar.indexCast v159
  let c0_345 : Index := 0#32
  ![v782.toNat, 0, 19, v783.toNat, 0]
def k0_off1005 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v787 : Index := Scalar.indexCast v65
  let c1_346 : Index := 1#32
  let c0_i32_75 : BitVec 32 := 0#32
  let c1_i32_78 : BitVec 32 := 1#32
  let arg20 : BitVec 32 := Scf.iv c0_i32_75 c1_i32_78 k0_t25
  let v788 : Index := Scalar.indexCast arg20
  let c288_347 : Index := 288#32
  let c0_348 : Index := 0#32
  ![v787.toNat, 1, v788.toNat, 288, 0]
def k0_off1006 (v130 : BitVec 32) : Fin 4 → Nat :=
  let c1_349 : Index := 1#32
  let c7_i32 : BitVec 32 := 7#32
  let v131 : BitVec 32 := Scalar.shrui v130 c7_i32
  let v792 : Index := Scalar.indexCast v131
  let c288_350 : Index := 288#32
  let c0_351 : Index := 0#32
  ![1, v792.toNat, 288, 0]
def k0_off1007 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v809 : Index := Scalar.indexCast v66
  let c1_354 : Index := 1#32
  let c18_355 : Index := 18#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v810 : Index := Scalar.indexCast v159
  let c0_356 : Index := 0#32
  ![v809.toNat, 1, 18, v810.toNat, 0]
def k0_off1008 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v815 : Index := Scalar.indexCast v66
  let c1_357 : Index := 1#32
  let c19_358 : Index := 19#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v816 : Index := Scalar.indexCast v159
  let c0_359 : Index := 0#32
  ![v815.toNat, 1, 19, v816.toNat, 0]
def k0_off1009 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v820 : Index := Scalar.indexCast v65
  let c0_360 : Index := 0#32
  let c0_i32_75 : BitVec 32 := 0#32
  let c1_i32_78 : BitVec 32 := 1#32
  let arg20 : BitVec 32 := Scf.iv c0_i32_75 c1_i32_78 k0_t25
  let v821 : Index := Scalar.indexCast arg20
  let c320 : Index := 320#32
  let c0_361 : Index := 0#32
  ![v820.toNat, 0, v821.toNat, 320, 0]
def k0_off1010 (v130 : BitVec 32) : Fin 4 → Nat :=
  let c0_362 : Index := 0#32
  let c7_i32 : BitVec 32 := 7#32
  let v131 : BitVec 32 := Scalar.shrui v130 c7_i32
  let v825 : Index := Scalar.indexCast v131
  let c320_363 : Index := 320#32
  let c0_364 : Index := 0#32
  ![0, v825.toNat, 320, 0]
def k0_off1011 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v842 : Index := Scalar.indexCast v66
  let c0_367 : Index := 0#32
  let c20 : Index := 20#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v843 : Index := Scalar.indexCast v159
  let c0_368 : Index := 0#32
  ![v842.toNat, 0, 20, v843.toNat, 0]
def k0_off1012 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v848 : Index := Scalar.indexCast v66
  let c0_369 : Index := 0#32
  let c21 : Index := 21#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v849 : Index := Scalar.indexCast v159
  let c0_370 : Index := 0#32
  ![v848.toNat, 0, 21, v849.toNat, 0]
def k0_off1013 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v853 : Index := Scalar.indexCast v65
  let c1_371 : Index := 1#32
  let c0_i32_75 : BitVec 32 := 0#32
  let c1_i32_78 : BitVec 32 := 1#32
  let arg20 : BitVec 32 := Scf.iv c0_i32_75 c1_i32_78 k0_t25
  let v854 : Index := Scalar.indexCast arg20
  let c320_372 : Index := 320#32
  let c0_373 : Index := 0#32
  ![v853.toNat, 1, v854.toNat, 320, 0]
def k0_off1014 (v130 : BitVec 32) : Fin 4 → Nat :=
  let c1_374 : Index := 1#32
  let c7_i32 : BitVec 32 := 7#32
  let v131 : BitVec 32 := Scalar.shrui v130 c7_i32
  let v858 : Index := Scalar.indexCast v131
  let c320_375 : Index := 320#32
  let c0_376 : Index := 0#32
  ![1, v858.toNat, 320, 0]
def k0_off1015 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v875 : Index := Scalar.indexCast v66
  let c1_379 : Index := 1#32
  let c20_380 : Index := 20#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v876 : Index := Scalar.indexCast v159
  let c0_381 : Index := 0#32
  ![v875.toNat, 1, 20, v876.toNat, 0]
def k0_off1016 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v881 : Index := Scalar.indexCast v66
  let c1_382 : Index := 1#32
  let c21_383 : Index := 21#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v882 : Index := Scalar.indexCast v159
  let c0_384 : Index := 0#32
  ![v881.toNat, 1, 21, v882.toNat, 0]
def k0_off1017 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v886 : Index := Scalar.indexCast v65
  let c0_385 : Index := 0#32
  let c0_i32_75 : BitVec 32 := 0#32
  let c1_i32_78 : BitVec 32 := 1#32
  let arg20 : BitVec 32 := Scf.iv c0_i32_75 c1_i32_78 k0_t25
  let v887 : Index := Scalar.indexCast arg20
  let c352 : Index := 352#32
  let c0_386 : Index := 0#32
  ![v886.toNat, 0, v887.toNat, 352, 0]
def k0_off1018 (v130 : BitVec 32) : Fin 4 → Nat :=
  let c0_387 : Index := 0#32
  let c7_i32 : BitVec 32 := 7#32
  let v131 : BitVec 32 := Scalar.shrui v130 c7_i32
  let v891 : Index := Scalar.indexCast v131
  let c352_388 : Index := 352#32
  let c0_389 : Index := 0#32
  ![0, v891.toNat, 352, 0]
def k0_off1019 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v908 : Index := Scalar.indexCast v66
  let c0_392 : Index := 0#32
  let c22 : Index := 22#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v909 : Index := Scalar.indexCast v159
  let c0_393 : Index := 0#32
  ![v908.toNat, 0, 22, v909.toNat, 0]
def k0_off1020 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v914 : Index := Scalar.indexCast v66
  let c0_394 : Index := 0#32
  let c23 : Index := 23#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v915 : Index := Scalar.indexCast v159
  let c0_395 : Index := 0#32
  ![v914.toNat, 0, 23, v915.toNat, 0]
def k0_off1021 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v919 : Index := Scalar.indexCast v65
  let c1_396 : Index := 1#32
  let c0_i32_75 : BitVec 32 := 0#32
  let c1_i32_78 : BitVec 32 := 1#32
  let arg20 : BitVec 32 := Scf.iv c0_i32_75 c1_i32_78 k0_t25
  let v920 : Index := Scalar.indexCast arg20
  let c352_397 : Index := 352#32
  let c0_398 : Index := 0#32
  ![v919.toNat, 1, v920.toNat, 352, 0]
def k0_off1022 (v130 : BitVec 32) : Fin 4 → Nat :=
  let c1_399 : Index := 1#32
  let c7_i32 : BitVec 32 := 7#32
  let v131 : BitVec 32 := Scalar.shrui v130 c7_i32
  let v924 : Index := Scalar.indexCast v131
  let c352_400 : Index := 352#32
  let c0_401 : Index := 0#32
  ![1, v924.toNat, 352, 0]
def k0_off1023 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v941 : Index := Scalar.indexCast v66
  let c1_404 : Index := 1#32
  let c22_405 : Index := 22#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v942 : Index := Scalar.indexCast v159
  let c0_406 : Index := 0#32
  ![v941.toNat, 1, 22, v942.toNat, 0]
def k0_off1024 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v947 : Index := Scalar.indexCast v66
  let c1_407 : Index := 1#32
  let c23_408 : Index := 23#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v948 : Index := Scalar.indexCast v159
  let c0_409 : Index := 0#32
  ![v947.toNat, 1, 23, v948.toNat, 0]
def k0_off1025 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v952 : Index := Scalar.indexCast v65
  let c0_410 : Index := 0#32
  let c0_i32_75 : BitVec 32 := 0#32
  let c1_i32_78 : BitVec 32 := 1#32
  let arg20 : BitVec 32 := Scf.iv c0_i32_75 c1_i32_78 k0_t25
  let v953 : Index := Scalar.indexCast arg20
  let c384 : Index := 384#32
  let c0_411 : Index := 0#32
  ![v952.toNat, 0, v953.toNat, 384, 0]
def k0_off1026 (v130 : BitVec 32) : Fin 4 → Nat :=
  let c0_412 : Index := 0#32
  let c7_i32 : BitVec 32 := 7#32
  let v131 : BitVec 32 := Scalar.shrui v130 c7_i32
  let v957 : Index := Scalar.indexCast v131
  let c384_413 : Index := 384#32
  let c0_414 : Index := 0#32
  ![0, v957.toNat, 384, 0]
def k0_off1027 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v974 : Index := Scalar.indexCast v66
  let c0_417 : Index := 0#32
  let c24 : Index := 24#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v975 : Index := Scalar.indexCast v159
  let c0_418 : Index := 0#32
  ![v974.toNat, 0, 24, v975.toNat, 0]
def k0_off1028 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v980 : Index := Scalar.indexCast v66
  let c0_419 : Index := 0#32
  let c25 : Index := 25#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v981 : Index := Scalar.indexCast v159
  let c0_420 : Index := 0#32
  ![v980.toNat, 0, 25, v981.toNat, 0]
def k0_off1029 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v985 : Index := Scalar.indexCast v65
  let c1_421 : Index := 1#32
  let c0_i32_75 : BitVec 32 := 0#32
  let c1_i32_78 : BitVec 32 := 1#32
  let arg20 : BitVec 32 := Scf.iv c0_i32_75 c1_i32_78 k0_t25
  let v986 : Index := Scalar.indexCast arg20
  let c384_422 : Index := 384#32
  let c0_423 : Index := 0#32
  ![v985.toNat, 1, v986.toNat, 384, 0]
def k0_off1030 (v130 : BitVec 32) : Fin 4 → Nat :=
  let c1_424 : Index := 1#32
  let c7_i32 : BitVec 32 := 7#32
  let v131 : BitVec 32 := Scalar.shrui v130 c7_i32
  let v990 : Index := Scalar.indexCast v131
  let c384_425 : Index := 384#32
  let c0_426 : Index := 0#32
  ![1, v990.toNat, 384, 0]
def k0_off1031 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1007 : Index := Scalar.indexCast v66
  let c1_429 : Index := 1#32
  let c24_430 : Index := 24#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1008 : Index := Scalar.indexCast v159
  let c0_431 : Index := 0#32
  ![v1007.toNat, 1, 24, v1008.toNat, 0]
def k0_off1032 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1013 : Index := Scalar.indexCast v66
  let c1_432 : Index := 1#32
  let c25_433 : Index := 25#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1014 : Index := Scalar.indexCast v159
  let c0_434 : Index := 0#32
  ![v1013.toNat, 1, 25, v1014.toNat, 0]
def k0_off1033 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1018 : Index := Scalar.indexCast v65
  let c0_435 : Index := 0#32
  let c0_i32_75 : BitVec 32 := 0#32
  let c1_i32_78 : BitVec 32 := 1#32
  let arg20 : BitVec 32 := Scf.iv c0_i32_75 c1_i32_78 k0_t25
  let v1019 : Index := Scalar.indexCast arg20
  let c416 : Index := 416#32
  let c0_436 : Index := 0#32
  ![v1018.toNat, 0, v1019.toNat, 416, 0]
def k0_off1034 (v130 : BitVec 32) : Fin 4 → Nat :=
  let c0_437 : Index := 0#32
  let c7_i32 : BitVec 32 := 7#32
  let v131 : BitVec 32 := Scalar.shrui v130 c7_i32
  let v1023 : Index := Scalar.indexCast v131
  let c416_438 : Index := 416#32
  let c0_439 : Index := 0#32
  ![0, v1023.toNat, 416, 0]
def k0_off1035 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1040 : Index := Scalar.indexCast v66
  let c0_442 : Index := 0#32
  let c26 : Index := 26#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1041 : Index := Scalar.indexCast v159
  let c0_443 : Index := 0#32
  ![v1040.toNat, 0, 26, v1041.toNat, 0]
def k0_off1036 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1046 : Index := Scalar.indexCast v66
  let c0_444 : Index := 0#32
  let c27 : Index := 27#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1047 : Index := Scalar.indexCast v159
  let c0_445 : Index := 0#32
  ![v1046.toNat, 0, 27, v1047.toNat, 0]
def k0_off1037 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1051 : Index := Scalar.indexCast v65
  let c1_446 : Index := 1#32
  let c0_i32_75 : BitVec 32 := 0#32
  let c1_i32_78 : BitVec 32 := 1#32
  let arg20 : BitVec 32 := Scf.iv c0_i32_75 c1_i32_78 k0_t25
  let v1052 : Index := Scalar.indexCast arg20
  let c416_447 : Index := 416#32
  let c0_448 : Index := 0#32
  ![v1051.toNat, 1, v1052.toNat, 416, 0]
def k0_off1038 (v130 : BitVec 32) : Fin 4 → Nat :=
  let c1_449 : Index := 1#32
  let c7_i32 : BitVec 32 := 7#32
  let v131 : BitVec 32 := Scalar.shrui v130 c7_i32
  let v1056 : Index := Scalar.indexCast v131
  let c416_450 : Index := 416#32
  let c0_451 : Index := 0#32
  ![1, v1056.toNat, 416, 0]
def k0_off1039 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1073 : Index := Scalar.indexCast v66
  let c1_454 : Index := 1#32
  let c26_455 : Index := 26#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1074 : Index := Scalar.indexCast v159
  let c0_456 : Index := 0#32
  ![v1073.toNat, 1, 26, v1074.toNat, 0]
def k0_off1040 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1079 : Index := Scalar.indexCast v66
  let c1_457 : Index := 1#32
  let c27_458 : Index := 27#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1080 : Index := Scalar.indexCast v159
  let c0_459 : Index := 0#32
  ![v1079.toNat, 1, 27, v1080.toNat, 0]
def k0_off1041 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1084 : Index := Scalar.indexCast v65
  let c0_460 : Index := 0#32
  let c0_i32_75 : BitVec 32 := 0#32
  let c1_i32_78 : BitVec 32 := 1#32
  let arg20 : BitVec 32 := Scf.iv c0_i32_75 c1_i32_78 k0_t25
  let v1085 : Index := Scalar.indexCast arg20
  let c448 : Index := 448#32
  let c0_461 : Index := 0#32
  ![v1084.toNat, 0, v1085.toNat, 448, 0]
def k0_off1042 (v130 : BitVec 32) : Fin 4 → Nat :=
  let c0_462 : Index := 0#32
  let c7_i32 : BitVec 32 := 7#32
  let v131 : BitVec 32 := Scalar.shrui v130 c7_i32
  let v1089 : Index := Scalar.indexCast v131
  let c448_463 : Index := 448#32
  let c0_464 : Index := 0#32
  ![0, v1089.toNat, 448, 0]
def k0_off1043 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1106 : Index := Scalar.indexCast v66
  let c0_467 : Index := 0#32
  let c28 : Index := 28#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1107 : Index := Scalar.indexCast v159
  let c0_468 : Index := 0#32
  ![v1106.toNat, 0, 28, v1107.toNat, 0]
def k0_off1044 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1112 : Index := Scalar.indexCast v66
  let c0_469 : Index := 0#32
  let c29 : Index := 29#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1113 : Index := Scalar.indexCast v159
  let c0_470 : Index := 0#32
  ![v1112.toNat, 0, 29, v1113.toNat, 0]
def k0_off1045 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1117 : Index := Scalar.indexCast v65
  let c1_471 : Index := 1#32
  let c0_i32_75 : BitVec 32 := 0#32
  let c1_i32_78 : BitVec 32 := 1#32
  let arg20 : BitVec 32 := Scf.iv c0_i32_75 c1_i32_78 k0_t25
  let v1118 : Index := Scalar.indexCast arg20
  let c448_472 : Index := 448#32
  let c0_473 : Index := 0#32
  ![v1117.toNat, 1, v1118.toNat, 448, 0]
def k0_off1046 (v130 : BitVec 32) : Fin 4 → Nat :=
  let c1_474 : Index := 1#32
  let c7_i32 : BitVec 32 := 7#32
  let v131 : BitVec 32 := Scalar.shrui v130 c7_i32
  let v1122 : Index := Scalar.indexCast v131
  let c448_475 : Index := 448#32
  let c0_476 : Index := 0#32
  ![1, v1122.toNat, 448, 0]
def k0_off1047 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1139 : Index := Scalar.indexCast v66
  let c1_479 : Index := 1#32
  let c28_480 : Index := 28#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1140 : Index := Scalar.indexCast v159
  let c0_481 : Index := 0#32
  ![v1139.toNat, 1, 28, v1140.toNat, 0]
def k0_off1048 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1145 : Index := Scalar.indexCast v66
  let c1_482 : Index := 1#32
  let c29_483 : Index := 29#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1146 : Index := Scalar.indexCast v159
  let c0_484 : Index := 0#32
  ![v1145.toNat, 1, 29, v1146.toNat, 0]
def k0_off1049 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1150 : Index := Scalar.indexCast v65
  let c0_485 : Index := 0#32
  let c0_i32_75 : BitVec 32 := 0#32
  let c1_i32_78 : BitVec 32 := 1#32
  let arg20 : BitVec 32 := Scf.iv c0_i32_75 c1_i32_78 k0_t25
  let v1151 : Index := Scalar.indexCast arg20
  let c480 : Index := 480#32
  let c0_486 : Index := 0#32
  ![v1150.toNat, 0, v1151.toNat, 480, 0]
def k0_off1050 (v130 : BitVec 32) : Fin 4 → Nat :=
  let c0_487 : Index := 0#32
  let c7_i32 : BitVec 32 := 7#32
  let v131 : BitVec 32 := Scalar.shrui v130 c7_i32
  let v1155 : Index := Scalar.indexCast v131
  let c480_488 : Index := 480#32
  let c0_489 : Index := 0#32
  ![0, v1155.toNat, 480, 0]
def k0_off1051 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1172 : Index := Scalar.indexCast v66
  let c0_492 : Index := 0#32
  let c30 : Index := 30#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1173 : Index := Scalar.indexCast v159
  let c0_493 : Index := 0#32
  ![v1172.toNat, 0, 30, v1173.toNat, 0]
def k0_off1052 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1178 : Index := Scalar.indexCast v66
  let c0_494 : Index := 0#32
  let c31 : Index := 31#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1179 : Index := Scalar.indexCast v159
  let c0_495 : Index := 0#32
  ![v1178.toNat, 0, 31, v1179.toNat, 0]
def k0_off1053 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1183 : Index := Scalar.indexCast v65
  let c1_496 : Index := 1#32
  let c0_i32_75 : BitVec 32 := 0#32
  let c1_i32_78 : BitVec 32 := 1#32
  let arg20 : BitVec 32 := Scf.iv c0_i32_75 c1_i32_78 k0_t25
  let v1184 : Index := Scalar.indexCast arg20
  let c480_497 : Index := 480#32
  let c0_498 : Index := 0#32
  ![v1183.toNat, 1, v1184.toNat, 480, 0]
def k0_off1054 (v130 : BitVec 32) : Fin 4 → Nat :=
  let c1_499 : Index := 1#32
  let c7_i32 : BitVec 32 := 7#32
  let v131 : BitVec 32 := Scalar.shrui v130 c7_i32
  let v1188 : Index := Scalar.indexCast v131
  let c480_500 : Index := 480#32
  let c0_501 : Index := 0#32
  ![1, v1188.toNat, 480, 0]
def k0_off1055 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1205 : Index := Scalar.indexCast v66
  let c1_504 : Index := 1#32
  let c30_505 : Index := 30#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1206 : Index := Scalar.indexCast v159
  let c0_506 : Index := 0#32
  ![v1205.toNat, 1, 30, v1206.toNat, 0]
def k0_off1056 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1211 : Index := Scalar.indexCast v66
  let c1_507 : Index := 1#32
  let c31_508 : Index := 31#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1212 : Index := Scalar.indexCast v159
  let c0_509 : Index := 0#32
  ![v1211.toNat, 1, 31, v1212.toNat, 0]
def k0_off1057 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1216 : Index := Scalar.indexCast v65
  let c0_510 : Index := 0#32
  let c0_i32_75 : BitVec 32 := 0#32
  let c1_i32_78 : BitVec 32 := 1#32
  let arg20 : BitVec 32 := Scf.iv c0_i32_75 c1_i32_78 k0_t25
  let v1217 : Index := Scalar.indexCast arg20
  let c512 : Index := 512#32
  let c0_511 : Index := 0#32
  ![v1216.toNat, 0, v1217.toNat, 512, 0]
def k0_off1058 (v130 : BitVec 32) : Fin 4 → Nat :=
  let c0_512 : Index := 0#32
  let c7_i32 : BitVec 32 := 7#32
  let v131 : BitVec 32 := Scalar.shrui v130 c7_i32
  let v1221 : Index := Scalar.indexCast v131
  let c512_513 : Index := 512#32
  let c0_514 : Index := 0#32
  ![0, v1221.toNat, 512, 0]
def k0_off1059 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1238 : Index := Scalar.indexCast v66
  let c0_517 : Index := 0#32
  let c32_518 : Index := 32#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1239 : Index := Scalar.indexCast v159
  let c0_519 : Index := 0#32
  ![v1238.toNat, 0, 32, v1239.toNat, 0]
def k0_off1060 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1244 : Index := Scalar.indexCast v66
  let c0_520 : Index := 0#32
  let c33 : Index := 33#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1245 : Index := Scalar.indexCast v159
  let c0_521 : Index := 0#32
  ![v1244.toNat, 0, 33, v1245.toNat, 0]
def k0_off1061 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1249 : Index := Scalar.indexCast v65
  let c1_522 : Index := 1#32
  let c0_i32_75 : BitVec 32 := 0#32
  let c1_i32_78 : BitVec 32 := 1#32
  let arg20 : BitVec 32 := Scf.iv c0_i32_75 c1_i32_78 k0_t25
  let v1250 : Index := Scalar.indexCast arg20
  let c512_523 : Index := 512#32
  let c0_524 : Index := 0#32
  ![v1249.toNat, 1, v1250.toNat, 512, 0]
def k0_off1062 (v130 : BitVec 32) : Fin 4 → Nat :=
  let c1_525 : Index := 1#32
  let c7_i32 : BitVec 32 := 7#32
  let v131 : BitVec 32 := Scalar.shrui v130 c7_i32
  let v1254 : Index := Scalar.indexCast v131
  let c512_526 : Index := 512#32
  let c0_527 : Index := 0#32
  ![1, v1254.toNat, 512, 0]
def k0_off1063 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1271 : Index := Scalar.indexCast v66
  let c1_530 : Index := 1#32
  let c32_531 : Index := 32#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1272 : Index := Scalar.indexCast v159
  let c0_532 : Index := 0#32
  ![v1271.toNat, 1, 32, v1272.toNat, 0]
def k0_off1064 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1277 : Index := Scalar.indexCast v66
  let c1_533 : Index := 1#32
  let c33_534 : Index := 33#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1278 : Index := Scalar.indexCast v159
  let c0_535 : Index := 0#32
  ![v1277.toNat, 1, 33, v1278.toNat, 0]
def k0_off1065 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1282 : Index := Scalar.indexCast v65
  let c0_536 : Index := 0#32
  let c0_i32_75 : BitVec 32 := 0#32
  let c1_i32_78 : BitVec 32 := 1#32
  let arg20 : BitVec 32 := Scf.iv c0_i32_75 c1_i32_78 k0_t25
  let v1283 : Index := Scalar.indexCast arg20
  let c544 : Index := 544#32
  let c0_537 : Index := 0#32
  ![v1282.toNat, 0, v1283.toNat, 544, 0]
def k0_off1066 (v130 : BitVec 32) : Fin 4 → Nat :=
  let c0_538 : Index := 0#32
  let c7_i32 : BitVec 32 := 7#32
  let v131 : BitVec 32 := Scalar.shrui v130 c7_i32
  let v1287 : Index := Scalar.indexCast v131
  let c544_539 : Index := 544#32
  let c0_540 : Index := 0#32
  ![0, v1287.toNat, 544, 0]
def k0_off1067 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1304 : Index := Scalar.indexCast v66
  let c0_543 : Index := 0#32
  let c34 : Index := 34#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1305 : Index := Scalar.indexCast v159
  let c0_544 : Index := 0#32
  ![v1304.toNat, 0, 34, v1305.toNat, 0]
def k0_off1068 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1310 : Index := Scalar.indexCast v66
  let c0_545 : Index := 0#32
  let c35 : Index := 35#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1311 : Index := Scalar.indexCast v159
  let c0_546 : Index := 0#32
  ![v1310.toNat, 0, 35, v1311.toNat, 0]
def k0_off1069 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1315 : Index := Scalar.indexCast v65
  let c1_547 : Index := 1#32
  let c0_i32_75 : BitVec 32 := 0#32
  let c1_i32_78 : BitVec 32 := 1#32
  let arg20 : BitVec 32 := Scf.iv c0_i32_75 c1_i32_78 k0_t25
  let v1316 : Index := Scalar.indexCast arg20
  let c544_548 : Index := 544#32
  let c0_549 : Index := 0#32
  ![v1315.toNat, 1, v1316.toNat, 544, 0]
def k0_off1070 (v130 : BitVec 32) : Fin 4 → Nat :=
  let c1_550 : Index := 1#32
  let c7_i32 : BitVec 32 := 7#32
  let v131 : BitVec 32 := Scalar.shrui v130 c7_i32
  let v1320 : Index := Scalar.indexCast v131
  let c544_551 : Index := 544#32
  let c0_552 : Index := 0#32
  ![1, v1320.toNat, 544, 0]
def k0_off1071 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1337 : Index := Scalar.indexCast v66
  let c1_555 : Index := 1#32
  let c34_556 : Index := 34#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1338 : Index := Scalar.indexCast v159
  let c0_557 : Index := 0#32
  ![v1337.toNat, 1, 34, v1338.toNat, 0]
def k0_off1072 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1343 : Index := Scalar.indexCast v66
  let c1_558 : Index := 1#32
  let c35_559 : Index := 35#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1344 : Index := Scalar.indexCast v159
  let c0_560 : Index := 0#32
  ![v1343.toNat, 1, 35, v1344.toNat, 0]
def k0_off1073 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1348 : Index := Scalar.indexCast v65
  let c0_561 : Index := 0#32
  let c0_i32_75 : BitVec 32 := 0#32
  let c1_i32_78 : BitVec 32 := 1#32
  let arg20 : BitVec 32 := Scf.iv c0_i32_75 c1_i32_78 k0_t25
  let v1349 : Index := Scalar.indexCast arg20
  let c576 : Index := 576#32
  let c0_562 : Index := 0#32
  ![v1348.toNat, 0, v1349.toNat, 576, 0]
def k0_off1074 (v130 : BitVec 32) : Fin 4 → Nat :=
  let c0_563 : Index := 0#32
  let c7_i32 : BitVec 32 := 7#32
  let v131 : BitVec 32 := Scalar.shrui v130 c7_i32
  let v1353 : Index := Scalar.indexCast v131
  let c576_564 : Index := 576#32
  let c0_565 : Index := 0#32
  ![0, v1353.toNat, 576, 0]
def k0_off1075 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1370 : Index := Scalar.indexCast v66
  let c0_568 : Index := 0#32
  let c36 : Index := 36#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1371 : Index := Scalar.indexCast v159
  let c0_569 : Index := 0#32
  ![v1370.toNat, 0, 36, v1371.toNat, 0]
def k0_off1076 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1376 : Index := Scalar.indexCast v66
  let c0_570 : Index := 0#32
  let c37 : Index := 37#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1377 : Index := Scalar.indexCast v159
  let c0_571 : Index := 0#32
  ![v1376.toNat, 0, 37, v1377.toNat, 0]
def k0_off1077 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1381 : Index := Scalar.indexCast v65
  let c1_572 : Index := 1#32
  let c0_i32_75 : BitVec 32 := 0#32
  let c1_i32_78 : BitVec 32 := 1#32
  let arg20 : BitVec 32 := Scf.iv c0_i32_75 c1_i32_78 k0_t25
  let v1382 : Index := Scalar.indexCast arg20
  let c576_573 : Index := 576#32
  let c0_574 : Index := 0#32
  ![v1381.toNat, 1, v1382.toNat, 576, 0]
def k0_off1078 (v130 : BitVec 32) : Fin 4 → Nat :=
  let c1_575 : Index := 1#32
  let c7_i32 : BitVec 32 := 7#32
  let v131 : BitVec 32 := Scalar.shrui v130 c7_i32
  let v1386 : Index := Scalar.indexCast v131
  let c576_576 : Index := 576#32
  let c0_577 : Index := 0#32
  ![1, v1386.toNat, 576, 0]
def k0_off1079 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1403 : Index := Scalar.indexCast v66
  let c1_580 : Index := 1#32
  let c36_581 : Index := 36#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1404 : Index := Scalar.indexCast v159
  let c0_582 : Index := 0#32
  ![v1403.toNat, 1, 36, v1404.toNat, 0]
def k0_off1080 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1409 : Index := Scalar.indexCast v66
  let c1_583 : Index := 1#32
  let c37_584 : Index := 37#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1410 : Index := Scalar.indexCast v159
  let c0_585 : Index := 0#32
  ![v1409.toNat, 1, 37, v1410.toNat, 0]
def k0_off1081 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1414 : Index := Scalar.indexCast v65
  let c0_586 : Index := 0#32
  let c0_i32_75 : BitVec 32 := 0#32
  let c1_i32_78 : BitVec 32 := 1#32
  let arg20 : BitVec 32 := Scf.iv c0_i32_75 c1_i32_78 k0_t25
  let v1415 : Index := Scalar.indexCast arg20
  let c608 : Index := 608#32
  let c0_587 : Index := 0#32
  ![v1414.toNat, 0, v1415.toNat, 608, 0]
def k0_off1082 (v130 : BitVec 32) : Fin 4 → Nat :=
  let c0_588 : Index := 0#32
  let c7_i32 : BitVec 32 := 7#32
  let v131 : BitVec 32 := Scalar.shrui v130 c7_i32
  let v1419 : Index := Scalar.indexCast v131
  let c608_589 : Index := 608#32
  let c0_590 : Index := 0#32
  ![0, v1419.toNat, 608, 0]
def k0_off1083 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1436 : Index := Scalar.indexCast v66
  let c0_593 : Index := 0#32
  let c38 : Index := 38#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1437 : Index := Scalar.indexCast v159
  let c0_594 : Index := 0#32
  ![v1436.toNat, 0, 38, v1437.toNat, 0]
def k0_off1084 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1442 : Index := Scalar.indexCast v66
  let c0_595 : Index := 0#32
  let c39 : Index := 39#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1443 : Index := Scalar.indexCast v159
  let c0_596 : Index := 0#32
  ![v1442.toNat, 0, 39, v1443.toNat, 0]
def k0_off1085 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1447 : Index := Scalar.indexCast v65
  let c1_597 : Index := 1#32
  let c0_i32_75 : BitVec 32 := 0#32
  let c1_i32_78 : BitVec 32 := 1#32
  let arg20 : BitVec 32 := Scf.iv c0_i32_75 c1_i32_78 k0_t25
  let v1448 : Index := Scalar.indexCast arg20
  let c608_598 : Index := 608#32
  let c0_599 : Index := 0#32
  ![v1447.toNat, 1, v1448.toNat, 608, 0]
def k0_off1086 (v130 : BitVec 32) : Fin 4 → Nat :=
  let c1_600 : Index := 1#32
  let c7_i32 : BitVec 32 := 7#32
  let v131 : BitVec 32 := Scalar.shrui v130 c7_i32
  let v1452 : Index := Scalar.indexCast v131
  let c608_601 : Index := 608#32
  let c0_602 : Index := 0#32
  ![1, v1452.toNat, 608, 0]
def k0_off1087 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1469 : Index := Scalar.indexCast v66
  let c1_605 : Index := 1#32
  let c38_606 : Index := 38#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1470 : Index := Scalar.indexCast v159
  let c0_607 : Index := 0#32
  ![v1469.toNat, 1, 38, v1470.toNat, 0]
def k0_off1088 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1475 : Index := Scalar.indexCast v66
  let c1_608 : Index := 1#32
  let c39_609 : Index := 39#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1476 : Index := Scalar.indexCast v159
  let c0_610 : Index := 0#32
  ![v1475.toNat, 1, 39, v1476.toNat, 0]
def k0_off1089 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1480 : Index := Scalar.indexCast v65
  let c0_611 : Index := 0#32
  let c0_i32_75 : BitVec 32 := 0#32
  let c1_i32_78 : BitVec 32 := 1#32
  let arg20 : BitVec 32 := Scf.iv c0_i32_75 c1_i32_78 k0_t25
  let v1481 : Index := Scalar.indexCast arg20
  let c640 : Index := 640#32
  let c0_612 : Index := 0#32
  ![v1480.toNat, 0, v1481.toNat, 640, 0]
def k0_off1090 (v130 : BitVec 32) : Fin 4 → Nat :=
  let c0_613 : Index := 0#32
  let c7_i32 : BitVec 32 := 7#32
  let v131 : BitVec 32 := Scalar.shrui v130 c7_i32
  let v1485 : Index := Scalar.indexCast v131
  let c640_614 : Index := 640#32
  let c0_615 : Index := 0#32
  ![0, v1485.toNat, 640, 0]
def k0_off1091 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1502 : Index := Scalar.indexCast v66
  let c0_618 : Index := 0#32
  let c40 : Index := 40#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1503 : Index := Scalar.indexCast v159
  let c0_619 : Index := 0#32
  ![v1502.toNat, 0, 40, v1503.toNat, 0]
def k0_off1092 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1508 : Index := Scalar.indexCast v66
  let c0_620 : Index := 0#32
  let c41 : Index := 41#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1509 : Index := Scalar.indexCast v159
  let c0_621 : Index := 0#32
  ![v1508.toNat, 0, 41, v1509.toNat, 0]
def k0_off1093 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1513 : Index := Scalar.indexCast v65
  let c1_622 : Index := 1#32
  let c0_i32_75 : BitVec 32 := 0#32
  let c1_i32_78 : BitVec 32 := 1#32
  let arg20 : BitVec 32 := Scf.iv c0_i32_75 c1_i32_78 k0_t25
  let v1514 : Index := Scalar.indexCast arg20
  let c640_623 : Index := 640#32
  let c0_624 : Index := 0#32
  ![v1513.toNat, 1, v1514.toNat, 640, 0]
def k0_off1094 (v130 : BitVec 32) : Fin 4 → Nat :=
  let c1_625 : Index := 1#32
  let c7_i32 : BitVec 32 := 7#32
  let v131 : BitVec 32 := Scalar.shrui v130 c7_i32
  let v1518 : Index := Scalar.indexCast v131
  let c640_626 : Index := 640#32
  let c0_627 : Index := 0#32
  ![1, v1518.toNat, 640, 0]
def k0_off1095 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1535 : Index := Scalar.indexCast v66
  let c1_630 : Index := 1#32
  let c40_631 : Index := 40#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1536 : Index := Scalar.indexCast v159
  let c0_632 : Index := 0#32
  ![v1535.toNat, 1, 40, v1536.toNat, 0]
def k0_off1096 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1541 : Index := Scalar.indexCast v66
  let c1_633 : Index := 1#32
  let c41_634 : Index := 41#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1542 : Index := Scalar.indexCast v159
  let c0_635 : Index := 0#32
  ![v1541.toNat, 1, 41, v1542.toNat, 0]
def k0_off1097 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1546 : Index := Scalar.indexCast v65
  let c0_636 : Index := 0#32
  let c0_i32_75 : BitVec 32 := 0#32
  let c1_i32_78 : BitVec 32 := 1#32
  let arg20 : BitVec 32 := Scf.iv c0_i32_75 c1_i32_78 k0_t25
  let v1547 : Index := Scalar.indexCast arg20
  let c672 : Index := 672#32
  let c0_637 : Index := 0#32
  ![v1546.toNat, 0, v1547.toNat, 672, 0]
def k0_off1098 (v130 : BitVec 32) : Fin 4 → Nat :=
  let c0_638 : Index := 0#32
  let c7_i32 : BitVec 32 := 7#32
  let v131 : BitVec 32 := Scalar.shrui v130 c7_i32
  let v1551 : Index := Scalar.indexCast v131
  let c672_639 : Index := 672#32
  let c0_640 : Index := 0#32
  ![0, v1551.toNat, 672, 0]
def k0_off1099 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1568 : Index := Scalar.indexCast v66
  let c0_643 : Index := 0#32
  let c42 : Index := 42#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1569 : Index := Scalar.indexCast v159
  let c0_644 : Index := 0#32
  ![v1568.toNat, 0, 42, v1569.toNat, 0]
def k0_off1100 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1574 : Index := Scalar.indexCast v66
  let c0_645 : Index := 0#32
  let c43 : Index := 43#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1575 : Index := Scalar.indexCast v159
  let c0_646 : Index := 0#32
  ![v1574.toNat, 0, 43, v1575.toNat, 0]
def k0_off1101 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1579 : Index := Scalar.indexCast v65
  let c1_647 : Index := 1#32
  let c0_i32_75 : BitVec 32 := 0#32
  let c1_i32_78 : BitVec 32 := 1#32
  let arg20 : BitVec 32 := Scf.iv c0_i32_75 c1_i32_78 k0_t25
  let v1580 : Index := Scalar.indexCast arg20
  let c672_648 : Index := 672#32
  let c0_649 : Index := 0#32
  ![v1579.toNat, 1, v1580.toNat, 672, 0]
def k0_off1102 (v130 : BitVec 32) : Fin 4 → Nat :=
  let c1_650 : Index := 1#32
  let c7_i32 : BitVec 32 := 7#32
  let v131 : BitVec 32 := Scalar.shrui v130 c7_i32
  let v1584 : Index := Scalar.indexCast v131
  let c672_651 : Index := 672#32
  let c0_652 : Index := 0#32
  ![1, v1584.toNat, 672, 0]
def k0_off1103 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1601 : Index := Scalar.indexCast v66
  let c1_655 : Index := 1#32
  let c42_656 : Index := 42#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1602 : Index := Scalar.indexCast v159
  let c0_657 : Index := 0#32
  ![v1601.toNat, 1, 42, v1602.toNat, 0]
def k0_off1104 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1607 : Index := Scalar.indexCast v66
  let c1_658 : Index := 1#32
  let c43_659 : Index := 43#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1608 : Index := Scalar.indexCast v159
  let c0_660 : Index := 0#32
  ![v1607.toNat, 1, 43, v1608.toNat, 0]
def k0_off1105 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1612 : Index := Scalar.indexCast v65
  let c0_661 : Index := 0#32
  let c0_i32_75 : BitVec 32 := 0#32
  let c1_i32_78 : BitVec 32 := 1#32
  let arg20 : BitVec 32 := Scf.iv c0_i32_75 c1_i32_78 k0_t25
  let v1613 : Index := Scalar.indexCast arg20
  let c704 : Index := 704#32
  let c0_662 : Index := 0#32
  ![v1612.toNat, 0, v1613.toNat, 704, 0]
def k0_off1106 (v130 : BitVec 32) : Fin 4 → Nat :=
  let c0_663 : Index := 0#32
  let c7_i32 : BitVec 32 := 7#32
  let v131 : BitVec 32 := Scalar.shrui v130 c7_i32
  let v1617 : Index := Scalar.indexCast v131
  let c704_664 : Index := 704#32
  let c0_665 : Index := 0#32
  ![0, v1617.toNat, 704, 0]
def k0_off1107 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1634 : Index := Scalar.indexCast v66
  let c0_668 : Index := 0#32
  let c44 : Index := 44#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1635 : Index := Scalar.indexCast v159
  let c0_669 : Index := 0#32
  ![v1634.toNat, 0, 44, v1635.toNat, 0]
def k0_off1108 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1640 : Index := Scalar.indexCast v66
  let c0_670 : Index := 0#32
  let c45 : Index := 45#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1641 : Index := Scalar.indexCast v159
  let c0_671 : Index := 0#32
  ![v1640.toNat, 0, 45, v1641.toNat, 0]
def k0_off1109 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1645 : Index := Scalar.indexCast v65
  let c1_672 : Index := 1#32
  let c0_i32_75 : BitVec 32 := 0#32
  let c1_i32_78 : BitVec 32 := 1#32
  let arg20 : BitVec 32 := Scf.iv c0_i32_75 c1_i32_78 k0_t25
  let v1646 : Index := Scalar.indexCast arg20
  let c704_673 : Index := 704#32
  let c0_674 : Index := 0#32
  ![v1645.toNat, 1, v1646.toNat, 704, 0]
def k0_off1110 (v130 : BitVec 32) : Fin 4 → Nat :=
  let c1_675 : Index := 1#32
  let c7_i32 : BitVec 32 := 7#32
  let v131 : BitVec 32 := Scalar.shrui v130 c7_i32
  let v1650 : Index := Scalar.indexCast v131
  let c704_676 : Index := 704#32
  let c0_677 : Index := 0#32
  ![1, v1650.toNat, 704, 0]
def k0_off1111 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1667 : Index := Scalar.indexCast v66
  let c1_680 : Index := 1#32
  let c44_681 : Index := 44#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1668 : Index := Scalar.indexCast v159
  let c0_682 : Index := 0#32
  ![v1667.toNat, 1, 44, v1668.toNat, 0]
def k0_off1112 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1673 : Index := Scalar.indexCast v66
  let c1_683 : Index := 1#32
  let c45_684 : Index := 45#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1674 : Index := Scalar.indexCast v159
  let c0_685 : Index := 0#32
  ![v1673.toNat, 1, 45, v1674.toNat, 0]
def k0_off1113 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1678 : Index := Scalar.indexCast v65
  let c0_686 : Index := 0#32
  let c0_i32_75 : BitVec 32 := 0#32
  let c1_i32_78 : BitVec 32 := 1#32
  let arg20 : BitVec 32 := Scf.iv c0_i32_75 c1_i32_78 k0_t25
  let v1679 : Index := Scalar.indexCast arg20
  let c736 : Index := 736#32
  let c0_687 : Index := 0#32
  ![v1678.toNat, 0, v1679.toNat, 736, 0]
def k0_off1114 (v130 : BitVec 32) : Fin 4 → Nat :=
  let c0_688 : Index := 0#32
  let c7_i32 : BitVec 32 := 7#32
  let v131 : BitVec 32 := Scalar.shrui v130 c7_i32
  let v1683 : Index := Scalar.indexCast v131
  let c736_689 : Index := 736#32
  let c0_690 : Index := 0#32
  ![0, v1683.toNat, 736, 0]
def k0_off1115 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1700 : Index := Scalar.indexCast v66
  let c0_693 : Index := 0#32
  let c46 : Index := 46#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1701 : Index := Scalar.indexCast v159
  let c0_694 : Index := 0#32
  ![v1700.toNat, 0, 46, v1701.toNat, 0]
def k0_off1116 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1706 : Index := Scalar.indexCast v66
  let c0_695 : Index := 0#32
  let c47 : Index := 47#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1707 : Index := Scalar.indexCast v159
  let c0_696 : Index := 0#32
  ![v1706.toNat, 0, 47, v1707.toNat, 0]
def k0_off1117 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1711 : Index := Scalar.indexCast v65
  let c1_697 : Index := 1#32
  let c0_i32_75 : BitVec 32 := 0#32
  let c1_i32_78 : BitVec 32 := 1#32
  let arg20 : BitVec 32 := Scf.iv c0_i32_75 c1_i32_78 k0_t25
  let v1712 : Index := Scalar.indexCast arg20
  let c736_698 : Index := 736#32
  let c0_699 : Index := 0#32
  ![v1711.toNat, 1, v1712.toNat, 736, 0]
def k0_off1118 (v130 : BitVec 32) : Fin 4 → Nat :=
  let c1_700 : Index := 1#32
  let c7_i32 : BitVec 32 := 7#32
  let v131 : BitVec 32 := Scalar.shrui v130 c7_i32
  let v1716 : Index := Scalar.indexCast v131
  let c736_701 : Index := 736#32
  let c0_702 : Index := 0#32
  ![1, v1716.toNat, 736, 0]
def k0_off1119 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1733 : Index := Scalar.indexCast v66
  let c1_705 : Index := 1#32
  let c46_706 : Index := 46#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1734 : Index := Scalar.indexCast v159
  let c0_707 : Index := 0#32
  ![v1733.toNat, 1, 46, v1734.toNat, 0]
def k0_off1120 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1739 : Index := Scalar.indexCast v66
  let c1_708 : Index := 1#32
  let c47_709 : Index := 47#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1740 : Index := Scalar.indexCast v159
  let c0_710 : Index := 0#32
  ![v1739.toNat, 1, 47, v1740.toNat, 0]
def k0_off1121 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1744 : Index := Scalar.indexCast v65
  let c0_711 : Index := 0#32
  let c0_i32_75 : BitVec 32 := 0#32
  let c1_i32_78 : BitVec 32 := 1#32
  let arg20 : BitVec 32 := Scf.iv c0_i32_75 c1_i32_78 k0_t25
  let v1745 : Index := Scalar.indexCast arg20
  let c768 : Index := 768#32
  let c0_712 : Index := 0#32
  ![v1744.toNat, 0, v1745.toNat, 768, 0]
def k0_off1122 (v130 : BitVec 32) : Fin 4 → Nat :=
  let c0_713 : Index := 0#32
  let c7_i32 : BitVec 32 := 7#32
  let v131 : BitVec 32 := Scalar.shrui v130 c7_i32
  let v1749 : Index := Scalar.indexCast v131
  let c768_714 : Index := 768#32
  let c0_715 : Index := 0#32
  ![0, v1749.toNat, 768, 0]
def k0_off1123 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1766 : Index := Scalar.indexCast v66
  let c0_718 : Index := 0#32
  let c48 : Index := 48#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1767 : Index := Scalar.indexCast v159
  let c0_719 : Index := 0#32
  ![v1766.toNat, 0, 48, v1767.toNat, 0]
def k0_off1124 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1772 : Index := Scalar.indexCast v66
  let c0_720 : Index := 0#32
  let c49 : Index := 49#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1773 : Index := Scalar.indexCast v159
  let c0_721 : Index := 0#32
  ![v1772.toNat, 0, 49, v1773.toNat, 0]
def k0_off1125 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1777 : Index := Scalar.indexCast v65
  let c1_722 : Index := 1#32
  let c0_i32_75 : BitVec 32 := 0#32
  let c1_i32_78 : BitVec 32 := 1#32
  let arg20 : BitVec 32 := Scf.iv c0_i32_75 c1_i32_78 k0_t25
  let v1778 : Index := Scalar.indexCast arg20
  let c768_723 : Index := 768#32
  let c0_724 : Index := 0#32
  ![v1777.toNat, 1, v1778.toNat, 768, 0]
def k0_off1126 (v130 : BitVec 32) : Fin 4 → Nat :=
  let c1_725 : Index := 1#32
  let c7_i32 : BitVec 32 := 7#32
  let v131 : BitVec 32 := Scalar.shrui v130 c7_i32
  let v1782 : Index := Scalar.indexCast v131
  let c768_726 : Index := 768#32
  let c0_727 : Index := 0#32
  ![1, v1782.toNat, 768, 0]
def k0_off1127 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1799 : Index := Scalar.indexCast v66
  let c1_730 : Index := 1#32
  let c48_731 : Index := 48#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1800 : Index := Scalar.indexCast v159
  let c0_732 : Index := 0#32
  ![v1799.toNat, 1, 48, v1800.toNat, 0]
def k0_off1128 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1805 : Index := Scalar.indexCast v66
  let c1_733 : Index := 1#32
  let c49_734 : Index := 49#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1806 : Index := Scalar.indexCast v159
  let c0_735 : Index := 0#32
  ![v1805.toNat, 1, 49, v1806.toNat, 0]
def k0_off1129 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1810 : Index := Scalar.indexCast v65
  let c0_736 : Index := 0#32
  let c0_i32_75 : BitVec 32 := 0#32
  let c1_i32_78 : BitVec 32 := 1#32
  let arg20 : BitVec 32 := Scf.iv c0_i32_75 c1_i32_78 k0_t25
  let v1811 : Index := Scalar.indexCast arg20
  let c800 : Index := 800#32
  let c0_737 : Index := 0#32
  ![v1810.toNat, 0, v1811.toNat, 800, 0]
def k0_off1130 (v130 : BitVec 32) : Fin 4 → Nat :=
  let c0_738 : Index := 0#32
  let c7_i32 : BitVec 32 := 7#32
  let v131 : BitVec 32 := Scalar.shrui v130 c7_i32
  let v1815 : Index := Scalar.indexCast v131
  let c800_739 : Index := 800#32
  let c0_740 : Index := 0#32
  ![0, v1815.toNat, 800, 0]
def k0_off1131 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1832 : Index := Scalar.indexCast v66
  let c0_743 : Index := 0#32
  let c50 : Index := 50#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1833 : Index := Scalar.indexCast v159
  let c0_744 : Index := 0#32
  ![v1832.toNat, 0, 50, v1833.toNat, 0]
def k0_off1132 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1838 : Index := Scalar.indexCast v66
  let c0_745 : Index := 0#32
  let c51 : Index := 51#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1839 : Index := Scalar.indexCast v159
  let c0_746 : Index := 0#32
  ![v1838.toNat, 0, 51, v1839.toNat, 0]
def k0_off1133 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1843 : Index := Scalar.indexCast v65
  let c1_747 : Index := 1#32
  let c0_i32_75 : BitVec 32 := 0#32
  let c1_i32_78 : BitVec 32 := 1#32
  let arg20 : BitVec 32 := Scf.iv c0_i32_75 c1_i32_78 k0_t25
  let v1844 : Index := Scalar.indexCast arg20
  let c800_748 : Index := 800#32
  let c0_749 : Index := 0#32
  ![v1843.toNat, 1, v1844.toNat, 800, 0]
def k0_off1134 (v130 : BitVec 32) : Fin 4 → Nat :=
  let c1_750 : Index := 1#32
  let c7_i32 : BitVec 32 := 7#32
  let v131 : BitVec 32 := Scalar.shrui v130 c7_i32
  let v1848 : Index := Scalar.indexCast v131
  let c800_751 : Index := 800#32
  let c0_752 : Index := 0#32
  ![1, v1848.toNat, 800, 0]
def k0_off1135 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1865 : Index := Scalar.indexCast v66
  let c1_755 : Index := 1#32
  let c50_756 : Index := 50#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1866 : Index := Scalar.indexCast v159
  let c0_757 : Index := 0#32
  ![v1865.toNat, 1, 50, v1866.toNat, 0]
def k0_off1136 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1871 : Index := Scalar.indexCast v66
  let c1_758 : Index := 1#32
  let c51_759 : Index := 51#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1872 : Index := Scalar.indexCast v159
  let c0_760 : Index := 0#32
  ![v1871.toNat, 1, 51, v1872.toNat, 0]
def k0_off1137 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1876 : Index := Scalar.indexCast v65
  let c0_761 : Index := 0#32
  let c0_i32_75 : BitVec 32 := 0#32
  let c1_i32_78 : BitVec 32 := 1#32
  let arg20 : BitVec 32 := Scf.iv c0_i32_75 c1_i32_78 k0_t25
  let v1877 : Index := Scalar.indexCast arg20
  let c832 : Index := 832#32
  let c0_762 : Index := 0#32
  ![v1876.toNat, 0, v1877.toNat, 832, 0]
def k0_off1138 (v130 : BitVec 32) : Fin 4 → Nat :=
  let c0_763 : Index := 0#32
  let c7_i32 : BitVec 32 := 7#32
  let v131 : BitVec 32 := Scalar.shrui v130 c7_i32
  let v1881 : Index := Scalar.indexCast v131
  let c832_764 : Index := 832#32
  let c0_765 : Index := 0#32
  ![0, v1881.toNat, 832, 0]
def k0_off1139 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1898 : Index := Scalar.indexCast v66
  let c0_768 : Index := 0#32
  let c52 : Index := 52#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1899 : Index := Scalar.indexCast v159
  let c0_769 : Index := 0#32
  ![v1898.toNat, 0, 52, v1899.toNat, 0]
def k0_off1140 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1904 : Index := Scalar.indexCast v66
  let c0_770 : Index := 0#32
  let c53 : Index := 53#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1905 : Index := Scalar.indexCast v159
  let c0_771 : Index := 0#32
  ![v1904.toNat, 0, 53, v1905.toNat, 0]
def k0_off1141 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1909 : Index := Scalar.indexCast v65
  let c1_772 : Index := 1#32
  let c0_i32_75 : BitVec 32 := 0#32
  let c1_i32_78 : BitVec 32 := 1#32
  let arg20 : BitVec 32 := Scf.iv c0_i32_75 c1_i32_78 k0_t25
  let v1910 : Index := Scalar.indexCast arg20
  let c832_773 : Index := 832#32
  let c0_774 : Index := 0#32
  ![v1909.toNat, 1, v1910.toNat, 832, 0]
def k0_off1142 (v130 : BitVec 32) : Fin 4 → Nat :=
  let c1_775 : Index := 1#32
  let c7_i32 : BitVec 32 := 7#32
  let v131 : BitVec 32 := Scalar.shrui v130 c7_i32
  let v1914 : Index := Scalar.indexCast v131
  let c832_776 : Index := 832#32
  let c0_777 : Index := 0#32
  ![1, v1914.toNat, 832, 0]
def k0_off1143 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1931 : Index := Scalar.indexCast v66
  let c1_780 : Index := 1#32
  let c52_781 : Index := 52#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1932 : Index := Scalar.indexCast v159
  let c0_782 : Index := 0#32
  ![v1931.toNat, 1, 52, v1932.toNat, 0]
def k0_off1144 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1937 : Index := Scalar.indexCast v66
  let c1_783 : Index := 1#32
  let c53_784 : Index := 53#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1938 : Index := Scalar.indexCast v159
  let c0_785 : Index := 0#32
  ![v1937.toNat, 1, 53, v1938.toNat, 0]
def k0_off1145 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1942 : Index := Scalar.indexCast v65
  let c0_786 : Index := 0#32
  let c0_i32_75 : BitVec 32 := 0#32
  let c1_i32_78 : BitVec 32 := 1#32
  let arg20 : BitVec 32 := Scf.iv c0_i32_75 c1_i32_78 k0_t25
  let v1943 : Index := Scalar.indexCast arg20
  let c864 : Index := 864#32
  let c0_787 : Index := 0#32
  ![v1942.toNat, 0, v1943.toNat, 864, 0]
def k0_off1146 (v130 : BitVec 32) : Fin 4 → Nat :=
  let c0_788 : Index := 0#32
  let c7_i32 : BitVec 32 := 7#32
  let v131 : BitVec 32 := Scalar.shrui v130 c7_i32
  let v1947 : Index := Scalar.indexCast v131
  let c864_789 : Index := 864#32
  let c0_790 : Index := 0#32
  ![0, v1947.toNat, 864, 0]
def k0_off1147 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1964 : Index := Scalar.indexCast v66
  let c0_793 : Index := 0#32
  let c54 : Index := 54#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1965 : Index := Scalar.indexCast v159
  let c0_794 : Index := 0#32
  ![v1964.toNat, 0, 54, v1965.toNat, 0]
def k0_off1148 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1970 : Index := Scalar.indexCast v66
  let c0_795 : Index := 0#32
  let c55 : Index := 55#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1971 : Index := Scalar.indexCast v159
  let c0_796 : Index := 0#32
  ![v1970.toNat, 0, 55, v1971.toNat, 0]
def k0_off1149 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1975 : Index := Scalar.indexCast v65
  let c1_797 : Index := 1#32
  let c0_i32_75 : BitVec 32 := 0#32
  let c1_i32_78 : BitVec 32 := 1#32
  let arg20 : BitVec 32 := Scf.iv c0_i32_75 c1_i32_78 k0_t25
  let v1976 : Index := Scalar.indexCast arg20
  let c864_798 : Index := 864#32
  let c0_799 : Index := 0#32
  ![v1975.toNat, 1, v1976.toNat, 864, 0]
def k0_off1150 (v130 : BitVec 32) : Fin 4 → Nat :=
  let c1_800 : Index := 1#32
  let c7_i32 : BitVec 32 := 7#32
  let v131 : BitVec 32 := Scalar.shrui v130 c7_i32
  let v1980 : Index := Scalar.indexCast v131
  let c864_801 : Index := 864#32
  let c0_802 : Index := 0#32
  ![1, v1980.toNat, 864, 0]
def k0_off1151 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1997 : Index := Scalar.indexCast v66
  let c1_805 : Index := 1#32
  let c54_806 : Index := 54#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v1998 : Index := Scalar.indexCast v159
  let c0_807 : Index := 0#32
  ![v1997.toNat, 1, 54, v1998.toNat, 0]
def k0_off1152 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2003 : Index := Scalar.indexCast v66
  let c1_808 : Index := 1#32
  let c55_809 : Index := 55#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2004 : Index := Scalar.indexCast v159
  let c0_810 : Index := 0#32
  ![v2003.toNat, 1, 55, v2004.toNat, 0]
def k0_off1153 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2008 : Index := Scalar.indexCast v65
  let c0_811 : Index := 0#32
  let c0_i32_75 : BitVec 32 := 0#32
  let c1_i32_78 : BitVec 32 := 1#32
  let arg20 : BitVec 32 := Scf.iv c0_i32_75 c1_i32_78 k0_t25
  let v2009 : Index := Scalar.indexCast arg20
  let c896 : Index := 896#32
  let c0_812 : Index := 0#32
  ![v2008.toNat, 0, v2009.toNat, 896, 0]
def k0_off1154 (v130 : BitVec 32) : Fin 4 → Nat :=
  let c0_813 : Index := 0#32
  let c7_i32 : BitVec 32 := 7#32
  let v131 : BitVec 32 := Scalar.shrui v130 c7_i32
  let v2013 : Index := Scalar.indexCast v131
  let c896_814 : Index := 896#32
  let c0_815 : Index := 0#32
  ![0, v2013.toNat, 896, 0]
def k0_off1155 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2030 : Index := Scalar.indexCast v66
  let c0_818 : Index := 0#32
  let c56 : Index := 56#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2031 : Index := Scalar.indexCast v159
  let c0_819 : Index := 0#32
  ![v2030.toNat, 0, 56, v2031.toNat, 0]
def k0_off1156 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2036 : Index := Scalar.indexCast v66
  let c0_820 : Index := 0#32
  let c57 : Index := 57#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2037 : Index := Scalar.indexCast v159
  let c0_821 : Index := 0#32
  ![v2036.toNat, 0, 57, v2037.toNat, 0]

variable {F : FTy → Type} [BitOps F]

def k0_off1157 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2041 : Index := Scalar.indexCast v65
  let c1_822 : Index := 1#32
  let c0_i32_75 : BitVec 32 := 0#32
  let c1_i32_78 : BitVec 32 := 1#32
  let arg20 : BitVec 32 := Scf.iv c0_i32_75 c1_i32_78 k0_t25
  let v2042 : Index := Scalar.indexCast arg20
  let c896_823 : Index := 896#32
  let c0_824 : Index := 0#32
  ![v2041.toNat, 1, v2042.toNat, 896, 0]
def k0_off1158 (v130 : BitVec 32) : Fin 4 → Nat :=
  let c1_825 : Index := 1#32
  let c7_i32 : BitVec 32 := 7#32
  let v131 : BitVec 32 := Scalar.shrui v130 c7_i32
  let v2046 : Index := Scalar.indexCast v131
  let c896_826 : Index := 896#32
  let c0_827 : Index := 0#32
  ![1, v2046.toNat, 896, 0]
def k0_off1159 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2063 : Index := Scalar.indexCast v66
  let c1_830 : Index := 1#32
  let c56_831 : Index := 56#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2064 : Index := Scalar.indexCast v159
  let c0_832 : Index := 0#32
  ![v2063.toNat, 1, 56, v2064.toNat, 0]
def k0_off1160 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2069 : Index := Scalar.indexCast v66
  let c1_833 : Index := 1#32
  let c57_834 : Index := 57#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2070 : Index := Scalar.indexCast v159
  let c0_835 : Index := 0#32
  ![v2069.toNat, 1, 57, v2070.toNat, 0]
def k0_off1161 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2074 : Index := Scalar.indexCast v65
  let c0_836 : Index := 0#32
  let c0_i32_75 : BitVec 32 := 0#32
  let c1_i32_78 : BitVec 32 := 1#32
  let arg20 : BitVec 32 := Scf.iv c0_i32_75 c1_i32_78 k0_t25
  let v2075 : Index := Scalar.indexCast arg20
  let c928 : Index := 928#32
  let c0_837 : Index := 0#32
  ![v2074.toNat, 0, v2075.toNat, 928, 0]
def k0_off1162 (v130 : BitVec 32) : Fin 4 → Nat :=
  let c0_838 : Index := 0#32
  let c7_i32 : BitVec 32 := 7#32
  let v131 : BitVec 32 := Scalar.shrui v130 c7_i32
  let v2079 : Index := Scalar.indexCast v131
  let c928_839 : Index := 928#32
  let c0_840 : Index := 0#32
  ![0, v2079.toNat, 928, 0]
def k0_off1163 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2096 : Index := Scalar.indexCast v66
  let c0_843 : Index := 0#32
  let c58 : Index := 58#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2097 : Index := Scalar.indexCast v159
  let c0_844 : Index := 0#32
  ![v2096.toNat, 0, 58, v2097.toNat, 0]
def k0_off1164 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2102 : Index := Scalar.indexCast v66
  let c0_845 : Index := 0#32
  let c59 : Index := 59#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2103 : Index := Scalar.indexCast v159
  let c0_846 : Index := 0#32
  ![v2102.toNat, 0, 59, v2103.toNat, 0]
def k0_off1165 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2107 : Index := Scalar.indexCast v65
  let c1_847 : Index := 1#32
  let c0_i32_75 : BitVec 32 := 0#32
  let c1_i32_78 : BitVec 32 := 1#32
  let arg20 : BitVec 32 := Scf.iv c0_i32_75 c1_i32_78 k0_t25
  let v2108 : Index := Scalar.indexCast arg20
  let c928_848 : Index := 928#32
  let c0_849 : Index := 0#32
  ![v2107.toNat, 1, v2108.toNat, 928, 0]
def k0_off1166 (v130 : BitVec 32) : Fin 4 → Nat :=
  let c1_850 : Index := 1#32
  let c7_i32 : BitVec 32 := 7#32
  let v131 : BitVec 32 := Scalar.shrui v130 c7_i32
  let v2112 : Index := Scalar.indexCast v131
  let c928_851 : Index := 928#32
  let c0_852 : Index := 0#32
  ![1, v2112.toNat, 928, 0]
def k0_off1167 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2129 : Index := Scalar.indexCast v66
  let c1_855 : Index := 1#32
  let c58_856 : Index := 58#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2130 : Index := Scalar.indexCast v159
  let c0_857 : Index := 0#32
  ![v2129.toNat, 1, 58, v2130.toNat, 0]
def k0_off1168 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2135 : Index := Scalar.indexCast v66
  let c1_858 : Index := 1#32
  let c59_859 : Index := 59#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2136 : Index := Scalar.indexCast v159
  let c0_860 : Index := 0#32
  ![v2135.toNat, 1, 59, v2136.toNat, 0]
def k0_off1169 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2140 : Index := Scalar.indexCast v65
  let c0_861 : Index := 0#32
  let c0_i32_75 : BitVec 32 := 0#32
  let c1_i32_78 : BitVec 32 := 1#32
  let arg20 : BitVec 32 := Scf.iv c0_i32_75 c1_i32_78 k0_t25
  let v2141 : Index := Scalar.indexCast arg20
  let c960 : Index := 960#32
  let c0_862 : Index := 0#32
  ![v2140.toNat, 0, v2141.toNat, 960, 0]
def k0_off1170 (v130 : BitVec 32) : Fin 4 → Nat :=
  let c0_863 : Index := 0#32
  let c7_i32 : BitVec 32 := 7#32
  let v131 : BitVec 32 := Scalar.shrui v130 c7_i32
  let v2145 : Index := Scalar.indexCast v131
  let c960_864 : Index := 960#32
  let c0_865 : Index := 0#32
  ![0, v2145.toNat, 960, 0]
def k0_off1171 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2162 : Index := Scalar.indexCast v66
  let c0_868 : Index := 0#32
  let c60 : Index := 60#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2163 : Index := Scalar.indexCast v159
  let c0_869 : Index := 0#32
  ![v2162.toNat, 0, 60, v2163.toNat, 0]
def k0_off1172 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2168 : Index := Scalar.indexCast v66
  let c0_870 : Index := 0#32
  let c61 : Index := 61#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2169 : Index := Scalar.indexCast v159
  let c0_871 : Index := 0#32
  ![v2168.toNat, 0, 61, v2169.toNat, 0]
def k0_off1173 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2173 : Index := Scalar.indexCast v65
  let c1_872 : Index := 1#32
  let c0_i32_75 : BitVec 32 := 0#32
  let c1_i32_78 : BitVec 32 := 1#32
  let arg20 : BitVec 32 := Scf.iv c0_i32_75 c1_i32_78 k0_t25
  let v2174 : Index := Scalar.indexCast arg20
  let c960_873 : Index := 960#32
  let c0_874 : Index := 0#32
  ![v2173.toNat, 1, v2174.toNat, 960, 0]
def k0_off1174 (v130 : BitVec 32) : Fin 4 → Nat :=
  let c1_875 : Index := 1#32
  let c7_i32 : BitVec 32 := 7#32
  let v131 : BitVec 32 := Scalar.shrui v130 c7_i32
  let v2178 : Index := Scalar.indexCast v131
  let c960_876 : Index := 960#32
  let c0_877 : Index := 0#32
  ![1, v2178.toNat, 960, 0]
def k0_off1175 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2195 : Index := Scalar.indexCast v66
  let c1_880 : Index := 1#32
  let c60_881 : Index := 60#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2196 : Index := Scalar.indexCast v159
  let c0_882 : Index := 0#32
  ![v2195.toNat, 1, 60, v2196.toNat, 0]
def k0_off1176 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2201 : Index := Scalar.indexCast v66
  let c1_883 : Index := 1#32
  let c61_884 : Index := 61#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2202 : Index := Scalar.indexCast v159
  let c0_885 : Index := 0#32
  ![v2201.toNat, 1, 61, v2202.toNat, 0]
def k0_off1177 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2206 : Index := Scalar.indexCast v65
  let c0_886 : Index := 0#32
  let c0_i32_75 : BitVec 32 := 0#32
  let c1_i32_78 : BitVec 32 := 1#32
  let arg20 : BitVec 32 := Scf.iv c0_i32_75 c1_i32_78 k0_t25
  let v2207 : Index := Scalar.indexCast arg20
  let c992 : Index := 992#32
  let c0_887 : Index := 0#32
  ![v2206.toNat, 0, v2207.toNat, 992, 0]
def k0_off1178 (v130 : BitVec 32) : Fin 4 → Nat :=
  let c0_888 : Index := 0#32
  let c7_i32 : BitVec 32 := 7#32
  let v131 : BitVec 32 := Scalar.shrui v130 c7_i32
  let v2211 : Index := Scalar.indexCast v131
  let c992_889 : Index := 992#32
  let c0_890 : Index := 0#32
  ![0, v2211.toNat, 992, 0]
def k0_off1179 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2228 : Index := Scalar.indexCast v66
  let c0_893 : Index := 0#32
  let c62 : Index := 62#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2229 : Index := Scalar.indexCast v159
  let c0_894 : Index := 0#32
  ![v2228.toNat, 0, 62, v2229.toNat, 0]
def k0_off1180 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2234 : Index := Scalar.indexCast v66
  let c0_895 : Index := 0#32
  let c63 : Index := 63#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2235 : Index := Scalar.indexCast v159
  let c0_896 : Index := 0#32
  ![v2234.toNat, 0, 63, v2235.toNat, 0]
def k0_off1181 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2239 : Index := Scalar.indexCast v65
  let c1_897 : Index := 1#32
  let c0_i32_75 : BitVec 32 := 0#32
  let c1_i32_78 : BitVec 32 := 1#32
  let arg20 : BitVec 32 := Scf.iv c0_i32_75 c1_i32_78 k0_t25
  let v2240 : Index := Scalar.indexCast arg20
  let c992_898 : Index := 992#32
  let c0_899 : Index := 0#32
  ![v2239.toNat, 1, v2240.toNat, 992, 0]
def k0_off1182 (v130 : BitVec 32) : Fin 4 → Nat :=
  let c1_900 : Index := 1#32
  let c7_i32 : BitVec 32 := 7#32
  let v131 : BitVec 32 := Scalar.shrui v130 c7_i32
  let v2244 : Index := Scalar.indexCast v131
  let c992_901 : Index := 992#32
  let c0_902 : Index := 0#32
  ![1, v2244.toNat, 992, 0]

def k0_chk33_0 (v130 : BitVec 32) : Prop :=
  (∀ a, (k0_off930 v130) a + S1x1x32x128.size a ≤ S2x13x1024x128.size a) ∧
  (∀ a, (k0_off934 v130) a + S1x1x32x128.size a ≤ S2x13x1024x128.size a) ∧
  (∀ a, (k0_off938 v130) a + S1x1x32x128.size a ≤ S2x13x1024x128.size a) ∧
  (∀ a, (k0_off942 v130) a + S1x1x32x128.size a ≤ S2x13x1024x128.size a) ∧
  (∀ a, (k0_off946 v130) a + S1x1x32x128.size a ≤ S2x13x1024x128.size a) ∧
  (∀ a, (k0_off950 v130) a + S1x1x32x128.size a ≤ S2x13x1024x128.size a) ∧
  (∀ a, (k0_off954 v130) a + S1x1x32x128.size a ≤ S2x13x1024x128.size a) ∧
  (∀ a, (k0_off958 v130) a + S1x1x32x128.size a ≤ S2x13x1024x128.size a) ∧
  (∀ a, (k0_off962 v130) a + S1x1x32x128.size a ≤ S2x13x1024x128.size a) ∧
  (∀ a, (k0_off966 v130) a + S1x1x32x128.size a ≤ S2x13x1024x128.size a) ∧
  (∀ a, (k0_off970 v130) a + S1x1x32x128.size a ≤ S2x13x1024x128.size a) ∧
  (∀ a, (k0_off974 v130) a + S1x1x32x128.size a ≤ S2x13x1024x128.size a) ∧
  (∀ a, (k0_off978 v130) a + S1x1x32x128.size a ≤ S2x13x1024x128.size a) ∧
  (∀ a, (k0_off982 v130) a + S1x1x32x128.size a ≤ S2x13x1024x128.size a) ∧
  (∀ a, (k0_off986 v130) a + S1x1x32x128.size a ≤ S2x13x1024x128.size a) ∧
  (∀ a, (k0_off990 v130) a + S1x1x32x128.size a ≤ S2x13x1024x128.size a) ∧
  (∀ a, (k0_off994 v130) a + S1x1x32x128.size a ≤ S2x13x1024x128.size a) ∧
  (∀ a, (k0_off998 v130) a + S1x1x32x128.size a ≤ S2x13x1024x128.size a) ∧
  (∀ a, (k0_off1002 v130) a + S1x1x32x128.size a ≤ S2x13x1024x128.size a) ∧
  (∀ a, (k0_off1006 v130) a + S1x1x32x128.size a ≤ S2x13x1024x128.size a) ∧
  (∀ a, (k0_off1010 v130) a + S1x1x32x128.size a ≤ S2x13x1024x128.size a) ∧
  (∀ a, (k0_off1014 v130) a + S1x1x32x128.size a ≤ S2x13x1024x128.size a) ∧
  (∀ a, (k0_off1018 v130) a + S1x1x32x128.size a ≤ S2x13x1024x128.size a) ∧
  (∀ a, (k0_off1022 v130) a + S1x1x32x128.size a ≤ S2x13x1024x128.size a) ∧
  (∀ a, (k0_off1026 v130) a + S1x1x32x128.size a ≤ S2x13x1024x128.size a) ∧
  (∀ a, (k0_off1030 v130) a + S1x1x32x128.size a ≤ S2x13x1024x128.size a) ∧
  (∀ a, (k0_off1034 v130) a + S1x1x32x128.size a ≤ S2x13x1024x128.size a) ∧
  (∀ a, (k0_off1038 v130) a + S1x1x32x128.size a ≤ S2x13x1024x128.size a) ∧
  (∀ a, (k0_off1042 v130) a + S1x1x32x128.size a ≤ S2x13x1024x128.size a) ∧
  (∀ a, (k0_off1046 v130) a + S1x1x32x128.size a ≤ S2x13x1024x128.size a) ∧
  (∀ a, (k0_off1050 v130) a + S1x1x32x128.size a ≤ S2x13x1024x128.size a) ∧
  (∀ a, (k0_off1054 v130) a + S1x1x32x128.size a ≤ S2x13x1024x128.size a)
def k0_chk33_1 (v130 : BitVec 32) : Prop :=
  (∀ a, (k0_off1058 v130) a + S1x1x32x128.size a ≤ S2x13x1024x128.size a) ∧
  (∀ a, (k0_off1062 v130) a + S1x1x32x128.size a ≤ S2x13x1024x128.size a) ∧
  (∀ a, (k0_off1066 v130) a + S1x1x32x128.size a ≤ S2x13x1024x128.size a) ∧
  (∀ a, (k0_off1070 v130) a + S1x1x32x128.size a ≤ S2x13x1024x128.size a) ∧
  (∀ a, (k0_off1074 v130) a + S1x1x32x128.size a ≤ S2x13x1024x128.size a) ∧
  (∀ a, (k0_off1078 v130) a + S1x1x32x128.size a ≤ S2x13x1024x128.size a) ∧
  (∀ a, (k0_off1082 v130) a + S1x1x32x128.size a ≤ S2x13x1024x128.size a) ∧
  (∀ a, (k0_off1086 v130) a + S1x1x32x128.size a ≤ S2x13x1024x128.size a) ∧
  (∀ a, (k0_off1090 v130) a + S1x1x32x128.size a ≤ S2x13x1024x128.size a) ∧
  (∀ a, (k0_off1094 v130) a + S1x1x32x128.size a ≤ S2x13x1024x128.size a) ∧
  (∀ a, (k0_off1098 v130) a + S1x1x32x128.size a ≤ S2x13x1024x128.size a) ∧
  (∀ a, (k0_off1102 v130) a + S1x1x32x128.size a ≤ S2x13x1024x128.size a) ∧
  (∀ a, (k0_off1106 v130) a + S1x1x32x128.size a ≤ S2x13x1024x128.size a) ∧
  (∀ a, (k0_off1110 v130) a + S1x1x32x128.size a ≤ S2x13x1024x128.size a) ∧
  (∀ a, (k0_off1114 v130) a + S1x1x32x128.size a ≤ S2x13x1024x128.size a) ∧
  (∀ a, (k0_off1118 v130) a + S1x1x32x128.size a ≤ S2x13x1024x128.size a) ∧
  (∀ a, (k0_off1122 v130) a + S1x1x32x128.size a ≤ S2x13x1024x128.size a) ∧
  (∀ a, (k0_off1126 v130) a + S1x1x32x128.size a ≤ S2x13x1024x128.size a) ∧
  (∀ a, (k0_off1130 v130) a + S1x1x32x128.size a ≤ S2x13x1024x128.size a) ∧
  (∀ a, (k0_off1134 v130) a + S1x1x32x128.size a ≤ S2x13x1024x128.size a) ∧
  (∀ a, (k0_off1138 v130) a + S1x1x32x128.size a ≤ S2x13x1024x128.size a) ∧
  (∀ a, (k0_off1142 v130) a + S1x1x32x128.size a ≤ S2x13x1024x128.size a) ∧
  (∀ a, (k0_off1146 v130) a + S1x1x32x128.size a ≤ S2x13x1024x128.size a) ∧
  (∀ a, (k0_off1150 v130) a + S1x1x32x128.size a ≤ S2x13x1024x128.size a) ∧
  (∀ a, (k0_off1154 v130) a + S1x1x32x128.size a ≤ S2x13x1024x128.size a) ∧
  (∀ a, (k0_off1158 v130) a + S1x1x32x128.size a ≤ S2x13x1024x128.size a) ∧
  (∀ a, (k0_off1162 v130) a + S1x1x32x128.size a ≤ S2x13x1024x128.size a) ∧
  (∀ a, (k0_off1166 v130) a + S1x1x32x128.size a ≤ S2x13x1024x128.size a) ∧
  (∀ a, (k0_off1170 v130) a + S1x1x32x128.size a ≤ S2x13x1024x128.size a) ∧
  (∀ a, (k0_off1174 v130) a + S1x1x32x128.size a ≤ S2x13x1024x128.size a) ∧
  (∀ a, (k0_off1178 v130) a + S1x1x32x128.size a ≤ S2x13x1024x128.size a) ∧
  (∀ a, (k0_off1182 v130) a + S1x1x32x128.size a ≤ S2x13x1024x128.size a)
def k0_chk33 (v130 : BitVec 32) : Prop :=
  k0_chk33_0 v130 ∧
  k0_chk33_1 v130
theorem k0_off930_inb : ∀ (v130 : BitVec 32) (k0_hw33 : k0_chk33 v130), ∀ a, (k0_off930 v130) a + S1x1x32x128.size a ≤ S2x13x1024x128.size a := fun v130 k0_hw33 => k0_hw33.1.1
theorem k0_off934_inb : ∀ (v130 : BitVec 32) (k0_hw33 : k0_chk33 v130), ∀ a, (k0_off934 v130) a + S1x1x32x128.size a ≤ S2x13x1024x128.size a := fun v130 k0_hw33 => k0_hw33.1.2.1
theorem k0_off938_inb : ∀ (v130 : BitVec 32) (k0_hw33 : k0_chk33 v130), ∀ a, (k0_off938 v130) a + S1x1x32x128.size a ≤ S2x13x1024x128.size a := fun v130 k0_hw33 => k0_hw33.1.2.2.1
theorem k0_off942_inb : ∀ (v130 : BitVec 32) (k0_hw33 : k0_chk33 v130), ∀ a, (k0_off942 v130) a + S1x1x32x128.size a ≤ S2x13x1024x128.size a := fun v130 k0_hw33 => k0_hw33.1.2.2.2.1
theorem k0_off946_inb : ∀ (v130 : BitVec 32) (k0_hw33 : k0_chk33 v130), ∀ a, (k0_off946 v130) a + S1x1x32x128.size a ≤ S2x13x1024x128.size a := fun v130 k0_hw33 => k0_hw33.1.2.2.2.2.1
theorem k0_off950_inb : ∀ (v130 : BitVec 32) (k0_hw33 : k0_chk33 v130), ∀ a, (k0_off950 v130) a + S1x1x32x128.size a ≤ S2x13x1024x128.size a := fun v130 k0_hw33 => k0_hw33.1.2.2.2.2.2.1
theorem k0_off954_inb : ∀ (v130 : BitVec 32) (k0_hw33 : k0_chk33 v130), ∀ a, (k0_off954 v130) a + S1x1x32x128.size a ≤ S2x13x1024x128.size a := fun v130 k0_hw33 => k0_hw33.1.2.2.2.2.2.2.1
theorem k0_off958_inb : ∀ (v130 : BitVec 32) (k0_hw33 : k0_chk33 v130), ∀ a, (k0_off958 v130) a + S1x1x32x128.size a ≤ S2x13x1024x128.size a := fun v130 k0_hw33 => k0_hw33.1.2.2.2.2.2.2.2.1
theorem k0_off962_inb : ∀ (v130 : BitVec 32) (k0_hw33 : k0_chk33 v130), ∀ a, (k0_off962 v130) a + S1x1x32x128.size a ≤ S2x13x1024x128.size a := fun v130 k0_hw33 => k0_hw33.1.2.2.2.2.2.2.2.2.1
theorem k0_off966_inb : ∀ (v130 : BitVec 32) (k0_hw33 : k0_chk33 v130), ∀ a, (k0_off966 v130) a + S1x1x32x128.size a ≤ S2x13x1024x128.size a := fun v130 k0_hw33 => k0_hw33.1.2.2.2.2.2.2.2.2.2.1
theorem k0_off970_inb : ∀ (v130 : BitVec 32) (k0_hw33 : k0_chk33 v130), ∀ a, (k0_off970 v130) a + S1x1x32x128.size a ≤ S2x13x1024x128.size a := fun v130 k0_hw33 => k0_hw33.1.2.2.2.2.2.2.2.2.2.2.1
theorem k0_off974_inb : ∀ (v130 : BitVec 32) (k0_hw33 : k0_chk33 v130), ∀ a, (k0_off974 v130) a + S1x1x32x128.size a ≤ S2x13x1024x128.size a := fun v130 k0_hw33 => k0_hw33.1.2.2.2.2.2.2.2.2.2.2.2.1
theorem k0_off978_inb : ∀ (v130 : BitVec 32) (k0_hw33 : k0_chk33 v130), ∀ a, (k0_off978 v130) a + S1x1x32x128.size a ≤ S2x13x1024x128.size a := fun v130 k0_hw33 => k0_hw33.1.2.2.2.2.2.2.2.2.2.2.2.2.1
theorem k0_off982_inb : ∀ (v130 : BitVec 32) (k0_hw33 : k0_chk33 v130), ∀ a, (k0_off982 v130) a + S1x1x32x128.size a ≤ S2x13x1024x128.size a := fun v130 k0_hw33 => k0_hw33.1.2.2.2.2.2.2.2.2.2.2.2.2.2.1
theorem k0_off986_inb : ∀ (v130 : BitVec 32) (k0_hw33 : k0_chk33 v130), ∀ a, (k0_off986 v130) a + S1x1x32x128.size a ≤ S2x13x1024x128.size a := fun v130 k0_hw33 => k0_hw33.1.2.2.2.2.2.2.2.2.2.2.2.2.2.2.1
theorem k0_off990_inb : ∀ (v130 : BitVec 32) (k0_hw33 : k0_chk33 v130), ∀ a, (k0_off990 v130) a + S1x1x32x128.size a ≤ S2x13x1024x128.size a := fun v130 k0_hw33 => k0_hw33.1.2.2.2.2.2.2.2.2.2.2.2.2.2.2.2.1
theorem k0_off994_inb : ∀ (v130 : BitVec 32) (k0_hw33 : k0_chk33 v130), ∀ a, (k0_off994 v130) a + S1x1x32x128.size a ≤ S2x13x1024x128.size a := fun v130 k0_hw33 => k0_hw33.1.2.2.2.2.2.2.2.2.2.2.2.2.2.2.2.2.1
theorem k0_off998_inb : ∀ (v130 : BitVec 32) (k0_hw33 : k0_chk33 v130), ∀ a, (k0_off998 v130) a + S1x1x32x128.size a ≤ S2x13x1024x128.size a := fun v130 k0_hw33 => k0_hw33.1.2.2.2.2.2.2.2.2.2.2.2.2.2.2.2.2.2.1
theorem k0_off1002_inb : ∀ (v130 : BitVec 32) (k0_hw33 : k0_chk33 v130), ∀ a, (k0_off1002 v130) a + S1x1x32x128.size a ≤ S2x13x1024x128.size a := fun v130 k0_hw33 => k0_hw33.1.2.2.2.2.2.2.2.2.2.2.2.2.2.2.2.2.2.2.1
theorem k0_off1006_inb : ∀ (v130 : BitVec 32) (k0_hw33 : k0_chk33 v130), ∀ a, (k0_off1006 v130) a + S1x1x32x128.size a ≤ S2x13x1024x128.size a := fun v130 k0_hw33 => k0_hw33.1.2.2.2.2.2.2.2.2.2.2.2.2.2.2.2.2.2.2.2.1
theorem k0_off1010_inb : ∀ (v130 : BitVec 32) (k0_hw33 : k0_chk33 v130), ∀ a, (k0_off1010 v130) a + S1x1x32x128.size a ≤ S2x13x1024x128.size a := fun v130 k0_hw33 => k0_hw33.1.2.2.2.2.2.2.2.2.2.2.2.2.2.2.2.2.2.2.2.2.1
theorem k0_off1014_inb : ∀ (v130 : BitVec 32) (k0_hw33 : k0_chk33 v130), ∀ a, (k0_off1014 v130) a + S1x1x32x128.size a ≤ S2x13x1024x128.size a := fun v130 k0_hw33 => k0_hw33.1.2.2.2.2.2.2.2.2.2.2.2.2.2.2.2.2.2.2.2.2.2.1
theorem k0_off1018_inb : ∀ (v130 : BitVec 32) (k0_hw33 : k0_chk33 v130), ∀ a, (k0_off1018 v130) a + S1x1x32x128.size a ≤ S2x13x1024x128.size a := fun v130 k0_hw33 => k0_hw33.1.2.2.2.2.2.2.2.2.2.2.2.2.2.2.2.2.2.2.2.2.2.2.1
theorem k0_off1022_inb : ∀ (v130 : BitVec 32) (k0_hw33 : k0_chk33 v130), ∀ a, (k0_off1022 v130) a + S1x1x32x128.size a ≤ S2x13x1024x128.size a := fun v130 k0_hw33 => k0_hw33.1.2.2.2.2.2.2.2.2.2.2.2.2.2.2.2.2.2.2.2.2.2.2.2.1
theorem k0_off1026_inb : ∀ (v130 : BitVec 32) (k0_hw33 : k0_chk33 v130), ∀ a, (k0_off1026 v130) a + S1x1x32x128.size a ≤ S2x13x1024x128.size a := fun v130 k0_hw33 => k0_hw33.1.2.2.2.2.2.2.2.2.2.2.2.2.2.2.2.2.2.2.2.2.2.2.2.2.1
theorem k0_off1030_inb : ∀ (v130 : BitVec 32) (k0_hw33 : k0_chk33 v130), ∀ a, (k0_off1030 v130) a + S1x1x32x128.size a ≤ S2x13x1024x128.size a := fun v130 k0_hw33 => k0_hw33.1.2.2.2.2.2.2.2.2.2.2.2.2.2.2.2.2.2.2.2.2.2.2.2.2.2.1
theorem k0_off1034_inb : ∀ (v130 : BitVec 32) (k0_hw33 : k0_chk33 v130), ∀ a, (k0_off1034 v130) a + S1x1x32x128.size a ≤ S2x13x1024x128.size a := fun v130 k0_hw33 => k0_hw33.1.2.2.2.2.2.2.2.2.2.2.2.2.2.2.2.2.2.2.2.2.2.2.2.2.2.2.1
theorem k0_off1038_inb : ∀ (v130 : BitVec 32) (k0_hw33 : k0_chk33 v130), ∀ a, (k0_off1038 v130) a + S1x1x32x128.size a ≤ S2x13x1024x128.size a := fun v130 k0_hw33 => k0_hw33.1.2.2.2.2.2.2.2.2.2.2.2.2.2.2.2.2.2.2.2.2.2.2.2.2.2.2.2.1
theorem k0_off1042_inb : ∀ (v130 : BitVec 32) (k0_hw33 : k0_chk33 v130), ∀ a, (k0_off1042 v130) a + S1x1x32x128.size a ≤ S2x13x1024x128.size a := fun v130 k0_hw33 => k0_hw33.1.2.2.2.2.2.2.2.2.2.2.2.2.2.2.2.2.2.2.2.2.2.2.2.2.2.2.2.2.1
theorem k0_off1046_inb : ∀ (v130 : BitVec 32) (k0_hw33 : k0_chk33 v130), ∀ a, (k0_off1046 v130) a + S1x1x32x128.size a ≤ S2x13x1024x128.size a := fun v130 k0_hw33 => k0_hw33.1.2.2.2.2.2.2.2.2.2.2.2.2.2.2.2.2.2.2.2.2.2.2.2.2.2.2.2.2.2.1
theorem k0_off1050_inb : ∀ (v130 : BitVec 32) (k0_hw33 : k0_chk33 v130), ∀ a, (k0_off1050 v130) a + S1x1x32x128.size a ≤ S2x13x1024x128.size a := fun v130 k0_hw33 => k0_hw33.1.2.2.2.2.2.2.2.2.2.2.2.2.2.2.2.2.2.2.2.2.2.2.2.2.2.2.2.2.2.2.1
theorem k0_off1054_inb : ∀ (v130 : BitVec 32) (k0_hw33 : k0_chk33 v130), ∀ a, (k0_off1054 v130) a + S1x1x32x128.size a ≤ S2x13x1024x128.size a := fun v130 k0_hw33 => k0_hw33.1.2.2.2.2.2.2.2.2.2.2.2.2.2.2.2.2.2.2.2.2.2.2.2.2.2.2.2.2.2.2.2
theorem k0_off1058_inb : ∀ (v130 : BitVec 32) (k0_hw33 : k0_chk33 v130), ∀ a, (k0_off1058 v130) a + S1x1x32x128.size a ≤ S2x13x1024x128.size a := fun v130 k0_hw33 => k0_hw33.2.1
theorem k0_off1062_inb : ∀ (v130 : BitVec 32) (k0_hw33 : k0_chk33 v130), ∀ a, (k0_off1062 v130) a + S1x1x32x128.size a ≤ S2x13x1024x128.size a := fun v130 k0_hw33 => k0_hw33.2.2.1
theorem k0_off1066_inb : ∀ (v130 : BitVec 32) (k0_hw33 : k0_chk33 v130), ∀ a, (k0_off1066 v130) a + S1x1x32x128.size a ≤ S2x13x1024x128.size a := fun v130 k0_hw33 => k0_hw33.2.2.2.1
theorem k0_off1070_inb : ∀ (v130 : BitVec 32) (k0_hw33 : k0_chk33 v130), ∀ a, (k0_off1070 v130) a + S1x1x32x128.size a ≤ S2x13x1024x128.size a := fun v130 k0_hw33 => k0_hw33.2.2.2.2.1
theorem k0_off1074_inb : ∀ (v130 : BitVec 32) (k0_hw33 : k0_chk33 v130), ∀ a, (k0_off1074 v130) a + S1x1x32x128.size a ≤ S2x13x1024x128.size a := fun v130 k0_hw33 => k0_hw33.2.2.2.2.2.1
theorem k0_off1078_inb : ∀ (v130 : BitVec 32) (k0_hw33 : k0_chk33 v130), ∀ a, (k0_off1078 v130) a + S1x1x32x128.size a ≤ S2x13x1024x128.size a := fun v130 k0_hw33 => k0_hw33.2.2.2.2.2.2.1
theorem k0_off1082_inb : ∀ (v130 : BitVec 32) (k0_hw33 : k0_chk33 v130), ∀ a, (k0_off1082 v130) a + S1x1x32x128.size a ≤ S2x13x1024x128.size a := fun v130 k0_hw33 => k0_hw33.2.2.2.2.2.2.2.1
theorem k0_off1086_inb : ∀ (v130 : BitVec 32) (k0_hw33 : k0_chk33 v130), ∀ a, (k0_off1086 v130) a + S1x1x32x128.size a ≤ S2x13x1024x128.size a := fun v130 k0_hw33 => k0_hw33.2.2.2.2.2.2.2.2.1
theorem k0_off1090_inb : ∀ (v130 : BitVec 32) (k0_hw33 : k0_chk33 v130), ∀ a, (k0_off1090 v130) a + S1x1x32x128.size a ≤ S2x13x1024x128.size a := fun v130 k0_hw33 => k0_hw33.2.2.2.2.2.2.2.2.2.1
theorem k0_off1094_inb : ∀ (v130 : BitVec 32) (k0_hw33 : k0_chk33 v130), ∀ a, (k0_off1094 v130) a + S1x1x32x128.size a ≤ S2x13x1024x128.size a := fun v130 k0_hw33 => k0_hw33.2.2.2.2.2.2.2.2.2.2.1
theorem k0_off1098_inb : ∀ (v130 : BitVec 32) (k0_hw33 : k0_chk33 v130), ∀ a, (k0_off1098 v130) a + S1x1x32x128.size a ≤ S2x13x1024x128.size a := fun v130 k0_hw33 => k0_hw33.2.2.2.2.2.2.2.2.2.2.2.1
theorem k0_off1102_inb : ∀ (v130 : BitVec 32) (k0_hw33 : k0_chk33 v130), ∀ a, (k0_off1102 v130) a + S1x1x32x128.size a ≤ S2x13x1024x128.size a := fun v130 k0_hw33 => k0_hw33.2.2.2.2.2.2.2.2.2.2.2.2.1
theorem k0_off1106_inb : ∀ (v130 : BitVec 32) (k0_hw33 : k0_chk33 v130), ∀ a, (k0_off1106 v130) a + S1x1x32x128.size a ≤ S2x13x1024x128.size a := fun v130 k0_hw33 => k0_hw33.2.2.2.2.2.2.2.2.2.2.2.2.2.1
theorem k0_off1110_inb : ∀ (v130 : BitVec 32) (k0_hw33 : k0_chk33 v130), ∀ a, (k0_off1110 v130) a + S1x1x32x128.size a ≤ S2x13x1024x128.size a := fun v130 k0_hw33 => k0_hw33.2.2.2.2.2.2.2.2.2.2.2.2.2.2.1
theorem k0_off1114_inb : ∀ (v130 : BitVec 32) (k0_hw33 : k0_chk33 v130), ∀ a, (k0_off1114 v130) a + S1x1x32x128.size a ≤ S2x13x1024x128.size a := fun v130 k0_hw33 => k0_hw33.2.2.2.2.2.2.2.2.2.2.2.2.2.2.2.1
theorem k0_off1118_inb : ∀ (v130 : BitVec 32) (k0_hw33 : k0_chk33 v130), ∀ a, (k0_off1118 v130) a + S1x1x32x128.size a ≤ S2x13x1024x128.size a := fun v130 k0_hw33 => k0_hw33.2.2.2.2.2.2.2.2.2.2.2.2.2.2.2.2.1
theorem k0_off1122_inb : ∀ (v130 : BitVec 32) (k0_hw33 : k0_chk33 v130), ∀ a, (k0_off1122 v130) a + S1x1x32x128.size a ≤ S2x13x1024x128.size a := fun v130 k0_hw33 => k0_hw33.2.2.2.2.2.2.2.2.2.2.2.2.2.2.2.2.2.1
theorem k0_off1126_inb : ∀ (v130 : BitVec 32) (k0_hw33 : k0_chk33 v130), ∀ a, (k0_off1126 v130) a + S1x1x32x128.size a ≤ S2x13x1024x128.size a := fun v130 k0_hw33 => k0_hw33.2.2.2.2.2.2.2.2.2.2.2.2.2.2.2.2.2.2.1
theorem k0_off1130_inb : ∀ (v130 : BitVec 32) (k0_hw33 : k0_chk33 v130), ∀ a, (k0_off1130 v130) a + S1x1x32x128.size a ≤ S2x13x1024x128.size a := fun v130 k0_hw33 => k0_hw33.2.2.2.2.2.2.2.2.2.2.2.2.2.2.2.2.2.2.2.1
theorem k0_off1134_inb : ∀ (v130 : BitVec 32) (k0_hw33 : k0_chk33 v130), ∀ a, (k0_off1134 v130) a + S1x1x32x128.size a ≤ S2x13x1024x128.size a := fun v130 k0_hw33 => k0_hw33.2.2.2.2.2.2.2.2.2.2.2.2.2.2.2.2.2.2.2.2.1
theorem k0_off1138_inb : ∀ (v130 : BitVec 32) (k0_hw33 : k0_chk33 v130), ∀ a, (k0_off1138 v130) a + S1x1x32x128.size a ≤ S2x13x1024x128.size a := fun v130 k0_hw33 => k0_hw33.2.2.2.2.2.2.2.2.2.2.2.2.2.2.2.2.2.2.2.2.2.1
theorem k0_off1142_inb : ∀ (v130 : BitVec 32) (k0_hw33 : k0_chk33 v130), ∀ a, (k0_off1142 v130) a + S1x1x32x128.size a ≤ S2x13x1024x128.size a := fun v130 k0_hw33 => k0_hw33.2.2.2.2.2.2.2.2.2.2.2.2.2.2.2.2.2.2.2.2.2.2.1
theorem k0_off1146_inb : ∀ (v130 : BitVec 32) (k0_hw33 : k0_chk33 v130), ∀ a, (k0_off1146 v130) a + S1x1x32x128.size a ≤ S2x13x1024x128.size a := fun v130 k0_hw33 => k0_hw33.2.2.2.2.2.2.2.2.2.2.2.2.2.2.2.2.2.2.2.2.2.2.2.1
theorem k0_off1150_inb : ∀ (v130 : BitVec 32) (k0_hw33 : k0_chk33 v130), ∀ a, (k0_off1150 v130) a + S1x1x32x128.size a ≤ S2x13x1024x128.size a := fun v130 k0_hw33 => k0_hw33.2.2.2.2.2.2.2.2.2.2.2.2.2.2.2.2.2.2.2.2.2.2.2.2.1
theorem k0_off1154_inb : ∀ (v130 : BitVec 32) (k0_hw33 : k0_chk33 v130), ∀ a, (k0_off1154 v130) a + S1x1x32x128.size a ≤ S2x13x1024x128.size a := fun v130 k0_hw33 => k0_hw33.2.2.2.2.2.2.2.2.2.2.2.2.2.2.2.2.2.2.2.2.2.2.2.2.2.1
theorem k0_off1158_inb : ∀ (v130 : BitVec 32) (k0_hw33 : k0_chk33 v130), ∀ a, (k0_off1158 v130) a + S1x1x32x128.size a ≤ S2x13x1024x128.size a := fun v130 k0_hw33 => k0_hw33.2.2.2.2.2.2.2.2.2.2.2.2.2.2.2.2.2.2.2.2.2.2.2.2.2.2.1
theorem k0_off1162_inb : ∀ (v130 : BitVec 32) (k0_hw33 : k0_chk33 v130), ∀ a, (k0_off1162 v130) a + S1x1x32x128.size a ≤ S2x13x1024x128.size a := fun v130 k0_hw33 => k0_hw33.2.2.2.2.2.2.2.2.2.2.2.2.2.2.2.2.2.2.2.2.2.2.2.2.2.2.2.1
theorem k0_off1166_inb : ∀ (v130 : BitVec 32) (k0_hw33 : k0_chk33 v130), ∀ a, (k0_off1166 v130) a + S1x1x32x128.size a ≤ S2x13x1024x128.size a := fun v130 k0_hw33 => k0_hw33.2.2.2.2.2.2.2.2.2.2.2.2.2.2.2.2.2.2.2.2.2.2.2.2.2.2.2.2.1
theorem k0_off1170_inb : ∀ (v130 : BitVec 32) (k0_hw33 : k0_chk33 v130), ∀ a, (k0_off1170 v130) a + S1x1x32x128.size a ≤ S2x13x1024x128.size a := fun v130 k0_hw33 => k0_hw33.2.2.2.2.2.2.2.2.2.2.2.2.2.2.2.2.2.2.2.2.2.2.2.2.2.2.2.2.2.1
theorem k0_off1174_inb : ∀ (v130 : BitVec 32) (k0_hw33 : k0_chk33 v130), ∀ a, (k0_off1174 v130) a + S1x1x32x128.size a ≤ S2x13x1024x128.size a := fun v130 k0_hw33 => k0_hw33.2.2.2.2.2.2.2.2.2.2.2.2.2.2.2.2.2.2.2.2.2.2.2.2.2.2.2.2.2.2.1
theorem k0_off1178_inb : ∀ (v130 : BitVec 32) (k0_hw33 : k0_chk33 v130), ∀ a, (k0_off1178 v130) a + S1x1x32x128.size a ≤ S2x13x1024x128.size a := fun v130 k0_hw33 => k0_hw33.2.2.2.2.2.2.2.2.2.2.2.2.2.2.2.2.2.2.2.2.2.2.2.2.2.2.2.2.2.2.2.1
theorem k0_off1182_inb : ∀ (v130 : BitVec 32) (k0_hw33 : k0_chk33 v130), ∀ a, (k0_off1182 v130) a + S1x1x32x128.size a ≤ S2x13x1024x128.size a := fun v130 k0_hw33 => k0_hw33.2.2.2.2.2.2.2.2.2.2.2.2.2.2.2.2.2.2.2.2.2.2.2.2.2.2.2.2.2.2.2.2

def k0_off1183 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2261 : Index := Scalar.indexCast v66
  let c1_905 : Index := 1#32
  let c62_906 : Index := 62#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2262 : Index := Scalar.indexCast v159
  let c0_907 : Index := 0#32
  ![v2261.toNat, 1, 62, v2262.toNat, 0]
def k0_off1184 (v9 : BitVec 32) (k0_t20 : Fin (k0_t20_loop v9).trips) (v62 : BitVec 32) (v68 : BitVec 32) (k0_t25 : Fin (k0_t25_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2267 : Index := Scalar.indexCast v66
  let c1_908 : Index := 1#32
  let c63_909 : Index := 63#32
  let c0_i32_75 : BitVec 32 := 0#32
  let c1_i32_78 : BitVec 32 := 1#32
  let arg20 : BitVec 32 := Scf.iv c0_i32_75 c1_i32_78 k0_t25
  let c8_i32_108 : BitVec 32 := 8#32
  let v158 : BitVec 32 := Scalar.muli arg20 c8_i32_108
  let v159 : BitVec 32 := v158
  let v2268 : Index := Scalar.indexCast v159
  let c0_910 : Index := 0#32
  ![v2267.toNat, 1, 63, v2268.toNat, 0]
@[reducible] def k0_t26_loop (v62 : BitVec 32) (v68 : BitVec 32) : Scf.Loop 32 :=
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let v95 : BitVec 32 := Scalar.addi c0_i32_75 v94
  let c1_i32_79 : BitVec 32 := 1#32
  ⟨v98, v95, c1_i32_79⟩
def k0_off1185 (v62 : BitVec 32) (v68 : BitVec 32) (k0_t26 : Fin (k0_t26_loop v62 v68).trips) : Fin 2 → Nat :=
  let c32_i32 : BitVec 32 := 32#32
  let v63 : BitVec 32 := Scalar.divsi v62 c32_i32
  let v128 : Index := Scalar.indexCast v63
  let c32_i32_58 : BitVec 32 := 32#32
  let v64 : BitVec 32 := Scalar.remsi v62 c32_i32_58
  let c8_i32_100 : BitVec 32 := 8#32
  let v126 : BitVec 32 := Scalar.muli v64 c8_i32_100
  let c0_i32_75 : BitVec 32 := 0#32
  let c8_i32 : BitVec 32 := 8#32
  let c0_i32_63 : BitVec 32 := 0#32
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v127 : BitVec 32 := Scalar.addi v126 arg20
  let v129 : Index := Scalar.indexCast v127
  ![v128.toNat, v129.toNat]
def k0_off1186 (v62 : BitVec 32) : Fin 1 → Nat :=
  let c32_i32 : BitVec 32 := 32#32
  let v63 : BitVec 32 := Scalar.divsi v62 c32_i32
  let v134 : Index := Scalar.indexCast v63
  ![v134.toNat]
def k0_mult32 (v62 : BitVec 32) (v68 : BitVec 32) (k0_t26 : Fin (k0_t26_loop v62 v68).trips) : BitVec 32 :=
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  v158
def k0_off1187 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v160 : Index := Scalar.indexCast v65
  let c0 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v161 : Index := Scalar.indexCast arg20
  let c0_109 : Index := 0#32
  let c0_110 : Index := 0#32
  ![v160.toNat, 0, v161.toNat, 0, 0]
def k0_off1188 (v130 : BitVec 32) : Fin 4 → Nat :=
  let c0_111 : Index := 0#32
  let c7_i32 : BitVec 32 := 7#32
  let v131 : BitVec 32 := Scalar.shrui v130 c7_i32
  let v165 : Index := Scalar.indexCast v131
  let c0_112 : Index := 0#32
  let c0_113 : Index := 0#32
  ![0, v165.toNat, 0, 0]

def k0_off1189 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v182 : Index := Scalar.indexCast v66
  let c0_116 : Index := 0#32
  let c0_117 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v183 : Index := Scalar.indexCast v159
  let c0_118 : Index := 0#32
  ![v182.toNat, 0, 0, v183.toNat, 0]
def k0_off1190 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v188 : Index := Scalar.indexCast v66
  let c0_119 : Index := 0#32
  let c1 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v189 : Index := Scalar.indexCast v159
  let c0_120 : Index := 0#32
  ![v188.toNat, 0, 1, v189.toNat, 0]
def k0_off1191 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v193 : Index := Scalar.indexCast v65
  let c1_121 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v194 : Index := Scalar.indexCast arg20
  let c0_122 : Index := 0#32
  let c0_123 : Index := 0#32
  ![v193.toNat, 1, v194.toNat, 0, 0]
def k0_off1192 (v130 : BitVec 32) : Fin 4 → Nat :=
  let c1_124 : Index := 1#32
  let c7_i32 : BitVec 32 := 7#32
  let v131 : BitVec 32 := Scalar.shrui v130 c7_i32
  let v198 : Index := Scalar.indexCast v131
  let c0_125 : Index := 0#32
  let c0_126 : Index := 0#32
  ![1, v198.toNat, 0, 0]
def k0_off1193 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v215 : Index := Scalar.indexCast v66
  let c1_129 : Index := 1#32
  let c0_130 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v216 : Index := Scalar.indexCast v159
  let c0_131 : Index := 0#32
  ![v215.toNat, 1, 0, v216.toNat, 0]
def k0_off1194 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v221 : Index := Scalar.indexCast v66
  let c1_132 : Index := 1#32
  let c1_133 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v222 : Index := Scalar.indexCast v159
  let c0_134 : Index := 0#32
  ![v221.toNat, 1, 1, v222.toNat, 0]
def k0_off1195 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v226 : Index := Scalar.indexCast v65
  let c0_135 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v227 : Index := Scalar.indexCast arg20
  let c32 : Index := 32#32
  let c0_136 : Index := 0#32
  ![v226.toNat, 0, v227.toNat, 32, 0]
def k0_off1196 (v130 : BitVec 32) : Fin 4 → Nat :=
  let c0_137 : Index := 0#32
  let c7_i32 : BitVec 32 := 7#32
  let v131 : BitVec 32 := Scalar.shrui v130 c7_i32
  let v231 : Index := Scalar.indexCast v131
  let c32_138 : Index := 32#32
  let c0_139 : Index := 0#32
  ![0, v231.toNat, 32, 0]
def k0_off1197 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v248 : Index := Scalar.indexCast v66
  let c0_142 : Index := 0#32
  let c2 : Index := 2#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v249 : Index := Scalar.indexCast v159
  let c0_143 : Index := 0#32
  ![v248.toNat, 0, 2, v249.toNat, 0]
def k0_off1198 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v254 : Index := Scalar.indexCast v66
  let c0_144 : Index := 0#32
  let c3 : Index := 3#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v255 : Index := Scalar.indexCast v159
  let c0_145 : Index := 0#32
  ![v254.toNat, 0, 3, v255.toNat, 0]
def k0_off1199 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v259 : Index := Scalar.indexCast v65
  let c1_146 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v260 : Index := Scalar.indexCast arg20
  let c32_147 : Index := 32#32
  let c0_148 : Index := 0#32
  ![v259.toNat, 1, v260.toNat, 32, 0]
def k0_off1200 (v130 : BitVec 32) : Fin 4 → Nat :=
  let c1_149 : Index := 1#32
  let c7_i32 : BitVec 32 := 7#32
  let v131 : BitVec 32 := Scalar.shrui v130 c7_i32
  let v264 : Index := Scalar.indexCast v131
  let c32_150 : Index := 32#32
  let c0_151 : Index := 0#32
  ![1, v264.toNat, 32, 0]
def k0_off1201 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v281 : Index := Scalar.indexCast v66
  let c1_154 : Index := 1#32
  let c2_155 : Index := 2#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v282 : Index := Scalar.indexCast v159
  let c0_156 : Index := 0#32
  ![v281.toNat, 1, 2, v282.toNat, 0]
def k0_off1202 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v287 : Index := Scalar.indexCast v66
  let c1_157 : Index := 1#32
  let c3_158 : Index := 3#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v288 : Index := Scalar.indexCast v159
  let c0_159 : Index := 0#32
  ![v287.toNat, 1, 3, v288.toNat, 0]
def k0_off1203 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v292 : Index := Scalar.indexCast v65
  let c0_160 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v293 : Index := Scalar.indexCast arg20
  let c64 : Index := 64#32
  let c0_161 : Index := 0#32
  ![v292.toNat, 0, v293.toNat, 64, 0]
def k0_off1204 (v130 : BitVec 32) : Fin 4 → Nat :=
  let c0_162 : Index := 0#32
  let c7_i32 : BitVec 32 := 7#32
  let v131 : BitVec 32 := Scalar.shrui v130 c7_i32
  let v297 : Index := Scalar.indexCast v131
  let c64_163 : Index := 64#32
  let c0_164 : Index := 0#32
  ![0, v297.toNat, 64, 0]
def k0_off1205 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v314 : Index := Scalar.indexCast v66
  let c0_167 : Index := 0#32
  let c4 : Index := 4#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v315 : Index := Scalar.indexCast v159
  let c0_168 : Index := 0#32
  ![v314.toNat, 0, 4, v315.toNat, 0]
def k0_off1206 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v320 : Index := Scalar.indexCast v66
  let c0_169 : Index := 0#32
  let c5 : Index := 5#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v321 : Index := Scalar.indexCast v159
  let c0_170 : Index := 0#32
  ![v320.toNat, 0, 5, v321.toNat, 0]
def k0_off1207 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v325 : Index := Scalar.indexCast v65
  let c1_171 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v326 : Index := Scalar.indexCast arg20
  let c64_172 : Index := 64#32
  let c0_173 : Index := 0#32
  ![v325.toNat, 1, v326.toNat, 64, 0]
def k0_off1208 (v130 : BitVec 32) : Fin 4 → Nat :=
  let c1_174 : Index := 1#32
  let c7_i32 : BitVec 32 := 7#32
  let v131 : BitVec 32 := Scalar.shrui v130 c7_i32
  let v330 : Index := Scalar.indexCast v131
  let c64_175 : Index := 64#32
  let c0_176 : Index := 0#32
  ![1, v330.toNat, 64, 0]
def k0_off1209 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v347 : Index := Scalar.indexCast v66
  let c1_179 : Index := 1#32
  let c4_180 : Index := 4#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v348 : Index := Scalar.indexCast v159
  let c0_181 : Index := 0#32
  ![v347.toNat, 1, 4, v348.toNat, 0]
def k0_off1210 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v353 : Index := Scalar.indexCast v66
  let c1_182 : Index := 1#32
  let c5_183 : Index := 5#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v354 : Index := Scalar.indexCast v159
  let c0_184 : Index := 0#32
  ![v353.toNat, 1, 5, v354.toNat, 0]
def k0_off1211 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v358 : Index := Scalar.indexCast v65
  let c0_185 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v359 : Index := Scalar.indexCast arg20
  let c96 : Index := 96#32
  let c0_186 : Index := 0#32
  ![v358.toNat, 0, v359.toNat, 96, 0]
def k0_off1212 (v130 : BitVec 32) : Fin 4 → Nat :=
  let c0_187 : Index := 0#32
  let c7_i32 : BitVec 32 := 7#32
  let v131 : BitVec 32 := Scalar.shrui v130 c7_i32
  let v363 : Index := Scalar.indexCast v131
  let c96_188 : Index := 96#32
  let c0_189 : Index := 0#32
  ![0, v363.toNat, 96, 0]
def k0_off1213 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v380 : Index := Scalar.indexCast v66
  let c0_192 : Index := 0#32
  let c6 : Index := 6#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v381 : Index := Scalar.indexCast v159
  let c0_193 : Index := 0#32
  ![v380.toNat, 0, 6, v381.toNat, 0]
def k0_off1214 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v386 : Index := Scalar.indexCast v66
  let c0_194 : Index := 0#32
  let c7 : Index := 7#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v387 : Index := Scalar.indexCast v159
  let c0_195 : Index := 0#32
  ![v386.toNat, 0, 7, v387.toNat, 0]
def k0_off1215 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v391 : Index := Scalar.indexCast v65
  let c1_196 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v392 : Index := Scalar.indexCast arg20
  let c96_197 : Index := 96#32
  let c0_198 : Index := 0#32
  ![v391.toNat, 1, v392.toNat, 96, 0]
def k0_off1216 (v130 : BitVec 32) : Fin 4 → Nat :=
  let c1_199 : Index := 1#32
  let c7_i32 : BitVec 32 := 7#32
  let v131 : BitVec 32 := Scalar.shrui v130 c7_i32
  let v396 : Index := Scalar.indexCast v131
  let c96_200 : Index := 96#32
  let c0_201 : Index := 0#32
  ![1, v396.toNat, 96, 0]
def k0_off1217 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v413 : Index := Scalar.indexCast v66
  let c1_204 : Index := 1#32
  let c6_205 : Index := 6#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v414 : Index := Scalar.indexCast v159
  let c0_206 : Index := 0#32
  ![v413.toNat, 1, 6, v414.toNat, 0]
def k0_off1218 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v419 : Index := Scalar.indexCast v66
  let c1_207 : Index := 1#32
  let c7_208 : Index := 7#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v420 : Index := Scalar.indexCast v159
  let c0_209 : Index := 0#32
  ![v419.toNat, 1, 7, v420.toNat, 0]
def k0_off1219 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v424 : Index := Scalar.indexCast v65
  let c0_210 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v425 : Index := Scalar.indexCast arg20
  let c128 : Index := 128#32
  let c0_211 : Index := 0#32
  ![v424.toNat, 0, v425.toNat, 128, 0]
def k0_off1220 (v130 : BitVec 32) : Fin 4 → Nat :=
  let c0_212 : Index := 0#32
  let c7_i32 : BitVec 32 := 7#32
  let v131 : BitVec 32 := Scalar.shrui v130 c7_i32
  let v429 : Index := Scalar.indexCast v131
  let c128_213 : Index := 128#32
  let c0_214 : Index := 0#32
  ![0, v429.toNat, 128, 0]
def k0_off1221 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v446 : Index := Scalar.indexCast v66
  let c0_217 : Index := 0#32
  let c8 : Index := 8#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v447 : Index := Scalar.indexCast v159
  let c0_218 : Index := 0#32
  ![v446.toNat, 0, 8, v447.toNat, 0]
def k0_off1222 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v452 : Index := Scalar.indexCast v66
  let c0_219 : Index := 0#32
  let c9 : Index := 9#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v453 : Index := Scalar.indexCast v159
  let c0_220 : Index := 0#32
  ![v452.toNat, 0, 9, v453.toNat, 0]
def k0_off1223 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v457 : Index := Scalar.indexCast v65
  let c1_221 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v458 : Index := Scalar.indexCast arg20
  let c128_222 : Index := 128#32
  let c0_223 : Index := 0#32
  ![v457.toNat, 1, v458.toNat, 128, 0]
def k0_off1224 (v130 : BitVec 32) : Fin 4 → Nat :=
  let c1_224 : Index := 1#32
  let c7_i32 : BitVec 32 := 7#32
  let v131 : BitVec 32 := Scalar.shrui v130 c7_i32
  let v462 : Index := Scalar.indexCast v131
  let c128_225 : Index := 128#32
  let c0_226 : Index := 0#32
  ![1, v462.toNat, 128, 0]
def k0_off1225 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v479 : Index := Scalar.indexCast v66
  let c1_229 : Index := 1#32
  let c8_230 : Index := 8#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v480 : Index := Scalar.indexCast v159
  let c0_231 : Index := 0#32
  ![v479.toNat, 1, 8, v480.toNat, 0]
def k0_off1226 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v485 : Index := Scalar.indexCast v66
  let c1_232 : Index := 1#32
  let c9_233 : Index := 9#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v486 : Index := Scalar.indexCast v159
  let c0_234 : Index := 0#32
  ![v485.toNat, 1, 9, v486.toNat, 0]
def k0_off1227 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v490 : Index := Scalar.indexCast v65
  let c0_235 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v491 : Index := Scalar.indexCast arg20
  let c160 : Index := 160#32
  let c0_236 : Index := 0#32
  ![v490.toNat, 0, v491.toNat, 160, 0]
def k0_off1228 (v130 : BitVec 32) : Fin 4 → Nat :=
  let c0_237 : Index := 0#32
  let c7_i32 : BitVec 32 := 7#32
  let v131 : BitVec 32 := Scalar.shrui v130 c7_i32
  let v495 : Index := Scalar.indexCast v131
  let c160_238 : Index := 160#32
  let c0_239 : Index := 0#32
  ![0, v495.toNat, 160, 0]
def k0_off1229 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v512 : Index := Scalar.indexCast v66
  let c0_242 : Index := 0#32
  let c10 : Index := 10#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v513 : Index := Scalar.indexCast v159
  let c0_243 : Index := 0#32
  ![v512.toNat, 0, 10, v513.toNat, 0]
def k0_off1230 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v518 : Index := Scalar.indexCast v66
  let c0_244 : Index := 0#32
  let c11 : Index := 11#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v519 : Index := Scalar.indexCast v159
  let c0_245 : Index := 0#32
  ![v518.toNat, 0, 11, v519.toNat, 0]
def k0_off1231 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v523 : Index := Scalar.indexCast v65
  let c1_246 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v524 : Index := Scalar.indexCast arg20
  let c160_247 : Index := 160#32
  let c0_248 : Index := 0#32
  ![v523.toNat, 1, v524.toNat, 160, 0]
def k0_off1232 (v130 : BitVec 32) : Fin 4 → Nat :=
  let c1_249 : Index := 1#32
  let c7_i32 : BitVec 32 := 7#32
  let v131 : BitVec 32 := Scalar.shrui v130 c7_i32
  let v528 : Index := Scalar.indexCast v131
  let c160_250 : Index := 160#32
  let c0_251 : Index := 0#32
  ![1, v528.toNat, 160, 0]
def k0_off1233 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v545 : Index := Scalar.indexCast v66
  let c1_254 : Index := 1#32
  let c10_255 : Index := 10#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v546 : Index := Scalar.indexCast v159
  let c0_256 : Index := 0#32
  ![v545.toNat, 1, 10, v546.toNat, 0]
def k0_off1234 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v551 : Index := Scalar.indexCast v66
  let c1_257 : Index := 1#32
  let c11_258 : Index := 11#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v552 : Index := Scalar.indexCast v159
  let c0_259 : Index := 0#32
  ![v551.toNat, 1, 11, v552.toNat, 0]
def k0_off1235 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v556 : Index := Scalar.indexCast v65
  let c0_260 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v557 : Index := Scalar.indexCast arg20
  let c192 : Index := 192#32
  let c0_261 : Index := 0#32
  ![v556.toNat, 0, v557.toNat, 192, 0]
def k0_off1236 (v130 : BitVec 32) : Fin 4 → Nat :=
  let c0_262 : Index := 0#32
  let c7_i32 : BitVec 32 := 7#32
  let v131 : BitVec 32 := Scalar.shrui v130 c7_i32
  let v561 : Index := Scalar.indexCast v131
  let c192_263 : Index := 192#32
  let c0_264 : Index := 0#32
  ![0, v561.toNat, 192, 0]
def k0_off1237 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v578 : Index := Scalar.indexCast v66
  let c0_267 : Index := 0#32
  let c12 : Index := 12#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v579 : Index := Scalar.indexCast v159
  let c0_268 : Index := 0#32
  ![v578.toNat, 0, 12, v579.toNat, 0]
def k0_off1238 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v584 : Index := Scalar.indexCast v66
  let c0_269 : Index := 0#32
  let c13 : Index := 13#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v585 : Index := Scalar.indexCast v159
  let c0_270 : Index := 0#32
  ![v584.toNat, 0, 13, v585.toNat, 0]
def k0_off1239 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v589 : Index := Scalar.indexCast v65
  let c1_271 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v590 : Index := Scalar.indexCast arg20
  let c192_272 : Index := 192#32
  let c0_273 : Index := 0#32
  ![v589.toNat, 1, v590.toNat, 192, 0]
def k0_off1240 (v130 : BitVec 32) : Fin 4 → Nat :=
  let c1_274 : Index := 1#32
  let c7_i32 : BitVec 32 := 7#32
  let v131 : BitVec 32 := Scalar.shrui v130 c7_i32
  let v594 : Index := Scalar.indexCast v131
  let c192_275 : Index := 192#32
  let c0_276 : Index := 0#32
  ![1, v594.toNat, 192, 0]
def k0_off1241 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v611 : Index := Scalar.indexCast v66
  let c1_279 : Index := 1#32
  let c12_280 : Index := 12#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v612 : Index := Scalar.indexCast v159
  let c0_281 : Index := 0#32
  ![v611.toNat, 1, 12, v612.toNat, 0]
def k0_off1242 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v617 : Index := Scalar.indexCast v66
  let c1_282 : Index := 1#32
  let c13_283 : Index := 13#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v618 : Index := Scalar.indexCast v159
  let c0_284 : Index := 0#32
  ![v617.toNat, 1, 13, v618.toNat, 0]
def k0_off1243 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v622 : Index := Scalar.indexCast v65
  let c0_285 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v623 : Index := Scalar.indexCast arg20
  let c224 : Index := 224#32
  let c0_286 : Index := 0#32
  ![v622.toNat, 0, v623.toNat, 224, 0]
def k0_off1244 (v130 : BitVec 32) : Fin 4 → Nat :=
  let c0_287 : Index := 0#32
  let c7_i32 : BitVec 32 := 7#32
  let v131 : BitVec 32 := Scalar.shrui v130 c7_i32
  let v627 : Index := Scalar.indexCast v131
  let c224_288 : Index := 224#32
  let c0_289 : Index := 0#32
  ![0, v627.toNat, 224, 0]
def k0_off1245 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v644 : Index := Scalar.indexCast v66
  let c0_292 : Index := 0#32
  let c14 : Index := 14#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v645 : Index := Scalar.indexCast v159
  let c0_293 : Index := 0#32
  ![v644.toNat, 0, 14, v645.toNat, 0]
def k0_off1246 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v650 : Index := Scalar.indexCast v66
  let c0_294 : Index := 0#32
  let c15 : Index := 15#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v651 : Index := Scalar.indexCast v159
  let c0_295 : Index := 0#32
  ![v650.toNat, 0, 15, v651.toNat, 0]
def k0_off1247 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v655 : Index := Scalar.indexCast v65
  let c1_296 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v656 : Index := Scalar.indexCast arg20
  let c224_297 : Index := 224#32
  let c0_298 : Index := 0#32
  ![v655.toNat, 1, v656.toNat, 224, 0]
def k0_off1248 (v130 : BitVec 32) : Fin 4 → Nat :=
  let c1_299 : Index := 1#32
  let c7_i32 : BitVec 32 := 7#32
  let v131 : BitVec 32 := Scalar.shrui v130 c7_i32
  let v660 : Index := Scalar.indexCast v131
  let c224_300 : Index := 224#32
  let c0_301 : Index := 0#32
  ![1, v660.toNat, 224, 0]
def k0_off1249 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v677 : Index := Scalar.indexCast v66
  let c1_304 : Index := 1#32
  let c14_305 : Index := 14#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v678 : Index := Scalar.indexCast v159
  let c0_306 : Index := 0#32
  ![v677.toNat, 1, 14, v678.toNat, 0]
def k0_off1250 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v683 : Index := Scalar.indexCast v66
  let c1_307 : Index := 1#32
  let c15_308 : Index := 15#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v684 : Index := Scalar.indexCast v159
  let c0_309 : Index := 0#32
  ![v683.toNat, 1, 15, v684.toNat, 0]
def k0_off1251 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v688 : Index := Scalar.indexCast v65
  let c0_310 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v689 : Index := Scalar.indexCast arg20
  let c256 : Index := 256#32
  let c0_311 : Index := 0#32
  ![v688.toNat, 0, v689.toNat, 256, 0]
def k0_off1252 (v130 : BitVec 32) : Fin 4 → Nat :=
  let c0_312 : Index := 0#32
  let c7_i32 : BitVec 32 := 7#32
  let v131 : BitVec 32 := Scalar.shrui v130 c7_i32
  let v693 : Index := Scalar.indexCast v131
  let c256_313 : Index := 256#32
  let c0_314 : Index := 0#32
  ![0, v693.toNat, 256, 0]
def k0_off1253 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v710 : Index := Scalar.indexCast v66
  let c0_317 : Index := 0#32
  let c16 : Index := 16#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v711 : Index := Scalar.indexCast v159
  let c0_318 : Index := 0#32
  ![v710.toNat, 0, 16, v711.toNat, 0]
def k0_off1254 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v716 : Index := Scalar.indexCast v66
  let c0_319 : Index := 0#32
  let c17 : Index := 17#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v717 : Index := Scalar.indexCast v159
  let c0_320 : Index := 0#32
  ![v716.toNat, 0, 17, v717.toNat, 0]
def k0_off1255 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v721 : Index := Scalar.indexCast v65
  let c1_321 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v722 : Index := Scalar.indexCast arg20
  let c256_322 : Index := 256#32
  let c0_323 : Index := 0#32
  ![v721.toNat, 1, v722.toNat, 256, 0]
def k0_off1256 (v130 : BitVec 32) : Fin 4 → Nat :=
  let c1_324 : Index := 1#32
  let c7_i32 : BitVec 32 := 7#32
  let v131 : BitVec 32 := Scalar.shrui v130 c7_i32
  let v726 : Index := Scalar.indexCast v131
  let c256_325 : Index := 256#32
  let c0_326 : Index := 0#32
  ![1, v726.toNat, 256, 0]
def k0_off1257 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v743 : Index := Scalar.indexCast v66
  let c1_329 : Index := 1#32
  let c16_330 : Index := 16#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v744 : Index := Scalar.indexCast v159
  let c0_331 : Index := 0#32
  ![v743.toNat, 1, 16, v744.toNat, 0]
def k0_off1258 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v749 : Index := Scalar.indexCast v66
  let c1_332 : Index := 1#32
  let c17_333 : Index := 17#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v750 : Index := Scalar.indexCast v159
  let c0_334 : Index := 0#32
  ![v749.toNat, 1, 17, v750.toNat, 0]
def k0_off1259 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v754 : Index := Scalar.indexCast v65
  let c0_335 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v755 : Index := Scalar.indexCast arg20
  let c288 : Index := 288#32
  let c0_336 : Index := 0#32
  ![v754.toNat, 0, v755.toNat, 288, 0]
def k0_off1260 (v130 : BitVec 32) : Fin 4 → Nat :=
  let c0_337 : Index := 0#32
  let c7_i32 : BitVec 32 := 7#32
  let v131 : BitVec 32 := Scalar.shrui v130 c7_i32
  let v759 : Index := Scalar.indexCast v131
  let c288_338 : Index := 288#32
  let c0_339 : Index := 0#32
  ![0, v759.toNat, 288, 0]
def k0_off1261 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v776 : Index := Scalar.indexCast v66
  let c0_342 : Index := 0#32
  let c18 : Index := 18#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v777 : Index := Scalar.indexCast v159
  let c0_343 : Index := 0#32
  ![v776.toNat, 0, 18, v777.toNat, 0]
def k0_off1262 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v782 : Index := Scalar.indexCast v66
  let c0_344 : Index := 0#32
  let c19 : Index := 19#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v783 : Index := Scalar.indexCast v159
  let c0_345 : Index := 0#32
  ![v782.toNat, 0, 19, v783.toNat, 0]
def k0_off1263 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v787 : Index := Scalar.indexCast v65
  let c1_346 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v788 : Index := Scalar.indexCast arg20
  let c288_347 : Index := 288#32
  let c0_348 : Index := 0#32
  ![v787.toNat, 1, v788.toNat, 288, 0]
def k0_off1264 (v130 : BitVec 32) : Fin 4 → Nat :=
  let c1_349 : Index := 1#32
  let c7_i32 : BitVec 32 := 7#32
  let v131 : BitVec 32 := Scalar.shrui v130 c7_i32
  let v792 : Index := Scalar.indexCast v131
  let c288_350 : Index := 288#32
  let c0_351 : Index := 0#32
  ![1, v792.toNat, 288, 0]
def k0_off1265 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v809 : Index := Scalar.indexCast v66
  let c1_354 : Index := 1#32
  let c18_355 : Index := 18#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v810 : Index := Scalar.indexCast v159
  let c0_356 : Index := 0#32
  ![v809.toNat, 1, 18, v810.toNat, 0]
def k0_off1266 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v815 : Index := Scalar.indexCast v66
  let c1_357 : Index := 1#32
  let c19_358 : Index := 19#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v816 : Index := Scalar.indexCast v159
  let c0_359 : Index := 0#32
  ![v815.toNat, 1, 19, v816.toNat, 0]
def k0_off1267 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v820 : Index := Scalar.indexCast v65
  let c0_360 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v821 : Index := Scalar.indexCast arg20
  let c320 : Index := 320#32
  let c0_361 : Index := 0#32
  ![v820.toNat, 0, v821.toNat, 320, 0]
def k0_off1268 (v130 : BitVec 32) : Fin 4 → Nat :=
  let c0_362 : Index := 0#32
  let c7_i32 : BitVec 32 := 7#32
  let v131 : BitVec 32 := Scalar.shrui v130 c7_i32
  let v825 : Index := Scalar.indexCast v131
  let c320_363 : Index := 320#32
  let c0_364 : Index := 0#32
  ![0, v825.toNat, 320, 0]
def k0_off1269 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v842 : Index := Scalar.indexCast v66
  let c0_367 : Index := 0#32
  let c20 : Index := 20#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v843 : Index := Scalar.indexCast v159
  let c0_368 : Index := 0#32
  ![v842.toNat, 0, 20, v843.toNat, 0]
def k0_off1270 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v848 : Index := Scalar.indexCast v66
  let c0_369 : Index := 0#32
  let c21 : Index := 21#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v849 : Index := Scalar.indexCast v159
  let c0_370 : Index := 0#32
  ![v848.toNat, 0, 21, v849.toNat, 0]
def k0_off1271 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v853 : Index := Scalar.indexCast v65
  let c1_371 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v854 : Index := Scalar.indexCast arg20
  let c320_372 : Index := 320#32
  let c0_373 : Index := 0#32
  ![v853.toNat, 1, v854.toNat, 320, 0]
def k0_off1272 (v130 : BitVec 32) : Fin 4 → Nat :=
  let c1_374 : Index := 1#32
  let c7_i32 : BitVec 32 := 7#32
  let v131 : BitVec 32 := Scalar.shrui v130 c7_i32
  let v858 : Index := Scalar.indexCast v131
  let c320_375 : Index := 320#32
  let c0_376 : Index := 0#32
  ![1, v858.toNat, 320, 0]
def k0_off1273 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v875 : Index := Scalar.indexCast v66
  let c1_379 : Index := 1#32
  let c20_380 : Index := 20#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v876 : Index := Scalar.indexCast v159
  let c0_381 : Index := 0#32
  ![v875.toNat, 1, 20, v876.toNat, 0]
def k0_off1274 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v881 : Index := Scalar.indexCast v66
  let c1_382 : Index := 1#32
  let c21_383 : Index := 21#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v882 : Index := Scalar.indexCast v159
  let c0_384 : Index := 0#32
  ![v881.toNat, 1, 21, v882.toNat, 0]
def k0_off1275 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v886 : Index := Scalar.indexCast v65
  let c0_385 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v887 : Index := Scalar.indexCast arg20
  let c352 : Index := 352#32
  let c0_386 : Index := 0#32
  ![v886.toNat, 0, v887.toNat, 352, 0]
def k0_off1276 (v130 : BitVec 32) : Fin 4 → Nat :=
  let c0_387 : Index := 0#32
  let c7_i32 : BitVec 32 := 7#32
  let v131 : BitVec 32 := Scalar.shrui v130 c7_i32
  let v891 : Index := Scalar.indexCast v131
  let c352_388 : Index := 352#32
  let c0_389 : Index := 0#32
  ![0, v891.toNat, 352, 0]
def k0_off1277 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v908 : Index := Scalar.indexCast v66
  let c0_392 : Index := 0#32
  let c22 : Index := 22#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v909 : Index := Scalar.indexCast v159
  let c0_393 : Index := 0#32
  ![v908.toNat, 0, 22, v909.toNat, 0]
def k0_off1278 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v914 : Index := Scalar.indexCast v66
  let c0_394 : Index := 0#32
  let c23 : Index := 23#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v915 : Index := Scalar.indexCast v159
  let c0_395 : Index := 0#32
  ![v914.toNat, 0, 23, v915.toNat, 0]
def k0_off1279 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v919 : Index := Scalar.indexCast v65
  let c1_396 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v920 : Index := Scalar.indexCast arg20
  let c352_397 : Index := 352#32
  let c0_398 : Index := 0#32
  ![v919.toNat, 1, v920.toNat, 352, 0]
def k0_off1280 (v130 : BitVec 32) : Fin 4 → Nat :=
  let c1_399 : Index := 1#32
  let c7_i32 : BitVec 32 := 7#32
  let v131 : BitVec 32 := Scalar.shrui v130 c7_i32
  let v924 : Index := Scalar.indexCast v131
  let c352_400 : Index := 352#32
  let c0_401 : Index := 0#32
  ![1, v924.toNat, 352, 0]
def k0_off1281 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v941 : Index := Scalar.indexCast v66
  let c1_404 : Index := 1#32
  let c22_405 : Index := 22#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v942 : Index := Scalar.indexCast v159
  let c0_406 : Index := 0#32
  ![v941.toNat, 1, 22, v942.toNat, 0]
def k0_off1282 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v947 : Index := Scalar.indexCast v66
  let c1_407 : Index := 1#32
  let c23_408 : Index := 23#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v948 : Index := Scalar.indexCast v159
  let c0_409 : Index := 0#32
  ![v947.toNat, 1, 23, v948.toNat, 0]
def k0_off1283 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v952 : Index := Scalar.indexCast v65
  let c0_410 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v953 : Index := Scalar.indexCast arg20
  let c384 : Index := 384#32
  let c0_411 : Index := 0#32
  ![v952.toNat, 0, v953.toNat, 384, 0]
def k0_off1284 (v130 : BitVec 32) : Fin 4 → Nat :=
  let c0_412 : Index := 0#32
  let c7_i32 : BitVec 32 := 7#32
  let v131 : BitVec 32 := Scalar.shrui v130 c7_i32
  let v957 : Index := Scalar.indexCast v131
  let c384_413 : Index := 384#32
  let c0_414 : Index := 0#32
  ![0, v957.toNat, 384, 0]
def k0_off1285 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v974 : Index := Scalar.indexCast v66
  let c0_417 : Index := 0#32
  let c24 : Index := 24#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v975 : Index := Scalar.indexCast v159
  let c0_418 : Index := 0#32
  ![v974.toNat, 0, 24, v975.toNat, 0]
def k0_off1286 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v980 : Index := Scalar.indexCast v66
  let c0_419 : Index := 0#32
  let c25 : Index := 25#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v981 : Index := Scalar.indexCast v159
  let c0_420 : Index := 0#32
  ![v980.toNat, 0, 25, v981.toNat, 0]
def k0_off1287 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v985 : Index := Scalar.indexCast v65
  let c1_421 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v986 : Index := Scalar.indexCast arg20
  let c384_422 : Index := 384#32
  let c0_423 : Index := 0#32
  ![v985.toNat, 1, v986.toNat, 384, 0]
def k0_off1288 (v130 : BitVec 32) : Fin 4 → Nat :=
  let c1_424 : Index := 1#32
  let c7_i32 : BitVec 32 := 7#32
  let v131 : BitVec 32 := Scalar.shrui v130 c7_i32
  let v990 : Index := Scalar.indexCast v131
  let c384_425 : Index := 384#32
  let c0_426 : Index := 0#32
  ![1, v990.toNat, 384, 0]
def k0_off1289 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1007 : Index := Scalar.indexCast v66
  let c1_429 : Index := 1#32
  let c24_430 : Index := 24#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1008 : Index := Scalar.indexCast v159
  let c0_431 : Index := 0#32
  ![v1007.toNat, 1, 24, v1008.toNat, 0]
def k0_off1290 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1013 : Index := Scalar.indexCast v66
  let c1_432 : Index := 1#32
  let c25_433 : Index := 25#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1014 : Index := Scalar.indexCast v159
  let c0_434 : Index := 0#32
  ![v1013.toNat, 1, 25, v1014.toNat, 0]
def k0_off1291 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1018 : Index := Scalar.indexCast v65
  let c0_435 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1019 : Index := Scalar.indexCast arg20
  let c416 : Index := 416#32
  let c0_436 : Index := 0#32
  ![v1018.toNat, 0, v1019.toNat, 416, 0]
def k0_off1292 (v130 : BitVec 32) : Fin 4 → Nat :=
  let c0_437 : Index := 0#32
  let c7_i32 : BitVec 32 := 7#32
  let v131 : BitVec 32 := Scalar.shrui v130 c7_i32
  let v1023 : Index := Scalar.indexCast v131
  let c416_438 : Index := 416#32
  let c0_439 : Index := 0#32
  ![0, v1023.toNat, 416, 0]
def k0_off1293 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1040 : Index := Scalar.indexCast v66
  let c0_442 : Index := 0#32
  let c26 : Index := 26#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1041 : Index := Scalar.indexCast v159
  let c0_443 : Index := 0#32
  ![v1040.toNat, 0, 26, v1041.toNat, 0]
def k0_off1294 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1046 : Index := Scalar.indexCast v66
  let c0_444 : Index := 0#32
  let c27 : Index := 27#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1047 : Index := Scalar.indexCast v159
  let c0_445 : Index := 0#32
  ![v1046.toNat, 0, 27, v1047.toNat, 0]
def k0_off1295 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1051 : Index := Scalar.indexCast v65
  let c1_446 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1052 : Index := Scalar.indexCast arg20
  let c416_447 : Index := 416#32
  let c0_448 : Index := 0#32
  ![v1051.toNat, 1, v1052.toNat, 416, 0]
def k0_off1296 (v130 : BitVec 32) : Fin 4 → Nat :=
  let c1_449 : Index := 1#32
  let c7_i32 : BitVec 32 := 7#32
  let v131 : BitVec 32 := Scalar.shrui v130 c7_i32
  let v1056 : Index := Scalar.indexCast v131
  let c416_450 : Index := 416#32
  let c0_451 : Index := 0#32
  ![1, v1056.toNat, 416, 0]
def k0_off1297 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1073 : Index := Scalar.indexCast v66
  let c1_454 : Index := 1#32
  let c26_455 : Index := 26#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1074 : Index := Scalar.indexCast v159
  let c0_456 : Index := 0#32
  ![v1073.toNat, 1, 26, v1074.toNat, 0]
def k0_off1298 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1079 : Index := Scalar.indexCast v66
  let c1_457 : Index := 1#32
  let c27_458 : Index := 27#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1080 : Index := Scalar.indexCast v159
  let c0_459 : Index := 0#32
  ![v1079.toNat, 1, 27, v1080.toNat, 0]
def k0_off1299 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1084 : Index := Scalar.indexCast v65
  let c0_460 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1085 : Index := Scalar.indexCast arg20
  let c448 : Index := 448#32
  let c0_461 : Index := 0#32
  ![v1084.toNat, 0, v1085.toNat, 448, 0]
def k0_off1300 (v130 : BitVec 32) : Fin 4 → Nat :=
  let c0_462 : Index := 0#32
  let c7_i32 : BitVec 32 := 7#32
  let v131 : BitVec 32 := Scalar.shrui v130 c7_i32
  let v1089 : Index := Scalar.indexCast v131
  let c448_463 : Index := 448#32
  let c0_464 : Index := 0#32
  ![0, v1089.toNat, 448, 0]
def k0_off1301 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1106 : Index := Scalar.indexCast v66
  let c0_467 : Index := 0#32
  let c28 : Index := 28#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1107 : Index := Scalar.indexCast v159
  let c0_468 : Index := 0#32
  ![v1106.toNat, 0, 28, v1107.toNat, 0]
def k0_off1302 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1112 : Index := Scalar.indexCast v66
  let c0_469 : Index := 0#32
  let c29 : Index := 29#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1113 : Index := Scalar.indexCast v159
  let c0_470 : Index := 0#32
  ![v1112.toNat, 0, 29, v1113.toNat, 0]
def k0_off1303 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1117 : Index := Scalar.indexCast v65
  let c1_471 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1118 : Index := Scalar.indexCast arg20
  let c448_472 : Index := 448#32
  let c0_473 : Index := 0#32
  ![v1117.toNat, 1, v1118.toNat, 448, 0]
def k0_off1304 (v130 : BitVec 32) : Fin 4 → Nat :=
  let c1_474 : Index := 1#32
  let c7_i32 : BitVec 32 := 7#32
  let v131 : BitVec 32 := Scalar.shrui v130 c7_i32
  let v1122 : Index := Scalar.indexCast v131
  let c448_475 : Index := 448#32
  let c0_476 : Index := 0#32
  ![1, v1122.toNat, 448, 0]
def k0_off1305 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1139 : Index := Scalar.indexCast v66
  let c1_479 : Index := 1#32
  let c28_480 : Index := 28#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1140 : Index := Scalar.indexCast v159
  let c0_481 : Index := 0#32
  ![v1139.toNat, 1, 28, v1140.toNat, 0]
def k0_off1306 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1145 : Index := Scalar.indexCast v66
  let c1_482 : Index := 1#32
  let c29_483 : Index := 29#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1146 : Index := Scalar.indexCast v159
  let c0_484 : Index := 0#32
  ![v1145.toNat, 1, 29, v1146.toNat, 0]
def k0_off1307 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1150 : Index := Scalar.indexCast v65
  let c0_485 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1151 : Index := Scalar.indexCast arg20
  let c480 : Index := 480#32
  let c0_486 : Index := 0#32
  ![v1150.toNat, 0, v1151.toNat, 480, 0]
def k0_off1308 (v130 : BitVec 32) : Fin 4 → Nat :=
  let c0_487 : Index := 0#32
  let c7_i32 : BitVec 32 := 7#32
  let v131 : BitVec 32 := Scalar.shrui v130 c7_i32
  let v1155 : Index := Scalar.indexCast v131
  let c480_488 : Index := 480#32
  let c0_489 : Index := 0#32
  ![0, v1155.toNat, 480, 0]
def k0_off1309 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1172 : Index := Scalar.indexCast v66
  let c0_492 : Index := 0#32
  let c30 : Index := 30#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1173 : Index := Scalar.indexCast v159
  let c0_493 : Index := 0#32
  ![v1172.toNat, 0, 30, v1173.toNat, 0]
def k0_off1310 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1178 : Index := Scalar.indexCast v66
  let c0_494 : Index := 0#32
  let c31 : Index := 31#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1179 : Index := Scalar.indexCast v159
  let c0_495 : Index := 0#32
  ![v1178.toNat, 0, 31, v1179.toNat, 0]
def k0_off1311 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1183 : Index := Scalar.indexCast v65
  let c1_496 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1184 : Index := Scalar.indexCast arg20
  let c480_497 : Index := 480#32
  let c0_498 : Index := 0#32
  ![v1183.toNat, 1, v1184.toNat, 480, 0]
def k0_off1312 (v130 : BitVec 32) : Fin 4 → Nat :=
  let c1_499 : Index := 1#32
  let c7_i32 : BitVec 32 := 7#32
  let v131 : BitVec 32 := Scalar.shrui v130 c7_i32
  let v1188 : Index := Scalar.indexCast v131
  let c480_500 : Index := 480#32
  let c0_501 : Index := 0#32
  ![1, v1188.toNat, 480, 0]
def k0_off1313 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1205 : Index := Scalar.indexCast v66
  let c1_504 : Index := 1#32
  let c30_505 : Index := 30#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1206 : Index := Scalar.indexCast v159
  let c0_506 : Index := 0#32
  ![v1205.toNat, 1, 30, v1206.toNat, 0]
def k0_off1314 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1211 : Index := Scalar.indexCast v66
  let c1_507 : Index := 1#32
  let c31_508 : Index := 31#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1212 : Index := Scalar.indexCast v159
  let c0_509 : Index := 0#32
  ![v1211.toNat, 1, 31, v1212.toNat, 0]
def k0_off1315 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1216 : Index := Scalar.indexCast v65
  let c0_510 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1217 : Index := Scalar.indexCast arg20
  let c512 : Index := 512#32
  let c0_511 : Index := 0#32
  ![v1216.toNat, 0, v1217.toNat, 512, 0]
def k0_off1316 (v130 : BitVec 32) : Fin 4 → Nat :=
  let c0_512 : Index := 0#32
  let c7_i32 : BitVec 32 := 7#32
  let v131 : BitVec 32 := Scalar.shrui v130 c7_i32
  let v1221 : Index := Scalar.indexCast v131
  let c512_513 : Index := 512#32
  let c0_514 : Index := 0#32
  ![0, v1221.toNat, 512, 0]
def k0_off1317 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1238 : Index := Scalar.indexCast v66
  let c0_517 : Index := 0#32
  let c32_518 : Index := 32#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1239 : Index := Scalar.indexCast v159
  let c0_519 : Index := 0#32
  ![v1238.toNat, 0, 32, v1239.toNat, 0]
def k0_off1318 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1244 : Index := Scalar.indexCast v66
  let c0_520 : Index := 0#32
  let c33 : Index := 33#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1245 : Index := Scalar.indexCast v159
  let c0_521 : Index := 0#32
  ![v1244.toNat, 0, 33, v1245.toNat, 0]
def k0_off1319 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1249 : Index := Scalar.indexCast v65
  let c1_522 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1250 : Index := Scalar.indexCast arg20
  let c512_523 : Index := 512#32
  let c0_524 : Index := 0#32
  ![v1249.toNat, 1, v1250.toNat, 512, 0]
def k0_off1320 (v130 : BitVec 32) : Fin 4 → Nat :=
  let c1_525 : Index := 1#32
  let c7_i32 : BitVec 32 := 7#32
  let v131 : BitVec 32 := Scalar.shrui v130 c7_i32
  let v1254 : Index := Scalar.indexCast v131
  let c512_526 : Index := 512#32
  let c0_527 : Index := 0#32
  ![1, v1254.toNat, 512, 0]
def k0_off1321 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1271 : Index := Scalar.indexCast v66
  let c1_530 : Index := 1#32
  let c32_531 : Index := 32#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1272 : Index := Scalar.indexCast v159
  let c0_532 : Index := 0#32
  ![v1271.toNat, 1, 32, v1272.toNat, 0]
def k0_off1322 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1277 : Index := Scalar.indexCast v66
  let c1_533 : Index := 1#32
  let c33_534 : Index := 33#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1278 : Index := Scalar.indexCast v159
  let c0_535 : Index := 0#32
  ![v1277.toNat, 1, 33, v1278.toNat, 0]
def k0_off1323 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1282 : Index := Scalar.indexCast v65
  let c0_536 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1283 : Index := Scalar.indexCast arg20
  let c544 : Index := 544#32
  let c0_537 : Index := 0#32
  ![v1282.toNat, 0, v1283.toNat, 544, 0]
def k0_off1324 (v130 : BitVec 32) : Fin 4 → Nat :=
  let c0_538 : Index := 0#32
  let c7_i32 : BitVec 32 := 7#32
  let v131 : BitVec 32 := Scalar.shrui v130 c7_i32
  let v1287 : Index := Scalar.indexCast v131
  let c544_539 : Index := 544#32
  let c0_540 : Index := 0#32
  ![0, v1287.toNat, 544, 0]
def k0_off1325 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1304 : Index := Scalar.indexCast v66
  let c0_543 : Index := 0#32
  let c34 : Index := 34#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1305 : Index := Scalar.indexCast v159
  let c0_544 : Index := 0#32
  ![v1304.toNat, 0, 34, v1305.toNat, 0]
def k0_off1326 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1310 : Index := Scalar.indexCast v66
  let c0_545 : Index := 0#32
  let c35 : Index := 35#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1311 : Index := Scalar.indexCast v159
  let c0_546 : Index := 0#32
  ![v1310.toNat, 0, 35, v1311.toNat, 0]
def k0_off1327 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1315 : Index := Scalar.indexCast v65
  let c1_547 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1316 : Index := Scalar.indexCast arg20
  let c544_548 : Index := 544#32
  let c0_549 : Index := 0#32
  ![v1315.toNat, 1, v1316.toNat, 544, 0]
def k0_off1328 (v130 : BitVec 32) : Fin 4 → Nat :=
  let c1_550 : Index := 1#32
  let c7_i32 : BitVec 32 := 7#32
  let v131 : BitVec 32 := Scalar.shrui v130 c7_i32
  let v1320 : Index := Scalar.indexCast v131
  let c544_551 : Index := 544#32
  let c0_552 : Index := 0#32
  ![1, v1320.toNat, 544, 0]
def k0_off1329 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1337 : Index := Scalar.indexCast v66
  let c1_555 : Index := 1#32
  let c34_556 : Index := 34#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1338 : Index := Scalar.indexCast v159
  let c0_557 : Index := 0#32
  ![v1337.toNat, 1, 34, v1338.toNat, 0]
def k0_off1330 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1343 : Index := Scalar.indexCast v66
  let c1_558 : Index := 1#32
  let c35_559 : Index := 35#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1344 : Index := Scalar.indexCast v159
  let c0_560 : Index := 0#32
  ![v1343.toNat, 1, 35, v1344.toNat, 0]
def k0_off1331 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1348 : Index := Scalar.indexCast v65
  let c0_561 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1349 : Index := Scalar.indexCast arg20
  let c576 : Index := 576#32
  let c0_562 : Index := 0#32
  ![v1348.toNat, 0, v1349.toNat, 576, 0]
def k0_off1332 (v130 : BitVec 32) : Fin 4 → Nat :=
  let c0_563 : Index := 0#32
  let c7_i32 : BitVec 32 := 7#32
  let v131 : BitVec 32 := Scalar.shrui v130 c7_i32
  let v1353 : Index := Scalar.indexCast v131
  let c576_564 : Index := 576#32
  let c0_565 : Index := 0#32
  ![0, v1353.toNat, 576, 0]
def k0_off1333 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1370 : Index := Scalar.indexCast v66
  let c0_568 : Index := 0#32
  let c36 : Index := 36#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1371 : Index := Scalar.indexCast v159
  let c0_569 : Index := 0#32
  ![v1370.toNat, 0, 36, v1371.toNat, 0]
def k0_off1334 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1376 : Index := Scalar.indexCast v66
  let c0_570 : Index := 0#32
  let c37 : Index := 37#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1377 : Index := Scalar.indexCast v159
  let c0_571 : Index := 0#32
  ![v1376.toNat, 0, 37, v1377.toNat, 0]
def k0_off1335 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1381 : Index := Scalar.indexCast v65
  let c1_572 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1382 : Index := Scalar.indexCast arg20
  let c576_573 : Index := 576#32
  let c0_574 : Index := 0#32
  ![v1381.toNat, 1, v1382.toNat, 576, 0]
def k0_off1336 (v130 : BitVec 32) : Fin 4 → Nat :=
  let c1_575 : Index := 1#32
  let c7_i32 : BitVec 32 := 7#32
  let v131 : BitVec 32 := Scalar.shrui v130 c7_i32
  let v1386 : Index := Scalar.indexCast v131
  let c576_576 : Index := 576#32
  let c0_577 : Index := 0#32
  ![1, v1386.toNat, 576, 0]
def k0_off1337 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1403 : Index := Scalar.indexCast v66
  let c1_580 : Index := 1#32
  let c36_581 : Index := 36#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1404 : Index := Scalar.indexCast v159
  let c0_582 : Index := 0#32
  ![v1403.toNat, 1, 36, v1404.toNat, 0]
def k0_off1338 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1409 : Index := Scalar.indexCast v66
  let c1_583 : Index := 1#32
  let c37_584 : Index := 37#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1410 : Index := Scalar.indexCast v159
  let c0_585 : Index := 0#32
  ![v1409.toNat, 1, 37, v1410.toNat, 0]
def k0_off1339 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1414 : Index := Scalar.indexCast v65
  let c0_586 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1415 : Index := Scalar.indexCast arg20
  let c608 : Index := 608#32
  let c0_587 : Index := 0#32
  ![v1414.toNat, 0, v1415.toNat, 608, 0]
def k0_off1340 (v130 : BitVec 32) : Fin 4 → Nat :=
  let c0_588 : Index := 0#32
  let c7_i32 : BitVec 32 := 7#32
  let v131 : BitVec 32 := Scalar.shrui v130 c7_i32
  let v1419 : Index := Scalar.indexCast v131
  let c608_589 : Index := 608#32
  let c0_590 : Index := 0#32
  ![0, v1419.toNat, 608, 0]
def k0_off1341 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1436 : Index := Scalar.indexCast v66
  let c0_593 : Index := 0#32
  let c38 : Index := 38#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1437 : Index := Scalar.indexCast v159
  let c0_594 : Index := 0#32
  ![v1436.toNat, 0, 38, v1437.toNat, 0]
def k0_off1342 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1442 : Index := Scalar.indexCast v66
  let c0_595 : Index := 0#32
  let c39 : Index := 39#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1443 : Index := Scalar.indexCast v159
  let c0_596 : Index := 0#32
  ![v1442.toNat, 0, 39, v1443.toNat, 0]
def k0_off1343 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1447 : Index := Scalar.indexCast v65
  let c1_597 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1448 : Index := Scalar.indexCast arg20
  let c608_598 : Index := 608#32
  let c0_599 : Index := 0#32
  ![v1447.toNat, 1, v1448.toNat, 608, 0]
def k0_off1344 (v130 : BitVec 32) : Fin 4 → Nat :=
  let c1_600 : Index := 1#32
  let c7_i32 : BitVec 32 := 7#32
  let v131 : BitVec 32 := Scalar.shrui v130 c7_i32
  let v1452 : Index := Scalar.indexCast v131
  let c608_601 : Index := 608#32
  let c0_602 : Index := 0#32
  ![1, v1452.toNat, 608, 0]
def k0_off1345 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1469 : Index := Scalar.indexCast v66
  let c1_605 : Index := 1#32
  let c38_606 : Index := 38#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1470 : Index := Scalar.indexCast v159
  let c0_607 : Index := 0#32
  ![v1469.toNat, 1, 38, v1470.toNat, 0]
def k0_off1346 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1475 : Index := Scalar.indexCast v66
  let c1_608 : Index := 1#32
  let c39_609 : Index := 39#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1476 : Index := Scalar.indexCast v159
  let c0_610 : Index := 0#32
  ![v1475.toNat, 1, 39, v1476.toNat, 0]
def k0_off1347 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1480 : Index := Scalar.indexCast v65
  let c0_611 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1481 : Index := Scalar.indexCast arg20
  let c640 : Index := 640#32
  let c0_612 : Index := 0#32
  ![v1480.toNat, 0, v1481.toNat, 640, 0]
def k0_off1348 (v130 : BitVec 32) : Fin 4 → Nat :=
  let c0_613 : Index := 0#32
  let c7_i32 : BitVec 32 := 7#32
  let v131 : BitVec 32 := Scalar.shrui v130 c7_i32
  let v1485 : Index := Scalar.indexCast v131
  let c640_614 : Index := 640#32
  let c0_615 : Index := 0#32
  ![0, v1485.toNat, 640, 0]
def k0_off1349 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1502 : Index := Scalar.indexCast v66
  let c0_618 : Index := 0#32
  let c40 : Index := 40#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1503 : Index := Scalar.indexCast v159
  let c0_619 : Index := 0#32
  ![v1502.toNat, 0, 40, v1503.toNat, 0]
def k0_off1350 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1508 : Index := Scalar.indexCast v66
  let c0_620 : Index := 0#32
  let c41 : Index := 41#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1509 : Index := Scalar.indexCast v159
  let c0_621 : Index := 0#32
  ![v1508.toNat, 0, 41, v1509.toNat, 0]
def k0_off1351 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1513 : Index := Scalar.indexCast v65
  let c1_622 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1514 : Index := Scalar.indexCast arg20
  let c640_623 : Index := 640#32
  let c0_624 : Index := 0#32
  ![v1513.toNat, 1, v1514.toNat, 640, 0]
def k0_off1352 (v130 : BitVec 32) : Fin 4 → Nat :=
  let c1_625 : Index := 1#32
  let c7_i32 : BitVec 32 := 7#32
  let v131 : BitVec 32 := Scalar.shrui v130 c7_i32
  let v1518 : Index := Scalar.indexCast v131
  let c640_626 : Index := 640#32
  let c0_627 : Index := 0#32
  ![1, v1518.toNat, 640, 0]
def k0_off1353 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1535 : Index := Scalar.indexCast v66
  let c1_630 : Index := 1#32
  let c40_631 : Index := 40#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1536 : Index := Scalar.indexCast v159
  let c0_632 : Index := 0#32
  ![v1535.toNat, 1, 40, v1536.toNat, 0]
def k0_off1354 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1541 : Index := Scalar.indexCast v66
  let c1_633 : Index := 1#32
  let c41_634 : Index := 41#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1542 : Index := Scalar.indexCast v159
  let c0_635 : Index := 0#32
  ![v1541.toNat, 1, 41, v1542.toNat, 0]
def k0_off1355 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1546 : Index := Scalar.indexCast v65
  let c0_636 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1547 : Index := Scalar.indexCast arg20
  let c672 : Index := 672#32
  let c0_637 : Index := 0#32
  ![v1546.toNat, 0, v1547.toNat, 672, 0]
def k0_off1356 (v130 : BitVec 32) : Fin 4 → Nat :=
  let c0_638 : Index := 0#32
  let c7_i32 : BitVec 32 := 7#32
  let v131 : BitVec 32 := Scalar.shrui v130 c7_i32
  let v1551 : Index := Scalar.indexCast v131
  let c672_639 : Index := 672#32
  let c0_640 : Index := 0#32
  ![0, v1551.toNat, 672, 0]
def k0_off1357 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1568 : Index := Scalar.indexCast v66
  let c0_643 : Index := 0#32
  let c42 : Index := 42#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1569 : Index := Scalar.indexCast v159
  let c0_644 : Index := 0#32
  ![v1568.toNat, 0, 42, v1569.toNat, 0]
def k0_off1358 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1574 : Index := Scalar.indexCast v66
  let c0_645 : Index := 0#32
  let c43 : Index := 43#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1575 : Index := Scalar.indexCast v159
  let c0_646 : Index := 0#32
  ![v1574.toNat, 0, 43, v1575.toNat, 0]
def k0_off1359 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1579 : Index := Scalar.indexCast v65
  let c1_647 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1580 : Index := Scalar.indexCast arg20
  let c672_648 : Index := 672#32
  let c0_649 : Index := 0#32
  ![v1579.toNat, 1, v1580.toNat, 672, 0]
def k0_off1360 (v130 : BitVec 32) : Fin 4 → Nat :=
  let c1_650 : Index := 1#32
  let c7_i32 : BitVec 32 := 7#32
  let v131 : BitVec 32 := Scalar.shrui v130 c7_i32
  let v1584 : Index := Scalar.indexCast v131
  let c672_651 : Index := 672#32
  let c0_652 : Index := 0#32
  ![1, v1584.toNat, 672, 0]
def k0_off1361 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1601 : Index := Scalar.indexCast v66
  let c1_655 : Index := 1#32
  let c42_656 : Index := 42#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1602 : Index := Scalar.indexCast v159
  let c0_657 : Index := 0#32
  ![v1601.toNat, 1, 42, v1602.toNat, 0]
def k0_off1362 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1607 : Index := Scalar.indexCast v66
  let c1_658 : Index := 1#32
  let c43_659 : Index := 43#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1608 : Index := Scalar.indexCast v159
  let c0_660 : Index := 0#32
  ![v1607.toNat, 1, 43, v1608.toNat, 0]
def k0_off1363 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1612 : Index := Scalar.indexCast v65
  let c0_661 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1613 : Index := Scalar.indexCast arg20
  let c704 : Index := 704#32
  let c0_662 : Index := 0#32
  ![v1612.toNat, 0, v1613.toNat, 704, 0]
def k0_off1364 (v130 : BitVec 32) : Fin 4 → Nat :=
  let c0_663 : Index := 0#32
  let c7_i32 : BitVec 32 := 7#32
  let v131 : BitVec 32 := Scalar.shrui v130 c7_i32
  let v1617 : Index := Scalar.indexCast v131
  let c704_664 : Index := 704#32
  let c0_665 : Index := 0#32
  ![0, v1617.toNat, 704, 0]
def k0_off1365 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1634 : Index := Scalar.indexCast v66
  let c0_668 : Index := 0#32
  let c44 : Index := 44#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1635 : Index := Scalar.indexCast v159
  let c0_669 : Index := 0#32
  ![v1634.toNat, 0, 44, v1635.toNat, 0]
def k0_off1366 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1640 : Index := Scalar.indexCast v66
  let c0_670 : Index := 0#32
  let c45 : Index := 45#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1641 : Index := Scalar.indexCast v159
  let c0_671 : Index := 0#32
  ![v1640.toNat, 0, 45, v1641.toNat, 0]
def k0_off1367 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1645 : Index := Scalar.indexCast v65
  let c1_672 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1646 : Index := Scalar.indexCast arg20
  let c704_673 : Index := 704#32
  let c0_674 : Index := 0#32
  ![v1645.toNat, 1, v1646.toNat, 704, 0]
def k0_off1368 (v130 : BitVec 32) : Fin 4 → Nat :=
  let c1_675 : Index := 1#32
  let c7_i32 : BitVec 32 := 7#32
  let v131 : BitVec 32 := Scalar.shrui v130 c7_i32
  let v1650 : Index := Scalar.indexCast v131
  let c704_676 : Index := 704#32
  let c0_677 : Index := 0#32
  ![1, v1650.toNat, 704, 0]
def k0_off1369 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1667 : Index := Scalar.indexCast v66
  let c1_680 : Index := 1#32
  let c44_681 : Index := 44#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1668 : Index := Scalar.indexCast v159
  let c0_682 : Index := 0#32
  ![v1667.toNat, 1, 44, v1668.toNat, 0]
def k0_off1370 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1673 : Index := Scalar.indexCast v66
  let c1_683 : Index := 1#32
  let c45_684 : Index := 45#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1674 : Index := Scalar.indexCast v159
  let c0_685 : Index := 0#32
  ![v1673.toNat, 1, 45, v1674.toNat, 0]
def k0_off1371 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1678 : Index := Scalar.indexCast v65
  let c0_686 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1679 : Index := Scalar.indexCast arg20
  let c736 : Index := 736#32
  let c0_687 : Index := 0#32
  ![v1678.toNat, 0, v1679.toNat, 736, 0]
def k0_off1372 (v130 : BitVec 32) : Fin 4 → Nat :=
  let c0_688 : Index := 0#32
  let c7_i32 : BitVec 32 := 7#32
  let v131 : BitVec 32 := Scalar.shrui v130 c7_i32
  let v1683 : Index := Scalar.indexCast v131
  let c736_689 : Index := 736#32
  let c0_690 : Index := 0#32
  ![0, v1683.toNat, 736, 0]
def k0_off1373 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1700 : Index := Scalar.indexCast v66
  let c0_693 : Index := 0#32
  let c46 : Index := 46#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1701 : Index := Scalar.indexCast v159
  let c0_694 : Index := 0#32
  ![v1700.toNat, 0, 46, v1701.toNat, 0]
def k0_off1374 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1706 : Index := Scalar.indexCast v66
  let c0_695 : Index := 0#32
  let c47 : Index := 47#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1707 : Index := Scalar.indexCast v159
  let c0_696 : Index := 0#32
  ![v1706.toNat, 0, 47, v1707.toNat, 0]
def k0_off1375 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1711 : Index := Scalar.indexCast v65
  let c1_697 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1712 : Index := Scalar.indexCast arg20
  let c736_698 : Index := 736#32
  let c0_699 : Index := 0#32
  ![v1711.toNat, 1, v1712.toNat, 736, 0]
def k0_off1376 (v130 : BitVec 32) : Fin 4 → Nat :=
  let c1_700 : Index := 1#32
  let c7_i32 : BitVec 32 := 7#32
  let v131 : BitVec 32 := Scalar.shrui v130 c7_i32
  let v1716 : Index := Scalar.indexCast v131
  let c736_701 : Index := 736#32
  let c0_702 : Index := 0#32
  ![1, v1716.toNat, 736, 0]
def k0_off1377 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1733 : Index := Scalar.indexCast v66
  let c1_705 : Index := 1#32
  let c46_706 : Index := 46#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1734 : Index := Scalar.indexCast v159
  let c0_707 : Index := 0#32
  ![v1733.toNat, 1, 46, v1734.toNat, 0]
def k0_off1378 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1739 : Index := Scalar.indexCast v66
  let c1_708 : Index := 1#32
  let c47_709 : Index := 47#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1740 : Index := Scalar.indexCast v159
  let c0_710 : Index := 0#32
  ![v1739.toNat, 1, 47, v1740.toNat, 0]
def k0_off1379 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1744 : Index := Scalar.indexCast v65
  let c0_711 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1745 : Index := Scalar.indexCast arg20
  let c768 : Index := 768#32
  let c0_712 : Index := 0#32
  ![v1744.toNat, 0, v1745.toNat, 768, 0]
def k0_off1380 (v130 : BitVec 32) : Fin 4 → Nat :=
  let c0_713 : Index := 0#32
  let c7_i32 : BitVec 32 := 7#32
  let v131 : BitVec 32 := Scalar.shrui v130 c7_i32
  let v1749 : Index := Scalar.indexCast v131
  let c768_714 : Index := 768#32
  let c0_715 : Index := 0#32
  ![0, v1749.toNat, 768, 0]
def k0_off1381 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1766 : Index := Scalar.indexCast v66
  let c0_718 : Index := 0#32
  let c48 : Index := 48#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1767 : Index := Scalar.indexCast v159
  let c0_719 : Index := 0#32
  ![v1766.toNat, 0, 48, v1767.toNat, 0]
def k0_off1382 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1772 : Index := Scalar.indexCast v66
  let c0_720 : Index := 0#32
  let c49 : Index := 49#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1773 : Index := Scalar.indexCast v159
  let c0_721 : Index := 0#32
  ![v1772.toNat, 0, 49, v1773.toNat, 0]
def k0_off1383 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1777 : Index := Scalar.indexCast v65
  let c1_722 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1778 : Index := Scalar.indexCast arg20
  let c768_723 : Index := 768#32
  let c0_724 : Index := 0#32
  ![v1777.toNat, 1, v1778.toNat, 768, 0]
def k0_off1384 (v130 : BitVec 32) : Fin 4 → Nat :=
  let c1_725 : Index := 1#32
  let c7_i32 : BitVec 32 := 7#32
  let v131 : BitVec 32 := Scalar.shrui v130 c7_i32
  let v1782 : Index := Scalar.indexCast v131
  let c768_726 : Index := 768#32
  let c0_727 : Index := 0#32
  ![1, v1782.toNat, 768, 0]
def k0_off1385 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1799 : Index := Scalar.indexCast v66
  let c1_730 : Index := 1#32
  let c48_731 : Index := 48#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1800 : Index := Scalar.indexCast v159
  let c0_732 : Index := 0#32
  ![v1799.toNat, 1, 48, v1800.toNat, 0]
def k0_off1386 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1805 : Index := Scalar.indexCast v66
  let c1_733 : Index := 1#32
  let c49_734 : Index := 49#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1806 : Index := Scalar.indexCast v159
  let c0_735 : Index := 0#32
  ![v1805.toNat, 1, 49, v1806.toNat, 0]
def k0_off1387 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1810 : Index := Scalar.indexCast v65
  let c0_736 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1811 : Index := Scalar.indexCast arg20
  let c800 : Index := 800#32
  let c0_737 : Index := 0#32
  ![v1810.toNat, 0, v1811.toNat, 800, 0]
def k0_off1388 (v130 : BitVec 32) : Fin 4 → Nat :=
  let c0_738 : Index := 0#32
  let c7_i32 : BitVec 32 := 7#32
  let v131 : BitVec 32 := Scalar.shrui v130 c7_i32
  let v1815 : Index := Scalar.indexCast v131
  let c800_739 : Index := 800#32
  let c0_740 : Index := 0#32
  ![0, v1815.toNat, 800, 0]
def k0_off1389 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1832 : Index := Scalar.indexCast v66
  let c0_743 : Index := 0#32
  let c50 : Index := 50#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1833 : Index := Scalar.indexCast v159
  let c0_744 : Index := 0#32
  ![v1832.toNat, 0, 50, v1833.toNat, 0]
def k0_off1390 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1838 : Index := Scalar.indexCast v66
  let c0_745 : Index := 0#32
  let c51 : Index := 51#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1839 : Index := Scalar.indexCast v159
  let c0_746 : Index := 0#32
  ![v1838.toNat, 0, 51, v1839.toNat, 0]
def k0_off1391 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1843 : Index := Scalar.indexCast v65
  let c1_747 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1844 : Index := Scalar.indexCast arg20
  let c800_748 : Index := 800#32
  let c0_749 : Index := 0#32
  ![v1843.toNat, 1, v1844.toNat, 800, 0]
def k0_off1392 (v130 : BitVec 32) : Fin 4 → Nat :=
  let c1_750 : Index := 1#32
  let c7_i32 : BitVec 32 := 7#32
  let v131 : BitVec 32 := Scalar.shrui v130 c7_i32
  let v1848 : Index := Scalar.indexCast v131
  let c800_751 : Index := 800#32
  let c0_752 : Index := 0#32
  ![1, v1848.toNat, 800, 0]
def k0_off1393 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1865 : Index := Scalar.indexCast v66
  let c1_755 : Index := 1#32
  let c50_756 : Index := 50#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1866 : Index := Scalar.indexCast v159
  let c0_757 : Index := 0#32
  ![v1865.toNat, 1, 50, v1866.toNat, 0]
def k0_off1394 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1871 : Index := Scalar.indexCast v66
  let c1_758 : Index := 1#32
  let c51_759 : Index := 51#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1872 : Index := Scalar.indexCast v159
  let c0_760 : Index := 0#32
  ![v1871.toNat, 1, 51, v1872.toNat, 0]
def k0_off1395 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1876 : Index := Scalar.indexCast v65
  let c0_761 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1877 : Index := Scalar.indexCast arg20
  let c832 : Index := 832#32
  let c0_762 : Index := 0#32
  ![v1876.toNat, 0, v1877.toNat, 832, 0]
def k0_off1396 (v130 : BitVec 32) : Fin 4 → Nat :=
  let c0_763 : Index := 0#32
  let c7_i32 : BitVec 32 := 7#32
  let v131 : BitVec 32 := Scalar.shrui v130 c7_i32
  let v1881 : Index := Scalar.indexCast v131
  let c832_764 : Index := 832#32
  let c0_765 : Index := 0#32
  ![0, v1881.toNat, 832, 0]
def k0_off1397 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1898 : Index := Scalar.indexCast v66
  let c0_768 : Index := 0#32
  let c52 : Index := 52#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1899 : Index := Scalar.indexCast v159
  let c0_769 : Index := 0#32
  ![v1898.toNat, 0, 52, v1899.toNat, 0]
def k0_off1398 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1904 : Index := Scalar.indexCast v66
  let c0_770 : Index := 0#32
  let c53 : Index := 53#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1905 : Index := Scalar.indexCast v159
  let c0_771 : Index := 0#32
  ![v1904.toNat, 0, 53, v1905.toNat, 0]
def k0_off1399 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1909 : Index := Scalar.indexCast v65
  let c1_772 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1910 : Index := Scalar.indexCast arg20
  let c832_773 : Index := 832#32
  let c0_774 : Index := 0#32
  ![v1909.toNat, 1, v1910.toNat, 832, 0]
def k0_off1400 (v130 : BitVec 32) : Fin 4 → Nat :=
  let c1_775 : Index := 1#32
  let c7_i32 : BitVec 32 := 7#32
  let v131 : BitVec 32 := Scalar.shrui v130 c7_i32
  let v1914 : Index := Scalar.indexCast v131
  let c832_776 : Index := 832#32
  let c0_777 : Index := 0#32
  ![1, v1914.toNat, 832, 0]
def k0_off1401 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1931 : Index := Scalar.indexCast v66
  let c1_780 : Index := 1#32
  let c52_781 : Index := 52#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1932 : Index := Scalar.indexCast v159
  let c0_782 : Index := 0#32
  ![v1931.toNat, 1, 52, v1932.toNat, 0]
def k0_off1402 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1937 : Index := Scalar.indexCast v66
  let c1_783 : Index := 1#32
  let c53_784 : Index := 53#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1938 : Index := Scalar.indexCast v159
  let c0_785 : Index := 0#32
  ![v1937.toNat, 1, 53, v1938.toNat, 0]
def k0_off1403 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1942 : Index := Scalar.indexCast v65
  let c0_786 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1943 : Index := Scalar.indexCast arg20
  let c864 : Index := 864#32
  let c0_787 : Index := 0#32
  ![v1942.toNat, 0, v1943.toNat, 864, 0]
def k0_off1404 (v130 : BitVec 32) : Fin 4 → Nat :=
  let c0_788 : Index := 0#32
  let c7_i32 : BitVec 32 := 7#32
  let v131 : BitVec 32 := Scalar.shrui v130 c7_i32
  let v1947 : Index := Scalar.indexCast v131
  let c864_789 : Index := 864#32
  let c0_790 : Index := 0#32
  ![0, v1947.toNat, 864, 0]
def k0_off1405 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1964 : Index := Scalar.indexCast v66
  let c0_793 : Index := 0#32
  let c54 : Index := 54#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1965 : Index := Scalar.indexCast v159
  let c0_794 : Index := 0#32
  ![v1964.toNat, 0, 54, v1965.toNat, 0]
def k0_off1406 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1970 : Index := Scalar.indexCast v66
  let c0_795 : Index := 0#32
  let c55 : Index := 55#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1971 : Index := Scalar.indexCast v159
  let c0_796 : Index := 0#32
  ![v1970.toNat, 0, 55, v1971.toNat, 0]
def k0_off1407 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v1975 : Index := Scalar.indexCast v65
  let c1_797 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v1976 : Index := Scalar.indexCast arg20
  let c864_798 : Index := 864#32
  let c0_799 : Index := 0#32
  ![v1975.toNat, 1, v1976.toNat, 864, 0]
def k0_off1408 (v130 : BitVec 32) : Fin 4 → Nat :=
  let c1_800 : Index := 1#32
  let c7_i32 : BitVec 32 := 7#32
  let v131 : BitVec 32 := Scalar.shrui v130 c7_i32
  let v1980 : Index := Scalar.indexCast v131
  let c864_801 : Index := 864#32
  let c0_802 : Index := 0#32
  ![1, v1980.toNat, 864, 0]
def k0_off1409 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v1997 : Index := Scalar.indexCast v66
  let c1_805 : Index := 1#32
  let c54_806 : Index := 54#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v1998 : Index := Scalar.indexCast v159
  let c0_807 : Index := 0#32
  ![v1997.toNat, 1, 54, v1998.toNat, 0]
def k0_off1410 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2003 : Index := Scalar.indexCast v66
  let c1_808 : Index := 1#32
  let c55_809 : Index := 55#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2004 : Index := Scalar.indexCast v159
  let c0_810 : Index := 0#32
  ![v2003.toNat, 1, 55, v2004.toNat, 0]
def k0_off1411 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2008 : Index := Scalar.indexCast v65
  let c0_811 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v2009 : Index := Scalar.indexCast arg20
  let c896 : Index := 896#32
  let c0_812 : Index := 0#32
  ![v2008.toNat, 0, v2009.toNat, 896, 0]
def k0_off1412 (v130 : BitVec 32) : Fin 4 → Nat :=
  let c0_813 : Index := 0#32
  let c7_i32 : BitVec 32 := 7#32
  let v131 : BitVec 32 := Scalar.shrui v130 c7_i32
  let v2013 : Index := Scalar.indexCast v131
  let c896_814 : Index := 896#32
  let c0_815 : Index := 0#32
  ![0, v2013.toNat, 896, 0]
def k0_off1413 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2030 : Index := Scalar.indexCast v66
  let c0_818 : Index := 0#32
  let c56 : Index := 56#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2031 : Index := Scalar.indexCast v159
  let c0_819 : Index := 0#32
  ![v2030.toNat, 0, 56, v2031.toNat, 0]
def k0_off1414 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2036 : Index := Scalar.indexCast v66
  let c0_820 : Index := 0#32
  let c57 : Index := 57#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2037 : Index := Scalar.indexCast v159
  let c0_821 : Index := 0#32
  ![v2036.toNat, 0, 57, v2037.toNat, 0]
def k0_off1415 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2041 : Index := Scalar.indexCast v65
  let c1_822 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v2042 : Index := Scalar.indexCast arg20
  let c896_823 : Index := 896#32
  let c0_824 : Index := 0#32
  ![v2041.toNat, 1, v2042.toNat, 896, 0]
def k0_off1416 (v130 : BitVec 32) : Fin 4 → Nat :=
  let c1_825 : Index := 1#32
  let c7_i32 : BitVec 32 := 7#32
  let v131 : BitVec 32 := Scalar.shrui v130 c7_i32
  let v2046 : Index := Scalar.indexCast v131
  let c896_826 : Index := 896#32
  let c0_827 : Index := 0#32
  ![1, v2046.toNat, 896, 0]
def k0_off1417 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2063 : Index := Scalar.indexCast v66
  let c1_830 : Index := 1#32
  let c56_831 : Index := 56#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2064 : Index := Scalar.indexCast v159
  let c0_832 : Index := 0#32
  ![v2063.toNat, 1, 56, v2064.toNat, 0]
def k0_off1418 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2069 : Index := Scalar.indexCast v66
  let c1_833 : Index := 1#32
  let c57_834 : Index := 57#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2070 : Index := Scalar.indexCast v159
  let c0_835 : Index := 0#32
  ![v2069.toNat, 1, 57, v2070.toNat, 0]
def k0_off1419 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2074 : Index := Scalar.indexCast v65
  let c0_836 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v2075 : Index := Scalar.indexCast arg20
  let c928 : Index := 928#32
  let c0_837 : Index := 0#32
  ![v2074.toNat, 0, v2075.toNat, 928, 0]
def k0_off1420 (v130 : BitVec 32) : Fin 4 → Nat :=
  let c0_838 : Index := 0#32
  let c7_i32 : BitVec 32 := 7#32
  let v131 : BitVec 32 := Scalar.shrui v130 c7_i32
  let v2079 : Index := Scalar.indexCast v131
  let c928_839 : Index := 928#32
  let c0_840 : Index := 0#32
  ![0, v2079.toNat, 928, 0]
def k0_off1421 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2096 : Index := Scalar.indexCast v66
  let c0_843 : Index := 0#32
  let c58 : Index := 58#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2097 : Index := Scalar.indexCast v159
  let c0_844 : Index := 0#32
  ![v2096.toNat, 0, 58, v2097.toNat, 0]
def k0_off1422 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2102 : Index := Scalar.indexCast v66
  let c0_845 : Index := 0#32
  let c59 : Index := 59#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2103 : Index := Scalar.indexCast v159
  let c0_846 : Index := 0#32
  ![v2102.toNat, 0, 59, v2103.toNat, 0]
def k0_off1423 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2107 : Index := Scalar.indexCast v65
  let c1_847 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v2108 : Index := Scalar.indexCast arg20
  let c928_848 : Index := 928#32
  let c0_849 : Index := 0#32
  ![v2107.toNat, 1, v2108.toNat, 928, 0]
def k0_off1424 (v130 : BitVec 32) : Fin 4 → Nat :=
  let c1_850 : Index := 1#32
  let c7_i32 : BitVec 32 := 7#32
  let v131 : BitVec 32 := Scalar.shrui v130 c7_i32
  let v2112 : Index := Scalar.indexCast v131
  let c928_851 : Index := 928#32
  let c0_852 : Index := 0#32
  ![1, v2112.toNat, 928, 0]
def k0_off1425 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2129 : Index := Scalar.indexCast v66
  let c1_855 : Index := 1#32
  let c58_856 : Index := 58#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2130 : Index := Scalar.indexCast v159
  let c0_857 : Index := 0#32
  ![v2129.toNat, 1, 58, v2130.toNat, 0]
def k0_off1426 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2135 : Index := Scalar.indexCast v66
  let c1_858 : Index := 1#32
  let c59_859 : Index := 59#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2136 : Index := Scalar.indexCast v159
  let c0_860 : Index := 0#32
  ![v2135.toNat, 1, 59, v2136.toNat, 0]
def k0_off1427 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2140 : Index := Scalar.indexCast v65
  let c0_861 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v2141 : Index := Scalar.indexCast arg20
  let c960 : Index := 960#32
  let c0_862 : Index := 0#32
  ![v2140.toNat, 0, v2141.toNat, 960, 0]
def k0_off1428 (v130 : BitVec 32) : Fin 4 → Nat :=
  let c0_863 : Index := 0#32
  let c7_i32 : BitVec 32 := 7#32
  let v131 : BitVec 32 := Scalar.shrui v130 c7_i32
  let v2145 : Index := Scalar.indexCast v131
  let c960_864 : Index := 960#32
  let c0_865 : Index := 0#32
  ![0, v2145.toNat, 960, 0]
def k0_off1429 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2162 : Index := Scalar.indexCast v66
  let c0_868 : Index := 0#32
  let c60 : Index := 60#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2163 : Index := Scalar.indexCast v159
  let c0_869 : Index := 0#32
  ![v2162.toNat, 0, 60, v2163.toNat, 0]
def k0_off1430 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2168 : Index := Scalar.indexCast v66
  let c0_870 : Index := 0#32
  let c61 : Index := 61#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2169 : Index := Scalar.indexCast v159
  let c0_871 : Index := 0#32
  ![v2168.toNat, 0, 61, v2169.toNat, 0]
def k0_off1431 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2173 : Index := Scalar.indexCast v65
  let c1_872 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v2174 : Index := Scalar.indexCast arg20
  let c960_873 : Index := 960#32
  let c0_874 : Index := 0#32
  ![v2173.toNat, 1, v2174.toNat, 960, 0]
def k0_off1432 (v130 : BitVec 32) : Fin 4 → Nat :=
  let c1_875 : Index := 1#32
  let c7_i32 : BitVec 32 := 7#32
  let v131 : BitVec 32 := Scalar.shrui v130 c7_i32
  let v2178 : Index := Scalar.indexCast v131
  let c960_876 : Index := 960#32
  let c0_877 : Index := 0#32
  ![1, v2178.toNat, 960, 0]
def k0_off1433 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2195 : Index := Scalar.indexCast v66
  let c1_880 : Index := 1#32
  let c60_881 : Index := 60#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2196 : Index := Scalar.indexCast v159
  let c0_882 : Index := 0#32
  ![v2195.toNat, 1, 60, v2196.toNat, 0]
def k0_off1434 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2201 : Index := Scalar.indexCast v66
  let c1_883 : Index := 1#32
  let c61_884 : Index := 61#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2202 : Index := Scalar.indexCast v159
  let c0_885 : Index := 0#32
  ![v2201.toNat, 1, 61, v2202.toNat, 0]
def k0_off1435 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2206 : Index := Scalar.indexCast v65
  let c0_886 : Index := 0#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v2207 : Index := Scalar.indexCast arg20
  let c992 : Index := 992#32
  let c0_887 : Index := 0#32
  ![v2206.toNat, 0, v2207.toNat, 992, 0]
def k0_off1436 (v130 : BitVec 32) : Fin 4 → Nat :=
  let c0_888 : Index := 0#32
  let c7_i32 : BitVec 32 := 7#32
  let v131 : BitVec 32 := Scalar.shrui v130 c7_i32
  let v2211 : Index := Scalar.indexCast v131
  let c992_889 : Index := 992#32
  let c0_890 : Index := 0#32
  ![0, v2211.toNat, 992, 0]
def k0_off1437 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2228 : Index := Scalar.indexCast v66
  let c0_893 : Index := 0#32
  let c62 : Index := 62#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2229 : Index := Scalar.indexCast v159
  let c0_894 : Index := 0#32
  ![v2228.toNat, 0, 62, v2229.toNat, 0]
def k0_off1438 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2234 : Index := Scalar.indexCast v66
  let c0_895 : Index := 0#32
  let c63 : Index := 63#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2235 : Index := Scalar.indexCast v159
  let c0_896 : Index := 0#32
  ![v2234.toNat, 0, 63, v2235.toNat, 0]
def k0_off1439 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_59 : BitVec 32 := 4#32
  let v65 : BitVec 32 := Scalar.remsi arg18 c4_i32_59
  let v2239 : Index := Scalar.indexCast v65
  let c1_897 : Index := 1#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let v2240 : Index := Scalar.indexCast arg20
  let c992_898 : Index := 992#32
  let c0_899 : Index := 0#32
  ![v2239.toNat, 1, v2240.toNat, 992, 0]
def k0_off1440 (v130 : BitVec 32) : Fin 4 → Nat :=
  let c1_900 : Index := 1#32
  let c7_i32 : BitVec 32 := 7#32
  let v131 : BitVec 32 := Scalar.shrui v130 c7_i32
  let v2244 : Index := Scalar.indexCast v131
  let c992_901 : Index := 992#32
  let c0_902 : Index := 0#32
  ![1, v2244.toNat, 992, 0]

def k0_chk34_0 (v130 : BitVec 32) : Prop :=
  (∀ a, (k0_off1188 v130) a + S1x1x32x128.size a ≤ S2x13x1024x128.size a) ∧
  (∀ a, (k0_off1192 v130) a + S1x1x32x128.size a ≤ S2x13x1024x128.size a) ∧
  (∀ a, (k0_off1196 v130) a + S1x1x32x128.size a ≤ S2x13x1024x128.size a) ∧
  (∀ a, (k0_off1200 v130) a + S1x1x32x128.size a ≤ S2x13x1024x128.size a) ∧
  (∀ a, (k0_off1204 v130) a + S1x1x32x128.size a ≤ S2x13x1024x128.size a) ∧
  (∀ a, (k0_off1208 v130) a + S1x1x32x128.size a ≤ S2x13x1024x128.size a) ∧
  (∀ a, (k0_off1212 v130) a + S1x1x32x128.size a ≤ S2x13x1024x128.size a) ∧
  (∀ a, (k0_off1216 v130) a + S1x1x32x128.size a ≤ S2x13x1024x128.size a) ∧
  (∀ a, (k0_off1220 v130) a + S1x1x32x128.size a ≤ S2x13x1024x128.size a) ∧
  (∀ a, (k0_off1224 v130) a + S1x1x32x128.size a ≤ S2x13x1024x128.size a) ∧
  (∀ a, (k0_off1228 v130) a + S1x1x32x128.size a ≤ S2x13x1024x128.size a) ∧
  (∀ a, (k0_off1232 v130) a + S1x1x32x128.size a ≤ S2x13x1024x128.size a) ∧
  (∀ a, (k0_off1236 v130) a + S1x1x32x128.size a ≤ S2x13x1024x128.size a) ∧
  (∀ a, (k0_off1240 v130) a + S1x1x32x128.size a ≤ S2x13x1024x128.size a) ∧
  (∀ a, (k0_off1244 v130) a + S1x1x32x128.size a ≤ S2x13x1024x128.size a) ∧
  (∀ a, (k0_off1248 v130) a + S1x1x32x128.size a ≤ S2x13x1024x128.size a) ∧
  (∀ a, (k0_off1252 v130) a + S1x1x32x128.size a ≤ S2x13x1024x128.size a) ∧
  (∀ a, (k0_off1256 v130) a + S1x1x32x128.size a ≤ S2x13x1024x128.size a) ∧
  (∀ a, (k0_off1260 v130) a + S1x1x32x128.size a ≤ S2x13x1024x128.size a) ∧
  (∀ a, (k0_off1264 v130) a + S1x1x32x128.size a ≤ S2x13x1024x128.size a) ∧
  (∀ a, (k0_off1268 v130) a + S1x1x32x128.size a ≤ S2x13x1024x128.size a) ∧
  (∀ a, (k0_off1272 v130) a + S1x1x32x128.size a ≤ S2x13x1024x128.size a) ∧
  (∀ a, (k0_off1276 v130) a + S1x1x32x128.size a ≤ S2x13x1024x128.size a) ∧
  (∀ a, (k0_off1280 v130) a + S1x1x32x128.size a ≤ S2x13x1024x128.size a) ∧
  (∀ a, (k0_off1284 v130) a + S1x1x32x128.size a ≤ S2x13x1024x128.size a) ∧
  (∀ a, (k0_off1288 v130) a + S1x1x32x128.size a ≤ S2x13x1024x128.size a) ∧
  (∀ a, (k0_off1292 v130) a + S1x1x32x128.size a ≤ S2x13x1024x128.size a) ∧
  (∀ a, (k0_off1296 v130) a + S1x1x32x128.size a ≤ S2x13x1024x128.size a) ∧
  (∀ a, (k0_off1300 v130) a + S1x1x32x128.size a ≤ S2x13x1024x128.size a) ∧
  (∀ a, (k0_off1304 v130) a + S1x1x32x128.size a ≤ S2x13x1024x128.size a) ∧
  (∀ a, (k0_off1308 v130) a + S1x1x32x128.size a ≤ S2x13x1024x128.size a) ∧
  (∀ a, (k0_off1312 v130) a + S1x1x32x128.size a ≤ S2x13x1024x128.size a)
def k0_chk34_1 (v130 : BitVec 32) : Prop :=
  (∀ a, (k0_off1316 v130) a + S1x1x32x128.size a ≤ S2x13x1024x128.size a) ∧
  (∀ a, (k0_off1320 v130) a + S1x1x32x128.size a ≤ S2x13x1024x128.size a) ∧
  (∀ a, (k0_off1324 v130) a + S1x1x32x128.size a ≤ S2x13x1024x128.size a) ∧
  (∀ a, (k0_off1328 v130) a + S1x1x32x128.size a ≤ S2x13x1024x128.size a) ∧
  (∀ a, (k0_off1332 v130) a + S1x1x32x128.size a ≤ S2x13x1024x128.size a) ∧
  (∀ a, (k0_off1336 v130) a + S1x1x32x128.size a ≤ S2x13x1024x128.size a) ∧
  (∀ a, (k0_off1340 v130) a + S1x1x32x128.size a ≤ S2x13x1024x128.size a) ∧
  (∀ a, (k0_off1344 v130) a + S1x1x32x128.size a ≤ S2x13x1024x128.size a) ∧
  (∀ a, (k0_off1348 v130) a + S1x1x32x128.size a ≤ S2x13x1024x128.size a) ∧
  (∀ a, (k0_off1352 v130) a + S1x1x32x128.size a ≤ S2x13x1024x128.size a) ∧
  (∀ a, (k0_off1356 v130) a + S1x1x32x128.size a ≤ S2x13x1024x128.size a) ∧
  (∀ a, (k0_off1360 v130) a + S1x1x32x128.size a ≤ S2x13x1024x128.size a) ∧
  (∀ a, (k0_off1364 v130) a + S1x1x32x128.size a ≤ S2x13x1024x128.size a) ∧
  (∀ a, (k0_off1368 v130) a + S1x1x32x128.size a ≤ S2x13x1024x128.size a) ∧
  (∀ a, (k0_off1372 v130) a + S1x1x32x128.size a ≤ S2x13x1024x128.size a) ∧
  (∀ a, (k0_off1376 v130) a + S1x1x32x128.size a ≤ S2x13x1024x128.size a) ∧
  (∀ a, (k0_off1380 v130) a + S1x1x32x128.size a ≤ S2x13x1024x128.size a) ∧
  (∀ a, (k0_off1384 v130) a + S1x1x32x128.size a ≤ S2x13x1024x128.size a) ∧
  (∀ a, (k0_off1388 v130) a + S1x1x32x128.size a ≤ S2x13x1024x128.size a) ∧
  (∀ a, (k0_off1392 v130) a + S1x1x32x128.size a ≤ S2x13x1024x128.size a) ∧
  (∀ a, (k0_off1396 v130) a + S1x1x32x128.size a ≤ S2x13x1024x128.size a) ∧
  (∀ a, (k0_off1400 v130) a + S1x1x32x128.size a ≤ S2x13x1024x128.size a) ∧
  (∀ a, (k0_off1404 v130) a + S1x1x32x128.size a ≤ S2x13x1024x128.size a) ∧
  (∀ a, (k0_off1408 v130) a + S1x1x32x128.size a ≤ S2x13x1024x128.size a) ∧
  (∀ a, (k0_off1412 v130) a + S1x1x32x128.size a ≤ S2x13x1024x128.size a) ∧
  (∀ a, (k0_off1416 v130) a + S1x1x32x128.size a ≤ S2x13x1024x128.size a) ∧
  (∀ a, (k0_off1420 v130) a + S1x1x32x128.size a ≤ S2x13x1024x128.size a) ∧
  (∀ a, (k0_off1424 v130) a + S1x1x32x128.size a ≤ S2x13x1024x128.size a) ∧
  (∀ a, (k0_off1428 v130) a + S1x1x32x128.size a ≤ S2x13x1024x128.size a) ∧
  (∀ a, (k0_off1432 v130) a + S1x1x32x128.size a ≤ S2x13x1024x128.size a) ∧
  (∀ a, (k0_off1436 v130) a + S1x1x32x128.size a ≤ S2x13x1024x128.size a) ∧
  (∀ a, (k0_off1440 v130) a + S1x1x32x128.size a ≤ S2x13x1024x128.size a)
def k0_chk34 (v130 : BitVec 32) : Prop :=
  k0_chk34_0 v130 ∧
  k0_chk34_1 v130
theorem k0_off1188_inb : ∀ (v130 : BitVec 32) (k0_hw34 : k0_chk34 v130), ∀ a, (k0_off1188 v130) a + S1x1x32x128.size a ≤ S2x13x1024x128.size a := fun v130 k0_hw34 => k0_hw34.1.1
theorem k0_off1192_inb : ∀ (v130 : BitVec 32) (k0_hw34 : k0_chk34 v130), ∀ a, (k0_off1192 v130) a + S1x1x32x128.size a ≤ S2x13x1024x128.size a := fun v130 k0_hw34 => k0_hw34.1.2.1
theorem k0_off1196_inb : ∀ (v130 : BitVec 32) (k0_hw34 : k0_chk34 v130), ∀ a, (k0_off1196 v130) a + S1x1x32x128.size a ≤ S2x13x1024x128.size a := fun v130 k0_hw34 => k0_hw34.1.2.2.1
theorem k0_off1200_inb : ∀ (v130 : BitVec 32) (k0_hw34 : k0_chk34 v130), ∀ a, (k0_off1200 v130) a + S1x1x32x128.size a ≤ S2x13x1024x128.size a := fun v130 k0_hw34 => k0_hw34.1.2.2.2.1
theorem k0_off1204_inb : ∀ (v130 : BitVec 32) (k0_hw34 : k0_chk34 v130), ∀ a, (k0_off1204 v130) a + S1x1x32x128.size a ≤ S2x13x1024x128.size a := fun v130 k0_hw34 => k0_hw34.1.2.2.2.2.1
theorem k0_off1208_inb : ∀ (v130 : BitVec 32) (k0_hw34 : k0_chk34 v130), ∀ a, (k0_off1208 v130) a + S1x1x32x128.size a ≤ S2x13x1024x128.size a := fun v130 k0_hw34 => k0_hw34.1.2.2.2.2.2.1
theorem k0_off1212_inb : ∀ (v130 : BitVec 32) (k0_hw34 : k0_chk34 v130), ∀ a, (k0_off1212 v130) a + S1x1x32x128.size a ≤ S2x13x1024x128.size a := fun v130 k0_hw34 => k0_hw34.1.2.2.2.2.2.2.1
theorem k0_off1216_inb : ∀ (v130 : BitVec 32) (k0_hw34 : k0_chk34 v130), ∀ a, (k0_off1216 v130) a + S1x1x32x128.size a ≤ S2x13x1024x128.size a := fun v130 k0_hw34 => k0_hw34.1.2.2.2.2.2.2.2.1
theorem k0_off1220_inb : ∀ (v130 : BitVec 32) (k0_hw34 : k0_chk34 v130), ∀ a, (k0_off1220 v130) a + S1x1x32x128.size a ≤ S2x13x1024x128.size a := fun v130 k0_hw34 => k0_hw34.1.2.2.2.2.2.2.2.2.1
theorem k0_off1224_inb : ∀ (v130 : BitVec 32) (k0_hw34 : k0_chk34 v130), ∀ a, (k0_off1224 v130) a + S1x1x32x128.size a ≤ S2x13x1024x128.size a := fun v130 k0_hw34 => k0_hw34.1.2.2.2.2.2.2.2.2.2.1
theorem k0_off1228_inb : ∀ (v130 : BitVec 32) (k0_hw34 : k0_chk34 v130), ∀ a, (k0_off1228 v130) a + S1x1x32x128.size a ≤ S2x13x1024x128.size a := fun v130 k0_hw34 => k0_hw34.1.2.2.2.2.2.2.2.2.2.2.1
theorem k0_off1232_inb : ∀ (v130 : BitVec 32) (k0_hw34 : k0_chk34 v130), ∀ a, (k0_off1232 v130) a + S1x1x32x128.size a ≤ S2x13x1024x128.size a := fun v130 k0_hw34 => k0_hw34.1.2.2.2.2.2.2.2.2.2.2.2.1
theorem k0_off1236_inb : ∀ (v130 : BitVec 32) (k0_hw34 : k0_chk34 v130), ∀ a, (k0_off1236 v130) a + S1x1x32x128.size a ≤ S2x13x1024x128.size a := fun v130 k0_hw34 => k0_hw34.1.2.2.2.2.2.2.2.2.2.2.2.2.1
theorem k0_off1240_inb : ∀ (v130 : BitVec 32) (k0_hw34 : k0_chk34 v130), ∀ a, (k0_off1240 v130) a + S1x1x32x128.size a ≤ S2x13x1024x128.size a := fun v130 k0_hw34 => k0_hw34.1.2.2.2.2.2.2.2.2.2.2.2.2.2.1
theorem k0_off1244_inb : ∀ (v130 : BitVec 32) (k0_hw34 : k0_chk34 v130), ∀ a, (k0_off1244 v130) a + S1x1x32x128.size a ≤ S2x13x1024x128.size a := fun v130 k0_hw34 => k0_hw34.1.2.2.2.2.2.2.2.2.2.2.2.2.2.2.1
theorem k0_off1248_inb : ∀ (v130 : BitVec 32) (k0_hw34 : k0_chk34 v130), ∀ a, (k0_off1248 v130) a + S1x1x32x128.size a ≤ S2x13x1024x128.size a := fun v130 k0_hw34 => k0_hw34.1.2.2.2.2.2.2.2.2.2.2.2.2.2.2.2.1
theorem k0_off1252_inb : ∀ (v130 : BitVec 32) (k0_hw34 : k0_chk34 v130), ∀ a, (k0_off1252 v130) a + S1x1x32x128.size a ≤ S2x13x1024x128.size a := fun v130 k0_hw34 => k0_hw34.1.2.2.2.2.2.2.2.2.2.2.2.2.2.2.2.2.1
theorem k0_off1256_inb : ∀ (v130 : BitVec 32) (k0_hw34 : k0_chk34 v130), ∀ a, (k0_off1256 v130) a + S1x1x32x128.size a ≤ S2x13x1024x128.size a := fun v130 k0_hw34 => k0_hw34.1.2.2.2.2.2.2.2.2.2.2.2.2.2.2.2.2.2.1
theorem k0_off1260_inb : ∀ (v130 : BitVec 32) (k0_hw34 : k0_chk34 v130), ∀ a, (k0_off1260 v130) a + S1x1x32x128.size a ≤ S2x13x1024x128.size a := fun v130 k0_hw34 => k0_hw34.1.2.2.2.2.2.2.2.2.2.2.2.2.2.2.2.2.2.2.1
theorem k0_off1264_inb : ∀ (v130 : BitVec 32) (k0_hw34 : k0_chk34 v130), ∀ a, (k0_off1264 v130) a + S1x1x32x128.size a ≤ S2x13x1024x128.size a := fun v130 k0_hw34 => k0_hw34.1.2.2.2.2.2.2.2.2.2.2.2.2.2.2.2.2.2.2.2.1
theorem k0_off1268_inb : ∀ (v130 : BitVec 32) (k0_hw34 : k0_chk34 v130), ∀ a, (k0_off1268 v130) a + S1x1x32x128.size a ≤ S2x13x1024x128.size a := fun v130 k0_hw34 => k0_hw34.1.2.2.2.2.2.2.2.2.2.2.2.2.2.2.2.2.2.2.2.2.1
theorem k0_off1272_inb : ∀ (v130 : BitVec 32) (k0_hw34 : k0_chk34 v130), ∀ a, (k0_off1272 v130) a + S1x1x32x128.size a ≤ S2x13x1024x128.size a := fun v130 k0_hw34 => k0_hw34.1.2.2.2.2.2.2.2.2.2.2.2.2.2.2.2.2.2.2.2.2.2.1
theorem k0_off1276_inb : ∀ (v130 : BitVec 32) (k0_hw34 : k0_chk34 v130), ∀ a, (k0_off1276 v130) a + S1x1x32x128.size a ≤ S2x13x1024x128.size a := fun v130 k0_hw34 => k0_hw34.1.2.2.2.2.2.2.2.2.2.2.2.2.2.2.2.2.2.2.2.2.2.2.1
theorem k0_off1280_inb : ∀ (v130 : BitVec 32) (k0_hw34 : k0_chk34 v130), ∀ a, (k0_off1280 v130) a + S1x1x32x128.size a ≤ S2x13x1024x128.size a := fun v130 k0_hw34 => k0_hw34.1.2.2.2.2.2.2.2.2.2.2.2.2.2.2.2.2.2.2.2.2.2.2.2.1
theorem k0_off1284_inb : ∀ (v130 : BitVec 32) (k0_hw34 : k0_chk34 v130), ∀ a, (k0_off1284 v130) a + S1x1x32x128.size a ≤ S2x13x1024x128.size a := fun v130 k0_hw34 => k0_hw34.1.2.2.2.2.2.2.2.2.2.2.2.2.2.2.2.2.2.2.2.2.2.2.2.2.1
theorem k0_off1288_inb : ∀ (v130 : BitVec 32) (k0_hw34 : k0_chk34 v130), ∀ a, (k0_off1288 v130) a + S1x1x32x128.size a ≤ S2x13x1024x128.size a := fun v130 k0_hw34 => k0_hw34.1.2.2.2.2.2.2.2.2.2.2.2.2.2.2.2.2.2.2.2.2.2.2.2.2.2.1
theorem k0_off1292_inb : ∀ (v130 : BitVec 32) (k0_hw34 : k0_chk34 v130), ∀ a, (k0_off1292 v130) a + S1x1x32x128.size a ≤ S2x13x1024x128.size a := fun v130 k0_hw34 => k0_hw34.1.2.2.2.2.2.2.2.2.2.2.2.2.2.2.2.2.2.2.2.2.2.2.2.2.2.2.1
theorem k0_off1296_inb : ∀ (v130 : BitVec 32) (k0_hw34 : k0_chk34 v130), ∀ a, (k0_off1296 v130) a + S1x1x32x128.size a ≤ S2x13x1024x128.size a := fun v130 k0_hw34 => k0_hw34.1.2.2.2.2.2.2.2.2.2.2.2.2.2.2.2.2.2.2.2.2.2.2.2.2.2.2.2.1
theorem k0_off1300_inb : ∀ (v130 : BitVec 32) (k0_hw34 : k0_chk34 v130), ∀ a, (k0_off1300 v130) a + S1x1x32x128.size a ≤ S2x13x1024x128.size a := fun v130 k0_hw34 => k0_hw34.1.2.2.2.2.2.2.2.2.2.2.2.2.2.2.2.2.2.2.2.2.2.2.2.2.2.2.2.2.1
theorem k0_off1304_inb : ∀ (v130 : BitVec 32) (k0_hw34 : k0_chk34 v130), ∀ a, (k0_off1304 v130) a + S1x1x32x128.size a ≤ S2x13x1024x128.size a := fun v130 k0_hw34 => k0_hw34.1.2.2.2.2.2.2.2.2.2.2.2.2.2.2.2.2.2.2.2.2.2.2.2.2.2.2.2.2.2.1
theorem k0_off1308_inb : ∀ (v130 : BitVec 32) (k0_hw34 : k0_chk34 v130), ∀ a, (k0_off1308 v130) a + S1x1x32x128.size a ≤ S2x13x1024x128.size a := fun v130 k0_hw34 => k0_hw34.1.2.2.2.2.2.2.2.2.2.2.2.2.2.2.2.2.2.2.2.2.2.2.2.2.2.2.2.2.2.2.1
theorem k0_off1312_inb : ∀ (v130 : BitVec 32) (k0_hw34 : k0_chk34 v130), ∀ a, (k0_off1312 v130) a + S1x1x32x128.size a ≤ S2x13x1024x128.size a := fun v130 k0_hw34 => k0_hw34.1.2.2.2.2.2.2.2.2.2.2.2.2.2.2.2.2.2.2.2.2.2.2.2.2.2.2.2.2.2.2.2
theorem k0_off1316_inb : ∀ (v130 : BitVec 32) (k0_hw34 : k0_chk34 v130), ∀ a, (k0_off1316 v130) a + S1x1x32x128.size a ≤ S2x13x1024x128.size a := fun v130 k0_hw34 => k0_hw34.2.1
theorem k0_off1320_inb : ∀ (v130 : BitVec 32) (k0_hw34 : k0_chk34 v130), ∀ a, (k0_off1320 v130) a + S1x1x32x128.size a ≤ S2x13x1024x128.size a := fun v130 k0_hw34 => k0_hw34.2.2.1
theorem k0_off1324_inb : ∀ (v130 : BitVec 32) (k0_hw34 : k0_chk34 v130), ∀ a, (k0_off1324 v130) a + S1x1x32x128.size a ≤ S2x13x1024x128.size a := fun v130 k0_hw34 => k0_hw34.2.2.2.1
theorem k0_off1328_inb : ∀ (v130 : BitVec 32) (k0_hw34 : k0_chk34 v130), ∀ a, (k0_off1328 v130) a + S1x1x32x128.size a ≤ S2x13x1024x128.size a := fun v130 k0_hw34 => k0_hw34.2.2.2.2.1
theorem k0_off1332_inb : ∀ (v130 : BitVec 32) (k0_hw34 : k0_chk34 v130), ∀ a, (k0_off1332 v130) a + S1x1x32x128.size a ≤ S2x13x1024x128.size a := fun v130 k0_hw34 => k0_hw34.2.2.2.2.2.1
theorem k0_off1336_inb : ∀ (v130 : BitVec 32) (k0_hw34 : k0_chk34 v130), ∀ a, (k0_off1336 v130) a + S1x1x32x128.size a ≤ S2x13x1024x128.size a := fun v130 k0_hw34 => k0_hw34.2.2.2.2.2.2.1
theorem k0_off1340_inb : ∀ (v130 : BitVec 32) (k0_hw34 : k0_chk34 v130), ∀ a, (k0_off1340 v130) a + S1x1x32x128.size a ≤ S2x13x1024x128.size a := fun v130 k0_hw34 => k0_hw34.2.2.2.2.2.2.2.1
theorem k0_off1344_inb : ∀ (v130 : BitVec 32) (k0_hw34 : k0_chk34 v130), ∀ a, (k0_off1344 v130) a + S1x1x32x128.size a ≤ S2x13x1024x128.size a := fun v130 k0_hw34 => k0_hw34.2.2.2.2.2.2.2.2.1
theorem k0_off1348_inb : ∀ (v130 : BitVec 32) (k0_hw34 : k0_chk34 v130), ∀ a, (k0_off1348 v130) a + S1x1x32x128.size a ≤ S2x13x1024x128.size a := fun v130 k0_hw34 => k0_hw34.2.2.2.2.2.2.2.2.2.1
theorem k0_off1352_inb : ∀ (v130 : BitVec 32) (k0_hw34 : k0_chk34 v130), ∀ a, (k0_off1352 v130) a + S1x1x32x128.size a ≤ S2x13x1024x128.size a := fun v130 k0_hw34 => k0_hw34.2.2.2.2.2.2.2.2.2.2.1
theorem k0_off1356_inb : ∀ (v130 : BitVec 32) (k0_hw34 : k0_chk34 v130), ∀ a, (k0_off1356 v130) a + S1x1x32x128.size a ≤ S2x13x1024x128.size a := fun v130 k0_hw34 => k0_hw34.2.2.2.2.2.2.2.2.2.2.2.1
theorem k0_off1360_inb : ∀ (v130 : BitVec 32) (k0_hw34 : k0_chk34 v130), ∀ a, (k0_off1360 v130) a + S1x1x32x128.size a ≤ S2x13x1024x128.size a := fun v130 k0_hw34 => k0_hw34.2.2.2.2.2.2.2.2.2.2.2.2.1
theorem k0_off1364_inb : ∀ (v130 : BitVec 32) (k0_hw34 : k0_chk34 v130), ∀ a, (k0_off1364 v130) a + S1x1x32x128.size a ≤ S2x13x1024x128.size a := fun v130 k0_hw34 => k0_hw34.2.2.2.2.2.2.2.2.2.2.2.2.2.1
theorem k0_off1368_inb : ∀ (v130 : BitVec 32) (k0_hw34 : k0_chk34 v130), ∀ a, (k0_off1368 v130) a + S1x1x32x128.size a ≤ S2x13x1024x128.size a := fun v130 k0_hw34 => k0_hw34.2.2.2.2.2.2.2.2.2.2.2.2.2.2.1
theorem k0_off1372_inb : ∀ (v130 : BitVec 32) (k0_hw34 : k0_chk34 v130), ∀ a, (k0_off1372 v130) a + S1x1x32x128.size a ≤ S2x13x1024x128.size a := fun v130 k0_hw34 => k0_hw34.2.2.2.2.2.2.2.2.2.2.2.2.2.2.2.1
theorem k0_off1376_inb : ∀ (v130 : BitVec 32) (k0_hw34 : k0_chk34 v130), ∀ a, (k0_off1376 v130) a + S1x1x32x128.size a ≤ S2x13x1024x128.size a := fun v130 k0_hw34 => k0_hw34.2.2.2.2.2.2.2.2.2.2.2.2.2.2.2.2.1
theorem k0_off1380_inb : ∀ (v130 : BitVec 32) (k0_hw34 : k0_chk34 v130), ∀ a, (k0_off1380 v130) a + S1x1x32x128.size a ≤ S2x13x1024x128.size a := fun v130 k0_hw34 => k0_hw34.2.2.2.2.2.2.2.2.2.2.2.2.2.2.2.2.2.1
theorem k0_off1384_inb : ∀ (v130 : BitVec 32) (k0_hw34 : k0_chk34 v130), ∀ a, (k0_off1384 v130) a + S1x1x32x128.size a ≤ S2x13x1024x128.size a := fun v130 k0_hw34 => k0_hw34.2.2.2.2.2.2.2.2.2.2.2.2.2.2.2.2.2.2.1
theorem k0_off1388_inb : ∀ (v130 : BitVec 32) (k0_hw34 : k0_chk34 v130), ∀ a, (k0_off1388 v130) a + S1x1x32x128.size a ≤ S2x13x1024x128.size a := fun v130 k0_hw34 => k0_hw34.2.2.2.2.2.2.2.2.2.2.2.2.2.2.2.2.2.2.2.1
theorem k0_off1392_inb : ∀ (v130 : BitVec 32) (k0_hw34 : k0_chk34 v130), ∀ a, (k0_off1392 v130) a + S1x1x32x128.size a ≤ S2x13x1024x128.size a := fun v130 k0_hw34 => k0_hw34.2.2.2.2.2.2.2.2.2.2.2.2.2.2.2.2.2.2.2.2.1
theorem k0_off1396_inb : ∀ (v130 : BitVec 32) (k0_hw34 : k0_chk34 v130), ∀ a, (k0_off1396 v130) a + S1x1x32x128.size a ≤ S2x13x1024x128.size a := fun v130 k0_hw34 => k0_hw34.2.2.2.2.2.2.2.2.2.2.2.2.2.2.2.2.2.2.2.2.2.1
theorem k0_off1400_inb : ∀ (v130 : BitVec 32) (k0_hw34 : k0_chk34 v130), ∀ a, (k0_off1400 v130) a + S1x1x32x128.size a ≤ S2x13x1024x128.size a := fun v130 k0_hw34 => k0_hw34.2.2.2.2.2.2.2.2.2.2.2.2.2.2.2.2.2.2.2.2.2.2.1
theorem k0_off1404_inb : ∀ (v130 : BitVec 32) (k0_hw34 : k0_chk34 v130), ∀ a, (k0_off1404 v130) a + S1x1x32x128.size a ≤ S2x13x1024x128.size a := fun v130 k0_hw34 => k0_hw34.2.2.2.2.2.2.2.2.2.2.2.2.2.2.2.2.2.2.2.2.2.2.2.1
theorem k0_off1408_inb : ∀ (v130 : BitVec 32) (k0_hw34 : k0_chk34 v130), ∀ a, (k0_off1408 v130) a + S1x1x32x128.size a ≤ S2x13x1024x128.size a := fun v130 k0_hw34 => k0_hw34.2.2.2.2.2.2.2.2.2.2.2.2.2.2.2.2.2.2.2.2.2.2.2.2.1
theorem k0_off1412_inb : ∀ (v130 : BitVec 32) (k0_hw34 : k0_chk34 v130), ∀ a, (k0_off1412 v130) a + S1x1x32x128.size a ≤ S2x13x1024x128.size a := fun v130 k0_hw34 => k0_hw34.2.2.2.2.2.2.2.2.2.2.2.2.2.2.2.2.2.2.2.2.2.2.2.2.2.1
theorem k0_off1416_inb : ∀ (v130 : BitVec 32) (k0_hw34 : k0_chk34 v130), ∀ a, (k0_off1416 v130) a + S1x1x32x128.size a ≤ S2x13x1024x128.size a := fun v130 k0_hw34 => k0_hw34.2.2.2.2.2.2.2.2.2.2.2.2.2.2.2.2.2.2.2.2.2.2.2.2.2.2.1
theorem k0_off1420_inb : ∀ (v130 : BitVec 32) (k0_hw34 : k0_chk34 v130), ∀ a, (k0_off1420 v130) a + S1x1x32x128.size a ≤ S2x13x1024x128.size a := fun v130 k0_hw34 => k0_hw34.2.2.2.2.2.2.2.2.2.2.2.2.2.2.2.2.2.2.2.2.2.2.2.2.2.2.2.1
theorem k0_off1424_inb : ∀ (v130 : BitVec 32) (k0_hw34 : k0_chk34 v130), ∀ a, (k0_off1424 v130) a + S1x1x32x128.size a ≤ S2x13x1024x128.size a := fun v130 k0_hw34 => k0_hw34.2.2.2.2.2.2.2.2.2.2.2.2.2.2.2.2.2.2.2.2.2.2.2.2.2.2.2.2.1
theorem k0_off1428_inb : ∀ (v130 : BitVec 32) (k0_hw34 : k0_chk34 v130), ∀ a, (k0_off1428 v130) a + S1x1x32x128.size a ≤ S2x13x1024x128.size a := fun v130 k0_hw34 => k0_hw34.2.2.2.2.2.2.2.2.2.2.2.2.2.2.2.2.2.2.2.2.2.2.2.2.2.2.2.2.2.1
theorem k0_off1432_inb : ∀ (v130 : BitVec 32) (k0_hw34 : k0_chk34 v130), ∀ a, (k0_off1432 v130) a + S1x1x32x128.size a ≤ S2x13x1024x128.size a := fun v130 k0_hw34 => k0_hw34.2.2.2.2.2.2.2.2.2.2.2.2.2.2.2.2.2.2.2.2.2.2.2.2.2.2.2.2.2.2.1
theorem k0_off1436_inb : ∀ (v130 : BitVec 32) (k0_hw34 : k0_chk34 v130), ∀ a, (k0_off1436 v130) a + S1x1x32x128.size a ≤ S2x13x1024x128.size a := fun v130 k0_hw34 => k0_hw34.2.2.2.2.2.2.2.2.2.2.2.2.2.2.2.2.2.2.2.2.2.2.2.2.2.2.2.2.2.2.2.1
theorem k0_off1440_inb : ∀ (v130 : BitVec 32) (k0_hw34 : k0_chk34 v130), ∀ a, (k0_off1440 v130) a + S1x1x32x128.size a ≤ S2x13x1024x128.size a := fun v130 k0_hw34 => k0_hw34.2.2.2.2.2.2.2.2.2.2.2.2.2.2.2.2.2.2.2.2.2.2.2.2.2.2.2.2.2.2.2.2

def k0_off1441 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2261 : Index := Scalar.indexCast v66
  let c1_905 : Index := 1#32
  let c62_906 : Index := 62#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2262 : Index := Scalar.indexCast v159
  let c0_907 : Index := 0#32
  ![v2261.toNat, 1, 62, v2262.toNat, 0]
def k0_off1442 (v9 : BitVec 32) (k0_t20 : Fin (k0_t20_loop v9).trips) (v62 : BitVec 32) (v68 : BitVec 32) (k0_t26 : Fin (k0_t26_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v2267 : Index := Scalar.indexCast v66
  let c1_908 : Index := 1#32
  let c63_909 : Index := 63#32
  let c0_i32_75 : BitVec 32 := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let v94 : BitVec 32 := Scalar.subi v75 c0_i32_75
  let c1_i32_77 : BitVec 32 := 1#32
  let v96 : BitVec 32 := Scalar.divsi v94 c1_i32_77
  let v97 : BitVec 32 := Scalar.muli v96 c1_i32_77
  let v98 : BitVec 32 := Scalar.addi c0_i32_75 v97
  let c1_i32_79 : BitVec 32 := 1#32
  let arg20 : BitVec 32 := Scf.iv v98 c1_i32_79 k0_t26
  let c8_i32_108 : BitVec 32 := 8#32
  let v158 : BitVec 32 := Scalar.muli arg20 c8_i32_108
  let v159 : BitVec 32 := v158
  let v2268 : Index := Scalar.indexCast v159
  let c0_910 : Index := 0#32
  ![v2267.toNat, 1, 63, v2268.toNat, 0]
@[reducible] def k0_t27_loop (v62 : BitVec 32) (v68 : BitVec 32) : Scf.Loop 32 :=
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_83 : BitVec 32 := 1#32
  ⟨v75, v105, c1_i32_83⟩
def k0_mult33 (v62 : BitVec 32) (v68 : BitVec 32) (k0_t27 : Fin (k0_t27_loop v62 v68).trips) : BitVec 32 :=
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  v126
def k0_off1443 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v129 : Index := Scalar.indexCast v66
  let c0 : Index := 0#32
  let c0_102 : Index := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v130 : Index := Scalar.indexCast v127
  let c0_103 : Index := 0#32
  ![v129.toNat, 0, 0, v130.toNat, 0]
def k0_off1444 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v135 : Index := Scalar.indexCast v66
  let c0_105 : Index := 0#32
  let c1 : Index := 1#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v136 : Index := Scalar.indexCast v127
  let c0_106 : Index := 0#32
  ![v135.toNat, 0, 1, v136.toNat, 0]
def k0_off1445 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v141 : Index := Scalar.indexCast v66
  let c0_108 : Index := 0#32
  let c2 : Index := 2#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v142 : Index := Scalar.indexCast v127
  let c0_109 : Index := 0#32
  ![v141.toNat, 0, 2, v142.toNat, 0]
def k0_off1446 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v147 : Index := Scalar.indexCast v66
  let c0_111 : Index := 0#32
  let c3 : Index := 3#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v148 : Index := Scalar.indexCast v127
  let c0_112 : Index := 0#32
  ![v147.toNat, 0, 3, v148.toNat, 0]
def k0_off1447 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v153 : Index := Scalar.indexCast v66
  let c0_114 : Index := 0#32
  let c4 : Index := 4#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v154 : Index := Scalar.indexCast v127
  let c0_115 : Index := 0#32
  ![v153.toNat, 0, 4, v154.toNat, 0]
def k0_off1448 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v159 : Index := Scalar.indexCast v66
  let c0_117 : Index := 0#32
  let c5 : Index := 5#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v160 : Index := Scalar.indexCast v127
  let c0_118 : Index := 0#32
  ![v159.toNat, 0, 5, v160.toNat, 0]
def k0_off1449 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v165 : Index := Scalar.indexCast v66
  let c0_120 : Index := 0#32
  let c6 : Index := 6#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v166 : Index := Scalar.indexCast v127
  let c0_121 : Index := 0#32
  ![v165.toNat, 0, 6, v166.toNat, 0]
def k0_off1450 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v171 : Index := Scalar.indexCast v66
  let c0_123 : Index := 0#32
  let c7 : Index := 7#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v172 : Index := Scalar.indexCast v127
  let c0_124 : Index := 0#32
  ![v171.toNat, 0, 7, v172.toNat, 0]
def k0_off1451 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v177 : Index := Scalar.indexCast v66
  let c0_126 : Index := 0#32
  let c8 : Index := 8#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v178 : Index := Scalar.indexCast v127
  let c0_127 : Index := 0#32
  ![v177.toNat, 0, 8, v178.toNat, 0]
def k0_off1452 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v183 : Index := Scalar.indexCast v66
  let c0_129 : Index := 0#32
  let c9 : Index := 9#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v184 : Index := Scalar.indexCast v127
  let c0_130 : Index := 0#32
  ![v183.toNat, 0, 9, v184.toNat, 0]
def k0_off1453 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v189 : Index := Scalar.indexCast v66
  let c0_132 : Index := 0#32
  let c10 : Index := 10#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v190 : Index := Scalar.indexCast v127
  let c0_133 : Index := 0#32
  ![v189.toNat, 0, 10, v190.toNat, 0]
def k0_off1454 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v195 : Index := Scalar.indexCast v66
  let c0_135 : Index := 0#32
  let c11 : Index := 11#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v196 : Index := Scalar.indexCast v127
  let c0_136 : Index := 0#32
  ![v195.toNat, 0, 11, v196.toNat, 0]
def k0_off1455 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v201 : Index := Scalar.indexCast v66
  let c0_138 : Index := 0#32
  let c12 : Index := 12#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v202 : Index := Scalar.indexCast v127
  let c0_139 : Index := 0#32
  ![v201.toNat, 0, 12, v202.toNat, 0]
def k0_off1456 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v207 : Index := Scalar.indexCast v66
  let c0_141 : Index := 0#32
  let c13 : Index := 13#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v208 : Index := Scalar.indexCast v127
  let c0_142 : Index := 0#32
  ![v207.toNat, 0, 13, v208.toNat, 0]
def k0_off1457 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v213 : Index := Scalar.indexCast v66
  let c0_144 : Index := 0#32
  let c14 : Index := 14#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v214 : Index := Scalar.indexCast v127
  let c0_145 : Index := 0#32
  ![v213.toNat, 0, 14, v214.toNat, 0]
def k0_off1458 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v219 : Index := Scalar.indexCast v66
  let c0_147 : Index := 0#32
  let c15 : Index := 15#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v220 : Index := Scalar.indexCast v127
  let c0_148 : Index := 0#32
  ![v219.toNat, 0, 15, v220.toNat, 0]
def k0_off1459 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v225 : Index := Scalar.indexCast v66
  let c0_150 : Index := 0#32
  let c16 : Index := 16#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v226 : Index := Scalar.indexCast v127
  let c0_151 : Index := 0#32
  ![v225.toNat, 0, 16, v226.toNat, 0]
def k0_off1460 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v231 : Index := Scalar.indexCast v66
  let c0_153 : Index := 0#32
  let c17 : Index := 17#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v232 : Index := Scalar.indexCast v127
  let c0_154 : Index := 0#32
  ![v231.toNat, 0, 17, v232.toNat, 0]
def k0_off1461 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v237 : Index := Scalar.indexCast v66
  let c0_156 : Index := 0#32
  let c18 : Index := 18#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v238 : Index := Scalar.indexCast v127
  let c0_157 : Index := 0#32
  ![v237.toNat, 0, 18, v238.toNat, 0]
def k0_off1462 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v243 : Index := Scalar.indexCast v66
  let c0_159 : Index := 0#32
  let c19 : Index := 19#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v244 : Index := Scalar.indexCast v127
  let c0_160 : Index := 0#32
  ![v243.toNat, 0, 19, v244.toNat, 0]
def k0_off1463 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v249 : Index := Scalar.indexCast v66
  let c0_162 : Index := 0#32
  let c20 : Index := 20#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v250 : Index := Scalar.indexCast v127
  let c0_163 : Index := 0#32
  ![v249.toNat, 0, 20, v250.toNat, 0]
def k0_off1464 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v255 : Index := Scalar.indexCast v66
  let c0_165 : Index := 0#32
  let c21 : Index := 21#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v256 : Index := Scalar.indexCast v127
  let c0_166 : Index := 0#32
  ![v255.toNat, 0, 21, v256.toNat, 0]
def k0_off1465 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v261 : Index := Scalar.indexCast v66
  let c0_168 : Index := 0#32
  let c22 : Index := 22#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v262 : Index := Scalar.indexCast v127
  let c0_169 : Index := 0#32
  ![v261.toNat, 0, 22, v262.toNat, 0]
def k0_off1466 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v267 : Index := Scalar.indexCast v66
  let c0_171 : Index := 0#32
  let c23 : Index := 23#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v268 : Index := Scalar.indexCast v127
  let c0_172 : Index := 0#32
  ![v267.toNat, 0, 23, v268.toNat, 0]
def k0_off1467 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v273 : Index := Scalar.indexCast v66
  let c0_174 : Index := 0#32
  let c24 : Index := 24#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v274 : Index := Scalar.indexCast v127
  let c0_175 : Index := 0#32
  ![v273.toNat, 0, 24, v274.toNat, 0]
def k0_off1468 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v279 : Index := Scalar.indexCast v66
  let c0_177 : Index := 0#32
  let c25 : Index := 25#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v280 : Index := Scalar.indexCast v127
  let c0_178 : Index := 0#32
  ![v279.toNat, 0, 25, v280.toNat, 0]
def k0_off1469 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v285 : Index := Scalar.indexCast v66
  let c0_180 : Index := 0#32
  let c26 : Index := 26#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v286 : Index := Scalar.indexCast v127
  let c0_181 : Index := 0#32
  ![v285.toNat, 0, 26, v286.toNat, 0]
def k0_off1470 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v291 : Index := Scalar.indexCast v66
  let c0_183 : Index := 0#32
  let c27 : Index := 27#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v292 : Index := Scalar.indexCast v127
  let c0_184 : Index := 0#32
  ![v291.toNat, 0, 27, v292.toNat, 0]
def k0_off1471 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v297 : Index := Scalar.indexCast v66
  let c0_186 : Index := 0#32
  let c28 : Index := 28#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v298 : Index := Scalar.indexCast v127
  let c0_187 : Index := 0#32
  ![v297.toNat, 0, 28, v298.toNat, 0]
def k0_off1472 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v303 : Index := Scalar.indexCast v66
  let c0_189 : Index := 0#32
  let c29 : Index := 29#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v304 : Index := Scalar.indexCast v127
  let c0_190 : Index := 0#32
  ![v303.toNat, 0, 29, v304.toNat, 0]
def k0_off1473 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v309 : Index := Scalar.indexCast v66
  let c0_192 : Index := 0#32
  let c30 : Index := 30#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v310 : Index := Scalar.indexCast v127
  let c0_193 : Index := 0#32
  ![v309.toNat, 0, 30, v310.toNat, 0]
def k0_off1474 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v315 : Index := Scalar.indexCast v66
  let c0_195 : Index := 0#32
  let c31 : Index := 31#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v316 : Index := Scalar.indexCast v127
  let c0_196 : Index := 0#32
  ![v315.toNat, 0, 31, v316.toNat, 0]
def k0_off1475 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v321 : Index := Scalar.indexCast v66
  let c0_198 : Index := 0#32
  let c32 : Index := 32#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v322 : Index := Scalar.indexCast v127
  let c0_199 : Index := 0#32
  ![v321.toNat, 0, 32, v322.toNat, 0]
def k0_off1476 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v327 : Index := Scalar.indexCast v66
  let c0_201 : Index := 0#32
  let c33 : Index := 33#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v328 : Index := Scalar.indexCast v127
  let c0_202 : Index := 0#32
  ![v327.toNat, 0, 33, v328.toNat, 0]
def k0_off1477 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v333 : Index := Scalar.indexCast v66
  let c0_204 : Index := 0#32
  let c34 : Index := 34#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v334 : Index := Scalar.indexCast v127
  let c0_205 : Index := 0#32
  ![v333.toNat, 0, 34, v334.toNat, 0]
def k0_off1478 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v339 : Index := Scalar.indexCast v66
  let c0_207 : Index := 0#32
  let c35 : Index := 35#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v340 : Index := Scalar.indexCast v127
  let c0_208 : Index := 0#32
  ![v339.toNat, 0, 35, v340.toNat, 0]
def k0_off1479 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v345 : Index := Scalar.indexCast v66
  let c0_210 : Index := 0#32
  let c36 : Index := 36#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v346 : Index := Scalar.indexCast v127
  let c0_211 : Index := 0#32
  ![v345.toNat, 0, 36, v346.toNat, 0]
def k0_off1480 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v351 : Index := Scalar.indexCast v66
  let c0_213 : Index := 0#32
  let c37 : Index := 37#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v352 : Index := Scalar.indexCast v127
  let c0_214 : Index := 0#32
  ![v351.toNat, 0, 37, v352.toNat, 0]
def k0_off1481 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v357 : Index := Scalar.indexCast v66
  let c0_216 : Index := 0#32
  let c38 : Index := 38#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v358 : Index := Scalar.indexCast v127
  let c0_217 : Index := 0#32
  ![v357.toNat, 0, 38, v358.toNat, 0]
def k0_off1482 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v363 : Index := Scalar.indexCast v66
  let c0_219 : Index := 0#32
  let c39 : Index := 39#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v364 : Index := Scalar.indexCast v127
  let c0_220 : Index := 0#32
  ![v363.toNat, 0, 39, v364.toNat, 0]
def k0_off1483 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v369 : Index := Scalar.indexCast v66
  let c0_222 : Index := 0#32
  let c40 : Index := 40#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v370 : Index := Scalar.indexCast v127
  let c0_223 : Index := 0#32
  ![v369.toNat, 0, 40, v370.toNat, 0]
def k0_off1484 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v375 : Index := Scalar.indexCast v66
  let c0_225 : Index := 0#32
  let c41 : Index := 41#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v376 : Index := Scalar.indexCast v127
  let c0_226 : Index := 0#32
  ![v375.toNat, 0, 41, v376.toNat, 0]
def k0_off1485 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v381 : Index := Scalar.indexCast v66
  let c0_228 : Index := 0#32
  let c42 : Index := 42#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v382 : Index := Scalar.indexCast v127
  let c0_229 : Index := 0#32
  ![v381.toNat, 0, 42, v382.toNat, 0]
def k0_off1486 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v387 : Index := Scalar.indexCast v66
  let c0_231 : Index := 0#32
  let c43 : Index := 43#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v388 : Index := Scalar.indexCast v127
  let c0_232 : Index := 0#32
  ![v387.toNat, 0, 43, v388.toNat, 0]
def k0_off1487 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v393 : Index := Scalar.indexCast v66
  let c0_234 : Index := 0#32
  let c44 : Index := 44#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v394 : Index := Scalar.indexCast v127
  let c0_235 : Index := 0#32
  ![v393.toNat, 0, 44, v394.toNat, 0]
def k0_off1488 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v399 : Index := Scalar.indexCast v66
  let c0_237 : Index := 0#32
  let c45 : Index := 45#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v400 : Index := Scalar.indexCast v127
  let c0_238 : Index := 0#32
  ![v399.toNat, 0, 45, v400.toNat, 0]
def k0_off1489 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v405 : Index := Scalar.indexCast v66
  let c0_240 : Index := 0#32
  let c46 : Index := 46#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v406 : Index := Scalar.indexCast v127
  let c0_241 : Index := 0#32
  ![v405.toNat, 0, 46, v406.toNat, 0]
def k0_off1490 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v411 : Index := Scalar.indexCast v66
  let c0_243 : Index := 0#32
  let c47 : Index := 47#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v412 : Index := Scalar.indexCast v127
  let c0_244 : Index := 0#32
  ![v411.toNat, 0, 47, v412.toNat, 0]
def k0_off1491 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v417 : Index := Scalar.indexCast v66
  let c0_246 : Index := 0#32
  let c48 : Index := 48#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v418 : Index := Scalar.indexCast v127
  let c0_247 : Index := 0#32
  ![v417.toNat, 0, 48, v418.toNat, 0]
def k0_off1492 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v423 : Index := Scalar.indexCast v66
  let c0_249 : Index := 0#32
  let c49 : Index := 49#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v424 : Index := Scalar.indexCast v127
  let c0_250 : Index := 0#32
  ![v423.toNat, 0, 49, v424.toNat, 0]
def k0_off1493 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v429 : Index := Scalar.indexCast v66
  let c0_252 : Index := 0#32
  let c50 : Index := 50#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v430 : Index := Scalar.indexCast v127
  let c0_253 : Index := 0#32
  ![v429.toNat, 0, 50, v430.toNat, 0]
def k0_off1494 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v435 : Index := Scalar.indexCast v66
  let c0_255 : Index := 0#32
  let c51 : Index := 51#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v436 : Index := Scalar.indexCast v127
  let c0_256 : Index := 0#32
  ![v435.toNat, 0, 51, v436.toNat, 0]
def k0_off1495 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v441 : Index := Scalar.indexCast v66
  let c0_258 : Index := 0#32
  let c52 : Index := 52#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v442 : Index := Scalar.indexCast v127
  let c0_259 : Index := 0#32
  ![v441.toNat, 0, 52, v442.toNat, 0]
def k0_off1496 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v447 : Index := Scalar.indexCast v66
  let c0_261 : Index := 0#32
  let c53 : Index := 53#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v448 : Index := Scalar.indexCast v127
  let c0_262 : Index := 0#32
  ![v447.toNat, 0, 53, v448.toNat, 0]
def k0_off1497 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v453 : Index := Scalar.indexCast v66
  let c0_264 : Index := 0#32
  let c54 : Index := 54#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v454 : Index := Scalar.indexCast v127
  let c0_265 : Index := 0#32
  ![v453.toNat, 0, 54, v454.toNat, 0]
def k0_off1498 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v459 : Index := Scalar.indexCast v66
  let c0_267 : Index := 0#32
  let c55 : Index := 55#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v460 : Index := Scalar.indexCast v127
  let c0_268 : Index := 0#32
  ![v459.toNat, 0, 55, v460.toNat, 0]
def k0_off1499 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v465 : Index := Scalar.indexCast v66
  let c0_270 : Index := 0#32
  let c56 : Index := 56#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v466 : Index := Scalar.indexCast v127
  let c0_271 : Index := 0#32
  ![v465.toNat, 0, 56, v466.toNat, 0]
def k0_off1500 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v471 : Index := Scalar.indexCast v66
  let c0_273 : Index := 0#32
  let c57 : Index := 57#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v472 : Index := Scalar.indexCast v127
  let c0_274 : Index := 0#32
  ![v471.toNat, 0, 57, v472.toNat, 0]
def k0_off1501 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v477 : Index := Scalar.indexCast v66
  let c0_276 : Index := 0#32
  let c58 : Index := 58#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v478 : Index := Scalar.indexCast v127
  let c0_277 : Index := 0#32
  ![v477.toNat, 0, 58, v478.toNat, 0]
def k0_off1502 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v483 : Index := Scalar.indexCast v66
  let c0_279 : Index := 0#32
  let c59 : Index := 59#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v484 : Index := Scalar.indexCast v127
  let c0_280 : Index := 0#32
  ![v483.toNat, 0, 59, v484.toNat, 0]
def k0_off1503 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v489 : Index := Scalar.indexCast v66
  let c0_282 : Index := 0#32
  let c60 : Index := 60#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v490 : Index := Scalar.indexCast v127
  let c0_283 : Index := 0#32
  ![v489.toNat, 0, 60, v490.toNat, 0]
def k0_off1504 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v495 : Index := Scalar.indexCast v66
  let c0_285 : Index := 0#32
  let c61 : Index := 61#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v496 : Index := Scalar.indexCast v127
  let c0_286 : Index := 0#32
  ![v495.toNat, 0, 61, v496.toNat, 0]
def k0_off1505 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v501 : Index := Scalar.indexCast v66
  let c0_288 : Index := 0#32
  let c62 : Index := 62#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v502 : Index := Scalar.indexCast v127
  let c0_289 : Index := 0#32
  ![v501.toNat, 0, 62, v502.toNat, 0]
def k0_off1506 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v507 : Index := Scalar.indexCast v66
  let c0_291 : Index := 0#32
  let c63 : Index := 63#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v508 : Index := Scalar.indexCast v127
  let c0_292 : Index := 0#32
  ![v507.toNat, 0, 63, v508.toNat, 0]
def k0_off1507 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v513 : Index := Scalar.indexCast v66
  let c1_294 : Index := 1#32
  let c0_295 : Index := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v514 : Index := Scalar.indexCast v127
  let c0_296 : Index := 0#32
  ![v513.toNat, 1, 0, v514.toNat, 0]
def k0_off1508 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v519 : Index := Scalar.indexCast v66
  let c1_298 : Index := 1#32
  let c1_299 : Index := 1#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v520 : Index := Scalar.indexCast v127
  let c0_300 : Index := 0#32
  ![v519.toNat, 1, 1, v520.toNat, 0]
def k0_off1509 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v525 : Index := Scalar.indexCast v66
  let c1_302 : Index := 1#32
  let c2_303 : Index := 2#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v526 : Index := Scalar.indexCast v127
  let c0_304 : Index := 0#32
  ![v525.toNat, 1, 2, v526.toNat, 0]
def k0_off1510 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v531 : Index := Scalar.indexCast v66
  let c1_306 : Index := 1#32
  let c3_307 : Index := 3#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v532 : Index := Scalar.indexCast v127
  let c0_308 : Index := 0#32
  ![v531.toNat, 1, 3, v532.toNat, 0]
def k0_off1511 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v537 : Index := Scalar.indexCast v66
  let c1_310 : Index := 1#32
  let c4_311 : Index := 4#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v538 : Index := Scalar.indexCast v127
  let c0_312 : Index := 0#32
  ![v537.toNat, 1, 4, v538.toNat, 0]
def k0_off1512 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v543 : Index := Scalar.indexCast v66
  let c1_314 : Index := 1#32
  let c5_315 : Index := 5#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v544 : Index := Scalar.indexCast v127
  let c0_316 : Index := 0#32
  ![v543.toNat, 1, 5, v544.toNat, 0]
def k0_off1513 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v549 : Index := Scalar.indexCast v66
  let c1_318 : Index := 1#32
  let c6_319 : Index := 6#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v550 : Index := Scalar.indexCast v127
  let c0_320 : Index := 0#32
  ![v549.toNat, 1, 6, v550.toNat, 0]
def k0_off1514 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v555 : Index := Scalar.indexCast v66
  let c1_322 : Index := 1#32
  let c7_323 : Index := 7#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v556 : Index := Scalar.indexCast v127
  let c0_324 : Index := 0#32
  ![v555.toNat, 1, 7, v556.toNat, 0]
def k0_off1515 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v561 : Index := Scalar.indexCast v66
  let c1_326 : Index := 1#32
  let c8_327 : Index := 8#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v562 : Index := Scalar.indexCast v127
  let c0_328 : Index := 0#32
  ![v561.toNat, 1, 8, v562.toNat, 0]
def k0_off1516 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v567 : Index := Scalar.indexCast v66
  let c1_330 : Index := 1#32
  let c9_331 : Index := 9#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v568 : Index := Scalar.indexCast v127
  let c0_332 : Index := 0#32
  ![v567.toNat, 1, 9, v568.toNat, 0]
def k0_off1517 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v573 : Index := Scalar.indexCast v66
  let c1_334 : Index := 1#32
  let c10_335 : Index := 10#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v574 : Index := Scalar.indexCast v127
  let c0_336 : Index := 0#32
  ![v573.toNat, 1, 10, v574.toNat, 0]
def k0_off1518 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v579 : Index := Scalar.indexCast v66
  let c1_338 : Index := 1#32
  let c11_339 : Index := 11#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v580 : Index := Scalar.indexCast v127
  let c0_340 : Index := 0#32
  ![v579.toNat, 1, 11, v580.toNat, 0]
def k0_off1519 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v585 : Index := Scalar.indexCast v66
  let c1_342 : Index := 1#32
  let c12_343 : Index := 12#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v586 : Index := Scalar.indexCast v127
  let c0_344 : Index := 0#32
  ![v585.toNat, 1, 12, v586.toNat, 0]
def k0_off1520 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v591 : Index := Scalar.indexCast v66
  let c1_346 : Index := 1#32
  let c13_347 : Index := 13#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v592 : Index := Scalar.indexCast v127
  let c0_348 : Index := 0#32
  ![v591.toNat, 1, 13, v592.toNat, 0]
def k0_off1521 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v597 : Index := Scalar.indexCast v66
  let c1_350 : Index := 1#32
  let c14_351 : Index := 14#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v598 : Index := Scalar.indexCast v127
  let c0_352 : Index := 0#32
  ![v597.toNat, 1, 14, v598.toNat, 0]
def k0_off1522 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v603 : Index := Scalar.indexCast v66
  let c1_354 : Index := 1#32
  let c15_355 : Index := 15#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v604 : Index := Scalar.indexCast v127
  let c0_356 : Index := 0#32
  ![v603.toNat, 1, 15, v604.toNat, 0]
def k0_off1523 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v609 : Index := Scalar.indexCast v66
  let c1_358 : Index := 1#32
  let c16_359 : Index := 16#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v610 : Index := Scalar.indexCast v127
  let c0_360 : Index := 0#32
  ![v609.toNat, 1, 16, v610.toNat, 0]
def k0_off1524 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v615 : Index := Scalar.indexCast v66
  let c1_362 : Index := 1#32
  let c17_363 : Index := 17#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v616 : Index := Scalar.indexCast v127
  let c0_364 : Index := 0#32
  ![v615.toNat, 1, 17, v616.toNat, 0]
def k0_off1525 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v621 : Index := Scalar.indexCast v66
  let c1_366 : Index := 1#32
  let c18_367 : Index := 18#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v622 : Index := Scalar.indexCast v127
  let c0_368 : Index := 0#32
  ![v621.toNat, 1, 18, v622.toNat, 0]
def k0_off1526 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v627 : Index := Scalar.indexCast v66
  let c1_370 : Index := 1#32
  let c19_371 : Index := 19#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v628 : Index := Scalar.indexCast v127
  let c0_372 : Index := 0#32
  ![v627.toNat, 1, 19, v628.toNat, 0]
def k0_off1527 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v633 : Index := Scalar.indexCast v66
  let c1_374 : Index := 1#32
  let c20_375 : Index := 20#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v634 : Index := Scalar.indexCast v127
  let c0_376 : Index := 0#32
  ![v633.toNat, 1, 20, v634.toNat, 0]
def k0_off1528 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v639 : Index := Scalar.indexCast v66
  let c1_378 : Index := 1#32
  let c21_379 : Index := 21#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v640 : Index := Scalar.indexCast v127
  let c0_380 : Index := 0#32
  ![v639.toNat, 1, 21, v640.toNat, 0]
def k0_off1529 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v645 : Index := Scalar.indexCast v66
  let c1_382 : Index := 1#32
  let c22_383 : Index := 22#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v646 : Index := Scalar.indexCast v127
  let c0_384 : Index := 0#32
  ![v645.toNat, 1, 22, v646.toNat, 0]
def k0_off1530 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v651 : Index := Scalar.indexCast v66
  let c1_386 : Index := 1#32
  let c23_387 : Index := 23#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v652 : Index := Scalar.indexCast v127
  let c0_388 : Index := 0#32
  ![v651.toNat, 1, 23, v652.toNat, 0]
def k0_off1531 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v657 : Index := Scalar.indexCast v66
  let c1_390 : Index := 1#32
  let c24_391 : Index := 24#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v658 : Index := Scalar.indexCast v127
  let c0_392 : Index := 0#32
  ![v657.toNat, 1, 24, v658.toNat, 0]
def k0_off1532 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v663 : Index := Scalar.indexCast v66
  let c1_394 : Index := 1#32
  let c25_395 : Index := 25#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v664 : Index := Scalar.indexCast v127
  let c0_396 : Index := 0#32
  ![v663.toNat, 1, 25, v664.toNat, 0]
def k0_off1533 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v669 : Index := Scalar.indexCast v66
  let c1_398 : Index := 1#32
  let c26_399 : Index := 26#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v670 : Index := Scalar.indexCast v127
  let c0_400 : Index := 0#32
  ![v669.toNat, 1, 26, v670.toNat, 0]
def k0_off1534 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v675 : Index := Scalar.indexCast v66
  let c1_402 : Index := 1#32
  let c27_403 : Index := 27#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v676 : Index := Scalar.indexCast v127
  let c0_404 : Index := 0#32
  ![v675.toNat, 1, 27, v676.toNat, 0]
def k0_off1535 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v681 : Index := Scalar.indexCast v66
  let c1_406 : Index := 1#32
  let c28_407 : Index := 28#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v682 : Index := Scalar.indexCast v127
  let c0_408 : Index := 0#32
  ![v681.toNat, 1, 28, v682.toNat, 0]
def k0_off1536 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v687 : Index := Scalar.indexCast v66
  let c1_410 : Index := 1#32
  let c29_411 : Index := 29#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v688 : Index := Scalar.indexCast v127
  let c0_412 : Index := 0#32
  ![v687.toNat, 1, 29, v688.toNat, 0]
def k0_off1537 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v693 : Index := Scalar.indexCast v66
  let c1_414 : Index := 1#32
  let c30_415 : Index := 30#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v694 : Index := Scalar.indexCast v127
  let c0_416 : Index := 0#32
  ![v693.toNat, 1, 30, v694.toNat, 0]
def k0_off1538 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v699 : Index := Scalar.indexCast v66
  let c1_418 : Index := 1#32
  let c31_419 : Index := 31#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v700 : Index := Scalar.indexCast v127
  let c0_420 : Index := 0#32
  ![v699.toNat, 1, 31, v700.toNat, 0]
def k0_off1539 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v705 : Index := Scalar.indexCast v66
  let c1_422 : Index := 1#32
  let c32_423 : Index := 32#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v706 : Index := Scalar.indexCast v127
  let c0_424 : Index := 0#32
  ![v705.toNat, 1, 32, v706.toNat, 0]
def k0_off1540 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v711 : Index := Scalar.indexCast v66
  let c1_426 : Index := 1#32
  let c33_427 : Index := 33#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v712 : Index := Scalar.indexCast v127
  let c0_428 : Index := 0#32
  ![v711.toNat, 1, 33, v712.toNat, 0]
def k0_off1541 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v717 : Index := Scalar.indexCast v66
  let c1_430 : Index := 1#32
  let c34_431 : Index := 34#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v718 : Index := Scalar.indexCast v127
  let c0_432 : Index := 0#32
  ![v717.toNat, 1, 34, v718.toNat, 0]
def k0_off1542 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v723 : Index := Scalar.indexCast v66
  let c1_434 : Index := 1#32
  let c35_435 : Index := 35#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v724 : Index := Scalar.indexCast v127
  let c0_436 : Index := 0#32
  ![v723.toNat, 1, 35, v724.toNat, 0]
def k0_off1543 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v729 : Index := Scalar.indexCast v66
  let c1_438 : Index := 1#32
  let c36_439 : Index := 36#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v730 : Index := Scalar.indexCast v127
  let c0_440 : Index := 0#32
  ![v729.toNat, 1, 36, v730.toNat, 0]
def k0_off1544 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v735 : Index := Scalar.indexCast v66
  let c1_442 : Index := 1#32
  let c37_443 : Index := 37#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v736 : Index := Scalar.indexCast v127
  let c0_444 : Index := 0#32
  ![v735.toNat, 1, 37, v736.toNat, 0]
def k0_off1545 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v741 : Index := Scalar.indexCast v66
  let c1_446 : Index := 1#32
  let c38_447 : Index := 38#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v742 : Index := Scalar.indexCast v127
  let c0_448 : Index := 0#32
  ![v741.toNat, 1, 38, v742.toNat, 0]
def k0_off1546 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v747 : Index := Scalar.indexCast v66
  let c1_450 : Index := 1#32
  let c39_451 : Index := 39#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v748 : Index := Scalar.indexCast v127
  let c0_452 : Index := 0#32
  ![v747.toNat, 1, 39, v748.toNat, 0]
def k0_off1547 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v753 : Index := Scalar.indexCast v66
  let c1_454 : Index := 1#32
  let c40_455 : Index := 40#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v754 : Index := Scalar.indexCast v127
  let c0_456 : Index := 0#32
  ![v753.toNat, 1, 40, v754.toNat, 0]
def k0_off1548 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v759 : Index := Scalar.indexCast v66
  let c1_458 : Index := 1#32
  let c41_459 : Index := 41#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v760 : Index := Scalar.indexCast v127
  let c0_460 : Index := 0#32
  ![v759.toNat, 1, 41, v760.toNat, 0]
def k0_off1549 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v765 : Index := Scalar.indexCast v66
  let c1_462 : Index := 1#32
  let c42_463 : Index := 42#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v766 : Index := Scalar.indexCast v127
  let c0_464 : Index := 0#32
  ![v765.toNat, 1, 42, v766.toNat, 0]
def k0_off1550 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v771 : Index := Scalar.indexCast v66
  let c1_466 : Index := 1#32
  let c43_467 : Index := 43#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v772 : Index := Scalar.indexCast v127
  let c0_468 : Index := 0#32
  ![v771.toNat, 1, 43, v772.toNat, 0]
def k0_off1551 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v777 : Index := Scalar.indexCast v66
  let c1_470 : Index := 1#32
  let c44_471 : Index := 44#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v778 : Index := Scalar.indexCast v127
  let c0_472 : Index := 0#32
  ![v777.toNat, 1, 44, v778.toNat, 0]
def k0_off1552 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v783 : Index := Scalar.indexCast v66
  let c1_474 : Index := 1#32
  let c45_475 : Index := 45#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v784 : Index := Scalar.indexCast v127
  let c0_476 : Index := 0#32
  ![v783.toNat, 1, 45, v784.toNat, 0]
def k0_off1553 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v789 : Index := Scalar.indexCast v66
  let c1_478 : Index := 1#32
  let c46_479 : Index := 46#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v790 : Index := Scalar.indexCast v127
  let c0_480 : Index := 0#32
  ![v789.toNat, 1, 46, v790.toNat, 0]
def k0_off1554 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v795 : Index := Scalar.indexCast v66
  let c1_482 : Index := 1#32
  let c47_483 : Index := 47#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v796 : Index := Scalar.indexCast v127
  let c0_484 : Index := 0#32
  ![v795.toNat, 1, 47, v796.toNat, 0]
def k0_off1555 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v801 : Index := Scalar.indexCast v66
  let c1_486 : Index := 1#32
  let c48_487 : Index := 48#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v802 : Index := Scalar.indexCast v127
  let c0_488 : Index := 0#32
  ![v801.toNat, 1, 48, v802.toNat, 0]
def k0_off1556 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v807 : Index := Scalar.indexCast v66
  let c1_490 : Index := 1#32
  let c49_491 : Index := 49#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v808 : Index := Scalar.indexCast v127
  let c0_492 : Index := 0#32
  ![v807.toNat, 1, 49, v808.toNat, 0]
def k0_off1557 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v813 : Index := Scalar.indexCast v66
  let c1_494 : Index := 1#32
  let c50_495 : Index := 50#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v814 : Index := Scalar.indexCast v127
  let c0_496 : Index := 0#32
  ![v813.toNat, 1, 50, v814.toNat, 0]
def k0_off1558 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v819 : Index := Scalar.indexCast v66
  let c1_498 : Index := 1#32
  let c51_499 : Index := 51#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v820 : Index := Scalar.indexCast v127
  let c0_500 : Index := 0#32
  ![v819.toNat, 1, 51, v820.toNat, 0]
def k0_off1559 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v825 : Index := Scalar.indexCast v66
  let c1_502 : Index := 1#32
  let c52_503 : Index := 52#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v826 : Index := Scalar.indexCast v127
  let c0_504 : Index := 0#32
  ![v825.toNat, 1, 52, v826.toNat, 0]
def k0_off1560 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v831 : Index := Scalar.indexCast v66
  let c1_506 : Index := 1#32
  let c53_507 : Index := 53#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v832 : Index := Scalar.indexCast v127
  let c0_508 : Index := 0#32
  ![v831.toNat, 1, 53, v832.toNat, 0]
def k0_off1561 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v837 : Index := Scalar.indexCast v66
  let c1_510 : Index := 1#32
  let c54_511 : Index := 54#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v838 : Index := Scalar.indexCast v127
  let c0_512 : Index := 0#32
  ![v837.toNat, 1, 54, v838.toNat, 0]
def k0_off1562 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v843 : Index := Scalar.indexCast v66
  let c1_514 : Index := 1#32
  let c55_515 : Index := 55#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v844 : Index := Scalar.indexCast v127
  let c0_516 : Index := 0#32
  ![v843.toNat, 1, 55, v844.toNat, 0]
def k0_off1563 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v849 : Index := Scalar.indexCast v66
  let c1_518 : Index := 1#32
  let c56_519 : Index := 56#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v850 : Index := Scalar.indexCast v127
  let c0_520 : Index := 0#32
  ![v849.toNat, 1, 56, v850.toNat, 0]
def k0_off1564 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v855 : Index := Scalar.indexCast v66
  let c1_522 : Index := 1#32
  let c57_523 : Index := 57#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v856 : Index := Scalar.indexCast v127
  let c0_524 : Index := 0#32
  ![v855.toNat, 1, 57, v856.toNat, 0]
def k0_off1565 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v861 : Index := Scalar.indexCast v66
  let c1_526 : Index := 1#32
  let c58_527 : Index := 58#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v862 : Index := Scalar.indexCast v127
  let c0_528 : Index := 0#32
  ![v861.toNat, 1, 58, v862.toNat, 0]
def k0_off1566 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v867 : Index := Scalar.indexCast v66
  let c1_530 : Index := 1#32
  let c59_531 : Index := 59#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v868 : Index := Scalar.indexCast v127
  let c0_532 : Index := 0#32
  ![v867.toNat, 1, 59, v868.toNat, 0]
def k0_off1567 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v873 : Index := Scalar.indexCast v66
  let c1_534 : Index := 1#32
  let c60_535 : Index := 60#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v874 : Index := Scalar.indexCast v127
  let c0_536 : Index := 0#32
  ![v873.toNat, 1, 60, v874.toNat, 0]
def k0_off1568 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v879 : Index := Scalar.indexCast v66
  let c1_538 : Index := 1#32
  let c61_539 : Index := 61#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v880 : Index := Scalar.indexCast v127
  let c0_540 : Index := 0#32
  ![v879.toNat, 1, 61, v880.toNat, 0]
def k0_off1569 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v885 : Index := Scalar.indexCast v66
  let c1_542 : Index := 1#32
  let c62_543 : Index := 62#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v886 : Index := Scalar.indexCast v127
  let c0_544 : Index := 0#32
  ![v885.toNat, 1, 62, v886.toNat, 0]
def k0_off1570 (v9 : BitVec 32) (k0_t20 : Fin (k0_t20_loop v9).trips) (v62 : BitVec 32) (v68 : BitVec 32) (k0_t27 : Fin (k0_t27_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v891 : Index := Scalar.indexCast v66
  let c1_546 : Index := 1#32
  let c63_547 : Index := 63#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c1_i32_83 : BitVec 32 := 1#32
  let arg20 : BitVec 32 := Scf.iv v75 c1_i32_83 k0_t27
  let c8_i32_100 : BitVec 32 := 8#32
  let v126 : BitVec 32 := Scalar.muli arg20 c8_i32_100
  let v127 : BitVec 32 := v126
  let v892 : Index := Scalar.indexCast v127
  let c0_548 : Index := 0#32
  ![v891.toNat, 1, 63, v892.toNat, 0]
@[reducible] def k0_t28_loop (v62 : BitVec 32) (v68 : BitVec 32) : Scf.Loop 32 :=
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let v102 : BitVec 32 := Scalar.addi v75 v101
  let c1_i32_84 : BitVec 32 := 1#32
  ⟨v105, v102, c1_i32_84⟩
def k0_mult34 (v62 : BitVec 32) (v68 : BitVec 32) (k0_t28 : Fin (k0_t28_loop v62 v68).trips) : BitVec 32 :=
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  v126
def k0_off1571 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v129 : Index := Scalar.indexCast v66
  let c0 : Index := 0#32
  let c0_102 : Index := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v130 : Index := Scalar.indexCast v127
  let c0_103 : Index := 0#32
  ![v129.toNat, 0, 0, v130.toNat, 0]
def k0_off1572 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v135 : Index := Scalar.indexCast v66
  let c0_105 : Index := 0#32
  let c1 : Index := 1#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v136 : Index := Scalar.indexCast v127
  let c0_106 : Index := 0#32
  ![v135.toNat, 0, 1, v136.toNat, 0]
def k0_off1573 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v141 : Index := Scalar.indexCast v66
  let c0_108 : Index := 0#32
  let c2 : Index := 2#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v142 : Index := Scalar.indexCast v127
  let c0_109 : Index := 0#32
  ![v141.toNat, 0, 2, v142.toNat, 0]
def k0_off1574 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v147 : Index := Scalar.indexCast v66
  let c0_111 : Index := 0#32
  let c3 : Index := 3#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v148 : Index := Scalar.indexCast v127
  let c0_112 : Index := 0#32
  ![v147.toNat, 0, 3, v148.toNat, 0]
def k0_off1575 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v153 : Index := Scalar.indexCast v66
  let c0_114 : Index := 0#32
  let c4 : Index := 4#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v154 : Index := Scalar.indexCast v127
  let c0_115 : Index := 0#32
  ![v153.toNat, 0, 4, v154.toNat, 0]
def k0_off1576 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v159 : Index := Scalar.indexCast v66
  let c0_117 : Index := 0#32
  let c5 : Index := 5#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v160 : Index := Scalar.indexCast v127
  let c0_118 : Index := 0#32
  ![v159.toNat, 0, 5, v160.toNat, 0]
def k0_off1577 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v165 : Index := Scalar.indexCast v66
  let c0_120 : Index := 0#32
  let c6 : Index := 6#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v166 : Index := Scalar.indexCast v127
  let c0_121 : Index := 0#32
  ![v165.toNat, 0, 6, v166.toNat, 0]
def k0_off1578 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v171 : Index := Scalar.indexCast v66
  let c0_123 : Index := 0#32
  let c7 : Index := 7#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v172 : Index := Scalar.indexCast v127
  let c0_124 : Index := 0#32
  ![v171.toNat, 0, 7, v172.toNat, 0]
def k0_off1579 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v177 : Index := Scalar.indexCast v66
  let c0_126 : Index := 0#32
  let c8 : Index := 8#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v178 : Index := Scalar.indexCast v127
  let c0_127 : Index := 0#32
  ![v177.toNat, 0, 8, v178.toNat, 0]
def k0_off1580 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v183 : Index := Scalar.indexCast v66
  let c0_129 : Index := 0#32
  let c9 : Index := 9#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v184 : Index := Scalar.indexCast v127
  let c0_130 : Index := 0#32
  ![v183.toNat, 0, 9, v184.toNat, 0]
def k0_off1581 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v189 : Index := Scalar.indexCast v66
  let c0_132 : Index := 0#32
  let c10 : Index := 10#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v190 : Index := Scalar.indexCast v127
  let c0_133 : Index := 0#32
  ![v189.toNat, 0, 10, v190.toNat, 0]
def k0_off1582 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v195 : Index := Scalar.indexCast v66
  let c0_135 : Index := 0#32
  let c11 : Index := 11#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v196 : Index := Scalar.indexCast v127
  let c0_136 : Index := 0#32
  ![v195.toNat, 0, 11, v196.toNat, 0]
def k0_off1583 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v201 : Index := Scalar.indexCast v66
  let c0_138 : Index := 0#32
  let c12 : Index := 12#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v202 : Index := Scalar.indexCast v127
  let c0_139 : Index := 0#32
  ![v201.toNat, 0, 12, v202.toNat, 0]
def k0_off1584 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v207 : Index := Scalar.indexCast v66
  let c0_141 : Index := 0#32
  let c13 : Index := 13#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v208 : Index := Scalar.indexCast v127
  let c0_142 : Index := 0#32
  ![v207.toNat, 0, 13, v208.toNat, 0]
def k0_off1585 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v213 : Index := Scalar.indexCast v66
  let c0_144 : Index := 0#32
  let c14 : Index := 14#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v214 : Index := Scalar.indexCast v127
  let c0_145 : Index := 0#32
  ![v213.toNat, 0, 14, v214.toNat, 0]
def k0_off1586 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v219 : Index := Scalar.indexCast v66
  let c0_147 : Index := 0#32
  let c15 : Index := 15#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v220 : Index := Scalar.indexCast v127
  let c0_148 : Index := 0#32
  ![v219.toNat, 0, 15, v220.toNat, 0]
def k0_off1587 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v225 : Index := Scalar.indexCast v66
  let c0_150 : Index := 0#32
  let c16 : Index := 16#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v226 : Index := Scalar.indexCast v127
  let c0_151 : Index := 0#32
  ![v225.toNat, 0, 16, v226.toNat, 0]
def k0_off1588 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v231 : Index := Scalar.indexCast v66
  let c0_153 : Index := 0#32
  let c17 : Index := 17#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v232 : Index := Scalar.indexCast v127
  let c0_154 : Index := 0#32
  ![v231.toNat, 0, 17, v232.toNat, 0]
def k0_off1589 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v237 : Index := Scalar.indexCast v66
  let c0_156 : Index := 0#32
  let c18 : Index := 18#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v238 : Index := Scalar.indexCast v127
  let c0_157 : Index := 0#32
  ![v237.toNat, 0, 18, v238.toNat, 0]
def k0_off1590 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v243 : Index := Scalar.indexCast v66
  let c0_159 : Index := 0#32
  let c19 : Index := 19#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v244 : Index := Scalar.indexCast v127
  let c0_160 : Index := 0#32
  ![v243.toNat, 0, 19, v244.toNat, 0]
def k0_off1591 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v249 : Index := Scalar.indexCast v66
  let c0_162 : Index := 0#32
  let c20 : Index := 20#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v250 : Index := Scalar.indexCast v127
  let c0_163 : Index := 0#32
  ![v249.toNat, 0, 20, v250.toNat, 0]
def k0_off1592 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v255 : Index := Scalar.indexCast v66
  let c0_165 : Index := 0#32
  let c21 : Index := 21#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v256 : Index := Scalar.indexCast v127
  let c0_166 : Index := 0#32
  ![v255.toNat, 0, 21, v256.toNat, 0]
def k0_off1593 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v261 : Index := Scalar.indexCast v66
  let c0_168 : Index := 0#32
  let c22 : Index := 22#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v262 : Index := Scalar.indexCast v127
  let c0_169 : Index := 0#32
  ![v261.toNat, 0, 22, v262.toNat, 0]
def k0_off1594 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v267 : Index := Scalar.indexCast v66
  let c0_171 : Index := 0#32
  let c23 : Index := 23#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v268 : Index := Scalar.indexCast v127
  let c0_172 : Index := 0#32
  ![v267.toNat, 0, 23, v268.toNat, 0]
def k0_off1595 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v273 : Index := Scalar.indexCast v66
  let c0_174 : Index := 0#32
  let c24 : Index := 24#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v274 : Index := Scalar.indexCast v127
  let c0_175 : Index := 0#32
  ![v273.toNat, 0, 24, v274.toNat, 0]
def k0_off1596 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v279 : Index := Scalar.indexCast v66
  let c0_177 : Index := 0#32
  let c25 : Index := 25#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v280 : Index := Scalar.indexCast v127
  let c0_178 : Index := 0#32
  ![v279.toNat, 0, 25, v280.toNat, 0]
def k0_off1597 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v285 : Index := Scalar.indexCast v66
  let c0_180 : Index := 0#32
  let c26 : Index := 26#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v286 : Index := Scalar.indexCast v127
  let c0_181 : Index := 0#32
  ![v285.toNat, 0, 26, v286.toNat, 0]
def k0_off1598 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v291 : Index := Scalar.indexCast v66
  let c0_183 : Index := 0#32
  let c27 : Index := 27#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v292 : Index := Scalar.indexCast v127
  let c0_184 : Index := 0#32
  ![v291.toNat, 0, 27, v292.toNat, 0]
def k0_off1599 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v297 : Index := Scalar.indexCast v66
  let c0_186 : Index := 0#32
  let c28 : Index := 28#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v298 : Index := Scalar.indexCast v127
  let c0_187 : Index := 0#32
  ![v297.toNat, 0, 28, v298.toNat, 0]
def k0_off1600 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v303 : Index := Scalar.indexCast v66
  let c0_189 : Index := 0#32
  let c29 : Index := 29#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v304 : Index := Scalar.indexCast v127
  let c0_190 : Index := 0#32
  ![v303.toNat, 0, 29, v304.toNat, 0]
def k0_off1601 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v309 : Index := Scalar.indexCast v66
  let c0_192 : Index := 0#32
  let c30 : Index := 30#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v310 : Index := Scalar.indexCast v127
  let c0_193 : Index := 0#32
  ![v309.toNat, 0, 30, v310.toNat, 0]
def k0_off1602 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v315 : Index := Scalar.indexCast v66
  let c0_195 : Index := 0#32
  let c31 : Index := 31#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v316 : Index := Scalar.indexCast v127
  let c0_196 : Index := 0#32
  ![v315.toNat, 0, 31, v316.toNat, 0]
def k0_off1603 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v321 : Index := Scalar.indexCast v66
  let c0_198 : Index := 0#32
  let c32 : Index := 32#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v322 : Index := Scalar.indexCast v127
  let c0_199 : Index := 0#32
  ![v321.toNat, 0, 32, v322.toNat, 0]
def k0_off1604 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v327 : Index := Scalar.indexCast v66
  let c0_201 : Index := 0#32
  let c33 : Index := 33#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v328 : Index := Scalar.indexCast v127
  let c0_202 : Index := 0#32
  ![v327.toNat, 0, 33, v328.toNat, 0]
def k0_off1605 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v333 : Index := Scalar.indexCast v66
  let c0_204 : Index := 0#32
  let c34 : Index := 34#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v334 : Index := Scalar.indexCast v127
  let c0_205 : Index := 0#32
  ![v333.toNat, 0, 34, v334.toNat, 0]
def k0_off1606 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v339 : Index := Scalar.indexCast v66
  let c0_207 : Index := 0#32
  let c35 : Index := 35#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v340 : Index := Scalar.indexCast v127
  let c0_208 : Index := 0#32
  ![v339.toNat, 0, 35, v340.toNat, 0]
def k0_off1607 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v345 : Index := Scalar.indexCast v66
  let c0_210 : Index := 0#32
  let c36 : Index := 36#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v346 : Index := Scalar.indexCast v127
  let c0_211 : Index := 0#32
  ![v345.toNat, 0, 36, v346.toNat, 0]
def k0_off1608 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v351 : Index := Scalar.indexCast v66
  let c0_213 : Index := 0#32
  let c37 : Index := 37#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v352 : Index := Scalar.indexCast v127
  let c0_214 : Index := 0#32
  ![v351.toNat, 0, 37, v352.toNat, 0]
def k0_off1609 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v357 : Index := Scalar.indexCast v66
  let c0_216 : Index := 0#32
  let c38 : Index := 38#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v358 : Index := Scalar.indexCast v127
  let c0_217 : Index := 0#32
  ![v357.toNat, 0, 38, v358.toNat, 0]
def k0_off1610 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v363 : Index := Scalar.indexCast v66
  let c0_219 : Index := 0#32
  let c39 : Index := 39#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v364 : Index := Scalar.indexCast v127
  let c0_220 : Index := 0#32
  ![v363.toNat, 0, 39, v364.toNat, 0]
def k0_off1611 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v369 : Index := Scalar.indexCast v66
  let c0_222 : Index := 0#32
  let c40 : Index := 40#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v370 : Index := Scalar.indexCast v127
  let c0_223 : Index := 0#32
  ![v369.toNat, 0, 40, v370.toNat, 0]
def k0_off1612 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v375 : Index := Scalar.indexCast v66
  let c0_225 : Index := 0#32
  let c41 : Index := 41#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v376 : Index := Scalar.indexCast v127
  let c0_226 : Index := 0#32
  ![v375.toNat, 0, 41, v376.toNat, 0]
def k0_off1613 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v381 : Index := Scalar.indexCast v66
  let c0_228 : Index := 0#32
  let c42 : Index := 42#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v382 : Index := Scalar.indexCast v127
  let c0_229 : Index := 0#32
  ![v381.toNat, 0, 42, v382.toNat, 0]
def k0_off1614 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v387 : Index := Scalar.indexCast v66
  let c0_231 : Index := 0#32
  let c43 : Index := 43#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v388 : Index := Scalar.indexCast v127
  let c0_232 : Index := 0#32
  ![v387.toNat, 0, 43, v388.toNat, 0]
def k0_off1615 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v393 : Index := Scalar.indexCast v66
  let c0_234 : Index := 0#32
  let c44 : Index := 44#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v394 : Index := Scalar.indexCast v127
  let c0_235 : Index := 0#32
  ![v393.toNat, 0, 44, v394.toNat, 0]
def k0_off1616 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v399 : Index := Scalar.indexCast v66
  let c0_237 : Index := 0#32
  let c45 : Index := 45#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v400 : Index := Scalar.indexCast v127
  let c0_238 : Index := 0#32
  ![v399.toNat, 0, 45, v400.toNat, 0]
def k0_off1617 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v405 : Index := Scalar.indexCast v66
  let c0_240 : Index := 0#32
  let c46 : Index := 46#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v406 : Index := Scalar.indexCast v127
  let c0_241 : Index := 0#32
  ![v405.toNat, 0, 46, v406.toNat, 0]
def k0_off1618 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v411 : Index := Scalar.indexCast v66
  let c0_243 : Index := 0#32
  let c47 : Index := 47#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v412 : Index := Scalar.indexCast v127
  let c0_244 : Index := 0#32
  ![v411.toNat, 0, 47, v412.toNat, 0]
def k0_off1619 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v417 : Index := Scalar.indexCast v66
  let c0_246 : Index := 0#32
  let c48 : Index := 48#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v418 : Index := Scalar.indexCast v127
  let c0_247 : Index := 0#32
  ![v417.toNat, 0, 48, v418.toNat, 0]
def k0_off1620 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v423 : Index := Scalar.indexCast v66
  let c0_249 : Index := 0#32
  let c49 : Index := 49#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v424 : Index := Scalar.indexCast v127
  let c0_250 : Index := 0#32
  ![v423.toNat, 0, 49, v424.toNat, 0]
def k0_off1621 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v429 : Index := Scalar.indexCast v66
  let c0_252 : Index := 0#32
  let c50 : Index := 50#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v430 : Index := Scalar.indexCast v127
  let c0_253 : Index := 0#32
  ![v429.toNat, 0, 50, v430.toNat, 0]
def k0_off1622 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v435 : Index := Scalar.indexCast v66
  let c0_255 : Index := 0#32
  let c51 : Index := 51#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v436 : Index := Scalar.indexCast v127
  let c0_256 : Index := 0#32
  ![v435.toNat, 0, 51, v436.toNat, 0]
def k0_off1623 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v441 : Index := Scalar.indexCast v66
  let c0_258 : Index := 0#32
  let c52 : Index := 52#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v442 : Index := Scalar.indexCast v127
  let c0_259 : Index := 0#32
  ![v441.toNat, 0, 52, v442.toNat, 0]
def k0_off1624 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v447 : Index := Scalar.indexCast v66
  let c0_261 : Index := 0#32
  let c53 : Index := 53#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v448 : Index := Scalar.indexCast v127
  let c0_262 : Index := 0#32
  ![v447.toNat, 0, 53, v448.toNat, 0]
def k0_off1625 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v453 : Index := Scalar.indexCast v66
  let c0_264 : Index := 0#32
  let c54 : Index := 54#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v454 : Index := Scalar.indexCast v127
  let c0_265 : Index := 0#32
  ![v453.toNat, 0, 54, v454.toNat, 0]
def k0_off1626 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v459 : Index := Scalar.indexCast v66
  let c0_267 : Index := 0#32
  let c55 : Index := 55#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v460 : Index := Scalar.indexCast v127
  let c0_268 : Index := 0#32
  ![v459.toNat, 0, 55, v460.toNat, 0]
def k0_off1627 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v465 : Index := Scalar.indexCast v66
  let c0_270 : Index := 0#32
  let c56 : Index := 56#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v466 : Index := Scalar.indexCast v127
  let c0_271 : Index := 0#32
  ![v465.toNat, 0, 56, v466.toNat, 0]
def k0_off1628 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v471 : Index := Scalar.indexCast v66
  let c0_273 : Index := 0#32
  let c57 : Index := 57#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v472 : Index := Scalar.indexCast v127
  let c0_274 : Index := 0#32
  ![v471.toNat, 0, 57, v472.toNat, 0]
def k0_off1629 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v477 : Index := Scalar.indexCast v66
  let c0_276 : Index := 0#32
  let c58 : Index := 58#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v478 : Index := Scalar.indexCast v127
  let c0_277 : Index := 0#32
  ![v477.toNat, 0, 58, v478.toNat, 0]
def k0_off1630 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v483 : Index := Scalar.indexCast v66
  let c0_279 : Index := 0#32
  let c59 : Index := 59#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v484 : Index := Scalar.indexCast v127
  let c0_280 : Index := 0#32
  ![v483.toNat, 0, 59, v484.toNat, 0]
def k0_off1631 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v489 : Index := Scalar.indexCast v66
  let c0_282 : Index := 0#32
  let c60 : Index := 60#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v490 : Index := Scalar.indexCast v127
  let c0_283 : Index := 0#32
  ![v489.toNat, 0, 60, v490.toNat, 0]
def k0_off1632 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v495 : Index := Scalar.indexCast v66
  let c0_285 : Index := 0#32
  let c61 : Index := 61#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v496 : Index := Scalar.indexCast v127
  let c0_286 : Index := 0#32
  ![v495.toNat, 0, 61, v496.toNat, 0]
def k0_off1633 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v501 : Index := Scalar.indexCast v66
  let c0_288 : Index := 0#32
  let c62 : Index := 62#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v502 : Index := Scalar.indexCast v127
  let c0_289 : Index := 0#32
  ![v501.toNat, 0, 62, v502.toNat, 0]
def k0_off1634 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v507 : Index := Scalar.indexCast v66
  let c0_291 : Index := 0#32
  let c63 : Index := 63#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v508 : Index := Scalar.indexCast v127
  let c0_292 : Index := 0#32
  ![v507.toNat, 0, 63, v508.toNat, 0]
def k0_off1635 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v513 : Index := Scalar.indexCast v66
  let c1_294 : Index := 1#32
  let c0_295 : Index := 0#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v514 : Index := Scalar.indexCast v127
  let c0_296 : Index := 0#32
  ![v513.toNat, 1, 0, v514.toNat, 0]
def k0_off1636 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v519 : Index := Scalar.indexCast v66
  let c1_298 : Index := 1#32
  let c1_299 : Index := 1#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v520 : Index := Scalar.indexCast v127
  let c0_300 : Index := 0#32
  ![v519.toNat, 1, 1, v520.toNat, 0]
def k0_off1637 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v525 : Index := Scalar.indexCast v66
  let c1_302 : Index := 1#32
  let c2_303 : Index := 2#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v526 : Index := Scalar.indexCast v127
  let c0_304 : Index := 0#32
  ![v525.toNat, 1, 2, v526.toNat, 0]
def k0_off1638 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v531 : Index := Scalar.indexCast v66
  let c1_306 : Index := 1#32
  let c3_307 : Index := 3#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v532 : Index := Scalar.indexCast v127
  let c0_308 : Index := 0#32
  ![v531.toNat, 1, 3, v532.toNat, 0]
def k0_off1639 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v537 : Index := Scalar.indexCast v66
  let c1_310 : Index := 1#32
  let c4_311 : Index := 4#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v538 : Index := Scalar.indexCast v127
  let c0_312 : Index := 0#32
  ![v537.toNat, 1, 4, v538.toNat, 0]
def k0_off1640 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v543 : Index := Scalar.indexCast v66
  let c1_314 : Index := 1#32
  let c5_315 : Index := 5#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v544 : Index := Scalar.indexCast v127
  let c0_316 : Index := 0#32
  ![v543.toNat, 1, 5, v544.toNat, 0]
def k0_off1641 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v549 : Index := Scalar.indexCast v66
  let c1_318 : Index := 1#32
  let c6_319 : Index := 6#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v550 : Index := Scalar.indexCast v127
  let c0_320 : Index := 0#32
  ![v549.toNat, 1, 6, v550.toNat, 0]
def k0_off1642 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v555 : Index := Scalar.indexCast v66
  let c1_322 : Index := 1#32
  let c7_323 : Index := 7#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v556 : Index := Scalar.indexCast v127
  let c0_324 : Index := 0#32
  ![v555.toNat, 1, 7, v556.toNat, 0]
def k0_off1643 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v561 : Index := Scalar.indexCast v66
  let c1_326 : Index := 1#32
  let c8_327 : Index := 8#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v562 : Index := Scalar.indexCast v127
  let c0_328 : Index := 0#32
  ![v561.toNat, 1, 8, v562.toNat, 0]
def k0_off1644 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v567 : Index := Scalar.indexCast v66
  let c1_330 : Index := 1#32
  let c9_331 : Index := 9#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v568 : Index := Scalar.indexCast v127
  let c0_332 : Index := 0#32
  ![v567.toNat, 1, 9, v568.toNat, 0]
def k0_off1645 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v573 : Index := Scalar.indexCast v66
  let c1_334 : Index := 1#32
  let c10_335 : Index := 10#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v574 : Index := Scalar.indexCast v127
  let c0_336 : Index := 0#32
  ![v573.toNat, 1, 10, v574.toNat, 0]
def k0_off1646 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v579 : Index := Scalar.indexCast v66
  let c1_338 : Index := 1#32
  let c11_339 : Index := 11#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v580 : Index := Scalar.indexCast v127
  let c0_340 : Index := 0#32
  ![v579.toNat, 1, 11, v580.toNat, 0]
def k0_off1647 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v585 : Index := Scalar.indexCast v66
  let c1_342 : Index := 1#32
  let c12_343 : Index := 12#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v586 : Index := Scalar.indexCast v127
  let c0_344 : Index := 0#32
  ![v585.toNat, 1, 12, v586.toNat, 0]
def k0_off1648 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v591 : Index := Scalar.indexCast v66
  let c1_346 : Index := 1#32
  let c13_347 : Index := 13#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v592 : Index := Scalar.indexCast v127
  let c0_348 : Index := 0#32
  ![v591.toNat, 1, 13, v592.toNat, 0]
def k0_off1649 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v597 : Index := Scalar.indexCast v66
  let c1_350 : Index := 1#32
  let c14_351 : Index := 14#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v598 : Index := Scalar.indexCast v127
  let c0_352 : Index := 0#32
  ![v597.toNat, 1, 14, v598.toNat, 0]
def k0_off1650 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v603 : Index := Scalar.indexCast v66
  let c1_354 : Index := 1#32
  let c15_355 : Index := 15#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v604 : Index := Scalar.indexCast v127
  let c0_356 : Index := 0#32
  ![v603.toNat, 1, 15, v604.toNat, 0]
def k0_off1651 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v609 : Index := Scalar.indexCast v66
  let c1_358 : Index := 1#32
  let c16_359 : Index := 16#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v610 : Index := Scalar.indexCast v127
  let c0_360 : Index := 0#32
  ![v609.toNat, 1, 16, v610.toNat, 0]
def k0_off1652 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v615 : Index := Scalar.indexCast v66
  let c1_362 : Index := 1#32
  let c17_363 : Index := 17#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v616 : Index := Scalar.indexCast v127
  let c0_364 : Index := 0#32
  ![v615.toNat, 1, 17, v616.toNat, 0]
def k0_off1653 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v621 : Index := Scalar.indexCast v66
  let c1_366 : Index := 1#32
  let c18_367 : Index := 18#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v622 : Index := Scalar.indexCast v127
  let c0_368 : Index := 0#32
  ![v621.toNat, 1, 18, v622.toNat, 0]
def k0_off1654 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v627 : Index := Scalar.indexCast v66
  let c1_370 : Index := 1#32
  let c19_371 : Index := 19#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v628 : Index := Scalar.indexCast v127
  let c0_372 : Index := 0#32
  ![v627.toNat, 1, 19, v628.toNat, 0]
def k0_off1655 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v633 : Index := Scalar.indexCast v66
  let c1_374 : Index := 1#32
  let c20_375 : Index := 20#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v634 : Index := Scalar.indexCast v127
  let c0_376 : Index := 0#32
  ![v633.toNat, 1, 20, v634.toNat, 0]
def k0_off1656 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v639 : Index := Scalar.indexCast v66
  let c1_378 : Index := 1#32
  let c21_379 : Index := 21#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v640 : Index := Scalar.indexCast v127
  let c0_380 : Index := 0#32
  ![v639.toNat, 1, 21, v640.toNat, 0]
def k0_off1657 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v645 : Index := Scalar.indexCast v66
  let c1_382 : Index := 1#32
  let c22_383 : Index := 22#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v646 : Index := Scalar.indexCast v127
  let c0_384 : Index := 0#32
  ![v645.toNat, 1, 22, v646.toNat, 0]
def k0_off1658 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v651 : Index := Scalar.indexCast v66
  let c1_386 : Index := 1#32
  let c23_387 : Index := 23#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v652 : Index := Scalar.indexCast v127
  let c0_388 : Index := 0#32
  ![v651.toNat, 1, 23, v652.toNat, 0]
def k0_off1659 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v657 : Index := Scalar.indexCast v66
  let c1_390 : Index := 1#32
  let c24_391 : Index := 24#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v658 : Index := Scalar.indexCast v127
  let c0_392 : Index := 0#32
  ![v657.toNat, 1, 24, v658.toNat, 0]
def k0_off1660 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v663 : Index := Scalar.indexCast v66
  let c1_394 : Index := 1#32
  let c25_395 : Index := 25#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v664 : Index := Scalar.indexCast v127
  let c0_396 : Index := 0#32
  ![v663.toNat, 1, 25, v664.toNat, 0]
def k0_off1661 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v669 : Index := Scalar.indexCast v66
  let c1_398 : Index := 1#32
  let c26_399 : Index := 26#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v670 : Index := Scalar.indexCast v127
  let c0_400 : Index := 0#32
  ![v669.toNat, 1, 26, v670.toNat, 0]
def k0_off1662 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v675 : Index := Scalar.indexCast v66
  let c1_402 : Index := 1#32
  let c27_403 : Index := 27#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v676 : Index := Scalar.indexCast v127
  let c0_404 : Index := 0#32
  ![v675.toNat, 1, 27, v676.toNat, 0]
def k0_off1663 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v681 : Index := Scalar.indexCast v66
  let c1_406 : Index := 1#32
  let c28_407 : Index := 28#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v682 : Index := Scalar.indexCast v127
  let c0_408 : Index := 0#32
  ![v681.toNat, 1, 28, v682.toNat, 0]
def k0_off1664 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v687 : Index := Scalar.indexCast v66
  let c1_410 : Index := 1#32
  let c29_411 : Index := 29#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v688 : Index := Scalar.indexCast v127
  let c0_412 : Index := 0#32
  ![v687.toNat, 1, 29, v688.toNat, 0]
def k0_off1665 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v693 : Index := Scalar.indexCast v66
  let c1_414 : Index := 1#32
  let c30_415 : Index := 30#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v694 : Index := Scalar.indexCast v127
  let c0_416 : Index := 0#32
  ![v693.toNat, 1, 30, v694.toNat, 0]
def k0_off1666 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v699 : Index := Scalar.indexCast v66
  let c1_418 : Index := 1#32
  let c31_419 : Index := 31#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v700 : Index := Scalar.indexCast v127
  let c0_420 : Index := 0#32
  ![v699.toNat, 1, 31, v700.toNat, 0]
def k0_off1667 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v705 : Index := Scalar.indexCast v66
  let c1_422 : Index := 1#32
  let c32_423 : Index := 32#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v706 : Index := Scalar.indexCast v127
  let c0_424 : Index := 0#32
  ![v705.toNat, 1, 32, v706.toNat, 0]
def k0_off1668 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v711 : Index := Scalar.indexCast v66
  let c1_426 : Index := 1#32
  let c33_427 : Index := 33#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v712 : Index := Scalar.indexCast v127
  let c0_428 : Index := 0#32
  ![v711.toNat, 1, 33, v712.toNat, 0]
def k0_off1669 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v717 : Index := Scalar.indexCast v66
  let c1_430 : Index := 1#32
  let c34_431 : Index := 34#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v718 : Index := Scalar.indexCast v127
  let c0_432 : Index := 0#32
  ![v717.toNat, 1, 34, v718.toNat, 0]
def k0_off1670 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v723 : Index := Scalar.indexCast v66
  let c1_434 : Index := 1#32
  let c35_435 : Index := 35#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v724 : Index := Scalar.indexCast v127
  let c0_436 : Index := 0#32
  ![v723.toNat, 1, 35, v724.toNat, 0]
def k0_off1671 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v729 : Index := Scalar.indexCast v66
  let c1_438 : Index := 1#32
  let c36_439 : Index := 36#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v730 : Index := Scalar.indexCast v127
  let c0_440 : Index := 0#32
  ![v729.toNat, 1, 36, v730.toNat, 0]
def k0_off1672 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v735 : Index := Scalar.indexCast v66
  let c1_442 : Index := 1#32
  let c37_443 : Index := 37#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v736 : Index := Scalar.indexCast v127
  let c0_444 : Index := 0#32
  ![v735.toNat, 1, 37, v736.toNat, 0]
def k0_off1673 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v741 : Index := Scalar.indexCast v66
  let c1_446 : Index := 1#32
  let c38_447 : Index := 38#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v742 : Index := Scalar.indexCast v127
  let c0_448 : Index := 0#32
  ![v741.toNat, 1, 38, v742.toNat, 0]
def k0_off1674 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v747 : Index := Scalar.indexCast v66
  let c1_450 : Index := 1#32
  let c39_451 : Index := 39#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v748 : Index := Scalar.indexCast v127
  let c0_452 : Index := 0#32
  ![v747.toNat, 1, 39, v748.toNat, 0]
def k0_off1675 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v753 : Index := Scalar.indexCast v66
  let c1_454 : Index := 1#32
  let c40_455 : Index := 40#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v754 : Index := Scalar.indexCast v127
  let c0_456 : Index := 0#32
  ![v753.toNat, 1, 40, v754.toNat, 0]
def k0_off1676 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v759 : Index := Scalar.indexCast v66
  let c1_458 : Index := 1#32
  let c41_459 : Index := 41#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v760 : Index := Scalar.indexCast v127
  let c0_460 : Index := 0#32
  ![v759.toNat, 1, 41, v760.toNat, 0]
def k0_off1677 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v765 : Index := Scalar.indexCast v66
  let c1_462 : Index := 1#32
  let c42_463 : Index := 42#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v766 : Index := Scalar.indexCast v127
  let c0_464 : Index := 0#32
  ![v765.toNat, 1, 42, v766.toNat, 0]
def k0_off1678 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v771 : Index := Scalar.indexCast v66
  let c1_466 : Index := 1#32
  let c43_467 : Index := 43#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v772 : Index := Scalar.indexCast v127
  let c0_468 : Index := 0#32
  ![v771.toNat, 1, 43, v772.toNat, 0]
def k0_off1679 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v777 : Index := Scalar.indexCast v66
  let c1_470 : Index := 1#32
  let c44_471 : Index := 44#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v778 : Index := Scalar.indexCast v127
  let c0_472 : Index := 0#32
  ![v777.toNat, 1, 44, v778.toNat, 0]
def k0_off1680 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v783 : Index := Scalar.indexCast v66
  let c1_474 : Index := 1#32
  let c45_475 : Index := 45#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v784 : Index := Scalar.indexCast v127
  let c0_476 : Index := 0#32
  ![v783.toNat, 1, 45, v784.toNat, 0]
def k0_off1681 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v789 : Index := Scalar.indexCast v66
  let c1_478 : Index := 1#32
  let c46_479 : Index := 46#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v790 : Index := Scalar.indexCast v127
  let c0_480 : Index := 0#32
  ![v789.toNat, 1, 46, v790.toNat, 0]
def k0_off1682 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v795 : Index := Scalar.indexCast v66
  let c1_482 : Index := 1#32
  let c47_483 : Index := 47#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v796 : Index := Scalar.indexCast v127
  let c0_484 : Index := 0#32
  ![v795.toNat, 1, 47, v796.toNat, 0]
def k0_off1683 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v801 : Index := Scalar.indexCast v66
  let c1_486 : Index := 1#32
  let c48_487 : Index := 48#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v802 : Index := Scalar.indexCast v127
  let c0_488 : Index := 0#32
  ![v801.toNat, 1, 48, v802.toNat, 0]
def k0_off1684 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v807 : Index := Scalar.indexCast v66
  let c1_490 : Index := 1#32
  let c49_491 : Index := 49#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v808 : Index := Scalar.indexCast v127
  let c0_492 : Index := 0#32
  ![v807.toNat, 1, 49, v808.toNat, 0]
def k0_off1685 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v813 : Index := Scalar.indexCast v66
  let c1_494 : Index := 1#32
  let c50_495 : Index := 50#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v814 : Index := Scalar.indexCast v127
  let c0_496 : Index := 0#32
  ![v813.toNat, 1, 50, v814.toNat, 0]
def k0_off1686 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v819 : Index := Scalar.indexCast v66
  let c1_498 : Index := 1#32
  let c51_499 : Index := 51#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v820 : Index := Scalar.indexCast v127
  let c0_500 : Index := 0#32
  ![v819.toNat, 1, 51, v820.toNat, 0]
def k0_off1687 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v825 : Index := Scalar.indexCast v66
  let c1_502 : Index := 1#32
  let c52_503 : Index := 52#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v826 : Index := Scalar.indexCast v127
  let c0_504 : Index := 0#32
  ![v825.toNat, 1, 52, v826.toNat, 0]
def k0_off1688 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v831 : Index := Scalar.indexCast v66
  let c1_506 : Index := 1#32
  let c53_507 : Index := 53#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v832 : Index := Scalar.indexCast v127
  let c0_508 : Index := 0#32
  ![v831.toNat, 1, 53, v832.toNat, 0]
def k0_off1689 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v837 : Index := Scalar.indexCast v66
  let c1_510 : Index := 1#32
  let c54_511 : Index := 54#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v838 : Index := Scalar.indexCast v127
  let c0_512 : Index := 0#32
  ![v837.toNat, 1, 54, v838.toNat, 0]
def k0_off1690 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v843 : Index := Scalar.indexCast v66
  let c1_514 : Index := 1#32
  let c55_515 : Index := 55#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v844 : Index := Scalar.indexCast v127
  let c0_516 : Index := 0#32
  ![v843.toNat, 1, 55, v844.toNat, 0]
def k0_off1691 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v849 : Index := Scalar.indexCast v66
  let c1_518 : Index := 1#32
  let c56_519 : Index := 56#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v850 : Index := Scalar.indexCast v127
  let c0_520 : Index := 0#32
  ![v849.toNat, 1, 56, v850.toNat, 0]
def k0_off1692 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v855 : Index := Scalar.indexCast v66
  let c1_522 : Index := 1#32
  let c57_523 : Index := 57#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v856 : Index := Scalar.indexCast v127
  let c0_524 : Index := 0#32
  ![v855.toNat, 1, 57, v856.toNat, 0]
def k0_off1693 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v861 : Index := Scalar.indexCast v66
  let c1_526 : Index := 1#32
  let c58_527 : Index := 58#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v862 : Index := Scalar.indexCast v127
  let c0_528 : Index := 0#32
  ![v861.toNat, 1, 58, v862.toNat, 0]
def k0_off1694 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v867 : Index := Scalar.indexCast v66
  let c1_530 : Index := 1#32
  let c59_531 : Index := 59#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v868 : Index := Scalar.indexCast v127
  let c0_532 : Index := 0#32
  ![v867.toNat, 1, 59, v868.toNat, 0]
def k0_off1695 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v873 : Index := Scalar.indexCast v66
  let c1_534 : Index := 1#32
  let c60_535 : Index := 60#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v874 : Index := Scalar.indexCast v127
  let c0_536 : Index := 0#32
  ![v873.toNat, 1, 60, v874.toNat, 0]
def k0_off1696 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v879 : Index := Scalar.indexCast v66
  let c1_538 : Index := 1#32
  let c61_539 : Index := 61#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v880 : Index := Scalar.indexCast v127
  let c0_540 : Index := 0#32
  ![v879.toNat, 1, 61, v880.toNat, 0]
def k0_off1697 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v885 : Index := Scalar.indexCast v66
  let c1_542 : Index := 1#32
  let c62_543 : Index := 62#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v886 : Index := Scalar.indexCast v127
  let c0_544 : Index := 0#32
  ![v885.toNat, 1, 62, v886.toNat, 0]
def k0_off1698 (v9 : BitVec 32) (k0_t20 : Fin (k0_t20_loop v9).trips) (v62 : BitVec 32) (v68 : BitVec 32) (k0_t28 : Fin (k0_t28_loop v62 v68).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let v891 : Index := Scalar.indexCast v66
  let c1_546 : Index := 1#32
  let c63_547 : Index := 63#32
  let c8_i32 : BitVec 32 := 8#32
  let c0_i32_63 : BitVec 32 := 0#32
  let c32_i32_58 : BitVec 32 := 32#32
  let v64 : BitVec 32 := Scalar.remsi v62 c32_i32_58
  let c128_i32 : BitVec 32 := 128#32
  let v69 : BitVec 32 := Scalar.muli v64 c128_i32
  let v70 : BitVec 32 := Scalar.subi v68 v69
  let c16_i32 : BitVec 32 := 16#32
  let v71 : BitVec 32 := Scalar.addi v70 c16_i32
  let c1_i32_61 : BitVec 32 := 1#32
  let v72 : BitVec 32 := Scalar.subi v71 c1_i32_61
  let c16_i32_62 : BitVec 32 := 16#32
  let v73 : BitVec 32 := Scalar.divsi v72 c16_i32_62
  let v74 : BitVec 32 := Scalar.maxsi c0_i32_63 v73
  let v75 : BitVec 32 := Scalar.minsi c8_i32 v74
  let c8_i32_80 : BitVec 32 := 8#32
  let v101 : BitVec 32 := Scalar.subi c8_i32_80 v75
  let c1_i32_82 : BitVec 32 := 1#32
  let v103 : BitVec 32 := Scalar.divsi v101 c1_i32_82
  let v104 : BitVec 32 := Scalar.muli v103 c1_i32_82
  let v105 : BitVec 32 := Scalar.addi v75 v104
  let c1_i32_84 : BitVec 32 := 1#32
  let arg20 : BitVec 32 := Scf.iv v105 c1_i32_84 k0_t28
  let c8_i32_100 : BitVec 32 := 8#32
  let v126 : BitVec 32 := Scalar.muli arg20 c8_i32_100
  let v127 : BitVec 32 := v126
  let v892 : Index := Scalar.indexCast v127
  let c0_548 : Index := 0#32
  ![v891.toNat, 1, 63, v892.toNat, 0]

def k0_chk32_0 (v9 : BitVec 32) (k0_t20 : Fin (k0_t20_loop v9).trips) (v62 : BitVec 32) (v68 : BitVec 32) : Prop :=
  ((k0_t23_loop v62 v68).OK) ∧
  (∀ k0_t23 : Fin (k0_t23_loop v62 v68).trips, ∀ a, (k0_off917 v9 k0_t20) a + S1.size a ≤ S4.size a) ∧
  (∀ k0_t23 : Fin (k0_t23_loop v62 v68).trips, ∀ a, (k0_off918 v9 k0_t20 v62 v68 k0_t23) a + S1x1x1x1024x128.size a ≤ S4x2x8x1024x128.size a) ∧
  (∀ k0_t23 : Fin (k0_t23_loop v62 v68).trips, ∀ (hinb : ∀ a, (k0_off918 v9 k0_t20 v62 v68 k0_t23) a + S1x1x1x1024x128.size a ≤ S4x2x8x1024x128.size a), (Rect.unit (s := S4x2x8x1024x128) (k0_off918 v9 k0_t20 v62 v68 k0_t23) S1x1x1x1024x128.size hinb).WholeWords (EltTy.packing .fp8e4m3)) ∧
  (∀ k0_t23 : Fin (k0_t23_loop v62 v68).trips, ∀ a, (k0_off919 v9 k0_t20 v62 v68 k0_t23) a + S1x1x1x1024x128.size a ≤ S4x2x8x1024x128.size a) ∧
  (∀ k0_t23 : Fin (k0_t23_loop v62 v68).trips, ∀ (hinb : ∀ a, (k0_off919 v9 k0_t20 v62 v68 k0_t23) a + S1x1x1x1024x128.size a ≤ S4x2x8x1024x128.size a), (Rect.unit (s := S4x2x8x1024x128) (k0_off919 v9 k0_t20 v62 v68 k0_t23) S1x1x1x1024x128.size hinb).WholeWords (EltTy.packing .fp8e4m3)) ∧
  ((k0_t24_loop v62 v68).OK) ∧
  (∀ k0_t24 : Fin (k0_t24_loop v62 v68).trips, ∀ a, (k0_off920 v9 k0_t20) a + S1.size a ≤ S4.size a) ∧
  (∀ k0_t24 : Fin (k0_t24_loop v62 v68).trips, ∀ a, (k0_off921 v9 k0_t20 v62 v68 k0_t24) a + S1x1x1x1024x128.size a ≤ S4x2x8x1024x128.size a) ∧
  (∀ k0_t24 : Fin (k0_t24_loop v62 v68).trips, ∀ (hinb : ∀ a, (k0_off921 v9 k0_t20 v62 v68 k0_t24) a + S1x1x1x1024x128.size a ≤ S4x2x8x1024x128.size a), (Rect.unit (s := S4x2x8x1024x128) (k0_off921 v9 k0_t20 v62 v68 k0_t24) S1x1x1x1024x128.size hinb).WholeWords (EltTy.packing .fp8e4m3)) ∧
  (∀ k0_t24 : Fin (k0_t24_loop v62 v68).trips, ∀ a, (k0_off922 v9 k0_t20 v62 v68 k0_t24) a + S1x1x1x1024x128.size a ≤ S4x2x8x1024x128.size a) ∧
  (∀ k0_t24 : Fin (k0_t24_loop v62 v68).trips, ∀ (hinb : ∀ a, (k0_off922 v9 k0_t20 v62 v68 k0_t24) a + S1x1x1x1024x128.size a ≤ S4x2x8x1024x128.size a), (Rect.unit (s := S4x2x8x1024x128) (k0_off922 v9 k0_t20 v62 v68 k0_t24) S1x1x1x1024x128.size hinb).WholeWords (EltTy.packing .fp8e4m3)) ∧
  ((k0_t25_loop v62 v68).OK) ∧
  (∀ k0_t25 : Fin (k0_t25_loop v62 v68).trips, ∀ a, (k0_off927 v62 v68 k0_t25) a + S1x1.size a ≤ S5x256.size a) ∧
  (∀ k0_t25 : Fin (k0_t25_loop v62 v68).trips, ∀ a, (k0_off928 v62) a + S1.size a ≤ S5.size a) ∧
  (∀ k0_t25 : Fin (k0_t25_loop v62 v68).trips, 8 ∣ (k0_mult31 v62 v68 k0_t25).toNat) ∧
  (∀ k0_t25 : Fin (k0_t25_loop v62 v68).trips, ∀ a, (k0_off929 v9 k0_t20 v62 v68 k0_t25) a + S1x1x1x32x128.size a ≤ S4x2x8x1024x128.size a) ∧
  (∀ k0_t25 : Fin (k0_t25_loop v62 v68).trips, ∀ a, (k0_off931 v9 k0_t20 v62 v68 k0_t25) a + S1x1x1x8x128.size a ≤ S4x2x64x64x128.size a) ∧
  (∀ k0_t25 : Fin (k0_t25_loop v62 v68).trips, ∀ a, (k0_off932 v9 k0_t20 v62 v68 k0_t25) a + S1x1x1x8x128.size a ≤ S4x2x64x64x128.size a) ∧
  (∀ k0_t25 : Fin (k0_t25_loop v62 v68).trips, ∀ a, (k0_off933 v9 k0_t20 v62 v68 k0_t25) a + S1x1x1x32x128.size a ≤ S4x2x8x1024x128.size a) ∧
  (∀ k0_t25 : Fin (k0_t25_loop v62 v68).trips, ∀ a, (k0_off935 v9 k0_t20 v62 v68 k0_t25) a + S1x1x1x8x128.size a ≤ S4x2x64x64x128.size a) ∧
  (∀ k0_t25 : Fin (k0_t25_loop v62 v68).trips, ∀ a, (k0_off936 v9 k0_t20 v62 v68 k0_t25) a + S1x1x1x8x128.size a ≤ S4x2x64x64x128.size a) ∧
  (∀ k0_t25 : Fin (k0_t25_loop v62 v68).trips, ∀ a, (k0_off937 v9 k0_t20 v62 v68 k0_t25) a + S1x1x1x32x128.size a ≤ S4x2x8x1024x128.size a) ∧
  (∀ k0_t25 : Fin (k0_t25_loop v62 v68).trips, ∀ a, (k0_off939 v9 k0_t20 v62 v68 k0_t25) a + S1x1x1x8x128.size a ≤ S4x2x64x64x128.size a) ∧
  (∀ k0_t25 : Fin (k0_t25_loop v62 v68).trips, ∀ a, (k0_off940 v9 k0_t20 v62 v68 k0_t25) a + S1x1x1x8x128.size a ≤ S4x2x64x64x128.size a) ∧
  (∀ k0_t25 : Fin (k0_t25_loop v62 v68).trips, ∀ a, (k0_off941 v9 k0_t20 v62 v68 k0_t25) a + S1x1x1x32x128.size a ≤ S4x2x8x1024x128.size a) ∧
  (∀ k0_t25 : Fin (k0_t25_loop v62 v68).trips, ∀ a, (k0_off943 v9 k0_t20 v62 v68 k0_t25) a + S1x1x1x8x128.size a ≤ S4x2x64x64x128.size a) ∧
  (∀ k0_t25 : Fin (k0_t25_loop v62 v68).trips, ∀ a, (k0_off944 v9 k0_t20 v62 v68 k0_t25) a + S1x1x1x8x128.size a ≤ S4x2x64x64x128.size a) ∧
  (∀ k0_t25 : Fin (k0_t25_loop v62 v68).trips, ∀ a, (k0_off945 v9 k0_t20 v62 v68 k0_t25) a + S1x1x1x32x128.size a ≤ S4x2x8x1024x128.size a) ∧
  (∀ k0_t25 : Fin (k0_t25_loop v62 v68).trips, ∀ a, (k0_off947 v9 k0_t20 v62 v68 k0_t25) a + S1x1x1x8x128.size a ≤ S4x2x64x64x128.size a) ∧
  (∀ k0_t25 : Fin (k0_t25_loop v62 v68).trips, ∀ a, (k0_off948 v9 k0_t20 v62 v68 k0_t25) a + S1x1x1x8x128.size a ≤ S4x2x64x64x128.size a) ∧
  (∀ k0_t25 : Fin (k0_t25_loop v62 v68).trips, ∀ a, (k0_off949 v9 k0_t20 v62 v68 k0_t25) a + S1x1x1x32x128.size a ≤ S4x2x8x1024x128.size a)
def k0_chk32_1 (v9 : BitVec 32) (k0_t20 : Fin (k0_t20_loop v9).trips) (v62 : BitVec 32) (v68 : BitVec 32) : Prop :=
  (∀ k0_t25 : Fin (k0_t25_loop v62 v68).trips, ∀ a, (k0_off951 v9 k0_t20 v62 v68 k0_t25) a + S1x1x1x8x128.size a ≤ S4x2x64x64x128.size a) ∧
  (∀ k0_t25 : Fin (k0_t25_loop v62 v68).trips, ∀ a, (k0_off952 v9 k0_t20 v62 v68 k0_t25) a + S1x1x1x8x128.size a ≤ S4x2x64x64x128.size a) ∧
  (∀ k0_t25 : Fin (k0_t25_loop v62 v68).trips, ∀ a, (k0_off953 v9 k0_t20 v62 v68 k0_t25) a + S1x1x1x32x128.size a ≤ S4x2x8x1024x128.size a) ∧
  (∀ k0_t25 : Fin (k0_t25_loop v62 v68).trips, ∀ a, (k0_off955 v9 k0_t20 v62 v68 k0_t25) a + S1x1x1x8x128.size a ≤ S4x2x64x64x128.size a) ∧
  (∀ k0_t25 : Fin (k0_t25_loop v62 v68).trips, ∀ a, (k0_off956 v9 k0_t20 v62 v68 k0_t25) a + S1x1x1x8x128.size a ≤ S4x2x64x64x128.size a) ∧
  (∀ k0_t25 : Fin (k0_t25_loop v62 v68).trips, ∀ a, (k0_off957 v9 k0_t20 v62 v68 k0_t25) a + S1x1x1x32x128.size a ≤ S4x2x8x1024x128.size a) ∧
  (∀ k0_t25 : Fin (k0_t25_loop v62 v68).trips, ∀ a, (k0_off959 v9 k0_t20 v62 v68 k0_t25) a + S1x1x1x8x128.size a ≤ S4x2x64x64x128.size a) ∧
  (∀ k0_t25 : Fin (k0_t25_loop v62 v68).trips, ∀ a, (k0_off960 v9 k0_t20 v62 v68 k0_t25) a + S1x1x1x8x128.size a ≤ S4x2x64x64x128.size a) ∧
  (∀ k0_t25 : Fin (k0_t25_loop v62 v68).trips, ∀ a, (k0_off961 v9 k0_t20 v62 v68 k0_t25) a + S1x1x1x32x128.size a ≤ S4x2x8x1024x128.size a) ∧
  (∀ k0_t25 : Fin (k0_t25_loop v62 v68).trips, ∀ a, (k0_off963 v9 k0_t20 v62 v68 k0_t25) a + S1x1x1x8x128.size a ≤ S4x2x64x64x128.size a) ∧
  (∀ k0_t25 : Fin (k0_t25_loop v62 v68).trips, ∀ a, (k0_off964 v9 k0_t20 v62 v68 k0_t25) a + S1x1x1x8x128.size a ≤ S4x2x64x64x128.size a) ∧
  (∀ k0_t25 : Fin (k0_t25_loop v62 v68).trips, ∀ a, (k0_off965 v9 k0_t20 v62 v68 k0_t25) a + S1x1x1x32x128.size a ≤ S4x2x8x1024x128.size a) ∧
  (∀ k0_t25 : Fin (k0_t25_loop v62 v68).trips, ∀ a, (k0_off967 v9 k0_t20 v62 v68 k0_t25) a + S1x1x1x8x128.size a ≤ S4x2x64x64x128.size a) ∧
  (∀ k0_t25 : Fin (k0_t25_loop v62 v68).trips, ∀ a, (k0_off968 v9 k0_t20 v62 v68 k0_t25) a + S1x1x1x8x128.size a ≤ S4x2x64x64x128.size a) ∧
  (∀ k0_t25 : Fin (k0_t25_loop v62 v68).trips, ∀ a, (k0_off969 v9 k0_t20 v62 v68 k0_t25) a + S1x1x1x32x128.size a ≤ S4x2x8x1024x128.size a) ∧
  (∀ k0_t25 : Fin (k0_t25_loop v62 v68).trips, ∀ a, (k0_off971 v9 k0_t20 v62 v68 k0_t25) a + S1x1x1x8x128.size a ≤ S4x2x64x64x128.size a) ∧
  (∀ k0_t25 : Fin (k0_t25_loop v62 v68).trips, ∀ a, (k0_off972 v9 k0_t20 v62 v68 k0_t25) a + S1x1x1x8x128.size a ≤ S4x2x64x64x128.size a) ∧
  (∀ k0_t25 : Fin (k0_t25_loop v62 v68).trips, ∀ a, (k0_off973 v9 k0_t20 v62 v68 k0_t25) a + S1x1x1x32x128.size a ≤ S4x2x8x1024x128.size a) ∧
  (∀ k0_t25 : Fin (k0_t25_loop v62 v68).trips, ∀ a, (k0_off975 v9 k0_t20 v62 v68 k0_t25) a + S1x1x1x8x128.size a ≤ S4x2x64x64x128.size a) ∧
  (∀ k0_t25 : Fin (k0_t25_loop v62 v68).trips, ∀ a, (k0_off976 v9 k0_t20 v62 v68 k0_t25) a + S1x1x1x8x128.size a ≤ S4x2x64x64x128.size a) ∧
  (∀ k0_t25 : Fin (k0_t25_loop v62 v68).trips, ∀ a, (k0_off977 v9 k0_t20 v62 v68 k0_t25) a + S1x1x1x32x128.size a ≤ S4x2x8x1024x128.size a) ∧
  (∀ k0_t25 : Fin (k0_t25_loop v62 v68).trips, ∀ a, (k0_off979 v9 k0_t20 v62 v68 k0_t25) a + S1x1x1x8x128.size a ≤ S4x2x64x64x128.size a) ∧
  (∀ k0_t25 : Fin (k0_t25_loop v62 v68).trips, ∀ a, (k0_off980 v9 k0_t20 v62 v68 k0_t25) a + S1x1x1x8x128.size a ≤ S4x2x64x64x128.size a) ∧
  (∀ k0_t25 : Fin (k0_t25_loop v62 v68).trips, ∀ a, (k0_off981 v9 k0_t20 v62 v68 k0_t25) a + S1x1x1x32x128.size a ≤ S4x2x8x1024x128.size a) ∧
  (∀ k0_t25 : Fin (k0_t25_loop v62 v68).trips, ∀ a, (k0_off983 v9 k0_t20 v62 v68 k0_t25) a + S1x1x1x8x128.size a ≤ S4x2x64x64x128.size a) ∧
  (∀ k0_t25 : Fin (k0_t25_loop v62 v68).trips, ∀ a, (k0_off984 v9 k0_t20 v62 v68 k0_t25) a + S1x1x1x8x128.size a ≤ S4x2x64x64x128.size a) ∧
  (∀ k0_t25 : Fin (k0_t25_loop v62 v68).trips, ∀ a, (k0_off985 v9 k0_t20 v62 v68 k0_t25) a + S1x1x1x32x128.size a ≤ S4x2x8x1024x128.size a) ∧
  (∀ k0_t25 : Fin (k0_t25_loop v62 v68).trips, ∀ a, (k0_off987 v9 k0_t20 v62 v68 k0_t25) a + S1x1x1x8x128.size a ≤ S4x2x64x64x128.size a) ∧
  (∀ k0_t25 : Fin (k0_t25_loop v62 v68).trips, ∀ a, (k0_off988 v9 k0_t20 v62 v68 k0_t25) a + S1x1x1x8x128.size a ≤ S4x2x64x64x128.size a) ∧
  (∀ k0_t25 : Fin (k0_t25_loop v62 v68).trips, ∀ a, (k0_off989 v9 k0_t20 v62 v68 k0_t25) a + S1x1x1x32x128.size a ≤ S4x2x8x1024x128.size a) ∧
  (∀ k0_t25 : Fin (k0_t25_loop v62 v68).trips, ∀ a, (k0_off991 v9 k0_t20 v62 v68 k0_t25) a + S1x1x1x8x128.size a ≤ S4x2x64x64x128.size a) ∧
  (∀ k0_t25 : Fin (k0_t25_loop v62 v68).trips, ∀ a, (k0_off992 v9 k0_t20 v62 v68 k0_t25) a + S1x1x1x8x128.size a ≤ S4x2x64x64x128.size a)
def k0_chk32_2 (v9 : BitVec 32) (k0_t20 : Fin (k0_t20_loop v9).trips) (v62 : BitVec 32) (v68 : BitVec 32) : Prop :=
  (∀ k0_t25 : Fin (k0_t25_loop v62 v68).trips, ∀ a, (k0_off993 v9 k0_t20 v62 v68 k0_t25) a + S1x1x1x32x128.size a ≤ S4x2x8x1024x128.size a) ∧
  (∀ k0_t25 : Fin (k0_t25_loop v62 v68).trips, ∀ a, (k0_off995 v9 k0_t20 v62 v68 k0_t25) a + S1x1x1x8x128.size a ≤ S4x2x64x64x128.size a) ∧
  (∀ k0_t25 : Fin (k0_t25_loop v62 v68).trips, ∀ a, (k0_off996 v9 k0_t20 v62 v68 k0_t25) a + S1x1x1x8x128.size a ≤ S4x2x64x64x128.size a) ∧
  (∀ k0_t25 : Fin (k0_t25_loop v62 v68).trips, ∀ a, (k0_off997 v9 k0_t20 v62 v68 k0_t25) a + S1x1x1x32x128.size a ≤ S4x2x8x1024x128.size a) ∧
  (∀ k0_t25 : Fin (k0_t25_loop v62 v68).trips, ∀ a, (k0_off999 v9 k0_t20 v62 v68 k0_t25) a + S1x1x1x8x128.size a ≤ S4x2x64x64x128.size a) ∧
  (∀ k0_t25 : Fin (k0_t25_loop v62 v68).trips, ∀ a, (k0_off1000 v9 k0_t20 v62 v68 k0_t25) a + S1x1x1x8x128.size a ≤ S4x2x64x64x128.size a) ∧
  (∀ k0_t25 : Fin (k0_t25_loop v62 v68).trips, ∀ a, (k0_off1001 v9 k0_t20 v62 v68 k0_t25) a + S1x1x1x32x128.size a ≤ S4x2x8x1024x128.size a) ∧
  (∀ k0_t25 : Fin (k0_t25_loop v62 v68).trips, ∀ a, (k0_off1003 v9 k0_t20 v62 v68 k0_t25) a + S1x1x1x8x128.size a ≤ S4x2x64x64x128.size a) ∧
  (∀ k0_t25 : Fin (k0_t25_loop v62 v68).trips, ∀ a, (k0_off1004 v9 k0_t20 v62 v68 k0_t25) a + S1x1x1x8x128.size a ≤ S4x2x64x64x128.size a) ∧
  (∀ k0_t25 : Fin (k0_t25_loop v62 v68).trips, ∀ a, (k0_off1005 v9 k0_t20 v62 v68 k0_t25) a + S1x1x1x32x128.size a ≤ S4x2x8x1024x128.size a) ∧
  (∀ k0_t25 : Fin (k0_t25_loop v62 v68).trips, ∀ a, (k0_off1007 v9 k0_t20 v62 v68 k0_t25) a + S1x1x1x8x128.size a ≤ S4x2x64x64x128.size a) ∧
  (∀ k0_t25 : Fin (k0_t25_loop v62 v68).trips, ∀ a, (k0_off1008 v9 k0_t20 v62 v68 k0_t25) a + S1x1x1x8x128.size a ≤ S4x2x64x64x128.size a) ∧
  (∀ k0_t25 : Fin (k0_t25_loop v62 v68).trips, ∀ a, (k0_off1009 v9 k0_t20 v62 v68 k0_t25) a + S1x1x1x32x128.size a ≤ S4x2x8x1024x128.size a) ∧
  (∀ k0_t25 : Fin (k0_t25_loop v62 v68).trips, ∀ a, (k0_off1011 v9 k0_t20 v62 v68 k0_t25) a + S1x1x1x8x128.size a ≤ S4x2x64x64x128.size a) ∧
  (∀ k0_t25 : Fin (k0_t25_loop v62 v68).trips, ∀ a, (k0_off1012 v9 k0_t20 v62 v68 k0_t25) a + S1x1x1x8x128.size a ≤ S4x2x64x64x128.size a) ∧
  (∀ k0_t25 : Fin (k0_t25_loop v62 v68).trips, ∀ a, (k0_off1013 v9 k0_t20 v62 v68 k0_t25) a + S1x1x1x32x128.size a ≤ S4x2x8x1024x128.size a) ∧
  (∀ k0_t25 : Fin (k0_t25_loop v62 v68).trips, ∀ a, (k0_off1015 v9 k0_t20 v62 v68 k0_t25) a + S1x1x1x8x128.size a ≤ S4x2x64x64x128.size a) ∧
  (∀ k0_t25 : Fin (k0_t25_loop v62 v68).trips, ∀ a, (k0_off1016 v9 k0_t20 v62 v68 k0_t25) a + S1x1x1x8x128.size a ≤ S4x2x64x64x128.size a) ∧
  (∀ k0_t25 : Fin (k0_t25_loop v62 v68).trips, ∀ a, (k0_off1017 v9 k0_t20 v62 v68 k0_t25) a + S1x1x1x32x128.size a ≤ S4x2x8x1024x128.size a) ∧
  (∀ k0_t25 : Fin (k0_t25_loop v62 v68).trips, ∀ a, (k0_off1019 v9 k0_t20 v62 v68 k0_t25) a + S1x1x1x8x128.size a ≤ S4x2x64x64x128.size a) ∧
  (∀ k0_t25 : Fin (k0_t25_loop v62 v68).trips, ∀ a, (k0_off1020 v9 k0_t20 v62 v68 k0_t25) a + S1x1x1x8x128.size a ≤ S4x2x64x64x128.size a) ∧
  (∀ k0_t25 : Fin (k0_t25_loop v62 v68).trips, ∀ a, (k0_off1021 v9 k0_t20 v62 v68 k0_t25) a + S1x1x1x32x128.size a ≤ S4x2x8x1024x128.size a) ∧
  (∀ k0_t25 : Fin (k0_t25_loop v62 v68).trips, ∀ a, (k0_off1023 v9 k0_t20 v62 v68 k0_t25) a + S1x1x1x8x128.size a ≤ S4x2x64x64x128.size a) ∧
  (∀ k0_t25 : Fin (k0_t25_loop v62 v68).trips, ∀ a, (k0_off1024 v9 k0_t20 v62 v68 k0_t25) a + S1x1x1x8x128.size a ≤ S4x2x64x64x128.size a) ∧
  (∀ k0_t25 : Fin (k0_t25_loop v62 v68).trips, ∀ a, (k0_off1025 v9 k0_t20 v62 v68 k0_t25) a + S1x1x1x32x128.size a ≤ S4x2x8x1024x128.size a) ∧
  (∀ k0_t25 : Fin (k0_t25_loop v62 v68).trips, ∀ a, (k0_off1027 v9 k0_t20 v62 v68 k0_t25) a + S1x1x1x8x128.size a ≤ S4x2x64x64x128.size a) ∧
  (∀ k0_t25 : Fin (k0_t25_loop v62 v68).trips, ∀ a, (k0_off1028 v9 k0_t20 v62 v68 k0_t25) a + S1x1x1x8x128.size a ≤ S4x2x64x64x128.size a) ∧
  (∀ k0_t25 : Fin (k0_t25_loop v62 v68).trips, ∀ a, (k0_off1029 v9 k0_t20 v62 v68 k0_t25) a + S1x1x1x32x128.size a ≤ S4x2x8x1024x128.size a) ∧
  (∀ k0_t25 : Fin (k0_t25_loop v62 v68).trips, ∀ a, (k0_off1031 v9 k0_t20 v62 v68 k0_t25) a + S1x1x1x8x128.size a ≤ S4x2x64x64x128.size a) ∧
  (∀ k0_t25 : Fin (k0_t25_loop v62 v68).trips, ∀ a, (k0_off1032 v9 k0_t20 v62 v68 k0_t25) a + S1x1x1x8x128.size a ≤ S4x2x64x64x128.size a) ∧
  (∀ k0_t25 : Fin (k0_t25_loop v62 v68).trips, ∀ a, (k0_off1033 v9 k0_t20 v62 v68 k0_t25) a + S1x1x1x32x128.size a ≤ S4x2x8x1024x128.size a) ∧
  (∀ k0_t25 : Fin (k0_t25_loop v62 v68).trips, ∀ a, (k0_off1035 v9 k0_t20 v62 v68 k0_t25) a + S1x1x1x8x128.size a ≤ S4x2x64x64x128.size a)
def k0_chk32_3 (v9 : BitVec 32) (k0_t20 : Fin (k0_t20_loop v9).trips) (v62 : BitVec 32) (v68 : BitVec 32) : Prop :=
  (∀ k0_t25 : Fin (k0_t25_loop v62 v68).trips, ∀ a, (k0_off1036 v9 k0_t20 v62 v68 k0_t25) a + S1x1x1x8x128.size a ≤ S4x2x64x64x128.size a) ∧
  (∀ k0_t25 : Fin (k0_t25_loop v62 v68).trips, ∀ a, (k0_off1037 v9 k0_t20 v62 v68 k0_t25) a + S1x1x1x32x128.size a ≤ S4x2x8x1024x128.size a) ∧
  (∀ k0_t25 : Fin (k0_t25_loop v62 v68).trips, ∀ a, (k0_off1039 v9 k0_t20 v62 v68 k0_t25) a + S1x1x1x8x128.size a ≤ S4x2x64x64x128.size a) ∧
  (∀ k0_t25 : Fin (k0_t25_loop v62 v68).trips, ∀ a, (k0_off1040 v9 k0_t20 v62 v68 k0_t25) a + S1x1x1x8x128.size a ≤ S4x2x64x64x128.size a) ∧
  (∀ k0_t25 : Fin (k0_t25_loop v62 v68).trips, ∀ a, (k0_off1041 v9 k0_t20 v62 v68 k0_t25) a + S1x1x1x32x128.size a ≤ S4x2x8x1024x128.size a) ∧
  (∀ k0_t25 : Fin (k0_t25_loop v62 v68).trips, ∀ a, (k0_off1043 v9 k0_t20 v62 v68 k0_t25) a + S1x1x1x8x128.size a ≤ S4x2x64x64x128.size a) ∧
  (∀ k0_t25 : Fin (k0_t25_loop v62 v68).trips, ∀ a, (k0_off1044 v9 k0_t20 v62 v68 k0_t25) a + S1x1x1x8x128.size a ≤ S4x2x64x64x128.size a) ∧
  (∀ k0_t25 : Fin (k0_t25_loop v62 v68).trips, ∀ a, (k0_off1045 v9 k0_t20 v62 v68 k0_t25) a + S1x1x1x32x128.size a ≤ S4x2x8x1024x128.size a) ∧
  (∀ k0_t25 : Fin (k0_t25_loop v62 v68).trips, ∀ a, (k0_off1047 v9 k0_t20 v62 v68 k0_t25) a + S1x1x1x8x128.size a ≤ S4x2x64x64x128.size a) ∧
  (∀ k0_t25 : Fin (k0_t25_loop v62 v68).trips, ∀ a, (k0_off1048 v9 k0_t20 v62 v68 k0_t25) a + S1x1x1x8x128.size a ≤ S4x2x64x64x128.size a) ∧
  (∀ k0_t25 : Fin (k0_t25_loop v62 v68).trips, ∀ a, (k0_off1049 v9 k0_t20 v62 v68 k0_t25) a + S1x1x1x32x128.size a ≤ S4x2x8x1024x128.size a) ∧
  (∀ k0_t25 : Fin (k0_t25_loop v62 v68).trips, ∀ a, (k0_off1051 v9 k0_t20 v62 v68 k0_t25) a + S1x1x1x8x128.size a ≤ S4x2x64x64x128.size a) ∧
  (∀ k0_t25 : Fin (k0_t25_loop v62 v68).trips, ∀ a, (k0_off1052 v9 k0_t20 v62 v68 k0_t25) a + S1x1x1x8x128.size a ≤ S4x2x64x64x128.size a) ∧
  (∀ k0_t25 : Fin (k0_t25_loop v62 v68).trips, ∀ a, (k0_off1053 v9 k0_t20 v62 v68 k0_t25) a + S1x1x1x32x128.size a ≤ S4x2x8x1024x128.size a) ∧
  (∀ k0_t25 : Fin (k0_t25_loop v62 v68).trips, ∀ a, (k0_off1055 v9 k0_t20 v62 v68 k0_t25) a + S1x1x1x8x128.size a ≤ S4x2x64x64x128.size a) ∧
  (∀ k0_t25 : Fin (k0_t25_loop v62 v68).trips, ∀ a, (k0_off1056 v9 k0_t20 v62 v68 k0_t25) a + S1x1x1x8x128.size a ≤ S4x2x64x64x128.size a) ∧
  (∀ k0_t25 : Fin (k0_t25_loop v62 v68).trips, ∀ a, (k0_off1057 v9 k0_t20 v62 v68 k0_t25) a + S1x1x1x32x128.size a ≤ S4x2x8x1024x128.size a) ∧
  (∀ k0_t25 : Fin (k0_t25_loop v62 v68).trips, ∀ a, (k0_off1059 v9 k0_t20 v62 v68 k0_t25) a + S1x1x1x8x128.size a ≤ S4x2x64x64x128.size a) ∧
  (∀ k0_t25 : Fin (k0_t25_loop v62 v68).trips, ∀ a, (k0_off1060 v9 k0_t20 v62 v68 k0_t25) a + S1x1x1x8x128.size a ≤ S4x2x64x64x128.size a) ∧
  (∀ k0_t25 : Fin (k0_t25_loop v62 v68).trips, ∀ a, (k0_off1061 v9 k0_t20 v62 v68 k0_t25) a + S1x1x1x32x128.size a ≤ S4x2x8x1024x128.size a) ∧
  (∀ k0_t25 : Fin (k0_t25_loop v62 v68).trips, ∀ a, (k0_off1063 v9 k0_t20 v62 v68 k0_t25) a + S1x1x1x8x128.size a ≤ S4x2x64x64x128.size a) ∧
  (∀ k0_t25 : Fin (k0_t25_loop v62 v68).trips, ∀ a, (k0_off1064 v9 k0_t20 v62 v68 k0_t25) a + S1x1x1x8x128.size a ≤ S4x2x64x64x128.size a) ∧
  (∀ k0_t25 : Fin (k0_t25_loop v62 v68).trips, ∀ a, (k0_off1065 v9 k0_t20 v62 v68 k0_t25) a + S1x1x1x32x128.size a ≤ S4x2x8x1024x128.size a) ∧
  (∀ k0_t25 : Fin (k0_t25_loop v62 v68).trips, ∀ a, (k0_off1067 v9 k0_t20 v62 v68 k0_t25) a + S1x1x1x8x128.size a ≤ S4x2x64x64x128.size a) ∧
  (∀ k0_t25 : Fin (k0_t25_loop v62 v68).trips, ∀ a, (k0_off1068 v9 k0_t20 v62 v68 k0_t25) a + S1x1x1x8x128.size a ≤ S4x2x64x64x128.size a) ∧
  (∀ k0_t25 : Fin (k0_t25_loop v62 v68).trips, ∀ a, (k0_off1069 v9 k0_t20 v62 v68 k0_t25) a + S1x1x1x32x128.size a ≤ S4x2x8x1024x128.size a) ∧
  (∀ k0_t25 : Fin (k0_t25_loop v62 v68).trips, ∀ a, (k0_off1071 v9 k0_t20 v62 v68 k0_t25) a + S1x1x1x8x128.size a ≤ S4x2x64x64x128.size a) ∧
  (∀ k0_t25 : Fin (k0_t25_loop v62 v68).trips, ∀ a, (k0_off1072 v9 k0_t20 v62 v68 k0_t25) a + S1x1x1x8x128.size a ≤ S4x2x64x64x128.size a) ∧
  (∀ k0_t25 : Fin (k0_t25_loop v62 v68).trips, ∀ a, (k0_off1073 v9 k0_t20 v62 v68 k0_t25) a + S1x1x1x32x128.size a ≤ S4x2x8x1024x128.size a) ∧
  (∀ k0_t25 : Fin (k0_t25_loop v62 v68).trips, ∀ a, (k0_off1075 v9 k0_t20 v62 v68 k0_t25) a + S1x1x1x8x128.size a ≤ S4x2x64x64x128.size a) ∧
  (∀ k0_t25 : Fin (k0_t25_loop v62 v68).trips, ∀ a, (k0_off1076 v9 k0_t20 v62 v68 k0_t25) a + S1x1x1x8x128.size a ≤ S4x2x64x64x128.size a) ∧
  (∀ k0_t25 : Fin (k0_t25_loop v62 v68).trips, ∀ a, (k0_off1077 v9 k0_t20 v62 v68 k0_t25) a + S1x1x1x32x128.size a ≤ S4x2x8x1024x128.size a)
def k0_chk32_4 (v9 : BitVec 32) (k0_t20 : Fin (k0_t20_loop v9).trips) (v62 : BitVec 32) (v68 : BitVec 32) : Prop :=
  (∀ k0_t25 : Fin (k0_t25_loop v62 v68).trips, ∀ a, (k0_off1079 v9 k0_t20 v62 v68 k0_t25) a + S1x1x1x8x128.size a ≤ S4x2x64x64x128.size a) ∧
  (∀ k0_t25 : Fin (k0_t25_loop v62 v68).trips, ∀ a, (k0_off1080 v9 k0_t20 v62 v68 k0_t25) a + S1x1x1x8x128.size a ≤ S4x2x64x64x128.size a) ∧
  (∀ k0_t25 : Fin (k0_t25_loop v62 v68).trips, ∀ a, (k0_off1081 v9 k0_t20 v62 v68 k0_t25) a + S1x1x1x32x128.size a ≤ S4x2x8x1024x128.size a) ∧
  (∀ k0_t25 : Fin (k0_t25_loop v62 v68).trips, ∀ a, (k0_off1083 v9 k0_t20 v62 v68 k0_t25) a + S1x1x1x8x128.size a ≤ S4x2x64x64x128.size a) ∧
  (∀ k0_t25 : Fin (k0_t25_loop v62 v68).trips, ∀ a, (k0_off1084 v9 k0_t20 v62 v68 k0_t25) a + S1x1x1x8x128.size a ≤ S4x2x64x64x128.size a) ∧
  (∀ k0_t25 : Fin (k0_t25_loop v62 v68).trips, ∀ a, (k0_off1085 v9 k0_t20 v62 v68 k0_t25) a + S1x1x1x32x128.size a ≤ S4x2x8x1024x128.size a) ∧
  (∀ k0_t25 : Fin (k0_t25_loop v62 v68).trips, ∀ a, (k0_off1087 v9 k0_t20 v62 v68 k0_t25) a + S1x1x1x8x128.size a ≤ S4x2x64x64x128.size a) ∧
  (∀ k0_t25 : Fin (k0_t25_loop v62 v68).trips, ∀ a, (k0_off1088 v9 k0_t20 v62 v68 k0_t25) a + S1x1x1x8x128.size a ≤ S4x2x64x64x128.size a) ∧
  (∀ k0_t25 : Fin (k0_t25_loop v62 v68).trips, ∀ a, (k0_off1089 v9 k0_t20 v62 v68 k0_t25) a + S1x1x1x32x128.size a ≤ S4x2x8x1024x128.size a) ∧
  (∀ k0_t25 : Fin (k0_t25_loop v62 v68).trips, ∀ a, (k0_off1091 v9 k0_t20 v62 v68 k0_t25) a + S1x1x1x8x128.size a ≤ S4x2x64x64x128.size a) ∧
  (∀ k0_t25 : Fin (k0_t25_loop v62 v68).trips, ∀ a, (k0_off1092 v9 k0_t20 v62 v68 k0_t25) a + S1x1x1x8x128.size a ≤ S4x2x64x64x128.size a) ∧
  (∀ k0_t25 : Fin (k0_t25_loop v62 v68).trips, ∀ a, (k0_off1093 v9 k0_t20 v62 v68 k0_t25) a + S1x1x1x32x128.size a ≤ S4x2x8x1024x128.size a) ∧
  (∀ k0_t25 : Fin (k0_t25_loop v62 v68).trips, ∀ a, (k0_off1095 v9 k0_t20 v62 v68 k0_t25) a + S1x1x1x8x128.size a ≤ S4x2x64x64x128.size a) ∧
  (∀ k0_t25 : Fin (k0_t25_loop v62 v68).trips, ∀ a, (k0_off1096 v9 k0_t20 v62 v68 k0_t25) a + S1x1x1x8x128.size a ≤ S4x2x64x64x128.size a) ∧
  (∀ k0_t25 : Fin (k0_t25_loop v62 v68).trips, ∀ a, (k0_off1097 v9 k0_t20 v62 v68 k0_t25) a + S1x1x1x32x128.size a ≤ S4x2x8x1024x128.size a) ∧
  (∀ k0_t25 : Fin (k0_t25_loop v62 v68).trips, ∀ a, (k0_off1099 v9 k0_t20 v62 v68 k0_t25) a + S1x1x1x8x128.size a ≤ S4x2x64x64x128.size a) ∧
  (∀ k0_t25 : Fin (k0_t25_loop v62 v68).trips, ∀ a, (k0_off1100 v9 k0_t20 v62 v68 k0_t25) a + S1x1x1x8x128.size a ≤ S4x2x64x64x128.size a) ∧
  (∀ k0_t25 : Fin (k0_t25_loop v62 v68).trips, ∀ a, (k0_off1101 v9 k0_t20 v62 v68 k0_t25) a + S1x1x1x32x128.size a ≤ S4x2x8x1024x128.size a) ∧
  (∀ k0_t25 : Fin (k0_t25_loop v62 v68).trips, ∀ a, (k0_off1103 v9 k0_t20 v62 v68 k0_t25) a + S1x1x1x8x128.size a ≤ S4x2x64x64x128.size a) ∧
  (∀ k0_t25 : Fin (k0_t25_loop v62 v68).trips, ∀ a, (k0_off1104 v9 k0_t20 v62 v68 k0_t25) a + S1x1x1x8x128.size a ≤ S4x2x64x64x128.size a) ∧
  (∀ k0_t25 : Fin (k0_t25_loop v62 v68).trips, ∀ a, (k0_off1105 v9 k0_t20 v62 v68 k0_t25) a + S1x1x1x32x128.size a ≤ S4x2x8x1024x128.size a) ∧
  (∀ k0_t25 : Fin (k0_t25_loop v62 v68).trips, ∀ a, (k0_off1107 v9 k0_t20 v62 v68 k0_t25) a + S1x1x1x8x128.size a ≤ S4x2x64x64x128.size a) ∧
  (∀ k0_t25 : Fin (k0_t25_loop v62 v68).trips, ∀ a, (k0_off1108 v9 k0_t20 v62 v68 k0_t25) a + S1x1x1x8x128.size a ≤ S4x2x64x64x128.size a) ∧
  (∀ k0_t25 : Fin (k0_t25_loop v62 v68).trips, ∀ a, (k0_off1109 v9 k0_t20 v62 v68 k0_t25) a + S1x1x1x32x128.size a ≤ S4x2x8x1024x128.size a) ∧
  (∀ k0_t25 : Fin (k0_t25_loop v62 v68).trips, ∀ a, (k0_off1111 v9 k0_t20 v62 v68 k0_t25) a + S1x1x1x8x128.size a ≤ S4x2x64x64x128.size a) ∧
  (∀ k0_t25 : Fin (k0_t25_loop v62 v68).trips, ∀ a, (k0_off1112 v9 k0_t20 v62 v68 k0_t25) a + S1x1x1x8x128.size a ≤ S4x2x64x64x128.size a) ∧
  (∀ k0_t25 : Fin (k0_t25_loop v62 v68).trips, ∀ a, (k0_off1113 v9 k0_t20 v62 v68 k0_t25) a + S1x1x1x32x128.size a ≤ S4x2x8x1024x128.size a) ∧
  (∀ k0_t25 : Fin (k0_t25_loop v62 v68).trips, ∀ a, (k0_off1115 v9 k0_t20 v62 v68 k0_t25) a + S1x1x1x8x128.size a ≤ S4x2x64x64x128.size a) ∧
  (∀ k0_t25 : Fin (k0_t25_loop v62 v68).trips, ∀ a, (k0_off1116 v9 k0_t20 v62 v68 k0_t25) a + S1x1x1x8x128.size a ≤ S4x2x64x64x128.size a) ∧
  (∀ k0_t25 : Fin (k0_t25_loop v62 v68).trips, ∀ a, (k0_off1117 v9 k0_t20 v62 v68 k0_t25) a + S1x1x1x32x128.size a ≤ S4x2x8x1024x128.size a) ∧
  (∀ k0_t25 : Fin (k0_t25_loop v62 v68).trips, ∀ a, (k0_off1119 v9 k0_t20 v62 v68 k0_t25) a + S1x1x1x8x128.size a ≤ S4x2x64x64x128.size a) ∧
  (∀ k0_t25 : Fin (k0_t25_loop v62 v68).trips, ∀ a, (k0_off1120 v9 k0_t20 v62 v68 k0_t25) a + S1x1x1x8x128.size a ≤ S4x2x64x64x128.size a)
def k0_chk32_5 (v9 : BitVec 32) (k0_t20 : Fin (k0_t20_loop v9).trips) (v62 : BitVec 32) (v68 : BitVec 32) : Prop :=
  (∀ k0_t25 : Fin (k0_t25_loop v62 v68).trips, ∀ a, (k0_off1121 v9 k0_t20 v62 v68 k0_t25) a + S1x1x1x32x128.size a ≤ S4x2x8x1024x128.size a) ∧
  (∀ k0_t25 : Fin (k0_t25_loop v62 v68).trips, ∀ a, (k0_off1123 v9 k0_t20 v62 v68 k0_t25) a + S1x1x1x8x128.size a ≤ S4x2x64x64x128.size a) ∧
  (∀ k0_t25 : Fin (k0_t25_loop v62 v68).trips, ∀ a, (k0_off1124 v9 k0_t20 v62 v68 k0_t25) a + S1x1x1x8x128.size a ≤ S4x2x64x64x128.size a) ∧
  (∀ k0_t25 : Fin (k0_t25_loop v62 v68).trips, ∀ a, (k0_off1125 v9 k0_t20 v62 v68 k0_t25) a + S1x1x1x32x128.size a ≤ S4x2x8x1024x128.size a) ∧
  (∀ k0_t25 : Fin (k0_t25_loop v62 v68).trips, ∀ a, (k0_off1127 v9 k0_t20 v62 v68 k0_t25) a + S1x1x1x8x128.size a ≤ S4x2x64x64x128.size a) ∧
  (∀ k0_t25 : Fin (k0_t25_loop v62 v68).trips, ∀ a, (k0_off1128 v9 k0_t20 v62 v68 k0_t25) a + S1x1x1x8x128.size a ≤ S4x2x64x64x128.size a) ∧
  (∀ k0_t25 : Fin (k0_t25_loop v62 v68).trips, ∀ a, (k0_off1129 v9 k0_t20 v62 v68 k0_t25) a + S1x1x1x32x128.size a ≤ S4x2x8x1024x128.size a) ∧
  (∀ k0_t25 : Fin (k0_t25_loop v62 v68).trips, ∀ a, (k0_off1131 v9 k0_t20 v62 v68 k0_t25) a + S1x1x1x8x128.size a ≤ S4x2x64x64x128.size a) ∧
  (∀ k0_t25 : Fin (k0_t25_loop v62 v68).trips, ∀ a, (k0_off1132 v9 k0_t20 v62 v68 k0_t25) a + S1x1x1x8x128.size a ≤ S4x2x64x64x128.size a) ∧
  (∀ k0_t25 : Fin (k0_t25_loop v62 v68).trips, ∀ a, (k0_off1133 v9 k0_t20 v62 v68 k0_t25) a + S1x1x1x32x128.size a ≤ S4x2x8x1024x128.size a) ∧
  (∀ k0_t25 : Fin (k0_t25_loop v62 v68).trips, ∀ a, (k0_off1135 v9 k0_t20 v62 v68 k0_t25) a + S1x1x1x8x128.size a ≤ S4x2x64x64x128.size a) ∧
  (∀ k0_t25 : Fin (k0_t25_loop v62 v68).trips, ∀ a, (k0_off1136 v9 k0_t20 v62 v68 k0_t25) a + S1x1x1x8x128.size a ≤ S4x2x64x64x128.size a) ∧
  (∀ k0_t25 : Fin (k0_t25_loop v62 v68).trips, ∀ a, (k0_off1137 v9 k0_t20 v62 v68 k0_t25) a + S1x1x1x32x128.size a ≤ S4x2x8x1024x128.size a) ∧
  (∀ k0_t25 : Fin (k0_t25_loop v62 v68).trips, ∀ a, (k0_off1139 v9 k0_t20 v62 v68 k0_t25) a + S1x1x1x8x128.size a ≤ S4x2x64x64x128.size a) ∧
  (∀ k0_t25 : Fin (k0_t25_loop v62 v68).trips, ∀ a, (k0_off1140 v9 k0_t20 v62 v68 k0_t25) a + S1x1x1x8x128.size a ≤ S4x2x64x64x128.size a) ∧
  (∀ k0_t25 : Fin (k0_t25_loop v62 v68).trips, ∀ a, (k0_off1141 v9 k0_t20 v62 v68 k0_t25) a + S1x1x1x32x128.size a ≤ S4x2x8x1024x128.size a) ∧
  (∀ k0_t25 : Fin (k0_t25_loop v62 v68).trips, ∀ a, (k0_off1143 v9 k0_t20 v62 v68 k0_t25) a + S1x1x1x8x128.size a ≤ S4x2x64x64x128.size a) ∧
  (∀ k0_t25 : Fin (k0_t25_loop v62 v68).trips, ∀ a, (k0_off1144 v9 k0_t20 v62 v68 k0_t25) a + S1x1x1x8x128.size a ≤ S4x2x64x64x128.size a) ∧
  (∀ k0_t25 : Fin (k0_t25_loop v62 v68).trips, ∀ a, (k0_off1145 v9 k0_t20 v62 v68 k0_t25) a + S1x1x1x32x128.size a ≤ S4x2x8x1024x128.size a) ∧
  (∀ k0_t25 : Fin (k0_t25_loop v62 v68).trips, ∀ a, (k0_off1147 v9 k0_t20 v62 v68 k0_t25) a + S1x1x1x8x128.size a ≤ S4x2x64x64x128.size a) ∧
  (∀ k0_t25 : Fin (k0_t25_loop v62 v68).trips, ∀ a, (k0_off1148 v9 k0_t20 v62 v68 k0_t25) a + S1x1x1x8x128.size a ≤ S4x2x64x64x128.size a) ∧
  (∀ k0_t25 : Fin (k0_t25_loop v62 v68).trips, ∀ a, (k0_off1149 v9 k0_t20 v62 v68 k0_t25) a + S1x1x1x32x128.size a ≤ S4x2x8x1024x128.size a) ∧
  (∀ k0_t25 : Fin (k0_t25_loop v62 v68).trips, ∀ a, (k0_off1151 v9 k0_t20 v62 v68 k0_t25) a + S1x1x1x8x128.size a ≤ S4x2x64x64x128.size a) ∧
  (∀ k0_t25 : Fin (k0_t25_loop v62 v68).trips, ∀ a, (k0_off1152 v9 k0_t20 v62 v68 k0_t25) a + S1x1x1x8x128.size a ≤ S4x2x64x64x128.size a) ∧
  (∀ k0_t25 : Fin (k0_t25_loop v62 v68).trips, ∀ a, (k0_off1153 v9 k0_t20 v62 v68 k0_t25) a + S1x1x1x32x128.size a ≤ S4x2x8x1024x128.size a) ∧
  (∀ k0_t25 : Fin (k0_t25_loop v62 v68).trips, ∀ a, (k0_off1155 v9 k0_t20 v62 v68 k0_t25) a + S1x1x1x8x128.size a ≤ S4x2x64x64x128.size a) ∧
  (∀ k0_t25 : Fin (k0_t25_loop v62 v68).trips, ∀ a, (k0_off1156 v9 k0_t20 v62 v68 k0_t25) a + S1x1x1x8x128.size a ≤ S4x2x64x64x128.size a) ∧
  (∀ k0_t25 : Fin (k0_t25_loop v62 v68).trips, ∀ a, (k0_off1157 v9 k0_t20 v62 v68 k0_t25) a + S1x1x1x32x128.size a ≤ S4x2x8x1024x128.size a) ∧
  (∀ k0_t25 : Fin (k0_t25_loop v62 v68).trips, ∀ a, (k0_off1159 v9 k0_t20 v62 v68 k0_t25) a + S1x1x1x8x128.size a ≤ S4x2x64x64x128.size a) ∧
  (∀ k0_t25 : Fin (k0_t25_loop v62 v68).trips, ∀ a, (k0_off1160 v9 k0_t20 v62 v68 k0_t25) a + S1x1x1x8x128.size a ≤ S4x2x64x64x128.size a) ∧
  (∀ k0_t25 : Fin (k0_t25_loop v62 v68).trips, ∀ a, (k0_off1161 v9 k0_t20 v62 v68 k0_t25) a + S1x1x1x32x128.size a ≤ S4x2x8x1024x128.size a) ∧
  (∀ k0_t25 : Fin (k0_t25_loop v62 v68).trips, ∀ a, (k0_off1163 v9 k0_t20 v62 v68 k0_t25) a + S1x1x1x8x128.size a ≤ S4x2x64x64x128.size a)
def k0_chk32_6 (v9 : BitVec 32) (k0_t20 : Fin (k0_t20_loop v9).trips) (v62 : BitVec 32) (v68 : BitVec 32) : Prop :=
  (∀ k0_t25 : Fin (k0_t25_loop v62 v68).trips, ∀ a, (k0_off1164 v9 k0_t20 v62 v68 k0_t25) a + S1x1x1x8x128.size a ≤ S4x2x64x64x128.size a) ∧
  (∀ k0_t25 : Fin (k0_t25_loop v62 v68).trips, ∀ a, (k0_off1165 v9 k0_t20 v62 v68 k0_t25) a + S1x1x1x32x128.size a ≤ S4x2x8x1024x128.size a) ∧
  (∀ k0_t25 : Fin (k0_t25_loop v62 v68).trips, ∀ a, (k0_off1167 v9 k0_t20 v62 v68 k0_t25) a + S1x1x1x8x128.size a ≤ S4x2x64x64x128.size a) ∧
  (∀ k0_t25 : Fin (k0_t25_loop v62 v68).trips, ∀ a, (k0_off1168 v9 k0_t20 v62 v68 k0_t25) a + S1x1x1x8x128.size a ≤ S4x2x64x64x128.size a) ∧
  (∀ k0_t25 : Fin (k0_t25_loop v62 v68).trips, ∀ a, (k0_off1169 v9 k0_t20 v62 v68 k0_t25) a + S1x1x1x32x128.size a ≤ S4x2x8x1024x128.size a) ∧
  (∀ k0_t25 : Fin (k0_t25_loop v62 v68).trips, ∀ a, (k0_off1171 v9 k0_t20 v62 v68 k0_t25) a + S1x1x1x8x128.size a ≤ S4x2x64x64x128.size a) ∧
  (∀ k0_t25 : Fin (k0_t25_loop v62 v68).trips, ∀ a, (k0_off1172 v9 k0_t20 v62 v68 k0_t25) a + S1x1x1x8x128.size a ≤ S4x2x64x64x128.size a) ∧
  (∀ k0_t25 : Fin (k0_t25_loop v62 v68).trips, ∀ a, (k0_off1173 v9 k0_t20 v62 v68 k0_t25) a + S1x1x1x32x128.size a ≤ S4x2x8x1024x128.size a) ∧
  (∀ k0_t25 : Fin (k0_t25_loop v62 v68).trips, ∀ a, (k0_off1175 v9 k0_t20 v62 v68 k0_t25) a + S1x1x1x8x128.size a ≤ S4x2x64x64x128.size a) ∧
  (∀ k0_t25 : Fin (k0_t25_loop v62 v68).trips, ∀ a, (k0_off1176 v9 k0_t20 v62 v68 k0_t25) a + S1x1x1x8x128.size a ≤ S4x2x64x64x128.size a) ∧
  (∀ k0_t25 : Fin (k0_t25_loop v62 v68).trips, ∀ a, (k0_off1177 v9 k0_t20 v62 v68 k0_t25) a + S1x1x1x32x128.size a ≤ S4x2x8x1024x128.size a) ∧
  (∀ k0_t25 : Fin (k0_t25_loop v62 v68).trips, ∀ a, (k0_off1179 v9 k0_t20 v62 v68 k0_t25) a + S1x1x1x8x128.size a ≤ S4x2x64x64x128.size a) ∧
  (∀ k0_t25 : Fin (k0_t25_loop v62 v68).trips, ∀ a, (k0_off1180 v9 k0_t20 v62 v68 k0_t25) a + S1x1x1x8x128.size a ≤ S4x2x64x64x128.size a) ∧
  (∀ k0_t25 : Fin (k0_t25_loop v62 v68).trips, ∀ a, (k0_off1181 v9 k0_t20 v62 v68 k0_t25) a + S1x1x1x32x128.size a ≤ S4x2x8x1024x128.size a) ∧
  (∀ k0_t25 : Fin (k0_t25_loop v62 v68).trips, ∀ a, (k0_off1183 v9 k0_t20 v62 v68 k0_t25) a + S1x1x1x8x128.size a ≤ S4x2x64x64x128.size a) ∧
  (∀ k0_t25 : Fin (k0_t25_loop v62 v68).trips, ∀ a, (k0_off1184 v9 k0_t20 v62 v68 k0_t25) a + S1x1x1x8x128.size a ≤ S4x2x64x64x128.size a) ∧
  ((k0_t26_loop v62 v68).OK) ∧
  (∀ k0_t26 : Fin (k0_t26_loop v62 v68).trips, ∀ a, (k0_off1185 v62 v68 k0_t26) a + S1x1.size a ≤ S5x256.size a) ∧
  (∀ k0_t26 : Fin (k0_t26_loop v62 v68).trips, ∀ a, (k0_off1186 v62) a + S1.size a ≤ S5.size a) ∧
  (∀ k0_t26 : Fin (k0_t26_loop v62 v68).trips, 8 ∣ (k0_mult32 v62 v68 k0_t26).toNat) ∧
  (∀ k0_t26 : Fin (k0_t26_loop v62 v68).trips, ∀ a, (k0_off1187 v9 k0_t20 v62 v68 k0_t26) a + S1x1x1x32x128.size a ≤ S4x2x8x1024x128.size a) ∧
  (∀ k0_t26 : Fin (k0_t26_loop v62 v68).trips, ∀ a, (k0_off1189 v9 k0_t20 v62 v68 k0_t26) a + S1x1x1x8x128.size a ≤ S4x2x64x64x128.size a) ∧
  (∀ k0_t26 : Fin (k0_t26_loop v62 v68).trips, ∀ a, (k0_off1190 v9 k0_t20 v62 v68 k0_t26) a + S1x1x1x8x128.size a ≤ S4x2x64x64x128.size a) ∧
  (∀ k0_t26 : Fin (k0_t26_loop v62 v68).trips, ∀ a, (k0_off1191 v9 k0_t20 v62 v68 k0_t26) a + S1x1x1x32x128.size a ≤ S4x2x8x1024x128.size a) ∧
  (∀ k0_t26 : Fin (k0_t26_loop v62 v68).trips, ∀ a, (k0_off1193 v9 k0_t20 v62 v68 k0_t26) a + S1x1x1x8x128.size a ≤ S4x2x64x64x128.size a) ∧
  (∀ k0_t26 : Fin (k0_t26_loop v62 v68).trips, ∀ a, (k0_off1194 v9 k0_t20 v62 v68 k0_t26) a + S1x1x1x8x128.size a ≤ S4x2x64x64x128.size a) ∧
  (∀ k0_t26 : Fin (k0_t26_loop v62 v68).trips, ∀ a, (k0_off1195 v9 k0_t20 v62 v68 k0_t26) a + S1x1x1x32x128.size a ≤ S4x2x8x1024x128.size a) ∧
  (∀ k0_t26 : Fin (k0_t26_loop v62 v68).trips, ∀ a, (k0_off1197 v9 k0_t20 v62 v68 k0_t26) a + S1x1x1x8x128.size a ≤ S4x2x64x64x128.size a) ∧
  (∀ k0_t26 : Fin (k0_t26_loop v62 v68).trips, ∀ a, (k0_off1198 v9 k0_t20 v62 v68 k0_t26) a + S1x1x1x8x128.size a ≤ S4x2x64x64x128.size a) ∧
  (∀ k0_t26 : Fin (k0_t26_loop v62 v68).trips, ∀ a, (k0_off1199 v9 k0_t20 v62 v68 k0_t26) a + S1x1x1x32x128.size a ≤ S4x2x8x1024x128.size a) ∧
  (∀ k0_t26 : Fin (k0_t26_loop v62 v68).trips, ∀ a, (k0_off1201 v9 k0_t20 v62 v68 k0_t26) a + S1x1x1x8x128.size a ≤ S4x2x64x64x128.size a) ∧
  (∀ k0_t26 : Fin (k0_t26_loop v62 v68).trips, ∀ a, (k0_off1202 v9 k0_t20 v62 v68 k0_t26) a + S1x1x1x8x128.size a ≤ S4x2x64x64x128.size a)
def k0_chk32_7 (v9 : BitVec 32) (k0_t20 : Fin (k0_t20_loop v9).trips) (v62 : BitVec 32) (v68 : BitVec 32) : Prop :=
  (∀ k0_t26 : Fin (k0_t26_loop v62 v68).trips, ∀ a, (k0_off1203 v9 k0_t20 v62 v68 k0_t26) a + S1x1x1x32x128.size a ≤ S4x2x8x1024x128.size a) ∧
  (∀ k0_t26 : Fin (k0_t26_loop v62 v68).trips, ∀ a, (k0_off1205 v9 k0_t20 v62 v68 k0_t26) a + S1x1x1x8x128.size a ≤ S4x2x64x64x128.size a) ∧
  (∀ k0_t26 : Fin (k0_t26_loop v62 v68).trips, ∀ a, (k0_off1206 v9 k0_t20 v62 v68 k0_t26) a + S1x1x1x8x128.size a ≤ S4x2x64x64x128.size a) ∧
  (∀ k0_t26 : Fin (k0_t26_loop v62 v68).trips, ∀ a, (k0_off1207 v9 k0_t20 v62 v68 k0_t26) a + S1x1x1x32x128.size a ≤ S4x2x8x1024x128.size a) ∧
  (∀ k0_t26 : Fin (k0_t26_loop v62 v68).trips, ∀ a, (k0_off1209 v9 k0_t20 v62 v68 k0_t26) a + S1x1x1x8x128.size a ≤ S4x2x64x64x128.size a) ∧
  (∀ k0_t26 : Fin (k0_t26_loop v62 v68).trips, ∀ a, (k0_off1210 v9 k0_t20 v62 v68 k0_t26) a + S1x1x1x8x128.size a ≤ S4x2x64x64x128.size a) ∧
  (∀ k0_t26 : Fin (k0_t26_loop v62 v68).trips, ∀ a, (k0_off1211 v9 k0_t20 v62 v68 k0_t26) a + S1x1x1x32x128.size a ≤ S4x2x8x1024x128.size a) ∧
  (∀ k0_t26 : Fin (k0_t26_loop v62 v68).trips, ∀ a, (k0_off1213 v9 k0_t20 v62 v68 k0_t26) a + S1x1x1x8x128.size a ≤ S4x2x64x64x128.size a) ∧
  (∀ k0_t26 : Fin (k0_t26_loop v62 v68).trips, ∀ a, (k0_off1214 v9 k0_t20 v62 v68 k0_t26) a + S1x1x1x8x128.size a ≤ S4x2x64x64x128.size a) ∧
  (∀ k0_t26 : Fin (k0_t26_loop v62 v68).trips, ∀ a, (k0_off1215 v9 k0_t20 v62 v68 k0_t26) a + S1x1x1x32x128.size a ≤ S4x2x8x1024x128.size a) ∧
  (∀ k0_t26 : Fin (k0_t26_loop v62 v68).trips, ∀ a, (k0_off1217 v9 k0_t20 v62 v68 k0_t26) a + S1x1x1x8x128.size a ≤ S4x2x64x64x128.size a) ∧
  (∀ k0_t26 : Fin (k0_t26_loop v62 v68).trips, ∀ a, (k0_off1218 v9 k0_t20 v62 v68 k0_t26) a + S1x1x1x8x128.size a ≤ S4x2x64x64x128.size a) ∧
  (∀ k0_t26 : Fin (k0_t26_loop v62 v68).trips, ∀ a, (k0_off1219 v9 k0_t20 v62 v68 k0_t26) a + S1x1x1x32x128.size a ≤ S4x2x8x1024x128.size a) ∧
  (∀ k0_t26 : Fin (k0_t26_loop v62 v68).trips, ∀ a, (k0_off1221 v9 k0_t20 v62 v68 k0_t26) a + S1x1x1x8x128.size a ≤ S4x2x64x64x128.size a) ∧
  (∀ k0_t26 : Fin (k0_t26_loop v62 v68).trips, ∀ a, (k0_off1222 v9 k0_t20 v62 v68 k0_t26) a + S1x1x1x8x128.size a ≤ S4x2x64x64x128.size a) ∧
  (∀ k0_t26 : Fin (k0_t26_loop v62 v68).trips, ∀ a, (k0_off1223 v9 k0_t20 v62 v68 k0_t26) a + S1x1x1x32x128.size a ≤ S4x2x8x1024x128.size a) ∧
  (∀ k0_t26 : Fin (k0_t26_loop v62 v68).trips, ∀ a, (k0_off1225 v9 k0_t20 v62 v68 k0_t26) a + S1x1x1x8x128.size a ≤ S4x2x64x64x128.size a) ∧
  (∀ k0_t26 : Fin (k0_t26_loop v62 v68).trips, ∀ a, (k0_off1226 v9 k0_t20 v62 v68 k0_t26) a + S1x1x1x8x128.size a ≤ S4x2x64x64x128.size a) ∧
  (∀ k0_t26 : Fin (k0_t26_loop v62 v68).trips, ∀ a, (k0_off1227 v9 k0_t20 v62 v68 k0_t26) a + S1x1x1x32x128.size a ≤ S4x2x8x1024x128.size a) ∧
  (∀ k0_t26 : Fin (k0_t26_loop v62 v68).trips, ∀ a, (k0_off1229 v9 k0_t20 v62 v68 k0_t26) a + S1x1x1x8x128.size a ≤ S4x2x64x64x128.size a) ∧
  (∀ k0_t26 : Fin (k0_t26_loop v62 v68).trips, ∀ a, (k0_off1230 v9 k0_t20 v62 v68 k0_t26) a + S1x1x1x8x128.size a ≤ S4x2x64x64x128.size a) ∧
  (∀ k0_t26 : Fin (k0_t26_loop v62 v68).trips, ∀ a, (k0_off1231 v9 k0_t20 v62 v68 k0_t26) a + S1x1x1x32x128.size a ≤ S4x2x8x1024x128.size a) ∧
  (∀ k0_t26 : Fin (k0_t26_loop v62 v68).trips, ∀ a, (k0_off1233 v9 k0_t20 v62 v68 k0_t26) a + S1x1x1x8x128.size a ≤ S4x2x64x64x128.size a) ∧
  (∀ k0_t26 : Fin (k0_t26_loop v62 v68).trips, ∀ a, (k0_off1234 v9 k0_t20 v62 v68 k0_t26) a + S1x1x1x8x128.size a ≤ S4x2x64x64x128.size a) ∧
  (∀ k0_t26 : Fin (k0_t26_loop v62 v68).trips, ∀ a, (k0_off1235 v9 k0_t20 v62 v68 k0_t26) a + S1x1x1x32x128.size a ≤ S4x2x8x1024x128.size a) ∧
  (∀ k0_t26 : Fin (k0_t26_loop v62 v68).trips, ∀ a, (k0_off1237 v9 k0_t20 v62 v68 k0_t26) a + S1x1x1x8x128.size a ≤ S4x2x64x64x128.size a) ∧
  (∀ k0_t26 : Fin (k0_t26_loop v62 v68).trips, ∀ a, (k0_off1238 v9 k0_t20 v62 v68 k0_t26) a + S1x1x1x8x128.size a ≤ S4x2x64x64x128.size a) ∧
  (∀ k0_t26 : Fin (k0_t26_loop v62 v68).trips, ∀ a, (k0_off1239 v9 k0_t20 v62 v68 k0_t26) a + S1x1x1x32x128.size a ≤ S4x2x8x1024x128.size a) ∧
  (∀ k0_t26 : Fin (k0_t26_loop v62 v68).trips, ∀ a, (k0_off1241 v9 k0_t20 v62 v68 k0_t26) a + S1x1x1x8x128.size a ≤ S4x2x64x64x128.size a) ∧
  (∀ k0_t26 : Fin (k0_t26_loop v62 v68).trips, ∀ a, (k0_off1242 v9 k0_t20 v62 v68 k0_t26) a + S1x1x1x8x128.size a ≤ S4x2x64x64x128.size a) ∧
  (∀ k0_t26 : Fin (k0_t26_loop v62 v68).trips, ∀ a, (k0_off1243 v9 k0_t20 v62 v68 k0_t26) a + S1x1x1x32x128.size a ≤ S4x2x8x1024x128.size a) ∧
  (∀ k0_t26 : Fin (k0_t26_loop v62 v68).trips, ∀ a, (k0_off1245 v9 k0_t20 v62 v68 k0_t26) a + S1x1x1x8x128.size a ≤ S4x2x64x64x128.size a)
def k0_chk32_8 (v9 : BitVec 32) (k0_t20 : Fin (k0_t20_loop v9).trips) (v62 : BitVec 32) (v68 : BitVec 32) : Prop :=
  (∀ k0_t26 : Fin (k0_t26_loop v62 v68).trips, ∀ a, (k0_off1246 v9 k0_t20 v62 v68 k0_t26) a + S1x1x1x8x128.size a ≤ S4x2x64x64x128.size a) ∧
  (∀ k0_t26 : Fin (k0_t26_loop v62 v68).trips, ∀ a, (k0_off1247 v9 k0_t20 v62 v68 k0_t26) a + S1x1x1x32x128.size a ≤ S4x2x8x1024x128.size a) ∧
  (∀ k0_t26 : Fin (k0_t26_loop v62 v68).trips, ∀ a, (k0_off1249 v9 k0_t20 v62 v68 k0_t26) a + S1x1x1x8x128.size a ≤ S4x2x64x64x128.size a) ∧
  (∀ k0_t26 : Fin (k0_t26_loop v62 v68).trips, ∀ a, (k0_off1250 v9 k0_t20 v62 v68 k0_t26) a + S1x1x1x8x128.size a ≤ S4x2x64x64x128.size a) ∧
  (∀ k0_t26 : Fin (k0_t26_loop v62 v68).trips, ∀ a, (k0_off1251 v9 k0_t20 v62 v68 k0_t26) a + S1x1x1x32x128.size a ≤ S4x2x8x1024x128.size a) ∧
  (∀ k0_t26 : Fin (k0_t26_loop v62 v68).trips, ∀ a, (k0_off1253 v9 k0_t20 v62 v68 k0_t26) a + S1x1x1x8x128.size a ≤ S4x2x64x64x128.size a) ∧
  (∀ k0_t26 : Fin (k0_t26_loop v62 v68).trips, ∀ a, (k0_off1254 v9 k0_t20 v62 v68 k0_t26) a + S1x1x1x8x128.size a ≤ S4x2x64x64x128.size a) ∧
  (∀ k0_t26 : Fin (k0_t26_loop v62 v68).trips, ∀ a, (k0_off1255 v9 k0_t20 v62 v68 k0_t26) a + S1x1x1x32x128.size a ≤ S4x2x8x1024x128.size a) ∧
  (∀ k0_t26 : Fin (k0_t26_loop v62 v68).trips, ∀ a, (k0_off1257 v9 k0_t20 v62 v68 k0_t26) a + S1x1x1x8x128.size a ≤ S4x2x64x64x128.size a) ∧
  (∀ k0_t26 : Fin (k0_t26_loop v62 v68).trips, ∀ a, (k0_off1258 v9 k0_t20 v62 v68 k0_t26) a + S1x1x1x8x128.size a ≤ S4x2x64x64x128.size a) ∧
  (∀ k0_t26 : Fin (k0_t26_loop v62 v68).trips, ∀ a, (k0_off1259 v9 k0_t20 v62 v68 k0_t26) a + S1x1x1x32x128.size a ≤ S4x2x8x1024x128.size a) ∧
  (∀ k0_t26 : Fin (k0_t26_loop v62 v68).trips, ∀ a, (k0_off1261 v9 k0_t20 v62 v68 k0_t26) a + S1x1x1x8x128.size a ≤ S4x2x64x64x128.size a) ∧
  (∀ k0_t26 : Fin (k0_t26_loop v62 v68).trips, ∀ a, (k0_off1262 v9 k0_t20 v62 v68 k0_t26) a + S1x1x1x8x128.size a ≤ S4x2x64x64x128.size a) ∧
  (∀ k0_t26 : Fin (k0_t26_loop v62 v68).trips, ∀ a, (k0_off1263 v9 k0_t20 v62 v68 k0_t26) a + S1x1x1x32x128.size a ≤ S4x2x8x1024x128.size a) ∧
  (∀ k0_t26 : Fin (k0_t26_loop v62 v68).trips, ∀ a, (k0_off1265 v9 k0_t20 v62 v68 k0_t26) a + S1x1x1x8x128.size a ≤ S4x2x64x64x128.size a) ∧
  (∀ k0_t26 : Fin (k0_t26_loop v62 v68).trips, ∀ a, (k0_off1266 v9 k0_t20 v62 v68 k0_t26) a + S1x1x1x8x128.size a ≤ S4x2x64x64x128.size a) ∧
  (∀ k0_t26 : Fin (k0_t26_loop v62 v68).trips, ∀ a, (k0_off1267 v9 k0_t20 v62 v68 k0_t26) a + S1x1x1x32x128.size a ≤ S4x2x8x1024x128.size a) ∧
  (∀ k0_t26 : Fin (k0_t26_loop v62 v68).trips, ∀ a, (k0_off1269 v9 k0_t20 v62 v68 k0_t26) a + S1x1x1x8x128.size a ≤ S4x2x64x64x128.size a) ∧
  (∀ k0_t26 : Fin (k0_t26_loop v62 v68).trips, ∀ a, (k0_off1270 v9 k0_t20 v62 v68 k0_t26) a + S1x1x1x8x128.size a ≤ S4x2x64x64x128.size a) ∧
  (∀ k0_t26 : Fin (k0_t26_loop v62 v68).trips, ∀ a, (k0_off1271 v9 k0_t20 v62 v68 k0_t26) a + S1x1x1x32x128.size a ≤ S4x2x8x1024x128.size a) ∧
  (∀ k0_t26 : Fin (k0_t26_loop v62 v68).trips, ∀ a, (k0_off1273 v9 k0_t20 v62 v68 k0_t26) a + S1x1x1x8x128.size a ≤ S4x2x64x64x128.size a) ∧
  (∀ k0_t26 : Fin (k0_t26_loop v62 v68).trips, ∀ a, (k0_off1274 v9 k0_t20 v62 v68 k0_t26) a + S1x1x1x8x128.size a ≤ S4x2x64x64x128.size a) ∧
  (∀ k0_t26 : Fin (k0_t26_loop v62 v68).trips, ∀ a, (k0_off1275 v9 k0_t20 v62 v68 k0_t26) a + S1x1x1x32x128.size a ≤ S4x2x8x1024x128.size a) ∧
  (∀ k0_t26 : Fin (k0_t26_loop v62 v68).trips, ∀ a, (k0_off1277 v9 k0_t20 v62 v68 k0_t26) a + S1x1x1x8x128.size a ≤ S4x2x64x64x128.size a) ∧
  (∀ k0_t26 : Fin (k0_t26_loop v62 v68).trips, ∀ a, (k0_off1278 v9 k0_t20 v62 v68 k0_t26) a + S1x1x1x8x128.size a ≤ S4x2x64x64x128.size a) ∧
  (∀ k0_t26 : Fin (k0_t26_loop v62 v68).trips, ∀ a, (k0_off1279 v9 k0_t20 v62 v68 k0_t26) a + S1x1x1x32x128.size a ≤ S4x2x8x1024x128.size a) ∧
  (∀ k0_t26 : Fin (k0_t26_loop v62 v68).trips, ∀ a, (k0_off1281 v9 k0_t20 v62 v68 k0_t26) a + S1x1x1x8x128.size a ≤ S4x2x64x64x128.size a) ∧
  (∀ k0_t26 : Fin (k0_t26_loop v62 v68).trips, ∀ a, (k0_off1282 v9 k0_t20 v62 v68 k0_t26) a + S1x1x1x8x128.size a ≤ S4x2x64x64x128.size a) ∧
  (∀ k0_t26 : Fin (k0_t26_loop v62 v68).trips, ∀ a, (k0_off1283 v9 k0_t20 v62 v68 k0_t26) a + S1x1x1x32x128.size a ≤ S4x2x8x1024x128.size a) ∧
  (∀ k0_t26 : Fin (k0_t26_loop v62 v68).trips, ∀ a, (k0_off1285 v9 k0_t20 v62 v68 k0_t26) a + S1x1x1x8x128.size a ≤ S4x2x64x64x128.size a) ∧
  (∀ k0_t26 : Fin (k0_t26_loop v62 v68).trips, ∀ a, (k0_off1286 v9 k0_t20 v62 v68 k0_t26) a + S1x1x1x8x128.size a ≤ S4x2x64x64x128.size a) ∧
  (∀ k0_t26 : Fin (k0_t26_loop v62 v68).trips, ∀ a, (k0_off1287 v9 k0_t20 v62 v68 k0_t26) a + S1x1x1x32x128.size a ≤ S4x2x8x1024x128.size a)
def k0_chk32_9 (v9 : BitVec 32) (k0_t20 : Fin (k0_t20_loop v9).trips) (v62 : BitVec 32) (v68 : BitVec 32) : Prop :=
  (∀ k0_t26 : Fin (k0_t26_loop v62 v68).trips, ∀ a, (k0_off1289 v9 k0_t20 v62 v68 k0_t26) a + S1x1x1x8x128.size a ≤ S4x2x64x64x128.size a) ∧
  (∀ k0_t26 : Fin (k0_t26_loop v62 v68).trips, ∀ a, (k0_off1290 v9 k0_t20 v62 v68 k0_t26) a + S1x1x1x8x128.size a ≤ S4x2x64x64x128.size a) ∧
  (∀ k0_t26 : Fin (k0_t26_loop v62 v68).trips, ∀ a, (k0_off1291 v9 k0_t20 v62 v68 k0_t26) a + S1x1x1x32x128.size a ≤ S4x2x8x1024x128.size a) ∧
  (∀ k0_t26 : Fin (k0_t26_loop v62 v68).trips, ∀ a, (k0_off1293 v9 k0_t20 v62 v68 k0_t26) a + S1x1x1x8x128.size a ≤ S4x2x64x64x128.size a) ∧
  (∀ k0_t26 : Fin (k0_t26_loop v62 v68).trips, ∀ a, (k0_off1294 v9 k0_t20 v62 v68 k0_t26) a + S1x1x1x8x128.size a ≤ S4x2x64x64x128.size a) ∧
  (∀ k0_t26 : Fin (k0_t26_loop v62 v68).trips, ∀ a, (k0_off1295 v9 k0_t20 v62 v68 k0_t26) a + S1x1x1x32x128.size a ≤ S4x2x8x1024x128.size a) ∧
  (∀ k0_t26 : Fin (k0_t26_loop v62 v68).trips, ∀ a, (k0_off1297 v9 k0_t20 v62 v68 k0_t26) a + S1x1x1x8x128.size a ≤ S4x2x64x64x128.size a) ∧
  (∀ k0_t26 : Fin (k0_t26_loop v62 v68).trips, ∀ a, (k0_off1298 v9 k0_t20 v62 v68 k0_t26) a + S1x1x1x8x128.size a ≤ S4x2x64x64x128.size a) ∧
  (∀ k0_t26 : Fin (k0_t26_loop v62 v68).trips, ∀ a, (k0_off1299 v9 k0_t20 v62 v68 k0_t26) a + S1x1x1x32x128.size a ≤ S4x2x8x1024x128.size a) ∧
  (∀ k0_t26 : Fin (k0_t26_loop v62 v68).trips, ∀ a, (k0_off1301 v9 k0_t20 v62 v68 k0_t26) a + S1x1x1x8x128.size a ≤ S4x2x64x64x128.size a) ∧
  (∀ k0_t26 : Fin (k0_t26_loop v62 v68).trips, ∀ a, (k0_off1302 v9 k0_t20 v62 v68 k0_t26) a + S1x1x1x8x128.size a ≤ S4x2x64x64x128.size a) ∧
  (∀ k0_t26 : Fin (k0_t26_loop v62 v68).trips, ∀ a, (k0_off1303 v9 k0_t20 v62 v68 k0_t26) a + S1x1x1x32x128.size a ≤ S4x2x8x1024x128.size a) ∧
  (∀ k0_t26 : Fin (k0_t26_loop v62 v68).trips, ∀ a, (k0_off1305 v9 k0_t20 v62 v68 k0_t26) a + S1x1x1x8x128.size a ≤ S4x2x64x64x128.size a) ∧
  (∀ k0_t26 : Fin (k0_t26_loop v62 v68).trips, ∀ a, (k0_off1306 v9 k0_t20 v62 v68 k0_t26) a + S1x1x1x8x128.size a ≤ S4x2x64x64x128.size a) ∧
  (∀ k0_t26 : Fin (k0_t26_loop v62 v68).trips, ∀ a, (k0_off1307 v9 k0_t20 v62 v68 k0_t26) a + S1x1x1x32x128.size a ≤ S4x2x8x1024x128.size a) ∧
  (∀ k0_t26 : Fin (k0_t26_loop v62 v68).trips, ∀ a, (k0_off1309 v9 k0_t20 v62 v68 k0_t26) a + S1x1x1x8x128.size a ≤ S4x2x64x64x128.size a) ∧
  (∀ k0_t26 : Fin (k0_t26_loop v62 v68).trips, ∀ a, (k0_off1310 v9 k0_t20 v62 v68 k0_t26) a + S1x1x1x8x128.size a ≤ S4x2x64x64x128.size a) ∧
  (∀ k0_t26 : Fin (k0_t26_loop v62 v68).trips, ∀ a, (k0_off1311 v9 k0_t20 v62 v68 k0_t26) a + S1x1x1x32x128.size a ≤ S4x2x8x1024x128.size a) ∧
  (∀ k0_t26 : Fin (k0_t26_loop v62 v68).trips, ∀ a, (k0_off1313 v9 k0_t20 v62 v68 k0_t26) a + S1x1x1x8x128.size a ≤ S4x2x64x64x128.size a) ∧
  (∀ k0_t26 : Fin (k0_t26_loop v62 v68).trips, ∀ a, (k0_off1314 v9 k0_t20 v62 v68 k0_t26) a + S1x1x1x8x128.size a ≤ S4x2x64x64x128.size a) ∧
  (∀ k0_t26 : Fin (k0_t26_loop v62 v68).trips, ∀ a, (k0_off1315 v9 k0_t20 v62 v68 k0_t26) a + S1x1x1x32x128.size a ≤ S4x2x8x1024x128.size a) ∧
  (∀ k0_t26 : Fin (k0_t26_loop v62 v68).trips, ∀ a, (k0_off1317 v9 k0_t20 v62 v68 k0_t26) a + S1x1x1x8x128.size a ≤ S4x2x64x64x128.size a) ∧
  (∀ k0_t26 : Fin (k0_t26_loop v62 v68).trips, ∀ a, (k0_off1318 v9 k0_t20 v62 v68 k0_t26) a + S1x1x1x8x128.size a ≤ S4x2x64x64x128.size a) ∧
  (∀ k0_t26 : Fin (k0_t26_loop v62 v68).trips, ∀ a, (k0_off1319 v9 k0_t20 v62 v68 k0_t26) a + S1x1x1x32x128.size a ≤ S4x2x8x1024x128.size a) ∧
  (∀ k0_t26 : Fin (k0_t26_loop v62 v68).trips, ∀ a, (k0_off1321 v9 k0_t20 v62 v68 k0_t26) a + S1x1x1x8x128.size a ≤ S4x2x64x64x128.size a) ∧
  (∀ k0_t26 : Fin (k0_t26_loop v62 v68).trips, ∀ a, (k0_off1322 v9 k0_t20 v62 v68 k0_t26) a + S1x1x1x8x128.size a ≤ S4x2x64x64x128.size a) ∧
  (∀ k0_t26 : Fin (k0_t26_loop v62 v68).trips, ∀ a, (k0_off1323 v9 k0_t20 v62 v68 k0_t26) a + S1x1x1x32x128.size a ≤ S4x2x8x1024x128.size a) ∧
  (∀ k0_t26 : Fin (k0_t26_loop v62 v68).trips, ∀ a, (k0_off1325 v9 k0_t20 v62 v68 k0_t26) a + S1x1x1x8x128.size a ≤ S4x2x64x64x128.size a) ∧
  (∀ k0_t26 : Fin (k0_t26_loop v62 v68).trips, ∀ a, (k0_off1326 v9 k0_t20 v62 v68 k0_t26) a + S1x1x1x8x128.size a ≤ S4x2x64x64x128.size a) ∧
  (∀ k0_t26 : Fin (k0_t26_loop v62 v68).trips, ∀ a, (k0_off1327 v9 k0_t20 v62 v68 k0_t26) a + S1x1x1x32x128.size a ≤ S4x2x8x1024x128.size a) ∧
  (∀ k0_t26 : Fin (k0_t26_loop v62 v68).trips, ∀ a, (k0_off1329 v9 k0_t20 v62 v68 k0_t26) a + S1x1x1x8x128.size a ≤ S4x2x64x64x128.size a) ∧
  (∀ k0_t26 : Fin (k0_t26_loop v62 v68).trips, ∀ a, (k0_off1330 v9 k0_t20 v62 v68 k0_t26) a + S1x1x1x8x128.size a ≤ S4x2x64x64x128.size a)
def k0_chk32_10 (v9 : BitVec 32) (k0_t20 : Fin (k0_t20_loop v9).trips) (v62 : BitVec 32) (v68 : BitVec 32) : Prop :=
  (∀ k0_t26 : Fin (k0_t26_loop v62 v68).trips, ∀ a, (k0_off1331 v9 k0_t20 v62 v68 k0_t26) a + S1x1x1x32x128.size a ≤ S4x2x8x1024x128.size a) ∧
  (∀ k0_t26 : Fin (k0_t26_loop v62 v68).trips, ∀ a, (k0_off1333 v9 k0_t20 v62 v68 k0_t26) a + S1x1x1x8x128.size a ≤ S4x2x64x64x128.size a) ∧
  (∀ k0_t26 : Fin (k0_t26_loop v62 v68).trips, ∀ a, (k0_off1334 v9 k0_t20 v62 v68 k0_t26) a + S1x1x1x8x128.size a ≤ S4x2x64x64x128.size a) ∧
  (∀ k0_t26 : Fin (k0_t26_loop v62 v68).trips, ∀ a, (k0_off1335 v9 k0_t20 v62 v68 k0_t26) a + S1x1x1x32x128.size a ≤ S4x2x8x1024x128.size a) ∧
  (∀ k0_t26 : Fin (k0_t26_loop v62 v68).trips, ∀ a, (k0_off1337 v9 k0_t20 v62 v68 k0_t26) a + S1x1x1x8x128.size a ≤ S4x2x64x64x128.size a) ∧
  (∀ k0_t26 : Fin (k0_t26_loop v62 v68).trips, ∀ a, (k0_off1338 v9 k0_t20 v62 v68 k0_t26) a + S1x1x1x8x128.size a ≤ S4x2x64x64x128.size a) ∧
  (∀ k0_t26 : Fin (k0_t26_loop v62 v68).trips, ∀ a, (k0_off1339 v9 k0_t20 v62 v68 k0_t26) a + S1x1x1x32x128.size a ≤ S4x2x8x1024x128.size a) ∧
  (∀ k0_t26 : Fin (k0_t26_loop v62 v68).trips, ∀ a, (k0_off1341 v9 k0_t20 v62 v68 k0_t26) a + S1x1x1x8x128.size a ≤ S4x2x64x64x128.size a) ∧
  (∀ k0_t26 : Fin (k0_t26_loop v62 v68).trips, ∀ a, (k0_off1342 v9 k0_t20 v62 v68 k0_t26) a + S1x1x1x8x128.size a ≤ S4x2x64x64x128.size a) ∧
  (∀ k0_t26 : Fin (k0_t26_loop v62 v68).trips, ∀ a, (k0_off1343 v9 k0_t20 v62 v68 k0_t26) a + S1x1x1x32x128.size a ≤ S4x2x8x1024x128.size a) ∧
  (∀ k0_t26 : Fin (k0_t26_loop v62 v68).trips, ∀ a, (k0_off1345 v9 k0_t20 v62 v68 k0_t26) a + S1x1x1x8x128.size a ≤ S4x2x64x64x128.size a) ∧
  (∀ k0_t26 : Fin (k0_t26_loop v62 v68).trips, ∀ a, (k0_off1346 v9 k0_t20 v62 v68 k0_t26) a + S1x1x1x8x128.size a ≤ S4x2x64x64x128.size a) ∧
  (∀ k0_t26 : Fin (k0_t26_loop v62 v68).trips, ∀ a, (k0_off1347 v9 k0_t20 v62 v68 k0_t26) a + S1x1x1x32x128.size a ≤ S4x2x8x1024x128.size a) ∧
  (∀ k0_t26 : Fin (k0_t26_loop v62 v68).trips, ∀ a, (k0_off1349 v9 k0_t20 v62 v68 k0_t26) a + S1x1x1x8x128.size a ≤ S4x2x64x64x128.size a) ∧
  (∀ k0_t26 : Fin (k0_t26_loop v62 v68).trips, ∀ a, (k0_off1350 v9 k0_t20 v62 v68 k0_t26) a + S1x1x1x8x128.size a ≤ S4x2x64x64x128.size a) ∧
  (∀ k0_t26 : Fin (k0_t26_loop v62 v68).trips, ∀ a, (k0_off1351 v9 k0_t20 v62 v68 k0_t26) a + S1x1x1x32x128.size a ≤ S4x2x8x1024x128.size a) ∧
  (∀ k0_t26 : Fin (k0_t26_loop v62 v68).trips, ∀ a, (k0_off1353 v9 k0_t20 v62 v68 k0_t26) a + S1x1x1x8x128.size a ≤ S4x2x64x64x128.size a) ∧
  (∀ k0_t26 : Fin (k0_t26_loop v62 v68).trips, ∀ a, (k0_off1354 v9 k0_t20 v62 v68 k0_t26) a + S1x1x1x8x128.size a ≤ S4x2x64x64x128.size a) ∧
  (∀ k0_t26 : Fin (k0_t26_loop v62 v68).trips, ∀ a, (k0_off1355 v9 k0_t20 v62 v68 k0_t26) a + S1x1x1x32x128.size a ≤ S4x2x8x1024x128.size a) ∧
  (∀ k0_t26 : Fin (k0_t26_loop v62 v68).trips, ∀ a, (k0_off1357 v9 k0_t20 v62 v68 k0_t26) a + S1x1x1x8x128.size a ≤ S4x2x64x64x128.size a) ∧
  (∀ k0_t26 : Fin (k0_t26_loop v62 v68).trips, ∀ a, (k0_off1358 v9 k0_t20 v62 v68 k0_t26) a + S1x1x1x8x128.size a ≤ S4x2x64x64x128.size a) ∧
  (∀ k0_t26 : Fin (k0_t26_loop v62 v68).trips, ∀ a, (k0_off1359 v9 k0_t20 v62 v68 k0_t26) a + S1x1x1x32x128.size a ≤ S4x2x8x1024x128.size a) ∧
  (∀ k0_t26 : Fin (k0_t26_loop v62 v68).trips, ∀ a, (k0_off1361 v9 k0_t20 v62 v68 k0_t26) a + S1x1x1x8x128.size a ≤ S4x2x64x64x128.size a) ∧
  (∀ k0_t26 : Fin (k0_t26_loop v62 v68).trips, ∀ a, (k0_off1362 v9 k0_t20 v62 v68 k0_t26) a + S1x1x1x8x128.size a ≤ S4x2x64x64x128.size a) ∧
  (∀ k0_t26 : Fin (k0_t26_loop v62 v68).trips, ∀ a, (k0_off1363 v9 k0_t20 v62 v68 k0_t26) a + S1x1x1x32x128.size a ≤ S4x2x8x1024x128.size a) ∧
  (∀ k0_t26 : Fin (k0_t26_loop v62 v68).trips, ∀ a, (k0_off1365 v9 k0_t20 v62 v68 k0_t26) a + S1x1x1x8x128.size a ≤ S4x2x64x64x128.size a) ∧
  (∀ k0_t26 : Fin (k0_t26_loop v62 v68).trips, ∀ a, (k0_off1366 v9 k0_t20 v62 v68 k0_t26) a + S1x1x1x8x128.size a ≤ S4x2x64x64x128.size a) ∧
  (∀ k0_t26 : Fin (k0_t26_loop v62 v68).trips, ∀ a, (k0_off1367 v9 k0_t20 v62 v68 k0_t26) a + S1x1x1x32x128.size a ≤ S4x2x8x1024x128.size a) ∧
  (∀ k0_t26 : Fin (k0_t26_loop v62 v68).trips, ∀ a, (k0_off1369 v9 k0_t20 v62 v68 k0_t26) a + S1x1x1x8x128.size a ≤ S4x2x64x64x128.size a) ∧
  (∀ k0_t26 : Fin (k0_t26_loop v62 v68).trips, ∀ a, (k0_off1370 v9 k0_t20 v62 v68 k0_t26) a + S1x1x1x8x128.size a ≤ S4x2x64x64x128.size a) ∧
  (∀ k0_t26 : Fin (k0_t26_loop v62 v68).trips, ∀ a, (k0_off1371 v9 k0_t20 v62 v68 k0_t26) a + S1x1x1x32x128.size a ≤ S4x2x8x1024x128.size a) ∧
  (∀ k0_t26 : Fin (k0_t26_loop v62 v68).trips, ∀ a, (k0_off1373 v9 k0_t20 v62 v68 k0_t26) a + S1x1x1x8x128.size a ≤ S4x2x64x64x128.size a)
def k0_chk32_11 (v9 : BitVec 32) (k0_t20 : Fin (k0_t20_loop v9).trips) (v62 : BitVec 32) (v68 : BitVec 32) : Prop :=
  (∀ k0_t26 : Fin (k0_t26_loop v62 v68).trips, ∀ a, (k0_off1374 v9 k0_t20 v62 v68 k0_t26) a + S1x1x1x8x128.size a ≤ S4x2x64x64x128.size a) ∧
  (∀ k0_t26 : Fin (k0_t26_loop v62 v68).trips, ∀ a, (k0_off1375 v9 k0_t20 v62 v68 k0_t26) a + S1x1x1x32x128.size a ≤ S4x2x8x1024x128.size a) ∧
  (∀ k0_t26 : Fin (k0_t26_loop v62 v68).trips, ∀ a, (k0_off1377 v9 k0_t20 v62 v68 k0_t26) a + S1x1x1x8x128.size a ≤ S4x2x64x64x128.size a) ∧
  (∀ k0_t26 : Fin (k0_t26_loop v62 v68).trips, ∀ a, (k0_off1378 v9 k0_t20 v62 v68 k0_t26) a + S1x1x1x8x128.size a ≤ S4x2x64x64x128.size a) ∧
  (∀ k0_t26 : Fin (k0_t26_loop v62 v68).trips, ∀ a, (k0_off1379 v9 k0_t20 v62 v68 k0_t26) a + S1x1x1x32x128.size a ≤ S4x2x8x1024x128.size a) ∧
  (∀ k0_t26 : Fin (k0_t26_loop v62 v68).trips, ∀ a, (k0_off1381 v9 k0_t20 v62 v68 k0_t26) a + S1x1x1x8x128.size a ≤ S4x2x64x64x128.size a) ∧
  (∀ k0_t26 : Fin (k0_t26_loop v62 v68).trips, ∀ a, (k0_off1382 v9 k0_t20 v62 v68 k0_t26) a + S1x1x1x8x128.size a ≤ S4x2x64x64x128.size a) ∧
  (∀ k0_t26 : Fin (k0_t26_loop v62 v68).trips, ∀ a, (k0_off1383 v9 k0_t20 v62 v68 k0_t26) a + S1x1x1x32x128.size a ≤ S4x2x8x1024x128.size a) ∧
  (∀ k0_t26 : Fin (k0_t26_loop v62 v68).trips, ∀ a, (k0_off1385 v9 k0_t20 v62 v68 k0_t26) a + S1x1x1x8x128.size a ≤ S4x2x64x64x128.size a) ∧
  (∀ k0_t26 : Fin (k0_t26_loop v62 v68).trips, ∀ a, (k0_off1386 v9 k0_t20 v62 v68 k0_t26) a + S1x1x1x8x128.size a ≤ S4x2x64x64x128.size a) ∧
  (∀ k0_t26 : Fin (k0_t26_loop v62 v68).trips, ∀ a, (k0_off1387 v9 k0_t20 v62 v68 k0_t26) a + S1x1x1x32x128.size a ≤ S4x2x8x1024x128.size a) ∧
  (∀ k0_t26 : Fin (k0_t26_loop v62 v68).trips, ∀ a, (k0_off1389 v9 k0_t20 v62 v68 k0_t26) a + S1x1x1x8x128.size a ≤ S4x2x64x64x128.size a) ∧
  (∀ k0_t26 : Fin (k0_t26_loop v62 v68).trips, ∀ a, (k0_off1390 v9 k0_t20 v62 v68 k0_t26) a + S1x1x1x8x128.size a ≤ S4x2x64x64x128.size a) ∧
  (∀ k0_t26 : Fin (k0_t26_loop v62 v68).trips, ∀ a, (k0_off1391 v9 k0_t20 v62 v68 k0_t26) a + S1x1x1x32x128.size a ≤ S4x2x8x1024x128.size a) ∧
  (∀ k0_t26 : Fin (k0_t26_loop v62 v68).trips, ∀ a, (k0_off1393 v9 k0_t20 v62 v68 k0_t26) a + S1x1x1x8x128.size a ≤ S4x2x64x64x128.size a) ∧
  (∀ k0_t26 : Fin (k0_t26_loop v62 v68).trips, ∀ a, (k0_off1394 v9 k0_t20 v62 v68 k0_t26) a + S1x1x1x8x128.size a ≤ S4x2x64x64x128.size a) ∧
  (∀ k0_t26 : Fin (k0_t26_loop v62 v68).trips, ∀ a, (k0_off1395 v9 k0_t20 v62 v68 k0_t26) a + S1x1x1x32x128.size a ≤ S4x2x8x1024x128.size a) ∧
  (∀ k0_t26 : Fin (k0_t26_loop v62 v68).trips, ∀ a, (k0_off1397 v9 k0_t20 v62 v68 k0_t26) a + S1x1x1x8x128.size a ≤ S4x2x64x64x128.size a) ∧
  (∀ k0_t26 : Fin (k0_t26_loop v62 v68).trips, ∀ a, (k0_off1398 v9 k0_t20 v62 v68 k0_t26) a + S1x1x1x8x128.size a ≤ S4x2x64x64x128.size a) ∧
  (∀ k0_t26 : Fin (k0_t26_loop v62 v68).trips, ∀ a, (k0_off1399 v9 k0_t20 v62 v68 k0_t26) a + S1x1x1x32x128.size a ≤ S4x2x8x1024x128.size a) ∧
  (∀ k0_t26 : Fin (k0_t26_loop v62 v68).trips, ∀ a, (k0_off1401 v9 k0_t20 v62 v68 k0_t26) a + S1x1x1x8x128.size a ≤ S4x2x64x64x128.size a) ∧
  (∀ k0_t26 : Fin (k0_t26_loop v62 v68).trips, ∀ a, (k0_off1402 v9 k0_t20 v62 v68 k0_t26) a + S1x1x1x8x128.size a ≤ S4x2x64x64x128.size a) ∧
  (∀ k0_t26 : Fin (k0_t26_loop v62 v68).trips, ∀ a, (k0_off1403 v9 k0_t20 v62 v68 k0_t26) a + S1x1x1x32x128.size a ≤ S4x2x8x1024x128.size a) ∧
  (∀ k0_t26 : Fin (k0_t26_loop v62 v68).trips, ∀ a, (k0_off1405 v9 k0_t20 v62 v68 k0_t26) a + S1x1x1x8x128.size a ≤ S4x2x64x64x128.size a) ∧
  (∀ k0_t26 : Fin (k0_t26_loop v62 v68).trips, ∀ a, (k0_off1406 v9 k0_t20 v62 v68 k0_t26) a + S1x1x1x8x128.size a ≤ S4x2x64x64x128.size a) ∧
  (∀ k0_t26 : Fin (k0_t26_loop v62 v68).trips, ∀ a, (k0_off1407 v9 k0_t20 v62 v68 k0_t26) a + S1x1x1x32x128.size a ≤ S4x2x8x1024x128.size a) ∧
  (∀ k0_t26 : Fin (k0_t26_loop v62 v68).trips, ∀ a, (k0_off1409 v9 k0_t20 v62 v68 k0_t26) a + S1x1x1x8x128.size a ≤ S4x2x64x64x128.size a) ∧
  (∀ k0_t26 : Fin (k0_t26_loop v62 v68).trips, ∀ a, (k0_off1410 v9 k0_t20 v62 v68 k0_t26) a + S1x1x1x8x128.size a ≤ S4x2x64x64x128.size a) ∧
  (∀ k0_t26 : Fin (k0_t26_loop v62 v68).trips, ∀ a, (k0_off1411 v9 k0_t20 v62 v68 k0_t26) a + S1x1x1x32x128.size a ≤ S4x2x8x1024x128.size a) ∧
  (∀ k0_t26 : Fin (k0_t26_loop v62 v68).trips, ∀ a, (k0_off1413 v9 k0_t20 v62 v68 k0_t26) a + S1x1x1x8x128.size a ≤ S4x2x64x64x128.size a) ∧
  (∀ k0_t26 : Fin (k0_t26_loop v62 v68).trips, ∀ a, (k0_off1414 v9 k0_t20 v62 v68 k0_t26) a + S1x1x1x8x128.size a ≤ S4x2x64x64x128.size a) ∧
  (∀ k0_t26 : Fin (k0_t26_loop v62 v68).trips, ∀ a, (k0_off1415 v9 k0_t20 v62 v68 k0_t26) a + S1x1x1x32x128.size a ≤ S4x2x8x1024x128.size a)
def k0_chk32_12 (v9 : BitVec 32) (k0_t20 : Fin (k0_t20_loop v9).trips) (v62 : BitVec 32) (v68 : BitVec 32) : Prop :=
  (∀ k0_t26 : Fin (k0_t26_loop v62 v68).trips, ∀ a, (k0_off1417 v9 k0_t20 v62 v68 k0_t26) a + S1x1x1x8x128.size a ≤ S4x2x64x64x128.size a) ∧
  (∀ k0_t26 : Fin (k0_t26_loop v62 v68).trips, ∀ a, (k0_off1418 v9 k0_t20 v62 v68 k0_t26) a + S1x1x1x8x128.size a ≤ S4x2x64x64x128.size a) ∧
  (∀ k0_t26 : Fin (k0_t26_loop v62 v68).trips, ∀ a, (k0_off1419 v9 k0_t20 v62 v68 k0_t26) a + S1x1x1x32x128.size a ≤ S4x2x8x1024x128.size a) ∧
  (∀ k0_t26 : Fin (k0_t26_loop v62 v68).trips, ∀ a, (k0_off1421 v9 k0_t20 v62 v68 k0_t26) a + S1x1x1x8x128.size a ≤ S4x2x64x64x128.size a) ∧
  (∀ k0_t26 : Fin (k0_t26_loop v62 v68).trips, ∀ a, (k0_off1422 v9 k0_t20 v62 v68 k0_t26) a + S1x1x1x8x128.size a ≤ S4x2x64x64x128.size a) ∧
  (∀ k0_t26 : Fin (k0_t26_loop v62 v68).trips, ∀ a, (k0_off1423 v9 k0_t20 v62 v68 k0_t26) a + S1x1x1x32x128.size a ≤ S4x2x8x1024x128.size a) ∧
  (∀ k0_t26 : Fin (k0_t26_loop v62 v68).trips, ∀ a, (k0_off1425 v9 k0_t20 v62 v68 k0_t26) a + S1x1x1x8x128.size a ≤ S4x2x64x64x128.size a) ∧
  (∀ k0_t26 : Fin (k0_t26_loop v62 v68).trips, ∀ a, (k0_off1426 v9 k0_t20 v62 v68 k0_t26) a + S1x1x1x8x128.size a ≤ S4x2x64x64x128.size a) ∧
  (∀ k0_t26 : Fin (k0_t26_loop v62 v68).trips, ∀ a, (k0_off1427 v9 k0_t20 v62 v68 k0_t26) a + S1x1x1x32x128.size a ≤ S4x2x8x1024x128.size a) ∧
  (∀ k0_t26 : Fin (k0_t26_loop v62 v68).trips, ∀ a, (k0_off1429 v9 k0_t20 v62 v68 k0_t26) a + S1x1x1x8x128.size a ≤ S4x2x64x64x128.size a) ∧
  (∀ k0_t26 : Fin (k0_t26_loop v62 v68).trips, ∀ a, (k0_off1430 v9 k0_t20 v62 v68 k0_t26) a + S1x1x1x8x128.size a ≤ S4x2x64x64x128.size a) ∧
  (∀ k0_t26 : Fin (k0_t26_loop v62 v68).trips, ∀ a, (k0_off1431 v9 k0_t20 v62 v68 k0_t26) a + S1x1x1x32x128.size a ≤ S4x2x8x1024x128.size a) ∧
  (∀ k0_t26 : Fin (k0_t26_loop v62 v68).trips, ∀ a, (k0_off1433 v9 k0_t20 v62 v68 k0_t26) a + S1x1x1x8x128.size a ≤ S4x2x64x64x128.size a) ∧
  (∀ k0_t26 : Fin (k0_t26_loop v62 v68).trips, ∀ a, (k0_off1434 v9 k0_t20 v62 v68 k0_t26) a + S1x1x1x8x128.size a ≤ S4x2x64x64x128.size a) ∧
  (∀ k0_t26 : Fin (k0_t26_loop v62 v68).trips, ∀ a, (k0_off1435 v9 k0_t20 v62 v68 k0_t26) a + S1x1x1x32x128.size a ≤ S4x2x8x1024x128.size a) ∧
  (∀ k0_t26 : Fin (k0_t26_loop v62 v68).trips, ∀ a, (k0_off1437 v9 k0_t20 v62 v68 k0_t26) a + S1x1x1x8x128.size a ≤ S4x2x64x64x128.size a) ∧
  (∀ k0_t26 : Fin (k0_t26_loop v62 v68).trips, ∀ a, (k0_off1438 v9 k0_t20 v62 v68 k0_t26) a + S1x1x1x8x128.size a ≤ S4x2x64x64x128.size a) ∧
  (∀ k0_t26 : Fin (k0_t26_loop v62 v68).trips, ∀ a, (k0_off1439 v9 k0_t20 v62 v68 k0_t26) a + S1x1x1x32x128.size a ≤ S4x2x8x1024x128.size a) ∧
  (∀ k0_t26 : Fin (k0_t26_loop v62 v68).trips, ∀ a, (k0_off1441 v9 k0_t20 v62 v68 k0_t26) a + S1x1x1x8x128.size a ≤ S4x2x64x64x128.size a) ∧
  (∀ k0_t26 : Fin (k0_t26_loop v62 v68).trips, ∀ a, (k0_off1442 v9 k0_t20 v62 v68 k0_t26) a + S1x1x1x8x128.size a ≤ S4x2x64x64x128.size a) ∧
  ((k0_t27_loop v62 v68).OK) ∧
  (∀ k0_t27 : Fin (k0_t27_loop v62 v68).trips, 8 ∣ (k0_mult33 v62 v68 k0_t27).toNat) ∧
  (∀ k0_t27 : Fin (k0_t27_loop v62 v68).trips, ∀ a, (k0_off1443 v9 k0_t20 v62 v68 k0_t27) a + S1x1x1x8x128.size a ≤ S4x2x64x64x128.size a) ∧
  (∀ k0_t27 : Fin (k0_t27_loop v62 v68).trips, ∀ a, (k0_off1444 v9 k0_t20 v62 v68 k0_t27) a + S1x1x1x8x128.size a ≤ S4x2x64x64x128.size a) ∧
  (∀ k0_t27 : Fin (k0_t27_loop v62 v68).trips, ∀ a, (k0_off1445 v9 k0_t20 v62 v68 k0_t27) a + S1x1x1x8x128.size a ≤ S4x2x64x64x128.size a) ∧
  (∀ k0_t27 : Fin (k0_t27_loop v62 v68).trips, ∀ a, (k0_off1446 v9 k0_t20 v62 v68 k0_t27) a + S1x1x1x8x128.size a ≤ S4x2x64x64x128.size a) ∧
  (∀ k0_t27 : Fin (k0_t27_loop v62 v68).trips, ∀ a, (k0_off1447 v9 k0_t20 v62 v68 k0_t27) a + S1x1x1x8x128.size a ≤ S4x2x64x64x128.size a) ∧
  (∀ k0_t27 : Fin (k0_t27_loop v62 v68).trips, ∀ a, (k0_off1448 v9 k0_t20 v62 v68 k0_t27) a + S1x1x1x8x128.size a ≤ S4x2x64x64x128.size a) ∧
  (∀ k0_t27 : Fin (k0_t27_loop v62 v68).trips, ∀ a, (k0_off1449 v9 k0_t20 v62 v68 k0_t27) a + S1x1x1x8x128.size a ≤ S4x2x64x64x128.size a) ∧
  (∀ k0_t27 : Fin (k0_t27_loop v62 v68).trips, ∀ a, (k0_off1450 v9 k0_t20 v62 v68 k0_t27) a + S1x1x1x8x128.size a ≤ S4x2x64x64x128.size a) ∧
  (∀ k0_t27 : Fin (k0_t27_loop v62 v68).trips, ∀ a, (k0_off1451 v9 k0_t20 v62 v68 k0_t27) a + S1x1x1x8x128.size a ≤ S4x2x64x64x128.size a) ∧
  (∀ k0_t27 : Fin (k0_t27_loop v62 v68).trips, ∀ a, (k0_off1452 v9 k0_t20 v62 v68 k0_t27) a + S1x1x1x8x128.size a ≤ S4x2x64x64x128.size a)
def k0_chk32_13 (v9 : BitVec 32) (k0_t20 : Fin (k0_t20_loop v9).trips) (v62 : BitVec 32) (v68 : BitVec 32) : Prop :=
  (∀ k0_t27 : Fin (k0_t27_loop v62 v68).trips, ∀ a, (k0_off1453 v9 k0_t20 v62 v68 k0_t27) a + S1x1x1x8x128.size a ≤ S4x2x64x64x128.size a) ∧
  (∀ k0_t27 : Fin (k0_t27_loop v62 v68).trips, ∀ a, (k0_off1454 v9 k0_t20 v62 v68 k0_t27) a + S1x1x1x8x128.size a ≤ S4x2x64x64x128.size a) ∧
  (∀ k0_t27 : Fin (k0_t27_loop v62 v68).trips, ∀ a, (k0_off1455 v9 k0_t20 v62 v68 k0_t27) a + S1x1x1x8x128.size a ≤ S4x2x64x64x128.size a) ∧
  (∀ k0_t27 : Fin (k0_t27_loop v62 v68).trips, ∀ a, (k0_off1456 v9 k0_t20 v62 v68 k0_t27) a + S1x1x1x8x128.size a ≤ S4x2x64x64x128.size a) ∧
  (∀ k0_t27 : Fin (k0_t27_loop v62 v68).trips, ∀ a, (k0_off1457 v9 k0_t20 v62 v68 k0_t27) a + S1x1x1x8x128.size a ≤ S4x2x64x64x128.size a) ∧
  (∀ k0_t27 : Fin (k0_t27_loop v62 v68).trips, ∀ a, (k0_off1458 v9 k0_t20 v62 v68 k0_t27) a + S1x1x1x8x128.size a ≤ S4x2x64x64x128.size a) ∧
  (∀ k0_t27 : Fin (k0_t27_loop v62 v68).trips, ∀ a, (k0_off1459 v9 k0_t20 v62 v68 k0_t27) a + S1x1x1x8x128.size a ≤ S4x2x64x64x128.size a) ∧
  (∀ k0_t27 : Fin (k0_t27_loop v62 v68).trips, ∀ a, (k0_off1460 v9 k0_t20 v62 v68 k0_t27) a + S1x1x1x8x128.size a ≤ S4x2x64x64x128.size a) ∧
  (∀ k0_t27 : Fin (k0_t27_loop v62 v68).trips, ∀ a, (k0_off1461 v9 k0_t20 v62 v68 k0_t27) a + S1x1x1x8x128.size a ≤ S4x2x64x64x128.size a) ∧
  (∀ k0_t27 : Fin (k0_t27_loop v62 v68).trips, ∀ a, (k0_off1462 v9 k0_t20 v62 v68 k0_t27) a + S1x1x1x8x128.size a ≤ S4x2x64x64x128.size a) ∧
  (∀ k0_t27 : Fin (k0_t27_loop v62 v68).trips, ∀ a, (k0_off1463 v9 k0_t20 v62 v68 k0_t27) a + S1x1x1x8x128.size a ≤ S4x2x64x64x128.size a) ∧
  (∀ k0_t27 : Fin (k0_t27_loop v62 v68).trips, ∀ a, (k0_off1464 v9 k0_t20 v62 v68 k0_t27) a + S1x1x1x8x128.size a ≤ S4x2x64x64x128.size a) ∧
  (∀ k0_t27 : Fin (k0_t27_loop v62 v68).trips, ∀ a, (k0_off1465 v9 k0_t20 v62 v68 k0_t27) a + S1x1x1x8x128.size a ≤ S4x2x64x64x128.size a) ∧
  (∀ k0_t27 : Fin (k0_t27_loop v62 v68).trips, ∀ a, (k0_off1466 v9 k0_t20 v62 v68 k0_t27) a + S1x1x1x8x128.size a ≤ S4x2x64x64x128.size a) ∧
  (∀ k0_t27 : Fin (k0_t27_loop v62 v68).trips, ∀ a, (k0_off1467 v9 k0_t20 v62 v68 k0_t27) a + S1x1x1x8x128.size a ≤ S4x2x64x64x128.size a) ∧
  (∀ k0_t27 : Fin (k0_t27_loop v62 v68).trips, ∀ a, (k0_off1468 v9 k0_t20 v62 v68 k0_t27) a + S1x1x1x8x128.size a ≤ S4x2x64x64x128.size a) ∧
  (∀ k0_t27 : Fin (k0_t27_loop v62 v68).trips, ∀ a, (k0_off1469 v9 k0_t20 v62 v68 k0_t27) a + S1x1x1x8x128.size a ≤ S4x2x64x64x128.size a) ∧
  (∀ k0_t27 : Fin (k0_t27_loop v62 v68).trips, ∀ a, (k0_off1470 v9 k0_t20 v62 v68 k0_t27) a + S1x1x1x8x128.size a ≤ S4x2x64x64x128.size a) ∧
  (∀ k0_t27 : Fin (k0_t27_loop v62 v68).trips, ∀ a, (k0_off1471 v9 k0_t20 v62 v68 k0_t27) a + S1x1x1x8x128.size a ≤ S4x2x64x64x128.size a) ∧
  (∀ k0_t27 : Fin (k0_t27_loop v62 v68).trips, ∀ a, (k0_off1472 v9 k0_t20 v62 v68 k0_t27) a + S1x1x1x8x128.size a ≤ S4x2x64x64x128.size a) ∧
  (∀ k0_t27 : Fin (k0_t27_loop v62 v68).trips, ∀ a, (k0_off1473 v9 k0_t20 v62 v68 k0_t27) a + S1x1x1x8x128.size a ≤ S4x2x64x64x128.size a) ∧
  (∀ k0_t27 : Fin (k0_t27_loop v62 v68).trips, ∀ a, (k0_off1474 v9 k0_t20 v62 v68 k0_t27) a + S1x1x1x8x128.size a ≤ S4x2x64x64x128.size a) ∧
  (∀ k0_t27 : Fin (k0_t27_loop v62 v68).trips, ∀ a, (k0_off1475 v9 k0_t20 v62 v68 k0_t27) a + S1x1x1x8x128.size a ≤ S4x2x64x64x128.size a) ∧
  (∀ k0_t27 : Fin (k0_t27_loop v62 v68).trips, ∀ a, (k0_off1476 v9 k0_t20 v62 v68 k0_t27) a + S1x1x1x8x128.size a ≤ S4x2x64x64x128.size a) ∧
  (∀ k0_t27 : Fin (k0_t27_loop v62 v68).trips, ∀ a, (k0_off1477 v9 k0_t20 v62 v68 k0_t27) a + S1x1x1x8x128.size a ≤ S4x2x64x64x128.size a) ∧
  (∀ k0_t27 : Fin (k0_t27_loop v62 v68).trips, ∀ a, (k0_off1478 v9 k0_t20 v62 v68 k0_t27) a + S1x1x1x8x128.size a ≤ S4x2x64x64x128.size a) ∧
  (∀ k0_t27 : Fin (k0_t27_loop v62 v68).trips, ∀ a, (k0_off1479 v9 k0_t20 v62 v68 k0_t27) a + S1x1x1x8x128.size a ≤ S4x2x64x64x128.size a) ∧
  (∀ k0_t27 : Fin (k0_t27_loop v62 v68).trips, ∀ a, (k0_off1480 v9 k0_t20 v62 v68 k0_t27) a + S1x1x1x8x128.size a ≤ S4x2x64x64x128.size a) ∧
  (∀ k0_t27 : Fin (k0_t27_loop v62 v68).trips, ∀ a, (k0_off1481 v9 k0_t20 v62 v68 k0_t27) a + S1x1x1x8x128.size a ≤ S4x2x64x64x128.size a) ∧
  (∀ k0_t27 : Fin (k0_t27_loop v62 v68).trips, ∀ a, (k0_off1482 v9 k0_t20 v62 v68 k0_t27) a + S1x1x1x8x128.size a ≤ S4x2x64x64x128.size a) ∧
  (∀ k0_t27 : Fin (k0_t27_loop v62 v68).trips, ∀ a, (k0_off1483 v9 k0_t20 v62 v68 k0_t27) a + S1x1x1x8x128.size a ≤ S4x2x64x64x128.size a) ∧
  (∀ k0_t27 : Fin (k0_t27_loop v62 v68).trips, ∀ a, (k0_off1484 v9 k0_t20 v62 v68 k0_t27) a + S1x1x1x8x128.size a ≤ S4x2x64x64x128.size a)
def k0_chk32_14 (v9 : BitVec 32) (k0_t20 : Fin (k0_t20_loop v9).trips) (v62 : BitVec 32) (v68 : BitVec 32) : Prop :=
  (∀ k0_t27 : Fin (k0_t27_loop v62 v68).trips, ∀ a, (k0_off1485 v9 k0_t20 v62 v68 k0_t27) a + S1x1x1x8x128.size a ≤ S4x2x64x64x128.size a) ∧
  (∀ k0_t27 : Fin (k0_t27_loop v62 v68).trips, ∀ a, (k0_off1486 v9 k0_t20 v62 v68 k0_t27) a + S1x1x1x8x128.size a ≤ S4x2x64x64x128.size a) ∧
  (∀ k0_t27 : Fin (k0_t27_loop v62 v68).trips, ∀ a, (k0_off1487 v9 k0_t20 v62 v68 k0_t27) a + S1x1x1x8x128.size a ≤ S4x2x64x64x128.size a) ∧
  (∀ k0_t27 : Fin (k0_t27_loop v62 v68).trips, ∀ a, (k0_off1488 v9 k0_t20 v62 v68 k0_t27) a + S1x1x1x8x128.size a ≤ S4x2x64x64x128.size a) ∧
  (∀ k0_t27 : Fin (k0_t27_loop v62 v68).trips, ∀ a, (k0_off1489 v9 k0_t20 v62 v68 k0_t27) a + S1x1x1x8x128.size a ≤ S4x2x64x64x128.size a) ∧
  (∀ k0_t27 : Fin (k0_t27_loop v62 v68).trips, ∀ a, (k0_off1490 v9 k0_t20 v62 v68 k0_t27) a + S1x1x1x8x128.size a ≤ S4x2x64x64x128.size a) ∧
  (∀ k0_t27 : Fin (k0_t27_loop v62 v68).trips, ∀ a, (k0_off1491 v9 k0_t20 v62 v68 k0_t27) a + S1x1x1x8x128.size a ≤ S4x2x64x64x128.size a) ∧
  (∀ k0_t27 : Fin (k0_t27_loop v62 v68).trips, ∀ a, (k0_off1492 v9 k0_t20 v62 v68 k0_t27) a + S1x1x1x8x128.size a ≤ S4x2x64x64x128.size a) ∧
  (∀ k0_t27 : Fin (k0_t27_loop v62 v68).trips, ∀ a, (k0_off1493 v9 k0_t20 v62 v68 k0_t27) a + S1x1x1x8x128.size a ≤ S4x2x64x64x128.size a) ∧
  (∀ k0_t27 : Fin (k0_t27_loop v62 v68).trips, ∀ a, (k0_off1494 v9 k0_t20 v62 v68 k0_t27) a + S1x1x1x8x128.size a ≤ S4x2x64x64x128.size a) ∧
  (∀ k0_t27 : Fin (k0_t27_loop v62 v68).trips, ∀ a, (k0_off1495 v9 k0_t20 v62 v68 k0_t27) a + S1x1x1x8x128.size a ≤ S4x2x64x64x128.size a) ∧
  (∀ k0_t27 : Fin (k0_t27_loop v62 v68).trips, ∀ a, (k0_off1496 v9 k0_t20 v62 v68 k0_t27) a + S1x1x1x8x128.size a ≤ S4x2x64x64x128.size a) ∧
  (∀ k0_t27 : Fin (k0_t27_loop v62 v68).trips, ∀ a, (k0_off1497 v9 k0_t20 v62 v68 k0_t27) a + S1x1x1x8x128.size a ≤ S4x2x64x64x128.size a) ∧
  (∀ k0_t27 : Fin (k0_t27_loop v62 v68).trips, ∀ a, (k0_off1498 v9 k0_t20 v62 v68 k0_t27) a + S1x1x1x8x128.size a ≤ S4x2x64x64x128.size a) ∧
  (∀ k0_t27 : Fin (k0_t27_loop v62 v68).trips, ∀ a, (k0_off1499 v9 k0_t20 v62 v68 k0_t27) a + S1x1x1x8x128.size a ≤ S4x2x64x64x128.size a) ∧
  (∀ k0_t27 : Fin (k0_t27_loop v62 v68).trips, ∀ a, (k0_off1500 v9 k0_t20 v62 v68 k0_t27) a + S1x1x1x8x128.size a ≤ S4x2x64x64x128.size a) ∧
  (∀ k0_t27 : Fin (k0_t27_loop v62 v68).trips, ∀ a, (k0_off1501 v9 k0_t20 v62 v68 k0_t27) a + S1x1x1x8x128.size a ≤ S4x2x64x64x128.size a) ∧
  (∀ k0_t27 : Fin (k0_t27_loop v62 v68).trips, ∀ a, (k0_off1502 v9 k0_t20 v62 v68 k0_t27) a + S1x1x1x8x128.size a ≤ S4x2x64x64x128.size a) ∧
  (∀ k0_t27 : Fin (k0_t27_loop v62 v68).trips, ∀ a, (k0_off1503 v9 k0_t20 v62 v68 k0_t27) a + S1x1x1x8x128.size a ≤ S4x2x64x64x128.size a) ∧
  (∀ k0_t27 : Fin (k0_t27_loop v62 v68).trips, ∀ a, (k0_off1504 v9 k0_t20 v62 v68 k0_t27) a + S1x1x1x8x128.size a ≤ S4x2x64x64x128.size a) ∧
  (∀ k0_t27 : Fin (k0_t27_loop v62 v68).trips, ∀ a, (k0_off1505 v9 k0_t20 v62 v68 k0_t27) a + S1x1x1x8x128.size a ≤ S4x2x64x64x128.size a) ∧
  (∀ k0_t27 : Fin (k0_t27_loop v62 v68).trips, ∀ a, (k0_off1506 v9 k0_t20 v62 v68 k0_t27) a + S1x1x1x8x128.size a ≤ S4x2x64x64x128.size a) ∧
  (∀ k0_t27 : Fin (k0_t27_loop v62 v68).trips, ∀ a, (k0_off1507 v9 k0_t20 v62 v68 k0_t27) a + S1x1x1x8x128.size a ≤ S4x2x64x64x128.size a) ∧
  (∀ k0_t27 : Fin (k0_t27_loop v62 v68).trips, ∀ a, (k0_off1508 v9 k0_t20 v62 v68 k0_t27) a + S1x1x1x8x128.size a ≤ S4x2x64x64x128.size a) ∧
  (∀ k0_t27 : Fin (k0_t27_loop v62 v68).trips, ∀ a, (k0_off1509 v9 k0_t20 v62 v68 k0_t27) a + S1x1x1x8x128.size a ≤ S4x2x64x64x128.size a) ∧
  (∀ k0_t27 : Fin (k0_t27_loop v62 v68).trips, ∀ a, (k0_off1510 v9 k0_t20 v62 v68 k0_t27) a + S1x1x1x8x128.size a ≤ S4x2x64x64x128.size a) ∧
  (∀ k0_t27 : Fin (k0_t27_loop v62 v68).trips, ∀ a, (k0_off1511 v9 k0_t20 v62 v68 k0_t27) a + S1x1x1x8x128.size a ≤ S4x2x64x64x128.size a) ∧
  (∀ k0_t27 : Fin (k0_t27_loop v62 v68).trips, ∀ a, (k0_off1512 v9 k0_t20 v62 v68 k0_t27) a + S1x1x1x8x128.size a ≤ S4x2x64x64x128.size a) ∧
  (∀ k0_t27 : Fin (k0_t27_loop v62 v68).trips, ∀ a, (k0_off1513 v9 k0_t20 v62 v68 k0_t27) a + S1x1x1x8x128.size a ≤ S4x2x64x64x128.size a) ∧
  (∀ k0_t27 : Fin (k0_t27_loop v62 v68).trips, ∀ a, (k0_off1514 v9 k0_t20 v62 v68 k0_t27) a + S1x1x1x8x128.size a ≤ S4x2x64x64x128.size a) ∧
  (∀ k0_t27 : Fin (k0_t27_loop v62 v68).trips, ∀ a, (k0_off1515 v9 k0_t20 v62 v68 k0_t27) a + S1x1x1x8x128.size a ≤ S4x2x64x64x128.size a) ∧
  (∀ k0_t27 : Fin (k0_t27_loop v62 v68).trips, ∀ a, (k0_off1516 v9 k0_t20 v62 v68 k0_t27) a + S1x1x1x8x128.size a ≤ S4x2x64x64x128.size a)
def k0_chk32_15 (v9 : BitVec 32) (k0_t20 : Fin (k0_t20_loop v9).trips) (v62 : BitVec 32) (v68 : BitVec 32) : Prop :=
  (∀ k0_t27 : Fin (k0_t27_loop v62 v68).trips, ∀ a, (k0_off1517 v9 k0_t20 v62 v68 k0_t27) a + S1x1x1x8x128.size a ≤ S4x2x64x64x128.size a) ∧
  (∀ k0_t27 : Fin (k0_t27_loop v62 v68).trips, ∀ a, (k0_off1518 v9 k0_t20 v62 v68 k0_t27) a + S1x1x1x8x128.size a ≤ S4x2x64x64x128.size a) ∧
  (∀ k0_t27 : Fin (k0_t27_loop v62 v68).trips, ∀ a, (k0_off1519 v9 k0_t20 v62 v68 k0_t27) a + S1x1x1x8x128.size a ≤ S4x2x64x64x128.size a) ∧
  (∀ k0_t27 : Fin (k0_t27_loop v62 v68).trips, ∀ a, (k0_off1520 v9 k0_t20 v62 v68 k0_t27) a + S1x1x1x8x128.size a ≤ S4x2x64x64x128.size a) ∧
  (∀ k0_t27 : Fin (k0_t27_loop v62 v68).trips, ∀ a, (k0_off1521 v9 k0_t20 v62 v68 k0_t27) a + S1x1x1x8x128.size a ≤ S4x2x64x64x128.size a) ∧
  (∀ k0_t27 : Fin (k0_t27_loop v62 v68).trips, ∀ a, (k0_off1522 v9 k0_t20 v62 v68 k0_t27) a + S1x1x1x8x128.size a ≤ S4x2x64x64x128.size a) ∧
  (∀ k0_t27 : Fin (k0_t27_loop v62 v68).trips, ∀ a, (k0_off1523 v9 k0_t20 v62 v68 k0_t27) a + S1x1x1x8x128.size a ≤ S4x2x64x64x128.size a) ∧
  (∀ k0_t27 : Fin (k0_t27_loop v62 v68).trips, ∀ a, (k0_off1524 v9 k0_t20 v62 v68 k0_t27) a + S1x1x1x8x128.size a ≤ S4x2x64x64x128.size a) ∧
  (∀ k0_t27 : Fin (k0_t27_loop v62 v68).trips, ∀ a, (k0_off1525 v9 k0_t20 v62 v68 k0_t27) a + S1x1x1x8x128.size a ≤ S4x2x64x64x128.size a) ∧
  (∀ k0_t27 : Fin (k0_t27_loop v62 v68).trips, ∀ a, (k0_off1526 v9 k0_t20 v62 v68 k0_t27) a + S1x1x1x8x128.size a ≤ S4x2x64x64x128.size a) ∧
  (∀ k0_t27 : Fin (k0_t27_loop v62 v68).trips, ∀ a, (k0_off1527 v9 k0_t20 v62 v68 k0_t27) a + S1x1x1x8x128.size a ≤ S4x2x64x64x128.size a) ∧
  (∀ k0_t27 : Fin (k0_t27_loop v62 v68).trips, ∀ a, (k0_off1528 v9 k0_t20 v62 v68 k0_t27) a + S1x1x1x8x128.size a ≤ S4x2x64x64x128.size a) ∧
  (∀ k0_t27 : Fin (k0_t27_loop v62 v68).trips, ∀ a, (k0_off1529 v9 k0_t20 v62 v68 k0_t27) a + S1x1x1x8x128.size a ≤ S4x2x64x64x128.size a) ∧
  (∀ k0_t27 : Fin (k0_t27_loop v62 v68).trips, ∀ a, (k0_off1530 v9 k0_t20 v62 v68 k0_t27) a + S1x1x1x8x128.size a ≤ S4x2x64x64x128.size a) ∧
  (∀ k0_t27 : Fin (k0_t27_loop v62 v68).trips, ∀ a, (k0_off1531 v9 k0_t20 v62 v68 k0_t27) a + S1x1x1x8x128.size a ≤ S4x2x64x64x128.size a) ∧
  (∀ k0_t27 : Fin (k0_t27_loop v62 v68).trips, ∀ a, (k0_off1532 v9 k0_t20 v62 v68 k0_t27) a + S1x1x1x8x128.size a ≤ S4x2x64x64x128.size a) ∧
  (∀ k0_t27 : Fin (k0_t27_loop v62 v68).trips, ∀ a, (k0_off1533 v9 k0_t20 v62 v68 k0_t27) a + S1x1x1x8x128.size a ≤ S4x2x64x64x128.size a) ∧
  (∀ k0_t27 : Fin (k0_t27_loop v62 v68).trips, ∀ a, (k0_off1534 v9 k0_t20 v62 v68 k0_t27) a + S1x1x1x8x128.size a ≤ S4x2x64x64x128.size a) ∧
  (∀ k0_t27 : Fin (k0_t27_loop v62 v68).trips, ∀ a, (k0_off1535 v9 k0_t20 v62 v68 k0_t27) a + S1x1x1x8x128.size a ≤ S4x2x64x64x128.size a) ∧
  (∀ k0_t27 : Fin (k0_t27_loop v62 v68).trips, ∀ a, (k0_off1536 v9 k0_t20 v62 v68 k0_t27) a + S1x1x1x8x128.size a ≤ S4x2x64x64x128.size a) ∧
  (∀ k0_t27 : Fin (k0_t27_loop v62 v68).trips, ∀ a, (k0_off1537 v9 k0_t20 v62 v68 k0_t27) a + S1x1x1x8x128.size a ≤ S4x2x64x64x128.size a) ∧
  (∀ k0_t27 : Fin (k0_t27_loop v62 v68).trips, ∀ a, (k0_off1538 v9 k0_t20 v62 v68 k0_t27) a + S1x1x1x8x128.size a ≤ S4x2x64x64x128.size a) ∧
  (∀ k0_t27 : Fin (k0_t27_loop v62 v68).trips, ∀ a, (k0_off1539 v9 k0_t20 v62 v68 k0_t27) a + S1x1x1x8x128.size a ≤ S4x2x64x64x128.size a) ∧
  (∀ k0_t27 : Fin (k0_t27_loop v62 v68).trips, ∀ a, (k0_off1540 v9 k0_t20 v62 v68 k0_t27) a + S1x1x1x8x128.size a ≤ S4x2x64x64x128.size a) ∧
  (∀ k0_t27 : Fin (k0_t27_loop v62 v68).trips, ∀ a, (k0_off1541 v9 k0_t20 v62 v68 k0_t27) a + S1x1x1x8x128.size a ≤ S4x2x64x64x128.size a) ∧
  (∀ k0_t27 : Fin (k0_t27_loop v62 v68).trips, ∀ a, (k0_off1542 v9 k0_t20 v62 v68 k0_t27) a + S1x1x1x8x128.size a ≤ S4x2x64x64x128.size a) ∧
  (∀ k0_t27 : Fin (k0_t27_loop v62 v68).trips, ∀ a, (k0_off1543 v9 k0_t20 v62 v68 k0_t27) a + S1x1x1x8x128.size a ≤ S4x2x64x64x128.size a) ∧
  (∀ k0_t27 : Fin (k0_t27_loop v62 v68).trips, ∀ a, (k0_off1544 v9 k0_t20 v62 v68 k0_t27) a + S1x1x1x8x128.size a ≤ S4x2x64x64x128.size a) ∧
  (∀ k0_t27 : Fin (k0_t27_loop v62 v68).trips, ∀ a, (k0_off1545 v9 k0_t20 v62 v68 k0_t27) a + S1x1x1x8x128.size a ≤ S4x2x64x64x128.size a) ∧
  (∀ k0_t27 : Fin (k0_t27_loop v62 v68).trips, ∀ a, (k0_off1546 v9 k0_t20 v62 v68 k0_t27) a + S1x1x1x8x128.size a ≤ S4x2x64x64x128.size a) ∧
  (∀ k0_t27 : Fin (k0_t27_loop v62 v68).trips, ∀ a, (k0_off1547 v9 k0_t20 v62 v68 k0_t27) a + S1x1x1x8x128.size a ≤ S4x2x64x64x128.size a) ∧
  (∀ k0_t27 : Fin (k0_t27_loop v62 v68).trips, ∀ a, (k0_off1548 v9 k0_t20 v62 v68 k0_t27) a + S1x1x1x8x128.size a ≤ S4x2x64x64x128.size a)
def k0_chk32_16 (v9 : BitVec 32) (k0_t20 : Fin (k0_t20_loop v9).trips) (v62 : BitVec 32) (v68 : BitVec 32) : Prop :=
  (∀ k0_t27 : Fin (k0_t27_loop v62 v68).trips, ∀ a, (k0_off1549 v9 k0_t20 v62 v68 k0_t27) a + S1x1x1x8x128.size a ≤ S4x2x64x64x128.size a) ∧
  (∀ k0_t27 : Fin (k0_t27_loop v62 v68).trips, ∀ a, (k0_off1550 v9 k0_t20 v62 v68 k0_t27) a + S1x1x1x8x128.size a ≤ S4x2x64x64x128.size a) ∧
  (∀ k0_t27 : Fin (k0_t27_loop v62 v68).trips, ∀ a, (k0_off1551 v9 k0_t20 v62 v68 k0_t27) a + S1x1x1x8x128.size a ≤ S4x2x64x64x128.size a) ∧
  (∀ k0_t27 : Fin (k0_t27_loop v62 v68).trips, ∀ a, (k0_off1552 v9 k0_t20 v62 v68 k0_t27) a + S1x1x1x8x128.size a ≤ S4x2x64x64x128.size a) ∧
  (∀ k0_t27 : Fin (k0_t27_loop v62 v68).trips, ∀ a, (k0_off1553 v9 k0_t20 v62 v68 k0_t27) a + S1x1x1x8x128.size a ≤ S4x2x64x64x128.size a) ∧
  (∀ k0_t27 : Fin (k0_t27_loop v62 v68).trips, ∀ a, (k0_off1554 v9 k0_t20 v62 v68 k0_t27) a + S1x1x1x8x128.size a ≤ S4x2x64x64x128.size a) ∧
  (∀ k0_t27 : Fin (k0_t27_loop v62 v68).trips, ∀ a, (k0_off1555 v9 k0_t20 v62 v68 k0_t27) a + S1x1x1x8x128.size a ≤ S4x2x64x64x128.size a) ∧
  (∀ k0_t27 : Fin (k0_t27_loop v62 v68).trips, ∀ a, (k0_off1556 v9 k0_t20 v62 v68 k0_t27) a + S1x1x1x8x128.size a ≤ S4x2x64x64x128.size a) ∧
  (∀ k0_t27 : Fin (k0_t27_loop v62 v68).trips, ∀ a, (k0_off1557 v9 k0_t20 v62 v68 k0_t27) a + S1x1x1x8x128.size a ≤ S4x2x64x64x128.size a) ∧
  (∀ k0_t27 : Fin (k0_t27_loop v62 v68).trips, ∀ a, (k0_off1558 v9 k0_t20 v62 v68 k0_t27) a + S1x1x1x8x128.size a ≤ S4x2x64x64x128.size a) ∧
  (∀ k0_t27 : Fin (k0_t27_loop v62 v68).trips, ∀ a, (k0_off1559 v9 k0_t20 v62 v68 k0_t27) a + S1x1x1x8x128.size a ≤ S4x2x64x64x128.size a) ∧
  (∀ k0_t27 : Fin (k0_t27_loop v62 v68).trips, ∀ a, (k0_off1560 v9 k0_t20 v62 v68 k0_t27) a + S1x1x1x8x128.size a ≤ S4x2x64x64x128.size a) ∧
  (∀ k0_t27 : Fin (k0_t27_loop v62 v68).trips, ∀ a, (k0_off1561 v9 k0_t20 v62 v68 k0_t27) a + S1x1x1x8x128.size a ≤ S4x2x64x64x128.size a) ∧
  (∀ k0_t27 : Fin (k0_t27_loop v62 v68).trips, ∀ a, (k0_off1562 v9 k0_t20 v62 v68 k0_t27) a + S1x1x1x8x128.size a ≤ S4x2x64x64x128.size a) ∧
  (∀ k0_t27 : Fin (k0_t27_loop v62 v68).trips, ∀ a, (k0_off1563 v9 k0_t20 v62 v68 k0_t27) a + S1x1x1x8x128.size a ≤ S4x2x64x64x128.size a) ∧
  (∀ k0_t27 : Fin (k0_t27_loop v62 v68).trips, ∀ a, (k0_off1564 v9 k0_t20 v62 v68 k0_t27) a + S1x1x1x8x128.size a ≤ S4x2x64x64x128.size a) ∧
  (∀ k0_t27 : Fin (k0_t27_loop v62 v68).trips, ∀ a, (k0_off1565 v9 k0_t20 v62 v68 k0_t27) a + S1x1x1x8x128.size a ≤ S4x2x64x64x128.size a) ∧
  (∀ k0_t27 : Fin (k0_t27_loop v62 v68).trips, ∀ a, (k0_off1566 v9 k0_t20 v62 v68 k0_t27) a + S1x1x1x8x128.size a ≤ S4x2x64x64x128.size a) ∧
  (∀ k0_t27 : Fin (k0_t27_loop v62 v68).trips, ∀ a, (k0_off1567 v9 k0_t20 v62 v68 k0_t27) a + S1x1x1x8x128.size a ≤ S4x2x64x64x128.size a) ∧
  (∀ k0_t27 : Fin (k0_t27_loop v62 v68).trips, ∀ a, (k0_off1568 v9 k0_t20 v62 v68 k0_t27) a + S1x1x1x8x128.size a ≤ S4x2x64x64x128.size a) ∧
  (∀ k0_t27 : Fin (k0_t27_loop v62 v68).trips, ∀ a, (k0_off1569 v9 k0_t20 v62 v68 k0_t27) a + S1x1x1x8x128.size a ≤ S4x2x64x64x128.size a) ∧
  (∀ k0_t27 : Fin (k0_t27_loop v62 v68).trips, ∀ a, (k0_off1570 v9 k0_t20 v62 v68 k0_t27) a + S1x1x1x8x128.size a ≤ S4x2x64x64x128.size a) ∧
  ((k0_t28_loop v62 v68).OK) ∧
  (∀ k0_t28 : Fin (k0_t28_loop v62 v68).trips, 8 ∣ (k0_mult34 v62 v68 k0_t28).toNat) ∧
  (∀ k0_t28 : Fin (k0_t28_loop v62 v68).trips, ∀ a, (k0_off1571 v9 k0_t20 v62 v68 k0_t28) a + S1x1x1x8x128.size a ≤ S4x2x64x64x128.size a) ∧
  (∀ k0_t28 : Fin (k0_t28_loop v62 v68).trips, ∀ a, (k0_off1572 v9 k0_t20 v62 v68 k0_t28) a + S1x1x1x8x128.size a ≤ S4x2x64x64x128.size a) ∧
  (∀ k0_t28 : Fin (k0_t28_loop v62 v68).trips, ∀ a, (k0_off1573 v9 k0_t20 v62 v68 k0_t28) a + S1x1x1x8x128.size a ≤ S4x2x64x64x128.size a) ∧
  (∀ k0_t28 : Fin (k0_t28_loop v62 v68).trips, ∀ a, (k0_off1574 v9 k0_t20 v62 v68 k0_t28) a + S1x1x1x8x128.size a ≤ S4x2x64x64x128.size a) ∧
  (∀ k0_t28 : Fin (k0_t28_loop v62 v68).trips, ∀ a, (k0_off1575 v9 k0_t20 v62 v68 k0_t28) a + S1x1x1x8x128.size a ≤ S4x2x64x64x128.size a) ∧
  (∀ k0_t28 : Fin (k0_t28_loop v62 v68).trips, ∀ a, (k0_off1576 v9 k0_t20 v62 v68 k0_t28) a + S1x1x1x8x128.size a ≤ S4x2x64x64x128.size a) ∧
  (∀ k0_t28 : Fin (k0_t28_loop v62 v68).trips, ∀ a, (k0_off1577 v9 k0_t20 v62 v68 k0_t28) a + S1x1x1x8x128.size a ≤ S4x2x64x64x128.size a) ∧
  (∀ k0_t28 : Fin (k0_t28_loop v62 v68).trips, ∀ a, (k0_off1578 v9 k0_t20 v62 v68 k0_t28) a + S1x1x1x8x128.size a ≤ S4x2x64x64x128.size a)
def k0_chk32_17 (v9 : BitVec 32) (k0_t20 : Fin (k0_t20_loop v9).trips) (v62 : BitVec 32) (v68 : BitVec 32) : Prop :=
  (∀ k0_t28 : Fin (k0_t28_loop v62 v68).trips, ∀ a, (k0_off1579 v9 k0_t20 v62 v68 k0_t28) a + S1x1x1x8x128.size a ≤ S4x2x64x64x128.size a) ∧
  (∀ k0_t28 : Fin (k0_t28_loop v62 v68).trips, ∀ a, (k0_off1580 v9 k0_t20 v62 v68 k0_t28) a + S1x1x1x8x128.size a ≤ S4x2x64x64x128.size a) ∧
  (∀ k0_t28 : Fin (k0_t28_loop v62 v68).trips, ∀ a, (k0_off1581 v9 k0_t20 v62 v68 k0_t28) a + S1x1x1x8x128.size a ≤ S4x2x64x64x128.size a) ∧
  (∀ k0_t28 : Fin (k0_t28_loop v62 v68).trips, ∀ a, (k0_off1582 v9 k0_t20 v62 v68 k0_t28) a + S1x1x1x8x128.size a ≤ S4x2x64x64x128.size a) ∧
  (∀ k0_t28 : Fin (k0_t28_loop v62 v68).trips, ∀ a, (k0_off1583 v9 k0_t20 v62 v68 k0_t28) a + S1x1x1x8x128.size a ≤ S4x2x64x64x128.size a) ∧
  (∀ k0_t28 : Fin (k0_t28_loop v62 v68).trips, ∀ a, (k0_off1584 v9 k0_t20 v62 v68 k0_t28) a + S1x1x1x8x128.size a ≤ S4x2x64x64x128.size a) ∧
  (∀ k0_t28 : Fin (k0_t28_loop v62 v68).trips, ∀ a, (k0_off1585 v9 k0_t20 v62 v68 k0_t28) a + S1x1x1x8x128.size a ≤ S4x2x64x64x128.size a) ∧
  (∀ k0_t28 : Fin (k0_t28_loop v62 v68).trips, ∀ a, (k0_off1586 v9 k0_t20 v62 v68 k0_t28) a + S1x1x1x8x128.size a ≤ S4x2x64x64x128.size a) ∧
  (∀ k0_t28 : Fin (k0_t28_loop v62 v68).trips, ∀ a, (k0_off1587 v9 k0_t20 v62 v68 k0_t28) a + S1x1x1x8x128.size a ≤ S4x2x64x64x128.size a) ∧
  (∀ k0_t28 : Fin (k0_t28_loop v62 v68).trips, ∀ a, (k0_off1588 v9 k0_t20 v62 v68 k0_t28) a + S1x1x1x8x128.size a ≤ S4x2x64x64x128.size a) ∧
  (∀ k0_t28 : Fin (k0_t28_loop v62 v68).trips, ∀ a, (k0_off1589 v9 k0_t20 v62 v68 k0_t28) a + S1x1x1x8x128.size a ≤ S4x2x64x64x128.size a) ∧
  (∀ k0_t28 : Fin (k0_t28_loop v62 v68).trips, ∀ a, (k0_off1590 v9 k0_t20 v62 v68 k0_t28) a + S1x1x1x8x128.size a ≤ S4x2x64x64x128.size a) ∧
  (∀ k0_t28 : Fin (k0_t28_loop v62 v68).trips, ∀ a, (k0_off1591 v9 k0_t20 v62 v68 k0_t28) a + S1x1x1x8x128.size a ≤ S4x2x64x64x128.size a) ∧
  (∀ k0_t28 : Fin (k0_t28_loop v62 v68).trips, ∀ a, (k0_off1592 v9 k0_t20 v62 v68 k0_t28) a + S1x1x1x8x128.size a ≤ S4x2x64x64x128.size a) ∧
  (∀ k0_t28 : Fin (k0_t28_loop v62 v68).trips, ∀ a, (k0_off1593 v9 k0_t20 v62 v68 k0_t28) a + S1x1x1x8x128.size a ≤ S4x2x64x64x128.size a) ∧
  (∀ k0_t28 : Fin (k0_t28_loop v62 v68).trips, ∀ a, (k0_off1594 v9 k0_t20 v62 v68 k0_t28) a + S1x1x1x8x128.size a ≤ S4x2x64x64x128.size a) ∧
  (∀ k0_t28 : Fin (k0_t28_loop v62 v68).trips, ∀ a, (k0_off1595 v9 k0_t20 v62 v68 k0_t28) a + S1x1x1x8x128.size a ≤ S4x2x64x64x128.size a) ∧
  (∀ k0_t28 : Fin (k0_t28_loop v62 v68).trips, ∀ a, (k0_off1596 v9 k0_t20 v62 v68 k0_t28) a + S1x1x1x8x128.size a ≤ S4x2x64x64x128.size a) ∧
  (∀ k0_t28 : Fin (k0_t28_loop v62 v68).trips, ∀ a, (k0_off1597 v9 k0_t20 v62 v68 k0_t28) a + S1x1x1x8x128.size a ≤ S4x2x64x64x128.size a) ∧
  (∀ k0_t28 : Fin (k0_t28_loop v62 v68).trips, ∀ a, (k0_off1598 v9 k0_t20 v62 v68 k0_t28) a + S1x1x1x8x128.size a ≤ S4x2x64x64x128.size a) ∧
  (∀ k0_t28 : Fin (k0_t28_loop v62 v68).trips, ∀ a, (k0_off1599 v9 k0_t20 v62 v68 k0_t28) a + S1x1x1x8x128.size a ≤ S4x2x64x64x128.size a) ∧
  (∀ k0_t28 : Fin (k0_t28_loop v62 v68).trips, ∀ a, (k0_off1600 v9 k0_t20 v62 v68 k0_t28) a + S1x1x1x8x128.size a ≤ S4x2x64x64x128.size a) ∧
  (∀ k0_t28 : Fin (k0_t28_loop v62 v68).trips, ∀ a, (k0_off1601 v9 k0_t20 v62 v68 k0_t28) a + S1x1x1x8x128.size a ≤ S4x2x64x64x128.size a) ∧
  (∀ k0_t28 : Fin (k0_t28_loop v62 v68).trips, ∀ a, (k0_off1602 v9 k0_t20 v62 v68 k0_t28) a + S1x1x1x8x128.size a ≤ S4x2x64x64x128.size a) ∧
  (∀ k0_t28 : Fin (k0_t28_loop v62 v68).trips, ∀ a, (k0_off1603 v9 k0_t20 v62 v68 k0_t28) a + S1x1x1x8x128.size a ≤ S4x2x64x64x128.size a) ∧
  (∀ k0_t28 : Fin (k0_t28_loop v62 v68).trips, ∀ a, (k0_off1604 v9 k0_t20 v62 v68 k0_t28) a + S1x1x1x8x128.size a ≤ S4x2x64x64x128.size a) ∧
  (∀ k0_t28 : Fin (k0_t28_loop v62 v68).trips, ∀ a, (k0_off1605 v9 k0_t20 v62 v68 k0_t28) a + S1x1x1x8x128.size a ≤ S4x2x64x64x128.size a) ∧
  (∀ k0_t28 : Fin (k0_t28_loop v62 v68).trips, ∀ a, (k0_off1606 v9 k0_t20 v62 v68 k0_t28) a + S1x1x1x8x128.size a ≤ S4x2x64x64x128.size a) ∧
  (∀ k0_t28 : Fin (k0_t28_loop v62 v68).trips, ∀ a, (k0_off1607 v9 k0_t20 v62 v68 k0_t28) a + S1x1x1x8x128.size a ≤ S4x2x64x64x128.size a) ∧
  (∀ k0_t28 : Fin (k0_t28_loop v62 v68).trips, ∀ a, (k0_off1608 v9 k0_t20 v62 v68 k0_t28) a + S1x1x1x8x128.size a ≤ S4x2x64x64x128.size a) ∧
  (∀ k0_t28 : Fin (k0_t28_loop v62 v68).trips, ∀ a, (k0_off1609 v9 k0_t20 v62 v68 k0_t28) a + S1x1x1x8x128.size a ≤ S4x2x64x64x128.size a) ∧
  (∀ k0_t28 : Fin (k0_t28_loop v62 v68).trips, ∀ a, (k0_off1610 v9 k0_t20 v62 v68 k0_t28) a + S1x1x1x8x128.size a ≤ S4x2x64x64x128.size a)
def k0_chk32_18 (v9 : BitVec 32) (k0_t20 : Fin (k0_t20_loop v9).trips) (v62 : BitVec 32) (v68 : BitVec 32) : Prop :=
  (∀ k0_t28 : Fin (k0_t28_loop v62 v68).trips, ∀ a, (k0_off1611 v9 k0_t20 v62 v68 k0_t28) a + S1x1x1x8x128.size a ≤ S4x2x64x64x128.size a) ∧
  (∀ k0_t28 : Fin (k0_t28_loop v62 v68).trips, ∀ a, (k0_off1612 v9 k0_t20 v62 v68 k0_t28) a + S1x1x1x8x128.size a ≤ S4x2x64x64x128.size a) ∧
  (∀ k0_t28 : Fin (k0_t28_loop v62 v68).trips, ∀ a, (k0_off1613 v9 k0_t20 v62 v68 k0_t28) a + S1x1x1x8x128.size a ≤ S4x2x64x64x128.size a) ∧
  (∀ k0_t28 : Fin (k0_t28_loop v62 v68).trips, ∀ a, (k0_off1614 v9 k0_t20 v62 v68 k0_t28) a + S1x1x1x8x128.size a ≤ S4x2x64x64x128.size a) ∧
  (∀ k0_t28 : Fin (k0_t28_loop v62 v68).trips, ∀ a, (k0_off1615 v9 k0_t20 v62 v68 k0_t28) a + S1x1x1x8x128.size a ≤ S4x2x64x64x128.size a) ∧
  (∀ k0_t28 : Fin (k0_t28_loop v62 v68).trips, ∀ a, (k0_off1616 v9 k0_t20 v62 v68 k0_t28) a + S1x1x1x8x128.size a ≤ S4x2x64x64x128.size a) ∧
  (∀ k0_t28 : Fin (k0_t28_loop v62 v68).trips, ∀ a, (k0_off1617 v9 k0_t20 v62 v68 k0_t28) a + S1x1x1x8x128.size a ≤ S4x2x64x64x128.size a) ∧
  (∀ k0_t28 : Fin (k0_t28_loop v62 v68).trips, ∀ a, (k0_off1618 v9 k0_t20 v62 v68 k0_t28) a + S1x1x1x8x128.size a ≤ S4x2x64x64x128.size a) ∧
  (∀ k0_t28 : Fin (k0_t28_loop v62 v68).trips, ∀ a, (k0_off1619 v9 k0_t20 v62 v68 k0_t28) a + S1x1x1x8x128.size a ≤ S4x2x64x64x128.size a) ∧
  (∀ k0_t28 : Fin (k0_t28_loop v62 v68).trips, ∀ a, (k0_off1620 v9 k0_t20 v62 v68 k0_t28) a + S1x1x1x8x128.size a ≤ S4x2x64x64x128.size a) ∧
  (∀ k0_t28 : Fin (k0_t28_loop v62 v68).trips, ∀ a, (k0_off1621 v9 k0_t20 v62 v68 k0_t28) a + S1x1x1x8x128.size a ≤ S4x2x64x64x128.size a) ∧
  (∀ k0_t28 : Fin (k0_t28_loop v62 v68).trips, ∀ a, (k0_off1622 v9 k0_t20 v62 v68 k0_t28) a + S1x1x1x8x128.size a ≤ S4x2x64x64x128.size a) ∧
  (∀ k0_t28 : Fin (k0_t28_loop v62 v68).trips, ∀ a, (k0_off1623 v9 k0_t20 v62 v68 k0_t28) a + S1x1x1x8x128.size a ≤ S4x2x64x64x128.size a) ∧
  (∀ k0_t28 : Fin (k0_t28_loop v62 v68).trips, ∀ a, (k0_off1624 v9 k0_t20 v62 v68 k0_t28) a + S1x1x1x8x128.size a ≤ S4x2x64x64x128.size a) ∧
  (∀ k0_t28 : Fin (k0_t28_loop v62 v68).trips, ∀ a, (k0_off1625 v9 k0_t20 v62 v68 k0_t28) a + S1x1x1x8x128.size a ≤ S4x2x64x64x128.size a) ∧
  (∀ k0_t28 : Fin (k0_t28_loop v62 v68).trips, ∀ a, (k0_off1626 v9 k0_t20 v62 v68 k0_t28) a + S1x1x1x8x128.size a ≤ S4x2x64x64x128.size a) ∧
  (∀ k0_t28 : Fin (k0_t28_loop v62 v68).trips, ∀ a, (k0_off1627 v9 k0_t20 v62 v68 k0_t28) a + S1x1x1x8x128.size a ≤ S4x2x64x64x128.size a) ∧
  (∀ k0_t28 : Fin (k0_t28_loop v62 v68).trips, ∀ a, (k0_off1628 v9 k0_t20 v62 v68 k0_t28) a + S1x1x1x8x128.size a ≤ S4x2x64x64x128.size a) ∧
  (∀ k0_t28 : Fin (k0_t28_loop v62 v68).trips, ∀ a, (k0_off1629 v9 k0_t20 v62 v68 k0_t28) a + S1x1x1x8x128.size a ≤ S4x2x64x64x128.size a) ∧
  (∀ k0_t28 : Fin (k0_t28_loop v62 v68).trips, ∀ a, (k0_off1630 v9 k0_t20 v62 v68 k0_t28) a + S1x1x1x8x128.size a ≤ S4x2x64x64x128.size a) ∧
  (∀ k0_t28 : Fin (k0_t28_loop v62 v68).trips, ∀ a, (k0_off1631 v9 k0_t20 v62 v68 k0_t28) a + S1x1x1x8x128.size a ≤ S4x2x64x64x128.size a) ∧
  (∀ k0_t28 : Fin (k0_t28_loop v62 v68).trips, ∀ a, (k0_off1632 v9 k0_t20 v62 v68 k0_t28) a + S1x1x1x8x128.size a ≤ S4x2x64x64x128.size a) ∧
  (∀ k0_t28 : Fin (k0_t28_loop v62 v68).trips, ∀ a, (k0_off1633 v9 k0_t20 v62 v68 k0_t28) a + S1x1x1x8x128.size a ≤ S4x2x64x64x128.size a) ∧
  (∀ k0_t28 : Fin (k0_t28_loop v62 v68).trips, ∀ a, (k0_off1634 v9 k0_t20 v62 v68 k0_t28) a + S1x1x1x8x128.size a ≤ S4x2x64x64x128.size a) ∧
  (∀ k0_t28 : Fin (k0_t28_loop v62 v68).trips, ∀ a, (k0_off1635 v9 k0_t20 v62 v68 k0_t28) a + S1x1x1x8x128.size a ≤ S4x2x64x64x128.size a) ∧
  (∀ k0_t28 : Fin (k0_t28_loop v62 v68).trips, ∀ a, (k0_off1636 v9 k0_t20 v62 v68 k0_t28) a + S1x1x1x8x128.size a ≤ S4x2x64x64x128.size a) ∧
  (∀ k0_t28 : Fin (k0_t28_loop v62 v68).trips, ∀ a, (k0_off1637 v9 k0_t20 v62 v68 k0_t28) a + S1x1x1x8x128.size a ≤ S4x2x64x64x128.size a) ∧
  (∀ k0_t28 : Fin (k0_t28_loop v62 v68).trips, ∀ a, (k0_off1638 v9 k0_t20 v62 v68 k0_t28) a + S1x1x1x8x128.size a ≤ S4x2x64x64x128.size a) ∧
  (∀ k0_t28 : Fin (k0_t28_loop v62 v68).trips, ∀ a, (k0_off1639 v9 k0_t20 v62 v68 k0_t28) a + S1x1x1x8x128.size a ≤ S4x2x64x64x128.size a) ∧
  (∀ k0_t28 : Fin (k0_t28_loop v62 v68).trips, ∀ a, (k0_off1640 v9 k0_t20 v62 v68 k0_t28) a + S1x1x1x8x128.size a ≤ S4x2x64x64x128.size a) ∧
  (∀ k0_t28 : Fin (k0_t28_loop v62 v68).trips, ∀ a, (k0_off1641 v9 k0_t20 v62 v68 k0_t28) a + S1x1x1x8x128.size a ≤ S4x2x64x64x128.size a) ∧
  (∀ k0_t28 : Fin (k0_t28_loop v62 v68).trips, ∀ a, (k0_off1642 v9 k0_t20 v62 v68 k0_t28) a + S1x1x1x8x128.size a ≤ S4x2x64x64x128.size a)
def k0_chk32_19 (v9 : BitVec 32) (k0_t20 : Fin (k0_t20_loop v9).trips) (v62 : BitVec 32) (v68 : BitVec 32) : Prop :=
  (∀ k0_t28 : Fin (k0_t28_loop v62 v68).trips, ∀ a, (k0_off1643 v9 k0_t20 v62 v68 k0_t28) a + S1x1x1x8x128.size a ≤ S4x2x64x64x128.size a) ∧
  (∀ k0_t28 : Fin (k0_t28_loop v62 v68).trips, ∀ a, (k0_off1644 v9 k0_t20 v62 v68 k0_t28) a + S1x1x1x8x128.size a ≤ S4x2x64x64x128.size a) ∧
  (∀ k0_t28 : Fin (k0_t28_loop v62 v68).trips, ∀ a, (k0_off1645 v9 k0_t20 v62 v68 k0_t28) a + S1x1x1x8x128.size a ≤ S4x2x64x64x128.size a) ∧
  (∀ k0_t28 : Fin (k0_t28_loop v62 v68).trips, ∀ a, (k0_off1646 v9 k0_t20 v62 v68 k0_t28) a + S1x1x1x8x128.size a ≤ S4x2x64x64x128.size a) ∧
  (∀ k0_t28 : Fin (k0_t28_loop v62 v68).trips, ∀ a, (k0_off1647 v9 k0_t20 v62 v68 k0_t28) a + S1x1x1x8x128.size a ≤ S4x2x64x64x128.size a) ∧
  (∀ k0_t28 : Fin (k0_t28_loop v62 v68).trips, ∀ a, (k0_off1648 v9 k0_t20 v62 v68 k0_t28) a + S1x1x1x8x128.size a ≤ S4x2x64x64x128.size a) ∧
  (∀ k0_t28 : Fin (k0_t28_loop v62 v68).trips, ∀ a, (k0_off1649 v9 k0_t20 v62 v68 k0_t28) a + S1x1x1x8x128.size a ≤ S4x2x64x64x128.size a) ∧
  (∀ k0_t28 : Fin (k0_t28_loop v62 v68).trips, ∀ a, (k0_off1650 v9 k0_t20 v62 v68 k0_t28) a + S1x1x1x8x128.size a ≤ S4x2x64x64x128.size a) ∧
  (∀ k0_t28 : Fin (k0_t28_loop v62 v68).trips, ∀ a, (k0_off1651 v9 k0_t20 v62 v68 k0_t28) a + S1x1x1x8x128.size a ≤ S4x2x64x64x128.size a) ∧
  (∀ k0_t28 : Fin (k0_t28_loop v62 v68).trips, ∀ a, (k0_off1652 v9 k0_t20 v62 v68 k0_t28) a + S1x1x1x8x128.size a ≤ S4x2x64x64x128.size a) ∧
  (∀ k0_t28 : Fin (k0_t28_loop v62 v68).trips, ∀ a, (k0_off1653 v9 k0_t20 v62 v68 k0_t28) a + S1x1x1x8x128.size a ≤ S4x2x64x64x128.size a) ∧
  (∀ k0_t28 : Fin (k0_t28_loop v62 v68).trips, ∀ a, (k0_off1654 v9 k0_t20 v62 v68 k0_t28) a + S1x1x1x8x128.size a ≤ S4x2x64x64x128.size a) ∧
  (∀ k0_t28 : Fin (k0_t28_loop v62 v68).trips, ∀ a, (k0_off1655 v9 k0_t20 v62 v68 k0_t28) a + S1x1x1x8x128.size a ≤ S4x2x64x64x128.size a) ∧
  (∀ k0_t28 : Fin (k0_t28_loop v62 v68).trips, ∀ a, (k0_off1656 v9 k0_t20 v62 v68 k0_t28) a + S1x1x1x8x128.size a ≤ S4x2x64x64x128.size a) ∧
  (∀ k0_t28 : Fin (k0_t28_loop v62 v68).trips, ∀ a, (k0_off1657 v9 k0_t20 v62 v68 k0_t28) a + S1x1x1x8x128.size a ≤ S4x2x64x64x128.size a) ∧
  (∀ k0_t28 : Fin (k0_t28_loop v62 v68).trips, ∀ a, (k0_off1658 v9 k0_t20 v62 v68 k0_t28) a + S1x1x1x8x128.size a ≤ S4x2x64x64x128.size a) ∧
  (∀ k0_t28 : Fin (k0_t28_loop v62 v68).trips, ∀ a, (k0_off1659 v9 k0_t20 v62 v68 k0_t28) a + S1x1x1x8x128.size a ≤ S4x2x64x64x128.size a) ∧
  (∀ k0_t28 : Fin (k0_t28_loop v62 v68).trips, ∀ a, (k0_off1660 v9 k0_t20 v62 v68 k0_t28) a + S1x1x1x8x128.size a ≤ S4x2x64x64x128.size a) ∧
  (∀ k0_t28 : Fin (k0_t28_loop v62 v68).trips, ∀ a, (k0_off1661 v9 k0_t20 v62 v68 k0_t28) a + S1x1x1x8x128.size a ≤ S4x2x64x64x128.size a) ∧
  (∀ k0_t28 : Fin (k0_t28_loop v62 v68).trips, ∀ a, (k0_off1662 v9 k0_t20 v62 v68 k0_t28) a + S1x1x1x8x128.size a ≤ S4x2x64x64x128.size a) ∧
  (∀ k0_t28 : Fin (k0_t28_loop v62 v68).trips, ∀ a, (k0_off1663 v9 k0_t20 v62 v68 k0_t28) a + S1x1x1x8x128.size a ≤ S4x2x64x64x128.size a) ∧
  (∀ k0_t28 : Fin (k0_t28_loop v62 v68).trips, ∀ a, (k0_off1664 v9 k0_t20 v62 v68 k0_t28) a + S1x1x1x8x128.size a ≤ S4x2x64x64x128.size a) ∧
  (∀ k0_t28 : Fin (k0_t28_loop v62 v68).trips, ∀ a, (k0_off1665 v9 k0_t20 v62 v68 k0_t28) a + S1x1x1x8x128.size a ≤ S4x2x64x64x128.size a) ∧
  (∀ k0_t28 : Fin (k0_t28_loop v62 v68).trips, ∀ a, (k0_off1666 v9 k0_t20 v62 v68 k0_t28) a + S1x1x1x8x128.size a ≤ S4x2x64x64x128.size a) ∧
  (∀ k0_t28 : Fin (k0_t28_loop v62 v68).trips, ∀ a, (k0_off1667 v9 k0_t20 v62 v68 k0_t28) a + S1x1x1x8x128.size a ≤ S4x2x64x64x128.size a) ∧
  (∀ k0_t28 : Fin (k0_t28_loop v62 v68).trips, ∀ a, (k0_off1668 v9 k0_t20 v62 v68 k0_t28) a + S1x1x1x8x128.size a ≤ S4x2x64x64x128.size a) ∧
  (∀ k0_t28 : Fin (k0_t28_loop v62 v68).trips, ∀ a, (k0_off1669 v9 k0_t20 v62 v68 k0_t28) a + S1x1x1x8x128.size a ≤ S4x2x64x64x128.size a) ∧
  (∀ k0_t28 : Fin (k0_t28_loop v62 v68).trips, ∀ a, (k0_off1670 v9 k0_t20 v62 v68 k0_t28) a + S1x1x1x8x128.size a ≤ S4x2x64x64x128.size a) ∧
  (∀ k0_t28 : Fin (k0_t28_loop v62 v68).trips, ∀ a, (k0_off1671 v9 k0_t20 v62 v68 k0_t28) a + S1x1x1x8x128.size a ≤ S4x2x64x64x128.size a) ∧
  (∀ k0_t28 : Fin (k0_t28_loop v62 v68).trips, ∀ a, (k0_off1672 v9 k0_t20 v62 v68 k0_t28) a + S1x1x1x8x128.size a ≤ S4x2x64x64x128.size a) ∧
  (∀ k0_t28 : Fin (k0_t28_loop v62 v68).trips, ∀ a, (k0_off1673 v9 k0_t20 v62 v68 k0_t28) a + S1x1x1x8x128.size a ≤ S4x2x64x64x128.size a) ∧
  (∀ k0_t28 : Fin (k0_t28_loop v62 v68).trips, ∀ a, (k0_off1674 v9 k0_t20 v62 v68 k0_t28) a + S1x1x1x8x128.size a ≤ S4x2x64x64x128.size a)
def k0_chk32_20 (v9 : BitVec 32) (k0_t20 : Fin (k0_t20_loop v9).trips) (v62 : BitVec 32) (v68 : BitVec 32) : Prop :=
  (∀ k0_t28 : Fin (k0_t28_loop v62 v68).trips, ∀ a, (k0_off1675 v9 k0_t20 v62 v68 k0_t28) a + S1x1x1x8x128.size a ≤ S4x2x64x64x128.size a) ∧
  (∀ k0_t28 : Fin (k0_t28_loop v62 v68).trips, ∀ a, (k0_off1676 v9 k0_t20 v62 v68 k0_t28) a + S1x1x1x8x128.size a ≤ S4x2x64x64x128.size a) ∧
  (∀ k0_t28 : Fin (k0_t28_loop v62 v68).trips, ∀ a, (k0_off1677 v9 k0_t20 v62 v68 k0_t28) a + S1x1x1x8x128.size a ≤ S4x2x64x64x128.size a) ∧
  (∀ k0_t28 : Fin (k0_t28_loop v62 v68).trips, ∀ a, (k0_off1678 v9 k0_t20 v62 v68 k0_t28) a + S1x1x1x8x128.size a ≤ S4x2x64x64x128.size a) ∧
  (∀ k0_t28 : Fin (k0_t28_loop v62 v68).trips, ∀ a, (k0_off1679 v9 k0_t20 v62 v68 k0_t28) a + S1x1x1x8x128.size a ≤ S4x2x64x64x128.size a) ∧
  (∀ k0_t28 : Fin (k0_t28_loop v62 v68).trips, ∀ a, (k0_off1680 v9 k0_t20 v62 v68 k0_t28) a + S1x1x1x8x128.size a ≤ S4x2x64x64x128.size a) ∧
  (∀ k0_t28 : Fin (k0_t28_loop v62 v68).trips, ∀ a, (k0_off1681 v9 k0_t20 v62 v68 k0_t28) a + S1x1x1x8x128.size a ≤ S4x2x64x64x128.size a) ∧
  (∀ k0_t28 : Fin (k0_t28_loop v62 v68).trips, ∀ a, (k0_off1682 v9 k0_t20 v62 v68 k0_t28) a + S1x1x1x8x128.size a ≤ S4x2x64x64x128.size a) ∧
  (∀ k0_t28 : Fin (k0_t28_loop v62 v68).trips, ∀ a, (k0_off1683 v9 k0_t20 v62 v68 k0_t28) a + S1x1x1x8x128.size a ≤ S4x2x64x64x128.size a) ∧
  (∀ k0_t28 : Fin (k0_t28_loop v62 v68).trips, ∀ a, (k0_off1684 v9 k0_t20 v62 v68 k0_t28) a + S1x1x1x8x128.size a ≤ S4x2x64x64x128.size a) ∧
  (∀ k0_t28 : Fin (k0_t28_loop v62 v68).trips, ∀ a, (k0_off1685 v9 k0_t20 v62 v68 k0_t28) a + S1x1x1x8x128.size a ≤ S4x2x64x64x128.size a) ∧
  (∀ k0_t28 : Fin (k0_t28_loop v62 v68).trips, ∀ a, (k0_off1686 v9 k0_t20 v62 v68 k0_t28) a + S1x1x1x8x128.size a ≤ S4x2x64x64x128.size a) ∧
  (∀ k0_t28 : Fin (k0_t28_loop v62 v68).trips, ∀ a, (k0_off1687 v9 k0_t20 v62 v68 k0_t28) a + S1x1x1x8x128.size a ≤ S4x2x64x64x128.size a) ∧
  (∀ k0_t28 : Fin (k0_t28_loop v62 v68).trips, ∀ a, (k0_off1688 v9 k0_t20 v62 v68 k0_t28) a + S1x1x1x8x128.size a ≤ S4x2x64x64x128.size a) ∧
  (∀ k0_t28 : Fin (k0_t28_loop v62 v68).trips, ∀ a, (k0_off1689 v9 k0_t20 v62 v68 k0_t28) a + S1x1x1x8x128.size a ≤ S4x2x64x64x128.size a) ∧
  (∀ k0_t28 : Fin (k0_t28_loop v62 v68).trips, ∀ a, (k0_off1690 v9 k0_t20 v62 v68 k0_t28) a + S1x1x1x8x128.size a ≤ S4x2x64x64x128.size a) ∧
  (∀ k0_t28 : Fin (k0_t28_loop v62 v68).trips, ∀ a, (k0_off1691 v9 k0_t20 v62 v68 k0_t28) a + S1x1x1x8x128.size a ≤ S4x2x64x64x128.size a) ∧
  (∀ k0_t28 : Fin (k0_t28_loop v62 v68).trips, ∀ a, (k0_off1692 v9 k0_t20 v62 v68 k0_t28) a + S1x1x1x8x128.size a ≤ S4x2x64x64x128.size a) ∧
  (∀ k0_t28 : Fin (k0_t28_loop v62 v68).trips, ∀ a, (k0_off1693 v9 k0_t20 v62 v68 k0_t28) a + S1x1x1x8x128.size a ≤ S4x2x64x64x128.size a) ∧
  (∀ k0_t28 : Fin (k0_t28_loop v62 v68).trips, ∀ a, (k0_off1694 v9 k0_t20 v62 v68 k0_t28) a + S1x1x1x8x128.size a ≤ S4x2x64x64x128.size a) ∧
  (∀ k0_t28 : Fin (k0_t28_loop v62 v68).trips, ∀ a, (k0_off1695 v9 k0_t20 v62 v68 k0_t28) a + S1x1x1x8x128.size a ≤ S4x2x64x64x128.size a) ∧
  (∀ k0_t28 : Fin (k0_t28_loop v62 v68).trips, ∀ a, (k0_off1696 v9 k0_t20 v62 v68 k0_t28) a + S1x1x1x8x128.size a ≤ S4x2x64x64x128.size a) ∧
  (∀ k0_t28 : Fin (k0_t28_loop v62 v68).trips, ∀ a, (k0_off1697 v9 k0_t20 v62 v68 k0_t28) a + S1x1x1x8x128.size a ≤ S4x2x64x64x128.size a) ∧
  (∀ k0_t28 : Fin (k0_t28_loop v62 v68).trips, ∀ a, (k0_off1698 v9 k0_t20 v62 v68 k0_t28) a + S1x1x1x8x128.size a ≤ S4x2x64x64x128.size a)
def k0_chk32 (v9 : BitVec 32) (k0_t20 : Fin (k0_t20_loop v9).trips) (v62 : BitVec 32) (v68 : BitVec 32) : Prop :=
  k0_chk32_0 v9 k0_t20 v62 v68 ∧
  k0_chk32_1 v9 k0_t20 v62 v68 ∧
  k0_chk32_2 v9 k0_t20 v62 v68 ∧
  k0_chk32_3 v9 k0_t20 v62 v68 ∧
  k0_chk32_4 v9 k0_t20 v62 v68 ∧
  k0_chk32_5 v9 k0_t20 v62 v68 ∧
  k0_chk32_6 v9 k0_t20 v62 v68 ∧
  k0_chk32_7 v9 k0_t20 v62 v68 ∧
  k0_chk32_8 v9 k0_t20 v62 v68 ∧
  k0_chk32_9 v9 k0_t20 v62 v68 ∧
  k0_chk32_10 v9 k0_t20 v62 v68 ∧
  k0_chk32_11 v9 k0_t20 v62 v68 ∧
  k0_chk32_12 v9 k0_t20 v62 v68 ∧
  k0_chk32_13 v9 k0_t20 v62 v68 ∧
  k0_chk32_14 v9 k0_t20 v62 v68 ∧
  k0_chk32_15 v9 k0_t20 v62 v68 ∧
  k0_chk32_16 v9 k0_t20 v62 v68 ∧
  k0_chk32_17 v9 k0_t20 v62 v68 ∧
  k0_chk32_18 v9 k0_t20 v62 v68 ∧
  k0_chk32_19 v9 k0_t20 v62 v68 ∧
  k0_chk32_20 v9 k0_t20 v62 v68
theorem k0_t23_ok : ∀ (v9 : BitVec 32) (k0_t20 : Fin (k0_t20_loop v9).trips) (v62 : BitVec 32) (v68 : BitVec 32) (k0_hw32 : k0_chk32 v9 k0_t20 v62 v68), (k0_t23_loop v62 v68).OK := fun v9 k0_t20 v62 v68 k0_hw32 => k0_hw32.1.1
theorem k0_off917_inb : ∀ (v9 : BitVec 32) (k0_t20 : Fin (k0_t20_loop v9).trips) (v62 : BitVec 32) (v68 : BitVec 32) (k0_hw32 : k0_chk32 v9 k0_t20 v62 v68) (k0_t23 : Fin (k0_t23_loop v62 v68).trips), ∀ a, (k0_off917 v9 k0_t20) a + S1.size a ≤ S4.size a := fun v9 k0_t20 v62 v68 k0_hw32 k0_t23 => k0_hw32.1.2.1 k0_t23
theorem k0_off918_inb : ∀ (v9 : BitVec 32) (k0_t20 : Fin (k0_t20_loop v9).trips) (v62 : BitVec 32) (v68 : BitVec 32) (k0_hw32 : k0_chk32 v9 k0_t20 v62 v68) (k0_t23 : Fin (k0_t23_loop v62 v68).trips), ∀ a, (k0_off918 v9 k0_t20 v62 v68 k0_t23) a + S1x1x1x1024x128.size a ≤ S4x2x8x1024x128.size a := fun v9 k0_t20 v62 v68 k0_hw32 k0_t23 => k0_hw32.1.2.2.1 k0_t23
theorem k0_off918_wordsfp8e4m3 : ∀ (v9 : BitVec 32) (k0_t20 : Fin (k0_t20_loop v9).trips) (v62 : BitVec 32) (v68 : BitVec 32) (k0_hw32 : k0_chk32 v9 k0_t20 v62 v68) (k0_t23 : Fin (k0_t23_loop v62 v68).trips), (Rect.unit (s := S4x2x8x1024x128) (k0_off918 v9 k0_t20 v62 v68 k0_t23) S1x1x1x1024x128.size (k0_off918_inb v9 k0_t20 v62 v68 k0_hw32 k0_t23)).WholeWords (EltTy.packing .fp8e4m3) := fun v9 k0_t20 v62 v68 k0_hw32 k0_t23 => k0_hw32.1.2.2.2.1 k0_t23 (k0_off918_inb v9 k0_t20 v62 v68 k0_hw32 k0_t23)
theorem k0_off919_inb : ∀ (v9 : BitVec 32) (k0_t20 : Fin (k0_t20_loop v9).trips) (v62 : BitVec 32) (v68 : BitVec 32) (k0_hw32 : k0_chk32 v9 k0_t20 v62 v68) (k0_t23 : Fin (k0_t23_loop v62 v68).trips), ∀ a, (k0_off919 v9 k0_t20 v62 v68 k0_t23) a + S1x1x1x1024x128.size a ≤ S4x2x8x1024x128.size a := fun v9 k0_t20 v62 v68 k0_hw32 k0_t23 => k0_hw32.1.2.2.2.2.1 k0_t23
theorem k0_off919_wordsfp8e4m3 : ∀ (v9 : BitVec 32) (k0_t20 : Fin (k0_t20_loop v9).trips) (v62 : BitVec 32) (v68 : BitVec 32) (k0_hw32 : k0_chk32 v9 k0_t20 v62 v68) (k0_t23 : Fin (k0_t23_loop v62 v68).trips), (Rect.unit (s := S4x2x8x1024x128) (k0_off919 v9 k0_t20 v62 v68 k0_t23) S1x1x1x1024x128.size (k0_off919_inb v9 k0_t20 v62 v68 k0_hw32 k0_t23)).WholeWords (EltTy.packing .fp8e4m3) := fun v9 k0_t20 v62 v68 k0_hw32 k0_t23 => k0_hw32.1.2.2.2.2.2.1 k0_t23 (k0_off919_inb v9 k0_t20 v62 v68 k0_hw32 k0_t23)
theorem k0_t24_ok : ∀ (v9 : BitVec 32) (k0_t20 : Fin (k0_t20_loop v9).trips) (v62 : BitVec 32) (v68 : BitVec 32) (k0_hw32 : k0_chk32 v9 k0_t20 v62 v68), (k0_t24_loop v62 v68).OK := fun v9 k0_t20 v62 v68 k0_hw32 => k0_hw32.1.2.2.2.2.2.2.1
theorem k0_off920_inb : ∀ (v9 : BitVec 32) (k0_t20 : Fin (k0_t20_loop v9).trips) (v62 : BitVec 32) (v68 : BitVec 32) (k0_hw32 : k0_chk32 v9 k0_t20 v62 v68) (k0_t24 : Fin (k0_t24_loop v62 v68).trips), ∀ a, (k0_off920 v9 k0_t20) a + S1.size a ≤ S4.size a := fun v9 k0_t20 v62 v68 k0_hw32 k0_t24 => k0_hw32.1.2.2.2.2.2.2.2.1 k0_t24
theorem k0_off921_inb : ∀ (v9 : BitVec 32) (k0_t20 : Fin (k0_t20_loop v9).trips) (v62 : BitVec 32) (v68 : BitVec 32) (k0_hw32 : k0_chk32 v9 k0_t20 v62 v68) (k0_t24 : Fin (k0_t24_loop v62 v68).trips), ∀ a, (k0_off921 v9 k0_t20 v62 v68 k0_t24) a + S1x1x1x1024x128.size a ≤ S4x2x8x1024x128.size a := fun v9 k0_t20 v62 v68 k0_hw32 k0_t24 => k0_hw32.1.2.2.2.2.2.2.2.2.1 k0_t24
theorem k0_off921_wordsfp8e4m3 : ∀ (v9 : BitVec 32) (k0_t20 : Fin (k0_t20_loop v9).trips) (v62 : BitVec 32) (v68 : BitVec 32) (k0_hw32 : k0_chk32 v9 k0_t20 v62 v68) (k0_t24 : Fin (k0_t24_loop v62 v68).trips), (Rect.unit (s := S4x2x8x1024x128) (k0_off921 v9 k0_t20 v62 v68 k0_t24) S1x1x1x1024x128.size (k0_off921_inb v9 k0_t20 v62 v68 k0_hw32 k0_t24)).WholeWords (EltTy.packing .fp8e4m3) := fun v9 k0_t20 v62 v68 k0_hw32 k0_t24 => k0_hw32.1.2.2.2.2.2.2.2.2.2.1 k0_t24 (k0_off921_inb v9 k0_t20 v62 v68 k0_hw32 k0_t24)
theorem k0_off922_inb : ∀ (v9 : BitVec 32) (k0_t20 : Fin (k0_t20_loop v9).trips) (v62 : BitVec 32) (v68 : BitVec 32) (k0_hw32 : k0_chk32 v9 k0_t20 v62 v68) (k0_t24 : Fin (k0_t24_loop v62 v68).trips), ∀ a, (k0_off922 v9 k0_t20 v62 v68 k0_t24) a + S1x1x1x1024x128.size a ≤ S4x2x8x1024x128.size a := fun v9 k0_t20 v62 v68 k0_hw32 k0_t24 => k0_hw32.1.2.2.2.2.2.2.2.2.2.2.1 k0_t24
theorem k0_off922_wordsfp8e4m3 : ∀ (v9 : BitVec 32) (k0_t20 : Fin (k0_t20_loop v9).trips) (v62 : BitVec 32) (v68 : BitVec 32) (k0_hw32 : k0_chk32 v9 k0_t20 v62 v68) (k0_t24 : Fin (k0_t24_loop v62 v68).trips), (Rect.unit (s := S4x2x8x1024x128) (k0_off922 v9 k0_t20 v62 v68 k0_t24) S1x1x1x1024x128.size (k0_off922_inb v9 k0_t20 v62 v68 k0_hw32 k0_t24)).WholeWords (EltTy.packing .fp8e4m3) := fun v9 k0_t20 v62 v68 k0_hw32 k0_t24 => k0_hw32.1.2.2.2.2.2.2.2.2.2.2.2.1 k0_t24 (k0_off922_inb v9 k0_t20 v62 v68 k0_hw32 k0_t24)
theorem k0_t25_ok : ∀ (v9 : BitVec 32) (k0_t20 : Fin (k0_t20_loop v9).trips) (v62 : BitVec 32) (v68 : BitVec 32) (k0_hw32 : k0_chk32 v9 k0_t20 v62 v68), (k0_t25_loop v62 v68).OK := fun v9 k0_t20 v62 v68 k0_hw32 => k0_hw32.1.2.2.2.2.2.2.2.2.2.2.2.2.1
theorem k0_off927_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off927 v62 v68 k0_t25) a + S1x1.size a ≤ S5x256.size a := fun v9 k0_t20 v62 v68 k0_hw32 k0_t25 => k0_hw32.1.2.2.2.2.2.2.2.2.2.2.2.2.2.1 k0_t25
theorem k0_off928_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off928 v62) a + S1.size a ≤ S5.size a := fun v9 k0_t20 v62 v68 k0_hw32 k0_t25 => k0_hw32.1.2.2.2.2.2.2.2.2.2.2.2.2.2.2.1 k0_t25
theorem k0_mult31_dvd : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), 8 ∣ (k0_mult31 v62 v68 k0_t25).toNat := fun v9 k0_t20 v62 v68 k0_hw32 k0_t25 => k0_hw32.1.2.2.2.2.2.2.2.2.2.2.2.2.2.2.2.1 k0_t25
theorem k0_off929_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off929 v9 k0_t20 v62 v68 k0_t25) a + S1x1x1x32x128.size a ≤ S4x2x8x1024x128.size a := fun v9 k0_t20 v62 v68 k0_hw32 k0_t25 => k0_hw32.1.2.2.2.2.2.2.2.2.2.2.2.2.2.2.2.2.1 k0_t25
theorem k0_off931_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off931 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.1 k0_t25
theorem k0_off932_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off932 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.1 k0_t25
theorem k0_off933_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off933 v9 k0_t20 v62 v68 k0_t25) a + S1x1x1x32x128.size a ≤ S4x2x8x1024x128.size a := fun v9 k0_t20 v62 v68 k0_hw32 k0_t25 => k0_hw32.1.2.2.2.2.2.2.2.2.2.2.2.2.2.2.2.2.2.2.2.1 k0_t25
theorem k0_off935_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off935 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.2.2.1 k0_t25
theorem k0_off936_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off936 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.2.2.2.1 k0_t25
theorem k0_off937_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off937 v9 k0_t20 v62 v68 k0_t25) a + S1x1x1x32x128.size a ≤ S4x2x8x1024x128.size a := fun v9 k0_t20 v62 v68 k0_hw32 k0_t25 => k0_hw32.1.2.2.2.2.2.2.2.2.2.2.2.2.2.2.2.2.2.2.2.2.2.2.1 k0_t25
theorem k0_off939_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off939 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.2.2.2.2.2.1 k0_t25
theorem k0_off940_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off940 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.2.2.2.2.2.2.1 k0_t25
theorem k0_off941_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off941 v9 k0_t20 v62 v68 k0_t25) a + S1x1x1x32x128.size a ≤ S4x2x8x1024x128.size a := fun v9 k0_t20 v62 v68 k0_hw32 k0_t25 => k0_hw32.1.2.2.2.2.2.2.2.2.2.2.2.2.2.2.2.2.2.2.2.2.2.2.2.2.2.1 k0_t25
theorem k0_off943_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off943 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.2.2.2.2.2.2.2.2.1 k0_t25
theorem k0_off944_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off944 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.2.2.2.2.2.2.2.2.2.1 k0_t25
theorem k0_off945_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off945 v9 k0_t20 v62 v68 k0_t25) a + S1x1x1x32x128.size a ≤ S4x2x8x1024x128.size a := fun v9 k0_t20 v62 v68 k0_hw32 k0_t25 => k0_hw32.1.2.2.2.2.2.2.2.2.2.2.2.2.2.2.2.2.2.2.2.2.2.2.2.2.2.2.2.2.1 k0_t25
theorem k0_off947_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off947 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.2.2.2.2.2.2.2.2.2.2.2.1 k0_t25
theorem k0_off948_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off948 v9 k0_t20 v62 v68 k0_t25) a + S1x1x1x8x128.size a ≤ S4x2x64x64x128.size a := fun v9 k0_t20 v62 v68 k0_hw32 k0_t25 => k0_hw32.1.2.2.2.2.2.2.2.2.2.2.2.2.2.2.2.2.2.2.2.2.2.2.2.2.2.2.2.2.2.2.1 k0_t25
theorem k0_off949_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off949 v9 k0_t20 v62 v68 k0_t25) a + S1x1x1x32x128.size a ≤ S4x2x8x1024x128.size a := fun v9 k0_t20 v62 v68 k0_hw32 k0_t25 => k0_hw32.1.2.2.2.2.2.2.2.2.2.2.2.2.2.2.2.2.2.2.2.2.2.2.2.2.2.2.2.2.2.2.2 k0_t25
theorem k0_off951_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off951 v9 k0_t20 v62 v68 k0_t25) a + S1x1x1x8x128.size a ≤ S4x2x64x64x128.size a := fun v9 k0_t20 v62 v68 k0_hw32 k0_t25 => k0_hw32.2.1.1 k0_t25
theorem k0_off952_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off952 v9 k0_t20 v62 v68 k0_t25) a + S1x1x1x8x128.size a ≤ S4x2x64x64x128.size a := fun v9 k0_t20 v62 v68 k0_hw32 k0_t25 => k0_hw32.2.1.2.1 k0_t25
theorem k0_off953_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off953 v9 k0_t20 v62 v68 k0_t25) a + S1x1x1x32x128.size a ≤ S4x2x8x1024x128.size a := fun v9 k0_t20 v62 v68 k0_hw32 k0_t25 => k0_hw32.2.1.2.2.1 k0_t25
theorem k0_off955_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off955 v9 k0_t20 v62 v68 k0_t25) a + S1x1x1x8x128.size a ≤ S4x2x64x64x128.size a := fun v9 k0_t20 v62 v68 k0_hw32 k0_t25 => k0_hw32.2.1.2.2.2.1 k0_t25
theorem k0_off956_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off956 v9 k0_t20 v62 v68 k0_t25) a + S1x1x1x8x128.size a ≤ S4x2x64x64x128.size a := fun v9 k0_t20 v62 v68 k0_hw32 k0_t25 => k0_hw32.2.1.2.2.2.2.1 k0_t25
theorem k0_off957_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off957 v9 k0_t20 v62 v68 k0_t25) a + S1x1x1x32x128.size a ≤ S4x2x8x1024x128.size a := fun v9 k0_t20 v62 v68 k0_hw32 k0_t25 => k0_hw32.2.1.2.2.2.2.2.1 k0_t25
theorem k0_off959_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off959 v9 k0_t20 v62 v68 k0_t25) a + S1x1x1x8x128.size a ≤ S4x2x64x64x128.size a := fun v9 k0_t20 v62 v68 k0_hw32 k0_t25 => k0_hw32.2.1.2.2.2.2.2.2.1 k0_t25
theorem k0_off960_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off960 v9 k0_t20 v62 v68 k0_t25) a + S1x1x1x8x128.size a ≤ S4x2x64x64x128.size a := fun v9 k0_t20 v62 v68 k0_hw32 k0_t25 => k0_hw32.2.1.2.2.2.2.2.2.2.1 k0_t25
theorem k0_off961_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off961 v9 k0_t20 v62 v68 k0_t25) a + S1x1x1x32x128.size a ≤ S4x2x8x1024x128.size a := fun v9 k0_t20 v62 v68 k0_hw32 k0_t25 => k0_hw32.2.1.2.2.2.2.2.2.2.2.1 k0_t25
theorem k0_off963_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off963 v9 k0_t20 v62 v68 k0_t25) a + S1x1x1x8x128.size a ≤ S4x2x64x64x128.size a := fun v9 k0_t20 v62 v68 k0_hw32 k0_t25 => k0_hw32.2.1.2.2.2.2.2.2.2.2.2.1 k0_t25
theorem k0_off964_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off964 v9 k0_t20 v62 v68 k0_t25) a + S1x1x1x8x128.size a ≤ S4x2x64x64x128.size a := fun v9 k0_t20 v62 v68 k0_hw32 k0_t25 => k0_hw32.2.1.2.2.2.2.2.2.2.2.2.2.1 k0_t25
theorem k0_off965_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off965 v9 k0_t20 v62 v68 k0_t25) a + S1x1x1x32x128.size a ≤ S4x2x8x1024x128.size a := fun v9 k0_t20 v62 v68 k0_hw32 k0_t25 => k0_hw32.2.1.2.2.2.2.2.2.2.2.2.2.2.1 k0_t25
theorem k0_off967_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off967 v9 k0_t20 v62 v68 k0_t25) a + S1x1x1x8x128.size a ≤ S4x2x64x64x128.size a := fun v9 k0_t20 v62 v68 k0_hw32 k0_t25 => k0_hw32.2.1.2.2.2.2.2.2.2.2.2.2.2.2.1 k0_t25
theorem k0_off968_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off968 v9 k0_t20 v62 v68 k0_t25) a + S1x1x1x8x128.size a ≤ S4x2x64x64x128.size a := fun v9 k0_t20 v62 v68 k0_hw32 k0_t25 => k0_hw32.2.1.2.2.2.2.2.2.2.2.2.2.2.2.2.1 k0_t25
theorem k0_off969_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off969 v9 k0_t20 v62 v68 k0_t25) a + S1x1x1x32x128.size a ≤ S4x2x8x1024x128.size a := fun v9 k0_t20 v62 v68 k0_hw32 k0_t25 => k0_hw32.2.1.2.2.2.2.2.2.2.2.2.2.2.2.2.2.1 k0_t25
theorem k0_off971_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off971 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.1 k0_t25
theorem k0_off972_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off972 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.1 k0_t25
theorem k0_off973_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off973 v9 k0_t20 v62 v68 k0_t25) a + S1x1x1x32x128.size a ≤ S4x2x8x1024x128.size a := fun v9 k0_t20 v62 v68 k0_hw32 k0_t25 => k0_hw32.2.1.2.2.2.2.2.2.2.2.2.2.2.2.2.2.2.2.2.1 k0_t25
theorem k0_off975_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off975 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.1 k0_t25
theorem k0_off976_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off976 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.1 k0_t25
theorem k0_off977_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off977 v9 k0_t20 v62 v68 k0_t25) a + S1x1x1x32x128.size a ≤ S4x2x8x1024x128.size a := fun v9 k0_t20 v62 v68 k0_hw32 k0_t25 => k0_hw32.2.1.2.2.2.2.2.2.2.2.2.2.2.2.2.2.2.2.2.2.2.2.1 k0_t25
theorem k0_off979_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off979 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.2.2.1 k0_t25
theorem k0_off980_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off980 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.2.2.2.1 k0_t25
theorem k0_off981_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off981 v9 k0_t20 v62 v68 k0_t25) a + S1x1x1x32x128.size a ≤ S4x2x8x1024x128.size a := fun v9 k0_t20 v62 v68 k0_hw32 k0_t25 => k0_hw32.2.1.2.2.2.2.2.2.2.2.2.2.2.2.2.2.2.2.2.2.2.2.2.2.2.1 k0_t25
theorem k0_off983_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off983 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.2.2.2.2.2.1 k0_t25
theorem k0_off984_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off984 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.2.2.2.2.2.2.1 k0_t25
theorem k0_off985_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off985 v9 k0_t20 v62 v68 k0_t25) a + S1x1x1x32x128.size a ≤ S4x2x8x1024x128.size a := fun v9 k0_t20 v62 v68 k0_hw32 k0_t25 => k0_hw32.2.1.2.2.2.2.2.2.2.2.2.2.2.2.2.2.2.2.2.2.2.2.2.2.2.2.2.2.1 k0_t25
theorem k0_off987_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off987 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.2.2.2.2.2.2.2.2.1 k0_t25
theorem k0_off988_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off988 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.2.2.2.2.2.2.2.2.2.1 k0_t25
theorem k0_off989_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off989 v9 k0_t20 v62 v68 k0_t25) a + S1x1x1x32x128.size a ≤ S4x2x8x1024x128.size a := fun v9 k0_t20 v62 v68 k0_hw32 k0_t25 => k0_hw32.2.1.2.2.2.2.2.2.2.2.2.2.2.2.2.2.2.2.2.2.2.2.2.2.2.2.2.2.2.2.2.1 k0_t25
theorem k0_off991_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off991 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.2.2.2.2.2.2.2.2.2.2.2.1 k0_t25
theorem k0_off992_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off992 v9 k0_t20 v62 v68 k0_t25) a + S1x1x1x8x128.size a ≤ S4x2x64x64x128.size a := fun v9 k0_t20 v62 v68 k0_hw32 k0_t25 => k0_hw32.2.1.2.2.2.2.2.2.2.2.2.2.2.2.2.2.2.2.2.2.2.2.2.2.2.2.2.2.2.2.2.2.2 k0_t25
theorem k0_off993_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off993 v9 k0_t20 v62 v68 k0_t25) a + S1x1x1x32x128.size a ≤ S4x2x8x1024x128.size a := fun v9 k0_t20 v62 v68 k0_hw32 k0_t25 => k0_hw32.2.2.1.1 k0_t25
theorem k0_off995_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off995 v9 k0_t20 v62 v68 k0_t25) a + S1x1x1x8x128.size a ≤ S4x2x64x64x128.size a := fun v9 k0_t20 v62 v68 k0_hw32 k0_t25 => k0_hw32.2.2.1.2.1 k0_t25
theorem k0_off996_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off996 v9 k0_t20 v62 v68 k0_t25) a + S1x1x1x8x128.size a ≤ S4x2x64x64x128.size a := fun v9 k0_t20 v62 v68 k0_hw32 k0_t25 => k0_hw32.2.2.1.2.2.1 k0_t25
theorem k0_off997_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off997 v9 k0_t20 v62 v68 k0_t25) a + S1x1x1x32x128.size a ≤ S4x2x8x1024x128.size a := fun v9 k0_t20 v62 v68 k0_hw32 k0_t25 => k0_hw32.2.2.1.2.2.2.1 k0_t25
theorem k0_off999_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off999 v9 k0_t20 v62 v68 k0_t25) a + S1x1x1x8x128.size a ≤ S4x2x64x64x128.size a := fun v9 k0_t20 v62 v68 k0_hw32 k0_t25 => k0_hw32.2.2.1.2.2.2.2.1 k0_t25
theorem k0_off1000_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1000 v9 k0_t20 v62 v68 k0_t25) a + S1x1x1x8x128.size a ≤ S4x2x64x64x128.size a := fun v9 k0_t20 v62 v68 k0_hw32 k0_t25 => k0_hw32.2.2.1.2.2.2.2.2.1 k0_t25
theorem k0_off1001_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1001 v9 k0_t20 v62 v68 k0_t25) a + S1x1x1x32x128.size a ≤ S4x2x8x1024x128.size a := fun v9 k0_t20 v62 v68 k0_hw32 k0_t25 => k0_hw32.2.2.1.2.2.2.2.2.2.1 k0_t25
theorem k0_off1003_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1003 v9 k0_t20 v62 v68 k0_t25) a + S1x1x1x8x128.size a ≤ S4x2x64x64x128.size a := fun v9 k0_t20 v62 v68 k0_hw32 k0_t25 => k0_hw32.2.2.1.2.2.2.2.2.2.2.1 k0_t25
theorem k0_off1004_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1004 v9 k0_t20 v62 v68 k0_t25) a + S1x1x1x8x128.size a ≤ S4x2x64x64x128.size a := fun v9 k0_t20 v62 v68 k0_hw32 k0_t25 => k0_hw32.2.2.1.2.2.2.2.2.2.2.2.1 k0_t25
theorem k0_off1005_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1005 v9 k0_t20 v62 v68 k0_t25) a + S1x1x1x32x128.size a ≤ S4x2x8x1024x128.size a := fun v9 k0_t20 v62 v68 k0_hw32 k0_t25 => k0_hw32.2.2.1.2.2.2.2.2.2.2.2.2.1 k0_t25
theorem k0_off1007_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1007 v9 k0_t20 v62 v68 k0_t25) a + S1x1x1x8x128.size a ≤ S4x2x64x64x128.size a := fun v9 k0_t20 v62 v68 k0_hw32 k0_t25 => k0_hw32.2.2.1.2.2.2.2.2.2.2.2.2.2.1 k0_t25
theorem k0_off1008_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1008 v9 k0_t20 v62 v68 k0_t25) a + S1x1x1x8x128.size a ≤ S4x2x64x64x128.size a := fun v9 k0_t20 v62 v68 k0_hw32 k0_t25 => k0_hw32.2.2.1.2.2.2.2.2.2.2.2.2.2.2.1 k0_t25
theorem k0_off1009_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1009 v9 k0_t20 v62 v68 k0_t25) a + S1x1x1x32x128.size a ≤ S4x2x8x1024x128.size a := fun v9 k0_t20 v62 v68 k0_hw32 k0_t25 => k0_hw32.2.2.1.2.2.2.2.2.2.2.2.2.2.2.2.1 k0_t25
theorem k0_off1011_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1011 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.1 k0_t25
theorem k0_off1012_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1012 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.1 k0_t25
theorem k0_off1013_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1013 v9 k0_t20 v62 v68 k0_t25) a + S1x1x1x32x128.size a ≤ S4x2x8x1024x128.size a := fun v9 k0_t20 v62 v68 k0_hw32 k0_t25 => k0_hw32.2.2.1.2.2.2.2.2.2.2.2.2.2.2.2.2.2.2.1 k0_t25
theorem k0_off1015_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1015 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.1 k0_t25
theorem k0_off1016_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1016 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.1 k0_t25
theorem k0_off1017_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1017 v9 k0_t20 v62 v68 k0_t25) a + S1x1x1x32x128.size a ≤ S4x2x8x1024x128.size a := fun v9 k0_t20 v62 v68 k0_hw32 k0_t25 => k0_hw32.2.2.1.2.2.2.2.2.2.2.2.2.2.2.2.2.2.2.2.2.2.1 k0_t25
theorem k0_off1019_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1019 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.1 k0_t25
theorem k0_off1020_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1020 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.2.1 k0_t25
theorem k0_off1021_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1021 v9 k0_t20 v62 v68 k0_t25) a + S1x1x1x32x128.size a ≤ S4x2x8x1024x128.size a := fun v9 k0_t20 v62 v68 k0_hw32 k0_t25 => k0_hw32.2.2.1.2.2.2.2.2.2.2.2.2.2.2.2.2.2.2.2.2.2.2.2.2.1 k0_t25
theorem k0_off1023_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1023 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.2.2.2.1 k0_t25
theorem k0_off1024_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1024 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.2.2.2.2.1 k0_t25
theorem k0_off1025_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1025 v9 k0_t20 v62 v68 k0_t25) a + S1x1x1x32x128.size a ≤ S4x2x8x1024x128.size a := fun v9 k0_t20 v62 v68 k0_hw32 k0_t25 => k0_hw32.2.2.1.2.2.2.2.2.2.2.2.2.2.2.2.2.2.2.2.2.2.2.2.2.2.2.2.1 k0_t25
theorem k0_off1027_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1027 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.2.2.2.2.2.2.1 k0_t25
theorem k0_off1028_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1028 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.2.2.2.2.2.2.2.1 k0_t25
theorem k0_off1029_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1029 v9 k0_t20 v62 v68 k0_t25) a + S1x1x1x32x128.size a ≤ S4x2x8x1024x128.size a := fun v9 k0_t20 v62 v68 k0_hw32 k0_t25 => k0_hw32.2.2.1.2.2.2.2.2.2.2.2.2.2.2.2.2.2.2.2.2.2.2.2.2.2.2.2.2.2.2.1 k0_t25
theorem k0_off1031_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1031 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.2.2.2.2.2.2.2.2.2.1 k0_t25
theorem k0_off1032_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1032 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.2.2.2.2.2.2.2.2.2.2.1 k0_t25
theorem k0_off1033_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1033 v9 k0_t20 v62 v68 k0_t25) a + S1x1x1x32x128.size a ≤ S4x2x8x1024x128.size a := fun v9 k0_t20 v62 v68 k0_hw32 k0_t25 => k0_hw32.2.2.1.2.2.2.2.2.2.2.2.2.2.2.2.2.2.2.2.2.2.2.2.2.2.2.2.2.2.2.2.2.2.1 k0_t25
theorem k0_off1035_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1035 v9 k0_t20 v62 v68 k0_t25) a + S1x1x1x8x128.size a ≤ S4x2x64x64x128.size a := fun v9 k0_t20 v62 v68 k0_hw32 k0_t25 => k0_hw32.2.2.1.2.2.2.2.2.2.2.2.2.2.2.2.2.2.2.2.2.2.2.2.2.2.2.2.2.2.2.2.2.2.2 k0_t25
theorem k0_off1036_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1036 v9 k0_t20 v62 v68 k0_t25) a + S1x1x1x8x128.size a ≤ S4x2x64x64x128.size a := fun v9 k0_t20 v62 v68 k0_hw32 k0_t25 => k0_hw32.2.2.2.1.1 k0_t25
theorem k0_off1037_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1037 v9 k0_t20 v62 v68 k0_t25) a + S1x1x1x32x128.size a ≤ S4x2x8x1024x128.size a := fun v9 k0_t20 v62 v68 k0_hw32 k0_t25 => k0_hw32.2.2.2.1.2.1 k0_t25
theorem k0_off1039_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1039 v9 k0_t20 v62 v68 k0_t25) a + S1x1x1x8x128.size a ≤ S4x2x64x64x128.size a := fun v9 k0_t20 v62 v68 k0_hw32 k0_t25 => k0_hw32.2.2.2.1.2.2.1 k0_t25
theorem k0_off1040_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1040 v9 k0_t20 v62 v68 k0_t25) a + S1x1x1x8x128.size a ≤ S4x2x64x64x128.size a := fun v9 k0_t20 v62 v68 k0_hw32 k0_t25 => k0_hw32.2.2.2.1.2.2.2.1 k0_t25
theorem k0_off1041_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1041 v9 k0_t20 v62 v68 k0_t25) a + S1x1x1x32x128.size a ≤ S4x2x8x1024x128.size a := fun v9 k0_t20 v62 v68 k0_hw32 k0_t25 => k0_hw32.2.2.2.1.2.2.2.2.1 k0_t25
theorem k0_off1043_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1043 v9 k0_t20 v62 v68 k0_t25) a + S1x1x1x8x128.size a ≤ S4x2x64x64x128.size a := fun v9 k0_t20 v62 v68 k0_hw32 k0_t25 => k0_hw32.2.2.2.1.2.2.2.2.2.1 k0_t25
theorem k0_off1044_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1044 v9 k0_t20 v62 v68 k0_t25) a + S1x1x1x8x128.size a ≤ S4x2x64x64x128.size a := fun v9 k0_t20 v62 v68 k0_hw32 k0_t25 => k0_hw32.2.2.2.1.2.2.2.2.2.2.1 k0_t25
theorem k0_off1045_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1045 v9 k0_t20 v62 v68 k0_t25) a + S1x1x1x32x128.size a ≤ S4x2x8x1024x128.size a := fun v9 k0_t20 v62 v68 k0_hw32 k0_t25 => k0_hw32.2.2.2.1.2.2.2.2.2.2.2.1 k0_t25
theorem k0_off1047_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1047 v9 k0_t20 v62 v68 k0_t25) a + S1x1x1x8x128.size a ≤ S4x2x64x64x128.size a := fun v9 k0_t20 v62 v68 k0_hw32 k0_t25 => k0_hw32.2.2.2.1.2.2.2.2.2.2.2.2.1 k0_t25
theorem k0_off1048_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1048 v9 k0_t20 v62 v68 k0_t25) a + S1x1x1x8x128.size a ≤ S4x2x64x64x128.size a := fun v9 k0_t20 v62 v68 k0_hw32 k0_t25 => k0_hw32.2.2.2.1.2.2.2.2.2.2.2.2.2.1 k0_t25
theorem k0_off1049_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1049 v9 k0_t20 v62 v68 k0_t25) a + S1x1x1x32x128.size a ≤ S4x2x8x1024x128.size a := fun v9 k0_t20 v62 v68 k0_hw32 k0_t25 => k0_hw32.2.2.2.1.2.2.2.2.2.2.2.2.2.2.1 k0_t25
theorem k0_off1051_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1051 v9 k0_t20 v62 v68 k0_t25) a + S1x1x1x8x128.size a ≤ S4x2x64x64x128.size a := fun v9 k0_t20 v62 v68 k0_hw32 k0_t25 => k0_hw32.2.2.2.1.2.2.2.2.2.2.2.2.2.2.2.1 k0_t25
theorem k0_off1052_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1052 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.1 k0_t25
theorem k0_off1053_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1053 v9 k0_t20 v62 v68 k0_t25) a + S1x1x1x32x128.size a ≤ S4x2x8x1024x128.size a := fun v9 k0_t20 v62 v68 k0_hw32 k0_t25 => k0_hw32.2.2.2.1.2.2.2.2.2.2.2.2.2.2.2.2.2.1 k0_t25
theorem k0_off1055_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1055 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.1 k0_t25
theorem k0_off1056_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1056 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.1 k0_t25
theorem k0_off1057_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1057 v9 k0_t20 v62 v68 k0_t25) a + S1x1x1x32x128.size a ≤ S4x2x8x1024x128.size a := fun v9 k0_t20 v62 v68 k0_hw32 k0_t25 => k0_hw32.2.2.2.1.2.2.2.2.2.2.2.2.2.2.2.2.2.2.2.2.1 k0_t25
theorem k0_off1059_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1059 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.1 k0_t25
theorem k0_off1060_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1060 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.1 k0_t25
theorem k0_off1061_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1061 v9 k0_t20 v62 v68 k0_t25) a + S1x1x1x32x128.size a ≤ S4x2x8x1024x128.size a := fun v9 k0_t20 v62 v68 k0_hw32 k0_t25 => k0_hw32.2.2.2.1.2.2.2.2.2.2.2.2.2.2.2.2.2.2.2.2.2.2.2.1 k0_t25
theorem k0_off1063_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1063 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.2.2.1 k0_t25
theorem k0_off1064_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1064 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.2.2.2.1 k0_t25
theorem k0_off1065_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1065 v9 k0_t20 v62 v68 k0_t25) a + S1x1x1x32x128.size a ≤ S4x2x8x1024x128.size a := fun v9 k0_t20 v62 v68 k0_hw32 k0_t25 => k0_hw32.2.2.2.1.2.2.2.2.2.2.2.2.2.2.2.2.2.2.2.2.2.2.2.2.2.2.1 k0_t25
theorem k0_off1067_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1067 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.2.2.2.2.2.1 k0_t25
theorem k0_off1068_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1068 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.2.2.2.2.2.2.1 k0_t25
theorem k0_off1069_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1069 v9 k0_t20 v62 v68 k0_t25) a + S1x1x1x32x128.size a ≤ S4x2x8x1024x128.size a := fun v9 k0_t20 v62 v68 k0_hw32 k0_t25 => k0_hw32.2.2.2.1.2.2.2.2.2.2.2.2.2.2.2.2.2.2.2.2.2.2.2.2.2.2.2.2.2.1 k0_t25
theorem k0_off1071_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1071 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.2.2.2.2.2.2.2.2.1 k0_t25
theorem k0_off1072_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1072 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.2.2.2.2.2.2.2.2.2.1 k0_t25
theorem k0_off1073_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1073 v9 k0_t20 v62 v68 k0_t25) a + S1x1x1x32x128.size a ≤ S4x2x8x1024x128.size a := fun v9 k0_t20 v62 v68 k0_hw32 k0_t25 => k0_hw32.2.2.2.1.2.2.2.2.2.2.2.2.2.2.2.2.2.2.2.2.2.2.2.2.2.2.2.2.2.2.2.2.1 k0_t25
theorem k0_off1075_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1075 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.2.2.2.2.2.2.2.2.2.2.2.1 k0_t25
theorem k0_off1076_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1076 v9 k0_t20 v62 v68 k0_t25) a + S1x1x1x8x128.size a ≤ S4x2x64x64x128.size a := fun v9 k0_t20 v62 v68 k0_hw32 k0_t25 => k0_hw32.2.2.2.1.2.2.2.2.2.2.2.2.2.2.2.2.2.2.2.2.2.2.2.2.2.2.2.2.2.2.2.2.2.2.1 k0_t25
theorem k0_off1077_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1077 v9 k0_t20 v62 v68 k0_t25) a + S1x1x1x32x128.size a ≤ S4x2x8x1024x128.size a := fun v9 k0_t20 v62 v68 k0_hw32 k0_t25 => k0_hw32.2.2.2.1.2.2.2.2.2.2.2.2.2.2.2.2.2.2.2.2.2.2.2.2.2.2.2.2.2.2.2.2.2.2.2 k0_t25
theorem k0_off1079_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1079 v9 k0_t20 v62 v68 k0_t25) a + S1x1x1x8x128.size a ≤ S4x2x64x64x128.size a := fun v9 k0_t20 v62 v68 k0_hw32 k0_t25 => k0_hw32.2.2.2.2.1.1 k0_t25
theorem k0_off1080_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1080 v9 k0_t20 v62 v68 k0_t25) a + S1x1x1x8x128.size a ≤ S4x2x64x64x128.size a := fun v9 k0_t20 v62 v68 k0_hw32 k0_t25 => k0_hw32.2.2.2.2.1.2.1 k0_t25
theorem k0_off1081_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1081 v9 k0_t20 v62 v68 k0_t25) a + S1x1x1x32x128.size a ≤ S4x2x8x1024x128.size a := fun v9 k0_t20 v62 v68 k0_hw32 k0_t25 => k0_hw32.2.2.2.2.1.2.2.1 k0_t25
theorem k0_off1083_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1083 v9 k0_t20 v62 v68 k0_t25) a + S1x1x1x8x128.size a ≤ S4x2x64x64x128.size a := fun v9 k0_t20 v62 v68 k0_hw32 k0_t25 => k0_hw32.2.2.2.2.1.2.2.2.1 k0_t25
theorem k0_off1084_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1084 v9 k0_t20 v62 v68 k0_t25) a + S1x1x1x8x128.size a ≤ S4x2x64x64x128.size a := fun v9 k0_t20 v62 v68 k0_hw32 k0_t25 => k0_hw32.2.2.2.2.1.2.2.2.2.1 k0_t25
theorem k0_off1085_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1085 v9 k0_t20 v62 v68 k0_t25) a + S1x1x1x32x128.size a ≤ S4x2x8x1024x128.size a := fun v9 k0_t20 v62 v68 k0_hw32 k0_t25 => k0_hw32.2.2.2.2.1.2.2.2.2.2.1 k0_t25
theorem k0_off1087_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1087 v9 k0_t20 v62 v68 k0_t25) a + S1x1x1x8x128.size a ≤ S4x2x64x64x128.size a := fun v9 k0_t20 v62 v68 k0_hw32 k0_t25 => k0_hw32.2.2.2.2.1.2.2.2.2.2.2.1 k0_t25
theorem k0_off1088_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1088 v9 k0_t20 v62 v68 k0_t25) a + S1x1x1x8x128.size a ≤ S4x2x64x64x128.size a := fun v9 k0_t20 v62 v68 k0_hw32 k0_t25 => k0_hw32.2.2.2.2.1.2.2.2.2.2.2.2.1 k0_t25
theorem k0_off1089_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1089 v9 k0_t20 v62 v68 k0_t25) a + S1x1x1x32x128.size a ≤ S4x2x8x1024x128.size a := fun v9 k0_t20 v62 v68 k0_hw32 k0_t25 => k0_hw32.2.2.2.2.1.2.2.2.2.2.2.2.2.1 k0_t25
theorem k0_off1091_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1091 v9 k0_t20 v62 v68 k0_t25) a + S1x1x1x8x128.size a ≤ S4x2x64x64x128.size a := fun v9 k0_t20 v62 v68 k0_hw32 k0_t25 => k0_hw32.2.2.2.2.1.2.2.2.2.2.2.2.2.2.1 k0_t25
theorem k0_off1092_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1092 v9 k0_t20 v62 v68 k0_t25) a + S1x1x1x8x128.size a ≤ S4x2x64x64x128.size a := fun v9 k0_t20 v62 v68 k0_hw32 k0_t25 => k0_hw32.2.2.2.2.1.2.2.2.2.2.2.2.2.2.2.1 k0_t25
theorem k0_off1093_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1093 v9 k0_t20 v62 v68 k0_t25) a + S1x1x1x32x128.size a ≤ S4x2x8x1024x128.size a := fun v9 k0_t20 v62 v68 k0_hw32 k0_t25 => k0_hw32.2.2.2.2.1.2.2.2.2.2.2.2.2.2.2.2.1 k0_t25
theorem k0_off1095_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1095 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.1 k0_t25
theorem k0_off1096_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1096 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.1 k0_t25
theorem k0_off1097_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1097 v9 k0_t20 v62 v68 k0_t25) a + S1x1x1x32x128.size a ≤ S4x2x8x1024x128.size a := fun v9 k0_t20 v62 v68 k0_hw32 k0_t25 => k0_hw32.2.2.2.2.1.2.2.2.2.2.2.2.2.2.2.2.2.2.2.1 k0_t25
theorem k0_off1099_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1099 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.1 k0_t25
theorem k0_off1100_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1100 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.1 k0_t25
theorem k0_off1101_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1101 v9 k0_t20 v62 v68 k0_t25) a + S1x1x1x32x128.size a ≤ S4x2x8x1024x128.size a := fun v9 k0_t20 v62 v68 k0_hw32 k0_t25 => k0_hw32.2.2.2.2.1.2.2.2.2.2.2.2.2.2.2.2.2.2.2.2.2.2.1 k0_t25
theorem k0_off1103_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1103 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.1 k0_t25
theorem k0_off1104_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1104 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.1 k0_t25
theorem k0_off1105_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1105 v9 k0_t20 v62 v68 k0_t25) a + S1x1x1x32x128.size a ≤ S4x2x8x1024x128.size a := fun v9 k0_t20 v62 v68 k0_hw32 k0_t25 => k0_hw32.2.2.2.2.1.2.2.2.2.2.2.2.2.2.2.2.2.2.2.2.2.2.2.2.2.1 k0_t25
theorem k0_off1107_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1107 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.2.2.1 k0_t25
theorem k0_off1108_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1108 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.2.2.2.1 k0_t25
theorem k0_off1109_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1109 v9 k0_t20 v62 v68 k0_t25) a + S1x1x1x32x128.size a ≤ S4x2x8x1024x128.size a := fun v9 k0_t20 v62 v68 k0_hw32 k0_t25 => k0_hw32.2.2.2.2.1.2.2.2.2.2.2.2.2.2.2.2.2.2.2.2.2.2.2.2.2.2.2.2.1 k0_t25
theorem k0_off1111_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1111 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.2.2.2.2.2.1 k0_t25
theorem k0_off1112_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1112 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.2.2.2.2.2.2.1 k0_t25
theorem k0_off1113_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1113 v9 k0_t20 v62 v68 k0_t25) a + S1x1x1x32x128.size a ≤ S4x2x8x1024x128.size a := fun v9 k0_t20 v62 v68 k0_hw32 k0_t25 => k0_hw32.2.2.2.2.1.2.2.2.2.2.2.2.2.2.2.2.2.2.2.2.2.2.2.2.2.2.2.2.2.2.2.1 k0_t25
theorem k0_off1115_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1115 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.2.2.2.2.2.2.2.2.1 k0_t25
theorem k0_off1116_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1116 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.2.2.2.2.2.2.2.2.2.1 k0_t25
theorem k0_off1117_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1117 v9 k0_t20 v62 v68 k0_t25) a + S1x1x1x32x128.size a ≤ S4x2x8x1024x128.size a := fun v9 k0_t20 v62 v68 k0_hw32 k0_t25 => k0_hw32.2.2.2.2.1.2.2.2.2.2.2.2.2.2.2.2.2.2.2.2.2.2.2.2.2.2.2.2.2.2.2.2.2.2.1 k0_t25
theorem k0_off1119_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1119 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.2.2.2.2.2.2.2.2.2.2.2.1 k0_t25
theorem k0_off1120_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1120 v9 k0_t20 v62 v68 k0_t25) a + S1x1x1x8x128.size a ≤ S4x2x64x64x128.size a := fun v9 k0_t20 v62 v68 k0_hw32 k0_t25 => k0_hw32.2.2.2.2.1.2.2.2.2.2.2.2.2.2.2.2.2.2.2.2.2.2.2.2.2.2.2.2.2.2.2.2.2.2.2.2 k0_t25
theorem k0_off1121_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1121 v9 k0_t20 v62 v68 k0_t25) a + S1x1x1x32x128.size a ≤ S4x2x8x1024x128.size a := fun v9 k0_t20 v62 v68 k0_hw32 k0_t25 => k0_hw32.2.2.2.2.2.1.1 k0_t25
theorem k0_off1123_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1123 v9 k0_t20 v62 v68 k0_t25) a + S1x1x1x8x128.size a ≤ S4x2x64x64x128.size a := fun v9 k0_t20 v62 v68 k0_hw32 k0_t25 => k0_hw32.2.2.2.2.2.1.2.1 k0_t25
theorem k0_off1124_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1124 v9 k0_t20 v62 v68 k0_t25) a + S1x1x1x8x128.size a ≤ S4x2x64x64x128.size a := fun v9 k0_t20 v62 v68 k0_hw32 k0_t25 => k0_hw32.2.2.2.2.2.1.2.2.1 k0_t25
theorem k0_off1125_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1125 v9 k0_t20 v62 v68 k0_t25) a + S1x1x1x32x128.size a ≤ S4x2x8x1024x128.size a := fun v9 k0_t20 v62 v68 k0_hw32 k0_t25 => k0_hw32.2.2.2.2.2.1.2.2.2.1 k0_t25
theorem k0_off1127_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1127 v9 k0_t20 v62 v68 k0_t25) a + S1x1x1x8x128.size a ≤ S4x2x64x64x128.size a := fun v9 k0_t20 v62 v68 k0_hw32 k0_t25 => k0_hw32.2.2.2.2.2.1.2.2.2.2.1 k0_t25
theorem k0_off1128_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1128 v9 k0_t20 v62 v68 k0_t25) a + S1x1x1x8x128.size a ≤ S4x2x64x64x128.size a := fun v9 k0_t20 v62 v68 k0_hw32 k0_t25 => k0_hw32.2.2.2.2.2.1.2.2.2.2.2.1 k0_t25
theorem k0_off1129_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1129 v9 k0_t20 v62 v68 k0_t25) a + S1x1x1x32x128.size a ≤ S4x2x8x1024x128.size a := fun v9 k0_t20 v62 v68 k0_hw32 k0_t25 => k0_hw32.2.2.2.2.2.1.2.2.2.2.2.2.1 k0_t25
theorem k0_off1131_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1131 v9 k0_t20 v62 v68 k0_t25) a + S1x1x1x8x128.size a ≤ S4x2x64x64x128.size a := fun v9 k0_t20 v62 v68 k0_hw32 k0_t25 => k0_hw32.2.2.2.2.2.1.2.2.2.2.2.2.2.1 k0_t25
theorem k0_off1132_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1132 v9 k0_t20 v62 v68 k0_t25) a + S1x1x1x8x128.size a ≤ S4x2x64x64x128.size a := fun v9 k0_t20 v62 v68 k0_hw32 k0_t25 => k0_hw32.2.2.2.2.2.1.2.2.2.2.2.2.2.2.1 k0_t25
theorem k0_off1133_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1133 v9 k0_t20 v62 v68 k0_t25) a + S1x1x1x32x128.size a ≤ S4x2x8x1024x128.size a := fun v9 k0_t20 v62 v68 k0_hw32 k0_t25 => k0_hw32.2.2.2.2.2.1.2.2.2.2.2.2.2.2.2.1 k0_t25
theorem k0_off1135_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1135 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.1 k0_t25
theorem k0_off1136_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1136 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.1 k0_t25
theorem k0_off1137_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1137 v9 k0_t20 v62 v68 k0_t25) a + S1x1x1x32x128.size a ≤ S4x2x8x1024x128.size a := fun v9 k0_t20 v62 v68 k0_hw32 k0_t25 => k0_hw32.2.2.2.2.2.1.2.2.2.2.2.2.2.2.2.2.2.2.1 k0_t25
theorem k0_off1139_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1139 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.1 k0_t25
theorem k0_off1140_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1140 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.1 k0_t25
theorem k0_off1141_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1141 v9 k0_t20 v62 v68 k0_t25) a + S1x1x1x32x128.size a ≤ S4x2x8x1024x128.size a := fun v9 k0_t20 v62 v68 k0_hw32 k0_t25 => k0_hw32.2.2.2.2.2.1.2.2.2.2.2.2.2.2.2.2.2.2.2.2.2.1 k0_t25
theorem k0_off1143_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1143 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.1 k0_t25
theorem k0_off1144_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1144 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.1 k0_t25
theorem k0_off1145_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1145 v9 k0_t20 v62 v68 k0_t25) a + S1x1x1x32x128.size a ≤ S4x2x8x1024x128.size a := fun v9 k0_t20 v62 v68 k0_hw32 k0_t25 => k0_hw32.2.2.2.2.2.1.2.2.2.2.2.2.2.2.2.2.2.2.2.2.2.2.2.2.1 k0_t25
theorem k0_off1147_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1147 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.1 k0_t25
theorem k0_off1148_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1148 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.2.1 k0_t25
theorem k0_off1149_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1149 v9 k0_t20 v62 v68 k0_t25) a + S1x1x1x32x128.size a ≤ S4x2x8x1024x128.size a := fun v9 k0_t20 v62 v68 k0_hw32 k0_t25 => k0_hw32.2.2.2.2.2.1.2.2.2.2.2.2.2.2.2.2.2.2.2.2.2.2.2.2.2.2.2.1 k0_t25
theorem k0_off1151_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1151 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.2.2.2.1 k0_t25
theorem k0_off1152_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1152 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.2.2.2.2.1 k0_t25
theorem k0_off1153_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1153 v9 k0_t20 v62 v68 k0_t25) a + S1x1x1x32x128.size a ≤ S4x2x8x1024x128.size a := fun v9 k0_t20 v62 v68 k0_hw32 k0_t25 => k0_hw32.2.2.2.2.2.1.2.2.2.2.2.2.2.2.2.2.2.2.2.2.2.2.2.2.2.2.2.2.2.2.1 k0_t25
theorem k0_off1155_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1155 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.2.2.2.2.2.2.1 k0_t25
theorem k0_off1156_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1156 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.2.2.2.2.2.2.2.1 k0_t25
theorem k0_off1157_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1157 v9 k0_t20 v62 v68 k0_t25) a + S1x1x1x32x128.size a ≤ S4x2x8x1024x128.size a := fun v9 k0_t20 v62 v68 k0_hw32 k0_t25 => k0_hw32.2.2.2.2.2.1.2.2.2.2.2.2.2.2.2.2.2.2.2.2.2.2.2.2.2.2.2.2.2.2.2.2.2.1 k0_t25
theorem k0_off1159_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1159 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.2.2.2.2.2.2.2.2.2.1 k0_t25
theorem k0_off1160_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1160 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.2.2.2.2.2.2.2.2.2.2.1 k0_t25
theorem k0_off1161_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1161 v9 k0_t20 v62 v68 k0_t25) a + S1x1x1x32x128.size a ≤ S4x2x8x1024x128.size a := fun v9 k0_t20 v62 v68 k0_hw32 k0_t25 => k0_hw32.2.2.2.2.2.1.2.2.2.2.2.2.2.2.2.2.2.2.2.2.2.2.2.2.2.2.2.2.2.2.2.2.2.2.2.2.1 k0_t25
theorem k0_off1163_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1163 v9 k0_t20 v62 v68 k0_t25) a + S1x1x1x8x128.size a ≤ S4x2x64x64x128.size a := fun v9 k0_t20 v62 v68 k0_hw32 k0_t25 => k0_hw32.2.2.2.2.2.1.2.2.2.2.2.2.2.2.2.2.2.2.2.2.2.2.2.2.2.2.2.2.2.2.2.2.2.2.2.2.2 k0_t25
theorem k0_off1164_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1164 v9 k0_t20 v62 v68 k0_t25) a + S1x1x1x8x128.size a ≤ S4x2x64x64x128.size a := fun v9 k0_t20 v62 v68 k0_hw32 k0_t25 => k0_hw32.2.2.2.2.2.2.1.1 k0_t25
theorem k0_off1165_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1165 v9 k0_t20 v62 v68 k0_t25) a + S1x1x1x32x128.size a ≤ S4x2x8x1024x128.size a := fun v9 k0_t20 v62 v68 k0_hw32 k0_t25 => k0_hw32.2.2.2.2.2.2.1.2.1 k0_t25
theorem k0_off1167_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1167 v9 k0_t20 v62 v68 k0_t25) a + S1x1x1x8x128.size a ≤ S4x2x64x64x128.size a := fun v9 k0_t20 v62 v68 k0_hw32 k0_t25 => k0_hw32.2.2.2.2.2.2.1.2.2.1 k0_t25
theorem k0_off1168_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1168 v9 k0_t20 v62 v68 k0_t25) a + S1x1x1x8x128.size a ≤ S4x2x64x64x128.size a := fun v9 k0_t20 v62 v68 k0_hw32 k0_t25 => k0_hw32.2.2.2.2.2.2.1.2.2.2.1 k0_t25
theorem k0_off1169_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1169 v9 k0_t20 v62 v68 k0_t25) a + S1x1x1x32x128.size a ≤ S4x2x8x1024x128.size a := fun v9 k0_t20 v62 v68 k0_hw32 k0_t25 => k0_hw32.2.2.2.2.2.2.1.2.2.2.2.1 k0_t25
theorem k0_off1171_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1171 v9 k0_t20 v62 v68 k0_t25) a + S1x1x1x8x128.size a ≤ S4x2x64x64x128.size a := fun v9 k0_t20 v62 v68 k0_hw32 k0_t25 => k0_hw32.2.2.2.2.2.2.1.2.2.2.2.2.1 k0_t25
theorem k0_off1172_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1172 v9 k0_t20 v62 v68 k0_t25) a + S1x1x1x8x128.size a ≤ S4x2x64x64x128.size a := fun v9 k0_t20 v62 v68 k0_hw32 k0_t25 => k0_hw32.2.2.2.2.2.2.1.2.2.2.2.2.2.1 k0_t25
theorem k0_off1173_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1173 v9 k0_t20 v62 v68 k0_t25) a + S1x1x1x32x128.size a ≤ S4x2x8x1024x128.size a := fun v9 k0_t20 v62 v68 k0_hw32 k0_t25 => k0_hw32.2.2.2.2.2.2.1.2.2.2.2.2.2.2.1 k0_t25
theorem k0_off1175_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1175 v9 k0_t20 v62 v68 k0_t25) a + S1x1x1x8x128.size a ≤ S4x2x64x64x128.size a := fun v9 k0_t20 v62 v68 k0_hw32 k0_t25 => k0_hw32.2.2.2.2.2.2.1.2.2.2.2.2.2.2.2.1 k0_t25
theorem k0_off1176_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1176 v9 k0_t20 v62 v68 k0_t25) a + S1x1x1x8x128.size a ≤ S4x2x64x64x128.size a := fun v9 k0_t20 v62 v68 k0_hw32 k0_t25 => k0_hw32.2.2.2.2.2.2.1.2.2.2.2.2.2.2.2.2.1 k0_t25
theorem k0_off1177_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1177 v9 k0_t20 v62 v68 k0_t25) a + S1x1x1x32x128.size a ≤ S4x2x8x1024x128.size a := fun v9 k0_t20 v62 v68 k0_hw32 k0_t25 => k0_hw32.2.2.2.2.2.2.1.2.2.2.2.2.2.2.2.2.2.1 k0_t25
theorem k0_off1179_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1179 v9 k0_t20 v62 v68 k0_t25) a + S1x1x1x8x128.size a ≤ S4x2x64x64x128.size a := fun v9 k0_t20 v62 v68 k0_hw32 k0_t25 => k0_hw32.2.2.2.2.2.2.1.2.2.2.2.2.2.2.2.2.2.2.1 k0_t25
theorem k0_off1180_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1180 v9 k0_t20 v62 v68 k0_t25) a + S1x1x1x8x128.size a ≤ S4x2x64x64x128.size a := fun v9 k0_t20 v62 v68 k0_hw32 k0_t25 => k0_hw32.2.2.2.2.2.2.1.2.2.2.2.2.2.2.2.2.2.2.2.1 k0_t25
theorem k0_off1181_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1181 v9 k0_t20 v62 v68 k0_t25) a + S1x1x1x32x128.size a ≤ S4x2x8x1024x128.size a := fun v9 k0_t20 v62 v68 k0_hw32 k0_t25 => k0_hw32.2.2.2.2.2.2.1.2.2.2.2.2.2.2.2.2.2.2.2.2.1 k0_t25
theorem k0_off1183_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1183 v9 k0_t20 v62 v68 k0_t25) a + S1x1x1x8x128.size a ≤ S4x2x64x64x128.size a := fun v9 k0_t20 v62 v68 k0_hw32 k0_t25 => k0_hw32.2.2.2.2.2.2.1.2.2.2.2.2.2.2.2.2.2.2.2.2.2.1 k0_t25
theorem k0_off1184_inb : ∀ (v9 : BitVec 32) (k0_t20 : Fin (k0_t20_loop v9).trips) (v62 : BitVec 32) (v68 : BitVec 32) (k0_hw32 : k0_chk32 v9 k0_t20 v62 v68) (k0_t25 : Fin (k0_t25_loop v62 v68).trips), ∀ a, (k0_off1184 v9 k0_t20 v62 v68 k0_t25) a + S1x1x1x8x128.size a ≤ S4x2x64x64x128.size a := fun v9 k0_t20 v62 v68 k0_hw32 k0_t25 => k0_hw32.2.2.2.2.2.2.1.2.2.2.2.2.2.2.2.2.2.2.2.2.2.2.1 k0_t25
theorem k0_t26_ok : ∀ (v9 : BitVec 32) (k0_t20 : Fin (k0_t20_loop v9).trips) (v62 : BitVec 32) (v68 : BitVec 32) (k0_hw32 : k0_chk32 v9 k0_t20 v62 v68), (k0_t26_loop v62 v68).OK := fun v9 k0_t20 v62 v68 k0_hw32 => k0_hw32.2.2.2.2.2.2.1.2.2.2.2.2.2.2.2.2.2.2.2.2.2.2.2.1
theorem k0_off1185_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1185 v62 v68 k0_t26) a + S1x1.size a ≤ S5x256.size a := fun v9 k0_t20 v62 v68 k0_hw32 k0_t26 => k0_hw32.2.2.2.2.2.2.1.2.2.2.2.2.2.2.2.2.2.2.2.2.2.2.2.2.1 k0_t26
theorem k0_off1186_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1186 v62) a + S1.size a ≤ S5.size a := fun v9 k0_t20 v62 v68 k0_hw32 k0_t26 => k0_hw32.2.2.2.2.2.2.1.2.2.2.2.2.2.2.2.2.2.2.2.2.2.2.2.2.2.1 k0_t26
theorem k0_mult32_dvd : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), 8 ∣ (k0_mult32 v62 v68 k0_t26).toNat := fun v9 k0_t20 v62 v68 k0_hw32 k0_t26 => k0_hw32.2.2.2.2.2.2.1.2.2.2.2.2.2.2.2.2.2.2.2.2.2.2.2.2.2.2.1 k0_t26
theorem k0_off1187_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1187 v9 k0_t20 v62 v68 k0_t26) a + S1x1x1x32x128.size a ≤ S4x2x8x1024x128.size a := fun v9 k0_t20 v62 v68 k0_hw32 k0_t26 => k0_hw32.2.2.2.2.2.2.1.2.2.2.2.2.2.2.2.2.2.2.2.2.2.2.2.2.2.2.2.1 k0_t26
theorem k0_off1189_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1189 v9 k0_t20 v62 v68 k0_t26) a + S1x1x1x8x128.size a ≤ S4x2x64x64x128.size a := fun v9 k0_t20 v62 v68 k0_hw32 k0_t26 => k0_hw32.2.2.2.2.2.2.1.2.2.2.2.2.2.2.2.2.2.2.2.2.2.2.2.2.2.2.2.2.1 k0_t26
theorem k0_off1190_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1190 v9 k0_t20 v62 v68 k0_t26) a + S1x1x1x8x128.size a ≤ S4x2x64x64x128.size a := fun v9 k0_t20 v62 v68 k0_hw32 k0_t26 => k0_hw32.2.2.2.2.2.2.1.2.2.2.2.2.2.2.2.2.2.2.2.2.2.2.2.2.2.2.2.2.2.1 k0_t26
theorem k0_off1191_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1191 v9 k0_t20 v62 v68 k0_t26) a + S1x1x1x32x128.size a ≤ S4x2x8x1024x128.size a := fun v9 k0_t20 v62 v68 k0_hw32 k0_t26 => k0_hw32.2.2.2.2.2.2.1.2.2.2.2.2.2.2.2.2.2.2.2.2.2.2.2.2.2.2.2.2.2.2.1 k0_t26
theorem k0_off1193_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1193 v9 k0_t20 v62 v68 k0_t26) a + S1x1x1x8x128.size a ≤ S4x2x64x64x128.size a := fun v9 k0_t20 v62 v68 k0_hw32 k0_t26 => k0_hw32.2.2.2.2.2.2.1.2.2.2.2.2.2.2.2.2.2.2.2.2.2.2.2.2.2.2.2.2.2.2.2.1 k0_t26
theorem k0_off1194_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1194 v9 k0_t20 v62 v68 k0_t26) a + S1x1x1x8x128.size a ≤ S4x2x64x64x128.size a := fun v9 k0_t20 v62 v68 k0_hw32 k0_t26 => k0_hw32.2.2.2.2.2.2.1.2.2.2.2.2.2.2.2.2.2.2.2.2.2.2.2.2.2.2.2.2.2.2.2.2.1 k0_t26
theorem k0_off1195_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1195 v9 k0_t20 v62 v68 k0_t26) a + S1x1x1x32x128.size a ≤ S4x2x8x1024x128.size a := fun v9 k0_t20 v62 v68 k0_hw32 k0_t26 => k0_hw32.2.2.2.2.2.2.1.2.2.2.2.2.2.2.2.2.2.2.2.2.2.2.2.2.2.2.2.2.2.2.2.2.2.1 k0_t26
theorem k0_off1197_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1197 v9 k0_t20 v62 v68 k0_t26) a + S1x1x1x8x128.size a ≤ S4x2x64x64x128.size a := fun v9 k0_t20 v62 v68 k0_hw32 k0_t26 => k0_hw32.2.2.2.2.2.2.1.2.2.2.2.2.2.2.2.2.2.2.2.2.2.2.2.2.2.2.2.2.2.2.2.2.2.2.1 k0_t26
theorem k0_off1198_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1198 v9 k0_t20 v62 v68 k0_t26) a + S1x1x1x8x128.size a ≤ S4x2x64x64x128.size a := fun v9 k0_t20 v62 v68 k0_hw32 k0_t26 => k0_hw32.2.2.2.2.2.2.1.2.2.2.2.2.2.2.2.2.2.2.2.2.2.2.2.2.2.2.2.2.2.2.2.2.2.2.2.1 k0_t26
theorem k0_off1199_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1199 v9 k0_t20 v62 v68 k0_t26) a + S1x1x1x32x128.size a ≤ S4x2x8x1024x128.size a := fun v9 k0_t20 v62 v68 k0_hw32 k0_t26 => k0_hw32.2.2.2.2.2.2.1.2.2.2.2.2.2.2.2.2.2.2.2.2.2.2.2.2.2.2.2.2.2.2.2.2.2.2.2.2.1 k0_t26
theorem k0_off1201_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1201 v9 k0_t20 v62 v68 k0_t26) a + S1x1x1x8x128.size a ≤ S4x2x64x64x128.size a := fun v9 k0_t20 v62 v68 k0_hw32 k0_t26 => k0_hw32.2.2.2.2.2.2.1.2.2.2.2.2.2.2.2.2.2.2.2.2.2.2.2.2.2.2.2.2.2.2.2.2.2.2.2.2.2.1 k0_t26
theorem k0_off1202_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1202 v9 k0_t20 v62 v68 k0_t26) a + S1x1x1x8x128.size a ≤ S4x2x64x64x128.size a := fun v9 k0_t20 v62 v68 k0_hw32 k0_t26 => k0_hw32.2.2.2.2.2.2.1.2.2.2.2.2.2.2.2.2.2.2.2.2.2.2.2.2.2.2.2.2.2.2.2.2.2.2.2.2.2.2 k0_t26
theorem k0_off1203_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1203 v9 k0_t20 v62 v68 k0_t26) a + S1x1x1x32x128.size a ≤ S4x2x8x1024x128.size a := fun v9 k0_t20 v62 v68 k0_hw32 k0_t26 => k0_hw32.2.2.2.2.2.2.2.1.1 k0_t26
theorem k0_off1205_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1205 v9 k0_t20 v62 v68 k0_t26) a + S1x1x1x8x128.size a ≤ S4x2x64x64x128.size a := fun v9 k0_t20 v62 v68 k0_hw32 k0_t26 => k0_hw32.2.2.2.2.2.2.2.1.2.1 k0_t26
theorem k0_off1206_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1206 v9 k0_t20 v62 v68 k0_t26) a + S1x1x1x8x128.size a ≤ S4x2x64x64x128.size a := fun v9 k0_t20 v62 v68 k0_hw32 k0_t26 => k0_hw32.2.2.2.2.2.2.2.1.2.2.1 k0_t26
theorem k0_off1207_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1207 v9 k0_t20 v62 v68 k0_t26) a + S1x1x1x32x128.size a ≤ S4x2x8x1024x128.size a := fun v9 k0_t20 v62 v68 k0_hw32 k0_t26 => k0_hw32.2.2.2.2.2.2.2.1.2.2.2.1 k0_t26
theorem k0_off1209_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1209 v9 k0_t20 v62 v68 k0_t26) a + S1x1x1x8x128.size a ≤ S4x2x64x64x128.size a := fun v9 k0_t20 v62 v68 k0_hw32 k0_t26 => k0_hw32.2.2.2.2.2.2.2.1.2.2.2.2.1 k0_t26
theorem k0_off1210_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1210 v9 k0_t20 v62 v68 k0_t26) a + S1x1x1x8x128.size a ≤ S4x2x64x64x128.size a := fun v9 k0_t20 v62 v68 k0_hw32 k0_t26 => k0_hw32.2.2.2.2.2.2.2.1.2.2.2.2.2.1 k0_t26
theorem k0_off1211_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1211 v9 k0_t20 v62 v68 k0_t26) a + S1x1x1x32x128.size a ≤ S4x2x8x1024x128.size a := fun v9 k0_t20 v62 v68 k0_hw32 k0_t26 => k0_hw32.2.2.2.2.2.2.2.1.2.2.2.2.2.2.1 k0_t26
theorem k0_off1213_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1213 v9 k0_t20 v62 v68 k0_t26) a + S1x1x1x8x128.size a ≤ S4x2x64x64x128.size a := fun v9 k0_t20 v62 v68 k0_hw32 k0_t26 => k0_hw32.2.2.2.2.2.2.2.1.2.2.2.2.2.2.2.1 k0_t26
theorem k0_off1214_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1214 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.1 k0_t26
theorem k0_off1215_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1215 v9 k0_t20 v62 v68 k0_t26) a + S1x1x1x32x128.size a ≤ S4x2x8x1024x128.size a := fun v9 k0_t20 v62 v68 k0_hw32 k0_t26 => k0_hw32.2.2.2.2.2.2.2.1.2.2.2.2.2.2.2.2.2.1 k0_t26
theorem k0_off1217_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1217 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.1 k0_t26
theorem k0_off1218_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1218 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.1 k0_t26
theorem k0_off1219_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1219 v9 k0_t20 v62 v68 k0_t26) a + S1x1x1x32x128.size a ≤ S4x2x8x1024x128.size a := fun v9 k0_t20 v62 v68 k0_hw32 k0_t26 => k0_hw32.2.2.2.2.2.2.2.1.2.2.2.2.2.2.2.2.2.2.2.2.1 k0_t26
theorem k0_off1221_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1221 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.1 k0_t26
theorem k0_off1222_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1222 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.1 k0_t26
theorem k0_off1223_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1223 v9 k0_t20 v62 v68 k0_t26) a + S1x1x1x32x128.size a ≤ S4x2x8x1024x128.size a := fun v9 k0_t20 v62 v68 k0_hw32 k0_t26 => k0_hw32.2.2.2.2.2.2.2.1.2.2.2.2.2.2.2.2.2.2.2.2.2.2.2.1 k0_t26
theorem k0_off1225_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1225 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.1 k0_t26
theorem k0_off1226_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1226 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.1 k0_t26
theorem k0_off1227_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1227 v9 k0_t20 v62 v68 k0_t26) a + S1x1x1x32x128.size a ≤ S4x2x8x1024x128.size a := fun v9 k0_t20 v62 v68 k0_hw32 k0_t26 => k0_hw32.2.2.2.2.2.2.2.1.2.2.2.2.2.2.2.2.2.2.2.2.2.2.2.2.2.2.1 k0_t26
theorem k0_off1229_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1229 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.1 k0_t26
theorem k0_off1230_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1230 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.2.1 k0_t26
theorem k0_off1231_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1231 v9 k0_t20 v62 v68 k0_t26) a + S1x1x1x32x128.size a ≤ S4x2x8x1024x128.size a := fun v9 k0_t20 v62 v68 k0_hw32 k0_t26 => k0_hw32.2.2.2.2.2.2.2.1.2.2.2.2.2.2.2.2.2.2.2.2.2.2.2.2.2.2.2.2.2.1 k0_t26
theorem k0_off1233_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1233 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.2.2.2.1 k0_t26
theorem k0_off1234_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1234 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.2.2.2.2.1 k0_t26
theorem k0_off1235_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1235 v9 k0_t20 v62 v68 k0_t26) a + S1x1x1x32x128.size a ≤ S4x2x8x1024x128.size a := fun v9 k0_t20 v62 v68 k0_hw32 k0_t26 => k0_hw32.2.2.2.2.2.2.2.1.2.2.2.2.2.2.2.2.2.2.2.2.2.2.2.2.2.2.2.2.2.2.2.2.1 k0_t26
theorem k0_off1237_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1237 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.2.2.2.2.2.2.1 k0_t26
theorem k0_off1238_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1238 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.2.2.2.2.2.2.2.1 k0_t26
theorem k0_off1239_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1239 v9 k0_t20 v62 v68 k0_t26) a + S1x1x1x32x128.size a ≤ S4x2x8x1024x128.size a := fun v9 k0_t20 v62 v68 k0_hw32 k0_t26 => k0_hw32.2.2.2.2.2.2.2.1.2.2.2.2.2.2.2.2.2.2.2.2.2.2.2.2.2.2.2.2.2.2.2.2.2.2.2.1 k0_t26
theorem k0_off1241_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1241 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.2.2.2.2.2.2.2.2.2.1 k0_t26
theorem k0_off1242_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1242 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.2.2.2.2.2.2.2.2.2.2.1 k0_t26
theorem k0_off1243_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1243 v9 k0_t20 v62 v68 k0_t26) a + S1x1x1x32x128.size a ≤ S4x2x8x1024x128.size a := fun v9 k0_t20 v62 v68 k0_hw32 k0_t26 => k0_hw32.2.2.2.2.2.2.2.1.2.2.2.2.2.2.2.2.2.2.2.2.2.2.2.2.2.2.2.2.2.2.2.2.2.2.2.2.2.2.1 k0_t26
theorem k0_off1245_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1245 v9 k0_t20 v62 v68 k0_t26) a + S1x1x1x8x128.size a ≤ S4x2x64x64x128.size a := fun v9 k0_t20 v62 v68 k0_hw32 k0_t26 => k0_hw32.2.2.2.2.2.2.2.1.2.2.2.2.2.2.2.2.2.2.2.2.2.2.2.2.2.2.2.2.2.2.2.2.2.2.2.2.2.2.2 k0_t26
theorem k0_off1246_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1246 v9 k0_t20 v62 v68 k0_t26) a + S1x1x1x8x128.size a ≤ S4x2x64x64x128.size a := fun v9 k0_t20 v62 v68 k0_hw32 k0_t26 => k0_hw32.2.2.2.2.2.2.2.2.1.1 k0_t26
theorem k0_off1247_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1247 v9 k0_t20 v62 v68 k0_t26) a + S1x1x1x32x128.size a ≤ S4x2x8x1024x128.size a := fun v9 k0_t20 v62 v68 k0_hw32 k0_t26 => k0_hw32.2.2.2.2.2.2.2.2.1.2.1 k0_t26
theorem k0_off1249_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1249 v9 k0_t20 v62 v68 k0_t26) a + S1x1x1x8x128.size a ≤ S4x2x64x64x128.size a := fun v9 k0_t20 v62 v68 k0_hw32 k0_t26 => k0_hw32.2.2.2.2.2.2.2.2.1.2.2.1 k0_t26
theorem k0_off1250_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1250 v9 k0_t20 v62 v68 k0_t26) a + S1x1x1x8x128.size a ≤ S4x2x64x64x128.size a := fun v9 k0_t20 v62 v68 k0_hw32 k0_t26 => k0_hw32.2.2.2.2.2.2.2.2.1.2.2.2.1 k0_t26
theorem k0_off1251_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1251 v9 k0_t20 v62 v68 k0_t26) a + S1x1x1x32x128.size a ≤ S4x2x8x1024x128.size a := fun v9 k0_t20 v62 v68 k0_hw32 k0_t26 => k0_hw32.2.2.2.2.2.2.2.2.1.2.2.2.2.1 k0_t26
theorem k0_off1253_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1253 v9 k0_t20 v62 v68 k0_t26) a + S1x1x1x8x128.size a ≤ S4x2x64x64x128.size a := fun v9 k0_t20 v62 v68 k0_hw32 k0_t26 => k0_hw32.2.2.2.2.2.2.2.2.1.2.2.2.2.2.1 k0_t26
theorem k0_off1254_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1254 v9 k0_t20 v62 v68 k0_t26) a + S1x1x1x8x128.size a ≤ S4x2x64x64x128.size a := fun v9 k0_t20 v62 v68 k0_hw32 k0_t26 => k0_hw32.2.2.2.2.2.2.2.2.1.2.2.2.2.2.2.1 k0_t26
theorem k0_off1255_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1255 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.1 k0_t26
theorem k0_off1257_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1257 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.1 k0_t26
theorem k0_off1258_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1258 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.1 k0_t26
theorem k0_off1259_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1259 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.2.2.2.1 k0_t26
theorem k0_off1261_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1261 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.1 k0_t26
theorem k0_off1262_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1262 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.1 k0_t26
theorem k0_off1263_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1263 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.2.2.2.2.2.2.1 k0_t26
theorem k0_off1265_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1265 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.1 k0_t26
theorem k0_off1266_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1266 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.1 k0_t26
theorem k0_off1267_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1267 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.2.2.2.2.2.2.2.2.2.1 k0_t26
theorem k0_off1269_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1269 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.1 k0_t26
theorem k0_off1270_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1270 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.1 k0_t26
theorem k0_off1271_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1271 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.2.2.2.2.2.2.2.2.2.2.2.2.1 k0_t26
theorem k0_off1273_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1273 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.2.2.1 k0_t26
theorem k0_off1274_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1274 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.2.2.2.1 k0_t26
theorem k0_off1275_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1275 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.2.2.2.2.2.2.2.2.2.2.2.2.2.2.2.1 k0_t26
theorem k0_off1277_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1277 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.2.2.2.2.2.1 k0_t26
theorem k0_off1278_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1278 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.2.2.2.2.2.2.1 k0_t26
theorem k0_off1279_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1279 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.2.2.2.2.2.2.2.2.2.2.2.2.2.2.2.2.2.2.1 k0_t26
theorem k0_off1281_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1281 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.2.2.2.2.2.2.2.2.1 k0_t26
theorem k0_off1282_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1282 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.2.2.2.2.2.2.2.2.2.1 k0_t26
theorem k0_off1283_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1283 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.2.2.2.2.2.2.2.2.2.2.2.2.2.2.2.2.2.2.2.2.2.1 k0_t26
theorem k0_off1285_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1285 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.2.2.2.2.2.2.2.2.2.2.2.1 k0_t26
theorem k0_off1286_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1286 v9 k0_t20 v62 v68 k0_t26) a + S1x1x1x8x128.size a ≤ S4x2x64x64x128.size a := fun v9 k0_t20 v62 v68 k0_hw32 k0_t26 => k0_hw32.2.2.2.2.2.2.2.2.1.2.2.2.2.2.2.2.2.2.2.2.2.2.2.2.2.2.2.2.2.2.2.2.2.2.2.2.2.2.2.1 k0_t26
theorem k0_off1287_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1287 v9 k0_t20 v62 v68 k0_t26) a + S1x1x1x32x128.size a ≤ S4x2x8x1024x128.size a := fun v9 k0_t20 v62 v68 k0_hw32 k0_t26 => k0_hw32.2.2.2.2.2.2.2.2.1.2.2.2.2.2.2.2.2.2.2.2.2.2.2.2.2.2.2.2.2.2.2.2.2.2.2.2.2.2.2.2 k0_t26
theorem k0_off1289_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1289 v9 k0_t20 v62 v68 k0_t26) a + S1x1x1x8x128.size a ≤ S4x2x64x64x128.size a := fun v9 k0_t20 v62 v68 k0_hw32 k0_t26 => k0_hw32.2.2.2.2.2.2.2.2.2.1.1 k0_t26
theorem k0_off1290_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1290 v9 k0_t20 v62 v68 k0_t26) a + S1x1x1x8x128.size a ≤ S4x2x64x64x128.size a := fun v9 k0_t20 v62 v68 k0_hw32 k0_t26 => k0_hw32.2.2.2.2.2.2.2.2.2.1.2.1 k0_t26
theorem k0_off1291_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1291 v9 k0_t20 v62 v68 k0_t26) a + S1x1x1x32x128.size a ≤ S4x2x8x1024x128.size a := fun v9 k0_t20 v62 v68 k0_hw32 k0_t26 => k0_hw32.2.2.2.2.2.2.2.2.2.1.2.2.1 k0_t26
theorem k0_off1293_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1293 v9 k0_t20 v62 v68 k0_t26) a + S1x1x1x8x128.size a ≤ S4x2x64x64x128.size a := fun v9 k0_t20 v62 v68 k0_hw32 k0_t26 => k0_hw32.2.2.2.2.2.2.2.2.2.1.2.2.2.1 k0_t26
theorem k0_off1294_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1294 v9 k0_t20 v62 v68 k0_t26) a + S1x1x1x8x128.size a ≤ S4x2x64x64x128.size a := fun v9 k0_t20 v62 v68 k0_hw32 k0_t26 => k0_hw32.2.2.2.2.2.2.2.2.2.1.2.2.2.2.1 k0_t26
theorem k0_off1295_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1295 v9 k0_t20 v62 v68 k0_t26) a + S1x1x1x32x128.size a ≤ S4x2x8x1024x128.size a := fun v9 k0_t20 v62 v68 k0_hw32 k0_t26 => k0_hw32.2.2.2.2.2.2.2.2.2.1.2.2.2.2.2.1 k0_t26
theorem k0_off1297_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1297 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.1 k0_t26
theorem k0_off1298_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1298 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.1 k0_t26
theorem k0_off1299_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1299 v9 k0_t20 v62 v68 k0_t26) a + S1x1x1x32x128.size a ≤ S4x2x8x1024x128.size a := fun v9 k0_t20 v62 v68 k0_hw32 k0_t26 => k0_hw32.2.2.2.2.2.2.2.2.2.1.2.2.2.2.2.2.2.2.1 k0_t26
theorem k0_off1301_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1301 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.1 k0_t26
theorem k0_off1302_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1302 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.1 k0_t26
theorem k0_off1303_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1303 v9 k0_t20 v62 v68 k0_t26) a + S1x1x1x32x128.size a ≤ S4x2x8x1024x128.size a := fun v9 k0_t20 v62 v68 k0_hw32 k0_t26 => k0_hw32.2.2.2.2.2.2.2.2.2.1.2.2.2.2.2.2.2.2.2.2.2.1 k0_t26
theorem k0_off1305_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1305 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.1 k0_t26
theorem k0_off1306_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1306 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.1 k0_t26
theorem k0_off1307_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1307 v9 k0_t20 v62 v68 k0_t26) a + S1x1x1x32x128.size a ≤ S4x2x8x1024x128.size a := fun v9 k0_t20 v62 v68 k0_hw32 k0_t26 => k0_hw32.2.2.2.2.2.2.2.2.2.1.2.2.2.2.2.2.2.2.2.2.2.2.2.2.1 k0_t26
theorem k0_off1309_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1309 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.1 k0_t26
theorem k0_off1310_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1310 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.1 k0_t26
theorem k0_off1311_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1311 v9 k0_t20 v62 v68 k0_t26) a + S1x1x1x32x128.size a ≤ S4x2x8x1024x128.size a := fun v9 k0_t20 v62 v68 k0_hw32 k0_t26 => k0_hw32.2.2.2.2.2.2.2.2.2.1.2.2.2.2.2.2.2.2.2.2.2.2.2.2.2.2.2.1 k0_t26
theorem k0_off1313_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1313 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.1 k0_t26
theorem k0_off1314_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1314 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.1 k0_t26
theorem k0_off1315_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1315 v9 k0_t20 v62 v68 k0_t26) a + S1x1x1x32x128.size a ≤ S4x2x8x1024x128.size a := fun v9 k0_t20 v62 v68 k0_hw32 k0_t26 => k0_hw32.2.2.2.2.2.2.2.2.2.1.2.2.2.2.2.2.2.2.2.2.2.2.2.2.2.2.2.2.2.2.1 k0_t26
theorem k0_off1317_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1317 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.2.2.1 k0_t26
theorem k0_off1318_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1318 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.2.2.2.1 k0_t26
theorem k0_off1319_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1319 v9 k0_t20 v62 v68 k0_t26) a + S1x1x1x32x128.size a ≤ S4x2x8x1024x128.size a := fun v9 k0_t20 v62 v68 k0_hw32 k0_t26 => k0_hw32.2.2.2.2.2.2.2.2.2.1.2.2.2.2.2.2.2.2.2.2.2.2.2.2.2.2.2.2.2.2.2.2.2.1 k0_t26
theorem k0_off1321_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1321 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.2.2.2.2.2.1 k0_t26
theorem k0_off1322_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1322 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.2.2.2.2.2.2.1 k0_t26
theorem k0_off1323_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1323 v9 k0_t20 v62 v68 k0_t26) a + S1x1x1x32x128.size a ≤ S4x2x8x1024x128.size a := fun v9 k0_t20 v62 v68 k0_hw32 k0_t26 => k0_hw32.2.2.2.2.2.2.2.2.2.1.2.2.2.2.2.2.2.2.2.2.2.2.2.2.2.2.2.2.2.2.2.2.2.2.2.2.1 k0_t26
theorem k0_off1325_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1325 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.2.2.2.2.2.2.2.2.1 k0_t26
theorem k0_off1326_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1326 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.2.2.2.2.2.2.2.2.2.1 k0_t26
theorem k0_off1327_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1327 v9 k0_t20 v62 v68 k0_t26) a + S1x1x1x32x128.size a ≤ S4x2x8x1024x128.size a := fun v9 k0_t20 v62 v68 k0_hw32 k0_t26 => k0_hw32.2.2.2.2.2.2.2.2.2.1.2.2.2.2.2.2.2.2.2.2.2.2.2.2.2.2.2.2.2.2.2.2.2.2.2.2.2.2.2.1 k0_t26
theorem k0_off1329_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1329 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.2.2.2.2.2.2.2.2.2.2.2.1 k0_t26
theorem k0_off1330_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1330 v9 k0_t20 v62 v68 k0_t26) a + S1x1x1x8x128.size a ≤ S4x2x64x64x128.size a := fun v9 k0_t20 v62 v68 k0_hw32 k0_t26 => k0_hw32.2.2.2.2.2.2.2.2.2.1.2.2.2.2.2.2.2.2.2.2.2.2.2.2.2.2.2.2.2.2.2.2.2.2.2.2.2.2.2.2.2 k0_t26
theorem k0_off1331_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1331 v9 k0_t20 v62 v68 k0_t26) a + S1x1x1x32x128.size a ≤ S4x2x8x1024x128.size a := fun v9 k0_t20 v62 v68 k0_hw32 k0_t26 => k0_hw32.2.2.2.2.2.2.2.2.2.2.1.1 k0_t26
theorem k0_off1333_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1333 v9 k0_t20 v62 v68 k0_t26) a + S1x1x1x8x128.size a ≤ S4x2x64x64x128.size a := fun v9 k0_t20 v62 v68 k0_hw32 k0_t26 => k0_hw32.2.2.2.2.2.2.2.2.2.2.1.2.1 k0_t26
theorem k0_off1334_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1334 v9 k0_t20 v62 v68 k0_t26) a + S1x1x1x8x128.size a ≤ S4x2x64x64x128.size a := fun v9 k0_t20 v62 v68 k0_hw32 k0_t26 => k0_hw32.2.2.2.2.2.2.2.2.2.2.1.2.2.1 k0_t26
theorem k0_off1335_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1335 v9 k0_t20 v62 v68 k0_t26) a + S1x1x1x32x128.size a ≤ S4x2x8x1024x128.size a := fun v9 k0_t20 v62 v68 k0_hw32 k0_t26 => k0_hw32.2.2.2.2.2.2.2.2.2.2.1.2.2.2.1 k0_t26
theorem k0_off1337_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1337 v9 k0_t20 v62 v68 k0_t26) a + S1x1x1x8x128.size a ≤ S4x2x64x64x128.size a := fun v9 k0_t20 v62 v68 k0_hw32 k0_t26 => k0_hw32.2.2.2.2.2.2.2.2.2.2.1.2.2.2.2.1 k0_t26
theorem k0_off1338_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1338 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.1 k0_t26
theorem k0_off1339_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1339 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.1 k0_t26
theorem k0_off1341_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1341 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.1 k0_t26
theorem k0_off1342_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1342 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.1 k0_t26
theorem k0_off1343_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1343 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.2.2.2.1 k0_t26
theorem k0_off1345_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1345 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.1 k0_t26
theorem k0_off1346_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1346 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.1 k0_t26
theorem k0_off1347_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1347 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.2.2.2.2.2.2.1 k0_t26
theorem k0_off1349_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1349 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.1 k0_t26
theorem k0_off1350_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1350 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.1 k0_t26
theorem k0_off1351_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1351 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.2.2.2.2.2.2.2.2.2.1 k0_t26
theorem k0_off1353_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1353 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.1 k0_t26
theorem k0_off1354_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1354 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.1 k0_t26
theorem k0_off1355_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1355 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.2.2.2.2.2.2.2.2.2.2.2.2.1 k0_t26
theorem k0_off1357_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1357 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.1 k0_t26
theorem k0_off1358_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1358 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.2.1 k0_t26
theorem k0_off1359_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1359 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.2.2.2.2.2.2.2.2.2.2.2.2.2.2.2.1 k0_t26
theorem k0_off1361_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1361 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.2.2.2.1 k0_t26
theorem k0_off1362_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1362 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.2.2.2.2.1 k0_t26
theorem k0_off1363_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1363 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.2.2.2.2.2.2.2.2.2.2.2.2.2.2.2.2.2.2.1 k0_t26
theorem k0_off1365_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1365 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.2.2.2.2.2.2.1 k0_t26
theorem k0_off1366_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1366 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.2.2.2.2.2.2.2.1 k0_t26
theorem k0_off1367_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1367 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.2.2.2.2.2.2.2.2.2.2.2.2.2.2.2.2.2.2.2.2.2.1 k0_t26
theorem k0_off1369_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1369 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.2.2.2.2.2.2.2.2.2.1 k0_t26
theorem k0_off1370_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1370 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.2.2.2.2.2.2.2.2.2.2.1 k0_t26
theorem k0_off1371_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1371 v9 k0_t20 v62 v68 k0_t26) a + S1x1x1x32x128.size a ≤ S4x2x8x1024x128.size a := fun v9 k0_t20 v62 v68 k0_hw32 k0_t26 => k0_hw32.2.2.2.2.2.2.2.2.2.2.1.2.2.2.2.2.2.2.2.2.2.2.2.2.2.2.2.2.2.2.2.2.2.2.2.2.2.2.2.2.2.1 k0_t26
theorem k0_off1373_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1373 v9 k0_t20 v62 v68 k0_t26) a + S1x1x1x8x128.size a ≤ S4x2x64x64x128.size a := fun v9 k0_t20 v62 v68 k0_hw32 k0_t26 => k0_hw32.2.2.2.2.2.2.2.2.2.2.1.2.2.2.2.2.2.2.2.2.2.2.2.2.2.2.2.2.2.2.2.2.2.2.2.2.2.2.2.2.2.2 k0_t26
theorem k0_off1374_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1374 v9 k0_t20 v62 v68 k0_t26) a + S1x1x1x8x128.size a ≤ S4x2x64x64x128.size a := fun v9 k0_t20 v62 v68 k0_hw32 k0_t26 => k0_hw32.2.2.2.2.2.2.2.2.2.2.2.1.1 k0_t26
theorem k0_off1375_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1375 v9 k0_t20 v62 v68 k0_t26) a + S1x1x1x32x128.size a ≤ S4x2x8x1024x128.size a := fun v9 k0_t20 v62 v68 k0_hw32 k0_t26 => k0_hw32.2.2.2.2.2.2.2.2.2.2.2.1.2.1 k0_t26
theorem k0_off1377_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1377 v9 k0_t20 v62 v68 k0_t26) a + S1x1x1x8x128.size a ≤ S4x2x64x64x128.size a := fun v9 k0_t20 v62 v68 k0_hw32 k0_t26 => k0_hw32.2.2.2.2.2.2.2.2.2.2.2.1.2.2.1 k0_t26
theorem k0_off1378_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1378 v9 k0_t20 v62 v68 k0_t26) a + S1x1x1x8x128.size a ≤ S4x2x64x64x128.size a := fun v9 k0_t20 v62 v68 k0_hw32 k0_t26 => k0_hw32.2.2.2.2.2.2.2.2.2.2.2.1.2.2.2.1 k0_t26
theorem k0_off1379_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1379 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.1 k0_t26
theorem k0_off1381_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1381 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.1 k0_t26
theorem k0_off1382_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1382 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.1 k0_t26
theorem k0_off1383_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1383 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.1 k0_t26
theorem k0_off1385_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1385 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.1 k0_t26
theorem k0_off1386_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1386 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.1 k0_t26
theorem k0_off1387_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1387 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.2.2.2.1 k0_t26
theorem k0_off1389_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1389 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.1 k0_t26
theorem k0_off1390_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1390 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.1 k0_t26
theorem k0_off1391_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1391 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.2.2.2.2.2.2.1 k0_t26
theorem k0_off1393_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1393 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.1 k0_t26
theorem k0_off1394_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1394 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.1 k0_t26
theorem k0_off1395_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1395 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.2.2.2.2.2.2.2.2.2.1 k0_t26
theorem k0_off1397_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1397 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.1 k0_t26
theorem k0_off1398_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1398 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.1 k0_t26
theorem k0_off1399_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1399 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.2.2.2.2.2.2.2.2.2.2.2.2.1 k0_t26
theorem k0_off1401_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1401 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.2.2.1 k0_t26
theorem k0_off1402_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1402 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.2.2.2.1 k0_t26
theorem k0_off1403_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1403 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.2.2.2.2.2.2.2.2.2.2.2.2.2.2.2.1 k0_t26
theorem k0_off1405_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1405 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.2.2.2.2.2.1 k0_t26
theorem k0_off1406_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1406 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.2.2.2.2.2.2.1 k0_t26
theorem k0_off1407_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1407 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.2.2.2.2.2.2.2.2.2.2.2.2.2.2.2.2.2.2.1 k0_t26
theorem k0_off1409_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1409 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.2.2.2.2.2.2.2.2.1 k0_t26
theorem k0_off1410_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1410 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.2.2.2.2.2.2.2.2.2.1 k0_t26
theorem k0_off1411_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1411 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.2.2.2.2.2.2.2.2.2.2.2.2.2.2.2.2.2.2.2.2.2.1 k0_t26
theorem k0_off1413_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1413 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.2.2.2.2.2.2.2.2.2.2.2.1 k0_t26
theorem k0_off1414_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1414 v9 k0_t20 v62 v68 k0_t26) a + S1x1x1x8x128.size a ≤ S4x2x64x64x128.size a := fun v9 k0_t20 v62 v68 k0_hw32 k0_t26 => k0_hw32.2.2.2.2.2.2.2.2.2.2.2.1.2.2.2.2.2.2.2.2.2.2.2.2.2.2.2.2.2.2.2.2.2.2.2.2.2.2.2.2.2.2.1 k0_t26
theorem k0_off1415_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1415 v9 k0_t20 v62 v68 k0_t26) a + S1x1x1x32x128.size a ≤ S4x2x8x1024x128.size a := fun v9 k0_t20 v62 v68 k0_hw32 k0_t26 => k0_hw32.2.2.2.2.2.2.2.2.2.2.2.1.2.2.2.2.2.2.2.2.2.2.2.2.2.2.2.2.2.2.2.2.2.2.2.2.2.2.2.2.2.2.2 k0_t26
theorem k0_off1417_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1417 v9 k0_t20 v62 v68 k0_t26) a + S1x1x1x8x128.size a ≤ S4x2x64x64x128.size a := fun v9 k0_t20 v62 v68 k0_hw32 k0_t26 => k0_hw32.2.2.2.2.2.2.2.2.2.2.2.2.1.1 k0_t26
theorem k0_off1418_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1418 v9 k0_t20 v62 v68 k0_t26) a + S1x1x1x8x128.size a ≤ S4x2x64x64x128.size a := fun v9 k0_t20 v62 v68 k0_hw32 k0_t26 => k0_hw32.2.2.2.2.2.2.2.2.2.2.2.2.1.2.1 k0_t26
theorem k0_off1419_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1419 v9 k0_t20 v62 v68 k0_t26) a + S1x1x1x32x128.size a ≤ S4x2x8x1024x128.size a := fun v9 k0_t20 v62 v68 k0_hw32 k0_t26 => k0_hw32.2.2.2.2.2.2.2.2.2.2.2.2.1.2.2.1 k0_t26
theorem k0_off1421_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1421 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.1 k0_t26
theorem k0_off1422_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1422 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.1 k0_t26
theorem k0_off1423_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1423 v9 k0_t20 v62 v68 k0_t26) a + S1x1x1x32x128.size a ≤ S4x2x8x1024x128.size a := fun v9 k0_t20 v62 v68 k0_hw32 k0_t26 => k0_hw32.2.2.2.2.2.2.2.2.2.2.2.2.1.2.2.2.2.2.1 k0_t26
theorem k0_off1425_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1425 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.1 k0_t26
theorem k0_off1426_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1426 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.1 k0_t26
theorem k0_off1427_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1427 v9 k0_t20 v62 v68 k0_t26) a + S1x1x1x32x128.size a ≤ S4x2x8x1024x128.size a := fun v9 k0_t20 v62 v68 k0_hw32 k0_t26 => k0_hw32.2.2.2.2.2.2.2.2.2.2.2.2.1.2.2.2.2.2.2.2.2.1 k0_t26
theorem k0_off1429_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1429 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.2.2.1 k0_t26
theorem k0_off1430_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1430 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.2.2.2.1 k0_t26
theorem k0_off1431_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1431 v9 k0_t20 v62 v68 k0_t26) a + S1x1x1x32x128.size a ≤ S4x2x8x1024x128.size a := fun v9 k0_t20 v62 v68 k0_hw32 k0_t26 => k0_hw32.2.2.2.2.2.2.2.2.2.2.2.2.1.2.2.2.2.2.2.2.2.2.2.2.1 k0_t26
theorem k0_off1433_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1433 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.2.2.2.2.2.1 k0_t26
theorem k0_off1434_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1434 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.2.2.2.2.2.2.1 k0_t26
theorem k0_off1435_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1435 v9 k0_t20 v62 v68 k0_t26) a + S1x1x1x32x128.size a ≤ S4x2x8x1024x128.size a := fun v9 k0_t20 v62 v68 k0_hw32 k0_t26 => k0_hw32.2.2.2.2.2.2.2.2.2.2.2.2.1.2.2.2.2.2.2.2.2.2.2.2.2.2.2.1 k0_t26
theorem k0_off1437_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1437 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.2.2.2.2.2.2.2.2.1 k0_t26
theorem k0_off1438_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1438 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.2.2.2.2.2.2.2.2.2.1 k0_t26
theorem k0_off1439_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1439 v9 k0_t20 v62 v68 k0_t26) a + S1x1x1x32x128.size a ≤ S4x2x8x1024x128.size a := fun v9 k0_t20 v62 v68 k0_hw32 k0_t26 => k0_hw32.2.2.2.2.2.2.2.2.2.2.2.2.1.2.2.2.2.2.2.2.2.2.2.2.2.2.2.2.2.2.1 k0_t26
theorem k0_off1441_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1441 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.2.2.2.2.2.2.2.2.2.2.2.1 k0_t26
theorem k0_off1442_inb : ∀ (v9 : BitVec 32) (k0_t20 : Fin (k0_t20_loop v9).trips) (v62 : BitVec 32) (v68 : BitVec 32) (k0_hw32 : k0_chk32 v9 k0_t20 v62 v68) (k0_t26 : Fin (k0_t26_loop v62 v68).trips), ∀ a, (k0_off1442 v9 k0_t20 v62 v68 k0_t26) a + S1x1x1x8x128.size a ≤ S4x2x64x64x128.size a := fun v9 k0_t20 v62 v68 k0_hw32 k0_t26 => k0_hw32.2.2.2.2.2.2.2.2.2.2.2.2.1.2.2.2.2.2.2.2.2.2.2.2.2.2.2.2.2.2.2.2.1 k0_t26
theorem k0_t27_ok : ∀ (v9 : BitVec 32) (k0_t20 : Fin (k0_t20_loop v9).trips) (v62 : BitVec 32) (v68 : BitVec 32) (k0_hw32 : k0_chk32 v9 k0_t20 v62 v68), (k0_t27_loop v62 v68).OK := fun v9 k0_t20 v62 v68 k0_hw32 => k0_hw32.2.2.2.2.2.2.2.2.2.2.2.2.1.2.2.2.2.2.2.2.2.2.2.2.2.2.2.2.2.2.2.2.2.1
theorem k0_mult33_dvd : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), 8 ∣ (k0_mult33 v62 v68 k0_t27).toNat := fun v9 k0_t20 v62 v68 k0_hw32 k0_t27 => k0_hw32.2.2.2.2.2.2.2.2.2.2.2.2.1.2.2.2.2.2.2.2.2.2.2.2.2.2.2.2.2.2.2.2.2.2.1 k0_t27
theorem k0_off1443_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1443 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.1 k0_t27
theorem k0_off1444_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1444 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.1 k0_t27
theorem k0_off1445_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1445 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.2.1 k0_t27
theorem k0_off1446_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1446 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.2.2.1 k0_t27
theorem k0_off1447_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1447 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.2.2.2.1 k0_t27
theorem k0_off1448_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1448 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.2.2.2.2.1 k0_t27
theorem k0_off1449_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1449 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.2.2.2.2.2.1 k0_t27
theorem k0_off1450_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1450 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.2.2.2.2.2.2.1 k0_t27
theorem k0_off1451_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1451 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.2.2.2.2.2.2.2.1 k0_t27
theorem k0_off1452_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1452 v9 k0_t20 v62 v68 k0_t27) a + S1x1x1x8x128.size a ≤ S4x2x64x64x128.size a := fun v9 k0_t20 v62 v68 k0_hw32 k0_t27 => k0_hw32.2.2.2.2.2.2.2.2.2.2.2.2.1.2.2.2.2.2.2.2.2.2.2.2.2.2.2.2.2.2.2.2.2.2.2.2.2.2.2.2.2.2.2.2 k0_t27
theorem k0_off1453_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1453 v9 k0_t20 v62 v68 k0_t27) a + S1x1x1x8x128.size a ≤ S4x2x64x64x128.size a := fun v9 k0_t20 v62 v68 k0_hw32 k0_t27 => k0_hw32.2.2.2.2.2.2.2.2.2.2.2.2.2.1.1 k0_t27
theorem k0_off1454_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1454 v9 k0_t20 v62 v68 k0_t27) a + S1x1x1x8x128.size a ≤ S4x2x64x64x128.size a := fun v9 k0_t20 v62 v68 k0_hw32 k0_t27 => k0_hw32.2.2.2.2.2.2.2.2.2.2.2.2.2.1.2.1 k0_t27
theorem k0_off1455_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1455 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.1 k0_t27
theorem k0_off1456_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1456 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.1 k0_t27
theorem k0_off1457_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1457 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.1 k0_t27
theorem k0_off1458_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1458 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.1 k0_t27
theorem k0_off1459_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1459 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.1 k0_t27
theorem k0_off1460_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1460 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.1 k0_t27
theorem k0_off1461_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1461 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.1 k0_t27
theorem k0_off1462_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1462 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.1 k0_t27
theorem k0_off1463_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1463 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.1 k0_t27
theorem k0_off1464_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1464 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.1 k0_t27
theorem k0_off1465_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1465 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.1 k0_t27
theorem k0_off1466_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1466 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.1 k0_t27
theorem k0_off1467_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1467 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.1 k0_t27
theorem k0_off1468_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1468 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.1 k0_t27
theorem k0_off1469_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1469 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.1 k0_t27
theorem k0_off1470_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1470 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.1 k0_t27
theorem k0_off1471_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1471 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.1 k0_t27
theorem k0_off1472_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1472 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.1 k0_t27
theorem k0_off1473_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1473 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.1 k0_t27
theorem k0_off1474_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1474 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.1 k0_t27
theorem k0_off1475_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1475 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.1 k0_t27
theorem k0_off1476_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1476 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.1 k0_t27
theorem k0_off1477_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1477 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.2.1 k0_t27
theorem k0_off1478_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1478 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.2.2.1 k0_t27
theorem k0_off1479_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1479 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.2.2.2.1 k0_t27
theorem k0_off1480_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1480 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.2.2.2.2.1 k0_t27
theorem k0_off1481_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1481 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.2.2.2.2.2.1 k0_t27
theorem k0_off1482_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1482 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.2.2.2.2.2.2.1 k0_t27
theorem k0_off1483_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1483 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.2.2.2.2.2.2.2.1 k0_t27
theorem k0_off1484_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1484 v9 k0_t20 v62 v68 k0_t27) a + S1x1x1x8x128.size a ≤ S4x2x64x64x128.size a := fun v9 k0_t20 v62 v68 k0_hw32 k0_t27 => k0_hw32.2.2.2.2.2.2.2.2.2.2.2.2.2.1.2.2.2.2.2.2.2.2.2.2.2.2.2.2.2.2.2.2.2.2.2.2.2.2.2.2.2.2.2.2.2 k0_t27
theorem k0_off1485_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1485 v9 k0_t20 v62 v68 k0_t27) a + S1x1x1x8x128.size a ≤ S4x2x64x64x128.size a := fun v9 k0_t20 v62 v68 k0_hw32 k0_t27 => k0_hw32.2.2.2.2.2.2.2.2.2.2.2.2.2.2.1.1 k0_t27
theorem k0_off1486_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1486 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.1 k0_t27
theorem k0_off1487_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1487 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.1 k0_t27
theorem k0_off1488_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1488 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.1 k0_t27
theorem k0_off1489_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1489 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.1 k0_t27
theorem k0_off1490_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1490 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.1 k0_t27
theorem k0_off1491_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1491 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.1 k0_t27
theorem k0_off1492_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1492 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.1 k0_t27
theorem k0_off1493_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1493 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.1 k0_t27
theorem k0_off1494_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1494 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.1 k0_t27
theorem k0_off1495_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1495 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.1 k0_t27
theorem k0_off1496_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1496 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.1 k0_t27
theorem k0_off1497_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1497 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.1 k0_t27
theorem k0_off1498_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1498 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.1 k0_t27
theorem k0_off1499_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1499 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.1 k0_t27
theorem k0_off1500_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1500 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.1 k0_t27
theorem k0_off1501_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1501 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.1 k0_t27
theorem k0_off1502_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1502 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.1 k0_t27
theorem k0_off1503_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1503 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.1 k0_t27
theorem k0_off1504_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1504 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.1 k0_t27
theorem k0_off1505_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1505 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.1 k0_t27
theorem k0_off1506_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1506 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.1 k0_t27
theorem k0_off1507_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1507 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.1 k0_t27
theorem k0_off1508_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1508 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.1 k0_t27
theorem k0_off1509_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1509 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.2.1 k0_t27
theorem k0_off1510_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1510 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.2.2.1 k0_t27
theorem k0_off1511_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1511 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.2.2.2.1 k0_t27
theorem k0_off1512_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1512 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.2.2.2.2.1 k0_t27
theorem k0_off1513_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1513 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.2.2.2.2.2.1 k0_t27
theorem k0_off1514_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1514 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.2.2.2.2.2.2.1 k0_t27
theorem k0_off1515_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1515 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.2.2.2.2.2.2.2.1 k0_t27
theorem k0_off1516_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1516 v9 k0_t20 v62 v68 k0_t27) a + S1x1x1x8x128.size a ≤ S4x2x64x64x128.size a := fun v9 k0_t20 v62 v68 k0_hw32 k0_t27 => k0_hw32.2.2.2.2.2.2.2.2.2.2.2.2.2.2.1.2.2.2.2.2.2.2.2.2.2.2.2.2.2.2.2.2.2.2.2.2.2.2.2.2.2.2.2.2.2.2 k0_t27
theorem k0_off1517_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1517 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.1 k0_t27
theorem k0_off1518_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1518 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.1 k0_t27
theorem k0_off1519_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1519 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.1 k0_t27
theorem k0_off1520_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1520 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.1 k0_t27
theorem k0_off1521_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1521 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.1 k0_t27
theorem k0_off1522_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1522 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.1 k0_t27
theorem k0_off1523_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1523 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.1 k0_t27
theorem k0_off1524_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1524 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.1 k0_t27
theorem k0_off1525_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1525 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.1 k0_t27
theorem k0_off1526_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1526 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.1 k0_t27
theorem k0_off1527_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1527 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.1 k0_t27
theorem k0_off1528_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1528 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.1 k0_t27
theorem k0_off1529_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1529 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.1 k0_t27
theorem k0_off1530_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1530 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.1 k0_t27
theorem k0_off1531_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1531 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.1 k0_t27
theorem k0_off1532_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1532 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.1 k0_t27
theorem k0_off1533_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1533 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.1 k0_t27
theorem k0_off1534_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1534 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.1 k0_t27
theorem k0_off1535_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1535 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.1 k0_t27
theorem k0_off1536_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1536 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.1 k0_t27
theorem k0_off1537_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1537 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.1 k0_t27
theorem k0_off1538_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1538 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.1 k0_t27
theorem k0_off1539_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1539 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.1 k0_t27
theorem k0_off1540_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1540 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.1 k0_t27
theorem k0_off1541_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1541 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.2.1 k0_t27
theorem k0_off1542_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1542 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.2.2.1 k0_t27
theorem k0_off1543_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1543 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.2.2.2.1 k0_t27
theorem k0_off1544_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1544 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.2.2.2.2.1 k0_t27
theorem k0_off1545_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1545 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.2.2.2.2.2.1 k0_t27
theorem k0_off1546_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1546 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.2.2.2.2.2.2.1 k0_t27
theorem k0_off1547_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1547 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.2.2.2.2.2.2.2.1 k0_t27
theorem k0_off1548_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1548 v9 k0_t20 v62 v68 k0_t27) a + S1x1x1x8x128.size a ≤ S4x2x64x64x128.size a := fun v9 k0_t20 v62 v68 k0_hw32 k0_t27 => k0_hw32.2.2.2.2.2.2.2.2.2.2.2.2.2.2.2.1.2.2.2.2.2.2.2.2.2.2.2.2.2.2.2.2.2.2.2.2.2.2.2.2.2.2.2.2.2.2.2 k0_t27
theorem k0_off1549_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1549 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.1 k0_t27
theorem k0_off1550_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1550 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.1 k0_t27
theorem k0_off1551_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1551 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.1 k0_t27
theorem k0_off1552_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1552 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.1 k0_t27
theorem k0_off1553_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1553 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.1 k0_t27
theorem k0_off1554_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1554 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.1 k0_t27
theorem k0_off1555_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1555 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.1 k0_t27
theorem k0_off1556_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1556 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.1 k0_t27
theorem k0_off1557_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1557 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.1 k0_t27
theorem k0_off1558_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1558 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.1 k0_t27
theorem k0_off1559_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1559 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.1 k0_t27
theorem k0_off1560_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1560 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.1 k0_t27
theorem k0_off1561_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1561 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.1 k0_t27
theorem k0_off1562_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1562 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.1 k0_t27
theorem k0_off1563_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1563 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.2.1 k0_t27
theorem k0_off1564_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1564 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.2.2.1 k0_t27
theorem k0_off1565_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1565 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.2.2.2.1 k0_t27
theorem k0_off1566_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1566 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.2.2.2.2.1 k0_t27
theorem k0_off1567_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1567 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.2.2.2.2.2.1 k0_t27
theorem k0_off1568_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1568 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.2.2.2.2.2.2.1 k0_t27
theorem k0_off1569_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1569 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.2.2.2.2.2.2.2.1 k0_t27
theorem k0_off1570_inb : ∀ (v9 : BitVec 32) (k0_t20 : Fin (k0_t20_loop v9).trips) (v62 : BitVec 32) (v68 : BitVec 32) (k0_hw32 : k0_chk32 v9 k0_t20 v62 v68) (k0_t27 : Fin (k0_t27_loop v62 v68).trips), ∀ a, (k0_off1570 v9 k0_t20 v62 v68 k0_t27) a + S1x1x1x8x128.size a ≤ S4x2x64x64x128.size a := fun v9 k0_t20 v62 v68 k0_hw32 k0_t27 => k0_hw32.2.2.2.2.2.2.2.2.2.2.2.2.2.2.2.2.1.2.2.2.2.2.2.2.2.2.2.2.2.2.2.2.2.2.2.2.2.2.1 k0_t27
theorem k0_t28_ok : ∀ (v9 : BitVec 32) (k0_t20 : Fin (k0_t20_loop v9).trips) (v62 : BitVec 32) (v68 : BitVec 32) (k0_hw32 : k0_chk32 v9 k0_t20 v62 v68), (k0_t28_loop v62 v68).OK := fun v9 k0_t20 v62 v68 k0_hw32 => k0_hw32.2.2.2.2.2.2.2.2.2.2.2.2.2.2.2.2.1.2.2.2.2.2.2.2.2.2.2.2.2.2.2.2.2.2.2.2.2.2.2.1
theorem k0_mult34_dvd : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), 8 ∣ (k0_mult34 v62 v68 k0_t28).toNat := fun v9 k0_t20 v62 v68 k0_hw32 k0_t28 => k0_hw32.2.2.2.2.2.2.2.2.2.2.2.2.2.2.2.2.1.2.2.2.2.2.2.2.2.2.2.2.2.2.2.2.2.2.2.2.2.2.2.2.1 k0_t28
theorem k0_off1571_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1571 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.1.2.2.2.2.2.2.2.2.2.2.2.2.2.2.2.2.2.2.2.2.2.2.2.2.1 k0_t28
theorem k0_off1572_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1572 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.1.2.2.2.2.2.2.2.2.2.2.2.2.2.2.2.2.2.2.2.2.2.2.2.2.2.1 k0_t28
theorem k0_off1573_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1573 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.1.2.2.2.2.2.2.2.2.2.2.2.2.2.2.2.2.2.2.2.2.2.2.2.2.2.2.1 k0_t28
theorem k0_off1574_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1574 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.1.2.2.2.2.2.2.2.2.2.2.2.2.2.2.2.2.2.2.2.2.2.2.2.2.2.2.2.1 k0_t28
theorem k0_off1575_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1575 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.1.2.2.2.2.2.2.2.2.2.2.2.2.2.2.2.2.2.2.2.2.2.2.2.2.2.2.2.2.1 k0_t28
theorem k0_off1576_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1576 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.1.2.2.2.2.2.2.2.2.2.2.2.2.2.2.2.2.2.2.2.2.2.2.2.2.2.2.2.2.2.1 k0_t28
theorem k0_off1577_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1577 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.1.2.2.2.2.2.2.2.2.2.2.2.2.2.2.2.2.2.2.2.2.2.2.2.2.2.2.2.2.2.2.1 k0_t28
theorem k0_off1578_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1578 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.1.2.2.2.2.2.2.2.2.2.2.2.2.2.2.2.2.2.2.2.2.2.2.2.2.2.2.2.2.2.2.2 k0_t28
theorem k0_off1579_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1579 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.1 k0_t28
theorem k0_off1580_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1580 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.1 k0_t28
theorem k0_off1581_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1581 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.1 k0_t28
theorem k0_off1582_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1582 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.1 k0_t28
theorem k0_off1583_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1583 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.1 k0_t28
theorem k0_off1584_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1584 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.1 k0_t28
theorem k0_off1585_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1585 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.1 k0_t28
theorem k0_off1586_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1586 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.1 k0_t28
theorem k0_off1587_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1587 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.1 k0_t28
theorem k0_off1588_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1588 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.1 k0_t28
theorem k0_off1589_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1589 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.1 k0_t28
theorem k0_off1590_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1590 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.1 k0_t28
theorem k0_off1591_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1591 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.1 k0_t28
theorem k0_off1592_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1592 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.1 k0_t28
theorem k0_off1593_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1593 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.1 k0_t28
theorem k0_off1594_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1594 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.1 k0_t28
theorem k0_off1595_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1595 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.1 k0_t28
theorem k0_off1596_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1596 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.1 k0_t28
theorem k0_off1597_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1597 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.1 k0_t28
theorem k0_off1598_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1598 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.1 k0_t28
theorem k0_off1599_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1599 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.1 k0_t28
theorem k0_off1600_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1600 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.1 k0_t28
theorem k0_off1601_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1601 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.1 k0_t28
theorem k0_off1602_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1602 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.1 k0_t28
theorem k0_off1603_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1603 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.2.1 k0_t28
theorem k0_off1604_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1604 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.2.2.1 k0_t28
theorem k0_off1605_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1605 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.2.2.2.1 k0_t28
theorem k0_off1606_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1606 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.2.2.2.2.1 k0_t28
theorem k0_off1607_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1607 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.2.2.2.2.2.1 k0_t28
theorem k0_off1608_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1608 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.2.2.2.2.2.2.1 k0_t28
theorem k0_off1609_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1609 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.2.2.2.2.2.2.2.1 k0_t28
theorem k0_off1610_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1610 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.1.2.2.2.2.2.2.2.2.2.2.2.2.2.2.2.2.2.2.2.2.2.2.2.2.2.2.2.2.2.2.2 k0_t28
theorem k0_off1611_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1611 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.1 k0_t28
theorem k0_off1612_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1612 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.1 k0_t28
theorem k0_off1613_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1613 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.1 k0_t28
theorem k0_off1614_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1614 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.1 k0_t28
theorem k0_off1615_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1615 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.1 k0_t28
theorem k0_off1616_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1616 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.1 k0_t28
theorem k0_off1617_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1617 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.1 k0_t28
theorem k0_off1618_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1618 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.1 k0_t28
theorem k0_off1619_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1619 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.1 k0_t28
theorem k0_off1620_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1620 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.1 k0_t28
theorem k0_off1621_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1621 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.1 k0_t28
theorem k0_off1622_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1622 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.1 k0_t28
theorem k0_off1623_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1623 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.1 k0_t28
theorem k0_off1624_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1624 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.1 k0_t28
theorem k0_off1625_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1625 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.1 k0_t28
theorem k0_off1626_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1626 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.1 k0_t28
theorem k0_off1627_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1627 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.1 k0_t28
theorem k0_off1628_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1628 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.1 k0_t28
theorem k0_off1629_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1629 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.1 k0_t28
theorem k0_off1630_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1630 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.1 k0_t28
theorem k0_off1631_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1631 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.1 k0_t28
theorem k0_off1632_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1632 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.1 k0_t28
theorem k0_off1633_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1633 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.1 k0_t28
theorem k0_off1634_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1634 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.1 k0_t28
theorem k0_off1635_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1635 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.2.1 k0_t28
theorem k0_off1636_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1636 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.2.2.1 k0_t28
theorem k0_off1637_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1637 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.2.2.2.1 k0_t28
theorem k0_off1638_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1638 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.2.2.2.2.1 k0_t28
theorem k0_off1639_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1639 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.2.2.2.2.2.1 k0_t28
theorem k0_off1640_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1640 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.2.2.2.2.2.2.1 k0_t28
theorem k0_off1641_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1641 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.2.2.2.2.2.2.2.1 k0_t28
theorem k0_off1642_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1642 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.1.2.2.2.2.2.2.2.2.2.2.2.2.2.2.2.2.2.2.2.2.2.2.2.2.2.2.2.2.2.2.2 k0_t28
theorem k0_off1643_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1643 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.1 k0_t28
theorem k0_off1644_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1644 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.1 k0_t28
theorem k0_off1645_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1645 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.1 k0_t28
theorem k0_off1646_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1646 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.1 k0_t28
theorem k0_off1647_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1647 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.1 k0_t28
theorem k0_off1648_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1648 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.1 k0_t28
theorem k0_off1649_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1649 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.1 k0_t28
theorem k0_off1650_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1650 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.1 k0_t28
theorem k0_off1651_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1651 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.1 k0_t28
theorem k0_off1652_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1652 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.1 k0_t28
theorem k0_off1653_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1653 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.1 k0_t28
theorem k0_off1654_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1654 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.1 k0_t28
theorem k0_off1655_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1655 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.1 k0_t28
theorem k0_off1656_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1656 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.1 k0_t28
theorem k0_off1657_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1657 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.1 k0_t28
theorem k0_off1658_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1658 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.1 k0_t28
theorem k0_off1659_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1659 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.1 k0_t28
theorem k0_off1660_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1660 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.1 k0_t28
theorem k0_off1661_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1661 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.1 k0_t28
theorem k0_off1662_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1662 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.1 k0_t28
theorem k0_off1663_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1663 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.1 k0_t28
theorem k0_off1664_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1664 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.1 k0_t28
theorem k0_off1665_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1665 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.1 k0_t28
theorem k0_off1666_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1666 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.1 k0_t28
theorem k0_off1667_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1667 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.2.1 k0_t28
theorem k0_off1668_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1668 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.2.2.1 k0_t28
theorem k0_off1669_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1669 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.2.2.2.1 k0_t28
theorem k0_off1670_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1670 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.2.2.2.2.1 k0_t28
theorem k0_off1671_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1671 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.2.2.2.2.2.1 k0_t28
theorem k0_off1672_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1672 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.2.2.2.2.2.2.1 k0_t28
theorem k0_off1673_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1673 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.2.2.2.2.2.2.2.1 k0_t28
theorem k0_off1674_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1674 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.1.2.2.2.2.2.2.2.2.2.2.2.2.2.2.2.2.2.2.2.2.2.2.2.2.2.2.2.2.2.2.2 k0_t28
theorem k0_off1675_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1675 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.1 k0_t28
theorem k0_off1676_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1676 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.1 k0_t28
theorem k0_off1677_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1677 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.1 k0_t28
theorem k0_off1678_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1678 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.1 k0_t28
theorem k0_off1679_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1679 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.1 k0_t28
theorem k0_off1680_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1680 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.1 k0_t28
theorem k0_off1681_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1681 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.1 k0_t28
theorem k0_off1682_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1682 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.1 k0_t28
theorem k0_off1683_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1683 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.1 k0_t28
theorem k0_off1684_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1684 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.1 k0_t28
theorem k0_off1685_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1685 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.1 k0_t28
theorem k0_off1686_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1686 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.1 k0_t28
theorem k0_off1687_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1687 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.1 k0_t28
theorem k0_off1688_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1688 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.1 k0_t28
theorem k0_off1689_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1689 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.1 k0_t28
theorem k0_off1690_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1690 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.1 k0_t28
theorem k0_off1691_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1691 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.2.1 k0_t28
theorem k0_off1692_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1692 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.2.2.1 k0_t28
theorem k0_off1693_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1693 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.2.2.2.1 k0_t28
theorem k0_off1694_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1694 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.2.2.2.2.1 k0_t28
theorem k0_off1695_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1695 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.2.2.2.2.2.1 k0_t28
theorem k0_off1696_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1696 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.2.2.2.2.2.2.1 k0_t28
theorem k0_off1697_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1697 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.2.2.2.2.2.2.2.1 k0_t28
theorem k0_off1698_inb : ∀ (v9 : BitVec 32) (k0_t20 : Fin (k0_t20_loop v9).trips) (v62 : BitVec 32) (v68 : BitVec 32) (k0_hw32 : k0_chk32 v9 k0_t20 v62 v68) (k0_t28 : Fin (k0_t28_loop v62 v68).trips), ∀ a, (k0_off1698 v9 k0_t20 v62 v68 k0_t28) a + S1x1x1x8x128.size a ≤ S4x2x64x64x128.size a := fun v9 k0_t20 v62 v68 k0_hw32 k0_t28 => k0_hw32.2.2.2.2.2.2.2.2.2.2.2.2.2.2.2.2.2.2.2.2.2.2.2.2.2.2.2.2.2.2.2.2.2.2.2.2.2.2.2.2.2.2.2 k0_t28

def k0_off1699 (v9 : BitVec 32) (k0_t20 : Fin (k0_t20_loop v9).trips) : Fin 1 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  ![v66.toNat]
def k0_off1700 (v62 : BitVec 32) : Fin 4 → Nat :=
  let c32_i32 : BitVec 32 := 32#32
  let v63 : BitVec 32 := Scalar.divsi v62 c32_i32
  let c0_i32_87 : BitVec 32 := 0#32
  let c32_i32_58 : BitVec 32 := 32#32
  let v64 : BitVec 32 := Scalar.remsi v62 c32_i32_58
  let c64_i32_85 : BitVec 32 := 64#32
  let v108 : BitVec 32 := Scalar.muli v64 c64_i32_85
  let c0_i32_88 : BitVec 32 := 0#32
  ![v63.toNat, 0, Nat.mul 2 v108.toNat, 0]
def k0_off1701 (v9 : BitVec 32) (k0_t20 : Fin (k0_t20_loop v9).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let c0_i32_86 : BitVec 32 := 0#32
  let c0_i32_89 : BitVec 32 := 0#32
  let c0_i32_90 : BitVec 32 := 0#32
  let c0_i32_91 : BitVec 32 := 0#32
  ![v66.toNat, 0, 0, 0, 0]

def k0_chk25 (v9 : BitVec 32) (k0_t20 : Fin (k0_t20_loop v9).trips) (v62 : BitVec 32) : Prop :=
  (∀ a, (k0_off900 v62) a + S1.size a ≤ S5.size a) ∧
  (∀ (k0_h9 : k0_cond9 v9 k0_t20 = 1#1), ∀ a, (k0_off924 v62) a + S1x64x128x128.size a ≤ S5x64x4096x128.size a) ∧
  (∀ (k0_h9 : k0_cond9 v9 k0_t20 = 1#1), ∀ (hinb : ∀ a, (k0_off924 v62) a + S1x64x128x128.size a ≤ S5x64x4096x128.size a), (Rect.unit (s := S5x64x4096x128) (k0_off924 v62) S1x64x128x128.size hinb).WholeWords (EltTy.packing .bf16)) ∧
  (∀ a, (k0_off1700 v62) a + S1x64x128x128.size a ≤ S5x64x4096x128.size a) ∧
  (∀ (hinb : ∀ a, (k0_off1700 v62) a + S1x64x128x128.size a ≤ S5x64x4096x128.size a), (Rect.unit (s := S5x64x4096x128) (k0_off1700 v62) S1x64x128x128.size hinb).WholeWords (EltTy.packing .bf16))
theorem k0_off900_inb : ∀ (v9 : BitVec 32) (k0_t20 : Fin (k0_t20_loop v9).trips) (v62 : BitVec 32) (k0_hw25 : k0_chk25 v9 k0_t20 v62), ∀ a, (k0_off900 v62) a + S1.size a ≤ S5.size a := fun v9 k0_t20 v62 k0_hw25 => k0_hw25.1
theorem k0_off924_inb : ∀ (v9 : BitVec 32) (k0_t20 : Fin (k0_t20_loop v9).trips) (v62 : BitVec 32) (k0_hw25 : k0_chk25 v9 k0_t20 v62), ∀ (k0_h9 : k0_cond9 v9 k0_t20 = 1#1), ∀ a, (k0_off924 v62) a + S1x64x128x128.size a ≤ S5x64x4096x128.size a := fun v9 k0_t20 v62 k0_hw25 k0_h9 => k0_hw25.2.1 k0_h9
theorem k0_off924_wordsbf16 : ∀ (v9 : BitVec 32) (k0_t20 : Fin (k0_t20_loop v9).trips) (v62 : BitVec 32) (k0_hw25 : k0_chk25 v9 k0_t20 v62), ∀ (k0_h9 : k0_cond9 v9 k0_t20 = 1#1), (Rect.unit (s := S5x64x4096x128) (k0_off924 v62) S1x64x128x128.size (k0_off924_inb v9 k0_t20 v62 k0_hw25 k0_h9)).WholeWords (EltTy.packing .bf16) := fun v9 k0_t20 v62 k0_hw25 k0_h9 => k0_hw25.2.2.1 k0_h9 (k0_off924_inb v9 k0_t20 v62 k0_hw25 k0_h9)
theorem k0_off1700_inb : ∀ (v9 : BitVec 32) (k0_t20 : Fin (k0_t20_loop v9).trips) (v62 : BitVec 32) (k0_hw25 : k0_chk25 v9 k0_t20 v62), ∀ a, (k0_off1700 v62) a + S1x64x128x128.size a ≤ S5x64x4096x128.size a := fun v9 k0_t20 v62 k0_hw25 => k0_hw25.2.2.2.1
theorem k0_off1700_wordsbf16 : ∀ (v9 : BitVec 32) (k0_t20 : Fin (k0_t20_loop v9).trips) (v62 : BitVec 32) (k0_hw25 : k0_chk25 v9 k0_t20 v62), (Rect.unit (s := S5x64x4096x128) (k0_off1700 v62) S1x64x128x128.size (k0_off1700_inb v9 k0_t20 v62 k0_hw25)).WholeWords (EltTy.packing .bf16) := fun v9 k0_t20 v62 k0_hw25 => k0_hw25.2.2.2.2 (k0_off1700_inb v9 k0_t20 v62 k0_hw25)

def k0_off1702 (v9 : BitVec 32) (k0_t20 : Fin (k0_t20_loop v9).trips) : Fin 5 → Nat :=
  let c0_i32_39 : BitVec 32 := 0#32
  let v31 : BitVec 32 := Scalar.subi v9 c0_i32_39
  let c1_i32_41 : BitVec 32 := 1#32
  let v33 : BitVec 32 := Scalar.divsi v31 c1_i32_41
  let v34 : BitVec 32 := Scalar.muli v33 c1_i32_41
  let v35 : BitVec 32 := Scalar.addi c0_i32_39 v34
  let c1_i32_43 : BitVec 32 := 1#32
  let arg18 : BitVec 32 := Scf.iv v35 c1_i32_43 k0_t20
  let c4_i32_60 : BitVec 32 := 4#32
  let v66 : BitVec 32 := Scalar.remsi arg18 c4_i32_60
  let c1_i32_93 : BitVec 32 := 1#32
  let c0_i32_96 : BitVec 32 := 0#32
  let c0_i32_97 : BitVec 32 := 0#32
  let c0_i32_98 : BitVec 32 := 0#32
  ![v66.toNat, 1, 0, 0, 0]
@[reducible] def k0_t29_loop (v9 : BitVec 32) (v37 : BitVec 32) : Scf.Loop 32 :=
  let c160_i32_12 : BitVec 32 := 160#32
  let v10 : BitVec 32 := Scalar.subi c160_i32_12 v9
  let v38 : BitVec 32 := Scalar.subi v10 v37
  let c1_i32_45 : BitVec 32 := 1#32
  let v40 : BitVec 32 := Scalar.divsi v38 c1_i32_45
  let v41 : BitVec 32 := Scalar.muli v40 c1_i32_45
  let v42 : BitVec 32 := Scalar.addi v37 v41
  let c1_i32_46 : BitVec 32 := 1#32
  ⟨v37, v42, c1_i32_46⟩

def k0_off1703 (v9 : BitVec 32) (v37 : BitVec 32) (k0_t29 : Fin (k0_t29_loop v9 v37).trips) : Fin 1 → Nat :=
  let c159_i32 : BitVec 32 := 159#32
  let c1_i32_46 : BitVec 32 := 1#32
  let arg18 : BitVec 32 := Scf.iv v37 c1_i32_46 k0_t29
  let v61 : BitVec 32 := Scalar.subi c159_i32 arg18
  let v62 : Index := Scalar.indexCast v61
  ![v62.toNat]
def k0_off1704 (v63 : BitVec 32) : Fin 4 → Nat :=
  let c32_i32 : BitVec 32 := 32#32
  let v64 : BitVec 32 := Scalar.divsi v63 c32_i32
  let c0_i32_59 : BitVec 32 := 0#32
  let c32_i32_58 : BitVec 32 := 32#32
  let v65 : BitVec 32 := Scalar.remsi v63 c32_i32_58
  let c128_i32 : BitVec 32 := 128#32
  let v66 : BitVec 32 := Scalar.muli v65 c128_i32
  let c0_i32_60 : BitVec 32 := 0#32
  ![v64.toNat, 0, v66.toNat, 0]

def k0_chk36 (v63 : BitVec 32) : Prop :=
  (∀ a, (k0_off1704 v63) a + S1x64x128x128.size a ≤ S5x64x4096x128.size a) ∧
  (∀ (hinb : ∀ a, (k0_off1704 v63) a + S1x64x128x128.size a ≤ S5x64x4096x128.size a), (Rect.unit (s := S5x64x4096x128) (k0_off1704 v63) S1x64x128x128.size hinb).WholeWords (EltTy.packing .bf16))
theorem k0_off1704_inb : ∀ (v63 : BitVec 32) (k0_hw36 : k0_chk36 v63), ∀ a, (k0_off1704 v63) a + S1x64x128x128.size a ≤ S5x64x4096x128.size a := fun v63 k0_hw36 => k0_hw36.1
theorem k0_off1704_wordsbf16 : ∀ (v63 : BitVec 32) (k0_hw36 : k0_chk36 v63), (Rect.unit (s := S5x64x4096x128) (k0_off1704 v63) S1x64x128x128.size (k0_off1704_inb v63 k0_hw36)).WholeWords (EltTy.packing .bf16) := fun v63 k0_hw36 => k0_hw36.2 (k0_off1704_inb v63 k0_hw36)

@[reducible] def k0_t30_loop (v9 : BitVec 32) (v37 : BitVec 32) : Scf.Loop 32 :=
  let c160_i32_12 : BitVec 32 := 160#32
  let v10 : BitVec 32 := Scalar.subi c160_i32_12 v9
  let v38 : BitVec 32 := Scalar.subi v10 v37
  let c1_i32_45 : BitVec 32 := 1#32
  let v40 : BitVec 32 := Scalar.divsi v38 c1_i32_45
  let v41 : BitVec 32 := Scalar.muli v40 c1_i32_45
  let v42 : BitVec 32 := Scalar.addi v37 v41
  let v39 : BitVec 32 := Scalar.addi v37 v38
  let c1_i32_47 : BitVec 32 := 1#32
  ⟨v42, v39, c1_i32_47⟩
def k0_off1705 (v9 : BitVec 32) (v37 : BitVec 32) (k0_t30 : Fin (k0_t30_loop v9 v37).trips) : Fin 1 → Nat :=
  let c159_i32 : BitVec 32 := 159#32
  let c160_i32_12 : BitVec 32 := 160#32
  let v10 : BitVec 32 := Scalar.subi c160_i32_12 v9
  let v38 : BitVec 32 := Scalar.subi v10 v37
  let c1_i32_45 : BitVec 32 := 1#32
  let v40 : BitVec 32 := Scalar.divsi v38 c1_i32_45
  let v41 : BitVec 32 := Scalar.muli v40 c1_i32_45
  let v42 : BitVec 32 := Scalar.addi v37 v41
  let c1_i32_47 : BitVec 32 := 1#32
  let arg18 : BitVec 32 := Scf.iv v42 c1_i32_47 k0_t30
  let v61 : BitVec 32 := Scalar.subi c159_i32 arg18
  let v62 : Index := Scalar.indexCast v61
  ![v62.toNat]

def k0_chk35 (v9 : BitVec 32) (v37 : BitVec 32) : Prop :=
  ((k0_t29_loop v9 v37).OK) ∧
  (∀ k0_t29 : Fin (k0_t29_loop v9 v37).trips, ∀ a, (k0_off1703 v9 v37 k0_t29) a + S1.size a ≤ S160.size a) ∧
  ((k0_t30_loop v9 v37).OK) ∧
  (∀ k0_t30 : Fin (k0_t30_loop v9 v37).trips, ∀ a, (k0_off1705 v9 v37 k0_t30) a + S1.size a ≤ S160.size a)
theorem k0_t29_ok : ∀ (v9 : BitVec 32) (v37 : BitVec 32) (k0_hw35 : k0_chk35 v9 v37), (k0_t29_loop v9 v37).OK := fun v9 v37 k0_hw35 => k0_hw35.1
theorem k0_off1703_inb : ∀ (v9 : BitVec 32) (v37 : BitVec 32) (k0_hw35 : k0_chk35 v9 v37) (k0_t29 : Fin (k0_t29_loop v9 v37).trips), ∀ a, (k0_off1703 v9 v37 k0_t29) a + S1.size a ≤ S160.size a := fun v9 v37 k0_hw35 k0_t29 => k0_hw35.2.1 k0_t29
theorem k0_t30_ok : ∀ (v9 : BitVec 32) (v37 : BitVec 32) (k0_hw35 : k0_chk35 v9 v37), (k0_t30_loop v9 v37).OK := fun v9 v37 k0_hw35 => k0_hw35.2.2.1
theorem k0_off1705_inb : ∀ (v9 : BitVec 32) (v37 : BitVec 32) (k0_hw35 : k0_chk35 v9 v37) (k0_t30 : Fin (k0_t30_loop v9 v37).trips), ∀ a, (k0_off1705 v9 v37 k0_t30) a + S1.size a ≤ S160.size a := fun v9 v37 k0_hw35 k0_t30 => k0_hw35.2.2.2 k0_t30

def k0_off1706 (v63 : BitVec 32) : Fin 4 → Nat :=
  let c32_i32 : BitVec 32 := 32#32
  let v64 : BitVec 32 := Scalar.divsi v63 c32_i32
  let c0_i32_59 : BitVec 32 := 0#32
  let c32_i32_58 : BitVec 32 := 32#32
  let v65 : BitVec 32 := Scalar.remsi v63 c32_i32_58
  let c128_i32 : BitVec 32 := 128#32
  let v66 : BitVec 32 := Scalar.muli v65 c128_i32
  let c0_i32_60 : BitVec 32 := 0#32
  ![v64.toNat, 0, v66.toNat, 0]

def k0_chk37 (v63 : BitVec 32) : Prop :=
  (∀ a, (k0_off1706 v63) a + S1x64x128x128.size a ≤ S5x64x4096x128.size a) ∧
  (∀ (hinb : ∀ a, (k0_off1706 v63) a + S1x64x128x128.size a ≤ S5x64x4096x128.size a), (Rect.unit (s := S5x64x4096x128) (k0_off1706 v63) S1x64x128x128.size hinb).WholeWords (EltTy.packing .bf16))
theorem k0_off1706_inb : ∀ (v63 : BitVec 32) (k0_hw37 : k0_chk37 v63), ∀ a, (k0_off1706 v63) a + S1x64x128x128.size a ≤ S5x64x4096x128.size a := fun v63 k0_hw37 => k0_hw37.1
theorem k0_off1706_wordsbf16 : ∀ (v63 : BitVec 32) (k0_hw37 : k0_chk37 v63), (Rect.unit (s := S5x64x4096x128) (k0_off1706 v63) S1x64x128x128.size (k0_off1706_inb v63 k0_hw37)).WholeWords (EltTy.packing .bf16) := fun v63 k0_hw37 => k0_hw37.2 (k0_off1706_inb v63 k0_hw37)

@[reducible] def k0_t31_loop (v9 : BitVec 32) : Scf.Loop 32 :=
  let c4_i32 : BitVec 32 := 4#32
  let v45 : BitVec 32 := Scalar.subi v9 c4_i32
  let c0_i32_48 : BitVec 32 := 0#32
  let v46 : BitVec 32 := Scalar.maxsi v45 c0_i32_48
  let v47 : BitVec 32 := Scalar.subi v9 v46
  let c1_i32_50 : BitVec 32 := 1#32
  let v49 : BitVec 32 := Scalar.divsi v47 c1_i32_50
  let v50 : BitVec 32 := Scalar.muli v49 c1_i32_50
  let v51 : BitVec 32 := Scalar.addi v46 v50
  let c1_i32_51 : BitVec 32 := 1#32
  ⟨v46, v51, c1_i32_51⟩
def k0_off1707 (v9 : BitVec 32) (k0_t31 : Fin (k0_t31_loop v9).trips) : Fin 1 → Nat :=
  let c4_i32 : BitVec 32 := 4#32
  let v45 : BitVec 32 := Scalar.subi v9 c4_i32
  let c0_i32_48 : BitVec 32 := 0#32
  let v46 : BitVec 32 := Scalar.maxsi v45 c0_i32_48
  let c1_i32_51 : BitVec 32 := 1#32
  let arg18 : BitVec 32 := Scf.iv v46 c1_i32_51 k0_t31
  let c4_i32_58 : BitVec 32 := 4#32
  let v61 : BitVec 32 := Scalar.remsi arg18 c4_i32_58
  ![v61.toNat]
def k0_off1708 (v9 : BitVec 32) (k0_t31 : Fin (k0_t31_loop v9).trips) : Fin 5 → Nat :=
  let c4_i32 : BitVec 32 := 4#32
  let v45 : BitVec 32 := Scalar.subi v9 c4_i32
  let c0_i32_48 : BitVec 32 := 0#32
  let v46 : BitVec 32 := Scalar.maxsi v45 c0_i32_48
  let c1_i32_51 : BitVec 32 := 1#32
  let arg18 : BitVec 32 := Scf.iv v46 c1_i32_51 k0_t31
  let c4_i32_58 : BitVec 32 := 4#32
  let v61 : BitVec 32 := Scalar.remsi arg18 c4_i32_58
  let c0_i32_59 : BitVec 32 := 0#32
  let c0_i32_64 : BitVec 32 := 0#32
  let c0_i32_65 : BitVec 32 := 0#32
  let c0_i32_66 : BitVec 32 := 0#32
  ![v61.toNat, 0, 0, 0, 0]
def k0_off1709 (v9 : BitVec 32) (k0_t31 : Fin (k0_t31_loop v9).trips) : Fin 5 → Nat :=
  let c4_i32 : BitVec 32 := 4#32
  let v45 : BitVec 32 := Scalar.subi v9 c4_i32
  let c0_i32_48 : BitVec 32 := 0#32
  let v46 : BitVec 32 := Scalar.maxsi v45 c0_i32_48
  let c1_i32_51 : BitVec 32 := 1#32
  let arg18 : BitVec 32 := Scf.iv v46 c1_i32_51 k0_t31
  let c4_i32_67 : BitVec 32 := 4#32
  let v69 : BitVec 32 := Scalar.remsi arg18 c4_i32_67
  let c1_i32_68 : BitVec 32 := 1#32
  let c0_i32_73 : BitVec 32 := 0#32
  let c0_i32_74 : BitVec 32 := 0#32
  let c0_i32_75 : BitVec 32 := 0#32
  ![v69.toNat, 1, 0, 0, 0]
@[reducible] def k0_t32_loop (v9 : BitVec 32) : Scf.Loop 32 :=
  let c4_i32 : BitVec 32 := 4#32
  let v45 : BitVec 32 := Scalar.subi v9 c4_i32
  let c0_i32_48 : BitVec 32 := 0#32
  let v46 : BitVec 32 := Scalar.maxsi v45 c0_i32_48
  let v47 : BitVec 32 := Scalar.subi v9 v46
  let c1_i32_50 : BitVec 32 := 1#32
  let v49 : BitVec 32 := Scalar.divsi v47 c1_i32_50
  let v50 : BitVec 32 := Scalar.muli v49 c1_i32_50
  let v51 : BitVec 32 := Scalar.addi v46 v50
  let v48 : BitVec 32 := Scalar.addi v46 v47
  let c1_i32_52 : BitVec 32 := 1#32
  ⟨v51, v48, c1_i32_52⟩
def k0_off1710 (v9 : BitVec 32) (k0_t32 : Fin (k0_t32_loop v9).trips) : Fin 1 → Nat :=
  let c4_i32 : BitVec 32 := 4#32
  let v45 : BitVec 32 := Scalar.subi v9 c4_i32
  let c0_i32_48 : BitVec 32 := 0#32
  let v46 : BitVec 32 := Scalar.maxsi v45 c0_i32_48
  let v47 : BitVec 32 := Scalar.subi v9 v46
  let c1_i32_50 : BitVec 32 := 1#32
  let v49 : BitVec 32 := Scalar.divsi v47 c1_i32_50
  let v50 : BitVec 32 := Scalar.muli v49 c1_i32_50
  let v51 : BitVec 32 := Scalar.addi v46 v50
  let c1_i32_52 : BitVec 32 := 1#32
  let arg18 : BitVec 32 := Scf.iv v51 c1_i32_52 k0_t32
  let c4_i32_58 : BitVec 32 := 4#32
  let v61 : BitVec 32 := Scalar.remsi arg18 c4_i32_58
  ![v61.toNat]
def k0_off1711 (v9 : BitVec 32) (k0_t32 : Fin (k0_t32_loop v9).trips) : Fin 5 → Nat :=
  let c4_i32 : BitVec 32 := 4#32
  let v45 : BitVec 32 := Scalar.subi v9 c4_i32
  let c0_i32_48 : BitVec 32 := 0#32
  let v46 : BitVec 32 := Scalar.maxsi v45 c0_i32_48
  let v47 : BitVec 32 := Scalar.subi v9 v46
  let c1_i32_50 : BitVec 32 := 1#32
  let v49 : BitVec 32 := Scalar.divsi v47 c1_i32_50
  let v50 : BitVec 32 := Scalar.muli v49 c1_i32_50
  let v51 : BitVec 32 := Scalar.addi v46 v50
  let c1_i32_52 : BitVec 32 := 1#32
  let arg18 : BitVec 32 := Scf.iv v51 c1_i32_52 k0_t32
  let c4_i32_58 : BitVec 32 := 4#32
  let v61 : BitVec 32 := Scalar.remsi arg18 c4_i32_58
  let c0_i32_59 : BitVec 32 := 0#32
  let c0_i32_64 : BitVec 32 := 0#32
  let c0_i32_65 : BitVec 32 := 0#32
  let c0_i32_66 : BitVec 32 := 0#32
  ![v61.toNat, 0, 0, 0, 0]
def k0_off1712 (v9 : BitVec 32) (k0_t32 : Fin (k0_t32_loop v9).trips) : Fin 5 → Nat :=
  let c4_i32 : BitVec 32 := 4#32
  let v45 : BitVec 32 := Scalar.subi v9 c4_i32
  let c0_i32_48 : BitVec 32 := 0#32
  let v46 : BitVec 32 := Scalar.maxsi v45 c0_i32_48
  let v47 : BitVec 32 := Scalar.subi v9 v46
  let c1_i32_50 : BitVec 32 := 1#32
  let v49 : BitVec 32 := Scalar.divsi v47 c1_i32_50
  let v50 : BitVec 32 := Scalar.muli v49 c1_i32_50
  let v51 : BitVec 32 := Scalar.addi v46 v50
  let c1_i32_52 : BitVec 32 := 1#32
  let arg18 : BitVec 32 := Scf.iv v51 c1_i32_52 k0_t32
  let c4_i32_67 : BitVec 32 := 4#32
  let v69 : BitVec 32 := Scalar.remsi arg18 c4_i32_67
  let c1_i32_68 : BitVec 32 := 1#32
  let c0_i32_73 : BitVec 32 := 0#32
  let c0_i32_74 : BitVec 32 := 0#32
  let c0_i32_75 : BitVec 32 := 0#32
  ![v69.toNat, 1, 0, 0, 0]
@[reducible] def k0_t33_loop (v9 : BitVec 32) : Scf.Loop 32 :=
  let c0_i32_53 : BitVec 32 := 0#32
  let c160_i32_12 : BitVec 32 := 160#32
  let v10 : BitVec 32 := Scalar.subi c160_i32_12 v9
  let v54 : BitVec 32 := Scalar.subi v10 c0_i32_53
  let c1_i32_55 : BitVec 32 := 1#32
  let v56 : BitVec 32 := Scalar.divsi v54 c1_i32_55
  let v57 : BitVec 32 := Scalar.muli v56 c1_i32_55
  let v58 : BitVec 32 := Scalar.addi c0_i32_53 v57
  let c1_i32_56 : BitVec 32 := 1#32
  ⟨c0_i32_53, v58, c1_i32_56⟩
@[reducible] def k0_t34_loop (v9 : BitVec 32) : Scf.Loop 32 :=
  let c0_i32_53 : BitVec 32 := 0#32
  let c160_i32_12 : BitVec 32 := 160#32
  let v10 : BitVec 32 := Scalar.subi c160_i32_12 v9
  let v54 : BitVec 32 := Scalar.subi v10 c0_i32_53
  let c1_i32_55 : BitVec 32 := 1#32
  let v56 : BitVec 32 := Scalar.divsi v54 c1_i32_55
  let v57 : BitVec 32 := Scalar.muli v56 c1_i32_55
  let v58 : BitVec 32 := Scalar.addi c0_i32_53 v57
  let v55 : BitVec 32 := Scalar.addi c0_i32_53 v54
  let c1_i32_57 : BitVec 32 := 1#32
  ⟨v58, v55, c1_i32_57⟩

def k0_chk14 (v9 : BitVec 32) : Prop :=
  ((k0_t11_loop v9).OK) ∧
  (∀ k0_t11 : Fin (k0_t11_loop v9).trips, ∀ a, (k0_off95 v9 k0_t11) a + S1.size a ≤ S160.size a) ∧
  (∀ k0_t11 : Fin (k0_t11_loop v9).trips, ∀ (k0_h4 : k0_cond4 v9 k0_t11 = 1#1), ∀ a, (k0_off97 v9 k0_t11) a + S1.size a ≤ S160.size a) ∧
  (∀ k0_t11 : Fin (k0_t11_loop v9).trips, ∀ (k0_h6 : k0_cond6 v9 k0_t11 = 1#1), ∀ a, (k0_off119 v9 k0_t11) a + S1.size a ≤ S4.size a) ∧
  (∀ k0_t11 : Fin (k0_t11_loop v9).trips, ∀ (k0_h6 : k0_cond6 v9 k0_t11 = 1#1), ∀ a, (k0_off121 v9 k0_t11) a + S1x1x64x64x128.size a ≤ S4x2x64x64x128.size a) ∧
  (∀ k0_t11 : Fin (k0_t11_loop v9).trips, ∀ (k0_h6 : k0_cond6 v9 k0_t11 = 1#1), ∀ a, (k0_off122 v9 k0_t11) a + S1x1x64x64x128.size a ≤ S4x2x64x64x128.size a) ∧
  (∀ k0_t11 : Fin (k0_t11_loop v9).trips, ∀ a, (k0_off895 v9 k0_t11) a + S1.size a ≤ S4.size a) ∧
  (∀ k0_t11 : Fin (k0_t11_loop v9).trips, ∀ a, (k0_off897 v9 k0_t11) a + S1x1x64x64x128.size a ≤ S4x2x64x64x128.size a) ∧
  (∀ k0_t11 : Fin (k0_t11_loop v9).trips, ∀ a, (k0_off898 v9 k0_t11) a + S1x1x64x64x128.size a ≤ S4x2x64x64x128.size a) ∧
  ((k0_t20_loop v9).OK) ∧
  (∀ k0_t20 : Fin (k0_t20_loop v9).trips, ∀ a, (k0_off899 v9 k0_t20) a + S1.size a ≤ S160.size a) ∧
  (∀ k0_t20 : Fin (k0_t20_loop v9).trips, ∀ (k0_h7 : k0_cond7 v9 k0_t20 = 1#1), ∀ a, (k0_off901 v9 k0_t20) a + S1.size a ≤ S160.size a) ∧
  (∀ k0_t20 : Fin (k0_t20_loop v9).trips, ∀ (k0_h9 : k0_cond9 v9 k0_t20 = 1#1), ∀ a, (k0_off923 v9 k0_t20) a + S1.size a ≤ S4.size a) ∧
  (∀ k0_t20 : Fin (k0_t20_loop v9).trips, ∀ (k0_h9 : k0_cond9 v9 k0_t20 = 1#1), ∀ a, (k0_off925 v9 k0_t20) a + S1x1x64x64x128.size a ≤ S4x2x64x64x128.size a) ∧
  (∀ k0_t20 : Fin (k0_t20_loop v9).trips, ∀ (k0_h9 : k0_cond9 v9 k0_t20 = 1#1), ∀ a, (k0_off926 v9 k0_t20) a + S1x1x64x64x128.size a ≤ S4x2x64x64x128.size a) ∧
  (∀ k0_t20 : Fin (k0_t20_loop v9).trips, ∀ a, (k0_off1699 v9 k0_t20) a + S1.size a ≤ S4.size a) ∧
  (∀ k0_t20 : Fin (k0_t20_loop v9).trips, ∀ a, (k0_off1701 v9 k0_t20) a + S1x1x64x64x128.size a ≤ S4x2x64x64x128.size a) ∧
  (∀ k0_t20 : Fin (k0_t20_loop v9).trips, ∀ a, (k0_off1702 v9 k0_t20) a + S1x1x64x64x128.size a ≤ S4x2x64x64x128.size a) ∧
  ((k0_t31_loop v9).OK) ∧
  (∀ k0_t31 : Fin (k0_t31_loop v9).trips, ∀ a, (k0_off1707 v9 k0_t31) a + S1.size a ≤ S4.size a) ∧
  (∀ k0_t31 : Fin (k0_t31_loop v9).trips, ∀ a, (k0_off1708 v9 k0_t31) a + S1x1x64x64x128.size a ≤ S4x2x64x64x128.size a) ∧
  (∀ k0_t31 : Fin (k0_t31_loop v9).trips, ∀ a, (k0_off1709 v9 k0_t31) a + S1x1x64x64x128.size a ≤ S4x2x64x64x128.size a) ∧
  ((k0_t32_loop v9).OK) ∧
  (∀ k0_t32 : Fin (k0_t32_loop v9).trips, ∀ a, (k0_off1710 v9 k0_t32) a + S1.size a ≤ S4.size a) ∧
  (∀ k0_t32 : Fin (k0_t32_loop v9).trips, ∀ a, (k0_off1711 v9 k0_t32) a + S1x1x64x64x128.size a ≤ S4x2x64x64x128.size a) ∧
  (∀ k0_t32 : Fin (k0_t32_loop v9).trips, ∀ a, (k0_off1712 v9 k0_t32) a + S1x1x64x64x128.size a ≤ S4x2x64x64x128.size a) ∧
  ((k0_t33_loop v9).OK) ∧
  ((k0_t34_loop v9).OK)
theorem k0_t11_ok : ∀ (v9 : BitVec 32) (k0_hw14 : k0_chk14 v9), (k0_t11_loop v9).OK := fun v9 k0_hw14 => k0_hw14.1
theorem k0_off95_inb : ∀ (v9 : BitVec 32) (k0_hw14 : k0_chk14 v9) (k0_t11 : Fin (k0_t11_loop v9).trips), ∀ a, (k0_off95 v9 k0_t11) a + S1.size a ≤ S160.size a := fun v9 k0_hw14 k0_t11 => k0_hw14.2.1 k0_t11
theorem k0_off97_inb : ∀ (v9 : BitVec 32) (k0_hw14 : k0_chk14 v9) (k0_t11 : Fin (k0_t11_loop v9).trips), ∀ (k0_h4 : k0_cond4 v9 k0_t11 = 1#1), ∀ a, (k0_off97 v9 k0_t11) a + S1.size a ≤ S160.size a := fun v9 k0_hw14 k0_t11 k0_h4 => k0_hw14.2.2.1 k0_t11 k0_h4
theorem k0_off119_inb : ∀ (v9 : BitVec 32) (k0_hw14 : k0_chk14 v9) (k0_t11 : Fin (k0_t11_loop v9).trips), ∀ (k0_h6 : k0_cond6 v9 k0_t11 = 1#1), ∀ a, (k0_off119 v9 k0_t11) a + S1.size a ≤ S4.size a := fun v9 k0_hw14 k0_t11 k0_h6 => k0_hw14.2.2.2.1 k0_t11 k0_h6
theorem k0_off121_inb : ∀ (v9 : BitVec 32) (k0_hw14 : k0_chk14 v9) (k0_t11 : Fin (k0_t11_loop v9).trips), ∀ (k0_h6 : k0_cond6 v9 k0_t11 = 1#1), ∀ a, (k0_off121 v9 k0_t11) a + S1x1x64x64x128.size a ≤ S4x2x64x64x128.size a := fun v9 k0_hw14 k0_t11 k0_h6 => k0_hw14.2.2.2.2.1 k0_t11 k0_h6
theorem k0_off122_inb : ∀ (v9 : BitVec 32) (k0_hw14 : k0_chk14 v9) (k0_t11 : Fin (k0_t11_loop v9).trips), ∀ (k0_h6 : k0_cond6 v9 k0_t11 = 1#1), ∀ a, (k0_off122 v9 k0_t11) a + S1x1x64x64x128.size a ≤ S4x2x64x64x128.size a := fun v9 k0_hw14 k0_t11 k0_h6 => k0_hw14.2.2.2.2.2.1 k0_t11 k0_h6
theorem k0_off895_inb : ∀ (v9 : BitVec 32) (k0_hw14 : k0_chk14 v9) (k0_t11 : Fin (k0_t11_loop v9).trips), ∀ a, (k0_off895 v9 k0_t11) a + S1.size a ≤ S4.size a := fun v9 k0_hw14 k0_t11 => k0_hw14.2.2.2.2.2.2.1 k0_t11
theorem k0_off897_inb : ∀ (v9 : BitVec 32) (k0_hw14 : k0_chk14 v9) (k0_t11 : Fin (k0_t11_loop v9).trips), ∀ a, (k0_off897 v9 k0_t11) a + S1x1x64x64x128.size a ≤ S4x2x64x64x128.size a := fun v9 k0_hw14 k0_t11 => k0_hw14.2.2.2.2.2.2.2.1 k0_t11
theorem k0_off898_inb : ∀ (v9 : BitVec 32) (k0_hw14 : k0_chk14 v9) (k0_t11 : Fin (k0_t11_loop v9).trips), ∀ a, (k0_off898 v9 k0_t11) a + S1x1x64x64x128.size a ≤ S4x2x64x64x128.size a := fun v9 k0_hw14 k0_t11 => k0_hw14.2.2.2.2.2.2.2.2.1 k0_t11
theorem k0_t20_ok : ∀ (v9 : BitVec 32) (k0_hw14 : k0_chk14 v9), (k0_t20_loop v9).OK := fun v9 k0_hw14 => k0_hw14.2.2.2.2.2.2.2.2.2.1
theorem k0_off899_inb : ∀ (v9 : BitVec 32) (k0_hw14 : k0_chk14 v9) (k0_t20 : Fin (k0_t20_loop v9).trips), ∀ a, (k0_off899 v9 k0_t20) a + S1.size a ≤ S160.size a := fun v9 k0_hw14 k0_t20 => k0_hw14.2.2.2.2.2.2.2.2.2.2.1 k0_t20
theorem k0_off901_inb : ∀ (v9 : BitVec 32) (k0_hw14 : k0_chk14 v9) (k0_t20 : Fin (k0_t20_loop v9).trips), ∀ (k0_h7 : k0_cond7 v9 k0_t20 = 1#1), ∀ a, (k0_off901 v9 k0_t20) a + S1.size a ≤ S160.size a := fun v9 k0_hw14 k0_t20 k0_h7 => k0_hw14.2.2.2.2.2.2.2.2.2.2.2.1 k0_t20 k0_h7
theorem k0_off923_inb : ∀ (v9 : BitVec 32) (k0_hw14 : k0_chk14 v9) (k0_t20 : Fin (k0_t20_loop v9).trips), ∀ (k0_h9 : k0_cond9 v9 k0_t20 = 1#1), ∀ a, (k0_off923 v9 k0_t20) a + S1.size a ≤ S4.size a := fun v9 k0_hw14 k0_t20 k0_h9 => k0_hw14.2.2.2.2.2.2.2.2.2.2.2.2.1 k0_t20 k0_h9
theorem k0_off925_inb : ∀ (v9 : BitVec 32) (k0_hw14 : k0_chk14 v9) (k0_t20 : Fin (k0_t20_loop v9).trips), ∀ (k0_h9 : k0_cond9 v9 k0_t20 = 1#1), ∀ a, (k0_off925 v9 k0_t20) a + S1x1x64x64x128.size a ≤ S4x2x64x64x128.size a := fun v9 k0_hw14 k0_t20 k0_h9 => k0_hw14.2.2.2.2.2.2.2.2.2.2.2.2.2.1 k0_t20 k0_h9
theorem k0_off926_inb : ∀ (v9 : BitVec 32) (k0_hw14 : k0_chk14 v9) (k0_t20 : Fin (k0_t20_loop v9).trips), ∀ (k0_h9 : k0_cond9 v9 k0_t20 = 1#1), ∀ a, (k0_off926 v9 k0_t20) a + S1x1x64x64x128.size a ≤ S4x2x64x64x128.size a := fun v9 k0_hw14 k0_t20 k0_h9 => k0_hw14.2.2.2.2.2.2.2.2.2.2.2.2.2.2.1 k0_t20 k0_h9
theorem k0_off1699_inb : ∀ (v9 : BitVec 32) (k0_hw14 : k0_chk14 v9) (k0_t20 : Fin (k0_t20_loop v9).trips), ∀ a, (k0_off1699 v9 k0_t20) a + S1.size a ≤ S4.size a := fun v9 k0_hw14 k0_t20 => k0_hw14.2.2.2.2.2.2.2.2.2.2.2.2.2.2.2.1 k0_t20
theorem k0_off1701_inb : ∀ (v9 : BitVec 32) (k0_hw14 : k0_chk14 v9) (k0_t20 : Fin (k0_t20_loop v9).trips), ∀ a, (k0_off1701 v9 k0_t20) a + S1x1x64x64x128.size a ≤ S4x2x64x64x128.size a := fun v9 k0_hw14 k0_t20 => k0_hw14.2.2.2.2.2.2.2.2.2.2.2.2.2.2.2.2.1 k0_t20
theorem k0_off1702_inb : ∀ (v9 : BitVec 32) (k0_hw14 : k0_chk14 v9) (k0_t20 : Fin (k0_t20_loop v9).trips), ∀ a, (k0_off1702 v9 k0_t20) a + S1x1x64x64x128.size a ≤ S4x2x64x64x128.size a := fun v9 k0_hw14 k0_t20 => k0_hw14.2.2.2.2.2.2.2.2.2.2.2.2.2.2.2.2.2.1 k0_t20
theorem k0_t31_ok : ∀ (v9 : BitVec 32) (k0_hw14 : k0_chk14 v9), (k0_t31_loop v9).OK := fun v9 k0_hw14 => k0_hw14.2.2.2.2.2.2.2.2.2.2.2.2.2.2.2.2.2.2.1
theorem k0_off1707_inb : ∀ (v9 : BitVec 32) (k0_hw14 : k0_chk14 v9) (k0_t31 : Fin (k0_t31_loop v9).trips), ∀ a, (k0_off1707 v9 k0_t31) a + S1.size a ≤ S4.size a := fun v9 k0_hw14 k0_t31 => k0_hw14.2.2.2.2.2.2.2.2.2.2.2.2.2.2.2.2.2.2.2.1 k0_t31
theorem k0_off1708_inb : ∀ (v9 : BitVec 32) (k0_hw14 : k0_chk14 v9) (k0_t31 : Fin (k0_t31_loop v9).trips), ∀ a, (k0_off1708 v9 k0_t31) a + S1x1x64x64x128.size a ≤ S4x2x64x64x128.size a := fun v9 k0_hw14 k0_t31 => k0_hw14.2.2.2.2.2.2.2.2.2.2.2.2.2.2.2.2.2.2.2.2.1 k0_t31
theorem k0_off1709_inb : ∀ (v9 : BitVec 32) (k0_hw14 : k0_chk14 v9) (k0_t31 : Fin (k0_t31_loop v9).trips), ∀ a, (k0_off1709 v9 k0_t31) a + S1x1x64x64x128.size a ≤ S4x2x64x64x128.size a := fun v9 k0_hw14 k0_t31 => k0_hw14.2.2.2.2.2.2.2.2.2.2.2.2.2.2.2.2.2.2.2.2.2.1 k0_t31
theorem k0_t32_ok : ∀ (v9 : BitVec 32) (k0_hw14 : k0_chk14 v9), (k0_t32_loop v9).OK := fun v9 k0_hw14 => k0_hw14.2.2.2.2.2.2.2.2.2.2.2.2.2.2.2.2.2.2.2.2.2.2.1
theorem k0_off1710_inb : ∀ (v9 : BitVec 32) (k0_hw14 : k0_chk14 v9) (k0_t32 : Fin (k0_t32_loop v9).trips), ∀ a, (k0_off1710 v9 k0_t32) a + S1.size a ≤ S4.size a := fun v9 k0_hw14 k0_t32 => k0_hw14.2.2.2.2.2.2.2.2.2.2.2.2.2.2.2.2.2.2.2.2.2.2.2.1 k0_t32
theorem k0_off1711_inb : ∀ (v9 : BitVec 32) (k0_hw14 : k0_chk14 v9) (k0_t32 : Fin (k0_t32_loop v9).trips), ∀ a, (k0_off1711 v9 k0_t32) a + S1x1x64x64x128.size a ≤ S4x2x64x64x128.size a := fun v9 k0_hw14 k0_t32 => k0_hw14.2.2.2.2.2.2.2.2.2.2.2.2.2.2.2.2.2.2.2.2.2.2.2.2.1 k0_t32
theorem k0_off1712_inb : ∀ (v9 : BitVec 32) (k0_hw14 : k0_chk14 v9) (k0_t32 : Fin (k0_t32_loop v9).trips), ∀ a, (k0_off1712 v9 k0_t32) a + S1x1x64x64x128.size a ≤ S4x2x64x64x128.size a := fun v9 k0_hw14 k0_t32 => k0_hw14.2.2.2.2.2.2.2.2.2.2.2.2.2.2.2.2.2.2.2.2.2.2.2.2.2.1 k0_t32
theorem k0_t33_ok : ∀ (v9 : BitVec 32) (k0_hw14 : k0_chk14 v9), (k0_t33_loop v9).OK := fun v9 k0_hw14 => k0_hw14.2.2.2.2.2.2.2.2.2.2.2.2.2.2.2.2.2.2.2.2.2.2.2.2.2.2.1
theorem k0_t34_ok : ∀ (v9 : BitVec 32) (k0_hw14 : k0_chk14 v9), (k0_t34_loop v9).OK := fun v9 k0_hw14 => k0_hw14.2.2.2.2.2.2.2.2.2.2.2.2.2.2.2.2.2.2.2.2.2.2.2.2.2.2.2

abbrev stage0_0 : Fin 1 → Memref sig .tc .smem S5x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S5 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S1600x64x16x128 : Shape := ⟨4, ![1600, 64, 16, 128]⟩
abbrev S1600x64x16 : Shape := ⟨3, ![1600, 64, 16]⟩
abbrev S5x256 : Shape := ⟨2, ![5, 256]⟩
abbrev S5 : Shape := ⟨1, ![5]⟩
abbrev S5x1x256 : Shape := ⟨3, ![5, 1, 256]⟩
abbrev S64 : Shape := ⟨1, ![64]⟩
abbrev S1x64x1 : Shape := ⟨3, ![1, 64, 1]⟩
abbrev S_ : Shape := ⟨0, ![]⟩
abbrev S5x64x256 : Shape := ⟨3, ![5, 64, 256]⟩
abbrev S5x64x256x1 : Shape := ⟨4, ![5, 64, 256, 1]⟩
abbrev S5x64x256x2 : Shape := ⟨4, ![5, 64, 256, 2]⟩
abbrev S5x64x256x16x128 : Shape := ⟨5, ![5, 64, 256, 16, 128]⟩
abbrev S5x64x4096x128 : Shape := ⟨4, ![5, 64, 4096, 128]⟩
abbrev S5x64x256x16 : Shape := ⟨4, ![5, 64, 256, 16]⟩
abbrev S5x64x4096 : Shape := ⟨3, ![5, 64, 4096]⟩
abbrev S4096 : Shape := ⟨1, ![4096]⟩
abbrev S1x4096 : Shape := ⟨2, ![1, 4096]⟩
abbrev S5x1 : Shape := ⟨2, ![5, 1]⟩
abbrev S5x4096 : Shape := ⟨2, ![5, 4096]⟩
abbrev S5x64x4096x1 : Shape := ⟨4, ![5, 64, 4096, 1]⟩
abbrev S5x1x4096x1 : Shape := ⟨4, ![5, 1, 4096, 1]⟩

abbrev nBuf : Space → Nat
  | .hbm => 112
  | .vmem => 8
  | .smem => 0
  | _ => 0

abbrev bufTy : (tb : Table) → Fin (tcTables nBuf tb) → BufTy
  | .hbm, ⟨0, _⟩ => ⟨S1600x64x16x128, .fp8e4m3⟩
  | .hbm, ⟨1, _⟩ => ⟨S1600x64x16x128, .fp8e4m3⟩
  | .hbm, ⟨2, _⟩ => ⟨S1600x64x16, .f32⟩
  | .hbm, ⟨3, _⟩ => ⟨S1600x64x16, .f32⟩
  | .hbm, ⟨4, _⟩ => ⟨S5x256, .i32⟩
  | .hbm, ⟨5, _⟩ => ⟨S5, .i32⟩
  | .hbm, ⟨6, _⟩ => ⟨S5x1x256, .i32⟩
  | .hbm, ⟨7, _⟩ => ⟨S64, .i32⟩
  | .hbm, ⟨8, _⟩ => ⟨S1x64x1, .i32⟩
  | .hbm, ⟨9, _⟩ => ⟨S_, .i32⟩
  | .hbm, ⟨10, _⟩ => ⟨S5x1x256, .i32⟩
  | .hbm, ⟨11, _⟩ => ⟨S5x1x256, .i1⟩
  | .hbm, ⟨12, _⟩ => ⟨S_, .i32⟩
  | .hbm, ⟨13, _⟩ => ⟨S5x1x256, .i32⟩
  | .hbm, ⟨14, _⟩ => ⟨S5x1x256, .i32⟩
  | .hbm, ⟨15, _⟩ => ⟨S5x1x256, .i32⟩
  | .hbm, ⟨16, _⟩ => ⟨S_, .i32⟩
  | .hbm, ⟨17, _⟩ => ⟨S1x64x1, .i32⟩
  | .hbm, ⟨18, _⟩ => ⟨S1x64x1, .i1⟩
  | .hbm, ⟨19, _⟩ => ⟨S_, .i32⟩
  | .hbm, ⟨20, _⟩ => ⟨S1x64x1, .i32⟩
  | .hbm, ⟨21, _⟩ => ⟨S1x64x1, .i32⟩
  | .hbm, ⟨22, _⟩ => ⟨S1x64x1, .i32⟩
  | .hbm, ⟨23, _⟩ => ⟨S5x64x256, .i32⟩
  | .hbm, ⟨24, _⟩ => ⟨S5x64x256, .i32⟩
  | .hbm, ⟨25, _⟩ => ⟨S5x64x256x1, .i32⟩
  | .hbm, ⟨26, _⟩ => ⟨S5x64x256x1, .i32⟩
  | .hbm, ⟨27, _⟩ => ⟨S5x64x256x2, .i32⟩
  | .hbm, ⟨28, _⟩ => ⟨S5x64x256x16x128, .fp8e4m3⟩
  | .hbm, ⟨29, _⟩ => ⟨S5x64x4096x128, .fp8e4m3⟩
  | .hbm, ⟨30, _⟩ => ⟨S_, .i32⟩
  | .hbm, ⟨31, _⟩ => ⟨S5x1x256, .i32⟩
  | .hbm, ⟨32, _⟩ => ⟨S5x1x256, .i1⟩
  | .hbm, ⟨33, _⟩ => ⟨S_, .i32⟩
  | .hbm, ⟨34, _⟩ => ⟨S5x1x256, .i32⟩
  | .hbm, ⟨35, _⟩ => ⟨S5x1x256, .i32⟩
  | .hbm, ⟨36, _⟩ => ⟨S5x1x256, .i32⟩
  | .hbm, ⟨37, _⟩ => ⟨S_, .i32⟩
  | .hbm, ⟨38, _⟩ => ⟨S1x64x1, .i32⟩
  | .hbm, ⟨39, _⟩ => ⟨S1x64x1, .i1⟩
  | .hbm, ⟨40, _⟩ => ⟨S_, .i32⟩
  | .hbm, ⟨41, _⟩ => ⟨S1x64x1, .i32⟩
  | .hbm, ⟨42, _⟩ => ⟨S1x64x1, .i32⟩
  | .hbm, ⟨43, _⟩ => ⟨S1x64x1, .i32⟩
  | .hbm, ⟨44, _⟩ => ⟨S5x64x256, .i32⟩
  | .hbm, ⟨45, _⟩ => ⟨S5x64x256, .i32⟩
  | .hbm, ⟨46, _⟩ => ⟨S5x64x256x1, .i32⟩
  | .hbm, ⟨47, _⟩ => ⟨S5x64x256x1, .i32⟩
  | .hbm, ⟨48, _⟩ => ⟨S5x64x256x2, .i32⟩
  | .hbm, ⟨49, _⟩ => ⟨S5x64x256x16, .f32⟩
  | .hbm, ⟨50, _⟩ => ⟨S5x64x4096, .f32⟩
  | .hbm, ⟨51, _⟩ => ⟨S4096, .i32⟩
  | .hbm, ⟨52, _⟩ => ⟨S1x4096, .i32⟩
  | .hbm, ⟨53, _⟩ => ⟨S5x1, .i32⟩
  | .hbm, ⟨54, _⟩ => ⟨S5x4096, .i32⟩
  | .hbm, ⟨55, _⟩ => ⟨S5x4096, .i32⟩
  | .hbm, ⟨56, _⟩ => ⟨S5x4096, .i1⟩
  | .hbm, ⟨57, _⟩ => ⟨S5x4096, .i32⟩
  | .hbm, ⟨58, _⟩ => ⟨S5x64x4096x128, .bf16⟩
  | .hbm, ⟨59, _⟩ => ⟨S5x1x256, .i32⟩
  | .hbm, ⟨60, _⟩ => ⟨S64, .i32⟩
  | .hbm, ⟨61, _⟩ => ⟨S1x64x1, .i32⟩
  | .hbm, ⟨62, _⟩ => ⟨S_, .i32⟩
  | .hbm, ⟨63, _⟩ => ⟨S5x1x256, .i32⟩
  | .hbm, ⟨64, _⟩ => ⟨S5x1x256, .i1⟩
  | .hbm, ⟨65, _⟩ => ⟨S_, .i32⟩
  | .hbm, ⟨66, _⟩ => ⟨S5x1x256, .i32⟩
  | .hbm, ⟨67, _⟩ => ⟨S5x1x256, .i32⟩
  | .hbm, ⟨68, _⟩ => ⟨S5x1x256, .i32⟩
  | .hbm, ⟨69, _⟩ => ⟨S_, .i32⟩
  | .hbm, ⟨70, _⟩ => ⟨S1x64x1, .i32⟩
  | .hbm, ⟨71, _⟩ => ⟨S1x64x1, .i1⟩
  | .hbm, ⟨72, _⟩ => ⟨S_, .i32⟩
  | .hbm, ⟨73, _⟩ => ⟨S1x64x1, .i32⟩
  | .hbm, ⟨74, _⟩ => ⟨S1x64x1, .i32⟩
  | .hbm, ⟨75, _⟩ => ⟨S1x64x1, .i32⟩
  | .hbm, ⟨76, _⟩ => ⟨S5x64x256, .i32⟩
  | .hbm, ⟨77, _⟩ => ⟨S5x64x256, .i32⟩
  | .hbm, ⟨78, _⟩ => ⟨S5x64x256x1, .i32⟩
  | .hbm, ⟨79, _⟩ => ⟨S5x64x256x1, .i32⟩
  | .hbm, ⟨80, _⟩ => ⟨S5x64x256x2, .i32⟩
  | .hbm, ⟨81, _⟩ => ⟨S5x64x256x16x128, .fp8e4m3⟩
  | .hbm, ⟨82, _⟩ => ⟨S5x64x4096x128, .fp8e4m3⟩
  | .hbm, ⟨83, _⟩ => ⟨S_, .i32⟩
  | .hbm, ⟨84, _⟩ => ⟨S5x1x256, .i32⟩
  | .hbm, ⟨85, _⟩ => ⟨S5x1x256, .i1⟩
  | .hbm, ⟨86, _⟩ => ⟨S_, .i32⟩
  | .hbm, ⟨87, _⟩ => ⟨S5x1x256, .i32⟩
  | .hbm, ⟨88, _⟩ => ⟨S5x1x256, .i32⟩
  | .hbm, ⟨89, _⟩ => ⟨S5x1x256, .i32⟩
  | .hbm, ⟨90, _⟩ => ⟨S_, .i32⟩
  | .hbm, ⟨91, _⟩ => ⟨S1x64x1, .i32⟩
  | .hbm, ⟨92, _⟩ => ⟨S1x64x1, .i1⟩
  | .hbm, ⟨93, _⟩ => ⟨S_, .i32⟩
  | .hbm, ⟨94, _⟩ => ⟨S1x64x1, .i32⟩
  | .hbm, ⟨95, _⟩ => ⟨S1x64x1, .i32⟩
  | .hbm, ⟨96, _⟩ => ⟨S1x64x1, .i32⟩
  | .hbm, ⟨97, _⟩ => ⟨S5x64x256, .i32⟩
  | .hbm, ⟨98, _⟩ => ⟨S5x64x256, .i32⟩
  | .hbm, ⟨99, _⟩ => ⟨S5x64x256x1, .i32⟩
  | .hbm, ⟨100, _⟩ => ⟨S5x64x256x1, .i32⟩
  | .hbm, ⟨101, _⟩ => ⟨S5x64x256x2, .i32⟩
  | .hbm, ⟨102, _⟩ => ⟨S5x64x256x16, .f32⟩
  | .hbm, ⟨103, _⟩ => ⟨S5x64x4096, .f32⟩
  | .hbm, ⟨104, _⟩ => ⟨S4096, .i32⟩
  | .hbm, ⟨105, _⟩ => ⟨S1x4096, .i32⟩
  | .hbm, ⟨106, _⟩ => ⟨S5x1, .i32⟩
  | .hbm, ⟨107, _⟩ => ⟨S5x4096, .i32⟩
  | .hbm, ⟨108, _⟩ => ⟨S5x4096, .i32⟩
  | .hbm, ⟨109, _⟩ => ⟨S5x4096, .i1⟩
  | .hbm, ⟨110, _⟩ => ⟨S5x4096, .i32⟩
  | .hbm, ⟨111, _⟩ => ⟨S5x64x4096x128, .bf16⟩
  | .local _ .vmem, ⟨0, _⟩ => ⟨S5x64x4096x128, .fp8e4m3⟩
  | .local _ .vmem, ⟨1, _⟩ => ⟨S5x64x4096, .f32⟩
  | .local _ .vmem, ⟨2, _⟩ => ⟨S5x4096, .i32⟩
  | .local _ .vmem, ⟨3, _⟩ => ⟨S5x64x4096x128, .bf16⟩
  | .local _ .vmem, ⟨4, _⟩ => ⟨S5x64x4096x128, .fp8e4m3⟩
  | .local _ .vmem, ⟨5, _⟩ => ⟨S5x64x4096, .f32⟩
  | .local _ .vmem, ⟨6, _⟩ => ⟨S5x4096, .i32⟩
  | .local _ .vmem, ⟨7, _⟩ => ⟨S5x64x4096x128, .bf16⟩
  | _, _ => ⟨S1600x64x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_7 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_11 : Ref sig .tc := ⟨.hbm, 83, rfl⟩
abbrev main_v65 : Ref sig .tc := ⟨.hbm, 84, rfl⟩
abbrev main_v66 : Ref sig .tc := ⟨.hbm, 85, rfl⟩
abbrev main_c_12 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_13 : Ref sig .tc := ⟨.hbm, 90, rfl⟩
abbrev main_v70 : Ref sig .tc := ⟨.hbm, 91, rfl⟩
abbrev main_v71 : Ref sig .tc := ⟨.hbm, 92, rfl⟩
abbrev main_c_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := .none

abbrev stage0_0 : Fin 1 → Memref sig .tc .vmem S5x64x4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x64x4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S5x64x4096x128 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S5x64x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S5x4096 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S5x64x4096x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== Proof.Units.lean ====
module

public import proofs.«01_k».proof.Proof.Gen.Kernel.Skeleton
public import Idealize.ShloMosaic.Lib.Pipeline.Regions

@[expose] public section

set_option synthInstance.maxSize 4096

noncomputable section

/-! # The three unrolled loop bodies as counted repetitions of one unit

The kernel's page conversion, its padding and its scale packing are straight-line code: each is shown, by
unfolding, to be one unit repeated. -/

namespace Cert.Proof.Pages

open Cert.Kernel Cert.Kernel.Gen
open Idealize.ShloMosaic Idealize.SL.Sem

variable {F : FTy → Type} [BitOps F]

abbrev KProg (F : FTy → Type) (α : Type) := Prog (TpuEff nD τ sig (Elt F) Λ₀ .tc) α

/-- The slot of trip `t`, as the kernel computes it. -/
abbrev slotW {n : ℕ} (t : Fin n) : ℕ := (Scalar.indexCast (Scalar.remsi (Scf.iv 0#32 1#32 t) 4#32)).toNat

/-- Offsets of the 32 code rows of heads `2h`, `2h+1` of pool `i`, page `p`, slot `s`. -/
abbrev codesOff (s p i h : ℕ) : Fin 5 → ℕ := ![s, i, p, h * 32, 0]
/-- Offsets of the 32 scale rows of those heads in tile `c`. -/
abbrev scalesOff (c i h : ℕ) : Fin 4 → ℕ := ![i, c, h * 32, 0]
/-- Offsets of the eight word rows from `w` of head `h`, result `i`, slot `s`. -/
abbrev wordsOff (s w i h : ℕ) : Fin 5 → ℕ := ![s, i, h, w, 0]

section
variable (arg9 : Memref sig .tc .vmem S4x2x8x1024x128 .fp8e4m3) (arg10 : Memref sig .tc .vmem S4x2x64x64x128 .i32)
  (arg13 : Memref sig .tc .vmem S2x13x1024x128 .bf16) (s p w c : ℕ)

abbrev CodesIn : Prop := ∀ i h, i < 2 → h < 32 → ∀ a, codesOff s p i h a + S1x1x1x32x128.size a ≤ S4x2x8x1024x128.size a
abbrev ScalesIn : Prop := ∀ i h, i < 2 → h < 32 → ∀ a, scalesOff c i h a + S1x1x32x128.size a ≤ S2x13x1024x128.size a
abbrev WordsIn : Prop := ∀ i h, i < 2 → h < 64 → ∀ a, wordsOff s w i h a + S1x1x1x8x128.size a ≤ S4x2x64x64x128.size a

variable (hC : CodesIn s p) (hS : ScalesIn c) (hW : WordsIn s w)

/-- One unit of the page conversion: 32 code rows times their scales, masked, stored as two heads' words. -/
def cvUnit (lane keep : IVec S16x128 32) (i h : ℕ) (hi : i < 2) (hh : h < 32) (k : KProg F (BitVec 32)) : KProg F (BitVec 32) := do
  let cs : Vec F S1x1x1x32x128 .fp8e4m3 ← Prog.lift (.load arg9 (Rect.unit (s := S4x2x8x1024x128) (codesOff s p i h) S1x1x1x32x128.size (hC i h hi hh)).toLoadRect (View.loadsAt_vmem h_S1x1x1x32x128))
  let sc : Vec F S1x1x32x128 .bf16 ← Prog.lift (.load arg13 (Rect.unit (s := S2x13x1024x128) (scalesOff c i h) S1x1x32x128.size (hS i h hi hh)).toLoadRect (View.loadsAt_vmem h_S1x1x32x128))
  let _ : Vec F S1x1x1x8x128 .i32 ← Prog.lift (.load arg10 (Rect.unit (s := S4x2x64x64x128) (wordsOff s w i (h * 2)) S1x1x1x8x128.size (hW i _ hi (by omega))).toLoadRect (View.loadsAt_vmem h_S1x1x1x8x128))
  Prog.lift (.store arg10 (Rect.unit (s := S4x2x64x64x128) (wordsOff s w i (h * 2)) S1x1x1x8x128.size (hW i _ hi (by omega))) (k0_pay27 lane keep (k0_pay25 cs) sc) Finset.univ (View.stores_vmem_bits_univ h_S1x1x1x8x128 rfl) (.inl rfl))
  let _ : Vec F S1x1x1x8x128 .i32 ← Prog.lift (.load arg10 (Rect.unit (s := S4x2x64x64x128) (wordsOff s w i (h * 2 + 1)) S1x1x1x8x128.size (hW i _ hi (by omega))).toLoadRect (View.loadsAt_vmem h_S1x1x1x8x128))
  Prog.lift (.store arg10 (Rect.unit (s := S4x2x64x64x128) (wordsOff s w i (h * 2 + 1)) S1x1x1x8x128.size (hW i _ hi (by omega))) (k0_pay28 lane keep (k0_pay25 cs) sc) Finset.univ (View.stores_vmem_bits_univ h_S1x1x1x8x128 rfl) (.inl rfl))
  k

/-- The last `n` of the 64 units, in the kernel's order: heads outer, pools inner. -/
def cvUnits (lane keep : IVec S16x128 32) : (n : ℕ) → n ≤ 64 → KProg F (BitVec 32)
  | 0, _ => pure 0#32
  | n + 1, hn => cvUnit arg9 arg10 arg13 s p w c hC hS hW lane keep ((63 - n) % 2) ((63 - n) / 2) (Nat.mod_lt _ (by decide)) (by omega)
      (cvUnits lane keep n (by omega))

/-- One unit of the padding: eight rows of zero words. -/
def padUnit (i h : ℕ) (hi : i < 2) (hh : h < 64) (k : KProg F (BitVec 32)) : KProg F (BitVec 32) := do
  let _ : Vec F S1x1x1x8x128 .i32 ← Prog.lift (.load arg10 (Rect.unit (s := S4x2x64x64x128) (wordsOff s w i h) S1x1x1x8x128.size (hW i _ hi hh)).toLoadRect (View.loadsAt_vmem h_S1x1x1x8x128))
  Prog.lift (.store arg10 (Rect.unit (s := S4x2x64x64x128) (wordsOff s w i h) S1x1x1x8x128.size (hW i _ hi hh)) k0_pay543 Finset.univ (View.stores_vmem_bits_univ h_S1x1x1x8x128 rfl) (.inl rfl))
  k

def padUnits : (n : ℕ) → n ≤ 128 → KProg F (BitVec 32)
  | 0, _ => pure 0#32
  | n + 1, hn => padUnit arg10 s w hW ((127 - n) / 64) ((127 - n) % 64) (by omega) (Nat.mod_lt _ (by decide)) (padUnits n (by omega))
end

variable (arg0 : Memref sig .tc .smem S5x256 .i32) (harg0 : arg0.IsWhole) (arg1 : Memref sig .tc .smem S5 .i32) (harg1 : arg1.IsWhole) (arg2 : Memref sig .tc .hbm S1600x1024x128 .fp8e4m3) (harg2 : arg2.IsWhole) (arg3 : Memref sig .tc .hbm S1600x1024x128 .fp8e4m3) (harg3 : arg3.IsWhole) (arg4 : Memref sig .tc .hbm S64x16x1600 .f32) (harg4 : arg4.IsWhole) (arg5 : Memref sig .tc .hbm S64x16x1600 .f32) (harg5 : arg5.IsWhole) (arg6 : Memref sig .tc .hbm S5x64x4096x128 .bf16) (harg6 : arg6.IsWhole) (arg7 : Memref sig .tc .hbm S5x64x4096x128 .bf16) (harg7 : arg7.IsWhole) (arg8 : Memref sig .tc .smem S160 .i32) (harg8 : arg8.IsWhole) (arg9 : Memref sig .tc .vmem S4x2x8x1024x128 .fp8e4m3) (harg9 : arg9.IsWhole) (arg10 : Memref sig .tc .vmem S4x2x64x64x128 .i32) (harg10 : arg10.IsWhole) (arg11 : Memref sig .tc .vmem S64x128x128 .bf16) (harg11 : arg11.IsWhole) (arg12 : Memref sig .tc .vmem S2x64x16x1600 .f32) (harg12 : arg12.IsWhole) (arg13 : Memref sig .tc .vmem S2x13x1024x128 .bf16) (harg13 : arg13.IsWhole) (arg14 : DmaSems sig S4) (arg15 : DmaSems sig S4) (arg16 : DmaSems sig S_) (arg17 : DmaSems sig S2)

section
variable (v9 : BitVec 32) (k0_hw14 : k0_chk14 v9) (v10 : BitVec 32) (k0_t11 : Fin (k0_t11_loop v9).trips) (v62 : Elt F .i32) (v68 : Elt F .i32) (k0_hw22 : k0_chk22 v9 k0_t11 v62 v68) (acc : BitVec 32)

/-- The page conversion is its prologue and the 64 units. -/
theorem t16_eq (k : Fin (k0_t16_loop v62 v68).trips)
    (hC : CodesIn (slotW k0_t11) (Scalar.indexCast (Scf.iv 0#32 1#32 k)).toNat)
    (hS : ∀ v130 : BitVec 32, k0_chk23 v130 → ScalesIn (Scalar.indexCast (Scalar.shrui v130 7#32)).toNat)
    (hW : WordsIn (slotW k0_t11) (Scalar.indexCast (Scalar.muli (Scf.iv 0#32 1#32 k) 8#32)).toNat) :
    k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v9 k0_hw14 v10 k0_t11 v62 (Scalar.divsi v62 32#32) (Scalar.remsi v62 32#32) (Scalar.remsi (Scf.iv 0#32 1#32 k0_t11) 4#32) (Scalar.remsi (Scf.iv 0#32 1#32 k0_t11) 4#32) v68 k0_hw22 k acc
      = (do
        let v130 : Elt F .i32 ← smemLoad arg0 (Rect.unit (s := S5x256) (k0_off123 v62 v68 k) S1x1.size (k0_off123_inb v9 k0_t11 v62 v68 k0_hw22 k)) numel1_S1x1 rfl
        have k0_hw23 : k0_chk23 v130 := (← Prog.lift (TpuEff.assume (k0_chk23 v130) (k0_chk23.dec v130))).down
        let v135 : Elt F .i32 ← smemLoad arg1 (Rect.unit (s := S5) (k0_off124 v62) S1.size (k0_off124_inb v9 k0_t11 v62 v68 k0_hw22 k)) numel1_S1 rfl
        cvUnits arg9 arg10 arg13 _ _ _ _ hC (hS v130 k0_hw23) hW (k0_pay23 v130) (k0_pay24 v62 (Scalar.remsi v62 32#32) v68 0#32 1#32 k v135) 64 (le_refl _)) := by
  chain_rfl

/-- The padding of one page is the 128 units. -/
theorem t18_eq (v75 : BitVec 32) (hv : v75 = Scalar.minsi 8#32 (Scalar.maxsi 0#32 (Scalar.divsi (Scalar.subi (Scalar.addi (Scalar.subi v68 (Scalar.muli (Scalar.remsi v62 32#32) 128#32)) 16#32) 1#32) 16#32)))
    (k : Fin (k0_t18_loop v62 v68).trips)
    (hW : WordsIn (slotW k0_t11) (Scalar.indexCast (Scalar.muli (Scf.iv v75 1#32 k) 8#32)).toNat) :
    k0_t18_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v9 k0_hw14 v10 k0_t11 v62 (Scalar.remsi (Scf.iv 0#32 1#32 k0_t11) 4#32) v68 k0_hw22 v75 k acc
      = padUnits arg10 _ _ hW 128 (le_refl _) := by
  subst hv
  chain_rfl
end

end Cert.Proof.Pages

end
-- ==== Proof.Values.lean ====
module

public import proofs.«01_k».proof.Proof.Gen.Kernel.Skeleton
public import Idealize.ShloMosaic.Lib.ValueLayout
public import Idealize.ShloMosaic.Lib.BitcastPair
public import Idealize.ShloMosaic.Lib.Pipeline.Value

@[expose] public section

noncomputable section

/-! # What the kernel computes, element by element -/

namespace Cert.Proof.Pages

open Cert.Kernel Cert.Kernel.Gen
open Idealize.ShloMosaic
open Idealize.ShloMosaic.ValueIdx

variable {F : FTy → Type} [BitOps F]

/-- The six inputs as the kernel holds them. -/
structure Inp (F : FTy → Type) where
  kp : S1600x1024x128.Idx → Elt F .fp8e4m3
  vp : S1600x1024x128.Idx → Elt F .fp8e4m3
  ks : S64x16x1600.Idx → Elt F .f32
  vs : S64x16x1600.Idx → Elt F .f32
  tb : S5x256.Idx → BitVec 32
  ln : S5.Idx → BitVec 32

/-- Index with every coordinate reduced into range. -/
abbrev n1 (a b : ℕ) (hb : 0 < b := by decide) : Fin b := ⟨a % b, Nat.mod_lt _ hb⟩

namespace Inp
variable (I : Inp F)

/-- Page id of logical page `p` of request `b`. -/
def pid (b p : ℕ) : ℕ := (I.tb (ix2 (n1 b 5) (n1 p 256))).toNat
/-- Length of request `b`. -/
def len (b : ℕ) : ℤ := (I.ln (ix1 (n1 b 5))).toInt
/-- Row `r` of page `q` of pool `i`. -/
def code (i q r d : ℕ) : Elt F .fp8e4m3 := (if i = 0 then I.kp else I.vp) (ix3 (n1 q 1600) (n1 r 1024) (n1 d 128))
/-- The narrowed scale of row `r` of page `q`. -/
def scale (i q r : ℕ) : F .bf16 :=
  FloatOps.truncf .bf16 bitsLt_bf16_f32 ((if i = 0 then I.ks else I.vs) (ix3 (n1 (r / 16) 64) (n1 r 16) (n1 q 1600)))
/-- The product of one code with its scale, its bits. -/
def prod (i q r d : ℕ) : BitVec 16 :=
  BitOps.toBits (FloatOps.mulf (FloatOps.extf .bf16 bitsLt_fp8e4m3_bf16 (I.code i q r d))
    (FloatOps.ofBits .bf16 (BitOps.toBits (I.scale i q r))))
/-- Token `t` of request `b`, head `h`, column `d` of result `i`: the product, or zero past the length. -/
def tok (i b h t d : ℕ) : BitVec 16 :=
  if (t : ℤ) < I.len b then I.prod i (I.pid b (t / 16)) (16 * h + t % 16) d else 0#16
/-- The word that holds tokens `2w` and `2w + 1` of block `j`. -/
def word (b j i h w d : ℕ) : BitVec 32 := I.tok i b h (128 * j + 2 * w + 1) d ++ I.tok i b h (128 * j + 2 * w) d
/-- The element of result `i`. -/
def out (i b h t d : ℕ) : F .bf16 := FloatOps.ofBits .bf16 (I.tok i b h t d)
end Inp

/-! ## The unit's payload -/

theorem bits_and (c0 c1 : Prop) [Decidable c0] [Decidable c1] (hi lo : BitVec 16) :
    (hi ++ lo : BitVec 32) &&& ((if c0 then 65535#32 else 0#32) ||| (if c1 then 4294901760#32 else 0#32))
      = (if c1 then hi else 0#16) ++ (if c0 then lo else 0#16) := by
  have e : ((if c0 then 65535#32 else 0#32) ||| (if c1 then 4294901760#32 else 0#32))
      = ((if c1 then BitVec.allOnes 16 else 0#16) ++ (if c0 then BitVec.allOnes 16 else 0#16) : BitVec 32) := by
    split_ifs <;> decide
  rw [e]
  rw [show ((hi ++ lo : BitVec 32) &&& ((if c1 then BitVec.allOnes 16 else 0#16) ++ (if c0 then BitVec.allOnes 16 else 0#16) : BitVec 32))
    = ((hi &&& (if c1 then BitVec.allOnes 16 else 0#16)) ++ (lo &&& (if c0 then BitVec.allOnes 16 else 0#16)) : BitVec 32) from BitVec.and_append]
  have h1 : ∀ x : BitVec 16, x &&& BitVec.allOnes 16 = x := fun x => BitVec.and_allOnes
  have h0 : ∀ x : BitVec 16, x &&& 0#16 = 0#16 := fun x => BitVec.and_zero
  split_ifs <;> simp only [h1, h0]

theorem bitcast_up (x : S32x128.Idx → BitVec 16) (h : S32x128.Bitcasts 16 S16x128 32) (y : Fin 16) (d : Fin 128) :
    bitcast S16x128 32 x h (ix2 y d)
      = x (ix2 (⟨2 * y + 1, by omega⟩ : Fin 32) d) ++ x (ix2 (⟨2 * y, by omega⟩ : Fin 32) d) := by
  rw [bitcast_16_32]
  congr 1
  · congr 1; funext a
    match a with
    | ⟨0, _⟩ => exact Fin.ext (h.srcIdx_row _ _ _ 0 rfl)
    | ⟨1, _⟩ => exact Fin.ext (h.srcIdx_other _ _ _ 1 (by decide))
  · congr 1; funext a
    match a with
    | ⟨0, _⟩ => exact Fin.ext (h.srcIdx_row _ _ _ 0 rfl)
    | ⟨1, _⟩ => exact Fin.ext (h.srcIdx_other _ _ _ 1 (by decide))

theorem bitcast_down (x : S16x128.Idx → BitVec 32) (h : S16x128.Bitcasts 32 S32x128 16) (r : Fin 32) (d : Fin 128) :
    bitcast S32x128 16 x h (ix2 r d)
      = (x (ix2 (⟨r / 2, by omega⟩ : Fin 16) d)).extractLsb' (16 * (r.val % 2)) 16 := by
  rw [bitcast_32_16]
  congr 2
  funext a
  match a with
  | ⟨0, _⟩ => exact Fin.ext (h.srcIdx_row _ _ _ 0 rfl)
  | ⟨1, _⟩ => exact Fin.ext (h.srcIdx_other _ _ _ 1 (by decide))

theorem ext_lo (hi lo : BitVec 16) : (hi ++ lo : BitVec 32).extractLsb' 0 16 = lo := by
  ext i h16
  rw [BitVec.getElem_extractLsb', BitVec.getLsbD_append]
  simp [h16]
theorem ext_hi (hi lo : BitVec 16) : (hi ++ lo : BitVec 32).extractLsb' 16 16 = hi := by
  ext i h16
  rw [BitVec.getElem_extractLsb', BitVec.getLsbD_append]
  simp [h16]

/-- One row pair of the unit's product words before they are cut into heads. -/
theorem pay26_apply (lane keep : IVec S16x128 32) (cs : Vec F S1x1x1x32x128 .fp8e4m3) (sc : Vec F S1x1x32x128 .bf16)
    (y : Fin 16) (d : Fin 128) (l : Fin 128) (hl : lane = broadcast S16x128 (BitVec.ofNat 32 l)) :
    k0_pay26 lane keep (k0_pay25 cs) sc (ix2 y d)
      = (BitOps.toBits (FloatOps.mulf (FloatOps.extf .bf16 bitsLt_fp8e4m3_bf16 (cs (ix5 0 0 0 (⟨2 * y + 1, by omega⟩ : Fin 32) d)))
            (FloatOps.ofBits .bf16 (BitOps.toBits (sc (ix4 0 0 (⟨2 * y + 1, by omega⟩ : Fin 32) l)))))
          ++ BitOps.toBits (FloatOps.mulf (FloatOps.extf .bf16 bitsLt_fp8e4m3_bf16 (cs (ix5 0 0 0 (⟨2 * y, by omega⟩ : Fin 32) d)))
            (FloatOps.ofBits .bf16 (BitOps.toBits (sc (ix4 0 0 (⟨2 * y, by omega⟩ : Fin 32) l))))) : BitVec 32) &&& keep (ix2 y d) := by
  subst hl
  have hcs : ∀ r : Fin 32, shapeCast S32x128 cs shapeCasts_S1x1x1x32x128_S32x128 (ix2 r d) = cs (ix5 0 0 0 r d) := fun r =>
    shapeCast_apply _ _ _ _ (by rw [Shape.rowMajor_val_five, Shape.rowMajor_val_two]; simp [ix5, ix2])
  have hsc : ∀ r : Fin 32, shapeCast S32x128 sc shapeCasts_S1x1x32x128_S32x128 (ix2 r l) = sc (ix4 0 0 r l) := fun r =>
    shapeCast_apply _ _ _ _ (by rw [Shape.rowMajor_val_four, Shape.rowMajor_val_two]; simp [ix4, ix2])
  have hg : ∀ (z : S16x128.Idx → BitVec 32) (idx : IVec S16x128 32) (y : Fin 16), (∀ j, idx j = BitVec.ofNat 32 l) →
      dynamicGather 1 z idx (ix2 y d) = z (ix2 y l) := by
    intro z idx y hidx
    unfold dynamicGather
    congr 1; funext a
    match a with
    | ⟨0, _⟩ => rfl
    | ⟨1, _⟩ =>
      refine Fin.ext ?_
      show ((idx (ix2 y d)).toNat % 128) = l.val
      rw [hidx]; have := l.isLt; simp
  have hlane : ∀ j, (shapeCast S16x128 (shapeCast S16x128x1 (select (cmpi .slt (broadcast S16x128 (BitVec.ofNat 32 l)) (broadcast S16x128 0#32))
      (addi (broadcast S16x128 (BitVec.ofNat 32 l)) (broadcast S16x128 128#32)) (broadcast S16x128 (BitVec.ofNat 32 l))) shapeCasts_S16x128_S16x128x1)
      shapeCasts_S16x128x1_S16x128) j = BitVec.ofNat 32 l := by
    intro j
    have hs : (BitVec.ofNat 32 l.val).slt 0#32 = false := by
      have := l.isLt
      rw [BitVec.slt_eq_decide]
      have : (BitVec.ofNat 32 l.val).toInt = l.val := by rw [BitVec.toInt_eq_toNat_of_lt] <;> simp <;> omega
      simp [this]
    show Scalar.select (BitVec.ofBool ((BitVec.ofNat 32 l.val).slt 0#32)) _ (BitVec.ofNat 32 l) = _
    rw [hs]; rfl
  unfold k0_pay26 k0_pay25
  dsimp only
  show bitcast S16x128 32 _ _ (ix2 y d) &&& keep (ix2 y d) = _
  congr 1
  rw [bitcast_up]
  have key : ∀ r : Fin 32, bitcast S32x128 16 (dynamicGather 1 (bitcast S16x128 32 (bitcastToInt (shapeCast S32x128 sc shapeCasts_S1x1x32x128_S32x128)) bitcasts_S32x128_w16_S16x128_w32)
      (shapeCast S16x128 (shapeCast S16x128x1 (select (cmpi .slt (broadcast S16x128 (BitVec.ofNat 32 l)) (broadcast S16x128 0#32))
      (addi (broadcast S16x128 (BitVec.ofNat 32 l)) (broadcast S16x128 128#32)) (broadcast S16x128 (BitVec.ofNat 32 l))) shapeCasts_S16x128_S16x128x1)
      shapeCasts_S16x128x1_S16x128)) bitcasts_S16x128_w32_S32x128_w16 (ix2 r d) = BitOps.toBits (sc (ix4 0 0 r l)) := by
    intro r
    rw [bitcast_down, hg _ _ _ hlane, bitcast_up]
    rcases Nat.mod_two_eq_zero_or_one r.val with h | h
    · rw [h, ext_lo]
      show BitOps.toBits (shapeCast S32x128 sc _ _) = _
      rw [hsc]; congr 3; apply Fin.ext; show 2 * (r.val / 2) = r.val; omega
    · rw [h, ext_hi]
      show BitOps.toBits (shapeCast S32x128 sc _ _) = _
      rw [hsc]; congr 3; apply Fin.ext; show 2 * (r.val / 2) + 1 = r.val; omega
  have hm : ∀ r : Fin 32, bitcastToInt (mulf (extf .bf16 (shapeCast S32x128 cs shapeCasts_S1x1x1x32x128_S32x128) bitsLt_fp8e4m3_bf16)
      (bitcastToFloat .bf16 (bitcast S32x128 16 (dynamicGather 1 (bitcast S16x128 32 (bitcastToInt (shapeCast S32x128 sc shapeCasts_S1x1x32x128_S32x128)) bitcasts_S32x128_w16_S16x128_w32)
      (shapeCast S16x128 (shapeCast S16x128x1 (select (cmpi .slt (broadcast S16x128 (BitVec.ofNat 32 l)) (broadcast S16x128 0#32))
      (addi (broadcast S16x128 (BitVec.ofNat 32 l)) (broadcast S16x128 128#32)) (broadcast S16x128 (BitVec.ofNat 32 l))) shapeCasts_S16x128_S16x128x1)
      shapeCasts_S16x128x1_S16x128)) bitcasts_S16x128_w32_S32x128_w16))) (ix2 r d)
      = BitOps.toBits (FloatOps.mulf (FloatOps.extf .bf16 bitsLt_fp8e4m3_bf16 (cs (ix5 0 0 0 r d)))
            (FloatOps.ofBits .bf16 (BitOps.toBits (sc (ix4 0 0 r l))))) := by
    intro r
    show BitOps.toBits (FloatOps.mulf (FloatOps.extf .bf16 _ (shapeCast S32x128 cs _ (ix2 r d))) (FloatOps.ofBits .bf16 (bitcast S32x128 16 _ _ (ix2 r d)))) = _
    rw [key, hcs]
  exact congr (congrArg _ (hm _)) (hm _)

theorem pay27_apply (lane keep : IVec S16x128 32) (v164 : FVec F S32x128 .bf16) (sc : Vec F S1x1x32x128 .bf16) (y : Fin 8) (d : Fin 128) :
    k0_pay27 lane keep v164 sc (ix5 0 0 0 y d) = k0_pay26 lane keep v164 sc (ix2 (⟨y, by omega⟩ : Fin 16) d) := by
  unfold k0_pay27
  rw [shapeCast_apply _ _ _ (ix2 y d) (by rw [Shape.rowMajor_val_five, Shape.rowMajor_val_two]; simp [ix5, ix2])]
  unfold extractStridedSlice
  congr 1; funext a
  match a with
  | ⟨0, _⟩ => exact Fin.ext (Nat.zero_add _)
  | ⟨1, _⟩ => exact Fin.ext (Nat.zero_add _)

theorem pay28_apply (lane keep : IVec S16x128 32) (v164 : FVec F S32x128 .bf16) (sc : Vec F S1x1x32x128 .bf16) (y : Fin 8) (d : Fin 128) :
    k0_pay28 lane keep v164 sc (ix5 0 0 0 y d) = k0_pay26 lane keep v164 sc (ix2 (⟨8 + y, by omega⟩ : Fin 16) d) := by
  unfold k0_pay28
  rw [shapeCast_apply _ _ _ (ix2 y d) (by rw [Shape.rowMajor_val_five, Shape.rowMajor_val_two]; simp [ix5, ix2])]
  unfold extractStridedSlice
  congr 1; funext a
  match a with
  | ⟨0, _⟩ => rfl
  | ⟨1, _⟩ => exact Fin.ext (Nat.zero_add _)

theorem pay543_apply (j : S1x1x1x8x128.Idx) : k0_pay543 j = 0#32 := rfl

/-! ## The unit's payload as two tokens' word -/

theorem iv_eq {n : ℕ} (k : Fin n) : Scf.iv 0#32 1#32 k = BitVec.ofNat 32 k.val := by simp [Scf.iv]

/-- The mask of row pair `y` keeps exactly the tokens below the length. -/
theorem pay24_apply (L : ℤ) (v62 v64 v68 v135 : BitVec 32) (k : Fin (k0_t16_loop v62 v68).trips) (j : ℕ) (hj : j < 32) (hk : k.val < 8)
    (hv : v64 = BitVec.ofNat 32 j) (hL : v135.toInt = L) (h0 : 0 < L) (y : Fin 16) (d : Fin 128) :
    k0_pay24 (F := F) v62 v64 v68 0#32 1#32 k v135 (ix2 y d)
      = (if ((128 * j + 16 * k.val + 2 * (y.val % 8) : ℕ) : ℤ) < L then 65535#32 else 0#32)
        ||| (if ((128 * j + 16 * k.val + 2 * (y.val % 8) + 1 : ℕ) : ℤ) < L then 4294901760#32 else 0#32) := by
  subst hv
  have hy := y.isLt
  have hr : IntOp.remsi .vector (BitVec.ofNat 32 y.val) 8#32 = BitVec.ofNat 32 (y.val % 8) := by
    revert y; decide
  have hv139 : (v135 - (BitVec.ofNat 32 j * 8#32 + BitVec.ofNat 32 k.val) * 16#32).toInt = L - (128 * j + 16 * k.val : ℕ) := by
    have e : (BitVec.ofNat 32 j * 8#32 + BitVec.ofNat 32 k.val) * 16#32 = BitVec.ofNat 32 (128 * j + 16 * k.val) := by
      apply BitVec.eq_of_toNat_eq; simp; omega
    have h1 := BitVec.toInt_lt (x := v135)
    have e2 : (BitVec.ofNat 32 (128 * j + 16 * k.val)).toInt = (128 * j + 16 * k.val : ℕ) := by
      rw [BitVec.toInt_eq_toNat_of_lt] <;> simp <;> omega
    rw [e, BitVec.toInt_sub, e2, hL, Int.bmod_def]; omega
  have hs : ∀ m : ℕ, m < 32 → ((BitVec.ofNat 32 m).slt (v135 - (BitVec.ofNat 32 j * 8#32 + BitVec.ofNat 32 k.val) * 16#32)
      = decide (((128 * j + 16 * k.val + m : ℕ) : ℤ) < L)) := by
    intro m hm
    have e2 : (BitVec.ofNat 32 m).toInt = m := by rw [BitVec.toInt_eq_toNat_of_lt] <;> simp <;> omega
    rw [BitVec.slt_eq_decide, hv139, e2]; congr 1; apply propext; omega
  have hm0 : 2#32 * BitVec.ofNat 32 (y.val % 8) = BitVec.ofNat 32 (2 * (y.val % 8)) := by
    apply BitVec.eq_of_toNat_eq; simp
  have hm1 : BitVec.ofNat 32 (2 * (y.val % 8)) + 1#32 = BitVec.ofNat 32 (2 * (y.val % 8) + 1) := by
    apply BitVec.eq_of_toNat_eq; simp
  have hi : (iota .tc S16x128 32 [0] iota_S16x128_d0_w32) (ix2 y d) = BitVec.ofNat 32 y.val := by
    show BitVec.ofNat 32 (0 * 16 + y.val) = _; rw [Nat.zero_mul, Nat.zero_add]
  have hsel : ∀ (c : Bool) (a b : BitVec 32), Scalar.select (BitVec.ofBool c) a b = if c = true then a else b := by
    intro c a b; cases c <;> rfl
  unfold k0_pay24
  show (Scalar.select (BitVec.ofBool ((2#32 * (IntOp.remsi .vector ((iota .tc S16x128 32 [0] iota_S16x128_d0_w32) (ix2 y d)) 8#32)).slt
        (v135 - (BitVec.ofNat 32 j * 8#32 + Scf.iv 0#32 1#32 k) * 16#32))) 65535#32 0#32)
    ||| (Scalar.select (BitVec.ofBool ((2#32 * (IntOp.remsi .vector ((iota .tc S16x128 32 [0] iota_S16x128_d0_w32) (ix2 y d)) 8#32) + 1#32).slt
        (v135 - (BitVec.ofNat 32 j * 8#32 + Scf.iv 0#32 1#32 k) * 16#32))) 4294901760#32 0#32) = _
  rw [hi, hr, iv_eq, hm0, hm1, hs _ (by omega), hs _ (by omega), hsel, hsel]
  simp only [decide_eq_true_eq, Nat.add_assoc]

/-- What the payload needs to know of the codes, scales, lane and mask of unit `(i, h)` of page `p` of block `(b, j)`. -/
structure UnitIn (I : Inp F) (b j p i h l : ℕ) (lane keep : IVec S16x128 32) (cs : Vec F S1x1x1x32x128 .fp8e4m3)
    (sc : Vec F S1x1x32x128 .bf16) : Prop where
  hp : p < 8
  hl : l < 128
  lane : lane = broadcast S16x128 (BitVec.ofNat 32 l)
  keep : ∀ (y : Fin 16) (d : Fin 128), keep (ix2 y d)
      = (if ((128 * j + 16 * p + 2 * (y.val % 8) : ℕ) : ℤ) < I.len b then 65535#32 else 0#32)
        ||| (if ((128 * j + 16 * p + 2 * (y.val % 8) + 1 : ℕ) : ℤ) < I.len b then 4294901760#32 else 0#32)
  codes : ∀ (r : Fin 32) (d : Fin 128), cs (ix5 0 0 0 r d) = I.code i (I.pid b (8 * j + p)) (32 * h + r) d
  scales : ∀ (r : Fin 32), sc (ix4 0 0 r (n1 l 128)) = I.scale i (I.pid b (8 * j + p)) (32 * h + r)

variable {I : Inp F} {b j p i h l : ℕ} {lane keep : IVec S16x128 32} {cs : Vec F S1x1x1x32x128 .fp8e4m3} {sc : Vec F S1x1x32x128 .bf16}

theorem unit_word (U : UnitIn I b j p i h l lane keep cs sc) (y : Fin 16) (d : Fin 128) :
    k0_pay26 lane keep (k0_pay25 cs) sc (ix2 y d) = I.word b j i (2 * h + y / 8) (8 * p + y % 8) d := by
  have hl := U.hl
  have hy := y.isLt
  have hn : (⟨l, hl⟩ : Fin 128) = n1 l 128 := Fin.ext (Nat.mod_eq_of_lt hl).symm
  rw [pay26_apply lane keep cs sc y d ⟨l, hl⟩ U.lane, U.keep, bits_and, hn, U.codes, U.codes, U.scales, U.scales]
  unfold Inp.word Inp.tok Inp.prod
  have e1 : 128 * j + 2 * (8 * p + y.val % 8) + 1 = 128 * j + 16 * p + 2 * (y.val % 8) + 1 := by omega
  have e0 : 128 * j + 2 * (8 * p + y.val % 8) = 128 * j + 16 * p + 2 * (y.val % 8) := by omega
  have q1 : (128 * j + 16 * p + 2 * (y.val % 8) + 1) / 16 = 8 * j + p := by omega
  have q0 : (128 * j + 16 * p + 2 * (y.val % 8)) / 16 = 8 * j + p := by omega
  have r1 : 16 * (2 * h + y.val / 8) + (128 * j + 16 * p + 2 * (y.val % 8) + 1) % 16 = 32 * h + (2 * y.val + 1) := by omega
  have r0 : 16 * (2 * h + y.val / 8) + (128 * j + 16 * p + 2 * (y.val % 8)) % 16 = 32 * h + 2 * y.val := by omega
  rw [e1, e0, q1, q0, r1, r0]

theorem unit_word27 (U : UnitIn I b j p i h l lane keep cs sc) (y : Fin 8) (d : Fin 128) :
    k0_pay27 lane keep (k0_pay25 cs) sc (ix5 0 0 0 y d) = I.word b j i (h * 2) (8 * p + y) d := by
  have hy := y.isLt
  rw [pay27_apply, unit_word U]
  congr 1
  · show 2 * h + y.val / 8 = _; omega
  · show 8 * p + y.val % 8 = _; omega

theorem unit_word28 (U : UnitIn I b j p i h l lane keep cs sc) (y : Fin 8) (d : Fin 128) :
    k0_pay28 lane keep (k0_pay25 cs) sc (ix5 0 0 0 y d) = I.word b j i (h * 2 + 1) (8 * p + y) d := by
  have hy := y.isLt
  rw [pay28_apply, unit_word U]
  congr 1
  · show 2 * h + (8 + y.val) / 8 = _; omega
  · show 8 * p + (8 + y.val) % 8 = _; omega

end Cert.Proof.Pages

end
-- ==== Proof.Base.lean ====
module

public import proofs.«01_k».proof.Proof.Units
public import proofs.«01_k».proof.Proof.Values
public import proofs.«01_k».proof.Defs
public import proofs.«01_k».proof.Proof.Gen.Kernel.Launch
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

/-! # The setting: resources, buffers, single steps -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

abbrev UU (nD : Nat) (τ : Topo) : Type := UR sig nD τ × Counters
abbrev MM (F : FTy → Type) [BitOps F] : Type := MT nD τ sig Unit (Elt F) ℕ (UU nD τ) ℕ
abbrev EP : Emb (UR sig nD τ) (MM F) := embL
abbrev EC : UEmb Counters (MM F) := countersEmb
abbrev 𝒱₀ : Variants := Variants.none

/-- The weakest precondition of a piece of the kernel on core `c`. -/
abbrev WP (c : Dev nD) {α : Type} (p : KProg F α) (Q : α → sProp (MM F)) : sProp (MM F) :=
  wp frame (wpE (defs₀ (F := F)) 𝒱₀ (c : Thread nD τ) none) Set.univ p Q

omit [BitOps F] in
theorem entails_of_eq {M : Type} [URA M] {P Q : sProp M} (e : P = Q) : P ⊢ Q := e ▸ .rfl

/-! ## The buffers -/

abbrev mIn : Memref sig .tc .vmem S4x2x8x1024x128 .fp8e4m3 := Memref.whole cc0_scratch1
abbrev mWords : Memref sig .tc .vmem S4x2x64x64x128 .i32 := Memref.whole cc0_scratch2
abbrev mZero : Memref sig .tc .vmem S64x128x128 .bf16 := Memref.whole cc0_scratch3
abbrev mStage : Memref sig .tc .vmem S2x64x16x1600 .f32 := Memref.whole cc0_scratch4
abbrev mScales : Memref sig .tc .vmem S2x13x1024x128 .bf16 := Memref.whole cc0_scratch5
abbrev mOrder : Memref sig .tc .smem S160 .i32 := Memref.whole cc0_scratch0

abbrev lIn (c : Dev nD) : Loc nD τ sig := (c : Thread nD τ).loc cc0_scratch1
abbrev lWords (c : Dev nD) : Loc nD τ sig := (c : Thread nD τ).loc cc0_scratch2
abbrev lZero (c : Dev nD) : Loc nD τ sig := (c : Thread nD τ).loc cc0_scratch3
abbrev lStage (c : Dev nD) : Loc nD τ sig := (c : Thread nD τ).loc cc0_scratch4
abbrev lScales (c : Dev nD) : Loc nD τ sig := (c : Thread nD τ).loc cc0_scratch5
abbrev lOrder (c : Dev nD) : Loc nD τ sig := (c : Thread nD τ).loc cc0_scratch0

abbrev CIn (F : FTy → Type) := S4x2x8x1024x128.Idx → Elt F .fp8e4m3
abbrev CWords := S4x2x64x64x128.Idx → BitVec 32
abbrev CScales (F : FTy → Type) := S2x13x1024x128.Idx → Elt F .bf16

/-- The part of the input buffer that is slot `s`. -/
def inSlot (s : ℕ) : Finset S4x2x8x1024x128.Idx := Finset.univ.filter fun x => (x 0).val = s
/-- The part of the word buffer that is slot `s`. -/
def wordSlot (s : ℕ) : Finset S4x2x64x64x128.Idx := Finset.univ.filter fun x => (x 0).val = s

theorem mem_inSlot {s : ℕ} {x : S4x2x8x1024x128.Idx} : x ∈ inSlot s ↔ (x 0).val = s := by simp [inSlot]
theorem mem_wordSlot {s : ℕ} {x : S4x2x64x64x128.Idx} : x ∈ wordSlot s ↔ (x 0).val = s := by simp [wordSlot]

/-! ## Single steps -/

section Steps
variable (c : Dev nD) {α : Type} {Q : α → sProp (MM F)}

/-- A load through a rectangle. -/
theorem g_load {cs : CoreSpace} {s : Shape} {e : EltTy} (m : Memref sig .tc cs s e) (r : Rect s) (hl : m.view.LoadsAt r.toLoadRect)
    (k : (r.shape.Idx → Elt F e) → KProg F α) (S : Finset (Idx ((m.access r).loc (c : Thread nD τ)))) (q : PosShare TreeShare)
    (f : Buf (Elt F) ((m.access r).loc (c : Thread nD τ))) (hS : (m.access r).set ⊆ S) :
    ((m.access r).loc (c : Thread nD τ) ↦[S]{q} f)
      ⊢ iprop((((m.access r).loc (c : Thread nD τ) ↦[S]{q} f) -∗ WP c (k ((m.access r).read (Elt F) f)) Q)
        -∗ WP c (Prog.lift (.load m r.toLoadRect hl) >>= k) Q) :=
  wp_load_rect (m := m) (r := r) (hl := hl) (k := k) (Q := Q) (Γ := .empty) 𝒱₀ (c : Thread nD τ) none Set.univ hS

/-- A store through a rectangle. -/
theorem g_store {cs : CoreSpace} {s : Shape} {e : EltTy} (m : Memref sig .tc cs s e) (r : Rect s) (w : r.shape.Idx → Elt F e)
    (hx : (m.access r).Stores Finset.univ) (hm : Finset.univ = Finset.univ ∨ ∀ a, r.stride a = 1)
    (k : PUnit → KProg F α) (S : Finset (Idx ((m.access r).loc (c : Thread nD τ))))
    (f : Buf (Elt F) ((m.access r).loc (c : Thread nD τ))) (hS : (m.access r).set ⊆ S) :
    ((m.access r).loc (c : Thread nD τ) ↦[S]{fullShare} f)
      ⊢ iprop((((m.access r).loc (c : Thread nD τ) ↦[S]{fullShare} ((m.access r).write (Elt F) f w Finset.univ)) -∗ WP c (k ⟨⟩) Q)
        -∗ WP c (Prog.lift (.store m r w Finset.univ hx hm) >>= k) Q) :=
  wp_store (m := m) (r := r) (w := w) (hx := hx) (hm := hm) (k := k) (Q := Q) (Γ := .empty) 𝒱₀ (c : Thread nD τ) none Set.univ
    (by rw [View.setOn_univ]; exact hS)

/-- The same, the contents it leaves named. -/
theorem g_store' {cs : CoreSpace} {s : Shape} {e : EltTy} (m : Memref sig .tc cs s e) (r : Rect s) (w : r.shape.Idx → Elt F e)
    (hx : (m.access r).Stores Finset.univ) (hm : Finset.univ = Finset.univ ∨ ∀ a, r.stride a = 1)
    (k : PUnit → KProg F α) (S : Finset (Idx ((m.access r).loc (c : Thread nD τ))))
    (f f' : Buf (Elt F) ((m.access r).loc (c : Thread nD τ))) (hS : (m.access r).set ⊆ S) (e : (m.access r).write (Elt F) f w Finset.univ = f') :
    ((m.access r).loc (c : Thread nD τ) ↦[S]{fullShare} f)
      ⊢ iprop((((m.access r).loc (c : Thread nD τ) ↦[S]{fullShare} f') -∗ WP c (k ⟨⟩) Q)
        -∗ WP c (Prog.lift (.store m r w Finset.univ hx hm) >>= k) Q) := by
  subst e
  exact g_store c m r w hx hm k S f hS

/-- The elements of a unit rectangle of a whole buffer lie where its first axis says. -/
theorem rect_head (b : Ref sig .tc) (off size : Fin b.ty.shape.rank → ℕ) (hin : ∀ a, off a + size a ≤ b.ty.shape.size a)
    (S : Finset b.ty.shape.Idx) (h : ∀ x : b.ty.shape.Idx, (∀ a, off a ≤ (x a).val ∧ (x a).val < off a + size a) → x ∈ S) :
    ((View.whole b).slice (Rect.unit off size hin)).set ⊆ S := fun x hx => by
  rw [View.set_slice_whole] at hx
  exact h x fun a => (Rect.mem_set_unit (inb := hin)).mp hx a

theorem codesRect_sub {off : Fin 5 → ℕ} (hin : ∀ a, off a + S1x1x1x32x128.size a ≤ S4x2x8x1024x128.size a) :
    (mIn.access (Rect.unit (s := S4x2x8x1024x128) off S1x1x1x32x128.size hin)).set ⊆ inSlot (off 0) :=
  rect_head cc0_scratch1 off S1x1x1x32x128.size hin (inSlot (off 0)) fun x hx => by
    have := hx (0 : Fin 5)
    have h1 : S1x1x1x32x128.size 0 = 1 := rfl
    exact mem_inSlot.mpr (by omega)

theorem step_loadCodes {off : Fin 5 → ℕ} {hin : ∀ a, off a + S1x1x1x32x128.size a ≤ S4x2x8x1024x128.size a}
    {hl : mIn.view.LoadsAt (Rect.unit (s := S4x2x8x1024x128) off S1x1x1x32x128.size hin).toLoadRect}
    {k : Vec F S1x1x1x32x128 .fp8e4m3 → KProg F α} {q : PosShare TreeShare} {s : ℕ} (hs : off 0 = s) (f : CIn F) :
    ((lIn c) ↦[inSlot s]{q} f)
      ⊢ iprop((((lIn c) ↦[inSlot s]{q} f) -∗ WP c (k (fun j => f ((Rect.unit (s := S4x2x8x1024x128) off S1x1x1x32x128.size hin).emb j))) Q)
        -∗ WP c (Prog.lift (.load mIn (Rect.unit (s := S4x2x8x1024x128) off S1x1x1x32x128.size hin).toLoadRect hl) >>= k) Q) := by
  subst hs
  exact g_load c mIn (Rect.unit (s := S4x2x8x1024x128) off S1x1x1x32x128.size hin) hl k (inSlot (off 0)) q f (codesRect_sub hin)

theorem step_loadScales {off : Fin 4 → ℕ} {hin : ∀ a, off a + S1x1x32x128.size a ≤ S2x13x1024x128.size a}
    {hl : mScales.view.LoadsAt (Rect.unit (s := S2x13x1024x128) off S1x1x32x128.size hin).toLoadRect}
    {k : Vec F S1x1x32x128 .bf16 → KProg F α} {q : PosShare TreeShare} {S : Finset S2x13x1024x128.Idx} (hS : ∀ x, x ∈ S) (f : CScales F) :
    ((lScales c) ↦[S]{q} f)
      ⊢ iprop((((lScales c) ↦[S]{q} f) -∗ WP c (k (fun j => f ((Rect.unit (s := S2x13x1024x128) off S1x1x32x128.size hin).emb j))) Q)
        -∗ WP c (Prog.lift (.load mScales (Rect.unit (s := S2x13x1024x128) off S1x1x32x128.size hin).toLoadRect hl) >>= k) Q) :=
  g_load c mScales (Rect.unit (s := S2x13x1024x128) off S1x1x32x128.size hin) hl k S q f (fun x _ => hS x)

theorem wordRect_sub {off : Fin 5 → ℕ} (hin : ∀ a, off a + S1x1x1x8x128.size a ≤ S4x2x64x64x128.size a) :
    (mWords.access (Rect.unit (s := S4x2x64x64x128) off S1x1x1x8x128.size hin)).set ⊆ wordSlot (off 0) :=
  rect_head cc0_scratch2 off S1x1x1x8x128.size hin (wordSlot (off 0)) fun x hx => by
    have := hx (0 : Fin 5)
    have h1 : S1x1x1x8x128.size 0 = 1 := rfl
    exact mem_wordSlot.mpr (by omega)

theorem step_loadWords {off : Fin 5 → ℕ} {hin : ∀ a, off a + S1x1x1x8x128.size a ≤ S4x2x64x64x128.size a}
    {hl : mWords.view.LoadsAt (Rect.unit (s := S4x2x64x64x128) off S1x1x1x8x128.size hin).toLoadRect}
    {k : Vec F S1x1x1x8x128 .i32 → KProg F α} {q : PosShare TreeShare} {s : ℕ} (hs : off 0 = s) (f : CWords) :
    ((lWords c) ↦[wordSlot s]{q} f)
      ⊢ iprop((((lWords c) ↦[wordSlot s]{q} f) -∗ WP c (k (fun j => f ((Rect.unit (s := S4x2x64x64x128) off S1x1x1x8x128.size hin).emb j))) Q)
        -∗ WP c (Prog.lift (.load mWords (Rect.unit (s := S4x2x64x64x128) off S1x1x1x8x128.size hin).toLoadRect hl) >>= k) Q) := by
  subst hs
  exact g_load c mWords (Rect.unit (s := S4x2x64x64x128) off S1x1x1x8x128.size hin) hl k (wordSlot (off 0)) q f (wordRect_sub hin)

/-- `f'` is `f` with the rectangle at `off` of sizes `size` overwritten by `w`. -/
def Wrote {n : ℕ} {d : Fin n → ℕ} {α : Type} (off size : Fin n → ℕ) (f : (⟨n, d⟩ : Shape).Idx → α) (w : (⟨n, size⟩ : Shape).Idx → α) (f' : (⟨n, d⟩ : Shape).Idx → α) : Prop :=
  (∀ (x : (⟨n, d⟩ : Shape).Idx) (h : ∀ a, off a ≤ (x a).val ∧ (x a).val < off a + size a), f' x = w fun a => ⟨(x a).val - off a, by
    have := h a; show (x a).val - off a < size a; omega⟩)
  ∧ ∀ x : (⟨n, d⟩ : Shape).Idx, (¬ ∀ a, off a ≤ (x a).val ∧ (x a).val < off a + size a) → f' x = f x

theorem whole_wrote {Val : EltTy → Type} (b : Ref sig .tc) (off size : Fin b.ty.shape.rank → ℕ) (hin : ∀ a, off a + size a ≤ b.ty.shape.size a)
    (f : b.ty.Contents Val) (w : (Rect.unit off size hin).shape.Idx → Val b.ty.elt) :
    Wrote (d := b.ty.shape.size) off size f w (((View.whole b).slice (Rect.unit off size hin)).write Val f w Finset.univ) := by
  rw [View.write_whole_slice_unit]
  refine ⟨?_, ?_⟩
  · intro x h
    unfold updateSlice
    exact dif_pos h
  · intro x h
    unfold updateSlice
    exact dif_neg h

theorem wrote_words {off : Fin 5 → ℕ} (hin : ∀ a, off a + S1x1x1x8x128.size a ≤ S4x2x64x64x128.size a) (f : CWords) (w : Vec F S1x1x1x8x128 .i32) :
    Wrote (d := S4x2x64x64x128.size) off S1x1x1x8x128.size f w
      ((mWords.access (Rect.unit (s := S4x2x64x64x128) off S1x1x1x8x128.size hin)).write (Elt F) f w Finset.univ) :=
  whole_wrote (Val := Elt F) cc0_scratch2 off S1x1x1x8x128.size hin f w

theorem step_storeWords {off : Fin 5 → ℕ} {hin : ∀ a, off a + S1x1x1x8x128.size a ≤ S4x2x64x64x128.size a}
    {w : Vec F S1x1x1x8x128 .i32}
    {hx : (mWords.access (Rect.unit (s := S4x2x64x64x128) off S1x1x1x8x128.size hin)).Stores Finset.univ}
    {hm : (Finset.univ : Finset (Rect.unit (s := S4x2x64x64x128) off S1x1x1x8x128.size hin).shape.Idx) = Finset.univ ∨ ∀ a, (Rect.unit (s := S4x2x64x64x128) off S1x1x1x8x128.size hin).stride a = 1}
    {k : PUnit → KProg F α} {s : ℕ} (hs : off 0 = s) (f : CWords) :
    ((lWords c) ↦[wordSlot s]{fullShare} f)
      ⊢ iprop((∀ f' : CWords, ⌜Wrote (d := S4x2x64x64x128.size) off S1x1x1x8x128.size f w f'⌝ -∗ ((lWords c) ↦[wordSlot s]{fullShare} f') -∗ WP c (k ⟨⟩) Q)
        -∗ WP c (Prog.lift (.store mWords (Rect.unit (s := S4x2x64x64x128) off S1x1x1x8x128.size hin) w Finset.univ hx hm) >>= k) Q) := by
  subst hs
  have h := g_store (Q := Q) c mWords (Rect.unit (s := S4x2x64x64x128) off S1x1x1x8x128.size hin) w hx hm k (wordSlot (off 0)) f (wordRect_sub hin)
  have e := wrote_words hin f w
  iintro H Hk
  iapply h $$ H
  iintro H
  iapply Hk $$ %_ %e H

theorem step_assume {P : Prop} {d : Decidable P} {k : PLift P → KProg F α} (h : P) :
    WP c (k ⟨h⟩) Q ⊢ WP c (Prog.lift (.assume P d) >>= k) Q :=
  wp_assume 𝒱₀ (c : Thread nD τ) none Set.univ h

theorem step_pure (a : α) : Q a ⊢ WP c (pure a) Q := by
  unfold WP
  rw [wp_pure]
  iintro H
  imodintro
  iexact H

end Steps

end Cert.Proof.Pages

end
-- ==== Proof.UnitsWp.lean ====
module

public import proofs.«01_k».proof.Proof.Base

@[expose] public section

noncomputable section

/-! # One page converted, one page padded -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The packed scales are right. -/
def ScalesOk (I : Inp F) (fS : CScales F) : Prop :=
  ∀ x : S2x13x1024x128.Idx, 128 * (x 1).val + (x 3).val < 1600 → fS x = I.scale (x 0) (128 * (x 1).val + (x 3).val) (x 2)
/-- Page `p` of slot `s` holds the rows of page `q` of both pools. -/
def PageIn (I : Inp F) (fI : CIn F) (s p q : ℕ) : Prop :=
  ∀ x : S4x2x8x1024x128.Idx, (x 0).val = s → (x 2).val = p → fI x = I.code (x 1) q (x 3) (x 4)
/-- The words of slot `s` satisfying `D` are the words of block `j` of request `b`. -/
def WordsOk (I : Inp F) (b j s : ℕ) (f : CWords) (D : ℕ → ℕ → ℕ → Prop) : Prop :=
  ∀ x : S4x2x64x64x128.Idx, (x 0).val = s → D (x 1) (x 2) (x 3) → f x = I.word b j (x 1) (x 2) (x 3) (x 4)

theorem WordsOk.mono {I : Inp F} {b j s : ℕ} {f : CWords} {D D' : ℕ → ℕ → ℕ → Prop} (h : WordsOk I b j s f D)
    (hD : ∀ i h w, i < 2 → h < 64 → w < 64 → D' i h w → D i h w) : WordsOk I b j s f D' := fun x h0 hx =>
  h x h0 (hD _ _ _ (x 1).isLt (x 2).isLt (x 3).isLt hx)

theorem code_congr (I : Inp F) {i i' q r r' d d' : ℕ} (h1 : i = i') (h2 : r = r') (h3 : d = d') : I.code i q r d = I.code i' q r' d' := by
  subst h1 h2 h3; rfl

/-- What holds while a page of block `j` of request `b` is converted. -/
structure PageCtx (I : Inp F) (b j p l : ℕ) (lane keep : IVec S16x128 32) : Prop where
  hp : p < 8
  hj : j < 32
  hl : l < 128
  lane : lane = broadcast S16x128 (BitVec.ofNat 32 l)
  keep : ∀ (y : Fin 16) (d : Fin 128), keep (ix2 y d)
      = (if ((128 * j + 16 * p + 2 * (y.val % 8) : ℕ) : ℤ) < I.len b then 65535#32 else 0#32)
        ||| (if ((128 * j + 16 * p + 2 * (y.val % 8) + 1 : ℕ) : ℤ) < I.len b then 4294901760#32 else 0#32)
  hq : I.pid b (8 * j + p) < 1600
  hql : I.pid b (8 * j + p) % 128 = l

variable {I : Inp F} {b j p l : ℕ} {lane keep : IVec S16x128 32} {fI : CIn F} {fS : CScales F} {s w cc : ℕ}

theorem unitIn_of (P : PageCtx I b j p l lane keep) (hfS : ScalesOk I fS) (hfI : PageIn I fI s p (I.pid b (8 * j + p)))
    (hcc : cc = I.pid b (8 * j + p) / 128) (hC : CodesIn s p) (hS : ScalesIn cc) (i h : ℕ) (hi : i < 2) (hh : h < 32) :
    UnitIn I b j p i h l lane keep
      (fun y => fI ((Rect.unit (s := S4x2x8x1024x128) (codesOff s p i h) S1x1x1x32x128.size (hC i h hi hh)).emb y))
      (fun y => fS ((Rect.unit (s := S2x13x1024x128) (scalesOff cc i h) S1x1x32x128.size (hS i h hi hh)).emb y)) where
  hp := P.hp
  hl := P.hl
  lane := P.lane
  keep := P.keep
  codes r d := by
    refine (hfI _ ?_ ?_).trans (code_congr I ?_ ?_ ?_)
    · show s + 1 * 0 = s; omega
    · show p + 1 * 0 = p; omega
    · show i + 1 * 0 = i; omega
    · show h * 32 + 1 * r.val = 32 * h + r.val; omega
    · show 0 + 1 * d.val = d.val; omega
  scales r := by
    have hl := P.hl
    have hq := P.hq
    have hql := P.hql
    have e3 : (((Rect.unit (s := S2x13x1024x128) (scalesOff cc i h) S1x1x32x128.size (hS i h hi hh)).emb (ix4 0 0 r (n1 l 128))) 3).val = l := by
      show 0 + 1 * (l % 128) = l; omega
    have e1 : (((Rect.unit (s := S2x13x1024x128) (scalesOff cc i h) S1x1x32x128.size (hS i h hi hh)).emb (ix4 0 0 r (n1 l 128))) 1).val = cc := by
      show cc + 1 * 0 = cc; omega
    have e0 : (((Rect.unit (s := S2x13x1024x128) (scalesOff cc i h) S1x1x32x128.size (hS i h hi hh)).emb (ix4 0 0 r (n1 l 128))) 0).val = i := by
      show i + 1 * 0 = i; omega
    have e2 : (((Rect.unit (s := S2x13x1024x128) (scalesOff cc i h) S1x1x32x128.size (hS i h hi hh)).emb (ix4 0 0 r (n1 l 128))) 2).val = 32 * h + r.val := by
      show h * 32 + 1 * r.val = 32 * h + r.val; omega
    have e : 128 * cc + l = I.pid b (8 * j + p) := by omega
    refine (hfS _ (by rw [e1, e3, e]; exact hq)).trans ?_
    rw [e0, e1, e2, e3, e]

/-- A store of eight rows of head `h'` into the words. -/
theorem wrote_ok {i h' : ℕ} (hp : p < 8) (hw : w = 8 * p) {f f' : CWords} {v : S1x1x1x8x128.Idx → BitVec 32}
    (hv : ∀ (y : Fin 8) (d : Fin 128), v (ix5 0 0 0 y d) = I.word b j i h' (8 * p + y) d)
    (W : Wrote (d := S4x2x64x64x128.size) (wordsOff s w i h') S1x1x1x8x128.size f v f')
    {D : ℕ → ℕ → ℕ → Prop} (hf : WordsOk I b j s f D) :
    WordsOk I b j s f' (fun i₁ h₁ w₁ => D i₁ h₁ w₁ ∨ (i₁ = i ∧ h₁ = h' ∧ 8 * p ≤ w₁ ∧ w₁ < 8 * p + 8)) := by
  intro x h0 hx
  have hx4 : (x 4).val < 128 := (x 4).isLt
  by_cases hr : (x 1).val = i ∧ (x 2).val = h' ∧ 8 * p ≤ (x 3).val ∧ (x 3).val < 8 * p + 8
  · obtain ⟨r1, r2, r3, r4⟩ := hr
    have hin : ∀ a : Fin 5, wordsOff s w i h' a ≤ (x a).val ∧ (x a).val < wordsOff s w i h' a + S1x1x1x8x128.size a := by
      intro a
      match a with
      | ⟨0, _⟩ => show s ≤ (x 0).val ∧ (x 0).val < s + 1; omega
      | ⟨1, _⟩ => show i ≤ (x 1).val ∧ (x 1).val < i + 1; omega
      | ⟨2, _⟩ => show h' ≤ (x 2).val ∧ (x 2).val < h' + 1; omega
      | ⟨3, _⟩ => show w ≤ (x 3).val ∧ (x 3).val < w + 8; omega
      | ⟨4, _⟩ => show 0 ≤ (x 4).val ∧ (x 4).val < 0 + 128; omega
    rw [W.1 x hin]
    have e : (fun a => ⟨(x a).val - wordsOff s w i h' a, by
        have := hin a; show (x a).val - wordsOff s w i h' a < S1x1x1x8x128.size a; omega⟩ : S1x1x1x8x128.Idx)
        = ix5 0 0 0 (⟨(x 3).val - 8 * p, by omega⟩ : Fin 8) (⟨(x 4).val, hx4⟩ : Fin 128) := by
      funext a
      match a with
      | ⟨0, _⟩ => exact Fin.ext (show (x 0).val - s = 0 by omega)
      | ⟨1, _⟩ => exact Fin.ext (show (x 1).val - i = 0 by omega)
      | ⟨2, _⟩ => exact Fin.ext (show (x 2).val - h' = 0 by omega)
      | ⟨3, _⟩ => exact Fin.ext (show (x 3).val - w = (x 3).val - 8 * p by omega)
      | ⟨4, _⟩ => exact Fin.ext (show (x 4).val - 0 = (x 4).val by omega)
    refine (congrArg v e).trans ((hv _ _).trans ?_)
    rw [r1, r2, show 8 * p + ((x 3).val - 8 * p) = (x 3).val by omega]
  · have hout : ¬ ∀ a : Fin 5, wordsOff s w i h' a ≤ (x a).val ∧ (x a).val < wordsOff s w i h' a + S1x1x1x8x128.size a := by
      intro hin
      have i1 : i ≤ (x 1).val ∧ (x 1).val < i + 1 := hin 1
      have i2 : h' ≤ (x 2).val ∧ (x 2).val < h' + 1 := hin 2
      have i3 : w ≤ (x 3).val ∧ (x 3).val < w + 8 := hin 3
      omega
    rw [W.2 x hout]
    exact hf x h0 (hx.resolve_right hr)

section Wp
variable (c : Dev nD) {Q : BitVec 32 → sProp (MM F)} {q q' : PosShare TreeShare} {S : Finset S2x13x1024x128.Idx}

/-- One unit of the page conversion. -/
theorem wp_cvUnit (hSa : ∀ x, x ∈ S) (P : PageCtx I b j p l lane keep) (hfS : ScalesOk I fS) (hfI : PageIn I fI s p (I.pid b (8 * j + p)))
    (hcc : cc = I.pid b (8 * j + p) / 128) (hw : w = 8 * p) (hC : CodesIn s p) (hS : ScalesIn cc) (hW : WordsIn s w)
    (i h : ℕ) (hi : i < 2) (hh : h < 32) (k : KProg F (BitVec 32)) (f : CWords) {D : ℕ → ℕ → ℕ → Prop} (hf : WordsOk I b j s f D) :
    iprop(((lIn c) ↦[inSlot s]{q} fI) ∗ ((lScales c) ↦[S]{q'} fS) ∗ ((lWords c) ↦[wordSlot s]{fullShare} f))
      ⊢ iprop((∀ f' : CWords, ⌜WordsOk I b j s f' (fun i₁ h₁ w₁ => D i₁ h₁ w₁ ∨ (i₁ = i ∧ h₁ / 2 = h ∧ 8 * p ≤ w₁ ∧ w₁ < 8 * p + 8))⌝ -∗
          (((lIn c) ↦[inSlot s]{q} fI) ∗ ((lScales c) ↦[S]{q'} fS) ∗ ((lWords c) ↦[wordSlot s]{fullShare} f')) -∗ WP c k Q)
        -∗ WP c (cvUnit mIn mWords mScales s p w cc hC hS hW lane keep i h hi hh k) Q) := by
  have U := unitIn_of P hfS hfI hcc hC hS i h hi hh
  iintro ⟨HI, HS, HO⟩ Hk
  unfold cvUnit
  iapply (step_loadCodes c (off := codesOff s p i h) (s := s) rfl fI) $$ HI
  iintro HI
  iapply (step_loadScales c hSa fS) $$ HS
  iintro HS
  iapply (step_loadWords c (off := wordsOff s w i (h * 2)) (s := s) rfl f) $$ HO
  iintro HO
  iapply (step_storeWords c (off := wordsOff s w i (h * 2)) (s := s) rfl f) $$ HO
  iintro %f1 %W1 HO
  iapply (step_loadWords c (off := wordsOff s w i (h * 2 + 1)) (s := s) rfl f1) $$ HO
  iintro HO
  iapply (step_storeWords c (off := wordsOff s w i (h * 2 + 1)) (s := s) rfl f1) $$ HO
  iintro %f2 %W2 HO
  have o1 := wrote_ok P.hp hw (unit_word27 U) W1 hf
  have o2 := wrote_ok P.hp hw (unit_word28 U) W2 o1
  have o3 : WordsOk I b j s f2 (fun i₁ h₁ w₁ => D i₁ h₁ w₁ ∨ (i₁ = i ∧ h₁ / 2 = h ∧ 8 * p ≤ w₁ ∧ w₁ < 8 * p + 8)) :=
    o2.mono fun i₁ h₁ w₁ _ _ _ hd => by
      rcases hd with hd | ⟨a1, a2, a3⟩
      · exact .inl (.inl hd)
      · by_cases hq : h₁ = h * 2
        · exact .inl (.inr ⟨a1, hq, a3⟩)
        · exact .inr ⟨a1, by omega, a3⟩
  iapply Hk $$ %f2 %o3
  isplitl [HI]; · iexact HI
  isplitl [HS]; · iexact HS
  iexact HO

/-- The remaining units of one page. -/
theorem wp_cvUnits (hSa : ∀ x, x ∈ S) (P : PageCtx I b j p l lane keep) (hfS : ScalesOk I fS) (hfI : PageIn I fI s p (I.pid b (8 * j + p)))
    (hcc : cc = I.pid b (8 * j + p) / 128) (hw : w = 8 * p) (hC : CodesIn s p) (hS : ScalesIn cc) (hW : WordsIn s w) :
    ∀ (n : ℕ) (hn : n ≤ 64) (f : CWords), WordsOk I b j s f (fun i h w₁ => w₁ < 8 * p ∨ (w₁ < 8 * p + 8 ∧ h / 2 * 2 + i < 64 - n)) →
    iprop(((lIn c) ↦[inSlot s]{q} fI) ∗ ((lScales c) ↦[S]{q'} fS) ∗ ((lWords c) ↦[wordSlot s]{fullShare} f))
      ⊢ iprop((∀ f' : CWords, ⌜WordsOk I b j s f' (fun _ _ w₁ => w₁ < 8 * (p + 1))⌝ -∗
          (((lIn c) ↦[inSlot s]{q} fI) ∗ ((lScales c) ↦[S]{q'} fS) ∗ ((lWords c) ↦[wordSlot s]{fullShare} f')) -∗ Q 0#32)
        -∗ WP c (cvUnits mIn mWords mScales s p w cc hC hS hW lane keep n hn) Q)
  | 0, hn, f, hf => by
    iintro H Hk
    unfold cvUnits
    have o : WordsOk I b j s f (fun _ _ w₁ => w₁ < 8 * (p + 1)) := hf.mono fun i h w₁ hi hh _ hd => by omega
    iapply step_pure
    iapply Hk $$ %f %o H
  | n + 1, hn, f, hf => by
    iintro H Hk
    unfold cvUnits
    iapply (wp_cvUnit c hSa P hfS hfI hcc hw hC hS hW ((63 - n) % 2) ((63 - n) / 2) _ _
      (cvUnits mIn mWords mScales s p w cc hC hS hW lane keep n _) f hf) $$ H
    iintro %f1 %o1 H
    iapply (wp_cvUnits hSa P hfS hfI hcc hw hC hS hW n _ f1 (o1.mono fun i h w₁ hi hh _ hd => by omega)) $$ H
    iexact Hk

theorem pad_word {t : ℕ} (i h w d : ℕ) (hw : I.len b ≤ ((128 * j + 2 * w : ℕ) : ℤ)) : I.word b j i h w d = 0#32 := by
  unfold Inp.word Inp.tok
  rw [if_neg (by push_cast at hw ⊢; omega), if_neg (by push_cast at hw ⊢; omega)]
  rfl

/-- The remaining units of one padded page. -/
theorem wp_padUnits (hp : p < 8) (hpad : I.len b ≤ ((128 * j + 16 * p : ℕ) : ℤ)) (hw : w = 8 * p) (hW : WordsIn s w) :
    ∀ (n : ℕ) (hn : n ≤ 128) (f : CWords), WordsOk I b j s f (fun i h w₁ => w₁ < 8 * p ∨ (w₁ < 8 * p + 8 ∧ i * 64 + h < 128 - n)) →
    ((lWords c) ↦[wordSlot s]{fullShare} f)
      ⊢ iprop((∀ f' : CWords, ⌜WordsOk I b j s f' (fun _ _ w₁ => w₁ < 8 * (p + 1))⌝ -∗ ((lWords c) ↦[wordSlot s]{fullShare} f') -∗ Q 0#32)
        -∗ WP c (padUnits mWords s w hW n hn) Q)
  | 0, hn, f, hf => by
    iintro H Hk
    unfold padUnits
    have o : WordsOk I b j s f (fun _ _ w₁ => w₁ < 8 * (p + 1)) := hf.mono fun i h w₁ hi hh _ hd => by omega
    iapply step_pure
    iapply Hk $$ %f %o H
  | n + 1, hn, f, hf => by
    iintro H Hk
    unfold padUnits padUnit
    iapply (step_loadWords c (off := wordsOff s w ((127 - n) / 64) ((127 - n) % 64)) (s := s) rfl f) $$ H
    iintro H
    iapply (step_storeWords c (off := wordsOff s w ((127 - n) / 64) ((127 - n) % 64)) (s := s) rfl f) $$ H
    iintro %f1 %W1 H
    have o1 := wrote_ok (I := I) (b := b) (j := j) hp hw (fun y d => (pay543_apply _).trans (pad_word (t := 0) _ _ _ _ (by push_cast at hpad ⊢; omega)).symm) W1 hf
    iapply (wp_padUnits hp hpad hw hW n _ f1 (o1.mono fun i h w₁ hi hh _ hd => by omega)) $$ H
    iexact Hk
end Wp

end Cert.Proof.Pages

end
-- ==== Proof.Pack.lean ====
module

public import proofs.«01_k».proof.Proof.UnitsWp

@[expose] public section

noncomputable section

/-! # Packing the scales, clearing the zero buffer -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- Offsets in the stage, and in the packed scales, of column `c` of head `h` of pool `i`. -/
abbrev stageOff (i h e : ℕ) : Fin 4 → ℕ := ![i, h, 0, e]
abbrev packOff (i c r : ℕ) : Fin 4 → ℕ := ![i, c, r, 0]

theorem packed_rows {i c r W : ℕ} (hr : 2 ∣ r) (hB : ∀ a, packOff i c r a + (⟨4, ![1, 1, 16, W]⟩ : Shape).size a ≤ S2x13x1024x128.size a) :
    (Rect.unit (s := S2x13x1024x128) (packOff i c r) (⟨4, ![1, 1, 16, W]⟩ : Shape).size hB).PackedRows (EltTy.packing .bf16) := by
  have e : EltTy.packing .bf16 = 2 := by decide
  rw [e]
  have h2 : 2 ≤ S2x13x1024x128.rank := by decide
  exact .inr ⟨h2, rfl, .inl ⟨hr, (by decide : 2 ∣ 16)⟩⟩

section
variable (arg12 : Memref sig .tc .vmem S2x64x16x1600 .f32) (arg13 : Memref sig .tc .vmem S2x13x1024x128 .bf16) (harg13 : arg13.IsWhole)
variable (i h r : ℕ)

abbrev StIn : Prop := ∀ c, c < 12 → ∀ a, stageOff i h (128 * c) a + S1x1x16x128.size a ≤ S2x64x16x1600.size a
abbrev StIn' : Prop := ∀ a, stageOff i h 1536 a + S1x1x16x64.size a ≤ S2x64x16x1600.size a
abbrev PkIn : Prop := ∀ c, c < 12 → ∀ a, packOff i c r a + S1x1x16x128.size a ≤ S2x13x1024x128.size a
abbrev PkIn' : Prop := ∀ a, packOff i 12 r a + S1x1x16x64.size a ≤ S2x13x1024x128.size a
variable (hA : StIn i h) (hA' : StIn' i h) (hB : PkIn i r) (hB' : PkIn' i r) (hr : 2 ∣ r)

/-- One column of 128 pages. -/
def packCol (c : ℕ) (hc : c < 12) (k : KProg F Unit) : KProg F Unit := do
  let v : Vec F S1x1x16x128 .f32 ← Prog.lift (.load arg12 (Rect.unit (s := S2x64x16x1600) (stageOff i h (128 * c)) S1x1x16x128.size (hA c hc)).toLoadRect (View.loadsAt_vmem h_S1x1x16x128))
  let _ : Vec F S1x1x16x128 .bf16 ← Prog.lift (.load arg13 (Rect.unit (s := S2x13x1024x128) (packOff i c r) S1x1x16x128.size (hB c hc)).toLoadRect (View.loadsAt_vmem h_S1x1x16x128))
  Prog.lift (.store arg13 (Rect.unit (s := S2x13x1024x128) (packOff i c r) S1x1x16x128.size (hB c hc)) (k0_pay1 v) Finset.univ (View.stores_vmem h_S1x1x16x128 (harg13.storeExact_slice rfl _ (packed_rows hr (hB c hc))) (fun _ => rfl)) (.inl rfl))
  k

/-- The last column, of 64 pages. -/
def packLast : KProg F Unit := do
  let v : Vec F S1x1x16x64 .f32 ← Prog.lift (.load arg12 (Rect.unit (s := S2x64x16x1600) (stageOff i h 1536) S1x1x16x64.size hA').toLoadRect (View.loadsAt_vmem h_S1x1x16x64))
  let _ : Vec F S1x1x16x64 .bf16 ← Prog.lift (.load arg13 (Rect.unit (s := S2x13x1024x128) (packOff i 12 r) S1x1x16x64.size hB').toLoadRect (View.loadsAt_vmem h_S1x1x16x64))
  Prog.lift (.store arg13 (Rect.unit (s := S2x13x1024x128) (packOff i 12 r) S1x1x16x64.size hB') (k0_pay1630 v) Finset.univ (View.stores_vmem h_S1x1x16x64 (harg13.storeExact_slice rfl _ (packed_rows hr hB')) (fun _ => rfl)) (.inl rfl))
  pure ⟨⟩

/-- The last `n` of the twelve full columns, then the narrow one. -/
def packCols : (n : ℕ) → n ≤ 12 → KProg F Unit
  | 0, _ => packLast arg12 arg13 harg13 i h r hA' hB' hr
  | n + 1, hn => packCol arg12 arg13 harg13 i h r hA hB hr (11 - n) (by omega) (packCols n (by omega))
end

section
variable (arg0 : Memref sig .tc .smem S5x256 .i32) (harg0 : arg0.IsWhole) (arg1 : Memref sig .tc .smem S5 .i32) (harg1 : arg1.IsWhole) (arg2 : Memref sig .tc .hbm S1600x1024x128 .fp8e4m3) (harg2 : arg2.IsWhole) (arg3 : Memref sig .tc .hbm S1600x1024x128 .fp8e4m3) (harg3 : arg3.IsWhole) (arg4 : Memref sig .tc .hbm S64x16x1600 .f32) (harg4 : arg4.IsWhole) (arg5 : Memref sig .tc .hbm S64x16x1600 .f32) (harg5 : arg5.IsWhole) (arg6 : Memref sig .tc .hbm S5x64x4096x128 .bf16) (harg6 : arg6.IsWhole) (arg7 : Memref sig .tc .hbm S5x64x4096x128 .bf16) (harg7 : arg7.IsWhole) (arg8 : Memref sig .tc .smem S160 .i32) (harg8 : arg8.IsWhole) (arg9 : Memref sig .tc .vmem S4x2x8x1024x128 .fp8e4m3) (harg9 : arg9.IsWhole) (arg10 : Memref sig .tc .vmem S4x2x64x64x128 .i32) (harg10 : arg10.IsWhole) (arg11 : Memref sig .tc .vmem S64x128x128 .bf16) (harg11 : arg11.IsWhole) (arg12 : Memref sig .tc .vmem S2x64x16x1600 .f32) (harg12 : arg12.IsWhole) (arg13 : Memref sig .tc .vmem S2x13x1024x128 .bf16) (harg13 : arg13.IsWhole) (arg14 : DmaSems sig S4) (arg15 : DmaSems sig S4) (arg16 : DmaSems sig S_) (arg17 : DmaSems sig S2)
variable (v9 : BitVec 32) (k0_hw14 : k0_chk14 v9) (v10 : BitVec 32)

theorem t9_eq (k : Fin k0_t9_loop.trips) (hA hA' hB hB' hr) :
    k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v9 k0_hw14 v10 k ⟨⟩
      = packCols arg12 arg13 harg13 0 (Scalar.indexCast (Scf.iv 0#32 1#32 k)).toNat (Scalar.indexCast (Scalar.muli (Scf.iv 0#32 1#32 k) 16#32)).toNat hA hA' hB hB' hr 12 (le_refl _) := by
  chain_rfl

theorem t10_eq (k : Fin k0_t10_loop.trips) (hA hA' hB hB' hr) :
    k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v9 k0_hw14 v10 k ⟨⟩
      = packCols arg12 arg13 harg13 1 (Scalar.indexCast (Scf.iv 0#32 1#32 k)).toNat (Scalar.indexCast (Scalar.muli (Scf.iv 0#32 1#32 k) 16#32)).toNat hA hA' hB hB' hr 12 (le_refl _) := by
  chain_rfl
end

/-! ## What packing one head leaves -/

theorem pay1_apply (v : Vec F S1x1x16x128 .f32) (j : S1x1x16x128.Idx) : k0_pay1 v j = FloatOps.truncf .bf16 bitsLt_bf16_f32 (v j) :=
  congrArg (FloatOps.truncf .bf16 bitsLt_bf16_f32) (congrFun (shapeCast_shapeCast v shapeCasts_S1x1x16x128_S16x128 shapeCasts_S16x128_S1x1x16x128) j)
theorem pay1630_apply (v : Vec F S1x1x16x64 .f32) (j : S1x1x16x64.Idx) : k0_pay1630 v j = FloatOps.truncf .bf16 bitsLt_bf16_f32 (v j) :=
  congrArg (FloatOps.truncf .bf16 bitsLt_bf16_f32) (congrFun (shapeCast_shapeCast v shapeCasts_S1x1x16x64_S16x64 shapeCasts_S16x64_S1x1x16x64) j)

abbrev CStage (F : FTy → Type) := S2x64x16x1600.Idx → Elt F .f32
/-- Plane `i` of the stage. -/
def stagePart (i : ℕ) : Finset S2x64x16x1600.Idx := Finset.univ.filter fun x => (x 0).val = i
theorem mem_stagePart {i : ℕ} {x : S2x64x16x1600.Idx} : x ∈ stagePart i ↔ (x 0).val = i := by simp [stagePart]

/-- Plane `i` of the stage holds the scales of pool `i`. -/
def StageOk (I : Inp F) (i : ℕ) (f : CStage F) : Prop :=
  ∀ x : S2x64x16x1600.Idx, (x 0).val = i → f x = (if i = 0 then I.ks else I.vs) (ix3 (x 1) (x 2) (x 3))

/-- The packed scales are right where `D` (pool, tile, head) holds. -/
def ScalesDone (I : Inp F) (D : ℕ → ℕ → ℕ → Prop) (f : CScales F) : Prop :=
  ∀ x : S2x13x1024x128.Idx, 128 * (x 1).val + (x 3).val < 1600 → D (x 0) (x 1) ((x 2).val / 16) → f x = I.scale (x 0) (128 * (x 1).val + (x 3).val) (x 2)

theorem ScalesDone.mono {I : Inp F} {D D' : ℕ → ℕ → ℕ → Prop} {f : CScales F} (h : ScalesDone I D f)
    (m : ∀ i c h, i < 2 → c < 13 → h < 64 → D' i c h → D i c h) : ScalesDone I D' f :=
  fun x hx hd => by
    have h2 : (x 2).val < 1024 := (x 2).isLt
    exact h x hx (m _ _ _ (x 0).isLt (x 1).isLt (show (x 2).val / 16 < 64 by omega) hd)

theorem pack_ok {I : Inp F} {i h c e r W : ℕ} (hr : r = 16 * h) (he : e = 128 * c) (hW : W = 128 ∨ 1600 ≤ e + W) {f f' : CScales F} {fg : CStage F} (hg : StageOk I i fg)
    {v : (⟨4, ![1, 1, 16, W]⟩ : Shape).Idx → Elt F .bf16}
    (hA : ∀ a, stageOff i h e a + (⟨4, ![1, 1, 16, W]⟩ : Shape).size a ≤ S2x64x16x1600.size a)
    (hv : ∀ j, v j = FloatOps.truncf .bf16 bitsLt_bf16_f32 (fg ((Rect.unit (s := S2x64x16x1600) (stageOff i h e) (⟨4, ![1, 1, 16, W]⟩ : Shape).size hA).emb j)))
    (w : Wrote (d := S2x13x1024x128.size) (packOff i c r) (⟨4, ![1, 1, 16, W]⟩ : Shape).size f v f')
    {D : ℕ → ℕ → ℕ → Prop} (hf : ScalesDone I D f) :
    ScalesDone I (fun i₁ c₁ h₁ => D i₁ c₁ h₁ ∨ (i₁ = i ∧ c₁ = c ∧ h₁ = h)) f' := by
  intro x hx hd
  have x2 : (x 2).val < 1024 := (x 2).isLt
  have x3 : (x 3).val < 128 := (x 3).isLt
  by_cases hm : (x 0).val = i ∧ (x 1).val = c ∧ (x 2).val / 16 = h ∧ (x 3).val < W
  · obtain ⟨m0, m1, m2, m3⟩ := hm
    have hin : ∀ a : Fin 4, packOff i c r a ≤ (x a).val ∧ (x a).val < packOff i c r a + (⟨4, ![1, 1, 16, W]⟩ : Shape).size a := by
      intro a
      match a with
      | ⟨0, _⟩ => show i ≤ (x 0).val ∧ (x 0).val < i + 1; omega
      | ⟨1, _⟩ => show c ≤ (x 1).val ∧ (x 1).val < c + 1; omega
      | ⟨2, _⟩ => show r ≤ (x 2).val ∧ (x 2).val < r + 16; omega
      | ⟨3, _⟩ => show 0 ≤ (x 3).val ∧ (x 3).val < 0 + W; omega
    rw [w.1 x hin, hv]
    unfold Inp.scale
    have h64 : 128 * (x 1).val + (x 3).val < 1600 := hx
    rw [hg _ (by rw [Rect.emb_apply]; show i + 1 * ((x 0).val - i) = i; omega)]
    have e0 : (((x 0).val = 0) ↔ i = 0) := by omega
    have e1 : (if (x 0).val = 0 then I.ks else I.vs) = (if i = 0 then I.ks else I.vs) := by
      by_cases q : i = 0
      · rw [if_pos q, if_pos (e0.mpr q)]
      · rw [if_neg q, if_neg (fun z => q (e0.mp z))]
    rw [e1]
    congr 2
    refine congrArg _ ?_
    funext a
    match a with
    | ⟨0, _⟩ => exact Fin.ext (by show (((Rect.unit (s := S2x64x16x1600) (stageOff i h e) (⟨4, ![1, 1, 16, W]⟩ : Shape).size hA).emb _) 1).val = (x 2).val / 16 % 64; rw [Rect.emb_apply]; show h + 1 * ((x 1).val - c) = _; omega)
    | ⟨1, _⟩ => exact Fin.ext (by show (((Rect.unit (s := S2x64x16x1600) (stageOff i h e) (⟨4, ![1, 1, 16, W]⟩ : Shape).size hA).emb _) 2).val = (x 2).val % 16; rw [Rect.emb_apply]; show 0 + 1 * ((x 2).val - r) = _; omega)
    | ⟨2, _⟩ => exact Fin.ext (by show (((Rect.unit (s := S2x64x16x1600) (stageOff i h e) (⟨4, ![1, 1, 16, W]⟩ : Shape).size hA).emb _) 3).val = (128 * (x 1).val + (x 3).val) % 1600; rw [Rect.emb_apply]; show e + 1 * ((x 3).val - 0) = _; omega)
  · have hout : ¬ ∀ a : Fin 4, packOff i c r a ≤ (x a).val ∧ (x a).val < packOff i c r a + (⟨4, ![1, 1, 16, W]⟩ : Shape).size a := by
      intro hall
      have h0 : i ≤ (x 0).val ∧ (x 0).val < i + 1 := hall 0
      have h1 : c ≤ (x 1).val ∧ (x 1).val < c + 1 := hall 1
      have h2 : r ≤ (x 2).val ∧ (x 2).val < r + 16 := hall 2
      have h3 : 0 ≤ (x 3).val ∧ (x 3).val < 0 + W := hall 3
      exact hm ⟨by omega, by omega, by omega, by omega⟩
    rw [w.2 x hout]
    refine hf x hx (hd.resolve_right fun ⟨q0, q1, q2⟩ => hm ⟨q0, q1, q2, ?_⟩)
    rcases hW with hW | hW
    · omega
    · omega

section
variable (c : Dev nD) {Q : Unit → sProp (MM F)} {i h r : ℕ}

theorem step_loadStage {off size : Fin 4 → ℕ} {hin : ∀ a, off a + size a ≤ S2x64x16x1600.size a}
    {hl : mStage.view.LoadsAt (Rect.unit (s := S2x64x16x1600) off size hin).toLoadRect}
    {k : ((⟨4, size⟩ : Shape).Idx → Elt F .f32) → KProg F Unit} {q : PosShare TreeShare} {i : ℕ} (hi : off 0 = i) (h1 : size 0 = 1) (f : CStage F) :
    ((lStage c) ↦[stagePart i]{q} f)
      ⊢ iprop((((lStage c) ↦[stagePart i]{q} f) -∗ WP c (k (fun j => f ((Rect.unit (s := S2x64x16x1600) off size hin).emb j))) Q)
        -∗ WP c (Prog.lift (.load mStage (Rect.unit (s := S2x64x16x1600) off size hin).toLoadRect hl) >>= k) Q) := by
  subst hi
  exact g_load c mStage (Rect.unit (s := S2x64x16x1600) off size hin) hl k (stagePart (off 0)) q f
    (rect_head cc0_scratch4 off size hin (stagePart (off 0)) fun x hx => by
      have := hx (0 : Fin 4)
      exact mem_stagePart.mpr (by omega))

theorem step_loadPk {off size : Fin 4 → ℕ} {hin : ∀ a, off a + size a ≤ S2x13x1024x128.size a}
    {hl : mScales.view.LoadsAt (Rect.unit (s := S2x13x1024x128) off size hin).toLoadRect}
    {k : ((⟨4, size⟩ : Shape).Idx → Elt F .bf16) → KProg F Unit} (f : CScales F) :
    ((lScales c) ↦[Finset.univ]{fullShare} f)
      ⊢ iprop((((lScales c) ↦[Finset.univ]{fullShare} f) -∗ WP c (k (fun j => f ((Rect.unit (s := S2x13x1024x128) off size hin).emb j))) Q)
        -∗ WP c (Prog.lift (.load mScales (Rect.unit (s := S2x13x1024x128) off size hin).toLoadRect hl) >>= k) Q) :=
  g_load c mScales (Rect.unit (s := S2x13x1024x128) off size hin) hl k Finset.univ fullShare f (fun x _ => Finset.mem_univ _)

theorem step_storePk {off size : Fin 4 → ℕ} {hin : ∀ a, off a + size a ≤ S2x13x1024x128.size a}
    {w : (⟨4, size⟩ : Shape).Idx → Elt F .bf16}
    {hx : (mScales.access (Rect.unit (s := S2x13x1024x128) off size hin)).Stores Finset.univ}
    {hm : (Finset.univ : Finset (Rect.unit (s := S2x13x1024x128) off size hin).shape.Idx) = Finset.univ ∨ ∀ a, (Rect.unit (s := S2x13x1024x128) off size hin).stride a = 1}
    {k : PUnit → KProg F Unit} (f : CScales F) :
    ((lScales c) ↦[Finset.univ]{fullShare} f)
      ⊢ iprop((∀ f' : CScales F, ⌜Wrote (d := S2x13x1024x128.size) off size f w f'⌝ -∗ ((lScales c) ↦[Finset.univ]{fullShare} f') -∗ WP c (k ⟨⟩) Q)
        -∗ WP c (Prog.lift (.store mScales (Rect.unit (s := S2x13x1024x128) off size hin) w Finset.univ hx hm) >>= k) Q) := by
  have h := g_store (Q := Q) c mScales (Rect.unit (s := S2x13x1024x128) off size hin) w hx hm k Finset.univ f (fun x _ => Finset.mem_univ _)
  have e : Wrote (d := S2x13x1024x128.size) off size f w ((mScales.access (Rect.unit (s := S2x13x1024x128) off size hin)).write (Elt F) f w Finset.univ) :=
    whole_wrote (Val := Elt F) cc0_scratch5 off size hin f w
  iintro H Hk
  iapply h $$ H
  iintro H
  iapply Hk $$ %_ %e H

theorem wp_packCols {I : Inp F} {fg : CStage F} {q : PosShare TreeShare} (hg : StageOk I i fg) (hrh : r = 16 * h) (hA hA' hB hB' hr) {D : ℕ → ℕ → ℕ → Prop} :
    ∀ (n : ℕ) (hn : n ≤ 12) (f : CScales F), ScalesDone I (fun i₁ c₁ h₁ => D i₁ c₁ h₁ ∨ (i₁ = i ∧ h₁ = h ∧ c₁ < 12 - n)) f →
    iprop(((lStage c) ↦[stagePart i]{q} fg) ∗ ((lScales c) ↦[Finset.univ]{fullShare} f))
      ⊢ iprop((∀ f' : CScales F, ⌜ScalesDone I (fun i₁ c₁ h₁ => D i₁ c₁ h₁ ∨ (i₁ = i ∧ h₁ = h)) f'⌝ -∗
          (((lStage c) ↦[stagePart i]{q} fg) ∗ ((lScales c) ↦[Finset.univ]{fullShare} f')) -∗ Q ⟨⟩)
        -∗ WP c (packCols mStage mScales (Memref.isWhole_whole _) i h r hA hA' hB hB' hr n hn) Q)
  | 0, hn, f, hf => by
    iintro ⟨HG, HS⟩ Hk
    unfold packCols packLast
    iapply (step_loadStage c (off := stageOff i h 1536) (i := i) rfl rfl fg) $$ HG
    iintro HG
    iapply (step_loadPk c f) $$ HS
    iintro HS
    iapply (step_storePk c f) $$ HS
    iintro %f1 %W1 HS
    have o := pack_ok (W := 64) hrh (c := 12) rfl (.inr (by decide)) hg _ (fun j => pay1630_apply _ j) W1 hf
    iapply step_pure
    have o2 := o.mono (D' := fun i₁ c₁ h₁ => D i₁ c₁ h₁ ∨ (i₁ = i ∧ h₁ = h)) fun i₁ c₁ h₁ _ hc _ hd => by
      rcases hd with hd | ⟨d0, d1⟩
      · exact .inl (.inl hd)
      · by_cases q : c₁ < 12
        · exact .inl (.inr ⟨d0, d1, by omega⟩)
        · exact .inr ⟨d0, by omega, d1⟩
    iapply Hk $$ %f1 %o2
    isplitl [HG]; · iexact HG
    iexact HS
  | n + 1, hn, f, hf => by
    iintro ⟨HG, HS⟩ Hk
    unfold packCols packCol
    iapply (step_loadStage c (off := stageOff i h _) (i := i) rfl rfl fg) $$ HG
    iintro HG
    iapply (step_loadPk c f) $$ HS
    iintro HS
    iapply (step_storePk c f) $$ HS
    iintro %f1 %W1 HS
    have o := pack_ok (W := 128) hrh (c := 11 - n) rfl (.inl rfl) hg _ (fun j => pay1_apply _ j) W1 hf
    have o2 := o.mono (D' := fun i₁ c₁ h₁ => D i₁ c₁ h₁ ∨ (i₁ = i ∧ h₁ = h ∧ c₁ < 12 - n)) fun i₁ c₁ h₁ _ hc _ hd => by
      rcases hd with hd | ⟨d0, d1, d2⟩
      · exact .inl (.inl hd)
      · by_cases q : c₁ < 12 - (n + 1)
        · exact .inl (.inr ⟨d0, d1, q⟩)
        · exact .inr ⟨d0, by omega, d1⟩
    iapply (wp_packCols hg hrh hA hA' hB hB' hr n _ f1 o2) $$ [HG HS]
    · isplitl [HG]; · iexact HG
      iexact HS
    iexact Hk
end

/-! ## Clearing -/

abbrev CZero (F : FTy → Type) := S64x128x128.Idx → Elt F .bf16

/-- The clear's payload is zero everywhere. -/
theorem pay1627_apply (j : S1x128x128.Idx) : k0_pay1627 (F := F) j = FloatOps.ofBits .bf16 0#16 := rfl

section
variable (c : Dev nD) {Q : Unit → sProp (MM F)}

theorem wp_clear {off : Fin 3 → ℕ} {hin : ∀ a, off a + S1x128x128.size a ≤ S64x128x128.size a}
    {hl : mZero.view.LoadsAt (Rect.unit (s := S64x128x128) off S1x128x128.size hin).toLoadRect}
    {hx : (mZero.access (Rect.unit (s := S64x128x128) off S1x128x128.size hin)).Stores Finset.univ}
    {hm : (Finset.univ : Finset (Rect.unit (s := S64x128x128) off S1x128x128.size hin).shape.Idx) = Finset.univ ∨ ∀ a, (Rect.unit (s := S64x128x128) off S1x128x128.size hin).stride a = 1}
    {h : ℕ} (ho : off = ![h, 0, 0]) (f : CZero F) (hf : ∀ x : S64x128x128.Idx, (x 0).val < h → f x = FloatOps.ofBits .bf16 0#16) :
    ((lZero c) ↦[Finset.univ]{fullShare} f)
      ⊢ iprop((∀ f' : CZero F, ⌜∀ x : S64x128x128.Idx, (x 0).val < h + 1 → f' x = FloatOps.ofBits .bf16 0#16⌝ -∗ ((lZero c) ↦[Finset.univ]{fullShare} f') -∗ Q ⟨⟩)
        -∗ WP c (Prog.lift (.load mZero (Rect.unit (s := S64x128x128) off S1x128x128.size hin).toLoadRect hl) >>= fun _ =>
            Prog.lift (.store mZero (Rect.unit (s := S64x128x128) off S1x128x128.size hin) (k0_pay1627 (F := F)) Finset.univ hx hm) >>= fun _ => pure ⟨⟩) Q) := by
  have h1 := fun k => g_load (Q := Q) c mZero (Rect.unit (s := S64x128x128) off S1x128x128.size hin) hl k Finset.univ fullShare f (fun x _ => Finset.mem_univ _)
  have h2 := g_store (Q := Q) c mZero (Rect.unit (s := S64x128x128) off S1x128x128.size hin) (k0_pay1627 (F := F)) hx hm (fun _ => pure ⟨⟩) Finset.univ f (fun x _ => Finset.mem_univ _)
  have e : Wrote (d := S64x128x128.size) off S1x128x128.size f (k0_pay1627 (F := F)) ((mZero.access (Rect.unit (s := S64x128x128) off S1x128x128.size hin)).write (Elt F) f (k0_pay1627 (F := F)) Finset.univ) :=
    whole_wrote (Val := Elt F) cc0_scratch3 off S1x128x128.size hin f _
  generalize (mZero.access (Rect.unit (s := S64x128x128) off S1x128x128.size hin)).write (Elt F) f (k0_pay1627 (F := F)) Finset.univ = f' at h2 e
  have o : ∀ x : S64x128x128.Idx, (x 0).val < h + 1 → f' x = FloatOps.ofBits .bf16 0#16 := by
    intro x hx0
    by_cases q : (x 0).val < h
    · rw [e.2 x (fun hall => ?_)]
      · exact hf x q
      · have := (hall 0).1
        rw [ho] at this
        have h3 : h ≤ (x 0).val := this
        omega
    · rw [e.1 x (fun a => ?_)]
      · rfl
      · subst ho
        have x1 : (x 1).val < 128 := (x 1).isLt
        have x2 : (x 2).val < 128 := (x 2).isLt
        match a with
        | ⟨0, _⟩ => show h ≤ (x 0).val ∧ (x 0).val < h + 1; omega
        | ⟨1, _⟩ => show 0 ≤ (x 1).val ∧ (x 1).val < 0 + 128; omega
        | ⟨2, _⟩ => show 0 ≤ (x 2).val ∧ (x 2).val < 0 + 128; omega
  iintro H Hk
  iapply h1 $$ H
  iintro H
  iapply h2 $$ H
  iintro H
  iapply step_pure
  iapply Hk $$ %_ %o H
end

end Cert.Proof.Pages

end
-- ==== Proof.Proto.lean ====
module

public import proofs.«01_k».proof.Proof.UnitsWp
public import Idealize.ShloMosaic.Lib.Batch

@[expose] public section

noncomputable section

/-! # The transfers: pages in, blocks out, zero blocks out -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

section Generic
variable (c : Dev nD) {α : Type} {Q : α → sProp (MM F)} {n : ℕ} {D : Fin n → sProp (MM F)}

/-- Issue the next transfer of a batch. -/
theorem g_enq {sp sp' : Space} {s₀ : Shape} {e₀ : EltTy} {s : Shape} {e : EltTy}
    (src : Memref sig .tc sp s₀ e₀) (via : ReadAs (Elt F) s₀ e₀ s e) (dst : Memref sig .tc sp' s e) (sm : SemLoc sig)
    (hsrc : src.view.WordExact) (hdst : dst.view.WordExact) (hsem : DmaTarget.Typed (nD := nD) (τ := τ) (p := .tc) sp sm (.here dst))
    (k : PUnit → KProg F α) {q : PosShare TreeShare} (fs : Buf (Elt F) (src.view.loc (c : Thread nD τ)))
    {Sd : Finset (Idx (dst.view.loc (c : Thread nD τ)))} (fd : Buf (Elt F) (dst.view.loc (c : Thread nD τ))) {j u : ℕ}
    (N : ℕ) (hN : dst.view.amount sm = N) (hSd : dst.view.set ⊆ Sd) (hj : j < n) (hu : u ≤ j * N)
    (hD : iprop((dst.view.loc (c : Thread nD τ) ↦[Sd]{fullShare} (dst.view.write (Elt F) fd (via.apply (src.view.read (Elt F) fs)) Finset.univ))
              ∗ (src.view.loc (c : Thread nD τ) ↦[src.view.set]{q} fs)) ⊢ D ⟨j, hj⟩) :
    iprop((src.view.loc (c : Thread nD τ) ↦[src.view.set]{q} fs) ∗ (dst.view.loc (c : Thread nD τ) ↦[Sd]{fullShare} fd) ∗ Transfers.Batch EC (c : Thread nD τ) sm () N D j u)
      ⊢ iprop((Transfers.Batch EC (c : Thread nD τ) sm () N D (j + 1) u -∗ WP c (k ⟨⟩) Q)
          -∗ WP c (Prog.lift (.enqueueDmaAs src (.here dst) via sm hsrc hdst hsem) >>= k) Q) :=
  Transfers.wp_dmaBatch (k := k) (Q := Q) EC 𝒱₀ (c : Thread nD τ) none () N hN hSd hj hu hD

/-- Wait for one transfer of a batch. -/
theorem g_wait {sp sp' : Space} {s' : Shape} {e' : EltTy} {s : Shape} {e : EltTy}
    (srcw : Memref sig .tc sp' s' e') (dstw : Memref sig .tc sp s e) (sem : DmaSem sig)
    (hsrc : srcw.view.WordExact) (hdst : dstw.view.WordExact) (k : PUnit → KProg F α) (N : ℕ) (hN : dstw.view.dmaCredit = N)
    {j u : ℕ} (hu : u + N ≤ N * j) {W : Waits sig Unit} :
    iprop(Transfers.Batch EC (c : Thread nD τ) (.dma sem) () N D j u ∗ owes (c : Thread nD τ) 0 W)
      ⊢ iprop((∀ W', iprop(Transfers.Batch EC (c : Thread nD τ) (.dma sem) () N D j (u + N) ∗ owes (c : Thread nD τ) 0 W') -∗ WP c (k ⟨⟩) Q)
          -∗ WP c (Prog.lift (.waitDma2 sem srcw dstw hsrc hdst) >>= k) Q) := by
  have h := Transfers.wp_waitBatchMul (defs := defs₀ (F := F)) (k := k) (Q := Q) (srcw := srcw) (dstw := dstw) (hsrc := hsrc) (hdst := hdst) (sem := sem) (D := D) (j := j) (u := u) (W := W)
    EC 𝒱₀ (c : Thread nD τ) none () (N := N) 1 (by rw [Nat.one_mul]; exact hN) (by rw [Nat.one_mul]; exact hu)
  rw [Nat.one_mul] at h
  iintro H Hk
  iapply h $$ H
  iintro H
  iapply Hk $$ %_ H

end Generic

/-- The elements of a squeezed unit rectangle of a whole buffer. -/
theorem mem_sq {sp : Space} (b : Ref sig .tc) (off size : Fin b.ty.shape.rank → ℕ) (hin : ∀ a, off a + size a ≤ b.ty.shape.size a) (s' : Shape)
    (h : s'.numel = (Rect.unit off size hin).shape.numel) (x : b.ty.shape.Idx) :
    x ∈ (((View.whole b).slice (Rect.unit off size hin)).reshape s' h).set ↔ ∀ a, off a ≤ (x a).val ∧ (x a).val < off a + size a := by
  rw [View.set_reshape, View.set_slice_whole]
  exact Rect.mem_set_unit (inb := hin)

/-- What a transfer leaves, named on the elements it writes. -/
theorem write_names {Val : EltTy → Type} {sp : Space} {s : Shape} {e : EltTy} (v : View sig .tc sp s e) (f : v.ty.Contents Val) (w : s.Idx → Val e) (g : v.ty.Contents Val)
    (h : ∀ y : s.Idx, _root_.cast (congrArg Val v.elt_eq.symm) (w y) = g (v.emb y)) : ∀ x ∈ v.set, v.write Val f w Finset.univ x = g x := by
  intro x hx
  obtain ⟨y, -, rfl⟩ := Finset.mem_map.mp hx
  rw [View.write_emb_of_mem _ _ (Finset.mem_univ _)]
  exact h y

/-! ## Pages in -/

abbrev mK : Memref sig .tc .hbm S1600x1024x128 .fp8e4m3 := Memref.whole main_v0
abbrev mV : Memref sig .tc .hbm S1600x1024x128 .fp8e4m3 := Memref.whole main_v1
abbrev lK (c : Dev nD) : Loc nD τ sig := (c : Thread nD τ).loc main_v0
abbrev lV (c : Dev nD) : Loc nD τ sig := (c : Thread nD τ).loc main_v1

/-- The `s`-th of four semaphores. -/
abbrev semOf (A : DmaSems sig S4) (s : Fin 4) : DmaSem sig :=
  ((A.slice (Rect.unit (s := S4) ![s.val] S1.size (by intro a; have := s.isLt; match a with | ⟨0, _⟩ => show s.val + 1 ≤ 4; omega))).squeeze S_ squeezes_S1_S_).sem

/-- Page `p` of pool `i` in slot `s` of the input buffer. -/
def inPiece (s i p : ℕ) : Finset S4x2x8x1024x128.Idx := Finset.univ.filter fun x => (x 0).val = s ∧ (x 1).val = i ∧ (x 2).val = p
theorem mem_inPiece {s i p : ℕ} {x : S4x2x8x1024x128.Idx} : x ∈ inPiece s i p ↔ (x 0).val = s ∧ (x 1).val = i ∧ (x 2).val = p := by simp [inPiece]
/-- The pages from `p` on of slot `s`. -/
def inFrom (s p : ℕ) : Finset S4x2x8x1024x128.Idx := Finset.univ.filter fun x => (x 0).val = s ∧ p ≤ (x 2).val
theorem mem_inFrom {s p : ℕ} {x : S4x2x8x1024x128.Idx} : x ∈ inFrom s p ↔ (x 0).val = s ∧ p ≤ (x 2).val := by simp [inFrom]

/-- What the pages of block `j` of request `b` put into the input buffer. -/
def inVal (I : Inp F) (b j : ℕ) : CIn F := fun x => I.code (x 1) (I.pid b (8 * j + (x 2).val)) (x 3) (x 4)

/-- What the transfers of a block deliver. -/
def DIn (c : Dev nD) (I : Inp F) (b j s : ℕ) (m : ℕ) : Fin m → sProp (MM F) :=
  fun t => ((lIn c) ↦[inPiece s (t.val % 2) (t.val / 2)]{fullShare} (inVal I b j))

instance (c : Dev nD) (I : Inp F) (b j s m : ℕ) (t : Fin m) : Storable (upEmb : UEmb _ (MM F)) (DIn c I b j s m t) := by
  unfold DIn; infer_instance

abbrev NIn : ℕ := mIn.view.ref.dmaCredit S1024x128 .fp8e4m3

theorem sq_in (h : S1024x128.numel = S1x1x1x1024x128.numel) (y : S1024x128.Idx) : Shape.reshapeEquiv h y = (ix5 0 0 0 (y 0 : Fin 1024) (y 1 : Fin 128) : S1x1x1x1024x128.Idx) := by
  refine Shape.reshapeEquiv_eq_of_rowMajor h ?_
  rw [Shape.rowMajor_val_five, Shape.rowMajor_val_two]
  show ((((0 * 1 + 0) * 1 + 0) * 1024 + (y 0).val) * 128 + (y 1).val : ℕ) = (y 0).val * 128 + (y 1).val
  omega
theorem sq_page (h : S1024x128.numel = S1x1024x128.numel) (y : S1024x128.Idx) : Shape.reshapeEquiv h y = (ix3 0 (y 0 : Fin 1024) (y 1 : Fin 128) : S1x1024x128.Idx) := by
  refine Shape.reshapeEquiv_eq_of_rowMajor h ?_
  rw [Shape.rowMajor_val_three, Shape.rowMajor_val_two]
  show ((0 * 1024 + (y 0).val) * 128 + (y 1).val : ℕ) = (y 0).val * 128 + (y 1).val
  omega

section
variable (c : Dev nD) {α : Type} {Q : α → sProp (MM F)} {I : Inp F} {b j : ℕ} {m : ℕ}

theorem step_fetchK {off1 : Fin 1 → ℕ} {off2 : Fin 5 → ℕ} {off3 : Fin 3 → ℕ} {h1 : ∀ a, off1 a + S1.size a ≤ S4.size a}
    {h2 : ∀ a, off2 a + S1x1x1x1024x128.size a ≤ S4x2x8x1024x128.size a} {h3 : ∀ a, off3 a + S1x1024x128.size a ≤ S1600x1024x128.size a}
    {hs2} {hs3} {hsrc} {hdst} {hsem} {k : PUnit → KProg F α} {s : Fin 4} {p : ℕ} {q : PosShare TreeShare} {u : ℕ}
    (e1 : off1 = ![s.val]) (e2 : off2 = ![s.val, 0, p, 0, 0]) (e3 : off3 = ![I.pid b (8 * j + p), 0, 0])
    (hq : I.pid b (8 * j + p) < 1600) (hm : 2 * p + 0 < m) (hu : u ≤ (2 * p + 0) * NIn) (f : CIn F) :
    iprop((∃ q, (lK c) ↦[Finset.univ]{q} I.kp) ∗ ((lIn c) ↦[inPiece s 0 p]{fullShare} f) ∗ Transfers.Batch EC (c : Thread nD τ) (.dma (semOf cc0_scratch6 s)) () NIn (DIn c I b j s m) (2 * p + 0) u)
      ⊢ iprop((iprop((∃ q, (lK c) ↦[Finset.univ]{q} I.kp) ∗ Transfers.Batch EC (c : Thread nD τ) (.dma (semOf cc0_scratch6 s)) () NIn (DIn c I b j s m) (2 * p + 0 + 1) u) -∗ WP c (k ⟨⟩) Q)
        -∗ WP c (Prog.lift (.enqueueDma ((mK.slice (Rect.unit (s := S1600x1024x128) off3 S1x1024x128.size h3) hs3).squeeze S1024x128 squeezes_S1x1024x128_S1024x128)
            (.here ((mIn.slice (Rect.unit (s := S4x2x8x1024x128) off2 S1x1x1x1024x128.size h2) hs2).squeeze S1024x128 squeezes_S1x1x1x1024x128_S1024x128))
            (.dma ((cc0_scratch6.slice (Rect.unit (s := S4) off1 S1.size h1)).squeeze S_ squeezes_S1_S_).sem) hsrc hdst hsem) >>= k) Q) := by
  subst e1 e2 e3
  have hset : ((mIn.slice (Rect.unit (s := S4x2x8x1024x128) ![s.val, 0, p, 0, 0] S1x1x1x1024x128.size h2) hs2).squeeze S1024x128 squeezes_S1x1x1x1024x128_S1024x128).view.set ⊆ inPiece s 0 p := by
    intro x hx
    have hx := (mem_sq (sp := .vmem) cc0_scratch1 ![s.val, 0, p, 0, 0] S1x1x1x1024x128.size h2 S1024x128 _ x).mp hx
    have x0 : s.val ≤ (x 0).val ∧ (x 0).val < s.val + 1 := hx (0 : Fin 5)
    have x1 : 0 ≤ (x 1).val ∧ (x 1).val < 0 + 1 := hx (1 : Fin 5)
    have x2 : p ≤ (x 2).val ∧ (x 2).val < p + 1 := hx (2 : Fin 5)
    exact mem_inPiece.mpr ⟨by omega, by omega, by omega⟩
  have hset' : inPiece s 0 p ⊆ ((mIn.slice (Rect.unit (s := S4x2x8x1024x128) ![s.val, 0, p, 0, 0] S1x1x1x1024x128.size h2) hs2).squeeze S1024x128 squeezes_S1x1x1x1024x128_S1024x128).view.set := by
    intro x hx
    refine (mem_sq (sp := .vmem) cc0_scratch1 ![s.val, 0, p, 0, 0] S1x1x1x1024x128.size h2 S1024x128 _ x).mpr fun a => ?_
    obtain ⟨x0, x1, x2⟩ := mem_inPiece.mp hx
    have x3 : (x 3).val < 1024 := (x 3).isLt
    have x4 : (x 4).val < 128 := (x 4).isLt
    match a with
    | ⟨0, _⟩ => show s.val ≤ (x 0).val ∧ (x 0).val < s.val + 1; omega
    | ⟨1, _⟩ => show 0 ≤ (x 1).val ∧ (x 1).val < 0 + 1; omega
    | ⟨2, _⟩ => show p ≤ (x 2).val ∧ (x 2).val < p + 1; omega
    | ⟨3, _⟩ => show 0 ≤ (x 3).val ∧ (x 3).val < 0 + 1024; omega
    | ⟨4, _⟩ => show 0 ≤ (x 4).val ∧ (x 4).val < 0 + 128; omega
  have hval : ∀ x ∈ inPiece s 0 p, ((mIn.slice (Rect.unit (s := S4x2x8x1024x128) ![s.val, 0, p, 0, 0] S1x1x1x1024x128.size h2) hs2).squeeze S1024x128 squeezes_S1x1x1x1024x128_S1024x128).view.write (Elt F) f
      (((mK.slice (Rect.unit (s := S1600x1024x128) ![I.pid b (8 * j + p), 0, 0] S1x1024x128.size h3) hs3).squeeze S1024x128 squeezes_S1x1024x128_S1024x128).view.read (Elt F) I.kp) Finset.univ x = inVal I b j x := by
    intro x hx
    refine write_names ((mIn.slice (Rect.unit (s := S4x2x8x1024x128) ![s.val, 0, p, 0, 0] S1x1x1x1024x128.size h2) hs2).squeeze S1024x128 squeezes_S1x1x1x1024x128_S1024x128).view f _ (inVal I b j) (fun y => ?_) x (hset' hx)
    show I.kp ((Rect.unit (s := S1600x1024x128) ![I.pid b (8 * j + p), 0, 0] S1x1024x128.size h3).emb (Shape.reshapeEquiv _ y))
      = inVal I b j ((Rect.unit (s := S4x2x8x1024x128) ![s.val, 0, p, 0, 0] S1x1x1x1024x128.size h2).emb (Shape.reshapeEquiv _ y))
    rw [sq_in, sq_page]
    have y0 : (y 0).val < 1024 := (y 0).isLt
    have y1 : (y 1).val < 128 := (y 1).isLt
    have z : inVal I b j ((Rect.unit (s := S4x2x8x1024x128) ![s.val, 0, p, 0, 0] S1x1x1x1024x128.size h2).emb (ix5 0 0 0 (y 0 : Fin 1024) (y 1 : Fin 128) : S1x1x1x1024x128.Idx))
        = I.code (0 + 1 * 0) (I.pid b (8 * j + (p + 1 * 0))) (0 + 1 * (y 0).val) (0 + 1 * (y 1).val) := rfl
    refine Eq.trans ?_ z.symm
    unfold Inp.code
    show I.kp _ = I.kp _
    refine congrArg _ (funext fun a => Fin.ext ?_)
    match a with
    | ⟨0, _⟩ => show I.pid b (8 * j + p) + 1 * 0 = I.pid b (8 * j + (p + 1 * 0)) % 1600; rw [Nat.mul_zero, Nat.add_zero, Nat.add_zero]; omega
    | ⟨1, _⟩ => show 0 + 1 * (y 0).val = (0 + 1 * (y 0).val) % 1024; omega
    | ⟨2, _⟩ => show 0 + 1 * (y 1).val = (0 + 1 * (y 1).val) % 128; omega
  have hD : ∀ q : PosShare TreeShare, iprop((((lIn c) ↦[inPiece s 0 p]{fullShare} (((mIn.slice (Rect.unit (s := S4x2x8x1024x128) ![s.val, 0, p, 0, 0] S1x1x1x1024x128.size h2) hs2).squeeze S1024x128 squeezes_S1x1x1x1024x128_S1024x128).view.write (Elt F) f
      (((mK.slice (Rect.unit (s := S1600x1024x128) ![I.pid b (8 * j + p), 0, 0] S1x1024x128.size h3) hs3).squeeze S1024x128 squeezes_S1x1024x128_S1024x128).view.read (Elt F) I.kp) Finset.univ)))
      ∗ ((lK c) ↦[((mK.slice (Rect.unit (s := S1600x1024x128) ![I.pid b (8 * j + p), 0, 0] S1x1024x128.size h3) hs3).squeeze S1024x128 squeezes_S1x1024x128_S1024x128).view.set]{q} I.kp)) ⊢ DIn c I b j s m ⟨2 * p + 0, hm⟩ := by
    intro q
    have e0 : (2 * p + 0) % 2 = 0 := by omega
    have e1 : (2 * p + 0) / 2 = p := by omega
    unfold DIn
    show _ ⊢ (lIn c) ↦[inPiece s ((2 * p + 0) % 2) ((2 * p + 0) / 2)]{fullShare} inVal I b j
    rw [e0, e1, pointsTo_congr hval]
    iintro ⟨H, -⟩
    iexact H
  iintro ⟨⟨%q, HP⟩, HI, HB⟩ Hk
  ihave HP := (pointsTo_share (PosShare.mem_left_op_right q)).1 $$ HP
  icases HP with ⟨HP1, HP2⟩
  ihave HP2 := (pointsTo_split_subset (Finset.subset_univ ((mK.slice (Rect.unit (s := S1600x1024x128) ![I.pid b (8 * j + p), 0, 0] S1x1024x128.size h3) hs3).squeeze S1024x128 squeezes_S1x1024x128_S1024x128).view.set)).1 $$ HP2
  icases HP2 with ⟨HP2, -⟩
  iapply (g_enq c ((mK.slice (Rect.unit (s := S1600x1024x128) ![I.pid b (8 * j + p), 0, 0] S1x1024x128.size h3) hs3).squeeze S1024x128 squeezes_S1x1024x128_S1024x128) .same
    ((mIn.slice (Rect.unit (s := S4x2x8x1024x128) ![s.val, 0, p, 0, 0] S1x1x1x1024x128.size h2) hs2).squeeze S1024x128 squeezes_S1x1x1x1024x128_S1024x128)
    (.dma (semOf cc0_scratch6 s)) hsrc hdst hsem k I.kp (Sd := inPiece s 0 p) f NIn rfl hset hm hu (hD _)) $$ [HP2 HI HB]
  · isplitl [HP2]; · iexact HP2
    isplitl [HI]; · iexact HI
    iexact HB
  iintro HB
  iapply Hk
  isplitl [HP1]
  · iexists _; iexact HP1
  iexact HB

theorem step_fetchV {off1 : Fin 1 → ℕ} {off2 : Fin 5 → ℕ} {off3 : Fin 3 → ℕ} {h1 : ∀ a, off1 a + S1.size a ≤ S4.size a}
    {h2 : ∀ a, off2 a + S1x1x1x1024x128.size a ≤ S4x2x8x1024x128.size a} {h3 : ∀ a, off3 a + S1x1024x128.size a ≤ S1600x1024x128.size a}
    {hs2} {hs3} {hsrc} {hdst} {hsem} {k : PUnit → KProg F α} {s : Fin 4} {p : ℕ} {q : PosShare TreeShare} {u : ℕ}
    (e1 : off1 = ![s.val]) (e2 : off2 = ![s.val, 1, p, 0, 0]) (e3 : off3 = ![I.pid b (8 * j + p), 0, 0])
    (hq : I.pid b (8 * j + p) < 1600) (hm : 2 * p + 1 < m) (hu : u ≤ (2 * p + 1) * NIn) (f : CIn F) :
    iprop((∃ q, (lV c) ↦[Finset.univ]{q} I.vp) ∗ ((lIn c) ↦[inPiece s 1 p]{fullShare} f) ∗ Transfers.Batch EC (c : Thread nD τ) (.dma (semOf cc0_scratch6 s)) () NIn (DIn c I b j s m) (2 * p + 1) u)
      ⊢ iprop((iprop((∃ q, (lV c) ↦[Finset.univ]{q} I.vp) ∗ Transfers.Batch EC (c : Thread nD τ) (.dma (semOf cc0_scratch6 s)) () NIn (DIn c I b j s m) (2 * p + 1 + 1) u) -∗ WP c (k ⟨⟩) Q)
        -∗ WP c (Prog.lift (.enqueueDma ((mV.slice (Rect.unit (s := S1600x1024x128) off3 S1x1024x128.size h3) hs3).squeeze S1024x128 squeezes_S1x1024x128_S1024x128)
            (.here ((mIn.slice (Rect.unit (s := S4x2x8x1024x128) off2 S1x1x1x1024x128.size h2) hs2).squeeze S1024x128 squeezes_S1x1x1x1024x128_S1024x128))
            (.dma ((cc0_scratch6.slice (Rect.unit (s := S4) off1 S1.size h1)).squeeze S_ squeezes_S1_S_).sem) hsrc hdst hsem) >>= k) Q) := by
  subst e1 e2 e3
  have hset : ((mIn.slice (Rect.unit (s := S4x2x8x1024x128) ![s.val, 1, p, 0, 0] S1x1x1x1024x128.size h2) hs2).squeeze S1024x128 squeezes_S1x1x1x1024x128_S1024x128).view.set ⊆ inPiece s 1 p := by
    intro x hx
    have hx := (mem_sq (sp := .vmem) cc0_scratch1 ![s.val, 1, p, 0, 0] S1x1x1x1024x128.size h2 S1024x128 _ x).mp hx
    have x0 : s.val ≤ (x 0).val ∧ (x 0).val < s.val + 1 := hx (0 : Fin 5)
    have x1 : 1 ≤ (x 1).val ∧ (x 1).val < 1 + 1 := hx (1 : Fin 5)
    have x2 : p ≤ (x 2).val ∧ (x 2).val < p + 1 := hx (2 : Fin 5)
    exact mem_inPiece.mpr ⟨by omega, by omega, by omega⟩
  have hset' : inPiece s 1 p ⊆ ((mIn.slice (Rect.unit (s := S4x2x8x1024x128) ![s.val, 1, p, 0, 0] S1x1x1x1024x128.size h2) hs2).squeeze S1024x128 squeezes_S1x1x1x1024x128_S1024x128).view.set := by
    intro x hx
    refine (mem_sq (sp := .vmem) cc0_scratch1 ![s.val, 1, p, 0, 0] S1x1x1x1024x128.size h2 S1024x128 _ x).mpr fun a => ?_
    obtain ⟨x0, x1, x2⟩ := mem_inPiece.mp hx
    have x3 : (x 3).val < 1024 := (x 3).isLt
    have x4 : (x 4).val < 128 := (x 4).isLt
    match a with
    | ⟨0, _⟩ => show s.val ≤ (x 0).val ∧ (x 0).val < s.val + 1; omega
    | ⟨1, _⟩ => show 1 ≤ (x 1).val ∧ (x 1).val < 1 + 1; omega
    | ⟨2, _⟩ => show p ≤ (x 2).val ∧ (x 2).val < p + 1; omega
    | ⟨3, _⟩ => show 0 ≤ (x 3).val ∧ (x 3).val < 0 + 1024; omega
    | ⟨4, _⟩ => show 0 ≤ (x 4).val ∧ (x 4).val < 0 + 128; omega
  have hval : ∀ x ∈ inPiece s 1 p, ((mIn.slice (Rect.unit (s := S4x2x8x1024x128) ![s.val, 1, p, 0, 0] S1x1x1x1024x128.size h2) hs2).squeeze S1024x128 squeezes_S1x1x1x1024x128_S1024x128).view.write (Elt F) f
      (((mV.slice (Rect.unit (s := S1600x1024x128) ![I.pid b (8 * j + p), 0, 0] S1x1024x128.size h3) hs3).squeeze S1024x128 squeezes_S1x1024x128_S1024x128).view.read (Elt F) I.vp) Finset.univ x = inVal I b j x := by
    intro x hx
    refine write_names ((mIn.slice (Rect.unit (s := S4x2x8x1024x128) ![s.val, 1, p, 0, 0] S1x1x1x1024x128.size h2) hs2).squeeze S1024x128 squeezes_S1x1x1x1024x128_S1024x128).view f _ (inVal I b j) (fun y => ?_) x (hset' hx)
    show I.vp ((Rect.unit (s := S1600x1024x128) ![I.pid b (8 * j + p), 0, 0] S1x1024x128.size h3).emb (Shape.reshapeEquiv _ y))
      = inVal I b j ((Rect.unit (s := S4x2x8x1024x128) ![s.val, 1, p, 0, 0] S1x1x1x1024x128.size h2).emb (Shape.reshapeEquiv _ y))
    rw [sq_in, sq_page]
    have y0 : (y 0).val < 1024 := (y 0).isLt
    have y1 : (y 1).val < 128 := (y 1).isLt
    have z : inVal I b j ((Rect.unit (s := S4x2x8x1024x128) ![s.val, 1, p, 0, 0] S1x1x1x1024x128.size h2).emb (ix5 0 0 0 (y 0 : Fin 1024) (y 1 : Fin 128) : S1x1x1x1024x128.Idx))
        = I.code (1 + 1 * 0) (I.pid b (8 * j + (p + 1 * 0))) (0 + 1 * (y 0).val) (0 + 1 * (y 1).val) := rfl
    refine Eq.trans ?_ z.symm
    unfold Inp.code
    show I.vp _ = I.vp _
    refine congrArg _ (funext fun a => Fin.ext ?_)
    match a with
    | ⟨0, _⟩ => show I.pid b (8 * j + p) + 1 * 0 = I.pid b (8 * j + (p + 1 * 0)) % 1600; rw [Nat.mul_zero, Nat.add_zero, Nat.add_zero]; omega
    | ⟨1, _⟩ => show 0 + 1 * (y 0).val = (0 + 1 * (y 0).val) % 1024; omega
    | ⟨2, _⟩ => show 0 + 1 * (y 1).val = (0 + 1 * (y 1).val) % 128; omega
  have hD : ∀ q : PosShare TreeShare, iprop((((lIn c) ↦[inPiece s 1 p]{fullShare} (((mIn.slice (Rect.unit (s := S4x2x8x1024x128) ![s.val, 1, p, 0, 0] S1x1x1x1024x128.size h2) hs2).squeeze S1024x128 squeezes_S1x1x1x1024x128_S1024x128).view.write (Elt F) f
      (((mV.slice (Rect.unit (s := S1600x1024x128) ![I.pid b (8 * j + p), 0, 0] S1x1024x128.size h3) hs3).squeeze S1024x128 squeezes_S1x1024x128_S1024x128).view.read (Elt F) I.vp) Finset.univ)))
      ∗ ((lV c) ↦[((mV.slice (Rect.unit (s := S1600x1024x128) ![I.pid b (8 * j + p), 0, 0] S1x1024x128.size h3) hs3).squeeze S1024x128 squeezes_S1x1024x128_S1024x128).view.set]{q} I.vp)) ⊢ DIn c I b j s m ⟨2 * p + 1, hm⟩ := by
    intro q
    have e0 : (2 * p + 1) % 2 = 1 := by omega
    have e1 : (2 * p + 1) / 2 = p := by omega
    unfold DIn
    show _ ⊢ (lIn c) ↦[inPiece s ((2 * p + 1) % 2) ((2 * p + 1) / 2)]{fullShare} inVal I b j
    rw [e0, e1, pointsTo_congr hval]
    iintro ⟨H, -⟩
    iexact H
  iintro ⟨⟨%q, HP⟩, HI, HB⟩ Hk
  ihave HP := (pointsTo_share (PosShare.mem_left_op_right q)).1 $$ HP
  icases HP with ⟨HP1, HP2⟩
  ihave HP2 := (pointsTo_split_subset (Finset.subset_univ ((mV.slice (Rect.unit (s := S1600x1024x128) ![I.pid b (8 * j + p), 0, 0] S1x1024x128.size h3) hs3).squeeze S1024x128 squeezes_S1x1024x128_S1024x128).view.set)).1 $$ HP2
  icases HP2 with ⟨HP2, -⟩
  iapply (g_enq c ((mV.slice (Rect.unit (s := S1600x1024x128) ![I.pid b (8 * j + p), 0, 0] S1x1024x128.size h3) hs3).squeeze S1024x128 squeezes_S1x1024x128_S1024x128) .same
    ((mIn.slice (Rect.unit (s := S4x2x8x1024x128) ![s.val, 1, p, 0, 0] S1x1x1x1024x128.size h2) hs2).squeeze S1024x128 squeezes_S1x1x1x1024x128_S1024x128)
    (.dma (semOf cc0_scratch6 s)) hsrc hdst hsem k I.vp (Sd := inPiece s 1 p) f NIn rfl hset hm hu (hD _)) $$ [HP2 HI HB]
  · isplitl [HP2]; · iexact HP2
    isplitl [HI]; · iexact HI
    iexact HB
  iintro HB
  iapply Hk
  isplitl [HP1]
  · iexists _; iexact HP1
  iexact HB
end

end Cert.Proof.Pages

end
-- ==== Proof.Sched.lean ====
module

public import proofs.«01_k».proof.Proof.Values

@[expose] public section

noncomputable section

/-! # The order of the blocks, and the small words -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-! ## Words that are small naturals -/

section Words
variable {a b : ℕ}

theorem w_add : Scalar.addi (BitVec.ofNat 32 a) (BitVec.ofNat 32 b) = BitVec.ofNat 32 (a + b) := (BitVec.ofNat_add a b).symm
theorem w_mul : Scalar.muli (BitVec.ofNat 32 a) (BitVec.ofNat 32 b) = BitVec.ofNat 32 (a * b) := (BitVec.ofNat_mul a b).symm
theorem w_sub (h : b ≤ a) : Scalar.subi (BitVec.ofNat 32 a) (BitVec.ofNat 32 b) = BitVec.ofNat 32 (a - b) := by
  have e := @w_add (a - b) b
  rw [Nat.sub_add_cancel h] at e
  rw [← e]
  show (BitVec.ofNat 32 (a - b) + BitVec.ofNat 32 b) - BitVec.ofNat 32 b = _
  exact BitVec.add_sub_cancel _ _
theorem w_int (h : a < 2147483648) : (BitVec.ofNat 32 a).toInt = (a : ℤ) := by
  have e : (BitVec.ofNat 32 a).toNat = a := by rw [BitVec.toNat_ofNat]; exact Nat.mod_eq_of_lt (by omega)
  rw [BitVec.toInt_eq_toNat_of_lt (by rw [e]; omega), e]
theorem w_nat (h : a < 4294967296) : (BitVec.ofNat 32 a).toNat = a := by
  rw [BitVec.toNat_ofNat]; exact Nat.mod_eq_of_lt h
theorem w_of_int {x : BitVec 32} (h : x.toInt = (a : ℤ)) : x = BitVec.ofNat 32 a := by
  apply BitVec.eq_of_toInt_eq
  have := BitVec.toInt_lt (x := x)
  rw [w_int (by omega), h]
theorem w_corner (hb : 0 < b) (h : b < 2147483648) : ¬ IntOp.SDivCorner (BitVec.ofNat 32 a) (BitVec.ofNat 32 b) := by
  have hn := w_int h
  intro hc
  rcases hc with hc | ⟨-, hc⟩
  · rw [hc] at hn; simp at hn; omega
  · rw [hc] at hn; simp at hn
theorem w_div (ha : a < 2147483648) (hb : 0 < b) (h : b < 2147483648) :
    Scalar.divsi (BitVec.ofNat 32 a) (BitVec.ofNat 32 b) = BitVec.ofNat 32 (a / b) := by
  rw [Scalar.divsi, IntOp.divsi, if_neg (w_corner hb h)]
  apply w_of_int
  have hq : a / b ≤ a := Nat.div_le_self a b
  rw [BitVec.toInt_sdiv, w_int ha, w_int h, Int.tdiv_eq_ediv_of_nonneg (by omega)]
  have e : ((a : ℤ) / (b : ℤ)) = ((a / b : ℕ) : ℤ) := by simp
  rw [e, Int.bmod_def]
  have h2 : (((a / b : ℕ) : ℤ)) ≤ (a : ℤ) := by exact_mod_cast hq
  have h3 : (0 : ℤ) ≤ (((a / b : ℕ) : ℤ)) := Int.natCast_nonneg _
  generalize (((a / b : ℕ) : ℤ)) = q at *
  rw [Int.emod_eq_of_lt h3 (by push_cast; omega), if_pos (by push_cast; omega)]
theorem w_rem (ha : a < 2147483648) (hb : 0 < b) (h : b < 2147483648) :
    Scalar.remsi (BitVec.ofNat 32 a) (BitVec.ofNat 32 b) = BitVec.ofNat 32 (a % b) := by
  rw [Scalar.remsi, IntOp.remsi, if_neg (w_corner hb h)]
  apply w_of_int
  rw [BitVec.toInt_srem, w_int ha, w_int h, Int.tmod_eq_emod_of_nonneg (by omega)]
  simp
theorem w_max (ha : a < 2147483648) (h : b < 2147483648) :
    Scalar.maxsi (BitVec.ofNat 32 a) (BitVec.ofNat 32 b) = BitVec.ofNat 32 (max a b) := by
  rw [Scalar.maxsi, IntOp.maxsi, BitVec.slt, w_int ha, w_int h]
  rcases Nat.lt_or_ge b a with hc | hc
  · rw [if_pos (by simpa using hc), max_eq_left (by omega)]
  · rw [if_neg (by simpa using hc), max_eq_right (by omega)]
theorem w_min (ha : a < 2147483648) (h : b < 2147483648) :
    Scalar.minsi (BitVec.ofNat 32 a) (BitVec.ofNat 32 b) = BitVec.ofNat 32 (min a b) := by
  rw [Scalar.minsi, IntOp.minsi, BitVec.slt, w_int ha, w_int h]
  rcases Nat.lt_or_ge a b with hc | hc
  · rw [if_pos (by simpa using hc), min_eq_left (by omega)]
  · rw [if_neg (by simpa using hc), min_eq_right (by omega)]
theorem w_iv (k : ℕ) : Scf.iv (BitVec.ofNat 32 a) 1#32 k = BitVec.ofNat 32 (a + k) := by
  show BitVec.ofNat 32 a + BitVec.ofNat 32 k * 1#32 = _
  rw [BitVec.mul_one]; exact (BitVec.ofNat_add a k).symm
theorem w_trips (ha : a < 2147483648) (h : b < 2147483648) :
    Scf.trips (BitVec.ofNat 32 a) (BitVec.ofNat 32 b) 1#32 = b - a := by
  unfold Scf.trips
  rw [w_int ha, w_int h, (by decide : (1#32).toInt = 1)]
  omega
theorem w_ok (ha : a < 2147483648) (h : b < 2147483648) :
    Scf.OK (BitVec.ofNat 32 a) (BitVec.ofNat 32 b) 1#32 := by
  refine ⟨by decide, ?_⟩
  rw [w_trips ha h, w_int ha, (by decide : (1#32).toInt = 1)]
  omega
theorem w_sgt (ha : a < 2147483648) (h : b < 2147483648) :
    (Scalar.cmpi .sgt (BitVec.ofNat 32 a) (BitVec.ofNat 32 b) = 1#1) ↔ b < a := by
  have e : Scalar.cmpi .sgt (BitVec.ofNat 32 a) (BitVec.ofNat 32 b) = BitVec.ofBool (decide ((BitVec.ofNat 32 b).toInt < (BitVec.ofNat 32 a).toInt)) := rfl
  rw [e, w_int ha, w_int h]
  by_cases hc : b < a <;> simp [hc]
theorem w_flag (x : BitVec 1) : Scalar.cmpi .ne (Scalar.extui x) 0#32 = x := by
  revert x; decide
end Words

/-! ## The order in which the blocks are taken -/

namespace Inp
variable (I : Inp F)

/-- Block `k` (of 160) holds a valid token. -/
def real (k : ℕ) : Prop := ((128 * (k % 32) : ℕ) : ℤ) < I.len (k / 32)
instance (k : ℕ) : Decidable (I.real k) := inferInstanceAs (Decidable (_ < _))
/-- How many of the first `k` blocks hold a valid token. -/
def cnt : ℕ → ℕ
  | 0 => 0
  | k + 1 => cnt k + if I.real k then 1 else 0
/-- How many blocks hold a valid token. -/
def nr : ℕ := I.cnt 160
/-- The place of a block: the ones with tokens first, the others from the end. -/
def pos (k : ℕ) : ℕ := if I.real k then I.cnt k else 159 - (k - I.cnt k)
open Classical in
/-- The block at place `r`. -/
def ord (r : ℕ) : ℕ := if h : ∃ k, k < 160 ∧ I.pos k = r then h.choose else 0
/-- How many pages of a block hold a valid token. -/
def pages (k : ℕ) : ℕ := min 8 (((I.len (k / 32)).toNat - 128 * (k % 32) + 15) / 16)

theorem cnt_real {k : ℕ} (h : I.real k) : I.cnt (k + 1) = I.cnt k + 1 := by
  show I.cnt k + (if I.real k then 1 else 0) = _
  rw [if_pos h]
theorem cnt_not {k : ℕ} (h : ¬ I.real k) : I.cnt (k + 1) = I.cnt k := by
  show I.cnt k + (if I.real k then 1 else 0) = _
  rw [if_neg h]; rfl
theorem cnt_gap {k m : ℕ} (h : k ≤ m) : I.cnt k ≤ I.cnt m ∧ I.cnt m - I.cnt k ≤ m - k := by
  induction m, h using Nat.le_induction with
  | base => simp
  | succ m h ih =>
    by_cases hr : I.real m
    · rw [I.cnt_real hr]; omega
    · rw [I.cnt_not hr]; omega
theorem cnt_le (k : ℕ) : I.cnt k ≤ k := by
  have := (I.cnt_gap (Nat.zero_le k)).2
  have h0 : I.cnt 0 = 0 := rfl
  omega
theorem nr_le : I.nr ≤ 160 := I.cnt_le 160
theorem pos_real {k : ℕ} (h : I.real k) : I.pos k = I.cnt k := if_pos h
theorem pos_not {k : ℕ} (h : ¬ I.real k) : I.pos k = 159 - (k - I.cnt k) := if_neg h
theorem pos_lt_nr {k : ℕ} (hk : k < 160) (h : I.real k) : I.pos k < I.nr := by
  rw [I.pos_real h]
  have := (I.cnt_gap (show k + 1 ≤ 160 by omega)).1
  rw [I.cnt_real h] at this
  show _ < I.cnt 160
  omega
theorem pos_ge_nr {k : ℕ} (hk : k < 160) (h : ¬ I.real k) : I.nr ≤ I.pos k := by
  rw [I.pos_not h]
  have := (I.cnt_gap (show k + 1 ≤ 160 by omega))
  rw [I.cnt_not h] at this
  have := I.cnt_le k
  have := I.nr_le
  show I.cnt 160 ≤ _
  change I.cnt 160 ≤ 160 at this
  omega
theorem pos_lt {k : ℕ} (hk : k < 160) : I.pos k < 160 := by
  by_cases h : I.real k
  · exact lt_of_lt_of_le (I.pos_lt_nr hk h) I.nr_le
  · rw [I.pos_not h]; omega
theorem pos_inj_lt {k m : ℕ} (hkm : k < m) (hm : m < 160) : I.pos k ≠ I.pos m := by
  have g := I.cnt_gap (show k + 1 ≤ m by omega)
  have lk := I.cnt_le k
  have lm := I.cnt_le m
  by_cases h : I.real k <;> by_cases h' : I.real m
  · rw [I.pos_real h, I.pos_real h']; rw [I.cnt_real h] at g; omega
  · have := I.pos_lt_nr (by omega) h; have := I.pos_ge_nr hm h'; omega
  · have := I.pos_ge_nr (by omega) h; have := I.pos_lt_nr hm h'; omega
  · rw [I.pos_not h, I.pos_not h']; rw [I.cnt_not h] at g; omega
theorem pos_inj {k m : ℕ} (hk : k < 160) (hm : m < 160) (h : I.pos k = I.pos m) : k = m := by
  rcases Nat.lt_trichotomy k m with c | c | c
  · exact absurd h (I.pos_inj_lt c hm)
  · exact c
  · exact absurd h.symm (I.pos_inj_lt c hk)
theorem pos_surj {r : ℕ} (hr : r < 160) : ∃ k, k < 160 ∧ I.pos k = r := by
  have hi : Function.Injective (fun k : Fin 160 => (⟨I.pos k, I.pos_lt k.isLt⟩ : Fin 160)) := by
    intro a b hab
    exact Fin.ext (I.pos_inj a.isLt b.isLt (congrArg Fin.val hab))
  obtain ⟨k, hk⟩ := (Finite.injective_iff_surjective.1 hi) ⟨r, hr⟩
  exact ⟨k, k.isLt, congrArg Fin.val hk⟩
theorem ord_spec {r : ℕ} (hr : r < 160) : I.ord r < 160 ∧ I.pos (I.ord r) = r := by
  have h := I.pos_surj hr
  unfold ord; rw [dif_pos h]; exact h.choose_spec
theorem ord_lt {r : ℕ} (hr : r < 160) : I.ord r < 160 := (I.ord_spec hr).1
theorem pos_ord {r : ℕ} (hr : r < 160) : I.pos (I.ord r) = r := (I.ord_spec hr).2
theorem ord_pos {k : ℕ} (hk : k < 160) : I.ord (I.pos k) = k :=
  I.pos_inj (I.ord_lt (I.pos_lt hk)) hk (I.pos_ord (I.pos_lt hk))
theorem real_ord {r : ℕ} (hr : r < I.nr) : I.real (I.ord r) := by
  by_contra h
  have hr' := lt_of_lt_of_le hr I.nr_le
  have := I.pos_ge_nr (I.ord_lt hr') h
  rw [I.pos_ord hr'] at this; omega
theorem not_real_ord {r : ℕ} (h : I.nr ≤ r) (hr : r < 160) : ¬ I.real (I.ord r) := by
  intro hc
  have := I.pos_lt_nr (I.ord_lt hr) hc
  rw [I.pos_ord hr] at this; omega
theorem pages_pos {k : ℕ} (h : I.real k) : 1 ≤ I.pages k ∧ I.pages k ≤ 8 := by
  unfold pages real at *; omega

/-- What is asked of the inputs: the ids of the pages that a length reaches in the pool, and lengths that leave room for rounding up. -/
structure Ok : Prop where
  pid : ∀ b p : ℕ, b < 5 → p < 256 → ((16 * p : ℕ) : ℤ) < I.len b → I.pid b p < 1600
  len : ∀ x, (I.ln x).toInt ≤ 2147483632

theorem Ok.pid_lt {I : Inp F} (h : I.Ok) {B k : ℕ} (hB : B < 160) (hk : k < I.pages B) : I.pid (B / 32) (8 * (B % 32) + k) < 1600 := by
  unfold pages at hk
  exact h.pid (B / 32) (8 * (B % 32) + k) (by omega) (by omega) (by omega)
theorem Ok.len_le {I : Inp F} (h : I.Ok) (b : ℕ) : I.len b ≤ 2147483632 := h.len _

theorem ln_word {b : ℕ} (hb : b < 5) (h : 0 < I.len b) : I.ln (ix1 (⟨b, hb⟩ : Fin 5)) = BitVec.ofNat 32 (I.len b).toNat := by
  apply w_of_int
  have e : (⟨b, hb⟩ : Fin 5) = n1 b 5 := Fin.ext (Nat.mod_eq_of_lt hb).symm
  rw [e, Int.toNat_of_nonneg (by omega)]; rfl
end Inp

/-! ## The page counts and the trip counts -/

theorem w_pages {B ℓ : ℕ} (hB : B < 160) (h : 128 * (B % 32) < ℓ) (hl : ℓ ≤ 2147483632) :
    Scalar.minsi 8#32 (Scalar.maxsi 0#32 (Scalar.divsi (Scalar.subi (Scalar.addi (Scalar.subi (BitVec.ofNat 32 ℓ)
        (Scalar.muli (Scalar.remsi (BitVec.ofNat 32 B) 32#32) 128#32)) 16#32) 1#32) 16#32))
      = BitVec.ofNat 32 (min 8 ((ℓ - 128 * (B % 32) + 15) / 16)) := by
  rw [w_rem (by omega) (by omega) (by omega), w_mul, w_sub (by omega), w_add, w_sub (by omega), w_div (by omega) (by omega) (by omega),
    w_max (by omega) (by omega), w_min (by omega) (by omega)]
  congr 1; omega

theorem up_to {c : ℕ} (hc : c < 2147483648) :
    Scalar.addi 0#32 (Scalar.muli (Scalar.divsi (Scalar.subi (BitVec.ofNat 32 c) 0#32) 1#32) 1#32) = BitVec.ofNat 32 c := by
  rw [w_sub (by omega), w_div (by omega) (by omega) (by omega), w_mul, w_add]; congr 1; omega

/-- A real block's words: its number, its request's length. -/
structure BlkW (I : Inp F) (B : ℕ) (vB vL : BitVec 32) : Prop where
  ok : I.Ok
  lt : B < 160
  real : I.real B
  eB : vB = BitVec.ofNat 32 B
  eL : vL = BitVec.ofNat 32 (I.len (B / 32)).toNat

section Trips
variable {I : Inp F} {B : ℕ} {vB vL : BitVec 32} (W : BlkW I B vB vL)
include W
theorem BlkW.cw : Scalar.minsi 8#32 (Scalar.maxsi 0#32 (Scalar.divsi (Scalar.subi (Scalar.addi (Scalar.subi vL
        (Scalar.muli (Scalar.remsi vB 32#32) 128#32)) 16#32) 1#32) 16#32)) = BitVec.ofNat 32 (I.pages B) := by
  have h1 := W.ok.len_le (B / 32)
  have h2 := W.real
  unfold Inp.real at h2
  rw [W.eB, W.eL]
  exact w_pages W.lt (by omega) (by omega)
theorem BlkW.pg : I.pages B < 2147483648 := by have := I.pages_pos W.real; omega
theorem BlkW.main {l : Scf.Loop 32} (h : l = ⟨0#32, Scalar.addi 0#32 (Scalar.muli (Scalar.divsi (Scalar.subi (Scalar.minsi 8#32 (Scalar.maxsi 0#32 (Scalar.divsi (Scalar.subi (Scalar.addi (Scalar.subi vL
        (Scalar.muli (Scalar.remsi vB 32#32) 128#32)) 16#32) 1#32) 16#32))) 0#32) 1#32) 1#32), 1#32⟩) : l.trips = I.pages B ∧ l.OK := by
  rw [h, W.cw, up_to W.pg]
  exact ⟨w_trips (by omega) W.pg, w_ok (by omega) W.pg⟩
theorem BlkW.rest {l : Scf.Loop 32} (h : l = ⟨Scalar.addi 0#32 (Scalar.muli (Scalar.divsi (Scalar.subi (Scalar.minsi 8#32 (Scalar.maxsi 0#32 (Scalar.divsi (Scalar.subi (Scalar.addi (Scalar.subi vL
        (Scalar.muli (Scalar.remsi vB 32#32) 128#32)) 16#32) 1#32) 16#32))) 0#32) 1#32) 1#32),
        Scalar.addi 0#32 (Scalar.subi (Scalar.minsi 8#32 (Scalar.maxsi 0#32 (Scalar.divsi (Scalar.subi (Scalar.addi (Scalar.subi vL
        (Scalar.muli (Scalar.remsi vB 32#32) 128#32)) 16#32) 1#32) 16#32))) 0#32), 1#32⟩) : l.trips = 0 ∧ l.OK := by
  rw [h, W.cw, up_to W.pg, w_sub (by omega), w_add]
  refine ⟨(w_trips W.pg ?_).trans (by omega), w_ok W.pg ?_⟩ <;> (have := W.pg; omega)
theorem BlkW.pad {l : Scf.Loop 32} (h : l = ⟨Scalar.minsi 8#32 (Scalar.maxsi 0#32 (Scalar.divsi (Scalar.subi (Scalar.addi (Scalar.subi vL
        (Scalar.muli (Scalar.remsi vB 32#32) 128#32)) 16#32) 1#32) 16#32)),
        Scalar.addi (Scalar.minsi 8#32 (Scalar.maxsi 0#32 (Scalar.divsi (Scalar.subi (Scalar.addi (Scalar.subi vL
        (Scalar.muli (Scalar.remsi vB 32#32) 128#32)) 16#32) 1#32) 16#32))) (Scalar.muli (Scalar.divsi (Scalar.subi 8#32 (Scalar.minsi 8#32 (Scalar.maxsi 0#32 (Scalar.divsi (Scalar.subi (Scalar.addi (Scalar.subi vL
        (Scalar.muli (Scalar.remsi vB 32#32) 128#32)) 16#32) 1#32) 16#32)))) 1#32) 1#32), 1#32⟩) : l.trips = 8 - I.pages B ∧ l.OK := by
  have hp := I.pages_pos W.real
  rw [h, W.cw, w_sub (by omega), w_div (by omega) (by omega) (by omega), w_mul, w_add]
  refine ⟨(w_trips (by omega) (by omega)).trans (by omega), w_ok (by omega) (by omega)⟩
theorem BlkW.padRest {l : Scf.Loop 32} (h : l = ⟨Scalar.addi (Scalar.minsi 8#32 (Scalar.maxsi 0#32 (Scalar.divsi (Scalar.subi (Scalar.addi (Scalar.subi vL
        (Scalar.muli (Scalar.remsi vB 32#32) 128#32)) 16#32) 1#32) 16#32))) (Scalar.muli (Scalar.divsi (Scalar.subi 8#32 (Scalar.minsi 8#32 (Scalar.maxsi 0#32 (Scalar.divsi (Scalar.subi (Scalar.addi (Scalar.subi vL
        (Scalar.muli (Scalar.remsi vB 32#32) 128#32)) 16#32) 1#32) 16#32)))) 1#32) 1#32),
        Scalar.addi (Scalar.minsi 8#32 (Scalar.maxsi 0#32 (Scalar.divsi (Scalar.subi (Scalar.addi (Scalar.subi vL
        (Scalar.muli (Scalar.remsi vB 32#32) 128#32)) 16#32) 1#32) 16#32))) (Scalar.subi 8#32 (Scalar.minsi 8#32 (Scalar.maxsi 0#32 (Scalar.divsi (Scalar.subi (Scalar.addi (Scalar.subi vL
        (Scalar.muli (Scalar.remsi vB 32#32) 128#32)) 16#32) 1#32) 16#32)))), 1#32⟩) : l.trips = 0 ∧ l.OK := by
  have hp := I.pages_pos W.real
  rw [h, W.cw, w_sub (by omega), w_div (by omega) (by omega) (by omega), w_mul, w_add, w_add]
  refine ⟨(w_trips (by omega) (by omega)).trans (by omega), w_ok (by omega) (by omega)⟩

theorem t2_trips : (k0_t2_loop vB vL).trips = I.pages B ∧ (k0_t2_loop vB vL).OK := W.main rfl
theorem t3_trips : (k0_t3_loop vB vL).trips = 0 ∧ (k0_t3_loop vB vL).OK := W.rest rfl
theorem t4_trips : (k0_t4_loop vB vL).trips = I.pages B ∧ (k0_t4_loop vB vL).OK := W.main rfl
theorem t5_trips : (k0_t5_loop vB vL).trips = 0 ∧ (k0_t5_loop vB vL).OK := W.rest rfl
theorem t6_trips : (k0_t6_loop vB vL).trips = I.pages B ∧ (k0_t6_loop vB vL).OK := W.main rfl
theorem t7_trips : (k0_t7_loop vB vL).trips = 0 ∧ (k0_t7_loop vB vL).OK := W.rest rfl
theorem t12_trips : (k0_t12_loop vB vL).trips = I.pages B ∧ (k0_t12_loop vB vL).OK := W.main rfl
theorem t13_trips : (k0_t13_loop vB vL).trips = 0 ∧ (k0_t13_loop vB vL).OK := W.rest rfl
theorem t14_trips : (k0_t14_loop vB vL).trips = I.pages B ∧ (k0_t14_loop vB vL).OK := W.main rfl
theorem t15_trips : (k0_t15_loop vB vL).trips = 0 ∧ (k0_t15_loop vB vL).OK := W.rest rfl
theorem t16_trips : (k0_t16_loop vB vL).trips = I.pages B ∧ (k0_t16_loop vB vL).OK := W.main rfl
theorem t17_trips : (k0_t17_loop vB vL).trips = 0 ∧ (k0_t17_loop vB vL).OK := W.rest rfl
theorem t18_trips : (k0_t18_loop vB vL).trips = 8 - I.pages B ∧ (k0_t18_loop vB vL).OK := W.pad rfl
theorem t19_trips : (k0_t19_loop vB vL).trips = 0 ∧ (k0_t19_loop vB vL).OK := W.padRest rfl
end Trips

end Cert.Proof.Pages
-- ==== Proof.Words.lean ====
module

public import proofs.«01_k».proof.Proof.Sched

@[expose] public section

noncomputable section

/-! # Bounds of the kernel’s offsets -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

theorem in_sem {off : Fin 1 → ℕ} {s : ℕ} (e : off = ![s]) (hs : s < 4) : ∀ a, off a + S1.size a ≤ S4.size a := by
  rw [e]; intro a
  match a with
  | ⟨0, _⟩ => exact (by omega : s + 1 ≤ 4)
theorem in_ord {off : Fin 1 → ℕ} {r : ℕ} (e : off = ![r]) (hr : r < 160) : ∀ a, off a + S1.size a ≤ S160.size a := by
  rw [e]; intro a
  match a with
  | ⟨0, _⟩ => exact (by omega : r + 1 ≤ 160)
theorem in_len {off : Fin 1 → ℕ} {b : ℕ} (e : off = ![b]) (hb : b < 5) : ∀ a, off a + S1.size a ≤ S5.size a := by
  rw [e]; intro a
  match a with
  | ⟨0, _⟩ => exact (by omega : b + 1 ≤ 5)
theorem in_tab {off : Fin 2 → ℕ} {b q : ℕ} (e : off = ![b, q]) (hb : b < 5) (hq : q < 256) : ∀ a, off a + S1x1.size a ≤ S5x256.size a := by
  rw [e]; intro a
  match a with
  | ⟨0, _⟩ => exact (by omega : b + 1 ≤ 5)
  | ⟨1, _⟩ => exact (by omega : q + 1 ≤ 256)
theorem in_pool {off : Fin 3 → ℕ} {q : ℕ} (e : off = ![q, 0, 0]) (hq : q < 1600) : ∀ a, off a + S1x1024x128.size a ≤ S1600x1024x128.size a := by
  rw [e]; intro a
  match a with
  | ⟨0, _⟩ => exact (by omega : q + 1 ≤ 1600)
  | ⟨1, _⟩ => exact (by omega : 0 + 1024 ≤ 1024)
  | ⟨2, _⟩ => exact (by omega : 0 + 128 ≤ 128)
theorem in_page {off : Fin 5 → ℕ} {s i p : ℕ} (e : off = ![s, i, p, 0, 0]) (hs : s < 4) (hp : p < 8) (hi : i < 2) : ∀ a, off a + S1x1x1x1024x128.size a ≤ S4x2x8x1024x128.size a := by
  rw [e]; intro a
  match a with
  | ⟨0, _⟩ => exact (by omega : s + 1 ≤ 4)
  | ⟨1, _⟩ => exact (by omega : i + 1 ≤ 2)
  | ⟨2, _⟩ => exact (by omega : p + 1 ≤ 8)
  | ⟨3, _⟩ => exact (by omega : 0 + 1024 ≤ 1024)
  | ⟨4, _⟩ => exact (by omega : 0 + 128 ≤ 128)
theorem in_codes {off : Fin 5 → ℕ} {s i p r : ℕ} (e : off = ![s, i, p, r, 0]) (hs : s < 4) (hp : p < 8) (hi : i < 2) (hr : r + 32 ≤ 1024) : ∀ a, off a + S1x1x1x32x128.size a ≤ S4x2x8x1024x128.size a := by
  rw [e]; intro a
  match a with
  | ⟨0, _⟩ => exact (by omega : s + 1 ≤ 4)
  | ⟨1, _⟩ => exact (by omega : i + 1 ≤ 2)
  | ⟨2, _⟩ => exact (by omega : p + 1 ≤ 8)
  | ⟨3, _⟩ => exact (by omega : r + 32 ≤ 1024)
  | ⟨4, _⟩ => exact (by omega : 0 + 128 ≤ 128)
theorem in_words {off : Fin 5 → ℕ} {s i h w : ℕ} (e : off = ![s, i, h, w, 0]) (hs : s < 4) (hw : w + 8 ≤ 64) (hi : i < 2) (hh : h < 64) : ∀ a, off a + S1x1x1x8x128.size a ≤ S4x2x64x64x128.size a := by
  rw [e]; intro a
  match a with
  | ⟨0, _⟩ => exact (by omega : s + 1 ≤ 4)
  | ⟨1, _⟩ => exact (by omega : i + 1 ≤ 2)
  | ⟨2, _⟩ => exact (by omega : h + 1 ≤ 64)
  | ⟨3, _⟩ => exact (by omega : w + 8 ≤ 64)
  | ⟨4, _⟩ => exact (by omega : 0 + 128 ≤ 128)
theorem in_wslot {off : Fin 5 → ℕ} {s i : ℕ} (e : off = ![s, i, 0, 0, 0]) (hs : s < 4) (hi : i < 2) : ∀ a, off a + S1x1x64x64x128.size a ≤ S4x2x64x64x128.size a := by
  rw [e]; intro a
  match a with
  | ⟨0, _⟩ => exact (by omega : s + 1 ≤ 4)
  | ⟨1, _⟩ => exact (by omega : i + 1 ≤ 2)
  | ⟨2, _⟩ => exact (by omega : 0 + 64 ≤ 64)
  | ⟨3, _⟩ => exact (by omega : 0 + 64 ≤ 64)
  | ⟨4, _⟩ => exact (by omega : 0 + 128 ≤ 128)
theorem in_out {off : Fin 4 → ℕ} {b t : ℕ} (e : off = ![b, 0, t, 0]) (hb : b < 5) (ht : t + 128 ≤ 4096) : ∀ a, off a + S1x64x128x128.size a ≤ S5x64x4096x128.size a := by
  rw [e]; intro a
  match a with
  | ⟨0, _⟩ => exact (by omega : b + 1 ≤ 5)
  | ⟨1, _⟩ => exact (by omega : 0 + 64 ≤ 64)
  | ⟨2, _⟩ => exact (by omega : t + 128 ≤ 4096)
  | ⟨3, _⟩ => exact (by omega : 0 + 128 ≤ 128)
theorem in_scale {off : Fin 4 → ℕ} {i c r : ℕ} (e : off = ![i, c, r, 0]) (hc : c < 13) (hi : i < 2) (hr : r + 32 ≤ 1024) : ∀ a, off a + S1x1x32x128.size a ≤ S2x13x1024x128.size a := by
  rw [e]; intro a
  match a with
  | ⟨0, _⟩ => exact (by omega : i + 1 ≤ 2)
  | ⟨1, _⟩ => exact (by omega : c + 1 ≤ 13)
  | ⟨2, _⟩ => exact (by omega : r + 32 ≤ 1024)
  | ⟨3, _⟩ => exact (by omega : 0 + 128 ≤ 128)

theorem ww_page {off : Fin 5 → ℕ} {s i p : ℕ} (e : off = ![s, i, p, 0, 0]) (h : ∀ a, off a + S1x1x1x1024x128.size a ≤ S4x2x8x1024x128.size a) :
    (Rect.unit (s := S4x2x8x1024x128) off S1x1x1x1024x128.size h).WholeWords (EltTy.packing .fp8e4m3) := by
  subst e; exact .inr ⟨by decide, rfl, rfl, rfl⟩
theorem ww_pool {off : Fin 3 → ℕ} {q : ℕ} (e : off = ![q, 0, 0]) (h : ∀ a, off a + S1x1024x128.size a ≤ S1600x1024x128.size a) :
    (Rect.unit (s := S1600x1024x128) off S1x1024x128.size h).WholeWords (EltTy.packing .fp8e4m3) := by
  subst e; exact .inr ⟨by decide, rfl, rfl, rfl⟩
theorem ww_out {off : Fin 4 → ℕ} {b t : ℕ} (e : off = ![b, 0, t, 0]) (ht : 2 ∣ t) (h : ∀ a, off a + S1x64x128x128.size a ≤ S5x64x4096x128.size a) :
    (Rect.unit (s := S5x64x4096x128) off S1x64x128x128.size h).WholeWords (EltTy.packing .bf16) := by
  subst e
  have h2 : 2 ≤ S5x64x4096x128.rank := by decide
  have e : EltTy.packing .bf16 = 2 := rfl
  rw [e]
  exact .inl (.inr ⟨h2, rfl, .inl ⟨ht, (by decide : 2 ∣ 128)⟩⟩)

theorem v_slot {t : ℕ} (h : t < 2147483648) : (Scalar.remsi (Scf.iv 0#32 1#32 t) 4#32).toNat = t % 4 := by
  rw [w_iv, Nat.zero_add, w_rem (by omega) (by omega) (by omega), w_nat (by omega)]
theorem v_slot3 {t : ℕ} (h : t < 2147483000) : (Scalar.remsi (Scalar.subi (Scalar.addi (Scf.iv 0#32 1#32 t) 4#32) 1#32) 4#32).toNat = (t + 3) % 4 := by
  rw [w_iv, Nat.zero_add, w_add, w_sub (by omega), w_rem (by omega) (by omega) (by omega), w_nat (by omega)]; rfl
theorem v_next {t : ℕ} (h : t < 2147483000) : (Scalar.subi (Scalar.addi (Scf.iv 0#32 1#32 t) 4#32) 1#32).toNat = t + 3 := by
  rw [w_iv, Nat.zero_add, w_add, w_sub (by omega), w_nat (by omega)]; rfl
theorem v_iv {t : ℕ} (h : t < 4294967296) : (Scf.iv 0#32 1#32 t).toNat = t := by rw [w_iv, Nat.zero_add, w_nat h]
theorem v_req {B : ℕ} (h : B < 160) : (Scalar.divsi (BitVec.ofNat 32 B) 32#32).toNat = B / 32 := by
  rw [w_div (by omega) (by omega) (by omega), w_nat (by omega)]
theorem v_row {B : ℕ} (h : B < 160) : (Scalar.muli (Scalar.remsi (BitVec.ofNat 32 B) 32#32) 128#32).toNat = 128 * (B % 32) := by
  rw [w_rem (by omega) (by omega) (by omega), w_mul, w_nat (by omega)]; omega
theorem v_half {B : ℕ} (h : B < 160) : Nat.mul 2 (Scalar.muli (Scalar.remsi (BitVec.ofNat 32 B) 32#32) 64#32).toNat = 128 * (B % 32) := by
  rw [w_rem (by omega) (by omega) (by omega), w_mul, w_nat (by omega)]
  show 2 * (B % 32 * 64) = _
  omega
theorem v_page {B p : ℕ} (h : B < 160) (hp : p < 8) :
    (Scalar.addi (Scalar.muli (Scalar.remsi (BitVec.ofNat 32 B) 32#32) 8#32) (Scf.iv 0#32 1#32 p)).toNat = 8 * (B % 32) + p := by
  rw [w_rem (by omega) (by omega) (by omega), w_mul, w_iv, w_add, w_nat (by omega)]; omega
theorem v_word {p : ℕ} (hp : p < 100000) : (Scalar.muli (Scf.iv 0#32 1#32 p) 8#32).toNat = 8 * p := by
  rw [w_iv, w_mul, w_nat (by omega)]; omega

/-! ## The trip counts that depend on the number of real blocks -/

section Count
variable {n : ℕ} (hn : n ≤ 160)
include hn
theorem t11_trips : (k0_t11_loop (BitVec.ofNat 32 n)).trips = n ∧ (k0_t11_loop (BitVec.ofNat 32 n)).OK := by
  have e : k0_t11_loop (BitVec.ofNat 32 n) = ⟨0#32, BitVec.ofNat 32 n, 1#32⟩ := by
    simp only [k0_t11_loop]; rw [up_to (by omega)]
  rw [e]; exact ⟨w_trips (by omega) (by omega), w_ok (by omega) (by omega)⟩
theorem t20_trips : (k0_t20_loop (BitVec.ofNat 32 n)).trips = 0 ∧ (k0_t20_loop (BitVec.ofNat 32 n)).OK := by
  have e : k0_t20_loop (BitVec.ofNat 32 n) = ⟨BitVec.ofNat 32 n, BitVec.ofNat 32 n, 1#32⟩ := by
    have e2 : Scalar.addi 0#32 (Scalar.subi (BitVec.ofNat 32 n) 0#32) = BitVec.ofNat 32 n := by
      rw [w_sub (by omega), w_add]; congr 1; omega
    simp only [k0_t20_loop]; rw [up_to (by omega), e2]
  rw [e]; exact ⟨(w_trips (by omega) (by omega)).trans (by omega), w_ok (by omega) (by omega)⟩
theorem v_tail : Scalar.maxsi (Scalar.subi (BitVec.ofNat 32 n) 4#32) 0#32 = BitVec.ofNat 32 (n - 4) := by
  rcases Nat.lt_or_ge n 4 with h | h
  · interval_cases n <;> decide
  · rw [w_sub h, w_max (by omega) (by omega)]; congr 1; omega
theorem v_tailUb : Scalar.addi (BitVec.ofNat 32 (n - 4)) (Scalar.muli (Scalar.divsi (Scalar.subi (BitVec.ofNat 32 n) (BitVec.ofNat 32 (n - 4))) 1#32) 1#32) = BitVec.ofNat 32 n := by
  rw [w_sub (by omega), w_div (by omega) (by omega) (by omega), w_mul, w_add]; congr 1; omega
theorem v_tailEnd : Scalar.addi (BitVec.ofNat 32 (n - 4)) (Scalar.subi (BitVec.ofNat 32 n) (BitVec.ofNat 32 (n - 4))) = BitVec.ofNat 32 n := by
  rw [w_sub (by omega), w_add]; congr 1; omega
theorem t31_trips : (k0_t31_loop (BitVec.ofNat 32 n)).trips = n - (n - 4) ∧ (k0_t31_loop (BitVec.ofNat 32 n)).OK := by
  have e : k0_t31_loop (BitVec.ofNat 32 n) = ⟨BitVec.ofNat 32 (n - 4), BitVec.ofNat 32 n, 1#32⟩ := by
    simp only [k0_t31_loop]; rw [v_tail hn, v_tailUb hn]
  rw [e]; exact ⟨(w_trips (by omega) (by omega)), w_ok (by omega) (by omega)⟩
theorem t32_trips : (k0_t32_loop (BitVec.ofNat 32 n)).trips = 0 ∧ (k0_t32_loop (BitVec.ofNat 32 n)).OK := by
  have e : k0_t32_loop (BitVec.ofNat 32 n) = ⟨BitVec.ofNat 32 n, BitVec.ofNat 32 n, 1#32⟩ := by
    simp only [k0_t32_loop]; rw [v_tail hn, v_tailUb hn, v_tailEnd hn]
  rw [e]; exact ⟨(w_trips (by omega) (by omega)).trans (by omega), w_ok (by omega) (by omega)⟩
theorem t33_trips : (k0_t33_loop (BitVec.ofNat 32 n)).trips = 160 - n ∧ (k0_t33_loop (BitVec.ofNat 32 n)).OK := by
  have e : k0_t33_loop (BitVec.ofNat 32 n) = ⟨0#32, BitVec.ofNat 32 (160 - n), 1#32⟩ := by
    simp only [k0_t33_loop]; rw [w_sub (by omega), up_to (by omega)]
  rw [e]; exact ⟨(w_trips (by omega) (by omega)), w_ok (by omega) (by omega)⟩
theorem t34_trips : (k0_t34_loop (BitVec.ofNat 32 n)).trips = 0 ∧ (k0_t34_loop (BitVec.ofNat 32 n)).OK := by
  have e : k0_t34_loop (BitVec.ofNat 32 n) = ⟨BitVec.ofNat 32 (160 - n), BitVec.ofNat 32 (160 - n), 1#32⟩ := by
    simp only [k0_t34_loop]; rw [w_sub (by omega), up_to (by omega), w_sub (by omega), w_add]; simp
  rw [e]; exact ⟨(w_trips (by omega) (by omega)).trans (by omega), w_ok (by omega) (by omega)⟩
theorem t29_trips {z : ℕ} (hz : z + n ≤ 160) : (k0_t29_loop (BitVec.ofNat 32 n) (BitVec.ofNat 32 z)).trips = 160 - n - z ∧ (k0_t29_loop (BitVec.ofNat 32 n) (BitVec.ofNat 32 z)).OK := by
  have e : k0_t29_loop (BitVec.ofNat 32 n) (BitVec.ofNat 32 z) = ⟨BitVec.ofNat 32 z, BitVec.ofNat 32 (160 - n), 1#32⟩ := by
    simp only [k0_t29_loop]; rw [w_sub (by omega), w_sub (by omega), w_div (by omega) (by omega) (by omega), w_mul, w_add]
    congr 2; omega
  rw [e]; exact ⟨(w_trips (by omega) (by omega)), w_ok (by omega) (by omega)⟩
theorem t30_trips {z : ℕ} (hz : z + n ≤ 160) : (k0_t30_loop (BitVec.ofNat 32 n) (BitVec.ofNat 32 z)).trips = 0 ∧ (k0_t30_loop (BitVec.ofNat 32 n) (BitVec.ofNat 32 z)).OK := by
  have e : k0_t30_loop (BitVec.ofNat 32 n) (BitVec.ofNat 32 z) = ⟨BitVec.ofNat 32 (160 - n), BitVec.ofNat 32 (160 - n), 1#32⟩ := by
    simp only [k0_t30_loop]; rw [w_sub (by omega), w_sub (by omega), w_div (by omega) (by omega) (by omega), w_mul, w_add, w_add]
    congr 2 <;> omega
  rw [e]; exact ⟨(w_trips (by omega) (by omega)).trans (by omega), w_ok (by omega) (by omega)⟩
theorem cond4 {t : ℕ} (ht : t < 160) : (Scalar.cmpi .ne (Scalar.extui (Scalar.cmpi .slt (Scalar.subi (Scalar.addi (Scf.iv 0#32 1#32 t) 4#32) 1#32) (BitVec.ofNat 32 n))) 0#32 = 1#1) ↔ t + 3 < n := by
  rw [w_flag, w_iv, w_add, w_sub (by omega)]
  exact (w_sgt (a := n) (b := 0 + t + 4 - 1) (by omega) (by omega)).trans (by omega)
theorem cond5 {z : ℕ} (hz : z ≤ 160) : (k0_cond5 (BitVec.ofNat 32 n) (BitVec.ofNat 32 z) = 1#1) ↔ z < 160 - n := by
  unfold k0_cond5
  simp only []
  rw [w_flag, w_sub (by omega)]
  exact (w_sgt (a := 160 - n) (b := z) (by omega) (by omega))
theorem cond123 {a : ℕ} (ha : a < 160) : (Scalar.cmpi .ne (Scalar.extui (Scalar.cmpi .sgt (BitVec.ofNat 32 n) (BitVec.ofNat 32 a))) 0#32 = 1#1) ↔ a < n := by
  rw [w_flag]; exact w_sgt (by omega) (by omega)
end Count

end Cert.Proof.Pages
-- ==== Proof.Checks.lean ====
module

public import proofs.«01_k».proof.Proof.Words

@[expose] public section

noncomputable section

/-! # The conditions the kernel assumes of what it reads -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

section Blocks
variable {I : Inp F} {B n : ℕ} {vB vL : BitVec 32} (W : BlkW I B vB vL)

theorem chk2 (v9 : BitVec 32) (hB : B < 160) : k0_chk2 v9 (BitVec.ofNat 32 B) := fun _ => in_len (e := rfl) (by rw [Scalar.indexCast, v_req hB]; omega)
theorem chk6 (v9 : BitVec 32) (hB : B < 160) : k0_chk6 v9 (BitVec.ofNat 32 B) := fun _ => in_len (e := rfl) (by rw [Scalar.indexCast, v_req hB]; omega)
theorem chk10 (v9 : BitVec 32) (hB : B < 160) : k0_chk10 v9 (BitVec.ofNat 32 B) := fun _ => in_len (e := rfl) (by rw [Scalar.indexCast, v_req hB]; omega)
theorem chk4 (v9 : BitVec 32) {q : BitVec 32} (hq : q.toNat < 1600) : k0_chk4 v9 q := ⟨fun _ => in_pool rfl hq, fun _ => ww_pool rfl⟩
theorem chk8 (v9 : BitVec 32) {q : BitVec 32} (hq : q.toNat < 1600) : k0_chk8 v9 q := ⟨fun _ => in_pool rfl hq, fun _ => ww_pool rfl⟩
theorem chk12 (v9 : BitVec 32) {q : BitVec 32} (hq : q.toNat < 1600) : k0_chk12 v9 q := ⟨fun _ => in_pool rfl hq, fun _ => ww_pool rfl⟩
theorem chk18 (v9 : BitVec 32) (t) {q : BitVec 32} (hq : q.toNat < 1600) : k0_chk18 v9 t q := ⟨fun _ => in_pool rfl hq, fun _ => ww_pool rfl⟩
theorem chk16 (v9 : BitVec 32) (t) (hB : B < 160) : k0_chk16 v9 t (BitVec.ofNat 32 B) := fun _ => in_len (e := rfl) (by rw [Scalar.indexCast, v_req hB]; omega)
theorem chk36 (hB : B < 160) : k0_chk36 (BitVec.ofNat 32 B) :=
  ⟨in_out (e := rfl) (by rw [v_req hB]; omega) (by rw [v_row hB]; omega), ww_out (e := rfl) (by rw [v_row hB]; omega)⟩
theorem chk21 (v9 v19 : BitVec 32) (hB : B < 160) : k0_chk21 v9 v19 (BitVec.ofNat 32 B) :=
  ⟨fun _ => in_out (e := rfl) (by rw [v_req hB]; omega) (by rw [v_row hB]; omega), fun _ => ww_out (e := rfl) (by rw [v_row hB]; omega)⟩
theorem chk15 (v9 : BitVec 32) (t) (hB : B < 160) : k0_chk15 v9 t (BitVec.ofNat 32 B) :=
  ⟨in_len (e := rfl) (by rw [Scalar.indexCast, v_req hB]; omega),
   fun _ => in_out (e := rfl) (by rw [v_req hB]; omega) (by rw [v_half hB]; omega), fun _ => ww_out (e := rfl) (by rw [v_half hB]; omega),
   in_out (e := rfl) (by rw [v_req hB]; omega) (by rw [v_half hB]; omega), ww_out (e := rfl) (by rw [v_half hB]; omega)⟩
theorem chk20 {z : ℕ} (hn : n ≤ 160) (hz : z ≤ 160) : k0_chk20 (BitVec.ofNat 32 n) (BitVec.ofNat 32 z) := by
  intro h
  have h' := (cond5 hn hz).1 h
  refine in_ord (e := rfl) ?_
  rw [Scalar.indexCast, w_sub (by omega), w_nat (by omega)]; omega
theorem chk35 {z : ℕ} (hz : z + n ≤ 160) : k0_chk35 (BitVec.ofNat 32 n) (BitVec.ofNat 32 z) := by
  have hn : n ≤ 160 := by omega
  refine ⟨(t29_trips hn hz).2, fun t => ?_, (t30_trips hn hz).2, fun t => ?_⟩
  · have ht := t.isLt
    have ht := lt_of_lt_of_eq ht (t29_trips hn hz).1
    refine in_ord (e := rfl) ?_
    rw [Scalar.indexCast, w_iv, w_sub (by omega), w_nat (by omega)]; omega
  · have ht := t.isLt
    have ht := lt_of_lt_of_eq ht (t30_trips hn hz).1
    omega

theorem chk14 (hn : n ≤ 160) : k0_chk14 (BitVec.ofNat 32 n) := by
  have h11 : ∀ t : Fin (k0_t11_loop (BitVec.ofNat 32 n)).trips, t.val < n := fun t => lt_of_lt_of_eq t.isLt (t11_trips hn).1
  have n20 : Fin (k0_t20_loop (BitVec.ofNat 32 n)).trips → False := fun t => by have := lt_of_lt_of_eq t.isLt (t20_trips hn).1; omega
  have n32 : Fin (k0_t32_loop (BitVec.ofNat 32 n)).trips → False := fun t => by have := lt_of_lt_of_eq t.isLt (t32_trips hn).1; omega
  have h31 : ∀ t : Fin (k0_t31_loop (BitVec.ofNat 32 n)).trips, t.val < n - (n - 4) := fun t => lt_of_lt_of_eq t.isLt (t31_trips hn).1
  have s11 : ∀ t : Fin (k0_t11_loop (BitVec.ofNat 32 n)).trips, (Scalar.remsi (Scf.iv 0#32 1#32 t) 4#32).toNat < 4 := fun t => by
    have := h11 t; rw [v_slot (by omega)]; omega
  have s31 : ∀ t : Fin (k0_t31_loop (BitVec.ofNat 32 n)).trips, (Scalar.remsi (Scf.iv (Scalar.maxsi (Scalar.subi (BitVec.ofNat 32 n) 4#32) 0#32) 1#32 t) 4#32).toNat < 4 := fun t => by
    have := h31 t; rw [v_tail hn, w_iv, w_rem (by omega) (by omega) (by omega), w_nat (by omega)]; omega
  refine ⟨(t11_trips hn).2, fun t => in_ord (e := rfl) ?_, fun t h => in_ord (e := rfl) ?_, fun t _ => in_sem rfl (s11 t),
    fun t _ => in_wslot rfl (s11 t) (by decide), fun t _ => in_wslot rfl (s11 t) (by decide), fun t => in_sem rfl (s11 t),
    fun t => in_wslot rfl (s11 t) (by decide), fun t => in_wslot rfl (s11 t) (by decide),
    (t20_trips hn).2, fun t => (n20 t).elim, fun t => (n20 t).elim, fun t => (n20 t).elim, fun t => (n20 t).elim, fun t => (n20 t).elim,
    fun t => (n20 t).elim, fun t => (n20 t).elim, fun t => (n20 t).elim,
    (t31_trips hn).2, fun t => in_sem rfl (s31 t), fun t => in_wslot rfl (s31 t) (by decide), fun t => in_wslot rfl (s31 t) (by decide),
    (t32_trips hn).2, fun t => (n32 t).elim, fun t => (n32 t).elim, fun t => (n32 t).elim, (t33_trips hn).2, (t34_trips hn).2⟩
  · have := h11 t; rw [Scalar.indexCast, v_iv (by omega)]; omega
  · have h1 := h11 t
    have := (cond4 hn (t := t.val) (by omega)).1 h
    rw [Scalar.indexCast, v_next (by omega)]; omega

theorem chk23 {q : BitVec 32} (hq : q.toNat < 1600) : k0_chk23 q := by
  have hc : (Scalar.indexCast (Scalar.shrui q 7#32)).toNat < 13 := by
    have e : Scalar.shrui q 7#32 = q >>> 7 := rfl
    rw [Scalar.indexCast, e, BitVec.toNat_ushiftRight, Nat.shiftRight_eq_div_pow]; omega
  unfold k0_chk23 k0_chk23_0 k0_chk23_1
  repeat' apply And.intro
  all_goals exact in_scale (e := rfl) hc (by decide) (by decide)

include W in
theorem BlkW.table {p : ℕ} (hp : p < 8) : (Scalar.indexCast (Scalar.divsi vB 32#32)).toNat < 5
    ∧ (Scalar.indexCast (Scalar.addi (Scalar.muli (Scalar.remsi vB 32#32) 8#32) (Scf.iv 0#32 1#32 p))).toNat < 256 := by
  have hB := W.lt
  rw [W.eB, Scalar.indexCast, Scalar.indexCast, v_req W.lt, v_page W.lt hp]; omega

include W in
theorem BlkW.chk3 (v9 : BitVec 32) : k0_chk3 v9 vB vL := by
  have hp := I.pages_pos W.real
  have hk : ∀ k : Fin (k0_t2_loop vB vL).trips, k.val < 8 := fun k => by have := lt_of_lt_of_eq k.isLt (t2_trips W).1; omega
  have hk' : ∀ k : Fin (k0_t2_loop vB vL).trips, (Scf.iv 0#32 1#32 k).toNat < 8 := fun k => by have := hk k; rw [v_iv (by omega)]; omega
  have nk : Fin (k0_t3_loop vB vL).trips → False := fun k => by have := lt_of_lt_of_eq k.isLt (t3_trips W).1; omega
  refine ⟨fun _ => (t2_trips W).2, fun k _ => in_tab (e := rfl) (W.table (hk k)).1 (W.table (hk k)).2,
    fun k _ => in_page rfl (by decide) (hk' k) (by decide), fun k _ => ww_page rfl,
    fun k _ => in_page rfl (by decide) (hk' k) (by decide), fun k _ => ww_page rfl, fun _ => (t3_trips W).2, ?_⟩
  repeat' apply And.intro
  all_goals exact fun k => (nk k).elim

include W in
theorem BlkW.chk7 (v9 : BitVec 32) : k0_chk7 v9 vB vL := by
  have hp := I.pages_pos W.real
  have hk : ∀ k : Fin (k0_t4_loop vB vL).trips, k.val < 8 := fun k => by have := lt_of_lt_of_eq k.isLt (t4_trips W).1; omega
  have hk' : ∀ k : Fin (k0_t4_loop vB vL).trips, (Scf.iv 0#32 1#32 k).toNat < 8 := fun k => by have := hk k; rw [v_iv (by omega)]; omega
  have nk : Fin (k0_t5_loop vB vL).trips → False := fun k => by have := lt_of_lt_of_eq k.isLt (t5_trips W).1; omega
  refine ⟨fun _ => (t4_trips W).2, fun k _ => in_tab (e := rfl) (W.table (hk k)).1 (W.table (hk k)).2,
    fun k _ => in_page rfl (by decide) (hk' k) (by decide), fun k _ => ww_page rfl,
    fun k _ => in_page rfl (by decide) (hk' k) (by decide), fun k _ => ww_page rfl, fun _ => (t5_trips W).2, ?_⟩
  repeat' apply And.intro
  all_goals exact fun k => (nk k).elim

include W in
theorem BlkW.chk11 (v9 : BitVec 32) : k0_chk11 v9 vB vL := by
  have hp := I.pages_pos W.real
  have hk : ∀ k : Fin (k0_t6_loop vB vL).trips, k.val < 8 := fun k => by have := lt_of_lt_of_eq k.isLt (t6_trips W).1; omega
  have hk' : ∀ k : Fin (k0_t6_loop vB vL).trips, (Scf.iv 0#32 1#32 k).toNat < 8 := fun k => by have := hk k; rw [v_iv (by omega)]; omega
  have nk : Fin (k0_t7_loop vB vL).trips → False := fun k => by have := lt_of_lt_of_eq k.isLt (t7_trips W).1; omega
  refine ⟨fun _ => (t6_trips W).2, fun k _ => in_tab (e := rfl) (W.table (hk k)).1 (W.table (hk k)).2,
    fun k _ => in_page rfl (by decide) (hk' k) (by decide), fun k _ => ww_page rfl,
    fun k _ => in_page rfl (by decide) (hk' k) (by decide), fun k _ => ww_page rfl, fun _ => (t7_trips W).2, ?_⟩
  repeat' apply And.intro
  all_goals exact fun k => (nk k).elim

include W in
theorem BlkW.chk17 (hn : n ≤ 160) (t : Fin (k0_t11_loop (BitVec.ofNat 32 n)).trips) : k0_chk17 (BitVec.ofNat 32 n) t vB vL := by
  have ht : t.val < n := lt_of_lt_of_eq t.isLt (t11_trips hn).1
  have hp := I.pages_pos W.real
  have hk : ∀ k : Fin (k0_t12_loop vB vL).trips, k.val < 8 := fun k => by have := lt_of_lt_of_eq k.isLt (t12_trips W).1; omega
  have hk' : ∀ k : Fin (k0_t12_loop vB vL).trips, (Scf.iv 0#32 1#32 k).toNat < 8 := fun k => by have := hk k; rw [v_iv (by omega)]; omega
  have nk : Fin (k0_t13_loop vB vL).trips → False := fun k => by have := lt_of_lt_of_eq k.isLt (t13_trips W).1; omega
  have hs : (Scalar.remsi (Scalar.subi (Scalar.addi (Scf.iv 0#32 1#32 t) 4#32) 1#32) 4#32).toNat < 4 := by rw [v_slot3 (by omega)]; omega
  refine ⟨fun _ => (t12_trips W).2, fun k _ => in_tab (e := rfl) (W.table (hk k)).1 (W.table (hk k)).2, fun k _ => in_sem rfl hs,
    fun k _ => in_page rfl hs (hk' k) (by decide), fun k _ => ww_page rfl, fun k _ => in_sem rfl hs,
    fun k _ => in_page rfl hs (hk' k) (by decide), fun k _ => ww_page rfl, fun _ => (t13_trips W).2, ?_⟩
  repeat' apply And.intro
  all_goals exact fun k => (nk k).elim
end Blocks

end Cert.Proof.Pages
-- ==== Proof.Checks22.lean ====
module

public import proofs.«01_k».proof.Proof.Checks

@[expose] public section

noncomputable section

/-! # The conditions of one block -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

set_option maxHeartbeats 4000000 in
theorem BlkW.chk22 {I : Inp F} {B n : ℕ} {vB vL : BitVec 32} (W : BlkW I B vB vL) (hn : n ≤ 160)
    (t : Fin (k0_t11_loop (BitVec.ofNat 32 n)).trips) : k0_chk22 (BitVec.ofNat 32 n) t vB vL := by
  have ht : t.val < n := lt_of_lt_of_eq t.isLt (t11_trips hn).1
  have hp := I.pages_pos W.real
  have h14 : ∀ k : Fin (k0_t14_loop vB vL).trips, (Scf.iv 0#32 1#32 k).toNat < 8 := fun k => by
    have := lt_of_lt_of_eq k.isLt (t14_trips W).1; rw [v_iv (by omega)]; omega
  have hk : ∀ k : Fin (k0_t16_loop vB vL).trips, k.val < 8 := fun k => by have := lt_of_lt_of_eq k.isLt (t16_trips W).1; omega
  have h16 : ∀ k : Fin (k0_t16_loop vB vL).trips, (Scf.iv 0#32 1#32 k).toNat < 8 := fun k => by
    have := hk k; rw [v_iv (by omega)]; omega
  have w16 : ∀ k : Fin (k0_t16_loop vB vL).trips, (Scalar.muli (Scf.iv 0#32 1#32 k) 8#32).toNat + 8 ≤ 64 := fun k => by
    have := hk k; rw [v_word (by omega)]; omega
  have w18 : ∀ k : Fin (k0_t18_loop vB vL).trips, (Scalar.muli (Scf.iv (Scalar.minsi 8#32 (Scalar.maxsi 0#32 (Scalar.divsi (Scalar.subi (Scalar.addi (Scalar.subi vL
        (Scalar.muli (Scalar.remsi vB 32#32) 128#32)) 16#32) 1#32) 16#32))) 1#32 k) 8#32).toNat + 8 ≤ 64 := fun k => by
    have := lt_of_lt_of_eq k.isLt (t18_trips W).1; rw [W.cw, w_iv, w_mul, w_nat (by omega)]; omega
  have n15 : Fin (k0_t15_loop vB vL).trips → False := fun k => by have := lt_of_lt_of_eq k.isLt (t15_trips W).1; omega
  have n17 : Fin (k0_t17_loop vB vL).trips → False := fun k => by have := lt_of_lt_of_eq k.isLt (t17_trips W).1; omega
  have n19 : Fin (k0_t19_loop vB vL).trips → False := fun k => by have := lt_of_lt_of_eq k.isLt (t19_trips W).1; omega
  have hs : (Scalar.remsi (Scf.iv 0#32 1#32 t) 4#32).toNat < 4 := by rw [v_slot (by omega)]; omega
  have hl : (Scalar.indexCast (Scalar.divsi vB 32#32)).toNat < 5 := (W.table (p := 0) (by omega)).1
  have m16 : ∀ k : Fin (k0_t16_loop vB vL).trips, 8 ∣ (Scalar.muli (Scf.iv 0#32 1#32 k) 8#32).toNat := fun k => by
    have := hk k; rw [v_word (by omega)]; omega
  have m18 : ∀ k : Fin (k0_t18_loop vB vL).trips, 8 ∣ (Scalar.muli (Scf.iv (Scalar.minsi 8#32 (Scalar.maxsi 0#32 (Scalar.divsi (Scalar.subi (Scalar.addi (Scalar.subi vL
        (Scalar.muli (Scalar.remsi vB 32#32) 128#32)) 16#32) 1#32) 16#32))) 1#32 k) 8#32).toNat := fun k => by
    have := lt_of_lt_of_eq k.isLt (t18_trips W).1; rw [W.cw, w_iv, w_mul, w_nat (by omega)]; omega
  have c0 : k0_chk22_0 (BitVec.ofNat 32 n) t vB vL := by
    unfold k0_chk22_0
    refine ⟨(t14_trips W).2, ?_⟩
    refine ⟨fun k => in_sem rfl hs, ?_⟩
    refine ⟨fun k => in_page rfl hs (h14 k) (by decide), ?_⟩
    refine ⟨fun k => ww_page rfl, ?_⟩
    refine ⟨fun k => in_page rfl hs (h14 k) (by decide), ?_⟩
    refine ⟨fun k => ww_page rfl, ?_⟩
    refine ⟨(t15_trips W).2, ?_⟩
    refine ⟨fun k => (n15 k).elim, ?_⟩
    refine ⟨fun k => (n15 k).elim, ?_⟩
    refine ⟨fun k => (n15 k).elim, ?_⟩
    refine ⟨fun k => (n15 k).elim, ?_⟩
    refine ⟨fun k => (n15 k).elim, ?_⟩
    refine ⟨(t16_trips W).2, ?_⟩
    refine ⟨fun k => in_tab (e := rfl) (W.table (hk k)).1 (W.table (hk k)).2, ?_⟩
    refine ⟨fun k => in_len (e := rfl) hl, ?_⟩
    refine ⟨fun k => m16 k, ?_⟩
    iterate 15 (refine ⟨(by first | exact fun k => in_words (e := rfl) hs (w16 k) (by decide) (by decide) | exact fun k => in_codes (e := rfl) hs (h16 k) (by decide) (by decide)), ?_⟩)
    exact (by first | exact fun k => in_words (e := rfl) hs (w16 k) (by decide) (by decide) | exact fun k => in_codes (e := rfl) hs (h16 k) (by decide) (by decide))
  have c1 : k0_chk22_1 (BitVec.ofNat 32 n) t vB vL := by
    unfold k0_chk22_1
    iterate 31 (refine ⟨(by first | exact fun k => in_words (e := rfl) hs (w16 k) (by decide) (by decide) | exact fun k => in_codes (e := rfl) hs (h16 k) (by decide) (by decide)), ?_⟩)
    exact (by first | exact fun k => in_words (e := rfl) hs (w16 k) (by decide) (by decide) | exact fun k => in_codes (e := rfl) hs (h16 k) (by decide) (by decide))
  have c2 : k0_chk22_2 (BitVec.ofNat 32 n) t vB vL := by
    unfold k0_chk22_2
    iterate 31 (refine ⟨(by first | exact fun k => in_words (e := rfl) hs (w16 k) (by decide) (by decide) | exact fun k => in_codes (e := rfl) hs (h16 k) (by decide) (by decide)), ?_⟩)
    exact (by first | exact fun k => in_words (e := rfl) hs (w16 k) (by decide) (by decide) | exact fun k => in_codes (e := rfl) hs (h16 k) (by decide) (by decide))
  have c3 : k0_chk22_3 (BitVec.ofNat 32 n) t vB vL := by
    unfold k0_chk22_3
    iterate 31 (refine ⟨(by first | exact fun k => in_words (e := rfl) hs (w16 k) (by decide) (by decide) | exact fun k => in_codes (e := rfl) hs (h16 k) (by decide) (by decide)), ?_⟩)
    exact (by first | exact fun k => in_words (e := rfl) hs (w16 k) (by decide) (by decide) | exact fun k => in_codes (e := rfl) hs (h16 k) (by decide) (by decide))
  have c4 : k0_chk22_4 (BitVec.ofNat 32 n) t vB vL := by
    unfold k0_chk22_4
    iterate 31 (refine ⟨(by first | exact fun k => in_words (e := rfl) hs (w16 k) (by decide) (by decide) | exact fun k => in_codes (e := rfl) hs (h16 k) (by decide) (by decide)), ?_⟩)
    exact (by first | exact fun k => in_words (e := rfl) hs (w16 k) (by decide) (by decide) | exact fun k => in_codes (e := rfl) hs (h16 k) (by decide) (by decide))
  have c5 : k0_chk22_5 (BitVec.ofNat 32 n) t vB vL := by
    unfold k0_chk22_5
    iterate 31 (refine ⟨(by first | exact fun k => in_words (e := rfl) hs (w16 k) (by decide) (by decide) | exact fun k => in_codes (e := rfl) hs (h16 k) (by decide) (by decide)), ?_⟩)
    exact (by first | exact fun k => in_words (e := rfl) hs (w16 k) (by decide) (by decide) | exact fun k => in_codes (e := rfl) hs (h16 k) (by decide) (by decide))
  have c6 : k0_chk22_6 (BitVec.ofNat 32 n) t vB vL := by
    unfold k0_chk22_6
    iterate 16 (refine ⟨(by first | exact fun k => in_words (e := rfl) hs (w16 k) (by decide) (by decide) | exact fun k => in_codes (e := rfl) hs (h16 k) (by decide) (by decide)), ?_⟩)
    refine ⟨(t17_trips W).2, ?_⟩
    refine ⟨fun k => (n17 k).elim, ?_⟩
    refine ⟨fun k => (n17 k).elim, ?_⟩
    refine ⟨fun k => (n17 k).elim, ?_⟩
    iterate 11 (refine ⟨fun k => (n17 k).elim, ?_⟩)
    exact fun k => (n17 k).elim
  have c7 : k0_chk22_7 (BitVec.ofNat 32 n) t vB vL := by
    unfold k0_chk22_7
    iterate 31 (refine ⟨fun k => (n17 k).elim, ?_⟩)
    exact fun k => (n17 k).elim
  have c8 : k0_chk22_8 (BitVec.ofNat 32 n) t vB vL := by
    unfold k0_chk22_8
    iterate 31 (refine ⟨fun k => (n17 k).elim, ?_⟩)
    exact fun k => (n17 k).elim
  have c9 : k0_chk22_9 (BitVec.ofNat 32 n) t vB vL := by
    unfold k0_chk22_9
    iterate 31 (refine ⟨fun k => (n17 k).elim, ?_⟩)
    exact fun k => (n17 k).elim
  have c10 : k0_chk22_10 (BitVec.ofNat 32 n) t vB vL := by
    unfold k0_chk22_10
    iterate 31 (refine ⟨fun k => (n17 k).elim, ?_⟩)
    exact fun k => (n17 k).elim
  have c11 : k0_chk22_11 (BitVec.ofNat 32 n) t vB vL := by
    unfold k0_chk22_11
    iterate 31 (refine ⟨fun k => (n17 k).elim, ?_⟩)
    exact fun k => (n17 k).elim
  have c12 : k0_chk22_12 (BitVec.ofNat 32 n) t vB vL := by
    unfold k0_chk22_12
    iterate 20 (refine ⟨fun k => (n17 k).elim, ?_⟩)
    refine ⟨(t18_trips W).2, ?_⟩
    refine ⟨fun k => m18 k, ?_⟩
    iterate 9 (refine ⟨(by first | exact fun k => in_words (e := rfl) hs (w18 k) (by decide) (by decide)), ?_⟩)
    exact (by first | exact fun k => in_words (e := rfl) hs (w18 k) (by decide) (by decide))
  have c13 : k0_chk22_13 (BitVec.ofNat 32 n) t vB vL := by
    unfold k0_chk22_13
    iterate 31 (refine ⟨(by first | exact fun k => in_words (e := rfl) hs (w18 k) (by decide) (by decide)), ?_⟩)
    exact (by first | exact fun k => in_words (e := rfl) hs (w18 k) (by decide) (by decide))
  have c14 : k0_chk22_14 (BitVec.ofNat 32 n) t vB vL := by
    unfold k0_chk22_14
    iterate 31 (refine ⟨(by first | exact fun k => in_words (e := rfl) hs (w18 k) (by decide) (by decide)), ?_⟩)
    exact (by first | exact fun k => in_words (e := rfl) hs (w18 k) (by decide) (by decide))
  have c15 : k0_chk22_15 (BitVec.ofNat 32 n) t vB vL := by
    unfold k0_chk22_15
    iterate 31 (refine ⟨(by first | exact fun k => in_words (e := rfl) hs (w18 k) (by decide) (by decide)), ?_⟩)
    exact (by first | exact fun k => in_words (e := rfl) hs (w18 k) (by decide) (by decide))
  have c16 : k0_chk22_16 (BitVec.ofNat 32 n) t vB vL := by
    unfold k0_chk22_16
    iterate 22 (refine ⟨(by first | exact fun k => in_words (e := rfl) hs (w18 k) (by decide) (by decide)), ?_⟩)
    refine ⟨(t19_trips W).2, ?_⟩
    refine ⟨fun k => (n19 k).elim, ?_⟩
    iterate 7 (refine ⟨fun k => (n19 k).elim, ?_⟩)
    exact fun k => (n19 k).elim
  have c17 : k0_chk22_17 (BitVec.ofNat 32 n) t vB vL := by
    unfold k0_chk22_17
    iterate 31 (refine ⟨fun k => (n19 k).elim, ?_⟩)
    exact fun k => (n19 k).elim
  have c18 : k0_chk22_18 (BitVec.ofNat 32 n) t vB vL := by
    unfold k0_chk22_18
    iterate 31 (refine ⟨fun k => (n19 k).elim, ?_⟩)
    exact fun k => (n19 k).elim
  have c19 : k0_chk22_19 (BitVec.ofNat 32 n) t vB vL := by
    unfold k0_chk22_19
    iterate 31 (refine ⟨fun k => (n19 k).elim, ?_⟩)
    exact fun k => (n19 k).elim
  have c20 : k0_chk22_20 (BitVec.ofNat 32 n) t vB vL := by
    unfold k0_chk22_20
    iterate 23 (refine ⟨fun k => (n19 k).elim, ?_⟩)
    exact fun k => (n19 k).elim
  exact ⟨c0, c1, c2, c3, c4, c5, c6, c7, c8, c9, c10, c11, c12, c13, c14, c15, c16, c17, c18, c19, c20⟩

end Cert.Proof.Pages
-- ==== Proof.Smem.lean ====
module

public import proofs.«01_k».proof.Proof.Pack
public import proofs.«01_k».proof.Proof.Proto
public import proofs.«01_k».proof.Proof.Checks22

@[expose] public section

noncomputable section

/-! # Scalar memory -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

abbrev mTab : Memref sig .tc .smem S5x256 .i32 := stage0_0 0
abbrev mLen : Memref sig .tc .smem S5 .i32 := stage0_1 0
abbrev lTab (c : Dev nD) : Loc nD τ sig := (c : Thread nD τ).loc cc0_stg0_0
abbrev lLen (c : Dev nD) : Loc nD τ sig := (c : Thread nD τ).loc cc0_stg1_0
abbrev COrd := S160.Idx → BitVec 32

variable (c : Dev nD) {α : Type} {Q : α → sProp (MM F)}

/-- A word read from scalar memory at the head of a program. -/
theorem g_smem {s : Shape} {e : EltTy} (m : Memref sig .tc .smem s e) (r : Rect s) (h1 : r.shape.numel = 1) (hp : e.packing = 1)
    (k : Elt F e → KProg F α) (S : Finset (Idx ((m.access r).loc (c : Thread nD τ)))) (q : PosShare TreeShare)
    (f : Buf (Elt F) ((m.access r).loc (c : Thread nD τ))) (hS : (m.access r).set ⊆ S) :
    ((m.access r).loc (c : Thread nD τ) ↦[S]{q} f)
      ⊢ iprop((((m.access r).loc (c : Thread nD τ) ↦[S]{q} f) -∗ WP c (k ((m.access r).read (Elt F) f (Shape.Idx.first (h1.symm ▸ Nat.one_pos)))) Q)
        -∗ WP c (smemLoad m r h1 hp >>= k) Q) :=
  wp_smemLoadElt (m := m) (r := r) (hw := View.loads_smem_one hp h1) (k := k) (Q := Q) (Γ := .empty) 𝒱₀ (c : Thread nD τ) none Set.univ hS

/-- Reading the table. -/
theorem step_tab {off : Fin 2 → ℕ} {hin : ∀ a, off a + S1x1.size a ≤ S5x256.size a} {h1} {hp} {k : BitVec 32 → KProg F α} {b p : ℕ}
    (e : off = ![b, p]) {q : PosShare TreeShare} (f : S5x256.Idx → BitVec 32) :
    ((lTab c) ↦[Finset.univ]{q} f)
      ⊢ iprop((((lTab c) ↦[Finset.univ]{q} f) -∗ WP c (k (f (ix2 (n1 b 5) (n1 p 256)))) Q)
        -∗ WP c (smemLoad mTab (Rect.unit (s := S5x256) off S1x1.size hin) h1 hp >>= k) Q) := by
  subst e
  have e : ∀ x : (Rect.unit (s := S5x256) ![b, p] S1x1.size hin).shape.Idx, (Rect.unit (s := S5x256) ![b, p] S1x1.size hin).emb x = (ix2 (n1 b 5) (n1 p 256) : S5x256.Idx) := by
    intro x
    funext a
    have hb := hin a
    have hx := (x a).isLt
    apply Fin.ext
    match a with
    | ⟨0, _⟩ =>
      have h0 : (x 0).val < 1 := hx
      have h2 : b + 1 ≤ 5 := hb
      show b + 1 * (x 0).val = b % 5
      rw [Nat.mod_eq_of_lt (by omega)]; omega
    | ⟨1, _⟩ =>
      have h0 : (x 1).val < 1 := hx
      have h2 : p + 1 ≤ 256 := hb
      show p + 1 * (x 1).val = p % 256
      rw [Nat.mod_eq_of_lt (by omega)]; omega
  have h := g_smem (Q := Q) c mTab (Rect.unit (s := S5x256) ![b, p] S1x1.size hin) h1 hp k Finset.univ q f (fun x _ => Finset.mem_univ _)
  rw [show (mTab.access (Rect.unit (s := S5x256) ![b, p] S1x1.size hin)).read (Elt F) f = fun x => f ((Rect.unit (s := S5x256) ![b, p] S1x1.size hin).emb x) from rfl] at h
  simp only [e] at h
  exact h

/-- The one index a one-word rectangle names. -/
theorem one_word {n r : ℕ} {hin : ∀ a, (![r] : Fin 1 → ℕ) a + S1.size a ≤ (⟨1, ![n]⟩ : Shape).size a} (hn : 0 < n)
    (x : (Rect.unit (s := ⟨1, ![n]⟩) ![r] S1.size hin).shape.Idx) : (Rect.unit (s := ⟨1, ![n]⟩) ![r] S1.size hin).emb x = (ix1 (n1 r n hn) : (⟨1, ![n]⟩ : Shape).Idx) := by
  funext a
  have hb := hin a
  have hx := (x a).isLt
  apply Fin.ext
  match a with
  | ⟨0, _⟩ =>
    have h0 : (x 0).val < 1 := hx
    have h2 : r + 1 ≤ n := hb
    show r + 1 * (x 0).val = r % n
    rw [Nat.mod_eq_of_lt (by omega)]; omega

/-- Reading a length. -/
theorem step_len {off : Fin 1 → ℕ} {hin : ∀ a, off a + S1.size a ≤ S5.size a} {h1} {hp} {k : BitVec 32 → KProg F α} {b : ℕ}
    (e : off = ![b]) {q : PosShare TreeShare} (f : S5.Idx → BitVec 32) :
    ((lLen c) ↦[Finset.univ]{q} f)
      ⊢ iprop((((lLen c) ↦[Finset.univ]{q} f) -∗ WP c (k (f (ix1 (n1 b 5)))) Q)
        -∗ WP c (smemLoad mLen (Rect.unit (s := S5) off S1.size hin) h1 hp >>= k) Q) := by
  subst e
  have h := g_smem (Q := Q) c mLen (Rect.unit (s := S5) ![b] S1.size hin) h1 hp k Finset.univ q f (fun x _ => Finset.mem_univ _)
  rw [show (mLen.access (Rect.unit (s := S5) ![b] S1.size hin)).read (Elt F) f = fun x => f ((Rect.unit (s := S5) ![b] S1.size hin).emb x) from rfl] at h
  have e := one_word (n := 5) (r := b) (hin := hin) (by decide)
  simp only [e] at h
  exact h

/-- Reading the order. -/
theorem step_ord {off : Fin 1 → ℕ} {hin : ∀ a, off a + S1.size a ≤ S160.size a} {h1} {hp} {k : BitVec 32 → KProg F α} {r : ℕ}
    (e : off = ![r]) {q : PosShare TreeShare} (f : COrd) :
    ((lOrder c) ↦[Finset.univ]{q} f)
      ⊢ iprop((((lOrder c) ↦[Finset.univ]{q} f) -∗ WP c (k (f (ix1 (n1 r 160)))) Q)
        -∗ WP c (smemLoad mOrder (Rect.unit (s := S160) off S1.size hin) h1 hp >>= k) Q) := by
  subst e
  have h := g_smem (Q := Q) c mOrder (Rect.unit (s := S160) ![r] S1.size hin) h1 hp k Finset.univ q f (fun x _ => Finset.mem_univ _)
  rw [show (mOrder.access (Rect.unit (s := S160) ![r] S1.size hin)).read (Elt F) f = fun x => f ((Rect.unit (s := S160) ![r] S1.size hin).emb x) from rfl] at h
  have e := one_word (n := 160) (r := r) (hin := hin) (by decide)
  simp only [e] at h
  exact h

/-- Writing one word of the order. -/
theorem step_ordStore {off : Fin 1 → ℕ} {hin : ∀ a, off a + S1.size a ≤ S160.size a} {w : BitVec 32}
    {hx : (mOrder.access (Rect.unit (s := S160) off S1.size hin)).Stores Finset.univ}
    {hm : (Finset.univ : Finset (Rect.unit (s := S160) off S1.size hin).shape.Idx) = Finset.univ ∨ ∀ a, (Rect.unit (s := S160) off S1.size hin).stride a = 1}
    {k : PUnit → KProg F α} {r : ℕ} (e : off = ![r]) (f : COrd) :
    ((lOrder c) ↦[Finset.univ]{fullShare} f)
      ⊢ iprop((∀ f' : COrd, ⌜∀ m, m < 160 → f' (ix1 (n1 m 160)) = if m = r then w else f (ix1 (n1 m 160))⌝ -∗ ((lOrder c) ↦[Finset.univ]{fullShare} f') -∗ WP c (k ⟨⟩) Q)
        -∗ WP c (Prog.lift (.store mOrder (Rect.unit (s := S160) off S1.size hin) (fun _ => w) Finset.univ hx hm) >>= k) Q) := by
  subst e
  have h := g_store (Q := Q) c mOrder (Rect.unit (s := S160) ![r] S1.size hin) (fun _ => w) hx hm k Finset.univ f (fun x _ => Finset.mem_univ _)
  have wr : Wrote (d := S160.size) ![r] S1.size f (fun _ => w) ((mOrder.access (Rect.unit (s := S160) ![r] S1.size hin)).write (Elt F) f (fun _ => w) Finset.univ) :=
    whole_wrote (Val := Elt F) cc0_scratch0 ![r] S1.size hin f (fun _ => w)
  generalize (mOrder.access (Rect.unit (s := S160) ![r] S1.size hin)).write (Elt F) f (fun _ => w) Finset.univ = f' at h wr
  have o : ∀ m, m < 160 → f' (ix1 (n1 m 160)) = if m = r then w else f (ix1 (n1 m 160)) := by
    intro m hm
    have em : (ix1 (n1 m 160) : S160.Idx) 0 = (n1 m 160 : Fin 160) := rfl
    have ev : ((ix1 (n1 m 160) : S160.Idx) 0).val = m := Nat.mod_eq_of_lt hm
    split_ifs with hr
    · refine wr.1 (ix1 (n1 m 160)) fun a => ?_
      match a with
      | ⟨0, _⟩ =>
        show r ≤ ((ix1 (n1 m 160) : S160.Idx) 0).val ∧ ((ix1 (n1 m 160) : S160.Idx) 0).val < r + 1
        omega
    · refine wr.2 (ix1 (n1 m 160)) fun a => ?_
      have h0 := a 0
      have h0 : r ≤ ((ix1 (n1 m 160) : S160.Idx) 0).val ∧ ((ix1 (n1 m 160) : S160.Idx) 0).val < r + 1 := h0
      omega
  iintro H Hk
  iapply h $$ H
  iintro H
  iapply Hk $$ %f' %o H

end Cert.Proof.Pages
-- ==== Proof.ProtoOut.lean ====
module

public import proofs.«01_k».proof.Proof.Proto
public import proofs.«01_k».proof.Proof.Pack

@[expose] public section

noncomputable section

/-! # The transfers of blocks and of zero blocks -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

abbrev mO0 : Memref sig .tc .hbm S5x64x4096x128 .bf16 := Memref.whole main_v4_0
abbrev mO1 : Memref sig .tc .hbm S5x64x4096x128 .bf16 := Memref.whole main_v4_1
abbrev lO0 (c : Dev nD) : Loc nD τ sig := (c : Thread nD τ).loc main_v4_0
abbrev lO1 (c : Dev nD) : Loc nD τ sig := (c : Thread nD τ).loc main_v4_1
abbrev COut (F : FTy → Type) := S5x64x4096x128.Idx → Elt F .bf16

/-- Block `j` of request `b` in a result. -/
def blkSet (b j : ℕ) : Finset S5x64x4096x128.Idx := Finset.univ.filter fun x => (x 0).val = b ∧ (x 2).val / 128 = j
theorem mem_blkSet {b j : ℕ} {x : S5x64x4096x128.Idx} : x ∈ blkSet b j ↔ (x 0).val = b ∧ (x 2).val / 128 = j := by simp [blkSet]
/-- Half `i` of slot `s` of the word buffer. -/
def wordPiece (s i : ℕ) : Finset S4x2x64x64x128.Idx := Finset.univ.filter fun x => (x 0).val = s ∧ (x 1).val = i
theorem mem_wordPiece {s i : ℕ} {x : S4x2x64x64x128.Idx} : x ∈ wordPiece s i ↔ (x 0).val = s ∧ (x 1).val = i := by simp [wordPiece]

/-- Result `i`. -/
def outVal (I : Inp F) (i : ℕ) : COut F := fun x => I.out i (x 0) (x 1) (x 2) (x 3)

/-- Block `j` of request `b` of result `i`, as it must be. -/
def outAt (c : Dev nD) (I : Inp F) (i b j : ℕ) : sProp (MM F) :=
  if i = 0 then ((lO0 c) ↦[blkSet b j]{fullShare} (outVal I 0)) else ((lO1 c) ↦[blkSet b j]{fullShare} (outVal I 1))
instance (c : Dev nD) (I : Inp F) (i b j : ℕ) : Storable (upEmb : UEmb _ (MM F)) (outAt c I i b j) := by
  unfold outAt; split_ifs <;> infer_instance

theorem outAt_0 (c : Dev nD) (I : Inp F) (b j : ℕ) : outAt c I 0 b j = ((lO0 c) ↦[blkSet b j]{fullShare} (outVal I 0)) := if_pos rfl
theorem outAt_1 (c : Dev nD) (I : Inp F) (b j : ℕ) : outAt c I 1 b j = ((lO1 c) ↦[blkSet b j]{fullShare} (outVal I 1)) := if_neg (by decide)

/-- What the two transfers of a block deliver. -/
def DOut (c : Dev nD) (I : Inp F) (b j s : ℕ) (f : CWords) : Fin 2 → sProp (MM F) :=
  fun t => iprop(outAt c I t.val b j ∗ ((lWords c) ↦[wordPiece s t.val]{fullShare} f))
instance (c : Dev nD) (I : Inp F) (b j s : ℕ) (f : CWords) (t : Fin 2) : Storable (upEmb : UEmb _ (MM F)) (DOut c I b j s f t) := by
  unfold DOut; infer_instance

/-- What the transfers of the zero blocks deliver. -/
def DZero (c : Dev nD) (I : Inp F) (B J : ℕ → ℕ) (fZ : CZero F) (m : ℕ) : Fin m → sProp (MM F) :=
  fun t => iprop(outAt c I (t.val % 2) (B (t.val / 2)) (J (t.val / 2)) ∗ ((lZero c) ↦[Finset.univ]{Transfers.shareTokN fullShare t.val} fZ))
instance (c : Dev nD) (I : Inp F) (B J : ℕ → ℕ) (fZ : CZero F) (m : ℕ) (t : Fin m) : Storable (upEmb : UEmb _ (MM F)) (DZero c I B J fZ m t) := by
  unfold DZero; infer_instance

abbrev NOut : ℕ := mO0.view.ref.dmaCredit S64x128x128 .bf16

theorem sq_blk (h : S64x128x128.numel = S1x64x128x128.numel) (y : S64x128x128.Idx) :
    Shape.reshapeEquiv h y = (ix4 0 (y 0 : Fin 64) (y 1 : Fin 128) (y 2 : Fin 128) : S1x64x128x128.Idx) := by
  refine Shape.reshapeEquiv_eq_of_rowMajor h ?_
  rw [Shape.rowMajor_val_four, Shape.rowMajor_val_three]
  show (((0 * 64 + (y 0).val) * 128 + (y 1).val) * 128 + (y 2).val : ℕ) = ((y 0).val * 128 + (y 1).val) * 128 + (y 2).val
  omega
theorem sq_words (h : S64x64x128.numel = S1x1x64x64x128.numel) (y : S64x64x128.Idx) :
    Shape.reshapeEquiv h y = (ix5 0 0 (y 0 : Fin 64) (y 1 : Fin 64) (y 2 : Fin 128) : S1x1x64x64x128.Idx) := by
  refine Shape.reshapeEquiv_eq_of_rowMajor h ?_
  rw [Shape.rowMajor_val_five, Shape.rowMajor_val_three]
  show ((((0 * 1 + 0) * 64 + (y 0).val) * 64 + (y 1).val) * 128 + (y 2).val : ℕ) = ((y 0).val * 64 + (y 1).val) * 128 + (y 2).val
  omega

theorem words_down (g : S64x64x128.Idx → BitVec 32) (h : S64x64x128.Bitcasts 32 S64x128x128 16) (y : S64x128x128.Idx) :
    bitcast S64x128x128 16 g h y
      = (g (ix3 (y 0 : Fin 64) (⟨(y 1).val / 2, by have h1 : (y 1).val < 128 := (y 1).isLt; omega⟩ : Fin 64) (y 2 : Fin 128))).extractLsb' (16 * ((y 1).val % 2)) 16 := by
  rw [bitcast_32_16]
  show BitVec.extractLsb' (16 * ((y 1).val % 2)) 16 (g _) = _
  congr 2
  funext a
  match a with
  | ⟨0, _⟩ => exact Fin.ext (h.srcIdx_other _ _ _ 0 (by decide))
  | ⟨1, _⟩ => exact Fin.ext (h.srcIdx_row _ _ _ 1 rfl)
  | ⟨2, _⟩ => exact Fin.ext (h.srcIdx_other _ _ _ 2 (by decide))

theorem word_half (I : Inp F) (b j i h t d : ℕ) : (I.word b j i h (t / 2) d).extractLsb' (16 * (t % 2)) 16 = I.tok i b h (128 * j + t) d := by
  unfold Inp.word
  rcases Nat.mod_two_eq_zero_or_one t with e | e
  · rw [e]
    have e1 : 128 * j + 2 * (t / 2) = 128 * j + t := by omega
    rw [e1]
    exact ext_lo _ _
  · rw [e]
    have e1 : 128 * j + 2 * (t / 2) + 1 = 128 * j + t := by omega
    rw [e1]
    exact ext_hi _ _

/-- A block past the length is zero. -/
theorem out_past {I : Inp F} {b j : ℕ} (hz : I.len b ≤ ((128 * j : ℕ) : ℤ)) (i : ℕ) {x : S5x64x4096x128.Idx} (hx : x ∈ blkSet b j) :
    outVal I i x = FloatOps.ofBits .bf16 0#16 := by
  obtain ⟨h0, h2⟩ := mem_blkSet.mp hx
  unfold outVal Inp.out Inp.tok
  rw [if_neg (by rw [h0]; push_cast at hz; omega)]

section
variable (c : Dev nD) {α : Type} {Q : α → sProp (MM F)} {I : Inp F} {b j : ℕ}

theorem set_O0 {h2 : ∀ a, (![b, 0, 128 * j, 0] : Fin 4 → ℕ) a + S1x64x128x128.size a ≤ S5x64x4096x128.size a} {hs2} :
    ((mO0.slice (Rect.unit (s := S5x64x4096x128) ![b, 0, 128 * j, 0] S1x64x128x128.size h2) hs2).squeeze S64x128x128 squeezes_S1x64x128x128_S64x128x128).view.set = blkSet b j := by
  refine Finset.ext fun x => (mem_sq (sp := .hbm) main_v4_0 ![b, 0, 128 * j, 0] S1x64x128x128.size h2 S64x128x128 _ x).trans ?_
  rw [mem_blkSet]
  have x1 : (x 1).val < 64 := (x 1).isLt
  have x3 : (x 3).val < 128 := (x 3).isLt
  constructor
  · intro hx
    have x0 : b ≤ (x 0).val ∧ (x 0).val < b + 1 := hx (0 : Fin 4)
    have x2 : 128 * j ≤ (x 2).val ∧ (x 2).val < 128 * j + 128 := hx (2 : Fin 4)
    exact ⟨by omega, by omega⟩
  · rintro ⟨x0, x2⟩ a
    match a with
    | ⟨0, _⟩ => show b ≤ (x 0).val ∧ (x 0).val < b + 1; omega
    | ⟨1, _⟩ => show 0 ≤ (x 1).val ∧ (x 1).val < 0 + 64; omega
    | ⟨2, _⟩ => show 128 * j ≤ (x 2).val ∧ (x 2).val < 128 * j + 128; omega
    | ⟨3, _⟩ => show 0 ≤ (x 3).val ∧ (x 3).val < 0 + 128; omega

theorem set_O1 {h2 : ∀ a, (![b, 0, 128 * j, 0] : Fin 4 → ℕ) a + S1x64x128x128.size a ≤ S5x64x4096x128.size a} {hs2} :
    ((mO1.slice (Rect.unit (s := S5x64x4096x128) ![b, 0, 128 * j, 0] S1x64x128x128.size h2) hs2).squeeze S64x128x128 squeezes_S1x64x128x128_S64x128x128).view.set = blkSet b j := by
  refine Finset.ext fun x => (mem_sq (sp := .hbm) main_v4_1 ![b, 0, 128 * j, 0] S1x64x128x128.size h2 S64x128x128 _ x).trans ?_
  rw [mem_blkSet]
  have x1 : (x 1).val < 64 := (x 1).isLt
  have x3 : (x 3).val < 128 := (x 3).isLt
  constructor
  · intro hx
    have x0 : b ≤ (x 0).val ∧ (x 0).val < b + 1 := hx (0 : Fin 4)
    have x2 : 128 * j ≤ (x 2).val ∧ (x 2).val < 128 * j + 128 := hx (2 : Fin 4)
    exact ⟨by omega, by omega⟩
  · rintro ⟨x0, x2⟩ a
    match a with
    | ⟨0, _⟩ => show b ≤ (x 0).val ∧ (x 0).val < b + 1; omega
    | ⟨1, _⟩ => show 0 ≤ (x 1).val ∧ (x 1).val < 0 + 64; omega
    | ⟨2, _⟩ => show 128 * j ≤ (x 2).val ∧ (x 2).val < 128 * j + 128; omega
    | ⟨3, _⟩ => show 0 ≤ (x 3).val ∧ (x 3).val < 0 + 128; omega

theorem set_words {s i : ℕ} {h3 : ∀ a, (![s, i, 0, 0, 0] : Fin 5 → ℕ) a + S1x1x64x64x128.size a ≤ S4x2x64x64x128.size a} {hs3} :
    ((mWords.slice (Rect.unit (s := S4x2x64x64x128) ![s, i, 0, 0, 0] S1x1x64x64x128.size h3) hs3).squeeze S64x64x128 squeezes_S1x1x64x64x128_S64x64x128).view.set = wordPiece s i := by
  refine Finset.ext fun x => (mem_sq (sp := .vmem) cc0_scratch2 ![s, i, 0, 0, 0] S1x1x64x64x128.size h3 S64x64x128 _ x).trans ?_
  rw [mem_wordPiece]
  have x2 : (x 2).val < 64 := (x 2).isLt
  have x3 : (x 3).val < 64 := (x 3).isLt
  have x4 : (x 4).val < 128 := (x 4).isLt
  constructor
  · intro hx
    have x0 : s ≤ (x 0).val ∧ (x 0).val < s + 1 := hx (0 : Fin 5)
    have x1 : i ≤ (x 1).val ∧ (x 1).val < i + 1 := hx (1 : Fin 5)
    exact ⟨by omega, by omega⟩
  · rintro ⟨x0, x1⟩ a
    match a with
    | ⟨0, _⟩ => show s ≤ (x 0).val ∧ (x 0).val < s + 1; omega
    | ⟨1, _⟩ => show i ≤ (x 1).val ∧ (x 1).val < i + 1; omega
    | ⟨2, _⟩ => show 0 ≤ (x 2).val ∧ (x 2).val < 0 + 64; omega
    | ⟨3, _⟩ => show 0 ≤ (x 3).val ∧ (x 3).val < 0 + 64; omega
    | ⟨4, _⟩ => show 0 ≤ (x 4).val ∧ (x 4).val < 0 + 128; omega

/-- The token under an index of a block's transfer, from the word that holds it. -/
theorem block_value {s i : ℕ} (hi : i < 2) {f : CWords} (hf : ∀ x : S4x2x64x64x128.Idx, (x 0).val = s → (x 1).val = i → f x = I.word b j i (x 2) (x 3) (x 4))
    (h2 : ∀ a, (![b, 0, 128 * j, 0] : Fin 4 → ℕ) a + S1x64x128x128.size a ≤ S5x64x4096x128.size a)
    (h3 : ∀ a, (![s, i, 0, 0, 0] : Fin 5 → ℕ) a + S1x1x64x64x128.size a ≤ S4x2x64x64x128.size a)
    (hw : S64x64x128.numel = S1x1x64x64x128.numel) (hb : S64x128x128.numel = S1x64x128x128.numel) (y : S64x128x128.Idx) :
    FloatOps.ofBits .bf16 (bitcast S64x128x128 16 (fun z : S64x64x128.Idx => f ((Rect.unit (s := S4x2x64x64x128) ![s, i, 0, 0, 0] S1x1x64x64x128.size h3).emb (Shape.reshapeEquiv hw z)))
        bitcasts_S64x64x128_w32_S64x128x128_w16 y)
      = outVal (F := F) I i ((Rect.unit (s := S5x64x4096x128) ![b, 0, 128 * j, 0] S1x64x128x128.size h2).emb (Shape.reshapeEquiv hb y)) := by
  rw [words_down, sq_words, sq_blk]
  have y0 : (y 0).val < 64 := (y 0).isLt
  have y1 : (y 1).val < 128 := (y 1).isLt
  have y2 : (y 2).val < 128 := (y 2).isLt
  have z : outVal (F := F) I i ((Rect.unit (s := S5x64x4096x128) ![b, 0, 128 * j, 0] S1x64x128x128.size h2).emb (ix4 0 (y 0 : Fin 64) (y 1 : Fin 128) (y 2 : Fin 128) : S1x64x128x128.Idx))
      = I.out i (b + 1 * 0) (0 + 1 * (y 0).val) (128 * j + 1 * (y 1).val) (0 + 1 * (y 2).val) := rfl
  refine Eq.trans ?_ z.symm
  unfold Inp.out
  congr 1
  have w := hf ((Rect.unit (s := S4x2x64x64x128) ![s, i, 0, 0, 0] S1x1x64x64x128.size h3).emb
    (ix5 0 0 (y 0 : Fin 64) (⟨(y 1).val / 2, by omega⟩ : Fin 64) (y 2 : Fin 128) : S1x1x64x64x128.Idx)) (by rfl) (by rfl)
  have w2 : f ((Rect.unit (s := S4x2x64x64x128) ![s, i, 0, 0, 0] S1x1x64x64x128.size h3).emb
    (ix5 0 0 (y 0 : Fin 64) (⟨(y 1).val / 2, by omega⟩ : Fin 64) (y 2 : Fin 128) : S1x1x64x64x128.Idx))
      = I.word b j i (y 0).val ((y 1).val / 2) (y 2).val := by
    rw [w]
    show I.word b j i (0 + 1 * (y 0).val) (0 + 1 * ((y 1).val / 2)) (0 + 1 * (y 2).val) = _
    simp only [Nat.zero_add, Nat.one_mul]
  refine (congrArg (fun u : BitVec 32 => u.extractLsb' (16 * ((y 1).val % 2)) 16) w2).trans ((word_half I b j i _ _ _).trans ?_)
  simp only [Nat.zero_add, Nat.one_mul, Nat.mul_zero, Nat.add_zero]

theorem step_out0 {off1 : Fin 1 → ℕ} {off2 : Fin 4 → ℕ} {off3 : Fin 5 → ℕ} {h1 : ∀ a, off1 a + S1.size a ≤ S4.size a}
    {h2 : ∀ a, off2 a + S1x64x128x128.size a ≤ S5x64x4096x128.size a} {h3 : ∀ a, off3 a + S1x1x64x64x128.size a ≤ S4x2x64x64x128.size a}
    {hs2} {hs3} {hsrc} {hdst} {hsem} {k : PUnit → KProg F α} {s : Fin 4} {u : ℕ}
    (e1 : off1 = ![s.val]) (e2 : off2 = ![b, 0, 128 * j, 0]) (e3 : off3 = ![s.val, 0, 0, 0, 0]) (hu : u ≤ 0 * NOut) (f : CWords)
    (hf : ∀ x : S4x2x64x64x128.Idx, (x 0).val = s.val → (x 1).val = 0 → f x = I.word b j 0 (x 2) (x 3) (x 4)) (fo : COut F) :
    iprop(((lWords c) ↦[wordPiece s 0]{fullShare} f) ∗ ((lO0 c) ↦[blkSet b j]{fullShare} fo) ∗ Transfers.Batch EC (c : Thread nD τ) (.dma (semOf cc0_scratch7 s)) () NOut (DOut c I b j s f) 0 u)
      ⊢ iprop((Transfers.Batch EC (c : Thread nD τ) (.dma (semOf cc0_scratch7 s)) () NOut (DOut c I b j s f) 1 u -∗ WP c (k ⟨⟩) Q)
        -∗ WP c (Prog.lift (.enqueueDmaAs ((mWords.slice (Rect.unit (s := S4x2x64x64x128) off3 S1x1x64x64x128.size h3) hs3).squeeze S64x64x128 squeezes_S1x1x64x64x128_S64x64x128)
            (.here ((mO0.slice (Rect.unit (s := S5x64x4096x128) off2 S1x64x128x128.size h2) hs2).squeeze S64x128x128 squeezes_S1x64x128x128_S64x128x128)) (.bitcast bitcasts_S64x64x128_w32_S64x128x128_w16)
            (.dma ((cc0_scratch7.slice (Rect.unit (s := S4) off1 S1.size h1)).squeeze S_ squeezes_S1_S_).sem) hsrc hdst hsem) >>= k) Q) := by
  subst e1 e2 e3
  have hval : ∀ x ∈ blkSet b j, ((mO0.slice (Rect.unit (s := S5x64x4096x128) ![b, 0, 128 * j, 0] S1x64x128x128.size h2) hs2).squeeze S64x128x128 squeezes_S1x64x128x128_S64x128x128).view.write (Elt F) fo
      ((ReadAs.bitcast (Val := Elt F) (e₀ := .i32) (e := .bf16) bitcasts_S64x64x128_w32_S64x128x128_w16).apply (((mWords.slice (Rect.unit (s := S4x2x64x64x128) ![s.val, 0, 0, 0, 0] S1x1x64x64x128.size h3) hs3).squeeze S64x64x128 squeezes_S1x1x64x64x128_S64x64x128).view.read (Elt F) f)) Finset.univ x = outVal I 0 x := by
    intro x hx
    refine write_names ((mO0.slice (Rect.unit (s := S5x64x4096x128) ![b, 0, 128 * j, 0] S1x64x128x128.size h2) hs2).squeeze S64x128x128 squeezes_S1x64x128x128_S64x128x128).view fo _ (outVal I 0) (fun y => ?_) x ((set_O0 (h2 := h2) (hs2 := hs2)).symm ▸ hx)
    exact block_value (by decide) hf h2 h3 _ _ y
  have hD : iprop((((lO0 c) ↦[blkSet b j]{fullShare} (((mO0.slice (Rect.unit (s := S5x64x4096x128) ![b, 0, 128 * j, 0] S1x64x128x128.size h2) hs2).squeeze S64x128x128 squeezes_S1x64x128x128_S64x128x128).view.write (Elt F) fo
      ((ReadAs.bitcast (Val := Elt F) (e₀ := .i32) (e := .bf16) bitcasts_S64x64x128_w32_S64x128x128_w16).apply (((mWords.slice (Rect.unit (s := S4x2x64x64x128) ![s.val, 0, 0, 0, 0] S1x1x64x64x128.size h3) hs3).squeeze S64x64x128 squeezes_S1x1x64x64x128_S64x64x128).view.read (Elt F) f)) Finset.univ)))
      ∗ ((lWords c) ↦[((mWords.slice (Rect.unit (s := S4x2x64x64x128) ![s.val, 0, 0, 0, 0] S1x1x64x64x128.size h3) hs3).squeeze S64x64x128 squeezes_S1x1x64x64x128_S64x64x128).view.set]{fullShare} f)) ⊢ DOut c I b j s f ⟨0, by decide⟩ := by
    rw [pointsTo_congr hval, set_words]
    show _ ⊢ iprop(outAt c I 0 b j ∗ ((lWords c) ↦[wordPiece s 0]{fullShare} f))
    rw [outAt_0]
  have hs := g_enq (Q := Q) c ((mWords.slice (Rect.unit (s := S4x2x64x64x128) ![s.val, 0, 0, 0, 0] S1x1x64x64x128.size h3) hs3).squeeze S64x64x128 squeezes_S1x1x64x64x128_S64x64x128) (ReadAs.bitcast (Val := Elt F) (e₀ := .i32) (e := .bf16) bitcasts_S64x64x128_w32_S64x128x128_w16) ((mO0.slice (Rect.unit (s := S5x64x4096x128) ![b, 0, 128 * j, 0] S1x64x128x128.size h2) hs2).squeeze S64x128x128 squeezes_S1x64x128x128_S64x128x128)
    (.dma (semOf cc0_scratch7 s)) hsrc hdst hsem k f (Sd := blkSet b j) fo NOut rfl (set_O0).subset (by decide) hu hD
  rw [set_words] at hs
  exact hs

theorem step_out1 {off1 : Fin 1 → ℕ} {off2 : Fin 4 → ℕ} {off3 : Fin 5 → ℕ} {h1 : ∀ a, off1 a + S1.size a ≤ S4.size a}
    {h2 : ∀ a, off2 a + S1x64x128x128.size a ≤ S5x64x4096x128.size a} {h3 : ∀ a, off3 a + S1x1x64x64x128.size a ≤ S4x2x64x64x128.size a}
    {hs2} {hs3} {hsrc} {hdst} {hsem} {k : PUnit → KProg F α} {s : Fin 4} {u : ℕ}
    (e1 : off1 = ![s.val]) (e2 : off2 = ![b, 0, 128 * j, 0]) (e3 : off3 = ![s.val, 1, 0, 0, 0]) (hu : u ≤ 1 * NOut) (f : CWords)
    (hf : ∀ x : S4x2x64x64x128.Idx, (x 0).val = s.val → (x 1).val = 1 → f x = I.word b j 1 (x 2) (x 3) (x 4)) (fo : COut F) :
    iprop(((lWords c) ↦[wordPiece s 1]{fullShare} f) ∗ ((lO1 c) ↦[blkSet b j]{fullShare} fo) ∗ Transfers.Batch EC (c : Thread nD τ) (.dma (semOf cc0_scratch7 s)) () NOut (DOut c I b j s f) 1 u)
      ⊢ iprop((Transfers.Batch EC (c : Thread nD τ) (.dma (semOf cc0_scratch7 s)) () NOut (DOut c I b j s f) 2 u -∗ WP c (k ⟨⟩) Q)
        -∗ WP c (Prog.lift (.enqueueDmaAs ((mWords.slice (Rect.unit (s := S4x2x64x64x128) off3 S1x1x64x64x128.size h3) hs3).squeeze S64x64x128 squeezes_S1x1x64x64x128_S64x64x128)
            (.here ((mO1.slice (Rect.unit (s := S5x64x4096x128) off2 S1x64x128x128.size h2) hs2).squeeze S64x128x128 squeezes_S1x64x128x128_S64x128x128)) (.bitcast bitcasts_S64x64x128_w32_S64x128x128_w16)
            (.dma ((cc0_scratch7.slice (Rect.unit (s := S4) off1 S1.size h1)).squeeze S_ squeezes_S1_S_).sem) hsrc hdst hsem) >>= k) Q) := by
  subst e1 e2 e3
  have hval : ∀ x ∈ blkSet b j, ((mO1.slice (Rect.unit (s := S5x64x4096x128) ![b, 0, 128 * j, 0] S1x64x128x128.size h2) hs2).squeeze S64x128x128 squeezes_S1x64x128x128_S64x128x128).view.write (Elt F) fo
      ((ReadAs.bitcast (Val := Elt F) (e₀ := .i32) (e := .bf16) bitcasts_S64x64x128_w32_S64x128x128_w16).apply (((mWords.slice (Rect.unit (s := S4x2x64x64x128) ![s.val, 1, 0, 0, 0] S1x1x64x64x128.size h3) hs3).squeeze S64x64x128 squeezes_S1x1x64x64x128_S64x64x128).view.read (Elt F) f)) Finset.univ x = outVal I 1 x := by
    intro x hx
    refine write_names ((mO1.slice (Rect.unit (s := S5x64x4096x128) ![b, 0, 128 * j, 0] S1x64x128x128.size h2) hs2).squeeze S64x128x128 squeezes_S1x64x128x128_S64x128x128).view fo _ (outVal I 1) (fun y => ?_) x ((set_O1 (h2 := h2) (hs2 := hs2)).symm ▸ hx)
    exact block_value (by decide) hf h2 h3 _ _ y
  have hD : iprop((((lO1 c) ↦[blkSet b j]{fullShare} (((mO1.slice (Rect.unit (s := S5x64x4096x128) ![b, 0, 128 * j, 0] S1x64x128x128.size h2) hs2).squeeze S64x128x128 squeezes_S1x64x128x128_S64x128x128).view.write (Elt F) fo
      ((ReadAs.bitcast (Val := Elt F) (e₀ := .i32) (e := .bf16) bitcasts_S64x64x128_w32_S64x128x128_w16).apply (((mWords.slice (Rect.unit (s := S4x2x64x64x128) ![s.val, 1, 0, 0, 0] S1x1x64x64x128.size h3) hs3).squeeze S64x64x128 squeezes_S1x1x64x64x128_S64x64x128).view.read (Elt F) f)) Finset.univ)))
      ∗ ((lWords c) ↦[((mWords.slice (Rect.unit (s := S4x2x64x64x128) ![s.val, 1, 0, 0, 0] S1x1x64x64x128.size h3) hs3).squeeze S64x64x128 squeezes_S1x1x64x64x128_S64x64x128).view.set]{fullShare} f)) ⊢ DOut c I b j s f ⟨1, by decide⟩ := by
    rw [pointsTo_congr hval, set_words]
    show _ ⊢ iprop(outAt c I 1 b j ∗ ((lWords c) ↦[wordPiece s 1]{fullShare} f))
    rw [outAt_1]
  have hs := g_enq (Q := Q) c ((mWords.slice (Rect.unit (s := S4x2x64x64x128) ![s.val, 1, 0, 0, 0] S1x1x64x64x128.size h3) hs3).squeeze S64x64x128 squeezes_S1x1x64x64x128_S64x64x128) (ReadAs.bitcast (Val := Elt F) (e₀ := .i32) (e := .bf16) bitcasts_S64x64x128_w32_S64x128x128_w16) ((mO1.slice (Rect.unit (s := S5x64x4096x128) ![b, 0, 128 * j, 0] S1x64x128x128.size h2) hs2).squeeze S64x128x128 squeezes_S1x64x128x128_S64x128x128)
    (.dma (semOf cc0_scratch7 s)) hsrc hdst hsem k f (Sd := blkSet b j) fo NOut rfl (set_O1).subset (by decide) hu hD
  rw [set_words] at hs
  exact hs

theorem step_zero0 {off2 : Fin 4 → ℕ}
    {h2 : ∀ a, off2 a + S1x64x128x128.size a ≤ S5x64x4096x128.size a}
    {hs2} {hsrc} {hdst} {sem : DmaSem sig} {hsem} {k : PUnit → KProg F α} {B J : ℕ → ℕ} {m z u : ℕ}
    (e2 : off2 = ![b, 0, 128 * j, 0]) (eB : B z = b) (eJ : J z = j) (hz : I.len b ≤ ((128 * j : ℕ) : ℤ)) (hm : 2 * z + 0 < m) (hu : u ≤ (2 * z + 0) * NOut)
    {fZ : CZero F} (hfZ : ∀ x, fZ x = FloatOps.ofBits .bf16 0#16) (fo : COut F) :
    iprop(((lZero c) ↦[Finset.univ]{Transfers.shareTokN fullShare (2 * z + 0)} fZ) ∗ ((lO0 c) ↦[blkSet b j]{fullShare} fo) ∗ Transfers.Batch EC (c : Thread nD τ) (.dma sem) () NOut (DZero c I B J fZ m) (2 * z + 0) u)
      ⊢ iprop((Transfers.Batch EC (c : Thread nD τ) (.dma sem) () NOut (DZero c I B J fZ m) (2 * z + 0 + 1) u -∗ WP c (k ⟨⟩) Q)
        -∗ WP c (Prog.lift (.enqueueDma mZero (.here ((mO0.slice (Rect.unit (s := S5x64x4096x128) off2 S1x64x128x128.size h2) hs2).squeeze S64x128x128 squeezes_S1x64x128x128_S64x128x128)) (.dma sem) hsrc hdst hsem) >>= k) Q) := by
  subst e2
  have hval : ∀ x ∈ blkSet b j, ((mO0.slice (Rect.unit (s := S5x64x4096x128) ![b, 0, 128 * j, 0] S1x64x128x128.size h2) hs2).squeeze S64x128x128 squeezes_S1x64x128x128_S64x128x128).view.write (Elt F) fo (mZero.view.read (Elt F) fZ) Finset.univ x = outVal I 0 x := by
    intro x hx
    refine write_names ((mO0.slice (Rect.unit (s := S5x64x4096x128) ![b, 0, 128 * j, 0] S1x64x128x128.size h2) hs2).squeeze S64x128x128 squeezes_S1x64x128x128_S64x128x128).view fo _ (outVal I 0) (fun y => ?_) x ((set_O0 (h2 := h2) (hs2 := hs2)).symm ▸ hx)
    have hin : ((mO0.slice (Rect.unit (s := S5x64x4096x128) ![b, 0, 128 * j, 0] S1x64x128x128.size h2) hs2).squeeze S64x128x128 squeezes_S1x64x128x128_S64x128x128).view.emb y ∈ blkSet b j := (set_O0 (h2 := h2) (hs2 := hs2)) ▸ View.emb_mem_set _ y
    exact (hfZ y).trans (out_past hz 0 hin).symm
  have hD : iprop((((lO0 c) ↦[blkSet b j]{fullShare} (((mO0.slice (Rect.unit (s := S5x64x4096x128) ![b, 0, 128 * j, 0] S1x64x128x128.size h2) hs2).squeeze S64x128x128 squeezes_S1x64x128x128_S64x128x128).view.write (Elt F) fo (mZero.view.read (Elt F) fZ) Finset.univ)))
      ∗ ((lZero c) ↦[mZero.view.set]{Transfers.shareTokN fullShare (2 * z + 0)} fZ)) ⊢ DZero c I B J fZ m ⟨2 * z + 0, hm⟩ := by
    have e0 : (2 * z + 0) % 2 = 0 := by omega
    have e1 : (2 * z + 0) / 2 = z := by omega
    unfold DZero
    show _ ⊢ iprop(outAt c I ((2 * z + 0) % 2) (B ((2 * z + 0) / 2)) (J ((2 * z + 0) / 2)) ∗ ((lZero c) ↦[Finset.univ]{Transfers.shareTokN fullShare (2 * z + 0)} fZ))
    rw [pointsTo_congr hval, View.set_whole, e0, e1, eB, eJ, outAt_0]
  have hs := g_enq (Q := Q) c mZero .same ((mO0.slice (Rect.unit (s := S5x64x4096x128) ![b, 0, 128 * j, 0] S1x64x128x128.size h2) hs2).squeeze S64x128x128 squeezes_S1x64x128x128_S64x128x128)
    (.dma sem) hsrc hdst hsem k fZ (q := Transfers.shareTokN fullShare (2 * z + 0)) (Sd := blkSet b j) fo NOut rfl (set_O0).subset hm hu hD
  rw [View.set_whole] at hs
  exact hs

theorem step_zero1 {off2 : Fin 4 → ℕ}
    {h2 : ∀ a, off2 a + S1x64x128x128.size a ≤ S5x64x4096x128.size a}
    {hs2} {hsrc} {hdst} {sem : DmaSem sig} {hsem} {k : PUnit → KProg F α} {B J : ℕ → ℕ} {m z u : ℕ}
    (e2 : off2 = ![b, 0, 128 * j, 0]) (eB : B z = b) (eJ : J z = j) (hz : I.len b ≤ ((128 * j : ℕ) : ℤ)) (hm : 2 * z + 1 < m) (hu : u ≤ (2 * z + 1) * NOut)
    {fZ : CZero F} (hfZ : ∀ x, fZ x = FloatOps.ofBits .bf16 0#16) (fo : COut F) :
    iprop(((lZero c) ↦[Finset.univ]{Transfers.shareTokN fullShare (2 * z + 1)} fZ) ∗ ((lO1 c) ↦[blkSet b j]{fullShare} fo) ∗ Transfers.Batch EC (c : Thread nD τ) (.dma sem) () NOut (DZero c I B J fZ m) (2 * z + 1) u)
      ⊢ iprop((Transfers.Batch EC (c : Thread nD τ) (.dma sem) () NOut (DZero c I B J fZ m) (2 * z + 1 + 1) u -∗ WP c (k ⟨⟩) Q)
        -∗ WP c (Prog.lift (.enqueueDma mZero (.here ((mO1.slice (Rect.unit (s := S5x64x4096x128) off2 S1x64x128x128.size h2) hs2).squeeze S64x128x128 squeezes_S1x64x128x128_S64x128x128)) (.dma sem) hsrc hdst hsem) >>= k) Q) := by
  subst e2
  have hval : ∀ x ∈ blkSet b j, ((mO1.slice (Rect.unit (s := S5x64x4096x128) ![b, 0, 128 * j, 0] S1x64x128x128.size h2) hs2).squeeze S64x128x128 squeezes_S1x64x128x128_S64x128x128).view.write (Elt F) fo (mZero.view.read (Elt F) fZ) Finset.univ x = outVal I 1 x := by
    intro x hx
    refine write_names ((mO1.slice (Rect.unit (s := S5x64x4096x128) ![b, 0, 128 * j, 0] S1x64x128x128.size h2) hs2).squeeze S64x128x128 squeezes_S1x64x128x128_S64x128x128).view fo _ (outVal I 1) (fun y => ?_) x ((set_O1 (h2 := h2) (hs2 := hs2)).symm ▸ hx)
    have hin : ((mO1.slice (Rect.unit (s := S5x64x4096x128) ![b, 0, 128 * j, 0] S1x64x128x128.size h2) hs2).squeeze S64x128x128 squeezes_S1x64x128x128_S64x128x128).view.emb y ∈ blkSet b j := (set_O1 (h2 := h2) (hs2 := hs2)) ▸ View.emb_mem_set _ y
    exact (hfZ y).trans (out_past hz 1 hin).symm
  have hD : iprop((((lO1 c) ↦[blkSet b j]{fullShare} (((mO1.slice (Rect.unit (s := S5x64x4096x128) ![b, 0, 128 * j, 0] S1x64x128x128.size h2) hs2).squeeze S64x128x128 squeezes_S1x64x128x128_S64x128x128).view.write (Elt F) fo (mZero.view.read (Elt F) fZ) Finset.univ)))
      ∗ ((lZero c) ↦[mZero.view.set]{Transfers.shareTokN fullShare (2 * z + 1)} fZ)) ⊢ DZero c I B J fZ m ⟨2 * z + 1, hm⟩ := by
    have e0 : (2 * z + 1) % 2 = 1 := by omega
    have e1 : (2 * z + 1) / 2 = z := by omega
    unfold DZero
    show _ ⊢ iprop(outAt c I ((2 * z + 1) % 2) (B ((2 * z + 1) / 2)) (J ((2 * z + 1) / 2)) ∗ ((lZero c) ↦[Finset.univ]{Transfers.shareTokN fullShare (2 * z + 1)} fZ))
    rw [pointsTo_congr hval, View.set_whole, e0, e1, eB, eJ, outAt_1]
  have hs := g_enq (Q := Q) c mZero .same ((mO1.slice (Rect.unit (s := S5x64x4096x128) ![b, 0, 128 * j, 0] S1x64x128x128.size h2) hs2).squeeze S64x128x128 squeezes_S1x64x128x128_S64x128x128)
    (.dma sem) hsrc hdst hsem k fZ (q := Transfers.shareTokN fullShare (2 * z + 1)) (Sd := blkSet b j) fo NOut rfl (set_O1).subset hm hu hD
  rw [View.set_whole] at hs
  exact hs
end

end Cert.Proof.Pages

end
-- ==== Proof.Fetch.lean ====
module

public import proofs.«01_k».proof.Proof.Smem
public import proofs.«01_k».proof.Proof.ProtoOut

@[expose] public section

noncomputable section

/-! # Filling a slot -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {α : Type} {Q : α → sProp (MM F)} {I : Inp F} {b j m : ℕ}

/-- The two pools, some share of each. -/
abbrev Pools (c : Dev nD) (I : Inp F) : sProp (MM F) :=
  iprop((∃ q, (lK c) ↦[Finset.univ]{q} I.kp) ∗ (∃ q, (lV c) ↦[Finset.univ]{q} I.vp))

/-- Slot `s` being filled with the pages of block `(b, j)`: `p` pages asked for, `u` units waited for. -/
abbrev Filling (c : Dev nD) (I : Inp F) (b j : ℕ) (s : Fin 4) (m p u : ℕ) : sProp (MM F) :=
  iprop(Transfers.Batch EC (c : Thread nD τ) (.dma (semOf cc0_scratch6 s)) () NIn (DIn c I b j s m) (2 * p) u ∗ (∃ f, (lIn c) ↦[inFrom s p]{fullShare} f))

theorem from_split (s p : ℕ) (f : CIn F) :
    (iprop((lIn c) ↦[inFrom s p]{fullShare} f) : sProp (MM F)) ⊢ iprop(((lIn c) ↦[inPiece s 0 p]{fullShare} f) ∗ ((lIn c) ↦[inPiece s 1 p]{fullShare} f) ∗ ((lIn c) ↦[inFrom s (p + 1)]{fullShare} f)) := by
  have e : inFrom s p = inPiece s 0 p ∪ (inPiece s 1 p ∪ inFrom s (p + 1)) := by
    ext x
    have h1 : (x 1).val < 2 := (x 1).isLt
    rw [Finset.mem_union, Finset.mem_union, mem_inFrom, mem_inFrom, mem_inPiece, mem_inPiece]; omega
  have d1 : Disjoint (inPiece s 0 p) (inPiece s 1 p ∪ inFrom s (p + 1)) := Finset.disjoint_left.mpr fun x hx hy => by
    rw [Finset.mem_union, mem_inFrom, mem_inPiece] at hy; rw [mem_inPiece] at hx; omega
  have d2 : Disjoint (inPiece s 1 p) (inFrom s (p + 1)) := Finset.disjoint_left.mpr fun x hx hy => by
    rw [mem_inFrom] at hy; rw [mem_inPiece] at hx; omega
  rw [e]
  iintro H
  ihave H := (pointsTo_union d1).1 $$ H
  icases H with ⟨H0, H⟩
  ihave H := (pointsTo_union d2).1 $$ H
  icases H with ⟨H1, H2⟩
  isplitl [H0]; · iexact H0
  isplitl [H1]; · iexact H1
  iexact H2

/-- Asking for one page of each pool. -/
theorem fetch_two {o1 o1' : Fin 1 → ℕ} {o2 o2' : Fin 5 → ℕ} {o3 o3' : Fin 3 → ℕ} {h1 : ∀ a, o1 a + S1.size a ≤ S4.size a} {h1' : ∀ a, o1' a + S1.size a ≤ S4.size a}
    {h2 : ∀ a, o2 a + S1x1x1x1024x128.size a ≤ S4x2x8x1024x128.size a} {h2' : ∀ a, o2' a + S1x1x1x1024x128.size a ≤ S4x2x8x1024x128.size a}
    {h3 : ∀ a, o3 a + S1x1024x128.size a ≤ S1600x1024x128.size a} {h3' : ∀ a, o3' a + S1x1024x128.size a ≤ S1600x1024x128.size a}
    {hs2} {hs3} {hsrc} {hdst} {hsem} {hs2'} {hs3'} {hsrc'} {hdst'} {hsem'} {k : PUnit → KProg F α} {s : Fin 4} {p : ℕ}
    (e1 : o1 = ![s.val]) (e1' : o1' = ![s.val]) (e2 : o2 = ![s.val, 0, p, 0, 0]) (e2' : o2' = ![s.val, 1, p, 0, 0]) (e3 : o3 = ![I.pid b (8 * j + p), 0, 0])
    (e3' : o3' = ![I.pid b (8 * j + p), 0, 0]) (hq : I.pid b (8 * j + p) < 1600) (hm : 2 * p + 1 < m) :
    iprop(Pools c I ∗ Filling c I b j s m p 0)
      ⊢ iprop((iprop(Pools c I ∗ Filling c I b j s m (p + 1) 0) -∗ WP c (k ⟨⟩) Q)
        -∗ WP c (Prog.lift (.enqueueDma ((mK.slice (Rect.unit (s := S1600x1024x128) o3 S1x1024x128.size h3) hs3).squeeze S1024x128 squeezes_S1x1024x128_S1024x128)
            (.here ((mIn.slice (Rect.unit (s := S4x2x8x1024x128) o2 S1x1x1x1024x128.size h2) hs2).squeeze S1024x128 squeezes_S1x1x1x1024x128_S1024x128))
            (.dma ((cc0_scratch6.slice (Rect.unit (s := S4) o1 S1.size h1)).squeeze S_ squeezes_S1_S_).sem) hsrc hdst hsem) >>= fun _ =>
          Prog.lift (.enqueueDma ((mV.slice (Rect.unit (s := S1600x1024x128) o3' S1x1024x128.size h3') hs3').squeeze S1024x128 squeezes_S1x1024x128_S1024x128)
            (.here ((mIn.slice (Rect.unit (s := S4x2x8x1024x128) o2' S1x1x1x1024x128.size h2') hs2').squeeze S1024x128 squeezes_S1x1x1x1024x128_S1024x128))
            (.dma ((cc0_scratch6.slice (Rect.unit (s := S4) o1' S1.size h1')).squeeze S_ squeezes_S1_S_).sem) hsrc' hdst' hsem') >>= k) Q) := by
  iintro ⟨⟨HK, HV⟩, HB, ⟨%f, HI⟩⟩ Hk
  ihave HI := (from_split c s p f) $$ HI
  icases HI with ⟨H0, H1, H2⟩
  iapply (step_fetchK c (q := fullShare) (b := b) (j := j) (m := m) (u := 0) (p := p) (s := s) e1 e2 e3 hq (by omega) (Nat.zero_le _) f) $$ [HK H0 HB]
  · isplitl [HK]; · iexact HK
    isplitl [H0]; · iexact H0
    iexact HB
  iintro ⟨HK, HB⟩
  iapply (step_fetchV c (q := fullShare) (b := b) (j := j) (m := m) (u := 0) (p := p) (s := s) e1' e2' e3' hq (by omega) (Nat.zero_le _) f) $$ [HV H1 HB]
  · isplitl [HV]; · iexact HV
    isplitl [H1]; · iexact H1
    iexact HB
  iintro ⟨HV, HB⟩
  iapply Hk
  isplitl [HK HV]
  · isplitl [HK]; · iexact HK
    iexact HV
  isplitl [HB]; · iexact HB
  iexists f
  iexact H2

/-- Waiting for one page of each pool. -/
theorem wait_two {o1 o1' : Fin 1 → ℕ} {h1 : ∀ a, o1 a + S1.size a ≤ S4.size a} {h1' : ∀ a, o1' a + S1.size a ≤ S4.size a}
    {dst dst' : Memref sig .tc .vmem S1024x128 .fp8e4m3} {src src' : Memref sig .tc .hbm S1024x128 .fp8e4m3} {hsrc} {hdst} {hsrc'} {hdst'} {k : PUnit → KProg F α} {s : Fin 4} {p : ℕ}
    (hc : dst.view.dmaCredit = NIn) (hc' : dst'.view.dmaCredit = NIn) (e1 : o1 = ![s.val]) (e1' : o1' = ![s.val]) {n : ℕ} (hp : p < n) :
    iprop(Filling c I b j s m n (2 * p * NIn) ∗ (∃ W, owes (c : Thread nD τ) 0 W))
      ⊢ iprop((iprop(Filling c I b j s m n (2 * (p + 1) * NIn) ∗ (∃ W, owes (c : Thread nD τ) 0 W)) -∗ WP c (k ⟨⟩) Q)
        -∗ WP c (Prog.lift (.waitDma2 ((cc0_scratch6.slice (Rect.unit (s := S4) o1 S1.size h1)).squeeze S_ squeezes_S1_S_).sem src dst hsrc hdst) >>= fun _ =>
          Prog.lift (.waitDma2 ((cc0_scratch6.slice (Rect.unit (s := S4) o1' S1.size h1')).squeeze S_ squeezes_S1_S_).sem src' dst' hsrc' hdst') >>= k) Q) := by
  subst e1 e1'
  iintro ⟨⟨HB, HF⟩, ⟨%W, HO⟩⟩ Hk
  have a1 : 2 * p * NIn + NIn ≤ NIn * (2 * n) := by
    have : (2 * p + 1) * NIn ≤ (2 * n) * NIn := Nat.mul_le_mul_right _ (by omega)
    rw [Nat.mul_comm NIn]; rw [Nat.add_mul, Nat.one_mul] at this; exact this
  have a2 : 2 * p * NIn + NIn + NIn ≤ NIn * (2 * n) := by
    have : (2 * p + 1 + 1) * NIn ≤ (2 * n) * NIn := Nat.mul_le_mul_right _ (by omega)
    rw [Nat.mul_comm NIn]; rw [Nat.add_mul, Nat.add_mul, Nat.one_mul] at this; exact this
  have a3 : 2 * (p + 1) * NIn = 2 * p * NIn + NIn + NIn := by rw [show 2 * (p + 1) = 2 * p + 1 + 1 by omega, Nat.add_mul, Nat.add_mul, Nat.one_mul]
  iapply (g_wait c src dst (semOf cc0_scratch6 s) hsrc hdst _ NIn hc a1) $$ [HB HO]
  · isplitl [HB]; · iexact HB
    iexact HO
  iintro %W1 ⟨HB, HO⟩
  iapply (g_wait c src' dst' (semOf cc0_scratch6 s) hsrc' hdst' _ NIn hc' a2) $$ [HB HO]
  · isplitl [HB]; · iexact HB
    iexact HO
  iintro %W2 ⟨HB, HO⟩
  iapply Hk
  isplitl [HB HF]
  · isplitl [HB]; · rw [a3]; iexact HB
    iexact HF
  iexists W2
  iexact HO

theorem NIn_pos : 0 < NIn := sig.dmaCredit_pos _ _ _ S1024x128 .fp8e4m3 (by decide)
theorem NOut_pos : 0 < NOut := sig.dmaCredit_pos _ _ _ S64x128x128 .bf16 (by decide)

/-- A slot all of whose pages have arrived. -/
theorem landed {s : Fin 4} {n : ℕ} :
    Filling c I b j s (2 * n) n (2 * n * NIn)
      ⊢ |={Set.univ}=> iprop((∃ fI : CIn F, ⌜∀ x : S4x2x8x1024x128.Idx, (x 0).val = s.val → (x 2).val < n → fI x = inVal I b j x⌝ ∗ ((lIn c) ↦[inSlot s]{fullShare} fI))
          ∗ semVal ((c : Thread nD τ), .dma (semOf cc0_scratch6 s)) 0) := by
  iintro ⟨HB, ⟨%f, HF⟩⟩
  have e : 2 * n * NIn = NIn * (2 * n) := Nat.mul_comm _ _
  rw [e]
  imod (Transfers.batch_collect' EC (c : Thread nD τ) NIn_pos) $$ HB with ⟨HD, HS⟩
  imodintro
  isplitr [HS]
  · have dj : ∀ t ∈ (Finset.univ : Finset (Fin (2 * n))), ∀ t' ∈ (Finset.univ : Finset (Fin (2 * n))), t ≠ t' → Disjoint (inPiece s (t.val % 2) (t.val / 2)) (inPiece s (t'.val % 2) (t'.val / 2)) := by
      intro t _ t' _ ht
      refine Finset.disjoint_left.mpr fun x hx hy => ht (Fin.ext ?_)
      rw [mem_inPiece] at hx hy; omega
    have hu := pointsTo_biUnion (Ix := Unit) (Val := Elt F) (Name := ℕ) (U := UU nD τ) (Lvl := ℕ) (ℓ := lIn c) (q := fullShare) (f := inVal I b j) (Finset.univ : Finset (Fin (2 * n))) (fun t => inPiece s (t.val % 2) (t.val / 2)) dj
    have hu' : bigSep Finset.univ (DIn c I b j s (2 * n)) ⊢ ((lIn c) ↦[(Finset.univ : Finset (Fin (2 * n))).biUnion fun t => inPiece s (t.val % 2) (t.val / 2)]{fullShare} (inVal I b j) : sProp (MM F)) := entails_of_eq hu.symm
    ihave HD := hu' $$ HD
    have dj2 : Disjoint (inFrom s n) ((Finset.univ : Finset (Fin (2 * n))).biUnion fun t => inPiece s (t.val % 2) (t.val / 2)) := Finset.disjoint_left.mpr fun x hx hy => by
      obtain ⟨t, -, ht⟩ := Finset.mem_biUnion.mp hy
      have := t.isLt
      rw [mem_inFrom] at hx; rw [mem_inPiece] at ht; omega
    ihave H := (pointsTo_join (ℓ := lIn c) dj2) $$ [HF HD]
    · isplitl [HF]; · iexact HF
      iexact HD
    have eU : inFrom s n ∪ ((Finset.univ : Finset (Fin (2 * n))).biUnion fun t => inPiece s (t.val % 2) (t.val / 2)) = inSlot s := by
      ext x
      have h1 : (x 1).val < 2 := (x 1).isLt
      rw [Finset.mem_union, mem_inFrom, mem_inSlot, Finset.mem_biUnion]
      constructor
      · rintro (h | ⟨t, -, ht⟩)
        · exact h.1
        · rw [mem_inPiece] at ht; omega
      · intro h
        by_cases h2 : n ≤ (x 2).val
        · exact .inl ⟨h, h2⟩
        · exact .inr ⟨⟨2 * (x 2).val + (x 1).val, by omega⟩, Finset.mem_univ _, mem_inPiece.mpr ⟨h, by show _ = (2 * (x 2).val + (x 1).val) % 2; omega, by show _ = (2 * (x 2).val + (x 1).val) / 2; omega⟩⟩
    rw [eU]
    iexists _
    isplitr
    swap; · iexact H
    ipureintro
    intro x h0 h2
    refine Finset.piecewise_eq_of_mem _ _ _ (Finset.mem_biUnion.mpr ?_)
    have h1 : (x 1).val < 2 := (x 1).isLt
    exact ⟨⟨2 * (x 2).val + (x 1).val, by omega⟩, Finset.mem_univ _, mem_inPiece.mpr ⟨h0, by show _ = (2 * (x 2).val + (x 1).val) % 2; omega, by show _ = (2 * (x 2).val + (x 1).val) / 2; omega⟩⟩
  · iexact HS

/-- A slot made ready to be filled. -/
theorem start_fill {s : Fin 4} {n : ℕ} :
    iprop(semVal ((c : Thread nD τ), .dma (semOf cc0_scratch6 s)) 0 ∗ (∃ f, (lIn c) ↦[inSlot s]{fullShare} f))
      ⊢ |={Set.univ}=> Filling c I b j s n 0 0 := by
  iintro ⟨HS, ⟨%f, HF⟩⟩
  imod (Transfers.batch_alloc' EC (c : Thread nD τ) () NIn (DIn c I b j s n)) $$ HS with HB
  imodintro
  isplitl [HB]; · iexact HB
  iexists f
  have e : inSlot s = inFrom s 0 := by
    ext x
    rw [mem_inSlot, mem_inFrom]; omega
  rw [← e]
  iexact HF

end Cert.Proof.Pages
-- ==== Proof.Loops.lean ====
module

public import proofs.«01_k».proof.Proof.Fetch

@[expose] public section

noncomputable section

/-! # The fetch and wait loops -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {α : Type} {I : Inp F} {B n : ℕ} {vB vL : BitVec 32}

/-- A loop that makes no trip. -/
theorem wp_none {w : ℕ} {σ : Type} {Q : α → sProp (MM F)} (l : Scf.Loop w) (hok : l.OK) (init : σ) (body : Fin l.trips → σ → KProg F σ) (kk : σ → KProg F α)
    (h : l.trips = 0) : iprop(∀ a, WP c (kk a) Q) ⊢ WP c (l.for hok init body >>= kk) Q := by
  have := Scf.wp_for_bind (Fr := frame) (wpE := wpE (defs₀ (F := F)) 𝒱₀ (c : Thread nD τ) none) (Es := Set.univ) l.lb l.ub l.st hok init body (fun _ _ => (iprop(emp) : sProp (MM F)))
    (fun k _ => absurd (lt_of_lt_of_eq k.isLt h) (Nat.not_lt_zero _)) (kk := kk) (Q := Q)
  iintro Hk
  iapply this $$ []
  · iempintro
  iintro %a -
  iapply Hk $$ %a

/-- A counted loop by an invariant over the trips. -/
theorem wp_loop {w : ℕ} {σ : Type} {Q : α → sProp (MM F)} (l : Scf.Loop w) (hok : l.OK) (init : σ) (body : Fin l.trips → σ → KProg F σ) (kk : σ → KProg F α) (R : ℕ → σ → sProp (MM F))
    {m : ℕ} (h : l.trips = m) (hb : ∀ (k : Fin l.trips) (a : σ), k.val < m → R k a ⊢ WP c (body k a) (R (k.val + 1))) :
    R 0 init ⊢ iprop((∀ a, R m a -∗ WP c (kk a) Q) -∗ WP c (l.for hok init body >>= kk) Q) := by
  subst h
  exact Scf.wp_for_bind (Fr := frame) (wpE := wpE (defs₀ (F := F)) 𝒱₀ (c : Thread nD τ) none) (Es := Set.univ) l.lb l.ub l.st hok init body R (fun k a => hb k a k.isLt)

/-- The pools, the table and a slot being filled: what a fetch loop holds. -/
abbrev Fetching (c : Dev nD) (I : Inp F) (B : ℕ) (s : Fin 4) (qt : PosShare TreeShare) (p : ℕ) : sProp (MM F) :=
  iprop(((lTab c) ↦[Finset.univ]{qt} I.tb) ∗ Pools c I ∗ Filling c I (B / 32) (B % 32) s (2 * I.pages B) p 0)

theorem pages_le (I : Inp F) (B : ℕ) : I.pages B ≤ 8 := Nat.min_le_left _ _

theorem offT {p : ℕ} (hB : B < 160) (hp : p < 8) (e : vB = BitVec.ofNat 32 B) :
    (![(Scalar.divsi vB 32#32).toNat, (Scalar.addi (Scalar.muli (Scalar.remsi vB 32#32) 8#32) (Scf.iv 0#32 1#32 p)).toNat] : Fin 2 → ℕ) = ![B / 32, 8 * (B % 32) + p] := by
  rw [e, v_req hB, v_page hB hp]

theorem offP (s i p : ℕ) (hp : p < 8) : (![s, i, (Scf.iv 0#32 1#32 p).toNat, 0, 0] : Fin 5 → ℕ) = ![s, i, p, 0, 0] := by
  rw [v_iv (by omega)]

/-- Filling slot 0 before the first block. -/
theorem t2_step (W : BlkW I B vB vL) (v9 : BitVec 32) (h1 : k0_cond1 v9 = 1#1) (hw : k0_chk3 v9 vB vL) (qt : PosShare TreeShare) (k : Fin (k0_t2_loop vB vL).trips) (a : BitVec 32) (hk : k.val < I.pages B) :
    Fetching c I B 0 qt k ⊢ WP c (k0_t2_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 h1 vB vL hw k a) (fun _ => Fetching c I B 0 qt (k.val + 1)) := by
  have h8 := pages_le I B
  have hp : k.val < 8 := by omega
  have hq := W.ok.pid_lt W.lt hk
  unfold k0_t2_body
  iintro ⟨HT, H⟩
  iapply (step_tab c (b := B / 32) (p := 8 * (B % 32) + k.val) (offT W.lt hp W.eB) I.tb) $$ HT
  iintro HT
  iapply (step_assume c (chk4 v9 hq))
  iapply (fetch_two c (I := I) (b := B / 32) (j := B % 32) (m := 2 * I.pages B) (s := 0) (p := k.val) rfl rfl (offP _ _ _ hp) (offP _ _ _ hp) rfl rfl hq (by omega)) $$ H
  iintro H
  iapply (step_pure c)
  isplitl [HT]; · iexact HT
  iexact H

/-- Filling slot 1 before the first block. -/
theorem t4_step (W : BlkW I B vB vL) (v9 : BitVec 32) (h1 : k0_cond2 v9 = 1#1) (hw : k0_chk7 v9 vB vL) (qt : PosShare TreeShare) (k : Fin (k0_t4_loop vB vL).trips) (a : BitVec 32) (hk : k.val < I.pages B) :
    Fetching c I B 1 qt k ⊢ WP c (k0_t4_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 h1 vB vL hw k a) (fun _ => Fetching c I B 1 qt (k.val + 1)) := by
  have h8 := pages_le I B
  have hp : k.val < 8 := by omega
  have hq := W.ok.pid_lt W.lt hk
  unfold k0_t4_body
  iintro ⟨HT, H⟩
  iapply (step_tab c (b := B / 32) (p := 8 * (B % 32) + k.val) (offT W.lt hp W.eB) I.tb) $$ HT
  iintro HT
  iapply (step_assume c (chk8 v9 hq))
  iapply (fetch_two c (I := I) (b := B / 32) (j := B % 32) (m := 2 * I.pages B) (s := 1) (p := k.val) rfl rfl (offP _ _ _ hp) (offP _ _ _ hp) rfl rfl hq (by omega)) $$ H
  iintro H
  iapply (step_pure c)
  isplitl [HT]; · iexact HT
  iexact H

/-- Filling slot 2 before the first block. -/
theorem t6_step (W : BlkW I B vB vL) (v9 : BitVec 32) (h1 : k0_cond3 v9 = 1#1) (hw : k0_chk11 v9 vB vL) (qt : PosShare TreeShare) (k : Fin (k0_t6_loop vB vL).trips) (a : BitVec 32) (hk : k.val < I.pages B) :
    Fetching c I B 2 qt k ⊢ WP c (k0_t6_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 h1 vB vL hw k a) (fun _ => Fetching c I B 2 qt (k.val + 1)) := by
  have h8 := pages_le I B
  have hp : k.val < 8 := by omega
  have hq := W.ok.pid_lt W.lt hk
  unfold k0_t6_body
  iintro ⟨HT, H⟩
  iapply (step_tab c (b := B / 32) (p := 8 * (B % 32) + k.val) (offT W.lt hp W.eB) I.tb) $$ HT
  iintro HT
  iapply (step_assume c (chk12 v9 hq))
  iapply (fetch_two c (I := I) (b := B / 32) (j := B % 32) (m := 2 * I.pages B) (s := 2) (p := k.val) rfl rfl (offP _ _ _ hp) (offP _ _ _ hp) rfl rfl hq (by omega)) $$ H
  iintro H
  iapply (step_pure c)
  isplitl [HT]; · iexact HT
  iexact H

/-- Filling the slot of the block three ahead. -/
theorem t12_step (W : BlkW I B vB vL) (v9 : BitVec 32) (hw14 : k0_chk14 v9) (v10 : BitVec 32) (t : Fin (k0_t11_loop v9).trips) (a19 : BitVec 32) (h4 : k0_cond4 v9 t = 1#1)
    (hw : k0_chk17 v9 t vB vL) (qt : PosShare TreeShare) (s : Fin 4) (ht : t.val < 160) (hs : s.val = (t.val + 3) % 4) (k : Fin (k0_t12_loop vB vL).trips) (a : BitVec 32) (hk : k.val < I.pages B) :
    Fetching c I B s qt k ⊢ WP c (k0_t12_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 hw14 v10 0#32 1#32 t a19 h4 vB vL hw k a) (fun _ => Fetching c I B s qt (k.val + 1)) := by
  have h8 := pages_le I B
  have hp : k.val < 8 := by omega
  have hq := W.ok.pid_lt W.lt hk
  have es : (Scalar.remsi (Scalar.subi (Scalar.addi (Scf.iv 0#32 1#32 t) 4#32) 1#32) 4#32).toNat = s.val := (v_slot3 (by omega)).trans hs.symm
  have e1 : (![(Scalar.remsi (Scalar.subi (Scalar.addi (Scf.iv 0#32 1#32 t) 4#32) 1#32) 4#32).toNat] : Fin 1 → ℕ) = ![s.val] := by rw [es]
  have e2 : ∀ i : ℕ, (![(Scalar.remsi (Scalar.subi (Scalar.addi (Scf.iv 0#32 1#32 t) 4#32) 1#32) 4#32).toNat, i, (Scf.iv 0#32 1#32 k).toNat, 0, 0] : Fin 5 → ℕ) = ![s.val, i, k.val, 0, 0] := fun i => by
    rw [es, v_iv (by omega)]
  unfold k0_t12_body
  iintro ⟨HT, H⟩
  iapply (step_tab c (b := B / 32) (p := 8 * (B % 32) + k.val) (offT W.lt hp W.eB) I.tb) $$ HT
  iintro HT
  iapply (step_assume c (chk18 v9 t hq))
  iapply (fetch_two c (I := I) (b := B / 32) (j := B % 32) (m := 2 * I.pages B) (s := s) (p := k.val) e1 e1 (e2 0) (e2 1) rfl rfl hq (by omega)) $$ H
  iintro H
  iapply (step_pure c)
  isplitl [HT]; · iexact HT
  iexact H

/-- Waiting for the pages of the block. -/
theorem t14_step (v9 : BitVec 32) (hw14 : k0_chk14 v9) (v10 : BitVec 32) (t : Fin (k0_t11_loop v9).trips) (a19 : BitVec 32) (hw : k0_chk22 v9 t vB vL)
    (s : Fin 4) (ht : t.val < 160) (hs : s.val = t.val % 4) {b j m N : ℕ} (k : Fin (k0_t14_loop vB vL).trips) (a : BitVec 32) (hk : k.val < N) :
    iprop(Filling c I b j s m N (2 * k.val * NIn) ∗ (∃ W, owes (c : Thread nD τ) 0 W)) ⊢ WP c (k0_t14_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 hw14 v10 0#32 1#32 t a19 vB vL hw k a)
      (fun _ => iprop(Filling c I b j s m N (2 * (k.val + 1) * NIn) ∗ (∃ W, owes (c : Thread nD τ) 0 W))) := by
  have e1 : (![(Scalar.remsi (Scf.iv 0#32 1#32 t) 4#32).toNat] : Fin 1 → ℕ) = ![s.val] := by rw [v_slot (by omega), hs]
  unfold k0_t14_body
  iintro H
  iapply (wait_two c (s := s) rfl rfl e1 e1 hk) $$ H
  iintro H
  iapply (step_pure c)
  iexact H

end Cert.Proof.Pages
-- ==== Proof.Conv.lean ====
module

public import proofs.«01_k».proof.Proof.Loops

@[expose] public section

noncomputable section

/-! # Conversion and padding of a block -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F} {B : ℕ} {vB vL : BitVec 32}

/-- What the conversion of a block holds once its first `p` pages are converted. -/
abbrev Conv (c : Dev nD) (I : Inp F) (B s : ℕ) (qt : PosShare TreeShare) (fS : CScales F) (fI : CIn F) (p : ℕ) : sProp (MM F) :=
  iprop(((lTab c) ↦[Finset.univ]{qt} I.tb) ∗ ((lLen c) ↦[Finset.univ]{qt} I.ln) ∗ ((lIn c) ↦[inSlot s]{fullShare} fI) ∗ ((lScales c) ↦[Finset.univ]{fullShare} fS)
    ∗ (∃ f : CWords, ⌜WordsOk I (B / 32) (B % 32) s f (fun _ _ w => w < 8 * p)⌝ ∗ ((lWords c) ↦[wordSlot s]{fullShare} f)))

theorem t16_step (W : BlkW I B vB vL) (v9 : BitVec 32) (hw14 : k0_chk14 v9) (v10 : BitVec 32) (t : Fin (k0_t11_loop v9).trips) (hw : k0_chk22 v9 t vB vL)
    {s : ℕ} (ht : t.val < 160) (hs : s = t.val % 4) (qt : PosShare TreeShare) {fS : CScales F} {fI : CIn F} (hfS : ScalesOk I fS)
    (hfI : ∀ x : S4x2x8x1024x128.Idx, (x 0).val = s → (x 2).val < I.pages B → fI x = inVal I (B / 32) (B % 32) x)
    (k : Fin (k0_t16_loop vB vL).trips) (a : BitVec 32) (hk : k.val < I.pages B) :
    Conv c I B s qt fS fI k ⊢ WP c (k0_t16_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 hw14 v10 t vB (Scalar.divsi vB 32#32) (Scalar.remsi vB 32#32) (Scalar.remsi (Scf.iv 0#32 1#32 t) 4#32) (Scalar.remsi (Scf.iv 0#32 1#32 t) 4#32) vL hw k a)
      (fun _ => Conv c I B s qt fS fI (k.val + 1)) := by
  have h8 := pages_le I B
  have hB := W.lt
  have hp : k.val < 8 := by omega
  have hs4 : s < 4 := by omega
  have hq := W.ok.pid_lt W.lt hk
  have es : slotW t = s := (v_slot (by omega)).trans hs.symm
  have ep : (Scalar.indexCast (Scf.iv 0#32 1#32 k)).toNat = k.val := v_iv (by omega)
  have ew : (Scalar.indexCast (Scalar.muli (Scf.iv 0#32 1#32 k) 8#32)).toNat = 8 * k.val := v_word (by omega)
  have hC : CodesIn (slotW t) (Scalar.indexCast (Scf.iv 0#32 1#32 k)).toNat := fun i h hi hh =>
    in_codes (e := rfl) (by rw [es]; exact hs4) (by rw [ep]; exact hp) hi (by omega)
  have hS : ∀ v : BitVec 32, k0_chk23 v → ScalesIn (Scalar.indexCast (Scalar.shrui v 7#32)).toNat := fun v hv i h hi hh => by
    have h13 : (Scalar.indexCast (Scalar.shrui v 7#32)).toNat < 13 := by unfold k0_chk23 k0_chk23_0 at hv; exact hv.1.1 (1 : Fin 4)
    exact in_scale (e := rfl) h13 hi (by omega)
  have hW : WordsIn (slotW t) (Scalar.indexCast (Scalar.muli (Scf.iv 0#32 1#32 k) 8#32)).toNat := fun i h hi hh =>
    in_words (e := rfl) (by rw [es]; exact hs4) (by rw [ew]; omega) hi hh
  rw [t16_eq (k := k) (hC := hC) (hS := hS) (hW := hW)]
  iintro ⟨HT, HL, HI, HS, ⟨%f, %hf, HW⟩⟩
  iapply (step_tab c (b := B / 32) (p := 8 * (B % 32) + k.val) (offT W.lt hp W.eB) I.tb) $$ HT
  iintro HT
  iapply (step_assume c (chk23 hq))
  iapply (step_len c (b := B / 32) (by rw [← v_req W.lt, ← W.eB]; rfl) I.ln) $$ HL
  iintro HL
  have hvp : (I.tb (ix2 (n1 (B / 32) 5) (n1 (8 * (B % 32) + k.val) 256))).toNat = I.pid (B / 32) (8 * (B % 32) + k.val) := rfl
  have hl0 : 0 < I.len (B / 32) := by have := W.real; unfold Inp.real at this; omega
  have P : PageCtx I (B / 32) (B % 32) (Scalar.indexCast (Scf.iv 0#32 1#32 k)).toNat ((I.tb (ix2 (n1 (B / 32) 5) (n1 (8 * (B % 32) + k.val) 256))).toNat % 128) (k0_pay23 (F := F) (I.tb (ix2 (n1 (B / 32) 5) (n1 (8 * (B % 32) + k.val) 256))))
      (k0_pay24 (F := F) vB (Scalar.remsi vB 32#32) vL 0#32 1#32 k (I.ln (ix1 (n1 (B / 32) 5)))) := by
    refine ⟨by rw [ep]; exact hp, by omega, by omega, ?_, ?_, by rw [ep]; exact hq, by rw [ep, hvp]⟩
    · have e : k0_pay23 (F := F) (I.tb (ix2 (n1 (B / 32) 5) (n1 (8 * (B % 32) + k.val) 256))) = broadcast S16x128 (Scalar.andi (I.tb (ix2 (n1 (B / 32) 5) (n1 (8 * (B % 32) + k.val) 256))) 127#32) := rfl
      rw [e]
      congr 1
      apply BitVec.eq_of_toNat_eq
      show ((I.tb (ix2 (n1 (B / 32) 5) (n1 (8 * (B % 32) + k.val) 256))) &&& 127#32).toNat = _
      rw [BitVec.toNat_and, BitVec.toNat_ofNat]
      show (I.tb (ix2 (n1 (B / 32) 5) (n1 (8 * (B % 32) + k.val) 256))).toNat &&& 2 ^ 7 - 1 = _
      rw [Nat.and_two_pow_sub_one_eq_mod, w_nat (by omega)]
    · intro y d
      rw [ep]
      exact pay24_apply (I.len (B / 32)) vB (Scalar.remsi vB 32#32) vL _ k (B % 32) (by omega) hp (by rw [W.eB]; exact w_rem (by omega) (by decide) (by decide)) rfl hl0 y d
  have hfI' : PageIn I fI (slotW t) (Scalar.indexCast (Scf.iv 0#32 1#32 k)).toNat (I.pid (B / 32) (8 * (B % 32) + (Scalar.indexCast (Scf.iv 0#32 1#32 k)).toNat)) := by
    rw [es, ep]
    intro x h0 h2
    rw [hfI x h0 (by omega)]
    unfold inVal
    rw [h2]
  have hcc : (Scalar.indexCast (Scalar.shrui (I.tb (ix2 (n1 (B / 32) 5) (n1 (8 * (B % 32) + k.val) 256))) 7#32)).toNat = I.pid (B / 32) (8 * (B % 32) + (Scalar.indexCast (Scf.iv 0#32 1#32 k)).toNat) / 128 := by
    rw [ep, ← hvp]
    show ((I.tb (ix2 (n1 (B / 32) 5) (n1 (8 * (B % 32) + k.val) 256))) >>> 7).toNat = _
    rw [BitVec.toNat_ushiftRight, Nat.shiftRight_eq_div_pow]
  have hf' : WordsOk I (B / 32) (B % 32) (slotW t) f (fun i h w₁ => w₁ < 8 * (Scalar.indexCast (Scf.iv 0#32 1#32 k)).toNat ∨ (w₁ < 8 * (Scalar.indexCast (Scf.iv 0#32 1#32 k)).toNat + 8 ∧ h / 2 * 2 + i < 64 - 64)) := by
    rw [es, ep]
    exact hf.mono fun i h w hi hh hw hd => by omega
  iapply (wp_cvUnits c (fun x => Finset.mem_univ x) P hfS hfI' hcc (ew.trans (by rw [ep])) hC _ hW 64 (le_refl _) f hf') $$ [HI HS HW]
  · rw [es]
    isplitl [HI]; · iexact HI
    isplitl [HS]; · iexact HS
    iexact HW
  rw [es, ep]
  iintro %f2 %hf2 ⟨HI, HS, HW⟩
  isplitl [HT]; · iexact HT
  isplitl [HL]; · iexact HL
  isplitl [HI]; · iexact HI
  isplitl [HS]; · iexact HS
  iexists f2
  isplitr; · ipureintro; exact hf2
  iexact HW

/-- What the padding of a block holds once its first `p` pages are written. -/
abbrev Pad (c : Dev nD) (I : Inp F) (B s : ℕ) (p : ℕ) : sProp (MM F) :=
  iprop(∃ f : CWords, ⌜WordsOk I (B / 32) (B % 32) s f (fun _ _ w => w < 8 * p)⌝ ∗ ((lWords c) ↦[wordSlot s]{fullShare} f))

theorem t18_step (W : BlkW I B vB vL) (v9 : BitVec 32) (hw14 : k0_chk14 v9) (v10 : BitVec 32) (t : Fin (k0_t11_loop v9).trips) (hw : k0_chk22 v9 t vB vL)
    {s : ℕ} (ht : t.val < 160) (hs : s = t.val % 4) (v75 : BitVec 32) (hv75 : v75 = Scalar.minsi 8#32 (Scalar.maxsi 0#32 (Scalar.divsi (Scalar.subi (Scalar.addi (Scalar.subi vL (Scalar.muli (Scalar.remsi vB 32#32) 128#32)) 16#32) 1#32) 16#32)))
    (k : Fin (k0_t18_loop vB vL).trips) (a : BitVec 32) (hk : k.val < 8 - I.pages B) :
    Pad c I B s (I.pages B + k) ⊢ WP c (k0_t18_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 hw14 v10 t vB (Scalar.remsi (Scf.iv 0#32 1#32 t) 4#32) vL hw v75 k a)
      (fun _ => Pad c I B s (I.pages B + (k.val + 1))) := by
  have h8 := pages_le I B
  have hB := W.lt
  have hs4 : s < 4 := by omega
  have es : slotW t = s := (v_slot (by omega)).trans hs.symm
  have ew : (Scalar.indexCast (Scalar.muli (Scf.iv v75 1#32 k) 8#32)).toNat = 8 * (I.pages B + k.val) := by
    rw [hv75, W.cw, w_iv, w_mul, Scalar.indexCast, w_nat (by omega)]; omega
  have hW : WordsIn (slotW t) (Scalar.indexCast (Scalar.muli (Scf.iv v75 1#32 k) 8#32)).toNat := fun i h hi hh =>
    in_words (e := rfl) (by rw [es]; exact hs4) (by rw [ew]; omega) hi hh
  rw [t18_eq (v75 := v75) (hv := hv75) (k := k) (hW := hW)]
  have hr := W.real
  unfold Inp.real at hr
  have hpad : I.len (B / 32) ≤ ((128 * (B % 32) + 16 * (I.pages B + k.val) : ℕ) : ℤ) := by
    have : I.pages B = min 8 (((I.len (B / 32)).toNat - 128 * (B % 32) + 15) / 16) := rfl
    omega
  iintro ⟨%f, %hf, HW⟩
  have hf' : WordsOk I (B / 32) (B % 32) (slotW t) f (fun i h w₁ => w₁ < 8 * (I.pages B + k.val) ∨ (w₁ < 8 * (I.pages B + k.val) + 8 ∧ i * 64 + h < 128 - 128)) := by
    rw [es]
    exact hf.mono fun i h w hi hh hw hd => by omega
  iapply (wp_padUnits c (p := I.pages B + k.val) (by omega) hpad ew hW 128 (le_refl _) f hf') $$ [HW]
  · rw [es]
    iexact HW
  rw [es]
  iintro %f2 %hf2 HW
  iexists f2
  isplitr; · ipureintro; exact hf2
  iexact HW

end Cert.Proof.Pages
-- ==== Proof.Out.lean ====
module

public import proofs.«01_k».proof.Proof.Fetch
public import Idealize.SL.BI.BigOpNat

@[expose] public section

noncomputable section

/-! # The results and the transfers that write them -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F}

/-! ## Sequencing and branches -/

theorem wp_bind_eq' {α β : Type} (m : KProg F β) (kk : β → KProg F α) (Q : α → sProp (MM F)) :
    WP c (m >>= kk) Q = WP c m (fun a => WP c (kk a) Q) := wp_bind _ _ _ m kk Q

theorem wp_cut {α β : Type} {Q : α → sProp (MM F)} (m : KProg F β) (kk : β → KProg F α) (Y : β → sProp (MM F)) :
    WP c m Y ⊢ iprop((∀ a, Y a -∗ WP c (kk a) Q) -∗ WP c (m >>= kk) Q) := by
  rw [wp_bind_eq' c m kk Q]
  iintro H Hk
  iapply (wp_wand frame (wpE (defs₀ (F := F)) 𝒱₀ (c : Thread nD τ) none) Set.univ) $$ H
  iexact Hk

theorem wp_seq {α β : Type} {Q : α → sProp (MM F)} (m : KProg F β) (kk : β → KProg F α) :
    WP c m (fun a => WP c (kk a) Q) ⊢ WP c (m >>= kk) Q := by
  rw [wp_bind_eq' c m kk Q]

theorem wp_if_pos {α : Type} {Q : α → sProp (MM F)} {p : Prop} [Decidable p] (h : p) (A : p → KProg F α) (B : ¬ p → KProg F α) :
    WP c (A h) Q ⊢ WP c (dite p A B) Q := entails_of_eq (by rw [dif_pos h])
theorem wp_if_neg {α : Type} {Q : α → sProp (MM F)} {p : Prop} [Decidable p] (h : ¬ p) (A : p → KProg F α) (B : ¬ p → KProg F α) :
    WP c (B h) Q ⊢ WP c (dite p A B) Q := entails_of_eq (by rw [dif_neg h])

/-- A separating product over the first numbers, indexed by a finite type. -/
theorem bigSep_fin (m : ℕ) (A : ℕ → sProp (MM F)) : bigSep Finset.univ (fun t : Fin m => A t.val) = bigSep (Finset.Ico 0 m) A := by
  have e : (Finset.univ : Finset (Fin m)).map Fin.valEmbedding = Finset.Ico 0 m := by
    ext x
    simp only [Finset.mem_map, Finset.mem_univ, true_and, Finset.mem_Ico, Fin.valEmbedding_apply]
    exact ⟨fun ⟨t, ht⟩ => by have := t.isLt; omega, fun h => ⟨⟨x, h.2⟩, rfl⟩⟩
  rw [← e, bigSep_map]
  rfl

/-! ## The results, cut along the order of the blocks -/

/-- The position of the block of an index. -/
def Inp.posn (I : Inp F) (x : S5x64x4096x128.Idx) : ℕ := I.pos (32 * (x 0).val + (x 2).val / 128)
/-- The indices whose block stands at a position in `[lo, hi)`. -/
def cells (I : Inp F) (lo hi : ℕ) : Finset S5x64x4096x128.Idx := Finset.univ.filter fun x => lo ≤ I.posn x ∧ I.posn x < hi
theorem mem_cells {lo hi : ℕ} {x : S5x64x4096x128.Idx} : x ∈ cells I lo hi ↔ lo ≤ I.posn x ∧ I.posn x < hi := by simp [cells]

theorem posn_lt (x : S5x64x4096x128.Idx) : I.posn x < 160 := by
  have h0 : (x 0).val < 5 := (x 0).isLt
  have h2 : (x 2).val < 4096 := (x 2).isLt
  exact I.pos_lt (by omega)

theorem blk_cells {r : ℕ} (hr : r < 160) : blkSet (I.ord r / 32) (I.ord r % 32) = cells I r (r + 1) := by
  ext x
  have h0 : (x 0).val < 5 := (x 0).isLt
  have h2 : (x 2).val < 4096 := (x 2).isLt
  rw [mem_blkSet, mem_cells]
  unfold Inp.posn
  constructor
  · rintro ⟨e0, e2⟩
    have e : 32 * (x 0).val + (x 2).val / 128 = I.ord r := by omega
    rw [e, I.pos_ord hr]; omega
  · rintro ⟨a, b⟩
    have e : I.pos (32 * (x 0).val + (x 2).val / 128) = r := by omega
    have e' := I.ord_pos (show 32 * (x 0).val + (x 2).val / 128 < 160 by omega)
    rw [e] at e'
    omega

theorem cells_union {lo m hi : ℕ} (h1 : lo ≤ m) (h2 : m ≤ hi) : cells I lo hi = cells I lo m ∪ cells I m hi := by
  ext x; rw [Finset.mem_union, mem_cells, mem_cells, mem_cells]; omega
theorem cells_disj {lo m hi : ℕ} : Disjoint (cells I lo m) (cells I m hi) :=
  Finset.disjoint_left.mpr fun x hx hy => by rw [mem_cells] at hx hy; omega
theorem cells_all : cells I 0 160 = Finset.univ := by
  ext x; have := posn_lt (I := I) x; rw [mem_cells]; simp only [Finset.mem_univ, iff_true]; omega

/-- The results at the positions `[lo, hi)`, as they must be. -/
abbrev Done (c : Dev nD) (I : Inp F) (lo hi : ℕ) : sProp (MM F) :=
  iprop(((lO0 c) ↦[cells I lo hi]{fullShare} (outVal I 0)) ∗ ((lO1 c) ↦[cells I lo hi]{fullShare} (outVal I 1)))
/-- The results at the positions `[lo, hi)`, holding anything. -/
abbrev Raw (c : Dev nD) (I : Inp F) (lo hi : ℕ) : sProp (MM F) :=
  iprop((∃ f : COut F, (lO0 c) ↦[cells I lo hi]{fullShare} f) ∗ (∃ f : COut F, (lO1 c) ↦[cells I lo hi]{fullShare} f))
/-- One block of the results, holding anything. -/
abbrev RawBlk (c : Dev nD) (b j : ℕ) : sProp (MM F) :=
  iprop((∃ f : COut F, (lO0 c) ↦[blkSet b j]{fullShare} f) ∗ (∃ f : COut F, (lO1 c) ↦[blkSet b j]{fullShare} f))

theorem raw_split {lo m hi : ℕ} (h1 : lo ≤ m) (h2 : m ≤ hi) : Raw c I lo hi ⊢ iprop(Raw c I lo m ∗ Raw c I m hi) := by
  iintro ⟨⟨%f, H0⟩, ⟨%g, H1⟩⟩
  rw [cells_union (I := I) h1 h2]
  ihave H0 := ((pointsTo_union (ℓ := lO0 c) (q := fullShare) (f := f) (cells_disj (I := I) (lo := lo) (m := m) (hi := hi))).1) $$ H0
  ihave H1 := ((pointsTo_union (ℓ := lO1 c) (q := fullShare) (f := g) (cells_disj (I := I) (lo := lo) (m := m) (hi := hi))).1) $$ H1
  icases H0 with ⟨A0, B0⟩
  icases H1 with ⟨A1, B1⟩
  isplitl [A0 A1]
  · isplitl [A0]
    · iexists f; iexact A0
    · iexists g; iexact A1
  · isplitl [B0]
    · iexists f; iexact B0
    · iexists g; iexact B1

theorem done_join {lo m hi : ℕ} (h1 : lo ≤ m) (h2 : m ≤ hi) : iprop(Done c I lo m ∗ Done c I m hi) ⊢ Done c I lo hi := by
  unfold Done
  rw [cells_union (I := I) h1 h2]
  iintro ⟨⟨A0, A1⟩, ⟨B0, B1⟩⟩
  isplitl [A0 B0]
  · iapply ((pointsTo_union (ℓ := lO0 c) (q := fullShare) (f := outVal I 0) (cells_disj (I := I) (lo := lo) (m := m) (hi := hi))).2)
    isplitl [A0]; · iexact A0
    iexact B0
  · iapply ((pointsTo_union (ℓ := lO1 c) (q := fullShare) (f := outVal I 1) (cells_disj (I := I) (lo := lo) (m := m) (hi := hi))).2)
    isplitl [A1]; · iexact A1
    iexact B1

theorem raw_front {r hi : ℕ} (h : r < hi) (hr : r < 160) : Raw c I r hi ⊢ iprop(RawBlk c (I.ord r / 32) (I.ord r % 32) ∗ Raw c I (r + 1) hi) := by
  unfold RawBlk
  rw [blk_cells (I := I) hr]
  exact raw_split c (Nat.le_succ r) h

theorem raw_back {lo r : ℕ} (h : lo ≤ r) (hr : r < 160) : Raw c I lo (r + 1) ⊢ iprop(Raw c I lo r ∗ RawBlk c (I.ord r / 32) (I.ord r % 32)) := by
  unfold RawBlk
  rw [blk_cells (I := I) hr]
  exact raw_split c h (Nat.le_succ r)

theorem done_blk {r : ℕ} (hr : r < 160) : iprop(outAt c I 0 (I.ord r / 32) (I.ord r % 32) ∗ outAt c I 1 (I.ord r / 32) (I.ord r % 32)) ⊢ Done c I r (r + 1) := by
  rw [outAt_0, outAt_1, blk_cells (I := I) hr]

/-! ## The slots of the word buffer -/

/-- The slot of a step. -/
abbrev slotF (r : ℕ) : Fin 4 := ⟨r % 4, Nat.mod_lt _ (by decide)⟩

/-- A slot of the word buffer not in flight. -/
abbrev OutFree (c : Dev nD) (s : Fin 4) : sProp (MM F) :=
  iprop(semVal ((c : Thread nD τ), .dma (semOf cc0_scratch7 s)) 0 ∗ (∃ f : CWords, (lWords c) ↦[wordSlot s]{fullShare} f))
/-- The two transfers of step `r` in flight. -/
abbrev OutFly (c : Dev nD) (I : Inp F) (r : ℕ) : sProp (MM F) :=
  iprop(∃ f : CWords, Transfers.Batch EC (c : Thread nD τ) (.dma (semOf cc0_scratch7 (slotF r))) () NOut (DOut c I (I.ord r / 32) (I.ord r % 32) (slotF r).val f) 2 0)

theorem word_union (s : ℕ) : wordSlot s = wordPiece s 0 ∪ wordPiece s 1 := by
  ext x
  have h1 : (x 1).val < 2 := (x 1).isLt
  rw [Finset.mem_union, mem_wordSlot, mem_wordPiece, mem_wordPiece]; omega
theorem word_disj (s : ℕ) : Disjoint (wordPiece s 0) (wordPiece s 1) :=
  Finset.disjoint_left.mpr fun x hx hy => by rw [mem_wordPiece] at hx hy; omega

/-- Waiting for the two transfers of step `r`. -/
theorem out_wait {α : Type} {Q : α → sProp (MM F)} {o1 o1' : Fin 1 → ℕ} {h1 : ∀ a, o1 a + S1.size a ≤ S4.size a} {h1' : ∀ a, o1' a + S1.size a ≤ S4.size a}
    {dst dst' : Memref sig .tc .hbm S64x128x128 .bf16} {src src' : Memref sig .tc .vmem S64x64x128 .i32} {hsrc} {hdst} {hsrc'} {hdst'} {k : PUnit → KProg F α} {r : ℕ} (hr : r < 160)
    (hc : dst.view.dmaCredit = NOut) (hc' : dst'.view.dmaCredit = NOut) (e1 : o1 = ![r % 4]) (e1' : o1' = ![r % 4]) :
    iprop(OutFly c I r ∗ (∃ W, owes (c : Thread nD τ) 0 W))
      ⊢ iprop((iprop(Done c I r (r + 1) ∗ OutFree c (slotF r) ∗ (∃ W, owes (c : Thread nD τ) 0 W)) -∗ WP c (k ⟨⟩) Q)
        -∗ WP c (Prog.lift (.waitDma2 ((cc0_scratch7.slice (Rect.unit (s := S4) o1 S1.size h1)).squeeze S_ squeezes_S1_S_).sem src dst hsrc hdst) >>= fun _ =>
          Prog.lift (.waitDma2 ((cc0_scratch7.slice (Rect.unit (s := S4) o1' S1.size h1')).squeeze S_ squeezes_S1_S_).sem src' dst' hsrc' hdst') >>= k) Q) := by
  subst e1 e1'
  iintro ⟨⟨%f, HB⟩, ⟨%W, HO⟩⟩ Hk
  have a1 : 0 + NOut ≤ NOut * 2 := by omega
  have a2 : 0 + NOut + NOut ≤ NOut * 2 := by omega
  iapply (g_wait c src dst (semOf cc0_scratch7 (slotF r)) hsrc hdst _ NOut hc a1) $$ [HB HO]
  · isplitl [HB]; · iexact HB
    iexact HO
  iintro %W1 ⟨HB, HO⟩
  iapply (g_wait c src' dst' (semOf cc0_scratch7 (slotF r)) hsrc' hdst' _ NOut hc' a2) $$ [HB HO]
  · isplitl [HB]; · iexact HB
    iexact HO
  iintro %W2 ⟨HB, HO⟩
  have e : 0 + NOut + NOut = NOut * 2 := by omega
  rw [e]
  imod (Transfers.batch_collect' EC (c : Thread nD τ) NOut_pos) $$ HB with ⟨HD, HS⟩
  have hu : bigSep Finset.univ (DOut c I (I.ord r / 32) (I.ord r % 32) (slotF r).val f)
      ⊢ (iprop((outAt c I 0 (I.ord r / 32) (I.ord r % 32) ∗ ((lWords c) ↦[wordPiece (slotF r).val 0]{fullShare} f))
        ∗ (outAt c I 1 (I.ord r / 32) (I.ord r % 32) ∗ ((lWords c) ↦[wordPiece (slotF r).val 1]{fullShare} f))) : sProp (MM F)) := entails_of_eq (bigSep_fin_two _)
  ihave HD := hu $$ HD
  icases HD with ⟨⟨A0, W0⟩, ⟨A1, W1⟩⟩
  iapply Hk
  isplitl [A0 A1]
  · iapply (done_blk c hr)
    isplitl [A0]; · iexact A0
    iexact A1
  isplitl [HS W0 W1]
  · isplitl [HS]; · iexact HS
    iexists f
    rw [word_union]
    iapply ((pointsTo_union (ℓ := lWords c) (q := fullShare) (f := f) (word_disj (slotF r).val)).2)
    isplitl [W0]; · iexact W0
    iexact W1
  iexists W2
  iexact HO

/-- Sending the words of step `r`. -/
theorem out_send {α : Type} {Q : α → sProp (MM F)} {o1 o1' : Fin 1 → ℕ} {h1 : ∀ a, o1 a + S1.size a ≤ S4.size a} {h1' : ∀ a, o1' a + S1.size a ≤ S4.size a}
    {o2 o2' : Fin 4 → ℕ} {o3 o3' : Fin 5 → ℕ}
    {h2 : ∀ a, o2 a + S1x64x128x128.size a ≤ S5x64x4096x128.size a} {h3 : ∀ a, o3 a + S1x1x64x64x128.size a ≤ S4x2x64x64x128.size a}
    {h2' : ∀ a, o2' a + S1x64x128x128.size a ≤ S5x64x4096x128.size a} {h3' : ∀ a, o3' a + S1x1x64x64x128.size a ≤ S4x2x64x64x128.size a}
    {hs2} {hs3} {hsrc} {hdst} {hsem} {hs2'} {hs3'} {hsrc'} {hdst'} {hsem'} {k : PUnit → KProg F α} {r : ℕ} (hr : r < 160)
    (e1 : o1 = ![r % 4]) (e2 : o2 = ![I.ord r / 32, 0, 128 * (I.ord r % 32), 0]) (e3 : o3 = ![r % 4, 0, 0, 0, 0])
    (e1' : o1' = ![r % 4]) (e2' : o2' = ![I.ord r / 32, 0, 128 * (I.ord r % 32), 0]) (e3' : o3' = ![r % 4, 1, 0, 0, 0]) (f : CWords)
    (hf : WordsOk I (I.ord r / 32) (I.ord r % 32) (r % 4) f (fun _ _ w => w < 8 * 8)) :
    iprop(semVal ((c : Thread nD τ), .dma (semOf cc0_scratch7 (slotF r))) 0 ∗ ((lWords c) ↦[wordSlot (r % 4)]{fullShare} f) ∗ RawBlk c (I.ord r / 32) (I.ord r % 32))
      ⊢ iprop((OutFly c I r -∗ WP c (k ⟨⟩) Q)
        -∗ WP c (Prog.lift (.enqueueDmaAs ((mWords.slice (Rect.unit (s := S4x2x64x64x128) o3 S1x1x64x64x128.size h3) hs3).squeeze S64x64x128 squeezes_S1x1x64x64x128_S64x64x128)
            (.here ((mO0.slice (Rect.unit (s := S5x64x4096x128) o2 S1x64x128x128.size h2) hs2).squeeze S64x128x128 squeezes_S1x64x128x128_S64x128x128)) (.bitcast bitcasts_S64x64x128_w32_S64x128x128_w16)
            (.dma ((cc0_scratch7.slice (Rect.unit (s := S4) o1 S1.size h1)).squeeze S_ squeezes_S1_S_).sem) hsrc hdst hsem) >>= fun _ =>
          Prog.lift (.enqueueDmaAs ((mWords.slice (Rect.unit (s := S4x2x64x64x128) o3' S1x1x64x64x128.size h3') hs3').squeeze S64x64x128 squeezes_S1x1x64x64x128_S64x64x128)
            (.here ((mO1.slice (Rect.unit (s := S5x64x4096x128) o2' S1x64x128x128.size h2') hs2').squeeze S64x128x128 squeezes_S1x64x128x128_S64x128x128)) (.bitcast bitcasts_S64x64x128_w32_S64x128x128_w16)
            (.dma ((cc0_scratch7.slice (Rect.unit (s := S4) o1' S1.size h1')).squeeze S_ squeezes_S1_S_).sem) hsrc' hdst' hsem') >>= k) Q) := by
  have hw : ∀ i < 2, ∀ x : S4x2x64x64x128.Idx, (x 0).val = (slotF r).val → (x 1).val = i → f x = I.word (I.ord r / 32) (I.ord r % 32) i (x 2) (x 3) (x 4) := by
    intro i hi x h0 h1
    have h3 : (x 3).val < 64 := (x 3).isLt
    rw [← h1]
    exact hf x h0 (by omega)
  iintro ⟨HS, HW, ⟨⟨%f0, H0⟩, ⟨%f1, H1⟩⟩⟩ Hk
  rw [word_union]
  ihave HW := ((pointsTo_union (ℓ := lWords c) (q := fullShare) (f := f) (word_disj (r % 4))).1) $$ HW
  icases HW with ⟨W0, W1⟩
  imod (Transfers.batch_alloc' EC (c : Thread nD τ) () NOut (DOut c I (I.ord r / 32) (I.ord r % 32) (slotF r).val f)) $$ HS with HB
  iapply (step_out0 c (I := I) (b := I.ord r / 32) (j := I.ord r % 32) (s := slotF r) (u := 0) e1 e2 e3 (Nat.zero_le _) f (hw 0 (by decide)) f0) $$ [HB W0 H0]
  · isplitl [W0]; · iexact W0
    isplitl [H0]; · iexact H0
    iexact HB
  iintro HB
  iapply (step_out1 c (I := I) (b := I.ord r / 32) (j := I.ord r % 32) (s := slotF r) (u := 0) e1' e2' e3' (Nat.zero_le _) f (hw 1 (by decide)) f1) $$ [HB W1 H1]
  · isplitl [W1]; · iexact W1
    isplitl [H1]; · iexact H1
    iexact HB
  iintro HB
  iapply Hk
  iexists f
  iexact HB

/-! ## The zero blocks -/

abbrev zB (I : Inp F) (z : ℕ) : ℕ := I.ord (159 - z) / 32
abbrev zJ (I : Inp F) (z : ℕ) : ℕ := I.ord (159 - z) % 32

/-- The transfers of the zero blocks: `z` blocks asked for, `u` units waited for. -/
abbrev ZeroSt (c : Dev nD) (I : Inp F) (fZ : CZero F) (z u : ℕ) : sProp (MM F) :=
  iprop(Transfers.Batch EC (c : Thread nD τ) (.dma cc0_scratch8.sem) () NOut (DZero c I (zB I) (zJ I) fZ (2 * (160 - I.nr))) (2 * z) u
    ∗ bigSep (Finset.Ico (2 * z) (2 * (160 - I.nr))) (fun t => ((lZero c) ↦[Finset.univ]{Transfers.shareTokN fullShare t} fZ)))

theorem zero_past {r : ℕ} (h : I.nr ≤ r) (hr : r < 160) : I.len (I.ord r / 32) ≤ ((128 * (I.ord r % 32) : ℕ) : ℤ) := by
  have := I.not_real_ord h hr
  unfold Inp.real at this
  omega

theorem zero_step {α : Type} {Q : α → sProp (MM F)} {o2 o2' : Fin 4 → ℕ}
    {h2 : ∀ a, o2 a + S1x64x128x128.size a ≤ S5x64x4096x128.size a} {h2' : ∀ a, o2' a + S1x64x128x128.size a ≤ S5x64x4096x128.size a}
    {hs2} {hsrc} {hdst} {hsem} {hs2'} {hsrc'} {hdst'} {hsem'} {k : PUnit → KProg F α} {z lo : ℕ} (hz : z < 160 - I.nr) (hlo : lo ≤ I.nr)
    (e2 : o2 = ![zB I z, 0, 128 * zJ I z, 0]) (e2' : o2' = ![zB I z, 0, 128 * zJ I z, 0])
    {fZ : CZero F} (hfZ : ∀ x, fZ x = FloatOps.ofBits .bf16 0#16) :
    iprop(ZeroSt c I fZ z 0 ∗ Raw c I lo (160 - z))
      ⊢ iprop((iprop(ZeroSt c I fZ (z + 1) 0 ∗ Raw c I lo (160 - (z + 1))) -∗ WP c (k ⟨⟩) Q)
        -∗ WP c (Prog.lift (.enqueueDma mZero (.here ((mO0.slice (Rect.unit (s := S5x64x4096x128) o2 S1x64x128x128.size h2) hs2).squeeze S64x128x128 squeezes_S1x64x128x128_S64x128x128)) (.dma cc0_scratch8.sem) hsrc hdst hsem) >>= fun _ =>
          Prog.lift (.enqueueDma mZero (.here ((mO1.slice (Rect.unit (s := S5x64x4096x128) o2' S1x64x128x128.size h2') hs2').squeeze S64x128x128 squeezes_S1x64x128x128_S64x128x128)) (.dma cc0_scratch8.sem) hsrc' hdst' hsem') >>= k) Q) := by
  have hn := I.nr_le
  have ez : 160 - z = (159 - z) + 1 := by omega
  have ez' : 160 - (z + 1) = 159 - z := by omega
  have hpast := zero_past (I := I) (r := 159 - z) (by omega) (by omega)
  iintro ⟨⟨HB, HT⟩, HR⟩ Hk
  rw [ez]
  ihave HR := (raw_back c (I := I) (show lo ≤ 159 - z by omega) (by omega)) $$ HR
  icases HR with ⟨HR, ⟨⟨%f0, H0⟩, ⟨%f1, H1⟩⟩⟩
  have eT : bigSep (Finset.Ico (2 * z) (2 * (160 - I.nr))) (fun t => ((lZero c) ↦[Finset.univ]{Transfers.shareTokN fullShare t} fZ))
      ⊢ (iprop(((lZero c) ↦[Finset.univ]{Transfers.shareTokN fullShare (2 * z + 0)} fZ) ∗ ((lZero c) ↦[Finset.univ]{Transfers.shareTokN fullShare (2 * z + 1)} fZ)
        ∗ bigSep (Finset.Ico (2 * (z + 1)) (2 * (160 - I.nr))) (fun t => ((lZero c) ↦[Finset.univ]{Transfers.shareTokN fullShare t} fZ))) : sProp (MM F)) := by
    refine entails_of_eq ?_
    rw [bigSep_Ico_succ_bot (a := 2 * z) (by omega), bigSep_Ico_succ_bot (a := 2 * z + 1) (by omega)]
    rfl
  ihave HT := eT $$ HT
  icases HT with ⟨T0, T1, HT⟩
  iapply (step_zero0 c (I := I) (b := zB I z) (j := zJ I z) (z := z) (u := 0) (m := 2 * (160 - I.nr)) e2 rfl rfl hpast (by omega) (Nat.zero_le _) hfZ f0) $$ [HB T0 H0]
  · isplitl [T0]; · iexact T0
    isplitl [H0]; · iexact H0
    iexact HB
  iintro HB
  iapply (step_zero1 c (I := I) (b := zB I z) (j := zJ I z) (z := z) (u := 0) (m := 2 * (160 - I.nr)) e2' rfl rfl hpast (by omega) (Nat.zero_le _) hfZ f1) $$ [HB T1 H1]
  · isplitl [T1]; · iexact T1
    isplitl [H1]; · iexact H1
    iexact HB
  iintro HB
  iapply Hk
  rw [ez']
  isplitl [HB HT]
  · isplitl [HB]; · iexact HB
    iexact HT
  iexact HR

/-- Waiting for one zero block. -/
theorem zero_wait {α : Type} {Q : α → sProp (MM F)}
    {dst dst' : Memref sig .tc .hbm S64x128x128 .bf16} {src src' : Memref sig .tc .vmem S64x128x128 .bf16} {hsrc} {hdst} {hsrc'} {hdst'} {k : PUnit → KProg F α}
    (hc : dst.view.dmaCredit = NOut) (hc' : dst'.view.dmaCredit = NOut) {fZ : CZero F} {p z : ℕ} (hp : p < z) :
    iprop(ZeroSt c I fZ z (2 * p * NOut) ∗ (∃ W, owes (c : Thread nD τ) 0 W))
      ⊢ iprop((iprop(ZeroSt c I fZ z (2 * (p + 1) * NOut) ∗ (∃ W, owes (c : Thread nD τ) 0 W)) -∗ WP c (k ⟨⟩) Q)
        -∗ WP c (Prog.lift (.waitDma2 cc0_scratch8.sem src dst hsrc hdst) >>= fun _ =>
          Prog.lift (.waitDma2 cc0_scratch8.sem src' dst' hsrc' hdst') >>= k) Q) := by
  iintro ⟨⟨HB, HF⟩, ⟨%W, HO⟩⟩ Hk
  have a1 : 2 * p * NOut + NOut ≤ NOut * (2 * z) := by
    have : (2 * p + 1) * NOut ≤ (2 * z) * NOut := Nat.mul_le_mul_right _ (by omega)
    rw [Nat.mul_comm NOut]; rw [Nat.add_mul, Nat.one_mul] at this; exact this
  have a2 : 2 * p * NOut + NOut + NOut ≤ NOut * (2 * z) := by
    have : (2 * p + 1 + 1) * NOut ≤ (2 * z) * NOut := Nat.mul_le_mul_right _ (by omega)
    rw [Nat.mul_comm NOut]; rw [Nat.add_mul, Nat.add_mul, Nat.one_mul] at this; exact this
  have a3 : 2 * (p + 1) * NOut = 2 * p * NOut + NOut + NOut := by rw [show 2 * (p + 1) = 2 * p + 1 + 1 by omega, Nat.add_mul, Nat.add_mul, Nat.one_mul]
  iapply (g_wait c src dst cc0_scratch8.sem hsrc hdst _ NOut hc a1) $$ [HB HO]
  · isplitl [HB]; · iexact HB
    iexact HO
  iintro %W1 ⟨HB, HO⟩
  iapply (g_wait c src' dst' cc0_scratch8.sem hsrc' hdst' _ NOut hc' a2) $$ [HB HO]
  · isplitl [HB]; · iexact HB
    iexact HO
  iintro %W2 ⟨HB, HO⟩
  iapply Hk
  isplitl [HB HF]
  · isplitl [HB]; · rw [a3]; iexact HB
    iexact HF
  iexists W2
  iexact HO

/-- The zero blocks, once they have landed, one by one from the last position. -/
theorem zero_done (fZ : CZero F) : ∀ m : ℕ, m ≤ 160 - I.nr →
    bigSep (Finset.Ico 0 (2 * m)) (fun t => iprop(outAt c I (t % 2) (zB I (t / 2)) (zJ I (t / 2)) ∗ ((lZero c) ↦[Finset.univ]{Transfers.shareTokN fullShare t} fZ)))
      ⊢ iprop(Done c I (160 - m) 160 ∗ bigSep (Finset.Ico 0 (2 * m)) (fun t => ((lZero c) ↦[Finset.univ]{Transfers.shareTokN fullShare t} fZ)))
  | 0, _ => by
    have e : cells I 160 160 = ∅ := by ext x; rw [mem_cells]; simp only [Finset.notMem_empty, iff_false]; omega
    show _ ⊢ iprop((((lO0 c) ↦[cells I 160 160]{fullShare} (outVal I 0)) ∗ ((lO1 c) ↦[cells I 160 160]{fullShare} (outVal I 1))) ∗ _)
    rw [e, pointsTo_empty, pointsTo_empty, show Finset.Ico 0 (2 * 0) = ∅ from rfl, bigSep_empty, bigSep_empty]
    iintro -
    isplitl
    · isplitl <;> iempintro
    · iempintro
  | m + 1, hm => by
    have e0 : 2 * (m + 1) = 2 * m + 1 + 1 := by omega
    have a0 : 2 * m % 2 = 0 := by omega
    have a1 : (2 * m + 1) % 2 = 1 := by omega
    have b0 : 2 * m / 2 = m := by omega
    have b1 : (2 * m + 1) / 2 = m := by omega
    have ih := zero_done fZ m (by omega)
    rw [e0, bigSep_Ico_succ_top (Nat.zero_le _), bigSep_Ico_succ_top (Nat.zero_le _), bigSep_Ico_succ_top (Nat.zero_le _), bigSep_Ico_succ_top (Nat.zero_le _), a0, a1, b0, b1]
    iintro ⟨⟨A1, T1⟩, ⟨A0, T0⟩, H⟩
    ihave H := ih $$ H
    icases H with ⟨HD, HT⟩
    isplitl [A0 A1 HD]
    · have e1 : 160 - (m + 1) = 159 - m := by omega
      have e2 : 160 - m = 159 - m + 1 := by omega
      rw [e1, e2]
      iapply (done_join c (I := I) (Nat.le_succ (159 - m)) (by omega))
      isplitl [A0 A1]
      · iapply (done_blk c (I := I) (r := 159 - m) (by omega))
        isplitl [A0]; · iexact A0
        iexact A1
      iexact HD
    · isplitl [T1]; · iexact T1
      isplitl [T0]; · iexact T0
      iexact HT

/-- All zero blocks have landed. -/
theorem zero_end (fZ : CZero F) :
    ZeroSt c I fZ (160 - I.nr) (2 * (160 - I.nr) * NOut)
      ⊢ |={Set.univ}=> iprop(Done c I I.nr 160 ∗ bigSep (Finset.Ico 0 (2 * (160 - I.nr))) (fun t => ((lZero c) ↦[Finset.univ]{Transfers.shareTokN fullShare t} fZ))
          ∗ semVal ((c : Thread nD τ), .dma cc0_scratch8.sem) 0) := by
  have hn := I.nr_le
  have e := zero_done c (I := I) fZ (160 - I.nr) (le_refl _)
  rw [show 160 - (160 - I.nr) = I.nr by omega] at e
  iintro ⟨HB, -⟩
  rw [Nat.mul_comm _ NOut]
  imod (Transfers.batch_collect' EC (c : Thread nD τ) NOut_pos) $$ HB with ⟨HD, HS⟩
  imodintro
  have hu : bigSep Finset.univ (DZero c I (zB I) (zJ I) fZ (2 * (160 - I.nr)))
      ⊢ (bigSep (Finset.Ico 0 (2 * (160 - I.nr))) (fun t => iprop(outAt c I (t % 2) (zB I (t / 2)) (zJ I (t / 2)) ∗ ((lZero c) ↦[Finset.univ]{Transfers.shareTokN fullShare t} fZ))) : sProp (MM F)) :=
    entails_of_eq (bigSep_fin (2 * (160 - I.nr)) (fun t => iprop(outAt c I (t % 2) (zB I (t / 2)) (zJ I (t / 2)) ∗ ((lZero c) ↦[Finset.univ]{Transfers.shareTokN fullShare t} fZ))))
  ihave HD := hu $$ HD
  ihave HD := e $$ HD
  icases HD with ⟨HD, HT⟩
  isplitl [HD]; · iexact HD
  isplitl [HT]; · iexact HT
  iexact HS

/-- No zero block has been asked for. -/
theorem zero_start (fZ : CZero F) :
    iprop(semVal ((c : Thread nD τ), .dma cc0_scratch8.sem) 0 ∗ ((lZero c) ↦[Finset.univ]{fullShare} fZ))
      ⊢ |={Set.univ}=> iprop(ZeroSt c I fZ 0 0 ∗ ((lZero c) ↦[Finset.univ]{Transfers.shareDrop fullShare (2 * (160 - I.nr))} fZ)) := by
  iintro ⟨HS, HZ⟩
  imod (Transfers.batch_alloc' EC (c : Thread nD τ) () NOut (DZero c I (zB I) (zJ I) fZ (2 * (160 - I.nr)))) $$ HS with HB
  imodintro
  ihave HZ := ((Transfers.pointsTo_toks_range (ℓ := lZero c) (S := Finset.univ) (f := fZ) fullShare (2 * (160 - I.nr))).1) $$ HZ
  icases HZ with ⟨HZ, HT⟩
  isplitl [HB HT]
  · isplitl [HB]; · iexact HB
    rw [Nat.mul_zero, ← Finset.range_eq_Ico]
    iexact HT
  iexact HZ

end Cert.Proof.Pages
-- ==== Proof.Blk.lean ====
module

public import proofs.«01_k».proof.Proof.Conv
public import proofs.«01_k».proof.Proof.Out
public import proofs.«01_k».proof.Proof.Checks22

@[expose] public section

noncomputable section

/-! # One step of the kernel: waiting for the pages -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F}

theorem cond6 {t : ℕ} (ht : t < 160) : (Scalar.cmpi .ne (Scalar.extui (Scalar.cmpi .sge (Scf.iv 0#32 1#32 t) 4#32)) 0#32 = 1#1) ↔ 4 ≤ t := by
  have e : Scalar.cmpi .sge (Scf.iv 0#32 1#32 t) 4#32 = BitVec.ofBool (decide ((4#32 : BitVec 32).toInt ≤ (Scf.iv 0#32 1#32 t).toInt)) := rfl
  have e4 : (4#32 : BitVec 32).toInt = 4 := rfl
  rw [w_flag, e, e4, w_iv, Nat.zero_add, w_int (by omega)]
  by_cases h : (4 : ℤ) ≤ (t : ℤ) <;> simp [h] <;> omega

theorem out_off {off : Fin 4 → ℕ} {B : ℕ} (e : off = ![(Scalar.divsi (BitVec.ofNat 32 B) 32#32).toNat, 0, (Scalar.muli (Scalar.remsi (BitVec.ofNat 32 B) 32#32) 128#32).toNat, 0]) (hB : B < 160) :
    off = ![B / 32, 0, 128 * (B % 32), 0] := by rw [e, v_req hB, v_row hB]
theorem out_off' {off : Fin 4 → ℕ} {B : ℕ} (e : off = ![(Scalar.divsi (BitVec.ofNat 32 B) 32#32).toNat, 0, Nat.mul 2 (Scalar.muli (Scalar.remsi (BitVec.ofNat 32 B) 32#32) 64#32).toNat, 0]) (hB : B < 160) :
    off = ![B / 32, 0, 128 * (B % 32), 0] := by rw [e, v_req hB, v_half hB]
theorem len_off {off : Fin 1 → ℕ} {B : ℕ} (e : off = ![(Scalar.divsi (BitVec.ofNat 32 B) 32#32).toNat]) (hB : B < 160) : off = ![B / 32] := by rw [e, v_req hB]

/-- The length word of the request of a block. -/
abbrev lenW (I : Inp F) (B : ℕ) : BitVec 32 := I.ln (ix1 (n1 (B / 32) 5))

theorem blkW {I : Inp F} (ok : I.Ok) {r : ℕ} (hr : r < I.nr) : BlkW I (I.ord r) (BitVec.ofNat 32 (I.ord r)) (lenW I (I.ord r)) := by
  have hn := I.nr_le
  have hB := I.ord_lt (show r < 160 by omega)
  have h := I.real_ord hr
  have h' := h
  unfold Inp.real at h'
  refine ⟨ok, hB, h, rfl, ?_⟩
  have e := Inp.ln_word (I := I) (show I.ord r / 32 < 5 by omega) (by omega)
  have e5 : n1 (I.ord r / 32) 5 = (⟨I.ord r / 32, by omega⟩ : Fin 5) := Fin.ext (Nat.mod_eq_of_lt (by omega))
  show I.ln (ix1 (n1 (I.ord r / 32) 5)) = _
  rw [e5]; exact e

/-- A slot of the input buffer not in flight. -/
abbrev InFree (c : Dev nD) (s : Fin 4) : sProp (MM F) :=
  iprop(semVal ((c : Thread nD τ), .dma (semOf cc0_scratch6 s)) 0 ∗ (∃ f : CIn F, (lIn c) ↦[inSlot s]{fullShare} f))
/-- The slot of step `r`, before that step: its pages in flight, or free past the last real block. -/
def InSt (c : Dev nD) (I : Inp F) (r : ℕ) : sProp (MM F) :=
  if r < I.nr then Filling c I (I.ord r / 32) (I.ord r % 32) (slotF r) (2 * I.pages (I.ord r)) (I.pages (I.ord r)) 0 else InFree c (slotF r)
theorem inSt_fly {r : ℕ} (h : r < I.nr) : InSt c I r = Filling c I (I.ord r / 32) (I.ord r % 32) (slotF r) (2 * I.pages (I.ord r)) (I.pages (I.ord r)) 0 := if_pos h
theorem inSt_free {r : ℕ} (h : ¬ r < I.nr) : InSt c I r = InFree c (slotF r) := if_neg h

/-- The order of the blocks, as the scan leaves it. -/
def OrdOk (I : Inp F) (f : COrd) : Prop := ∀ r, r < 160 → f (ix1 (n1 r 160)) = BitVec.ofNat 32 (I.ord r)

/-- What every step reads. -/
abbrev Reads (c : Dev nD) (I : Inp F) (qt : PosShare TreeShare) (f : COrd) : sProp (MM F) :=
  iprop(((lOrder c) ↦[Finset.univ]{fullShare} f) ∗ ((lTab c) ↦[Finset.univ]{qt} I.tb) ∗ ((lLen c) ↦[Finset.univ]{qt} I.ln) ∗ Pools c I)

set_option maxHeartbeats 2000000 in
theorem part159_wp (ok : I.Ok) (v10 : BitVec 32) (hw14 : k0_chk14 (BitVec.ofNat 32 I.nr)) (t : Fin (k0_t11_loop (BitVec.ofNat 32 I.nr)).trips) (ht : t.val < I.nr) {z : ℕ} (hz : z = min t.val (160 - I.nr))
    (qt : PosShare TreeShare) {f : COrd} (hf : OrdOk I f) {fZ : CZero F} (hfZ : ∀ x, fZ x = FloatOps.ofBits .bf16 0#16)
    (hw15 : k0_chk15 (BitVec.ofNat 32 I.nr) t (BitVec.ofNat 32 (I.ord t.val))) (hw22 : k0_chk22 (BitVec.ofNat 32 I.nr) t (BitVec.ofNat 32 (I.ord t.val)) (lenW I (I.ord t.val)))
    {Q : _ → sProp (MM F)} :
    iprop(Reads c I qt f ∗ InFree c (slotF (t.val + 3)) ∗ InSt c I t.val ∗ ZeroSt c I fZ z 0 ∗ Raw c I t.val (160 - z) ∗ (∃ W, owes (c : Thread nD τ) 0 W))
      ⊢ iprop((iprop(Reads c I qt f ∗ InSt c I (t.val + 3)
            ∗ (∃ fI : CIn F, ⌜∀ x : S4x2x8x1024x128.Idx, (x 0).val = t.val % 4 → (x 2).val < I.pages (I.ord t.val) → fI x = inVal I (I.ord t.val / 32) (I.ord t.val % 32) x⌝ ∗ ((lIn c) ↦[inSlot (t.val % 4)]{fullShare} fI))
            ∗ semVal ((c : Thread nD τ), .dma (semOf cc0_scratch6 (slotF t.val))) 0
            ∗ ZeroSt c I fZ (min (t.val + 1) (160 - I.nr)) 0 ∗ Raw c I t.val (160 - min (t.val + 1) (160 - I.nr)) ∗ (∃ W, owes (c : Thread nD τ) 0 W))
          -∗ Q ⟨BitVec.ofNat 32 (I.ord t.val), hw15, Scalar.divsi (BitVec.ofNat 32 (I.ord t.val)) 32#32, Scalar.remsi (BitVec.ofNat 32 (I.ord t.val)) 32#32,
              Scalar.remsi (Scf.iv 0#32 1#32 t) 4#32, Scalar.remsi (Scf.iv 0#32 1#32 t) 4#32, lenW I (I.ord t.val), hw22,
              Scalar.minsi 8#32 (Scalar.maxsi 0#32 (Scalar.divsi (Scalar.subi (Scalar.addi (Scalar.subi (lenW I (I.ord t.val)) (Scalar.muli (Scalar.remsi (BitVec.ofNat 32 (I.ord t.val)) 32#32) 128#32)) 16#32) 1#32) 16#32))⟩)
        -∗ WP c (k0_part159 (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 (BitVec.ofNat 32 I.nr) hw14 v10 0#32 1#32 t (BitVec.ofNat 32 z)) Q) := by
  have hn := I.nr_le
  have ht' : t.val < 160 := by omega
  have hB := I.ord_lt ht'
  have W := blkW ok ht
  rw [k0_part159_eq_skeleton]
  unfold k0_part159_skel
  iintro ⟨⟨HF, HT, HL, HP⟩, HN, HS, HZ, HR, HO⟩ Hk
  iapply (step_assume c (chk20 hn (show z ≤ 160 by omega)))
  have o95 : k0_off95 (BitVec.ofNat 32 I.nr) t = ![t.val] := by
    show ![(Scf.iv 0#32 1#32 t).toNat] = _
    rw [v_iv (by omega)]
  iapply (step_ord c o95 f) $$ HF
  iintro HF
  rw [hf t.val ht']
  iapply (step_assume c hw15)
  iapply (step_len c (b := I.ord t.val / 32) (len_off rfl hB) I.ln) $$ HL
  iintro HL
  iapply (step_assume c hw22)
  by_cases h4 : t.val + 3 < I.nr
  on_goal 2 =>
    iapply (wp_if_neg c (fun h => h4 ((cond4 hn ht').mp h)))
    ihave HN := (entails_of_eq (inSt_free c (I := I) h4).symm) $$ HN
  on_goal 1 =>
    have h4' : k0_cond4 (BitVec.ofNat 32 I.nr) t = 1#1 := (cond4 hn ht').mpr h4
    have W3 := blkW ok h4
    have hB3 := I.ord_lt (show t.val + 3 < 160 by omega)
    iapply (wp_if_pos c h4')
    have o97 : k0_off97 (BitVec.ofNat 32 I.nr) t = ![t.val + 3] := by
      show ![(Scalar.subi (Scalar.addi (Scf.iv 0#32 1#32 t) 4#32) 1#32).toNat] = _
      rw [v_next (by omega)]
    iapply (step_ord c o97 f) $$ HF
    iintro HF
    rw [hf (t.val + 3) (by omega)]
    iapply (step_assume c (chk16 (BitVec.ofNat 32 I.nr) t hB3))
    iapply (step_len c (b := I.ord (t.val + 3) / 32) (len_off rfl hB3) I.ln) $$ HL
    iintro HL
    have hw17 := W3.chk17 hn t
    iapply (step_assume c hw17)
    imod (start_fill c (I := I) (b := I.ord (t.val + 3) / 32) (j := I.ord (t.val + 3) % 32) (s := slotF (t.val + 3)) (n := 2 * I.pages (I.ord (t.val + 3)))) $$ HN with HN
    iapply (wp_loop c _ _ _ _ _ (fun p _ => Fetching c I (I.ord (t.val + 3)) (slotF (t.val + 3)) qt p) (t12_trips W3).1
      (fun k a hk => t12_step c W3 _ hw14 _ t (BitVec.ofNat 32 z) h4' hw17 qt (slotF (t.val + 3)) ht' rfl k a hk)) $$ [HT HP HN]
    · isplitl [HT]; · iexact HT
      isplitl [HP]; · iexact HP
      iexact HN
    iintro %a1 ⟨HT, HP, HN⟩
    iapply (wp_none c _ _ _ _ _ (t13_trips W3).1)
    iintro %a2
    ihave HN := (entails_of_eq (inSt_fly c (I := I) h4).symm) $$ HN
  all_goals
    by_cases h5 : z < 160 - I.nr
    on_goal 2 =>
      iapply (wp_if_neg c (fun h => h5 ((cond5 hn (show z ≤ 160 by omega)).mp h)))
      have ez : min (t.val + 1) (160 - I.nr) = z := by omega
    on_goal 1 =>
      iapply (wp_if_pos c ((cond5 hn (show z ≤ 160 by omega)).mpr h5))
      have hBz := I.ord_lt (show 159 - z < 160 by omega)
      have ez : min (t.val + 1) (160 - I.nr) = z + 1 := by omega
      have o111 : k0_off111 (BitVec.ofNat 32 z) = ![159 - z] := by
        show ![(Scalar.subi 159#32 (BitVec.ofNat 32 z)).toNat] = _
        have e : Scalar.subi 159#32 (BitVec.ofNat 32 z) = BitVec.ofNat 32 (159 - z) := w_sub (by omega)
        rw [e, w_nat (by omega)]
      iapply (step_ord c o111 f) $$ HF
      iintro HF
      rw [hf (159 - z) (by omega)]
      iapply (step_assume c (chk21 (BitVec.ofNat 32 I.nr) (BitVec.ofNat 32 z) hBz))
      iapply (zero_step c (I := I) (z := z) (lo := t.val) h5 (by omega) (out_off rfl hBz) (out_off rfl hBz) hfZ) $$ [HZ HR]
      · isplitl [HZ]; · iexact HZ
        iexact HR
      iintro ⟨HZ, HR⟩
    all_goals
      rw [ez]
      ihave HS := (entails_of_eq (inSt_fly c (I := I) ht)) $$ HS
      iapply (wp_loop c _ _ _ _ _ (fun p _ => iprop(Filling c I (I.ord t.val / 32) (I.ord t.val % 32) (slotF t.val) (2 * I.pages (I.ord t.val)) (I.pages (I.ord t.val)) (2 * p * NIn) ∗ (∃ W, owes (c : Thread nD τ) 0 W))) (t14_trips W).1
        (fun k a hk => t14_step c _ hw14 _ t (BitVec.ofNat 32 z) hw22 (slotF t.val) ht' rfl k a hk)) $$ [HS HO]
      · isplitl [HS]
        · rw [Nat.mul_zero, Nat.zero_mul]; iexact HS
        iexact HO
      iintro %a3 ⟨HS, HO⟩
      iapply (wp_none c _ _ _ _ _ (t15_trips W).1)
      iintro %a4
      imod (landed c (I := I)) $$ HS with ⟨HI, HS⟩
      iapply (step_pure c)
      iapply Hk
      isplitl [HF HT HL HP]
      · isplitl [HF]; · iexact HF
        isplitl [HT]; · iexact HT
        isplitl [HL]; · iexact HL
        iexact HP
      isplitl [HN]; · iexact HN
      isplitl [HI]; · iexact HI
      isplitl [HS]; · iexact HS
      isplitl [HZ]; · iexact HZ
      isplitl [HR]; · iexact HR
      iexact HO

end Cert.Proof.Pages
-- ==== Proof.Stage.lean ====
module

public import proofs.«01_k».proof.Proof.Pack
public import proofs.«01_k».proof.Proof.Proto

@[expose] public section

noncomputable section

/-! # The transfers of the scales -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- What a stage plane holds once its transfer is done: the scales of pool `i`. -/
def stVal (I : Inp F) (i : ℕ) : CStage F := fun x => (if i = 0 then I.ks else I.vs) (ix3 (x 1) (x 2) (x 3))
theorem stVal_ok (I : Inp F) (i : ℕ) : StageOk I i (stVal I i) := fun x _ => rfl

abbrev NSt : ℕ := mStage.view.ref.dmaCredit S64x16x1600 .f32
theorem NSt_pos : 0 < NSt := sig.dmaCredit_pos _ _ _ S64x16x1600 .f32 (by decide)

/-- The delivery of a stage transfer. -/
def DSt (c : Dev nD) (I : Inp F) (i : ℕ) : Fin 1 → sProp (MM F) := fun _ => ((lStage c) ↦[stagePart i]{fullShare} stVal I i)
instance (c : Dev nD) (I : Inp F) (i : ℕ) (t : Fin 1) : Storable (upEmb : UEmb _ (MM F)) (DSt c I i t) := by
  unfold DSt; infer_instance
/-- A stage transfer in flight. -/
abbrev StFly (c : Dev nD) (I : Inp F) (i : ℕ) (sem : DmaSem sig) : sProp (MM F) :=
  Transfers.Batch EC (c : Thread nD τ) (.dma sem) () NSt (DSt c I i) 1 0

theorem sq_stage (h : S64x16x1600.numel = S1x64x16x1600.numel) (y : S64x16x1600.Idx) : Shape.reshapeEquiv h y = (ix4 0 (y 0 : Fin 64) (y 1 : Fin 16) (y 2 : Fin 1600) : S1x64x16x1600.Idx) := by
  refine Shape.reshapeEquiv_eq_of_rowMajor h ?_
  rw [Shape.rowMajor_val_four, Shape.rowMajor_val_three]
  show (((0 * 64 + (y 0).val) * 16 + (y 1).val) * 1600 + (y 2).val : ℕ) = ((y 0).val * 16 + (y 1).val) * 1600 + (y 2).val
  omega

abbrev stSem0 : DmaSem sig := ((cc0_scratch9.slice (Rect.unit (s := S2) ![0] S1.size inb_S2_S1_0)).squeeze S_ squeezes_S1_S_).sem
abbrev stSem1 : DmaSem sig := ((cc0_scratch9.slice (Rect.unit (s := S2) ![1] S1.size inb_S2_S1_1)).squeeze S_ squeezes_S1_S_).sem

variable (c : Dev nD) {α : Type} {Q : α → sProp (MM F)} {I : Inp F}

theorem stage_send (src : Memref sig .tc .hbm S64x16x1600 .f32) {off : Fin 4 → ℕ} {h2 : ∀ a, off a + S1x64x16x1600.size a ≤ S2x64x16x1600.size a} {hs2} {sem : DmaSem sig} {hsrc} {hdst} {hsem}
    {k : PUnit → KProg F α} {i : ℕ} (hi : i < 2) (e : off = ![i, 0, 0, 0]) (fs : Buf (Elt F) (src.view.loc (c : Thread nD τ)))
    (hr : src.view.read (Elt F) fs = if i = 0 then I.ks else I.vs) {q : PosShare TreeShare} (f : CStage F) :
    iprop(semVal ((c : Thread nD τ), .dma sem) 0 ∗ (src.view.loc (c : Thread nD τ) ↦[src.view.set]{q} fs) ∗ ((lStage c) ↦[stagePart i]{fullShare} f))
      ⊢ iprop((StFly c I i sem -∗ WP c (k ⟨⟩) Q)
        -∗ WP c (Prog.lift (.enqueueDma src (.here ((mStage.slice (Rect.unit (s := S2x64x16x1600) off S1x64x16x1600.size h2) hs2).squeeze S64x16x1600 squeezes_S1x64x16x1600_S64x16x1600)) (.dma sem) hsrc hdst hsem) >>= k) Q) := by
  subst e
  have hset : ((mStage.slice (Rect.unit (s := S2x64x16x1600) ![i, 0, 0, 0] S1x64x16x1600.size h2) hs2).squeeze S64x16x1600 squeezes_S1x64x16x1600_S64x16x1600).view.set ⊆ stagePart i := by
    intro x hx
    have hx := (mem_sq (sp := .vmem) cc0_scratch4 ![i, 0, 0, 0] S1x64x16x1600.size h2 S64x16x1600 _ x).mp hx
    have x0 : i ≤ (x 0).val ∧ (x 0).val < i + 1 := hx (0 : Fin 4)
    exact mem_stagePart.mpr (by omega)
  have hset' : stagePart i ⊆ ((mStage.slice (Rect.unit (s := S2x64x16x1600) ![i, 0, 0, 0] S1x64x16x1600.size h2) hs2).squeeze S64x16x1600 squeezes_S1x64x16x1600_S64x16x1600).view.set := by
    intro x hx
    refine (mem_sq (sp := .vmem) cc0_scratch4 ![i, 0, 0, 0] S1x64x16x1600.size h2 S64x16x1600 _ x).mpr fun a => ?_
    have x0 := mem_stagePart.mp hx
    have x1 : (x 1).val < 64 := (x 1).isLt
    have x2 : (x 2).val < 16 := (x 2).isLt
    have x3 : (x 3).val < 1600 := (x 3).isLt
    match a with
    | ⟨0, _⟩ => show i ≤ (x 0).val ∧ (x 0).val < i + 1; omega
    | ⟨1, _⟩ => show 0 ≤ (x 1).val ∧ (x 1).val < 0 + 64; omega
    | ⟨2, _⟩ => show 0 ≤ (x 2).val ∧ (x 2).val < 0 + 16; omega
    | ⟨3, _⟩ => show 0 ≤ (x 3).val ∧ (x 3).val < 0 + 1600; omega
  have hval : ∀ x ∈ stagePart i, ((mStage.slice (Rect.unit (s := S2x64x16x1600) ![i, 0, 0, 0] S1x64x16x1600.size h2) hs2).squeeze S64x16x1600 squeezes_S1x64x16x1600_S64x16x1600).view.write (Elt F) f
      (src.view.read (Elt F) fs) Finset.univ x = stVal I i x := by
    intro x hx
    refine write_names ((mStage.slice (Rect.unit (s := S2x64x16x1600) ![i, 0, 0, 0] S1x64x16x1600.size h2) hs2).squeeze S64x16x1600 squeezes_S1x64x16x1600_S64x16x1600).view f _ (stVal I i) (fun y => ?_) x (hset' hx)
    rw [hr]
    show (if i = 0 then I.ks else I.vs) y = stVal I i ((Rect.unit (s := S2x64x16x1600) ![i, 0, 0, 0] S1x64x16x1600.size h2).emb (Shape.reshapeEquiv _ y))
    rw [sq_stage]
    show _ = (if i = 0 then I.ks else I.vs) _
    refine congrArg _ (funext fun a => Fin.ext ?_)
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  have hD : iprop((((lStage c) ↦[stagePart i]{fullShare} (((mStage.slice (Rect.unit (s := S2x64x16x1600) ![i, 0, 0, 0] S1x64x16x1600.size h2) hs2).squeeze S64x16x1600 squeezes_S1x64x16x1600_S64x16x1600).view.write (Elt F) f
      (src.view.read (Elt F) fs) Finset.univ))) ∗ (src.view.loc (c : Thread nD τ) ↦[src.view.set]{q} fs)) ⊢ DSt c I i ⟨0, by decide⟩ := by
    unfold DSt
    rw [pointsTo_congr hval]
    iintro ⟨H, -⟩
    iexact H
  iintro ⟨HS, HP, HI⟩ Hk
  imod (Transfers.batch_alloc' EC (c : Thread nD τ) () NSt (DSt c I i)) $$ HS with HB
  iapply (g_enq c src .same ((mStage.slice (Rect.unit (s := S2x64x16x1600) ![i, 0, 0, 0] S1x64x16x1600.size h2) hs2).squeeze S64x16x1600 squeezes_S1x64x16x1600_S64x16x1600)
    (.dma sem) hsrc hdst hsem k fs (Sd := stagePart i) f NSt rfl hset (show 0 < 1 by decide) (Nat.zero_le _) hD) $$ [HP HI HB]
  · isplitl [HP]; · iexact HP
    isplitl [HI]; · iexact HI
    iexact HB
  iintro HB
  iapply Hk
  iexact HB

theorem stage_wait {src : Memref sig .tc .hbm S64x16x1600 .f32} {dst : Memref sig .tc .vmem S64x16x1600 .f32} {sem : DmaSem sig} {hsrc} {hdst}
    {k : PUnit → KProg F α} {i : ℕ} (hc : dst.view.dmaCredit = NSt) :
    iprop(StFly c I i sem ∗ (∃ W, owes (c : Thread nD τ) 0 W))
      ⊢ iprop((iprop((∃ fg : CStage F, ⌜StageOk I i fg⌝ ∗ ((lStage c) ↦[stagePart i]{fullShare} fg)) ∗ semVal ((c : Thread nD τ), .dma sem) 0 ∗ (∃ W, owes (c : Thread nD τ) 0 W)) -∗ WP c (k ⟨⟩) Q)
        -∗ WP c (Prog.lift (.waitDma2 sem src dst hsrc hdst) >>= k) Q) := by
  iintro ⟨HB, ⟨%W, HO⟩⟩ Hk
  have a1 : 0 + NSt ≤ NSt * 1 := by omega
  iapply (g_wait c src dst sem hsrc hdst _ NSt hc a1) $$ [HB HO]
  · isplitl [HB]; · iexact HB
    iexact HO
  iintro %W1 ⟨HB, HO⟩
  have e : 0 + NSt = NSt * 1 := by omega
  rw [e]
  imod (Transfers.batch_collect' EC (c : Thread nD τ) NSt_pos) $$ HB with ⟨HD, HS⟩
  have hu : bigSep Finset.univ (DSt c I i) ⊢ (((lStage c) ↦[stagePart i]{fullShare} stVal I i) : sProp (MM F)) := by
    rw [show (Finset.univ : Finset (Fin 1)) = {0} from rfl, bigSep_singleton]; exact .rfl
  ihave HD := hu $$ HD
  iapply Hk
  isplitl [HD]
  · iexists (stVal I i)
    isplitr; · ipureintro; exact stVal_ok I i
    iexact HD
  isplitl [HS]; · iexact HS
  iexists W1
  iexact HO

end Cert.Proof.Pages
-- ==== Proof.Prep.lean ====
module

public import proofs.«01_k».proof.Proof.Smem
public import proofs.«01_k».proof.Proof.ProtoOut

@[expose] public section

noncomputable section

/-! # The scan, the zero block and the packing of the scales -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F}

/-- The scan's holdings after `k` blocks. -/
abbrev Scan (c : Dev nD) (I : Inp F) (qt : PosShare TreeShare) (k : ℕ) (a : BitVec 32) : sProp (MM F) :=
  iprop(⌜a = BitVec.ofNat 32 (I.cnt k)⌝ ∗ ((lLen c) ↦[Finset.univ]{qt} I.ln)
    ∗ (∃ f : COrd, ⌜∀ m, m < k → f (ix1 (n1 (I.pos m) 160)) = BitVec.ofNat 32 m⌝ ∗ ((lOrder c) ↦[Finset.univ]{fullShare} f)))

theorem t1_trips : k0_t1_loop.trips = 160 := w_trips (a := 0) (b := 160) (by decide) (by decide)
theorem t8_trips : k0_t8_loop.trips = 64 := w_trips (a := 0) (b := 64) (by decide) (by decide)
theorem t9_trips : k0_t9_loop.trips = 64 := w_trips (a := 0) (b := 64) (by decide) (by decide)
theorem t10_trips : k0_t10_loop.trips = 64 := w_trips (a := 0) (b := 64) (by decide) (by decide)

theorem w_slt (x y : BitVec 32) : Scalar.cmpi .slt x y = if x.toInt < y.toInt then 1#1 else 0#1 := by
  have e : Scalar.cmpi .slt x y = BitVec.ofBool (decide (x.toInt < y.toInt)) := rfl
  rw [e]
  by_cases h : x.toInt < y.toInt <;> simp [h]

/-- One block of the scan. -/
theorem t1_step (qt : PosShare TreeShare) (k : Fin k0_t1_loop.trips) (a : BitVec 32) (hk : k.val < 160) :
    Scan c I qt k a ⊢ WP c (k0_t1_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 k a) (Scan c I qt (k.val + 1)) := by
  have er : Scalar.remsi (Scf.iv 0#32 1#32 k) 32#32 = BitVec.ofNat 32 (k.val % 32) := by
    rw [iv_eq]; exact w_rem (by omega) (by decide) (by decide)
  have em : Scalar.muli (Scalar.remsi (Scf.iv 0#32 1#32 k) 32#32) 128#32 = BitVec.ofNat 32 (128 * (k.val % 32)) := by
    rw [er, Nat.mul_comm]; exact w_mul
  have e1 : k0_off1 k = ![k.val / 32] := by
    show ![(Scalar.divsi (Scf.iv 0#32 1#32 k) 32#32).toNat] = _
    rw [iv_eq, v_req hk]
  have hc := I.cnt_le k.val
  have esel : ∀ x : BitVec 32, x = BitVec.ofNat 32 (I.cnt k.val) →
      Scalar.select (Scalar.cmpi .slt (Scalar.muli (Scalar.remsi (Scf.iv 0#32 1#32 k) 32#32) 128#32) (I.ln (ix1 (n1 (k.val / 32) 5)))) x (Scalar.subi 159#32 (Scalar.subi (Scf.iv 0#32 1#32 k) x)) = BitVec.ofNat 32 (I.pos k.val) := by
    intro x hx
    have e2 : Scalar.subi 159#32 (Scalar.subi (Scf.iv 0#32 1#32 k) x) = BitVec.ofNat 32 (159 - (k.val - I.cnt k.val)) := by
      rw [hx, iv_eq, w_sub hc]; exact w_sub (by omega)
    rw [e2, em, w_slt, w_int (by omega), hx]
    have el : (I.ln (ix1 (n1 (k.val / 32) 5))).toInt = I.len (k.val / 32) := rfl
    rw [el]
    by_cases hr : I.real k.val
    · have hr' := hr
      unfold Inp.real at hr'
      rw [if_pos hr', I.pos_real hr]; rfl
    · have hr' := hr
      unfold Inp.real at hr'
      rw [if_neg hr', I.pos_not hr]; rfl
  have hpos := I.pos_lt hk
  have e2 : ∀ x : BitVec 32, x = BitVec.ofNat 32 (I.cnt k.val) → k0_off2 k x (I.ln (ix1 (n1 (k.val / 32) 5))) = ![I.pos k.val] := by
    intro x hx
    have : k0_off2 k x (I.ln (ix1 (n1 (k.val / 32) 5))) = ![(Scalar.select (Scalar.cmpi .slt (Scalar.muli (Scalar.remsi (Scf.iv 0#32 1#32 k) 32#32) 128#32) (I.ln (ix1 (n1 (k.val / 32) 5)))) x (Scalar.subi 159#32 (Scalar.subi (Scf.iv 0#32 1#32 k) x))).toNat] := rfl
    rw [this, esel x hx, w_nat (by omega)]
  have enext : ∀ x : BitVec 32, x = BitVec.ofNat 32 (I.cnt k.val) → Scalar.addi x (Scalar.extui (Scalar.cmpi .slt (Scalar.muli (Scalar.remsi (Scf.iv 0#32 1#32 k) 32#32) 128#32) (I.ln (ix1 (n1 (k.val / 32) 5))))) = BitVec.ofNat 32 (I.cnt (k.val + 1)) := by
    intro x hx
    rw [em, w_slt, w_int (by omega), hx]
    have el : (I.ln (ix1 (n1 (k.val / 32) 5))).toInt = I.len (k.val / 32) := rfl
    rw [el]
    by_cases hr : I.real k.val
    · have hr' := hr
      unfold Inp.real at hr'
      rw [if_pos hr', I.cnt_real hr]; exact w_add (b := 1)
    · have hr' := hr
      unfold Inp.real at hr'
      rw [if_neg hr', I.cnt_not hr]; exact w_add (b := 0)
  unfold k0_t1_body
  iintro ⟨%ha, HL, ⟨%f, %hf, HF⟩⟩
  iapply (step_len c (b := k.val / 32) e1 I.ln) $$ HL
  iintro HL
  iapply (step_assume c (in_ord (e2 a ha) hpos))
  iapply (step_ord c (e2 a ha) f) $$ HF
  iintro HF
  iapply (step_ordStore c (e2 a ha) f) $$ HF
  iintro %f' %hf' HF
  iapply (step_pure c)
  isplitr; · ipureintro; exact enext a ha
  isplitl [HL]; · iexact HL
  iexists f'
  isplitr
  swap; · iexact HF
  ipureintro
  intro m hm
  have hm' : I.pos m < 160 := I.pos_lt (by omega)
  rw [hf' _ hm']
  by_cases h : m = k.val
  · rw [if_pos (by rw [h]), h, iv_eq]
  · rw [if_neg (fun e => h (I.pos_inj (by omega) hk e))]
    exact hf m (by omega)

/-- Clearing one row of the zero block. -/
theorem t8_step (k : Fin k0_t8_loop.trips) (a : Unit) :
    iprop(∃ f : CZero F, ⌜∀ x : S64x128x128.Idx, (x 0).val < k.val → f x = FloatOps.ofBits .bf16 0#16⌝ ∗ ((lZero c) ↦[Finset.univ]{fullShare} f))
      ⊢ WP c (k0_t8_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 k a)
        (fun _ => iprop(∃ f : CZero F, ⌜∀ x : S64x128x128.Idx, (x 0).val < k.val + 1 → f x = FloatOps.ofBits .bf16 0#16⌝ ∗ ((lZero c) ↦[Finset.univ]{fullShare} f))) := by
  have hk : k.val < 64 := lt_of_lt_of_eq k.isLt t8_trips
  have e : k0_off42 k = ![k.val, 0, 0] := by
    show ![(Scf.iv 0#32 1#32 k).toNat, 0, 0] = _
    rw [v_iv (by omega)]
  unfold k0_t8_body
  iintro ⟨%f, %hf, H⟩
  iapply (wp_clear c e f hf) $$ H
  iintro %f' %hf' H
  iexists f'
  isplitr; · ipureintro; exact hf'
  iexact H

/-- What packing the scales of pool `i` holds after `k` heads. -/
abbrev Packing (c : Dev nD) (I : Inp F) (i : ℕ) (D : ℕ → ℕ → ℕ → Prop) (k : ℕ) : sProp (MM F) :=
  iprop((∃ fg : CStage F, ⌜StageOk I i fg⌝ ∗ ((lStage c) ↦[stagePart i]{fullShare} fg)) ∗ (∃ f : CScales F, ⌜ScalesDone I (fun i₁ c₁ h₁ => D i₁ c₁ h₁ ∨ (i₁ = i ∧ h₁ < k)) f⌝ ∗ ((lScales c) ↦[Finset.univ]{fullShare} f)))

theorem pack_bounds {i h p r : ℕ} (hi : i < 2) (hh : h < 64) (ep : p = h) (er : r = 16 * h) :
    StIn i p ∧ StIn' i p ∧ PkIn i r ∧ PkIn' i r ∧ 2 ∣ r := by
  subst ep er
  refine ⟨fun c hc a => ?_, fun a => ?_, fun c hc a => ?_, fun a => ?_, ⟨8 * p, by omega⟩⟩
  · match a with
    | ⟨0, _⟩ => show i + 1 ≤ 2; omega
    | ⟨1, _⟩ => show p + 1 ≤ 64; omega
    | ⟨2, _⟩ => show 0 + 16 ≤ 16; omega
    | ⟨3, _⟩ => show 128 * c + 128 ≤ 1600; omega
  · match a with
    | ⟨0, _⟩ => show i + 1 ≤ 2; omega
    | ⟨1, _⟩ => show p + 1 ≤ 64; omega
    | ⟨2, _⟩ => show 0 + 16 ≤ 16; omega
    | ⟨3, _⟩ => show 1536 + 64 ≤ 1600; omega
  · match a with
    | ⟨0, _⟩ => show i + 1 ≤ 2; omega
    | ⟨1, _⟩ => show c + 1 ≤ 13; omega
    | ⟨2, _⟩ => show 16 * p + 16 ≤ 1024; omega
    | ⟨3, _⟩ => show 0 + 128 ≤ 128; omega
  · match a with
    | ⟨0, _⟩ => show i + 1 ≤ 2; omega
    | ⟨1, _⟩ => show 12 + 1 ≤ 13; omega
    | ⟨2, _⟩ => show 16 * p + 16 ≤ 1024; omega
    | ⟨3, _⟩ => show 0 + 64 ≤ 128; omega

theorem t9_step (v9 : BitVec 32) (hw14 : k0_chk14 v9) (v10 : BitVec 32) (D : ℕ → ℕ → ℕ → Prop) (k : Fin k0_t9_loop.trips) (a : Unit) :
    Packing c I 0 D k ⊢ WP c (k0_t9_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 hw14 v10 k a) (fun _ => Packing c I 0 D (k.val + 1)) := by
  have hk : k.val < 64 := lt_of_lt_of_eq k.isLt t9_trips
  have ep : (Scalar.indexCast (Scf.iv 0#32 1#32 k)).toNat = k.val := v_iv (by omega)
  have ew : (Scalar.indexCast (Scalar.muli (Scf.iv 0#32 1#32 k) 16#32)).toNat = 16 * k.val := by
    rw [iv_eq, w_mul, Scalar.indexCast, w_nat (by omega)]; omega
  have B := pack_bounds (i := 0) (by decide) hk ep ew
  rw [t9_eq (k := k) (hA := B.1) (hA' := B.2.1) (hB := B.2.2.1) (hB' := B.2.2.2.1) (hr := B.2.2.2.2)]
  iintro ⟨⟨%fg, %hg, HG⟩, ⟨%f, %hf, HS⟩⟩
  have hf' : ScalesDone I (fun i₁ c₁ h₁ => (D i₁ c₁ h₁ ∨ (i₁ = 0 ∧ h₁ < k.val)) ∨ (i₁ = 0 ∧ h₁ = (Scalar.indexCast (Scf.iv 0#32 1#32 k)).toNat ∧ c₁ < 12 - 12)) f :=
    hf.mono fun i c h _ _ _ hd => by
      rcases hd with hd | hd
      · exact hd
      · omega
  iapply (wp_packCols c hg (by rw [ew, ep]) B.1 B.2.1 B.2.2.1 B.2.2.2.1 B.2.2.2.2 12 (le_refl _) f hf') $$ [HG HS]
  · isplitl [HG]; · iexact HG
    iexact HS
  rw [ep]
  iintro %f2 %hf2 ⟨HG, HS⟩
  isplitl [HG]
  · iexists fg
    isplitr; · ipureintro; exact hg
    iexact HG
  iexists f2
  isplitr
  swap; · iexact HS
  ipureintro
  exact hf2.mono fun i c h _ _ _ hd => by
    rcases hd with hd | ⟨hd, hh⟩
    · exact .inl (.inl hd)
    · by_cases e : h = k.val
      · exact .inr ⟨hd, e⟩
      · exact .inl (.inr ⟨hd, by omega⟩)

theorem t10_step (v9 : BitVec 32) (hw14 : k0_chk14 v9) (v10 : BitVec 32) (D : ℕ → ℕ → ℕ → Prop) (k : Fin k0_t10_loop.trips) (a : Unit) :
    Packing c I 1 D k ⊢ WP c (k0_t10_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 v9 hw14 v10 k a) (fun _ => Packing c I 1 D (k.val + 1)) := by
  have hk : k.val < 64 := lt_of_lt_of_eq k.isLt t10_trips
  have ep : (Scalar.indexCast (Scf.iv 0#32 1#32 k)).toNat = k.val := v_iv (by omega)
  have ew : (Scalar.indexCast (Scalar.muli (Scf.iv 0#32 1#32 k) 16#32)).toNat = 16 * k.val := by
    rw [iv_eq, w_mul, Scalar.indexCast, w_nat (by omega)]; omega
  have B := pack_bounds (i := 1) (by decide) hk ep ew
  rw [t10_eq (k := k) (hA := B.1) (hA' := B.2.1) (hB := B.2.2.1) (hB' := B.2.2.2.1) (hr := B.2.2.2.2)]
  iintro ⟨⟨%fg, %hg, HG⟩, ⟨%f, %hf, HS⟩⟩
  have hf' : ScalesDone I (fun i₁ c₁ h₁ => (D i₁ c₁ h₁ ∨ (i₁ = 1 ∧ h₁ < k.val)) ∨ (i₁ = 1 ∧ h₁ = (Scalar.indexCast (Scf.iv 0#32 1#32 k)).toNat ∧ c₁ < 12 - 12)) f :=
    hf.mono fun i c h _ _ _ hd => by
      rcases hd with hd | hd
      · exact hd
      · omega
  iapply (wp_packCols c hg (by rw [ew, ep]) B.1 B.2.1 B.2.2.1 B.2.2.2.1 B.2.2.2.2 12 (le_refl _) f hf') $$ [HG HS]
  · isplitl [HG]; · iexact HG
    iexact HS
  rw [ep]
  iintro %f2 %hf2 ⟨HG, HS⟩
  isplitl [HG]
  · iexists fg
    isplitr; · ipureintro; exact hg
    iexact HG
  iexists f2
  isplitr
  swap; · iexact HS
  ipureintro
  exact hf2.mono fun i c h _ _ _ hd => by
    rcases hd with hd | ⟨hd, hh⟩
    · exact .inl (.inl hd)
    · by_cases e : h = k.val
      · exact .inr ⟨hd, e⟩
      · exact .inl (.inr ⟨hd, by omega⟩)

end Cert.Proof.Pages
-- ==== Proof.Head.lean ====
module

public import proofs.«01_k».proof.Proof.Blk
public import proofs.«01_k».proof.Proof.Stage
public import proofs.«01_k».proof.Proof.Prep

@[expose] public section

noncomputable section

/-! # The start of the kernel -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F}

abbrev lSK (c : Dev nD) : Loc nD τ sig := (c : Thread nD τ).loc main_v2
abbrev lSV (c : Dev nD) : Loc nD τ sig := (c : Thread nD τ).loc main_v3

/-- The three slots filled ahead, and what filling them reads. -/
abbrev Ahead (c : Dev nD) (I : Inp F) (qt : PosShare TreeShare) (f : COrd) : sProp (MM F) :=
  iprop(Reads c I qt f ∗ InSt c I 0 ∗ InSt c I 1 ∗ InSt c I 2)

set_option maxHeartbeats 2000000 in
theorem part313_wp (ok : I.Ok) (qt : PosShare TreeShare) {Q : _ → sProp (MM F)} {q0 q1 : PosShare TreeShare} :
    iprop((∃ f : COrd, (lOrder c) ↦[Finset.univ]{fullShare} f) ∗ ((lTab c) ↦[Finset.univ]{qt} I.tb) ∗ ((lLen c) ↦[Finset.univ]{qt} I.ln) ∗ Pools c I
        ∗ InFree c (slotF 0) ∗ InFree c (slotF 1) ∗ InFree c (slotF 2) ∗ (∃ f : CZero F, (lZero c) ↦[Finset.univ]{fullShare} f)
        ∗ (semVal ((c : Thread nD τ), .dma stSem0) 0 ∗ ((lSK c) ↦[Finset.univ]{q0} I.ks) ∗ (∃ f : CStage F, (lStage c) ↦[stagePart 0]{fullShare} f))
        ∗ (semVal ((c : Thread nD τ), .dma stSem1) 0 ∗ ((lSV c) ↦[Finset.univ]{q1} I.vs) ∗ (∃ f : CStage F, (lStage c) ↦[stagePart 1]{fullShare} f)))
      ⊢ iprop((∀ f fZ hw14, ⌜OrdOk I f ∧ ∀ x, fZ x = FloatOps.ofBits .bf16 0#16⌝ -∗ iprop(Ahead c I qt f ∗ ((lZero c) ↦[Finset.univ]{fullShare} fZ) ∗ StFly c I 0 stSem0 ∗ StFly c I 1 stSem1)
            -∗ Q ⟨BitVec.ofNat 32 I.nr, hw14, BitVec.ofNat 32 (160 - I.nr)⟩)
        -∗ WP c (k0_part313 (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9) Q) := by
  have hn := I.nr_le
  rw [k0_part313_eq_skeleton]
  unfold k0_part313_skel
  iintro ⟨⟨%fo, HF⟩, HT, HL, HP, N0, N1, N2, ⟨%fz, HZ⟩, ⟨HSA, HKA, ⟨%fa, HA⟩⟩, ⟨HSB, HKB, ⟨%fb, HB⟩⟩⟩ Hk
  have eK : (Memref.whole main_v2 : Memref sig .tc .hbm S64x16x1600 .f32).view.set = Finset.univ := View.set_whole _
  have eV : (Memref.whole main_v3 : Memref sig .tc .hbm S64x16x1600 .f32).view.set = Finset.univ := View.set_whole _
  iapply (stage_send c (I := I) (Memref.whole main_v2) (i := 0) (by decide) rfl I.ks rfl (q := q0) fa) $$ [HSA HKA HA]
  · isplitl [HSA]; · iexact HSA
    isplitl [HKA]
    · rw [eK]; iexact HKA
    iexact HA
  iintro HA
  iapply (stage_send c (I := I) (Memref.whole main_v3) (i := 1) (by decide) rfl I.vs rfl (q := q1) fb) $$ [HSB HKB HB]
  · isplitl [HSB]; · iexact HSB
    isplitl [HKB]
    · rw [eV]; iexact HKB
    iexact HB
  iintro HB
  iapply (wp_loop c _ _ _ _ _ (fun p a => Scan c I qt p a) t1_trips (fun k a hk => t1_step c qt k a hk)) $$ [HL HF]
  · isplitr; · ipureintro; rfl
    isplitl [HL]; · iexact HL
    iexists fo
    isplitr
    · ipureintro
      intro m hm
      exact absurd hm (Nat.not_lt_zero _)
    iexact HF
  iintro %v9 ⟨%hv9, HL, ⟨%f, %hf0, HF⟩⟩
  have hv9' : v9 = BitVec.ofNat 32 I.nr := hv9
  subst hv9'
  have hf : OrdOk I f := fun r hr => by
    have h := hf0 (I.ord r) (I.ord_lt hr)
    rwa [I.pos_ord hr] at h
  have hw14 := chk14 hn
  iapply (step_assume c hw14)
  have ev : Scalar.subi 160#32 (BitVec.ofNat 32 I.nr) = BitVec.ofNat 32 (160 - I.nr) := w_sub (a := 160) hn

  by_cases h0 : 0 < I.nr
  on_goal 2 =>
    iapply (wp_if_neg c (fun h => h0 ((cond123 hn (show 0 < 160 by decide)).mp h)))
    ihave N0 := (entails_of_eq (inSt_free c (I := I) h0).symm) $$ N0
  on_goal 1 =>
    have hc0 : k0_cond1 (BitVec.ofNat 32 I.nr) = 1#1 := (cond123 hn (show 0 < 160 by decide)).mpr h0
    have W0 := blkW ok h0
    have hB0 := I.ord_lt (show 0 < 160 by decide)
    have hw0 := W0.chk3 (BitVec.ofNat 32 I.nr)
    iapply (wp_if_pos c hc0)
    iapply (step_ord c (r := 0) rfl f) $$ HF
    iintro HF
    rw [hf 0 (by decide)]
    iapply (step_assume c (chk2 (BitVec.ofNat 32 I.nr) hB0))
    iapply (step_len c (b := I.ord 0 / 32) (len_off rfl hB0) I.ln) $$ HL
    iintro HL
    iapply (step_assume c hw0)
    imod (start_fill c (I := I) (b := I.ord 0 / 32) (j := I.ord 0 % 32) (s := slotF 0) (n := 2 * I.pages (I.ord 0))) $$ N0 with N0
    iapply (wp_loop c _ _ _ _ _ (fun p _ => Fetching c I (I.ord 0) (slotF 0) qt p) (t2_trips W0).1
      (fun k a hk => t2_step c W0 _ hc0 hw0 qt k a hk)) $$ [HT HP N0]
    · isplitl [HT]; · iexact HT
      isplitl [HP]; · iexact HP
      iexact N0
    iintro %a1 ⟨HT, HP, N0⟩
    iapply (wp_none c _ _ _ _ _ (t3_trips W0).1)
    iintro %a2
    ihave N0 := (entails_of_eq (inSt_fly c (I := I) h0).symm) $$ N0

  all_goals

    by_cases h1 : 1 < I.nr
    on_goal 2 =>
      iapply (wp_if_neg c (fun h => h1 ((cond123 hn (show 1 < 160 by decide)).mp h)))
      ihave N1 := (entails_of_eq (inSt_free c (I := I) h1).symm) $$ N1
    on_goal 1 =>
      have hc1 : k0_cond2 (BitVec.ofNat 32 I.nr) = 1#1 := (cond123 hn (show 1 < 160 by decide)).mpr h1
      have W1 := blkW ok h1
      have hB1 := I.ord_lt (show 1 < 160 by decide)
      have hw1 := W1.chk7 (BitVec.ofNat 32 I.nr)
      iapply (wp_if_pos c hc1)
      iapply (step_ord c (r := 1) rfl f) $$ HF
      iintro HF
      rw [hf 1 (by decide)]
      iapply (step_assume c (chk6 (BitVec.ofNat 32 I.nr) hB1))
      iapply (step_len c (b := I.ord 1 / 32) (len_off rfl hB1) I.ln) $$ HL
      iintro HL
      iapply (step_assume c hw1)
      imod (start_fill c (I := I) (b := I.ord 1 / 32) (j := I.ord 1 % 32) (s := slotF 1) (n := 2 * I.pages (I.ord 1))) $$ N1 with N1
      iapply (wp_loop c _ _ _ _ _ (fun p _ => Fetching c I (I.ord 1) (slotF 1) qt p) (t4_trips W1).1
        (fun k a hk => t4_step c W1 _ hc1 hw1 qt k a hk)) $$ [HT HP N1]
      · isplitl [HT]; · iexact HT
        isplitl [HP]; · iexact HP
        iexact N1
      iintro %a1 ⟨HT, HP, N1⟩
      iapply (wp_none c _ _ _ _ _ (t5_trips W1).1)
      iintro %a2
      ihave N1 := (entails_of_eq (inSt_fly c (I := I) h1).symm) $$ N1

    all_goals

      by_cases h2 : 2 < I.nr
      on_goal 2 =>
        iapply (wp_if_neg c (fun h => h2 ((cond123 hn (show 2 < 160 by decide)).mp h)))
        ihave N2 := (entails_of_eq (inSt_free c (I := I) h2).symm) $$ N2
      on_goal 1 =>
        have hc2 : k0_cond3 (BitVec.ofNat 32 I.nr) = 1#1 := (cond123 hn (show 2 < 160 by decide)).mpr h2
        have W2 := blkW ok h2
        have hB2 := I.ord_lt (show 2 < 160 by decide)
        have hw2 := W2.chk11 (BitVec.ofNat 32 I.nr)
        iapply (wp_if_pos c hc2)
        iapply (step_ord c (r := 2) rfl f) $$ HF
        iintro HF
        rw [hf 2 (by decide)]
        iapply (step_assume c (chk10 (BitVec.ofNat 32 I.nr) hB2))
        iapply (step_len c (b := I.ord 2 / 32) (len_off rfl hB2) I.ln) $$ HL
        iintro HL
        iapply (step_assume c hw2)
        imod (start_fill c (I := I) (b := I.ord 2 / 32) (j := I.ord 2 % 32) (s := slotF 2) (n := 2 * I.pages (I.ord 2))) $$ N2 with N2
        iapply (wp_loop c _ _ _ _ _ (fun p _ => Fetching c I (I.ord 2) (slotF 2) qt p) (t6_trips W2).1
          (fun k a hk => t6_step c W2 _ hc2 hw2 qt k a hk)) $$ [HT HP N2]
        · isplitl [HT]; · iexact HT
          isplitl [HP]; · iexact HP
          iexact N2
        iintro %a1 ⟨HT, HP, N2⟩
        iapply (wp_none c _ _ _ _ _ (t7_trips W2).1)
        iintro %a2
        ihave N2 := (entails_of_eq (inSt_fly c (I := I) h2).symm) $$ N2

      all_goals
        iapply (wp_loop c _ _ _ _ _ (fun p _ => iprop(∃ f : CZero F, ⌜∀ x : S64x128x128.Idx, (x 0).val < p → f x = FloatOps.ofBits .bf16 0#16⌝ ∗ ((lZero c) ↦[Finset.univ]{fullShare} f))) t8_trips
          (fun k a hk => t8_step c k a)) $$ [HZ]
        · iexists fz
          isplitr
          · ipureintro
            intro x hx
            exact absurd hx (Nat.not_lt_zero _)
          iexact HZ
        iintro %a8 ⟨%fZ, %hfZ, HZ⟩
        iapply (step_pure c)
        rw [ev]
        iapply Hk $$ %f %fZ %hw14 %⟨hf, fun x => hfZ x (x 0).isLt⟩
        isplitl [HF HT HL HP N0 N1 N2]
        · isplitl [HF HT HL HP]
          · isplitl [HF]; · iexact HF
            isplitl [HT]; · iexact HT
            isplitl [HL]; · iexact HL
            iexact HP
          isplitl [N0]; · iexact N0
          isplitl [N1]; · iexact N1
          iexact N2
        isplitl [HZ]; · iexact HZ
        isplitl [HA]; · iexact HA
        iexact HB

end Cert.Proof.Pages
-- ==== Proof.Step.lean ====
module

public import proofs.«01_k».proof.Proof.Blk

@[expose] public section

noncomputable section

/-! # One step of the kernel -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F}

/-- The slot of the word buffer that step `e` writes: free for the first four steps, then in flight since step `e - 4`. -/
def OutSt (c : Dev nD) (I : Inp F) (e : ℕ) : sProp (MM F) := if e < 4 then OutFree c (slotF e) else OutFly c I (e - 4)
theorem outSt_free {e : ℕ} (h : e < 4) : OutSt c I e = OutFree c (slotF e) := if_pos h
theorem outSt_fly {e : ℕ} (h : ¬ e < 4) : OutSt c I e = OutFly c I (e - 4) := if_neg h

/-- The eight slots before step `r`. -/
abbrev Ring (c : Dev nD) (I : Inp F) (r : ℕ) : sProp (MM F) :=
  iprop((InSt c I r ∗ InSt c I (r + 1) ∗ InSt c I (r + 2) ∗ InFree c (slotF (r + 3))) ∗ (OutSt c I r ∗ OutSt c I (r + 1) ∗ OutSt c I (r + 2) ∗ OutSt c I (r + 3)))

/-- How many zero blocks have been sent before step `r`. -/
abbrev zAt (I : Inp F) (r : ℕ) : ℕ := min r (160 - I.nr)

/-- What the kernel holds before step `r`. -/
abbrev Main (c : Dev nD) (I : Inp F) (qt : PosShare TreeShare) (f : COrd) (fS : CScales F) (fZ : CZero F) (r : ℕ) (a : BitVec 32) : sProp (MM F) :=
  iprop(⌜a = BitVec.ofNat 32 (zAt I r)⌝ ∗ Reads c I qt f ∗ Ring c I r ∗ ((lScales c) ↦[Finset.univ]{fullShare} fS) ∗ ZeroSt c I fZ (zAt I r) 0
    ∗ Done c I 0 (r - 4) ∗ Raw c I r (160 - zAt I r) ∗ (∃ W, owes (c : Thread nD τ) 0 W))

theorem slot_same {a b : ℕ} (h : a % 4 = b % 4) : slotF a = slotF b := Fin.ext h

set_option maxHeartbeats 2000000 in
theorem t11_step (ok : I.Ok) (hw14 : k0_chk14 (BitVec.ofNat 32 I.nr)) (t : Fin (k0_t11_loop (BitVec.ofNat 32 I.nr)).trips) (a : BitVec 32) (ht : t.val < I.nr)
    (qt : PosShare TreeShare) {f : COrd} (hf : OrdOk I f) {fS : CScales F} (hfS : ScalesOk I fS) {fZ : CZero F} (hfZ : ∀ x, fZ x = FloatOps.ofBits .bf16 0#16) :
    Main c I qt f fS fZ t.val a ⊢ WP c (k0_t11_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 (BitVec.ofNat 32 I.nr) hw14 (BitVec.ofNat 32 (160 - I.nr)) t a) (Main c I qt f fS fZ (t.val + 1)) := by
  have hn := I.nr_le
  have ht' : t.val < 160 := by omega
  have hB := I.ord_lt ht'
  have W := blkW ok ht
  have hw15 := chk15 (BitVec.ofNat 32 I.nr) t hB
  have hw22 := W.chk22 hn t
  have hpg := I.pages_pos (I.real_ord ht)
  have es : (Scalar.remsi (Scf.iv 0#32 1#32 t) 4#32).toNat = t.val % 4 := v_slot (by omega)
  have hz : zAt I t.val ≤ 160 := le_trans (min_le_left _ _) (by omega)
  have ez : Scalar.minsi (Scalar.addi (BitVec.ofNat 32 (zAt I t.val)) 1#32) (BitVec.ofNat 32 (160 - I.nr)) = BitVec.ofNat 32 (zAt I (t.val + 1)) := by
    have e1 : Scalar.addi (BitVec.ofNat 32 (zAt I t.val)) 1#32 = BitVec.ofNat 32 (zAt I t.val + 1) := w_add (b := 1)
    rw [e1, w_min (by omega) (by omega)]
    congr 1
    show min (min t.val (160 - I.nr) + 1) (160 - I.nr) = min (t.val + 1) (160 - I.nr)
    omega
  have o119 : k0_off119 (BitVec.ofNat 32 I.nr) t = ![(t.val - 4) % 4] ∨ t.val < 4 := by
    by_cases h : t.val < 4
    · exact .inr h
    · left
      show ![(Scalar.remsi (Scf.iv 0#32 1#32 t) 4#32).toNat] = _
      rw [es]; congr 1; omega
  unfold k0_t11_body
  iintro ⟨%ha, HRd, ⟨⟨S0, S1, S2, S3⟩, ⟨O0, O1, O2, O3⟩⟩, HSc, HZ, HD, HR, HO⟩
  subst ha
  iapply (wp_seq c)
  iapply (part159_wp c (I := I) ok (BitVec.ofNat 32 (160 - I.nr)) hw14 t ht (z := zAt I t.val) rfl qt hf hfZ hw15 hw22) $$ [HRd S0 S3 HZ HR HO]
  · isplitl [HRd]; · iexact HRd
    isplitl [S3]; · iexact S3
    isplitl [S0]; · iexact S0
    isplitl [HZ]; · iexact HZ
    isplitl [HR]; · iexact HR
    iexact HO
  iintro ⟨⟨HF, HT, HL, HP⟩, S3, ⟨%fI, %hfI, HI⟩, HS, HZ, HR, HO⟩
  dsimp only
  by_cases h6 : 4 ≤ t.val
  on_goal 2 =>
    iapply (wp_if_neg c (fun h => h6 ((cond6 ht').mp h)))
    ihave O0 := (entails_of_eq (outSt_free c (I := I) (show t.val < 4 by omega))) $$ O0
    have ed : t.val - 4 = t.val + 1 - 4 := by omega
    rw [ed]
  on_goal 1 =>
    have o119' := o119.resolve_right (by omega)
    iapply (wp_if_pos c ((cond6 ht').mpr h6))
    ihave O0 := (entails_of_eq (outSt_fly c (I := I) (show ¬ t.val < 4 by omega))) $$ O0
    iapply (out_wait c (I := I) (r := t.val - 4) (by omega) rfl rfl o119' o119') $$ [O0 HO]
    · isplitl [O0]; · iexact O0
      iexact HO
    iintro ⟨HD1, O0, HO⟩
    have ed : t.val - 4 + 1 = t.val + 1 - 4 := by omega
    have eslot : slotF (t.val - 4) = slotF t.val := slot_same (by omega)
    rw [ed, eslot]
    ihave HD := (done_join c (I := I) (Nat.zero_le (t.val - 4)) (show t.val - 4 ≤ t.val + 1 - 4 by omega)) $$ [HD HD1]
    · isplitl [HD]; · iexact HD
      iexact HD1
  all_goals
    icases O0 with ⟨HOS, ⟨%fw, HW⟩⟩
    iapply (wp_loop c _ _ _ _ _ (fun p _ => Conv c I (I.ord t.val) (t.val % 4) qt fS fI p) (t16_trips W).1
      (fun k a hk => t16_step c W _ hw14 _ t hw22 ht' rfl qt hfS hfI k a hk)) $$ [HT HL HI HSc HW]
    · isplitl [HT]; · iexact HT
      isplitl [HL]; · iexact HL
      isplitl [HI]; · iexact HI
      isplitl [HSc]; · iexact HSc
      iexists fw
      isplitr
      · ipureintro
        intro x _ hx
        exact absurd hx (by omega)
      iexact HW
    iintro %a1 ⟨HT, HL, HI, HSc, HW⟩
    iapply (wp_none c _ _ _ _ _ (t17_trips W).1)
    iintro %a2
    iapply (wp_loop c _ _ _ _ _ (fun p _ => Pad c I (I.ord t.val) (t.val % 4) (I.pages (I.ord t.val) + p)) (t18_trips W).1
      (fun k a hk => t18_step c W _ hw14 _ t hw22 ht' rfl _ rfl k a hk)) $$ [HW]
    · iexact HW
    iintro %a3 HW
    have e8 : I.pages (I.ord t.val) + (8 - I.pages (I.ord t.val)) = 8 := by omega
    rw [e8]
    icases HW with ⟨%fw2, %hfw2, HW⟩
    iapply (wp_none c _ _ _ _ _ (t19_trips W).1)
    iintro %a4
    ihave HR := (raw_front c (I := I) (show t.val < 160 - min (t.val + 1) (160 - I.nr) by omega) ht') $$ HR
    icases HR with ⟨HB, HR⟩
    have o895 : k0_off895 (BitVec.ofNat 32 I.nr) t = ![t.val % 4] := by
      show ![(Scalar.remsi (Scf.iv 0#32 1#32 t) 4#32).toNat] = _
      rw [es]
    have o897 : k0_off897 (BitVec.ofNat 32 I.nr) t = ![t.val % 4, 0, 0, 0, 0] := by
      show ![(Scalar.remsi (Scf.iv 0#32 1#32 t) 4#32).toNat, 0, 0, 0, 0] = _
      rw [es]
    have o898 : k0_off898 (BitVec.ofNat 32 I.nr) t = ![t.val % 4, 1, 0, 0, 0] := by
      show ![(Scalar.remsi (Scf.iv 0#32 1#32 t) 4#32).toNat, 1, 0, 0, 0] = _
      rw [es]
    iapply (out_send c (I := I) (r := t.val) ht' o895 (out_off' rfl hB) o897 o895 (out_off' rfl hB) o898 fw2 hfw2) $$ [HOS HW HB]
    · isplitl [HOS]; · iexact HOS
      isplitl [HW]; · iexact HW
      iexact HB
    iintro O4
    iapply (step_pure c)
    isplitr; · ipureintro; exact ez
    isplitl [HF HT HL HP]
    · isplitl [HF]; · iexact HF
      isplitl [HT]; · iexact HT
      isplitl [HL]; · iexact HL
      iexact HP
    isplitl [S1 S2 S3 HS HI O1 O2 O3 O4]
    · isplitl [S1 S2 S3 HS HI]
      · isplitl [S1]; · iexact S1
        isplitl [S2]; · iexact S2
        isplitl [S3]; · iexact S3
        have e4 : slotF (t.val + 1 + 3) = slotF t.val := slot_same (by omega)
        rw [e4]
        isplitl [HS]; · iexact HS
        iexists fI
        iexact HI
      · isplitl [O1]; · iexact O1
        isplitl [O2]; · iexact O2
        isplitl [O3]; · iexact O3
        have e5 : t.val + 1 + 3 - 4 = t.val := by omega
        rw [outSt_fly c (I := I) (show ¬ t.val + 1 + 3 < 4 by omega), e5]
        iexact O4
    isplitl [HSc]; · iexact HSc
    isplitl [HZ]; · iexact HZ
    isplitl [HD]; · iexact HD
    isplitl [HR]; · iexact HR
    iexact HO

end Cert.Proof.Pages
-- ==== Proof.Tail.lean ====
module

public import proofs.«01_k».proof.Proof.Step
public import proofs.«01_k».proof.Proof.Stage
public import proofs.«01_k».proof.Proof.Prep

@[expose] public section

noncomputable section

/-! # The middle of the kernel -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F}

theorem done_nil (r : ℕ) : (iprop(emp) : sProp (MM F)) ⊢ Done c I r r := by
  have e : cells I r r = ∅ := by ext x; rw [mem_cells]; simp only [Finset.notMem_empty, iff_false]; omega
  unfold Done
  rw [e, pointsTo_empty, pointsTo_empty]
  iintro -
  isplitl
  · iempintro
  · iempintro

theorem t29_step (hn : I.nr ≤ 160) {z : ℕ} (hz : z + I.nr ≤ 160) (hw14 : k0_chk14 (BitVec.ofNat 32 I.nr)) (v10 : BitVec 32) (hw35 : k0_chk35 (BitVec.ofNat 32 I.nr) (BitVec.ofNat 32 z))
    {f : COrd} (hf : OrdOk I f) {fZ : CZero F} (hfZ : ∀ x, fZ x = FloatOps.ofBits .bf16 0#16)
    (k : Fin (k0_t29_loop (BitVec.ofNat 32 I.nr) (BitVec.ofNat 32 z)).trips) (a : BitVec 32) (hk : k.val < 160 - I.nr - z) :
    iprop(((lOrder c) ↦[Finset.univ]{fullShare} f) ∗ ZeroSt c I fZ (z + k.val) 0 ∗ Raw c I I.nr (160 - (z + k.val)))
      ⊢ WP c (k0_t29_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 (BitVec.ofNat 32 I.nr) hw14 v10 (BitVec.ofNat 32 z) hw35 k a)
          (fun _ => iprop(((lOrder c) ↦[Finset.univ]{fullShare} f) ∗ ZeroSt c I fZ (z + (k.val + 1)) 0 ∗ Raw c I I.nr (160 - (z + (k.val + 1))))) := by
  have hB := I.ord_lt (show 159 - (z + k.val) < 160 by omega)
  have o : k0_off1703 (BitVec.ofNat 32 I.nr) (BitVec.ofNat 32 z) k = ![159 - (z + k.val)] := by
    show ![(Scalar.subi 159#32 (Scf.iv (BitVec.ofNat 32 z) 1#32 k)).toNat] = _
    have e : Scalar.subi 159#32 (BitVec.ofNat 32 (z + k.val)) = BitVec.ofNat 32 (159 - (z + k.val)) := w_sub (by omega)
    rw [w_iv, e, w_nat (by omega)]
  unfold k0_t29_body
  iintro ⟨HF, HZ, HR⟩
  iapply (step_ord c o f) $$ HF
  iintro HF
  rw [hf _ (by omega)]
  iapply (step_assume c (chk36 hB))
  iapply (zero_step c (I := I) (z := z + k.val) (lo := I.nr) (by omega) le_rfl (out_off rfl hB) (out_off rfl hB) hfZ) $$ [HZ HR]
  · isplitl [HZ]; · iexact HZ
    iexact HR
  iintro ⟨HZ, HR⟩
  iapply (step_pure c)
  isplitl [HF]; · iexact HF
  isplitl [HZ]; · iexact HZ
  iexact HR

/-- What is left of the kernel's holdings after `part314`. -/
abbrev Late (c : Dev nD) (I : Inp F) (qt : PosShare TreeShare) (f : COrd) (fZ : CZero F) : sProp (MM F) :=
  iprop(Reads c I qt f ∗ Ring c I I.nr ∗ (∃ fS : CScales F, (lScales c) ↦[Finset.univ]{fullShare} fS) ∗ ZeroSt c I fZ (160 - I.nr) 0
    ∗ Done c I 0 (I.nr - 4) ∗ (∃ W, owes (c : Thread nD τ) 0 W)
    ∗ (∃ fg : CStage F, (lStage c) ↦[stagePart 0]{fullShare} fg) ∗ (∃ fg : CStage F, (lStage c) ↦[stagePart 1]{fullShare} fg)
    ∗ semVal ((c : Thread nD τ), .dma stSem0) 0 ∗ semVal ((c : Thread nD τ), .dma stSem1) 0)

set_option maxHeartbeats 2000000 in
theorem part314_wp (ok : I.Ok) (hw14 : k0_chk14 (BitVec.ofNat 32 I.nr))
    (qt : PosShare TreeShare) {f : COrd} (hf : OrdOk I f) {fZ : CZero F} (hfZ : ∀ x, fZ x = FloatOps.ofBits .bf16 0#16) {Q : _ → sProp (MM F)} :
    iprop(Reads c I qt f ∗ Ring c I 0 ∗ (∃ fS : CScales F, (lScales c) ↦[Finset.univ]{fullShare} fS) ∗ ZeroSt c I fZ 0 0 ∗ Raw c I 0 160
        ∗ StFly c I 0 stSem0 ∗ StFly c I 1 stSem1 ∗ (∃ W, owes (c : Thread nD τ) 0 W))
      ⊢ iprop((∀ v46 v50, Late c I qt f fZ -∗ Q ⟨v46, 0#32, v50⟩)
        -∗ WP c (k0_part314 (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 (BitVec.ofNat 32 I.nr) hw14 (BitVec.ofNat 32 (160 - I.nr))) Q) := by
  have hn := I.nr_le
  rw [k0_part314_eq_skeleton]
  unfold k0_part314_skel
  iintro ⟨HRd, HG, ⟨%fS, HSc⟩, HZ, HR, HA, HB, HO⟩ Hk
  iapply (stage_wait c (I := I) (i := 0) rfl) $$ [HA HO]
  · isplitl [HA]; · iexact HA
    iexact HO
  iintro ⟨HA, HSA, HO⟩
  iapply (wp_loop c _ _ _ _ _ (fun p _ => Packing c I 0 (fun _ _ _ => False) p) t9_trips
    (fun k a hk => t9_step c _ hw14 _ _ k a)) $$ [HA HSc]
  · isplitl [HA]; · iexact HA
    iexists fS
    isplitr
    · ipureintro
      rintro x _ (h | ⟨_, h⟩)
      · exact h.elim
      · exact absurd h (Nat.not_lt_zero _)
    iexact HSc
  iintro %a1 ⟨⟨%fg0, %hg0, HA⟩, HSc⟩
  iapply (stage_wait c (I := I) (i := 1) rfl) $$ [HB HO]
  · isplitl [HB]; · iexact HB
    iexact HO
  iintro ⟨HB, HSB, HO⟩
  iapply (wp_loop c _ _ _ _ _ (fun p _ => Packing c I 1 (fun i₁ c₁ h₁ => False ∨ (i₁ = 0 ∧ h₁ < 64)) p) t10_trips
    (fun k a hk => t10_step c _ hw14 _ _ k a)) $$ [HB HSc]
  · isplitl [HB]; · iexact HB
    icases HSc with ⟨%f1, %hf1, HSc⟩
    iexists f1
    isplitr
    · ipureintro
      refine hf1.mono fun i c h _ _ _ hd => ?_
      rcases hd with h | ⟨_, h⟩
      · exact h
      · exact absurd h (Nat.not_lt_zero _)
    iexact HSc
  iintro %a2 ⟨⟨%fg1, %hg1, HB⟩, ⟨%f2, %hf2, HSc⟩⟩
  have hfS : ScalesOk I f2 := fun x hx => by
    have h2 : (x 2).val < 1024 := (x 2).isLt
    have h0 : (x 0).val < 2 := (x 0).isLt
    refine hf2 x hx ?_
    by_cases h : (x 0).val = 0
    · exact .inl (.inr ⟨h, by omega⟩)
    · exact .inr ⟨by omega, by omega⟩
  have h11 := (t11_trips hn).1
  have z0 : zAt I 0 = 0 := Nat.zero_min _
  have zn : zAt I I.nr + I.nr ≤ 160 := by have : zAt I I.nr ≤ 160 - I.nr := min_le_right _ _; omega
  iapply (wp_loop c _ _ _ _ _ (fun p a => Main c I qt f f2 fZ p a) h11
    (fun k a hk => t11_step c ok hw14 k a hk qt hf hfS hfZ)) $$ [HRd HG HSc HZ HR HO]
  · isplitr
    · ipureintro; rw [z0]
    rw [z0]
    isplitl [HRd]; · iexact HRd
    isplitl [HG]; · iexact HG
    isplitl [HSc]; · iexact HSc
    isplitl [HZ]; · iexact HZ
    isplitr
    · iapply (done_nil c (I := I) 0)
      iempintro
    isplitl [HR]; · iexact HR
    iexact HO
  iintro %a3 ⟨%ha3, ⟨HF, HT, HL, HP⟩, HG, HSc, HZ, HD, HR, HO⟩
  subst ha3
  iapply (wp_loop c _ _ _ _ _ (fun p a => iprop(⌜a = BitVec.ofNat 32 (zAt I I.nr)⌝)) (t20_trips hn).1
    (fun k a hk => absurd hk (Nat.not_lt_zero _))) $$ []
  · ipureintro; rfl
  iintro %a4 %ha4
  subst ha4
  have hw35 := chk35 (n := I.nr) zn
  iapply (step_assume c hw35)
  iapply (wp_loop c _ _ _ _ _ (fun p _ => iprop(((lOrder c) ↦[Finset.univ]{fullShare} f) ∗ ZeroSt c I fZ (zAt I I.nr + p) 0 ∗ Raw c I I.nr (160 - (zAt I I.nr + p)))) (t29_trips hn zn).1
    (fun k a hk => t29_step c hn zn hw14 _ hw35 hf hfZ k a hk)) $$ [HF HZ HR]
  · isplitl [HF]; · iexact HF
    isplitl [HZ]; · iexact HZ
    iexact HR
  iintro %a5 ⟨HF, HZ, HR⟩
  iapply (wp_none c _ _ _ _ _ (t30_trips hn zn).1)
  iintro %a6
  iapply (step_pure c)
  have e : zAt I I.nr + (160 - I.nr - zAt I I.nr) = 160 - I.nr := by omega
  rw [e]
  iapply Hk
  isplitl [HF HT HL HP]
  · isplitl [HF]; · iexact HF
    isplitl [HT]; · iexact HT
    isplitl [HL]; · iexact HL
    iexact HP
  isplitl [HG]; · iexact HG
  isplitl [HSc]; · iexists f2; iexact HSc
  isplitl [HZ]; · iexact HZ
  isplitl [HD]; · iexact HD
  isplitl [HO]; · iexact HO
  isplitl [HA]; · iexists fg0; iexact HA
  isplitl [HB]; · iexists fg1; iexact HB
  isplitl [HSA]; · iexact HSA
  iexact HSB

end Cert.Proof.Pages
-- ==== Proof.Fin.lean ====
module

public import proofs.«01_k».proof.Proof.Step
public import proofs.«01_k».proof.Proof.Pack

@[expose] public section

noncomputable section

/-! # The waits at the end of the kernel -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F}

/-- Four consecutive slots are all of them. -/
theorem ring_all (Φ : Fin 4 → sProp (MM F)) (n : ℕ) :
    iprop(Φ (slotF n) ∗ Φ (slotF (n + 1)) ∗ Φ (slotF (n + 2)) ∗ Φ (slotF (n + 3))) ⊢ iprop(Φ 0 ∗ Φ 1 ∗ Φ 2 ∗ Φ 3) := by
  have hm : n % 4 < 4 := Nat.mod_lt _ (by decide)
  have e : ∀ i : ℕ, slotF (n + i) = slotF (n % 4 + i) := fun i => slot_same (by omega)
  have e0 := e 0
  rw [Nat.add_zero] at e0
  rw [e0, e 1, e 2, e 3]
  generalize n % 4 = m at hm
  match m, hm with
  | 0, _ =>
    show iprop(Φ 0 ∗ Φ 1 ∗ Φ 2 ∗ Φ 3) ⊢ _
    iintro ⟨A, B, C, D⟩
    isplitl [A]; · iexact A
    isplitl [B]; · iexact B
    isplitl [C]; · iexact C
    iexact D
  | 1, _ =>
    show iprop(Φ 1 ∗ Φ 2 ∗ Φ 3 ∗ Φ 0) ⊢ _
    iintro ⟨A, B, C, D⟩
    isplitl [D]; · iexact D
    isplitl [A]; · iexact A
    isplitl [B]; · iexact B
    iexact C
  | 2, _ =>
    show iprop(Φ 2 ∗ Φ 3 ∗ Φ 0 ∗ Φ 1) ⊢ _
    iintro ⟨A, B, C, D⟩
    isplitl [C]; · iexact C
    isplitl [D]; · iexact D
    isplitl [A]; · iexact A
    iexact B
  | 3, _ =>
    show iprop(Φ 3 ∗ Φ 0 ∗ Φ 1 ∗ Φ 2) ⊢ _
    iintro ⟨A, B, C, D⟩
    isplitl [B]; · iexact B
    isplitl [C]; · iexact C
    isplitl [D]; · iexact D
    iexact A

/-- Two pieces of a buffer, holding anything, together. -/
theorem any_join {ℓ : Loc nD τ sig} {A B C : Finset (Idx ℓ)} (h : Disjoint A B) (e : A ∪ B = C) :
    iprop((∃ f : Buf (Elt F) ℓ, ℓ ↦[A]{fullShare} f) ∗ (∃ f : Buf (Elt F) ℓ, ℓ ↦[B]{fullShare} f)) ⊢ (iprop(∃ f : Buf (Elt F) ℓ, ℓ ↦[C]{fullShare} f) : sProp (MM F)) := by
  subst e
  iintro ⟨⟨%f, HA⟩, ⟨%g, HB⟩⟩
  iexists (B.piecewise g f)
  iapply (pointsTo_join (f := f) (g := g) h)
  isplitl [HA]; · iexact HA
  iexact HB
theorem any_split {ℓ : Loc nD τ sig} {A B C : Finset (Idx ℓ)} (h : Disjoint A B) (e : A ∪ B = C) :
    (iprop(∃ f : Buf (Elt F) ℓ, ℓ ↦[C]{fullShare} f) : sProp (MM F)) ⊢ iprop((∃ f : Buf (Elt F) ℓ, ℓ ↦[A]{fullShare} f) ∗ (∃ f : Buf (Elt F) ℓ, ℓ ↦[B]{fullShare} f)) := by
  subst e
  iintro ⟨%f, H⟩
  ihave H := ((pointsTo_union (ℓ := ℓ) (q := fullShare) (f := f) h).1) $$ H
  icases H with ⟨HA, HB⟩
  isplitl [HA]
  · iexists f; iexact HA
  · iexists f; iexact HB

section
variable {ℓ : Loc nD τ sig} {S : ℕ → Finset (Idx ℓ)} (hS : ∀ a b, a < b → Disjoint (S a) (S b)) (hU : S 0 ∪ (S 1 ∪ (S 2 ∪ S 3)) = Finset.univ)
include hS hU
theorem four_split : (iprop(∃ f : Buf (Elt F) ℓ, ℓ ↦[Finset.univ]{fullShare} f) : sProp (MM F))
    ⊢ iprop((∃ f : Buf (Elt F) ℓ, ℓ ↦[S 0]{fullShare} f) ∗ (∃ f : Buf (Elt F) ℓ, ℓ ↦[S 1]{fullShare} f) ∗ (∃ f : Buf (Elt F) ℓ, ℓ ↦[S 2]{fullShare} f) ∗ (∃ f : Buf (Elt F) ℓ, ℓ ↦[S 3]{fullShare} f)) := by
  have d2 : Disjoint (S 2) (S 3) := hS 2 3 (by decide)
  have d1 : Disjoint (S 1) (S 2 ∪ S 3) := Finset.disjoint_union_right.mpr ⟨hS 1 2 (by decide), hS 1 3 (by decide)⟩
  have d0 : Disjoint (S 0) (S 1 ∪ (S 2 ∪ S 3)) := Finset.disjoint_union_right.mpr ⟨hS 0 1 (by decide), Finset.disjoint_union_right.mpr ⟨hS 0 2 (by decide), hS 0 3 (by decide)⟩⟩
  iintro H
  ihave H := (any_split (F := F) d0 hU) $$ H
  icases H with ⟨A, H⟩
  ihave H := (any_split (F := F) d1 rfl) $$ H
  icases H with ⟨B, H⟩
  ihave H := (any_split (F := F) d2 rfl) $$ H
  icases H with ⟨C, D⟩
  isplitl [A]; · iexact A
  isplitl [B]; · iexact B
  isplitl [C]; · iexact C
  iexact D
theorem four_join : iprop((∃ f : Buf (Elt F) ℓ, ℓ ↦[S 0]{fullShare} f) ∗ (∃ f : Buf (Elt F) ℓ, ℓ ↦[S 1]{fullShare} f) ∗ (∃ f : Buf (Elt F) ℓ, ℓ ↦[S 2]{fullShare} f) ∗ (∃ f : Buf (Elt F) ℓ, ℓ ↦[S 3]{fullShare} f))
    ⊢ (iprop(∃ f : Buf (Elt F) ℓ, ℓ ↦[Finset.univ]{fullShare} f) : sProp (MM F)) := by
  have d2 : Disjoint (S 2) (S 3) := hS 2 3 (by decide)
  have d1 : Disjoint (S 1) (S 2 ∪ S 3) := Finset.disjoint_union_right.mpr ⟨hS 1 2 (by decide), hS 1 3 (by decide)⟩
  have d0 : Disjoint (S 0) (S 1 ∪ (S 2 ∪ S 3)) := Finset.disjoint_union_right.mpr ⟨hS 0 1 (by decide), Finset.disjoint_union_right.mpr ⟨hS 0 2 (by decide), hS 0 3 (by decide)⟩⟩
  iintro ⟨A, B, C, D⟩
  iapply (any_join (F := F) d0 hU)
  isplitl [A]; · iexact A
  iapply (any_join (F := F) d1 rfl)
  isplitl [B]; · iexact B
  iapply (any_join (F := F) d2 rfl)
  isplitl [C]; · iexact C
  iexact D
end

theorem inSlot_disj (a b : ℕ) (h : a < b) : Disjoint (inSlot a) (inSlot b) :=
  Finset.disjoint_left.mpr fun x h1 h2 => by rw [mem_inSlot] at h1 h2; omega
theorem inSlot_all : inSlot 0 ∪ (inSlot 1 ∪ (inSlot 2 ∪ inSlot 3)) = Finset.univ := by
  ext x
  have h : (x 0).val < 4 := (x 0).isLt
  simp only [Finset.mem_union, mem_inSlot, Finset.mem_univ, iff_true]
  omega
theorem wordSlot_disj (a b : ℕ) (h : a < b) : Disjoint (wordSlot a) (wordSlot b) :=
  Finset.disjoint_left.mpr fun x h1 h2 => by rw [mem_wordSlot] at h1 h2; omega
theorem wordSlot_all : wordSlot 0 ∪ (wordSlot 1 ∪ (wordSlot 2 ∪ wordSlot 3)) = Finset.univ := by
  ext x
  have h : (x 0).val < 4 := (x 0).isLt
  simp only [Finset.mem_union, mem_wordSlot, Finset.mem_univ, iff_true]
  omega
theorem stage_disj : Disjoint (stagePart 0) (stagePart 1) :=
  Finset.disjoint_left.mpr fun x h1 h2 => by rw [mem_stagePart] at h1 h2; omega
theorem stage_all : stagePart 0 ∪ stagePart 1 = Finset.univ := by
  ext x
  have h : (x 0).val < 2 := (x 0).isLt
  simp only [Finset.mem_union, mem_stagePart, Finset.mem_univ, iff_true]
  omega

/-- The word slots while the last transfers are waited for: `p` of them are back. -/
def OutW (c : Dev nD) (I : Inp F) (p e : ℕ) : sProp (MM F) := if e < I.nr - 4 + 4 + p then OutFree c (slotF e) else OutFly c I (e - 4)

theorem outW_start : iprop(OutSt c I I.nr ∗ OutSt c I (I.nr + 1) ∗ OutSt c I (I.nr + 2) ∗ OutSt c I (I.nr + 3)) ⊢ bigSep (Finset.Ico I.nr (I.nr + 4)) (OutW c I 0) := by
  have e : ∀ i, i < 4 → OutSt c I (I.nr + i) = OutW c I 0 (I.nr + i) := fun i hi => by
    unfold OutSt OutW
    by_cases h : I.nr + i < 4
    · rw [if_pos h, if_pos (by omega)]
    · rw [if_neg h, if_neg (by omega)]
  have e0 := e 0 (by decide)
  rw [Nat.add_zero] at e0
  rw [e0, e 1 (by decide), e 2 (by decide), e 3 (by decide), bigSep_Ico_succ_bot (by omega), bigSep_Ico_succ_bot (by omega), bigSep_Ico_succ_bot (by omega), bigSep_Ico_succ_bot (by omega)]
  iintro ⟨A, B, C, D⟩
  isplitl [A]; · iexact A
  isplitl [B]; · iexact B
  isplitl [C]; · iexact C
  isplitl [D]; · iexact D
  rw [Finset.Ico_self, BI.bigSep_empty]
  iempintro
theorem outW_end : bigSep (Finset.Ico I.nr (I.nr + 4)) (OutW c I (I.nr - (I.nr - 4))) ⊢ iprop(OutFree (F := F) c 0 ∗ OutFree c 1 ∗ OutFree c 2 ∗ OutFree c 3) := by
  have e : ∀ i ∈ Finset.Ico I.nr (I.nr + 4), OutW c I (I.nr - (I.nr - 4)) i = OutFree c (slotF i) := fun i hi => by
    rw [Finset.mem_Ico] at hi
    unfold OutW
    rw [if_pos (by omega)]
  rw [bigSep_congr e, bigSep_Ico_succ_bot (by omega), bigSep_Ico_succ_bot (by omega), bigSep_Ico_succ_bot (by omega), bigSep_Ico_succ_bot (by omega)]
  iintro ⟨A, B, C, D, -⟩
  iapply (ring_all (F := F) (fun s => OutFree c s) I.nr)
  isplitl [A]; · iexact A
  isplitl [B]; · iexact B
  isplitl [C]; · iexact C
  iexact D

/-- Waiting for the last transfers of the results. -/
theorem t31_step (hn : I.nr ≤ 160) (hw14 : k0_chk14 (BitVec.ofNat 32 I.nr)) (k : Fin (k0_t31_loop (BitVec.ofNat 32 I.nr)).trips) (a : BitVec 32) (hk : k.val < I.nr - (I.nr - 4)) :
    iprop(bigSep (Finset.Ico I.nr (I.nr + 4)) (OutW c I k.val) ∗ Done c I 0 (I.nr - 4 + k.val) ∗ (∃ W, owes (c : Thread nD τ) 0 W))
      ⊢ WP c (k0_t31_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 (BitVec.ofNat 32 I.nr) hw14 k a)
          (fun _ => iprop(bigSep (Finset.Ico I.nr (I.nr + 4)) (OutW c I (k.val + 1)) ∗ Done c I 0 (I.nr - 4 + (k.val + 1)) ∗ (∃ W, owes (c : Thread nD τ) 0 W))) := by
  have hmem : I.nr - 4 + k.val + 4 ∈ Finset.Ico I.nr (I.nr + 4) := by rw [Finset.mem_Ico]; omega
  have o : k0_off1707 (BitVec.ofNat 32 I.nr) k = ![(I.nr - 4 + k.val) % 4] := by
    show ![(Scalar.remsi (Scf.iv (Scalar.maxsi (Scalar.subi (BitVec.ofNat 32 I.nr) 4#32) 0#32) 1#32 k) 4#32).toNat] = _
    rw [v_tail hn, w_iv, w_rem (by omega) (by omega) (by omega), w_nat (by omega)]
  have e1 : OutW c I k.val (I.nr - 4 + k.val + 4) = OutFly c I (I.nr - 4 + k.val) := by
    unfold OutW
    rw [if_neg (by omega), Nat.add_sub_cancel]
  have e2 : OutW c I (k.val + 1) (I.nr - 4 + k.val + 4) = OutFree c (slotF (I.nr - 4 + k.val)) := by
    unfold OutW
    rw [if_pos (by omega), slot_same (show (I.nr - 4 + k.val + 4) % 4 = (I.nr - 4 + k.val) % 4 by omega)]
  have e3 : ∀ i ∈ (Finset.Ico I.nr (I.nr + 4)).erase (I.nr - 4 + k.val + 4), OutW c I (k.val + 1) i = OutW c I k.val i := fun i hi => by
    have hne := Finset.ne_of_mem_erase hi
    unfold OutW
    by_cases h : i < I.nr - 4 + 4 + k.val
    · rw [if_pos h, if_pos (by omega)]
    · rw [if_neg h, if_neg (by omega)]
  have he : ∀ Φ : ℕ → sProp (MM F), bigSep (Finset.Ico I.nr (I.nr + 4)) Φ = iprop(Φ (I.nr - 4 + k.val + 4) ∗ bigSep ((Finset.Ico I.nr (I.nr + 4)).erase (I.nr - 4 + k.val + 4)) Φ) := fun Φ => bigSep_erase hmem
  rw [he (OutW c I k.val), he (OutW c I (k.val + 1)), bigSep_congr e3, e1, e2]
  unfold k0_t31_body
  iintro ⟨⟨HB, HR⟩, HD, HO⟩
  iapply (out_wait c (I := I) (r := I.nr - 4 + k.val) (by omega) rfl rfl o o) $$ [HB HO]
  · isplitl [HB]; · iexact HB
    iexact HO
  iintro ⟨HD1, HB, HO⟩
  iapply (step_pure c)
  isplitl [HB HR]
  · isplitl [HB]; · iexact HB
    iexact HR
  isplitl [HD HD1]
  · iapply (done_join c (I := I) (Nat.zero_le _) (show I.nr - 4 + k.val ≤ I.nr - 4 + (k.val + 1) by omega))
    isplitl [HD]; · iexact HD
    iexact HD1
  iexact HO

/-- Waiting for the zero blocks. -/
theorem t33_step (hw14 : k0_chk14 (BitVec.ofNat 32 I.nr)) {fZ : CZero F} (k : Fin (k0_t33_loop (BitVec.ofNat 32 I.nr)).trips) (a : BitVec 32) (hk : k.val < 160 - I.nr) :
    iprop(ZeroSt c I fZ (160 - I.nr) (2 * k.val * NOut) ∗ (∃ W, owes (c : Thread nD τ) 0 W))
      ⊢ WP c (k0_t33_body (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 (BitVec.ofNat 32 I.nr) hw14 k a)
          (fun _ => iprop(ZeroSt c I fZ (160 - I.nr) (2 * (k.val + 1) * NOut) ∗ (∃ W, owes (c : Thread nD τ) 0 W))) := by
  unfold k0_t33_body
  iintro H
  iapply (zero_wait c (I := I) rfl rfl hk) $$ H
  iintro H
  iapply (step_pure c)
  iexact H

end Cert.Proof.Pages
-- ==== Proof.Kern.lean ====
module

public import proofs.«01_k».proof.Proof.Head
public import proofs.«01_k».proof.Proof.Tail
public import proofs.«01_k».proof.Proof.Fin

@[expose] public section

noncomputable section

/-! # The whole kernel -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (c : Dev nD) {I : Inp F}

abbrev iSem (c : Dev nD) (s : Fin 4) : sProp (MM F) := semVal ((c : Thread nD τ), .dma (semOf cc0_scratch6 s)) 0
abbrev oSem (c : Dev nD) (s : Fin 4) : sProp (MM F) := semVal ((c : Thread nD τ), .dma (semOf cc0_scratch7 s)) 0
/-- The kernel's own semaphores, at zero. -/
abbrev Sems (c : Dev nD) : sProp (MM F) :=
  iprop((iSem c 0 ∗ iSem c 1 ∗ iSem c 2 ∗ iSem c 3) ∗ (oSem c 0 ∗ oSem c 1 ∗ oSem c 2 ∗ oSem c 3) ∗ semVal ((c : Thread nD τ), .dma cc0_scratch8.sem) 0
    ∗ semVal ((c : Thread nD τ), .dma stSem0) 0 ∗ semVal ((c : Thread nD τ), .dma stSem1) 0)
/-- The kernel's own buffers, holding anything. -/
abbrev Bufs (c : Dev nD) : sProp (MM F) :=
  iprop((∃ f : CIn F, (lIn c) ↦[Finset.univ]{fullShare} f) ∗ (∃ f : CWords, (lWords c) ↦[Finset.univ]{fullShare} f) ∗ (∃ f : CZero F, (lZero c) ↦[Finset.univ]{fullShare} f)
    ∗ (∃ f : CStage F, (lStage c) ↦[Finset.univ]{fullShare} f) ∗ (∃ f : CScales F, (lScales c) ↦[Finset.univ]{fullShare} f) ∗ (∃ f : COrd, (lOrder c) ↦[Finset.univ]{fullShare} f))

theorem raw_all : iprop((∃ f : COut F, (lO0 c) ↦[Finset.univ]{fullShare} f) ∗ (∃ f : COut F, (lO1 c) ↦[Finset.univ]{fullShare} f)) ⊢ Raw c I 0 160 := by
  unfold Raw
  rw [cells_all]
theorem done_all : Done c I 0 160 ⊢ iprop(((lO0 c) ↦[Finset.univ]{fullShare} outVal I 0) ∗ ((lO1 c) ↦[Finset.univ]{fullShare} outVal I 1)) := by
  unfold Done
  rw [cells_all]
theorem zero_back (fZ : CZero F) : (iprop(((lZero c) ↦[Finset.univ]{Transfers.shareDrop fullShare (2 * (160 - I.nr))} fZ) ∗ bigSep (Finset.Ico 0 (2 * (160 - I.nr))) (fun t => ((lZero c) ↦[Finset.univ]{Transfers.shareTokN fullShare t} fZ))) : sProp (MM F))
    ⊢ ((lZero c) ↦[Finset.univ]{fullShare} fZ) := by
  rw [← Finset.range_eq_Ico]
  iintro H
  iapply ((Transfers.pointsTo_toks_range (ℓ := lZero c) (S := Finset.univ) (f := fZ) fullShare (2 * (160 - I.nr))).2)
  iexact H

/-- The words out of flight and the input slots free, as whole buffers and semaphores. -/
theorem words_back : iprop(OutFree (F := F) c 0 ∗ OutFree c 1 ∗ OutFree c 2 ∗ OutFree c 3) ⊢ iprop((oSem c 0 ∗ oSem c 1 ∗ oSem c 2 ∗ oSem c 3) ∗ (∃ f : CWords, (lWords c) ↦[Finset.univ]{fullShare} f)) := by
  iintro ⟨⟨S0, W0⟩, ⟨S1, W1⟩, ⟨S2, W2⟩, ⟨S3, W3⟩⟩
  isplitl [S0 S1 S2 S3]
  · isplitl [S0]; · iexact S0
    isplitl [S1]; · iexact S1
    isplitl [S2]; · iexact S2
    iexact S3
  iapply (four_join (F := F) (ℓ := lWords c) (S := wordSlot) wordSlot_disj wordSlot_all)
  isplitl [W0]; · iexact W0
  isplitl [W1]; · iexact W1
  isplitl [W2]; · iexact W2
  iexact W3
theorem in_back : iprop(InFree (F := F) c 0 ∗ InFree c 1 ∗ InFree c 2 ∗ InFree c 3) ⊢ iprop((iSem c 0 ∗ iSem c 1 ∗ iSem c 2 ∗ iSem c 3) ∗ (∃ f : CIn F, (lIn c) ↦[Finset.univ]{fullShare} f)) := by
  iintro ⟨⟨S0, W0⟩, ⟨S1, W1⟩, ⟨S2, W2⟩, ⟨S3, W3⟩⟩
  isplitl [S0 S1 S2 S3]
  · isplitl [S0]; · iexact S0
    isplitl [S1]; · iexact S1
    isplitl [S2]; · iexact S2
    iexact S3
  iapply (four_join (F := F) (ℓ := lIn c) (S := inSlot) inSlot_disj inSlot_all)
  isplitl [W0]; · iexact W0
  isplitl [W1]; · iexact W1
  isplitl [W2]; · iexact W2
  iexact W3

set_option maxHeartbeats 2000000 in
/-- The whole kernel: from the pools, the scales, the table and the lengths, both results hold the gathered rows. -/
theorem kernel_wp (ok : I.Ok) (qt : PosShare TreeShare) {q0 q1 : PosShare TreeShare} {Q : PUnit → sProp (MM F)} :
    iprop(((lTab c) ↦[Finset.univ]{qt} I.tb) ∗ ((lLen c) ↦[Finset.univ]{qt} I.ln) ∗ Pools c I ∗ ((lSK c) ↦[Finset.univ]{q0} I.ks) ∗ ((lSV c) ↦[Finset.univ]{q1} I.vs)
        ∗ ((∃ f : COut F, (lO0 c) ↦[Finset.univ]{fullShare} f) ∗ (∃ f : COut F, (lO1 c) ↦[Finset.univ]{fullShare} f)) ∗ Bufs c ∗ Sems c ∗ (∃ W, owes (c : Thread nD τ) 0 W))
      ⊢ iprop((iprop(((lTab c) ↦[Finset.univ]{qt} I.tb) ∗ ((lLen c) ↦[Finset.univ]{qt} I.ln) ∗ (((lO0 c) ↦[Finset.univ]{fullShare} outVal I 0) ∗ ((lO1 c) ↦[Finset.univ]{fullShare} outVal I 1))
              ∗ Bufs c ∗ Sems c ∗ (∃ W, owes (c : Thread nD τ) 0 W)) -∗ Q ⟨⟩)
        -∗ WP c (cc0_paged_kv_gather (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9) Q) := by
  have hn := I.nr_le
  rw [cc0_paged_kv_gather_eq_skeleton]
  unfold cc0_paged_kv_gather_skel
  iintro ⟨HT, HL, HP, HKA, HKB, HOut, ⟨HI, HW, HZ, HSt, HSc, HF⟩, ⟨⟨I0, I1, I2, I3⟩, ⟨O0, O1, O2, O3⟩, SZ, SA, SB⟩, HO⟩ Hk
  ihave HI := (four_split (F := F) (ℓ := lIn c) (S := inSlot) inSlot_disj inSlot_all) $$ HI
  icases HI with ⟨B0, B1, B2, B3⟩
  ihave HW := (four_split (F := F) (ℓ := lWords c) (S := wordSlot) wordSlot_disj wordSlot_all) $$ HW
  icases HW with ⟨W0, W1, W2, W3⟩
  ihave HSt := (any_split (F := F) (ℓ := lStage c) stage_disj stage_all) $$ HSt
  icases HSt with ⟨HA, HB⟩
  ihave HR := (raw_all c (I := I)) $$ HOut
  iapply (wp_seq c)
  iapply (part313_wp c ok qt (q0 := q0) (q1 := q1)) $$ [HF HT HL HP I0 B0 I1 B1 I2 B2 HZ SA HKA HA SB HKB HB]
  · isplitl [HF]; · iexact HF
    isplitl [HT]; · iexact HT
    isplitl [HL]; · iexact HL
    isplitl [HP]; · iexact HP
    isplitl [I0 B0]
    · isplitl [I0]; · iexact I0
      iexact B0
    isplitl [I1 B1]
    · isplitl [I1]; · iexact I1
      iexact B1
    isplitl [I2 B2]
    · isplitl [I2]; · iexact I2
      iexact B2
    isplitl [HZ]; · iexact HZ
    isplitl [SA HKA HA]
    · isplitl [SA]; · iexact SA
      isplitl [HKA]; · iexact HKA
      iexact HA
    · isplitl [SB]; · iexact SB
      isplitl [HKB]; · iexact HKB
      iexact HB
  iintro %f %fZ %hw14 %hff ⟨⟨HRd, N0, N1, N2⟩, HZ, HA, HB⟩
  obtain ⟨hf, hfZ⟩ := hff
  dsimp only
  imod (zero_start c (I := I) fZ) $$ [SZ HZ] with ⟨HZ, HZd⟩
  · isplitl [SZ]; · iexact SZ
    iexact HZ
  iapply (wp_seq c)
  iapply (part314_wp c ok hw14 qt hf hfZ) $$ [HRd N0 N1 N2 I3 B3 O0 W0 O1 W1 O2 W2 O3 W3 HSc HZ HR HA HB HO]
  · isplitl [HRd]; · iexact HRd
    isplitl [N0 N1 N2 I3 B3 O0 W0 O1 W1 O2 W2 O3 W3]
    · isplitl [N0 N1 N2 I3 B3]
      · isplitl [N0]; · iexact N0
        isplitl [N1]; · iexact N1
        isplitl [N2]; · iexact N2
        isplitl [I3]; · iexact I3
        iexact B3
      · rw [outSt_free c (I := I) (show 0 < 4 by decide), outSt_free c (I := I) (show 0 + 1 < 4 by decide), outSt_free c (I := I) (show 0 + 2 < 4 by decide), outSt_free c (I := I) (show 0 + 3 < 4 by decide)]
        isplitl [O0 W0]
        · isplitl [O0]; · iexact O0
          iexact W0
        isplitl [O1 W1]
        · isplitl [O1]; · iexact O1
          iexact W1
        isplitl [O2 W2]
        · isplitl [O2]; · iexact O2
          iexact W2
        isplitl [O3]; · iexact O3
        iexact W3
    isplitl [HSc]; · iexact HSc
    isplitl [HZ]; · iexact HZ
    isplitl [HR]; · iexact HR
    isplitl [HA]; · iexact HA
    isplitl [HB]; · iexact HB
    iexact HO
  iintro %v46 %v50 ⟨⟨HF, HT, HL, -⟩, ⟨⟨N0, N1, N2, N3⟩, HG⟩, HSc, HZ, HD, HO, HA, HB, SA, SB⟩
  dsimp only
  ihave HG := (outW_start c (I := I)) $$ HG
  iapply (wp_loop c _ _ _ _ _ (fun p _ => iprop(bigSep (Finset.Ico I.nr (I.nr + 4)) (OutW c I p) ∗ Done c I 0 (I.nr - 4 + p) ∗ (∃ W, owes (c : Thread nD τ) 0 W))) (t31_trips hn).1
    (fun k a hk => t31_step c hn hw14 k a hk)) $$ [HG HD HO]
  · isplitl [HG]; · iexact HG
    isplitl [HD]; · iexact HD
    iexact HO
  iintro %a1 ⟨HG, HD, HO⟩
  iapply (wp_none c _ _ _ _ _ (t32_trips hn).1)
  iintro %a2
  iapply (wp_loop c _ _ _ _ _ (fun p _ => iprop(ZeroSt c I fZ (160 - I.nr) (2 * p * NOut) ∗ (∃ W, owes (c : Thread nD τ) 0 W))) (t33_trips hn).1
    (fun k a hk => t33_step c hw14 k a hk)) $$ [HZ HO]
  · isplitl [HZ]
    · rw [Nat.mul_zero, Nat.zero_mul]; iexact HZ
    iexact HO
  iintro %a3 ⟨HZ, HO⟩
  iapply (wp_none c _ _ _ _ _ (t34_trips hn).1)
  iintro %a4
  imod (zero_end c (I := I) fZ) $$ HZ with ⟨HD2, HZt, SZ⟩
  iapply (step_pure c)
  iapply Hk
  have e : I.nr - 4 + (I.nr - (I.nr - 4)) = I.nr := by omega
  rw [e]
  ihave HD := (done_join c (I := I) (Nat.zero_le I.nr) hn) $$ [HD HD2]
  · isplitl [HD]; · iexact HD
    iexact HD2
  ihave HD := (done_all c (I := I)) $$ HD
  ihave HZ := (zero_back c (I := I) fZ) $$ [HZd HZt]
  · isplitl [HZd]; · iexact HZd
    iexact HZt
  ihave HG := (outW_end c (I := I)) $$ HG
  ihave HG := (words_back (F := F) c) $$ HG
  icases HG with ⟨HOS, HW⟩
  ihave N0 := (entails_of_eq (inSt_free c (I := I) (show ¬ I.nr < I.nr by omega))) $$ N0
  ihave N1 := (entails_of_eq (inSt_free c (I := I) (show ¬ I.nr + 1 < I.nr by omega))) $$ N1
  ihave N2 := (entails_of_eq (inSt_free c (I := I) (show ¬ I.nr + 2 < I.nr by omega))) $$ N2
  ihave HN := (ring_all (F := F) (fun s => InFree c s) I.nr) $$ [N0 N1 N2 N3]
  · isplitl [N0]; · iexact N0
    isplitl [N1]; · iexact N1
    isplitl [N2]; · iexact N2
    iexact N3
  ihave HN := (in_back (F := F) c) $$ HN
  icases HN with ⟨HIS, HI⟩
  ihave HSt := (any_join (F := F) (ℓ := lStage c) stage_disj stage_all) $$ [HA HB]
  · isplitl [HA]; · iexact HA
    iexact HB
  isplitl [HT]; · iexact HT
  isplitl [HL]; · iexact HL
  isplitl [HD]; · iexact HD
  isplitl [HI HW HZ HSt HSc HF]
  · isplitl [HI]; · iexact HI
    isplitl [HW]; · iexact HW
    isplitl [HZ]; · iexists fZ; iexact HZ
    isplitl [HSt]; · iexact HSt
    isplitl [HSc]; · iexact HSc
    iexists f; iexact HF
  isplitl [HIS HOS SZ SA SB]
  · isplitl [HIS]; · iexact HIS
    isplitl [HOS]; · iexact HOS
    isplitl [SZ]; · iexact SZ
    isplitl [SA]; · iexact SA
    iexact SB
  iexact HO

end Cert.Proof.Pages
-- ==== Proof.Launch.lean ====
module

public import proofs.«01_k».proof.Proof.Kern
public import proofs.«01_k».proof.Proof.Gen.Kernel.Frame
public import proofs.«01_k».proof.Proof.Gen.Kernel.Launch
public import Idealize.ShloMosaic.Lib.Pipeline.KitQuiescent

@[expose] public section

noncomputable section

/-! # Running the kernel: the data of its one region -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

open Idealize.ShloMosaic.Pipeline (Dat BodyObligation)
variable (m : (ℓ : Loc nD τ sig) → Buf (Elt F) ℓ) (ρ : Dev nD → PrngReg)

/-- The inputs as the kernel finds them on core `c`. -/
def inp (c : Dev nD) : Inp F where
  kp := V m c main_v0
  vp := V m c main_v1
  ks := V m c main_v2
  vs := V m c main_v3
  tb := V m c main_arg4
  ln := V m c main_arg5

abbrev osem : Fin 11 → SemLoc sig := fun k => .dma (⟨2 + k.val, by have := k.isLt; show 2 + k.val < 13; omega⟩ : DmaSem sig)
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp (MM F))
    = iprop(iSem c 0 ∗ iSem c 1 ∗ iSem c 2 ∗ iSem c 3 ∗ oSem c 0 ∗ oSem c 1 ∗ oSem c 2 ∗ oSem c 3
        ∗ semVal ((c : Thread nD τ), .dma cc0_scratch8.sem) 0 ∗ semVal ((c : Thread nD τ), .dma stSem0) 0 ∗ semVal ((c : Thread nD τ), .dma stSem1) 0) := by
  unfold Pipeline.ownSems0
  exact bigSep_univ_eq_bigSepL [(0 : Fin 11), 1, 2, 3, 4, 5, 6, 7, 8, 9, 10] (by decide) (by decide) _
theorem sems_in (c : Dev nD) : (Pipeline.ownSems0 (Ix := Unit) (Name := ℕ) (U := UU nD τ) (Lvl := ℕ) (Val := Elt F) (τ := τ) osem c : sProp (MM F)) ⊢ Sems c := by
  rw [ownSems0_eq]
  iintro ⟨H0, H1, H2, H3, G0, G1, G2, G3, Z, A, B⟩
  isplitl [H0 H1 H2 H3]
  · isplitl [H0]; · iexact H0
    isplitl [H1]; · iexact H1
    isplitl [H2]; · iexact H2
    iexact H3
  isplitl [G0 G1 G2 G3]
  · isplitl [G0]; · iexact G0
    isplitl [G1]; · iexact G1
    isplitl [G2]; · iexact G2
    iexact G3
  isplitl [Z]; · iexact Z
  isplitl [A]; · iexact A
  iexact B
theorem sems_out (c : Dev nD) : Sems c ⊢ (Pipeline.ownSems0 (Ix := Unit) (Name := ℕ) (U := UU nD τ) (Lvl := ℕ) (Val := Elt F) (τ := τ) osem c : sProp (MM F)) := by
  rw [ownSems0_eq]
  iintro ⟨⟨H0, H1, H2, H3⟩, ⟨G0, G1, G2, G3⟩, Z, A, B⟩
  isplitl [H0]; · iexact H0
  isplitl [H1]; · iexact H1
  isplitl [H2]; · iexact H2
  isplitl [H3]; · iexact H3
  isplitl [G0]; · iexact G0
  isplitl [G1]; · iexact G1
  isplitl [G2]; · iexact G2
  isplitl [G3]; · iexact G3
  isplitl [Z]; · iexact Z
  isplitl [A]; · iexact A
  iexact B

/-- The results, as they must be. -/
abbrev Outs (c : Dev nD) : sProp (MM F) :=
  iprop(((lO0 c) ↦[Finset.univ]{fullShare} outVal (inp m c) 0) ∗ ((lO1 c) ↦[Finset.univ]{fullShare} outVal (inp m c) 1))
/-- The pools, the scales and the results' arrays before the run. -/
abbrev Arrs (c : Dev nD) : sProp (MM F) :=
  iprop(Pools c (inp m c) ∗ ((lSK c) ↦[Finset.univ]{fullShare} (inp m c).ks) ∗ ((lSV c) ↦[Finset.univ]{fullShare} (inp m c).vs)
    ∗ ((∃ f : COut F, (lO0 c) ↦[Finset.univ]{fullShare} f) ∗ (∃ f : COut F, (lO1 c) ↦[Finset.univ]{fullShare} f)))
/-- What the region holds before its one point, and after it. -/
def ΦB (c : Dev nD) : sProp (MM F) := iprop(Arrs m c ∗ Bufs c ∗ Sems c)
def ΦA (c : Dev nD) : sProp (MM F) := iprop(Outs m c ∗ Bufs c ∗ Sems c)

abbrev st0 (t : Fin cfg0.N) : Memref sig .tc .smem S5x256 .i32 := win0_0.stage (cfg0.slots t 0)
abbrev st1 (t : Fin cfg0.N) : Memref sig .tc .smem S5 .i32 := win0_1.stage (cfg0.slots t 1)

/-- The region's data. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := if t.val = 0 then ΦB m c else ΦA m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-- The windows are whole arrays, so their blocks are the table and the lengths. -/
theorem emb_0 (t : Fin cfg0.N) (x : S5x256.Idx) : ((cfg0.win 0).blk t).view.emb x = x := by
  obtain rfl := fin_N0 t
  funext a
  refine Fin.ext ?_
  show ((cfg0.win 0).rect t0_0).off a + ((cfg0.win 0).rect t0_0).stride a * (x a).val = (x a).val
  match a with
  | ⟨0, _⟩ => show 0 * _ + 1 * _ = _; omega
  | ⟨1, _⟩ => show 0 * _ + 1 * _ = _; omega
theorem emb_1 (t : Fin cfg0.N) (x : S5.Idx) : ((cfg0.win 1).blk t).view.emb x = x := by
  obtain rfl := fin_N0 t
  funext a
  refine Fin.ext ?_
  show ((cfg0.win 1).rect t0_0).off a + ((cfg0.win 1).rect t0_0).stride a * (x a).val = (x a).val
  match a with
  | ⟨0, _⟩ => show 0 * _ + 1 * _ = _; omega
theorem iblk_0 (c : Dev nD) (t : Fin cfg0.N) : iblk m c 0 t = (inp m c).tb := by
  funext x
  unfold iblk
  rw [View.read_apply]
  exact congrArg (V m c main_arg4) (emb_0 t x)
theorem iblk_1 (c : Dev nD) (t : Fin cfg0.N) : iblk m c 1 t = (inp m c).ln := by
  funext x
  unfold iblk
  rw [View.read_apply]
  exact congrArg (V m c main_arg5) (emb_1 t x)

theorem defs_tc : (defs₀ (F := F)) .tc cfg0.body
    = fun a => cc0_paged_kv_gather (win0_0.stage (a.2 0)) (hstage0_0 0) (win0_1.stage (a.2 1)) (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 := rfl
theorem prog_eq (t : Fin cfg0.N) : (defs₀ (F := F)) .tc cfg0.body (cfg0.bodyArgs t (cfg0.slots t)) = cc0_paged_kv_gather (F := F) mTab (hstage0_0 0) mLen (hstage0_1 0) mK (Memref.isWhole_whole _) mV (Memref.isWhole_whole _) (Memref.whole main_v2) (Memref.isWhole_whole _) (Memref.whole main_v3) (Memref.isWhole_whole _) mO0 (Memref.isWhole_whole _) mO1 (Memref.isWhole_whole _) mOrder (Memref.isWhole_whole _) mIn (Memref.isWhole_whole _) mWords (Memref.isWhole_whole _) mZero (Memref.isWhole_whole _) mStage (Memref.isWhole_whole _) mScales (Memref.isWhole_whole _) cc0_scratch6 cc0_scratch7 cc0_scratch8 cc0_scratch9 :=
  (congrFun defs_tc _).trans rfl

theorem rd_0 (c : Dev nD) (g : Buf (Elt F) (lTab c)) : (st0 t0_0).view.read (Elt F) g = g := by
  show (Memref.whole cc0_stg0_0).view.read (Elt F) g = g
  simp only [Memref.view_whole, View.read_whole]
theorem rd_1 (c : Dev nD) (g : Buf (Elt F) (lLen c)) : (st1 t0_0).view.read (Elt F) g = g := by
  show (Memref.whole cc0_stg1_0).view.read (Elt F) g = g
  simp only [Memref.view_whole, View.read_whole]
theorem set_0 : (st0 t0_0).view.set = Finset.univ := by
  show (Memref.whole cc0_stg0_0).view.set = Finset.univ
  simp only [Memref.view_whole, View.set_whole]
theorem set_1 : (st1 t0_0).view.set = Finset.univ := by
  show (Memref.whole cc0_stg1_0).view.set = Finset.univ
  simp only [Memref.view_whole, View.set_whole]

set_option maxHeartbeats 2000000 in
set_option backward.isDefEq.respectTransparency.types false in
theorem body_obligation (ok : ∀ c, (inp m c).Ok) (c : Dev nD) : BodyObligation (dats m 0 c) (defs₀ (F := F)) 𝒱₀ () Set.univ := fun t => by
  obtain rfl := fin_N0 t
  rw [bigSep_W0, bigSep_W0]
  dsimp only
  simp only [before_w0, before_w1, after_w0, after_w1]
  rw [show (dats m 0 c).Φ t0_0.castSucc = ΦB m c from rfl, show (dats m 0 c).Φ t0_0.succ = ΦA m c from rfl]
  unfold Dat.owesAt Pipeline.owesWithin
  rw [show (dats m 0 c).owed t0_0.castSucc = 0 from rfl, show (dats m 0 c).owed t0_0.succ = 0 from rfl]
  rw [iblk_0, iblk_1]
  unfold owns ΦB ΦA
  iintro ⟨⟨⟨HP, HKA, HKB, HOut⟩, HB, HS⟩, ⟨%W, -, HW⟩, ⟨%d0, %g0, %hg0, H0⟩, ⟨%d1, %g1, %hg1, H1⟩⟩
  have e0 : g0 = (inp m c).tb := (rd_0 c g0).symm.trans hg0
  have e1 : g1 = (inp m c).ln := (rd_1 c g1).symm.trans hg1
  subst e0 e1
  sl_rw [prog_eq (F := F) t0_0]
  iapply (kernel_wp c (I := inp m c) (ok c) fullShare (q0 := fullShare) (q1 := fullShare)) $$ [HP HKA HKB HOut HB HS HW H0 H1]
  · isplitl [H0]; · iexact H0
    isplitl [H1]; · iexact H1
    isplitl [HP]; · iexact HP
    isplitl [HKA]; · iexact HKA
    isplitl [HKB]; · iexact HKB
    isplitl [HOut]; · iexact HOut
    isplitl [HB]; · iexact HB
    isplitl [HS]; · iexact HS
    iexists W; iexact HW
  iintro ⟨H0, H1, HOut, HB, HS, ⟨%W', HW⟩⟩
  isplitl [HOut HB HS]
  · isplitl [HOut]; · iexact HOut
    isplitl [HB]; · iexact HB
    iexact HS
  isplitl [HW]
  · iexists W'; isplitr; · ipureintro; exact fun _ _ => Or.inl trivial
    iexact HW
  isplitl [H0]
  · iexists _; isplitr; · ipureintro; exact hg0
    iexact H0
  iexists _; isplitr; · ipureintro; exact hg1
  iexact H1

/-! ## The run -/

abbrev args4 (c : Dev nD) : sProp (MM F) :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3))
def u₀ : UU nD τ := (initOf (Pipeline.cells cfgs cellOf_inj) (Pipeline.launchToks cfgs cellOf_inj), 1)
/-- What one core's memory holds at the end, beside the windows' arrays. -/
def QY (c : Dev nD) (s : MemSt nD τ sig (Elt F)) : Prop :=
  (s.mem (lO0 c) = outVal (inp m c) 0 ∧ s.mem (lO1 c) = outVal (inp m c) 1)
  ∧ s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_arg3) = V m c main_arg3
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option backward.isDefEq.respectTransparency.types false in
theorem run_main (ok : ∀ c, (inp m c).Ok) : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m ok c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (V := Gen.V m)
    (hmain := Pipeline.hmain_prefix cfgs 0 defs₀ 𝒱₀ m main hostOps0 hostOps0_sub hostOps0_fresh main_chain)
    (hA := fun _ _ => rfl)
    (X := fun c => iprop(Arrs m c ∗ Sems c)) (Y := fun c => Outs m c) (Z := fun c => args4 m c)
    (hX := fun c => by
      rw [unscopedRest0_eq]
      iintro ⟨⟨A0, A1, A2, A3, K, V, S0, S1, O0, O1⟩, HS, -, -, -⟩; imodintro
      isplitr [A0 A1 A2 A3]
      · isplitr [HS]
        · isplitl [K V]
          · isplitl [K]
            · iexists fullShare; iexact K
            iexists fullShare; iexact V
          isplitl [S0]; · iexact S0
          isplitl [S1]; · iexact S1
          isplitl [O0]; · iexists _; iexact O0
          iexists _; iexact O1
        iapply (sems_in c); iexact HS
      isplitl [A0]; · iexact A0
      isplitl [A1]; · iexact A1
      isplitl [A2]; · iexact A2
      iexact A3)
    (hin := fun c => by
      rw [scopedRest0_eq, show (dats m 0 c).Φ 0 = ΦB m c from rfl]
      unfold ΦB
      iintro ⟨⟨HA, HS⟩, HB⟩
      isplitl [HA]; · iexact HA
      isplitl [HB]; · iexact HB
      iexact HS)
    (hout := fun c => by
      rw [scopedRest0_eq, show (dats m 0 c).Φ (Fin.last cfg0.N) = ΦA m c from rfl]
      unfold ΦA
      iintro ⟨HO, HB, HS⟩
      isplitl [HO]; · iexact HO
      isplitl [HS]; · iapply (sems_out c); iexact HS
      iexact HB)
    (QY := QY m)
    (hY := fun c s' => by
      iintro ⟨⟨O0, O1⟩, ⟨A0, A1, A2, A3⟩, HSI⟩
      icombine HSI O0 gives %h0
      icombine HSI O1 gives %h1
      icombine HSI A0 gives %h2
      icombine HSI A1 gives %h3
      icombine HSI A2 gives %h4
      icombine HSI A3 gives %h5
      imodintro
      isplitr
      · ipureintro
        exact ⟨⟨Buf.eq_of_forall_mem_univ h0, Buf.eq_of_forall_mem_univ h1⟩, Buf.eq_of_forall_mem_univ h2, Buf.eq_of_forall_mem_univ h3, Buf.eq_of_forall_mem_univ h4, Buf.eq_of_forall_mem_univ h5⟩
      iexact HSI)
    (hQ := fun _ hh hz => ⟨hh, hz⟩)

/-- Each core ends with both results in place, every argument as launched, and no semaphore raised. -/
theorem run_end (ok : ∀ c, (inp m c).Ok) : θ_run defs (onTc (τ := τ) (main (F := F))) ⟨m, fun _ => 0, ρ⟩ (fun r =>
    (∀ c : Dev nD, (r.2.mem (lO0 c) = outVal (inp m c) 0 ∧ r.2.mem (lO1 c) = outVal (inp m c) 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun r hh => ⟨fun c => by
    obtain ⟨hw, ho, h0, h1, h2, h3⟩ := hh.1 c
    exact ⟨ho, h0.trans (V_main_arg0 m c), h1.trans (V_main_arg1 m c), h2.trans (V_main_arg2 m c), h3.trans (V_main_arg3 m c),
      ((hw 0).trans ((dats m 0 c).arrAt_in 0 rfl _)).trans (V_main_arg4 m c), ((hw 1).trans ((dats m 0 c).arrAt_in 1 rfl _)).trans (V_main_arg5 m c)⟩, hh.2⟩) (run_main m ρ ok)

end Cert.Proof.Pages
-- ==== Proof.Pre.lean ====
module

public import proofs.«01_k».proof.Proof.Launch
public import proofs.«01_k».proof.Defs

@[expose] public section

noncomputable section

/-! # What the precondition says of the page table and the lengths. -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (m : (ℓ : Loc nD τ sig) → Buf (Elt Bits) ℓ)

/-- The precondition bounds the lengths, and the table's pages that a length reaches. -/
theorem range_of_pre [Cert.Pre_in_range.Facts] (h : Cert.Pre_Kernel m) (c : Dev nD) : ∀ (b : Fin 5) (p : Fin 256),
    (((16 * p.val : ℕ) : ℤ) < ((inp m c).ln (ix1 b)).toInt → 0 ≤ ((inp m c).tb (ix2 b p)).toInt ∧ ((inp m c).tb (ix2 b p)).toInt < 1600)
      ∧ ((inp m c).ln (ix1 b)).toInt ≤ 2147483632 := by
  intro b p
  have e := congrFun (h c) (ix2 b p)
  have e4 : (inp m c).tb = m ((c.tc : Thread nD τ).loc main_arg4) := V_main_arg4 m c
  have e5 : (inp m c).ln = m ((c.tc : Thread nD τ).loc main_arg5) := V_main_arg5 m c
  rw [e4, e5]
  simp only [Cert.Pre_in_range.fn, andi, ori, muli, cmpi, iotaInDim, broadcastInDim, constantI] at e
  have hx : ∀ y : S5.Idx, (y 0).val = b.val →
      (m ((c.tc : Thread nD τ).loc main_arg5) (ix1 b) : BitVec 32) = m ((c.tc : Thread nD τ).loc main_arg5) y := by
    intro y hy
    refine congrArg (m ((c.tc : Thread nD τ).loc main_arg5) : S5.Idx → BitVec 32) ?_
    funext a; refine Fin.ext ?_
    match a with
    | ⟨0, _⟩ => exact hy.symm
  have e' : IntOp.andi (IntOp.ori (IntOp.cmpi .sge (IntOp.muli 16#32 (BitVec.ofNat 32 p.val)) (m ((c.tc : Thread nD τ).loc main_arg5) (ix1 b)))
      (IntOp.andi (IntOp.cmpi .sge (m ((c.tc : Thread nD τ).loc main_arg4) (ix2 b p)) 0#32)
        (IntOp.cmpi .slt (m ((c.tc : Thread nD τ).loc main_arg4) (ix2 b p)) 1600#32)))
      (IntOp.cmpi .sle (m ((c.tc : Thread nD τ).loc main_arg5) (ix1 b)) 2147483632#32) = 1#1 := by
    refine Eq.trans ?_ e
    refine congrArg₂ IntOp.andi (congrArg₂ IntOp.ori (congrArg (IntOp.cmpi .sge _) (hx _ ?_)) rfl)
      (congrArg (fun z => IntOp.cmpi .sle z 2147483632#32) (hx _ ?_))
    · rfl
    · rfl
  have ha : ∀ (p q : Bool), IntOp.andi (BitVec.ofBool p) (BitVec.ofBool q) = BitVec.ofBool (p && q) := by
    intro p q; cases p <;> cases q <;> decide
  have hr : ∀ (p q : Bool), IntOp.ori (BitVec.ofBool p) (BitVec.ofBool q) = BitVec.ofBool (p || q) := by
    intro p q; cases p <;> cases q <;> decide
  have ho : ∀ p : Bool, (BitVec.ofBool p = 1#1) ↔ p = true := fun p => by cases p <;> decide
  simp only [IntOp.cmpi, ha, hr, ho, Bool.and_eq_true, Bool.or_eq_true, BitVec.sle_eq_decide, BitVec.slt_eq_decide, decide_eq_true_eq] at e'
  have t0 : (0#32 : BitVec 32).toInt = 0 := by decide
  have t1 : (1600#32 : BitVec 32).toInt = 1600 := by decide
  have t2 : (2147483632#32 : BitVec 32).toInt = 2147483632 := by decide
  have t3 : (IntOp.muli 16#32 (BitVec.ofNat 32 p.val)).toInt = ((16 * p.val : ℕ) : ℤ) := by
    show (16#32 * BitVec.ofNat 32 p.val).toInt = _
    have := p.isLt
    rw [BitVec.toInt_eq_toNat_cond, BitVec.toNat_mul, BitVec.toNat_ofNat, BitVec.toNat_ofNat]
    split <;> omega
  rw [t0, t1, t2, t3] at e'
  obtain ⟨e', ec⟩ := e'
  refine ⟨fun hl => ?_, ec⟩
  rcases e' with e' | e'
  · exact absurd hl (not_lt.mpr e')
  · exact e'
/-- So every page that the kernel fetches is one of the pool's. -/
theorem ok_of_pre [Cert.Pre_in_range.Facts] (h : Cert.Pre_Kernel m) (c : Dev nD) : (inp m c).Ok := by
  have hh := range_of_pre m h c
  refine ⟨fun b p hb hp hl => ?_, fun x => ?_⟩
  · have eb : n1 b 5 = ⟨b, hb⟩ := Fin.ext (Nat.mod_eq_of_lt hb)
    have ep : n1 p 256 = ⟨p, hp⟩ := Fin.ext (Nat.mod_eq_of_lt hp)
    unfold Inp.len at hl
    rw [eb] at hl
    obtain ⟨h0, h1⟩ := (hh ⟨b, hb⟩ ⟨p, hp⟩).1 hl
    unfold Inp.pid
    rw [eb, ep]
    have := ((inp m c).tb (ix2 (⟨b, hb⟩ : Fin 5) (⟨p, hp⟩ : Fin 256))).isLt
    rw [BitVec.toInt_eq_toNat_cond] at h0 h1
    split at h0 <;> omega
  · have h2 := (hh (x 0) ⟨0, by decide⟩).2
    have hx : ix1 (x 0) = x := by funext a; match a with | ⟨0, _⟩ => rfl
    exact le_of_eq_of_le (congrArg (fun y => ((inp m c).ln y).toInt) hx.symm) h2

end Cert.Proof.Pages
-- ==== Proof.RefRun.lean ====
module

public import proofs.«01_k».proof.Proof.Gen.Reference.Frame
public import Idealize.ShloMosaic.Lib.ValueIdx
public import Idealize.ShloMosaic.Lib.Pipeline.ValueKit

@[expose] public section

noncomputable section

/-! The reference as a run: what its two results hold at the end, as the two regions' payloads. -/

namespace Cert.Proof.PagesRef

open Cert.Reference Cert.Reference.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every run ends, with the two results at the folded contents and the arguments as launched. -/
theorem ref_run : θ_run defs (onTc (τ := τ) (main (F := F))) ⟨m, fun _ => 0, ρ⟩ (fun r => (∀ c : Dev nD,
      (r.2.mem ((c.tc : Thread nD τ).loc main_v44) = W4 m ρ c (Proc.devRef .tc main_v44)
      ∧ r.2.mem ((c.tc : Thread nD τ).loc main_v89) = W4 m ρ c (Proc.devRef .tc main_v89))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨⟨h c _ (mem_uc main_v44 (by decide)), h c _ (mem_uc main_v89 (by decide))⟩,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩), funext fun g => hz g (.inr (no_unscoped g.2))⟩)

section Blocks

variable (V : (c : Dev nD) → (b : Ref sig .tc) → Buf (Elt F) ((c : Thread nD τ).loc b))

theorem emb0_0 (t : Fin cfg0.N) (x : S5x64x4096x128.Idx) : ((cfg0.win 0).blk t).view.emb x = x := by
  obtain rfl := fin_N0 t
  funext a
  refine Fin.ext ?_
  show ((cfg0.win 0).rect t0_0).off a + ((cfg0.win 0).rect t0_0).stride a * (x a).val = (x a).val
  match a with
  | ⟨0, _⟩ => show 0 * _ + 1 * _ = _; omega
  | ⟨1, _⟩ => show 0 * _ + 1 * _ = _; omega
  | ⟨2, _⟩ => show 0 * _ + 1 * _ = _; omega
  | ⟨3, _⟩ => show 0 * _ + 1 * _ = _; omega
theorem blk0_0 (c : Dev nD) (t : Fin cfg0.N) : iblk0 V c 0 t = V c main_v19 := by
  funext x
  unfold iblk0
  rw [View.read_apply]
  exact congrArg (V c main_v19) (emb0_0 t x)
theorem emb0_1 (t : Fin cfg0.N) (x : S5x64x4096.Idx) : ((cfg0.win 1).blk t).view.emb x = x := by
  obtain rfl := fin_N0 t
  funext a
  refine Fin.ext ?_
  show ((cfg0.win 1).rect t0_0).off a + ((cfg0.win 1).rect t0_0).stride a * (x a).val = (x a).val
  match a with
  | ⟨0, _⟩ => show 0 * _ + 1 * _ = _; omega
  | ⟨1, _⟩ => show 0 * _ + 1 * _ = _; omega
  | ⟨2, _⟩ => show 0 * _ + 1 * _ = _; omega
theorem blk0_1 (c : Dev nD) (t : Fin cfg0.N) : iblk0 V c 1 t = V c main_v36 := by
  funext x
  unfold iblk0
  rw [View.read_apply]
  exact congrArg (V c main_v36) (emb0_1 t x)
theorem emb0_2 (t : Fin cfg0.N) (x : S5x4096.Idx) : ((cfg0.win 2).blk t).view.emb x = x := by
  obtain rfl := fin_N0 t
  funext a
  refine Fin.ext ?_
  show ((cfg0.win 2).rect t0_0).off a + ((cfg0.win 2).rect t0_0).stride a * (x a).val = (x a).val
  match a with
  | ⟨0, _⟩ => show 0 * _ + 1 * _ = _; omega
  | ⟨1, _⟩ => show 0 * _ + 1 * _ = _; omega
theorem blk0_2 (c : Dev nD) (t : Fin cfg0.N) : iblk0 V c 2 t = V c main_v43 := by
  funext x
  unfold iblk0
  rw [View.read_apply]
  exact congrArg (V c main_v43) (emb0_2 t x)
theorem out0_eq (x0 : Vec F S5x64x4096x128 .fp8e4m3) (x1 : Vec F S5x64x4096 .f32) (x2 : Vec F S5x4096 .i32) :
    out0_3 x0 x1 x2 = k0_pay1 x0 x1 x2 := by
  unfold out0_3
  rw [View.canon_cons_unit_lit _ _ _ (by decide), View.ld_unit_lit _ _ (by decide), View.ld_unit_lit _ _ (by decide), View.ld_unit_lit _ _ (by decide)]
/-- The region's output array at the end. -/
theorem arr0 (c : Dev nD) : (dat0 V c).arrAt 3 cfg0.N = k0_pay1 (V c main_v19) (V c main_v36) (V c main_v43) := by
  funext i
  refine ((dat0 V c).arrAt_emb_eq_after_last 3 t0_0 (by decide +kernel) i).trans ?_
  rw [after0_3, blk0_0, blk0_1, blk0_2, out0_eq]
  rfl

theorem emb1_0 (t : Fin cfg1.N) (x : S5x64x4096x128.Idx) : ((cfg1.win 0).blk t).view.emb x = x := by
  obtain rfl := fin_N1 t
  funext a
  refine Fin.ext ?_
  show ((cfg1.win 0).rect t1_0).off a + ((cfg1.win 0).rect t1_0).stride a * (x a).val = (x a).val
  match a with
  | ⟨0, _⟩ => show 0 * _ + 1 * _ = _; omega
  | ⟨1, _⟩ => show 0 * _ + 1 * _ = _; omega
  | ⟨2, _⟩ => show 0 * _ + 1 * _ = _; omega
  | ⟨3, _⟩ => show 0 * _ + 1 * _ = _; omega
theorem blk1_0 (c : Dev nD) (t : Fin cfg1.N) : iblk1 V c 0 t = V c main_v64 := by
  funext x
  unfold iblk1
  rw [View.read_apply]
  exact congrArg (V c main_v64) (emb1_0 t x)
theorem emb1_1 (t : Fin cfg1.N) (x : S5x64x4096.Idx) : ((cfg1.win 1).blk t).view.emb x = x := by
  obtain rfl := fin_N1 t
  funext a
  refine Fin.ext ?_
  show ((cfg1.win 1).rect t1_0).off a + ((cfg1.win 1).rect t1_0).stride a * (x a).val = (x a).val
  match a with
  | ⟨0, _⟩ => show 0 * _ + 1 * _ = _; omega
  | ⟨1, _⟩ => show 0 * _ + 1 * _ = _; omega
  | ⟨2, _⟩ => show 0 * _ + 1 * _ = _; omega
theorem blk1_1 (c : Dev nD) (t : Fin cfg1.N) : iblk1 V c 1 t = V c main_v81 := by
  funext x
  unfold iblk1
  rw [View.read_apply]
  exact congrArg (V c main_v81) (emb1_1 t x)
theorem emb1_2 (t : Fin cfg1.N) (x : S5x4096.Idx) : ((cfg1.win 2).blk t).view.emb x = x := by
  obtain rfl := fin_N1 t
  funext a
  refine Fin.ext ?_
  show ((cfg1.win 2).rect t1_0).off a + ((cfg1.win 2).rect t1_0).stride a * (x a).val = (x a).val
  match a with
  | ⟨0, _⟩ => show 0 * _ + 1 * _ = _; omega
  | ⟨1, _⟩ => show 0 * _ + 1 * _ = _; omega
theorem blk1_2 (c : Dev nD) (t : Fin cfg1.N) : iblk1 V c 2 t = V c main_v88 := by
  funext x
  unfold iblk1
  rw [View.read_apply]
  exact congrArg (V c main_v88) (emb1_2 t x)
theorem out1_eq (x0 : Vec F S5x64x4096x128 .fp8e4m3) (x1 : Vec F S5x64x4096 .f32) (x2 : Vec F S5x4096 .i32) :
    out1_3 x0 x1 x2 = k1_pay1 x0 x1 x2 := by
  unfold out1_3
  rw [View.canon_cons_unit_lit _ _ _ (by decide), View.ld_unit_lit _ _ (by decide), View.ld_unit_lit _ _ (by decide), View.ld_unit_lit _ _ (by decide)]
/-- The region's output array at the end. -/
theorem arr1 (c : Dev nD) : (dat1 V c).arrAt 3 cfg1.N = k1_pay1 (V c main_v64) (V c main_v81) (V c main_v88) := by
  funext i
  refine ((dat1 V c).arrAt_emb_eq_after_last 3 t1_0 (by decide +kernel) i).trans ?_
  rw [after1_3, blk1_0, blk1_1, blk1_2, out1_eq]
  rfl

end Blocks

theorem W4_v89 (c : Dev nD) : W4 m ρ c (Proc.devRef .tc main_v89) = k1_pay1 (V3 m ρ c main_v64) (V3 m ρ c main_v81) (V3 m ρ c main_v88) :=
  (W4_arr m ρ c 3).trans (arr1 (V3 m ρ) c)
theorem W4_v44 (c : Dev nD) : W4 m ρ c (Proc.devRef .tc main_v44) = k0_pay1 (V1 m ρ c main_v19) (V1 m ρ c main_v36) (V1 m ρ c main_v43) :=
  ((W4_of m ρ c main_v44 (by decide)).trans (W3_of m ρ c main_v44 (by decide))).trans ((W2_arr m ρ c 3).trans (arr0 (V1 m ρ) c))

end Cert.Proof.PagesRef

end
-- ==== Proof.RefHost.lean ====
module

public import proofs.«01_k».proof.Proof.Gen.Reference.Frame
public import Idealize.ShloMosaic.Lib.ValueIdx
public import Idealize.ShloMosaic.Lib.StableHlo.RunRead

@[expose] public section

noncomputable section

/-! The reference as a run: what the host operations leave for the two regions. -/

namespace Cert.Proof.PagesRef

open Cert.Reference Cert.Reference.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The page and head coordinates the reference gathers at, of the page table. -/
def tabIx (tb : IVec S5x256 32) : IVec S5x64x256x2 32 :=
  concatenate S5x64x256x2 3
    [⟨S5x64x256x1, broadcastInDim S5x64x256x1 ![0, 1, 2] bcast_S5x64x256_S5x64x256x1_0_1_2
        (broadcastInDim S5x64x256 ![0, 1, 2] bcast_S5x1x256_S5x64x256_0_1_2
          (select (cmpi .slt (broadcastInDim S5x1x256 ![0, 2] bcast_S5x256_S5x1x256_0_2 tb)
              (broadcastInDim S5x1x256 ![] bcast_S_S5x1x256 (constantI S_ 32 0#32)))
            (addi (broadcastInDim S5x1x256 ![0, 2] bcast_S5x256_S5x1x256_0_2 tb)
              (broadcastInDim S5x1x256 ![] bcast_S_S5x1x256 (constantI S_ 32 1600#32)))
            (broadcastInDim S5x1x256 ![0, 2] bcast_S5x256_S5x1x256_0_2 tb)))⟩,
     ⟨S5x64x256x1, broadcastInDim S5x64x256x1 ![0, 1, 2] bcast_S5x64x256_S5x64x256x1_0_1_2
        (broadcastInDim S5x64x256 ![0, 1, 2] bcast_S1x64x1_S5x64x256_0_1_2
          (select (cmpi .slt (broadcastInDim S1x64x1 ![1] bcast_S64_S1x64x1_1 (iotaInDim S64 32 0))
              (broadcastInDim S1x64x1 ![] bcast_S_S1x64x1 (constantI S_ 32 0#32)))
            (addi (broadcastInDim S1x64x1 ![1] bcast_S64_S1x64x1_1 (iotaInDim S64 32 0))
              (broadcastInDim S1x64x1 ![] bcast_S_S1x64x1 (constantI S_ 32 64#32)))
            (broadcastInDim S1x64x1 ![1] bcast_S64_S1x64x1_1 (iotaInDim S64 32 0))))⟩]
    concatenates_S5x64x256x1_S5x64x256x1_S5x64x256x2_d3

/-- The gathered codes, the gathered scales and the valid positions, as the host computes them. -/
def codesOf (pool : S1600x64x16x128.Idx → Elt F .fp8e4m3) (tb : IVec S5x256 32) : S5x64x4096x128.Idx → Elt F .fp8e4m3 :=
  shapeCast S5x64x4096x128 (Host.gather gather_S1600x64x16x128_S5x64x256x2_S5x64x256x16x128_34_01_n_n_01_3_1116128 pool (tabIx tb))
    shapeCasts_S5x64x256x16x128_S5x64x4096x128
def scalesOf (pool : S1600x64x16.Idx → Elt F .f32) (tb : IVec S5x256 32) : S5x64x4096.Idx → Elt F .f32 :=
  shapeCast S5x64x4096 (Host.gather gather_S1600x64x16_S5x64x256x2_S5x64x256x16_3_01_n_n_01_3_1116 pool (tabIx tb))
    shapeCasts_S5x64x256x16_S5x64x4096
def validOf (ln : IVec S5 32) : IVec S5x4096 32 :=
  extui 32 (cmpi .slt
    (broadcastInDim S5x4096 ![0, 1] bcast_S1x4096_S5x4096_0_1 (broadcastInDim S1x4096 ![1] bcast_S4096_S1x4096_1 (iotaInDim S4096 32 0)))
    (broadcastInDim S5x4096 ![0, 1] bcast_S5x1_S5x4096_0_1 (broadcastInDim S5x1 ![0] bcast_S5_S5x1_0 ln))) natLt_1_32

variable (Vl : Valuation τ sig (Elt F))

theorem host0_codes : StableHlo.after hostOps0 Vl (Proc.devRef .tc main_v19) = codesOf (Vl (Proc.devRef .tc main_arg0)) (Vl (Proc.devRef .tc main_arg4)) := by
  after_results_simp
  rfl
set_option maxHeartbeats 1000000 in
theorem host0_scales : StableHlo.after hostOps0 Vl (Proc.devRef .tc main_v36) = scalesOf (Vl (Proc.devRef .tc main_arg2)) (Vl (Proc.devRef .tc main_arg4)) := by
  after_results_simp
  rfl
theorem host0_valid : StableHlo.after hostOps0 Vl (Proc.devRef .tc main_v43) = validOf (Vl (Proc.devRef .tc main_arg5)) := by
  after_results_simp
  rfl

theorem host1_codes : StableHlo.after hostOps1 Vl (Proc.devRef .tc main_v64) = codesOf (Vl (Proc.devRef .tc main_arg1)) (Vl (Proc.devRef .tc main_arg4)) := by
  after_results_simp
  rfl
set_option maxHeartbeats 1000000 in
theorem host1_scales : StableHlo.after hostOps1 Vl (Proc.devRef .tc main_v81) = scalesOf (Vl (Proc.devRef .tc main_arg3)) (Vl (Proc.devRef .tc main_arg4)) := by
  after_results_simp
  rfl
theorem host1_valid : StableHlo.after hostOps1 Vl (Proc.devRef .tc main_v88) = validOf (Vl (Proc.devRef .tc main_arg5)) := by
  after_results_simp
  rfl

end Cert.Proof.PagesRef

end
-- ==== Proof.RefVal.lean ====
module

public import proofs.«01_k».proof.Proof.RefHost
public import Idealize.ShloMosaic.Lib.Pipeline.Value

@[expose] public section

noncomputable section

/-! The reference's results at an index. -/

namespace Cert.Proof.PagesRef

open Cert.Reference Cert.Reference.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A page id in the table's range is not wrapped. -/
theorem wrap_eq (v n : BitVec 32) (h : 0 ≤ v.toInt) : Scalar.select (IntOp.cmpi .slt v 0#32) (v + n) v = v := by
  have e : IntOp.cmpi .slt v 0#32 = 0#1 := by
    show BitVec.ofBool (v.slt 0#32) = 0#1
    have : v.slt 0#32 = false := by
      rw [BitVec.slt_eq_decide]
      simp only [decide_eq_false_iff_not]
      have : (0#32 : BitVec 32).toInt = 0 := by decide
      omega
    rw [this]; rfl
  rw [e]; rfl

theorem tabIx_page (tb : IVec S5x256 32) (b : Fin 5) (h : Fin 64) (p : Fin 256) (h0 : 0 ≤ (tb (ix2 b p)).toInt) :
    tabIx tb (ix4 b h p 0) = tb (ix2 b p) := by
  unfold tabIx
  refine (concatenate_pair_apply_left (t := S5x64x256x2) (s₁ := S5x64x256x1) (s₂ := S5x64x256x1) 3 _ _ _ (ix4 b h p 0) rfl (ix4 b h p 0 : S5x64x256x1.Idx) fun a => ?_).trans ?_
  · match a with
    | ⟨0, _⟩ => rfl
    | ⟨1, _⟩ => rfl
    | ⟨2, _⟩ => rfl
    | ⟨3, _⟩ => rfl
  have e : (broadcastInDim S5x1x256 ![0, 2] bcast_S5x256_S5x1x256_0_2 tb) (ix3 b 0 p) = tb (ix2 b p) := by
    refine broadcastInDim_apply _ _ _ _ _ fun a => ?_
    match a with
    | ⟨0, _⟩ => rfl
    | ⟨1, _⟩ => rfl
  refine (broadcastInDim_apply _ _ _ _ (ix3 b h p) fun a => ?_).trans ((broadcastInDim_apply _ _ _ _ (ix3 b 0 p) fun a => ?_).trans ?_)
  · match a with
    | ⟨0, _⟩ => rfl
    | ⟨1, _⟩ => rfl
    | ⟨2, _⟩ => rfl
  · match a with
    | ⟨0, _⟩ => rfl
    | ⟨1, _⟩ => rfl
    | ⟨2, _⟩ => rfl
  show Scalar.select (IntOp.cmpi .slt ((broadcastInDim S5x1x256 ![0, 2] bcast_S5x256_S5x1x256_0_2 tb) (ix3 b 0 p)) 0#32)
    ((broadcastInDim S5x1x256 ![0, 2] bcast_S5x256_S5x1x256_0_2 tb) (ix3 b 0 p) + 1600#32)
    ((broadcastInDim S5x1x256 ![0, 2] bcast_S5x256_S5x1x256_0_2 tb) (ix3 b 0 p)) = _
  rw [e]
  exact wrap_eq _ _ h0

theorem tabIx_head (tb : IVec S5x256 32) (b : Fin 5) (h : Fin 64) (p : Fin 256) :
    tabIx tb (ix4 b h p 1) = BitVec.ofNat 32 h.val := by
  unfold tabIx
  refine (concatenate_pair_apply_right (t := S5x64x256x2) (s₁ := S5x64x256x1) (s₂ := S5x64x256x1) 3 _ _ _ (ix4 b h p 1) rfl rfl (ix4 b h p 0 : S5x64x256x1.Idx) (fun a ha => ?_) rfl).trans ?_
  · match a with
    | ⟨0, _⟩ => rfl
    | ⟨1, _⟩ => rfl
    | ⟨2, _⟩ => rfl
    | ⟨3, _⟩ => exact absurd rfl ha
  refine (broadcastInDim_apply _ _ _ _ (ix3 b h p) fun a => ?_).trans ((broadcastInDim_apply _ _ _ _ (ix3 0 h 0) fun a => ?_).trans ?_)
  · match a with
    | ⟨0, _⟩ => rfl
    | ⟨1, _⟩ => rfl
    | ⟨2, _⟩ => rfl
  · match a with
    | ⟨0, _⟩ => rfl
    | ⟨1, _⟩ => rfl
    | ⟨2, _⟩ => rfl
  refine wrap_eq (BitVec.ofNat 32 h.val) 64#32 ?_
  have := h.isLt
  rw [BitVec.toInt_eq_toNat_cond, BitVec.toNat_ofNat]
  split <;> omega

theorem gather_codes (x : S1600x64x16x128.Idx → Elt F .fp8e4m3) (tb : IVec S5x256 32) (b : Fin 5) (h : Fin 64) (p : Fin 256) (r : Fin 16) (d : Fin 128)
    (h0 : 0 ≤ (tb (ix2 b p)).toInt) (h1 : (tb (ix2 b p)).toNat < 1600) :
    Host.gather gather_S1600x64x16x128_S5x64x256x2_S5x64x256x16x128_34_01_n_n_01_3_1116128 x (tabIx tb) (ix5 b h p r d) = x (ix4 ⟨(tb (ix2 b p)).toNat, h1⟩ h r d) := by
  unfold Host.gather
  congr 1
  funext a
  refine Fin.ext ?_
  show (gather_S1600x64x16x128_S5x64x256x2_S5x64x256x16x128_34_01_n_n_01_3_1116128).start (ix5 b h p r d) (tabIx tb) a + (gather_S1600x64x16x128_S5x64x256x2_S5x64x256x16x128_34_01_n_n_01_3_1116128).batchCoord (ix5 b h p r d) a + (gather_S1600x64x16x128_S5x64x256x2_S5x64x256x16x128_34_01_n_n_01_3_1116128).offCoord (ix5 b h p r d) a = _
  rw [GatherDims.batchCoord_eq_zero _ _ _ List.not_mem_nil, Nat.add_zero]
  have hh := h.isLt
  match a with
  | ⟨0, _⟩ =>
    rw [GatherDims.offCoord_eq_zero _ _ _ (fun hk => ((GatherDims.mem_sKept _ _).mp hk).1 (show (0 : Fin 4) ∈ ([0, 1] : List (Fin 4)) by decide)), Nat.add_zero]
    unfold GatherDims.start
    refine (dif_pos (show (0 : Fin 4) ∈ (gather_S1600x64x16x128_S5x64x256x2_S5x64x256x16x128_34_01_n_n_01_3_1116128).startIndexMap from (show (0 : Fin 4) ∈ ([0, 1] : List (Fin 4)) by decide))).trans ?_
    have hsi : (gather_S1600x64x16x128_S5x64x256x2_S5x64x256x16x128_34_01_n_n_01_3_1116128).siIdx (ix5 b h p r d) ⟨List.idxOf (0 : Fin 4) (gather_S1600x64x16x128_S5x64x256x2_S5x64x256x16x128_34_01_n_n_01_3_1116128).startIndexMap,
        List.idxOf_lt_length_iff.2 (show (0 : Fin 4) ∈ ([0, 1] : List (Fin 4)) by decide)⟩ = ix4 b h p 0 := by
      funext q; refine Fin.ext ?_
      match q with
      | ⟨0, _⟩ => rfl
      | ⟨1, _⟩ => rfl
      | ⟨2, _⟩ => rfl
      | ⟨3, _⟩ => rfl
    refine (congrArg (fun z => min (tabIx tb z).toInt.toNat _) hsi).trans ?_
    show min (tabIx tb (ix4 b h p 0)).toInt.toNat (1600 - 1) = (tb (ix2 b p)).toNat
    rw [tabIx_page tb b h p h0]
    rw [BitVec.toInt_eq_toNat_cond] at h0 ⊢
    split <;> omega
  | ⟨1, _⟩ =>
    rw [GatherDims.offCoord_eq_zero _ _ _ (fun hk => ((GatherDims.mem_sKept _ _).mp hk).1 (show (1 : Fin 4) ∈ ([0, 1] : List (Fin 4)) by decide)), Nat.add_zero]
    unfold GatherDims.start
    refine (dif_pos (show (1 : Fin 4) ∈ (gather_S1600x64x16x128_S5x64x256x2_S5x64x256x16x128_34_01_n_n_01_3_1116128).startIndexMap from (show (1 : Fin 4) ∈ ([0, 1] : List (Fin 4)) by decide))).trans ?_
    have hsi : (gather_S1600x64x16x128_S5x64x256x2_S5x64x256x16x128_34_01_n_n_01_3_1116128).siIdx (ix5 b h p r d) ⟨List.idxOf (1 : Fin 4) (gather_S1600x64x16x128_S5x64x256x2_S5x64x256x16x128_34_01_n_n_01_3_1116128).startIndexMap,
        List.idxOf_lt_length_iff.2 (show (1 : Fin 4) ∈ ([0, 1] : List (Fin 4)) by decide)⟩ = ix4 b h p 1 := by
      funext q; refine Fin.ext ?_
      match q with
      | ⟨0, _⟩ => rfl
      | ⟨1, _⟩ => rfl
      | ⟨2, _⟩ => rfl
      | ⟨3, _⟩ => rfl
    refine (congrArg (fun z => min (tabIx tb z).toInt.toNat _) hsi).trans ?_
    show min (tabIx tb (ix4 b h p 1)).toInt.toNat (64 - 1) = h.val
    rw [tabIx_head tb b h p]
    rw [BitVec.toInt_eq_toNat_cond, BitVec.toNat_ofNat]
    split <;> omega
  | ⟨2, _⟩ =>
    unfold GatherDims.start
    refine (congrArg (· + _) (dif_neg (show ¬ (2 : Fin 4) ∈ (gather_S1600x64x16x128_S5x64x256x2_S5x64x256x16x128_34_01_n_n_01_3_1116128).startIndexMap from (show ¬ (2 : Fin 4) ∈ ([0, 1] : List (Fin 4)) by decide)))).trans ((Nat.zero_add _).trans ?_)
    rfl
  | ⟨3, _⟩ =>
    unfold GatherDims.start
    refine (congrArg (· + _) (dif_neg (show ¬ (3 : Fin 4) ∈ (gather_S1600x64x16x128_S5x64x256x2_S5x64x256x16x128_34_01_n_n_01_3_1116128).startIndexMap from (show ¬ (3 : Fin 4) ∈ ([0, 1] : List (Fin 4)) by decide)))).trans ((Nat.zero_add _).trans ?_)
    rfl

theorem gather_scales (x : S1600x64x16.Idx → Elt F .f32) (tb : IVec S5x256 32) (b : Fin 5) (h : Fin 64) (p : Fin 256) (r : Fin 16)
    (h0 : 0 ≤ (tb (ix2 b p)).toInt) (h1 : (tb (ix2 b p)).toNat < 1600) :
    Host.gather gather_S1600x64x16_S5x64x256x2_S5x64x256x16_3_01_n_n_01_3_1116 x (tabIx tb) (ix4 b h p r) = x (ix3 ⟨(tb (ix2 b p)).toNat, h1⟩ h r) := by
  unfold Host.gather
  congr 1
  funext a
  refine Fin.ext ?_
  show (gather_S1600x64x16_S5x64x256x2_S5x64x256x16_3_01_n_n_01_3_1116).start (ix4 b h p r) (tabIx tb) a + (gather_S1600x64x16_S5x64x256x2_S5x64x256x16_3_01_n_n_01_3_1116).batchCoord (ix4 b h p r) a + (gather_S1600x64x16_S5x64x256x2_S5x64x256x16_3_01_n_n_01_3_1116).offCoord (ix4 b h p r) a = _
  rw [GatherDims.batchCoord_eq_zero _ _ _ List.not_mem_nil, Nat.add_zero]
  have hh := h.isLt
  match a with
  | ⟨0, _⟩ =>
    rw [GatherDims.offCoord_eq_zero _ _ _ (fun hk => ((GatherDims.mem_sKept _ _).mp hk).1 (show (0 : Fin 3) ∈ ([0, 1] : List (Fin 3)) by decide)), Nat.add_zero]
    unfold GatherDims.start
    refine (dif_pos (show (0 : Fin 3) ∈ (gather_S1600x64x16_S5x64x256x2_S5x64x256x16_3_01_n_n_01_3_1116).startIndexMap from (show (0 : Fin 3) ∈ ([0, 1] : List (Fin 3)) by decide))).trans ?_
    have hsi : (gather_S1600x64x16_S5x64x256x2_S5x64x256x16_3_01_n_n_01_3_1116).siIdx (ix4 b h p r) ⟨List.idxOf (0 : Fin 3) (gather_S1600x64x16_S5x64x256x2_S5x64x256x16_3_01_n_n_01_3_1116).startIndexMap,
        List.idxOf_lt_length_iff.2 (show (0 : Fin 3) ∈ ([0, 1] : List (Fin 3)) by decide)⟩ = ix4 b h p 0 := by
      funext q; refine Fin.ext ?_
      match q with
      | ⟨0, _⟩ => rfl
      | ⟨1, _⟩ => rfl
      | ⟨2, _⟩ => rfl
      | ⟨3, _⟩ => rfl
    refine (congrArg (fun z => min (tabIx tb z).toInt.toNat _) hsi).trans ?_
    show min (tabIx tb (ix4 b h p 0)).toInt.toNat (1600 - 1) = (tb (ix2 b p)).toNat
    rw [tabIx_page tb b h p h0]
    rw [BitVec.toInt_eq_toNat_cond] at h0 ⊢
    split <;> omega
  | ⟨1, _⟩ =>
    rw [GatherDims.offCoord_eq_zero _ _ _ (fun hk => ((GatherDims.mem_sKept _ _).mp hk).1 (show (1 : Fin 3) ∈ ([0, 1] : List (Fin 3)) by decide)), Nat.add_zero]
    unfold GatherDims.start
    refine (dif_pos (show (1 : Fin 3) ∈ (gather_S1600x64x16_S5x64x256x2_S5x64x256x16_3_01_n_n_01_3_1116).startIndexMap from (show (1 : Fin 3) ∈ ([0, 1] : List (Fin 3)) by decide))).trans ?_
    have hsi : (gather_S1600x64x16_S5x64x256x2_S5x64x256x16_3_01_n_n_01_3_1116).siIdx (ix4 b h p r) ⟨List.idxOf (1 : Fin 3) (gather_S1600x64x16_S5x64x256x2_S5x64x256x16_3_01_n_n_01_3_1116).startIndexMap,
        List.idxOf_lt_length_iff.2 (show (1 : Fin 3) ∈ ([0, 1] : List (Fin 3)) by decide)⟩ = ix4 b h p 1 := by
      funext q; refine Fin.ext ?_
      match q with
      | ⟨0, _⟩ => rfl
      | ⟨1, _⟩ => rfl
      | ⟨2, _⟩ => rfl
      | ⟨3, _⟩ => rfl
    refine (congrArg (fun z => min (tabIx tb z).toInt.toNat _) hsi).trans ?_
    show min (tabIx tb (ix4 b h p 1)).toInt.toNat (64 - 1) = h.val
    rw [tabIx_head tb b h p]
    rw [BitVec.toInt_eq_toNat_cond, BitVec.toNat_ofNat]
    split <;> omega
  | ⟨2, _⟩ =>
    unfold GatherDims.start
    refine (congrArg (· + _) (dif_neg (show ¬ (2 : Fin 3) ∈ (gather_S1600x64x16_S5x64x256x2_S5x64x256x16_3_01_n_n_01_3_1116).startIndexMap from (show ¬ (2 : Fin 3) ∈ ([0, 1] : List (Fin 3)) by decide)))).trans ((Nat.zero_add _).trans ?_)
    rfl

/-- The page and the row of a position. -/
def pg (t : Fin 4096) : Fin 256 := ⟨t.val / 16, by have := t.isLt; omega⟩
def rw' (t : Fin 4096) : Fin 16 := ⟨t.val % 16, Nat.mod_lt _ (by decide)⟩

theorem codesOf_apply (x : S1600x64x16x128.Idx → Elt F .fp8e4m3) (tb : IVec S5x256 32) (b : Fin 5) (h : Fin 64) (t : Fin 4096) (d : Fin 128)
    (h0 : 0 ≤ (tb (ix2 b (pg t))).toInt) (h1 : (tb (ix2 b (pg t))).toNat < 1600) :
    codesOf x tb (ix4 b h t d) = x (ix4 ⟨(tb (ix2 b (pg t))).toNat, h1⟩ h (rw' t) d) := by
  unfold codesOf
  refine (shapeCast_apply _ _ _ (ix5 b h (pg t) (rw' t) d) ?_).trans (gather_codes x tb b h (pg t) (rw' t) d h0 h1)
  rw [Shape.rowMajor_val_five, Shape.rowMajor_val_four]
  simp [ix4, ix5, pg, rw']
  omega
theorem scalesOf_apply (x : S1600x64x16.Idx → Elt F .f32) (tb : IVec S5x256 32) (b : Fin 5) (h : Fin 64) (t : Fin 4096)
    (h0 : 0 ≤ (tb (ix2 b (pg t))).toInt) (h1 : (tb (ix2 b (pg t))).toNat < 1600) :
    scalesOf x tb (ix3 b h t) = x (ix3 ⟨(tb (ix2 b (pg t))).toNat, h1⟩ h (rw' t)) := by
  unfold scalesOf
  refine (shapeCast_apply _ _ _ (ix4 b h (pg t) (rw' t)) ?_).trans (gather_scales x tb b h (pg t) (rw' t) h0 h1)
  rw [Shape.rowMajor_val_four, Shape.rowMajor_val_three]
  simp [ix3, ix4, pg, rw']
  omega
theorem validOf_apply (ln : IVec S5 32) (b : Fin 5) (t : Fin 4096) :
    validOf ln (ix2 b t) = if (t.val : ℤ) < (ln (ix1 b)).toInt then 1#32 else 0#32 := by
  have e1 : (broadcastInDim S5x4096 ![0, 1] bcast_S1x4096_S5x4096_0_1 (broadcastInDim S1x4096 ![1] bcast_S4096_S1x4096_1 (iotaInDim S4096 32 0))) (ix2 b t)
      = BitVec.ofNat 32 t.val := by
    refine (broadcastInDim_apply _ _ _ _ (ix2 0 t) fun a => ?_).trans ((broadcastInDim_apply _ _ _ _ (ix1 t) fun a => ?_).trans rfl)
    · match a with
      | ⟨0, _⟩ => rfl
      | ⟨1, _⟩ => rfl
    · match a with
      | ⟨0, _⟩ => rfl
  have e2 : (broadcastInDim S5x4096 ![0, 1] bcast_S5x1_S5x4096_0_1 (broadcastInDim S5x1 ![0] bcast_S5_S5x1_0 ln)) (ix2 b t) = ln (ix1 b) := by
    refine (broadcastInDim_apply _ _ _ _ (ix2 b 0) fun a => ?_).trans (broadcastInDim_apply _ _ _ _ (ix1 b) fun a => ?_)
    · match a with
      | ⟨0, _⟩ => rfl
      | ⟨1, _⟩ => rfl
    · match a with
      | ⟨0, _⟩ => rfl
  show (BitVec.ofBool (BitVec.slt ((broadcastInDim S5x4096 ![0, 1] bcast_S1x4096_S5x4096_0_1 (broadcastInDim S1x4096 ![1] bcast_S4096_S1x4096_1 (iotaInDim S4096 32 0))) (ix2 b t))
    ((broadcastInDim S5x4096 ![0, 1] bcast_S5x1_S5x4096_0_1 (broadcastInDim S5x1 ![0] bcast_S5_S5x1_0 ln)) (ix2 b t)))).setWidth 32 = _
  rw [e1, e2, BitVec.slt_eq_decide]
  have hv : (BitVec.ofNat 32 t.val).toInt = (t.val : ℤ) := by
    have := t.isLt
    rw [BitVec.toInt_eq_toNat_cond, BitVec.toNat_ofNat]
    split <;> omega
  rw [hv]
  by_cases hc : (t.val : ℤ) < (ln (ix1 b)).toInt
  · rw [if_pos hc, decide_eq_true hc]; rfl
  · rw [if_neg hc, decide_eq_false hc]; rfl

/-- The region's payload at an index: the product where the position is valid, zero elsewhere. -/
theorem pay0_apply (v0 : Vec F S5x64x4096x128 .fp8e4m3) (v3 : Vec F S5x64x4096 .f32) (v9 : Vec F S5x4096 .i32)
    (b : Fin 5) (h : Fin 64) (t : Fin 4096) (d : Fin 128) :
    k0_pay1 v0 v3 v9 (ix4 b h t d) = Scalar.select (IntOp.cmpi .ne (v9 (ix2 b t)) 0#32)
      (FloatOps.mulf (FloatOps.extf .bf16 bitsLt_fp8e4m3_bf16 (v0 (ix4 b h t d))) (FloatOps.truncf .bf16 bitsLt_bf16_f32 (v3 (ix3 b h t))))
      (FloatOps.ofBits .bf16 0x0000#16) := by
  have e0 : shapeCast S5x64x4096x128 v0 shapeCasts_S5x64x4096x128_S5x64x4096x128 (ix4 b h t d) = v0 (ix4 b h t d) :=
    shapeCast_apply _ _ _ _ rfl
  have e1 : broadcastTo S5x64x4096x128 (shapeCast S5x64x4096x1 (truncf .bf16 (shapeCast S5x64x4096 v3 shapeCasts_S5x64x4096_S5x64x4096) bitsLt_bf16_f32)
      shapeCasts_S5x64x4096_S5x64x4096x1) broadcasts_S5x64x4096x1_S5x64x4096x128 (ix4 b h t d)
      = FloatOps.truncf .bf16 bitsLt_bf16_f32 (v3 (ix3 b h t)) := by
    refine (broadcastTo_apply _ _ _ (ix4 b h t 0) fun a => ?_).trans ((shapeCast_apply _ _ _ (ix3 b h t) ?_).trans ?_)
    · match a with
      | ⟨0, _⟩ => rfl
      | ⟨1, _⟩ => rfl
      | ⟨2, _⟩ => rfl
      | ⟨3, _⟩ => rfl
    · rw [Shape.rowMajor_val_four, Shape.rowMajor_val_three]
      simp [ix3, ix4]
    · exact congrArg (FloatOps.truncf .bf16 bitsLt_bf16_f32) (shapeCast_apply v3 _ _ _ rfl)
  have e2 : broadcastTo S5x64x4096x128 (shapeCast S5x1x4096x1 (cmpi .ne (shapeCast S5x1x4096x1 (shapeCast S5x4096 v9 shapeCasts_S5x4096_S5x4096)
      shapeCasts_S5x4096_S5x1x4096x1) (broadcast S5x1x4096x1 0#32)) shapeCasts_S5x1x4096x1_S5x1x4096x1) broadcasts_S5x1x4096x1_S5x64x4096x128 (ix4 b h t d)
      = IntOp.cmpi .ne (v9 (ix2 b t)) 0#32 := by
    refine (broadcastTo_apply _ _ _ (ix4 b 0 t 0) fun a => ?_).trans ((shapeCast_apply _ _ _ (ix4 b 0 t 0) rfl).trans ?_)
    · match a with
      | ⟨0, _⟩ => rfl
      | ⟨1, _⟩ => rfl
      | ⟨2, _⟩ => rfl
      | ⟨3, _⟩ => rfl
    · refine congrArg (fun z => IntOp.cmpi .ne z 0#32) ((shapeCast_apply _ _ _ (ix2 b t) ?_).trans (shapeCast_apply v9 _ _ _ rfl))
      rw [Shape.rowMajor_val_four, Shape.rowMajor_val_two]
      simp [ix2, ix4]
  refine (show k0_pay1 v0 v3 v9 (ix4 b h t d) = Scalar.select _ (FloatOps.mulf (FloatOps.extf .bf16 bitsLt_fp8e4m3_bf16 _) _) _ from rfl).trans ?_
  rw [e0, e1, e2]
  rfl
theorem pay1_eq (v0 : Vec F S5x64x4096x128 .fp8e4m3) (v3 : Vec F S5x64x4096 .f32) (v9 : Vec F S5x4096 .i32) : k1_pay1 v0 v3 v9 = k0_pay1 v0 v3 v9 := rfl

/-- A result of the reference at a valid position: the product of the gathered code and scale. -/
theorem ref_valid (x : S1600x64x16x128.Idx → Elt F .fp8e4m3) (s : S1600x64x16.Idx → Elt F .f32) (tb : IVec S5x256 32) (ln : IVec S5 32)
    (b : Fin 5) (h : Fin 64) (t : Fin 4096) (d : Fin 128) (hc : (t.val : ℤ) < (ln (ix1 b)).toInt)
    (h0 : 0 ≤ (tb (ix2 b (pg t))).toInt) (h1 : (tb (ix2 b (pg t))).toNat < 1600) :
    k0_pay1 (codesOf x tb) (scalesOf s tb) (validOf ln) (ix4 b h t d)
      = FloatOps.mulf (FloatOps.extf .bf16 bitsLt_fp8e4m3_bf16 (x (ix4 ⟨(tb (ix2 b (pg t))).toNat, h1⟩ h (rw' t) d)))
          (FloatOps.truncf .bf16 bitsLt_bf16_f32 (s (ix3 ⟨(tb (ix2 b (pg t))).toNat, h1⟩ h (rw' t)))) := by
  rw [pay0_apply, codesOf_apply x tb b h t d h0 h1, scalesOf_apply s tb b h t h0 h1, validOf_apply, if_pos hc]; rfl
/-- Past the length it is zero, whatever the table names. -/
theorem ref_past (x : S1600x64x16x128.Idx → Elt F .fp8e4m3) (s : S1600x64x16.Idx → Elt F .f32) (tb : IVec S5x256 32) (ln : IVec S5 32)
    (b : Fin 5) (h : Fin 64) (t : Fin 4096) (d : Fin 128) (hc : ¬ (t.val : ℤ) < (ln (ix1 b)).toInt) :
    k0_pay1 (codesOf x tb) (scalesOf s tb) (validOf ln) (ix4 b h t d) = FloatOps.ofBits .bf16 0x0000#16 := by
  rw [pay0_apply, validOf_apply, if_neg hc]; rfl

end Cert.Proof.PagesRef

end
-- ==== Proof.KVal.lean ====
module

public import proofs.«01_k».proof.Proof.Pre
public import proofs.«01_k».proof.Proof.RefVal
public import Idealize.ShloMosaic.Lib.Pipeline.Value

@[expose] public section

noncomputable section

/-! # The kernel's results are the reference's, entry by entry. -/

namespace Cert.Proof.Pages

open Cert.Kernel Cert.Kernel.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The pool's codes and scales as the kernel reads them. -/
theorem pool_apply (x : S1600x64x16x128.Idx → Elt Bits .fp8e4m3) (q : Fin 1600) (h : Fin 64) (r : Fin 16) (d : Fin 128) (n : Fin 1024) (hn : n.val = 16 * h.val + r.val) :
    shapeCast S1600x1024x128 x shapeCasts_S1600x64x16x128_S1600x1024x128 (ix3 q n d) = x (ix4 q h r d) := by
  refine shapeCast_apply _ _ _ (ix4 q h r d) ?_
  rw [Shape.rowMajor_val_four, Shape.rowMajor_val_three]
  simp [ix3, ix4, hn]
  omega
theorem scales_apply (s : S1600x64x16.Idx → Elt Bits .f32) (q : Fin 1600) (h : Fin 64) (r : Fin 16) :
    transpose S64x16x1600 [1, 2, 0] s transposes_S1600x64x16_S64x16x1600_1_2_0 (ix3 h r q) = s (ix3 q h r) := by
  refine transpose_apply _ _ _ _ _ fun a => ?_
  match a with
  | ⟨0, _⟩ => rfl
  | ⟨1, _⟩ => rfl
  | ⟨2, _⟩ => rfl

theorem n1_val {n : ℕ} (a : ℕ) (b : Fin n) (hb : 0 < n) (h : a = b.val) : n1 a n hb = b := Fin.ext (by subst h; exact Nat.mod_eq_of_lt b.isLt)

/-- What the kernel leaves is what the reference's operations compute. -/
theorem out_eq (I : Inp Bits) (i : ℕ) (x : S1600x64x16x128.Idx → Elt Bits .fp8e4m3) (s : S1600x64x16.Idx → Elt Bits .f32)
    (hk : (if i = 0 then I.kp else I.vp) = shapeCast S1600x1024x128 x shapeCasts_S1600x64x16x128_S1600x1024x128)
    (hs : (if i = 0 then I.ks else I.vs) = transpose S64x16x1600 [1, 2, 0] s transposes_S1600x64x16_S64x16x1600_1_2_0)
    (hp : ∀ (b : Fin 5) (p : Fin 256), ((16 * p.val : ℕ) : ℤ) < (I.ln (ix1 b)).toInt → 0 ≤ (I.tb (ix2 b p)).toInt) (ok : I.Ok) :
    outVal I i = Cert.Reference.Gen.k0_pay1 (F := Bits) (PagesRef.codesOf x I.tb) (PagesRef.scalesOf s I.tb) (PagesRef.validOf I.ln) := by
  have key : ∀ (b : Fin 5) (h : Fin 64) (t : Fin 4096) (d : Fin 128), I.out i b h t d
      = Cert.Reference.Gen.k0_pay1 (F := Bits) (PagesRef.codesOf x I.tb) (PagesRef.scalesOf s I.tb) (PagesRef.validOf I.ln) (ix4 b h t d) := by
    intro b h t d
    have hb : n1 b.val 5 = b := n1_val _ _ _ rfl
    have hl : I.len b = (I.ln (ix1 b)).toInt := by unfold Inp.len; rw [hb]
    have hq : I.pid b (t.val / 16) = (I.tb (ix2 b (PagesRef.pg t))).toNat := by
      unfold Inp.pid; rw [hb, n1_val (t.val / 16) (PagesRef.pg t) _ rfl]
    unfold Inp.out Inp.tok
    by_cases hc : (t.val : ℤ) < (I.ln (ix1 b)).toInt
    · have ht := t.isLt
      have hu : ((16 * (t.val / 16) : ℕ) : ℤ) < (I.ln (ix1 b)).toInt := by omega
      have h1 : (I.tb (ix2 b (PagesRef.pg t))).toNat < 1600 := by
        rw [← hq]; exact ok.pid _ _ b.isLt (by omega) (by rw [hl]; exact hu)
      have hh := h.isLt
      have hcode : I.code i (I.pid b (t.val / 16)) (16 * h.val + t.val % 16) d = x (ix4 ⟨(I.tb (ix2 b (PagesRef.pg t))).toNat, h1⟩ h (PagesRef.rw' t) d) := by
        unfold Inp.code
        rw [hk, hq, n1_val _ ⟨(I.tb (ix2 b (PagesRef.pg t))).toNat, h1⟩ _ rfl, n1_val d.val d _ rfl]
        exact pool_apply x _ h (PagesRef.rw' t) d _ (Nat.mod_eq_of_lt (by omega))
      have hscale : I.scale i (I.pid b (t.val / 16)) (16 * h.val + t.val % 16)
          = FloatOps.truncf .bf16 bitsLt_bf16_f32 (s (ix3 ⟨(I.tb (ix2 b (PagesRef.pg t))).toNat, h1⟩ h (PagesRef.rw' t))) := by
        have hr : n1 (16 * h.val + t.val % 16) 16 = PagesRef.rw' t := Fin.ext (show (16 * h.val + t.val % 16) % 16 = t.val % 16 by omega)
        unfold Inp.scale
        rw [hs, hq, n1_val _ ⟨(I.tb (ix2 b (PagesRef.pg t))).toNat, h1⟩ _ rfl, n1_val ((16 * h.val + t.val % 16) / 16) h _ (by omega),
          hr]
        exact congrArg _ (scales_apply s _ h (PagesRef.rw' t))
      rw [if_pos (by rw [hl]; exact hc)]
      refine Eq.trans ?_ (PagesRef.ref_valid x s I.tb I.ln b h t d hc (hp _ _ hu) h1).symm
      unfold Inp.prod
      rw [hcode, hscale]
      rfl
    · refine Eq.trans ?_ (PagesRef.ref_past x s I.tb I.ln b h t d hc).symm
      rw [if_neg (by rw [hl]; exact hc)]
  funext y
  refine (key (y 0) (y 1) (y 2) (y 3)).trans (congrArg _ ?_)
  funext a
  match a with
  | ⟨0, _⟩ => rfl
  | ⟨1, _⟩ => rfl
  | ⟨2, _⟩ => rfl
  | ⟨3, _⟩ => rfl

section Inputs

set_option backward.isDefEq.respectTransparency.types false

variable (m : (ℓ : Loc nD τ sig) → Buf (Elt Bits) ℓ)

theorem V_v0 (c : Dev nD) : (inp m c).kp = shapeCast S1600x1024x128 (m ((c.tc : Thread nD τ).loc main_arg0)) shapeCasts_S1600x64x16x128_S1600x1024x128 := by
  unfold inp
  show StableHlo.after (hostOps0 (F := Bits)) (fun b => m (c, b)) (Proc.devRef .tc main_v0) = _
  after_results_simp
  rfl
theorem V_v1 (c : Dev nD) : (inp m c).vp = shapeCast S1600x1024x128 (m ((c.tc : Thread nD τ).loc main_arg1)) shapeCasts_S1600x64x16x128_S1600x1024x128 := by
  unfold inp
  show StableHlo.after (hostOps0 (F := Bits)) (fun b => m (c, b)) (Proc.devRef .tc main_v1) = _
  after_results_simp
  rfl
theorem V_v2 (c : Dev nD) : (inp m c).ks = transpose S64x16x1600 [1, 2, 0] (m ((c.tc : Thread nD τ).loc main_arg2)) transposes_S1600x64x16_S64x16x1600_1_2_0 := by
  unfold inp
  show StableHlo.after (hostOps0 (F := Bits)) (fun b => m (c, b)) (Proc.devRef .tc main_v2) = _
  after_results_simp
theorem V_v3 (c : Dev nD) : (inp m c).vs = transpose S64x16x1600 [1, 2, 0] (m ((c.tc : Thread nD τ).loc main_arg3)) transposes_S1600x64x16_S64x16x1600_1_2_0 := by
  unfold inp
  show StableHlo.after (hostOps0 (F := Bits)) (fun b => m (c, b)) (Proc.devRef .tc main_v3) = _
  after_results_simp

end Inputs

end Cert.Proof.Pages
-- ==== Proof.lean ====
module

public import proofs.«01_k».proof.Defs
public import proofs.«01_k».proof.Proof.Gen.Kernel
public import proofs.«01_k».proof.Proof.Gen.Reference
public import proofs.«01_k».proof.Proof.Gen.Reference.Frame
public import proofs.«01_k».proof.Proof.Launch
public import proofs.«01_k».proof.Proof.Pre
public import proofs.«01_k».proof.Proof.RefRun
public import proofs.«01_k».proof.Proof.RefVal
public import proofs.«01_k».proof.Proof.KVal
public import Idealize.ShloMosaic.Lib.StableHlo.RunHlo

@[expose] public section

noncomputable section

namespace Cert.Proof

open Idealize.ShloMosaic Idealize.ShloMosaic.ValueIdx Idealize.SL.Sem Idealize.ShloMosaic.TcCoe
open Cert.Proof.Pages

/-- The side conditions the precondition's operations take. -/
theorem pre_facts : Cert.Pre_in_range.Facts := ⟨by decide, by decide, by decide, by decide, by decide, by decide, by decide⟩

/-- The payload of equal operands. -/
theorem pay_congr {a a' : Vec Bits Cert.Reference.S5x64x4096x128 .fp8e4m3} {b b' : Vec Bits Cert.Reference.S5x64x4096 .f32}
    {d d' : Vec Bits Cert.Reference.S5x4096 .i32} (ha : a = a') (hb : b = b') (hd : d = d') :
    Cert.Reference.Gen.k0_pay1 (F := Bits) a b d = Cert.Reference.Gen.k0_pay1 (F := Bits) a' b' d' := by
  subst ha hb hd; rfl

/-- The reference's first result, as the payload of the gathered arrays. -/
theorem ref_v44 (m' : (ℓ : Loc Cert.Reference.nD Cert.Reference.τ Cert.Reference.sig) → Buf (Elt Bits) ℓ) (ρ : Dev Cert.Reference.nD → PrngReg)
    (c : Dev Cert.Reference.nD) :
    Cert.Reference.Gen.W4 m' ρ c (Proc.devRef .tc Cert.Reference.main_v44) = Cert.Reference.Gen.k0_pay1 (F := Bits)
      (PagesRef.codesOf (m' ((c.tc : Thread _ _).loc Cert.Reference.main_arg0)) (m' ((c.tc : Thread _ _).loc Cert.Reference.main_arg4)))
      (PagesRef.scalesOf (m' ((c.tc : Thread _ _).loc Cert.Reference.main_arg2)) (m' ((c.tc : Thread _ _).loc Cert.Reference.main_arg4)))
      (PagesRef.validOf (m' ((c.tc : Thread _ _).loc Cert.Reference.main_arg5))) := by
  have e0 := PagesRef.host0_codes (Cert.Reference.Gen.W0 m' ρ c)
  have e1 := PagesRef.host0_scales (Cert.Reference.Gen.W0 m' ρ c)
  have e2 := PagesRef.host0_valid (Cert.Reference.Gen.W0 m' ρ c)
  refine (PagesRef.W4_v44 m' ρ c).trans ?_
  exact pay_congr e0 e1 e2

/-- The reference's second result. -/
theorem ref_v89 (m' : (ℓ : Loc Cert.Reference.nD Cert.Reference.τ Cert.Reference.sig) → Buf (Elt Bits) ℓ) (ρ : Dev Cert.Reference.nD → PrngReg)
    (c : Dev Cert.Reference.nD) :
    Cert.Reference.Gen.W4 m' ρ c (Proc.devRef .tc Cert.Reference.main_v89) = Cert.Reference.Gen.k0_pay1 (F := Bits)
      (PagesRef.codesOf (m' ((c.tc : Thread _ _).loc Cert.Reference.main_arg1)) (m' ((c.tc : Thread _ _).loc Cert.Reference.main_arg4)))
      (PagesRef.scalesOf (m' ((c.tc : Thread _ _).loc Cert.Reference.main_arg3)) (m' ((c.tc : Thread _ _).loc Cert.Reference.main_arg4)))
      (PagesRef.validOf (m' ((c.tc : Thread _ _).loc Cert.Reference.main_arg5))) := by
  have e0 := PagesRef.host1_codes (Cert.Reference.Gen.W2 m' ρ c)
  have e1 := PagesRef.host1_scales (Cert.Reference.Gen.W2 m' ρ c)
  have e2 := PagesRef.host1_valid (Cert.Reference.Gen.W2 m' ρ c)
  rw [Cert.Reference.Gen.W2_args m' ρ c Cert.Reference.main_arg1 (by decide), Cert.Reference.Gen.W2_args m' ρ c Cert.Reference.main_arg4 (by decide)] at e0
  rw [Cert.Reference.Gen.W2_args m' ρ c Cert.Reference.main_arg3 (by decide), Cert.Reference.Gen.W2_args m' ρ c Cert.Reference.main_arg4 (by decide)] at e1
  rw [Cert.Reference.Gen.W2_args m' ρ c Cert.Reference.main_arg5 (by decide)] at e2
  refine (PagesRef.W4_v89 m' ρ c).trans ((PagesRef.pay1_eq _ _ _).trans ?_)
  exact pay_congr e0 e1 e2

section Kernel

variable (m : (ℓ : Loc Cert.Kernel.nD Cert.Kernel.τ Cert.Kernel.sig) → Buf (Elt Bits) ℓ)

/-- The kernel's first result is the reference's, of the same arguments. -/
theorem ker_0 [Cert.Pre_in_range.Facts] (h : Cert.Pre_Kernel m) (c : Dev Cert.Kernel.nD) :
    outVal (inp m c) 0 = Cert.Reference.Gen.k0_pay1 (F := Bits)
      (PagesRef.codesOf (m ((c.tc : Thread _ _).loc Cert.Kernel.main_arg0)) (m ((c.tc : Thread _ _).loc Cert.Kernel.main_arg4)))
      (PagesRef.scalesOf (m ((c.tc : Thread _ _).loc Cert.Kernel.main_arg2)) (m ((c.tc : Thread _ _).loc Cert.Kernel.main_arg4)))
      (PagesRef.validOf (m ((c.tc : Thread _ _).loc Cert.Kernel.main_arg5))) := by
  have e4 : (inp m c).tb = m ((c.tc : Thread _ _).loc Cert.Kernel.main_arg4) := Cert.Kernel.Gen.V_main_arg4 m c
  have e5 : (inp m c).ln = m ((c.tc : Thread _ _).loc Cert.Kernel.main_arg5) := Cert.Kernel.Gen.V_main_arg5 m c
  rw [← e4, ← e5]
  exact out_eq (inp m c) 0 _ _ (V_v0 m c) (V_v2 m c) (fun b p hl => ((range_of_pre m h c b p).1 hl).1) (ok_of_pre m h c)

/-- The kernel's second result. -/
theorem ker_1 [Cert.Pre_in_range.Facts] (h : Cert.Pre_Kernel m) (c : Dev Cert.Kernel.nD) :
    outVal (inp m c) 1 = Cert.Reference.Gen.k0_pay1 (F := Bits)
      (PagesRef.codesOf (m ((c.tc : Thread _ _).loc Cert.Kernel.main_arg1)) (m ((c.tc : Thread _ _).loc Cert.Kernel.main_arg4)))
      (PagesRef.scalesOf (m ((c.tc : Thread _ _).loc Cert.Kernel.main_arg3)) (m ((c.tc : Thread _ _).loc Cert.Kernel.main_arg4)))
      (PagesRef.validOf (m ((c.tc : Thread _ _).loc Cert.Kernel.main_arg5))) := by
  have e4 : (inp m c).tb = m ((c.tc : Thread _ _).loc Cert.Kernel.main_arg4) := Cert.Kernel.Gen.V_main_arg4 m c
  have e5 : (inp m c).ln = m ((c.tc : Thread _ _).loc Cert.Kernel.main_arg5) := Cert.Kernel.Gen.V_main_arg5 m c
  rw [← e4, ← e5]
  exact out_eq (inp m c) 1 _ _ (V_v1 m c) (V_v3 m c) (fun b p hl => ((range_of_pre m h c b p).1 hl).1) (ok_of_pre m h c)

end Kernel

theorem claim : Cert.Claim := by
  refine ⟨Cert.Kernel.Gen.facts, Cert.Reference.Gen.facts, pre_facts, ?_, ?_, ?_, ?_⟩
  · intro m g hp
    letI := pre_facts
    exact θ_run_mono (run_end m g (ok_of_pre m hp)) fun r hr => ⟨fun c => (hr.1 c).2, hr.2⟩
  · intro m g _
    exact Cert.Reference.Gen.frame m g
  · intro m g _
    exact Cert.Reference.Gen.frame m g
  · intro m g m' g' hp hargs
    letI := pre_facts
    refine ⟨fun c => outVal (inp m c) 0, fun c => outVal (inp m c) 1, ?_, ?_⟩
    · exact θ_run_mono (run_end m g (ok_of_pre m hp)) fun r hr c => ⟨(hr.1 c).1.1, (hr.1 c).1.2, (hr.1 c).2⟩
    · refine θ_run_mono (PagesRef.ref_run m' g') fun r hr c => ?_
      obtain ⟨a0, a1, a2, a3, a4, a5⟩ := hargs c
      refine ⟨(hr.1 c).1.1.trans ((ref_v44 m' g' c).trans ?_), (hr.1 c).1.2.trans ((ref_v89 m' g' c).trans ?_), (hr.1 c).2⟩
      · rw [a0, a2, a4, a5]; exact (ker_0 m hp c).symm
      · rw [a1, a3, a4, a5]; exact (ker_1 m hp c).symm

end Cert.Proof

end
